-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_L1QkvgDw (m : (ℓ : Loc Cert.L1QkvgDw.nD Cert.L1QkvgDw.τ Cert.L1QkvgDw.sig) → Buf (Elt Bits) ℓ) : Prop :=
  True

def Pre_L1QkvgDwIdeal (m : (ℓ : Loc Cert.L1QkvgDwIdeal.nD Cert.L1QkvgDwIdeal.τ Cert.L1QkvgDwIdeal.sig) → Buf (Elt Ideal) ℓ) : Prop :=
  True

def Pre_L1QkvgDwRefIdeal (m : (ℓ : Loc Cert.L1QkvgDwRefIdeal.nD Cert.L1QkvgDwRefIdeal.τ Cert.L1QkvgDwRefIdeal.sig) → Buf (Elt Ideal) ℓ) : Prop :=
  True

def Pre_L1QkvgDx (m : (ℓ : Loc Cert.L1QkvgDx.nD Cert.L1QkvgDx.τ Cert.L1QkvgDx.sig) → Buf (Elt Bits) ℓ) : Prop :=
  True

def Pre_L1QkvgDxIdeal (m : (ℓ : Loc Cert.L1QkvgDxIdeal.nD Cert.L1QkvgDxIdeal.τ Cert.L1QkvgDxIdeal.sig) → Buf (Elt Ideal) ℓ) : Prop :=
  True

def Pre_L1QkvgDxRefIdeal (m : (ℓ : Loc Cert.L1QkvgDxRefIdeal.nD Cert.L1QkvgDxRefIdeal.τ Cert.L1QkvgDxRefIdeal.sig) → Buf (Elt Ideal) ℓ) : Prop :=
  True

def Pre_L1Qkvg (m : (ℓ : Loc Cert.L1Qkvg.nD Cert.L1Qkvg.τ Cert.L1Qkvg.sig) → Buf (Elt Bits) ℓ) : Prop :=
  True

def Pre_L1QkvgIdeal (m : (ℓ : Loc Cert.L1QkvgIdeal.nD Cert.L1QkvgIdeal.τ Cert.L1QkvgIdeal.sig) → Buf (Elt Ideal) ℓ) : Prop :=
  True

def Pre_L1QkvgRefIdeal (m : (ℓ : Loc Cert.L1QkvgRefIdeal.nD Cert.L1QkvgRefIdeal.τ Cert.L1QkvgRefIdeal.sig) → Buf (Elt Ideal) ℓ) : Prop :=
  True

def Pre_L0InDw (m : (ℓ : Loc Cert.L0InDw.nD Cert.L0InDw.τ Cert.L0InDw.sig) → Buf (Elt Bits) ℓ) : Prop :=
  True

def Pre_L0InDwIdeal (m : (ℓ : Loc Cert.L0InDwIdeal.nD Cert.L0InDwIdeal.τ Cert.L0InDwIdeal.sig) → Buf (Elt Ideal) ℓ) : Prop :=
  True

def Pre_L0InDwRefIdeal (m : (ℓ : Loc Cert.L0InDwRefIdeal.nD Cert.L0InDwRefIdeal.τ Cert.L0InDwRefIdeal.sig) → Buf (Elt Ideal) ℓ) : Prop :=
  True

def Pre_L0InDx (m : (ℓ : Loc Cert.L0InDx.nD Cert.L0InDx.τ Cert.L0InDx.sig) → Buf (Elt Bits) ℓ) : Prop :=
  True

def Pre_L0InDxIdeal (m : (ℓ : Loc Cert.L0InDxIdeal.nD Cert.L0InDxIdeal.τ Cert.L0InDxIdeal.sig) → Buf (Elt Ideal) ℓ) : Prop :=
  True

def Pre_L0InDxRefIdeal (m : (ℓ : Loc Cert.L0InDxRefIdeal.nD Cert.L0InDxRefIdeal.τ Cert.L0InDxRefIdeal.sig) → Buf (Elt Ideal) ℓ) : Prop :=
  True

def Pre_L1InDw (m : (ℓ : Loc Cert.L1InDw.nD Cert.L1InDw.τ Cert.L1InDw.sig) → Buf (Elt Bits) ℓ) : Prop :=
  True

def Pre_L1InDwIdeal (m : (ℓ : Loc Cert.L1InDwIdeal.nD Cert.L1InDwIdeal.τ Cert.L1InDwIdeal.sig) → Buf (Elt Ideal) ℓ) : Prop :=
  True

def Pre_L1InDwRefIdeal (m : (ℓ : Loc Cert.L1InDwRefIdeal.nD Cert.L1InDwRefIdeal.τ Cert.L1InDwRefIdeal.sig) → Buf (Elt Ideal) ℓ) : Prop :=
  True

def Pre_L1InDx (m : (ℓ : Loc Cert.L1InDx.nD Cert.L1InDx.τ Cert.L1InDx.sig) → Buf (Elt Bits) ℓ) : Prop :=
  True

def Pre_L1InDxIdeal (m : (ℓ : Loc Cert.L1InDxIdeal.nD Cert.L1InDxIdeal.τ Cert.L1InDxIdeal.sig) → Buf (Elt Ideal) ℓ) : Prop :=
  True

def Pre_L1InDxRefIdeal (m : (ℓ : Loc Cert.L1InDxRefIdeal.nD Cert.L1InDxRefIdeal.τ Cert.L1InDxRefIdeal.sig) → Buf (Elt Ideal) ℓ) : Prop :=
  True

def Pre_L0OutDw (m : (ℓ : Loc Cert.L0OutDw.nD Cert.L0OutDw.τ Cert.L0OutDw.sig) → Buf (Elt Bits) ℓ) : Prop :=
  True

def Pre_L0OutDwIdeal (m : (ℓ : Loc Cert.L0OutDwIdeal.nD Cert.L0OutDwIdeal.τ Cert.L0OutDwIdeal.sig) → Buf (Elt Ideal) ℓ) : Prop :=
  True

def Pre_L0OutDwRefIdeal (m : (ℓ : Loc Cert.L0OutDwRefIdeal.nD Cert.L0OutDwRefIdeal.τ Cert.L0OutDwRefIdeal.sig) → Buf (Elt Ideal) ℓ) : Prop :=
  True

def Pre_L1OutDw (m : (ℓ : Loc Cert.L1OutDw.nD Cert.L1OutDw.τ Cert.L1OutDw.sig) → Buf (Elt Bits) ℓ) : Prop :=
  True

def Pre_L1OutDwIdeal (m : (ℓ : Loc Cert.L1OutDwIdeal.nD Cert.L1OutDwIdeal.τ Cert.L1OutDwIdeal.sig) → Buf (Elt Ideal) ℓ) : Prop :=
  True

def Pre_L1OutDwRefIdeal (m : (ℓ : Loc Cert.L1OutDwRefIdeal.nD Cert.L1OutDwRefIdeal.τ Cert.L1OutDwRefIdeal.sig) → Buf (Elt Ideal) ℓ) : Prop :=
  True

def Pre_L0In (m : (ℓ : Loc Cert.L0In.nD Cert.L0In.τ Cert.L0In.sig) → Buf (Elt Bits) ℓ) : Prop :=
  True

def Pre_L0InIdeal (m : (ℓ : Loc Cert.L0InIdeal.nD Cert.L0InIdeal.τ Cert.L0InIdeal.sig) → Buf (Elt Ideal) ℓ) : Prop :=
  True

def Pre_L0InRefIdeal (m : (ℓ : Loc Cert.L0InRefIdeal.nD Cert.L0InRefIdeal.τ Cert.L0InRefIdeal.sig) → Buf (Elt Ideal) ℓ) : Prop :=
  True

def Pre_L1In (m : (ℓ : Loc Cert.L1In.nD Cert.L1In.τ Cert.L1In.sig) → Buf (Elt Bits) ℓ) : Prop :=
  True

def Pre_L1InIdeal (m : (ℓ : Loc Cert.L1InIdeal.nD Cert.L1InIdeal.τ Cert.L1InIdeal.sig) → Buf (Elt Ideal) ℓ) : Prop :=
  True

def Pre_L1InRefIdeal (m : (ℓ : Loc Cert.L1InRefIdeal.nD Cert.L1InRefIdeal.τ Cert.L1InRefIdeal.sig) → Buf (Elt Ideal) ℓ) : Prop :=
  True

def Pre_L1RetOutDw (m : (ℓ : Loc Cert.L1RetOutDw.nD Cert.L1RetOutDw.τ Cert.L1RetOutDw.sig) → Buf (Elt Bits) ℓ) : Prop :=
  True

def Pre_L1RetOutDwIdeal (m : (ℓ : Loc Cert.L1RetOutDwIdeal.nD Cert.L1RetOutDwIdeal.τ Cert.L1RetOutDwIdeal.sig) → Buf (Elt Ideal) ℓ) : Prop :=
  True

def Pre_L1RetOutDwRefIdeal (m : (ℓ : Loc Cert.L1RetOutDwRefIdeal.nD Cert.L1RetOutDwRefIdeal.τ Cert.L1RetOutDwRefIdeal.sig) → Buf (Elt Ideal) ℓ) : Prop :=
  True

def Pre_L1RetOutDx (m : (ℓ : Loc Cert.L1RetOutDx.nD Cert.L1RetOutDx.τ Cert.L1RetOutDx.sig) → Buf (Elt Bits) ℓ) : Prop :=
  True

def Pre_L1RetOutDxIdeal (m : (ℓ : Loc Cert.L1RetOutDxIdeal.nD Cert.L1RetOutDxIdeal.τ Cert.L1RetOutDxIdeal.sig) → Buf (Elt Ideal) ℓ) : Prop :=
  True

def Pre_L1RetOutDxRefIdeal (m : (ℓ : Loc Cert.L1RetOutDxRefIdeal.nD Cert.L1RetOutDxRefIdeal.τ Cert.L1RetOutDxRefIdeal.sig) → Buf (Elt Ideal) ℓ) : Prop :=
  True

def Pre_L0Qkv (m : (ℓ : Loc Cert.L0Qkv.nD Cert.L0Qkv.τ Cert.L0Qkv.sig) → Buf (Elt Bits) ℓ) : Prop :=
  True

def Pre_L0QkvIdeal (m : (ℓ : Loc Cert.L0QkvIdeal.nD Cert.L0QkvIdeal.τ Cert.L0QkvIdeal.sig) → Buf (Elt Ideal) ℓ) : Prop :=
  True

def Pre_L0QkvRefIdeal (m : (ℓ : Loc Cert.L0QkvRefIdeal.nD Cert.L0QkvRefIdeal.τ Cert.L0QkvRefIdeal.sig) → Buf (Elt Ideal) ℓ) : Prop :=
  True

def Pre_L0QkvDw (m : (ℓ : Loc Cert.L0QkvDw.nD Cert.L0QkvDw.τ Cert.L0QkvDw.sig) → Buf (Elt Bits) ℓ) : Prop :=
  True

def Pre_L0QkvDwIdeal (m : (ℓ : Loc Cert.L0QkvDwIdeal.nD Cert.L0QkvDwIdeal.τ Cert.L0QkvDwIdeal.sig) → Buf (Elt Ideal) ℓ) : Prop :=
  True

def Pre_L0QkvDwRefIdeal (m : (ℓ : Loc Cert.L0QkvDwRefIdeal.nD Cert.L0QkvDwRefIdeal.τ Cert.L0QkvDwRefIdeal.sig) → Buf (Elt Ideal) ℓ) : Prop :=
  True

def Pre_L0QkvDx (m : (ℓ : Loc Cert.L0QkvDx.nD Cert.L0QkvDx.τ Cert.L0QkvDx.sig) → Buf (Elt Bits) ℓ) : Prop :=
  True

def Pre_L0QkvDxIdeal (m : (ℓ : Loc Cert.L0QkvDxIdeal.nD Cert.L0QkvDxIdeal.τ Cert.L0QkvDxIdeal.sig) → Buf (Elt Ideal) ℓ) : Prop :=
  True

def Pre_L0QkvDxRefIdeal (m : (ℓ : Loc Cert.L0QkvDxRefIdeal.nD Cert.L0QkvDxRefIdeal.τ Cert.L0QkvDxRefIdeal.sig) → Buf (Elt Ideal) ℓ) : Prop :=
  True

def Pre_L0AttnOutDw (m : (ℓ : Loc Cert.L0AttnOutDw.nD Cert.L0AttnOutDw.τ Cert.L0AttnOutDw.sig) → Buf (Elt Bits) ℓ) : Prop :=
  True

def Pre_L0AttnOutDwIdeal (m : (ℓ : Loc Cert.L0AttnOutDwIdeal.nD Cert.L0AttnOutDwIdeal.τ Cert.L0AttnOutDwIdeal.sig) → Buf (Elt Ideal) ℓ) : Prop :=
  True

def Pre_L0AttnOutDwRefIdeal (m : (ℓ : Loc Cert.L0AttnOutDwRefIdeal.nD Cert.L0AttnOutDwRefIdeal.τ Cert.L0AttnOutDwRefIdeal.sig) → Buf (Elt Ideal) ℓ) : Prop :=
  True

def Pre_L0AttnOutDx (m : (ℓ : Loc Cert.L0AttnOutDx.nD Cert.L0AttnOutDx.τ Cert.L0AttnOutDx.sig) → Buf (Elt Bits) ℓ) : Prop :=
  True

def Pre_L0AttnOutDxIdeal (m : (ℓ : Loc Cert.L0AttnOutDxIdeal.nD Cert.L0AttnOutDxIdeal.τ Cert.L0AttnOutDxIdeal.sig) → Buf (Elt Ideal) ℓ) : Prop :=
  True

def Pre_L0AttnOutDxRefIdeal (m : (ℓ : Loc Cert.L0AttnOutDxRefIdeal.nD Cert.L0AttnOutDxRefIdeal.τ Cert.L0AttnOutDxRefIdeal.sig) → Buf (Elt Ideal) ℓ) : Prop :=
  True

def Pre_L0AttnOut (m : (ℓ : Loc Cert.L0AttnOut.nD Cert.L0AttnOut.τ Cert.L0AttnOut.sig) → Buf (Elt Bits) ℓ) : Prop :=
  True

def Pre_L0AttnOutIdeal (m : (ℓ : Loc Cert.L0AttnOutIdeal.nD Cert.L0AttnOutIdeal.τ Cert.L0AttnOutIdeal.sig) → Buf (Elt Ideal) ℓ) : Prop :=
  True

def Pre_L0AttnOutRefIdeal (m : (ℓ : Loc Cert.L0AttnOutRefIdeal.nD Cert.L0AttnOutRefIdeal.τ Cert.L0AttnOutRefIdeal.sig) → Buf (Elt Ideal) ℓ) : Prop :=
  True

def Pre_L0Out (m : (ℓ : Loc Cert.L0Out.nD Cert.L0Out.τ Cert.L0Out.sig) → Buf (Elt Bits) ℓ) : Prop :=
  True

def Pre_L0OutIdeal (m : (ℓ : Loc Cert.L0OutIdeal.nD Cert.L0OutIdeal.τ Cert.L0OutIdeal.sig) → Buf (Elt Ideal) ℓ) : Prop :=
  True

def Pre_L0OutRefIdeal (m : (ℓ : Loc Cert.L0OutRefIdeal.nD Cert.L0OutRefIdeal.τ Cert.L0OutRefIdeal.sig) → Buf (Elt Ideal) ℓ) : Prop :=
  True

def Pre_L1RetOut (m : (ℓ : Loc Cert.L1RetOut.nD Cert.L1RetOut.τ Cert.L1RetOut.sig) → Buf (Elt Bits) ℓ) : Prop :=
  True

def Pre_L1RetOutIdeal (m : (ℓ : Loc Cert.L1RetOutIdeal.nD Cert.L1RetOutIdeal.τ Cert.L1RetOutIdeal.sig) → Buf (Elt Ideal) ℓ) : Prop :=
  True

def Pre_L1RetOutRefIdeal (m : (ℓ : Loc Cert.L1RetOutRefIdeal.nD Cert.L1RetOutRefIdeal.τ Cert.L1RetOutRefIdeal.sig) → Buf (Elt Ideal) ℓ) : Prop :=
  True

def Pre_L1Out (m : (ℓ : Loc Cert.L1Out.nD Cert.L1Out.τ Cert.L1Out.sig) → Buf (Elt Bits) ℓ) : Prop :=
  True

def Pre_L1OutIdeal (m : (ℓ : Loc Cert.L1OutIdeal.nD Cert.L1OutIdeal.τ Cert.L1OutIdeal.sig) → Buf (Elt Ideal) ℓ) : Prop :=
  True

def Pre_L1OutRefIdeal (m : (ℓ : Loc Cert.L1OutRefIdeal.nD Cert.L1OutRefIdeal.τ Cert.L1OutRefIdeal.sig) → Buf (Elt Ideal) ℓ) : Prop :=
  True

def Pre_L0OutDx (m : (ℓ : Loc Cert.L0OutDx.nD Cert.L0OutDx.τ Cert.L0OutDx.sig) → Buf (Elt Bits) ℓ) : Prop :=
  True

def Pre_L0OutDxIdeal (m : (ℓ : Loc Cert.L0OutDxIdeal.nD Cert.L0OutDxIdeal.τ Cert.L0OutDxIdeal.sig) → Buf (Elt Ideal) ℓ) : Prop :=
  True

def Pre_L0OutDxIdeal_finite0 [hPre_finite0 : Cert.Pre_finite0.Facts] (m : (ℓ : Loc Cert.L0OutDxIdeal.nD Cert.L0OutDxIdeal.τ Cert.L0OutDxIdeal.sig) → Buf (Elt Ideal) ℓ) : Prop :=
  ∀ c : Dev Cert.L0OutDxIdeal.nD,
    (Cert.Pre_finite0.fn (F := Ideal) (m ((c.tc : Thread Cert.L0OutDxIdeal.nD Cert.L0OutDxIdeal.τ).loc Cert.L0OutDxIdeal.main_arg0)) (m ((c.tc : Thread Cert.L0OutDxIdeal.nD Cert.L0OutDxIdeal.τ).loc Cert.L0OutDxIdeal.main_arg1)) (m ((c.tc : Thread Cert.L0OutDxIdeal.nD Cert.L0OutDxIdeal.τ).loc Cert.L0OutDxIdeal.main_arg2)) (m ((c.tc : Thread Cert.L0OutDxIdeal.nD Cert.L0OutDxIdeal.τ).loc Cert.L0OutDxIdeal.main_arg3))).1 = (fun _ => 1#1)
    ∧ (Cert.Pre_finite0.fn (F := Ideal) (m ((c.tc : Thread Cert.L0OutDxIdeal.nD Cert.L0OutDxIdeal.τ).loc Cert.L0OutDxIdeal.main_arg0)) (m ((c.tc : Thread Cert.L0OutDxIdeal.nD Cert.L0OutDxIdeal.τ).loc Cert.L0OutDxIdeal.main_arg1)) (m ((c.tc : Thread Cert.L0OutDxIdeal.nD Cert.L0OutDxIdeal.τ).loc Cert.L0OutDxIdeal.main_arg2)) (m ((c.tc : Thread Cert.L0OutDxIdeal.nD Cert.L0OutDxIdeal.τ).loc Cert.L0OutDxIdeal.main_arg3))).2.1 = (fun _ => 1#1)
    ∧ (Cert.Pre_finite0.fn (F := Ideal) (m ((c.tc : Thread Cert.L0OutDxIdeal.nD Cert.L0OutDxIdeal.τ).loc Cert.L0OutDxIdeal.main_arg0)) (m ((c.tc : Thread Cert.L0OutDxIdeal.nD Cert.L0OutDxIdeal.τ).loc Cert.L0OutDxIdeal.main_arg1)) (m ((c.tc : Thread Cert.L0OutDxIdeal.nD Cert.L0OutDxIdeal.τ).loc Cert.L0OutDxIdeal.main_arg2)) (m ((c.tc : Thread Cert.L0OutDxIdeal.nD Cert.L0OutDxIdeal.τ).loc Cert.L0OutDxIdeal.main_arg3))).2.2.1 = (fun _ => 1#1)
    ∧ (Cert.Pre_finite0.fn (F := Ideal) (m ((c.tc : Thread Cert.L0OutDxIdeal.nD Cert.L0OutDxIdeal.τ).loc Cert.L0OutDxIdeal.main_arg0)) (m ((c.tc : Thread Cert.L0OutDxIdeal.nD Cert.L0OutDxIdeal.τ).loc Cert.L0OutDxIdeal.main_arg1)) (m ((c.tc : Thread Cert.L0OutDxIdeal.nD Cert.L0OutDxIdeal.τ).loc Cert.L0OutDxIdeal.main_arg2)) (m ((c.tc : Thread Cert.L0OutDxIdeal.nD Cert.L0OutDxIdeal.τ).loc Cert.L0OutDxIdeal.main_arg3))).2.2.2 = (fun _ => 1#1)

def Pre_L0OutDxRefIdeal (m : (ℓ : Loc Cert.L0OutDxRefIdeal.nD Cert.L0OutDxRefIdeal.τ Cert.L0OutDxRefIdeal.sig) → Buf (Elt Ideal) ℓ) : Prop :=
  True

def Pre_L0OutDxRefIdeal_finite0 [hPre_finite0 : Cert.Pre_finite0.Facts] (m : (ℓ : Loc Cert.L0OutDxRefIdeal.nD Cert.L0OutDxRefIdeal.τ Cert.L0OutDxRefIdeal.sig) → Buf (Elt Ideal) ℓ) : Prop :=
  ∀ c : Dev Cert.L0OutDxRefIdeal.nD,
    (Cert.Pre_finite0.fn (F := Ideal) (m ((c.tc : Thread Cert.L0OutDxRefIdeal.nD Cert.L0OutDxRefIdeal.τ).loc Cert.L0OutDxRefIdeal.main_arg0)) (m ((c.tc : Thread Cert.L0OutDxRefIdeal.nD Cert.L0OutDxRefIdeal.τ).loc Cert.L0OutDxRefIdeal.main_arg1)) (m ((c.tc : Thread Cert.L0OutDxRefIdeal.nD Cert.L0OutDxRefIdeal.τ).loc Cert.L0OutDxRefIdeal.main_arg2)) (m ((c.tc : Thread Cert.L0OutDxRefIdeal.nD Cert.L0OutDxRefIdeal.τ).loc Cert.L0OutDxRefIdeal.main_arg3))).1 = (fun _ => 1#1)
    ∧ (Cert.Pre_finite0.fn (F := Ideal) (m ((c.tc : Thread Cert.L0OutDxRefIdeal.nD Cert.L0OutDxRefIdeal.τ).loc Cert.L0OutDxRefIdeal.main_arg0)) (m ((c.tc : Thread Cert.L0OutDxRefIdeal.nD Cert.L0OutDxRefIdeal.τ).loc Cert.L0OutDxRefIdeal.main_arg1)) (m ((c.tc : Thread Cert.L0OutDxRefIdeal.nD Cert.L0OutDxRefIdeal.τ).loc Cert.L0OutDxRefIdeal.main_arg2)) (m ((c.tc : Thread Cert.L0OutDxRefIdeal.nD Cert.L0OutDxRefIdeal.τ).loc Cert.L0OutDxRefIdeal.main_arg3))).2.1 = (fun _ => 1#1)
    ∧ (Cert.Pre_finite0.fn (F := Ideal) (m ((c.tc : Thread Cert.L0OutDxRefIdeal.nD Cert.L0OutDxRefIdeal.τ).loc Cert.L0OutDxRefIdeal.main_arg0)) (m ((c.tc : Thread Cert.L0OutDxRefIdeal.nD Cert.L0OutDxRefIdeal.τ).loc Cert.L0OutDxRefIdeal.main_arg1)) (m ((c.tc : Thread Cert.L0OutDxRefIdeal.nD Cert.L0OutDxRefIdeal.τ).loc Cert.L0OutDxRefIdeal.main_arg2)) (m ((c.tc : Thread Cert.L0OutDxRefIdeal.nD Cert.L0OutDxRefIdeal.τ).loc Cert.L0OutDxRefIdeal.main_arg3))).2.2.1 = (fun _ => 1#1)
    ∧ (Cert.Pre_finite0.fn (F := Ideal) (m ((c.tc : Thread Cert.L0OutDxRefIdeal.nD Cert.L0OutDxRefIdeal.τ).loc Cert.L0OutDxRefIdeal.main_arg0)) (m ((c.tc : Thread Cert.L0OutDxRefIdeal.nD Cert.L0OutDxRefIdeal.τ).loc Cert.L0OutDxRefIdeal.main_arg1)) (m ((c.tc : Thread Cert.L0OutDxRefIdeal.nD Cert.L0OutDxRefIdeal.τ).loc Cert.L0OutDxRefIdeal.main_arg2)) (m ((c.tc : Thread Cert.L0OutDxRefIdeal.nD Cert.L0OutDxRefIdeal.τ).loc Cert.L0OutDxRefIdeal.main_arg3))).2.2.2 = (fun _ => 1#1)

def Pre_L1OutDx (m : (ℓ : Loc Cert.L1OutDx.nD Cert.L1OutDx.τ Cert.L1OutDx.sig) → Buf (Elt Bits) ℓ) : Prop :=
  True

def Pre_L1OutDxIdeal (m : (ℓ : Loc Cert.L1OutDxIdeal.nD Cert.L1OutDxIdeal.τ Cert.L1OutDxIdeal.sig) → Buf (Elt Ideal) ℓ) : Prop :=
  True

def Pre_L1OutDxIdeal_finite1 [hPre_finite1 : Cert.Pre_finite1.Facts] (m : (ℓ : Loc Cert.L1OutDxIdeal.nD Cert.L1OutDxIdeal.τ Cert.L1OutDxIdeal.sig) → Buf (Elt Ideal) ℓ) : Prop :=
  ∀ c : Dev Cert.L1OutDxIdeal.nD,
    (Cert.Pre_finite1.fn (F := Ideal) (m ((c.tc : Thread Cert.L1OutDxIdeal.nD Cert.L1OutDxIdeal.τ).loc Cert.L1OutDxIdeal.main_arg0)) (m ((c.tc : Thread Cert.L1OutDxIdeal.nD Cert.L1OutDxIdeal.τ).loc Cert.L1OutDxIdeal.main_arg1)) (m ((c.tc : Thread Cert.L1OutDxIdeal.nD Cert.L1OutDxIdeal.τ).loc Cert.L1OutDxIdeal.main_arg2)) (m ((c.tc : Thread Cert.L1OutDxIdeal.nD Cert.L1OutDxIdeal.τ).loc Cert.L1OutDxIdeal.main_arg3))).1 = (fun _ => 1#1)
    ∧ (Cert.Pre_finite1.fn (F := Ideal) (m ((c.tc : Thread Cert.L1OutDxIdeal.nD Cert.L1OutDxIdeal.τ).loc Cert.L1OutDxIdeal.main_arg0)) (m ((c.tc : Thread Cert.L1OutDxIdeal.nD Cert.L1OutDxIdeal.τ).loc Cert.L1OutDxIdeal.main_arg1)) (m ((c.tc : Thread Cert.L1OutDxIdeal.nD Cert.L1OutDxIdeal.τ).loc Cert.L1OutDxIdeal.main_arg2)) (m ((c.tc : Thread Cert.L1OutDxIdeal.nD Cert.L1OutDxIdeal.τ).loc Cert.L1OutDxIdeal.main_arg3))).2.1 = (fun _ => 1#1)
    ∧ (Cert.Pre_finite1.fn (F := Ideal) (m ((c.tc : Thread Cert.L1OutDxIdeal.nD Cert.L1OutDxIdeal.τ).loc Cert.L1OutDxIdeal.main_arg0)) (m ((c.tc : Thread Cert.L1OutDxIdeal.nD Cert.L1OutDxIdeal.τ).loc Cert.L1OutDxIdeal.main_arg1)) (m ((c.tc : Thread Cert.L1OutDxIdeal.nD Cert.L1OutDxIdeal.τ).loc Cert.L1OutDxIdeal.main_arg2)) (m ((c.tc : Thread Cert.L1OutDxIdeal.nD Cert.L1OutDxIdeal.τ).loc Cert.L1OutDxIdeal.main_arg3))).2.2.1 = (fun _ => 1#1)
    ∧ (Cert.Pre_finite1.fn (F := Ideal) (m ((c.tc : Thread Cert.L1OutDxIdeal.nD Cert.L1OutDxIdeal.τ).loc Cert.L1OutDxIdeal.main_arg0)) (m ((c.tc : Thread Cert.L1OutDxIdeal.nD Cert.L1OutDxIdeal.τ).loc Cert.L1OutDxIdeal.main_arg1)) (m ((c.tc : Thread Cert.L1OutDxIdeal.nD Cert.L1OutDxIdeal.τ).loc Cert.L1OutDxIdeal.main_arg2)) (m ((c.tc : Thread Cert.L1OutDxIdeal.nD Cert.L1OutDxIdeal.τ).loc Cert.L1OutDxIdeal.main_arg3))).2.2.2 = (fun _ => 1#1)

def Pre_L1OutDxRefIdeal (m : (ℓ : Loc Cert.L1OutDxRefIdeal.nD Cert.L1OutDxRefIdeal.τ Cert.L1OutDxRefIdeal.sig) → Buf (Elt Ideal) ℓ) : Prop :=
  True

def Pre_L1OutDxRefIdeal_finite1 [hPre_finite1 : Cert.Pre_finite1.Facts] (m : (ℓ : Loc Cert.L1OutDxRefIdeal.nD Cert.L1OutDxRefIdeal.τ Cert.L1OutDxRefIdeal.sig) → Buf (Elt Ideal) ℓ) : Prop :=
  ∀ c : Dev Cert.L1OutDxRefIdeal.nD,
    (Cert.Pre_finite1.fn (F := Ideal) (m ((c.tc : Thread Cert.L1OutDxRefIdeal.nD Cert.L1OutDxRefIdeal.τ).loc Cert.L1OutDxRefIdeal.main_arg0)) (m ((c.tc : Thread Cert.L1OutDxRefIdeal.nD Cert.L1OutDxRefIdeal.τ).loc Cert.L1OutDxRefIdeal.main_arg1)) (m ((c.tc : Thread Cert.L1OutDxRefIdeal.nD Cert.L1OutDxRefIdeal.τ).loc Cert.L1OutDxRefIdeal.main_arg2)) (m ((c.tc : Thread Cert.L1OutDxRefIdeal.nD Cert.L1OutDxRefIdeal.τ).loc Cert.L1OutDxRefIdeal.main_arg3))).1 = (fun _ => 1#1)
    ∧ (Cert.Pre_finite1.fn (F := Ideal) (m ((c.tc : Thread Cert.L1OutDxRefIdeal.nD Cert.L1OutDxRefIdeal.τ).loc Cert.L1OutDxRefIdeal.main_arg0)) (m ((c.tc : Thread Cert.L1OutDxRefIdeal.nD Cert.L1OutDxRefIdeal.τ).loc Cert.L1OutDxRefIdeal.main_arg1)) (m ((c.tc : Thread Cert.L1OutDxRefIdeal.nD Cert.L1OutDxRefIdeal.τ).loc Cert.L1OutDxRefIdeal.main_arg2)) (m ((c.tc : Thread Cert.L1OutDxRefIdeal.nD Cert.L1OutDxRefIdeal.τ).loc Cert.L1OutDxRefIdeal.main_arg3))).2.1 = (fun _ => 1#1)
    ∧ (Cert.Pre_finite1.fn (F := Ideal) (m ((c.tc : Thread Cert.L1OutDxRefIdeal.nD Cert.L1OutDxRefIdeal.τ).loc Cert.L1OutDxRefIdeal.main_arg0)) (m ((c.tc : Thread Cert.L1OutDxRefIdeal.nD Cert.L1OutDxRefIdeal.τ).loc Cert.L1OutDxRefIdeal.main_arg1)) (m ((c.tc : Thread Cert.L1OutDxRefIdeal.nD Cert.L1OutDxRefIdeal.τ).loc Cert.L1OutDxRefIdeal.main_arg2)) (m ((c.tc : Thread Cert.L1OutDxRefIdeal.nD Cert.L1OutDxRefIdeal.τ).loc Cert.L1OutDxRefIdeal.main_arg3))).2.2.1 = (fun _ => 1#1)
    ∧ (Cert.Pre_finite1.fn (F := Ideal) (m ((c.tc : Thread Cert.L1OutDxRefIdeal.nD Cert.L1OutDxRefIdeal.τ).loc Cert.L1OutDxRefIdeal.main_arg0)) (m ((c.tc : Thread Cert.L1OutDxRefIdeal.nD Cert.L1OutDxRefIdeal.τ).loc Cert.L1OutDxRefIdeal.main_arg1)) (m ((c.tc : Thread Cert.L1OutDxRefIdeal.nD Cert.L1OutDxRefIdeal.τ).loc Cert.L1OutDxRefIdeal.main_arg2)) (m ((c.tc : Thread Cert.L1OutDxRefIdeal.nD Cert.L1OutDxRefIdeal.τ).loc Cert.L1OutDxRefIdeal.main_arg3))).2.2.2 = (fun _ => 1#1)

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_AdaDc (m : (ℓ : Loc Cert.AdaDc.nD Cert.AdaDc.τ Cert.AdaDc.sig) → Buf (Elt Bits) ℓ) : Prop :=
  True

def Pre_AdaDcIdeal (m : (ℓ : Loc Cert.AdaDcIdeal.nD Cert.AdaDcIdeal.τ Cert.AdaDcIdeal.sig) → Buf (Elt Ideal) ℓ) : Prop :=
  True

def Pre_AdaDcRefIdeal (m : (ℓ : Loc Cert.AdaDcRefIdeal.nD Cert.AdaDcRefIdeal.τ Cert.AdaDcRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamQkv (m : (ℓ : Loc Cert.AdamQkv.nD Cert.AdamQkv.τ Cert.AdamQkv.sig) → Buf (Elt Bits) ℓ) : Prop :=
  True

def Pre_AdamQkvIdeal (m : (ℓ : Loc Cert.AdamQkvIdeal.nD Cert.AdamQkvIdeal.τ Cert.AdamQkvIdeal.sig) → Buf (Elt Ideal) ℓ) : Prop :=
  True

def Pre_AdamQkvRefIdeal (m : (ℓ : Loc Cert.AdamQkvRefIdeal.nD Cert.AdamQkvRefIdeal.τ Cert.AdamQkvRefIdeal.sig) → Buf (Elt Ideal) ℓ) : Prop :=
  True

def Pre_AdamAttnO (m : (ℓ : Loc Cert.AdamAttnO.nD Cert.AdamAttnO.τ Cert.AdamAttnO.sig) → Buf (Elt Bits) ℓ) : Prop :=
  True

def Pre_AdamAttnOIdeal (m : (ℓ : Loc Cert.AdamAttnOIdeal.nD Cert.AdamAttnOIdeal.τ Cert.AdamAttnOIdeal.sig) → Buf (Elt Ideal) ℓ) : Prop :=
  True

def Pre_AdamAttnORefIdeal (m : (ℓ : Loc Cert.AdamAttnORefIdeal.nD Cert.AdamAttnORefIdeal.τ Cert.AdamAttnORefIdeal.sig) → Buf (Elt Ideal) ℓ) : Prop :=
  True

def Pre_AdamQkvg (m : (ℓ : Loc Cert.AdamQkvg.nD Cert.AdamQkvg.τ Cert.AdamQkvg.sig) → Buf (Elt Bits) ℓ) : Prop :=
  True

def Pre_AdamQkvgIdeal (m : (ℓ : Loc Cert.AdamQkvgIdeal.nD Cert.AdamQkvgIdeal.τ Cert.AdamQkvgIdeal.sig) → Buf (Elt Ideal) ℓ) : Prop :=
  True

def Pre_AdamQkvgRefIdeal (m : (ℓ : Loc Cert.AdamQkvgRefIdeal.nD Cert.AdamQkvgRefIdeal.τ Cert.AdamQkvgRefIdeal.sig) → Buf (Elt Ideal) ℓ) : Prop :=
  True

def Pre_AdamRetO (m : (ℓ : Loc Cert.AdamRetO.nD Cert.AdamRetO.τ Cert.AdamRetO.sig) → Buf (Elt Bits) ℓ) : Prop :=
  True

def Pre_AdamRetOIdeal (m : (ℓ : Loc Cert.AdamRetOIdeal.nD Cert.AdamRetOIdeal.τ Cert.AdamRetOIdeal.sig) → Buf (Elt Ideal) ℓ) : Prop :=
  True

def Pre_AdamRetORefIdeal (m : (ℓ : Loc Cert.AdamRetORefIdeal.nD Cert.AdamRetORefIdeal.τ Cert.AdamRetORefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_L1QkvgDw [hL1QkvgDw : Cert.L1QkvgDw.Facts] : Prop :=
  ∀ (m : (ℓ : Loc Cert.L1QkvgDw.nD Cert.L1QkvgDw.τ Cert.L1QkvgDw.sig) → Buf (Elt Bits) ℓ) (g : Dev Cert.L1QkvgDw.nD → PrngReg), Pre_L1QkvgDw m →
    θ_run (Cert.L1QkvgDw.defs (F := Bits)) (onTc (τ := Cert.L1QkvgDw.τ) (Cert.L1QkvgDw.main (F := Bits))) ⟨m, fun _ => 0, g⟩ (fun r => (∀ c : Dev Cert.L1QkvgDw.nD,
      r.2.mem ((c.tc : Thread Cert.L1QkvgDw.nD Cert.L1QkvgDw.τ).loc Cert.L1QkvgDw.main_arg0) = m ((c.tc : Thread Cert.L1QkvgDw.nD Cert.L1QkvgDw.τ).loc Cert.L1QkvgDw.main_arg0)
      ∧ r.2.mem ((c.tc : Thread Cert.L1QkvgDw.nD Cert.L1QkvgDw.τ).loc Cert.L1QkvgDw.main_arg1) = m ((c.tc : Thread Cert.L1QkvgDw.nD Cert.L1QkvgDw.τ).loc Cert.L1QkvgDw.main_arg1))
      ∧ r.2.sem = fun _ => 0)

def quiescent_L1QkvgDwIdeal [hL1QkvgDwIdeal : Cert.L1QkvgDwIdeal.Facts] : Prop :=
  ∀ (m : (ℓ : Loc Cert.L1QkvgDwIdeal.nD Cert.L1QkvgDwIdeal.τ Cert.L1QkvgDwIdeal.sig) → Buf (Elt Ideal) ℓ) (g : Dev Cert.L1QkvgDwIdeal.nD → PrngReg), Pre_L1QkvgDwIdeal m →
    θ_run (Cert.L1QkvgDwIdeal.defs (F := Ideal)) (onTc (τ := Cert.L1QkvgDwIdeal.τ) (Cert.L1QkvgDwIdeal.main (F := Ideal))) ⟨m, fun _ => 0, g⟩ (fun r => (∀ c : Dev Cert.L1QkvgDwIdeal.nD,
      r.2.mem ((c.tc : Thread Cert.L1QkvgDwIdeal.nD Cert.L1QkvgDwIdeal.τ).loc Cert.L1QkvgDwIdeal.main_arg0) = m ((c.tc : Thread Cert.L1QkvgDwIdeal.nD Cert.L1QkvgDwIdeal.τ).loc Cert.L1QkvgDwIdeal.main_arg0)
      ∧ r.2.mem ((c.tc : Thread Cert.L1QkvgDwIdeal.nD Cert.L1QkvgDwIdeal.τ).loc Cert.L1QkvgDwIdeal.main_arg1) = m ((c.tc : Thread Cert.L1QkvgDwIdeal.nD Cert.L1QkvgDwIdeal.τ).loc Cert.L1QkvgDwIdeal.main_arg1))
      ∧ r.2.sem = fun _ => 0)

def quiescent_L1QkvgDwRefIdeal [hL1QkvgDwRefIdeal : Cert.L1QkvgDwRefIdeal.Facts] : Prop :=
  ∀ (m : (ℓ : Loc Cert.L1QkvgDwRefIdeal.nD Cert.L1QkvgDwRefIdeal.τ Cert.L1QkvgDwRefIdeal.sig) → Buf (Elt Ideal) ℓ) (g : Dev Cert.L1QkvgDwRefIdeal.nD → PrngReg), Pre_L1QkvgDwRefIdeal m →
    θ_run (Cert.L1QkvgDwRefIdeal.defs (F := Ideal)) (onTc (τ := Cert.L1QkvgDwRefIdeal.τ) (Cert.L1QkvgDwRefIdeal.main (F := Ideal))) ⟨m, fun _ => 0, g⟩ (fun r => (∀ c : Dev Cert.L1QkvgDwRefIdeal.nD,
      r.2.mem ((c.tc : Thread Cert.L1QkvgDwRefIdeal.nD Cert.L1QkvgDwRefIdeal.τ).loc Cert.L1QkvgDwRefIdeal.main_arg0) = m ((c.tc : Thread Cert.L1QkvgDwRefIdeal.nD Cert.L1QkvgDwRefIdeal.τ).loc Cert.L1QkvgDwRefIdeal.main_arg0)
      ∧ r.2.mem ((c.tc : Thread Cert.L1QkvgDwRefIdeal.nD Cert.L1QkvgDwRefIdeal.τ).loc Cert.L1QkvgDwRefIdeal.main_arg1) = m ((c.tc : Thread Cert.L1QkvgDwRefIdeal.nD Cert.L1QkvgDwRefIdeal.τ).loc Cert.L1QkvgDwRefIdeal.main_arg1))
      ∧ r.2.sem = fun _ => 0)

def quiescent_L1QkvgDx [hL1QkvgDx : Cert.L1QkvgDx.Facts] : Prop :=
  ∀ (m : (ℓ : Loc Cert.L1QkvgDx.nD Cert.L1QkvgDx.τ Cert.L1QkvgDx.sig) → Buf (Elt Bits) ℓ) (g : Dev Cert.L1QkvgDx.nD → PrngReg), Pre_L1QkvgDx m →
    θ_run (Cert.L1QkvgDx.defs (F := Bits)) (onTc (τ := Cert.L1QkvgDx.τ) (Cert.L1QkvgDx.main (F := Bits))) ⟨m, fun _ => 0, g⟩ (fun r => (∀ c : Dev Cert.L1QkvgDx.nD,
      r.2.mem ((c.tc : Thread Cert.L1QkvgDx.nD Cert.L1QkvgDx.τ).loc Cert.L1QkvgDx.main_arg0) = m ((c.tc : Thread Cert.L1QkvgDx.nD Cert.L1QkvgDx.τ).loc Cert.L1QkvgDx.main_arg0)
      ∧ r.2.mem ((c.tc : Thread Cert.L1QkvgDx.nD Cert.L1QkvgDx.τ).loc Cert.L1QkvgDx.main_arg1) = m ((c.tc : Thread Cert.L1QkvgDx.nD Cert.L1QkvgDx.τ).loc Cert.L1QkvgDx.main_arg1))
      ∧ r.2.sem = fun _ => 0)

def quiescent_L1QkvgDxIdeal [hL1QkvgDxIdeal : Cert.L1QkvgDxIdeal.Facts] : Prop :=
  ∀ (m : (ℓ : Loc Cert.L1QkvgDxIdeal.nD Cert.L1QkvgDxIdeal.τ Cert.L1QkvgDxIdeal.sig) → Buf (Elt Ideal) ℓ) (g : Dev Cert.L1QkvgDxIdeal.nD → PrngReg), Pre_L1QkvgDxIdeal m →
    θ_run (Cert.L1QkvgDxIdeal.defs (F := Ideal)) (onTc (τ := Cert.L1QkvgDxIdeal.τ) (Cert.L1QkvgDxIdeal.main (F := Ideal))) ⟨m, fun _ => 0, g⟩ (fun r => (∀ c : Dev Cert.L1QkvgDxIdeal.nD,
      r.2.mem ((c.tc : Thread Cert.L1QkvgDxIdeal.nD Cert.L1QkvgDxIdeal.τ).loc Cert.L1QkvgDxIdeal.main_arg0) = m ((c.tc : Thread Cert.L1QkvgDxIdeal.nD Cert.L1QkvgDxIdeal.τ).loc Cert.L1QkvgDxIdeal.main_arg0)
      ∧ r.2.mem ((c.tc : Thread Cert.L1QkvgDxIdeal.nD Cert.L1QkvgDxIdeal.τ).loc Cert.L1QkvgDxIdeal.main_arg1) = m ((c.tc : Thread Cert.L1QkvgDxIdeal.nD Cert.L1QkvgDxIdeal.τ).loc Cert.L1QkvgDxIdeal.main_arg1))
      ∧ r.2.sem = fun _ => 0)

def quiescent_L1QkvgDxRefIdeal [hL1QkvgDxRefIdeal : Cert.L1QkvgDxRefIdeal.Facts] : Prop :=
  ∀ (m : (ℓ : Loc Cert.L1QkvgDxRefIdeal.nD Cert.L1QkvgDxRefIdeal.τ Cert.L1QkvgDxRefIdeal.sig) → Buf (Elt Ideal) ℓ) (g : Dev Cert.L1QkvgDxRefIdeal.nD → PrngReg), Pre_L1QkvgDxRefIdeal m →
    θ_run (Cert.L1QkvgDxRefIdeal.defs (F := Ideal)) (onTc (τ := Cert.L1QkvgDxRefIdeal.τ) (Cert.L1QkvgDxRefIdeal.main (F := Ideal))) ⟨m, fun _ => 0, g⟩ (fun r => (∀ c : Dev Cert.L1QkvgDxRefIdeal.nD,
      r.2.mem ((c.tc : Thread Cert.L1QkvgDxRefIdeal.nD Cert.L1QkvgDxRefIdeal.τ).loc Cert.L1QkvgDxRefIdeal.main_arg0) = m ((c.tc : Thread Cert.L1QkvgDxRefIdeal.nD Cert.L1QkvgDxRefIdeal.τ).loc Cert.L1QkvgDxRefIdeal.main_arg0)
      ∧ r.2.mem ((c.tc : Thread Cert.L1QkvgDxRefIdeal.nD Cert.L1QkvgDxRefIdeal.τ).loc Cert.L1QkvgDxRefIdeal.main_arg1) = m ((c.tc : Thread Cert.L1QkvgDxRefIdeal.nD Cert.L1QkvgDxRefIdeal.τ).loc Cert.L1QkvgDxRefIdeal.main_arg1))
      ∧ r.2.sem = fun _ => 0)

def quiescent_L1Qkvg [hL1Qkvg : Cert.L1Qkvg.Facts] : Prop :=
  ∀ (m : (ℓ : Loc Cert.L1Qkvg.nD Cert.L1Qkvg.τ Cert.L1Qkvg.sig) → Buf (Elt Bits) ℓ) (g : Dev Cert.L1Qkvg.nD → PrngReg), Pre_L1Qkvg m →
    θ_run (Cert.L1Qkvg.defs (F := Bits)) (onTc (τ := Cert.L1Qkvg.τ) (Cert.L1Qkvg.main (F := Bits))) ⟨m, fun _ => 0, g⟩ (fun r => (∀ c : Dev Cert.L1Qkvg.nD,
      r.2.mem ((c.tc : Thread Cert.L1Qkvg.nD Cert.L1Qkvg.τ).loc Cert.L1Qkvg.main_arg0) = m ((c.tc : Thread Cert.L1Qkvg.nD Cert.L1Qkvg.τ).loc Cert.L1Qkvg.main_arg0)
      ∧ r.2.mem ((c.tc : Thread Cert.L1Qkvg.nD Cert.L1Qkvg.τ).loc Cert.L1Qkvg.main_arg1) = m ((c.tc : Thread Cert.L1Qkvg.nD Cert.L1Qkvg.τ).loc Cert.L1Qkvg.main_arg1))
      ∧ r.2.sem = fun _ => 0)

def quiescent_L1QkvgIdeal [hL1QkvgIdeal : Cert.L1QkvgIdeal.Facts] : Prop :=
  ∀ (m : (ℓ : Loc Cert.L1QkvgIdeal.nD Cert.L1QkvgIdeal.τ Cert.L1QkvgIdeal.sig) → Buf (Elt Ideal) ℓ) (g : Dev Cert.L1QkvgIdeal.nD → PrngReg), Pre_L1QkvgIdeal m →
    θ_run (Cert.L1QkvgIdeal.defs (F := Ideal)) (onTc (τ := Cert.L1QkvgIdeal.τ) (Cert.L1QkvgIdeal.main (F := Ideal))) ⟨m, fun _ => 0, g⟩ (fun r => (∀ c : Dev Cert.L1QkvgIdeal.nD,
      r.2.mem ((c.tc : Thread Cert.L1QkvgIdeal.nD Cert.L1QkvgIdeal.τ).loc Cert.L1QkvgIdeal.main_arg0) = m ((c.tc : Thread Cert.L1QkvgIdeal.nD Cert.L1QkvgIdeal.τ).loc Cert.L1QkvgIdeal.main_arg0)
      ∧ r.2.mem ((c.tc : Thread Cert.L1QkvgIdeal.nD Cert.L1QkvgIdeal.τ).loc Cert.L1QkvgIdeal.main_arg1) = m ((c.tc : Thread Cert.L1QkvgIdeal.nD Cert.L1QkvgIdeal.τ).loc Cert.L1QkvgIdeal.main_arg1))
      ∧ r.2.sem = fun _ => 0)

def quiescent_L1QkvgRefIdeal [hL1QkvgRefIdeal : Cert.L1QkvgRefIdeal.Facts] : Prop :=
  ∀ (m : (ℓ : Loc Cert.L1QkvgRefIdeal.nD Cert.L1QkvgRefIdeal.τ Cert.L1QkvgRefIdeal.sig) → Buf (Elt Ideal) ℓ) (g : Dev Cert.L1QkvgRefIdeal.nD → PrngReg), Pre_L1QkvgRefIdeal m →
    θ_run (Cert.L1QkvgRefIdeal.defs (F := Ideal)) (onTc (τ := Cert.L1QkvgRefIdeal.τ) (Cert.L1QkvgRefIdeal.main (F := Ideal))) ⟨m, fun _ => 0, g⟩ (fun r => (∀ c : Dev Cert.L1QkvgRefIdeal.nD,
      r.2.mem ((c.tc : Thread Cert.L1QkvgRefIdeal.nD Cert.L1QkvgRefIdeal.τ).loc Cert.L1QkvgRefIdeal.main_arg0) = m ((c.tc : Thread Cert.L1QkvgRefIdeal.nD Cert.L1QkvgRefIdeal.τ).loc Cert.L1QkvgRefIdeal.main_arg0)
      ∧ r.2.mem ((c.tc : Thread Cert.L1QkvgRefIdeal.nD Cert.L1QkvgRefIdeal.τ).loc Cert.L1QkvgRefIdeal.main_arg1) = m ((c.tc : Thread Cert.L1QkvgRefIdeal.nD Cert.L1QkvgRefIdeal.τ).loc Cert.L1QkvgRefIdeal.main_arg1))
      ∧ r.2.sem = fun _ => 0)

def quiescent_L0InDw [hL0InDw : Cert.L0InDw.Facts] : Prop :=
  ∀ (m : (ℓ : Loc Cert.L0InDw.nD Cert.L0InDw.τ Cert.L0InDw.sig) → Buf (Elt Bits) ℓ) (g : Dev Cert.L0InDw.nD → PrngReg), Pre_L0InDw m →
    θ_run (Cert.L0InDw.defs (F := Bits)) (onTc (τ := Cert.L0InDw.τ) (Cert.L0InDw.main (F := Bits))) ⟨m, fun _ => 0, g⟩ (fun r => (∀ c : Dev Cert.L0InDw.nD,
      r.2.mem ((c.tc : Thread Cert.L0InDw.nD Cert.L0InDw.τ).loc Cert.L0InDw.main_arg0) = m ((c.tc : Thread Cert.L0InDw.nD Cert.L0InDw.τ).loc Cert.L0InDw.main_arg0)
      ∧ r.2.mem ((c.tc : Thread Cert.L0InDw.nD Cert.L0InDw.τ).loc Cert.L0InDw.main_arg1) = m ((c.tc : Thread Cert.L0InDw.nD Cert.L0InDw.τ).loc Cert.L0InDw.main_arg1))
      ∧ r.2.sem = fun _ => 0)

def quiescent_L0InDwIdeal [hL0InDwIdeal : Cert.L0InDwIdeal.Facts] : Prop :=
  ∀ (m : (ℓ : Loc Cert.L0InDwIdeal.nD Cert.L0InDwIdeal.τ Cert.L0InDwIdeal.sig) → Buf (Elt Ideal) ℓ) (g : Dev Cert.L0InDwIdeal.nD → PrngReg), Pre_L0InDwIdeal m →
    θ_run (Cert.L0InDwIdeal.defs (F := Ideal)) (onTc (τ := Cert.L0InDwIdeal.τ) (Cert.L0InDwIdeal.main (F := Ideal))) ⟨m, fun _ => 0, g⟩ (fun r => (∀ c : Dev Cert.L0InDwIdeal.nD,
      r.2.mem ((c.tc : Thread Cert.L0InDwIdeal.nD Cert.L0InDwIdeal.τ).loc Cert.L0InDwIdeal.main_arg0) = m ((c.tc : Thread Cert.L0InDwIdeal.nD Cert.L0InDwIdeal.τ).loc Cert.L0InDwIdeal.main_arg0)
      ∧ r.2.mem ((c.tc : Thread Cert.L0InDwIdeal.nD Cert.L0InDwIdeal.τ).loc Cert.L0InDwIdeal.main_arg1) = m ((c.tc : Thread Cert.L0InDwIdeal.nD Cert.L0InDwIdeal.τ).loc Cert.L0InDwIdeal.main_arg1))
      ∧ r.2.sem = fun _ => 0)

def quiescent_L0InDwRefIdeal [hL0InDwRefIdeal : Cert.L0InDwRefIdeal.Facts] : Prop :=
  ∀ (m : (ℓ : Loc Cert.L0InDwRefIdeal.nD Cert.L0InDwRefIdeal.τ Cert.L0InDwRefIdeal.sig) → Buf (Elt Ideal) ℓ) (g : Dev Cert.L0InDwRefIdeal.nD → PrngReg), Pre_L0InDwRefIdeal m →
    θ_run (Cert.L0InDwRefIdeal.defs (F := Ideal)) (onTc (τ := Cert.L0InDwRefIdeal.τ) (Cert.L0InDwRefIdeal.main (F := Ideal))) ⟨m, fun _ => 0, g⟩ (fun r => (∀ c : Dev Cert.L0InDwRefIdeal.nD,
      r.2.mem ((c.tc : Thread Cert.L0InDwRefIdeal.nD Cert.L0InDwRefIdeal.τ).loc Cert.L0InDwRefIdeal.main_arg0) = m ((c.tc : Thread Cert.L0InDwRefIdeal.nD Cert.L0InDwRefIdeal.τ).loc Cert.L0InDwRefIdeal.main_arg0)
      ∧ r.2.mem ((c.tc : Thread Cert.L0InDwRefIdeal.nD Cert.L0InDwRefIdeal.τ).loc Cert.L0InDwRefIdeal.main_arg1) = m ((c.tc : Thread Cert.L0InDwRefIdeal.nD Cert.L0InDwRefIdeal.τ).loc Cert.L0InDwRefIdeal.main_arg1))
      ∧ r.2.sem = fun _ => 0)

def quiescent_L0InDx [hL0InDx : Cert.L0InDx.Facts] : Prop :=
  ∀ (m : (ℓ : Loc Cert.L0InDx.nD Cert.L0InDx.τ Cert.L0InDx.sig) → Buf (Elt Bits) ℓ) (g : Dev Cert.L0InDx.nD → PrngReg), Pre_L0InDx m →
    θ_run (Cert.L0InDx.defs (F := Bits)) (onTc (τ := Cert.L0InDx.τ) (Cert.L0InDx.main (F := Bits))) ⟨m, fun _ => 0, g⟩ (fun r => (∀ c : Dev Cert.L0InDx.nD,
      r.2.mem ((c.tc : Thread Cert.L0InDx.nD Cert.L0InDx.τ).loc Cert.L0InDx.main_arg0) = m ((c.tc : Thread Cert.L0InDx.nD Cert.L0InDx.τ).loc Cert.L0InDx.main_arg0)
      ∧ r.2.mem ((c.tc : Thread Cert.L0InDx.nD Cert.L0InDx.τ).loc Cert.L0InDx.main_arg1) = m ((c.tc : Thread Cert.L0InDx.nD Cert.L0InDx.τ).loc Cert.L0InDx.main_arg1))
      ∧ r.2.sem = fun _ => 0)

def quiescent_L0InDxIdeal [hL0InDxIdeal : Cert.L0InDxIdeal.Facts] : Prop :=
  ∀ (m : (ℓ : Loc Cert.L0InDxIdeal.nD Cert.L0InDxIdeal.τ Cert.L0InDxIdeal.sig) → Buf (Elt Ideal) ℓ) (g : Dev Cert.L0InDxIdeal.nD → PrngReg), Pre_L0InDxIdeal m →
    θ_run (Cert.L0InDxIdeal.defs (F := Ideal)) (onTc (τ := Cert.L0InDxIdeal.τ) (Cert.L0InDxIdeal.main (F := Ideal))) ⟨m, fun _ => 0, g⟩ (fun r => (∀ c : Dev Cert.L0InDxIdeal.nD,
      r.2.mem ((c.tc : Thread Cert.L0InDxIdeal.nD Cert.L0InDxIdeal.τ).loc Cert.L0InDxIdeal.main_arg0) = m ((c.tc : Thread Cert.L0InDxIdeal.nD Cert.L0InDxIdeal.τ).loc Cert.L0InDxIdeal.main_arg0)
      ∧ r.2.mem ((c.tc : Thread Cert.L0InDxIdeal.nD Cert.L0InDxIdeal.τ).loc Cert.L0InDxIdeal.main_arg1) = m ((c.tc : Thread Cert.L0InDxIdeal.nD Cert.L0InDxIdeal.τ).loc Cert.L0InDxIdeal.main_arg1))
      ∧ r.2.sem = fun _ => 0)

def quiescent_L0InDxRefIdeal [hL0InDxRefIdeal : Cert.L0InDxRefIdeal.Facts] : Prop :=
  ∀ (m : (ℓ : Loc Cert.L0InDxRefIdeal.nD Cert.L0InDxRefIdeal.τ Cert.L0InDxRefIdeal.sig) → Buf (Elt Ideal) ℓ) (g : Dev Cert.L0InDxRefIdeal.nD → PrngReg), Pre_L0InDxRefIdeal m →
    θ_run (Cert.L0InDxRefIdeal.defs (F := Ideal)) (onTc (τ := Cert.L0InDxRefIdeal.τ) (Cert.L0InDxRefIdeal.main (F := Ideal))) ⟨m, fun _ => 0, g⟩ (fun r => (∀ c : Dev Cert.L0InDxRefIdeal.nD,
      r.2.mem ((c.tc : Thread Cert.L0InDxRefIdeal.nD Cert.L0InDxRefIdeal.τ).loc Cert.L0InDxRefIdeal.main_arg0) = m ((c.tc : Thread Cert.L0InDxRefIdeal.nD Cert.L0InDxRefIdeal.τ).loc Cert.L0InDxRefIdeal.main_arg0)
      ∧ r.2.mem ((c.tc : Thread Cert.L0InDxRefIdeal.nD Cert.L0InDxRefIdeal.τ).loc Cert.L0InDxRefIdeal.main_arg1) = m ((c.tc : Thread Cert.L0InDxRefIdeal.nD Cert.L0InDxRefIdeal.τ).loc Cert.L0InDxRefIdeal.main_arg1))
      ∧ r.2.sem = fun _ => 0)

def quiescent_L1InDw [hL1InDw : Cert.L1InDw.Facts] : Prop :=
  ∀ (m : (ℓ : Loc Cert.L1InDw.nD Cert.L1InDw.τ Cert.L1InDw.sig) → Buf (Elt Bits) ℓ) (g : Dev Cert.L1InDw.nD → PrngReg), Pre_L1InDw m →
    θ_run (Cert.L1InDw.defs (F := Bits)) (onTc (τ := Cert.L1InDw.τ) (Cert.L1InDw.main (F := Bits))) ⟨m, fun _ => 0, g⟩ (fun r => (∀ c : Dev Cert.L1InDw.nD,
      r.2.mem ((c.tc : Thread Cert.L1InDw.nD Cert.L1InDw.τ).loc Cert.L1InDw.main_arg0) = m ((c.tc : Thread Cert.L1InDw.nD Cert.L1InDw.τ).loc Cert.L1InDw.main_arg0)
      ∧ r.2.mem ((c.tc : Thread Cert.L1InDw.nD Cert.L1InDw.τ).loc Cert.L1InDw.main_arg1) = m ((c.tc : Thread Cert.L1InDw.nD Cert.L1InDw.τ).loc Cert.L1InDw.main_arg1))
      ∧ r.2.sem = fun _ => 0)

def quiescent_L1InDwIdeal [hL1InDwIdeal : Cert.L1InDwIdeal.Facts] : Prop :=
  ∀ (m : (ℓ : Loc Cert.L1InDwIdeal.nD Cert.L1InDwIdeal.τ Cert.L1InDwIdeal.sig) → Buf (Elt Ideal) ℓ) (g : Dev Cert.L1InDwIdeal.nD → PrngReg), Pre_L1InDwIdeal m →
    θ_run (Cert.L1InDwIdeal.defs (F := Ideal)) (onTc (τ := Cert.L1InDwIdeal.τ) (Cert.L1InDwIdeal.main (F := Ideal))) ⟨m, fun _ => 0, g⟩ (fun r => (∀ c : Dev Cert.L1InDwIdeal.nD,
      r.2.mem ((c.tc : Thread Cert.L1InDwIdeal.nD Cert.L1InDwIdeal.τ).loc Cert.L1InDwIdeal.main_arg0) = m ((c.tc : Thread Cert.L1InDwIdeal.nD Cert.L1InDwIdeal.τ).loc Cert.L1InDwIdeal.main_arg0)
      ∧ r.2.mem ((c.tc : Thread Cert.L1InDwIdeal.nD Cert.L1InDwIdeal.τ).loc Cert.L1InDwIdeal.main_arg1) = m ((c.tc : Thread Cert.L1InDwIdeal.nD Cert.L1InDwIdeal.τ).loc Cert.L1InDwIdeal.main_arg1))
      ∧ r.2.sem = fun _ => 0)

def quiescent_L1InDwRefIdeal [hL1InDwRefIdeal : Cert.L1InDwRefIdeal.Facts] : Prop :=
  ∀ (m : (ℓ : Loc Cert.L1InDwRefIdeal.nD Cert.L1InDwRefIdeal.τ Cert.L1InDwRefIdeal.sig) → Buf (Elt Ideal) ℓ) (g : Dev Cert.L1InDwRefIdeal.nD → PrngReg), Pre_L1InDwRefIdeal m →
    θ_run (Cert.L1InDwRefIdeal.defs (F := Ideal)) (onTc (τ := Cert.L1InDwRefIdeal.τ) (Cert.L1InDwRefIdeal.main (F := Ideal))) ⟨m, fun _ => 0, g⟩ (fun r => (∀ c : Dev Cert.L1InDwRefIdeal.nD,
      r.2.mem ((c.tc : Thread Cert.L1InDwRefIdeal.nD Cert.L1InDwRefIdeal.τ).loc Cert.L1InDwRefIdeal.main_arg0) = m ((c.tc : Thread Cert.L1InDwRefIdeal.nD Cert.L1InDwRefIdeal.τ).loc Cert.L1InDwRefIdeal.main_arg0)
      ∧ r.2.mem ((c.tc : Thread Cert.L1InDwRefIdeal.nD Cert.L1InDwRefIdeal.τ).loc Cert.L1InDwRefIdeal.main_arg1) = m ((c.tc : Thread Cert.L1InDwRefIdeal.nD Cert.L1InDwRefIdeal.τ).loc Cert.L1InDwRefIdeal.main_arg1))
      ∧ r.2.sem = fun _ => 0)

def quiescent_L1InDx [hL1InDx : Cert.L1InDx.Facts] : Prop :=
  ∀ (m : (ℓ : Loc Cert.L1InDx.nD Cert.L1InDx.τ Cert.L1InDx.sig) → Buf (Elt Bits) ℓ) (g : Dev Cert.L1InDx.nD → PrngReg), Pre_L1InDx m →
    θ_run (Cert.L1InDx.defs (F := Bits)) (onTc (τ := Cert.L1InDx.τ) (Cert.L1InDx.main (F := Bits))) ⟨m, fun _ => 0, g⟩ (fun r => (∀ c : Dev Cert.L1InDx.nD,
      r.2.mem ((c.tc : Thread Cert.L1InDx.nD Cert.L1InDx.τ).loc Cert.L1InDx.main_arg0) = m ((c.tc : Thread Cert.L1InDx.nD Cert.L1InDx.τ).loc Cert.L1InDx.main_arg0)
      ∧ r.2.mem ((c.tc : Thread Cert.L1InDx.nD Cert.L1InDx.τ).loc Cert.L1InDx.main_arg1) = m ((c.tc : Thread Cert.L1InDx.nD Cert.L1InDx.τ).loc Cert.L1InDx.main_arg1))
      ∧ r.2.sem = fun _ => 0)

def quiescent_L1InDxIdeal [hL1InDxIdeal : Cert.L1InDxIdeal.Facts] : Prop :=
  ∀ (m : (ℓ : Loc Cert.L1InDxIdeal.nD Cert.L1InDxIdeal.τ Cert.L1InDxIdeal.sig) → Buf (Elt Ideal) ℓ) (g : Dev Cert.L1InDxIdeal.nD → PrngReg), Pre_L1InDxIdeal m →
    θ_run (Cert.L1InDxIdeal.defs (F := Ideal)) (onTc (τ := Cert.L1InDxIdeal.τ) (Cert.L1InDxIdeal.main (F := Ideal))) ⟨m, fun _ => 0, g⟩ (fun r => (∀ c : Dev Cert.L1InDxIdeal.nD,
      r.2.mem ((c.tc : Thread Cert.L1InDxIdeal.nD Cert.L1InDxIdeal.τ).loc Cert.L1InDxIdeal.main_arg0) = m ((c.tc : Thread Cert.L1InDxIdeal.nD Cert.L1InDxIdeal.τ).loc Cert.L1InDxIdeal.main_arg0)
      ∧ r.2.mem ((c.tc : Thread Cert.L1InDxIdeal.nD Cert.L1InDxIdeal.τ).loc Cert.L1InDxIdeal.main_arg1) = m ((c.tc : Thread Cert.L1InDxIdeal.nD Cert.L1InDxIdeal.τ).loc Cert.L1InDxIdeal.main_arg1))
      ∧ r.2.sem = fun _ => 0)

def quiescent_L1InDxRefIdeal [hL1InDxRefIdeal : Cert.L1InDxRefIdeal.Facts] : Prop :=
  ∀ (m : (ℓ : Loc Cert.L1InDxRefIdeal.nD Cert.L1InDxRefIdeal.τ Cert.L1InDxRefIdeal.sig) → Buf (Elt Ideal) ℓ) (g : Dev Cert.L1InDxRefIdeal.nD → PrngReg), Pre_L1InDxRefIdeal m →
    θ_run (Cert.L1InDxRefIdeal.defs (F := Ideal)) (onTc (τ := Cert.L1InDxRefIdeal.τ) (Cert.L1InDxRefIdeal.main (F := Ideal))) ⟨m, fun _ => 0, g⟩ (fun r => (∀ c : Dev Cert.L1InDxRefIdeal.nD,
      r.2.mem ((c.tc : Thread Cert.L1InDxRefIdeal.nD Cert.L1InDxRefIdeal.τ).loc Cert.L1InDxRefIdeal.main_arg0) = m ((c.tc : Thread Cert.L1InDxRefIdeal.nD Cert.L1InDxRefIdeal.τ).loc Cert.L1InDxRefIdeal.main_arg0)
      ∧ r.2.mem ((c.tc : Thread Cert.L1InDxRefIdeal.nD Cert.L1InDxRefIdeal.τ).loc Cert.L1InDxRefIdeal.main_arg1) = m ((c.tc : Thread Cert.L1InDxRefIdeal.nD Cert.L1InDxRefIdeal.τ).loc Cert.L1InDxRefIdeal.main_arg1))
      ∧ r.2.sem = fun _ => 0)

def quiescent_L0OutDw [hL0OutDw : Cert.L0OutDw.Facts] : Prop :=
  ∀ (m : (ℓ : Loc Cert.L0OutDw.nD Cert.L0OutDw.τ Cert.L0OutDw.sig) → Buf (Elt Bits) ℓ) (g : Dev Cert.L0OutDw.nD → PrngReg), Pre_L0OutDw m →
    θ_run (Cert.L0OutDw.defs (F := Bits)) (onTc (τ := Cert.L0OutDw.τ) (Cert.L0OutDw.main (F := Bits))) ⟨m, fun _ => 0, g⟩ (fun r => (∀ c : Dev Cert.L0OutDw.nD,
      r.2.mem ((c.tc : Thread Cert.L0OutDw.nD Cert.L0OutDw.τ).loc Cert.L0OutDw.main_arg0) = m ((c.tc : Thread Cert.L0OutDw.nD Cert.L0OutDw.τ).loc Cert.L0OutDw.main_arg0)
      ∧ r.2.mem ((c.tc : Thread Cert.L0OutDw.nD Cert.L0OutDw.τ).loc Cert.L0OutDw.main_arg1) = m ((c.tc : Thread Cert.L0OutDw.nD Cert.L0OutDw.τ).loc Cert.L0OutDw.main_arg1))
      ∧ r.2.sem = fun _ => 0)

def quiescent_L0OutDwIdeal [hL0OutDwIdeal : Cert.L0OutDwIdeal.Facts] : Prop :=
  ∀ (m : (ℓ : Loc Cert.L0OutDwIdeal.nD Cert.L0OutDwIdeal.τ Cert.L0OutDwIdeal.sig) → Buf (Elt Ideal) ℓ) (g : Dev Cert.L0OutDwIdeal.nD → PrngReg), Pre_L0OutDwIdeal m →
    θ_run (Cert.L0OutDwIdeal.defs (F := Ideal)) (onTc (τ := Cert.L0OutDwIdeal.τ) (Cert.L0OutDwIdeal.main (F := Ideal))) ⟨m, fun _ => 0, g⟩ (fun r => (∀ c : Dev Cert.L0OutDwIdeal.nD,
      r.2.mem ((c.tc : Thread Cert.L0OutDwIdeal.nD Cert.L0OutDwIdeal.τ).loc Cert.L0OutDwIdeal.main_arg0) = m ((c.tc : Thread Cert.L0OutDwIdeal.nD Cert.L0OutDwIdeal.τ).loc Cert.L0OutDwIdeal.main_arg0)
      ∧ r.2.mem ((c.tc : Thread Cert.L0OutDwIdeal.nD Cert.L0OutDwIdeal.τ).loc Cert.L0OutDwIdeal.main_arg1) = m ((c.tc : Thread Cert.L0OutDwIdeal.nD Cert.L0OutDwIdeal.τ).loc Cert.L0OutDwIdeal.main_arg1))
      ∧ r.2.sem = fun _ => 0)

def quiescent_L0OutDwRefIdeal [hL0OutDwRefIdeal : Cert.L0OutDwRefIdeal.Facts] : Prop :=
  ∀ (m : (ℓ : Loc Cert.L0OutDwRefIdeal.nD Cert.L0OutDwRefIdeal.τ Cert.L0OutDwRefIdeal.sig) → Buf (Elt Ideal) ℓ) (g : Dev Cert.L0OutDwRefIdeal.nD → PrngReg), Pre_L0OutDwRefIdeal m →
    θ_run (Cert.L0OutDwRefIdeal.defs (F := Ideal)) (onTc (τ := Cert.L0OutDwRefIdeal.τ) (Cert.L0OutDwRefIdeal.main (F := Ideal))) ⟨m, fun _ => 0, g⟩ (fun r => (∀ c : Dev Cert.L0OutDwRefIdeal.nD,
      r.2.mem ((c.tc : Thread Cert.L0OutDwRefIdeal.nD Cert.L0OutDwRefIdeal.τ).loc Cert.L0OutDwRefIdeal.main_arg0) = m ((c.tc : Thread Cert.L0OutDwRefIdeal.nD Cert.L0OutDwRefIdeal.τ).loc Cert.L0OutDwRefIdeal.main_arg0)
      ∧ r.2.mem ((c.tc : Thread Cert.L0OutDwRefIdeal.nD Cert.L0OutDwRefIdeal.τ).loc Cert.L0OutDwRefIdeal.main_arg1) = m ((c.tc : Thread Cert.L0OutDwRefIdeal.nD Cert.L0OutDwRefIdeal.τ).loc Cert.L0OutDwRefIdeal.main_arg1))
      ∧ r.2.sem = fun _ => 0)

def quiescent_L1OutDw [hL1OutDw : Cert.L1OutDw.Facts] : Prop :=
  ∀ (m : (ℓ : Loc Cert.L1OutDw.nD Cert.L1OutDw.τ Cert.L1OutDw.sig) → Buf (Elt Bits) ℓ) (g : Dev Cert.L1OutDw.nD → PrngReg), Pre_L1OutDw m →
    θ_run (Cert.L1OutDw.defs (F := Bits)) (onTc (τ := Cert.L1OutDw.τ) (Cert.L1OutDw.main (F := Bits))) ⟨m, fun _ => 0, g⟩ (fun r => (∀ c : Dev Cert.L1OutDw.nD,
      r.2.mem ((c.tc : Thread Cert.L1OutDw.nD Cert.L1OutDw.τ).loc Cert.L1OutDw.main_arg0) = m ((c.tc : Thread Cert.L1OutDw.nD Cert.L1OutDw.τ).loc Cert.L1OutDw.main_arg0)
      ∧ r.2.mem ((c.tc : Thread Cert.L1OutDw.nD Cert.L1OutDw.τ).loc Cert.L1OutDw.main_arg1) = m ((c.tc : Thread Cert.L1OutDw.nD Cert.L1OutDw.τ).loc Cert.L1OutDw.main_arg1))
      ∧ r.2.sem = fun _ => 0)

def quiescent_L1OutDwIdeal [hL1OutDwIdeal : Cert.L1OutDwIdeal.Facts] : Prop :=
  ∀ (m : (ℓ : Loc Cert.L1OutDwIdeal.nD Cert.L1OutDwIdeal.τ Cert.L1OutDwIdeal.sig) → Buf (Elt Ideal) ℓ) (g : Dev Cert.L1OutDwIdeal.nD → PrngReg), Pre_L1OutDwIdeal m →
    θ_run (Cert.L1OutDwIdeal.defs (F := Ideal)) (onTc (τ := Cert.L1OutDwIdeal.τ) (Cert.L1OutDwIdeal.main (F := Ideal))) ⟨m, fun _ => 0, g⟩ (fun r => (∀ c : Dev Cert.L1OutDwIdeal.nD,
      r.2.mem ((c.tc : Thread Cert.L1OutDwIdeal.nD Cert.L1OutDwIdeal.τ).loc Cert.L1OutDwIdeal.main_arg0) = m ((c.tc : Thread Cert.L1OutDwIdeal.nD Cert.L1OutDwIdeal.τ).loc Cert.L1OutDwIdeal.main_arg0)
      ∧ r.2.mem ((c.tc : Thread Cert.L1OutDwIdeal.nD Cert.L1OutDwIdeal.τ).loc Cert.L1OutDwIdeal.main_arg1) = m ((c.tc : Thread Cert.L1OutDwIdeal.nD Cert.L1OutDwIdeal.τ).loc Cert.L1OutDwIdeal.main_arg1))
      ∧ r.2.sem = fun _ => 0)

def quiescent_L1OutDwRefIdeal [hL1OutDwRefIdeal : Cert.L1OutDwRefIdeal.Facts] : Prop :=
  ∀ (m : (ℓ : Loc Cert.L1OutDwRefIdeal.nD Cert.L1OutDwRefIdeal.τ Cert.L1OutDwRefIdeal.sig) → Buf (Elt Ideal) ℓ) (g : Dev Cert.L1OutDwRefIdeal.nD → PrngReg), Pre_L1OutDwRefIdeal m →
    θ_run (Cert.L1OutDwRefIdeal.defs (F := Ideal)) (onTc (τ := Cert.L1OutDwRefIdeal.τ) (Cert.L1OutDwRefIdeal.main (F := Ideal))) ⟨m, fun _ => 0, g⟩ (fun r => (∀ c : Dev Cert.L1OutDwRefIdeal.nD,
      r.2.mem ((c.tc : Thread Cert.L1OutDwRefIdeal.nD Cert.L1OutDwRefIdeal.τ).loc Cert.L1OutDwRefIdeal.main_arg0) = m ((c.tc : Thread Cert.L1OutDwRefIdeal.nD Cert.L1OutDwRefIdeal.τ).loc Cert.L1OutDwRefIdeal.main_arg0)
      ∧ r.2.mem ((c.tc : Thread Cert.L1OutDwRefIdeal.nD Cert.L1OutDwRefIdeal.τ).loc Cert.L1OutDwRefIdeal.main_arg1) = m ((c.tc : Thread Cert.L1OutDwRefIdeal.nD Cert.L1OutDwRefIdeal.τ).loc Cert.L1OutDwRefIdeal.main_arg1))
      ∧ r.2.sem = fun _ => 0)

def quiescent_L0In [hL0In : Cert.L0In.Facts] : Prop :=
  ∀ (m : (ℓ : Loc Cert.L0In.nD Cert.L0In.τ Cert.L0In.sig) → Buf (Elt Bits) ℓ) (g : Dev Cert.L0In.nD → PrngReg), Pre_L0In m →
    θ_run (Cert.L0In.defs (F := Bits)) (onTc (τ := Cert.L0In.τ) (Cert.L0In.main (F := Bits))) ⟨m, fun _ => 0, g⟩ (fun r => (∀ c : Dev Cert.L0In.nD,
      r.2.mem ((c.tc : Thread Cert.L0In.nD Cert.L0In.τ).loc Cert.L0In.main_arg0) = m ((c.tc : Thread Cert.L0In.nD Cert.L0In.τ).loc Cert.L0In.main_arg0)
      ∧ r.2.mem ((c.tc : Thread Cert.L0In.nD Cert.L0In.τ).loc Cert.L0In.main_arg1) = m ((c.tc : Thread Cert.L0In.nD Cert.L0In.τ).loc Cert.L0In.main_arg1))
      ∧ r.2.sem = fun _ => 0)

def quiescent_L0InIdeal [hL0InIdeal : Cert.L0InIdeal.Facts] : Prop :=
  ∀ (m : (ℓ : Loc Cert.L0InIdeal.nD Cert.L0InIdeal.τ Cert.L0InIdeal.sig) → Buf (Elt Ideal) ℓ) (g : Dev Cert.L0InIdeal.nD → PrngReg), Pre_L0InIdeal m →
    θ_run (Cert.L0InIdeal.defs (F := Ideal)) (onTc (τ := Cert.L0InIdeal.τ) (Cert.L0InIdeal.main (F := Ideal))) ⟨m, fun _ => 0, g⟩ (fun r => (∀ c : Dev Cert.L0InIdeal.nD,
      r.2.mem ((c.tc : Thread Cert.L0InIdeal.nD Cert.L0InIdeal.τ).loc Cert.L0InIdeal.main_arg0) = m ((c.tc : Thread Cert.L0InIdeal.nD Cert.L0InIdeal.τ).loc Cert.L0InIdeal.main_arg0)
      ∧ r.2.mem ((c.tc : Thread Cert.L0InIdeal.nD Cert.L0InIdeal.τ).loc Cert.L0InIdeal.main_arg1) = m ((c.tc : Thread Cert.L0InIdeal.nD Cert.L0InIdeal.τ).loc Cert.L0InIdeal.main_arg1))
      ∧ r.2.sem = fun _ => 0)

def quiescent_L0InRefIdeal [hL0InRefIdeal : Cert.L0InRefIdeal.Facts] : Prop :=
  ∀ (m : (ℓ : Loc Cert.L0InRefIdeal.nD Cert.L0InRefIdeal.τ Cert.L0InRefIdeal.sig) → Buf (Elt Ideal) ℓ) (g : Dev Cert.L0InRefIdeal.nD → PrngReg), Pre_L0InRefIdeal m →
    θ_run (Cert.L0InRefIdeal.defs (F := Ideal)) (onTc (τ := Cert.L0InRefIdeal.τ) (Cert.L0InRefIdeal.main (F := Ideal))) ⟨m, fun _ => 0, g⟩ (fun r => (∀ c : Dev Cert.L0InRefIdeal.nD,
      r.2.mem ((c.tc : Thread Cert.L0InRefIdeal.nD Cert.L0InRefIdeal.τ).loc Cert.L0InRefIdeal.main_arg0) = m ((c.tc : Thread Cert.L0InRefIdeal.nD Cert.L0InRefIdeal.τ).loc Cert.L0InRefIdeal.main_arg0)
      ∧ r.2.mem ((c.tc : Thread Cert.L0InRefIdeal.nD Cert.L0InRefIdeal.τ).loc Cert.L0InRefIdeal.main_arg1) = m ((c.tc : Thread Cert.L0InRefIdeal.nD Cert.L0InRefIdeal.τ).loc Cert.L0InRefIdeal.main_arg1))
      ∧ r.2.sem = fun _ => 0)

def quiescent_L1In [hL1In : Cert.L1In.Facts] : Prop :=
  ∀ (m : (ℓ : Loc Cert.L1In.nD Cert.L1In.τ Cert.L1In.sig) → Buf (Elt Bits) ℓ) (g : Dev Cert.L1In.nD → PrngReg), Pre_L1In m →
    θ_run (Cert.L1In.defs (F := Bits)) (onTc (τ := Cert.L1In.τ) (Cert.L1In.main (F := Bits))) ⟨m, fun _ => 0, g⟩ (fun r => (∀ c : Dev Cert.L1In.nD,
      r.2.mem ((c.tc : Thread Cert.L1In.nD Cert.L1In.τ).loc Cert.L1In.main_arg0) = m ((c.tc : Thread Cert.L1In.nD Cert.L1In.τ).loc Cert.L1In.main_arg0)
      ∧ r.2.mem ((c.tc : Thread Cert.L1In.nD Cert.L1In.τ).loc Cert.L1In.main_arg1) = m ((c.tc : Thread Cert.L1In.nD Cert.L1In.τ).loc Cert.L1In.main_arg1))
      ∧ r.2.sem = fun _ => 0)

def quiescent_L1InIdeal [hL1InIdeal : Cert.L1InIdeal.Facts] : Prop :=
  ∀ (m : (ℓ : Loc Cert.L1InIdeal.nD Cert.L1InIdeal.τ Cert.L1InIdeal.sig) → Buf (Elt Ideal) ℓ) (g : Dev Cert.L1InIdeal.nD → PrngReg), Pre_L1InIdeal m →
    θ_run (Cert.L1InIdeal.defs (F := Ideal)) (onTc (τ := Cert.L1InIdeal.τ) (Cert.L1InIdeal.main (F := Ideal))) ⟨m, fun _ => 0, g⟩ (fun r => (∀ c : Dev Cert.L1InIdeal.nD,
      r.2.mem ((c.tc : Thread Cert.L1InIdeal.nD Cert.L1InIdeal.τ).loc Cert.L1InIdeal.main_arg0) = m ((c.tc : Thread Cert.L1InIdeal.nD Cert.L1InIdeal.τ).loc Cert.L1InIdeal.main_arg0)
      ∧ r.2.mem ((c.tc : Thread Cert.L1InIdeal.nD Cert.L1InIdeal.τ).loc Cert.L1InIdeal.main_arg1) = m ((c.tc : Thread Cert.L1InIdeal.nD Cert.L1InIdeal.τ).loc Cert.L1InIdeal.main_arg1))
      ∧ r.2.sem = fun _ => 0)

def quiescent_L1InRefIdeal [hL1InRefIdeal : Cert.L1InRefIdeal.Facts] : Prop :=
  ∀ (m : (ℓ : Loc Cert.L1InRefIdeal.nD Cert.L1InRefIdeal.τ Cert.L1InRefIdeal.sig) → Buf (Elt Ideal) ℓ) (g : Dev Cert.L1InRefIdeal.nD → PrngReg), Pre_L1InRefIdeal m →
    θ_run (Cert.L1InRefIdeal.defs (F := Ideal)) (onTc (τ := Cert.L1InRefIdeal.τ) (Cert.L1InRefIdeal.main (F := Ideal))) ⟨m, fun _ => 0, g⟩ (fun r => (∀ c : Dev Cert.L1InRefIdeal.nD,
      r.2.mem ((c.tc : Thread Cert.L1InRefIdeal.nD Cert.L1InRefIdeal.τ).loc Cert.L1InRefIdeal.main_arg0) = m ((c.tc : Thread Cert.L1InRefIdeal.nD Cert.L1InRefIdeal.τ).loc Cert.L1InRefIdeal.main_arg0)
      ∧ r.2.mem ((c.tc : Thread Cert.L1InRefIdeal.nD Cert.L1InRefIdeal.τ).loc Cert.L1InRefIdeal.main_arg1) = m ((c.tc : Thread Cert.L1InRefIdeal.nD Cert.L1InRefIdeal.τ).loc Cert.L1InRefIdeal.main_arg1))
      ∧ r.2.sem = fun _ => 0)

def quiescent_L1RetOutDw [hL1RetOutDw : Cert.L1RetOutDw.Facts] : Prop :=
  ∀ (m : (ℓ : Loc Cert.L1RetOutDw.nD Cert.L1RetOutDw.τ Cert.L1RetOutDw.sig) → Buf (Elt Bits) ℓ) (g : Dev Cert.L1RetOutDw.nD → PrngReg), Pre_L1RetOutDw m →
    θ_run (Cert.L1RetOutDw.defs (F := Bits)) (onTc (τ := Cert.L1RetOutDw.τ) (Cert.L1RetOutDw.main (F := Bits))) ⟨m, fun _ => 0, g⟩ (fun r => (∀ c : Dev Cert.L1RetOutDw.nD,
      r.2.mem ((c.tc : Thread Cert.L1RetOutDw.nD Cert.L1RetOutDw.τ).loc Cert.L1RetOutDw.main_arg0) = m ((c.tc : Thread Cert.L1RetOutDw.nD Cert.L1RetOutDw.τ).loc Cert.L1RetOutDw.main_arg0)
      ∧ r.2.mem ((c.tc : Thread Cert.L1RetOutDw.nD Cert.L1RetOutDw.τ).loc Cert.L1RetOutDw.main_arg1) = m ((c.tc : Thread Cert.L1RetOutDw.nD Cert.L1RetOutDw.τ).loc Cert.L1RetOutDw.main_arg1))
      ∧ r.2.sem = fun _ => 0)

def quiescent_L1RetOutDwIdeal [hL1RetOutDwIdeal : Cert.L1RetOutDwIdeal.Facts] : Prop :=
  ∀ (m : (ℓ : Loc Cert.L1RetOutDwIdeal.nD Cert.L1RetOutDwIdeal.τ Cert.L1RetOutDwIdeal.sig) → Buf (Elt Ideal) ℓ) (g : Dev Cert.L1RetOutDwIdeal.nD → PrngReg), Pre_L1RetOutDwIdeal m →
    θ_run (Cert.L1RetOutDwIdeal.defs (F := Ideal)) (onTc (τ := Cert.L1RetOutDwIdeal.τ) (Cert.L1RetOutDwIdeal.main (F := Ideal))) ⟨m, fun _ => 0, g⟩ (fun r => (∀ c : Dev Cert.L1RetOutDwIdeal.nD,
      r.2.mem ((c.tc : Thread Cert.L1RetOutDwIdeal.nD Cert.L1RetOutDwIdeal.τ).loc Cert.L1RetOutDwIdeal.main_arg0) = m ((c.tc : Thread Cert.L1RetOutDwIdeal.nD Cert.L1RetOutDwIdeal.τ).loc Cert.L1RetOutDwIdeal.main_arg0)
      ∧ r.2.mem ((c.tc : Thread Cert.L1RetOutDwIdeal.nD Cert.L1RetOutDwIdeal.τ).loc Cert.L1RetOutDwIdeal.main_arg1) = m ((c.tc : Thread Cert.L1RetOutDwIdeal.nD Cert.L1RetOutDwIdeal.τ).loc Cert.L1RetOutDwIdeal.main_arg1))
      ∧ r.2.sem = fun _ => 0)

def quiescent_L1RetOutDwRefIdeal [hL1RetOutDwRefIdeal : Cert.L1RetOutDwRefIdeal.Facts] : Prop :=
  ∀ (m : (ℓ : Loc Cert.L1RetOutDwRefIdeal.nD Cert.L1RetOutDwRefIdeal.τ Cert.L1RetOutDwRefIdeal.sig) → Buf (Elt Ideal) ℓ) (g : Dev Cert.L1RetOutDwRefIdeal.nD → PrngReg), Pre_L1RetOutDwRefIdeal m →
    θ_run (Cert.L1RetOutDwRefIdeal.defs (F := Ideal)) (onTc (τ := Cert.L1RetOutDwRefIdeal.τ) (Cert.L1RetOutDwRefIdeal.main (F := Ideal))) ⟨m, fun _ => 0, g⟩ (fun r => (∀ c : Dev Cert.L1RetOutDwRefIdeal.nD,
      r.2.mem ((c.tc : Thread Cert.L1RetOutDwRefIdeal.nD Cert.L1RetOutDwRefIdeal.τ).loc Cert.L1RetOutDwRefIdeal.main_arg0) = m ((c.tc : Thread Cert.L1RetOutDwRefIdeal.nD Cert.L1RetOutDwRefIdeal.τ).loc Cert.L1RetOutDwRefIdeal.main_arg0)
      ∧ r.2.mem ((c.tc : Thread Cert.L1RetOutDwRefIdeal.nD Cert.L1RetOutDwRefIdeal.τ).loc Cert.L1RetOutDwRefIdeal.main_arg1) = m ((c.tc : Thread Cert.L1RetOutDwRefIdeal.nD Cert.L1RetOutDwRefIdeal.τ).loc Cert.L1RetOutDwRefIdeal.main_arg1))
      ∧ r.2.sem = fun _ => 0)

def quiescent_L1RetOutDx [hL1RetOutDx : Cert.L1RetOutDx.Facts] : Prop :=
  ∀ (m : (ℓ : Loc Cert.L1RetOutDx.nD Cert.L1RetOutDx.τ Cert.L1RetOutDx.sig) → Buf (Elt Bits) ℓ) (g : Dev Cert.L1RetOutDx.nD → PrngReg), Pre_L1RetOutDx m →
    θ_run (Cert.L1RetOutDx.defs (F := Bits)) (onTc (τ := Cert.L1RetOutDx.τ) (Cert.L1RetOutDx.main (F := Bits))) ⟨m, fun _ => 0, g⟩ (fun r => (∀ c : Dev Cert.L1RetOutDx.nD,
      r.2.mem ((c.tc : Thread Cert.L1RetOutDx.nD Cert.L1RetOutDx.τ).loc Cert.L1RetOutDx.main_arg0) = m ((c.tc : Thread Cert.L1RetOutDx.nD Cert.L1RetOutDx.τ).loc Cert.L1RetOutDx.main_arg0)
      ∧ r.2.mem ((c.tc : Thread Cert.L1RetOutDx.nD Cert.L1RetOutDx.τ).loc Cert.L1RetOutDx.main_arg1) = m ((c.tc : Thread Cert.L1RetOutDx.nD Cert.L1RetOutDx.τ).loc Cert.L1RetOutDx.main_arg1))
      ∧ r.2.sem = fun _ => 0)

def quiescent_L1RetOutDxIdeal [hL1RetOutDxIdeal : Cert.L1RetOutDxIdeal.Facts] : Prop :=
  ∀ (m : (ℓ : Loc Cert.L1RetOutDxIdeal.nD Cert.L1RetOutDxIdeal.τ Cert.L1RetOutDxIdeal.sig) → Buf (Elt Ideal) ℓ) (g : Dev Cert.L1RetOutDxIdeal.nD → PrngReg), Pre_L1RetOutDxIdeal m →
    θ_run (Cert.L1RetOutDxIdeal.defs (F := Ideal)) (onTc (τ := Cert.L1RetOutDxIdeal.τ) (Cert.L1RetOutDxIdeal.main (F := Ideal))) ⟨m, fun _ => 0, g⟩ (fun r => (∀ c : Dev Cert.L1RetOutDxIdeal.nD,
      r.2.mem ((c.tc : Thread Cert.L1RetOutDxIdeal.nD Cert.L1RetOutDxIdeal.τ).loc Cert.L1RetOutDxIdeal.main_arg0) = m ((c.tc : Thread Cert.L1RetOutDxIdeal.nD Cert.L1RetOutDxIdeal.τ).loc Cert.L1RetOutDxIdeal.main_arg0)
      ∧ r.2.mem ((c.tc : Thread Cert.L1RetOutDxIdeal.nD Cert.L1RetOutDxIdeal.τ).loc Cert.L1RetOutDxIdeal.main_arg1) = m ((c.tc : Thread Cert.L1RetOutDxIdeal.nD Cert.L1RetOutDxIdeal.τ).loc Cert.L1RetOutDxIdeal.main_arg1))
      ∧ r.2.sem = fun _ => 0)

def quiescent_L1RetOutDxRefIdeal [hL1RetOutDxRefIdeal : Cert.L1RetOutDxRefIdeal.Facts] : Prop :=
  ∀ (m : (ℓ : Loc Cert.L1RetOutDxRefIdeal.nD Cert.L1RetOutDxRefIdeal.τ Cert.L1RetOutDxRefIdeal.sig) → Buf (Elt Ideal) ℓ) (g : Dev Cert.L1RetOutDxRefIdeal.nD → PrngReg), Pre_L1RetOutDxRefIdeal m →
    θ_run (Cert.L1RetOutDxRefIdeal.defs (F := Ideal)) (onTc (τ := Cert.L1RetOutDxRefIdeal.τ) (Cert.L1RetOutDxRefIdeal.main (F := Ideal))) ⟨m, fun _ => 0, g⟩ (fun r => (∀ c : Dev Cert.L1RetOutDxRefIdeal.nD,
      r.2.mem ((c.tc : Thread Cert.L1RetOutDxRefIdeal.nD Cert.L1RetOutDxRefIdeal.τ).loc Cert.L1RetOutDxRefIdeal.main_arg0) = m ((c.tc : Thread Cert.L1RetOutDxRefIdeal.nD Cert.L1RetOutDxRefIdeal.τ).loc Cert.L1RetOutDxRefIdeal.main_arg0)
      ∧ r.2.mem ((c.tc : Thread Cert.L1RetOutDxRefIdeal.nD Cert.L1RetOutDxRefIdeal.τ).loc Cert.L1RetOutDxRefIdeal.main_arg1) = m ((c.tc : Thread Cert.L1RetOutDxRefIdeal.nD Cert.L1RetOutDxRefIdeal.τ).loc Cert.L1RetOutDxRefIdeal.main_arg1))
      ∧ r.2.sem = fun _ => 0)

def quiescent_L0Qkv [hL0Qkv : Cert.L0Qkv.Facts] : Prop :=
  ∀ (m : (ℓ : Loc Cert.L0Qkv.nD Cert.L0Qkv.τ Cert.L0Qkv.sig) → Buf (Elt Bits) ℓ) (g : Dev Cert.L0Qkv.nD → PrngReg), Pre_L0Qkv m →
    θ_run (Cert.L0Qkv.defs (F := Bits)) (onTc (τ := Cert.L0Qkv.τ) (Cert.L0Qkv.main (F := Bits))) ⟨m, fun _ => 0, g⟩ (fun r => (∀ c : Dev Cert.L0Qkv.nD,
      r.2.mem ((c.tc : Thread Cert.L0Qkv.nD Cert.L0Qkv.τ).loc Cert.L0Qkv.main_arg0) = m ((c.tc : Thread Cert.L0Qkv.nD Cert.L0Qkv.τ).loc Cert.L0Qkv.main_arg0)
      ∧ r.2.mem ((c.tc : Thread Cert.L0Qkv.nD Cert.L0Qkv.τ).loc Cert.L0Qkv.main_arg1) = m ((c.tc : Thread Cert.L0Qkv.nD Cert.L0Qkv.τ).loc Cert.L0Qkv.main_arg1))
      ∧ r.2.sem = fun _ => 0)

def quiescent_L0QkvIdeal [hL0QkvIdeal : Cert.L0QkvIdeal.Facts] : Prop :=
  ∀ (m : (ℓ : Loc Cert.L0QkvIdeal.nD Cert.L0QkvIdeal.τ Cert.L0QkvIdeal.sig) → Buf (Elt Ideal) ℓ) (g : Dev Cert.L0QkvIdeal.nD → PrngReg), Pre_L0QkvIdeal m →
    θ_run (Cert.L0QkvIdeal.defs (F := Ideal)) (onTc (τ := Cert.L0QkvIdeal.τ) (Cert.L0QkvIdeal.main (F := Ideal))) ⟨m, fun _ => 0, g⟩ (fun r => (∀ c : Dev Cert.L0QkvIdeal.nD,
      r.2.mem ((c.tc : Thread Cert.L0QkvIdeal.nD Cert.L0QkvIdeal.τ).loc Cert.L0QkvIdeal.main_arg0) = m ((c.tc : Thread Cert.L0QkvIdeal.nD Cert.L0QkvIdeal.τ).loc Cert.L0QkvIdeal.main_arg0)
      ∧ r.2.mem ((c.tc : Thread Cert.L0QkvIdeal.nD Cert.L0QkvIdeal.τ).loc Cert.L0QkvIdeal.main_arg1) = m ((c.tc : Thread Cert.L0QkvIdeal.nD Cert.L0QkvIdeal.τ).loc Cert.L0QkvIdeal.main_arg1))
      ∧ r.2.sem = fun _ => 0)

def quiescent_L0QkvRefIdeal [hL0QkvRefIdeal : Cert.L0QkvRefIdeal.Facts] : Prop :=
  ∀ (m : (ℓ : Loc Cert.L0QkvRefIdeal.nD Cert.L0QkvRefIdeal.τ Cert.L0QkvRefIdeal.sig) → Buf (Elt Ideal) ℓ) (g : Dev Cert.L0QkvRefIdeal.nD → PrngReg), Pre_L0QkvRefIdeal m →
    θ_run (Cert.L0QkvRefIdeal.defs (F := Ideal)) (onTc (τ := Cert.L0QkvRefIdeal.τ) (Cert.L0QkvRefIdeal.main (F := Ideal))) ⟨m, fun _ => 0, g⟩ (fun r => (∀ c : Dev Cert.L0QkvRefIdeal.nD,
      r.2.mem ((c.tc : Thread Cert.L0QkvRefIdeal.nD Cert.L0QkvRefIdeal.τ).loc Cert.L0QkvRefIdeal.main_arg0) = m ((c.tc : Thread Cert.L0QkvRefIdeal.nD Cert.L0QkvRefIdeal.τ).loc Cert.L0QkvRefIdeal.main_arg0)
      ∧ r.2.mem ((c.tc : Thread Cert.L0QkvRefIdeal.nD Cert.L0QkvRefIdeal.τ).loc Cert.L0QkvRefIdeal.main_arg1) = m ((c.tc : Thread Cert.L0QkvRefIdeal.nD Cert.L0QkvRefIdeal.τ).loc Cert.L0QkvRefIdeal.main_arg1))
      ∧ r.2.sem = fun _ => 0)

def quiescent_L0QkvDw [hL0QkvDw : Cert.L0QkvDw.Facts] : Prop :=
  ∀ (m : (ℓ : Loc Cert.L0QkvDw.nD Cert.L0QkvDw.τ Cert.L0QkvDw.sig) → Buf (Elt Bits) ℓ) (g : Dev Cert.L0QkvDw.nD → PrngReg), Pre_L0QkvDw m →
    θ_run (Cert.L0QkvDw.defs (F := Bits)) (onTc (τ := Cert.L0QkvDw.τ) (Cert.L0QkvDw.main (F := Bits))) ⟨m, fun _ => 0, g⟩ (fun r => (∀ c : Dev Cert.L0QkvDw.nD,
      r.2.mem ((c.tc : Thread Cert.L0QkvDw.nD Cert.L0QkvDw.τ).loc Cert.L0QkvDw.main_arg0) = m ((c.tc : Thread Cert.L0QkvDw.nD Cert.L0QkvDw.τ).loc Cert.L0QkvDw.main_arg0)
      ∧ r.2.mem ((c.tc : Thread Cert.L0QkvDw.nD Cert.L0QkvDw.τ).loc Cert.L0QkvDw.main_arg1) = m ((c.tc : Thread Cert.L0QkvDw.nD Cert.L0QkvDw.τ).loc Cert.L0QkvDw.main_arg1))
      ∧ r.2.sem = fun _ => 0)

def quiescent_L0QkvDwIdeal [hL0QkvDwIdeal : Cert.L0QkvDwIdeal.Facts] : Prop :=
  ∀ (m : (ℓ : Loc Cert.L0QkvDwIdeal.nD Cert.L0QkvDwIdeal.τ Cert.L0QkvDwIdeal.sig) → Buf (Elt Ideal) ℓ) (g : Dev Cert.L0QkvDwIdeal.nD → PrngReg), Pre_L0QkvDwIdeal m →
    θ_run (Cert.L0QkvDwIdeal.defs (F := Ideal)) (onTc (τ := Cert.L0QkvDwIdeal.τ) (Cert.L0QkvDwIdeal.main (F := Ideal))) ⟨m, fun _ => 0, g⟩ (fun r => (∀ c : Dev Cert.L0QkvDwIdeal.nD,
      r.2.mem ((c.tc : Thread Cert.L0QkvDwIdeal.nD Cert.L0QkvDwIdeal.τ).loc Cert.L0QkvDwIdeal.main_arg0) = m ((c.tc : Thread Cert.L0QkvDwIdeal.nD Cert.L0QkvDwIdeal.τ).loc Cert.L0QkvDwIdeal.main_arg0)
      ∧ r.2.mem ((c.tc : Thread Cert.L0QkvDwIdeal.nD Cert.L0QkvDwIdeal.τ).loc Cert.L0QkvDwIdeal.main_arg1) = m ((c.tc : Thread Cert.L0QkvDwIdeal.nD Cert.L0QkvDwIdeal.τ).loc Cert.L0QkvDwIdeal.main_arg1))
      ∧ r.2.sem = fun _ => 0)

def quiescent_L0QkvDwRefIdeal [hL0QkvDwRefIdeal : Cert.L0QkvDwRefIdeal.Facts] : Prop :=
  ∀ (m : (ℓ : Loc Cert.L0QkvDwRefIdeal.nD Cert.L0QkvDwRefIdeal.τ Cert.L0QkvDwRefIdeal.sig) → Buf (Elt Ideal) ℓ) (g : Dev Cert.L0QkvDwRefIdeal.nD → PrngReg), Pre_L0QkvDwRefIdeal m →
    θ_run (Cert.L0QkvDwRefIdeal.defs (F := Ideal)) (onTc (τ := Cert.L0QkvDwRefIdeal.τ) (Cert.L0QkvDwRefIdeal.main (F := Ideal))) ⟨m, fun _ => 0, g⟩ (fun r => (∀ c : Dev Cert.L0QkvDwRefIdeal.nD,
      r.2.mem ((c.tc : Thread Cert.L0QkvDwRefIdeal.nD Cert.L0QkvDwRefIdeal.τ).loc Cert.L0QkvDwRefIdeal.main_arg0) = m ((c.tc : Thread Cert.L0QkvDwRefIdeal.nD Cert.L0QkvDwRefIdeal.τ).loc Cert.L0QkvDwRefIdeal.main_arg0)
      ∧ r.2.mem ((c.tc : Thread Cert.L0QkvDwRefIdeal.nD Cert.L0QkvDwRefIdeal.τ).loc Cert.L0QkvDwRefIdeal.main_arg1) = m ((c.tc : Thread Cert.L0QkvDwRefIdeal.nD Cert.L0QkvDwRefIdeal.τ).loc Cert.L0QkvDwRefIdeal.main_arg1))
      ∧ r.2.sem = fun _ => 0)

def quiescent_L0QkvDx [hL0QkvDx : Cert.L0QkvDx.Facts] : Prop :=
  ∀ (m : (ℓ : Loc Cert.L0QkvDx.nD Cert.L0QkvDx.τ Cert.L0QkvDx.sig) → Buf (Elt Bits) ℓ) (g : Dev Cert.L0QkvDx.nD → PrngReg), Pre_L0QkvDx m →
    θ_run (Cert.L0QkvDx.defs (F := Bits)) (onTc (τ := Cert.L0QkvDx.τ) (Cert.L0QkvDx.main (F := Bits))) ⟨m, fun _ => 0, g⟩ (fun r => (∀ c : Dev Cert.L0QkvDx.nD,
      r.2.mem ((c.tc : Thread Cert.L0QkvDx.nD Cert.L0QkvDx.τ).loc Cert.L0QkvDx.main_arg0) = m ((c.tc : Thread Cert.L0QkvDx.nD Cert.L0QkvDx.τ).loc Cert.L0QkvDx.main_arg0)
      ∧ r.2.mem ((c.tc : Thread Cert.L0QkvDx.nD Cert.L0QkvDx.τ).loc Cert.L0QkvDx.main_arg1) = m ((c.tc : Thread Cert.L0QkvDx.nD Cert.L0QkvDx.τ).loc Cert.L0QkvDx.main_arg1))
      ∧ r.2.sem = fun _ => 0)

def quiescent_L0QkvDxIdeal [hL0QkvDxIdeal : Cert.L0QkvDxIdeal.Facts] : Prop :=
  ∀ (m : (ℓ : Loc Cert.L0QkvDxIdeal.nD Cert.L0QkvDxIdeal.τ Cert.L0QkvDxIdeal.sig) → Buf (Elt Ideal) ℓ) (g : Dev Cert.L0QkvDxIdeal.nD → PrngReg), Pre_L0QkvDxIdeal m →
    θ_run (Cert.L0QkvDxIdeal.defs (F := Ideal)) (onTc (τ := Cert.L0QkvDxIdeal.τ) (Cert.L0QkvDxIdeal.main (F := Ideal))) ⟨m, fun _ => 0, g⟩ (fun r => (∀ c : Dev Cert.L0QkvDxIdeal.nD,
      r.2.mem ((c.tc : Thread Cert.L0QkvDxIdeal.nD Cert.L0QkvDxIdeal.τ).loc Cert.L0QkvDxIdeal.main_arg0) = m ((c.tc : Thread Cert.L0QkvDxIdeal.nD Cert.L0QkvDxIdeal.τ).loc Cert.L0QkvDxIdeal.main_arg0)
      ∧ r.2.mem ((c.tc : Thread Cert.L0QkvDxIdeal.nD Cert.L0QkvDxIdeal.τ).loc Cert.L0QkvDxIdeal.main_arg1) = m ((c.tc : Thread Cert.L0QkvDxIdeal.nD Cert.L0QkvDxIdeal.τ).loc Cert.L0QkvDxIdeal.main_arg1))
      ∧ r.2.sem = fun _ => 0)

def quiescent_L0QkvDxRefIdeal [hL0QkvDxRefIdeal : Cert.L0QkvDxRefIdeal.Facts] : Prop :=
  ∀ (m : (ℓ : Loc Cert.L0QkvDxRefIdeal.nD Cert.L0QkvDxRefIdeal.τ Cert.L0QkvDxRefIdeal.sig) → Buf (Elt Ideal) ℓ) (g : Dev Cert.L0QkvDxRefIdeal.nD → PrngReg), Pre_L0QkvDxRefIdeal m →
    θ_run (Cert.L0QkvDxRefIdeal.defs (F := Ideal)) (onTc (τ := Cert.L0QkvDxRefIdeal.τ) (Cert.L0QkvDxRefIdeal.main (F := Ideal))) ⟨m, fun _ => 0, g⟩ (fun r => (∀ c : Dev Cert.L0QkvDxRefIdeal.nD,
      r.2.mem ((c.tc : Thread Cert.L0QkvDxRefIdeal.nD Cert.L0QkvDxRefIdeal.τ).loc Cert.L0QkvDxRefIdeal.main_arg0) = m ((c.tc : Thread Cert.L0QkvDxRefIdeal.nD Cert.L0QkvDxRefIdeal.τ).loc Cert.L0QkvDxRefIdeal.main_arg0)
      ∧ r.2.mem ((c.tc : Thread Cert.L0QkvDxRefIdeal.nD Cert.L0QkvDxRefIdeal.τ).loc Cert.L0QkvDxRefIdeal.main_arg1) = m ((c.tc : Thread Cert.L0QkvDxRefIdeal.nD Cert.L0QkvDxRefIdeal.τ).loc Cert.L0QkvDxRefIdeal.main_arg1))
      ∧ r.2.sem = fun _ => 0)

def quiescent_L0AttnOutDw [hL0AttnOutDw : Cert.L0AttnOutDw.Facts] : Prop :=
  ∀ (m : (ℓ : Loc Cert.L0AttnOutDw.nD Cert.L0AttnOutDw.τ Cert.L0AttnOutDw.sig) → Buf (Elt Bits) ℓ) (g : Dev Cert.L0AttnOutDw.nD → PrngReg), Pre_L0AttnOutDw m →
    θ_run (Cert.L0AttnOutDw.defs (F := Bits)) (onTc (τ := Cert.L0AttnOutDw.τ) (Cert.L0AttnOutDw.main (F := Bits))) ⟨m, fun _ => 0, g⟩ (fun r => (∀ c : Dev Cert.L0AttnOutDw.nD,
      r.2.mem ((c.tc : Thread Cert.L0AttnOutDw.nD Cert.L0AttnOutDw.τ).loc Cert.L0AttnOutDw.main_arg0) = m ((c.tc : Thread Cert.L0AttnOutDw.nD Cert.L0AttnOutDw.τ).loc Cert.L0AttnOutDw.main_arg0)
      ∧ r.2.mem ((c.tc : Thread Cert.L0AttnOutDw.nD Cert.L0AttnOutDw.τ).loc Cert.L0AttnOutDw.main_arg1) = m ((c.tc : Thread Cert.L0AttnOutDw.nD Cert.L0AttnOutDw.τ).loc Cert.L0AttnOutDw.main_arg1))
      ∧ r.2.sem = fun _ => 0)

def quiescent_L0AttnOutDwIdeal [hL0AttnOutDwIdeal : Cert.L0AttnOutDwIdeal.Facts] : Prop :=
  ∀ (m : (ℓ : Loc Cert.L0AttnOutDwIdeal.nD Cert.L0AttnOutDwIdeal.τ Cert.L0AttnOutDwIdeal.sig) → Buf (Elt Ideal) ℓ) (g : Dev Cert.L0AttnOutDwIdeal.nD → PrngReg), Pre_L0AttnOutDwIdeal m →
    θ_run (Cert.L0AttnOutDwIdeal.defs (F := Ideal)) (onTc (τ := Cert.L0AttnOutDwIdeal.τ) (Cert.L0AttnOutDwIdeal.main (F := Ideal))) ⟨m, fun _ => 0, g⟩ (fun r => (∀ c : Dev Cert.L0AttnOutDwIdeal.nD,
      r.2.mem ((c.tc : Thread Cert.L0AttnOutDwIdeal.nD Cert.L0AttnOutDwIdeal.τ).loc Cert.L0AttnOutDwIdeal.main_arg0) = m ((c.tc : Thread Cert.L0AttnOutDwIdeal.nD Cert.L0AttnOutDwIdeal.τ).loc Cert.L0AttnOutDwIdeal.main_arg0)
      ∧ r.2.mem ((c.tc : Thread Cert.L0AttnOutDwIdeal.nD Cert.L0AttnOutDwIdeal.τ).loc Cert.L0AttnOutDwIdeal.main_arg1) = m ((c.tc : Thread Cert.L0AttnOutDwIdeal.nD Cert.L0AttnOutDwIdeal.τ).loc Cert.L0AttnOutDwIdeal.main_arg1))
      ∧ r.2.sem = fun _ => 0)

def quiescent_L0AttnOutDwRefIdeal [hL0AttnOutDwRefIdeal : Cert.L0AttnOutDwRefIdeal.Facts] : Prop :=
  ∀ (m : (ℓ : Loc Cert.L0AttnOutDwRefIdeal.nD Cert.L0AttnOutDwRefIdeal.τ Cert.L0AttnOutDwRefIdeal.sig) → Buf (Elt Ideal) ℓ) (g : Dev Cert.L0AttnOutDwRefIdeal.nD → PrngReg), Pre_L0AttnOutDwRefIdeal m →
    θ_run (Cert.L0AttnOutDwRefIdeal.defs (F := Ideal)) (onTc (τ := Cert.L0AttnOutDwRefIdeal.τ) (Cert.L0AttnOutDwRefIdeal.main (F := Ideal))) ⟨m, fun _ => 0, g⟩ (fun r => (∀ c : Dev Cert.L0AttnOutDwRefIdeal.nD,
      r.2.mem ((c.tc : Thread Cert.L0AttnOutDwRefIdeal.nD Cert.L0AttnOutDwRefIdeal.τ).loc Cert.L0AttnOutDwRefIdeal.main_arg0) = m ((c.tc : Thread Cert.L0AttnOutDwRefIdeal.nD Cert.L0AttnOutDwRefIdeal.τ).loc Cert.L0AttnOutDwRefIdeal.main_arg0)
      ∧ r.2.mem ((c.tc : Thread Cert.L0AttnOutDwRefIdeal.nD Cert.L0AttnOutDwRefIdeal.τ).loc Cert.L0AttnOutDwRefIdeal.main_arg1) = m ((c.tc : Thread Cert.L0AttnOutDwRefIdeal.nD Cert.L0AttnOutDwRefIdeal.τ).loc Cert.L0AttnOutDwRefIdeal.main_arg1))
      ∧ r.2.sem = fun _ => 0)

def quiescent_L0AttnOutDx [hL0AttnOutDx : Cert.L0AttnOutDx.Facts] : Prop :=
  ∀ (m : (ℓ : Loc Cert.L0AttnOutDx.nD Cert.L0AttnOutDx.τ Cert.L0AttnOutDx.sig) → Buf (Elt Bits) ℓ) (g : Dev Cert.L0AttnOutDx.nD → PrngReg), Pre_L0AttnOutDx m →
    θ_run (Cert.L0AttnOutDx.defs (F := Bits)) (onTc (τ := Cert.L0AttnOutDx.τ) (Cert.L0AttnOutDx.main (F := Bits))) ⟨m, fun _ => 0, g⟩ (fun r => (∀ c : Dev Cert.L0AttnOutDx.nD,
      r.2.mem ((c.tc : Thread Cert.L0AttnOutDx.nD Cert.L0AttnOutDx.τ).loc Cert.L0AttnOutDx.main_arg0) = m ((c.tc : Thread Cert.L0AttnOutDx.nD Cert.L0AttnOutDx.τ).loc Cert.L0AttnOutDx.main_arg0)
      ∧ r.2.mem ((c.tc : Thread Cert.L0AttnOutDx.nD Cert.L0AttnOutDx.τ).loc Cert.L0AttnOutDx.main_arg1) = m ((c.tc : Thread Cert.L0AttnOutDx.nD Cert.L0AttnOutDx.τ).loc Cert.L0AttnOutDx.main_arg1))
      ∧ r.2.sem = fun _ => 0)

def quiescent_L0AttnOutDxIdeal [hL0AttnOutDxIdeal : Cert.L0AttnOutDxIdeal.Facts] : Prop :=
  ∀ (m : (ℓ : Loc Cert.L0AttnOutDxIdeal.nD Cert.L0AttnOutDxIdeal.τ Cert.L0AttnOutDxIdeal.sig) → Buf (Elt Ideal) ℓ) (g : Dev Cert.L0AttnOutDxIdeal.nD → PrngReg), Pre_L0AttnOutDxIdeal m →
    θ_run (Cert.L0AttnOutDxIdeal.defs (F := Ideal)) (onTc (τ := Cert.L0AttnOutDxIdeal.τ) (Cert.L0AttnOutDxIdeal.main (F := Ideal))) ⟨m, fun _ => 0, g⟩ (fun r => (∀ c : Dev Cert.L0AttnOutDxIdeal.nD,
      r.2.mem ((c.tc : Thread Cert.L0AttnOutDxIdeal.nD Cert.L0AttnOutDxIdeal.τ).loc Cert.L0AttnOutDxIdeal.main_arg0) = m ((c.tc : Thread Cert.L0AttnOutDxIdeal.nD Cert.L0AttnOutDxIdeal.τ).loc Cert.L0AttnOutDxIdeal.main_arg0)
      ∧ r.2.mem ((c.tc : Thread Cert.L0AttnOutDxIdeal.nD Cert.L0AttnOutDxIdeal.τ).loc Cert.L0AttnOutDxIdeal.main_arg1) = m ((c.tc : Thread Cert.L0AttnOutDxIdeal.nD Cert.L0AttnOutDxIdeal.τ).loc Cert.L0AttnOutDxIdeal.main_arg1))
      ∧ r.2.sem = fun _ => 0)

def quiescent_L0AttnOutDxRefIdeal [hL0AttnOutDxRefIdeal : Cert.L0AttnOutDxRefIdeal.Facts] : Prop :=
  ∀ (m : (ℓ : Loc Cert.L0AttnOutDxRefIdeal.nD Cert.L0AttnOutDxRefIdeal.τ Cert.L0AttnOutDxRefIdeal.sig) → Buf (Elt Ideal) ℓ) (g : Dev Cert.L0AttnOutDxRefIdeal.nD → PrngReg), Pre_L0AttnOutDxRefIdeal m →
    θ_run (Cert.L0AttnOutDxRefIdeal.defs (F := Ideal)) (onTc (τ := Cert.L0AttnOutDxRefIdeal.τ) (Cert.L0AttnOutDxRefIdeal.main (F := Ideal))) ⟨m, fun _ => 0, g⟩ (fun r => (∀ c : Dev Cert.L0AttnOutDxRefIdeal.nD,
      r.2.mem ((c.tc : Thread Cert.L0AttnOutDxRefIdeal.nD Cert.L0AttnOutDxRefIdeal.τ).loc Cert.L0AttnOutDxRefIdeal.main_arg0) = m ((c.tc : Thread Cert.L0AttnOutDxRefIdeal.nD Cert.L0AttnOutDxRefIdeal.τ).loc Cert.L0AttnOutDxRefIdeal.main_arg0)
      ∧ r.2.mem ((c.tc : Thread Cert.L0AttnOutDxRefIdeal.nD Cert.L0AttnOutDxRefIdeal.τ).loc Cert.L0AttnOutDxRefIdeal.main_arg1) = m ((c.tc : Thread Cert.L0AttnOutDxRefIdeal.nD Cert.L0AttnOutDxRefIdeal.τ).loc Cert.L0AttnOutDxRefIdeal.main_arg1))
      ∧ r.2.sem = fun _ => 0)

def quiescent_L0AttnOut [hL0AttnOut : Cert.L0AttnOut.Facts] : Prop :=
  ∀ (m : (ℓ : Loc Cert.L0AttnOut.nD Cert.L0AttnOut.τ Cert.L0AttnOut.sig) → Buf (Elt Bits) ℓ) (g : Dev Cert.L0AttnOut.nD → PrngReg), Pre_L0AttnOut m →
    θ_run (Cert.L0AttnOut.defs (F := Bits)) (onTc (τ := Cert.L0AttnOut.τ) (Cert.L0AttnOut.main (F := Bits))) ⟨m, fun _ => 0, g⟩ (fun r => (∀ c : Dev Cert.L0AttnOut.nD,
      r.2.mem ((c.tc : Thread Cert.L0AttnOut.nD Cert.L0AttnOut.τ).loc Cert.L0AttnOut.main_arg0) = m ((c.tc : Thread Cert.L0AttnOut.nD Cert.L0AttnOut.τ).loc Cert.L0AttnOut.main_arg0)
      ∧ r.2.mem ((c.tc : Thread Cert.L0AttnOut.nD Cert.L0AttnOut.τ).loc Cert.L0AttnOut.main_arg1) = m ((c.tc : Thread Cert.L0AttnOut.nD Cert.L0AttnOut.τ).loc Cert.L0AttnOut.main_arg1)
      ∧ r.2.mem ((c.tc : Thread Cert.L0AttnOut.nD Cert.L0AttnOut.τ).loc Cert.L0AttnOut.main_arg2) = m ((c.tc : Thread Cert.L0AttnOut.nD Cert.L0AttnOut.τ).loc Cert.L0AttnOut.main_arg2)
      ∧ r.2.mem ((c.tc : Thread Cert.L0AttnOut.nD Cert.L0AttnOut.τ).loc Cert.L0AttnOut.main_arg3) = m ((c.tc : Thread Cert.L0AttnOut.nD Cert.L0AttnOut.τ).loc Cert.L0AttnOut.main_arg3))
      ∧ r.2.sem = fun _ => 0)

def quiescent_L0AttnOutIdeal [hL0AttnOutIdeal : Cert.L0AttnOutIdeal.Facts] : Prop :=
  ∀ (m : (ℓ : Loc Cert.L0AttnOutIdeal.nD Cert.L0AttnOutIdeal.τ Cert.L0AttnOutIdeal.sig) → Buf (Elt Ideal) ℓ) (g : Dev Cert.L0AttnOutIdeal.nD → PrngReg), Pre_L0AttnOutIdeal m →
    θ_run (Cert.L0AttnOutIdeal.defs (F := Ideal)) (onTc (τ := Cert.L0AttnOutIdeal.τ) (Cert.L0AttnOutIdeal.main (F := Ideal))) ⟨m, fun _ => 0, g⟩ (fun r => (∀ c : Dev Cert.L0AttnOutIdeal.nD,
      r.2.mem ((c.tc : Thread Cert.L0AttnOutIdeal.nD Cert.L0AttnOutIdeal.τ).loc Cert.L0AttnOutIdeal.main_arg0) = m ((c.tc : Thread Cert.L0AttnOutIdeal.nD Cert.L0AttnOutIdeal.τ).loc Cert.L0AttnOutIdeal.main_arg0)
      ∧ r.2.mem ((c.tc : Thread Cert.L0AttnOutIdeal.nD Cert.L0AttnOutIdeal.τ).loc Cert.L0AttnOutIdeal.main_arg1) = m ((c.tc : Thread Cert.L0AttnOutIdeal.nD Cert.L0AttnOutIdeal.τ).loc Cert.L0AttnOutIdeal.main_arg1)
      ∧ r.2.mem ((c.tc : Thread Cert.L0AttnOutIdeal.nD Cert.L0AttnOutIdeal.τ).loc Cert.L0AttnOutIdeal.main_arg2) = m ((c.tc : Thread Cert.L0AttnOutIdeal.nD Cert.L0AttnOutIdeal.τ).loc Cert.L0AttnOutIdeal.main_arg2)
      ∧ r.2.mem ((c.tc : Thread Cert.L0AttnOutIdeal.nD Cert.L0AttnOutIdeal.τ).loc Cert.L0AttnOutIdeal.main_arg3) = m ((c.tc : Thread Cert.L0AttnOutIdeal.nD Cert.L0AttnOutIdeal.τ).loc Cert.L0AttnOutIdeal.main_arg3))
      ∧ r.2.sem = fun _ => 0)

def quiescent_L0AttnOutRefIdeal [hL0AttnOutRefIdeal : Cert.L0AttnOutRefIdeal.Facts] : Prop :=
  ∀ (m : (ℓ : Loc Cert.L0AttnOutRefIdeal.nD Cert.L0AttnOutRefIdeal.τ Cert.L0AttnOutRefIdeal.sig) → Buf (Elt Ideal) ℓ) (g : Dev Cert.L0AttnOutRefIdeal.nD → PrngReg), Pre_L0AttnOutRefIdeal m →
    θ_run (Cert.L0AttnOutRefIdeal.defs (F := Ideal)) (onTc (τ := Cert.L0AttnOutRefIdeal.τ) (Cert.L0AttnOutRefIdeal.main (F := Ideal))) ⟨m, fun _ => 0, g⟩ (fun r => (∀ c : Dev Cert.L0AttnOutRefIdeal.nD,
      r.2.mem ((c.tc : Thread Cert.L0AttnOutRefIdeal.nD Cert.L0AttnOutRefIdeal.τ).loc Cert.L0AttnOutRefIdeal.main_arg0) = m ((c.tc : Thread Cert.L0AttnOutRefIdeal.nD Cert.L0AttnOutRefIdeal.τ).loc Cert.L0AttnOutRefIdeal.main_arg0)
      ∧ r.2.mem ((c.tc : Thread Cert.L0AttnOutRefIdeal.nD Cert.L0AttnOutRefIdeal.τ).loc Cert.L0AttnOutRefIdeal.main_arg1) = m ((c.tc : Thread Cert.L0AttnOutRefIdeal.nD Cert.L0AttnOutRefIdeal.τ).loc Cert.L0AttnOutRefIdeal.main_arg1)
      ∧ r.2.mem ((c.tc : Thread Cert.L0AttnOutRefIdeal.nD Cert.L0AttnOutRefIdeal.τ).loc Cert.L0AttnOutRefIdeal.main_arg2) = m ((c.tc : Thread Cert.L0AttnOutRefIdeal.nD Cert.L0AttnOutRefIdeal.τ).loc Cert.L0AttnOutRefIdeal.main_arg2)
      ∧ r.2.mem ((c.tc : Thread Cert.L0AttnOutRefIdeal.nD Cert.L0AttnOutRefIdeal.τ).loc Cert.L0AttnOutRefIdeal.main_arg3) = m ((c.tc : Thread Cert.L0AttnOutRefIdeal.nD Cert.L0AttnOutRefIdeal.τ).loc Cert.L0AttnOutRefIdeal.main_arg3))
      ∧ r.2.sem = fun _ => 0)

def quiescent_L0Out [hL0Out : Cert.L0Out.Facts] : Prop :=
  ∀ (m : (ℓ : Loc Cert.L0Out.nD Cert.L0Out.τ Cert.L0Out.sig) → Buf (Elt Bits) ℓ) (g : Dev Cert.L0Out.nD → PrngReg), Pre_L0Out m →
    θ_run (Cert.L0Out.defs (F := Bits)) (onTc (τ := Cert.L0Out.τ) (Cert.L0Out.main (F := Bits))) ⟨m, fun _ => 0, g⟩ (fun r => (∀ c : Dev Cert.L0Out.nD,
      r.2.mem ((c.tc : Thread Cert.L0Out.nD Cert.L0Out.τ).loc Cert.L0Out.main_arg0) = m ((c.tc : Thread Cert.L0Out.nD Cert.L0Out.τ).loc Cert.L0Out.main_arg0)
      ∧ r.2.mem ((c.tc : Thread Cert.L0Out.nD Cert.L0Out.τ).loc Cert.L0Out.main_arg1) = m ((c.tc : Thread Cert.L0Out.nD Cert.L0Out.τ).loc Cert.L0Out.main_arg1)
      ∧ r.2.mem ((c.tc : Thread Cert.L0Out.nD Cert.L0Out.τ).loc Cert.L0Out.main_arg2) = m ((c.tc : Thread Cert.L0Out.nD Cert.L0Out.τ).loc Cert.L0Out.main_arg2)
      ∧ r.2.mem ((c.tc : Thread Cert.L0Out.nD Cert.L0Out.τ).loc Cert.L0Out.main_arg3) = m ((c.tc : Thread Cert.L0Out.nD Cert.L0Out.τ).loc Cert.L0Out.main_arg3))
      ∧ r.2.sem = fun _ => 0)

def quiescent_L0OutIdeal [hL0OutIdeal : Cert.L0OutIdeal.Facts] : Prop :=
  ∀ (m : (ℓ : Loc Cert.L0OutIdeal.nD Cert.L0OutIdeal.τ Cert.L0OutIdeal.sig) → Buf (Elt Ideal) ℓ) (g : Dev Cert.L0OutIdeal.nD → PrngReg), Pre_L0OutIdeal m →
    θ_run (Cert.L0OutIdeal.defs (F := Ideal)) (onTc (τ := Cert.L0OutIdeal.τ) (Cert.L0OutIdeal.main (F := Ideal))) ⟨m, fun _ => 0, g⟩ (fun r => (∀ c : Dev Cert.L0OutIdeal.nD,
      r.2.mem ((c.tc : Thread Cert.L0OutIdeal.nD Cert.L0OutIdeal.τ).loc Cert.L0OutIdeal.main_arg0) = m ((c.tc : Thread Cert.L0OutIdeal.nD Cert.L0OutIdeal.τ).loc Cert.L0OutIdeal.main_arg0)
      ∧ r.2.mem ((c.tc : Thread Cert.L0OutIdeal.nD Cert.L0OutIdeal.τ).loc Cert.L0OutIdeal.main_arg1) = m ((c.tc : Thread Cert.L0OutIdeal.nD Cert.L0OutIdeal.τ).loc Cert.L0OutIdeal.main_arg1)
      ∧ r.2.mem ((c.tc : Thread Cert.L0OutIdeal.nD Cert.L0OutIdeal.τ).loc Cert.L0OutIdeal.main_arg2) = m ((c.tc : Thread Cert.L0OutIdeal.nD Cert.L0OutIdeal.τ).loc Cert.L0OutIdeal.main_arg2)
      ∧ r.2.mem ((c.tc : Thread Cert.L0OutIdeal.nD Cert.L0OutIdeal.τ).loc Cert.L0OutIdeal.main_arg3) = m ((c.tc : Thread Cert.L0OutIdeal.nD Cert.L0OutIdeal.τ).loc Cert.L0OutIdeal.main_arg3))
      ∧ r.2.sem = fun _ => 0)

def quiescent_L0OutRefIdeal [hL0OutRefIdeal : Cert.L0OutRefIdeal.Facts] : Prop :=
  ∀ (m : (ℓ : Loc Cert.L0OutRefIdeal.nD Cert.L0OutRefIdeal.τ Cert.L0OutRefIdeal.sig) → Buf (Elt Ideal) ℓ) (g : Dev Cert.L0OutRefIdeal.nD → PrngReg), Pre_L0OutRefIdeal m →
    θ_run (Cert.L0OutRefIdeal.defs (F := Ideal)) (onTc (τ := Cert.L0OutRefIdeal.τ) (Cert.L0OutRefIdeal.main (F := Ideal))) ⟨m, fun _ => 0, g⟩ (fun r => (∀ c : Dev Cert.L0OutRefIdeal.nD,
      r.2.mem ((c.tc : Thread Cert.L0OutRefIdeal.nD Cert.L0OutRefIdeal.τ).loc Cert.L0OutRefIdeal.main_arg0) = m ((c.tc : Thread Cert.L0OutRefIdeal.nD Cert.L0OutRefIdeal.τ).loc Cert.L0OutRefIdeal.main_arg0)
      ∧ r.2.mem ((c.tc : Thread Cert.L0OutRefIdeal.nD Cert.L0OutRefIdeal.τ).loc Cert.L0OutRefIdeal.main_arg1) = m ((c.tc : Thread Cert.L0OutRefIdeal.nD Cert.L0OutRefIdeal.τ).loc Cert.L0OutRefIdeal.main_arg1)
      ∧ r.2.mem ((c.tc : Thread Cert.L0OutRefIdeal.nD Cert.L0OutRefIdeal.τ).loc Cert.L0OutRefIdeal.main_arg2) = m ((c.tc : Thread Cert.L0OutRefIdeal.nD Cert.L0OutRefIdeal.τ).loc Cert.L0OutRefIdeal.main_arg2)
      ∧ r.2.mem ((c.tc : Thread Cert.L0OutRefIdeal.nD Cert.L0OutRefIdeal.τ).loc Cert.L0OutRefIdeal.main_arg3) = m ((c.tc : Thread Cert.L0OutRefIdeal.nD Cert.L0OutRefIdeal.τ).loc Cert.L0OutRefIdeal.main_arg3))
      ∧ r.2.sem = fun _ => 0)

def quiescent_L1RetOut [hL1RetOut : Cert.L1RetOut.Facts] : Prop :=
  ∀ (m : (ℓ : Loc Cert.L1RetOut.nD Cert.L1RetOut.τ Cert.L1RetOut.sig) → Buf (Elt Bits) ℓ) (g : Dev Cert.L1RetOut.nD → PrngReg), Pre_L1RetOut m →
    θ_run (Cert.L1RetOut.defs (F := Bits)) (onTc (τ := Cert.L1RetOut.τ) (Cert.L1RetOut.main (F := Bits))) ⟨m, fun _ => 0, g⟩ (fun r => (∀ c : Dev Cert.L1RetOut.nD,
      r.2.mem ((c.tc : Thread Cert.L1RetOut.nD Cert.L1RetOut.τ).loc Cert.L1RetOut.main_arg0) = m ((c.tc : Thread Cert.L1RetOut.nD Cert.L1RetOut.τ).loc Cert.L1RetOut.main_arg0)
      ∧ r.2.mem ((c.tc : Thread Cert.L1RetOut.nD Cert.L1RetOut.τ).loc Cert.L1RetOut.main_arg1) = m ((c.tc : Thread Cert.L1RetOut.nD Cert.L1RetOut.τ).loc Cert.L1RetOut.main_arg1)
      ∧ r.2.mem ((c.tc : Thread Cert.L1RetOut.nD Cert.L1RetOut.τ).loc Cert.L1RetOut.main_arg2) = m ((c.tc : Thread Cert.L1RetOut.nD Cert.L1RetOut.τ).loc Cert.L1RetOut.main_arg2)
      ∧ r.2.mem ((c.tc : Thread Cert.L1RetOut.nD Cert.L1RetOut.τ).loc Cert.L1RetOut.main_arg3) = m ((c.tc : Thread Cert.L1RetOut.nD Cert.L1RetOut.τ).loc Cert.L1RetOut.main_arg3))
      ∧ r.2.sem = fun _ => 0)

def quiescent_L1RetOutIdeal [hL1RetOutIdeal : Cert.L1RetOutIdeal.Facts] : Prop :=
  ∀ (m : (ℓ : Loc Cert.L1RetOutIdeal.nD Cert.L1RetOutIdeal.τ Cert.L1RetOutIdeal.sig) → Buf (Elt Ideal) ℓ) (g : Dev Cert.L1RetOutIdeal.nD → PrngReg), Pre_L1RetOutIdeal m →
    θ_run (Cert.L1RetOutIdeal.defs (F := Ideal)) (onTc (τ := Cert.L1RetOutIdeal.τ) (Cert.L1RetOutIdeal.main (F := Ideal))) ⟨m, fun _ => 0, g⟩ (fun r => (∀ c : Dev Cert.L1RetOutIdeal.nD,
      r.2.mem ((c.tc : Thread Cert.L1RetOutIdeal.nD Cert.L1RetOutIdeal.τ).loc Cert.L1RetOutIdeal.main_arg0) = m ((c.tc : Thread Cert.L1RetOutIdeal.nD Cert.L1RetOutIdeal.τ).loc Cert.L1RetOutIdeal.main_arg0)
      ∧ r.2.mem ((c.tc : Thread Cert.L1RetOutIdeal.nD Cert.L1RetOutIdeal.τ).loc Cert.L1RetOutIdeal.main_arg1) = m ((c.tc : Thread Cert.L1RetOutIdeal.nD Cert.L1RetOutIdeal.τ).loc Cert.L1RetOutIdeal.main_arg1)
      ∧ r.2.mem ((c.tc : Thread Cert.L1RetOutIdeal.nD Cert.L1RetOutIdeal.τ).loc Cert.L1RetOutIdeal.main_arg2) = m ((c.tc : Thread Cert.L1RetOutIdeal.nD Cert.L1RetOutIdeal.τ).loc Cert.L1RetOutIdeal.main_arg2)
      ∧ r.2.mem ((c.tc : Thread Cert.L1RetOutIdeal.nD Cert.L1RetOutIdeal.τ).loc Cert.L1RetOutIdeal.main_arg3) = m ((c.tc : Thread Cert.L1RetOutIdeal.nD Cert.L1RetOutIdeal.τ).loc Cert.L1RetOutIdeal.main_arg3))
      ∧ r.2.sem = fun _ => 0)

def quiescent_L1RetOutRefIdeal [hL1RetOutRefIdeal : Cert.L1RetOutRefIdeal.Facts] : Prop :=
  ∀ (m : (ℓ : Loc Cert.L1RetOutRefIdeal.nD Cert.L1RetOutRefIdeal.τ Cert.L1RetOutRefIdeal.sig) → Buf (Elt Ideal) ℓ) (g : Dev Cert.L1RetOutRefIdeal.nD → PrngReg), Pre_L1RetOutRefIdeal m →
    θ_run (Cert.L1RetOutRefIdeal.defs (F := Ideal)) (onTc (τ := Cert.L1RetOutRefIdeal.τ) (Cert.L1RetOutRefIdeal.main (F := Ideal))) ⟨m, fun _ => 0, g⟩ (fun r => (∀ c : Dev Cert.L1RetOutRefIdeal.nD,
      r.2.mem ((c.tc : Thread Cert.L1RetOutRefIdeal.nD Cert.L1RetOutRefIdeal.τ).loc Cert.L1RetOutRefIdeal.main_arg0) = m ((c.tc : Thread Cert.L1RetOutRefIdeal.nD Cert.L1RetOutRefIdeal.τ).loc Cert.L1RetOutRefIdeal.main_arg0)
      ∧ r.2.mem ((c.tc : Thread Cert.L1RetOutRefIdeal.nD Cert.L1RetOutRefIdeal.τ).loc Cert.L1RetOutRefIdeal.main_arg1) = m ((c.tc : Thread Cert.L1RetOutRefIdeal.nD Cert.L1RetOutRefIdeal.τ).loc Cert.L1RetOutRefIdeal.main_arg1)
      ∧ r.2.mem ((c.tc : Thread Cert.L1RetOutRefIdeal.nD Cert.L1RetOutRefIdeal.τ).loc Cert.L1RetOutRefIdeal.main_arg2) = m ((c.tc : Thread Cert.L1RetOutRefIdeal.nD Cert.L1RetOutRefIdeal.τ).loc Cert.L1RetOutRefIdeal.main_arg2)
      ∧ r.2.mem ((c.tc : Thread Cert.L1RetOutRefIdeal.nD Cert.L1RetOutRefIdeal.τ).loc Cert.L1RetOutRefIdeal.main_arg3) = m ((c.tc : Thread Cert.L1RetOutRefIdeal.nD Cert.L1RetOutRefIdeal.τ).loc Cert.L1RetOutRefIdeal.main_arg3))
      ∧ r.2.sem = fun _ => 0)

def quiescent_L1Out [hL1Out : Cert.L1Out.Facts] : Prop :=
  ∀ (m : (ℓ : Loc Cert.L1Out.nD Cert.L1Out.τ Cert.L1Out.sig) → Buf (Elt Bits) ℓ) (g : Dev Cert.L1Out.nD → PrngReg), Pre_L1Out m →
    θ_run (Cert.L1Out.defs (F := Bits)) (onTc (τ := Cert.L1Out.τ) (Cert.L1Out.main (F := Bits))) ⟨m, fun _ => 0, g⟩ (fun r => (∀ c : Dev Cert.L1Out.nD,
      r.2.mem ((c.tc : Thread Cert.L1Out.nD Cert.L1Out.τ).loc Cert.L1Out.main_arg0) = m ((c.tc : Thread Cert.L1Out.nD Cert.L1Out.τ).loc Cert.L1Out.main_arg0)
      ∧ r.2.mem ((c.tc : Thread Cert.L1Out.nD Cert.L1Out.τ).loc Cert.L1Out.main_arg1) = m ((c.tc : Thread Cert.L1Out.nD Cert.L1Out.τ).loc Cert.L1Out.main_arg1)
      ∧ r.2.mem ((c.tc : Thread Cert.L1Out.nD Cert.L1Out.τ).loc Cert.L1Out.main_arg2) = m ((c.tc : Thread Cert.L1Out.nD Cert.L1Out.τ).loc Cert.L1Out.main_arg2)
      ∧ r.2.mem ((c.tc : Thread Cert.L1Out.nD Cert.L1Out.τ).loc Cert.L1Out.main_arg3) = m ((c.tc : Thread Cert.L1Out.nD Cert.L1Out.τ).loc Cert.L1Out.main_arg3))
      ∧ r.2.sem = fun _ => 0)

def quiescent_L1OutIdeal [hL1OutIdeal : Cert.L1OutIdeal.Facts] : Prop :=
  ∀ (m : (ℓ : Loc Cert.L1OutIdeal.nD Cert.L1OutIdeal.τ Cert.L1OutIdeal.sig) → Buf (Elt Ideal) ℓ) (g : Dev Cert.L1OutIdeal.nD → PrngReg), Pre_L1OutIdeal m →
    θ_run (Cert.L1OutIdeal.defs (F := Ideal)) (onTc (τ := Cert.L1OutIdeal.τ) (Cert.L1OutIdeal.main (F := Ideal))) ⟨m, fun _ => 0, g⟩ (fun r => (∀ c : Dev Cert.L1OutIdeal.nD,
      r.2.mem ((c.tc : Thread Cert.L1OutIdeal.nD Cert.L1OutIdeal.τ).loc Cert.L1OutIdeal.main_arg0) = m ((c.tc : Thread Cert.L1OutIdeal.nD Cert.L1OutIdeal.τ).loc Cert.L1OutIdeal.main_arg0)
      ∧ r.2.mem ((c.tc : Thread Cert.L1OutIdeal.nD Cert.L1OutIdeal.τ).loc Cert.L1OutIdeal.main_arg1) = m ((c.tc : Thread Cert.L1OutIdeal.nD Cert.L1OutIdeal.τ).loc Cert.L1OutIdeal.main_arg1)
      ∧ r.2.mem ((c.tc : Thread Cert.L1OutIdeal.nD Cert.L1OutIdeal.τ).loc Cert.L1OutIdeal.main_arg2) = m ((c.tc : Thread Cert.L1OutIdeal.nD Cert.L1OutIdeal.τ).loc Cert.L1OutIdeal.main_arg2)
      ∧ r.2.mem ((c.tc : Thread Cert.L1OutIdeal.nD Cert.L1OutIdeal.τ).loc Cert.L1OutIdeal.main_arg3) = m ((c.tc : Thread Cert.L1OutIdeal.nD Cert.L1OutIdeal.τ).loc Cert.L1OutIdeal.main_arg3))
      ∧ r.2.sem = fun _ => 0)

def quiescent_L1OutRefIdeal [hL1OutRefIdeal : Cert.L1OutRefIdeal.Facts] : Prop :=
  ∀ (m : (ℓ : Loc Cert.L1OutRefIdeal.nD Cert.L1OutRefIdeal.τ Cert.L1OutRefIdeal.sig) → Buf (Elt Ideal) ℓ) (g : Dev Cert.L1OutRefIdeal.nD → PrngReg), Pre_L1OutRefIdeal m →
    θ_run (Cert.L1OutRefIdeal.defs (F := Ideal)) (onTc (τ := Cert.L1OutRefIdeal.τ) (Cert.L1OutRefIdeal.main (F := Ideal))) ⟨m, fun _ => 0, g⟩ (fun r => (∀ c : Dev Cert.L1OutRefIdeal.nD,
      r.2.mem ((c.tc : Thread Cert.L1OutRefIdeal.nD Cert.L1OutRefIdeal.τ).loc Cert.L1OutRefIdeal.main_arg0) = m ((c.tc : Thread Cert.L1OutRefIdeal.nD Cert.L1OutRefIdeal.τ).loc Cert.L1OutRefIdeal.main_arg0)
      ∧ r.2.mem ((c.tc : Thread Cert.L1OutRefIdeal.nD Cert.L1OutRefIdeal.τ).loc Cert.L1OutRefIdeal.main_arg1) = m ((c.tc : Thread Cert.L1OutRefIdeal.nD Cert.L1OutRefIdeal.τ).loc Cert.L1OutRefIdeal.main_arg1)
      ∧ r.2.mem ((c.tc : Thread Cert.L1OutRefIdeal.nD Cert.L1OutRefIdeal.τ).loc Cert.L1OutRefIdeal.main_arg2) = m ((c.tc : Thread Cert.L1OutRefIdeal.nD Cert.L1OutRefIdeal.τ).loc Cert.L1OutRefIdeal.main_arg2)
      ∧ r.2.mem ((c.tc : Thread Cert.L1OutRefIdeal.nD Cert.L1OutRefIdeal.τ).loc Cert.L1OutRefIdeal.main_arg3) = m ((c.tc : Thread Cert.L1OutRefIdeal.nD Cert.L1OutRefIdeal.τ).loc Cert.L1OutRefIdeal.main_arg3))
      ∧ r.2.sem = fun _ => 0)

def quiescent_L0OutDx [hL0OutDx : Cert.L0OutDx.Facts] : Prop :=
  ∀ (m : (ℓ : Loc Cert.L0OutDx.nD Cert.L0OutDx.τ Cert.L0OutDx.sig) → Buf (Elt Bits) ℓ) (g : Dev Cert.L0OutDx.nD → PrngReg), Pre_L0OutDx m →
    θ_run (Cert.L0OutDx.defs (F := Bits)) (onTc (τ := Cert.L0OutDx.τ) (Cert.L0OutDx.main (F := Bits))) ⟨m, fun _ => 0, g⟩ (fun r => (∀ c : Dev Cert.L0OutDx.nD,
      r.2.mem ((c.tc : Thread Cert.L0OutDx.nD Cert.L0OutDx.τ).loc Cert.L0OutDx.main_arg0) = m ((c.tc : Thread Cert.L0OutDx.nD Cert.L0OutDx.τ).loc Cert.L0OutDx.main_arg0)
      ∧ r.2.mem ((c.tc : Thread Cert.L0OutDx.nD Cert.L0OutDx.τ).loc Cert.L0OutDx.main_arg1) = m ((c.tc : Thread Cert.L0OutDx.nD Cert.L0OutDx.τ).loc Cert.L0OutDx.main_arg1)
      ∧ r.2.mem ((c.tc : Thread Cert.L0OutDx.nD Cert.L0OutDx.τ).loc Cert.L0OutDx.main_arg2) = m ((c.tc : Thread Cert.L0OutDx.nD Cert.L0OutDx.τ).loc Cert.L0OutDx.main_arg2)
      ∧ r.2.mem ((c.tc : Thread Cert.L0OutDx.nD Cert.L0OutDx.τ).loc Cert.L0OutDx.main_arg3) = m ((c.tc : Thread Cert.L0OutDx.nD Cert.L0OutDx.τ).loc Cert.L0OutDx.main_arg3))
      ∧ r.2.sem = fun _ => 0)

def quiescent_L0OutDxIdeal [hL0OutDxIdeal : Cert.L0OutDxIdeal.Facts] : Prop :=
  ∀ (m : (ℓ : Loc Cert.L0OutDxIdeal.nD Cert.L0OutDxIdeal.τ Cert.L0OutDxIdeal.sig) → Buf (Elt Ideal) ℓ) (g : Dev Cert.L0OutDxIdeal.nD → PrngReg), Pre_L0OutDxIdeal m →
    θ_run (Cert.L0OutDxIdeal.defs (F := Ideal)) (onTc (τ := Cert.L0OutDxIdeal.τ) (Cert.L0OutDxIdeal.main (F := Ideal))) ⟨m, fun _ => 0, g⟩ (fun r => (∀ c : Dev Cert.L0OutDxIdeal.nD,
      r.2.mem ((c.tc : Thread Cert.L0OutDxIdeal.nD Cert.L0OutDxIdeal.τ).loc Cert.L0OutDxIdeal.main_arg0) = m ((c.tc : Thread Cert.L0OutDxIdeal.nD Cert.L0OutDxIdeal.τ).loc Cert.L0OutDxIdeal.main_arg0)
      ∧ r.2.mem ((c.tc : Thread Cert.L0OutDxIdeal.nD Cert.L0OutDxIdeal.τ).loc Cert.L0OutDxIdeal.main_arg1) = m ((c.tc : Thread Cert.L0OutDxIdeal.nD Cert.L0OutDxIdeal.τ).loc Cert.L0OutDxIdeal.main_arg1)
      ∧ r.2.mem ((c.tc : Thread Cert.L0OutDxIdeal.nD Cert.L0OutDxIdeal.τ).loc Cert.L0OutDxIdeal.main_arg2) = m ((c.tc : Thread Cert.L0OutDxIdeal.nD Cert.L0OutDxIdeal.τ).loc Cert.L0OutDxIdeal.main_arg2)
      ∧ r.2.mem ((c.tc : Thread Cert.L0OutDxIdeal.nD Cert.L0OutDxIdeal.τ).loc Cert.L0OutDxIdeal.main_arg3) = m ((c.tc : Thread Cert.L0OutDxIdeal.nD Cert.L0OutDxIdeal.τ).loc Cert.L0OutDxIdeal.main_arg3))
      ∧ r.2.sem = fun _ => 0)

def quiescent_L0OutDxIdeal_pre_finite0 [hL0OutDxIdeal : Cert.L0OutDxIdeal.Facts] [hPre_finite0 : Cert.Pre_finite0.Facts] : Prop :=
  ∀ (m : (ℓ : Loc Cert.L0OutDxIdeal.nD Cert.L0OutDxIdeal.τ Cert.L0OutDxIdeal.sig) → Buf (Elt Ideal) ℓ) (g : Dev Cert.L0OutDxIdeal.nD → PrngReg), Pre_L0OutDxIdeal_finite0 m →
    θ_run (Cert.L0OutDxIdeal.defs (F := Ideal)) (onTc (τ := Cert.L0OutDxIdeal.τ) (Cert.L0OutDxIdeal.main (F := Ideal))) ⟨m, fun _ => 0, g⟩ (fun r => (∀ c : Dev Cert.L0OutDxIdeal.nD,
      r.2.mem ((c.tc : Thread Cert.L0OutDxIdeal.nD Cert.L0OutDxIdeal.τ).loc Cert.L0OutDxIdeal.main_arg0) = m ((c.tc : Thread Cert.L0OutDxIdeal.nD Cert.L0OutDxIdeal.τ).loc Cert.L0OutDxIdeal.main_arg0)
      ∧ r.2.mem ((c.tc : Thread Cert.L0OutDxIdeal.nD Cert.L0OutDxIdeal.τ).loc Cert.L0OutDxIdeal.main_arg1) = m ((c.tc : Thread Cert.L0OutDxIdeal.nD Cert.L0OutDxIdeal.τ).loc Cert.L0OutDxIdeal.main_arg1)
      ∧ r.2.mem ((c.tc : Thread Cert.L0OutDxIdeal.nD Cert.L0OutDxIdeal.τ).loc Cert.L0OutDxIdeal.main_arg2) = m ((c.tc : Thread Cert.L0OutDxIdeal.nD Cert.L0OutDxIdeal.τ).loc Cert.L0OutDxIdeal.main_arg2)
      ∧ r.2.mem ((c.tc : Thread Cert.L0OutDxIdeal.nD Cert.L0OutDxIdeal.τ).loc Cert.L0OutDxIdeal.main_arg3) = m ((c.tc : Thread Cert.L0OutDxIdeal.nD Cert.L0OutDxIdeal.τ).loc Cert.L0OutDxIdeal.main_arg3))
      ∧ r.2.sem = fun _ => 0)

def quiescent_L0OutDxRefIdeal [hL0OutDxRefIdeal : Cert.L0OutDxRefIdeal.Facts] : Prop :=
  ∀ (m : (ℓ : Loc Cert.L0OutDxRefIdeal.nD Cert.L0OutDxRefIdeal.τ Cert.L0OutDxRefIdeal.sig) → Buf (Elt Ideal) ℓ) (g : Dev Cert.L0OutDxRefIdeal.nD → PrngReg), Pre_L0OutDxRefIdeal m →
    θ_run (Cert.L0OutDxRefIdeal.defs (F := Ideal)) (onTc (τ := Cert.L0OutDxRefIdeal.τ) (Cert.L0OutDxRefIdeal.main (F := Ideal))) ⟨m, fun _ => 0, g⟩ (fun r => (∀ c : Dev Cert.L0OutDxRefIdeal.nD,
      r.2.mem ((c.tc : Thread Cert.L0OutDxRefIdeal.nD Cert.L0OutDxRefIdeal.τ).loc Cert.L0OutDxRefIdeal.main_arg0) = m ((c.tc : Thread Cert.L0OutDxRefIdeal.nD Cert.L0OutDxRefIdeal.τ).loc Cert.L0OutDxRefIdeal.main_arg0)
      ∧ r.2.mem ((c.tc : Thread Cert.L0OutDxRefIdeal.nD Cert.L0OutDxRefIdeal.τ).loc Cert.L0OutDxRefIdeal.main_arg1) = m ((c.tc : Thread Cert.L0OutDxRefIdeal.nD Cert.L0OutDxRefIdeal.τ).loc Cert.L0OutDxRefIdeal.main_arg1)
      ∧ r.2.mem ((c.tc : Thread Cert.L0OutDxRefIdeal.nD Cert.L0OutDxRefIdeal.τ).loc Cert.L0OutDxRefIdeal.main_arg2) = m ((c.tc : Thread Cert.L0OutDxRefIdeal.nD Cert.L0OutDxRefIdeal.τ).loc Cert.L0OutDxRefIdeal.main_arg2)
      ∧ r.2.mem ((c.tc : Thread Cert.L0OutDxRefIdeal.nD Cert.L0OutDxRefIdeal.τ).loc Cert.L0OutDxRefIdeal.main_arg3) = m ((c.tc : Thread Cert.L0OutDxRefIdeal.nD Cert.L0OutDxRefIdeal.τ).loc Cert.L0OutDxRefIdeal.main_arg3))
      ∧ r.2.sem = fun _ => 0)

def quiescent_L0OutDxRefIdeal_pre_finite0 [hL0OutDxRefIdeal : Cert.L0OutDxRefIdeal.Facts] [hPre_finite0 : Cert.Pre_finite0.Facts] : Prop :=
  ∀ (m : (ℓ : Loc Cert.L0OutDxRefIdeal.nD Cert.L0OutDxRefIdeal.τ Cert.L0OutDxRefIdeal.sig) → Buf (Elt Ideal) ℓ) (g : Dev Cert.L0OutDxRefIdeal.nD → PrngReg), Pre_L0OutDxRefIdeal_finite0 m →
    θ_run (Cert.L0OutDxRefIdeal.defs (F := Ideal)) (onTc (τ := Cert.L0OutDxRefIdeal.τ) (Cert.L0OutDxRefIdeal.main (F := Ideal))) ⟨m, fun _ => 0, g⟩ (fun r => (∀ c : Dev Cert.L0OutDxRefIdeal.nD,
      r.2.mem ((c.tc : Thread Cert.L0OutDxRefIdeal.nD Cert.L0OutDxRefIdeal.τ).loc Cert.L0OutDxRefIdeal.main_arg0) = m ((c.tc : Thread Cert.L0OutDxRefIdeal.nD Cert.L0OutDxRefIdeal.τ).loc Cert.L0OutDxRefIdeal.main_arg0)
      ∧ r.2.mem ((c.tc : Thread Cert.L0OutDxRefIdeal.nD Cert.L0OutDxRefIdeal.τ).loc Cert.L0OutDxRefIdeal.main_arg1) = m ((c.tc : Thread Cert.L0OutDxRefIdeal.nD Cert.L0OutDxRefIdeal.τ).loc Cert.L0OutDxRefIdeal.main_arg1)
      ∧ r.2.mem ((c.tc : Thread Cert.L0OutDxRefIdeal.nD Cert.L0OutDxRefIdeal.τ).loc Cert.L0OutDxRefIdeal.main_arg2) = m ((c.tc : Thread Cert.L0OutDxRefIdeal.nD Cert.L0OutDxRefIdeal.τ).loc Cert.L0OutDxRefIdeal.main_arg2)
      ∧ r.2.mem ((c.tc : Thread Cert.L0OutDxRefIdeal.nD Cert.L0OutDxRefIdeal.τ).loc Cert.L0OutDxRefIdeal.main_arg3) = m ((c.tc : Thread Cert.L0OutDxRefIdeal.nD Cert.L0OutDxRefIdeal.τ).loc Cert.L0OutDxRefIdeal.main_arg3))
      ∧ r.2.sem = fun _ => 0)

def quiescent_L1OutDx [hL1OutDx : Cert.L1OutDx.Facts] : Prop :=
  ∀ (m : (ℓ : Loc Cert.L1OutDx.nD Cert.L1OutDx.τ Cert.L1OutDx.sig) → Buf (Elt Bits) ℓ) (g : Dev Cert.L1OutDx.nD → PrngReg), Pre_L1OutDx m →
    θ_run (Cert.L1OutDx.defs (F := Bits)) (onTc (τ := Cert.L1OutDx.τ) (Cert.L1OutDx.main (F := Bits))) ⟨m, fun _ => 0, g⟩ (fun r => (∀ c : Dev Cert.L1OutDx.nD,
      r.2.mem ((c.tc : Thread Cert.L1OutDx.nD Cert.L1OutDx.τ).loc Cert.L1OutDx.main_arg0) = m ((c.tc : Thread Cert.L1OutDx.nD Cert.L1OutDx.τ).loc Cert.L1OutDx.main_arg0)
      ∧ r.2.mem ((c.tc : Thread Cert.L1OutDx.nD Cert.L1OutDx.τ).loc Cert.L1OutDx.main_arg1) = m ((c.tc : Thread Cert.L1OutDx.nD Cert.L1OutDx.τ).loc Cert.L1OutDx.main_arg1)
      ∧ r.2.mem ((c.tc : Thread Cert.L1OutDx.nD Cert.L1OutDx.τ).loc Cert.L1OutDx.main_arg2) = m ((c.tc : Thread Cert.L1OutDx.nD Cert.L1OutDx.τ).loc Cert.L1OutDx.main_arg2)
      ∧ r.2.mem ((c.tc : Thread Cert.L1OutDx.nD Cert.L1OutDx.τ).loc Cert.L1OutDx.main_arg3) = m ((c.tc : Thread Cert.L1OutDx.nD Cert.L1OutDx.τ).loc Cert.L1OutDx.main_arg3))
      ∧ r.2.sem = fun _ => 0)

def quiescent_L1OutDxIdeal [hL1OutDxIdeal : Cert.L1OutDxIdeal.Facts] : Prop :=
  ∀ (m : (ℓ : Loc Cert.L1OutDxIdeal.nD Cert.L1OutDxIdeal.τ Cert.L1OutDxIdeal.sig) → Buf (Elt Ideal) ℓ) (g : Dev Cert.L1OutDxIdeal.nD → PrngReg), Pre_L1OutDxIdeal m →
    θ_run (Cert.L1OutDxIdeal.defs (F := Ideal)) (onTc (τ := Cert.L1OutDxIdeal.τ) (Cert.L1OutDxIdeal.main (F := Ideal))) ⟨m, fun _ => 0, g⟩ (fun r => (∀ c : Dev Cert.L1OutDxIdeal.nD,
      r.2.mem ((c.tc : Thread Cert.L1OutDxIdeal.nD Cert.L1OutDxIdeal.τ).loc Cert.L1OutDxIdeal.main_arg0) = m ((c.tc : Thread Cert.L1OutDxIdeal.nD Cert.L1OutDxIdeal.τ).loc Cert.L1OutDxIdeal.main_arg0)
      ∧ r.2.mem ((c.tc : Thread Cert.L1OutDxIdeal.nD Cert.L1OutDxIdeal.τ).loc Cert.L1OutDxIdeal.main_arg1) = m ((c.tc : Thread Cert.L1OutDxIdeal.nD Cert.L1OutDxIdeal.τ).loc Cert.L1OutDxIdeal.main_arg1)
      ∧ r.2.mem ((c.tc : Thread Cert.L1OutDxIdeal.nD Cert.L1OutDxIdeal.τ).loc Cert.L1OutDxIdeal.main_arg2) = m ((c.tc : Thread Cert.L1OutDxIdeal.nD Cert.L1OutDxIdeal.τ).loc Cert.L1OutDxIdeal.main_arg2)
      ∧ r.2.mem ((c.tc : Thread Cert.L1OutDxIdeal.nD Cert.L1OutDxIdeal.τ).loc Cert.L1OutDxIdeal.main_arg3) = m ((c.tc : Thread Cert.L1OutDxIdeal.nD Cert.L1OutDxIdeal.τ).loc Cert.L1OutDxIdeal.main_arg3))
      ∧ r.2.sem = fun _ => 0)

def quiescent_L1OutDxIdeal_pre_finite1 [hL1OutDxIdeal : Cert.L1OutDxIdeal.Facts] [hPre_finite1 : Cert.Pre_finite1.Facts] : Prop :=
  ∀ (m : (ℓ : Loc Cert.L1OutDxIdeal.nD Cert.L1OutDxIdeal.τ Cert.L1OutDxIdeal.sig) → Buf (Elt Ideal) ℓ) (g : Dev Cert.L1OutDxIdeal.nD → PrngReg), Pre_L1OutDxIdeal_finite1 m →
    θ_run (Cert.L1OutDxIdeal.defs (F := Ideal)) (onTc (τ := Cert.L1OutDxIdeal.τ) (Cert.L1OutDxIdeal.main (F := Ideal))) ⟨m, fun _ => 0, g⟩ (fun r => (∀ c : Dev Cert.L1OutDxIdeal.nD,
      r.2.mem ((c.tc : Thread Cert.L1OutDxIdeal.nD Cert.L1OutDxIdeal.τ).loc Cert.L1OutDxIdeal.main_arg0) = m ((c.tc : Thread Cert.L1OutDxIdeal.nD Cert.L1OutDxIdeal.τ).loc Cert.L1OutDxIdeal.main_arg0)
      ∧ r.2.mem ((c.tc : Thread Cert.L1OutDxIdeal.nD Cert.L1OutDxIdeal.τ).loc Cert.L1OutDxIdeal.main_arg1) = m ((c.tc : Thread Cert.L1OutDxIdeal.nD Cert.L1OutDxIdeal.τ).loc Cert.L1OutDxIdeal.main_arg1)
      ∧ r.2.mem ((c.tc : Thread Cert.L1OutDxIdeal.nD Cert.L1OutDxIdeal.τ).loc Cert.L1OutDxIdeal.main_arg2) = m ((c.tc : Thread Cert.L1OutDxIdeal.nD Cert.L1OutDxIdeal.τ).loc Cert.L1OutDxIdeal.main_arg2)
      ∧ r.2.mem ((c.tc : Thread Cert.L1OutDxIdeal.nD Cert.L1OutDxIdeal.τ).loc Cert.L1OutDxIdeal.main_arg3) = m ((c.tc : Thread Cert.L1OutDxIdeal.nD Cert.L1OutDxIdeal.τ).loc Cert.L1OutDxIdeal.main_arg3))
      ∧ r.2.sem = fun _ => 0)

def quiescent_L1OutDxRefIdeal [hL1OutDxRefIdeal : Cert.L1OutDxRefIdeal.Facts] : Prop :=
  ∀ (m : (ℓ : Loc Cert.L1OutDxRefIdeal.nD Cert.L1OutDxRefIdeal.τ Cert.L1OutDxRefIdeal.sig) → Buf (Elt Ideal) ℓ) (g : Dev Cert.L1OutDxRefIdeal.nD → PrngReg), Pre_L1OutDxRefIdeal m →
    θ_run (Cert.L1OutDxRefIdeal.defs (F := Ideal)) (onTc (τ := Cert.L1OutDxRefIdeal.τ) (Cert.L1OutDxRefIdeal.main (F := Ideal))) ⟨m, fun _ => 0, g⟩ (fun r => (∀ c : Dev Cert.L1OutDxRefIdeal.nD,
      r.2.mem ((c.tc : Thread Cert.L1OutDxRefIdeal.nD Cert.L1OutDxRefIdeal.τ).loc Cert.L1OutDxRefIdeal.main_arg0) = m ((c.tc : Thread Cert.L1OutDxRefIdeal.nD Cert.L1OutDxRefIdeal.τ).loc Cert.L1OutDxRefIdeal.main_arg0)
      ∧ r.2.mem ((c.tc : Thread Cert.L1OutDxRefIdeal.nD Cert.L1OutDxRefIdeal.τ).loc Cert.L1OutDxRefIdeal.main_arg1) = m ((c.tc : Thread Cert.L1OutDxRefIdeal.nD Cert.L1OutDxRefIdeal.τ).loc Cert.L1OutDxRefIdeal.main_arg1)
      ∧ r.2.mem ((c.tc : Thread Cert.L1OutDxRefIdeal.nD Cert.L1OutDxRefIdeal.τ).loc Cert.L1OutDxRefIdeal.main_arg2) = m ((c.tc : Thread Cert.L1OutDxRefIdeal.nD Cert.L1OutDxRefIdeal.τ).loc Cert.L1OutDxRefIdeal.main_arg2)
      ∧ r.2.mem ((c.tc : Thread Cert.L1OutDxRefIdeal.nD Cert.L1OutDxRefIdeal.τ).loc Cert.L1OutDxRefIdeal.main_arg3) = m ((c.tc : Thread Cert.L1OutDxRefIdeal.nD Cert.L1OutDxRefIdeal.τ).loc Cert.L1OutDxRefIdeal.main_arg3))
      ∧ r.2.sem = fun _ => 0)

def quiescent_L1OutDxRefIdeal_pre_finite1 [hL1OutDxRefIdeal : Cert.L1OutDxRefIdeal.Facts] [hPre_finite1 : Cert.Pre_finite1.Facts] : Prop :=
  ∀ (m : (ℓ : Loc Cert.L1OutDxRefIdeal.nD Cert.L1OutDxRefIdeal.τ Cert.L1OutDxRefIdeal.sig) → Buf (Elt Ideal) ℓ) (g : Dev Cert.L1OutDxRefIdeal.nD → PrngReg), Pre_L1OutDxRefIdeal_finite1 m →
    θ_run (Cert.L1OutDxRefIdeal.defs (F := Ideal)) (onTc (τ := Cert.L1OutDxRefIdeal.τ) (Cert.L1OutDxRefIdeal.main (F := Ideal))) ⟨m, fun _ => 0, g⟩ (fun r => (∀ c : Dev Cert.L1OutDxRefIdeal.nD,
      r.2.mem ((c.tc : Thread Cert.L1OutDxRefIdeal.nD Cert.L1OutDxRefIdeal.τ).loc Cert.L1OutDxRefIdeal.main_arg0) = m ((c.tc : Thread Cert.L1OutDxRefIdeal.nD Cert.L1OutDxRefIdeal.τ).loc Cert.L1OutDxRefIdeal.main_arg0)
      ∧ r.2.mem ((c.tc : Thread Cert.L1OutDxRefIdeal.nD Cert.L1OutDxRefIdeal.τ).loc Cert.L1OutDxRefIdeal.main_arg1) = m ((c.tc : Thread Cert.L1OutDxRefIdeal.nD Cert.L1OutDxRefIdeal.τ).loc Cert.L1OutDxRefIdeal.main_arg1)
      ∧ r.2.mem ((c.tc : Thread Cert.L1OutDxRefIdeal.nD Cert.L1OutDxRefIdeal.τ).loc Cert.L1OutDxRefIdeal.main_arg2) = m ((c.tc : Thread Cert.L1OutDxRefIdeal.nD Cert.L1OutDxRefIdeal.τ).loc Cert.L1OutDxRefIdeal.main_arg2)
      ∧ r.2.mem ((c.tc : Thread Cert.L1OutDxRefIdeal.nD Cert.L1OutDxRefIdeal.τ).loc Cert.L1OutDxRefIdeal.main_arg3) = m ((c.tc : Thread Cert.L1OutDxRefIdeal.nD Cert.L1OutDxRefIdeal.τ).loc Cert.L1OutDxRefIdeal.main_arg3))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def quiescent_AdaDc [hAdaDc : Cert.AdaDc.Facts] : Prop :=
  ∀ (m : (ℓ : Loc Cert.AdaDc.nD Cert.AdaDc.τ Cert.AdaDc.sig) → Buf (Elt Bits) ℓ) (g : Dev Cert.AdaDc.nD → PrngReg), Pre_AdaDc m →
    θ_run (Cert.AdaDc.defs (F := Bits)) (onTc (τ := Cert.AdaDc.τ) (Cert.AdaDc.main (F := Bits))) ⟨m, fun _ => 0, g⟩ (fun r => (∀ c : Dev Cert.AdaDc.nD,
      r.2.mem ((c.tc : Thread Cert.AdaDc.nD Cert.AdaDc.τ).loc Cert.AdaDc.main_arg0) = m ((c.tc : Thread Cert.AdaDc.nD Cert.AdaDc.τ).loc Cert.AdaDc.main_arg0)
      ∧ r.2.mem ((c.tc : Thread Cert.AdaDc.nD Cert.AdaDc.τ).loc Cert.AdaDc.main_arg1) = m ((c.tc : Thread Cert.AdaDc.nD Cert.AdaDc.τ).loc Cert.AdaDc.main_arg1))
      ∧ r.2.sem = fun _ => 0)

def quiescent_AdaDcIdeal [hAdaDcIdeal : Cert.AdaDcIdeal.Facts] : Prop :=
  ∀ (m : (ℓ : Loc Cert.AdaDcIdeal.nD Cert.AdaDcIdeal.τ Cert.AdaDcIdeal.sig) → Buf (Elt Ideal) ℓ) (g : Dev Cert.AdaDcIdeal.nD → PrngReg), Pre_AdaDcIdeal m →
    θ_run (Cert.AdaDcIdeal.defs (F := Ideal)) (onTc (τ := Cert.AdaDcIdeal.τ) (Cert.AdaDcIdeal.main (F := Ideal))) ⟨m, fun _ => 0, g⟩ (fun r => (∀ c : Dev Cert.AdaDcIdeal.nD,
      r.2.mem ((c.tc : Thread Cert.AdaDcIdeal.nD Cert.AdaDcIdeal.τ).loc Cert.AdaDcIdeal.main_arg0) = m ((c.tc : Thread Cert.AdaDcIdeal.nD Cert.AdaDcIdeal.τ).loc Cert.AdaDcIdeal.main_arg0)
      ∧ r.2.mem ((c.tc : Thread Cert.AdaDcIdeal.nD Cert.AdaDcIdeal.τ).loc Cert.AdaDcIdeal.main_arg1) = m ((c.tc : Thread Cert.AdaDcIdeal.nD Cert.AdaDcIdeal.τ).loc Cert.AdaDcIdeal.main_arg1))
      ∧ r.2.sem = fun _ => 0)

def quiescent_AdaDcRefIdeal [hAdaDcRefIdeal : Cert.AdaDcRefIdeal.Facts] : Prop :=
  ∀ (m : (ℓ : Loc Cert.AdaDcRefIdeal.nD Cert.AdaDcRefIdeal.τ Cert.AdaDcRefIdeal.sig) → Buf (Elt Ideal) ℓ) (g : Dev Cert.AdaDcRefIdeal.nD → PrngReg), Pre_AdaDcRefIdeal m →
    θ_run (Cert.AdaDcRefIdeal.defs (F := Ideal)) (onTc (τ := Cert.AdaDcRefIdeal.τ) (Cert.AdaDcRefIdeal.main (F := Ideal))) ⟨m, fun _ => 0, g⟩ (fun r => (∀ c : Dev Cert.AdaDcRefIdeal.nD,
      r.2.mem ((c.tc : Thread Cert.AdaDcRefIdeal.nD Cert.AdaDcRefIdeal.τ).loc Cert.AdaDcRefIdeal.main_arg0) = m ((c.tc : Thread Cert.AdaDcRefIdeal.nD Cert.AdaDcRefIdeal.τ).loc Cert.AdaDcRefIdeal.main_arg0)
      ∧ r.2.mem ((c.tc : Thread Cert.AdaDcRefIdeal.nD Cert.AdaDcRefIdeal.τ).loc Cert.AdaDcRefIdeal.main_arg1) = m ((c.tc : Thread Cert.AdaDcRefIdeal.nD Cert.AdaDcRefIdeal.τ).loc Cert.AdaDcRefIdeal.main_arg1))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3)
      ∧ r.2.mem ((c.tc : Thread Cert.AdamFfnIn.nD Cert.AdamFfnIn.τ).loc Cert.AdamFfnIn.main_arg4) = m ((c.tc : Thread Cert.AdamFfnIn.nD Cert.AdamFfnIn.τ).loc Cert.AdamFfnIn.main_arg4)
      ∧ r.2.mem ((c.tc : Thread Cert.AdamFfnIn.nD Cert.AdamFfnIn.τ).loc Cert.AdamFfnIn.main_arg5) = m ((c.tc : Thread Cert.AdamFfnIn.nD Cert.AdamFfnIn.τ).loc Cert.AdamFfnIn.main_arg5))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
      ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4)
      ∧ r.2.mem ((c.tc : Thread Cert.AdamFfnInIdeal.nD Cert.AdamFfnInIdeal.τ).loc Cert.AdamFfnInIdeal.main_arg5) = m ((c.tc : Thread Cert.AdamFfnInIdeal.nD Cert.AdamFfnInIdeal.τ).loc Cert.AdamFfnInIdeal.main_arg5))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3)
      ∧ r.2.mem ((c.tc : Thread Cert.AdamFfnInRefIdeal.nD Cert.AdamFfnInRefIdeal.τ).loc Cert.AdamFfnInRefIdeal.main_arg4) = m ((c.tc : Thread Cert.AdamFfnInRefIdeal.nD Cert.AdamFfnInRefIdeal.τ).loc Cert.AdamFfnInRefIdeal.main_arg4)
      ∧ r.2.mem ((c.tc : Thread Cert.AdamFfnInRefIdeal.nD Cert.AdamFfnInRefIdeal.τ).loc Cert.AdamFfnInRefIdeal.main_arg5) = m ((c.tc : Thread Cert.AdamFfnInRefIdeal.nD Cert.AdamFfnInRefIdeal.τ).loc Cert.AdamFfnInRefIdeal.main_arg5))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3)
      ∧ r.2.mem ((c.tc : Thread Cert.AdamFfnOut.nD Cert.AdamFfnOut.τ).loc Cert.AdamFfnOut.main_arg4) = m ((c.tc : Thread Cert.AdamFfnOut.nD Cert.AdamFfnOut.τ).loc Cert.AdamFfnOut.main_arg4)
      ∧ r.2.mem ((c.tc : Thread Cert.AdamFfnOut.nD Cert.AdamFfnOut.τ).loc Cert.AdamFfnOut.main_arg5) = m ((c.tc : Thread Cert.AdamFfnOut.nD Cert.AdamFfnOut.τ).loc Cert.AdamFfnOut.main_arg5))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
      ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4)
      ∧ r.2.mem ((c.tc : Thread Cert.AdamFfnOutIdeal.nD Cert.AdamFfnOutIdeal.τ).loc Cert.AdamFfnOutIdeal.main_arg5) = m ((c.tc : Thread Cert.AdamFfnOutIdeal.nD Cert.AdamFfnOutIdeal.τ).loc Cert.AdamFfnOutIdeal.main_arg5))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3)
      ∧ r.2.mem ((c.tc : Thread Cert.AdamFfnOutRefIdeal.nD Cert.AdamFfnOutRefIdeal.τ).loc Cert.AdamFfnOutRefIdeal.main_arg4) = m ((c.tc : Thread Cert.AdamFfnOutRefIdeal.nD Cert.AdamFfnOutRefIdeal.τ).loc Cert.AdamFfnOutRefIdeal.main_arg4)
      ∧ r.2.mem ((c.tc : Thread Cert.AdamFfnOutRefIdeal.nD Cert.AdamFfnOutRefIdeal.τ).loc Cert.AdamFfnOutRefIdeal.main_arg5) = m ((c.tc : Thread Cert.AdamFfnOutRefIdeal.nD Cert.AdamFfnOutRefIdeal.τ).loc Cert.AdamFfnOutRefIdeal.main_arg5))
      ∧ r.2.sem = fun _ => 0)

def quiescent_AdamQkv [hAdamQkv : Cert.AdamQkv.Facts] : Prop :=
  ∀ (m : (ℓ : Loc Cert.AdamQkv.nD Cert.AdamQkv.τ Cert.AdamQkv.sig) → Buf (Elt Bits) ℓ) (g : Dev Cert.AdamQkv.nD → PrngReg), Pre_AdamQkv m →
    θ_run (Cert.AdamQkv.defs (F := Bits)) (onTc (τ := Cert.AdamQkv.τ) (Cert.AdamQkv.main (F := Bits))) ⟨m, fun _ => 0, g⟩ (fun r => (∀ c : Dev Cert.AdamQkv.nD,
      r.2.mem ((c.tc : Thread Cert.AdamQkv.nD Cert.AdamQkv.τ).loc Cert.AdamQkv.main_arg0) = m ((c.tc : Thread Cert.AdamQkv.nD Cert.AdamQkv.τ).loc Cert.AdamQkv.main_arg0)
      ∧ r.2.mem ((c.tc : Thread Cert.AdamQkv.nD Cert.AdamQkv.τ).loc Cert.AdamQkv.main_arg1) = m ((c.tc : Thread Cert.AdamQkv.nD Cert.AdamQkv.τ).loc Cert.AdamQkv.main_arg1)
      ∧ r.2.mem ((c.tc : Thread Cert.AdamQkv.nD Cert.AdamQkv.τ).loc Cert.AdamQkv.main_arg2) = m ((c.tc : Thread Cert.AdamQkv.nD Cert.AdamQkv.τ).loc Cert.AdamQkv.main_arg2)
      ∧ r.2.mem ((c.tc : Thread Cert.AdamQkv.nD Cert.AdamQkv.τ).loc Cert.AdamQkv.main_arg3) = m ((c.tc : Thread Cert.AdamQkv.nD Cert.AdamQkv.τ).loc Cert.AdamQkv.main_arg3)
      ∧ r.2.mem ((c.tc : Thread Cert.AdamQkv.nD Cert.AdamQkv.τ).loc Cert.AdamQkv.main_arg4) = m ((c.tc : Thread Cert.AdamQkv.nD Cert.AdamQkv.τ).loc Cert.AdamQkv.main_arg4)
      ∧ r.2.mem ((c.tc : Thread Cert.AdamQkv.nD Cert.AdamQkv.τ).loc Cert.AdamQkv.main_arg5) = m ((c.tc : Thread Cert.AdamQkv.nD Cert.AdamQkv.τ).loc Cert.AdamQkv.main_arg5))
      ∧ r.2.sem = fun _ => 0)

def quiescent_AdamQkvIdeal [hAdamQkvIdeal : Cert.AdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg), Pre_AdamQkvIdeal m →
    θ_run (Cert.AdamQkvIdeal.defs (F := Ideal)) (onTc (τ := Cert.AdamQkvIdeal.τ) (Cert.AdamQkvIdeal.main (F := Ideal))) ⟨m, fun _ => 0, g⟩ (fun r => (∀ c : Dev Cert.AdamQkvIdeal.nD,
      r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
      ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
      ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
      ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3)
      ∧ r.2.mem ((c.tc : Thread Cert.AdamQkvIdeal.nD Cert.AdamQkvIdeal.τ).loc Cert.AdamQkvIdeal.main_arg4) = m ((c.tc : Thread Cert.AdamQkvIdeal.nD Cert.AdamQkvIdeal.τ).loc Cert.AdamQkvIdeal.main_arg4)
      ∧ r.2.mem ((c.tc : Thread Cert.AdamQkvIdeal.nD Cert.AdamQkvIdeal.τ).loc Cert.AdamQkvIdeal.main_arg5) = m ((c.tc : Thread Cert.AdamQkvIdeal.nD Cert.AdamQkvIdeal.τ).loc Cert.AdamQkvIdeal.main_arg5))
      ∧ r.2.sem = fun _ => 0)

def quiescent_AdamQkvRefIdeal [hAdamQkvRefIdeal : Cert.AdamQkvRefIdeal.Facts] : Prop :=
  ∀ (m : (ℓ : Loc Cert.AdamQkvRefIdeal.nD Cert.AdamQkvRefIdeal.τ Cert.AdamQkvRefIdeal.sig) → Buf (Elt Ideal) ℓ) (g : Dev Cert.AdamQkvRefIdeal.nD → PrngReg), Pre_AdamQkvRefIdeal m →
    θ_run (Cert.AdamQkvRefIdeal.defs (F := Ideal)) (onTc (τ := Cert.AdamQkvRefIdeal.τ) (Cert.AdamQkvRefIdeal.main (F := Ideal))) ⟨m, fun _ => 0, g⟩ (fun r => (∀ c : Dev Cert.AdamQkvRefIdeal.nD,
      r.2.mem ((c.tc : Thread Cert.AdamQkvRefIdeal.nD Cert.AdamQkvRefIdeal.τ).loc Cert.AdamQkvRefIdeal.main_arg0) = m ((c.tc : Thread Cert.AdamQkvRefIdeal.nD Cert.AdamQkvRefIdeal.τ).loc Cert.AdamQkvRefIdeal.main_arg0)
      ∧ r.2.mem ((c.tc : Thread Cert.AdamQkvRefIdeal.nD Cert.AdamQkvRefIdeal.τ).loc Cert.AdamQkvRefIdeal.main_arg1) = m ((c.tc : Thread Cert.AdamQkvRefIdeal.nD Cert.AdamQkvRefIdeal.τ).loc Cert.AdamQkvRefIdeal.main_arg1)
      ∧ r.2.mem ((c.tc : Thread Cert.AdamQkvRefIdeal.nD Cert.AdamQkvRefIdeal.τ).loc Cert.AdamQkvRefIdeal.main_arg2) = m ((c.tc : Thread Cert.AdamQkvRefIdeal.nD Cert.AdamQkvRefIdeal.τ).loc Cert.AdamQkvRefIdeal.main_arg2)
      ∧ r.2.mem ((c.tc : Thread Cert.AdamQkvRefIdeal.nD Cert.AdamQkvRefIdeal.τ).loc Cert.AdamQkvRefIdeal.main_arg3) = m ((c.tc : Thread Cert.AdamQkvRefIdeal.nD Cert.AdamQkvRefIdeal.τ).loc Cert.AdamQkvRefIdeal.main_arg3)
      ∧ r.2.mem ((c.tc : Thread Cert.AdamQkvRefIdeal.nD Cert.AdamQkvRefIdeal.τ).loc Cert.AdamQkvRefIdeal.main_arg4) = m ((c.tc : Thread Cert.AdamQkvRefIdeal.nD Cert.AdamQkvRefIdeal.τ).loc Cert.AdamQkvRefIdeal.main_arg4)
      ∧ r.2.mem ((c.tc : Thread Cert.AdamQkvRefIdeal.nD Cert.AdamQkvRefIdeal.τ).loc Cert.AdamQkvRefIdeal.main_arg5) = m ((c.tc : Thread Cert.AdamQkvRefIdeal.nD Cert.AdamQkvRefIdeal.τ).loc Cert.AdamQkvRefIdeal.main_arg5))
      ∧ r.2.sem = fun _ => 0)

def quiescent_AdamAttnO [hAdamAttnO : Cert.AdamAttnO.Facts] : Prop :=
  ∀ (m : (ℓ : Loc Cert.AdamAttnO.nD Cert.AdamAttnO.τ Cert.AdamAttnO.sig) → Buf (Elt Bits) ℓ) (g : Dev Cert.AdamAttnO.nD → PrngReg), Pre_AdamAttnO m →
    θ_run (Cert.AdamAttnO.defs (F := Bits)) (onTc (τ := Cert.AdamAttnO.τ) (Cert.AdamAttnO.main (F := Bits))) ⟨m, fun _ => 0, g⟩ (fun r => (∀ c : Dev Cert.AdamAttnO.nD,
      r.2.mem ((c.tc : Thread Cert.AdamAttnO.nD Cert.AdamAttnO.τ).loc Cert.AdamAttnO.main_arg0) = m ((c.tc : Thread Cert.AdamAttnO.nD Cert.AdamAttnO.τ).loc Cert.AdamAttnO.main_arg0)
      ∧ r.2.mem ((c.tc : Thread Cert.AdamAttnO.nD Cert.AdamAttnO.τ).loc Cert.AdamAttnO.main_arg1) = m ((c.tc : Thread Cert.AdamAttnO.nD Cert.AdamAttnO.τ).loc Cert.AdamAttnO.main_arg1)
      ∧ r.2.mem ((c.tc : Thread Cert.AdamAttnO.nD Cert.AdamAttnO.τ).loc Cert.AdamAttnO.main_arg2) = m ((c.tc : Thread Cert.AdamAttnO.nD Cert.AdamAttnO.τ).loc Cert.AdamAttnO.main_arg2)
      ∧ r.2.mem ((c.tc : Thread Cert.AdamAttnO.nD Cert.AdamAttnO.τ).loc Cert.AdamAttnO.main_arg3) = m ((c.tc : Thread Cert.AdamAttnO.nD Cert.AdamAttnO.τ).loc Cert.AdamAttnO.main_arg3)
      ∧ r.2.mem ((c.tc : Thread Cert.AdamAttnO.nD Cert.AdamAttnO.τ).loc Cert.AdamAttnO.main_arg4) = m ((c.tc : Thread Cert.AdamAttnO.nD Cert.AdamAttnO.τ).loc Cert.AdamAttnO.main_arg4)
      ∧ r.2.mem ((c.tc : Thread Cert.AdamAttnO.nD Cert.AdamAttnO.τ).loc Cert.AdamAttnO.main_arg5) = m ((c.tc : Thread Cert.AdamAttnO.nD Cert.AdamAttnO.τ).loc Cert.AdamAttnO.main_arg5))
      ∧ r.2.sem = fun _ => 0)

def quiescent_AdamAttnOIdeal [hAdamAttnOIdeal : Cert.AdamAttnOIdeal.Facts] : Prop :=
  ∀ (m : (ℓ : Loc Cert.AdamAttnOIdeal.nD Cert.AdamAttnOIdeal.τ Cert.AdamAttnOIdeal.sig) → Buf (Elt Ideal) ℓ) (g : Dev Cert.AdamAttnOIdeal.nD → PrngReg), Pre_AdamAttnOIdeal m →
    θ_run (Cert.AdamAttnOIdeal.defs (F := Ideal)) (onTc (τ := Cert.AdamAttnOIdeal.τ) (Cert.AdamAttnOIdeal.main (F := Ideal))) ⟨m, fun _ => 0, g⟩ (fun r => (∀ c : Dev Cert.AdamAttnOIdeal.nD,
      r.2.mem ((c.tc : Thread Cert.AdamAttnOIdeal.nD Cert.AdamAttnOIdeal.τ).loc Cert.AdamAttnOIdeal.main_arg0) = m ((c.tc : Thread Cert.AdamAttnOIdeal.nD Cert.AdamAttnOIdeal.τ).loc Cert.AdamAttnOIdeal.main_arg0)
      ∧ r.2.mem ((c.tc : Thread Cert.AdamAttnOIdeal.nD Cert.AdamAttnOIdeal.τ).loc Cert.AdamAttnOIdeal.main_arg1) = m ((c.tc : Thread Cert.AdamAttnOIdeal.nD Cert.AdamAttnOIdeal.τ).loc Cert.AdamAttnOIdeal.main_arg1)
      ∧ r.2.mem ((c.tc : Thread Cert.AdamAttnOIdeal.nD Cert.AdamAttnOIdeal.τ).loc Cert.AdamAttnOIdeal.main_arg2) = m ((c.tc : Thread Cert.AdamAttnOIdeal.nD Cert.AdamAttnOIdeal.τ).loc Cert.AdamAttnOIdeal.main_arg2)
      ∧ r.2.mem ((c.tc : Thread Cert.AdamAttnOIdeal.nD Cert.AdamAttnOIdeal.τ).loc Cert.AdamAttnOIdeal.main_arg3) = m ((c.tc : Thread Cert.AdamAttnOIdeal.nD Cert.AdamAttnOIdeal.τ).loc Cert.AdamAttnOIdeal.main_arg3)
      ∧ r.2.mem ((c.tc : Thread Cert.AdamAttnOIdeal.nD Cert.AdamAttnOIdeal.τ).loc Cert.AdamAttnOIdeal.main_arg4) = m ((c.tc : Thread Cert.AdamAttnOIdeal.nD Cert.AdamAttnOIdeal.τ).loc Cert.AdamAttnOIdeal.main_arg4)
      ∧ r.2.mem ((c.tc : Thread Cert.AdamAttnOIdeal.nD Cert.AdamAttnOIdeal.τ).loc Cert.AdamAttnOIdeal.main_arg5) = m ((c.tc : Thread Cert.AdamAttnOIdeal.nD Cert.AdamAttnOIdeal.τ).loc Cert.AdamAttnOIdeal.main_arg5))
      ∧ r.2.sem = fun _ => 0)

def quiescent_AdamAttnORefIdeal [hAdamAttnORefIdeal : Cert.AdamAttnORefIdeal.Facts] : Prop :=
  ∀ (m : (ℓ : Loc Cert.AdamAttnORefIdeal.nD Cert.AdamAttnORefIdeal.τ Cert.AdamAttnORefIdeal.sig) → Buf (Elt Ideal) ℓ) (g : Dev Cert.AdamAttnORefIdeal.nD → PrngReg), Pre_AdamAttnORefIdeal m →
    θ_run (Cert.AdamAttnORefIdeal.defs (F := Ideal)) (onTc (τ := Cert.AdamAttnORefIdeal.τ) (Cert.AdamAttnORefIdeal.main (F := Ideal))) ⟨m, fun _ => 0, g⟩ (fun r => (∀ c : Dev Cert.AdamAttnORefIdeal.nD,
      r.2.mem ((c.tc : Thread Cert.AdamAttnORefIdeal.nD Cert.AdamAttnORefIdeal.τ).loc Cert.AdamAttnORefIdeal.main_arg0) = m ((c.tc : Thread Cert.AdamAttnORefIdeal.nD Cert.AdamAttnORefIdeal.τ).loc Cert.AdamAttnORefIdeal.main_arg0)
      ∧ r.2.mem ((c.tc : Thread Cert.AdamAttnORefIdeal.nD Cert.AdamAttnORefIdeal.τ).loc Cert.AdamAttnORefIdeal.main_arg1) = m ((c.tc : Thread Cert.AdamAttnORefIdeal.nD Cert.AdamAttnORefIdeal.τ).loc Cert.AdamAttnORefIdeal.main_arg1)
      ∧ r.2.mem ((c.tc : Thread Cert.AdamAttnORefIdeal.nD Cert.AdamAttnORefIdeal.τ).loc Cert.AdamAttnORefIdeal.main_arg2) = m ((c.tc : Thread Cert.AdamAttnORefIdeal.nD Cert.AdamAttnORefIdeal.τ).loc Cert.AdamAttnORefIdeal.main_arg2)
      ∧ r.2.mem ((c.tc : Thread Cert.AdamAttnORefIdeal.nD Cert.AdamAttnORefIdeal.τ).loc Cert.AdamAttnORefIdeal.main_arg3) = m ((c.tc : Thread Cert.AdamAttnORefIdeal.nD Cert.AdamAttnORefIdeal.τ).loc Cert.AdamAttnORefIdeal.main_arg3)
      ∧ r.2.mem ((c.tc : Thread Cert.AdamAttnORefIdeal.nD Cert.AdamAttnORefIdeal.τ).loc Cert.AdamAttnORefIdeal.main_arg4) = m ((c.tc : Thread Cert.AdamAttnORefIdeal.nD Cert.AdamAttnORefIdeal.τ).loc Cert.AdamAttnORefIdeal.main_arg4)
      ∧ r.2.mem ((c.tc : Thread Cert.AdamAttnORefIdeal.nD Cert.AdamAttnORefIdeal.τ).loc Cert.AdamAttnORefIdeal.main_arg5) = m ((c.tc : Thread Cert.AdamAttnORefIdeal.nD Cert.AdamAttnORefIdeal.τ).loc Cert.AdamAttnORefIdeal.main_arg5))
      ∧ r.2.sem = fun _ => 0)

def quiescent_AdamQkvg [hAdamQkvg : Cert.AdamQkvg.Facts] : Prop :=
  ∀ (m : (ℓ : Loc Cert.AdamQkvg.nD Cert.AdamQkvg.τ Cert.AdamQkvg.sig) → Buf (Elt Bits) ℓ) (g : Dev Cert.AdamQkvg.nD → PrngReg), Pre_AdamQkvg m →
    θ_run (Cert.AdamQkvg.defs (F := Bits)) (onTc (τ := Cert.AdamQkvg.τ) (Cert.AdamQkvg.main (F := Bits))) ⟨m, fun _ => 0, g⟩ (fun r => (∀ c : Dev Cert.AdamQkvg.nD,
      r.2.mem ((c.tc : Thread Cert.AdamQkvg.nD Cert.AdamQkvg.τ).loc Cert.AdamQkvg.main_arg0) = m ((c.tc : Thread Cert.AdamQkvg.nD Cert.AdamQkvg.τ).loc Cert.AdamQkvg.main_arg0)
      ∧ r.2.mem ((c.tc : Thread Cert.AdamQkvg.nD Cert.AdamQkvg.τ).loc Cert.AdamQkvg.main_arg1) = m ((c.tc : Thread Cert.AdamQkvg.nD Cert.AdamQkvg.τ).loc Cert.AdamQkvg.main_arg1)
      ∧ r.2.mem ((c.tc : Thread Cert.AdamQkvg.nD Cert.AdamQkvg.τ).loc Cert.AdamQkvg.main_arg2) = m ((c.tc : Thread Cert.AdamQkvg.nD Cert.AdamQkvg.τ).loc Cert.AdamQkvg.main_arg2)
      ∧ r.2.mem ((c.tc : Thread Cert.AdamQkvg.nD Cert.AdamQkvg.τ).loc Cert.AdamQkvg.main_arg3) = m ((c.tc : Thread Cert.AdamQkvg.nD Cert.AdamQkvg.τ).loc Cert.AdamQkvg.main_arg3)
      ∧ r.2.mem ((c.tc : Thread Cert.AdamQkvg.nD Cert.AdamQkvg.τ).loc Cert.AdamQkvg.main_arg4) = m ((c.tc : Thread Cert.AdamQkvg.nD Cert.AdamQkvg.τ).loc Cert.AdamQkvg.main_arg4)
      ∧ r.2.mem ((c.tc : Thread Cert.AdamQkvg.nD Cert.AdamQkvg.τ).loc Cert.AdamQkvg.main_arg5) = m ((c.tc : Thread Cert.AdamQkvg.nD Cert.AdamQkvg.τ).loc Cert.AdamQkvg.main_arg5))
      ∧ r.2.sem = fun _ => 0)

def quiescent_AdamQkvgIdeal [hAdamQkvgIdeal : Cert.AdamQkvgIdeal.Facts] : Prop :=
  ∀ (m : (ℓ : Loc Cert.AdamQkvgIdeal.nD Cert.AdamQkvgIdeal.τ Cert.AdamQkvgIdeal.sig) → Buf (Elt Ideal) ℓ) (g : Dev Cert.AdamQkvgIdeal.nD → PrngReg), Pre_AdamQkvgIdeal m →
    θ_run (Cert.AdamQkvgIdeal.defs (F := Ideal)) (onTc (τ := Cert.AdamQkvgIdeal.τ) (Cert.AdamQkvgIdeal.main (F := Ideal))) ⟨m, fun _ => 0, g⟩ (fun r => (∀ c : Dev Cert.AdamQkvgIdeal.nD,
      r.2.mem ((c.tc : Thread Cert.AdamQkvgIdeal.nD Cert.AdamQkvgIdeal.τ).loc Cert.AdamQkvgIdeal.main_arg0) = m ((c.tc : Thread Cert.AdamQkvgIdeal.nD Cert.AdamQkvgIdeal.τ).loc Cert.AdamQkvgIdeal.main_arg0)
      ∧ r.2.mem ((c.tc : Thread Cert.AdamQkvgIdeal.nD Cert.AdamQkvgIdeal.τ).loc Cert.AdamQkvgIdeal.main_arg1) = m ((c.tc : Thread Cert.AdamQkvgIdeal.nD Cert.AdamQkvgIdeal.τ).loc Cert.AdamQkvgIdeal.main_arg1)
      ∧ r.2.mem ((c.tc : Thread Cert.AdamQkvgIdeal.nD Cert.AdamQkvgIdeal.τ).loc Cert.AdamQkvgIdeal.main_arg2) = m ((c.tc : Thread Cert.AdamQkvgIdeal.nD Cert.AdamQkvgIdeal.τ).loc Cert.AdamQkvgIdeal.main_arg2)
      ∧ r.2.mem ((c.tc : Thread Cert.AdamQkvgIdeal.nD Cert.AdamQkvgIdeal.τ).loc Cert.AdamQkvgIdeal.main_arg3) = m ((c.tc : Thread Cert.AdamQkvgIdeal.nD Cert.AdamQkvgIdeal.τ).loc Cert.AdamQkvgIdeal.main_arg3)
      ∧ r.2.mem ((c.tc : Thread Cert.AdamQkvgIdeal.nD Cert.AdamQkvgIdeal.τ).loc Cert.AdamQkvgIdeal.main_arg4) = m ((c.tc : Thread Cert.AdamQkvgIdeal.nD Cert.AdamQkvgIdeal.τ).loc Cert.AdamQkvgIdeal.main_arg4)
      ∧ r.2.mem ((c.tc : Thread Cert.AdamQkvgIdeal.nD Cert.AdamQkvgIdeal.τ).loc Cert.AdamQkvgIdeal.main_arg5) = m ((c.tc : Thread Cert.AdamQkvgIdeal.nD Cert.AdamQkvgIdeal.τ).loc Cert.AdamQkvgIdeal.main_arg5))
      ∧ r.2.sem = fun _ => 0)

def quiescent_AdamQkvgRefIdeal [hAdamQkvgRefIdeal : Cert.AdamQkvgRefIdeal.Facts] : Prop :=
  ∀ (m : (ℓ : Loc Cert.AdamQkvgRefIdeal.nD Cert.AdamQkvgRefIdeal.τ Cert.AdamQkvgRefIdeal.sig) → Buf (Elt Ideal) ℓ) (g : Dev Cert.AdamQkvgRefIdeal.nD → PrngReg), Pre_AdamQkvgRefIdeal m →
    θ_run (Cert.AdamQkvgRefIdeal.defs (F := Ideal)) (onTc (τ := Cert.AdamQkvgRefIdeal.τ) (Cert.AdamQkvgRefIdeal.main (F := Ideal))) ⟨m, fun _ => 0, g⟩ (fun r => (∀ c : Dev Cert.AdamQkvgRefIdeal.nD,
      r.2.mem ((c.tc : Thread Cert.AdamQkvgRefIdeal.nD Cert.AdamQkvgRefIdeal.τ).loc Cert.AdamQkvgRefIdeal.main_arg0) = m ((c.tc : Thread Cert.AdamQkvgRefIdeal.nD Cert.AdamQkvgRefIdeal.τ).loc Cert.AdamQkvgRefIdeal.main_arg0)
      ∧ r.2.mem ((c.tc : Thread Cert.AdamQkvgRefIdeal.nD Cert.AdamQkvgRefIdeal.τ).loc Cert.AdamQkvgRefIdeal.main_arg1) = m ((c.tc : Thread Cert.AdamQkvgRefIdeal.nD Cert.AdamQkvgRefIdeal.τ).loc Cert.AdamQkvgRefIdeal.main_arg1)
      ∧ r.2.mem ((c.tc : Thread Cert.AdamQkvgRefIdeal.nD Cert.AdamQkvgRefIdeal.τ).loc Cert.AdamQkvgRefIdeal.main_arg2) = m ((c.tc : Thread Cert.AdamQkvgRefIdeal.nD Cert.AdamQkvgRefIdeal.τ).loc Cert.AdamQkvgRefIdeal.main_arg2)
      ∧ r.2.mem ((c.tc : Thread Cert.AdamQkvgRefIdeal.nD Cert.AdamQkvgRefIdeal.τ).loc Cert.AdamQkvgRefIdeal.main_arg3) = m ((c.tc : Thread Cert.AdamQkvgRefIdeal.nD Cert.AdamQkvgRefIdeal.τ).loc Cert.AdamQkvgRefIdeal.main_arg3)
      ∧ r.2.mem ((c.tc : Thread Cert.AdamQkvgRefIdeal.nD Cert.AdamQkvgRefIdeal.τ).loc Cert.AdamQkvgRefIdeal.main_arg4) = m ((c.tc : Thread Cert.AdamQkvgRefIdeal.nD Cert.AdamQkvgRefIdeal.τ).loc Cert.AdamQkvgRefIdeal.main_arg4)
      ∧ r.2.mem ((c.tc : Thread Cert.AdamQkvgRefIdeal.nD Cert.AdamQkvgRefIdeal.τ).loc Cert.AdamQkvgRefIdeal.main_arg5) = m ((c.tc : Thread Cert.AdamQkvgRefIdeal.nD Cert.AdamQkvgRefIdeal.τ).loc Cert.AdamQkvgRefIdeal.main_arg5))
      ∧ r.2.sem = fun _ => 0)

def quiescent_AdamRetO [hAdamRetO : Cert.AdamRetO.Facts] : Prop :=
  ∀ (m : (ℓ : Loc Cert.AdamRetO.nD Cert.AdamRetO.τ Cert.AdamRetO.sig) → Buf (Elt Bits) ℓ) (g : Dev Cert.AdamRetO.nD → PrngReg), Pre_AdamRetO m →
    θ_run (Cert.AdamRetO.defs (F := Bits)) (onTc (τ := Cert.AdamRetO.τ) (Cert.AdamRetO.main (F := Bits))) ⟨m, fun _ => 0, g⟩ (fun r => (∀ c : Dev Cert.AdamRetO.nD,
      r.2.mem ((c.tc : Thread Cert.AdamRetO.nD Cert.AdamRetO.τ).loc Cert.AdamRetO.main_arg0) = m ((c.tc : Thread Cert.AdamRetO.nD Cert.AdamRetO.τ).loc Cert.AdamRetO.main_arg0)
      ∧ r.2.mem ((c.tc : Thread Cert.AdamRetO.nD Cert.AdamRetO.τ).loc Cert.AdamRetO.main_arg1) = m ((c.tc : Thread Cert.AdamRetO.nD Cert.AdamRetO.τ).loc Cert.AdamRetO.main_arg1)
      ∧ r.2.mem ((c.tc : Thread Cert.AdamRetO.nD Cert.AdamRetO.τ).loc Cert.AdamRetO.main_arg2) = m ((c.tc : Thread Cert.AdamRetO.nD Cert.AdamRetO.τ).loc Cert.AdamRetO.main_arg2)
      ∧ r.2.mem ((c.tc : Thread Cert.AdamRetO.nD Cert.AdamRetO.τ).loc Cert.AdamRetO.main_arg3) = m ((c.tc : Thread Cert.AdamRetO.nD Cert.AdamRetO.τ).loc Cert.AdamRetO.main_arg3)
      ∧ r.2.mem ((c.tc : Thread Cert.AdamRetO.nD Cert.AdamRetO.τ).loc Cert.AdamRetO.main_arg4) = m ((c.tc : Thread Cert.AdamRetO.nD Cert.AdamRetO.τ).loc Cert.AdamRetO.main_arg4)
      ∧ r.2.mem ((c.tc : Thread Cert.AdamRetO.nD Cert.AdamRetO.τ).loc Cert.AdamRetO.main_arg5) = m ((c.tc : Thread Cert.AdamRetO.nD Cert.AdamRetO.τ).loc Cert.AdamRetO.main_arg5))
      ∧ r.2.sem = fun _ => 0)

def quiescent_AdamRetOIdeal [hAdamRetOIdeal : Cert.AdamRetOIdeal.Facts] : Prop :=
  ∀ (m : (ℓ : Loc Cert.AdamRetOIdeal.nD Cert.AdamRetOIdeal.τ Cert.AdamRetOIdeal.sig) → Buf (Elt Ideal) ℓ) (g : Dev Cert.AdamRetOIdeal.nD → PrngReg), Pre_AdamRetOIdeal m →
    θ_run (Cert.AdamRetOIdeal.defs (F := Ideal)) (onTc (τ := Cert.AdamRetOIdeal.τ) (Cert.AdamRetOIdeal.main (F := Ideal))) ⟨m, fun _ => 0, g⟩ (fun r => (∀ c : Dev Cert.AdamRetOIdeal.nD,
      r.2.mem ((c.tc : Thread Cert.AdamRetOIdeal.nD Cert.AdamRetOIdeal.τ).loc Cert.AdamRetOIdeal.main_arg0) = m ((c.tc : Thread Cert.AdamRetOIdeal.nD Cert.AdamRetOIdeal.τ).loc Cert.AdamRetOIdeal.main_arg0)
      ∧ r.2.mem ((c.tc : Thread Cert.AdamRetOIdeal.nD Cert.AdamRetOIdeal.τ).loc Cert.AdamRetOIdeal.main_arg1) = m ((c.tc : Thread Cert.AdamRetOIdeal.nD Cert.AdamRetOIdeal.τ).loc Cert.AdamRetOIdeal.main_arg1)
      ∧ r.2.mem ((c.tc : Thread Cert.AdamRetOIdeal.nD Cert.AdamRetOIdeal.τ).loc Cert.AdamRetOIdeal.main_arg2) = m ((c.tc : Thread Cert.AdamRetOIdeal.nD Cert.AdamRetOIdeal.τ).loc Cert.AdamRetOIdeal.main_arg2)
      ∧ r.2.mem ((c.tc : Thread Cert.AdamRetOIdeal.nD Cert.AdamRetOIdeal.τ).loc Cert.AdamRetOIdeal.main_arg3) = m ((c.tc : Thread Cert.AdamRetOIdeal.nD Cert.AdamRetOIdeal.τ).loc Cert.AdamRetOIdeal.main_arg3)
      ∧ r.2.mem ((c.tc : Thread Cert.AdamRetOIdeal.nD Cert.AdamRetOIdeal.τ).loc Cert.AdamRetOIdeal.main_arg4) = m ((c.tc : Thread Cert.AdamRetOIdeal.nD Cert.AdamRetOIdeal.τ).loc Cert.AdamRetOIdeal.main_arg4)
      ∧ r.2.mem ((c.tc : Thread Cert.AdamRetOIdeal.nD Cert.AdamRetOIdeal.τ).loc Cert.AdamRetOIdeal.main_arg5) = m ((c.tc : Thread Cert.AdamRetOIdeal.nD Cert.AdamRetOIdeal.τ).loc Cert.AdamRetOIdeal.main_arg5))
      ∧ r.2.sem = fun _ => 0)

def quiescent_AdamRetORefIdeal [hAdamRetORefIdeal : Cert.AdamRetORefIdeal.Facts] : Prop :=
  ∀ (m : (ℓ : Loc Cert.AdamRetORefIdeal.nD Cert.AdamRetORefIdeal.τ Cert.AdamRetORefIdeal.sig) → Buf (Elt Ideal) ℓ) (g : Dev Cert.AdamRetORefIdeal.nD → PrngReg), Pre_AdamRetORefIdeal m →
    θ_run (Cert.AdamRetORefIdeal.defs (F := Ideal)) (onTc (τ := Cert.AdamRetORefIdeal.τ) (Cert.AdamRetORefIdeal.main (F := Ideal))) ⟨m, fun _ => 0, g⟩ (fun r => (∀ c : Dev Cert.AdamRetORefIdeal.nD,
      r.2.mem ((c.tc : Thread Cert.AdamRetORefIdeal.nD Cert.AdamRetORefIdeal.τ).loc Cert.AdamRetORefIdeal.main_arg0) = m ((c.tc : Thread Cert.AdamRetORefIdeal.nD Cert.AdamRetORefIdeal.τ).loc Cert.AdamRetORefIdeal.main_arg0)
      ∧ r.2.mem ((c.tc : Thread Cert.AdamRetORefIdeal.nD Cert.AdamRetORefIdeal.τ).loc Cert.AdamRetORefIdeal.main_arg1) = m ((c.tc : Thread Cert.AdamRetORefIdeal.nD Cert.AdamRetORefIdeal.τ).loc Cert.AdamRetORefIdeal.main_arg1)
      ∧ r.2.mem ((c.tc : Thread Cert.AdamRetORefIdeal.nD Cert.AdamRetORefIdeal.τ).loc Cert.AdamRetORefIdeal.main_arg2) = m ((c.tc : Thread Cert.AdamRetORefIdeal.nD Cert.AdamRetORefIdeal.τ).loc Cert.AdamRetORefIdeal.main_arg2)
      ∧ r.2.mem ((c.tc : Thread Cert.AdamRetORefIdeal.nD Cert.AdamRetORefIdeal.τ).loc Cert.AdamRetORefIdeal.main_arg3) = m ((c.tc : Thread Cert.AdamRetORefIdeal.nD Cert.AdamRetORefIdeal.τ).loc Cert.AdamRetORefIdeal.main_arg3)
      ∧ r.2.mem ((c.tc : Thread Cert.AdamRetORefIdeal.nD Cert.AdamRetORefIdeal.τ).loc Cert.AdamRetORefIdeal.main_arg4) = m ((c.tc : Thread Cert.AdamRetORefIdeal.nD Cert.AdamRetORefIdeal.τ).loc Cert.AdamRetORefIdeal.main_arg4)
      ∧ r.2.mem ((c.tc : Thread Cert.AdamRetORefIdeal.nD Cert.AdamRetORefIdeal.τ).loc Cert.AdamRetORefIdeal.main_arg5) = m ((c.tc : Thread Cert.AdamRetORefIdeal.nD Cert.AdamRetORefIdeal.τ).loc Cert.AdamRetORefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v129_0)) (v1 : (c : Dev Cert.KernelIdeal.nD) → Buf (Elt Ideal) ((c.tc : Thread Cert.KernelIdeal.nD Cert.KernelIdeal.τ).loc Cert.KernelIdeal.main_v129_1)) (v2 : (c : Dev Cert.KernelIdeal.nD) → Buf (Elt Ideal) ((c.tc : Thread Cert.KernelIdeal.nD Cert.KernelIdeal.τ).loc Cert.KernelIdeal.main_v129_2)) (v3 : (c : Dev Cert.KernelIdeal.nD) → Buf (Elt Ideal) ((c.tc : Thread Cert.KernelIdeal.nD Cert.KernelIdeal.τ).loc Cert.KernelIdeal.main_v129_3)) (v4 : (c : Dev Cert.KernelIdeal.nD) → Buf (Elt Ideal) ((c.tc : Thread Cert.KernelIdeal.nD Cert.KernelIdeal.τ).loc Cert.KernelIdeal.main_v129_4)) (v5 : (c : Dev Cert.KernelIdeal.nD) → Buf (Elt Ideal) ((c.tc : Thread Cert.KernelIdeal.nD Cert.KernelIdeal.τ).loc Cert.KernelIdeal.main_v129_5)) (v6 : (c : Dev Cert.KernelIdeal.nD) → Buf (Elt Ideal) ((c.tc : Thread Cert.KernelIdeal.nD Cert.KernelIdeal.τ).loc Cert.KernelIdeal.main_v129_6)) (v7 : (c : Dev Cert.KernelIdeal.nD) → Buf (Elt Ideal) ((c.tc : Thread Cert.KernelIdeal.nD Cert.KernelIdeal.τ).loc Cert.KernelIdeal.main_v129_7)) (v8 : (c : Dev Cert.KernelIdeal.nD) → Buf (Elt Ideal) ((c.tc : Thread Cert.KernelIdeal.nD Cert.KernelIdeal.τ).loc Cert.KernelIdeal.main_v129_8)) (v9 : (c : Dev Cert.KernelIdeal.nD) → Buf (Elt Ideal) ((c.tc : Thread Cert.KernelIdeal.nD Cert.KernelIdeal.τ).loc Cert.KernelIdeal.main_v129_9)) (v10 : (c : Dev Cert.KernelIdeal.nD) → Buf (Elt Ideal) ((c.tc : Thread Cert.KernelIdeal.nD Cert.KernelIdeal.τ).loc Cert.KernelIdeal.main_v129_10)) (v11 : (c : Dev Cert.KernelIdeal.nD) → Buf (Elt Ideal) ((c.tc : Thread Cert.KernelIdeal.nD Cert.KernelIdeal.τ).loc Cert.KernelIdeal.main_v129_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129_0) = v0 c
          ∧ r.2.mem ((c.tc : Thread Cert.KernelIdeal.nD Cert.KernelIdeal.τ).loc Cert.KernelIdeal.main_v129_1) = v1 c
          ∧ r.2.mem ((c.tc : Thread Cert.KernelIdeal.nD Cert.KernelIdeal.τ).loc Cert.KernelIdeal.main_v129_2) = v2 c
          ∧ r.2.mem ((c.tc : Thread Cert.KernelIdeal.nD Cert.KernelIdeal.τ).loc Cert.KernelIdeal.main_v129_3) = v3 c
          ∧ r.2.mem ((c.tc : Thread Cert.KernelIdeal.nD Cert.KernelIdeal.τ).loc Cert.KernelIdeal.main_v129_4) = v4 c
          ∧ r.2.mem ((c.tc : Thread Cert.KernelIdeal.nD Cert.KernelIdeal.τ).loc Cert.KernelIdeal.main_v129_5) = v5 c
          ∧ r.2.mem ((c.tc : Thread Cert.KernelIdeal.nD Cert.KernelIdeal.τ).loc Cert.KernelIdeal.main_v129_6) = v6 c
          ∧ r.2.mem ((c.tc : Thread Cert.KernelIdeal.nD Cert.KernelIdeal.τ).loc Cert.KernelIdeal.main_v129_7) = v7 c
          ∧ r.2.mem ((c.tc : Thread Cert.KernelIdeal.nD Cert.KernelIdeal.τ).loc Cert.KernelIdeal.main_v129_8) = v8 c
          ∧ r.2.mem ((c.tc : Thread Cert.KernelIdeal.nD Cert.KernelIdeal.τ).loc Cert.KernelIdeal.main_v129_9) = v9 c
          ∧ r.2.mem ((c.tc : Thread Cert.KernelIdeal.nD Cert.KernelIdeal.τ).loc Cert.KernelIdeal.main_v129_10) = v10 c
          ∧ r.2.mem ((c.tc : Thread Cert.KernelIdeal.nD Cert.KernelIdeal.τ).loc Cert.KernelIdeal.main_v129_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v121) = v3 c
          ∧ r.2.mem ((c.tc : Thread Cert.ReferenceIdeal.nD Cert.ReferenceIdeal.τ).loc Cert.ReferenceIdeal.main_v122) = v4 c
          ∧ r.2.mem ((c.tc : Thread Cert.ReferenceIdeal.nD Cert.ReferenceIdeal.τ).loc Cert.ReferenceIdeal.main_v124) = v5 c
          ∧ r.2.mem ((c.tc : Thread Cert.ReferenceIdeal.nD Cert.ReferenceIdeal.τ).loc Cert.ReferenceIdeal.main_v251) = v6 c
          ∧ r.2.mem ((c.tc : Thread Cert.ReferenceIdeal.nD Cert.ReferenceIdeal.τ).loc Cert.ReferenceIdeal.main_v252) = v7 c
          ∧ r.2.mem ((c.tc : Thread Cert.ReferenceIdeal.nD Cert.ReferenceIdeal.τ).loc Cert.ReferenceIdeal.main_v253) = v8 c
          ∧ r.2.mem ((c.tc : Thread Cert.ReferenceIdeal.nD Cert.ReferenceIdeal.τ).loc Cert.ReferenceIdeal.main_v254) = v9 c
          ∧ r.2.mem ((c.tc : Thread Cert.ReferenceIdeal.nD Cert.ReferenceIdeal.τ).loc Cert.ReferenceIdeal.main_v255) = v10 c
          ∧ r.2.mem ((c.tc : Thread Cert.ReferenceIdeal.nD Cert.ReferenceIdeal.τ).loc Cert.ReferenceIdeal.main_v257) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_L1QkvgDw_L1QkvgDwIdeal : Prop :=
  True

def algebraic_L1QkvgDwIdeal_L1QkvgDwRefIdeal [hL1QkvgDwIdeal : Cert.L1QkvgDwIdeal.Facts] [hL1QkvgDwRefIdeal : Cert.L1QkvgDwRefIdeal.Facts] : Prop :=
  ∀ (m : (ℓ : Loc Cert.L1QkvgDwIdeal.nD Cert.L1QkvgDwIdeal.τ Cert.L1QkvgDwIdeal.sig) → Buf (Elt Ideal) ℓ) (g : Dev Cert.L1QkvgDwIdeal.nD → PrngReg)
    (m' : (ℓ : Loc Cert.L1QkvgDwRefIdeal.nD Cert.L1QkvgDwRefIdeal.τ Cert.L1QkvgDwRefIdeal.sig) → Buf (Elt Ideal) ℓ) (g' : Dev Cert.L1QkvgDwRefIdeal.nD → PrngReg), Pre_L1QkvgDwIdeal m →
    (∀ c : Dev Cert.L1QkvgDwIdeal.nD,
      m' ((c.tc : Thread Cert.L1QkvgDwRefIdeal.nD Cert.L1QkvgDwRefIdeal.τ).loc Cert.L1QkvgDwRefIdeal.main_arg0) = m ((c.tc : Thread Cert.L1QkvgDwIdeal.nD Cert.L1QkvgDwIdeal.τ).loc Cert.L1QkvgDwIdeal.main_arg0)
      ∧ m' ((c.tc : Thread Cert.L1QkvgDwRefIdeal.nD Cert.L1QkvgDwRefIdeal.τ).loc Cert.L1QkvgDwRefIdeal.main_arg1) = m ((c.tc : Thread Cert.L1QkvgDwIdeal.nD Cert.L1QkvgDwIdeal.τ).loc Cert.L1QkvgDwIdeal.main_arg1)) →
    ∃ (v0 : (c : Dev Cert.L1QkvgDwIdeal.nD) → Buf (Elt Ideal) ((c.tc : Thread Cert.L1QkvgDwIdeal.nD Cert.L1QkvgDwIdeal.τ).loc Cert.L1QkvgDwIdeal.main_v0)),
      θ_run (Cert.L1QkvgDwIdeal.defs (F := Ideal)) (onTc (τ := Cert.L1QkvgDwIdeal.τ) (Cert.L1QkvgDwIdeal.main (F := Ideal))) ⟨m, fun _ => 0, g⟩ (fun r => ∀ c : Dev Cert.L1QkvgDwIdeal.nD,
          r.2.mem ((c.tc : Thread Cert.L1QkvgDwIdeal.nD Cert.L1QkvgDwIdeal.τ).loc Cert.L1QkvgDwIdeal.main_v0) = v0 c
          ∧ r.2.mem ((c.tc : Thread Cert.L1QkvgDwIdeal.nD Cert.L1QkvgDwIdeal.τ).loc Cert.L1QkvgDwIdeal.main_arg0) = m ((c.tc : Thread Cert.L1QkvgDwIdeal.nD Cert.L1QkvgDwIdeal.τ).loc Cert.L1QkvgDwIdeal.main_arg0)
          ∧ r.2.mem ((c.tc : Thread Cert.L1QkvgDwIdeal.nD Cert.L1QkvgDwIdeal.τ).loc Cert.L1QkvgDwIdeal.main_arg1) = m ((c.tc : Thread Cert.L1QkvgDwIdeal.nD Cert.L1QkvgDwIdeal.τ).loc Cert.L1QkvgDwIdeal.main_arg1))
      ∧ θ_run (Cert.L1QkvgDwRefIdeal.defs (F := Ideal)) (onTc (τ := Cert.L1QkvgDwRefIdeal.τ) (Cert.L1QkvgDwRefIdeal.main (F := Ideal))) ⟨m', fun _ => 0, g'⟩ (fun r => ∀ c : Dev Cert.L1QkvgDwRefIdeal.nD,
          r.2.mem ((c.tc : Thread Cert.L1QkvgDwRefIdeal.nD Cert.L1QkvgDwRefIdeal.τ).loc Cert.L1QkvgDwRefIdeal.main_v5) = v0 c
          ∧ r.2.mem ((c.tc : Thread Cert.L1QkvgDwRefIdeal.nD Cert.L1QkvgDwRefIdeal.τ).loc Cert.L1QkvgDwRefIdeal.main_arg0) = m' ((c.tc : Thread Cert.L1QkvgDwRefIdeal.nD Cert.L1QkvgDwRefIdeal.τ).loc Cert.L1QkvgDwRefIdeal.main_arg0)
          ∧ r.2.mem ((c.tc : Thread Cert.L1QkvgDwRefIdeal.nD Cert.L1QkvgDwRefIdeal.τ).loc Cert.L1QkvgDwRefIdeal.main_arg1) = m' ((c.tc : Thread Cert.L1QkvgDwRefIdeal.nD Cert.L1QkvgDwRefIdeal.τ).loc Cert.L1QkvgDwRefIdeal.main_arg1))

def preserves_L1QkvgDx_L1QkvgDxIdeal : Prop :=
  True

def algebraic_L1QkvgDxIdeal_L1QkvgDxRefIdeal [hL1QkvgDxIdeal : Cert.L1QkvgDxIdeal.Facts] [hL1QkvgDxRefIdeal : Cert.L1QkvgDxRefIdeal.Facts] : Prop :=
  ∀ (m : (ℓ : Loc Cert.L1QkvgDxIdeal.nD Cert.L1QkvgDxIdeal.τ Cert.L1QkvgDxIdeal.sig) → Buf (Elt Ideal) ℓ) (g : Dev Cert.L1QkvgDxIdeal.nD → PrngReg)
    (m' : (ℓ : Loc Cert.L1QkvgDxRefIdeal.nD Cert.L1QkvgDxRefIdeal.τ Cert.L1QkvgDxRefIdeal.sig) → Buf (Elt Ideal) ℓ) (g' : Dev Cert.L1QkvgDxRefIdeal.nD → PrngReg), Pre_L1QkvgDxIdeal m →
    (∀ c : Dev Cert.L1QkvgDxIdeal.nD,
      m' ((c.tc : Thread Cert.L1QkvgDxRefIdeal.nD Cert.L1QkvgDxRefIdeal.τ).loc Cert.L1QkvgDxRefIdeal.main_arg0) = m ((c.tc : Thread Cert.L1QkvgDxIdeal.nD Cert.L1QkvgDxIdeal.τ).loc Cert.L1QkvgDxIdeal.main_arg0)
      ∧ m' ((c.tc : Thread Cert.L1QkvgDxRefIdeal.nD Cert.L1QkvgDxRefIdeal.τ).loc Cert.L1QkvgDxRefIdeal.main_arg1) = m ((c.tc : Thread Cert.L1QkvgDxIdeal.nD Cert.L1QkvgDxIdeal.τ).loc Cert.L1QkvgDxIdeal.main_arg1)) →
    ∃ (v0 : (c : Dev Cert.L1QkvgDxIdeal.nD) → Buf (Elt Ideal) ((c.tc : Thread Cert.L1QkvgDxIdeal.nD Cert.L1QkvgDxIdeal.τ).loc Cert.L1QkvgDxIdeal.main_v0)),
      θ_run (Cert.L1QkvgDxIdeal.defs (F := Ideal)) (onTc (τ := Cert.L1QkvgDxIdeal.τ) (Cert.L1QkvgDxIdeal.main (F := Ideal))) ⟨m, fun _ => 0, g⟩ (fun r => ∀ c : Dev Cert.L1QkvgDxIdeal.nD,
          r.2.mem ((c.tc : Thread Cert.L1QkvgDxIdeal.nD Cert.L1QkvgDxIdeal.τ).loc Cert.L1QkvgDxIdeal.main_v0) = v0 c
          ∧ r.2.mem ((c.tc : Thread Cert.L1QkvgDxIdeal.nD Cert.L1QkvgDxIdeal.τ).loc Cert.L1QkvgDxIdeal.main_arg0) = m ((c.tc : Thread Cert.L1QkvgDxIdeal.nD Cert.L1QkvgDxIdeal.τ).loc Cert.L1QkvgDxIdeal.main_arg0)
          ∧ r.2.mem ((c.tc : Thread Cert.L1QkvgDxIdeal.nD Cert.L1QkvgDxIdeal.τ).loc Cert.L1QkvgDxIdeal.main_arg1) = m ((c.tc : Thread Cert.L1QkvgDxIdeal.nD Cert.L1QkvgDxIdeal.τ).loc Cert.L1QkvgDxIdeal.main_arg1))
      ∧ θ_run (Cert.L1QkvgDxRefIdeal.defs (F := Ideal)) (onTc (τ := Cert.L1QkvgDxRefIdeal.τ) (Cert.L1QkvgDxRefIdeal.main (F := Ideal))) ⟨m', fun _ => 0, g'⟩ (fun r => ∀ c : Dev Cert.L1QkvgDxRefIdeal.nD,
          r.2.mem ((c.tc : Thread Cert.L1QkvgDxRefIdeal.nD Cert.L1QkvgDxRefIdeal.τ).loc Cert.L1QkvgDxRefIdeal.main_v4) = v0 c
          ∧ r.2.mem ((c.tc : Thread Cert.L1QkvgDxRefIdeal.nD Cert.L1QkvgDxRefIdeal.τ).loc Cert.L1QkvgDxRefIdeal.main_arg0) = m' ((c.tc : Thread Cert.L1QkvgDxRefIdeal.nD Cert.L1QkvgDxRefIdeal.τ).loc Cert.L1QkvgDxRefIdeal.main_arg0)
          ∧ r.2.mem ((c.tc : Thread Cert.L1QkvgDxRefIdeal.nD Cert.L1QkvgDxRefIdeal.τ).loc Cert.L1QkvgDxRefIdeal.main_arg1) = m' ((c.tc : Thread Cert.L1QkvgDxRefIdeal.nD Cert.L1QkvgDxRefIdeal.τ).loc Cert.L1QkvgDxRefIdeal.main_arg1))

def preserves_L1Qkvg_L1QkvgIdeal : Prop :=
  True

def algebraic_L1QkvgIdeal_L1QkvgRefIdeal [hL1QkvgIdeal : Cert.L1QkvgIdeal.Facts] [hL1QkvgRefIdeal : Cert.L1QkvgRefIdeal.Facts] : Prop :=
  ∀ (m : (ℓ : Loc Cert.L1QkvgIdeal.nD Cert.L1QkvgIdeal.τ Cert.L1QkvgIdeal.sig) → Buf (Elt Ideal) ℓ) (g : Dev Cert.L1QkvgIdeal.nD → PrngReg)
    (m' : (ℓ : Loc Cert.L1QkvgRefIdeal.nD Cert.L1QkvgRefIdeal.τ Cert.L1QkvgRefIdeal.sig) → Buf (Elt Ideal) ℓ) (g' : Dev Cert.L1QkvgRefIdeal.nD → PrngReg), Pre_L1QkvgIdeal m →
    (∀ c : Dev Cert.L1QkvgIdeal.nD,
      m' ((c.tc : Thread Cert.L1QkvgRefIdeal.nD Cert.L1QkvgRefIdeal.τ).loc Cert.L1QkvgRefIdeal.main_arg0) = m ((c.tc : Thread Cert.L1QkvgIdeal.nD Cert.L1QkvgIdeal.τ).loc Cert.L1QkvgIdeal.main_arg0)
      ∧ m' ((c.tc : Thread Cert.L1QkvgRefIdeal.nD Cert.L1QkvgRefIdeal.τ).loc Cert.L1QkvgRefIdeal.main_arg1) = m ((c.tc : Thread Cert.L1QkvgIdeal.nD Cert.L1QkvgIdeal.τ).loc Cert.L1QkvgIdeal.main_arg1)) →
    ∃ (v0 : (c : Dev Cert.L1QkvgIdeal.nD) → Buf (Elt Ideal) ((c.tc : Thread Cert.L1QkvgIdeal.nD Cert.L1QkvgIdeal.τ).loc Cert.L1QkvgIdeal.main_v0)),
      θ_run (Cert.L1QkvgIdeal.defs (F := Ideal)) (onTc (τ := Cert.L1QkvgIdeal.τ) (Cert.L1QkvgIdeal.main (F := Ideal))) ⟨m, fun _ => 0, g⟩ (fun r => ∀ c : Dev Cert.L1QkvgIdeal.nD,
          r.2.mem ((c.tc : Thread Cert.L1QkvgIdeal.nD Cert.L1QkvgIdeal.τ).loc Cert.L1QkvgIdeal.main_v0) = v0 c
          ∧ r.2.mem ((c.tc : Thread Cert.L1QkvgIdeal.nD Cert.L1QkvgIdeal.τ).loc Cert.L1QkvgIdeal.main_arg0) = m ((c.tc : Thread Cert.L1QkvgIdeal.nD Cert.L1QkvgIdeal.τ).loc Cert.L1QkvgIdeal.main_arg0)
          ∧ r.2.mem ((c.tc : Thread Cert.L1QkvgIdeal.nD Cert.L1QkvgIdeal.τ).loc Cert.L1QkvgIdeal.main_arg1) = m ((c.tc : Thread Cert.L1QkvgIdeal.nD Cert.L1QkvgIdeal.τ).loc Cert.L1QkvgIdeal.main_arg1))
      ∧ θ_run (Cert.L1QkvgRefIdeal.defs (F := Ideal)) (onTc (τ := Cert.L1QkvgRefIdeal.τ) (Cert.L1QkvgRefIdeal.main (F := Ideal))) ⟨m', fun _ => 0, g'⟩ (fun r => ∀ c : Dev Cert.L1QkvgRefIdeal.nD,
          r.2.mem ((c.tc : Thread Cert.L1QkvgRefIdeal.nD Cert.L1QkvgRefIdeal.τ).loc Cert.L1QkvgRefIdeal.main_v2) = v0 c
          ∧ r.2.mem ((c.tc : Thread Cert.L1QkvgRefIdeal.nD Cert.L1QkvgRefIdeal.τ).loc Cert.L1QkvgRefIdeal.main_arg0) = m' ((c.tc : Thread Cert.L1QkvgRefIdeal.nD Cert.L1QkvgRefIdeal.τ).loc Cert.L1QkvgRefIdeal.main_arg0)
          ∧ r.2.mem ((c.tc : Thread Cert.L1QkvgRefIdeal.nD Cert.L1QkvgRefIdeal.τ).loc Cert.L1QkvgRefIdeal.main_arg1) = m' ((c.tc : Thread Cert.L1QkvgRefIdeal.nD Cert.L1QkvgRefIdeal.τ).loc Cert.L1QkvgRefIdeal.main_arg1))

def preserves_L0InDw_L0InDwIdeal : Prop :=
  True

def algebraic_L0InDwIdeal_L0InDwRefIdeal [hL0InDwIdeal : Cert.L0InDwIdeal.Facts] [hL0InDwRefIdeal : Cert.L0InDwRefIdeal.Facts] : Prop :=
  ∀ (m : (ℓ : Loc Cert.L0InDwIdeal.nD Cert.L0InDwIdeal.τ Cert.L0InDwIdeal.sig) → Buf (Elt Ideal) ℓ) (g : Dev Cert.L0InDwIdeal.nD → PrngReg)
    (m' : (ℓ : Loc Cert.L0InDwRefIdeal.nD Cert.L0InDwRefIdeal.τ Cert.L0InDwRefIdeal.sig) → Buf (Elt Ideal) ℓ) (g' : Dev Cert.L0InDwRefIdeal.nD → PrngReg), Pre_L0InDwIdeal m →
    (∀ c : Dev Cert.L0InDwIdeal.nD,
      m' ((c.tc : Thread Cert.L0InDwRefIdeal.nD Cert.L0InDwRefIdeal.τ).loc Cert.L0InDwRefIdeal.main_arg0) = m ((c.tc : Thread Cert.L0InDwIdeal.nD Cert.L0InDwIdeal.τ).loc Cert.L0InDwIdeal.main_arg0)
      ∧ m' ((c.tc : Thread Cert.L0InDwRefIdeal.nD Cert.L0InDwRefIdeal.τ).loc Cert.L0InDwRefIdeal.main_arg1) = m ((c.tc : Thread Cert.L0InDwIdeal.nD Cert.L0InDwIdeal.τ).loc Cert.L0InDwIdeal.main_arg1)) →
    ∃ (v0 : (c : Dev Cert.L0InDwIdeal.nD) → Buf (Elt Ideal) ((c.tc : Thread Cert.L0InDwIdeal.nD Cert.L0InDwIdeal.τ).loc Cert.L0InDwIdeal.main_v0)),
      θ_run (Cert.L0InDwIdeal.defs (F := Ideal)) (onTc (τ := Cert.L0InDwIdeal.τ) (Cert.L0InDwIdeal.main (F := Ideal))) ⟨m, fun _ => 0, g⟩ (fun r => ∀ c : Dev Cert.L0InDwIdeal.nD,
          r.2.mem ((c.tc : Thread Cert.L0InDwIdeal.nD Cert.L0InDwIdeal.τ).loc Cert.L0InDwIdeal.main_v0) = v0 c
          ∧ r.2.mem ((c.tc : Thread Cert.L0InDwIdeal.nD Cert.L0InDwIdeal.τ).loc Cert.L0InDwIdeal.main_arg0) = m ((c.tc : Thread Cert.L0InDwIdeal.nD Cert.L0InDwIdeal.τ).loc Cert.L0InDwIdeal.main_arg0)
          ∧ r.2.mem ((c.tc : Thread Cert.L0InDwIdeal.nD Cert.L0InDwIdeal.τ).loc Cert.L0InDwIdeal.main_arg1) = m ((c.tc : Thread Cert.L0InDwIdeal.nD Cert.L0InDwIdeal.τ).loc Cert.L0InDwIdeal.main_arg1))
      ∧ θ_run (Cert.L0InDwRefIdeal.defs (F := Ideal)) (onTc (τ := Cert.L0InDwRefIdeal.τ) (Cert.L0InDwRefIdeal.main (F := Ideal))) ⟨m', fun _ => 0, g'⟩ (fun r => ∀ c : Dev Cert.L0InDwRefIdeal.nD,
          r.2.mem ((c.tc : Thread Cert.L0InDwRefIdeal.nD Cert.L0InDwRefIdeal.τ).loc Cert.L0InDwRefIdeal.main_v5) = v0 c
          ∧ r.2.mem ((c.tc : Thread Cert.L0InDwRefIdeal.nD Cert.L0InDwRefIdeal.τ).loc Cert.L0InDwRefIdeal.main_arg0) = m' ((c.tc : Thread Cert.L0InDwRefIdeal.nD Cert.L0InDwRefIdeal.τ).loc Cert.L0InDwRefIdeal.main_arg0)
          ∧ r.2.mem ((c.tc : Thread Cert.L0InDwRefIdeal.nD Cert.L0InDwRefIdeal.τ).loc Cert.L0InDwRefIdeal.main_arg1) = m' ((c.tc : Thread Cert.L0InDwRefIdeal.nD Cert.L0InDwRefIdeal.τ).loc Cert.L0InDwRefIdeal.main_arg1))

def preserves_L0InDx_L0InDxIdeal : Prop :=
  True

def algebraic_L0InDxIdeal_L0InDxRefIdeal [hL0InDxIdeal : Cert.L0InDxIdeal.Facts] [hL0InDxRefIdeal : Cert.L0InDxRefIdeal.Facts] : Prop :=
  ∀ (m : (ℓ : Loc Cert.L0InDxIdeal.nD Cert.L0InDxIdeal.τ Cert.L0InDxIdeal.sig) → Buf (Elt Ideal) ℓ) (g : Dev Cert.L0InDxIdeal.nD → PrngReg)
    (m' : (ℓ : Loc Cert.L0InDxRefIdeal.nD Cert.L0InDxRefIdeal.τ Cert.L0InDxRefIdeal.sig) → Buf (Elt Ideal) ℓ) (g' : Dev Cert.L0InDxRefIdeal.nD → PrngReg), Pre_L0InDxIdeal m →
    (∀ c : Dev Cert.L0InDxIdeal.nD,
      m' ((c.tc : Thread Cert.L0InDxRefIdeal.nD Cert.L0InDxRefIdeal.τ).loc Cert.L0InDxRefIdeal.main_arg0) = m ((c.tc : Thread Cert.L0InDxIdeal.nD Cert.L0InDxIdeal.τ).loc Cert.L0InDxIdeal.main_arg0)
      ∧ m' ((c.tc : Thread Cert.L0InDxRefIdeal.nD Cert.L0InDxRefIdeal.τ).loc Cert.L0InDxRefIdeal.main_arg1) = m ((c.tc : Thread Cert.L0InDxIdeal.nD Cert.L0InDxIdeal.τ).loc Cert.L0InDxIdeal.main_arg1)) →
    ∃ (v0 : (c : Dev Cert.L0InDxIdeal.nD) → Buf (Elt Ideal) ((c.tc : Thread Cert.L0InDxIdeal.nD Cert.L0InDxIdeal.τ).loc Cert.L0InDxIdeal.main_v0)),
      θ_run (Cert.L0InDxIdeal.defs (F := Ideal)) (onTc (τ := Cert.L0InDxIdeal.τ) (Cert.L0InDxIdeal.main (F := Ideal))) ⟨m, fun _ => 0, g⟩ (fun r => ∀ c : Dev Cert.L0InDxIdeal.nD,
          r.2.mem ((c.tc : Thread Cert.L0InDxIdeal.nD Cert.L0InDxIdeal.τ).loc Cert.L0InDxIdeal.main_v0) = v0 c
          ∧ r.2.mem ((c.tc : Thread Cert.L0InDxIdeal.nD Cert.L0InDxIdeal.τ).loc Cert.L0InDxIdeal.main_arg0) = m ((c.tc : Thread Cert.L0InDxIdeal.nD Cert.L0InDxIdeal.τ).loc Cert.L0InDxIdeal.main_arg0)
          ∧ r.2.mem ((c.tc : Thread Cert.L0InDxIdeal.nD Cert.L0InDxIdeal.τ).loc Cert.L0InDxIdeal.main_arg1) = m ((c.tc : Thread Cert.L0InDxIdeal.nD Cert.L0InDxIdeal.τ).loc Cert.L0InDxIdeal.main_arg1))
      ∧ θ_run (Cert.L0InDxRefIdeal.defs (F := Ideal)) (onTc (τ := Cert.L0InDxRefIdeal.τ) (Cert.L0InDxRefIdeal.main (F := Ideal))) ⟨m', fun _ => 0, g'⟩ (fun r => ∀ c : Dev Cert.L0InDxRefIdeal.nD,
          r.2.mem ((c.tc : Thread Cert.L0InDxRefIdeal.nD Cert.L0InDxRefIdeal.τ).loc Cert.L0InDxRefIdeal.main_v4) = v0 c
          ∧ r.2.mem ((c.tc : Thread Cert.L0InDxRefIdeal.nD Cert.L0InDxRefIdeal.τ).loc Cert.L0InDxRefIdeal.main_arg0) = m' ((c.tc : Thread Cert.L0InDxRefIdeal.nD Cert.L0InDxRefIdeal.τ).loc Cert.L0InDxRefIdeal.main_arg0)
          ∧ r.2.mem ((c.tc : Thread Cert.L0InDxRefIdeal.nD Cert.L0InDxRefIdeal.τ).loc Cert.L0InDxRefIdeal.main_arg1) = m' ((c.tc : Thread Cert.L0InDxRefIdeal.nD Cert.L0InDxRefIdeal.τ).loc Cert.L0InDxRefIdeal.main_arg1))

def preserves_L1InDw_L1InDwIdeal : Prop :=
  True

def algebraic_L1InDwIdeal_L1InDwRefIdeal [hL1InDwIdeal : Cert.L1InDwIdeal.Facts] [hL1InDwRefIdeal : Cert.L1InDwRefIdeal.Facts] : Prop :=
  ∀ (m : (ℓ : Loc Cert.L1InDwIdeal.nD Cert.L1InDwIdeal.τ Cert.L1InDwIdeal.sig) → Buf (Elt Ideal) ℓ) (g : Dev Cert.L1InDwIdeal.nD → PrngReg)
    (m' : (ℓ : Loc Cert.L1InDwRefIdeal.nD Cert.L1InDwRefIdeal.τ Cert.L1InDwRefIdeal.sig) → Buf (Elt Ideal) ℓ) (g' : Dev Cert.L1InDwRefIdeal.nD → PrngReg), Pre_L1InDwIdeal m →
    (∀ c : Dev Cert.L1InDwIdeal.nD,
      m' ((c.tc : Thread Cert.L1InDwRefIdeal.nD Cert.L1InDwRefIdeal.τ).loc Cert.L1InDwRefIdeal.main_arg0) = m ((c.tc : Thread Cert.L1InDwIdeal.nD Cert.L1InDwIdeal.τ).loc Cert.L1InDwIdeal.main_arg0)
      ∧ m' ((c.tc : Thread Cert.L1InDwRefIdeal.nD Cert.L1InDwRefIdeal.τ).loc Cert.L1InDwRefIdeal.main_arg1) = m ((c.tc : Thread Cert.L1InDwIdeal.nD Cert.L1InDwIdeal.τ).loc Cert.L1InDwIdeal.main_arg1)) →
    ∃ (v0 : (c : Dev Cert.L1InDwIdeal.nD) → Buf (Elt Ideal) ((c.tc : Thread Cert.L1InDwIdeal.nD Cert.L1InDwIdeal.τ).loc Cert.L1InDwIdeal.main_v0)),
      θ_run (Cert.L1InDwIdeal.defs (F := Ideal)) (onTc (τ := Cert.L1InDwIdeal.τ) (Cert.L1InDwIdeal.main (F := Ideal))) ⟨m, fun _ => 0, g⟩ (fun r => ∀ c : Dev Cert.L1InDwIdeal.nD,
          r.2.mem ((c.tc : Thread Cert.L1InDwIdeal.nD Cert.L1InDwIdeal.τ).loc Cert.L1InDwIdeal.main_v0) = v0 c
          ∧ r.2.mem ((c.tc : Thread Cert.L1InDwIdeal.nD Cert.L1InDwIdeal.τ).loc Cert.L1InDwIdeal.main_arg0) = m ((c.tc : Thread Cert.L1InDwIdeal.nD Cert.L1InDwIdeal.τ).loc Cert.L1InDwIdeal.main_arg0)
          ∧ r.2.mem ((c.tc : Thread Cert.L1InDwIdeal.nD Cert.L1InDwIdeal.τ).loc Cert.L1InDwIdeal.main_arg1) = m ((c.tc : Thread Cert.L1InDwIdeal.nD Cert.L1InDwIdeal.τ).loc Cert.L1InDwIdeal.main_arg1))
      ∧ θ_run (Cert.L1InDwRefIdeal.defs (F := Ideal)) (onTc (τ := Cert.L1InDwRefIdeal.τ) (Cert.L1InDwRefIdeal.main (F := Ideal))) ⟨m', fun _ => 0, g'⟩ (fun r => ∀ c : Dev Cert.L1InDwRefIdeal.nD,
          r.2.mem ((c.tc : Thread Cert.L1InDwRefIdeal.nD Cert.L1InDwRefIdeal.τ).loc Cert.L1InDwRefIdeal.main_v5) = v0 c
          ∧ r.2.mem ((c.tc : Thread Cert.L1InDwRefIdeal.nD Cert.L1InDwRefIdeal.τ).loc Cert.L1InDwRefIdeal.main_arg0) = m' ((c.tc : Thread Cert.L1InDwRefIdeal.nD Cert.L1InDwRefIdeal.τ).loc Cert.L1InDwRefIdeal.main_arg0)
          ∧ r.2.mem ((c.tc : Thread Cert.L1InDwRefIdeal.nD Cert.L1InDwRefIdeal.τ).loc Cert.L1InDwRefIdeal.main_arg1) = m' ((c.tc : Thread Cert.L1InDwRefIdeal.nD Cert.L1InDwRefIdeal.τ).loc Cert.L1InDwRefIdeal.main_arg1))

def preserves_L1InDx_L1InDxIdeal : Prop :=
  True

def algebraic_L1InDxIdeal_L1InDxRefIdeal [hL1InDxIdeal : Cert.L1InDxIdeal.Facts] [hL1InDxRefIdeal : Cert.L1InDxRefIdeal.Facts] : Prop :=
  ∀ (m : (ℓ : Loc Cert.L1InDxIdeal.nD Cert.L1InDxIdeal.τ Cert.L1InDxIdeal.sig) → Buf (Elt Ideal) ℓ) (g : Dev Cert.L1InDxIdeal.nD → PrngReg)
    (m' : (ℓ : Loc Cert.L1InDxRefIdeal.nD Cert.L1InDxRefIdeal.τ Cert.L1InDxRefIdeal.sig) → Buf (Elt Ideal) ℓ) (g' : Dev Cert.L1InDxRefIdeal.nD → PrngReg), Pre_L1InDxIdeal m →
    (∀ c : Dev Cert.L1InDxIdeal.nD,
      m' ((c.tc : Thread Cert.L1InDxRefIdeal.nD Cert.L1InDxRefIdeal.τ).loc Cert.L1InDxRefIdeal.main_arg0) = m ((c.tc : Thread Cert.L1InDxIdeal.nD Cert.L1InDxIdeal.τ).loc Cert.L1InDxIdeal.main_arg0)
      ∧ m' ((c.tc : Thread Cert.L1InDxRefIdeal.nD Cert.L1InDxRefIdeal.τ).loc Cert.L1InDxRefIdeal.main_arg1) = m ((c.tc : Thread Cert.L1InDxIdeal.nD Cert.L1InDxIdeal.τ).loc Cert.L1InDxIdeal.main_arg1)) →
    ∃ (v0 : (c : Dev Cert.L1InDxIdeal.nD) → Buf (Elt Ideal) ((c.tc : Thread Cert.L1InDxIdeal.nD Cert.L1InDxIdeal.τ).loc Cert.L1InDxIdeal.main_v0)),
      θ_run (Cert.L1InDxIdeal.defs (F := Ideal)) (onTc (τ := Cert.L1InDxIdeal.τ) (Cert.L1InDxIdeal.main (F := Ideal))) ⟨m, fun _ => 0, g⟩ (fun r => ∀ c : Dev Cert.L1InDxIdeal.nD,
          r.2.mem ((c.tc : Thread Cert.L1InDxIdeal.nD Cert.L1InDxIdeal.τ).loc Cert.L1InDxIdeal.main_v0) = v0 c
          ∧ r.2.mem ((c.tc : Thread Cert.L1InDxIdeal.nD Cert.L1InDxIdeal.τ).loc Cert.L1InDxIdeal.main_arg0) = m ((c.tc : Thread Cert.L1InDxIdeal.nD Cert.L1InDxIdeal.τ).loc Cert.L1InDxIdeal.main_arg0)
          ∧ r.2.mem ((c.tc : Thread Cert.L1InDxIdeal.nD Cert.L1InDxIdeal.τ).loc Cert.L1InDxIdeal.main_arg1) = m ((c.tc : Thread Cert.L1InDxIdeal.nD Cert.L1InDxIdeal.τ).loc Cert.L1InDxIdeal.main_arg1))
      ∧ θ_run (Cert.L1InDxRefIdeal.defs (F := Ideal)) (onTc (τ := Cert.L1InDxRefIdeal.τ) (Cert.L1InDxRefIdeal.main (F := Ideal))) ⟨m', fun _ => 0, g'⟩ (fun r => ∀ c : Dev Cert.L1InDxRefIdeal.nD,
          r.2.mem ((c.tc : Thread Cert.L1InDxRefIdeal.nD Cert.L1InDxRefIdeal.τ).loc Cert.L1InDxRefIdeal.main_v4) = v0 c
          ∧ r.2.mem ((c.tc : Thread Cert.L1InDxRefIdeal.nD Cert.L1InDxRefIdeal.τ).loc Cert.L1InDxRefIdeal.main_arg0) = m' ((c.tc : Thread Cert.L1InDxRefIdeal.nD Cert.L1InDxRefIdeal.τ).loc Cert.L1InDxRefIdeal.main_arg0)
          ∧ r.2.mem ((c.tc : Thread Cert.L1InDxRefIdeal.nD Cert.L1InDxRefIdeal.τ).loc Cert.L1InDxRefIdeal.main_arg1) = m' ((c.tc : Thread Cert.L1InDxRefIdeal.nD Cert.L1InDxRefIdeal.τ).loc Cert.L1InDxRefIdeal.main_arg1))

def preserves_L0OutDw_L0OutDwIdeal : Prop :=
  True

def algebraic_L0OutDwIdeal_L0OutDwRefIdeal [hL0OutDwIdeal : Cert.L0OutDwIdeal.Facts] [hL0OutDwRefIdeal : Cert.L0OutDwRefIdeal.Facts] : Prop :=
  ∀ (m : (ℓ : Loc Cert.L0OutDwIdeal.nD Cert.L0OutDwIdeal.τ Cert.L0OutDwIdeal.sig) → Buf (Elt Ideal) ℓ) (g : Dev Cert.L0OutDwIdeal.nD → PrngReg)
    (m' : (ℓ : Loc Cert.L0OutDwRefIdeal.nD Cert.L0OutDwRefIdeal.τ Cert.L0OutDwRefIdeal.sig) → Buf (Elt Ideal) ℓ) (g' : Dev Cert.L0OutDwRefIdeal.nD → PrngReg), Pre_L0OutDwIdeal m →
    (∀ c : Dev Cert.L0OutDwIdeal.nD,
      m' ((c.tc : Thread Cert.L0OutDwRefIdeal.nD Cert.L0OutDwRefIdeal.τ).loc Cert.L0OutDwRefIdeal.main_arg0) = m ((c.tc : Thread Cert.L0OutDwIdeal.nD Cert.L0OutDwIdeal.τ).loc Cert.L0OutDwIdeal.main_arg0)
      ∧ m' ((c.tc : Thread Cert.L0OutDwRefIdeal.nD Cert.L0OutDwRefIdeal.τ).loc Cert.L0OutDwRefIdeal.main_arg1) = m ((c.tc : Thread Cert.L0OutDwIdeal.nD Cert.L0OutDwIdeal.τ).loc Cert.L0OutDwIdeal.main_arg1)) →
    ∃ (v0 : (c : Dev Cert.L0OutDwIdeal.nD) → Buf (Elt Ideal) ((c.tc : Thread Cert.L0OutDwIdeal.nD Cert.L0OutDwIdeal.τ).loc Cert.L0OutDwIdeal.main_v0)),
      θ_run (Cert.L0OutDwIdeal.defs (F := Ideal)) (onTc (τ := Cert.L0OutDwIdeal.τ) (Cert.L0OutDwIdeal.main (F := Ideal))) ⟨m, fun _ => 0, g⟩ (fun r => ∀ c : Dev Cert.L0OutDwIdeal.nD,
          r.2.mem ((c.tc : Thread Cert.L0OutDwIdeal.nD Cert.L0OutDwIdeal.τ).loc Cert.L0OutDwIdeal.main_v0) = v0 c
          ∧ r.2.mem ((c.tc : Thread Cert.L0OutDwIdeal.nD Cert.L0OutDwIdeal.τ).loc Cert.L0OutDwIdeal.main_arg0) = m ((c.tc : Thread Cert.L0OutDwIdeal.nD Cert.L0OutDwIdeal.τ).loc Cert.L0OutDwIdeal.main_arg0)
          ∧ r.2.mem ((c.tc : Thread Cert.L0OutDwIdeal.nD Cert.L0OutDwIdeal.τ).loc Cert.L0OutDwIdeal.main_arg1) = m ((c.tc : Thread Cert.L0OutDwIdeal.nD Cert.L0OutDwIdeal.τ).loc Cert.L0OutDwIdeal.main_arg1))
      ∧ θ_run (Cert.L0OutDwRefIdeal.defs (F := Ideal)) (onTc (τ := Cert.L0OutDwRefIdeal.τ) (Cert.L0OutDwRefIdeal.main (F := Ideal))) ⟨m', fun _ => 0, g'⟩ (fun r => ∀ c : Dev Cert.L0OutDwRefIdeal.nD,
          r.2.mem ((c.tc : Thread Cert.L0OutDwRefIdeal.nD Cert.L0OutDwRefIdeal.τ).loc Cert.L0OutDwRefIdeal.main_v5) = v0 c
          ∧ r.2.mem ((c.tc : Thread Cert.L0OutDwRefIdeal.nD Cert.L0OutDwRefIdeal.τ).loc Cert.L0OutDwRefIdeal.main_arg0) = m' ((c.tc : Thread Cert.L0OutDwRefIdeal.nD Cert.L0OutDwRefIdeal.τ).loc Cert.L0OutDwRefIdeal.main_arg0)
          ∧ r.2.mem ((c.tc : Thread Cert.L0OutDwRefIdeal.nD Cert.L0OutDwRefIdeal.τ).loc Cert.L0OutDwRefIdeal.main_arg1) = m' ((c.tc : Thread Cert.L0OutDwRefIdeal.nD Cert.L0OutDwRefIdeal.τ).loc Cert.L0OutDwRefIdeal.main_arg1))

def preserves_L1OutDw_L1OutDwIdeal : Prop :=
  True

def algebraic_L1OutDwIdeal_L1OutDwRefIdeal [hL1OutDwIdeal : Cert.L1OutDwIdeal.Facts] [hL1OutDwRefIdeal : Cert.L1OutDwRefIdeal.Facts] : Prop :=
  ∀ (m : (ℓ : Loc Cert.L1OutDwIdeal.nD Cert.L1OutDwIdeal.τ Cert.L1OutDwIdeal.sig) → Buf (Elt Ideal) ℓ) (g : Dev Cert.L1OutDwIdeal.nD → PrngReg)
    (m' : (ℓ : Loc Cert.L1OutDwRefIdeal.nD Cert.L1OutDwRefIdeal.τ Cert.L1OutDwRefIdeal.sig) → Buf (Elt Ideal) ℓ) (g' : Dev Cert.L1OutDwRefIdeal.nD → PrngReg), Pre_L1OutDwIdeal m →
    (∀ c : Dev Cert.L1OutDwIdeal.nD,
      m' ((c.tc : Thread Cert.L1OutDwRefIdeal.nD Cert.L1OutDwRefIdeal.τ).loc Cert.L1OutDwRefIdeal.main_arg0) = m ((c.tc : Thread Cert.L1OutDwIdeal.nD Cert.L1OutDwIdeal.τ).loc Cert.L1OutDwIdeal.main_arg0)
      ∧ m' ((c.tc : Thread Cert.L1OutDwRefIdeal.nD Cert.L1OutDwRefIdeal.τ).loc Cert.L1OutDwRefIdeal.main_arg1) = m ((c.tc : Thread Cert.L1OutDwIdeal.nD Cert.L1OutDwIdeal.τ).loc Cert.L1OutDwIdeal.main_arg1)) →
    ∃ (v0 : (c : Dev Cert.L1OutDwIdeal.nD) → Buf (Elt Ideal) ((c.tc : Thread Cert.L1OutDwIdeal.nD Cert.L1OutDwIdeal.τ).loc Cert.L1OutDwIdeal.main_v0)),
      θ_run (Cert.L1OutDwIdeal.defs (F := Ideal)) (onTc (τ := Cert.L1OutDwIdeal.τ) (Cert.L1OutDwIdeal.main (F := Ideal))) ⟨m, fun _ => 0, g⟩ (fun r => ∀ c : Dev Cert.L1OutDwIdeal.nD,
          r.2.mem ((c.tc : Thread Cert.L1OutDwIdeal.nD Cert.L1OutDwIdeal.τ).loc Cert.L1OutDwIdeal.main_v0) = v0 c
          ∧ r.2.mem ((c.tc : Thread Cert.L1OutDwIdeal.nD Cert.L1OutDwIdeal.τ).loc Cert.L1OutDwIdeal.main_arg0) = m ((c.tc : Thread Cert.L1OutDwIdeal.nD Cert.L1OutDwIdeal.τ).loc Cert.L1OutDwIdeal.main_arg0)
          ∧ r.2.mem ((c.tc : Thread Cert.L1OutDwIdeal.nD Cert.L1OutDwIdeal.τ).loc Cert.L1OutDwIdeal.main_arg1) = m ((c.tc : Thread Cert.L1OutDwIdeal.nD Cert.L1OutDwIdeal.τ).loc Cert.L1OutDwIdeal.main_arg1))
      ∧ θ_run (Cert.L1OutDwRefIdeal.defs (F := Ideal)) (onTc (τ := Cert.L1OutDwRefIdeal.τ) (Cert.L1OutDwRefIdeal.main (F := Ideal))) ⟨m', fun _ => 0, g'⟩ (fun r => ∀ c : Dev Cert.L1OutDwRefIdeal.nD,
          r.2.mem ((c.tc : Thread Cert.L1OutDwRefIdeal.nD Cert.L1OutDwRefIdeal.τ).loc Cert.L1OutDwRefIdeal.main_v5) = v0 c
          ∧ r.2.mem ((c.tc : Thread Cert.L1OutDwRefIdeal.nD Cert.L1OutDwRefIdeal.τ).loc Cert.L1OutDwRefIdeal.main_arg0) = m' ((c.tc : Thread Cert.L1OutDwRefIdeal.nD Cert.L1OutDwRefIdeal.τ).loc Cert.L1OutDwRefIdeal.main_arg0)
          ∧ r.2.mem ((c.tc : Thread Cert.L1OutDwRefIdeal.nD Cert.L1OutDwRefIdeal.τ).loc Cert.L1OutDwRefIdeal.main_arg1) = m' ((c.tc : Thread Cert.L1OutDwRefIdeal.nD Cert.L1OutDwRefIdeal.τ).loc Cert.L1OutDwRefIdeal.main_arg1))

def preserves_L0In_L0InIdeal : Prop :=
  True

def algebraic_L0InIdeal_L0InRefIdeal [hL0InIdeal : Cert.L0InIdeal.Facts] [hL0InRefIdeal : Cert.L0InRefIdeal.Facts] : Prop :=
  ∀ (m : (ℓ : Loc Cert.L0InIdeal.nD Cert.L0InIdeal.τ Cert.L0InIdeal.sig) → Buf (Elt Ideal) ℓ) (g : Dev Cert.L0InIdeal.nD → PrngReg)
    (m' : (ℓ : Loc Cert.L0InRefIdeal.nD Cert.L0InRefIdeal.τ Cert.L0InRefIdeal.sig) → Buf (Elt Ideal) ℓ) (g' : Dev Cert.L0InRefIdeal.nD → PrngReg), Pre_L0InIdeal m →
    (∀ c : Dev Cert.L0InIdeal.nD,
      m' ((c.tc : Thread Cert.L0InRefIdeal.nD Cert.L0InRefIdeal.τ).loc Cert.L0InRefIdeal.main_arg0) = m ((c.tc : Thread Cert.L0InIdeal.nD Cert.L0InIdeal.τ).loc Cert.L0InIdeal.main_arg0)
      ∧ m' ((c.tc : Thread Cert.L0InRefIdeal.nD Cert.L0InRefIdeal.τ).loc Cert.L0InRefIdeal.main_arg1) = m ((c.tc : Thread Cert.L0InIdeal.nD Cert.L0InIdeal.τ).loc Cert.L0InIdeal.main_arg1)) →
    ∃ (v0 : (c : Dev Cert.L0InIdeal.nD) → Buf (Elt Ideal) ((c.tc : Thread Cert.L0InIdeal.nD Cert.L0InIdeal.τ).loc Cert.L0InIdeal.main_v0_0)) (v1 : (c : Dev Cert.L0InIdeal.nD) → Buf (Elt Ideal) ((c.tc : Thread Cert.L0InIdeal.nD Cert.L0InIdeal.τ).loc Cert.L0InIdeal.main_v0_1)) (v2 : (c : Dev Cert.L0InIdeal.nD) → Buf (Elt Ideal) ((c.tc : Thread Cert.L0InIdeal.nD Cert.L0InIdeal.τ).loc Cert.L0InIdeal.main_v0_2)),
      θ_run (Cert.L0InIdeal.defs (F := Ideal)) (onTc (τ := Cert.L0InIdeal.τ) (Cert.L0InIdeal.main (F := Ideal))) ⟨m, fun _ => 0, g⟩ (fun r => ∀ c : Dev Cert.L0InIdeal.nD,
          r.2.mem ((c.tc : Thread Cert.L0InIdeal.nD Cert.L0InIdeal.τ).loc Cert.L0InIdeal.main_v0_0) = v0 c
          ∧ r.2.mem ((c.tc : Thread Cert.L0InIdeal.nD Cert.L0InIdeal.τ).loc Cert.L0InIdeal.main_v0_1) = v1 c
          ∧ r.2.mem ((c.tc : Thread Cert.L0InIdeal.nD Cert.L0InIdeal.τ).loc Cert.L0InIdeal.main_v0_2) = v2 c
          ∧ r.2.mem ((c.tc : Thread Cert.L0InIdeal.nD Cert.L0InIdeal.τ).loc Cert.L0InIdeal.main_arg0) = m ((c.tc : Thread Cert.L0InIdeal.nD Cert.L0InIdeal.τ).loc Cert.L0InIdeal.main_arg0)
          ∧ r.2.mem ((c.tc : Thread Cert.L0InIdeal.nD Cert.L0InIdeal.τ).loc Cert.L0InIdeal.main_arg1) = m ((c.tc : Thread Cert.L0InIdeal.nD Cert.L0InIdeal.τ).loc Cert.L0InIdeal.main_arg1))
      ∧ θ_run (Cert.L0InRefIdeal.defs (F := Ideal)) (onTc (τ := Cert.L0InRefIdeal.τ) (Cert.L0InRefIdeal.main (F := Ideal))) ⟨m', fun _ => 0, g'⟩ (fun r => ∀ c : Dev Cert.L0InRefIdeal.nD,
          r.2.mem ((c.tc : Thread Cert.L0InRefIdeal.nD Cert.L0InRefIdeal.τ).loc Cert.L0InRefIdeal.main_v3) = v0 c
          ∧ r.2.mem ((c.tc : Thread Cert.L0InRefIdeal.nD Cert.L0InRefIdeal.τ).loc Cert.L0InRefIdeal.main_v4) = v1 c
          ∧ r.2.mem ((c.tc : Thread Cert.L0InRefIdeal.nD Cert.L0InRefIdeal.τ).loc Cert.L0InRefIdeal.main_v7) = v2 c
          ∧ r.2.mem ((c.tc : Thread Cert.L0InRefIdeal.nD Cert.L0InRefIdeal.τ).loc Cert.L0InRefIdeal.main_arg0) = m' ((c.tc : Thread Cert.L0InRefIdeal.nD Cert.L0InRefIdeal.τ).loc Cert.L0InRefIdeal.main_arg0)
          ∧ r.2.mem ((c.tc : Thread Cert.L0InRefIdeal.nD Cert.L0InRefIdeal.τ).loc Cert.L0InRefIdeal.main_arg1) = m' ((c.tc : Thread Cert.L0InRefIdeal.nD Cert.L0InRefIdeal.τ).loc Cert.L0InRefIdeal.main_arg1))

def preserves_L1In_L1InIdeal : Prop :=
  True

def algebraic_L1InIdeal_L1InRefIdeal [hL1InIdeal : Cert.L1InIdeal.Facts] [hL1InRefIdeal : Cert.L1InRefIdeal.Facts] : Prop :=
  ∀ (m : (ℓ : Loc Cert.L1InIdeal.nD Cert.L1InIdeal.τ Cert.L1InIdeal.sig) → Buf (Elt Ideal) ℓ) (g : Dev Cert.L1InIdeal.nD → PrngReg)
    (m' : (ℓ : Loc Cert.L1InRefIdeal.nD Cert.L1InRefIdeal.τ Cert.L1InRefIdeal.sig) → Buf (Elt Ideal) ℓ) (g' : Dev Cert.L1InRefIdeal.nD → PrngReg), Pre_L1InIdeal m →
    (∀ c : Dev Cert.L1InIdeal.nD,
      m' ((c.tc : Thread Cert.L1InRefIdeal.nD Cert.L1InRefIdeal.τ).loc Cert.L1InRefIdeal.main_arg0) = m ((c.tc : Thread Cert.L1InIdeal.nD Cert.L1InIdeal.τ).loc Cert.L1InIdeal.main_arg0)
      ∧ m' ((c.tc : Thread Cert.L1InRefIdeal.nD Cert.L1InRefIdeal.τ).loc Cert.L1InRefIdeal.main_arg1) = m ((c.tc : Thread Cert.L1InIdeal.nD Cert.L1InIdeal.τ).loc Cert.L1InIdeal.main_arg1)) →
    ∃ (v0 : (c : Dev Cert.L1InIdeal.nD) → Buf (Elt Ideal) ((c.tc : Thread Cert.L1InIdeal.nD Cert.L1InIdeal.τ).loc Cert.L1InIdeal.main_v0_0)) (v1 : (c : Dev Cert.L1InIdeal.nD) → Buf (Elt Ideal) ((c.tc : Thread Cert.L1InIdeal.nD Cert.L1InIdeal.τ).loc Cert.L1InIdeal.main_v0_1)) (v2 : (c : Dev Cert.L1InIdeal.nD) → Buf (Elt Ideal) ((c.tc : Thread Cert.L1InIdeal.nD Cert.L1InIdeal.τ).loc Cert.L1InIdeal.main_v0_2)),
      θ_run (Cert.L1InIdeal.defs (F := Ideal)) (onTc (τ := Cert.L1InIdeal.τ) (Cert.L1InIdeal.main (F := Ideal))) ⟨m, fun _ => 0, g⟩ (fun r => ∀ c : Dev Cert.L1InIdeal.nD,
          r.2.mem ((c.tc : Thread Cert.L1InIdeal.nD Cert.L1InIdeal.τ).loc Cert.L1InIdeal.main_v0_0) = v0 c
          ∧ r.2.mem ((c.tc : Thread Cert.L1InIdeal.nD Cert.L1InIdeal.τ).loc Cert.L1InIdeal.main_v0_1) = v1 c
          ∧ r.2.mem ((c.tc : Thread Cert.L1InIdeal.nD Cert.L1InIdeal.τ).loc Cert.L1InIdeal.main_v0_2) = v2 c
          ∧ r.2.mem ((c.tc : Thread Cert.L1InIdeal.nD Cert.L1InIdeal.τ).loc Cert.L1InIdeal.main_arg0) = m ((c.tc : Thread Cert.L1InIdeal.nD Cert.L1InIdeal.τ).loc Cert.L1InIdeal.main_arg0)
          ∧ r.2.mem ((c.tc : Thread Cert.L1InIdeal.nD Cert.L1InIdeal.τ).loc Cert.L1InIdeal.main_arg1) = m ((c.tc : Thread Cert.L1InIdeal.nD Cert.L1InIdeal.τ).loc Cert.L1InIdeal.main_arg1))
      ∧ θ_run (Cert.L1InRefIdeal.defs (F := Ideal)) (onTc (τ := Cert.L1InRefIdeal.τ) (Cert.L1InRefIdeal.main (F := Ideal))) ⟨m', fun _ => 0, g'⟩ (fun r => ∀ c : Dev Cert.L1InRefIdeal.nD,
          r.2.mem ((c.tc : Thread Cert.L1InRefIdeal.nD Cert.L1InRefIdeal.τ).loc Cert.L1InRefIdeal.main_v3) = v0 c
          ∧ r.2.mem ((c.tc : Thread Cert.L1InRefIdeal.nD Cert.L1InRefIdeal.τ).loc Cert.L1InRefIdeal.main_v4) = v1 c
          ∧ r.2.mem ((c.tc : Thread Cert.L1InRefIdeal.nD Cert.L1InRefIdeal.τ).loc Cert.L1InRefIdeal.main_v7) = v2 c
          ∧ r.2.mem ((c.tc : Thread Cert.L1InRefIdeal.nD Cert.L1InRefIdeal.τ).loc Cert.L1InRefIdeal.main_arg0) = m' ((c.tc : Thread Cert.L1InRefIdeal.nD Cert.L1InRefIdeal.τ).loc Cert.L1InRefIdeal.main_arg0)
          ∧ r.2.mem ((c.tc : Thread Cert.L1InRefIdeal.nD Cert.L1InRefIdeal.τ).loc Cert.L1InRefIdeal.main_arg1) = m' ((c.tc : Thread Cert.L1InRefIdeal.nD Cert.L1InRefIdeal.τ).loc Cert.L1InRefIdeal.main_arg1))

def preserves_L1RetOutDw_L1RetOutDwIdeal : Prop :=
  True

def algebraic_L1RetOutDwIdeal_L1RetOutDwRefIdeal [hL1RetOutDwIdeal : Cert.L1RetOutDwIdeal.Facts] [hL1RetOutDwRefIdeal : Cert.L1RetOutDwRefIdeal.Facts] : Prop :=
  ∀ (m : (ℓ : Loc Cert.L1RetOutDwIdeal.nD Cert.L1RetOutDwIdeal.τ Cert.L1RetOutDwIdeal.sig) → Buf (Elt Ideal) ℓ) (g : Dev Cert.L1RetOutDwIdeal.nD → PrngReg)
    (m' : (ℓ : Loc Cert.L1RetOutDwRefIdeal.nD Cert.L1RetOutDwRefIdeal.τ Cert.L1RetOutDwRefIdeal.sig) → Buf (Elt Ideal) ℓ) (g' : Dev Cert.L1RetOutDwRefIdeal.nD → PrngReg), Pre_L1RetOutDwIdeal m →
    (∀ c : Dev Cert.L1RetOutDwIdeal.nD,
      m' ((c.tc : Thread Cert.L1RetOutDwRefIdeal.nD Cert.L1RetOutDwRefIdeal.τ).loc Cert.L1RetOutDwRefIdeal.main_arg0) = m ((c.tc : Thread Cert.L1RetOutDwIdeal.nD Cert.L1RetOutDwIdeal.τ).loc Cert.L1RetOutDwIdeal.main_arg0)
      ∧ m' ((c.tc : Thread Cert.L1RetOutDwRefIdeal.nD Cert.L1RetOutDwRefIdeal.τ).loc Cert.L1RetOutDwRefIdeal.main_arg1) = m ((c.tc : Thread Cert.L1RetOutDwIdeal.nD Cert.L1RetOutDwIdeal.τ).loc Cert.L1RetOutDwIdeal.main_arg1)) →
    ∃ (v0 : (c : Dev Cert.L1RetOutDwIdeal.nD) → Buf (Elt Ideal) ((c.tc : Thread Cert.L1RetOutDwIdeal.nD Cert.L1RetOutDwIdeal.τ).loc Cert.L1RetOutDwIdeal.main_v0)),
      θ_run (Cert.L1RetOutDwIdeal.defs (F := Ideal)) (onTc (τ := Cert.L1RetOutDwIdeal.τ) (Cert.L1RetOutDwIdeal.main (F := Ideal))) ⟨m, fun _ => 0, g⟩ (fun r => ∀ c : Dev Cert.L1RetOutDwIdeal.nD,
          r.2.mem ((c.tc : Thread Cert.L1RetOutDwIdeal.nD Cert.L1RetOutDwIdeal.τ).loc Cert.L1RetOutDwIdeal.main_v0) = v0 c
          ∧ r.2.mem ((c.tc : Thread Cert.L1RetOutDwIdeal.nD Cert.L1RetOutDwIdeal.τ).loc Cert.L1RetOutDwIdeal.main_arg0) = m ((c.tc : Thread Cert.L1RetOutDwIdeal.nD Cert.L1RetOutDwIdeal.τ).loc Cert.L1RetOutDwIdeal.main_arg0)
          ∧ r.2.mem ((c.tc : Thread Cert.L1RetOutDwIdeal.nD Cert.L1RetOutDwIdeal.τ).loc Cert.L1RetOutDwIdeal.main_arg1) = m ((c.tc : Thread Cert.L1RetOutDwIdeal.nD Cert.L1RetOutDwIdeal.τ).loc Cert.L1RetOutDwIdeal.main_arg1))
      ∧ θ_run (Cert.L1RetOutDwRefIdeal.defs (F := Ideal)) (onTc (τ := Cert.L1RetOutDwRefIdeal.τ) (Cert.L1RetOutDwRefIdeal.main (F := Ideal))) ⟨m', fun _ => 0, g'⟩ (fun r => ∀ c : Dev Cert.L1RetOutDwRefIdeal.nD,
          r.2.mem ((c.tc : Thread Cert.L1RetOutDwRefIdeal.nD Cert.L1RetOutDwRefIdeal.τ).loc Cert.L1RetOutDwRefIdeal.main_v5) = v0 c
          ∧ r.2.mem ((c.tc : Thread Cert.L1RetOutDwRefIdeal.nD Cert.L1RetOutDwRefIdeal.τ).loc Cert.L1RetOutDwRefIdeal.main_arg0) = m' ((c.tc : Thread Cert.L1RetOutDwRefIdeal.nD Cert.L1RetOutDwRefIdeal.τ).loc Cert.L1RetOutDwRefIdeal.main_arg0)
          ∧ r.2.mem ((c.tc : Thread Cert.L1RetOutDwRefIdeal.nD Cert.L1RetOutDwRefIdeal.τ).loc Cert.L1RetOutDwRefIdeal.main_arg1) = m' ((c.tc : Thread Cert.L1RetOutDwRefIdeal.nD Cert.L1RetOutDwRefIdeal.τ).loc Cert.L1RetOutDwRefIdeal.main_arg1))

def preserves_L1RetOutDx_L1RetOutDxIdeal : Prop :=
  True

def algebraic_L1RetOutDxIdeal_L1RetOutDxRefIdeal [hL1RetOutDxIdeal : Cert.L1RetOutDxIdeal.Facts] [hL1RetOutDxRefIdeal : Cert.L1RetOutDxRefIdeal.Facts] : Prop :=
  ∀ (m : (ℓ : Loc Cert.L1RetOutDxIdeal.nD Cert.L1RetOutDxIdeal.τ Cert.L1RetOutDxIdeal.sig) → Buf (Elt Ideal) ℓ) (g : Dev Cert.L1RetOutDxIdeal.nD → PrngReg)
    (m' : (ℓ : Loc Cert.L1RetOutDxRefIdeal.nD Cert.L1RetOutDxRefIdeal.τ Cert.L1RetOutDxRefIdeal.sig) → Buf (Elt Ideal) ℓ) (g' : Dev Cert.L1RetOutDxRefIdeal.nD → PrngReg), Pre_L1RetOutDxIdeal m →
    (∀ c : Dev Cert.L1RetOutDxIdeal.nD,
      m' ((c.tc : Thread Cert.L1RetOutDxRefIdeal.nD Cert.L1RetOutDxRefIdeal.τ).loc Cert.L1RetOutDxRefIdeal.main_arg0) = m ((c.tc : Thread Cert.L1RetOutDxIdeal.nD Cert.L1RetOutDxIdeal.τ).loc Cert.L1RetOutDxIdeal.main_arg0)
      ∧ m' ((c.tc : Thread Cert.L1RetOutDxRefIdeal.nD Cert.L1RetOutDxRefIdeal.τ).loc Cert.L1RetOutDxRefIdeal.main_arg1) = m ((c.tc : Thread Cert.L1RetOutDxIdeal.nD Cert.L1RetOutDxIdeal.τ).loc Cert.L1RetOutDxIdeal.main_arg1)) →
    ∃ (v0 : (c : Dev Cert.L1RetOutDxIdeal.nD) → Buf (Elt Ideal) ((c.tc : Thread Cert.L1RetOutDxIdeal.nD Cert.L1RetOutDxIdeal.τ).loc Cert.L1RetOutDxIdeal.main_v0)),
      θ_run (Cert.L1RetOutDxIdeal.defs (F := Ideal)) (onTc (τ := Cert.L1RetOutDxIdeal.τ) (Cert.L1RetOutDxIdeal.main (F := Ideal))) ⟨m, fun _ => 0, g⟩ (fun r => ∀ c : Dev Cert.L1RetOutDxIdeal.nD,
          r.2.mem ((c.tc : Thread Cert.L1RetOutDxIdeal.nD Cert.L1RetOutDxIdeal.τ).loc Cert.L1RetOutDxIdeal.main_v0) = v0 c
          ∧ r.2.mem ((c.tc : Thread Cert.L1RetOutDxIdeal.nD Cert.L1RetOutDxIdeal.τ).loc Cert.L1RetOutDxIdeal.main_arg0) = m ((c.tc : Thread Cert.L1RetOutDxIdeal.nD Cert.L1RetOutDxIdeal.τ).loc Cert.L1RetOutDxIdeal.main_arg0)
          ∧ r.2.mem ((c.tc : Thread Cert.L1RetOutDxIdeal.nD Cert.L1RetOutDxIdeal.τ).loc Cert.L1RetOutDxIdeal.main_arg1) = m ((c.tc : Thread Cert.L1RetOutDxIdeal.nD Cert.L1RetOutDxIdeal.τ).loc Cert.L1RetOutDxIdeal.main_arg1))
      ∧ θ_run (Cert.L1RetOutDxRefIdeal.defs (F := Ideal)) (onTc (τ := Cert.L1RetOutDxRefIdeal.τ) (Cert.L1RetOutDxRefIdeal.main (F := Ideal))) ⟨m', fun _ => 0, g'⟩ (fun r => ∀ c : Dev Cert.L1RetOutDxRefIdeal.nD,
          r.2.mem ((c.tc : Thread Cert.L1RetOutDxRefIdeal.nD Cert.L1RetOutDxRefIdeal.τ).loc Cert.L1RetOutDxRefIdeal.main_v4) = v0 c
          ∧ r.2.mem ((c.tc : Thread Cert.L1RetOutDxRefIdeal.nD Cert.L1RetOutDxRefIdeal.τ).loc Cert.L1RetOutDxRefIdeal.main_arg0) = m' ((c.tc : Thread Cert.L1RetOutDxRefIdeal.nD Cert.L1RetOutDxRefIdeal.τ).loc Cert.L1RetOutDxRefIdeal.main_arg0)
          ∧ r.2.mem ((c.tc : Thread Cert.L1RetOutDxRefIdeal.nD Cert.L1RetOutDxRefIdeal.τ).loc Cert.L1RetOutDxRefIdeal.main_arg1) = m' ((c.tc : Thread Cert.L1RetOutDxRefIdeal.nD Cert.L1RetOutDxRefIdeal.τ).loc Cert.L1RetOutDxRefIdeal.main_arg1))

def preserves_L0Qkv_L0QkvIdeal : Prop :=
  True

def algebraic_L0QkvIdeal_L0QkvRefIdeal [hL0QkvIdeal : Cert.L0QkvIdeal.Facts] [hL0QkvRefIdeal : Cert.L0QkvRefIdeal.Facts] : Prop :=
  ∀ (m : (ℓ : Loc Cert.L0QkvIdeal.nD Cert.L0QkvIdeal.τ Cert.L0QkvIdeal.sig) → Buf (Elt Ideal) ℓ) (g : Dev Cert.L0QkvIdeal.nD → PrngReg)
    (m' : (ℓ : Loc Cert.L0QkvRefIdeal.nD Cert.L0QkvRefIdeal.τ Cert.L0QkvRefIdeal.sig) → Buf (Elt Ideal) ℓ) (g' : Dev Cert.L0QkvRefIdeal.nD → PrngReg), Pre_L0QkvIdeal m →
    (∀ c : Dev Cert.L0QkvIdeal.nD,
      m' ((c.tc : Thread Cert.L0QkvRefIdeal.nD Cert.L0QkvRefIdeal.τ).loc Cert.L0QkvRefIdeal.main_arg0) = m ((c.tc : Thread Cert.L0QkvIdeal.nD Cert.L0QkvIdeal.τ).loc Cert.L0QkvIdeal.main_arg0)
      ∧ m' ((c.tc : Thread Cert.L0QkvRefIdeal.nD Cert.L0QkvRefIdeal.τ).loc Cert.L0QkvRefIdeal.main_arg1) = m ((c.tc : Thread Cert.L0QkvIdeal.nD Cert.L0QkvIdeal.τ).loc Cert.L0QkvIdeal.main_arg1)) →
    ∃ (v0 : (c : Dev Cert.L0QkvIdeal.nD) → Buf (Elt Ideal) ((c.tc : Thread Cert.L0QkvIdeal.nD Cert.L0QkvIdeal.τ).loc Cert.L0QkvIdeal.main_v0)),
      θ_run (Cert.L0QkvIdeal.defs (F := Ideal)) (onTc (τ := Cert.L0QkvIdeal.τ) (Cert.L0QkvIdeal.main (F := Ideal))) ⟨m, fun _ => 0, g⟩ (fun r => ∀ c : Dev Cert.L0QkvIdeal.nD,
          r.2.mem ((c.tc : Thread Cert.L0QkvIdeal.nD Cert.L0QkvIdeal.τ).loc Cert.L0QkvIdeal.main_v0) = v0 c
          ∧ r.2.mem ((c.tc : Thread Cert.L0QkvIdeal.nD Cert.L0QkvIdeal.τ).loc Cert.L0QkvIdeal.main_arg0) = m ((c.tc : Thread Cert.L0QkvIdeal.nD Cert.L0QkvIdeal.τ).loc Cert.L0QkvIdeal.main_arg0)
          ∧ r.2.mem ((c.tc : Thread Cert.L0QkvIdeal.nD Cert.L0QkvIdeal.τ).loc Cert.L0QkvIdeal.main_arg1) = m ((c.tc : Thread Cert.L0QkvIdeal.nD Cert.L0QkvIdeal.τ).loc Cert.L0QkvIdeal.main_arg1))
      ∧ θ_run (Cert.L0QkvRefIdeal.defs (F := Ideal)) (onTc (τ := Cert.L0QkvRefIdeal.τ) (Cert.L0QkvRefIdeal.main (F := Ideal))) ⟨m', fun _ => 0, g'⟩ (fun r => ∀ c : Dev Cert.L0QkvRefIdeal.nD,
          r.2.mem ((c.tc : Thread Cert.L0QkvRefIdeal.nD Cert.L0QkvRefIdeal.τ).loc Cert.L0QkvRefIdeal.main_v2) = v0 c
          ∧ r.2.mem ((c.tc : Thread Cert.L0QkvRefIdeal.nD Cert.L0QkvRefIdeal.τ).loc Cert.L0QkvRefIdeal.main_arg0) = m' ((c.tc : Thread Cert.L0QkvRefIdeal.nD Cert.L0QkvRefIdeal.τ).loc Cert.L0QkvRefIdeal.main_arg0)
          ∧ r.2.mem ((c.tc : Thread Cert.L0QkvRefIdeal.nD Cert.L0QkvRefIdeal.τ).loc Cert.L0QkvRefIdeal.main_arg1) = m' ((c.tc : Thread Cert.L0QkvRefIdeal.nD Cert.L0QkvRefIdeal.τ).loc Cert.L0QkvRefIdeal.main_arg1))

def preserves_L0QkvDw_L0QkvDwIdeal : Prop :=
  True

def algebraic_L0QkvDwIdeal_L0QkvDwRefIdeal [hL0QkvDwIdeal : Cert.L0QkvDwIdeal.Facts] [hL0QkvDwRefIdeal : Cert.L0QkvDwRefIdeal.Facts] : Prop :=
  ∀ (m : (ℓ : Loc Cert.L0QkvDwIdeal.nD Cert.L0QkvDwIdeal.τ Cert.L0QkvDwIdeal.sig) → Buf (Elt Ideal) ℓ) (g : Dev Cert.L0QkvDwIdeal.nD → PrngReg)
    (m' : (ℓ : Loc Cert.L0QkvDwRefIdeal.nD Cert.L0QkvDwRefIdeal.τ Cert.L0QkvDwRefIdeal.sig) → Buf (Elt Ideal) ℓ) (g' : Dev Cert.L0QkvDwRefIdeal.nD → PrngReg), Pre_L0QkvDwIdeal m →
    (∀ c : Dev Cert.L0QkvDwIdeal.nD,
      m' ((c.tc : Thread Cert.L0QkvDwRefIdeal.nD Cert.L0QkvDwRefIdeal.τ).loc Cert.L0QkvDwRefIdeal.main_arg0) = m ((c.tc : Thread Cert.L0QkvDwIdeal.nD Cert.L0QkvDwIdeal.τ).loc Cert.L0QkvDwIdeal.main_arg0)
      ∧ m' ((c.tc : Thread Cert.L0QkvDwRefIdeal.nD Cert.L0QkvDwRefIdeal.τ).loc Cert.L0QkvDwRefIdeal.main_arg1) = m ((c.tc : Thread Cert.L0QkvDwIdeal.nD Cert.L0QkvDwIdeal.τ).loc Cert.L0QkvDwIdeal.main_arg1)) →
    ∃ (v0 : (c : Dev Cert.L0QkvDwIdeal.nD) → Buf (Elt Ideal) ((c.tc : Thread Cert.L0QkvDwIdeal.nD Cert.L0QkvDwIdeal.τ).loc Cert.L0QkvDwIdeal.main_v0)),
      θ_run (Cert.L0QkvDwIdeal.defs (F := Ideal)) (onTc (τ := Cert.L0QkvDwIdeal.τ) (Cert.L0QkvDwIdeal.main (F := Ideal))) ⟨m, fun _ => 0, g⟩ (fun r => ∀ c : Dev Cert.L0QkvDwIdeal.nD,
          r.2.mem ((c.tc : Thread Cert.L0QkvDwIdeal.nD Cert.L0QkvDwIdeal.τ).loc Cert.L0QkvDwIdeal.main_v0) = v0 c
          ∧ r.2.mem ((c.tc : Thread Cert.L0QkvDwIdeal.nD Cert.L0QkvDwIdeal.τ).loc Cert.L0QkvDwIdeal.main_arg0) = m ((c.tc : Thread Cert.L0QkvDwIdeal.nD Cert.L0QkvDwIdeal.τ).loc Cert.L0QkvDwIdeal.main_arg0)
          ∧ r.2.mem ((c.tc : Thread Cert.L0QkvDwIdeal.nD Cert.L0QkvDwIdeal.τ).loc Cert.L0QkvDwIdeal.main_arg1) = m ((c.tc : Thread Cert.L0QkvDwIdeal.nD Cert.L0QkvDwIdeal.τ).loc Cert.L0QkvDwIdeal.main_arg1))
      ∧ θ_run (Cert.L0QkvDwRefIdeal.defs (F := Ideal)) (onTc (τ := Cert.L0QkvDwRefIdeal.τ) (Cert.L0QkvDwRefIdeal.main (F := Ideal))) ⟨m', fun _ => 0, g'⟩ (fun r => ∀ c : Dev Cert.L0QkvDwRefIdeal.nD,
          r.2.mem ((c.tc : Thread Cert.L0QkvDwRefIdeal.nD Cert.L0QkvDwRefIdeal.τ).loc Cert.L0QkvDwRefIdeal.main_v5) = v0 c
          ∧ r.2.mem ((c.tc : Thread Cert.L0QkvDwRefIdeal.nD Cert.L0QkvDwRefIdeal.τ).loc Cert.L0QkvDwRefIdeal.main_arg0) = m' ((c.tc : Thread Cert.L0QkvDwRefIdeal.nD Cert.L0QkvDwRefIdeal.τ).loc Cert.L0QkvDwRefIdeal.main_arg0)
          ∧ r.2.mem ((c.tc : Thread Cert.L0QkvDwRefIdeal.nD Cert.L0QkvDwRefIdeal.τ).loc Cert.L0QkvDwRefIdeal.main_arg1) = m' ((c.tc : Thread Cert.L0QkvDwRefIdeal.nD Cert.L0QkvDwRefIdeal.τ).loc Cert.L0QkvDwRefIdeal.main_arg1))

def preserves_L0QkvDx_L0QkvDxIdeal : Prop :=
  True

def algebraic_L0QkvDxIdeal_L0QkvDxRefIdeal [hL0QkvDxIdeal : Cert.L0QkvDxIdeal.Facts] [hL0QkvDxRefIdeal : Cert.L0QkvDxRefIdeal.Facts] : Prop :=
  ∀ (m : (ℓ : Loc Cert.L0QkvDxIdeal.nD Cert.L0QkvDxIdeal.τ Cert.L0QkvDxIdeal.sig) → Buf (Elt Ideal) ℓ) (g : Dev Cert.L0QkvDxIdeal.nD → PrngReg)
    (m' : (ℓ : Loc Cert.L0QkvDxRefIdeal.nD Cert.L0QkvDxRefIdeal.τ Cert.L0QkvDxRefIdeal.sig) → Buf (Elt Ideal) ℓ) (g' : Dev Cert.L0QkvDxRefIdeal.nD → PrngReg), Pre_L0QkvDxIdeal m →
    (∀ c : Dev Cert.L0QkvDxIdeal.nD,
      m' ((c.tc : Thread Cert.L0QkvDxRefIdeal.nD Cert.L0QkvDxRefIdeal.τ).loc Cert.L0QkvDxRefIdeal.main_arg0) = m ((c.tc : Thread Cert.L0QkvDxIdeal.nD Cert.L0QkvDxIdeal.τ).loc Cert.L0QkvDxIdeal.main_arg0)
      ∧ m' ((c.tc : Thread Cert.L0QkvDxRefIdeal.nD Cert.L0QkvDxRefIdeal.τ).loc Cert.L0QkvDxRefIdeal.main_arg1) = m ((c.tc : Thread Cert.L0QkvDxIdeal.nD Cert.L0QkvDxIdeal.τ).loc Cert.L0QkvDxIdeal.main_arg1)) →
    ∃ (v0 : (c : Dev Cert.L0QkvDxIdeal.nD) → Buf (Elt Ideal) ((c.tc : Thread Cert.L0QkvDxIdeal.nD Cert.L0QkvDxIdeal.τ).loc Cert.L0QkvDxIdeal.main_v0)),
      θ_run (Cert.L0QkvDxIdeal.defs (F := Ideal)) (onTc (τ := Cert.L0QkvDxIdeal.τ) (Cert.L0QkvDxIdeal.main (F := Ideal))) ⟨m, fun _ => 0, g⟩ (fun r => ∀ c : Dev Cert.L0QkvDxIdeal.nD,
          r.2.mem ((c.tc : Thread Cert.L0QkvDxIdeal.nD Cert.L0QkvDxIdeal.τ).loc Cert.L0QkvDxIdeal.main_v0) = v0 c
          ∧ r.2.mem ((c.tc : Thread Cert.L0QkvDxIdeal.nD Cert.L0QkvDxIdeal.τ).loc Cert.L0QkvDxIdeal.main_arg0) = m ((c.tc : Thread Cert.L0QkvDxIdeal.nD Cert.L0QkvDxIdeal.τ).loc Cert.L0QkvDxIdeal.main_arg0)
          ∧ r.2.mem ((c.tc : Thread Cert.L0QkvDxIdeal.nD Cert.L0QkvDxIdeal.τ).loc Cert.L0QkvDxIdeal.main_arg1) = m ((c.tc : Thread Cert.L0QkvDxIdeal.nD Cert.L0QkvDxIdeal.τ).loc Cert.L0QkvDxIdeal.main_arg1))
      ∧ θ_run (Cert.L0QkvDxRefIdeal.defs (F := Ideal)) (onTc (τ := Cert.L0QkvDxRefIdeal.τ) (Cert.L0QkvDxRefIdeal.main (F := Ideal))) ⟨m', fun _ => 0, g'⟩ (fun r => ∀ c : Dev Cert.L0QkvDxRefIdeal.nD,
          r.2.mem ((c.tc : Thread Cert.L0QkvDxRefIdeal.nD Cert.L0QkvDxRefIdeal.τ).loc Cert.L0QkvDxRefIdeal.main_v4) = v0 c
          ∧ r.2.mem ((c.tc : Thread Cert.L0QkvDxRefIdeal.nD Cert.L0QkvDxRefIdeal.τ).loc Cert.L0QkvDxRefIdeal.main_arg0) = m' ((c.tc : Thread Cert.L0QkvDxRefIdeal.nD Cert.L0QkvDxRefIdeal.τ).loc Cert.L0QkvDxRefIdeal.main_arg0)
          ∧ r.2.mem ((c.tc : Thread Cert.L0QkvDxRefIdeal.nD Cert.L0QkvDxRefIdeal.τ).loc Cert.L0QkvDxRefIdeal.main_arg1) = m' ((c.tc : Thread Cert.L0QkvDxRefIdeal.nD Cert.L0QkvDxRefIdeal.τ).loc Cert.L0QkvDxRefIdeal.main_arg1))

def preserves_L0AttnOutDw_L0AttnOutDwIdeal : Prop :=
  True

def algebraic_L0AttnOutDwIdeal_L0AttnOutDwRefIdeal [hL0AttnOutDwIdeal : Cert.L0AttnOutDwIdeal.Facts] [hL0AttnOutDwRefIdeal : Cert.L0AttnOutDwRefIdeal.Facts] : Prop :=
  ∀ (m : (ℓ : Loc Cert.L0AttnOutDwIdeal.nD Cert.L0AttnOutDwIdeal.τ Cert.L0AttnOutDwIdeal.sig) → Buf (Elt Ideal) ℓ) (g : Dev Cert.L0AttnOutDwIdeal.nD → PrngReg)
    (m' : (ℓ : Loc Cert.L0AttnOutDwRefIdeal.nD Cert.L0AttnOutDwRefIdeal.τ Cert.L0AttnOutDwRefIdeal.sig) → Buf (Elt Ideal) ℓ) (g' : Dev Cert.L0AttnOutDwRefIdeal.nD → PrngReg), Pre_L0AttnOutDwIdeal m →
    (∀ c : Dev Cert.L0AttnOutDwIdeal.nD,
      m' ((c.tc : Thread Cert.L0AttnOutDwRefIdeal.nD Cert.L0AttnOutDwRefIdeal.τ).loc Cert.L0AttnOutDwRefIdeal.main_arg0) = m ((c.tc : Thread Cert.L0AttnOutDwIdeal.nD Cert.L0AttnOutDwIdeal.τ).loc Cert.L0AttnOutDwIdeal.main_arg0)
      ∧ m' ((c.tc : Thread Cert.L0AttnOutDwRefIdeal.nD Cert.L0AttnOutDwRefIdeal.τ).loc Cert.L0AttnOutDwRefIdeal.main_arg1) = m ((c.tc : Thread Cert.L0AttnOutDwIdeal.nD Cert.L0AttnOutDwIdeal.τ).loc Cert.L0AttnOutDwIdeal.main_arg1)) →
    ∃ (v0 : (c : Dev Cert.L0AttnOutDwIdeal.nD) → Buf (Elt Ideal) ((c.tc : Thread Cert.L0AttnOutDwIdeal.nD Cert.L0AttnOutDwIdeal.τ).loc Cert.L0AttnOutDwIdeal.main_v0)),
      θ_run (Cert.L0AttnOutDwIdeal.defs (F := Ideal)) (onTc (τ := Cert.L0AttnOutDwIdeal.τ) (Cert.L0AttnOutDwIdeal.main (F := Ideal))) ⟨m, fun _ => 0, g⟩ (fun r => ∀ c : Dev Cert.L0AttnOutDwIdeal.nD,
          r.2.mem ((c.tc : Thread Cert.L0AttnOutDwIdeal.nD Cert.L0AttnOutDwIdeal.τ).loc Cert.L0AttnOutDwIdeal.main_v0) = v0 c
          ∧ r.2.mem ((c.tc : Thread Cert.L0AttnOutDwIdeal.nD Cert.L0AttnOutDwIdeal.τ).loc Cert.L0AttnOutDwIdeal.main_arg0) = m ((c.tc : Thread Cert.L0AttnOutDwIdeal.nD Cert.L0AttnOutDwIdeal.τ).loc Cert.L0AttnOutDwIdeal.main_arg0)
          ∧ r.2.mem ((c.tc : Thread Cert.L0AttnOutDwIdeal.nD Cert.L0AttnOutDwIdeal.τ).loc Cert.L0AttnOutDwIdeal.main_arg1) = m ((c.tc : Thread Cert.L0AttnOutDwIdeal.nD Cert.L0AttnOutDwIdeal.τ).loc Cert.L0AttnOutDwIdeal.main_arg1))
      ∧ θ_run (Cert.L0AttnOutDwRefIdeal.defs (F := Ideal)) (onTc (τ := Cert.L0AttnOutDwRefIdeal.τ) (Cert.L0AttnOutDwRefIdeal.main (F := Ideal))) ⟨m', fun _ => 0, g'⟩ (fun r => ∀ c : Dev Cert.L0AttnOutDwRefIdeal.nD,
          r.2.mem ((c.tc : Thread Cert.L0AttnOutDwRefIdeal.nD Cert.L0AttnOutDwRefIdeal.τ).loc Cert.L0AttnOutDwRefIdeal.main_v5) = v0 c
          ∧ r.2.mem ((c.tc : Thread Cert.L0AttnOutDwRefIdeal.nD Cert.L0AttnOutDwRefIdeal.τ).loc Cert.L0AttnOutDwRefIdeal.main_arg0) = m' ((c.tc : Thread Cert.L0AttnOutDwRefIdeal.nD Cert.L0AttnOutDwRefIdeal.τ).loc Cert.L0AttnOutDwRefIdeal.main_arg0)
          ∧ r.2.mem ((c.tc : Thread Cert.L0AttnOutDwRefIdeal.nD Cert.L0AttnOutDwRefIdeal.τ).loc Cert.L0AttnOutDwRefIdeal.main_arg1) = m' ((c.tc : Thread Cert.L0AttnOutDwRefIdeal.nD Cert.L0AttnOutDwRefIdeal.τ).loc Cert.L0AttnOutDwRefIdeal.main_arg1))

def preserves_L0AttnOutDx_L0AttnOutDxIdeal : Prop :=
  True

def algebraic_L0AttnOutDxIdeal_L0AttnOutDxRefIdeal [hL0AttnOutDxIdeal : Cert.L0AttnOutDxIdeal.Facts] [hL0AttnOutDxRefIdeal : Cert.L0AttnOutDxRefIdeal.Facts] : Prop :=
  ∀ (m : (ℓ : Loc Cert.L0AttnOutDxIdeal.nD Cert.L0AttnOutDxIdeal.τ Cert.L0AttnOutDxIdeal.sig) → Buf (Elt Ideal) ℓ) (g : Dev Cert.L0AttnOutDxIdeal.nD → PrngReg)
    (m' : (ℓ : Loc Cert.L0AttnOutDxRefIdeal.nD Cert.L0AttnOutDxRefIdeal.τ Cert.L0AttnOutDxRefIdeal.sig) → Buf (Elt Ideal) ℓ) (g' : Dev Cert.L0AttnOutDxRefIdeal.nD → PrngReg), Pre_L0AttnOutDxIdeal m →
    (∀ c : Dev Cert.L0AttnOutDxIdeal.nD,
      m' ((c.tc : Thread Cert.L0AttnOutDxRefIdeal.nD Cert.L0AttnOutDxRefIdeal.τ).loc Cert.L0AttnOutDxRefIdeal.main_arg0) = m ((c.tc : Thread Cert.L0AttnOutDxIdeal.nD Cert.L0AttnOutDxIdeal.τ).loc Cert.L0AttnOutDxIdeal.main_arg0)
      ∧ m' ((c.tc : Thread Cert.L0AttnOutDxRefIdeal.nD Cert.L0AttnOutDxRefIdeal.τ).loc Cert.L0AttnOutDxRefIdeal.main_arg1) = m ((c.tc : Thread Cert.L0AttnOutDxIdeal.nD Cert.L0AttnOutDxIdeal.τ).loc Cert.L0AttnOutDxIdeal.main_arg1)) →
    ∃ (v0 : (c : Dev Cert.L0AttnOutDxIdeal.nD) → Buf (Elt Ideal) ((c.tc : Thread Cert.L0AttnOutDxIdeal.nD Cert.L0AttnOutDxIdeal.τ).loc Cert.L0AttnOutDxIdeal.main_v0)),
      θ_run (Cert.L0AttnOutDxIdeal.defs (F := Ideal)) (onTc (τ := Cert.L0AttnOutDxIdeal.τ) (Cert.L0AttnOutDxIdeal.main (F := Ideal))) ⟨m, fun _ => 0, g⟩ (fun r => ∀ c : Dev Cert.L0AttnOutDxIdeal.nD,
          r.2.mem ((c.tc : Thread Cert.L0AttnOutDxIdeal.nD Cert.L0AttnOutDxIdeal.τ).loc Cert.L0AttnOutDxIdeal.main_v0) = v0 c
          ∧ r.2.mem ((c.tc : Thread Cert.L0AttnOutDxIdeal.nD Cert.L0AttnOutDxIdeal.τ).loc Cert.L0AttnOutDxIdeal.main_arg0) = m ((c.tc : Thread Cert.L0AttnOutDxIdeal.nD Cert.L0AttnOutDxIdeal.τ).loc Cert.L0AttnOutDxIdeal.main_arg0)
          ∧ r.2.mem ((c.tc : Thread Cert.L0AttnOutDxIdeal.nD Cert.L0AttnOutDxIdeal.τ).loc Cert.L0AttnOutDxIdeal.main_arg1) = m ((c.tc : Thread Cert.L0AttnOutDxIdeal.nD Cert.L0AttnOutDxIdeal.τ).loc Cert.L0AttnOutDxIdeal.main_arg1))
      ∧ θ_run (Cert.L0AttnOutDxRefIdeal.defs (F := Ideal)) (onTc (τ := Cert.L0AttnOutDxRefIdeal.τ) (Cert.L0AttnOutDxRefIdeal.main (F := Ideal))) ⟨m', fun _ => 0, g'⟩ (fun r => ∀ c : Dev Cert.L0AttnOutDxRefIdeal.nD,
          r.2.mem ((c.tc : Thread Cert.L0AttnOutDxRefIdeal.nD Cert.L0AttnOutDxRefIdeal.τ).loc Cert.L0AttnOutDxRefIdeal.main_v5) = v0 c
          ∧ r.2.mem ((c.tc : Thread Cert.L0AttnOutDxRefIdeal.nD Cert.L0AttnOutDxRefIdeal.τ).loc Cert.L0AttnOutDxRefIdeal.main_arg0) = m' ((c.tc : Thread Cert.L0AttnOutDxRefIdeal.nD Cert.L0AttnOutDxRefIdeal.τ).loc Cert.L0AttnOutDxRefIdeal.main_arg0)
          ∧ r.2.mem ((c.tc : Thread Cert.L0AttnOutDxRefIdeal.nD Cert.L0AttnOutDxRefIdeal.τ).loc Cert.L0AttnOutDxRefIdeal.main_arg1) = m' ((c.tc : Thread Cert.L0AttnOutDxRefIdeal.nD Cert.L0AttnOutDxRefIdeal.τ).loc Cert.L0AttnOutDxRefIdeal.main_arg1))

def preserves_L0AttnOut_L0AttnOutIdeal : Prop :=
  True

def algebraic_L0AttnOutIdeal_L0AttnOutRefIdeal [hL0AttnOutIdeal : Cert.L0AttnOutIdeal.Facts] [hL0AttnOutRefIdeal : Cert.L0AttnOutRefIdeal.Facts] : Prop :=
  ∀ (m : (ℓ : Loc Cert.L0AttnOutIdeal.nD Cert.L0AttnOutIdeal.τ Cert.L0AttnOutIdeal.sig) → Buf (Elt Ideal) ℓ) (g : Dev Cert.L0AttnOutIdeal.nD → PrngReg)
    (m' : (ℓ : Loc Cert.L0AttnOutRefIdeal.nD Cert.L0AttnOutRefIdeal.τ Cert.L0AttnOutRefIdeal.sig) → Buf (Elt Ideal) ℓ) (g' : Dev Cert.L0AttnOutRefIdeal.nD → PrngReg), Pre_L0AttnOutIdeal m →
    (∀ c : Dev Cert.L0AttnOutIdeal.nD,
      m' ((c.tc : Thread Cert.L0AttnOutRefIdeal.nD Cert.L0AttnOutRefIdeal.τ).loc Cert.L0AttnOutRefIdeal.main_arg0) = m ((c.tc : Thread Cert.L0AttnOutIdeal.nD Cert.L0AttnOutIdeal.τ).loc Cert.L0AttnOutIdeal.main_arg0)
      ∧ m' ((c.tc : Thread Cert.L0AttnOutRefIdeal.nD Cert.L0AttnOutRefIdeal.τ).loc Cert.L0AttnOutRefIdeal.main_arg1) = m ((c.tc : Thread Cert.L0AttnOutIdeal.nD Cert.L0AttnOutIdeal.τ).loc Cert.L0AttnOutIdeal.main_arg1)
      ∧ m' ((c.tc : Thread Cert.L0AttnOutRefIdeal.nD Cert.L0AttnOutRefIdeal.τ).loc Cert.L0AttnOutRefIdeal.main_arg2) = m ((c.tc : Thread Cert.L0AttnOutIdeal.nD Cert.L0AttnOutIdeal.τ).loc Cert.L0AttnOutIdeal.main_arg2)
      ∧ m' ((c.tc : Thread Cert.L0AttnOutRefIdeal.nD Cert.L0AttnOutRefIdeal.τ).loc Cert.L0AttnOutRefIdeal.main_arg3) = m ((c.tc : Thread Cert.L0AttnOutIdeal.nD Cert.L0AttnOutIdeal.τ).loc Cert.L0AttnOutIdeal.main_arg3)) →
    ∃ (v0 : (c : Dev Cert.L0AttnOutIdeal.nD) → Buf (Elt Ideal) ((c.tc : Thread Cert.L0AttnOutIdeal.nD Cert.L0AttnOutIdeal.τ).loc Cert.L0AttnOutIdeal.main_v0_0)) (v1 : (c : Dev Cert.L0AttnOutIdeal.nD) → Buf (Elt Ideal) ((c.tc : Thread Cert.L0AttnOutIdeal.nD Cert.L0AttnOutIdeal.τ).loc Cert.L0AttnOutIdeal.main_v0_1)),
      θ_run (Cert.L0AttnOutIdeal.defs (F := Ideal)) (onTc (τ := Cert.L0AttnOutIdeal.τ) (Cert.L0AttnOutIdeal.main (F := Ideal))) ⟨m, fun _ => 0, g⟩ (fun r => ∀ c : Dev Cert.L0AttnOutIdeal.nD,
          r.2.mem ((c.tc : Thread Cert.L0AttnOutIdeal.nD Cert.L0AttnOutIdeal.τ).loc Cert.L0AttnOutIdeal.main_v0_0) = v0 c
          ∧ r.2.mem ((c.tc : Thread Cert.L0AttnOutIdeal.nD Cert.L0AttnOutIdeal.τ).loc Cert.L0AttnOutIdeal.main_v0_1) = v1 c
          ∧ r.2.mem ((c.tc : Thread Cert.L0AttnOutIdeal.nD Cert.L0AttnOutIdeal.τ).loc Cert.L0AttnOutIdeal.main_arg0) = m ((c.tc : Thread Cert.L0AttnOutIdeal.nD Cert.L0AttnOutIdeal.τ).loc Cert.L0AttnOutIdeal.main_arg0)
          ∧ r.2.mem ((c.tc : Thread Cert.L0AttnOutIdeal.nD Cert.L0AttnOutIdeal.τ).loc Cert.L0AttnOutIdeal.main_arg1) = m ((c.tc : Thread Cert.L0AttnOutIdeal.nD Cert.L0AttnOutIdeal.τ).loc Cert.L0AttnOutIdeal.main_arg1)
          ∧ r.2.mem ((c.tc : Thread Cert.L0AttnOutIdeal.nD Cert.L0AttnOutIdeal.τ).loc Cert.L0AttnOutIdeal.main_arg2) = m ((c.tc : Thread Cert.L0AttnOutIdeal.nD Cert.L0AttnOutIdeal.τ).loc Cert.L0AttnOutIdeal.main_arg2)
          ∧ r.2.mem ((c.tc : Thread Cert.L0AttnOutIdeal.nD Cert.L0AttnOutIdeal.τ).loc Cert.L0AttnOutIdeal.main_arg3) = m ((c.tc : Thread Cert.L0AttnOutIdeal.nD Cert.L0AttnOutIdeal.τ).loc Cert.L0AttnOutIdeal.main_arg3))
      ∧ θ_run (Cert.L0AttnOutRefIdeal.defs (F := Ideal)) (onTc (τ := Cert.L0AttnOutRefIdeal.τ) (Cert.L0AttnOutRefIdeal.main (F := Ideal))) ⟨m', fun _ => 0, g'⟩ (fun r => ∀ c : Dev Cert.L0AttnOutRefIdeal.nD,
          r.2.mem ((c.tc : Thread Cert.L0AttnOutRefIdeal.nD Cert.L0AttnOutRefIdeal.τ).loc Cert.L0AttnOutRefIdeal.main_v2) = v0 c
          ∧ r.2.mem ((c.tc : Thread Cert.L0AttnOutRefIdeal.nD Cert.L0AttnOutRefIdeal.τ).loc Cert.L0AttnOutRefIdeal.main_v7) = v1 c
          ∧ r.2.mem ((c.tc : Thread Cert.L0AttnOutRefIdeal.nD Cert.L0AttnOutRefIdeal.τ).loc Cert.L0AttnOutRefIdeal.main_arg0) = m' ((c.tc : Thread Cert.L0AttnOutRefIdeal.nD Cert.L0AttnOutRefIdeal.τ).loc Cert.L0AttnOutRefIdeal.main_arg0)
          ∧ r.2.mem ((c.tc : Thread Cert.L0AttnOutRefIdeal.nD Cert.L0AttnOutRefIdeal.τ).loc Cert.L0AttnOutRefIdeal.main_arg1) = m' ((c.tc : Thread Cert.L0AttnOutRefIdeal.nD Cert.L0AttnOutRefIdeal.τ).loc Cert.L0AttnOutRefIdeal.main_arg1)
          ∧ r.2.mem ((c.tc : Thread Cert.L0AttnOutRefIdeal.nD Cert.L0AttnOutRefIdeal.τ).loc Cert.L0AttnOutRefIdeal.main_arg2) = m' ((c.tc : Thread Cert.L0AttnOutRefIdeal.nD Cert.L0AttnOutRefIdeal.τ).loc Cert.L0AttnOutRefIdeal.main_arg2)
          ∧ r.2.mem ((c.tc : Thread Cert.L0AttnOutRefIdeal.nD Cert.L0AttnOutRefIdeal.τ).loc Cert.L0AttnOutRefIdeal.main_arg3) = m' ((c.tc : Thread Cert.L0AttnOutRefIdeal.nD Cert.L0AttnOutRefIdeal.τ).loc Cert.L0AttnOutRefIdeal.main_arg3))

def preserves_L0Out_L0OutIdeal : Prop :=
  True

def algebraic_L0OutIdeal_L0OutRefIdeal [hL0OutIdeal : Cert.L0OutIdeal.Facts] [hL0OutRefIdeal : Cert.L0OutRefIdeal.Facts] : Prop :=
  ∀ (m : (ℓ : Loc Cert.L0OutIdeal.nD Cert.L0OutIdeal.τ Cert.L0OutIdeal.sig) → Buf (Elt Ideal) ℓ) (g : Dev Cert.L0OutIdeal.nD → PrngReg)
    (m' : (ℓ : Loc Cert.L0OutRefIdeal.nD Cert.L0OutRefIdeal.τ Cert.L0OutRefIdeal.sig) → Buf (Elt Ideal) ℓ) (g' : Dev Cert.L0OutRefIdeal.nD → PrngReg), Pre_L0OutIdeal m →
    (∀ c : Dev Cert.L0OutIdeal.nD,
      m' ((c.tc : Thread Cert.L0OutRefIdeal.nD Cert.L0OutRefIdeal.τ).loc Cert.L0OutRefIdeal.main_arg0) = m ((c.tc : Thread Cert.L0OutIdeal.nD Cert.L0OutIdeal.τ).loc Cert.L0OutIdeal.main_arg0)
      ∧ m' ((c.tc : Thread Cert.L0OutRefIdeal.nD Cert.L0OutRefIdeal.τ).loc Cert.L0OutRefIdeal.main_arg1) = m ((c.tc : Thread Cert.L0OutIdeal.nD Cert.L0OutIdeal.τ).loc Cert.L0OutIdeal.main_arg1)
      ∧ m' ((c.tc : Thread Cert.L0OutRefIdeal.nD Cert.L0OutRefIdeal.τ).loc Cert.L0OutRefIdeal.main_arg2) = m ((c.tc : Thread Cert.L0OutIdeal.nD Cert.L0OutIdeal.τ).loc Cert.L0OutIdeal.main_arg2)
      ∧ m' ((c.tc : Thread Cert.L0OutRefIdeal.nD Cert.L0OutRefIdeal.τ).loc Cert.L0OutRefIdeal.main_arg3) = m ((c.tc : Thread Cert.L0OutIdeal.nD Cert.L0OutIdeal.τ).loc Cert.L0OutIdeal.main_arg3)) →
    ∃ (v0 : (c : Dev Cert.L0OutIdeal.nD) → Buf (Elt Ideal) ((c.tc : Thread Cert.L0OutIdeal.nD Cert.L0OutIdeal.τ).loc Cert.L0OutIdeal.main_v0_0)) (v1 : (c : Dev Cert.L0OutIdeal.nD) → Buf (Elt Ideal) ((c.tc : Thread Cert.L0OutIdeal.nD Cert.L0OutIdeal.τ).loc Cert.L0OutIdeal.main_v0_1)),
      θ_run (Cert.L0OutIdeal.defs (F := Ideal)) (onTc (τ := Cert.L0OutIdeal.τ) (Cert.L0OutIdeal.main (F := Ideal))) ⟨m, fun _ => 0, g⟩ (fun r => ∀ c : Dev Cert.L0OutIdeal.nD,
          r.2.mem ((c.tc : Thread Cert.L0OutIdeal.nD Cert.L0OutIdeal.τ).loc Cert.L0OutIdeal.main_v0_0) = v0 c
          ∧ r.2.mem ((c.tc : Thread Cert.L0OutIdeal.nD Cert.L0OutIdeal.τ).loc Cert.L0OutIdeal.main_v0_1) = v1 c
          ∧ r.2.mem ((c.tc : Thread Cert.L0OutIdeal.nD Cert.L0OutIdeal.τ).loc Cert.L0OutIdeal.main_arg0) = m ((c.tc : Thread Cert.L0OutIdeal.nD Cert.L0OutIdeal.τ).loc Cert.L0OutIdeal.main_arg0)
          ∧ r.2.mem ((c.tc : Thread Cert.L0OutIdeal.nD Cert.L0OutIdeal.τ).loc Cert.L0OutIdeal.main_arg1) = m ((c.tc : Thread Cert.L0OutIdeal.nD Cert.L0OutIdeal.τ).loc Cert.L0OutIdeal.main_arg1)
          ∧ r.2.mem ((c.tc : Thread Cert.L0OutIdeal.nD Cert.L0OutIdeal.τ).loc Cert.L0OutIdeal.main_arg2) = m ((c.tc : Thread Cert.L0OutIdeal.nD Cert.L0OutIdeal.τ).loc Cert.L0OutIdeal.main_arg2)
          ∧ r.2.mem ((c.tc : Thread Cert.L0OutIdeal.nD Cert.L0OutIdeal.τ).loc Cert.L0OutIdeal.main_arg3) = m ((c.tc : Thread Cert.L0OutIdeal.nD Cert.L0OutIdeal.τ).loc Cert.L0OutIdeal.main_arg3))
      ∧ θ_run (Cert.L0OutRefIdeal.defs (F := Ideal)) (onTc (τ := Cert.L0OutRefIdeal.τ) (Cert.L0OutRefIdeal.main (F := Ideal))) ⟨m', fun _ => 0, g'⟩ (fun r => ∀ c : Dev Cert.L0OutRefIdeal.nD,
          r.2.mem ((c.tc : Thread Cert.L0OutRefIdeal.nD Cert.L0OutRefIdeal.τ).loc Cert.L0OutRefIdeal.main_v2) = v0 c
          ∧ r.2.mem ((c.tc : Thread Cert.L0OutRefIdeal.nD Cert.L0OutRefIdeal.τ).loc Cert.L0OutRefIdeal.main_v7) = v1 c
          ∧ r.2.mem ((c.tc : Thread Cert.L0OutRefIdeal.nD Cert.L0OutRefIdeal.τ).loc Cert.L0OutRefIdeal.main_arg0) = m' ((c.tc : Thread Cert.L0OutRefIdeal.nD Cert.L0OutRefIdeal.τ).loc Cert.L0OutRefIdeal.main_arg0)
          ∧ r.2.mem ((c.tc : Thread Cert.L0OutRefIdeal.nD Cert.L0OutRefIdeal.τ).loc Cert.L0OutRefIdeal.main_arg1) = m' ((c.tc : Thread Cert.L0OutRefIdeal.nD Cert.L0OutRefIdeal.τ).loc Cert.L0OutRefIdeal.main_arg1)
          ∧ r.2.mem ((c.tc : Thread Cert.L0OutRefIdeal.nD Cert.L0OutRefIdeal.τ).loc Cert.L0OutRefIdeal.main_arg2) = m' ((c.tc : Thread Cert.L0OutRefIdeal.nD Cert.L0OutRefIdeal.τ).loc Cert.L0OutRefIdeal.main_arg2)
          ∧ r.2.mem ((c.tc : Thread Cert.L0OutRefIdeal.nD Cert.L0OutRefIdeal.τ).loc Cert.L0OutRefIdeal.main_arg3) = m' ((c.tc : Thread Cert.L0OutRefIdeal.nD Cert.L0OutRefIdeal.τ).loc Cert.L0OutRefIdeal.main_arg3))

def preserves_L1RetOut_L1RetOutIdeal : Prop :=
  True

def algebraic_L1RetOutIdeal_L1RetOutRefIdeal [hL1RetOutIdeal : Cert.L1RetOutIdeal.Facts] [hL1RetOutRefIdeal : Cert.L1RetOutRefIdeal.Facts] : Prop :=
  ∀ (m : (ℓ : Loc Cert.L1RetOutIdeal.nD Cert.L1RetOutIdeal.τ Cert.L1RetOutIdeal.sig) → Buf (Elt Ideal) ℓ) (g : Dev Cert.L1RetOutIdeal.nD → PrngReg)
    (m' : (ℓ : Loc Cert.L1RetOutRefIdeal.nD Cert.L1RetOutRefIdeal.τ Cert.L1RetOutRefIdeal.sig) → Buf (Elt Ideal) ℓ) (g' : Dev Cert.L1RetOutRefIdeal.nD → PrngReg), Pre_L1RetOutIdeal m →
    (∀ c : Dev Cert.L1RetOutIdeal.nD,
      m' ((c.tc : Thread Cert.L1RetOutRefIdeal.nD Cert.L1RetOutRefIdeal.τ).loc Cert.L1RetOutRefIdeal.main_arg0) = m ((c.tc : Thread Cert.L1RetOutIdeal.nD Cert.L1RetOutIdeal.τ).loc Cert.L1RetOutIdeal.main_arg0)
      ∧ m' ((c.tc : Thread Cert.L1RetOutRefIdeal.nD Cert.L1RetOutRefIdeal.τ).loc Cert.L1RetOutRefIdeal.main_arg1) = m ((c.tc : Thread Cert.L1RetOutIdeal.nD Cert.L1RetOutIdeal.τ).loc Cert.L1RetOutIdeal.main_arg1)
      ∧ m' ((c.tc : Thread Cert.L1RetOutRefIdeal.nD Cert.L1RetOutRefIdeal.τ).loc Cert.L1RetOutRefIdeal.main_arg2) = m ((c.tc : Thread Cert.L1RetOutIdeal.nD Cert.L1RetOutIdeal.τ).loc Cert.L1RetOutIdeal.main_arg2)
      ∧ m' ((c.tc : Thread Cert.L1RetOutRefIdeal.nD Cert.L1RetOutRefIdeal.τ).loc Cert.L1RetOutRefIdeal.main_arg3) = m ((c.tc : Thread Cert.L1RetOutIdeal.nD Cert.L1RetOutIdeal.τ).loc Cert.L1RetOutIdeal.main_arg3)) →
    ∃ (v0 : (c : Dev Cert.L1RetOutIdeal.nD) → Buf (Elt Ideal) ((c.tc : Thread Cert.L1RetOutIdeal.nD Cert.L1RetOutIdeal.τ).loc Cert.L1RetOutIdeal.main_v0_0)) (v1 : (c : Dev Cert.L1RetOutIdeal.nD) → Buf (Elt Ideal) ((c.tc : Thread Cert.L1RetOutIdeal.nD Cert.L1RetOutIdeal.τ).loc Cert.L1RetOutIdeal.main_v0_1)),
      θ_run (Cert.L1RetOutIdeal.defs (F := Ideal)) (onTc (τ := Cert.L1RetOutIdeal.τ) (Cert.L1RetOutIdeal.main (F := Ideal))) ⟨m, fun _ => 0, g⟩ (fun r => ∀ c : Dev Cert.L1RetOutIdeal.nD,
          r.2.mem ((c.tc : Thread Cert.L1RetOutIdeal.nD Cert.L1RetOutIdeal.τ).loc Cert.L1RetOutIdeal.main_v0_0) = v0 c
          ∧ r.2.mem ((c.tc : Thread Cert.L1RetOutIdeal.nD Cert.L1RetOutIdeal.τ).loc Cert.L1RetOutIdeal.main_v0_1) = v1 c
          ∧ r.2.mem ((c.tc : Thread Cert.L1RetOutIdeal.nD Cert.L1RetOutIdeal.τ).loc Cert.L1RetOutIdeal.main_arg0) = m ((c.tc : Thread Cert.L1RetOutIdeal.nD Cert.L1RetOutIdeal.τ).loc Cert.L1RetOutIdeal.main_arg0)
          ∧ r.2.mem ((c.tc : Thread Cert.L1RetOutIdeal.nD Cert.L1RetOutIdeal.τ).loc Cert.L1RetOutIdeal.main_arg1) = m ((c.tc : Thread Cert.L1RetOutIdeal.nD Cert.L1RetOutIdeal.τ).loc Cert.L1RetOutIdeal.main_arg1)
          ∧ r.2.mem ((c.tc : Thread Cert.L1RetOutIdeal.nD Cert.L1RetOutIdeal.τ).loc Cert.L1RetOutIdeal.main_arg2) = m ((c.tc : Thread Cert.L1RetOutIdeal.nD Cert.L1RetOutIdeal.τ).loc Cert.L1RetOutIdeal.main_arg2)
          ∧ r.2.mem ((c.tc : Thread Cert.L1RetOutIdeal.nD Cert.L1RetOutIdeal.τ).loc Cert.L1RetOutIdeal.main_arg3) = m ((c.tc : Thread Cert.L1RetOutIdeal.nD Cert.L1RetOutIdeal.τ).loc Cert.L1RetOutIdeal.main_arg3))
      ∧ θ_run (Cert.L1RetOutRefIdeal.defs (F := Ideal)) (onTc (τ := Cert.L1RetOutRefIdeal.τ) (Cert.L1RetOutRefIdeal.main (F := Ideal))) ⟨m', fun _ => 0, g'⟩ (fun r => ∀ c : Dev Cert.L1RetOutRefIdeal.nD,
          r.2.mem ((c.tc : Thread Cert.L1RetOutRefIdeal.nD Cert.L1RetOutRefIdeal.τ).loc Cert.L1RetOutRefIdeal.main_v2) = v0 c
          ∧ r.2.mem ((c.tc : Thread Cert.L1RetOutRefIdeal.nD Cert.L1RetOutRefIdeal.τ).loc Cert.L1RetOutRefIdeal.main_v6) = v1 c
          ∧ r.2.mem ((c.tc : Thread Cert.L1RetOutRefIdeal.nD Cert.L1RetOutRefIdeal.τ).loc Cert.L1RetOutRefIdeal.main_arg0) = m' ((c.tc : Thread Cert.L1RetOutRefIdeal.nD Cert.L1RetOutRefIdeal.τ).loc Cert.L1RetOutRefIdeal.main_arg0)
          ∧ r.2.mem ((c.tc : Thread Cert.L1RetOutRefIdeal.nD Cert.L1RetOutRefIdeal.τ).loc Cert.L1RetOutRefIdeal.main_arg1) = m' ((c.tc : Thread Cert.L1RetOutRefIdeal.nD Cert.L1RetOutRefIdeal.τ).loc Cert.L1RetOutRefIdeal.main_arg1)
          ∧ r.2.mem ((c.tc : Thread Cert.L1RetOutRefIdeal.nD Cert.L1RetOutRefIdeal.τ).loc Cert.L1RetOutRefIdeal.main_arg2) = m' ((c.tc : Thread Cert.L1RetOutRefIdeal.nD Cert.L1RetOutRefIdeal.τ).loc Cert.L1RetOutRefIdeal.main_arg2)
          ∧ r.2.mem ((c.tc : Thread Cert.L1RetOutRefIdeal.nD Cert.L1RetOutRefIdeal.τ).loc Cert.L1RetOutRefIdeal.main_arg3) = m' ((c.tc : Thread Cert.L1RetOutRefIdeal.nD Cert.L1RetOutRefIdeal.τ).loc Cert.L1RetOutRefIdeal.main_arg3))

def preserves_L1Out_L1OutIdeal : Prop :=
  True

def algebraic_L1OutIdeal_L1OutRefIdeal [hL1OutIdeal : Cert.L1OutIdeal.Facts] [hL1OutRefIdeal : Cert.L1OutRefIdeal.Facts] : Prop :=
  ∀ (m : (ℓ : Loc Cert.L1OutIdeal.nD Cert.L1OutIdeal.τ Cert.L1OutIdeal.sig) → Buf (Elt Ideal) ℓ) (g : Dev Cert.L1OutIdeal.nD → PrngReg)
    (m' : (ℓ : Loc Cert.L1OutRefIdeal.nD Cert.L1OutRefIdeal.τ Cert.L1OutRefIdeal.sig) → Buf (Elt Ideal) ℓ) (g' : Dev Cert.L1OutRefIdeal.nD → PrngReg), Pre_L1OutIdeal m →
    (∀ c : Dev Cert.L1OutIdeal.nD,
      m' ((c.tc : Thread Cert.L1OutRefIdeal.nD Cert.L1OutRefIdeal.τ).loc Cert.L1OutRefIdeal.main_arg0) = m ((c.tc : Thread Cert.L1OutIdeal.nD Cert.L1OutIdeal.τ).loc Cert.L1OutIdeal.main_arg0)
      ∧ m' ((c.tc : Thread Cert.L1OutRefIdeal.nD Cert.L1OutRefIdeal.τ).loc Cert.L1OutRefIdeal.main_arg1) = m ((c.tc : Thread Cert.L1OutIdeal.nD Cert.L1OutIdeal.τ).loc Cert.L1OutIdeal.main_arg1)
      ∧ m' ((c.tc : Thread Cert.L1OutRefIdeal.nD Cert.L1OutRefIdeal.τ).loc Cert.L1OutRefIdeal.main_arg2) = m ((c.tc : Thread Cert.L1OutIdeal.nD Cert.L1OutIdeal.τ).loc Cert.L1OutIdeal.main_arg2)
      ∧ m' ((c.tc : Thread Cert.L1OutRefIdeal.nD Cert.L1OutRefIdeal.τ).loc Cert.L1OutRefIdeal.main_arg3) = m ((c.tc : Thread Cert.L1OutIdeal.nD Cert.L1OutIdeal.τ).loc Cert.L1OutIdeal.main_arg3)) →
    ∃ (v0 : (c : Dev Cert.L1OutIdeal.nD) → Buf (Elt Ideal) ((c.tc : Thread Cert.L1OutIdeal.nD Cert.L1OutIdeal.τ).loc Cert.L1OutIdeal.main_v0_0)) (v1 : (c : Dev Cert.L1OutIdeal.nD) → Buf (Elt Ideal) ((c.tc : Thread Cert.L1OutIdeal.nD Cert.L1OutIdeal.τ).loc Cert.L1OutIdeal.main_v0_1)),
      θ_run (Cert.L1OutIdeal.defs (F := Ideal)) (onTc (τ := Cert.L1OutIdeal.τ) (Cert.L1OutIdeal.main (F := Ideal))) ⟨m, fun _ => 0, g⟩ (fun r => ∀ c : Dev Cert.L1OutIdeal.nD,
          r.2.mem ((c.tc : Thread Cert.L1OutIdeal.nD Cert.L1OutIdeal.τ).loc Cert.L1OutIdeal.main_v0_0) = v0 c
          ∧ r.2.mem ((c.tc : Thread Cert.L1OutIdeal.nD Cert.L1OutIdeal.τ).loc Cert.L1OutIdeal.main_v0_1) = v1 c
          ∧ r.2.mem ((c.tc : Thread Cert.L1OutIdeal.nD Cert.L1OutIdeal.τ).loc Cert.L1OutIdeal.main_arg0) = m ((c.tc : Thread Cert.L1OutIdeal.nD Cert.L1OutIdeal.τ).loc Cert.L1OutIdeal.main_arg0)
          ∧ r.2.mem ((c.tc : Thread Cert.L1OutIdeal.nD Cert.L1OutIdeal.τ).loc Cert.L1OutIdeal.main_arg1) = m ((c.tc : Thread Cert.L1OutIdeal.nD Cert.L1OutIdeal.τ).loc Cert.L1OutIdeal.main_arg1)
          ∧ r.2.mem ((c.tc : Thread Cert.L1OutIdeal.nD Cert.L1OutIdeal.τ).loc Cert.L1OutIdeal.main_arg2) = m ((c.tc : Thread Cert.L1OutIdeal.nD Cert.L1OutIdeal.τ).loc Cert.L1OutIdeal.main_arg2)
          ∧ r.2.mem ((c.tc : Thread Cert.L1OutIdeal.nD Cert.L1OutIdeal.τ).loc Cert.L1OutIdeal.main_arg3) = m ((c.tc : Thread Cert.L1OutIdeal.nD Cert.L1OutIdeal.τ).loc Cert.L1OutIdeal.main_arg3))
      ∧ θ_run (Cert.L1OutRefIdeal.defs (F := Ideal)) (onTc (τ := Cert.L1OutRefIdeal.τ) (Cert.L1OutRefIdeal.main (F := Ideal))) ⟨m', fun _ => 0, g'⟩ (fun r => ∀ c : Dev Cert.L1OutRefIdeal.nD,
          r.2.mem ((c.tc : Thread Cert.L1OutRefIdeal.nD Cert.L1OutRefIdeal.τ).loc Cert.L1OutRefIdeal.main_v2) = v0 c
          ∧ r.2.mem ((c.tc : Thread Cert.L1OutRefIdeal.nD Cert.L1OutRefIdeal.τ).loc Cert.L1OutRefIdeal.main_v6) = v1 c
          ∧ r.2.mem ((c.tc : Thread Cert.L1OutRefIdeal.nD Cert.L1OutRefIdeal.τ).loc Cert.L1OutRefIdeal.main_arg0) = m' ((c.tc : Thread Cert.L1OutRefIdeal.nD Cert.L1OutRefIdeal.τ).loc Cert.L1OutRefIdeal.main_arg0)
          ∧ r.2.mem ((c.tc : Thread Cert.L1OutRefIdeal.nD Cert.L1OutRefIdeal.τ).loc Cert.L1OutRefIdeal.main_arg1) = m' ((c.tc : Thread Cert.L1OutRefIdeal.nD Cert.L1OutRefIdeal.τ).loc Cert.L1OutRefIdeal.main_arg1)
          ∧ r.2.mem ((c.tc : Thread Cert.L1OutRefIdeal.nD Cert.L1OutRefIdeal.τ).loc Cert.L1OutRefIdeal.main_arg2) = m' ((c.tc : Thread Cert.L1OutRefIdeal.nD Cert.L1OutRefIdeal.τ).loc Cert.L1OutRefIdeal.main_arg2)
          ∧ r.2.mem ((c.tc : Thread Cert.L1OutRefIdeal.nD Cert.L1OutRefIdeal.τ).loc Cert.L1OutRefIdeal.main_arg3) = m' ((c.tc : Thread Cert.L1OutRefIdeal.nD Cert.L1OutRefIdeal.τ).loc Cert.L1OutRefIdeal.main_arg3))

def preserves_L0OutDx_L0OutDxIdeal : Prop :=
  True

def algebraic_L0OutDxIdeal_L0OutDxRefIdeal_pre_finite0 [hL0OutDxIdeal : Cert.L0OutDxIdeal.Facts] [hL0OutDxRefIdeal : Cert.L0OutDxRefIdeal.Facts] [hPre_finite0 : Cert.Pre_finite0.Facts] : Prop :=
  ∀ (m : (ℓ : Loc Cert.L0OutDxIdeal.nD Cert.L0OutDxIdeal.τ Cert.L0OutDxIdeal.sig) → Buf (Elt Ideal) ℓ) (g : Dev Cert.L0OutDxIdeal.nD → PrngReg)
    (m' : (ℓ : Loc Cert.L0OutDxRefIdeal.nD Cert.L0OutDxRefIdeal.τ Cert.L0OutDxRefIdeal.sig) → Buf (Elt Ideal) ℓ) (g' : Dev Cert.L0OutDxRefIdeal.nD → PrngReg), Pre_L0OutDxIdeal_finite0 m →
    (∀ c : Dev Cert.L0OutDxIdeal.nD,
      m' ((c.tc : Thread Cert.L0OutDxRefIdeal.nD Cert.L0OutDxRefIdeal.τ).loc Cert.L0OutDxRefIdeal.main_arg0) = m ((c.tc : Thread Cert.L0OutDxIdeal.nD Cert.L0OutDxIdeal.τ).loc Cert.L0OutDxIdeal.main_arg0)
      ∧ m' ((c.tc : Thread Cert.L0OutDxRefIdeal.nD Cert.L0OutDxRefIdeal.τ).loc Cert.L0OutDxRefIdeal.main_arg1) = m ((c.tc : Thread Cert.L0OutDxIdeal.nD Cert.L0OutDxIdeal.τ).loc Cert.L0OutDxIdeal.main_arg1)
      ∧ m' ((c.tc : Thread Cert.L0OutDxRefIdeal.nD Cert.L0OutDxRefIdeal.τ).loc Cert.L0OutDxRefIdeal.main_arg2) = m ((c.tc : Thread Cert.L0OutDxIdeal.nD Cert.L0OutDxIdeal.τ).loc Cert.L0OutDxIdeal.main_arg2)
      ∧ m' ((c.tc : Thread Cert.L0OutDxRefIdeal.nD Cert.L0OutDxRefIdeal.τ).loc Cert.L0OutDxRefIdeal.main_arg3) = m ((c.tc : Thread Cert.L0OutDxIdeal.nD Cert.L0OutDxIdeal.τ).loc Cert.L0OutDxIdeal.main_arg3)) →
    ∃ (v0 : (c : Dev Cert.L0OutDxIdeal.nD) → Buf (Elt Ideal) ((c.tc : Thread Cert.L0OutDxIdeal.nD Cert.L0OutDxIdeal.τ).loc Cert.L0OutDxIdeal.main_v0)),
      θ_run (Cert.L0OutDxIdeal.defs (F := Ideal)) (onTc (τ := Cert.L0OutDxIdeal.τ) (Cert.L0OutDxIdeal.main (F := Ideal))) ⟨m, fun _ => 0, g⟩ (fun r => ∀ c : Dev Cert.L0OutDxIdeal.nD,
          r.2.mem ((c.tc : Thread Cert.L0OutDxIdeal.nD Cert.L0OutDxIdeal.τ).loc Cert.L0OutDxIdeal.main_v0) = v0 c
          ∧ r.2.mem ((c.tc : Thread Cert.L0OutDxIdeal.nD Cert.L0OutDxIdeal.τ).loc Cert.L0OutDxIdeal.main_arg0) = m ((c.tc : Thread Cert.L0OutDxIdeal.nD Cert.L0OutDxIdeal.τ).loc Cert.L0OutDxIdeal.main_arg0)
          ∧ r.2.mem ((c.tc : Thread Cert.L0OutDxIdeal.nD Cert.L0OutDxIdeal.τ).loc Cert.L0OutDxIdeal.main_arg1) = m ((c.tc : Thread Cert.L0OutDxIdeal.nD Cert.L0OutDxIdeal.τ).loc Cert.L0OutDxIdeal.main_arg1)
          ∧ r.2.mem ((c.tc : Thread Cert.L0OutDxIdeal.nD Cert.L0OutDxIdeal.τ).loc Cert.L0OutDxIdeal.main_arg2) = m ((c.tc : Thread Cert.L0OutDxIdeal.nD Cert.L0OutDxIdeal.τ).loc Cert.L0OutDxIdeal.main_arg2)
          ∧ r.2.mem ((c.tc : Thread Cert.L0OutDxIdeal.nD Cert.L0OutDxIdeal.τ).loc Cert.L0OutDxIdeal.main_arg3) = m ((c.tc : Thread Cert.L0OutDxIdeal.nD Cert.L0OutDxIdeal.τ).loc Cert.L0OutDxIdeal.main_arg3))
      ∧ θ_run (Cert.L0OutDxRefIdeal.defs (F := Ideal)) (onTc (τ := Cert.L0OutDxRefIdeal.τ) (Cert.L0OutDxRefIdeal.main (F := Ideal))) ⟨m', fun _ => 0, g'⟩ (fun r => ∀ c : Dev Cert.L0OutDxRefIdeal.nD,
          r.2.mem ((c.tc : Thread Cert.L0OutDxRefIdeal.nD Cert.L0OutDxRefIdeal.τ).loc Cert.L0OutDxRefIdeal.main_v13) = v0 c
          ∧ r.2.mem ((c.tc : Thread Cert.L0OutDxRefIdeal.nD Cert.L0OutDxRefIdeal.τ).loc Cert.L0OutDxRefIdeal.main_arg0) = m' ((c.tc : Thread Cert.L0OutDxRefIdeal.nD Cert.L0OutDxRefIdeal.τ).loc Cert.L0OutDxRefIdeal.main_arg0)
          ∧ r.2.mem ((c.tc : Thread Cert.L0OutDxRefIdeal.nD Cert.L0OutDxRefIdeal.τ).loc Cert.L0OutDxRefIdeal.main_arg1) = m' ((c.tc : Thread Cert.L0OutDxRefIdeal.nD Cert.L0OutDxRefIdeal.τ).loc Cert.L0OutDxRefIdeal.main_arg1)
          ∧ r.2.mem ((c.tc : Thread Cert.L0OutDxRefIdeal.nD Cert.L0OutDxRefIdeal.τ).loc Cert.L0OutDxRefIdeal.main_arg2) = m' ((c.tc : Thread Cert.L0OutDxRefIdeal.nD Cert.L0OutDxRefIdeal.τ).loc Cert.L0OutDxRefIdeal.main_arg2)
          ∧ r.2.mem ((c.tc : Thread Cert.L0OutDxRefIdeal.nD Cert.L0OutDxRefIdeal.τ).loc Cert.L0OutDxRefIdeal.main_arg3) = m' ((c.tc : Thread Cert.L0OutDxRefIdeal.nD Cert.L0OutDxRefIdeal.τ).loc Cert.L0OutDxRefIdeal.main_arg3))

def preserves_L1OutDx_L1OutDxIdeal : Prop :=
  True

def algebraic_L1OutDxIdeal_L1OutDxRefIdeal_pre_finite1 [hL1OutDxIdeal : Cert.L1OutDxIdeal.Facts] [hL1OutDxRefIdeal : Cert.L1OutDxRefIdeal.Facts] [hPre_finite1 : Cert.Pre_finite1.Facts] : Prop :=
  ∀ (m : (ℓ : Loc Cert.L1OutDxIdeal.nD Cert.L1OutDxIdeal.τ Cert.L1OutDxIdeal.sig) → Buf (Elt Ideal) ℓ) (g : Dev Cert.L1OutDxIdeal.nD → PrngReg)
    (m' : (ℓ : Loc Cert.L1OutDxRefIdeal.nD Cert.L1OutDxRefIdeal.τ Cert.L1OutDxRefIdeal.sig) → Buf (Elt Ideal) ℓ) (g' : Dev Cert.L1OutDxRefIdeal.nD → PrngReg), Pre_L1OutDxIdeal_finite1 m →
    (∀ c : Dev Cert.L1OutDxIdeal.nD,
      m' ((c.tc : Thread Cert.L1OutDxRefIdeal.nD Cert.L1OutDxRefIdeal.τ).loc Cert.L1OutDxRefIdeal.main_arg0) = m ((c.tc : Thread Cert.L1OutDxIdeal.nD Cert.L1OutDxIdeal.τ).loc Cert.L1OutDxIdeal.main_arg0)
      ∧ m' ((c.tc : Thread Cert.L1OutDxRefIdeal.nD Cert.L1OutDxRefIdeal.τ).loc Cert.L1OutDxRefIdeal.main_arg1) = m ((c.tc : Thread Cert.L1OutDxIdeal.nD Cert.L1OutDxIdeal.τ).loc Cert.L1OutDxIdeal.main_arg1)
      ∧ m' ((c.tc : Thread Cert.L1OutDxRefIdeal.nD Cert.L1OutDxRefIdeal.τ).loc Cert.L1OutDxRefIdeal.main_arg2) = m ((c.tc : Thread Cert.L1OutDxIdeal.nD Cert.L1OutDxIdeal.τ).loc Cert.L1OutDxIdeal.main_arg2)
      ∧ m' ((c.tc : Thread Cert.L1OutDxRefIdeal.nD Cert.L1OutDxRefIdeal.τ).loc Cert.L1OutDxRefIdeal.main_arg3) = m ((c.tc : Thread Cert.L1OutDxIdeal.nD Cert.L1OutDxIdeal.τ).loc Cert.L1OutDxIdeal.main_arg3)) →
    ∃ (v0 : (c : Dev Cert.L1OutDxIdeal.nD) → Buf (Elt Ideal) ((c.tc : Thread Cert.L1OutDxIdeal.nD Cert.L1OutDxIdeal.τ).loc Cert.L1OutDxIdeal.main_v0)),
      θ_run (Cert.L1OutDxIdeal.defs (F := Ideal)) (onTc (τ := Cert.L1OutDxIdeal.τ) (Cert.L1OutDxIdeal.main (F := Ideal))) ⟨m, fun _ => 0, g⟩ (fun r => ∀ c : Dev Cert.L1OutDxIdeal.nD,
          r.2.mem ((c.tc : Thread Cert.L1OutDxIdeal.nD Cert.L1OutDxIdeal.τ).loc Cert.L1OutDxIdeal.main_v0) = v0 c
          ∧ r.2.mem ((c.tc : Thread Cert.L1OutDxIdeal.nD Cert.L1OutDxIdeal.τ).loc Cert.L1OutDxIdeal.main_arg0) = m ((c.tc : Thread Cert.L1OutDxIdeal.nD Cert.L1OutDxIdeal.τ).loc Cert.L1OutDxIdeal.main_arg0)
          ∧ r.2.mem ((c.tc : Thread Cert.L1OutDxIdeal.nD Cert.L1OutDxIdeal.τ).loc Cert.L1OutDxIdeal.main_arg1) = m ((c.tc : Thread Cert.L1OutDxIdeal.nD Cert.L1OutDxIdeal.τ).loc Cert.L1OutDxIdeal.main_arg1)
          ∧ r.2.mem ((c.tc : Thread Cert.L1OutDxIdeal.nD Cert.L1OutDxIdeal.τ).loc Cert.L1OutDxIdeal.main_arg2) = m ((c.tc : Thread Cert.L1OutDxIdeal.nD Cert.L1OutDxIdeal.τ).loc Cert.L1OutDxIdeal.main_arg2)
          ∧ r.2.mem ((c.tc : Thread Cert.L1OutDxIdeal.nD Cert.L1OutDxIdeal.τ).loc Cert.L1OutDxIdeal.main_arg3) = m ((c.tc : Thread Cert.L1OutDxIdeal.nD Cert.L1OutDxIdeal.τ).loc Cert.L1OutDxIdeal.main_arg3))
      ∧ θ_run (Cert.L1OutDxRefIdeal.defs (F := Ideal)) (onTc (τ := Cert.L1OutDxRefIdeal.τ) (Cert.L1OutDxRefIdeal.main (F := Ideal))) ⟨m', fun _ => 0, g'⟩ (fun r => ∀ c : Dev Cert.L1OutDxRefIdeal.nD,
          r.2.mem ((c.tc : Thread Cert.L1OutDxRefIdeal.nD Cert.L1OutDxRefIdeal.τ).loc Cert.L1OutDxRefIdeal.main_v13) = v0 c
          ∧ r.2.mem ((c.tc : Thread Cert.L1OutDxRefIdeal.nD Cert.L1OutDxRefIdeal.τ).loc Cert.L1OutDxRefIdeal.main_arg0) = m' ((c.tc : Thread Cert.L1OutDxRefIdeal.nD Cert.L1OutDxRefIdeal.τ).loc Cert.L1OutDxRefIdeal.main_arg0)
          ∧ r.2.mem ((c.tc : Thread Cert.L1OutDxRefIdeal.nD Cert.L1OutDxRefIdeal.τ).loc Cert.L1OutDxRefIdeal.main_arg1) = m' ((c.tc : Thread Cert.L1OutDxRefIdeal.nD Cert.L1OutDxRefIdeal.τ).loc Cert.L1OutDxRefIdeal.main_arg1)
          ∧ r.2.mem ((c.tc : Thread Cert.L1OutDxRefIdeal.nD Cert.L1OutDxRefIdeal.τ).loc Cert.L1OutDxRefIdeal.main_arg2) = m' ((c.tc : Thread Cert.L1OutDxRefIdeal.nD Cert.L1OutDxRefIdeal.τ).loc Cert.L1OutDxRefIdeal.main_arg2)
          ∧ r.2.mem ((c.tc : Thread Cert.L1OutDxRefIdeal.nD Cert.L1OutDxRefIdeal.τ).loc Cert.L1OutDxRefIdeal.main_arg3) = m' ((c.tc : Thread Cert.L1OutDxRefIdeal.nD Cert.L1OutDxRefIdeal.τ).loc Cert.L1OutDxRefIdeal.main_arg3))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v3) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v0)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v0) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v5) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def preserves_AdaDc_AdaDcIdeal : Prop :=
  True

def algebraic_AdaDcIdeal_AdaDcRefIdeal [hAdaDcIdeal : Cert.AdaDcIdeal.Facts] [hAdaDcRefIdeal : Cert.AdaDcRefIdeal.Facts] : Prop :=
  ∀ (m : (ℓ : Loc Cert.AdaDcIdeal.nD Cert.AdaDcIdeal.τ Cert.AdaDcIdeal.sig) → Buf (Elt Ideal) ℓ) (g : Dev Cert.AdaDcIdeal.nD → PrngReg)
    (m' : (ℓ : Loc Cert.AdaDcRefIdeal.nD Cert.AdaDcRefIdeal.τ Cert.AdaDcRefIdeal.sig) → Buf (Elt Ideal) ℓ) (g' : Dev Cert.AdaDcRefIdeal.nD → PrngReg), Pre_AdaDcIdeal m →
    (∀ c : Dev Cert.AdaDcIdeal.nD,
      m' ((c.tc : Thread Cert.AdaDcRefIdeal.nD Cert.AdaDcRefIdeal.τ).loc Cert.AdaDcRefIdeal.main_arg0) = m ((c.tc : Thread Cert.AdaDcIdeal.nD Cert.AdaDcIdeal.τ).loc Cert.AdaDcIdeal.main_arg0)
      ∧ m' ((c.tc : Thread Cert.AdaDcRefIdeal.nD Cert.AdaDcRefIdeal.τ).loc Cert.AdaDcRefIdeal.main_arg1) = m ((c.tc : Thread Cert.AdaDcIdeal.nD Cert.AdaDcIdeal.τ).loc Cert.AdaDcIdeal.main_arg1)) →
    ∃ (v0 : (c : Dev Cert.AdaDcIdeal.nD) → Buf (Elt Ideal) ((c.tc : Thread Cert.AdaDcIdeal.nD Cert.AdaDcIdeal.τ).loc Cert.AdaDcIdeal.main_v0)),
      θ_run (Cert.AdaDcIdeal.defs (F := Ideal)) (onTc (τ := Cert.AdaDcIdeal.τ) (Cert.AdaDcIdeal.main (F := Ideal))) ⟨m, fun _ => 0, g⟩ (fun r => ∀ c : Dev Cert.AdaDcIdeal.nD,
          r.2.mem ((c.tc : Thread Cert.AdaDcIdeal.nD Cert.AdaDcIdeal.τ).loc Cert.AdaDcIdeal.main_v0) = v0 c
          ∧ r.2.mem ((c.tc : Thread Cert.AdaDcIdeal.nD Cert.AdaDcIdeal.τ).loc Cert.AdaDcIdeal.main_arg0) = m ((c.tc : Thread Cert.AdaDcIdeal.nD Cert.AdaDcIdeal.τ).loc Cert.AdaDcIdeal.main_arg0)
          ∧ r.2.mem ((c.tc : Thread Cert.AdaDcIdeal.nD Cert.AdaDcIdeal.τ).loc Cert.AdaDcIdeal.main_arg1) = m ((c.tc : Thread Cert.AdaDcIdeal.nD Cert.AdaDcIdeal.τ).loc Cert.AdaDcIdeal.main_arg1))
      ∧ θ_run (Cert.AdaDcRefIdeal.defs (F := Ideal)) (onTc (τ := Cert.AdaDcRefIdeal.τ) (Cert.AdaDcRefIdeal.main (F := Ideal))) ⟨m', fun _ => 0, g'⟩ (fun r => ∀ c : Dev Cert.AdaDcRefIdeal.nD,
          r.2.mem ((c.tc : Thread Cert.AdaDcRefIdeal.nD Cert.AdaDcRefIdeal.τ).loc Cert.AdaDcRefIdeal.main_v3) = v0 c
          ∧ r.2.mem ((c.tc : Thread Cert.AdaDcRefIdeal.nD Cert.AdaDcRefIdeal.τ).loc Cert.AdaDcRefIdeal.main_arg0) = m' ((c.tc : Thread Cert.AdaDcRefIdeal.nD Cert.AdaDcRefIdeal.τ).loc Cert.AdaDcRefIdeal.main_arg0)
          ∧ r.2.mem ((c.tc : Thread Cert.AdaDcRefIdeal.nD Cert.AdaDcRefIdeal.τ).loc Cert.AdaDcRefIdeal.main_arg1) = m' ((c.tc : Thread Cert.AdaDcRefIdeal.nD Cert.AdaDcRefIdeal.τ).loc Cert.AdaDcRefIdeal.main_arg1))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v0) = v0 c
          ∧ r.2.mem ((c.tc : Thread Cert.AdamAdaRefIdeal.nD Cert.AdamAdaRefIdeal.τ).loc Cert.AdamAdaRefIdeal.main_v24) = v1 c
          ∧ r.2.mem ((c.tc : Thread Cert.AdamAdaRefIdeal.nD Cert.AdamAdaRefIdeal.τ).loc Cert.AdamAdaRefIdeal.main_v5) = v2 c
          ∧ r.2.mem ((c.tc : Thread Cert.AdamAdaRefIdeal.nD Cert.AdamAdaRefIdeal.τ).loc Cert.AdamAdaRefIdeal.main_v11) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)
      ∧ m' ((c.tc : Thread Cert.AdamFfnInRefIdeal.nD Cert.AdamFfnInRefIdeal.τ).loc Cert.AdamFfnInRefIdeal.main_arg4) = m ((c.tc : Thread Cert.AdamFfnInIdeal.nD Cert.AdamFfnInIdeal.τ).loc Cert.AdamFfnInIdeal.main_arg4)
      ∧ m' ((c.tc : Thread Cert.AdamFfnInRefIdeal.nD Cert.AdamFfnInRefIdeal.τ).loc Cert.AdamFfnInRefIdeal.main_arg5) = m ((c.tc : Thread Cert.AdamFfnInIdeal.nD Cert.AdamFfnInIdeal.τ).loc Cert.AdamFfnInIdeal.main_arg5)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)) (v3 : (c : Dev Cert.AdamFfnInIdeal.nD) → Buf (Elt Ideal) ((c.tc : Thread Cert.AdamFfnInIdeal.nD Cert.AdamFfnInIdeal.τ).loc Cert.AdamFfnInIdeal.main_v0_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_v0_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
          ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4)
          ∧ r.2.mem ((c.tc : Thread Cert.AdamFfnInIdeal.nD Cert.AdamFfnInIdeal.τ).loc Cert.AdamFfnInIdeal.main_arg5) = m ((c.tc : Thread Cert.AdamFfnInIdeal.nD Cert.AdamFfnInIdeal.τ).loc Cert.AdamFfnInIdeal.main_arg5))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v14) = v0 c
          ∧ r.2.mem ((c.tc : Thread Cert.AdamFfnInRefIdeal.nD Cert.AdamFfnInRefIdeal.τ).loc Cert.AdamFfnInRefIdeal.main_v38) = v1 c
          ∧ r.2.mem ((c.tc : Thread Cert.AdamFfnInRefIdeal.nD Cert.AdamFfnInRefIdeal.τ).loc Cert.AdamFfnInRefIdeal.main_v19) = v2 c
          ∧ r.2.mem ((c.tc : Thread Cert.AdamFfnInRefIdeal.nD Cert.AdamFfnInRefIdeal.τ).loc Cert.AdamFfnInRefIdeal.main_v25) = v3 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3)
          ∧ r.2.mem ((c.tc : Thread Cert.AdamFfnInRefIdeal.nD Cert.AdamFfnInRefIdeal.τ).loc Cert.AdamFfnInRefIdeal.main_arg4) = m' ((c.tc : Thread Cert.AdamFfnInRefIdeal.nD Cert.AdamFfnInRefIdeal.τ).loc Cert.AdamFfnInRefIdeal.main_arg4)
          ∧ r.2.mem ((c.tc : Thread Cert.AdamFfnInRefIdeal.nD Cert.AdamFfnInRefIdeal.τ).loc Cert.AdamFfnInRefIdeal.main_arg5) = m' ((c.tc : Thread Cert.AdamFfnInRefIdeal.nD Cert.AdamFfnInRefIdeal.τ).loc Cert.AdamFfnInRefIdeal.main_arg5))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)
      ∧ m' ((c.tc : Thread Cert.AdamFfnOutRefIdeal.nD Cert.AdamFfnOutRefIdeal.τ).loc Cert.AdamFfnOutRefIdeal.main_arg4) = m ((c.tc : Thread Cert.AdamFfnOutIdeal.nD Cert.AdamFfnOutIdeal.τ).loc Cert.AdamFfnOutIdeal.main_arg4)
      ∧ m' ((c.tc : Thread Cert.AdamFfnOutRefIdeal.nD Cert.AdamFfnOutRefIdeal.τ).loc Cert.AdamFfnOutRefIdeal.main_arg5) = m ((c.tc : Thread Cert.AdamFfnOutIdeal.nD Cert.AdamFfnOutIdeal.τ).loc Cert.AdamFfnOutIdeal.main_arg5)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)) (v3 : (c : Dev Cert.AdamFfnOutIdeal.nD) → Buf (Elt Ideal) ((c.tc : Thread Cert.AdamFfnOutIdeal.nD Cert.AdamFfnOutIdeal.τ).loc Cert.AdamFfnOutIdeal.main_v0_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_v0_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
          ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4)
          ∧ r.2.mem ((c.tc : Thread Cert.AdamFfnOutIdeal.nD Cert.AdamFfnOutIdeal.τ).loc Cert.AdamFfnOutIdeal.main_arg5) = m ((c.tc : Thread Cert.AdamFfnOutIdeal.nD Cert.AdamFfnOutIdeal.τ).loc Cert.AdamFfnOutIdeal.main_arg5))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v14) = v0 c
          ∧ r.2.mem ((c.tc : Thread Cert.AdamFfnOutRefIdeal.nD Cert.AdamFfnOutRefIdeal.τ).loc Cert.AdamFfnOutRefIdeal.main_v38) = v1 c
          ∧ r.2.mem ((c.tc : Thread Cert.AdamFfnOutRefIdeal.nD Cert.AdamFfnOutRefIdeal.τ).loc Cert.AdamFfnOutRefIdeal.main_v19) = v2 c
          ∧ r.2.mem ((c.tc : Thread Cert.AdamFfnOutRefIdeal.nD Cert.AdamFfnOutRefIdeal.τ).loc Cert.AdamFfnOutRefIdeal.main_v25) = v3 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3)
          ∧ r.2.mem ((c.tc : Thread Cert.AdamFfnOutRefIdeal.nD Cert.AdamFfnOutRefIdeal.τ).loc Cert.AdamFfnOutRefIdeal.main_arg4) = m' ((c.tc : Thread Cert.AdamFfnOutRefIdeal.nD Cert.AdamFfnOutRefIdeal.τ).loc Cert.AdamFfnOutRefIdeal.main_arg4)
          ∧ r.2.mem ((c.tc : Thread Cert.AdamFfnOutRefIdeal.nD Cert.AdamFfnOutRefIdeal.τ).loc Cert.AdamFfnOutRefIdeal.main_arg5) = m' ((c.tc : Thread Cert.AdamFfnOutRefIdeal.nD Cert.AdamFfnOutRefIdeal.τ).loc Cert.AdamFfnOutRefIdeal.main_arg5))

def preserves_AdamQkv_AdamQkvIdeal : Prop :=
  True

def algebraic_AdamQkvIdeal_AdamQkvRefIdeal [hAdamQkvIdeal : Cert.AdamQkvIdeal.Facts] [hAdamQkvRefIdeal : Cert.AdamQkvRefIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg)
    (m' : (ℓ : Loc Cert.AdamQkvRefIdeal.nD Cert.AdamQkvRefIdeal.τ Cert.AdamQkvRefIdeal.sig) → Buf (Elt Ideal) ℓ) (g' : Dev Cert.AdamQkvRefIdeal.nD → PrngReg), Pre_AdamQkvIdeal m →
    (∀ c : Dev Cert.AdamQkvIdeal.nD,
      m' ((c.tc : Thread Cert.AdamQkvRefIdeal.nD Cert.AdamQkvRefIdeal.τ).loc Cert.AdamQkvRefIdeal.main_arg0) = m ((c.tc : Thread Cert.AdamQkvIdeal.nD Cert.AdamQkvIdeal.τ).loc Cert.AdamQkvIdeal.main_arg0)
      ∧ m' ((c.tc : Thread Cert.AdamQkvRefIdeal.nD Cert.AdamQkvRefIdeal.τ).loc Cert.AdamQkvRefIdeal.main_arg1) = m ((c.tc : Thread Cert.AdamQkvIdeal.nD Cert.AdamQkvIdeal.τ).loc Cert.AdamQkvIdeal.main_arg1)
      ∧ m' ((c.tc : Thread Cert.AdamQkvRefIdeal.nD Cert.AdamQkvRefIdeal.τ).loc Cert.AdamQkvRefIdeal.main_arg2) = m ((c.tc : Thread Cert.AdamQkvIdeal.nD Cert.AdamQkvIdeal.τ).loc Cert.AdamQkvIdeal.main_arg2)
      ∧ m' ((c.tc : Thread Cert.AdamQkvRefIdeal.nD Cert.AdamQkvRefIdeal.τ).loc Cert.AdamQkvRefIdeal.main_arg3) = m ((c.tc : Thread Cert.AdamQkvIdeal.nD Cert.AdamQkvIdeal.τ).loc Cert.AdamQkvIdeal.main_arg3)
      ∧ m' ((c.tc : Thread Cert.AdamQkvRefIdeal.nD Cert.AdamQkvRefIdeal.τ).loc Cert.AdamQkvRefIdeal.main_arg4) = m ((c.tc : Thread Cert.AdamQkvIdeal.nD Cert.AdamQkvIdeal.τ).loc Cert.AdamQkvIdeal.main_arg4)
      ∧ m' ((c.tc : Thread Cert.AdamQkvRefIdeal.nD Cert.AdamQkvRefIdeal.τ).loc Cert.AdamQkvRefIdeal.main_arg5) = m ((c.tc : Thread Cert.AdamQkvIdeal.nD Cert.AdamQkvIdeal.τ).loc Cert.AdamQkvIdeal.main_arg5)) →
    ∃ (v0 : (c : Dev Cert.AdamQkvIdeal.nD) → Buf (Elt Ideal) ((c.tc : Thread Cert.AdamQkvIdeal.nD Cert.AdamQkvIdeal.τ).loc Cert.AdamQkvIdeal.main_v0_0)) (v1 : (c : Dev Cert.AdamQkvIdeal.nD) → Buf (Elt Ideal) ((c.tc : Thread Cert.AdamQkvIdeal.nD Cert.AdamQkvIdeal.τ).loc Cert.AdamQkvIdeal.main_v0_1)) (v2 : (c : Dev Cert.AdamQkvIdeal.nD) → Buf (Elt Ideal) ((c.tc : Thread Cert.AdamQkvIdeal.nD Cert.AdamQkvIdeal.τ).loc Cert.AdamQkvIdeal.main_v0_2)) (v3 : (c : Dev Cert.AdamQkvIdeal.nD) → Buf (Elt Ideal) ((c.tc : Thread Cert.AdamQkvIdeal.nD Cert.AdamQkvIdeal.τ).loc Cert.AdamQkvIdeal.main_v0_3)),
      θ_run (Cert.AdamQkvIdeal.defs (F := Ideal)) (onTc (τ := Cert.AdamQkvIdeal.τ) (Cert.AdamQkvIdeal.main (F := Ideal))) ⟨m, fun _ => 0, g⟩ (fun r => ∀ c : Dev Cert.AdamQkvIdeal.nD,
          r.2.mem ((c.tc : Thread Cert.AdamQkvIdeal.nD Cert.AdamQkvIdeal.τ).loc Cert.AdamQkvIdeal.main_v0_0) = v0 c
          ∧ r.2.mem ((c.tc : Thread Cert.AdamQkvIdeal.nD Cert.AdamQkvIdeal.τ).loc Cert.AdamQkvIdeal.main_v0_1) = v1 c
          ∧ r.2.mem ((c.tc : Thread Cert.AdamQkvIdeal.nD Cert.AdamQkvIdeal.τ).loc Cert.AdamQkvIdeal.main_v0_2) = v2 c
          ∧ r.2.mem ((c.tc : Thread Cert.AdamQkvIdeal.nD Cert.AdamQkvIdeal.τ).loc Cert.AdamQkvIdeal.main_v0_3) = v3 c
          ∧ r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
          ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
          ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
          ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3)
          ∧ r.2.mem ((c.tc : Thread Cert.AdamQkvIdeal.nD Cert.AdamQkvIdeal.τ).loc Cert.AdamQkvIdeal.main_arg4) = m ((c.tc : Thread Cert.AdamQkvIdeal.nD Cert.AdamQkvIdeal.τ).loc Cert.AdamQkvIdeal.main_arg4)
          ∧ r.2.mem ((c.tc : Thread Cert.AdamQkvIdeal.nD Cert.AdamQkvIdeal.τ).loc Cert.AdamQkvIdeal.main_arg5) = m ((c.tc : Thread Cert.AdamQkvIdeal.nD Cert.AdamQkvIdeal.τ).loc Cert.AdamQkvIdeal.main_arg5))
      ∧ θ_run (Cert.AdamQkvRefIdeal.defs (F := Ideal)) (onTc (τ := Cert.AdamQkvRefIdeal.τ) (Cert.AdamQkvRefIdeal.main (F := Ideal))) ⟨m', fun _ => 0, g'⟩ (fun r => ∀ c : Dev Cert.AdamQkvRefIdeal.nD,
          r.2.mem ((c.tc : Thread Cert.AdamQkvRefIdeal.nD Cert.AdamQkvRefIdeal.τ).loc Cert.AdamQkvRefIdeal.main_v14) = v0 c
          ∧ r.2.mem ((c.tc : Thread Cert.AdamQkvRefIdeal.nD Cert.AdamQkvRefIdeal.τ).loc Cert.AdamQkvRefIdeal.main_v38) = v1 c
          ∧ r.2.mem ((c.tc : Thread Cert.AdamQkvRefIdeal.nD Cert.AdamQkvRefIdeal.τ).loc Cert.AdamQkvRefIdeal.main_v19) = v2 c
          ∧ r.2.mem ((c.tc : Thread Cert.AdamQkvRefIdeal.nD Cert.AdamQkvRefIdeal.τ).loc Cert.AdamQkvRefIdeal.main_v25) = v3 c
          ∧ r.2.mem ((c.tc : Thread Cert.AdamQkvRefIdeal.nD Cert.AdamQkvRefIdeal.τ).loc Cert.AdamQkvRefIdeal.main_arg0) = m' ((c.tc : Thread Cert.AdamQkvRefIdeal.nD Cert.AdamQkvRefIdeal.τ).loc Cert.AdamQkvRefIdeal.main_arg0)
          ∧ r.2.mem ((c.tc : Thread Cert.AdamQkvRefIdeal.nD Cert.AdamQkvRefIdeal.τ).loc Cert.AdamQkvRefIdeal.main_arg1) = m' ((c.tc : Thread Cert.AdamQkvRefIdeal.nD Cert.AdamQkvRefIdeal.τ).loc Cert.AdamQkvRefIdeal.main_arg1)
          ∧ r.2.mem ((c.tc : Thread Cert.AdamQkvRefIdeal.nD Cert.AdamQkvRefIdeal.τ).loc Cert.AdamQkvRefIdeal.main_arg2) = m' ((c.tc : Thread Cert.AdamQkvRefIdeal.nD Cert.AdamQkvRefIdeal.τ).loc Cert.AdamQkvRefIdeal.main_arg2)
          ∧ r.2.mem ((c.tc : Thread Cert.AdamQkvRefIdeal.nD Cert.AdamQkvRefIdeal.τ).loc Cert.AdamQkvRefIdeal.main_arg3) = m' ((c.tc : Thread Cert.AdamQkvRefIdeal.nD Cert.AdamQkvRefIdeal.τ).loc Cert.AdamQkvRefIdeal.main_arg3)
          ∧ r.2.mem ((c.tc : Thread Cert.AdamQkvRefIdeal.nD Cert.AdamQkvRefIdeal.τ).loc Cert.AdamQkvRefIdeal.main_arg4) = m' ((c.tc : Thread Cert.AdamQkvRefIdeal.nD Cert.AdamQkvRefIdeal.τ).loc Cert.AdamQkvRefIdeal.main_arg4)
          ∧ r.2.mem ((c.tc : Thread Cert.AdamQkvRefIdeal.nD Cert.AdamQkvRefIdeal.τ).loc Cert.AdamQkvRefIdeal.main_arg5) = m' ((c.tc : Thread Cert.AdamQkvRefIdeal.nD Cert.AdamQkvRefIdeal.τ).loc Cert.AdamQkvRefIdeal.main_arg5))

def preserves_AdamAttnO_AdamAttnOIdeal : Prop :=
  True

def algebraic_AdamAttnOIdeal_AdamAttnORefIdeal [hAdamAttnOIdeal : Cert.AdamAttnOIdeal.Facts] [hAdamAttnORefIdeal : Cert.AdamAttnORefIdeal.Facts] : Prop :=
  ∀ (m : (ℓ : Loc Cert.AdamAttnOIdeal.nD Cert.AdamAttnOIdeal.τ Cert.AdamAttnOIdeal.sig) → Buf (Elt Ideal) ℓ) (g : Dev Cert.AdamAttnOIdeal.nD → PrngReg)
    (m' : (ℓ : Loc Cert.AdamAttnORefIdeal.nD Cert.AdamAttnORefIdeal.τ Cert.AdamAttnORefIdeal.sig) → Buf (Elt Ideal) ℓ) (g' : Dev Cert.AdamAttnORefIdeal.nD → PrngReg), Pre_AdamAttnOIdeal m →
    (∀ c : Dev Cert.AdamAttnOIdeal.nD,
      m' ((c.tc : Thread Cert.AdamAttnORefIdeal.nD Cert.AdamAttnORefIdeal.τ).loc Cert.AdamAttnORefIdeal.main_arg0) = m ((c.tc : Thread Cert.AdamAttnOIdeal.nD Cert.AdamAttnOIdeal.τ).loc Cert.AdamAttnOIdeal.main_arg0)
      ∧ m' ((c.tc : Thread Cert.AdamAttnORefIdeal.nD Cert.AdamAttnORefIdeal.τ).loc Cert.AdamAttnORefIdeal.main_arg1) = m ((c.tc : Thread Cert.AdamAttnOIdeal.nD Cert.AdamAttnOIdeal.τ).loc Cert.AdamAttnOIdeal.main_arg1)
      ∧ m' ((c.tc : Thread Cert.AdamAttnORefIdeal.nD Cert.AdamAttnORefIdeal.τ).loc Cert.AdamAttnORefIdeal.main_arg2) = m ((c.tc : Thread Cert.AdamAttnOIdeal.nD Cert.AdamAttnOIdeal.τ).loc Cert.AdamAttnOIdeal.main_arg2)
      ∧ m' ((c.tc : Thread Cert.AdamAttnORefIdeal.nD Cert.AdamAttnORefIdeal.τ).loc Cert.AdamAttnORefIdeal.main_arg3) = m ((c.tc : Thread Cert.AdamAttnOIdeal.nD Cert.AdamAttnOIdeal.τ).loc Cert.AdamAttnOIdeal.main_arg3)
      ∧ m' ((c.tc : Thread Cert.AdamAttnORefIdeal.nD Cert.AdamAttnORefIdeal.τ).loc Cert.AdamAttnORefIdeal.main_arg4) = m ((c.tc : Thread Cert.AdamAttnOIdeal.nD Cert.AdamAttnOIdeal.τ).loc Cert.AdamAttnOIdeal.main_arg4)
      ∧ m' ((c.tc : Thread Cert.AdamAttnORefIdeal.nD Cert.AdamAttnORefIdeal.τ).loc Cert.AdamAttnORefIdeal.main_arg5) = m ((c.tc : Thread Cert.AdamAttnOIdeal.nD Cert.AdamAttnOIdeal.τ).loc Cert.AdamAttnOIdeal.main_arg5)) →
    ∃ (v0 : (c : Dev Cert.AdamAttnOIdeal.nD) → Buf (Elt Ideal) ((c.tc : Thread Cert.AdamAttnOIdeal.nD Cert.AdamAttnOIdeal.τ).loc Cert.AdamAttnOIdeal.main_v0_0)) (v1 : (c : Dev Cert.AdamAttnOIdeal.nD) → Buf (Elt Ideal) ((c.tc : Thread Cert.AdamAttnOIdeal.nD Cert.AdamAttnOIdeal.τ).loc Cert.AdamAttnOIdeal.main_v0_1)) (v2 : (c : Dev Cert.AdamAttnOIdeal.nD) → Buf (Elt Ideal) ((c.tc : Thread Cert.AdamAttnOIdeal.nD Cert.AdamAttnOIdeal.τ).loc Cert.AdamAttnOIdeal.main_v0_2)) (v3 : (c : Dev Cert.AdamAttnOIdeal.nD) → Buf (Elt Ideal) ((c.tc : Thread Cert.AdamAttnOIdeal.nD Cert.AdamAttnOIdeal.τ).loc Cert.AdamAttnOIdeal.main_v0_3)),
      θ_run (Cert.AdamAttnOIdeal.defs (F := Ideal)) (onTc (τ := Cert.AdamAttnOIdeal.τ) (Cert.AdamAttnOIdeal.main (F := Ideal))) ⟨m, fun _ => 0, g⟩ (fun r => ∀ c : Dev Cert.AdamAttnOIdeal.nD,
          r.2.mem ((c.tc : Thread Cert.AdamAttnOIdeal.nD Cert.AdamAttnOIdeal.τ).loc Cert.AdamAttnOIdeal.main_v0_0) = v0 c
          ∧ r.2.mem ((c.tc : Thread Cert.AdamAttnOIdeal.nD Cert.AdamAttnOIdeal.τ).loc Cert.AdamAttnOIdeal.main_v0_1) = v1 c
          ∧ r.2.mem ((c.tc : Thread Cert.AdamAttnOIdeal.nD Cert.AdamAttnOIdeal.τ).loc Cert.AdamAttnOIdeal.main_v0_2) = v2 c
          ∧ r.2.mem ((c.tc : Thread Cert.AdamAttnOIdeal.nD Cert.AdamAttnOIdeal.τ).loc Cert.AdamAttnOIdeal.main_v0_3) = v3 c
          ∧ r.2.mem ((c.tc : Thread Cert.AdamAttnOIdeal.nD Cert.AdamAttnOIdeal.τ).loc Cert.AdamAttnOIdeal.main_arg0) = m ((c.tc : Thread Cert.AdamAttnOIdeal.nD Cert.AdamAttnOIdeal.τ).loc Cert.AdamAttnOIdeal.main_arg0)
          ∧ r.2.mem ((c.tc : Thread Cert.AdamAttnOIdeal.nD Cert.AdamAttnOIdeal.τ).loc Cert.AdamAttnOIdeal.main_arg1) = m ((c.tc : Thread Cert.AdamAttnOIdeal.nD Cert.AdamAttnOIdeal.τ).loc Cert.AdamAttnOIdeal.main_arg1)
          ∧ r.2.mem ((c.tc : Thread Cert.AdamAttnOIdeal.nD Cert.AdamAttnOIdeal.τ).loc Cert.AdamAttnOIdeal.main_arg2) = m ((c.tc : Thread Cert.AdamAttnOIdeal.nD Cert.AdamAttnOIdeal.τ).loc Cert.AdamAttnOIdeal.main_arg2)
          ∧ r.2.mem ((c.tc : Thread Cert.AdamAttnOIdeal.nD Cert.AdamAttnOIdeal.τ).loc Cert.AdamAttnOIdeal.main_arg3) = m ((c.tc : Thread Cert.AdamAttnOIdeal.nD Cert.AdamAttnOIdeal.τ).loc Cert.AdamAttnOIdeal.main_arg3)
          ∧ r.2.mem ((c.tc : Thread Cert.AdamAttnOIdeal.nD Cert.AdamAttnOIdeal.τ).loc Cert.AdamAttnOIdeal.main_arg4) = m ((c.tc : Thread Cert.AdamAttnOIdeal.nD Cert.AdamAttnOIdeal.τ).loc Cert.AdamAttnOIdeal.main_arg4)
          ∧ r.2.mem ((c.tc : Thread Cert.AdamAttnOIdeal.nD Cert.AdamAttnOIdeal.τ).loc Cert.AdamAttnOIdeal.main_arg5) = m ((c.tc : Thread Cert.AdamAttnOIdeal.nD Cert.AdamAttnOIdeal.τ).loc Cert.AdamAttnOIdeal.main_arg5))
      ∧ θ_run (Cert.AdamAttnORefIdeal.defs (F := Ideal)) (onTc (τ := Cert.AdamAttnORefIdeal.τ) (Cert.AdamAttnORefIdeal.main (F := Ideal))) ⟨m', fun _ => 0, g'⟩ (fun r => ∀ c : Dev Cert.AdamAttnORefIdeal.nD,
          r.2.mem ((c.tc : Thread Cert.AdamAttnORefIdeal.nD Cert.AdamAttnORefIdeal.τ).loc Cert.AdamAttnORefIdeal.main_v14) = v0 c
          ∧ r.2.mem ((c.tc : Thread Cert.AdamAttnORefIdeal.nD Cert.AdamAttnORefIdeal.τ).loc Cert.AdamAttnORefIdeal.main_v38) = v1 c
          ∧ r.2.mem ((c.tc : Thread Cert.AdamAttnORefIdeal.nD Cert.AdamAttnORefIdeal.τ).loc Cert.AdamAttnORefIdeal.main_v19) = v2 c
          ∧ r.2.mem ((c.tc : Thread Cert.AdamAttnORefIdeal.nD Cert.AdamAttnORefIdeal.τ).loc Cert.AdamAttnORefIdeal.main_v25) = v3 c
          ∧ r.2.mem ((c.tc : Thread Cert.AdamAttnORefIdeal.nD Cert.AdamAttnORefIdeal.τ).loc Cert.AdamAttnORefIdeal.main_arg0) = m' ((c.tc : Thread Cert.AdamAttnORefIdeal.nD Cert.AdamAttnORefIdeal.τ).loc Cert.AdamAttnORefIdeal.main_arg0)
          ∧ r.2.mem ((c.tc : Thread Cert.AdamAttnORefIdeal.nD Cert.AdamAttnORefIdeal.τ).loc Cert.AdamAttnORefIdeal.main_arg1) = m' ((c.tc : Thread Cert.AdamAttnORefIdeal.nD Cert.AdamAttnORefIdeal.τ).loc Cert.AdamAttnORefIdeal.main_arg1)
          ∧ r.2.mem ((c.tc : Thread Cert.AdamAttnORefIdeal.nD Cert.AdamAttnORefIdeal.τ).loc Cert.AdamAttnORefIdeal.main_arg2) = m' ((c.tc : Thread Cert.AdamAttnORefIdeal.nD Cert.AdamAttnORefIdeal.τ).loc Cert.AdamAttnORefIdeal.main_arg2)
          ∧ r.2.mem ((c.tc : Thread Cert.AdamAttnORefIdeal.nD Cert.AdamAttnORefIdeal.τ).loc Cert.AdamAttnORefIdeal.main_arg3) = m' ((c.tc : Thread Cert.AdamAttnORefIdeal.nD Cert.AdamAttnORefIdeal.τ).loc Cert.AdamAttnORefIdeal.main_arg3)
          ∧ r.2.mem ((c.tc : Thread Cert.AdamAttnORefIdeal.nD Cert.AdamAttnORefIdeal.τ).loc Cert.AdamAttnORefIdeal.main_arg4) = m' ((c.tc : Thread Cert.AdamAttnORefIdeal.nD Cert.AdamAttnORefIdeal.τ).loc Cert.AdamAttnORefIdeal.main_arg4)
          ∧ r.2.mem ((c.tc : Thread Cert.AdamAttnORefIdeal.nD Cert.AdamAttnORefIdeal.τ).loc Cert.AdamAttnORefIdeal.main_arg5) = m' ((c.tc : Thread Cert.AdamAttnORefIdeal.nD Cert.AdamAttnORefIdeal.τ).loc Cert.AdamAttnORefIdeal.main_arg5))

def preserves_AdamQkvg_AdamQkvgIdeal : Prop :=
  True

def algebraic_AdamQkvgIdeal_AdamQkvgRefIdeal [hAdamQkvgIdeal : Cert.AdamQkvgIdeal.Facts] [hAdamQkvgRefIdeal : Cert.AdamQkvgRefIdeal.Facts] : Prop :=
  ∀ (m : (ℓ : Loc Cert.AdamQkvgIdeal.nD Cert.AdamQkvgIdeal.τ Cert.AdamQkvgIdeal.sig) → Buf (Elt Ideal) ℓ) (g : Dev Cert.AdamQkvgIdeal.nD → PrngReg)
    (m' : (ℓ : Loc Cert.AdamQkvgRefIdeal.nD Cert.AdamQkvgRefIdeal.τ Cert.AdamQkvgRefIdeal.sig) → Buf (Elt Ideal) ℓ) (g' : Dev Cert.AdamQkvgRefIdeal.nD → PrngReg), Pre_AdamQkvgIdeal m →
    (∀ c : Dev Cert.AdamQkvgIdeal.nD,
      m' ((c.tc : Thread Cert.AdamQkvgRefIdeal.nD Cert.AdamQkvgRefIdeal.τ).loc Cert.AdamQkvgRefIdeal.main_arg0) = m ((c.tc : Thread Cert.AdamQkvgIdeal.nD Cert.AdamQkvgIdeal.τ).loc Cert.AdamQkvgIdeal.main_arg0)
      ∧ m' ((c.tc : Thread Cert.AdamQkvgRefIdeal.nD Cert.AdamQkvgRefIdeal.τ).loc Cert.AdamQkvgRefIdeal.main_arg1) = m ((c.tc : Thread Cert.AdamQkvgIdeal.nD Cert.AdamQkvgIdeal.τ).loc Cert.AdamQkvgIdeal.main_arg1)
      ∧ m' ((c.tc : Thread Cert.AdamQkvgRefIdeal.nD Cert.AdamQkvgRefIdeal.τ).loc Cert.AdamQkvgRefIdeal.main_arg2) = m ((c.tc : Thread Cert.AdamQkvgIdeal.nD Cert.AdamQkvgIdeal.τ).loc Cert.AdamQkvgIdeal.main_arg2)
      ∧ m' ((c.tc : Thread Cert.AdamQkvgRefIdeal.nD Cert.AdamQkvgRefIdeal.τ).loc Cert.AdamQkvgRefIdeal.main_arg3) = m ((c.tc : Thread Cert.AdamQkvgIdeal.nD Cert.AdamQkvgIdeal.τ).loc Cert.AdamQkvgIdeal.main_arg3)
      ∧ m' ((c.tc : Thread Cert.AdamQkvgRefIdeal.nD Cert.AdamQkvgRefIdeal.τ).loc Cert.AdamQkvgRefIdeal.main_arg4) = m ((c.tc : Thread Cert.AdamQkvgIdeal.nD Cert.AdamQkvgIdeal.τ).loc Cert.AdamQkvgIdeal.main_arg4)
      ∧ m' ((c.tc : Thread Cert.AdamQkvgRefIdeal.nD Cert.AdamQkvgRefIdeal.τ).loc Cert.AdamQkvgRefIdeal.main_arg5) = m ((c.tc : Thread Cert.AdamQkvgIdeal.nD Cert.AdamQkvgIdeal.τ).loc Cert.AdamQkvgIdeal.main_arg5)) →
    ∃ (v0 : (c : Dev Cert.AdamQkvgIdeal.nD) → Buf (Elt Ideal) ((c.tc : Thread Cert.AdamQkvgIdeal.nD Cert.AdamQkvgIdeal.τ).loc Cert.AdamQkvgIdeal.main_v0_0)) (v1 : (c : Dev Cert.AdamQkvgIdeal.nD) → Buf (Elt Ideal) ((c.tc : Thread Cert.AdamQkvgIdeal.nD Cert.AdamQkvgIdeal.τ).loc Cert.AdamQkvgIdeal.main_v0_1)) (v2 : (c : Dev Cert.AdamQkvgIdeal.nD) → Buf (Elt Ideal) ((c.tc : Thread Cert.AdamQkvgIdeal.nD Cert.AdamQkvgIdeal.τ).loc Cert.AdamQkvgIdeal.main_v0_2)) (v3 : (c : Dev Cert.AdamQkvgIdeal.nD) → Buf (Elt Ideal) ((c.tc : Thread Cert.AdamQkvgIdeal.nD Cert.AdamQkvgIdeal.τ).loc Cert.AdamQkvgIdeal.main_v0_3)),
      θ_run (Cert.AdamQkvgIdeal.defs (F := Ideal)) (onTc (τ := Cert.AdamQkvgIdeal.τ) (Cert.AdamQkvgIdeal.main (F := Ideal))) ⟨m, fun _ => 0, g⟩ (fun r => ∀ c : Dev Cert.AdamQkvgIdeal.nD,
          r.2.mem ((c.tc : Thread Cert.AdamQkvgIdeal.nD Cert.AdamQkvgIdeal.τ).loc Cert.AdamQkvgIdeal.main_v0_0) = v0 c
          ∧ r.2.mem ((c.tc : Thread Cert.AdamQkvgIdeal.nD Cert.AdamQkvgIdeal.τ).loc Cert.AdamQkvgIdeal.main_v0_1) = v1 c
          ∧ r.2.mem ((c.tc : Thread Cert.AdamQkvgIdeal.nD Cert.AdamQkvgIdeal.τ).loc Cert.AdamQkvgIdeal.main_v0_2) = v2 c
          ∧ r.2.mem ((c.tc : Thread Cert.AdamQkvgIdeal.nD Cert.AdamQkvgIdeal.τ).loc Cert.AdamQkvgIdeal.main_v0_3) = v3 c
          ∧ r.2.mem ((c.tc : Thread Cert.AdamQkvgIdeal.nD Cert.AdamQkvgIdeal.τ).loc Cert.AdamQkvgIdeal.main_arg0) = m ((c.tc : Thread Cert.AdamQkvgIdeal.nD Cert.AdamQkvgIdeal.τ).loc Cert.AdamQkvgIdeal.main_arg0)
          ∧ r.2.mem ((c.tc : Thread Cert.AdamQkvgIdeal.nD Cert.AdamQkvgIdeal.τ).loc Cert.AdamQkvgIdeal.main_arg1) = m ((c.tc : Thread Cert.AdamQkvgIdeal.nD Cert.AdamQkvgIdeal.τ).loc Cert.AdamQkvgIdeal.main_arg1)
          ∧ r.2.mem ((c.tc : Thread Cert.AdamQkvgIdeal.nD Cert.AdamQkvgIdeal.τ).loc Cert.AdamQkvgIdeal.main_arg2) = m ((c.tc : Thread Cert.AdamQkvgIdeal.nD Cert.AdamQkvgIdeal.τ).loc Cert.AdamQkvgIdeal.main_arg2)
          ∧ r.2.mem ((c.tc : Thread Cert.AdamQkvgIdeal.nD Cert.AdamQkvgIdeal.τ).loc Cert.AdamQkvgIdeal.main_arg3) = m ((c.tc : Thread Cert.AdamQkvgIdeal.nD Cert.AdamQkvgIdeal.τ).loc Cert.AdamQkvgIdeal.main_arg3)
          ∧ r.2.mem ((c.tc : Thread Cert.AdamQkvgIdeal.nD Cert.AdamQkvgIdeal.τ).loc Cert.AdamQkvgIdeal.main_arg4) = m ((c.tc : Thread Cert.AdamQkvgIdeal.nD Cert.AdamQkvgIdeal.τ).loc Cert.AdamQkvgIdeal.main_arg4)
          ∧ r.2.mem ((c.tc : Thread Cert.AdamQkvgIdeal.nD Cert.AdamQkvgIdeal.τ).loc Cert.AdamQkvgIdeal.main_arg5) = m ((c.tc : Thread Cert.AdamQkvgIdeal.nD Cert.AdamQkvgIdeal.τ).loc Cert.AdamQkvgIdeal.main_arg5))
      ∧ θ_run (Cert.AdamQkvgRefIdeal.defs (F := Ideal)) (onTc (τ := Cert.AdamQkvgRefIdeal.τ) (Cert.AdamQkvgRefIdeal.main (F := Ideal))) ⟨m', fun _ => 0, g'⟩ (fun r => ∀ c : Dev Cert.AdamQkvgRefIdeal.nD,
          r.2.mem ((c.tc : Thread Cert.AdamQkvgRefIdeal.nD Cert.AdamQkvgRefIdeal.τ).loc Cert.AdamQkvgRefIdeal.main_v14) = v0 c
          ∧ r.2.mem ((c.tc : Thread Cert.AdamQkvgRefIdeal.nD Cert.AdamQkvgRefIdeal.τ).loc Cert.AdamQkvgRefIdeal.main_v38) = v1 c
          ∧ r.2.mem ((c.tc : Thread Cert.AdamQkvgRefIdeal.nD Cert.AdamQkvgRefIdeal.τ).loc Cert.AdamQkvgRefIdeal.main_v19) = v2 c
          ∧ r.2.mem ((c.tc : Thread Cert.AdamQkvgRefIdeal.nD Cert.AdamQkvgRefIdeal.τ).loc Cert.AdamQkvgRefIdeal.main_v25) = v3 c
          ∧ r.2.mem ((c.tc : Thread Cert.AdamQkvgRefIdeal.nD Cert.AdamQkvgRefIdeal.τ).loc Cert.AdamQkvgRefIdeal.main_arg0) = m' ((c.tc : Thread Cert.AdamQkvgRefIdeal.nD Cert.AdamQkvgRefIdeal.τ).loc Cert.AdamQkvgRefIdeal.main_arg0)
          ∧ r.2.mem ((c.tc : Thread Cert.AdamQkvgRefIdeal.nD Cert.AdamQkvgRefIdeal.τ).loc Cert.AdamQkvgRefIdeal.main_arg1) = m' ((c.tc : Thread Cert.AdamQkvgRefIdeal.nD Cert.AdamQkvgRefIdeal.τ).loc Cert.AdamQkvgRefIdeal.main_arg1)
          ∧ r.2.mem ((c.tc : Thread Cert.AdamQkvgRefIdeal.nD Cert.AdamQkvgRefIdeal.τ).loc Cert.AdamQkvgRefIdeal.main_arg2) = m' ((c.tc : Thread Cert.AdamQkvgRefIdeal.nD Cert.AdamQkvgRefIdeal.τ).loc Cert.AdamQkvgRefIdeal.main_arg2)
          ∧ r.2.mem ((c.tc : Thread Cert.AdamQkvgRefIdeal.nD Cert.AdamQkvgRefIdeal.τ).loc Cert.AdamQkvgRefIdeal.main_arg3) = m' ((c.tc : Thread Cert.AdamQkvgRefIdeal.nD Cert.AdamQkvgRefIdeal.τ).loc Cert.AdamQkvgRefIdeal.main_arg3)
          ∧ r.2.mem ((c.tc : Thread Cert.AdamQkvgRefIdeal.nD Cert.AdamQkvgRefIdeal.τ).loc Cert.AdamQkvgRefIdeal.main_arg4) = m' ((c.tc : Thread Cert.AdamQkvgRefIdeal.nD Cert.AdamQkvgRefIdeal.τ).loc Cert.AdamQkvgRefIdeal.main_arg4)
          ∧ r.2.mem ((c.tc : Thread Cert.AdamQkvgRefIdeal.nD Cert.AdamQkvgRefIdeal.τ).loc Cert.AdamQkvgRefIdeal.main_arg5) = m' ((c.tc : Thread Cert.AdamQkvgRefIdeal.nD Cert.AdamQkvgRefIdeal.τ).loc Cert.AdamQkvgRefIdeal.main_arg5))

def preserves_AdamRetO_AdamRetOIdeal : Prop :=
  True

def algebraic_AdamRetOIdeal_AdamRetORefIdeal [hAdamRetOIdeal : Cert.AdamRetOIdeal.Facts] [hAdamRetORefIdeal : Cert.AdamRetORefIdeal.Facts] : Prop :=
  ∀ (m : (ℓ : Loc Cert.AdamRetOIdeal.nD Cert.AdamRetOIdeal.τ Cert.AdamRetOIdeal.sig) → Buf (Elt Ideal) ℓ) (g : Dev Cert.AdamRetOIdeal.nD → PrngReg)
    (m' : (ℓ : Loc Cert.AdamRetORefIdeal.nD Cert.AdamRetORefIdeal.τ Cert.AdamRetORefIdeal.sig) → Buf (Elt Ideal) ℓ) (g' : Dev Cert.AdamRetORefIdeal.nD → PrngReg), Pre_AdamRetOIdeal m →
    (∀ c : Dev Cert.AdamRetOIdeal.nD,
      m' ((c.tc : Thread Cert.AdamRetORefIdeal.nD Cert.AdamRetORefIdeal.τ).loc Cert.AdamRetORefIdeal.main_arg0) = m ((c.tc : Thread Cert.AdamRetOIdeal.nD Cert.AdamRetOIdeal.τ).loc Cert.AdamRetOIdeal.main_arg0)
      ∧ m' ((c.tc : Thread Cert.AdamRetORefIdeal.nD Cert.AdamRetORefIdeal.τ).loc Cert.AdamRetORefIdeal.main_arg1) = m ((c.tc : Thread Cert.AdamRetOIdeal.nD Cert.AdamRetOIdeal.τ).loc Cert.AdamRetOIdeal.main_arg1)
      ∧ m' ((c.tc : Thread Cert.AdamRetORefIdeal.nD Cert.AdamRetORefIdeal.τ).loc Cert.AdamRetORefIdeal.main_arg2) = m ((c.tc : Thread Cert.AdamRetOIdeal.nD Cert.AdamRetOIdeal.τ).loc Cert.AdamRetOIdeal.main_arg2)
      ∧ m' ((c.tc : Thread Cert.AdamRetORefIdeal.nD Cert.AdamRetORefIdeal.τ).loc Cert.AdamRetORefIdeal.main_arg3) = m ((c.tc : Thread Cert.AdamRetOIdeal.nD Cert.AdamRetOIdeal.τ).loc Cert.AdamRetOIdeal.main_arg3)
      ∧ m' ((c.tc : Thread Cert.AdamRetORefIdeal.nD Cert.AdamRetORefIdeal.τ).loc Cert.AdamRetORefIdeal.main_arg4) = m ((c.tc : Thread Cert.AdamRetOIdeal.nD Cert.AdamRetOIdeal.τ).loc Cert.AdamRetOIdeal.main_arg4)
      ∧ m' ((c.tc : Thread Cert.AdamRetORefIdeal.nD Cert.AdamRetORefIdeal.τ).loc Cert.AdamRetORefIdeal.main_arg5) = m ((c.tc : Thread Cert.AdamRetOIdeal.nD Cert.AdamRetOIdeal.τ).loc Cert.AdamRetOIdeal.main_arg5)) →
    ∃ (v0 : (c : Dev Cert.AdamRetOIdeal.nD) → Buf (Elt Ideal) ((c.tc : Thread Cert.AdamRetOIdeal.nD Cert.AdamRetOIdeal.τ).loc Cert.AdamRetOIdeal.main_v0_0)) (v1 : (c : Dev Cert.AdamRetOIdeal.nD) → Buf (Elt Ideal) ((c.tc : Thread Cert.AdamRetOIdeal.nD Cert.AdamRetOIdeal.τ).loc Cert.AdamRetOIdeal.main_v0_1)) (v2 : (c : Dev Cert.AdamRetOIdeal.nD) → Buf (Elt Ideal) ((c.tc : Thread Cert.AdamRetOIdeal.nD Cert.AdamRetOIdeal.τ).loc Cert.AdamRetOIdeal.main_v0_2)) (v3 : (c : Dev Cert.AdamRetOIdeal.nD) → Buf (Elt Ideal) ((c.tc : Thread Cert.AdamRetOIdeal.nD Cert.AdamRetOIdeal.τ).loc Cert.AdamRetOIdeal.main_v0_3)),
      θ_run (Cert.AdamRetOIdeal.defs (F := Ideal)) (onTc (τ := Cert.AdamRetOIdeal.τ) (Cert.AdamRetOIdeal.main (F := Ideal))) ⟨m, fun _ => 0, g⟩ (fun r => ∀ c : Dev Cert.AdamRetOIdeal.nD,
          r.2.mem ((c.tc : Thread Cert.AdamRetOIdeal.nD Cert.AdamRetOIdeal.τ).loc Cert.AdamRetOIdeal.main_v0_0) = v0 c
          ∧ r.2.mem ((c.tc : Thread Cert.AdamRetOIdeal.nD Cert.AdamRetOIdeal.τ).loc Cert.AdamRetOIdeal.main_v0_1) = v1 c
          ∧ r.2.mem ((c.tc : Thread Cert.AdamRetOIdeal.nD Cert.AdamRetOIdeal.τ).loc Cert.AdamRetOIdeal.main_v0_2) = v2 c
          ∧ r.2.mem ((c.tc : Thread Cert.AdamRetOIdeal.nD Cert.AdamRetOIdeal.τ).loc Cert.AdamRetOIdeal.main_v0_3) = v3 c
          ∧ r.2.mem ((c.tc : Thread Cert.AdamRetOIdeal.nD Cert.AdamRetOIdeal.τ).loc Cert.AdamRetOIdeal.main_arg0) = m ((c.tc : Thread Cert.AdamRetOIdeal.nD Cert.AdamRetOIdeal.τ).loc Cert.AdamRetOIdeal.main_arg0)
          ∧ r.2.mem ((c.tc : Thread Cert.AdamRetOIdeal.nD Cert.AdamRetOIdeal.τ).loc Cert.AdamRetOIdeal.main_arg1) = m ((c.tc : Thread Cert.AdamRetOIdeal.nD Cert.AdamRetOIdeal.τ).loc Cert.AdamRetOIdeal.main_arg1)
          ∧ r.2.mem ((c.tc : Thread Cert.AdamRetOIdeal.nD Cert.AdamRetOIdeal.τ).loc Cert.AdamRetOIdeal.main_arg2) = m ((c.tc : Thread Cert.AdamRetOIdeal.nD Cert.AdamRetOIdeal.τ).loc Cert.AdamRetOIdeal.main_arg2)
          ∧ r.2.mem ((c.tc : Thread Cert.AdamRetOIdeal.nD Cert.AdamRetOIdeal.τ).loc Cert.AdamRetOIdeal.main_arg3) = m ((c.tc : Thread Cert.AdamRetOIdeal.nD Cert.AdamRetOIdeal.τ).loc Cert.AdamRetOIdeal.main_arg3)
          ∧ r.2.mem ((c.tc : Thread Cert.AdamRetOIdeal.nD Cert.AdamRetOIdeal.τ).loc Cert.AdamRetOIdeal.main_arg4) = m ((c.tc : Thread Cert.AdamRetOIdeal.nD Cert.AdamRetOIdeal.τ).loc Cert.AdamRetOIdeal.main_arg4)
          ∧ r.2.mem ((c.tc : Thread Cert.AdamRetOIdeal.nD Cert.AdamRetOIdeal.τ).loc Cert.AdamRetOIdeal.main_arg5) = m ((c.tc : Thread Cert.AdamRetOIdeal.nD Cert.AdamRetOIdeal.τ).loc Cert.AdamRetOIdeal.main_arg5))
      ∧ θ_run (Cert.AdamRetORefIdeal.defs (F := Ideal)) (onTc (τ := Cert.AdamRetORefIdeal.τ) (Cert.AdamRetORefIdeal.main (F := Ideal))) ⟨m', fun _ => 0, g'⟩ (fun r => ∀ c : Dev Cert.AdamRetORefIdeal.nD,
          r.2.mem ((c.tc : Thread Cert.AdamRetORefIdeal.nD Cert.AdamRetORefIdeal.τ).loc Cert.AdamRetORefIdeal.main_v14) = v0 c
          ∧ r.2.mem ((c.tc : Thread Cert.AdamRetORefIdeal.nD Cert.AdamRetORefIdeal.τ).loc Cert.AdamRetORefIdeal.main_v38) = v1 c
          ∧ r.2.mem ((c.tc : Thread Cert.AdamRetORefIdeal.nD Cert.AdamRetORefIdeal.τ).loc Cert.AdamRetORefIdeal.main_v19) = v2 c
          ∧ r.2.mem ((c.tc : Thread Cert.AdamRetORefIdeal.nD Cert.AdamRetORefIdeal.τ).loc Cert.AdamRetORefIdeal.main_v25) = v3 c
          ∧ r.2.mem ((c.tc : Thread Cert.AdamRetORefIdeal.nD Cert.AdamRetORefIdeal.τ).loc Cert.AdamRetORefIdeal.main_arg0) = m' ((c.tc : Thread Cert.AdamRetORefIdeal.nD Cert.AdamRetORefIdeal.τ).loc Cert.AdamRetORefIdeal.main_arg0)
          ∧ r.2.mem ((c.tc : Thread Cert.AdamRetORefIdeal.nD Cert.AdamRetORefIdeal.τ).loc Cert.AdamRetORefIdeal.main_arg1) = m' ((c.tc : Thread Cert.AdamRetORefIdeal.nD Cert.AdamRetORefIdeal.τ).loc Cert.AdamRetORefIdeal.main_arg1)
          ∧ r.2.mem ((c.tc : Thread Cert.AdamRetORefIdeal.nD Cert.AdamRetORefIdeal.τ).loc Cert.AdamRetORefIdeal.main_arg2) = m' ((c.tc : Thread Cert.AdamRetORefIdeal.nD Cert.AdamRetORefIdeal.τ).loc Cert.AdamRetORefIdeal.main_arg2)
          ∧ r.2.mem ((c.tc : Thread Cert.AdamRetORefIdeal.nD Cert.AdamRetORefIdeal.τ).loc Cert.AdamRetORefIdeal.main_arg3) = m' ((c.tc : Thread Cert.AdamRetORefIdeal.nD Cert.AdamRetORefIdeal.τ).loc Cert.AdamRetORefIdeal.main_arg3)
          ∧ r.2.mem ((c.tc : Thread Cert.AdamRetORefIdeal.nD Cert.AdamRetORefIdeal.τ).loc Cert.AdamRetORefIdeal.main_arg4) = m' ((c.tc : Thread Cert.AdamRetORefIdeal.nD Cert.AdamRetORefIdeal.τ).loc Cert.AdamRetORefIdeal.main_arg4)
          ∧ r.2.mem ((c.tc : Thread Cert.AdamRetORefIdeal.nD Cert.AdamRetORefIdeal.τ).loc Cert.AdamRetORefIdeal.main_arg5) = m' ((c.tc : Thread Cert.AdamRetORefIdeal.nD Cert.AdamRetORefIdeal.τ).loc Cert.AdamRetORefIdeal.main_arg5))

def Claim : Prop :=
  ∃ (hKernel : Cert.Kernel.Facts) (hKernelIdeal : Cert.KernelIdeal.Facts) (hReferenceIdeal : Cert.ReferenceIdeal.Facts) (hL1QkvgDw : Cert.L1QkvgDw.Facts) (hL1QkvgDwIdeal : Cert.L1QkvgDwIdeal.Facts) (hL1QkvgDwRefIdeal : Cert.L1QkvgDwRefIdeal.Facts) (hL1QkvgDx : Cert.L1QkvgDx.Facts) (hL1QkvgDxIdeal : Cert.L1QkvgDxIdeal.Facts) (hL1QkvgDxRefIdeal : Cert.L1QkvgDxRefIdeal.Facts) (hL1Qkvg : Cert.L1Qkvg.Facts) (hL1QkvgIdeal : Cert.L1QkvgIdeal.Facts) (hL1QkvgRefIdeal : Cert.L1QkvgRefIdeal.Facts) (hL0InDw : Cert.L0InDw.Facts) (hL0InDwIdeal : Cert.L0InDwIdeal.Facts) (hL0InDwRefIdeal : Cert.L0InDwRefIdeal.Facts) (hL0InDx : Cert.L0InDx.Facts) (hL0InDxIdeal : Cert.L0InDxIdeal.Facts) (hL0InDxRefIdeal : Cert.L0InDxRefIdeal.Facts) (hL1InDw : Cert.L1InDw.Facts) (hL1InDwIdeal : Cert.L1InDwIdeal.Facts) (hL1InDwRefIdeal : Cert.L1InDwRefIdeal.Facts) (hL1InDx : Cert.L1InDx.Facts) (hL1InDxIdeal : Cert.L1InDxIdeal.Facts) (hL1InDxRefIdeal : Cert.L1InDxRefIdeal.Facts) (hL0OutDw : Cert.L0OutDw.Facts) (hL0OutDwIdeal : Cert.L0OutDwIdeal.Facts) (hL0OutDwRefIdeal : Cert.L0OutDwRefIdeal.Facts) (hL1OutDw : Cert.L1OutDw.Facts) (hL1OutDwIdeal : Cert.L1OutDwIdeal.Facts) (hL1OutDwRefIdeal : Cert.L1OutDwRefIdeal.Facts) (hL0In : Cert.L0In.Facts) (hL0InIdeal : Cert.L0InIdeal.Facts) (hL0InRefIdeal : Cert.L0InRefIdeal.Facts) (hL1In : Cert.L1In.Facts) (hL1InIdeal : Cert.L1InIdeal.Facts) (hL1InRefIdeal : Cert.L1InRefIdeal.Facts) (hL1RetOutDw : Cert.L1RetOutDw.Facts) (hL1RetOutDwIdeal : Cert.L1RetOutDwIdeal.Facts) (hL1RetOutDwRefIdeal : Cert.L1RetOutDwRefIdeal.Facts) (hL1RetOutDx : Cert.L1RetOutDx.Facts) (hL1RetOutDxIdeal : Cert.L1RetOutDxIdeal.Facts) (hL1RetOutDxRefIdeal : Cert.L1RetOutDxRefIdeal.Facts) (hL0Qkv : Cert.L0Qkv.Facts) (hL0QkvIdeal : Cert.L0QkvIdeal.Facts) (hL0QkvRefIdeal : Cert.L0QkvRefIdeal.Facts) (hL0QkvDw : Cert.L0QkvDw.Facts) (hL0QkvDwIdeal : Cert.L0QkvDwIdeal.Facts) (hL0QkvDwRefIdeal : Cert.L0QkvDwRefIdeal.Facts) (hL0QkvDx : Cert.L0QkvDx.Facts) (hL0QkvDxIdeal : Cert.L0QkvDxIdeal.Facts) (hL0QkvDxRefIdeal : Cert.L0QkvDxRefIdeal.Facts) (hL0AttnOutDw : Cert.L0AttnOutDw.Facts) (hL0AttnOutDwIdeal : Cert.L0AttnOutDwIdeal.Facts) (hL0AttnOutDwRefIdeal : Cert.L0AttnOutDwRefIdeal.Facts) (hL0AttnOutDx : Cert.L0AttnOutDx.Facts) (hL0AttnOutDxIdeal : Cert.L0AttnOutDxIdeal.Facts) (hL0AttnOutDxRefIdeal : Cert.L0AttnOutDxRefIdeal.Facts) (hL0AttnOut : Cert.L0AttnOut.Facts) (hL0AttnOutIdeal : Cert.L0AttnOutIdeal.Facts) (hL0AttnOutRefIdeal : Cert.L0AttnOutRefIdeal.Facts) (hL0Out : Cert.L0Out.Facts) (hL0OutIdeal : Cert.L0OutIdeal.Facts) (hL0OutRefIdeal : Cert.L0OutRefIdeal.Facts) (hL1RetOut : Cert.L1RetOut.Facts) (hL1RetOutIdeal : Cert.L1RetOutIdeal.Facts) (hL1RetOutRefIdeal : Cert.L1RetOutRefIdeal.Facts) (hL1Out : Cert.L1Out.Facts) (hL1OutIdeal : Cert.L1OutIdeal.Facts) (hL1OutRefIdeal : Cert.L1OutRefIdeal.Facts) (hL0OutDx : Cert.L0OutDx.Facts) (hL0OutDxIdeal : Cert.L0OutDxIdeal.Facts) (hL0OutDxRefIdeal : Cert.L0OutDxRefIdeal.Facts) (hL1OutDx : Cert.L1OutDx.Facts) (hL1OutDxIdeal : Cert.L1OutDxIdeal.Facts) (hL1OutDxRefIdeal : Cert.L1OutDxRefIdeal.Facts) (hAdaFwd : Cert.AdaFwd.Facts) (hAdaFwdIdeal : Cert.AdaFwdIdeal.Facts) (hAdaFwdRefIdeal : Cert.AdaFwdRefIdeal.Facts) (hAdaDw : Cert.AdaDw.Facts) (hAdaDwIdeal : Cert.AdaDwIdeal.Facts) (hAdaDwRefIdeal : Cert.AdaDwRefIdeal.Facts) (hAdaDc : Cert.AdaDc.Facts) (hAdaDcIdeal : Cert.AdaDcIdeal.Facts) (hAdaDcRefIdeal : Cert.AdaDcRefIdeal.Facts) (hAdamAda : Cert.AdamAda.Facts) (hAdamAdaIdeal : Cert.AdamAdaIdeal.Facts) (hAdamAdaRefIdeal : Cert.AdamAdaRefIdeal.Facts) (hAdamFfnIn : Cert.AdamFfnIn.Facts) (hAdamFfnInIdeal : Cert.AdamFfnInIdeal.Facts) (hAdamFfnInRefIdeal : Cert.AdamFfnInRefIdeal.Facts) (hAdamFfnOut : Cert.AdamFfnOut.Facts) (hAdamFfnOutIdeal : Cert.AdamFfnOutIdeal.Facts) (hAdamFfnOutRefIdeal : Cert.AdamFfnOutRefIdeal.Facts) (hAdamQkv : Cert.AdamQkv.Facts) (hAdamQkvIdeal : Cert.AdamQkvIdeal.Facts) (hAdamQkvRefIdeal : Cert.AdamQkvRefIdeal.Facts) (hAdamAttnO : Cert.AdamAttnO.Facts) (hAdamAttnOIdeal : Cert.AdamAttnOIdeal.Facts) (hAdamAttnORefIdeal : Cert.AdamAttnORefIdeal.Facts) (hAdamQkvg : Cert.AdamQkvg.Facts) (hAdamQkvgIdeal : Cert.AdamQkvgIdeal.Facts) (hAdamQkvgRefIdeal : Cert.AdamQkvgRefIdeal.Facts) (hAdamRetO : Cert.AdamRetO.Facts) (hAdamRetOIdeal : Cert.AdamRetOIdeal.Facts) (hAdamRetORefIdeal : Cert.AdamRetORefIdeal.Facts) (hPre_finite : Cert.Pre_finite.Facts) (hPre_finite0 : Cert.Pre_finite0.Facts) (hPre_finite1 : Cert.Pre_finite1.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_L1QkvgDw (hL1QkvgDw := hL1QkvgDw)
    ∧ quiescent_L1QkvgDwIdeal (hL1QkvgDwIdeal := hL1QkvgDwIdeal)
    ∧ quiescent_L1QkvgDwRefIdeal (hL1QkvgDwRefIdeal := hL1QkvgDwRefIdeal)
    ∧ quiescent_L1QkvgDx (hL1QkvgDx := hL1QkvgDx)
    ∧ quiescent_L1QkvgDxIdeal (hL1QkvgDxIdeal := hL1QkvgDxIdeal)
    ∧ quiescent_L1QkvgDxRefIdeal (hL1QkvgDxRefIdeal := hL1QkvgDxRefIdeal)
    ∧ quiescent_L1Qkvg (hL1Qkvg := hL1Qkvg)
    ∧ quiescent_L1QkvgIdeal (hL1QkvgIdeal := hL1QkvgIdeal)
    ∧ quiescent_L1QkvgRefIdeal (hL1QkvgRefIdeal := hL1QkvgRefIdeal)
    ∧ quiescent_L0InDw (hL0InDw := hL0InDw)
    ∧ quiescent_L0InDwIdeal (hL0InDwIdeal := hL0InDwIdeal)
    ∧ quiescent_L0InDwRefIdeal (hL0InDwRefIdeal := hL0InDwRefIdeal)
    ∧ quiescent_L0InDx (hL0InDx := hL0InDx)
    ∧ quiescent_L0InDxIdeal (hL0InDxIdeal := hL0InDxIdeal)
    ∧ quiescent_L0InDxRefIdeal (hL0InDxRefIdeal := hL0InDxRefIdeal)
    ∧ quiescent_L1InDw (hL1InDw := hL1InDw)
    ∧ quiescent_L1InDwIdeal (hL1InDwIdeal := hL1InDwIdeal)
    ∧ quiescent_L1InDwRefIdeal (hL1InDwRefIdeal := hL1InDwRefIdeal)
    ∧ quiescent_L1InDx (hL1InDx := hL1InDx)
    ∧ quiescent_L1InDxIdeal (hL1InDxIdeal := hL1InDxIdeal)
    ∧ quiescent_L1InDxRefIdeal (hL1InDxRefIdeal := hL1InDxRefIdeal)
    ∧ quiescent_L0OutDw (hL0OutDw := hL0OutDw)
    ∧ quiescent_L0OutDwIdeal (hL0OutDwIdeal := hL0OutDwIdeal)
    ∧ quiescent_L0OutDwRefIdeal (hL0OutDwRefIdeal := hL0OutDwRefIdeal)
    ∧ quiescent_L1OutDw (hL1OutDw := hL1OutDw)
    ∧ quiescent_L1OutDwIdeal (hL1OutDwIdeal := hL1OutDwIdeal)
    ∧ quiescent_L1OutDwRefIdeal (hL1OutDwRefIdeal := hL1OutDwRefIdeal)
    ∧ quiescent_L0In (hL0In := hL0In)
    ∧ quiescent_L0InIdeal (hL0InIdeal := hL0InIdeal)
    ∧ quiescent_L0InRefIdeal (hL0InRefIdeal := hL0InRefIdeal)
    ∧ quiescent_L1In (hL1In := hL1In)
    ∧ quiescent_L1InIdeal (hL1InIdeal := hL1InIdeal)
    ∧ quiescent_L1InRefIdeal (hL1InRefIdeal := hL1InRefIdeal)
    ∧ quiescent_L1RetOutDw (hL1RetOutDw := hL1RetOutDw)
    ∧ quiescent_L1RetOutDwIdeal (hL1RetOutDwIdeal := hL1RetOutDwIdeal)
    ∧ quiescent_L1RetOutDwRefIdeal (hL1RetOutDwRefIdeal := hL1RetOutDwRefIdeal)
    ∧ quiescent_L1RetOutDx (hL1RetOutDx := hL1RetOutDx)
    ∧ quiescent_L1RetOutDxIdeal (hL1RetOutDxIdeal := hL1RetOutDxIdeal)
    ∧ quiescent_L1RetOutDxRefIdeal (hL1RetOutDxRefIdeal := hL1RetOutDxRefIdeal)
    ∧ quiescent_L0Qkv (hL0Qkv := hL0Qkv)
    ∧ quiescent_L0QkvIdeal (hL0QkvIdeal := hL0QkvIdeal)
    ∧ quiescent_L0QkvRefIdeal (hL0QkvRefIdeal := hL0QkvRefIdeal)
    ∧ quiescent_L0QkvDw (hL0QkvDw := hL0QkvDw)
    ∧ quiescent_L0QkvDwIdeal (hL0QkvDwIdeal := hL0QkvDwIdeal)
    ∧ quiescent_L0QkvDwRefIdeal (hL0QkvDwRefIdeal := hL0QkvDwRefIdeal)
    ∧ quiescent_L0QkvDx (hL0QkvDx := hL0QkvDx)
    ∧ quiescent_L0QkvDxIdeal (hL0QkvDxIdeal := hL0QkvDxIdeal)
    ∧ quiescent_L0QkvDxRefIdeal (hL0QkvDxRefIdeal := hL0QkvDxRefIdeal)
    ∧ quiescent_L0AttnOutDw (hL0AttnOutDw := hL0AttnOutDw)
    ∧ quiescent_L0AttnOutDwIdeal (hL0AttnOutDwIdeal := hL0AttnOutDwIdeal)
    ∧ quiescent_L0AttnOutDwRefIdeal (hL0AttnOutDwRefIdeal := hL0AttnOutDwRefIdeal)
    ∧ quiescent_L0AttnOutDx (hL0AttnOutDx := hL0AttnOutDx)
    ∧ quiescent_L0AttnOutDxIdeal (hL0AttnOutDxIdeal := hL0AttnOutDxIdeal)
    ∧ quiescent_L0AttnOutDxRefIdeal (hL0AttnOutDxRefIdeal := hL0AttnOutDxRefIdeal)
    ∧ quiescent_L0AttnOut (hL0AttnOut := hL0AttnOut)
    ∧ quiescent_L0AttnOutIdeal (hL0AttnOutIdeal := hL0AttnOutIdeal)
    ∧ quiescent_L0AttnOutRefIdeal (hL0AttnOutRefIdeal := hL0AttnOutRefIdeal)
    ∧ quiescent_L0Out (hL0Out := hL0Out)
    ∧ quiescent_L0OutIdeal (hL0OutIdeal := hL0OutIdeal)
    ∧ quiescent_L0OutRefIdeal (hL0OutRefIdeal := hL0OutRefIdeal)
    ∧ quiescent_L1RetOut (hL1RetOut := hL1RetOut)
    ∧ quiescent_L1RetOutIdeal (hL1RetOutIdeal := hL1RetOutIdeal)
    ∧ quiescent_L1RetOutRefIdeal (hL1RetOutRefIdeal := hL1RetOutRefIdeal)
    ∧ quiescent_L1Out (hL1Out := hL1Out)
    ∧ quiescent_L1OutIdeal (hL1OutIdeal := hL1OutIdeal)
    ∧ quiescent_L1OutRefIdeal (hL1OutRefIdeal := hL1OutRefIdeal)
    ∧ quiescent_L0OutDx (hL0OutDx := hL0OutDx)
    ∧ quiescent_L0OutDxIdeal (hL0OutDxIdeal := hL0OutDxIdeal)
    ∧ quiescent_L0OutDxIdeal_pre_finite0 (hL0OutDxIdeal := hL0OutDxIdeal) (hPre_finite0 := hPre_finite0)
    ∧ quiescent_L0OutDxRefIdeal (hL0OutDxRefIdeal := hL0OutDxRefIdeal)
    ∧ quiescent_L0OutDxRefIdeal_pre_finite0 (hL0OutDxRefIdeal := hL0OutDxRefIdeal) (hPre_finite0 := hPre_finite0)
    ∧ quiescent_L1OutDx (hL1OutDx := hL1OutDx)
    ∧ quiescent_L1OutDxIdeal (hL1OutDxIdeal := hL1OutDxIdeal)
    ∧ quiescent_L1OutDxIdeal_pre_finite1 (hL1OutDxIdeal := hL1OutDxIdeal) (hPre_finite1 := hPre_finite1)
    ∧ quiescent_L1OutDxRefIdeal (hL1OutDxRefIdeal := hL1OutDxRefIdeal)
    ∧ quiescent_L1OutDxRefIdeal_pre_finite1 (hL1OutDxRefIdeal := hL1OutDxRefIdeal) (hPre_finite1 := hPre_finite1)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_AdaDc (hAdaDc := hAdaDc)
    ∧ quiescent_AdaDcIdeal (hAdaDcIdeal := hAdaDcIdeal)
    ∧ quiescent_AdaDcRefIdeal (hAdaDcRefIdeal := hAdaDcRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamQkv (hAdamQkv := hAdamQkv)
    ∧ quiescent_AdamQkvIdeal (hAdamQkvIdeal := hAdamQkvIdeal)
    ∧ quiescent_AdamQkvRefIdeal (hAdamQkvRefIdeal := hAdamQkvRefIdeal)
    ∧ quiescent_AdamAttnO (hAdamAttnO := hAdamAttnO)
    ∧ quiescent_AdamAttnOIdeal (hAdamAttnOIdeal := hAdamAttnOIdeal)
    ∧ quiescent_AdamAttnORefIdeal (hAdamAttnORefIdeal := hAdamAttnORefIdeal)
    ∧ quiescent_AdamQkvg (hAdamQkvg := hAdamQkvg)
    ∧ quiescent_AdamQkvgIdeal (hAdamQkvgIdeal := hAdamQkvgIdeal)
    ∧ quiescent_AdamQkvgRefIdeal (hAdamQkvgRefIdeal := hAdamQkvgRefIdeal)
    ∧ quiescent_AdamRetO (hAdamRetO := hAdamRetO)
    ∧ quiescent_AdamRetOIdeal (hAdamRetOIdeal := hAdamRetOIdeal)
    ∧ quiescent_AdamRetORefIdeal (hAdamRetORefIdeal := hAdamRetORefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_L1QkvgDw_L1QkvgDwIdeal
    ∧ algebraic_L1QkvgDwIdeal_L1QkvgDwRefIdeal (hL1QkvgDwIdeal := hL1QkvgDwIdeal) (hL1QkvgDwRefIdeal := hL1QkvgDwRefIdeal)
    ∧ preserves_L1QkvgDx_L1QkvgDxIdeal
    ∧ algebraic_L1QkvgDxIdeal_L1QkvgDxRefIdeal (hL1QkvgDxIdeal := hL1QkvgDxIdeal) (hL1QkvgDxRefIdeal := hL1QkvgDxRefIdeal)
    ∧ preserves_L1Qkvg_L1QkvgIdeal
    ∧ algebraic_L1QkvgIdeal_L1QkvgRefIdeal (hL1QkvgIdeal := hL1QkvgIdeal) (hL1QkvgRefIdeal := hL1QkvgRefIdeal)
    ∧ preserves_L0InDw_L0InDwIdeal
    ∧ algebraic_L0InDwIdeal_L0InDwRefIdeal (hL0InDwIdeal := hL0InDwIdeal) (hL0InDwRefIdeal := hL0InDwRefIdeal)
    ∧ preserves_L0InDx_L0InDxIdeal
    ∧ algebraic_L0InDxIdeal_L0InDxRefIdeal (hL0InDxIdeal := hL0InDxIdeal) (hL0InDxRefIdeal := hL0InDxRefIdeal)
    ∧ preserves_L1InDw_L1InDwIdeal
    ∧ algebraic_L1InDwIdeal_L1InDwRefIdeal (hL1InDwIdeal := hL1InDwIdeal) (hL1InDwRefIdeal := hL1InDwRefIdeal)
    ∧ preserves_L1InDx_L1InDxIdeal
    ∧ algebraic_L1InDxIdeal_L1InDxRefIdeal (hL1InDxIdeal := hL1InDxIdeal) (hL1InDxRefIdeal := hL1InDxRefIdeal)
    ∧ preserves_L0OutDw_L0OutDwIdeal
    ∧ algebraic_L0OutDwIdeal_L0OutDwRefIdeal (hL0OutDwIdeal := hL0OutDwIdeal) (hL0OutDwRefIdeal := hL0OutDwRefIdeal)
    ∧ preserves_L1OutDw_L1OutDwIdeal
    ∧ algebraic_L1OutDwIdeal_L1OutDwRefIdeal (hL1OutDwIdeal := hL1OutDwIdeal) (hL1OutDwRefIdeal := hL1OutDwRefIdeal)
    ∧ preserves_L0In_L0InIdeal
    ∧ algebraic_L0InIdeal_L0InRefIdeal (hL0InIdeal := hL0InIdeal) (hL0InRefIdeal := hL0InRefIdeal)
    ∧ preserves_L1In_L1InIdeal
    ∧ algebraic_L1InIdeal_L1InRefIdeal (hL1InIdeal := hL1InIdeal) (hL1InRefIdeal := hL1InRefIdeal)
    ∧ preserves_L1RetOutDw_L1RetOutDwIdeal
    ∧ algebraic_L1RetOutDwIdeal_L1RetOutDwRefIdeal (hL1RetOutDwIdeal := hL1RetOutDwIdeal) (hL1RetOutDwRefIdeal := hL1RetOutDwRefIdeal)
    ∧ preserves_L1RetOutDx_L1RetOutDxIdeal
    ∧ algebraic_L1RetOutDxIdeal_L1RetOutDxRefIdeal (hL1RetOutDxIdeal := hL1RetOutDxIdeal) (hL1RetOutDxRefIdeal := hL1RetOutDxRefIdeal)
    ∧ preserves_L0Qkv_L0QkvIdeal
    ∧ algebraic_L0QkvIdeal_L0QkvRefIdeal (hL0QkvIdeal := hL0QkvIdeal) (hL0QkvRefIdeal := hL0QkvRefIdeal)
    ∧ preserves_L0QkvDw_L0QkvDwIdeal
    ∧ algebraic_L0QkvDwIdeal_L0QkvDwRefIdeal (hL0QkvDwIdeal := hL0QkvDwIdeal) (hL0QkvDwRefIdeal := hL0QkvDwRefIdeal)
    ∧ preserves_L0QkvDx_L0QkvDxIdeal
    ∧ algebraic_L0QkvDxIdeal_L0QkvDxRefIdeal (hL0QkvDxIdeal := hL0QkvDxIdeal) (hL0QkvDxRefIdeal := hL0QkvDxRefIdeal)
    ∧ preserves_L0AttnOutDw_L0AttnOutDwIdeal
    ∧ algebraic_L0AttnOutDwIdeal_L0AttnOutDwRefIdeal (hL0AttnOutDwIdeal := hL0AttnOutDwIdeal) (hL0AttnOutDwRefIdeal := hL0AttnOutDwRefIdeal)
    ∧ preserves_L0AttnOutDx_L0AttnOutDxIdeal
    ∧ algebraic_L0AttnOutDxIdeal_L0AttnOutDxRefIdeal (hL0AttnOutDxIdeal := hL0AttnOutDxIdeal) (hL0AttnOutDxRefIdeal := hL0AttnOutDxRefIdeal)
    ∧ preserves_L0AttnOut_L0AttnOutIdeal
    ∧ algebraic_L0AttnOutIdeal_L0AttnOutRefIdeal (hL0AttnOutIdeal := hL0AttnOutIdeal) (hL0AttnOutRefIdeal := hL0AttnOutRefIdeal)
    ∧ preserves_L0Out_L0OutIdeal
    ∧ algebraic_L0OutIdeal_L0OutRefIdeal (hL0OutIdeal := hL0OutIdeal) (hL0OutRefIdeal := hL0OutRefIdeal)
    ∧ preserves_L1RetOut_L1RetOutIdeal
    ∧ algebraic_L1RetOutIdeal_L1RetOutRefIdeal (hL1RetOutIdeal := hL1RetOutIdeal) (hL1RetOutRefIdeal := hL1RetOutRefIdeal)
    ∧ preserves_L1Out_L1OutIdeal
    ∧ algebraic_L1OutIdeal_L1OutRefIdeal (hL1OutIdeal := hL1OutIdeal) (hL1OutRefIdeal := hL1OutRefIdeal)
    ∧ preserves_L0OutDx_L0OutDxIdeal
    ∧ algebraic_L0OutDxIdeal_L0OutDxRefIdeal_pre_finite0 (hL0OutDxIdeal := hL0OutDxIdeal) (hL0OutDxRefIdeal := hL0OutDxRefIdeal) (hPre_finite0 := hPre_finite0)
    ∧ preserves_L1OutDx_L1OutDxIdeal
    ∧ algebraic_L1OutDxIdeal_L1OutDxRefIdeal_pre_finite1 (hL1OutDxIdeal := hL1OutDxIdeal) (hL1OutDxRefIdeal := hL1OutDxRefIdeal) (hPre_finite1 := hPre_finite1)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_AdaDw_AdaDwIdeal
    ∧ algebraic_AdaDwIdeal_AdaDwRefIdeal (hAdaDwIdeal := hAdaDwIdeal) (hAdaDwRefIdeal := hAdaDwRefIdeal)
    ∧ preserves_AdaDc_AdaDcIdeal
    ∧ algebraic_AdaDcIdeal_AdaDcRefIdeal (hAdaDcIdeal := hAdaDcIdeal) (hAdaDcRefIdeal := hAdaDcRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamQkv_AdamQkvIdeal
    ∧ algebraic_AdamQkvIdeal_AdamQkvRefIdeal (hAdamQkvIdeal := hAdamQkvIdeal) (hAdamQkvRefIdeal := hAdamQkvRefIdeal)
    ∧ preserves_AdamAttnO_AdamAttnOIdeal
    ∧ algebraic_AdamAttnOIdeal_AdamAttnORefIdeal (hAdamAttnOIdeal := hAdamAttnOIdeal) (hAdamAttnORefIdeal := hAdamAttnORefIdeal)
    ∧ preserves_AdamQkvg_AdamQkvgIdeal
    ∧ algebraic_AdamQkvgIdeal_AdamQkvgRefIdeal (hAdamQkvgIdeal := hAdamQkvgIdeal) (hAdamQkvgRefIdeal := hAdamQkvgRefIdeal)
    ∧ preserves_AdamRetO_AdamRetOIdeal
    ∧ algebraic_AdamRetOIdeal_AdamRetORefIdeal (hAdamRetOIdeal := hAdamRetOIdeal) (hAdamRetORefIdeal := hAdamRetORefIdeal)
-- ==== Pre_finite.lean ====
abbrev S9216x2048 : Shape := ⟨2, ![9216, 2048]⟩
abbrev S9216x6144 : Shape := ⟨2, ![9216, 6144]⟩
abbrev S2x4 : Shape := ⟨2, ![2, 4]⟩
abbrev S8192x2048 : Shape := ⟨2, ![8192, 2048]⟩
abbrev S_ : Shape := ⟨0, ![]⟩

class Facts : Prop where
  bcast_S_S9216x2048 : S_.BroadcastsInDim S9216x2048 (![] : Fin 0 → Fin S9216x2048.rank)
  bcast_S_S9216x6144 : S_.BroadcastsInDim S9216x6144 (![] : Fin 0 → Fin S9216x6144.rank)
  bcast_S_S2x4 : S_.BroadcastsInDim S2x4 (![] : Fin 0 → Fin S2x4.rank)
  bcast_S_S8192x2048 : S_.BroadcastsInDim S8192x2048 (![] : Fin 0 → Fin S8192x2048.rank)

variable [Facts]

def fn {F : FTy → Type} [FloatOps F] (main_arg0 : FVec F S9216x2048 .f32) (main_arg1 : FVec F S9216x6144 .f32) (main_arg2 : FVec F S2x4 .f32) (main_arg3 : FVec F S8192x2048 .f32) : IVec S9216x2048 1 × IVec S9216x6144 1 × IVec S2x4 1 × IVec S8192x2048 1 :=
  let main_v0 : FVec F S9216x2048 .f32 := Host.absf main_arg0
  let main_cst : FVec F S_ .f32 := constant S_ .f32 0x7F800000#32
  let main_v1 : FVec F S9216x2048 .f32 := broadcastInDim S9216x2048 ![] bcast_S_S9216x2048 main_cst
  let main_v2 : IVec S9216x2048 1 := cmpf .olt main_v0 main_v1
  let main_v3 : FVec F S9216x6144 .f32 := Host.absf main_arg1
  let main_cst_0 : FVec F S_ .f32 := constant S_ .f32 0x7F800000#32
  let main_v4 : FVec F S9216x6144 .f32 := broadcastInDim S9216x6144 ![] bcast_S_S9216x6144 main_cst_0
  let main_v5 : IVec S9216x6144 1 := cmpf .olt main_v3 main_v4
  let main_v6 : FVec F S2x4 .f32 := Host.absf main_arg2
  let main_cst_1 : FVec F S_ .f32 := constant S_ .f32 0x7F800000#32
  let main_v7 : FVec F S2x4 .f32 := broadcastInDim S2x4 ![] bcast_S_S2x4 main_cst_1
  let main_v8 : IVec S2x4 1 := cmpf .olt main_v6 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  (main_v2, main_v5, main_v8, main_v11)
-- ==== Pre_finite0.lean ====
abbrev S9216x1024 : Shape := ⟨2, ![9216, 1024]⟩
abbrev S2816x1024 : Shape := ⟨2, ![2816, 1024]⟩
abbrev S9216x2816 : Shape := ⟨2, ![9216, 2816]⟩
abbrev S_ : Shape := ⟨0, ![]⟩

class Facts : Prop where
  bcast_S_S9216x1024 : S_.BroadcastsInDim S9216x1024 (![] : Fin 0 → Fin S9216x1024.rank)
  bcast_S_S2816x1024 : S_.BroadcastsInDim S2816x1024 (![] : Fin 0 → Fin S2816x1024.rank)
  bcast_S_S9216x2816 : S_.BroadcastsInDim S9216x2816 (![] : Fin 0 → Fin S9216x2816.rank)

variable [Facts]

def fn {F : FTy → Type} [FloatOps F] (main_arg0 : FVec F S9216x1024 .bf16) (main_arg1 : FVec F S2816x1024 .bf16) (main_arg2 : FVec F S9216x2816 .f32) (main_arg3 : FVec F S9216x2816 .f32) : IVec S9216x1024 1 × IVec S2816x1024 1 × IVec S9216x2816 1 × IVec S9216x2816 1 :=
  let main_v0 : FVec F S9216x1024 .bf16 := Host.absf main_arg0
  let main_cst : FVec F S_ .bf16 := constant S_ .bf16 0x7F80#16
  let main_v1 : FVec F S9216x1024 .bf16 := broadcastInDim S9216x1024 ![] bcast_S_S9216x1024 main_cst
  let main_v2 : IVec S9216x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S9216x2816 .f32 := Host.absf main_arg2
  let main_cst_1 : FVec F S_ .f32 := constant S_ .f32 0x7F800000#32
  let main_v7 : FVec F S9216x2816 .f32 := broadcastInDim S9216x2816 ![] bcast_S_S9216x2816 main_cst_1
  let main_v8 : IVec S9216x2816 1 := cmpf .olt main_v6 main_v7
  let main_v9 : FVec F S9216x2816 .f32 := Host.absf main_arg3
  let main_cst_2 : FVec F S_ .f32 := constant S_ .f32 0x7F800000#32
  let main_v10 : FVec F S9216x2816 .f32 := broadcastInDim S9216x2816 ![] bcast_S_S9216x2816 main_cst_2
  let main_v11 : IVec S9216x2816 1 := cmpf .olt main_v9 main_v10
  (main_v2, main_v5, main_v8, main_v11)
-- ==== Pre_finite1.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .bf16) (main_arg1 : FVec F S2816x1024 .bf16) (main_arg2 : FVec F S8192x2816 .f32) (main_arg3 : FVec F S8192x2816 .f32) : IVec S8192x1024 1 × IVec S2816x1024 1 × IVec S8192x2816 1 × IVec S8192x2816 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S8192x2816 .f32 := Host.absf main_arg2
  let main_cst_1 : FVec F S_ .f32 := constant S_ .f32 0x7F800000#32
  let main_v7 : FVec F S8192x2816 .f32 := broadcastInDim S8192x2816 ![] bcast_S_S8192x2816 main_cst_1
  let main_v8 : IVec S8192x2816 1 := cmpf .olt main_v6 main_v7
  let main_v9 : FVec F S8192x2816 .f32 := Host.absf main_arg3
  let main_cst_2 : FVec F S_ .f32 := constant S_ .f32 0x7F800000#32
  let main_v10 : FVec F S8192x2816 .f32 := broadcastInDim S8192x2816 ![] bcast_S_S8192x2816 main_cst_2
  let main_v11 : IVec S8192x2816 1 := cmpf .olt main_v9 main_v10
  (main_v2, main_v5, main_v8, main_v11)
-- ==== Kernel.lean ====
abbrev S9216x2048 : Shape := ⟨2, ![9216, 2048]⟩
abbrev S9216x6144 : Shape := ⟨2, ![9216, 6144]⟩
abbrev S2x4 : Shape := ⟨2, ![2, 4]⟩
abbrev S8192x2048 : Shape := ⟨2, ![8192, 2048]⟩
abbrev S8192x1024 : Shape := ⟨2, ![8192, 1024]⟩
abbrev S4x2048x4x256 : Shape := ⟨4, ![4, 2048, 4, 256]⟩
abbrev S4x2048x4x512 : Shape := ⟨4, ![4, 2048, 4, 512]⟩
abbrev S1024x1024 : Shape := ⟨2, ![1024, 1024]⟩
abbrev S4x256x4x256 : Shape := ⟨4, ![4, 256, 4, 256]⟩
abbrev S1024x2048 : Shape := ⟨2, ![1024, 2048]⟩
abbrev S4x256x4x512 : Shape := ⟨4, ![4, 256, 4, 512]⟩
abbrev S2x1x4 : Shape := ⟨3, ![2, 1, 4]⟩
abbrev S2x4x4 : Shape := ⟨3, ![2, 4, 4]⟩
abbrev S1x4x4 : Shape := ⟨3, ![1, 4, 4]⟩
abbrev S4x4 : Shape := ⟨2, ![4, 4]⟩
abbrev S4 : Shape := ⟨1, ![4]⟩
abbrev S_ : Shape := ⟨0, ![]⟩
abbrev S4x1 : Shape := ⟨2, ![4, 1]⟩
abbrev S2048 : Shape := ⟨1, ![2048]⟩
abbrev S1x2048 : Shape := ⟨2, ![1, 2048]⟩
abbrev S4x2048 : Shape := ⟨2, ![4, 2048]⟩
abbrev S1x4x2048x1 : Shape := ⟨4, ![1, 4, 2048, 1]⟩
abbrev S4x1x1x4 : Shape := ⟨4, ![4, 1, 1, 4]⟩
abbrev S4x4x2048x4 : Shape := ⟨4, ![4, 4, 2048, 4]⟩
abbrev S256 : Shape := ⟨1, ![256]⟩
abbrev S4x1x4 : Shape := ⟨3, ![4, 1, 4]⟩
abbrev S1x256x1 : Shape := ⟨3, ![1, 256, 1]⟩
abbrev S4x256x4 : Shape := ⟨3, ![4, 256, 4]⟩
abbrev S4x256x4x1 : Shape := ⟨4, ![4, 256, 4, 1]⟩
abbrev S4x4x256x512 : Shape := ⟨4, ![4, 4, 256, 512]⟩
abbrev S4x4x1x256x512 : Shape := ⟨5, ![4, 4, 1, 256, 512]⟩
abbrev S4x4x1 : Shape := ⟨3, ![4, 4, 1]⟩
abbrev S1x1x4 : Shape := ⟨3, ![1, 1, 4]⟩
abbrev S4x4x4 : Shape := ⟨3, ![4, 4, 4]⟩
abbrev S4x4x4x1x1 : Shape := ⟨5, ![4, 4, 4, 1, 1]⟩
abbrev S4x4x4x256x512 : Shape := ⟨5, ![4, 4, 4, 256, 512]⟩
abbrev S4x1x2048x4x256 : Shape := ⟨5, ![4, 1, 2048, 4, 256]⟩
abbrev S4x4x2048x4x1 : Shape := ⟨5, ![4, 4, 2048, 4, 1]⟩
abbrev S4x4x2048x4x256 : Shape := ⟨5, ![4, 4, 2048, 4, 256]⟩
abbrev S4x4x8x128 : Shape := ⟨4, ![4, 4, 8, 128]⟩
abbrev S512x256 : Shape := ⟨2, ![512, 256]⟩
abbrev S512x512 : Shape := ⟨2, ![512, 512]⟩
abbrev S1x1x1x256x512 : Shape := ⟨5, ![1, 1, 1, 256, 512]⟩
abbrev S256x256 : Shape := ⟨2, ![256, 256]⟩
abbrev S256x512 : Shape := ⟨2, ![256, 512]⟩
abbrev S1x1x8x128 : Shape := ⟨4, ![1, 1, 8, 128]⟩
abbrev S1x1 : Shape := ⟨2, ![1, 1]⟩
abbrev S512x1 : Shape := ⟨2, ![512, 1]⟩
abbrev S1x512x512 : Shape := ⟨3, ![1, 512, 512]⟩
abbrev S1 : Shape := ⟨1, ![1]⟩
abbrev S1x1x1 : Shape := ⟨3, ![1, 1, 1]⟩
abbrev S512 : Shape := ⟨1, ![512]⟩
abbrev S1x512x1 : Shape := ⟨3, ![1, 512, 1]⟩
abbrev S1x256x512 : Shape := ⟨3, ![1, 256, 512]⟩
abbrev S256x1 : Shape := ⟨2, ![256, 1]⟩

abbrev nBuf : Space → Nat
  | .hbm => 163
  | .vmem => 50
  | .smem => 1
  | _ => 0

abbrev hbmTy0_0 (i : Nat) : BufTy := match i % 128 with
  | 0 => ⟨S9216x2048, .f32⟩
  | 1 => ⟨S9216x6144, .f32⟩
  | 2 => ⟨S2x4, .f32⟩
  | 3 => ⟨S8192x2048, .f32⟩
  | 4 => ⟨S8192x1024, .f32⟩
  | 5 => ⟨S4x2048x4x256, .f32⟩
  | 6 => ⟨S8192x1024, .f32⟩
  | 7 => ⟨S4x2048x4x256, .f32⟩
  | 8 => ⟨S8192x2048, .f32⟩
  | 9 => ⟨S4x2048x4x512, .f32⟩
  | 10 => ⟨S1024x1024, .f32⟩
  | 11 => ⟨S4x256x4x256, .f32⟩
  | 12 => ⟨S1024x2048, .f32⟩
  | 13 => ⟨S4x256x4x512, .f32⟩
  | 14 => ⟨S2x1x4, .f32⟩
  | 15 => ⟨S2x4x4, .f32⟩
  | 16 => ⟨S1x4x4, .f32⟩
  | 17 => ⟨S4x4, .f32⟩
  | 18 => ⟨S4, .f32⟩
  | 19 => ⟨S_, .f32⟩
  | 20 => ⟨S4, .f32⟩
  | 21 => ⟨S4, .f32⟩
  | 22 => ⟨S4x1, .f32⟩
  | 23 => ⟨S_, .f32⟩
  | 24 => ⟨S4x1, .f32⟩
  | 25 => ⟨S4x1, .f32⟩
  | 26 => ⟨S2048, .f32⟩
  | 27 => ⟨S1x2048, .f32⟩
  | 28 => ⟨S4x2048, .f32⟩
  | 29 => ⟨S4x2048, .f32⟩
  | 30 => ⟨S4x2048, .f32⟩
  | 31 => ⟨S_, .f32⟩
  | 32 => ⟨S4x2048, .f32⟩
  | 33 => ⟨S4x2048, .i1⟩
  | 34 => ⟨S1x4x2048x1, .i1⟩
  | 35 => ⟨S4x1x1x4, .f32⟩
  | 36 => ⟨S_, .f32⟩
  | 37 => ⟨S4x2048, .f32⟩
  | 38 => ⟨S4x2048, .f32⟩
  | 39 => ⟨S1x4x2048x1, .f32⟩
  | 40 => ⟨S4x4x2048x4, .f32⟩
  | 41 => ⟨S4x4x2048x4, .f32⟩
  | 42 => ⟨S4x4x2048x4, .f32⟩
  | 43 => ⟨S4x4x2048x4, .f32⟩
  | 44 => ⟨S_, .f32⟩
  | 45 => ⟨S_, .f32⟩
  | 46 => ⟨S4x4x2048x4, .i1⟩
  | 47 => ⟨S4x4x2048x4, .f32⟩
  | 48 => ⟨S4x4x2048x4, .f32⟩
  | 49 => ⟨S256, .f32⟩
  | 50 => ⟨S4x1x4, .f32⟩
  | 51 => ⟨S_, .f32⟩
  | 52 => ⟨S256, .f32⟩
  | 53 => ⟨S256, .f32⟩
  | 54 => ⟨S1x256x1, .f32⟩
  | 55 => ⟨S4x256x4, .f32⟩
  | 56 => ⟨S4x256x4, .f32⟩
  | 57 => ⟨S4x256x4, .f32⟩
  | 58 => ⟨S4x256x4, .f32⟩
  | 59 => ⟨S4x256x4x1, .f32⟩
  | 60 => ⟨S4x256x4x256, .f32⟩
  | 61 => ⟨S4x256x4x256, .f32⟩
  | 62 => ⟨S4x4x256x512, .f32⟩
  | 63 => ⟨S4x4x1x256x512, .f32⟩
  | 64 => ⟨S4x4x1, .f32⟩
  | 65 => ⟨S1x1x4, .f32⟩
  | 66 => ⟨S4x4x4, .f32⟩
  | 67 => ⟨S4x4x4, .f32⟩
  | 68 => ⟨S4x4x4, .f32⟩
  | 69 => ⟨S4x4x4, .f32⟩
  | 70 => ⟨S4x4x4x1x1, .f32⟩
  | 71 => ⟨S4x4x4x256x512, .f32⟩
  | 72 => ⟨S4x4x4x256x512, .f32⟩
  | 73 => ⟨S4x4x4x256x512, .f32⟩
  | 74 => ⟨S4x1x2048x4x256, .f32⟩
  | 75 => ⟨S4x4x2048x4x1, .f32⟩
  | 76 => ⟨S4x4x2048x4x256, .f32⟩
  | 77 => ⟨S4x4x2048x4x256, .f32⟩
  | 78 => ⟨S4x4x2048x4x256, .f32⟩
  | 79 => ⟨S4x4x4x256x512, .f32⟩
  | 80 => ⟨S4x4x4x256x512, .f32⟩
  | 81 => ⟨S4x2048x4x256, .f32⟩
  | 82 => ⟨S4x2048x4x512, .f32⟩
  | 83 => ⟨S4x256x4x256, .f32⟩
  | 84 => ⟨S4x256x4x512, .f32⟩
  | 85 => ⟨S1x4x4, .f32⟩
  | 86 => ⟨S4x4, .f32⟩
  | 87 => ⟨S4, .f32⟩
  | 88 => ⟨S_, .f32⟩
  | 89 => ⟨S4, .f32⟩
  | 90 => ⟨S4, .f32⟩
  | 91 => ⟨S4x1, .f32⟩
  | 92 => ⟨S_, .f32⟩
  | 93 => ⟨S4x1, .f32⟩
  | 94 => ⟨S4x1, .f32⟩
  | 95 => ⟨S2048, .f32⟩
  | 96 => ⟨S1x2048, .f32⟩
  | 97 => ⟨S4x2048, .f32⟩
  | 98 => ⟨S4x2048, .f32⟩
  | 99 => ⟨S4x2048, .f32⟩
  | 100 => ⟨S_, .f32⟩
  | 101 => ⟨S4x2048, .f32⟩
  | 102 => ⟨S4x2048, .i1⟩
  | 103 => ⟨S1x4x2048x1, .i1⟩
  | 104 => ⟨S4x1x1x4, .f32⟩
  | 105 => ⟨S_, .f32⟩
  | 106 => ⟨S4x2048, .f32⟩
  | 107 => ⟨S4x2048, .f32⟩
  | 108 => ⟨S1x4x2048x1, .f32⟩
  | 109 => ⟨S4x4x2048x4, .f32⟩
  | 110 => ⟨S4x4x2048x4, .f32⟩
  | 111 => ⟨S4x4x2048x4, .f32⟩
  | 112 => ⟨S4x4x2048x4, .f32⟩
  | 113 => ⟨S_, .f32⟩
  | 114 => ⟨S_, .f32⟩
  | 115 => ⟨S4x4x2048x4, .i1⟩
  | 116 => ⟨S4x4x2048x4, .f32⟩
  | 117 => ⟨S4x4x2048x4, .f32⟩
  | 118 => ⟨S256, .f32⟩
  | 119 => ⟨S4x1x4, .f32⟩
  | 120 => ⟨S_, .f32⟩
  | 121 => ⟨S256, .f32⟩
  | 122 => ⟨S256, .f32⟩
  | 123 => ⟨S1x256x1, .f32⟩
  | 124 => ⟨S4x256x4, .f32⟩
  | 125 => ⟨S4x256x4, .f32⟩
  | 126 => ⟨S4x256x4, .f32⟩
  | 127 => ⟨S4x256x4, .f32⟩
  | _ => ⟨S9216x2048, .f32⟩

abbrev hbmTy0_1 (i : Nat) : BufTy := match i % 128 with
  | 0 => ⟨S4x256x4x1, .f32⟩
  | 1 => ⟨S4x256x4x256, .f32⟩
  | 2 => ⟨S4x256x4x256, .f32⟩
  | 3 => ⟨S4x4x256x512, .f32⟩
  | 4 => ⟨S4x4x1x256x512, .f32⟩
  | 5 => ⟨S4x4x1, .f32⟩
  | 6 => ⟨S1x1x4, .f32⟩
  | 7 => ⟨S4x4x4, .f32⟩
  | 8 => ⟨S4x4x4, .f32⟩
  | 9 => ⟨S4x4x4, .f32⟩
  | 10 => ⟨S4x4x4, .f32⟩
  | 11 => ⟨S4x4x4x1x1, .f32⟩
  | 12 => ⟨S4x4x4x256x512, .f32⟩
  | 13 => ⟨S4x4x4x256x512, .f32⟩
  | 14 => ⟨S4x4x4x256x512, .f32⟩
  | 15 => ⟨S4x1x2048x4x256, .f32⟩
  | 16 => ⟨S4x4x2048x4x1, .f32⟩
  | 17 => ⟨S4x4x2048x4x256, .f32⟩
  | 18 => ⟨S4x4x2048x4x256, .f32⟩
  | 19 => ⟨S4x4x2048x4x256, .f32⟩
  | 20 => ⟨S4x4x4x256x512, .f32⟩
  | 21 => ⟨S4x4x4x256x512, .f32⟩
  | 22 => ⟨S4x4x4x256x512, .f32⟩
  | 23 => ⟨S8192x1024, .f32⟩
  | 24 => ⟨S8192x1024, .f32⟩
  | 25 => ⟨S8192x2048, .f32⟩
  | 26 => ⟨S1024x1024, .f32⟩
  | 27 => ⟨S1024x2048, .f32⟩
  | 28 => ⟨S4x4x8x128, .f32⟩
  | 29 => ⟨S8192x1024, .f32⟩
  | 30 => ⟨S8192x1024, .f32⟩
  | 31 => ⟨S8192x2048, .f32⟩
  | 32 => ⟨S1024x1024, .f32⟩
  | 33 => ⟨S1024x2048, .f32⟩
  | 34 => ⟨S4x4x8x128, .f32⟩
  | _ => ⟨S9216x2048, .f32⟩

abbrev hbmTy (i : Nat) : BufTy := match i / 128 with
  | 0 => hbmTy0_0 i
  | 1 => hbmTy0_1 i
  | _ => ⟨S9216x2048, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S1x1x1x256x512, .f32⟩
  | .local _ .vmem, ⟨7, _⟩ => ⟨S1x1x1x256x512, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x512, .f32⟩
  | .local _ .vmem, ⟨15, _⟩ => ⟨S512x512, .f32⟩
  | .local _ .vmem, ⟨16, _⟩ => ⟨S1x1x1x256x512, .f32⟩
  | .local _ .vmem, ⟨17, _⟩ => ⟨S1x1x1x256x512, .f32⟩
  | .local _ .vmem, ⟨18, _⟩ => ⟨S512x512, .f32⟩
  | .local _ .vmem, ⟨19, _⟩ => ⟨S512x512, .f32⟩
  | .local _ .vmem, ⟨20, _⟩ => ⟨S256x256, .f32⟩
  | .local _ .vmem, ⟨21, _⟩ => ⟨S256x256, .f32⟩
  | .local _ .vmem, ⟨22, _⟩ => ⟨S256x512, .f32⟩
  | .local _ .vmem, ⟨23, _⟩ => ⟨S256x512, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | .local _ .vmem, ⟨28, _⟩ => ⟨S512x512, .f32⟩
  | .local _ .vmem, ⟨29, _⟩ => ⟨S512x512, .f32⟩
  | .local _ .vmem, ⟨30, _⟩ => ⟨S256x256, .f32⟩
  | .local _ .vmem, ⟨31, _⟩ => ⟨S256x256, .f32⟩
  | .local _ .vmem, ⟨32, _⟩ => ⟨S256x512, .f32⟩
  | .local _ .vmem, ⟨33, _⟩ => ⟨S256x512, .f32⟩
  | .local _ .vmem, ⟨34, _⟩ => ⟨S1x1x8x128, .f32⟩
  | .local _ .vmem, ⟨35, _⟩ => ⟨S1x1x8x128, .f32⟩
  | .local _ .vmem, ⟨36, _⟩ => ⟨S512x256, .f32⟩
  | .local _ .vmem, ⟨37, _⟩ => ⟨S512x256, .f32⟩
  | .local _ .vmem, ⟨38, _⟩ => ⟨S512x256, .f32⟩
  | .local _ .vmem, ⟨39, _⟩ => ⟨S512x256, .f32⟩
  | .local _ .vmem, ⟨40, _⟩ => ⟨S512x512, .f32⟩
  | .local _ .vmem, ⟨41, _⟩ => ⟨S512x512, .f32⟩
  | .local _ .vmem, ⟨42, _⟩ => ⟨S256x256, .f32⟩
  | .local _ .vmem, ⟨43, _⟩ => ⟨S256x256, .f32⟩
  | .local _ .vmem, ⟨44, _⟩ => ⟨S256x512, .f32⟩
  | .local _ .vmem, ⟨45, _⟩ => ⟨S256x512, .f32⟩
  | .local _ .vmem, ⟨46, _⟩ => ⟨S1x1x8x128, .f32⟩
  | .local _ .vmem, ⟨47, _⟩ => ⟨S1x1x8x128, .f32⟩
  | .local _ .vmem, ⟨48, _⟩ => ⟨S256x512, .f32⟩
  | .local _ .vmem, ⟨49, _⟩ => ⟨S256x512, .f32⟩
  | .local _ .smem, ⟨0, _⟩ => ⟨S2x4, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .smem, ⟨0, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_5 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_6 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_7 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_8 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_9 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_10 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129_0 : Ref sig .tc := ⟨.hbm, 151, rfl⟩
abbrev main_v129_1 : Ref sig .tc := ⟨.hbm, 152, rfl⟩
abbrev main_v129_2 : Ref sig .tc := ⟨.hbm, 153, rfl⟩
abbrev main_v129_3 : Ref sig .tc := ⟨.hbm, 154, rfl⟩
abbrev main_v129_4 : Ref sig .tc := ⟨.hbm, 155, rfl⟩
abbrev main_v129_5 : Ref sig .tc := ⟨.hbm, 156, rfl⟩
abbrev main_v129_6 : Ref sig .tc := ⟨.hbm, 157, rfl⟩
abbrev main_v129_7 : Ref sig .tc := ⟨.hbm, 158, rfl⟩
abbrev main_v129_8 : Ref sig .tc := ⟨.hbm, 159, rfl⟩
abbrev main_v129_9 : Ref sig .tc := ⟨.hbm, 160, rfl⟩
abbrev main_v129_10 : Ref sig .tc := ⟨.hbm, 161, rfl⟩
abbrev main_v129_11 : Ref sig .tc := ⟨.hbm, 162, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_stg24_0 : Ref sig .tc := ⟨.vmem, 46, rfl⟩
abbrev cc0_stg24_1 : Ref sig .tc := ⟨.vmem, 47, rfl⟩
abbrev cc0_scratch0 : Ref sig .tc := ⟨.vmem, 48, rfl⟩
abbrev cc0_scratch1 : Ref sig .tc := ⟨.vmem, 49, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46
abbrev cc0_sem24_0 : DmaSem sig := 47
abbrev cc0_sem24_1 : DmaSem sig := 48

abbrev nD : Nat := 1
abbrev τ : Topo := Topo.v7x

variable {F : FTy → Type} [FloatOps F]

abbrev grid0 : Pipeline.Grid := ⟨3, ![4, 4, 4], ![false, false, false]⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v2 : Index := Scalar.indexCast arg1
  ![1, v2.toNat]
def k0_cond2 (i : grid0.Coords) : BitVec 1 :=
  let arg2 : BitVec 32 := BitVec.ofNat 32 (i 2).val
  let c3_i32 : BitVec 32 := 3#32
  let v259 : BitVec 1 := Scalar.cmpi .eq arg2 c3_i32
  let v260 : BitVec 32 := Scalar.extui v259
  let c0_i32_107 : BitVec 32 := 0#32
  let v261 : BitVec 1 := Scalar.cmpi .ne v260 c0_i32_107
  v261

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c4_i32_0 : BitVec 32 := 4#32
  let v3 : BitVec 32 := Scalar.addi c4_i32_0 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c4_i32_0 : BitVec 32 := 4#32
  let v3 : BitVec 32 := Scalar.addi c4_i32_0 arg1
  let c0_i32 : BitVec 32 := 0#32
  ![v2.toNat, v3.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  let c0_i32_0 : BitVec 32 := 0#32
  let c0_i32_1 : BitVec 32 := 0#32
  ![arg0.toNat, arg1.toNat, v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c4_i32 : BitVec 32 := 4#32
  let v1 : BitVec 32 := Scalar.addi c4_i32 arg1
  let c0_i32 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c4_i32 : BitVec 32 := 4#32
  let v1 : BitVec 32 := Scalar.addi c4_i32 arg1
  let c0_i32 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_18 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_21 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_22 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_23 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_24 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]

abbrev stage0_18 : Fin 2 → Memref sig .tc .vmem S1x1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, false]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true, true]

abbrev stage0_22 : Fin 2 → Memref sig .tc .vmem S256x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true, false]

abbrev stage0_23 : Fin 2 → Memref sig .tc .vmem S256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true, false]

abbrev stage0_24 : Fin 2 → Memref sig .tc .vmem S1x1x8x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true, false]
-- ==== KernelIdeal.lean ====
abbrev S9216x2048 : Shape := ⟨2, ![9216, 2048]⟩
abbrev S9216x6144 : Shape := ⟨2, ![9216, 6144]⟩
abbrev S2x4 : Shape := ⟨2, ![2, 4]⟩
abbrev S8192x2048 : Shape := ⟨2, ![8192, 2048]⟩
abbrev S8192x1024 : Shape := ⟨2, ![8192, 1024]⟩
abbrev S4x2048x4x256 : Shape := ⟨4, ![4, 2048, 4, 256]⟩
abbrev S4x2048x4x512 : Shape := ⟨4, ![4, 2048, 4, 512]⟩
abbrev S1024x1024 : Shape := ⟨2, ![1024, 1024]⟩
abbrev S4x256x4x256 : Shape := ⟨4, ![4, 256, 4, 256]⟩
abbrev S1024x2048 : Shape := ⟨2, ![1024, 2048]⟩
abbrev S4x256x4x512 : Shape := ⟨4, ![4, 256, 4, 512]⟩
abbrev S2x1x4 : Shape := ⟨3, ![2, 1, 4]⟩
abbrev S2x4x4 : Shape := ⟨3, ![2, 4, 4]⟩
abbrev S1x4x4 : Shape := ⟨3, ![1, 4, 4]⟩
abbrev S4x4 : Shape := ⟨2, ![4, 4]⟩
abbrev S4 : Shape := ⟨1, ![4]⟩
abbrev S_ : Shape := ⟨0, ![]⟩
abbrev S4x1 : Shape := ⟨2, ![4, 1]⟩
abbrev S2048 : Shape := ⟨1, ![2048]⟩
abbrev S1x2048 : Shape := ⟨2, ![1, 2048]⟩
abbrev S4x2048 : Shape := ⟨2, ![4, 2048]⟩
abbrev S1x4x2048x1 : Shape := ⟨4, ![1, 4, 2048, 1]⟩
abbrev S4x1x1x4 : Shape := ⟨4, ![4, 1, 1, 4]⟩
abbrev S4x4x2048x4 : Shape := ⟨4, ![4, 4, 2048, 4]⟩
abbrev S256 : Shape := ⟨1, ![256]⟩
abbrev S4x1x4 : Shape := ⟨3, ![4, 1, 4]⟩
abbrev S1x256x1 : Shape := ⟨3, ![1, 256, 1]⟩
abbrev S4x256x4 : Shape := ⟨3, ![4, 256, 4]⟩
abbrev S4x256x4x1 : Shape := ⟨4, ![4, 256, 4, 1]⟩
abbrev S4x4x256x512 : Shape := ⟨4, ![4, 4, 256, 512]⟩
abbrev S4x4x1x256x512 : Shape := ⟨5, ![4, 4, 1, 256, 512]⟩
abbrev S4x4x1 : Shape := ⟨3, ![4, 4, 1]⟩
abbrev S1x1x4 : Shape := ⟨3, ![1, 1, 4]⟩
abbrev S4x4x4 : Shape := ⟨3, ![4, 4, 4]⟩
abbrev S4x4x4x1x1 : Shape := ⟨5, ![4, 4, 4, 1, 1]⟩
abbrev S4x4x4x256x512 : Shape := ⟨5, ![4, 4, 4, 256, 512]⟩
abbrev S4x1x2048x4x256 : Shape := ⟨5, ![4, 1, 2048, 4, 256]⟩
abbrev S4x4x2048x4x1 : Shape := ⟨5, ![4, 4, 2048, 4, 1]⟩
abbrev S4x4x2048x4x256 : Shape := ⟨5, ![4, 4, 2048, 4, 256]⟩
abbrev S4x4x8x128 : Shape := ⟨4, ![4, 4, 8, 128]⟩
abbrev S512x256 : Shape := ⟨2, ![512, 256]⟩
abbrev S512x512 : Shape := ⟨2, ![512, 512]⟩
abbrev S1x1x1x256x512 : Shape := ⟨5, ![1, 1, 1, 256, 512]⟩
abbrev S256x256 : Shape := ⟨2, ![256, 256]⟩
abbrev S256x512 : Shape := ⟨2, ![256, 512]⟩
abbrev S1x1x8x128 : Shape := ⟨4, ![1, 1, 8, 128]⟩
abbrev S1x1 : Shape := ⟨2, ![1, 1]⟩
abbrev S512x1 : Shape := ⟨2, ![512, 1]⟩
abbrev S1x512x512 : Shape := ⟨3, ![1, 512, 512]⟩
abbrev S1 : Shape := ⟨1, ![1]⟩
abbrev S1x1x1 : Shape := ⟨3, ![1, 1, 1]⟩
abbrev S512 : Shape := ⟨1, ![512]⟩
abbrev S1x512x1 : Shape := ⟨3, ![1, 512, 1]⟩
abbrev S1x256x512 : Shape := ⟨3, ![1, 256, 512]⟩
abbrev S256x1 : Shape := ⟨2, ![256, 1]⟩

abbrev nBuf : Space → Nat
  | .hbm => 163
  | .vmem => 50
  | .smem => 1
  | _ => 0

abbrev hbmTy0_0 (i : Nat) : BufTy := match i % 128 with
  | 0 => ⟨S9216x2048, .f32⟩
  | 1 => ⟨S9216x6144, .f32⟩
  | 2 => ⟨S2x4, .f32⟩
  | 3 => ⟨S8192x2048, .f32⟩
  | 4 => ⟨S8192x1024, .f32⟩
  | 5 => ⟨S4x2048x4x256, .f32⟩
  | 6 => ⟨S8192x1024, .f32⟩
  | 7 => ⟨S4x2048x4x256, .f32⟩
  | 8 => ⟨S8192x2048, .f32⟩
  | 9 => ⟨S4x2048x4x512, .f32⟩
  | 10 => ⟨S1024x1024, .f32⟩
  | 11 => ⟨S4x256x4x256, .f32⟩
  | 12 => ⟨S1024x2048, .f32⟩
  | 13 => ⟨S4x256x4x512, .f32⟩
  | 14 => ⟨S2x1x4, .f32⟩
  | 15 => ⟨S2x4x4, .f32⟩
  | 16 => ⟨S1x4x4, .f32⟩
  | 17 => ⟨S4x4, .f32⟩
  | 18 => ⟨S4, .f32⟩
  | 19 => ⟨S_, .f32⟩
  | 20 => ⟨S4, .f32⟩
  | 21 => ⟨S4, .f32⟩
  | 22 => ⟨S4x1, .f32⟩
  | 23 => ⟨S_, .f32⟩
  | 24 => ⟨S4x1, .f32⟩
  | 25 => ⟨S4x1, .f32⟩
  | 26 => ⟨S2048, .f32⟩
  | 27 => ⟨S1x2048, .f32⟩
  | 28 => ⟨S4x2048, .f32⟩
  | 29 => ⟨S4x2048, .f32⟩
  | 30 => ⟨S4x2048, .f32⟩
  | 31 => ⟨S_, .f32⟩
  | 32 => ⟨S4x2048, .f32⟩
  | 33 => ⟨S4x2048, .i1⟩
  | 34 => ⟨S1x4x2048x1, .i1⟩
  | 35 => ⟨S4x1x1x4, .f32⟩
  | 36 => ⟨S_, .f32⟩
  | 37 => ⟨S4x2048, .f32⟩
  | 38 => ⟨S4x2048, .f32⟩
  | 39 => ⟨S1x4x2048x1, .f32⟩
  | 40 => ⟨S4x4x2048x4, .f32⟩
  | 41 => ⟨S4x4x2048x4, .f32⟩
  | 42 => ⟨S4x4x2048x4, .f32⟩
  | 43 => ⟨S4x4x2048x4, .f32⟩
  | 44 => ⟨S_, .f32⟩
  | 45 => ⟨S_, .f32⟩
  | 46 => ⟨S4x4x2048x4, .i1⟩
  | 47 => ⟨S4x4x2048x4, .f32⟩
  | 48 => ⟨S4x4x2048x4, .f32⟩
  | 49 => ⟨S256, .f32⟩
  | 50 => ⟨S4x1x4, .f32⟩
  | 51 => ⟨S_, .f32⟩
  | 52 => ⟨S256, .f32⟩
  | 53 => ⟨S256, .f32⟩
  | 54 => ⟨S1x256x1, .f32⟩
  | 55 => ⟨S4x256x4, .f32⟩
  | 56 => ⟨S4x256x4, .f32⟩
  | 57 => ⟨S4x256x4, .f32⟩
  | 58 => ⟨S4x256x4, .f32⟩
  | 59 => ⟨S4x256x4x1, .f32⟩
  | 60 => ⟨S4x256x4x256, .f32⟩
  | 61 => ⟨S4x256x4x256, .f32⟩
  | 62 => ⟨S4x4x256x512, .f32⟩
  | 63 => ⟨S4x4x1x256x512, .f32⟩
  | 64 => ⟨S4x4x1, .f32⟩
  | 65 => ⟨S1x1x4, .f32⟩
  | 66 => ⟨S4x4x4, .f32⟩
  | 67 => ⟨S4x4x4, .f32⟩
  | 68 => ⟨S4x4x4, .f32⟩
  | 69 => ⟨S4x4x4, .f32⟩
  | 70 => ⟨S4x4x4x1x1, .f32⟩
  | 71 => ⟨S4x4x4x256x512, .f32⟩
  | 72 => ⟨S4x4x4x256x512, .f32⟩
  | 73 => ⟨S4x4x4x256x512, .f32⟩
  | 74 => ⟨S4x1x2048x4x256, .f32⟩
  | 75 => ⟨S4x4x2048x4x1, .f32⟩
  | 76 => ⟨S4x4x2048x4x256, .f32⟩
  | 77 => ⟨S4x4x2048x4x256, .f32⟩
  | 78 => ⟨S4x4x2048x4x256, .f32⟩
  | 79 => ⟨S4x4x4x256x512, .f32⟩
  | 80 => ⟨S4x4x4x256x512, .f32⟩
  | 81 => ⟨S4x2048x4x256, .f32⟩
  | 82 => ⟨S4x2048x4x512, .f32⟩
  | 83 => ⟨S4x256x4x256, .f32⟩
  | 84 => ⟨S4x256x4x512, .f32⟩
  | 85 => ⟨S1x4x4, .f32⟩
  | 86 => ⟨S4x4, .f32⟩
  | 87 => ⟨S4, .f32⟩
  | 88 => ⟨S_, .f32⟩
  | 89 => ⟨S4, .f32⟩
  | 90 => ⟨S4, .f32⟩
  | 91 => ⟨S4x1, .f32⟩
  | 92 => ⟨S_, .f32⟩
  | 93 => ⟨S4x1, .f32⟩
  | 94 => ⟨S4x1, .f32⟩
  | 95 => ⟨S2048, .f32⟩
  | 96 => ⟨S1x2048, .f32⟩
  | 97 => ⟨S4x2048, .f32⟩
  | 98 => ⟨S4x2048, .f32⟩
  | 99 => ⟨S4x2048, .f32⟩
  | 100 => ⟨S_, .f32⟩
  | 101 => ⟨S4x2048, .f32⟩
  | 102 => ⟨S4x2048, .i1⟩
  | 103 => ⟨S1x4x2048x1, .i1⟩
  | 104 => ⟨S4x1x1x4, .f32⟩
  | 105 => ⟨S_, .f32⟩
  | 106 => ⟨S4x2048, .f32⟩
  | 107 => ⟨S4x2048, .f32⟩
  | 108 => ⟨S1x4x2048x1, .f32⟩
  | 109 => ⟨S4x4x2048x4, .f32⟩
  | 110 => ⟨S4x4x2048x4, .f32⟩
  | 111 => ⟨S4x4x2048x4, .f32⟩
  | 112 => ⟨S4x4x2048x4, .f32⟩
  | 113 => ⟨S_, .f32⟩
  | 114 => ⟨S_, .f32⟩
  | 115 => ⟨S4x4x2048x4, .i1⟩
  | 116 => ⟨S4x4x2048x4, .f32⟩
  | 117 => ⟨S4x4x2048x4, .f32⟩
  | 118 => ⟨S256, .f32⟩
  | 119 => ⟨S4x1x4, .f32⟩
  | 120 => ⟨S_, .f32⟩
  | 121 => ⟨S256, .f32⟩
  | 122 => ⟨S256, .f32⟩
  | 123 => ⟨S1x256x1, .f32⟩
  | 124 => ⟨S4x256x4, .f32⟩
  | 125 => ⟨S4x256x4, .f32⟩
  | 126 => ⟨S4x256x4, .f32⟩
  | 127 => ⟨S4x256x4, .f32⟩
  | _ => ⟨S9216x2048, .f32⟩

abbrev hbmTy0_1 (i : Nat) : BufTy := match i % 128 with
  | 0 => ⟨S4x256x4x1, .f32⟩
  | 1 => ⟨S4x256x4x256, .f32⟩
  | 2 => ⟨S4x256x4x256, .f32⟩
  | 3 => ⟨S4x4x256x512, .f32⟩
  | 4 => ⟨S4x4x1x256x512, .f32⟩
  | 5 => ⟨S4x4x1, .f32⟩
  | 6 => ⟨S1x1x4, .f32⟩
  | 7 => ⟨S4x4x4, .f32⟩
  | 8 => ⟨S4x4x4, .f32⟩
  | 9 => ⟨S4x4x4, .f32⟩
  | 10 => ⟨S4x4x4, .f32⟩
  | 11 => ⟨S4x4x4x1x1, .f32⟩
  | 12 => ⟨S4x4x4x256x512, .f32⟩
  | 13 => ⟨S4x4x4x256x512, .f32⟩
  | 14 => ⟨S4x4x4x256x512, .f32⟩
  | 15 => ⟨S4x1x2048x4x256, .f32⟩
  | 16 => ⟨S4x4x2048x4x1, .f32⟩
  | 17 => ⟨S4x4x2048x4x256, .f32⟩
  | 18 => ⟨S4x4x2048x4x256, .f32⟩
  | 19 => ⟨S4x4x2048x4x256, .f32⟩
  | 20 => ⟨S4x4x4x256x512, .f32⟩
  | 21 => ⟨S4x4x4x256x512, .f32⟩
  | 22 => ⟨S4x4x4x256x512, .f32⟩
  | 23 => ⟨S8192x1024, .f32⟩
  | 24 => ⟨S8192x1024, .f32⟩
  | 25 => ⟨S8192x2048, .f32⟩
  | 26 => ⟨S1024x1024, .f32⟩
  | 27 => ⟨S1024x2048, .f32⟩
  | 28 => ⟨S4x4x8x128, .f32⟩
  | 29 => ⟨S8192x1024, .f32⟩
  | 30 => ⟨S8192x1024, .f32⟩
  | 31 => ⟨S8192x2048, .f32⟩
  | 32 => ⟨S1024x1024, .f32⟩
  | 33 => ⟨S1024x2048, .f32⟩
  | 34 => ⟨S4x4x8x128, .f32⟩
  | _ => ⟨S9216x2048, .f32⟩

abbrev hbmTy (i : Nat) : BufTy := match i / 128 with
  | 0 => hbmTy0_0 i
  | 1 => hbmTy0_1 i
  | _ => ⟨S9216x2048, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S1x1x1x256x512, .f32⟩
  | .local _ .vmem, ⟨7, _⟩ => ⟨S1x1x1x256x512, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x512, .f32⟩
  | .local _ .vmem, ⟨15, _⟩ => ⟨S512x512, .f32⟩
  | .local _ .vmem, ⟨16, _⟩ => ⟨S1x1x1x256x512, .f32⟩
  | .local _ .vmem, ⟨17, _⟩ => ⟨S1x1x1x256x512, .f32⟩
  | .local _ .vmem, ⟨18, _⟩ => ⟨S512x512, .f32⟩
  | .local _ .vmem, ⟨19, _⟩ => ⟨S512x512, .f32⟩
  | .local _ .vmem, ⟨20, _⟩ => ⟨S256x256, .f32⟩
  | .local _ .vmem, ⟨21, _⟩ => ⟨S256x256, .f32⟩
  | .local _ .vmem, ⟨22, _⟩ => ⟨S256x512, .f32⟩
  | .local _ .vmem, ⟨23, _⟩ => ⟨S256x512, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | .local _ .vmem, ⟨28, _⟩ => ⟨S512x512, .f32⟩
  | .local _ .vmem, ⟨29, _⟩ => ⟨S512x512, .f32⟩
  | .local _ .vmem, ⟨30, _⟩ => ⟨S256x256, .f32⟩
  | .local _ .vmem, ⟨31, _⟩ => ⟨S256x256, .f32⟩
  | .local _ .vmem, ⟨32, _⟩ => ⟨S256x512, .f32⟩
  | .local _ .vmem, ⟨33, _⟩ => ⟨S256x512, .f32⟩
  | .local _ .vmem, ⟨34, _⟩ => ⟨S1x1x8x128, .f32⟩
  | .local _ .vmem, ⟨35, _⟩ => ⟨S1x1x8x128, .f32⟩
  | .local _ .vmem, ⟨36, _⟩ => ⟨S512x256, .f32⟩
  | .local _ .vmem, ⟨37, _⟩ => ⟨S512x256, .f32⟩
  | .local _ .vmem, ⟨38, _⟩ => ⟨S512x256, .f32⟩
  | .local _ .vmem, ⟨39, _⟩ => ⟨S512x256, .f32⟩
  | .local _ .vmem, ⟨40, _⟩ => ⟨S512x512, .f32⟩
  | .local _ .vmem, ⟨41, _⟩ => ⟨S512x512, .f32⟩
  | .local _ .vmem, ⟨42, _⟩ => ⟨S256x256, .f32⟩
  | .local _ .vmem, ⟨43, _⟩ => ⟨S256x256, .f32⟩
  | .local _ .vmem, ⟨44, _⟩ => ⟨S256x512, .f32⟩
  | .local _ .vmem, ⟨45, _⟩ => ⟨S256x512, .f32⟩
  | .local _ .vmem, ⟨46, _⟩ => ⟨S1x1x8x128, .f32⟩
  | .local _ .vmem, ⟨47, _⟩ => ⟨S1x1x8x128, .f32⟩
  | .local _ .vmem, ⟨48, _⟩ => ⟨S256x512, .f32⟩
  | .local _ .vmem, ⟨49, _⟩ => ⟨S256x512, .f32⟩
  | .local _ .smem, ⟨0, _⟩ => ⟨S2x4, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .smem, ⟨0, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_5 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_6 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_7 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_8 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_9 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_10 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129_0 : Ref sig .tc := ⟨.hbm, 151, rfl⟩
abbrev main_v129_1 : Ref sig .tc := ⟨.hbm, 152, rfl⟩
abbrev main_v129_2 : Ref sig .tc := ⟨.hbm, 153, rfl⟩
abbrev main_v129_3 : Ref sig .tc := ⟨.hbm, 154, rfl⟩
abbrev main_v129_4 : Ref sig .tc := ⟨.hbm, 155, rfl⟩
abbrev main_v129_5 : Ref sig .tc := ⟨.hbm, 156, rfl⟩
abbrev main_v129_6 : Ref sig .tc := ⟨.hbm, 157, rfl⟩
abbrev main_v129_7 : Ref sig .tc := ⟨.hbm, 158, rfl⟩
abbrev main_v129_8 : Ref sig .tc := ⟨.hbm, 159, rfl⟩
abbrev main_v129_9 : Ref sig .tc := ⟨.hbm, 160, rfl⟩
abbrev main_v129_10 : Ref sig .tc := ⟨.hbm, 161, rfl⟩
abbrev main_v129_11 : Ref sig .tc := ⟨.hbm, 162, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_stg24_0 : Ref sig .tc := ⟨.vmem, 46, rfl⟩
abbrev cc0_stg24_1 : Ref sig .tc := ⟨.vmem, 47, rfl⟩
abbrev cc0_scratch0 : Ref sig .tc := ⟨.vmem, 48, rfl⟩
abbrev cc0_scratch1 : Ref sig .tc := ⟨.vmem, 49, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46
abbrev cc0_sem24_0 : DmaSem sig := 47
abbrev cc0_sem24_1 : DmaSem sig := 48

abbrev nD : Nat := 1
abbrev τ : Topo := Topo.v7x

variable {F : FTy → Type} [FloatOps F]

abbrev grid0 : Pipeline.Grid := ⟨3, ![4, 4, 4], ![false, false, false]⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v2 : Index := Scalar.indexCast arg1
  ![1, v2.toNat]
def k0_cond2 (i : grid0.Coords) : BitVec 1 :=
  let arg2 : BitVec 32 := BitVec.ofNat 32 (i 2).val
  let c3_i32 : BitVec 32 := 3#32
  let v259 : BitVec 1 := Scalar.cmpi .eq arg2 c3_i32
  let v260 : BitVec 32 := Scalar.extui v259
  let c0_i32_107 : BitVec 32 := 0#32
  let v261 : BitVec 1 := Scalar.cmpi .ne v260 c0_i32_107
  v261

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c4_i32_0 : BitVec 32 := 4#32
  let v3 : BitVec 32 := Scalar.addi c4_i32_0 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c4_i32_0 : BitVec 32 := 4#32
  let v3 : BitVec 32 := Scalar.addi c4_i32_0 arg1
  let c0_i32 : BitVec 32 := 0#32
  ![v2.toNat, v3.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  let c0_i32_0 : BitVec 32 := 0#32
  let c0_i32_1 : BitVec 32 := 0#32
  ![arg0.toNat, arg1.toNat, v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c4_i32 : BitVec 32 := 4#32
  let v1 : BitVec 32 := Scalar.addi c4_i32 arg1
  let c0_i32 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c4_i32 : BitVec 32 := 4#32
  let v1 : BitVec 32 := Scalar.addi c4_i32 arg1
  let c0_i32 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_18 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_21 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_22 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_23 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_24 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]

abbrev stage0_18 : Fin 2 → Memref sig .tc .vmem S1x1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, false]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true, true]

abbrev stage0_22 : Fin 2 → Memref sig .tc .vmem S256x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true, false]

abbrev stage0_23 : Fin 2 → Memref sig .tc .vmem S256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true, false]

abbrev stage0_24 : Fin 2 → Memref sig .tc .vmem S1x1x8x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true, false]
-- ==== ReferenceIdeal.lean ====
abbrev S9216x2048 : Shape := ⟨2, ![9216, 2048]⟩
abbrev S9216x6144 : Shape := ⟨2, ![9216, 6144]⟩
abbrev S2x4 : Shape := ⟨2, ![2, 4]⟩
abbrev S8192x2048 : Shape := ⟨2, ![8192, 2048]⟩
abbrev S1x4 : Shape := ⟨2, ![1, 4]⟩
abbrev S4 : Shape := ⟨1, ![4]⟩
abbrev S8192x1024 : Shape := ⟨2, ![8192, 1024]⟩
abbrev S4x2048x4x256 : Shape := ⟨4, ![4, 2048, 4, 256]⟩
abbrev S4x2048x4x512 : Shape := ⟨4, ![4, 2048, 4, 512]⟩
abbrev S1024x1024 : Shape := ⟨2, ![1024, 1024]⟩
abbrev S4x256x4x256 : Shape := ⟨4, ![4, 256, 4, 256]⟩
abbrev S1024x2048 : Shape := ⟨2, ![1024, 2048]⟩
abbrev S4x256x4x512 : Shape := ⟨4, ![4, 256, 4, 512]⟩
abbrev S4x4 : Shape := ⟨2, ![4, 4]⟩
abbrev S256 : Shape := ⟨1, ![256]⟩
abbrev S4x1x4 : Shape := ⟨3, ![4, 1, 4]⟩
abbrev S_ : Shape := ⟨0, ![]⟩
abbrev S1x256x1 : Shape := ⟨3, ![1, 256, 1]⟩
abbrev S4x256x4 : Shape := ⟨3, ![4, 256, 4]⟩
abbrev S4x256x4x1 : Shape := ⟨4, ![4, 256, 4, 1]⟩
abbrev S4x4x256x512 : Shape := ⟨4, ![4, 4, 256, 512]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x4x1x1 : Shape := ⟨4, ![4, 4, 1, 1]⟩
abbrev S1x1x2048x2048 : Shape := ⟨4, ![1, 1, 2048, 2048]⟩
abbrev S4x4x2048x2048 : Shape := ⟨4, ![4, 4, 2048, 2048]⟩
abbrev S1x2048x1 : Shape := ⟨3, ![1, 2048, 1]⟩
abbrev S4x2048x4 : Shape := ⟨3, ![4, 2048, 4]⟩
abbrev S4x2048x4x1 : Shape := ⟨4, ![4, 2048, 4, 1]⟩
abbrev S4x4x512x2048 : Shape := ⟨4, ![4, 4, 512, 2048]⟩
abbrev S4x4x2048x256 : Shape := ⟨4, ![4, 4, 2048, 256]⟩
abbrev S4x4x512x256 : Shape := ⟨4, ![4, 4, 512, 256]⟩
abbrev S4x4x256x256 : Shape := ⟨4, ![4, 4, 256, 256]⟩
abbrev S4x4x8x128 : Shape := ⟨4, ![4, 4, 8, 128]⟩

abbrev nBuf : Space → Nat
  | .hbm => 306
  | .vmem => 0
  | .smem => 0
  | _ => 0

abbrev hbmTy0_0 (i : Nat) : BufTy := match i % 128 with
  | 0 => ⟨S9216x2048, .f32⟩
  | 1 => ⟨S9216x6144, .f32⟩
  | 2 => ⟨S2x4, .f32⟩
  | 3 => ⟨S8192x2048, .f32⟩
  | 4 => ⟨S1x4, .f32⟩
  | 5 => ⟨S4, .f32⟩
  | 6 => ⟨S1x4, .f32⟩
  | 7 => ⟨S4, .f32⟩
  | 8 => ⟨S8192x1024, .f32⟩
  | 9 => ⟨S4x2048x4x256, .f32⟩
  | 10 => ⟨S8192x1024, .f32⟩
  | 11 => ⟨S4x2048x4x256, .f32⟩
  | 12 => ⟨S8192x2048, .f32⟩
  | 13 => ⟨S4x2048x4x512, .f32⟩
  | 14 => ⟨S1024x1024, .f32⟩
  | 15 => ⟨S4x256x4x256, .f32⟩
  | 16 => ⟨S1024x2048, .f32⟩
  | 17 => ⟨S4x256x4x512, .f32⟩
  | 18 => ⟨S1x4, .f32⟩
  | 19 => ⟨S4x4, .f32⟩
  | 20 => ⟨S256, .f32⟩
  | 21 => ⟨S4x1x4, .f32⟩
  | 22 => ⟨S_, .f32⟩
  | 23 => ⟨S256, .f32⟩
  | 24 => ⟨S256, .f32⟩
  | 25 => ⟨S1x256x1, .f32⟩
  | 26 => ⟨S4x256x4, .f32⟩
  | 27 => ⟨S4x256x4, .f32⟩
  | 28 => ⟨S4x256x4, .f32⟩
  | 29 => ⟨S4x256x4, .f32⟩
  | 30 => ⟨S4x256x4x1, .f32⟩
  | 31 => ⟨S4x256x4x256, .f32⟩
  | 32 => ⟨S4x256x4x256, .f32⟩
  | 33 => ⟨S4x4x256x512, .f32⟩
  | 34 => ⟨S2048, .f32⟩
  | 35 => ⟨S2048x1, .f32⟩
  | 36 => ⟨S1x2048, .f32⟩
  | 37 => ⟨S2048x2048, .f32⟩
  | 38 => ⟨S2048x2048, .f32⟩
  | 39 => ⟨S2048x2048, .f32⟩
  | 40 => ⟨S_, .f32⟩
  | 41 => ⟨S2048x2048, .f32⟩
  | 42 => ⟨S2048x2048, .i1⟩
  | 43 => ⟨S4x4x1x1, .f32⟩
  | 44 => ⟨S_, .f32⟩
  | 45 => ⟨S2048x2048, .f32⟩
  | 46 => ⟨S2048x2048, .f32⟩
  | 47 => ⟨S1x1x2048x2048, .f32⟩
  | 48 => ⟨S4x4x2048x2048, .f32⟩
  | 49 => ⟨S4x4x2048x2048, .f32⟩
  | 50 => ⟨S4x4x2048x2048, .f32⟩
  | 51 => ⟨S4x4x2048x2048, .f32⟩
  | 52 => ⟨S_, .f32⟩
  | 53 => ⟨S_, .f32⟩
  | 54 => ⟨S4x4x2048x2048, .i1⟩
  | 55 => ⟨S4x4x2048x2048, .f32⟩
  | 56 => ⟨S4x4x2048x2048, .f32⟩
  | 57 => ⟨S_, .f32⟩
  | 58 => ⟨S4x4x2048x2048, .f32⟩
  | 59 => ⟨S4x1x4, .f32⟩
  | 60 => ⟨S_, .f32⟩
  | 61 => ⟨S2048, .f32⟩
  | 62 => ⟨S2048, .f32⟩
  | 63 => ⟨S1x2048x1, .f32⟩
  | 64 => ⟨S4x2048x4, .f32⟩
  | 65 => ⟨S4x2048x4, .f32⟩
  | 66 => ⟨S4x2048x4, .f32⟩
  | 67 => ⟨S4x2048x4, .f32⟩
  | 68 => ⟨S4x2048x4x1, .f32⟩
  | 69 => ⟨S4x4x2048x2048, .f32⟩
  | 70 => ⟨S4x4x2048x2048, .f32⟩
  | 71 => ⟨S4x4x512x2048, .f32⟩
  | 72 => ⟨S4x2048x4x512, .f32⟩
  | 73 => ⟨S4x4x512x2048, .f32⟩
  | 74 => ⟨S4x2048x4x512, .f32⟩
  | 75 => ⟨S4x2048x4x512, .f32⟩
  | 76 => ⟨S4x2048x4x512, .f32⟩
  | 77 => ⟨S4x2048x4x512, .f32⟩
  | 78 => ⟨S4x2048x4x512, .f32⟩
  | 79 => ⟨S4x2048x4x512, .f32⟩
  | 80 => ⟨S_, .f32⟩
  | 81 => ⟨S4x2048x4, .f32⟩
  | 82 => ⟨S4x2048x4x1, .f32⟩
  | 83 => ⟨S4x2048x4x512, .f32⟩
  | 84 => ⟨S4x2048x4x512, .f32⟩
  | 85 => ⟨S4x4x512x2048, .f32⟩
  | 86 => ⟨S4x4x2048x256, .f32⟩
  | 87 => ⟨S4x2048x4x256, .f32⟩
  | 88 => ⟨S4x4x512x256, .f32⟩
  | 89 => ⟨S4x4x256x512, .f32⟩
  | 90 => ⟨S4x4x512x2048, .f32⟩
  | 91 => ⟨S4x4x2048x2048, .f32⟩
  | 92 => ⟨S4x4x512x2048, .f32⟩
  | 93 => ⟨S4x2048x4x512, .f32⟩
  | 94 => ⟨S4x4x2048x2048, .f32⟩
  | 95 => ⟨S4x4x2048x2048, .f32⟩
  | 96 => ⟨S4x4x2048x256, .f32⟩
  | 97 => ⟨S4x2048x4x256, .f32⟩
  | 98 => ⟨S4x4x2048x256, .f32⟩
  | 99 => ⟨S4x2048x4x256, .f32⟩
  | 100 => ⟨S4x2048x4x256, .f32⟩
  | 101 => ⟨S_, .f32⟩
  | 102 => ⟨S4x2048x4, .f32⟩
  | 103 => ⟨S4x2048x4, .f32⟩
  | 104 => ⟨S4x2048x4, .f32⟩
  | 105 => ⟨S4x2048x4, .f32⟩
  | 106 => ⟨S_, .f32⟩
  | 107 => ⟨S4x4, .f32⟩
  | 108 => ⟨S4x1x4, .f32⟩
  | 109 => ⟨S_, .f32⟩
  | 110 => ⟨S4x4, .f32⟩
  | 111 => ⟨S_, .f32⟩
  | 112 => ⟨S4x4x2048x2048, .f32⟩
  | 113 => ⟨S4x4x2048x2048, .f32⟩
  | 114 => ⟨S4x4x2048x2048, .f32⟩
  | 115 => ⟨S4x4x2048x2048, .f32⟩
  | 116 => ⟨S4x4x2048x2048, .f32⟩
  | 117 => ⟨S_, .f32⟩
  | 118 => ⟨S4x4, .f32⟩
  | 119 => ⟨S4x4x1x1, .f32⟩
  | 120 => ⟨S_, .f32⟩
  | 121 => ⟨S4x4, .f32⟩
  | 122 => ⟨S4x4, .f32⟩
  | 123 => ⟨S4x4x512x256, .f32⟩
  | 124 => ⟨S4x256x4x512, .f32⟩
  | 125 => ⟨S4x4x256x256, .f32⟩
  | 126 => ⟨S4x256x4x256, .f32⟩
  | 127 => ⟨S4x256x4x256, .f32⟩
  | _ => ⟨S9216x2048, .f32⟩

abbrev hbmTy0_1 (i : Nat) : BufTy := match i % 128 with
  | 0 => ⟨S_, .f32⟩
  | 1 => ⟨S4x256x4, .f32⟩
  | 2 => ⟨S4x256x4x1, .f32⟩
  | 3 => ⟨S4x256x4x256, .f32⟩
  | 4 => ⟨S4x256x4x256, .f32⟩
  | 5 => ⟨S_, .f32⟩
  | 6 => ⟨S4x256x4, .f32⟩
  | 7 => ⟨S4x256x4, .f32⟩
  | 8 => ⟨S4x256x4, .f32⟩
  | 9 => ⟨S4x256x4, .f32⟩
  | 10 => ⟨S_, .f32⟩
  | 11 => ⟨S4x4, .f32⟩
  | 12 => ⟨S4x1x4, .f32⟩
  | 13 => ⟨S_, .f32⟩
  | 14 => ⟨S4x4, .f32⟩
  | 15 => ⟨S4x4, .f32⟩
  | 16 => ⟨S8192x1024, .f32⟩
  | 17 => ⟨S8192x1024, .f32⟩
  | 18 => ⟨S8192x2048, .f32⟩
  | 19 => ⟨S1024x1024, .f32⟩
  | 20 => ⟨S1024x2048, .f32⟩
  | 21 => ⟨S4x4x1x1, .f32⟩
  | 22 => ⟨S4x4x8x128, .f32⟩
  | 23 => ⟨S8192x1024, .f32⟩
  | 24 => ⟨S4x2048x4x256, .f32⟩
  | 25 => ⟨S8192x1024, .f32⟩
  | 26 => ⟨S4x2048x4x256, .f32⟩
  | 27 => ⟨S8192x2048, .f32⟩
  | 28 => ⟨S4x2048x4x512, .f32⟩
  | 29 => ⟨S1024x1024, .f32⟩
  | 30 => ⟨S4x256x4x256, .f32⟩
  | 31 => ⟨S1024x2048, .f32⟩
  | 32 => ⟨S4x256x4x512, .f32⟩
  | 33 => ⟨S1x4, .f32⟩
  | 34 => ⟨S4x4, .f32⟩
  | 35 => ⟨S4x2048x4x256, .f32⟩
  | 36 => ⟨S4x2048x4x256, .f32⟩
  | 37 => ⟨S4x2048x4x512, .f32⟩
  | 38 => ⟨S4x256x4x256, .f32⟩
  | 39 => ⟨S4x256x4x512, .f32⟩
  | 40 => ⟨S256, .f32⟩
  | 41 => ⟨S4x1x4, .f32⟩
  | 42 => ⟨S_, .f32⟩
  | 43 => ⟨S256, .f32⟩
  | 44 => ⟨S256, .f32⟩
  | 45 => ⟨S1x256x1, .f32⟩
  | 46 => ⟨S4x256x4, .f32⟩
  | 47 => ⟨S4x256x4, .f32⟩
  | 48 => ⟨S4x256x4, .f32⟩
  | 49 => ⟨S4x256x4, .f32⟩
  | 50 => ⟨S4x256x4x1, .f32⟩
  | 51 => ⟨S4x256x4x256, .f32⟩
  | 52 => ⟨S4x256x4x256, .f32⟩
  | 53 => ⟨S4x4x256x512, .f32⟩
  | 54 => ⟨S2048, .f32⟩
  | 55 => ⟨S2048x1, .f32⟩
  | 56 => ⟨S1x2048, .f32⟩
  | 57 => ⟨S2048x2048, .f32⟩
  | 58 => ⟨S2048x2048, .f32⟩
  | 59 => ⟨S2048x2048, .f32⟩
  | 60 => ⟨S_, .f32⟩
  | 61 => ⟨S2048x2048, .f32⟩
  | 62 => ⟨S2048x2048, .i1⟩
  | 63 => ⟨S4x4x1x1, .f32⟩
  | 64 => ⟨S_, .f32⟩
  | 65 => ⟨S2048x2048, .f32⟩
  | 66 => ⟨S2048x2048, .f32⟩
  | 67 => ⟨S1x1x2048x2048, .f32⟩
  | 68 => ⟨S4x4x2048x2048, .f32⟩
  | 69 => ⟨S4x4x2048x2048, .f32⟩
  | 70 => ⟨S4x4x2048x2048, .f32⟩
  | 71 => ⟨S4x4x2048x2048, .f32⟩
  | 72 => ⟨S_, .f32⟩
  | 73 => ⟨S_, .f32⟩
  | 74 => ⟨S4x4x2048x2048, .i1⟩
  | 75 => ⟨S4x4x2048x2048, .f32⟩
  | 76 => ⟨S4x4x2048x2048, .f32⟩
  | 77 => ⟨S_, .f32⟩
  | 78 => ⟨S4x4x2048x2048, .f32⟩
  | 79 => ⟨S4x1x4, .f32⟩
  | 80 => ⟨S_, .f32⟩
  | 81 => ⟨S2048, .f32⟩
  | 82 => ⟨S2048, .f32⟩
  | 83 => ⟨S1x2048x1, .f32⟩
  | 84 => ⟨S4x2048x4, .f32⟩
  | 85 => ⟨S4x2048x4, .f32⟩
  | 86 => ⟨S4x2048x4, .f32⟩
  | 87 => ⟨S4x2048x4, .f32⟩
  | 88 => ⟨S4x2048x4x1, .f32⟩
  | 89 => ⟨S4x4x2048x2048, .f32⟩
  | 90 => ⟨S4x4x2048x2048, .f32⟩
  | 91 => ⟨S4x4x512x2048, .f32⟩
  | 92 => ⟨S4x2048x4x512, .f32⟩
  | 93 => ⟨S4x4x512x2048, .f32⟩
  | 94 => ⟨S4x2048x4x512, .f32⟩
  | 95 => ⟨S4x2048x4x512, .f32⟩
  | 96 => ⟨S4x2048x4x512, .f32⟩
  | 97 => ⟨S4x2048x4x512, .f32⟩
  | 98 => ⟨S4x2048x4x512, .f32⟩
  | 99 => ⟨S4x2048x4x512, .f32⟩
  | 100 => ⟨S4x2048x4x512, .f32⟩
  | 101 => ⟨S4x2048x4x512, .f32⟩
  | 102 => ⟨S_, .f32⟩
  | 103 => ⟨S4x2048x4, .f32⟩
  | 104 => ⟨S4x2048x4x1, .f32⟩
  | 105 => ⟨S4x2048x4x512, .f32⟩
  | 106 => ⟨S4x2048x4x512, .f32⟩
  | 107 => ⟨S4x4x512x2048, .f32⟩
  | 108 => ⟨S4x4x2048x256, .f32⟩
  | 109 => ⟨S4x2048x4x256, .f32⟩
  | 110 => ⟨S4x4x512x256, .f32⟩
  | 111 => ⟨S4x4x256x512, .f32⟩
  | 112 => ⟨S4x4x512x2048, .f32⟩
  | 113 => ⟨S4x4x2048x2048, .f32⟩
  | 114 => ⟨S4x4x512x2048, .f32⟩
  | 115 => ⟨S4x2048x4x512, .f32⟩
  | 116 => ⟨S4x4x2048x2048, .f32⟩
  | 117 => ⟨S4x4x2048x2048, .f32⟩
  | 118 => ⟨S4x4x2048x256, .f32⟩
  | 119 => ⟨S4x2048x4x256, .f32⟩
  | 120 => ⟨S4x4x2048x256, .f32⟩
  | 121 => ⟨S4x2048x4x256, .f32⟩
  | 122 => ⟨S4x2048x4x256, .f32⟩
  | 123 => ⟨S_, .f32⟩
  | 124 => ⟨S4x2048x4, .f32⟩
  | 125 => ⟨S4x2048x4, .f32⟩
  | 126 => ⟨S4x2048x4, .f32⟩
  | 127 => ⟨S4x2048x4, .f32⟩
  | _ => ⟨S9216x2048, .f32⟩

abbrev hbmTy0_2 (i : Nat) : BufTy := match i % 128 with
  | 0 => ⟨S_, .f32⟩
  | 1 => ⟨S4x4, .f32⟩
  | 2 => ⟨S4x1x4, .f32⟩
  | 3 => ⟨S_, .f32⟩
  | 4 => ⟨S4x4, .f32⟩
  | 5 => ⟨S_, .f32⟩
  | 6 => ⟨S4x4x2048x2048, .f32⟩
  | 7 => ⟨S4x4x2048x2048, .f32⟩
  | 8 => ⟨S4x4x2048x2048, .f32⟩
  | 9 => ⟨S4x4x2048x2048, .f32⟩
  | 10 => ⟨S4x4x2048x2048, .f32⟩
  | 11 => ⟨S_, .f32⟩
  | 12 => ⟨S4x4, .f32⟩
  | 13 => ⟨S4x4x1x1, .f32⟩
  | 14 => ⟨S_, .f32⟩
  | 15 => ⟨S4x4, .f32⟩
  | 16 => ⟨S4x4, .f32⟩
  | 17 => ⟨S4x4x512x256, .f32⟩
  | 18 => ⟨S4x256x4x512, .f32⟩
  | 19 => ⟨S4x4x256x256, .f32⟩
  | 20 => ⟨S4x256x4x256, .f32⟩
  | 21 => ⟨S4x256x4x256, .f32⟩
  | 22 => ⟨S_, .f32⟩
  | 23 => ⟨S4x256x4, .f32⟩
  | 24 => ⟨S4x256x4x1, .f32⟩
  | 25 => ⟨S4x256x4x256, .f32⟩
  | 26 => ⟨S4x256x4x256, .f32⟩
  | 27 => ⟨S_, .f32⟩
  | 28 => ⟨S4x256x4, .f32⟩
  | 29 => ⟨S4x256x4, .f32⟩
  | 30 => ⟨S4x256x4, .f32⟩
  | 31 => ⟨S4x256x4, .f32⟩
  | 32 => ⟨S_, .f32⟩
  | 33 => ⟨S4x4, .f32⟩
  | 34 => ⟨S4x1x4, .f32⟩
  | 35 => ⟨S_, .f32⟩
  | 36 => ⟨S4x4, .f32⟩
  | 37 => ⟨S4x4, .f32⟩
  | 38 => ⟨S4x256x4x512, .f32⟩
  | 39 => ⟨S4x256x4x256, .f32⟩
  | 40 => ⟨S4x2048x4x512, .f32⟩
  | 41 => ⟨S4x2048x4x256, .f32⟩
  | 42 => ⟨S4x2048x4x256, .f32⟩
  | 43 => ⟨S8192x1024, .f32⟩
  | 44 => ⟨S8192x1024, .f32⟩
  | 45 => ⟨S8192x2048, .f32⟩
  | 46 => ⟨S1024x1024, .f32⟩
  | 47 => ⟨S1024x2048, .f32⟩
  | 48 => ⟨S4x4x1x1, .f32⟩
  | 49 => ⟨S4x4x8x128, .f32⟩
  | _ => ⟨S9216x2048, .f32⟩

abbrev hbmTy (i : Nat) : BufTy := match i / 128 with
  | 0 => hbmTy0_0 i
  | 1 => hbmTy0_1 i
  | 2 => hbmTy0_2 i
  | _ => ⟨S9216x2048, .f32⟩

abbrev bufTy : (tb : Table) → Fin (tcTables nBuf tb) → BufTy
  | .hbm, ⟨i, _⟩ => hbmTy i
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_0 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_1 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_2 : Ref sig .tc := ⟨.hbm, 52, rfl⟩
abbrev main_call0_v0 : Ref sig .tc := ⟨.hbm, 53, rfl⟩
abbrev main_v45_1 : Ref sig .tc := ⟨.hbm, 54, rfl⟩
abbrev main_call0_v2 : Ref sig .tc := ⟨.hbm, 55, rfl⟩
abbrev main_v45_0 : Ref sig .tc := ⟨.hbm, 56, rfl⟩
abbrev main_call0_cst : Ref sig .tc := ⟨.hbm, 57, rfl⟩
abbrev main_v45_2 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_4 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_5 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_6 : Ref sig .tc := ⟨.hbm, 106, rfl⟩
abbrev main_v90 : Ref sig .tc := ⟨.hbm, 107, rfl⟩
abbrev main_v91 : Ref sig .tc := ⟨.hbm, 108, rfl⟩
abbrev main_cst_7 : Ref sig .tc := ⟨.hbm, 109, rfl⟩
abbrev main_v92 : Ref sig .tc := ⟨.hbm, 110, rfl⟩
abbrev main_call1_cst : Ref sig .tc := ⟨.hbm, 111, rfl⟩
abbrev main_call1_v0 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_8 : Ref sig .tc := ⟨.hbm, 117, rfl⟩
abbrev main_v97 : Ref sig .tc := ⟨.hbm, 118, rfl⟩
abbrev main_v98 : Ref sig .tc := ⟨.hbm, 119, rfl⟩
abbrev main_cst_9 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_10 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_cst_11 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_12 : Ref sig .tc := ⟨.hbm, 138, rfl⟩
abbrev main_v114 : Ref sig .tc := ⟨.hbm, 139, rfl⟩
abbrev main_v115 : Ref sig .tc := ⟨.hbm, 140, rfl⟩
abbrev main_cst_13 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_cst_14 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_cst_15 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_cst_16 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_cst_17 : Ref sig .tc := ⟨.hbm, 200, rfl⟩
abbrev main_call7_v0 : Ref sig .tc := ⟨.hbm, 201, rfl⟩
abbrev main_v171_1 : Ref sig .tc := ⟨.hbm, 202, rfl⟩
abbrev main_call7_v2 : Ref sig .tc := ⟨.hbm, 203, rfl⟩
abbrev main_v171_0 : Ref sig .tc := ⟨.hbm, 204, rfl⟩
abbrev main_call7_cst : Ref sig .tc := ⟨.hbm, 205, rfl⟩
abbrev main_v171_2 : Ref sig .tc := ⟨.hbm, 206, rfl⟩
abbrev main_v172 : Ref sig .tc := ⟨.hbm, 207, rfl⟩
abbrev main_cst_18 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_cst_19 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_cst_20 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_cst_21 : Ref sig .tc := ⟨.hbm, 256, rfl⟩
abbrev main_v218 : Ref sig .tc := ⟨.hbm, 257, rfl⟩
abbrev main_v219 : Ref sig .tc := ⟨.hbm, 258, rfl⟩
abbrev main_cst_22 : Ref sig .tc := ⟨.hbm, 259, rfl⟩
abbrev main_v220 : Ref sig .tc := ⟨.hbm, 260, rfl⟩
abbrev main_call10_cst : Ref sig .tc := ⟨.hbm, 261, rfl⟩
abbrev main_call10_v0 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_cst_23 : Ref sig .tc := ⟨.hbm, 267, rfl⟩
abbrev main_v225 : Ref sig .tc := ⟨.hbm, 268, rfl⟩
abbrev main_v226 : Ref sig .tc := ⟨.hbm, 269, rfl⟩
abbrev main_cst_24 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_cst_25 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_cst_26 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_cst_27 : Ref sig .tc := ⟨.hbm, 288, rfl⟩
abbrev main_v242 : Ref sig .tc := ⟨.hbm, 289, rfl⟩
abbrev main_v243 : Ref sig .tc := ⟨.hbm, 290, rfl⟩
abbrev main_cst_28 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩

abbrev nD : Nat := 1
abbrev τ : Topo := Topo.v7x

variable {F : FTy → Type} [FloatOps F]
-- ==== L1QkvgDw.lean ====
abbrev S9216x1024 : Shape := ⟨2, ![9216, 1024]⟩
abbrev S9216x6144 : Shape := ⟨2, ![9216, 6144]⟩
abbrev S1024x6144 : Shape := ⟨2, ![1024, 6144]⟩
abbrev S1536x1024 : Shape := ⟨2, ![1536, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x6144, .bf16⟩
  | .hbm, ⟨2, _⟩ => ⟨S1024x6144, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1QkvgDwIdeal.lean ====
abbrev S9216x1024 : Shape := ⟨2, ![9216, 1024]⟩
abbrev S9216x6144 : Shape := ⟨2, ![9216, 6144]⟩
abbrev S1024x6144 : Shape := ⟨2, ![1024, 6144]⟩
abbrev S1536x1024 : Shape := ⟨2, ![1536, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x6144, .bf16⟩
  | .hbm, ⟨2, _⟩ => ⟨S1024x6144, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1QkvgDwRefIdeal.lean ====
abbrev S9216x1024 : Shape := ⟨2, ![9216, 1024]⟩
abbrev S9216x6144 : Shape := ⟨2, ![9216, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x6144, .bf16⟩
  | .hbm, ⟨2, _⟩ => ⟨S9216x1024, .f32⟩
  | .hbm, ⟨3, _⟩ => ⟨S9216x6144, .f32⟩
  | .hbm, ⟨4, _⟩ => ⟨S_, .f32⟩
  | .hbm, ⟨5, _⟩ => ⟨S1024x6144, .f32⟩
  | .hbm, ⟨6, _⟩ => ⟨S9216x6144, .f32⟩
  | .hbm, ⟨7, _⟩ => ⟨S6144x1024, .f32⟩
  | .hbm, ⟨8, _⟩ => ⟨S1024x6144, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== L1QkvgDx.lean ====
abbrev S9216x6144 : Shape := ⟨2, ![9216, 6144]⟩
abbrev S1024x6144 : Shape := ⟨2, ![1024, 6144]⟩
abbrev S9216x1024 : Shape := ⟨2, ![9216, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x6144, .bf16⟩
  | .hbm, ⟨1, _⟩ => ⟨S1024x6144, .bf16⟩
  | .hbm, ⟨2, _⟩ => ⟨S9216x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1QkvgDxIdeal.lean ====
abbrev S9216x6144 : Shape := ⟨2, ![9216, 6144]⟩
abbrev S1024x6144 : Shape := ⟨2, ![1024, 6144]⟩
abbrev S9216x1024 : Shape := ⟨2, ![9216, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x6144, .bf16⟩
  | .hbm, ⟨1, _⟩ => ⟨S1024x6144, .bf16⟩
  | .hbm, ⟨2, _⟩ => ⟨S9216x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1QkvgDxRefIdeal.lean ====
abbrev S9216x6144 : Shape := ⟨2, ![9216, 6144]⟩
abbrev S1024x6144 : Shape := ⟨2, ![1024, 6144]⟩
abbrev S_ : Shape := ⟨0, ![]⟩
abbrev S9216x1024 : Shape := ⟨2, ![9216, 1024]⟩

abbrev nBuf : Space → Nat
  | .hbm => 8
  | .vmem => 0
  | .smem => 0
  | _ => 0

abbrev bufTy : (tb : Table) → Fin (tcTables nBuf tb) → BufTy
  | .hbm, ⟨0, _⟩ => ⟨S9216x6144, .bf16⟩
  | .hbm, ⟨1, _⟩ => ⟨S1024x6144, .bf16⟩
  | .hbm, ⟨2, _⟩ => ⟨S9216x6144, .f32⟩
  | .hbm, ⟨3, _⟩ => ⟨S1024x6144, .f32⟩
  | .hbm, ⟨4, _⟩ => ⟨S_, .f32⟩
  | .hbm, ⟨5, _⟩ => ⟨S9216x1024, .f32⟩
  | .hbm, ⟨6, _⟩ => ⟨S9216x6144, .f32⟩
  | .hbm, ⟨7, _⟩ => ⟨S9216x1024, .f32⟩
  | _, _ => ⟨S9216x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== L1Qkvg.lean ====
abbrev S9216x1024 : Shape := ⟨2, ![9216, 1024]⟩
abbrev S1024x6144 : Shape := ⟨2, ![1024, 6144]⟩
abbrev S9216x6144 : Shape := ⟨2, ![9216, 6144]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x6144, .bf16⟩
  | .hbm, ⟨2, _⟩ => ⟨S9216x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1QkvgIdeal.lean ====
abbrev S9216x1024 : Shape := ⟨2, ![9216, 1024]⟩
abbrev S1024x6144 : Shape := ⟨2, ![1024, 6144]⟩
abbrev S9216x6144 : Shape := ⟨2, ![9216, 6144]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x6144, .bf16⟩
  | .hbm, ⟨2, _⟩ => ⟨S9216x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1QkvgRefIdeal.lean ====
abbrev S9216x1024 : Shape := ⟨2, ![9216, 1024]⟩
abbrev S1024x6144 : Shape := ⟨2, ![1024, 6144]⟩
abbrev S9216x6144 : Shape := ⟨2, ![9216, 6144]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x6144, .bf16⟩
  | .hbm, ⟨2, _⟩ => ⟨S9216x1024, .f32⟩
  | .hbm, ⟨3, _⟩ => ⟨S1024x6144, .f32⟩
  | .hbm, ⟨4, _⟩ => ⟨S9216x6144, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== L0InDw.lean ====
abbrev S9216x1024 : Shape := ⟨2, ![9216, 1024]⟩
abbrev S9216x5632 : Shape := ⟨2, ![9216, 5632]⟩
abbrev S1024x5632 : Shape := ⟨2, ![1024, 5632]⟩
abbrev S1536x1024 : Shape := ⟨2, ![1536, 1024]⟩
abbrev S1536x1408 : Shape := ⟨2, ![1536, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x5632, .bf16⟩
  | .hbm, ⟨2, _⟩ => ⟨S1024x5632, .f32⟩
  | .local _ .vmem, ⟨0, _⟩ => ⟨S1536x1024, .bf16⟩
  | .local _ .vmem, ⟨1, _⟩ => ⟨S1536x1024, .bf16⟩
  | .local _ .vmem, ⟨2, _⟩ => ⟨S1536x1408, .bf16⟩
  | .local _ .vmem, ⟨3, _⟩ => ⟨S1536x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0InDwIdeal.lean ====
abbrev S9216x1024 : Shape := ⟨2, ![9216, 1024]⟩
abbrev S9216x5632 : Shape := ⟨2, ![9216, 5632]⟩
abbrev S1024x5632 : Shape := ⟨2, ![1024, 5632]⟩
abbrev S1536x1024 : Shape := ⟨2, ![1536, 1024]⟩
abbrev S1536x1408 : Shape := ⟨2, ![1536, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x5632, .bf16⟩
  | .hbm, ⟨2, _⟩ => ⟨S1024x5632, .f32⟩
  | .local _ .vmem, ⟨0, _⟩ => ⟨S1536x1024, .bf16⟩
  | .local _ .vmem, ⟨1, _⟩ => ⟨S1536x1024, .bf16⟩
  | .local _ .vmem, ⟨2, _⟩ => ⟨S1536x1408, .bf16⟩
  | .local _ .vmem, ⟨3, _⟩ => ⟨S1536x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0InDwRefIdeal.lean ====
abbrev S9216x1024 : Shape := ⟨2, ![9216, 1024]⟩
abbrev S9216x5632 : Shape := ⟨2, ![9216, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x5632, .bf16⟩
  | .hbm, ⟨2, _⟩ => ⟨S9216x1024, .f32⟩
  | .hbm, ⟨3, _⟩ => ⟨S9216x5632, .f32⟩
  | .hbm, ⟨4, _⟩ => ⟨S_, .f32⟩
  | .hbm, ⟨5, _⟩ => ⟨S1024x5632, .f32⟩
  | .hbm, ⟨6, _⟩ => ⟨S9216x5632, .f32⟩
  | .hbm, ⟨7, _⟩ => ⟨S5632x1024, .f32⟩
  | .hbm, ⟨8, _⟩ => ⟨S1024x5632, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== L0InDx.lean ====
abbrev S9216x5632 : Shape := ⟨2, ![9216, 5632]⟩
abbrev S1024x5632 : Shape := ⟨2, ![1024, 5632]⟩
abbrev S9216x1024 : Shape := ⟨2, ![9216, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x5632, .bf16⟩
  | .hbm, ⟨1, _⟩ => ⟨S1024x5632, .bf16⟩
  | .hbm, ⟨2, _⟩ => ⟨S9216x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0InDxIdeal.lean ====
abbrev S9216x5632 : Shape := ⟨2, ![9216, 5632]⟩
abbrev S1024x5632 : Shape := ⟨2, ![1024, 5632]⟩
abbrev S9216x1024 : Shape := ⟨2, ![9216, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x5632, .bf16⟩
  | .hbm, ⟨1, _⟩ => ⟨S1024x5632, .bf16⟩
  | .hbm, ⟨2, _⟩ => ⟨S9216x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0InDxRefIdeal.lean ====
abbrev S9216x5632 : Shape := ⟨2, ![9216, 5632]⟩
abbrev S1024x5632 : Shape := ⟨2, ![1024, 5632]⟩
abbrev S_ : Shape := ⟨0, ![]⟩
abbrev S9216x1024 : Shape := ⟨2, ![9216, 1024]⟩

abbrev nBuf : Space → Nat
  | .hbm => 8
  | .vmem => 0
  | .smem => 0
  | _ => 0

abbrev bufTy : (tb : Table) → Fin (tcTables nBuf tb) → BufTy
  | .hbm, ⟨0, _⟩ => ⟨S9216x5632, .bf16⟩
  | .hbm, ⟨1, _⟩ => ⟨S1024x5632, .bf16⟩
  | .hbm, ⟨2, _⟩ => ⟨S9216x5632, .f32⟩
  | .hbm, ⟨3, _⟩ => ⟨S1024x5632, .f32⟩
  | .hbm, ⟨4, _⟩ => ⟨S_, .f32⟩
  | .hbm, ⟨5, _⟩ => ⟨S9216x1024, .f32⟩
  | .hbm, ⟨6, _⟩ => ⟨S9216x5632, .f32⟩
  | .hbm, ⟨7, _⟩ => ⟨S9216x1024, .f32⟩
  | _, _ => ⟨S9216x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== L1InDw.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1InDwIdeal.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1InDwRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== L1InDx.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1InDxIdeal.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1InDxRefIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x5632, .f32⟩
  | .hbm, ⟨3, _⟩ => ⟨S1024x5632, .f32⟩
  | .hbm, ⟨4, _⟩ => ⟨S_, .f32⟩
  | .hbm, ⟨5, _⟩ => ⟨S8192x1024, .f32⟩
  | .hbm, ⟨6, _⟩ => ⟨S8192x5632, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== L0OutDw.lean ====
abbrev S9216x2816 : Shape := ⟨2, ![9216, 2816]⟩
abbrev S9216x1024 : Shape := ⟨2, ![9216, 1024]⟩
abbrev S2816x1024 : Shape := ⟨2, ![2816, 1024]⟩
abbrev S1536x1408 : Shape := ⟨2, ![1536, 1408]⟩
abbrev S1536x1024 : Shape := ⟨2, ![1536, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S2816x1024, .f32⟩
  | .local _ .vmem, ⟨0, _⟩ => ⟨S1536x1408, .bf16⟩
  | .local _ .vmem, ⟨1, _⟩ => ⟨S1536x1408, .bf16⟩
  | .local _ .vmem, ⟨2, _⟩ => ⟨S1536x1024, .bf16⟩
  | .local _ .vmem, ⟨3, _⟩ => ⟨S1536x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0OutDwIdeal.lean ====
abbrev S9216x2816 : Shape := ⟨2, ![9216, 2816]⟩
abbrev S9216x1024 : Shape := ⟨2, ![9216, 1024]⟩
abbrev S2816x1024 : Shape := ⟨2, ![2816, 1024]⟩
abbrev S1536x1408 : Shape := ⟨2, ![1536, 1408]⟩
abbrev S1536x1024 : Shape := ⟨2, ![1536, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S2816x1024, .f32⟩
  | .local _ .vmem, ⟨0, _⟩ => ⟨S1536x1408, .bf16⟩
  | .local _ .vmem, ⟨1, _⟩ => ⟨S1536x1408, .bf16⟩
  | .local _ .vmem, ⟨2, _⟩ => ⟨S1536x1024, .bf16⟩
  | .local _ .vmem, ⟨3, _⟩ => ⟨S1536x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0OutDwRefIdeal.lean ====
abbrev S9216x2816 : Shape := ⟨2, ![9216, 2816]⟩
abbrev S9216x1024 : Shape := ⟨2, ![9216, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S9216x2816, .f32⟩
  | .hbm, ⟨3, _⟩ => ⟨S9216x1024, .f32⟩
  | .hbm, ⟨4, _⟩ => ⟨S_, .f32⟩
  | .hbm, ⟨5, _⟩ => ⟨S2816x1024, .f32⟩
  | .hbm, ⟨6, _⟩ => ⟨S9216x1024, .f32⟩
  | .hbm, ⟨7, _⟩ => ⟨S1024x2816, .f32⟩
  | .hbm, ⟨8, _⟩ => ⟨S2816x1024, .f32⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== L1OutDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1OutDwIdeal.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1OutDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== L0In.lean ====
abbrev S9216x1024 : Shape := ⟨2, ![9216, 1024]⟩
abbrev S1024x5632 : Shape := ⟨2, ![1024, 5632]⟩
abbrev S9216x2816 : Shape := ⟨2, ![9216, 2816]⟩
abbrev S1024x1024 : Shape := ⟨2, ![1024, 1024]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S9216x1024, .bf16⟩
  | .hbm, ⟨1, _⟩ => ⟨S1024x5632, .bf16⟩
  | .hbm, ⟨2, _⟩ => ⟨S9216x2816, .f32⟩
  | .hbm, ⟨3, _⟩ => ⟨S9216x2816, .f32⟩
  | .hbm, ⟨4, _⟩ => ⟨S9216x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | .local _ .vmem, ⟨7, _⟩ => ⟨S1024x1408, .f32⟩
  | .local _ .vmem, ⟨8, _⟩ => ⟨S1024x1408, .f32⟩
  | .local _ .vmem, ⟨9, _⟩ => ⟨S1024x1408, .f32⟩
  | .local _ .vmem, ⟨10, _⟩ => ⟨S1024x1408, .bf16⟩
  | .local _ .vmem, ⟨11, _⟩ => ⟨S1024x1408, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== L0InIdeal.lean ====
abbrev S9216x1024 : Shape := ⟨2, ![9216, 1024]⟩
abbrev S1024x5632 : Shape := ⟨2, ![1024, 5632]⟩
abbrev S9216x2816 : Shape := ⟨2, ![9216, 2816]⟩
abbrev S1024x1024 : Shape := ⟨2, ![1024, 1024]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S9216x1024, .bf16⟩
  | .hbm, ⟨1, _⟩ => ⟨S1024x5632, .bf16⟩
  | .hbm, ⟨2, _⟩ => ⟨S9216x2816, .f32⟩
  | .hbm, ⟨3, _⟩ => ⟨S9216x2816, .f32⟩
  | .hbm, ⟨4, _⟩ => ⟨S9216x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | .local _ .vmem, ⟨7, _⟩ => ⟨S1024x1408, .f32⟩
  | .local _ .vmem, ⟨8, _⟩ => ⟨S1024x1408, .f32⟩
  | .local _ .vmem, ⟨9, _⟩ => ⟨S1024x1408, .f32⟩
  | .local _ .vmem, ⟨10, _⟩ => ⟨S1024x1408, .bf16⟩
  | .local _ .vmem, ⟨11, _⟩ => ⟨S1024x1408, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== L0InRefIdeal.lean ====
abbrev S9216x1024 : Shape := ⟨2, ![9216, 1024]⟩
abbrev S1024x5632 : Shape := ⟨2, ![1024, 5632]⟩
abbrev S9216x5632 : Shape := ⟨2, ![9216, 5632]⟩
abbrev S9216x2816 : Shape := ⟨2, ![9216, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x5632, .bf16⟩
  | .hbm, ⟨2, _⟩ => ⟨S9216x1024, .f32⟩
  | .hbm, ⟨3, _⟩ => ⟨S1024x5632, .f32⟩
  | .hbm, ⟨4, _⟩ => ⟨S9216x5632, .f32⟩
  | .hbm, ⟨5, _⟩ => ⟨S9216x2816, .f32⟩
  | .hbm, ⟨6, _⟩ => ⟨S9216x2816, .f32⟩
  | .hbm, ⟨7, _⟩ => ⟨S9216x2816, .f32⟩
  | .hbm, ⟨8, _⟩ => ⟨S9216x2816, .f32⟩
  | .hbm, ⟨9, _⟩ => ⟨S_, .f32⟩
  | .hbm, ⟨10, _⟩ => ⟨S9216x2816, .f32⟩
  | .hbm, ⟨11, _⟩ => ⟨S9216x2816, .f32⟩
  | .hbm, ⟨12, _⟩ => ⟨S_, .f32⟩
  | .hbm, ⟨13, _⟩ => ⟨S9216x2816, .f32⟩
  | .hbm, ⟨14, _⟩ => ⟨S9216x2816, .f32⟩
  | .hbm, ⟨15, _⟩ => ⟨S9216x2816, .f32⟩
  | .hbm, ⟨16, _⟩ => ⟨S9216x2816, .f32⟩
  | .hbm, ⟨17, _⟩ => ⟨S9216x2816, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== L1In.lean ====
abbrev S8192x1024 : Shape := ⟨2, ![8192, 1024]⟩
abbrev S1024x5632 : Shape := ⟨2, ![1024, 5632]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x2816, .f32⟩
  | .hbm, ⟨3, _⟩ => ⟨S8192x2816, .f32⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | .local _ .vmem, ⟨7, _⟩ => ⟨S1024x1408, .f32⟩
  | .local _ .vmem, ⟨8, _⟩ => ⟨S1024x1408, .f32⟩
  | .local _ .vmem, ⟨9, _⟩ => ⟨S1024x1408, .f32⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== L1InIdeal.lean ====
abbrev S8192x1024 : Shape := ⟨2, ![8192, 1024]⟩
abbrev S1024x5632 : Shape := ⟨2, ![1024, 5632]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x2816, .f32⟩
  | .hbm, ⟨3, _⟩ => ⟨S8192x2816, .f32⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | .local _ .vmem, ⟨7, _⟩ => ⟨S1024x1408, .f32⟩
  | .local _ .vmem, ⟨8, _⟩ => ⟨S1024x1408, .f32⟩
  | .local _ .vmem, ⟨9, _⟩ => ⟨S1024x1408, .f32⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== L1InRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== L1RetOutDw.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1RetOutDwIdeal.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1RetOutDwRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== L1RetOutDx.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1RetOutDxIdeal.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1RetOutDxRefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S_, .f32⟩
  | .hbm, ⟨5, _⟩ => ⟨S8192x2048, .f32⟩
  | .hbm, ⟨6, _⟩ => ⟨S8192x1024, .f32⟩
  | .hbm, ⟨7, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== L0Qkv.lean ====
abbrev S9216x1024 : Shape := ⟨2, ![9216, 1024]⟩
abbrev S1024x1536 : Shape := ⟨2, ![1024, 1536]⟩
abbrev S9216x1536 : Shape := ⟨2, ![9216, 1536]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x1536, .bf16⟩
  | .hbm, ⟨2, _⟩ => ⟨S9216x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0QkvIdeal.lean ====
abbrev S9216x1024 : Shape := ⟨2, ![9216, 1024]⟩
abbrev S1024x1536 : Shape := ⟨2, ![1024, 1536]⟩
abbrev S9216x1536 : Shape := ⟨2, ![9216, 1536]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x1536, .bf16⟩
  | .hbm, ⟨2, _⟩ => ⟨S9216x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0QkvRefIdeal.lean ====
abbrev S9216x1024 : Shape := ⟨2, ![9216, 1024]⟩
abbrev S1024x1536 : Shape := ⟨2, ![1024, 1536]⟩
abbrev S9216x1536 : Shape := ⟨2, ![9216, 1536]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1536, .bf16⟩
  | .hbm, ⟨2, _⟩ => ⟨S9216x1024, .f32⟩
  | .hbm, ⟨3, _⟩ => ⟨S1024x1536, .f32⟩
  | .hbm, ⟨4, _⟩ => ⟨S9216x1536, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== L0QkvDw.lean ====
abbrev S9216x1024 : Shape := ⟨2, ![9216, 1024]⟩
abbrev S9216x1536 : Shape := ⟨2, ![9216, 1536]⟩
abbrev S1024x1536 : Shape := ⟨2, ![1024, 1536]⟩
abbrev S1536x1024 : Shape := ⟨2, ![1536, 1024]⟩
abbrev S1536x768 : Shape := ⟨2, ![1536, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x1536, .bf16⟩
  | .hbm, ⟨2, _⟩ => ⟨S1024x1536, .f32⟩
  | .local _ .vmem, ⟨0, _⟩ => ⟨S1536x1024, .bf16⟩
  | .local _ .vmem, ⟨1, _⟩ => ⟨S1536x1024, .bf16⟩
  | .local _ .vmem, ⟨2, _⟩ => ⟨S1536x768, .bf16⟩
  | .local _ .vmem, ⟨3, _⟩ => ⟨S1536x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0QkvDwIdeal.lean ====
abbrev S9216x1024 : Shape := ⟨2, ![9216, 1024]⟩
abbrev S9216x1536 : Shape := ⟨2, ![9216, 1536]⟩
abbrev S1024x1536 : Shape := ⟨2, ![1024, 1536]⟩
abbrev S1536x1024 : Shape := ⟨2, ![1536, 1024]⟩
abbrev S1536x768 : Shape := ⟨2, ![1536, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x1536, .bf16⟩
  | .hbm, ⟨2, _⟩ => ⟨S1024x1536, .f32⟩
  | .local _ .vmem, ⟨0, _⟩ => ⟨S1536x1024, .bf16⟩
  | .local _ .vmem, ⟨1, _⟩ => ⟨S1536x1024, .bf16⟩
  | .local _ .vmem, ⟨2, _⟩ => ⟨S1536x768, .bf16⟩
  | .local _ .vmem, ⟨3, _⟩ => ⟨S1536x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0QkvDwRefIdeal.lean ====
abbrev S9216x1024 : Shape := ⟨2, ![9216, 1024]⟩
abbrev S9216x1536 : Shape := ⟨2, ![9216, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1536, .bf16⟩
  | .hbm, ⟨2, _⟩ => ⟨S9216x1024, .f32⟩
  | .hbm, ⟨3, _⟩ => ⟨S9216x1536, .f32⟩
  | .hbm, ⟨4, _⟩ => ⟨S_, .f32⟩
  | .hbm, ⟨5, _⟩ => ⟨S1024x1536, .f32⟩
  | .hbm, ⟨6, _⟩ => ⟨S9216x1536, .f32⟩
  | .hbm, ⟨7, _⟩ => ⟨S1536x1024, .f32⟩
  | .hbm, ⟨8, _⟩ => ⟨S1024x1536, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== L0QkvDx.lean ====
abbrev S9216x1536 : Shape := ⟨2, ![9216, 1536]⟩
abbrev S1024x1536 : Shape := ⟨2, ![1024, 1536]⟩
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1536, .bf16⟩
  | .hbm, ⟨1, _⟩ => ⟨S1024x1536, .bf16⟩
  | .hbm, ⟨2, _⟩ => ⟨S9216x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | _, _ => ⟨S9216x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0QkvDxIdeal.lean ====
abbrev S9216x1536 : Shape := ⟨2, ![9216, 1536]⟩
abbrev S1024x1536 : Shape := ⟨2, ![1024, 1536]⟩
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1536, .bf16⟩
  | .hbm, ⟨1, _⟩ => ⟨S1024x1536, .bf16⟩
  | .hbm, ⟨2, _⟩ => ⟨S9216x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | _, _ => ⟨S9216x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0QkvDxRefIdeal.lean ====
abbrev S9216x1536 : Shape := ⟨2, ![9216, 1536]⟩
abbrev S1024x1536 : Shape := ⟨2, ![1024, 1536]⟩
abbrev S_ : Shape := ⟨0, ![]⟩
abbrev S9216x1024 : Shape := ⟨2, ![9216, 1024]⟩

abbrev nBuf : Space → Nat
  | .hbm => 8
  | .vmem => 0
  | .smem => 0
  | _ => 0

abbrev bufTy : (tb : Table) → Fin (tcTables nBuf tb) → BufTy
  | .hbm, ⟨0, _⟩ => ⟨S9216x1536, .bf16⟩
  | .hbm, ⟨1, _⟩ => ⟨S1024x1536, .bf16⟩
  | .hbm, ⟨2, _⟩ => ⟨S9216x1536, .f32⟩
  | .hbm, ⟨3, _⟩ => ⟨S1024x1536, .f32⟩
  | .hbm, ⟨4, _⟩ => ⟨S_, .f32⟩
  | .hbm, ⟨5, _⟩ => ⟨S9216x1024, .f32⟩
  | .hbm, ⟨6, _⟩ => ⟨S9216x1536, .f32⟩
  | .hbm, ⟨7, _⟩ => ⟨S9216x1024, .f32⟩
  | _, _ => ⟨S9216x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== L0AttnOutDw.lean ====
abbrev S9216x1024 : Shape := ⟨2, ![9216, 1024]⟩
abbrev S1024x1024 : Shape := ⟨2, ![1024, 1024]⟩
abbrev S1536x1024 : Shape := ⟨2, ![1536, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S1024x1024, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== L0AttnOutDwIdeal.lean ====
abbrev S9216x1024 : Shape := ⟨2, ![9216, 1024]⟩
abbrev S1024x1024 : Shape := ⟨2, ![1024, 1024]⟩
abbrev S1536x1024 : Shape := ⟨2, ![1536, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S1024x1024, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== L0AttnOutDwRefIdeal.lean ====
abbrev S9216x1024 : Shape := ⟨2, ![9216, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x1024, .f32⟩
  | .hbm, ⟨3, _⟩ => ⟨S9216x1024, .f32⟩
  | .hbm, ⟨4, _⟩ => ⟨S_, .f32⟩
  | .hbm, ⟨5, _⟩ => ⟨S1024x1024, .f32⟩
  | .hbm, ⟨6, _⟩ => ⟨S9216x1024, .f32⟩
  | .hbm, ⟨7, _⟩ => ⟨S1024x1024, .f32⟩
  | .hbm, ⟨8, _⟩ => ⟨S1024x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== L0AttnOutDx.lean ====
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0AttnOutDxIdeal.lean ====
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0AttnOutDxRefIdeal.lean ====
abbrev S9216x1024 : Shape := ⟨2, ![9216, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .hbm, ⟨3, _⟩ => ⟨S1024x1024, .f32⟩
  | .hbm, ⟨4, _⟩ => ⟨S_, .f32⟩
  | .hbm, ⟨5, _⟩ => ⟨S9216x1024, .f32⟩
  | .hbm, ⟨6, _⟩ => ⟨S9216x1024, .f32⟩
  | .hbm, ⟨7, _⟩ => ⟨S9216x1024, .f32⟩
  | .hbm, ⟨8, _⟩ => ⟨S9216x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== L0AttnOut.lean ====
abbrev S9216x1024 : Shape := ⟨2, ![9216, 1024]⟩
abbrev S1024x1024 : Shape := ⟨2, ![1024, 1024]⟩
abbrev S5x1x1024 : Shape := ⟨3, ![5, 1, 1024]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .hbm, ⟨3, _⟩ => ⟨S5x1x1024, .f32⟩
  | .hbm, ⟨4, _⟩ => ⟨S9216x1024, .f32⟩
  | .hbm, ⟨5, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg0 c8_i32
  let c2_i32 : BitVec 32 := 2#32
  let v1 : BitVec 32 := Scalar.divsi arg0 c2_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== L0AttnOutIdeal.lean ====
abbrev S9216x1024 : Shape := ⟨2, ![9216, 1024]⟩
abbrev S1024x1024 : Shape := ⟨2, ![1024, 1024]⟩
abbrev S5x1x1024 : Shape := ⟨3, ![5, 1, 1024]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .hbm, ⟨3, _⟩ => ⟨S5x1x1024, .f32⟩
  | .hbm, ⟨4, _⟩ => ⟨S9216x1024, .f32⟩
  | .hbm, ⟨5, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg0 c8_i32
  let c2_i32 : BitVec 32 := 2#32
  let v1 : BitVec 32 := Scalar.divsi arg0 c2_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== L0AttnOutRefIdeal.lean ====
abbrev S9216x1024 : Shape := ⟨2, ![9216, 1024]⟩
abbrev S1024x1024 : Shape := ⟨2, ![1024, 1024]⟩
abbrev S5x1x1024 : Shape := ⟨3, ![5, 1, 1024]⟩
abbrev S5x2048x1024 : Shape := ⟨3, ![5, 2048, 1024]⟩
abbrev S10240x1024 : Shape := ⟨2, ![10240, 1024]⟩

abbrev nBuf : Space → Nat
  | .hbm => 12
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .hbm, ⟨3, _⟩ => ⟨S5x1x1024, .f32⟩
  | .hbm, ⟨4, _⟩ => ⟨S9216x1024, .f32⟩
  | .hbm, ⟨5, _⟩ => ⟨S1024x1024, .f32⟩
  | .hbm, ⟨6, _⟩ => ⟨S9216x1024, .f32⟩
  | .hbm, ⟨7, _⟩ => ⟨S5x2048x1024, .f32⟩
  | .hbm, ⟨8, _⟩ => ⟨S10240x1024, .f32⟩
  | .hbm, ⟨9, _⟩ => ⟨S9216x1024, .f32⟩
  | .hbm, ⟨10, _⟩ => ⟨S9216x1024, .f32⟩
  | .hbm, ⟨11, _⟩ => ⟨S9216x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== L0Out.lean ====
abbrev S9216x2816 : Shape := ⟨2, ![9216, 2816]⟩
abbrev S2816x1024 : Shape := ⟨2, ![2816, 1024]⟩
abbrev S9216x1024 : Shape := ⟨2, ![9216, 1024]⟩
abbrev S5x1x1024 : Shape := ⟨3, ![5, 1, 1024]⟩
abbrev S1024x1408 : Shape := ⟨2, ![1024, 1408]⟩
abbrev S1408x512 : Shape := ⟨2, ![1408, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x1024, .f32⟩
  | .hbm, ⟨3, _⟩ => ⟨S5x1x1024, .f32⟩
  | .hbm, ⟨4, _⟩ => ⟨S9216x1024, .f32⟩
  | .hbm, ⟨5, _⟩ => ⟨S9216x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x512, .bf16⟩
  | .local _ .vmem, ⟨3, _⟩ => ⟨S1408x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![9, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg0 c8_i32
  let c2_i32 : BitVec 32 := 2#32
  let v1 : BitVec 32 := Scalar.divsi arg0 c2_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== L0OutIdeal.lean ====
abbrev S9216x2816 : Shape := ⟨2, ![9216, 2816]⟩
abbrev S2816x1024 : Shape := ⟨2, ![2816, 1024]⟩
abbrev S9216x1024 : Shape := ⟨2, ![9216, 1024]⟩
abbrev S5x1x1024 : Shape := ⟨3, ![5, 1, 1024]⟩
abbrev S1024x1408 : Shape := ⟨2, ![1024, 1408]⟩
abbrev S1408x512 : Shape := ⟨2, ![1408, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x1024, .f32⟩
  | .hbm, ⟨3, _⟩ => ⟨S5x1x1024, .f32⟩
  | .hbm, ⟨4, _⟩ => ⟨S9216x1024, .f32⟩
  | .hbm, ⟨5, _⟩ => ⟨S9216x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x512, .bf16⟩
  | .local _ .vmem, ⟨3, _⟩ => ⟨S1408x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![9, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg0 c8_i32
  let c2_i32 : BitVec 32 := 2#32
  let v1 : BitVec 32 := Scalar.divsi arg0 c2_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== L0OutRefIdeal.lean ====
abbrev S9216x2816 : Shape := ⟨2, ![9216, 2816]⟩
abbrev S2816x1024 : Shape := ⟨2, ![2816, 1024]⟩
abbrev S9216x1024 : Shape := ⟨2, ![9216, 1024]⟩
abbrev S5x1x1024 : Shape := ⟨3, ![5, 1, 1024]⟩
abbrev S5x2048x1024 : Shape := ⟨3, ![5, 2048, 1024]⟩
abbrev S10240x1024 : Shape := ⟨2, ![10240, 1024]⟩

abbrev nBuf : Space → Nat
  | .hbm => 12
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x1024, .f32⟩
  | .hbm, ⟨3, _⟩ => ⟨S5x1x1024, .f32⟩
  | .hbm, ⟨4, _⟩ => ⟨S9216x2816, .f32⟩
  | .hbm, ⟨5, _⟩ => ⟨S2816x1024, .f32⟩
  | .hbm, ⟨6, _⟩ => ⟨S9216x1024, .f32⟩
  | .hbm, ⟨7, _⟩ => ⟨S5x2048x1024, .f32⟩
  | .hbm, ⟨8, _⟩ => ⟨S10240x1024, .f32⟩
  | .hbm, ⟨9, _⟩ => ⟨S9216x1024, .f32⟩
  | .hbm, ⟨10, _⟩ => ⟨S9216x1024, .f32⟩
  | .hbm, ⟨11, _⟩ => ⟨S9216x1024, .f32⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== L1RetOut.lean ====
abbrev S8192x2048 : Shape := ⟨2, ![8192, 2048]⟩
abbrev S2048x1024 : Shape := ⟨2, ![2048, 1024]⟩
abbrev S8192x1024 : Shape := ⟨2, ![8192, 1024]⟩
abbrev S4x1x1024 : Shape := ⟨3, ![4, 1, 1024]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S4x1x1024, .f32⟩
  | .hbm, ⟨4, _⟩ => ⟨S8192x1024, .f32⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg0 c8_i32
  let c2_i32 : BitVec 32 := 2#32
  let v1 : BitVec 32 := Scalar.divsi arg0 c2_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== L1RetOutIdeal.lean ====
abbrev S8192x2048 : Shape := ⟨2, ![8192, 2048]⟩
abbrev S2048x1024 : Shape := ⟨2, ![2048, 1024]⟩
abbrev S8192x1024 : Shape := ⟨2, ![8192, 1024]⟩
abbrev S4x1x1024 : Shape := ⟨3, ![4, 1, 1024]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S4x1x1024, .f32⟩
  | .hbm, ⟨4, _⟩ => ⟨S8192x1024, .f32⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg0 c8_i32
  let c2_i32 : BitVec 32 := 2#32
  let v1 : BitVec 32 := Scalar.divsi arg0 c2_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== L1RetOutRefIdeal.lean ====
abbrev S8192x2048 : Shape := ⟨2, ![8192, 2048]⟩
abbrev S2048x1024 : Shape := ⟨2, ![2048, 1024]⟩
abbrev S8192x1024 : Shape := ⟨2, ![8192, 1024]⟩
abbrev S4x1x1024 : Shape := ⟨3, ![4, 1, 1024]⟩
abbrev S4x2048x1024 : Shape := ⟨3, ![4, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S4x1x1024, .f32⟩
  | .hbm, ⟨4, _⟩ => ⟨S8192x2048, .f32⟩
  | .hbm, ⟨5, _⟩ => ⟨S2048x1024, .f32⟩
  | .hbm, ⟨6, _⟩ => ⟨S8192x1024, .f32⟩
  | .hbm, ⟨7, _⟩ => ⟨S4x2048x1024, .f32⟩
  | .hbm, ⟨8, _⟩ => ⟨S8192x1024, .f32⟩
  | .hbm, ⟨9, _⟩ => ⟨S8192x1024, .f32⟩
  | .hbm, ⟨10, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== L1Out.lean ====
abbrev S8192x2816 : Shape := ⟨2, ![8192, 2816]⟩
abbrev S2816x1024 : Shape := ⟨2, ![2816, 1024]⟩
abbrev S8192x1024 : Shape := ⟨2, ![8192, 1024]⟩
abbrev S4x1x1024 : Shape := ⟨3, ![4, 1, 1024]⟩
abbrev S1024x1408 : Shape := ⟨2, ![1024, 1408]⟩
abbrev S1408x512 : Shape := ⟨2, ![1408, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x1x1024, .f32⟩
  | .hbm, ⟨4, _⟩ => ⟨S8192x1024, .f32⟩
  | .hbm, ⟨5, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x512, .bf16⟩
  | .local _ .vmem, ⟨3, _⟩ => ⟨S1408x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg0 c8_i32
  let c2_i32 : BitVec 32 := 2#32
  let v1 : BitVec 32 := Scalar.divsi arg0 c2_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== L1OutIdeal.lean ====
abbrev S8192x2816 : Shape := ⟨2, ![8192, 2816]⟩
abbrev S2816x1024 : Shape := ⟨2, ![2816, 1024]⟩
abbrev S8192x1024 : Shape := ⟨2, ![8192, 1024]⟩
abbrev S4x1x1024 : Shape := ⟨3, ![4, 1, 1024]⟩
abbrev S1024x1408 : Shape := ⟨2, ![1024, 1408]⟩
abbrev S1408x512 : Shape := ⟨2, ![1408, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x1x1024, .f32⟩
  | .hbm, ⟨4, _⟩ => ⟨S8192x1024, .f32⟩
  | .hbm, ⟨5, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x512, .bf16⟩
  | .local _ .vmem, ⟨3, _⟩ => ⟨S1408x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg0 c8_i32
  let c2_i32 : BitVec 32 := 2#32
  let v1 : BitVec 32 := Scalar.divsi arg0 c2_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== L1OutRefIdeal.lean ====
abbrev S8192x2816 : Shape := ⟨2, ![8192, 2816]⟩
abbrev S2816x1024 : Shape := ⟨2, ![2816, 1024]⟩
abbrev S8192x1024 : Shape := ⟨2, ![8192, 1024]⟩
abbrev S4x1x1024 : Shape := ⟨3, ![4, 1, 1024]⟩
abbrev S4x2048x1024 : Shape := ⟨3, ![4, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S4x2048x1024, .f32⟩
  | .hbm, ⟨8, _⟩ => ⟨S8192x1024, .f32⟩
  | .hbm, ⟨9, _⟩ => ⟨S8192x1024, .f32⟩
  | .hbm, ⟨10, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== L0OutDx.lean ====
abbrev S9216x1024 : Shape := ⟨2, ![9216, 1024]⟩
abbrev S2816x1024 : Shape := ⟨2, ![2816, 1024]⟩
abbrev S9216x2816 : Shape := ⟨2, ![9216, 2816]⟩
abbrev S9216x5632 : Shape := ⟨2, ![9216, 5632]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 5
  | .vmem => 9
  | .smem => 0
  | _ => 0

abbrev bufTy : (tb : Table) → Fin (tcTables nBuf tb) → BufTy
  | .hbm, ⟨0, _⟩ => ⟨S9216x1024, .bf16⟩
  | .hbm, ⟨1, _⟩ => ⟨S2816x1024, .bf16⟩
  | .hbm, ⟨2, _⟩ => ⟨S9216x2816, .f32⟩
  | .hbm, ⟨3, _⟩ => ⟨S9216x2816, .f32⟩
  | .hbm, ⟨4, _⟩ => ⟨S9216x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x2816, .f32⟩
  | .local _ .vmem, ⟨7, _⟩ => ⟨S256x5632, .bf16⟩
  | .local _ .vmem, ⟨8, _⟩ => ⟨S256x5632, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== L0OutDxIdeal.lean ====
abbrev S9216x1024 : Shape := ⟨2, ![9216, 1024]⟩
abbrev S2816x1024 : Shape := ⟨2, ![2816, 1024]⟩
abbrev S9216x2816 : Shape := ⟨2, ![9216, 2816]⟩
abbrev S9216x5632 : Shape := ⟨2, ![9216, 5632]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 5
  | .vmem => 9
  | .smem => 0
  | _ => 0

abbrev bufTy : (tb : Table) → Fin (tcTables nBuf tb) → BufTy
  | .hbm, ⟨0, _⟩ => ⟨S9216x1024, .bf16⟩
  | .hbm, ⟨1, _⟩ => ⟨S2816x1024, .bf16⟩
  | .hbm, ⟨2, _⟩ => ⟨S9216x2816, .f32⟩
  | .hbm, ⟨3, _⟩ => ⟨S9216x2816, .f32⟩
  | .hbm, ⟨4, _⟩ => ⟨S9216x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x2816, .f32⟩
  | .local _ .vmem, ⟨7, _⟩ => ⟨S256x5632, .bf16⟩
  | .local _ .vmem, ⟨8, _⟩ => ⟨S256x5632, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== L0OutDxRefIdeal.lean ====
abbrev S9216x1024 : Shape := ⟨2, ![9216, 1024]⟩
abbrev S2816x1024 : Shape := ⟨2, ![2816, 1024]⟩
abbrev S9216x2816 : Shape := ⟨2, ![9216, 2816]⟩
abbrev S9216x5632 : Shape := ⟨2, ![9216, 5632]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S2816x1024, .bf16⟩
  | .hbm, ⟨2, _⟩ => ⟨S9216x2816, .f32⟩
  | .hbm, ⟨3, _⟩ => ⟨S9216x2816, .f32⟩
  | .hbm, ⟨4, _⟩ => ⟨S9216x1024, .f32⟩
  | .hbm, ⟨5, _⟩ => ⟨S2816x1024, .f32⟩
  | .hbm, ⟨6, _⟩ => ⟨S9216x5632, .f32⟩
  | .hbm, ⟨7, _⟩ => ⟨S9216x2816, .f32⟩
  | .hbm, ⟨8, _⟩ => ⟨S9216x2816, .f32⟩
  | .hbm, ⟨9, _⟩ => ⟨S9216x2816, .f32⟩
  | .hbm, ⟨10, _⟩ => ⟨S9216x2816, .f32⟩
  | .hbm, ⟨11, _⟩ => ⟨S_, .f32⟩
  | .hbm, ⟨12, _⟩ => ⟨S9216x2816, .f32⟩
  | .hbm, ⟨13, _⟩ => ⟨S9216x2816, .f32⟩
  | .hbm, ⟨14, _⟩ => ⟨S_, .f32⟩
  | .hbm, ⟨15, _⟩ => ⟨S9216x2816, .f32⟩
  | .hbm, ⟨16, _⟩ => ⟨S9216x2816, .f32⟩
  | .hbm, ⟨17, _⟩ => ⟨S_, .f32⟩
  | .hbm, ⟨18, _⟩ => ⟨S9216x2816, .f32⟩
  | .hbm, ⟨19, _⟩ => ⟨S9216x2816, .f32⟩
  | .hbm, ⟨20, _⟩ => ⟨S9216x2816, .f32⟩
  | .hbm, ⟨21, _⟩ => ⟨S9216x2816, .f32⟩
  | .hbm, ⟨22, _⟩ => ⟨S9216x2816, .f32⟩
  | .hbm, ⟨23, _⟩ => ⟨S9216x1024, .f32⟩
  | .hbm, ⟨24, _⟩ => ⟨S9216x2816, .f32⟩
  | .hbm, ⟨25, _⟩ => ⟨S9216x2816, .f32⟩
  | .hbm, ⟨26, _⟩ => ⟨S9216x2816, .f32⟩
  | .hbm, ⟨27, _⟩ => ⟨S9216x2816, .f32⟩
  | .hbm, ⟨28, _⟩ => ⟨S9216x2816, .f32⟩
  | .hbm, ⟨29, _⟩ => ⟨S9216x2816, .f32⟩
  | .hbm, ⟨30, _⟩ => ⟨S9216x2816, .f32⟩
  | .hbm, ⟨31, _⟩ => ⟨S9216x5632, .f32⟩
  | .hbm, ⟨32, _⟩ => ⟨S9216x5632, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== L1OutDx.lean ====
abbrev S8192x1024 : Shape := ⟨2, ![8192, 1024]⟩
abbrev S2816x1024 : Shape := ⟨2, ![2816, 1024]⟩
abbrev S8192x2816 : Shape := ⟨2, ![8192, 2816]⟩
abbrev S8192x5632 : Shape := ⟨2, ![8192, 5632]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x2816, .f32⟩
  | .local _ .vmem, ⟨7, _⟩ => ⟨S256x5632, .bf16⟩
  | .local _ .vmem, ⟨8, _⟩ => ⟨S256x5632, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== L1OutDxIdeal.lean ====
abbrev S8192x1024 : Shape := ⟨2, ![8192, 1024]⟩
abbrev S2816x1024 : Shape := ⟨2, ![2816, 1024]⟩
abbrev S8192x2816 : Shape := ⟨2, ![8192, 2816]⟩
abbrev S8192x5632 : Shape := ⟨2, ![8192, 5632]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x2816, .f32⟩
  | .local _ .vmem, ⟨7, _⟩ => ⟨S256x5632, .bf16⟩
  | .local _ .vmem, ⟨8, _⟩ => ⟨S256x5632, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== L1OutDxRefIdeal.lean ====
abbrev S8192x1024 : Shape := ⟨2, ![8192, 1024]⟩
abbrev S2816x1024 : Shape := ⟨2, ![2816, 1024]⟩
abbrev S8192x2816 : Shape := ⟨2, ![8192, 2816]⟩
abbrev S8192x5632 : Shape := ⟨2, ![8192, 5632]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x1024, .f32⟩
  | .hbm, ⟨5, _⟩ => ⟨S2816x1024, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x1024, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x5632, .f32⟩
  | .hbm, ⟨32, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== AdaFwd.lean ====
abbrev S64x1024 : Shape := ⟨2, ![64, 1024]⟩
abbrev S1024x1536 : Shape := ⟨2, ![1024, 1536]⟩
abbrev S1x1536 : Shape := ⟨2, ![1, 1536]⟩
abbrev S64x1536 : Shape := ⟨2, ![64, 1536]⟩
abbrev S1024x768 : Shape := ⟨2, ![1024, 768]⟩
abbrev S1x768 : Shape := ⟨2, ![1, 768]⟩
abbrev S64x768 : Shape := ⟨2, ![64, 768]⟩

abbrev nBuf : Space → Nat
  | .hbm => 4
  | .vmem => 7
  | .smem => 0
  | _ => 0

abbrev bufTy : (tb : Table) → Fin (tcTables nBuf tb) → BufTy
  | .hbm, ⟨0, _⟩ => ⟨S64x1024, .bf16⟩
  | .hbm, ⟨1, _⟩ => ⟨S1024x1536, .f32⟩
  | .hbm, ⟨2, _⟩ => ⟨S1x1536, .f32⟩
  | .hbm, ⟨3, _⟩ => ⟨S64x1536, .f32⟩
  | .local _ .vmem, ⟨0, _⟩ => ⟨S64x1024, .bf16⟩
  | .local _ .vmem, ⟨1, _⟩ => ⟨S1024x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S64x768, .f32⟩
  | .local _ .vmem, ⟨6, _⟩ => ⟨S64x768, .f32⟩
  | _, _ => ⟨S64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AdaFwdIdeal.lean ====
abbrev S64x1024 : Shape := ⟨2, ![64, 1024]⟩
abbrev S1024x1536 : Shape := ⟨2, ![1024, 1536]⟩
abbrev S1x1536 : Shape := ⟨2, ![1, 1536]⟩
abbrev S64x1536 : Shape := ⟨2, ![64, 1536]⟩
abbrev S1024x768 : Shape := ⟨2, ![1024, 768]⟩
abbrev S1x768 : Shape := ⟨2, ![1, 768]⟩
abbrev S64x768 : Shape := ⟨2, ![64, 768]⟩

abbrev nBuf : Space → Nat
  | .hbm => 4
  | .vmem => 7
  | .smem => 0
  | _ => 0

abbrev bufTy : (tb : Table) → Fin (tcTables nBuf tb) → BufTy
  | .hbm, ⟨0, _⟩ => ⟨S64x1024, .bf16⟩
  | .hbm, ⟨1, _⟩ => ⟨S1024x1536, .f32⟩
  | .hbm, ⟨2, _⟩ => ⟨S1x1536, .f32⟩
  | .hbm, ⟨3, _⟩ => ⟨S64x1536, .f32⟩
  | .local _ .vmem, ⟨0, _⟩ => ⟨S64x1024, .bf16⟩
  | .local _ .vmem, ⟨1, _⟩ => ⟨S1024x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S64x768, .f32⟩
  | .local _ .vmem, ⟨6, _⟩ => ⟨S64x768, .f32⟩
  | _, _ => ⟨S64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AdaFwdRefIdeal.lean ====
abbrev S64x1024 : Shape := ⟨2, ![64, 1024]⟩
abbrev S1024x1536 : Shape := ⟨2, ![1024, 1536]⟩
abbrev S1x1536 : Shape := ⟨2, ![1, 1536]⟩
abbrev S64x1536 : Shape := ⟨2, ![64, 1536]⟩

abbrev nBuf : Space → Nat
  | .hbm => 7
  | .vmem => 0
  | .smem => 0
  | _ => 0

abbrev bufTy : (tb : Table) → Fin (tcTables nBuf tb) → BufTy
  | .hbm, ⟨0, _⟩ => ⟨S64x1024, .bf16⟩
  | .hbm, ⟨1, _⟩ => ⟨S1024x1536, .f32⟩
  | .hbm, ⟨2, _⟩ => ⟨S1x1536, .f32⟩
  | .hbm, ⟨3, _⟩ => ⟨S64x1024, .f32⟩
  | .hbm, ⟨4, _⟩ => ⟨S64x1536, .f32⟩
  | .hbm, ⟨5, _⟩ => ⟨S64x1536, .f32⟩
  | .hbm, ⟨6, _⟩ => ⟨S64x1536, .f32⟩
  | _, _ => ⟨S64x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdaDw.lean ====
abbrev S64x1024 : Shape := ⟨2, ![64, 1024]⟩
abbrev S64x1536 : Shape := ⟨2, ![64, 1536]⟩
abbrev S1024x1536 : Shape := ⟨2, ![1024, 1536]⟩
abbrev S64x768 : Shape := ⟨2, ![64, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S64x1024, .bf16⟩
  | .hbm, ⟨1, _⟩ => ⟨S64x1536, .bf16⟩
  | .hbm, ⟨2, _⟩ => ⟨S1024x1536, .f32⟩
  | .local _ .vmem, ⟨0, _⟩ => ⟨S64x1024, .bf16⟩
  | .local _ .vmem, ⟨1, _⟩ => ⟨S64x768, .bf16⟩
  | .local _ .vmem, ⟨2, _⟩ => ⟨S64x768, .bf16⟩
  | .local _ .vmem, ⟨3, _⟩ => ⟨S1024x768, .f32⟩
  | .local _ .vmem, ⟨4, _⟩ => ⟨S1024x768, .f32⟩
  | _, _ => ⟨S64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S64x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaDwIdeal.lean ====
abbrev S64x1024 : Shape := ⟨2, ![64, 1024]⟩
abbrev S64x1536 : Shape := ⟨2, ![64, 1536]⟩
abbrev S1024x1536 : Shape := ⟨2, ![1024, 1536]⟩
abbrev S64x768 : Shape := ⟨2, ![64, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S64x1024, .bf16⟩
  | .hbm, ⟨1, _⟩ => ⟨S64x1536, .bf16⟩
  | .hbm, ⟨2, _⟩ => ⟨S1024x1536, .f32⟩
  | .local _ .vmem, ⟨0, _⟩ => ⟨S64x1024, .bf16⟩
  | .local _ .vmem, ⟨1, _⟩ => ⟨S64x768, .bf16⟩
  | .local _ .vmem, ⟨2, _⟩ => ⟨S64x768, .bf16⟩
  | .local _ .vmem, ⟨3, _⟩ => ⟨S1024x768, .f32⟩
  | .local _ .vmem, ⟨4, _⟩ => ⟨S1024x768, .f32⟩
  | _, _ => ⟨S64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S64x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaDwRefIdeal.lean ====
abbrev S64x1024 : Shape := ⟨2, ![64, 1024]⟩
abbrev S64x1536 : Shape := ⟨2, ![64, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S64x1024, .bf16⟩
  | .hbm, ⟨1, _⟩ => ⟨S64x1536, .bf16⟩
  | .hbm, ⟨2, _⟩ => ⟨S64x1024, .f32⟩
  | .hbm, ⟨3, _⟩ => ⟨S64x1536, .f32⟩
  | .hbm, ⟨4, _⟩ => ⟨S_, .f32⟩
  | .hbm, ⟨5, _⟩ => ⟨S1024x1536, .f32⟩
  | .hbm, ⟨6, _⟩ => ⟨S64x1536, .f32⟩
  | .hbm, ⟨7, _⟩ => ⟨S1536x1024, .f32⟩
  | .hbm, ⟨8, _⟩ => ⟨S1024x1536, .f32⟩
  | _, _ => ⟨S64x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdaDc.lean ====
abbrev S8x1536 : Shape := ⟨2, ![8, 1536]⟩
abbrev S1024x1536 : Shape := ⟨2, ![1024, 1536]⟩
abbrev S8x1024 : Shape := ⟨2, ![8, 1024]⟩

abbrev nBuf : Space → Nat
  | .hbm => 3
  | .vmem => 3
  | .smem => 0
  | _ => 0

abbrev bufTy : (tb : Table) → Fin (tcTables nBuf tb) → BufTy
  | .hbm, ⟨0, _⟩ => ⟨S8x1536, .bf16⟩
  | .hbm, ⟨1, _⟩ => ⟨S1024x1536, .f32⟩
  | .hbm, ⟨2, _⟩ => ⟨S8x1024, .f32⟩
  | .local _ .vmem, ⟨0, _⟩ => ⟨S8x1536, .bf16⟩
  | .local _ .vmem, ⟨1, _⟩ => ⟨S1024x1536, .f32⟩
  | .local _ .vmem, ⟨2, _⟩ => ⟨S8x1024, .f32⟩
  | _, _ => ⟨S8x1536, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AdaDcIdeal.lean ====
abbrev S8x1536 : Shape := ⟨2, ![8, 1536]⟩
abbrev S1024x1536 : Shape := ⟨2, ![1024, 1536]⟩
abbrev S8x1024 : Shape := ⟨2, ![8, 1024]⟩

abbrev nBuf : Space → Nat
  | .hbm => 3
  | .vmem => 3
  | .smem => 0
  | _ => 0

abbrev bufTy : (tb : Table) → Fin (tcTables nBuf tb) → BufTy
  | .hbm, ⟨0, _⟩ => ⟨S8x1536, .bf16⟩
  | .hbm, ⟨1, _⟩ => ⟨S1024x1536, .f32⟩
  | .hbm, ⟨2, _⟩ => ⟨S8x1024, .f32⟩
  | .local _ .vmem, ⟨0, _⟩ => ⟨S8x1536, .bf16⟩
  | .local _ .vmem, ⟨1, _⟩ => ⟨S1024x1536, .f32⟩
  | .local _ .vmem, ⟨2, _⟩ => ⟨S8x1024, .f32⟩
  | _, _ => ⟨S8x1536, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AdaDcRefIdeal.lean ====
abbrev S8x1536 : Shape := ⟨2, ![8, 1536]⟩
abbrev S1024x1536 : Shape := ⟨2, ![1024, 1536]⟩
abbrev S_ : Shape := ⟨0, ![]⟩
abbrev S8x1024 : Shape := ⟨2, ![8, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x1536, .bf16⟩
  | .hbm, ⟨1, _⟩ => ⟨S1024x1536, .f32⟩
  | .hbm, ⟨2, _⟩ => ⟨S8x1536, .f32⟩
  | .hbm, ⟨3, _⟩ => ⟨S_, .f32⟩
  | .hbm, ⟨4, _⟩ => ⟨S8x1024, .f32⟩
  | .hbm, ⟨5, _⟩ => ⟨S8x1536, .f32⟩
  | .hbm, ⟨6, _⟩ => ⟨S8x1024, .f32⟩
  | _, _ => ⟨S8x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamAda.lean ====
abbrev S2048x768 : Shape := ⟨2, ![2048, 768]⟩
abbrev S1x2048x768 : Shape := ⟨3, ![1, 2048, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S1x2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x256x768, .f32⟩
  | .local _ .vmem, ⟨7, _⟩ => ⟨S1x256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaIdeal.lean ====
abbrev S2048x768 : Shape := ⟨2, ![2048, 768]⟩
abbrev S1x2048x768 : Shape := ⟨3, ![1, 2048, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S1x2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x256x768, .f32⟩
  | .local _ .vmem, ⟨7, _⟩ => ⟨S1x256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S2048x768 : Shape := ⟨2, ![2048, 768]⟩
abbrev S1x2048x768 : Shape := ⟨3, ![1, 2048, 768]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S1x2048x768, .f32⟩
  | .hbm, ⟨4, _⟩ => ⟨S2048x768, .f32⟩
  | .hbm, ⟨5, _⟩ => ⟨S_, .f32⟩
  | .hbm, ⟨6, _⟩ => ⟨S2048x768, .f32⟩
  | .hbm, ⟨7, _⟩ => ⟨S2048x768, .f32⟩
  | .hbm, ⟨8, _⟩ => ⟨S_, .f32⟩
  | .hbm, ⟨9, _⟩ => ⟨S2048x768, .f32⟩
  | .hbm, ⟨10, _⟩ => ⟨S2048x768, .f32⟩
  | .hbm, ⟨11, _⟩ => ⟨S2048x768, .f32⟩
  | .hbm, ⟨12, _⟩ => ⟨S_, .f32⟩
  | .hbm, ⟨13, _⟩ => ⟨S2048x768, .f32⟩
  | .hbm, ⟨14, _⟩ => ⟨S2048x768, .f32⟩
  | .hbm, ⟨15, _⟩ => ⟨S2048x768, .f32⟩
  | .hbm, ⟨16, _⟩ => ⟨S_, .f32⟩
  | .hbm, ⟨17, _⟩ => ⟨S2048x768, .f32⟩
  | .hbm, ⟨18, _⟩ => ⟨S2048x768, .f32⟩
  | .hbm, ⟨19, _⟩ => ⟨S2048x768, .f32⟩
  | .hbm, ⟨20, _⟩ => ⟨S_, .f32⟩
  | .hbm, ⟨21, _⟩ => ⟨S2048x768, .f32⟩
  | .hbm, ⟨22, _⟩ => ⟨S2048x768, .f32⟩
  | .hbm, ⟨23, _⟩ => ⟨S_, .f32⟩
  | .hbm, ⟨24, _⟩ => ⟨S2048x768, .f32⟩
  | .hbm, ⟨25, _⟩ => ⟨S2048x768, .f32⟩
  | .hbm, ⟨26, _⟩ => ⟨S2048x768, .f32⟩
  | .hbm, ⟨27, _⟩ => ⟨S_, .f32⟩
  | .hbm, ⟨28, _⟩ => ⟨S2048x768, .f32⟩
  | .hbm, ⟨29, _⟩ => ⟨S2048x768, .f32⟩
  | .hbm, ⟨30, _⟩ => ⟨S2048x768, .f32⟩
  | .hbm, ⟨31, _⟩ => ⟨S_, .f32⟩
  | .hbm, ⟨32, _⟩ => ⟨S2048x768, .f32⟩
  | .hbm, ⟨33, _⟩ => ⟨S2048x768, .f32⟩
  | .hbm, ⟨34, _⟩ => ⟨S2048x768, .f32⟩
  | .hbm, ⟨35, _⟩ => ⟨S_, .f32⟩
  | .hbm, ⟨36, _⟩ => ⟨S2048x768, .f32⟩
  | .hbm, ⟨37, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamFfnIn.lean ====
abbrev S2048x704 : Shape := ⟨2, ![2048, 704]⟩
abbrev S1x2048x704 : Shape := ⟨3, ![1, 2048, 704]⟩
abbrev S3x2048x704 : Shape := ⟨3, ![3, 2048, 704]⟩
abbrev S256x704 : Shape := ⟨2, ![256, 704]⟩
abbrev S1x256x704 : Shape := ⟨3, ![1, 256, 704]⟩
abbrev S3x256x704 : Shape := ⟨3, ![3, 256, 704]⟩

abbrev nBuf : Space → Nat
  | .hbm => 10
  | .vmem => 20
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S1x2048x704, .f32⟩
  | .hbm, ⟨4, _⟩ => ⟨S1x2048x704, .f32⟩
  | .hbm, ⟨5, _⟩ => ⟨S3x2048x704, .bf16⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S3x256x704, .bf16⟩
  | .local _ .vmem, ⟨11, _⟩ => ⟨S3x256x704, .bf16⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | .local _ .vmem, ⟨18, _⟩ => ⟨S256x704, .f32⟩
  | .local _ .vmem, ⟨19, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamFfnInIdeal.lean ====
abbrev S2048x704 : Shape := ⟨2, ![2048, 704]⟩
abbrev S1x2048x704 : Shape := ⟨3, ![1, 2048, 704]⟩
abbrev S3x2048x704 : Shape := ⟨3, ![3, 2048, 704]⟩
abbrev S256x704 : Shape := ⟨2, ![256, 704]⟩
abbrev S1x256x704 : Shape := ⟨3, ![1, 256, 704]⟩
abbrev S3x256x704 : Shape := ⟨3, ![3, 256, 704]⟩

abbrev nBuf : Space → Nat
  | .hbm => 10
  | .vmem => 20
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S1x2048x704, .f32⟩
  | .hbm, ⟨4, _⟩ => ⟨S1x2048x704, .f32⟩
  | .hbm, ⟨5, _⟩ => ⟨S3x2048x704, .bf16⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S3x256x704, .bf16⟩
  | .local _ .vmem, ⟨11, _⟩ => ⟨S3x256x704, .bf16⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | .local _ .vmem, ⟨18, _⟩ => ⟨S256x704, .f32⟩
  | .local _ .vmem, ⟨19, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamFfnInRefIdeal.lean ====
abbrev S2048x704 : Shape := ⟨2, ![2048, 704]⟩
abbrev S1x2048x704 : Shape := ⟨3, ![1, 2048, 704]⟩
abbrev S3x2048x704 : Shape := ⟨3, ![3, 2048, 704]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S1x2048x704, .f32⟩
  | .hbm, ⟨4, _⟩ => ⟨S1x2048x704, .f32⟩
  | .hbm, ⟨5, _⟩ => ⟨S3x2048x704, .bf16⟩
  | .hbm, ⟨6, _⟩ => ⟨S2048x704, .f32⟩
  | .hbm, ⟨7, _⟩ => ⟨S2048x704, .f32⟩
  | .hbm, ⟨8, _⟩ => ⟨S1x2048x704, .bf16⟩
  | .hbm, ⟨9, _⟩ => ⟨S2048x704, .bf16⟩
  | .hbm, ⟨10, _⟩ => ⟨S2048x704, .f32⟩
  | .hbm, ⟨11, _⟩ => ⟨S1x2048x704, .bf16⟩
  | .hbm, ⟨12, _⟩ => ⟨S2048x704, .bf16⟩
  | .hbm, ⟨13, _⟩ => ⟨S2048x704, .f32⟩
  | .hbm, ⟨14, _⟩ => ⟨S1x2048x704, .bf16⟩
  | .hbm, ⟨15, _⟩ => ⟨S2048x704, .bf16⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S2048x704, .f32⟩
  | .hbm, ⟨20, _⟩ => ⟨S2048x704, .f32⟩
  | .hbm, ⟨21, _⟩ => ⟨S_, .f32⟩
  | .hbm, ⟨22, _⟩ => ⟨S2048x704, .f32⟩
  | .hbm, ⟨23, _⟩ => ⟨S2048x704, .f32⟩
  | .hbm, ⟨24, _⟩ => ⟨S_, .f32⟩
  | .hbm, ⟨25, _⟩ => ⟨S2048x704, .f32⟩
  | .hbm, ⟨26, _⟩ => ⟨S2048x704, .f32⟩
  | .hbm, ⟨27, _⟩ => ⟨S2048x704, .f32⟩
  | .hbm, ⟨28, _⟩ => ⟨S_, .f32⟩
  | .hbm, ⟨29, _⟩ => ⟨S2048x704, .f32⟩
  | .hbm, ⟨30, _⟩ => ⟨S2048x704, .f32⟩
  | .hbm, ⟨31, _⟩ => ⟨S2048x704, .f32⟩
  | .hbm, ⟨32, _⟩ => ⟨S_, .f32⟩
  | .hbm, ⟨33, _⟩ => ⟨S2048x704, .f32⟩
  | .hbm, ⟨34, _⟩ => ⟨S2048x704, .f32⟩
  | .hbm, ⟨35, _⟩ => ⟨S2048x704, .f32⟩
  | .hbm, ⟨36, _⟩ => ⟨S_, .f32⟩
  | .hbm, ⟨37, _⟩ => ⟨S2048x704, .f32⟩
  | .hbm, ⟨38, _⟩ => ⟨S2048x704, .f32⟩
  | .hbm, ⟨39, _⟩ => ⟨S_, .f32⟩
  | .hbm, ⟨40, _⟩ => ⟨S2048x704, .f32⟩
  | .hbm, ⟨41, _⟩ => ⟨S2048x704, .f32⟩
  | .hbm, ⟨42, _⟩ => ⟨S2048x704, .f32⟩
  | .hbm, ⟨43, _⟩ => ⟨S_, .f32⟩
  | .hbm, ⟨44, _⟩ => ⟨S2048x704, .f32⟩
  | .hbm, ⟨45, _⟩ => ⟨S2048x704, .f32⟩
  | .hbm, ⟨46, _⟩ => ⟨S2048x704, .f32⟩
  | .hbm, ⟨47, _⟩ => ⟨S_, .f32⟩
  | .hbm, ⟨48, _⟩ => ⟨S2048x704, .f32⟩
  | .hbm, ⟨49, _⟩ => ⟨S2048x704, .f32⟩
  | .hbm, ⟨50, _⟩ => ⟨S2048x704, .f32⟩
  | .hbm, ⟨51, _⟩ => ⟨S_, .f32⟩
  | .hbm, ⟨52, _⟩ => ⟨S2048x704, .f32⟩
  | .hbm, ⟨53, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== AdamFfnOut.lean ====
abbrev S704x1024 : Shape := ⟨2, ![704, 1024]⟩
abbrev S1x704x1024 : Shape := ⟨3, ![1, 704, 1024]⟩
abbrev S3x704x1024 : Shape := ⟨3, ![3, 704, 1024]⟩
abbrev S64x1024 : Shape := ⟨2, ![64, 1024]⟩
abbrev S1x64x1024 : Shape := ⟨3, ![1, 64, 1024]⟩
abbrev S3x64x1024 : Shape := ⟨3, ![3, 64, 1024]⟩

abbrev nBuf : Space → Nat
  | .hbm => 10
  | .vmem => 20
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S1x704x1024, .f32⟩
  | .hbm, ⟨4, _⟩ => ⟨S1x704x1024, .f32⟩
  | .hbm, ⟨5, _⟩ => ⟨S3x704x1024, .bf16⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S3x64x1024, .bf16⟩
  | .local _ .vmem, ⟨11, _⟩ => ⟨S3x64x1024, .bf16⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamFfnOutIdeal.lean ====
abbrev S704x1024 : Shape := ⟨2, ![704, 1024]⟩
abbrev S1x704x1024 : Shape := ⟨3, ![1, 704, 1024]⟩
abbrev S3x704x1024 : Shape := ⟨3, ![3, 704, 1024]⟩
abbrev S64x1024 : Shape := ⟨2, ![64, 1024]⟩
abbrev S1x64x1024 : Shape := ⟨3, ![1, 64, 1024]⟩
abbrev S3x64x1024 : Shape := ⟨3, ![3, 64, 1024]⟩

abbrev nBuf : Space → Nat
  | .hbm => 10
  | .vmem => 20
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S1x704x1024, .f32⟩
  | .hbm, ⟨4, _⟩ => ⟨S1x704x1024, .f32⟩
  | .hbm, ⟨5, _⟩ => ⟨S3x704x1024, .bf16⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S3x64x1024, .bf16⟩
  | .local _ .vmem, ⟨11, _⟩ => ⟨S3x64x1024, .bf16⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamFfnOutRefIdeal.lean ====
abbrev S704x1024 : Shape := ⟨2, ![704, 1024]⟩
abbrev S1x704x1024 : Shape := ⟨3, ![1, 704, 1024]⟩
abbrev S3x704x1024 : Shape := ⟨3, ![3, 704, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S1x704x1024, .f32⟩
  | .hbm, ⟨4, _⟩ => ⟨S1x704x1024, .f32⟩
  | .hbm, ⟨5, _⟩ => ⟨S3x704x1024, .bf16⟩
  | .hbm, ⟨6, _⟩ => ⟨S704x1024, .f32⟩
  | .hbm, ⟨7, _⟩ => ⟨S704x1024, .f32⟩
  | .hbm, ⟨8, _⟩ => ⟨S1x704x1024, .bf16⟩
  | .hbm, ⟨9, _⟩ => ⟨S704x1024, .bf16⟩
  | .hbm, ⟨10, _⟩ => ⟨S704x1024, .f32⟩
  | .hbm, ⟨11, _⟩ => ⟨S1x704x1024, .bf16⟩
  | .hbm, ⟨12, _⟩ => ⟨S704x1024, .bf16⟩
  | .hbm, ⟨13, _⟩ => ⟨S704x1024, .f32⟩
  | .hbm, ⟨14, _⟩ => ⟨S1x704x1024, .bf16⟩
  | .hbm, ⟨15, _⟩ => ⟨S704x1024, .bf16⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | .hbm, ⟨39, _⟩ => ⟨S_, .f32⟩
  | .hbm, ⟨40, _⟩ => ⟨S704x1024, .f32⟩
  | .hbm, ⟨41, _⟩ => ⟨S704x1024, .f32⟩
  | .hbm, ⟨42, _⟩ => ⟨S704x1024, .f32⟩
  | .hbm, ⟨43, _⟩ => ⟨S_, .f32⟩
  | .hbm, ⟨44, _⟩ => ⟨S704x1024, .f32⟩
  | .hbm, ⟨45, _⟩ => ⟨S704x1024, .f32⟩
  | .hbm, ⟨46, _⟩ => ⟨S704x1024, .f32⟩
  | .hbm, ⟨47, _⟩ => ⟨S_, .f32⟩
  | .hbm, ⟨48, _⟩ => ⟨S704x1024, .f32⟩
  | .hbm, ⟨49, _⟩ => ⟨S704x1024, .f32⟩
  | .hbm, ⟨50, _⟩ => ⟨S704x1024, .f32⟩
  | .hbm, ⟨51, _⟩ => ⟨S_, .f32⟩
  | .hbm, ⟨52, _⟩ => ⟨S704x1024, .f32⟩
  | .hbm, ⟨53, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== AdamQkv.lean ====
abbrev S1024x192 : Shape := ⟨2, ![1024, 192]⟩
abbrev S1x1024x192 : Shape := ⟨3, ![1, 1024, 192]⟩
abbrev S3x1024x192 : Shape := ⟨3, ![3, 1024, 192]⟩
abbrev S256x192 : Shape := ⟨2, ![256, 192]⟩
abbrev S1x256x192 : Shape := ⟨3, ![1, 256, 192]⟩
abbrev S3x256x192 : Shape := ⟨3, ![3, 256, 192]⟩

abbrev nBuf : Space → Nat
  | .hbm => 10
  | .vmem => 20
  | .smem => 0
  | _ => 0

abbrev bufTy : (tb : Table) → Fin (tcTables nBuf tb) → BufTy
  | .hbm, ⟨0, _⟩ => ⟨S1024x192, .f32⟩
  | .hbm, ⟨1, _⟩ => ⟨S1024x192, .f32⟩
  | .hbm, ⟨2, _⟩ => ⟨S1024x192, .f32⟩
  | .hbm, ⟨3, _⟩ => ⟨S1x1024x192, .f32⟩
  | .hbm, ⟨4, _⟩ => ⟨S1x1024x192, .f32⟩
  | .hbm, ⟨5, _⟩ => ⟨S3x1024x192, .bf16⟩
  | .hbm, ⟨6, _⟩ => ⟨S1024x192, .f32⟩
  | .hbm, ⟨7, _⟩ => ⟨S1024x192, .f32⟩
  | .hbm, ⟨8, _⟩ => ⟨S1024x192, .f32⟩
  | .hbm, ⟨9, _⟩ => ⟨S1024x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S1x256x192, .f32⟩
  | .local _ .vmem, ⟨7, _⟩ => ⟨S1x256x192, .f32⟩
  | .local _ .vmem, ⟨8, _⟩ => ⟨S1x256x192, .f32⟩
  | .local _ .vmem, ⟨9, _⟩ => ⟨S1x256x192, .f32⟩
  | .local _ .vmem, ⟨10, _⟩ => ⟨S3x256x192, .bf16⟩
  | .local _ .vmem, ⟨11, _⟩ => ⟨S3x256x192, .bf16⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | .local _ .vmem, ⟨16, _⟩ => ⟨S256x192, .f32⟩
  | .local _ .vmem, ⟨17, _⟩ => ⟨S256x192, .f32⟩
  | .local _ .vmem, ⟨18, _⟩ => ⟨S256x192, .f32⟩
  | .local _ .vmem, ⟨19, _⟩ => ⟨S256x192, .f32⟩
  | _, _ => ⟨S1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamQkvIdeal.lean ====
abbrev S1024x192 : Shape := ⟨2, ![1024, 192]⟩
abbrev S1x1024x192 : Shape := ⟨3, ![1, 1024, 192]⟩
abbrev S3x1024x192 : Shape := ⟨3, ![3, 1024, 192]⟩
abbrev S256x192 : Shape := ⟨2, ![256, 192]⟩
abbrev S1x256x192 : Shape := ⟨3, ![1, 256, 192]⟩
abbrev S3x256x192 : Shape := ⟨3, ![3, 256, 192]⟩

abbrev nBuf : Space → Nat
  | .hbm => 10
  | .vmem => 20
  | .smem => 0
  | _ => 0

abbrev bufTy : (tb : Table) → Fin (tcTables nBuf tb) → BufTy
  | .hbm, ⟨0, _⟩ => ⟨S1024x192, .f32⟩
  | .hbm, ⟨1, _⟩ => ⟨S1024x192, .f32⟩
  | .hbm, ⟨2, _⟩ => ⟨S1024x192, .f32⟩
  | .hbm, ⟨3, _⟩ => ⟨S1x1024x192, .f32⟩
  | .hbm, ⟨4, _⟩ => ⟨S1x1024x192, .f32⟩
  | .hbm, ⟨5, _⟩ => ⟨S3x1024x192, .bf16⟩
  | .hbm, ⟨6, _⟩ => ⟨S1024x192, .f32⟩
  | .hbm, ⟨7, _⟩ => ⟨S1024x192, .f32⟩
  | .hbm, ⟨8, _⟩ => ⟨S1024x192, .f32⟩
  | .hbm, ⟨9, _⟩ => ⟨S1024x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S1x256x192, .f32⟩
  | .local _ .vmem, ⟨7, _⟩ => ⟨S1x256x192, .f32⟩
  | .local _ .vmem, ⟨8, _⟩ => ⟨S1x256x192, .f32⟩
  | .local _ .vmem, ⟨9, _⟩ => ⟨S1x256x192, .f32⟩
  | .local _ .vmem, ⟨10, _⟩ => ⟨S3x256x192, .bf16⟩
  | .local _ .vmem, ⟨11, _⟩ => ⟨S3x256x192, .bf16⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | .local _ .vmem, ⟨16, _⟩ => ⟨S256x192, .f32⟩
  | .local _ .vmem, ⟨17, _⟩ => ⟨S256x192, .f32⟩
  | .local _ .vmem, ⟨18, _⟩ => ⟨S256x192, .f32⟩
  | .local _ .vmem, ⟨19, _⟩ => ⟨S256x192, .f32⟩
  | _, _ => ⟨S1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamQkvRefIdeal.lean ====
abbrev S1024x192 : Shape := ⟨2, ![1024, 192]⟩
abbrev S1x1024x192 : Shape := ⟨3, ![1, 1024, 192]⟩
abbrev S3x1024x192 : Shape := ⟨3, ![3, 1024, 192]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S1024x192, .f32⟩
  | .hbm, ⟨1, _⟩ => ⟨S1024x192, .f32⟩
  | .hbm, ⟨2, _⟩ => ⟨S1024x192, .f32⟩
  | .hbm, ⟨3, _⟩ => ⟨S1x1024x192, .f32⟩
  | .hbm, ⟨4, _⟩ => ⟨S1x1024x192, .f32⟩
  | .hbm, ⟨5, _⟩ => ⟨S3x1024x192, .bf16⟩
  | .hbm, ⟨6, _⟩ => ⟨S1024x192, .f32⟩
  | .hbm, ⟨7, _⟩ => ⟨S1024x192, .f32⟩
  | .hbm, ⟨8, _⟩ => ⟨S1x1024x192, .bf16⟩
  | .hbm, ⟨9, _⟩ => ⟨S1024x192, .bf16⟩
  | .hbm, ⟨10, _⟩ => ⟨S1024x192, .f32⟩
  | .hbm, ⟨11, _⟩ => ⟨S1x1024x192, .bf16⟩
  | .hbm, ⟨12, _⟩ => ⟨S1024x192, .bf16⟩
  | .hbm, ⟨13, _⟩ => ⟨S1024x192, .f32⟩
  | .hbm, ⟨14, _⟩ => ⟨S1x1024x192, .bf16⟩
  | .hbm, ⟨15, _⟩ => ⟨S1024x192, .bf16⟩
  | .hbm, ⟨16, _⟩ => ⟨S1024x192, .f32⟩
  | .hbm, ⟨17, _⟩ => ⟨S1024x192, .f32⟩
  | .hbm, ⟨18, _⟩ => ⟨S1024x192, .f32⟩
  | .hbm, ⟨19, _⟩ => ⟨S1024x192, .f32⟩
  | .hbm, ⟨20, _⟩ => ⟨S1024x192, .f32⟩
  | .hbm, ⟨21, _⟩ => ⟨S_, .f32⟩
  | .hbm, ⟨22, _⟩ => ⟨S1024x192, .f32⟩
  | .hbm, ⟨23, _⟩ => ⟨S1024x192, .f32⟩
  | .hbm, ⟨24, _⟩ => ⟨S_, .f32⟩
  | .hbm, ⟨25, _⟩ => ⟨S1024x192, .f32⟩
  | .hbm, ⟨26, _⟩ => ⟨S1024x192, .f32⟩
  | .hbm, ⟨27, _⟩ => ⟨S1024x192, .f32⟩
  | .hbm, ⟨28, _⟩ => ⟨S_, .f32⟩
  | .hbm, ⟨29, _⟩ => ⟨S1024x192, .f32⟩
  | .hbm, ⟨30, _⟩ => ⟨S1024x192, .f32⟩
  | .hbm, ⟨31, _⟩ => ⟨S1024x192, .f32⟩
  | .hbm, ⟨32, _⟩ => ⟨S_, .f32⟩
  | .hbm, ⟨33, _⟩ => ⟨S1024x192, .f32⟩
  | .hbm, ⟨34, _⟩ => ⟨S1024x192, .f32⟩
  | .hbm, ⟨35, _⟩ => ⟨S1024x192, .f32⟩
  | .hbm, ⟨36, _⟩ => ⟨S_, .f32⟩
  | .hbm, ⟨37, _⟩ => ⟨S1024x192, .f32⟩
  | .hbm, ⟨38, _⟩ => ⟨S1024x192, .f32⟩
  | .hbm, ⟨39, _⟩ => ⟨S_, .f32⟩
  | .hbm, ⟨40, _⟩ => ⟨S1024x192, .f32⟩
  | .hbm, ⟨41, _⟩ => ⟨S1024x192, .f32⟩
  | .hbm, ⟨42, _⟩ => ⟨S1024x192, .f32⟩
  | .hbm, ⟨43, _⟩ => ⟨S_, .f32⟩
  | .hbm, ⟨44, _⟩ => ⟨S1024x192, .f32⟩
  | .hbm, ⟨45, _⟩ => ⟨S1024x192, .f32⟩
  | .hbm, ⟨46, _⟩ => ⟨S1024x192, .f32⟩
  | .hbm, ⟨47, _⟩ => ⟨S_, .f32⟩
  | .hbm, ⟨48, _⟩ => ⟨S1024x192, .f32⟩
  | .hbm, ⟨49, _⟩ => ⟨S1024x192, .f32⟩
  | .hbm, ⟨50, _⟩ => ⟨S1024x192, .f32⟩
  | .hbm, ⟨51, _⟩ => ⟨S_, .f32⟩
  | .hbm, ⟨52, _⟩ => ⟨S1024x192, .f32⟩
  | .hbm, ⟨53, _⟩ => ⟨S1024x192, .f32⟩
  | _, _ => ⟨S1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== AdamAttnO.lean ====
abbrev S128x1024 : Shape := ⟨2, ![128, 1024]⟩
abbrev S1x128x1024 : Shape := ⟨3, ![1, 128, 1024]⟩
abbrev S3x128x1024 : Shape := ⟨3, ![3, 128, 1024]⟩

abbrev nBuf : Space → Nat
  | .hbm => 10
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S1x128x1024, .f32⟩
  | .hbm, ⟨4, _⟩ => ⟨S1x128x1024, .f32⟩
  | .hbm, ⟨5, _⟩ => ⟨S3x128x1024, .bf16⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1x128x1024, .f32⟩
  | .local _ .vmem, ⟨4, _⟩ => ⟨S1x128x1024, .f32⟩
  | .local _ .vmem, ⟨5, _⟩ => ⟨S3x128x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== AdamAttnOIdeal.lean ====
abbrev S128x1024 : Shape := ⟨2, ![128, 1024]⟩
abbrev S1x128x1024 : Shape := ⟨3, ![1, 128, 1024]⟩
abbrev S3x128x1024 : Shape := ⟨3, ![3, 128, 1024]⟩

abbrev nBuf : Space → Nat
  | .hbm => 10
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S1x128x1024, .f32⟩
  | .hbm, ⟨4, _⟩ => ⟨S1x128x1024, .f32⟩
  | .hbm, ⟨5, _⟩ => ⟨S3x128x1024, .bf16⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1x128x1024, .f32⟩
  | .local _ .vmem, ⟨4, _⟩ => ⟨S1x128x1024, .f32⟩
  | .local _ .vmem, ⟨5, _⟩ => ⟨S3x128x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== AdamAttnORefIdeal.lean ====
abbrev S128x1024 : Shape := ⟨2, ![128, 1024]⟩
abbrev S1x128x1024 : Shape := ⟨3, ![1, 128, 1024]⟩
abbrev S3x128x1024 : Shape := ⟨3, ![3, 128, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S1x128x1024, .f32⟩
  | .hbm, ⟨4, _⟩ => ⟨S1x128x1024, .f32⟩
  | .hbm, ⟨5, _⟩ => ⟨S3x128x1024, .bf16⟩
  | .hbm, ⟨6, _⟩ => ⟨S128x1024, .f32⟩
  | .hbm, ⟨7, _⟩ => ⟨S128x1024, .f32⟩
  | .hbm, ⟨8, _⟩ => ⟨S1x128x1024, .bf16⟩
  | .hbm, ⟨9, _⟩ => ⟨S128x1024, .bf16⟩
  | .hbm, ⟨10, _⟩ => ⟨S128x1024, .f32⟩
  | .hbm, ⟨11, _⟩ => ⟨S1x128x1024, .bf16⟩
  | .hbm, ⟨12, _⟩ => ⟨S128x1024, .bf16⟩
  | .hbm, ⟨13, _⟩ => ⟨S128x1024, .f32⟩
  | .hbm, ⟨14, _⟩ => ⟨S1x128x1024, .bf16⟩
  | .hbm, ⟨15, _⟩ => ⟨S128x1024, .bf16⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S128x1024, .f32⟩
  | .hbm, ⟨51, _⟩ => ⟨S_, .f32⟩
  | .hbm, ⟨52, _⟩ => ⟨S128x1024, .f32⟩
  | .hbm, ⟨53, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== AdamQkvg.lean ====
abbrev S1024x768 : Shape := ⟨2, ![1024, 768]⟩
abbrev S1x1024x768 : Shape := ⟨3, ![1, 1024, 768]⟩
abbrev S3x1024x768 : Shape := ⟨3, ![3, 1024, 768]⟩
abbrev S256x768 : Shape := ⟨2, ![256, 768]⟩
abbrev S1x256x768 : Shape := ⟨3, ![1, 256, 768]⟩
abbrev S3x256x768 : Shape := ⟨3, ![3, 256, 768]⟩

abbrev nBuf : Space → Nat
  | .hbm => 10
  | .vmem => 20
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1x1024x768, .f32⟩
  | .hbm, ⟨4, _⟩ => ⟨S1x1024x768, .f32⟩
  | .hbm, ⟨5, _⟩ => ⟨S3x1024x768, .bf16⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S3x256x768, .bf16⟩
  | .local _ .vmem, ⟨11, _⟩ => ⟨S3x256x768, .bf16⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | .local _ .vmem, ⟨18, _⟩ => ⟨S256x768, .f32⟩
  | .local _ .vmem, ⟨19, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamQkvgIdeal.lean ====
abbrev S1024x768 : Shape := ⟨2, ![1024, 768]⟩
abbrev S1x1024x768 : Shape := ⟨3, ![1, 1024, 768]⟩
abbrev S3x1024x768 : Shape := ⟨3, ![3, 1024, 768]⟩
abbrev S256x768 : Shape := ⟨2, ![256, 768]⟩
abbrev S1x256x768 : Shape := ⟨3, ![1, 256, 768]⟩
abbrev S3x256x768 : Shape := ⟨3, ![3, 256, 768]⟩

abbrev nBuf : Space → Nat
  | .hbm => 10
  | .vmem => 20
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1x1024x768, .f32⟩
  | .hbm, ⟨4, _⟩ => ⟨S1x1024x768, .f32⟩
  | .hbm, ⟨5, _⟩ => ⟨S3x1024x768, .bf16⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S3x256x768, .bf16⟩
  | .local _ .vmem, ⟨11, _⟩ => ⟨S3x256x768, .bf16⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | .local _ .vmem, ⟨18, _⟩ => ⟨S256x768, .f32⟩
  | .local _ .vmem, ⟨19, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamQkvgRefIdeal.lean ====
abbrev S1024x768 : Shape := ⟨2, ![1024, 768]⟩
abbrev S1x1024x768 : Shape := ⟨3, ![1, 1024, 768]⟩
abbrev S3x1024x768 : Shape := ⟨3, ![3, 1024, 768]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1x1024x768, .f32⟩
  | .hbm, ⟨4, _⟩ => ⟨S1x1024x768, .f32⟩
  | .hbm, ⟨5, _⟩ => ⟨S3x1024x768, .bf16⟩
  | .hbm, ⟨6, _⟩ => ⟨S1024x768, .f32⟩
  | .hbm, ⟨7, _⟩ => ⟨S1024x768, .f32⟩
  | .hbm, ⟨8, _⟩ => ⟨S1x1024x768, .bf16⟩
  | .hbm, ⟨9, _⟩ => ⟨S1024x768, .bf16⟩
  | .hbm, ⟨10, _⟩ => ⟨S1024x768, .f32⟩
  | .hbm, ⟨11, _⟩ => ⟨S1x1024x768, .bf16⟩
  | .hbm, ⟨12, _⟩ => ⟨S1024x768, .bf16⟩
  | .hbm, ⟨13, _⟩ => ⟨S1024x768, .f32⟩
  | .hbm, ⟨14, _⟩ => ⟨S1x1024x768, .bf16⟩
  | .hbm, ⟨15, _⟩ => ⟨S1024x768, .bf16⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S_, .f32⟩
  | .hbm, ⟨44, _⟩ => ⟨S1024x768, .f32⟩
  | .hbm, ⟨45, _⟩ => ⟨S1024x768, .f32⟩
  | .hbm, ⟨46, _⟩ => ⟨S1024x768, .f32⟩
  | .hbm, ⟨47, _⟩ => ⟨S_, .f32⟩
  | .hbm, ⟨48, _⟩ => ⟨S1024x768, .f32⟩
  | .hbm, ⟨49, _⟩ => ⟨S1024x768, .f32⟩
  | .hbm, ⟨50, _⟩ => ⟨S1024x768, .f32⟩
  | .hbm, ⟨51, _⟩ => ⟨S_, .f32⟩
  | .hbm, ⟨52, _⟩ => ⟨S1024x768, .f32⟩
  | .hbm, ⟨53, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== AdamRetO.lean ====
abbrev S256x1024 : Shape := ⟨2, ![256, 1024]⟩
abbrev S1x256x1024 : Shape := ⟨3, ![1, 256, 1024]⟩
abbrev S3x256x1024 : Shape := ⟨3, ![3, 256, 1024]⟩

abbrev nBuf : Space → Nat
  | .hbm => 10
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1x256x1024, .f32⟩
  | .hbm, ⟨4, _⟩ => ⟨S1x256x1024, .f32⟩
  | .hbm, ⟨5, _⟩ => ⟨S3x256x1024, .bf16⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x256x1024, .f32⟩
  | .local _ .vmem, ⟨4, _⟩ => ⟨S1x256x1024, .f32⟩
  | .local _ .vmem, ⟨5, _⟩ => ⟨S3x256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== AdamRetORefIdeal.lean ====
abbrev S256x1024 : Shape := ⟨2, ![256, 1024]⟩
abbrev S1x256x1024 : Shape := ⟨3, ![1, 256, 1024]⟩
abbrev S3x256x1024 : Shape := ⟨3, ![3, 256, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1x256x1024, .f32⟩
  | .hbm, ⟨4, _⟩ => ⟨S1x256x1024, .f32⟩
  | .hbm, ⟨5, _⟩ => ⟨S3x256x1024, .bf16⟩
  | .hbm, ⟨6, _⟩ => ⟨S256x1024, .f32⟩
  | .hbm, ⟨7, _⟩ => ⟨S256x1024, .f32⟩
  | .hbm, ⟨8, _⟩ => ⟨S1x256x1024, .bf16⟩
  | .hbm, ⟨9, _⟩ => ⟨S256x1024, .bf16⟩
  | .hbm, ⟨10, _⟩ => ⟨S256x1024, .f32⟩
  | .hbm, ⟨11, _⟩ => ⟨S1x256x1024, .bf16⟩
  | .hbm, ⟨12, _⟩ => ⟨S256x1024, .bf16⟩
  | .hbm, ⟨13, _⟩ => ⟨S256x1024, .f32⟩
  | .hbm, ⟨14, _⟩ => ⟨S1x256x1024, .bf16⟩
  | .hbm, ⟨15, _⟩ => ⟨S256x1024, .bf16⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S_, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S_, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S_, .f32⟩
  | .hbm, ⟨52, _⟩ => ⟨S256x1024, .f32⟩
  | .hbm, ⟨53, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Proof.RunB.lean ====
module

public import proofs.«01_k».proof.Proof.Gen.KernelIdeal.Frame.RunA

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body run at a point that is neither the first nor the last of a head: the pieces its stores leave, and the triple. -/
noncomputable def runB (c : Dev nD) (i : grid0.Coords) (arg3 : Memref sig .tc .smem S2x4 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x512 .f32) (harg6 : arg6.IsWhole) (arg7 : Memref sig .tc .vmem S1x1x1x256x512 .f32) (harg7 : arg7.IsWhole) (arg8 : Memref sig .tc .vmem S512x512 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1x1x1x256x512 .f32) (harg12 : arg12.IsWhole) (arg13 : Memref sig .tc .vmem S512x512 .f32) (harg13 : arg13.IsWhole) (arg14 : Memref sig .tc .vmem S256x256 .f32) (harg14 : arg14.IsWhole) (arg15 : Memref sig .tc .vmem S256x512 .f32) (harg15 : arg15.IsWhole) (arg16 : Memref sig .tc .vmem S512x256 .f32) (harg16 : arg16.IsWhole) (arg17 : Memref sig .tc .vmem S512x256 .f32) (harg17 : arg17.IsWhole) (arg18 : Memref sig .tc .vmem S512x512 .f32) (harg18 : arg18.IsWhole) (arg19 : Memref sig .tc .vmem S256x256 .f32) (harg19 : arg19.IsWhole) (arg20 : Memref sig .tc .vmem S256x512 .f32) (harg20 : arg20.IsWhole) (arg21 : Memref sig .tc .vmem S1x1x8x128 .f32) (harg21 : arg21.IsWhole) (arg22 : Memref sig .tc .vmem S512x256 .f32) (harg22 : arg22.IsWhole) (arg23 : Memref sig .tc .vmem S512x256 .f32) (harg23 : arg23.IsWhole) (arg24 : Memref sig .tc .vmem S512x512 .f32) (harg24 : arg24.IsWhole) (arg25 : Memref sig .tc .vmem S256x256 .f32) (harg25 : arg25.IsWhole) (arg26 : Memref sig .tc .vmem S256x512 .f32) (harg26 : arg26.IsWhole) (arg27 : Memref sig .tc .vmem S1x1x8x128 .f32) (harg27 : arg27.IsWhole) (arg28 : Memref sig .tc .vmem S256x512 .f32) (harg28 : arg28.IsWhole) (arg29 : Memref sig .tc .vmem S256x512 .f32) (harg29 : arg29.IsWhole) (hc0 : ¬cond0_0 i) (hc1 : ¬cond0_1 i)
    (x0 : Vec F S2x4 .f32) (x1 : Vec F S512x256 .f32) (x2 : Vec F S512x256 .f32) (x3 : Vec F S512x512 .f32) (x4 : Vec F S1x1x1x256x512 .f32) (x5 : Vec F S512x512 .f32) (x6 : Vec F S512x256 .f32) (x7 : Vec F S512x256 .f32) (x8 : Vec F S512x512 .f32) (x9 : Vec F S1x1x1x256x512 .f32) (x10 : Vec F S512x512 .f32) (x11 : Vec F S256x256 .f32) (x12 : Vec F S256x512 .f32) (xo18 : Vec F S1x1x8x128 .f32) (xo24 : Vec F S1x1x8x128 .f32) (xs0 : Vec F S256x512 .f32) (xs1 : Vec F S256x512 .f32) :
    Σ' (L13 : List (View.Piece (Elt F) S512x256 .f32)), Σ' (L14 : List (View.Piece (Elt F) S512x256 .f32)), Σ' (L15 : List (View.Piece (Elt F) S512x512 .f32)), Σ' (L16 : List (View.Piece (Elt F) S256x256 .f32)), Σ' (L17 : List (View.Piece (Elt F) S256x512 .f32)), Σ' (L18 : List (View.Piece (Elt F) S1x1x8x128 .f32)), Σ' (L19 : List (View.Piece (Elt F) S512x256 .f32)), Σ' (L20 : List (View.Piece (Elt F) S512x256 .f32)), Σ' (L21 : List (View.Piece (Elt F) S512x512 .f32)), Σ' (L22 : List (View.Piece (Elt F) S256x256 .f32)), Σ' (L23 : List (View.Piece (Elt F) S256x512 .f32)), Σ' (L24 : List (View.Piece (Elt F) S1x1x8x128 .f32)), Σ' (LS0 : List (View.Piece (Elt F) S256x512 .f32)), { LS1 : List (View.Piece (Elt F) S256x512 .f32) //
      ∀ (xi16 : Vec F S256x256 .f32) (xi17 : Vec F S256x512 .f32) (xi22 : Vec F S256x256 .f32) (xi23 : Vec F S256x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xi16 ∗ owns (c : Thread nD τ) arg20 fullShare xi17 ∗ owns (c : Thread nD τ) arg21 fullShare xo18 ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xi22 ∗ owns (c : Thread nD τ) arg26 fullShare xi23 ∗ owns (c : Thread nD τ) arg27 fullShare xo24 ∗ owns (c : Thread nD τ) arg28 fullShare xs0 ∗ owns (c : Thread nD τ) arg29 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f L14) ∗ (∃ f, arg18.view.loc (c : Thread nD τ) ↦[arg18.view.set]{fullShare} arg18.view.writes (Elt F) f L15) ∗ owns (c : Thread nD τ) arg19 fullShare xi16 ∗ owns (c : Thread nD τ) arg20 fullShare xi17 ∗ (∃ f, arg21.view.loc (c : Thread nD τ) ↦[arg21.view.set]{fullShare} arg21.view.writes (Elt F) f L18) ∗ (∃ f, arg22.view.loc (c : Thread nD τ) ↦[arg22.view.set]{fullShare} arg22.view.writes (Elt F) f L19) ∗ (∃ f, arg23.view.loc (c : Thread nD τ) ↦[arg23.view.set]{fullShare} arg23.view.writes (Elt F) f L20) ∗ (∃ f, arg24.view.loc (c : Thread nD τ) ↦[arg24.view.set]{fullShare} arg24.view.writes (Elt F) f L21) ∗ owns (c : Thread nD τ) arg25 fullShare xi22 ∗ owns (c : Thread nD τ) arg26 fullShare xi23 ∗ (∃ f, arg27.view.loc (c : Thread nD τ) ↦[arg27.view.set]{fullShare} arg27.view.writes (Elt F) f L24) ∗ (∃ f, arg28.view.loc (c : Thread nD τ) ↦[arg28.view.set]{fullShare} arg28.view.writes (Elt F) f LS0) ∗ (∃ f, arg29.view.loc (c : Thread nD τ) ↦[arg29.view.set]{fullShare} arg29.view.writes (Elt F) f LS1)) -∗ K ⟨⟩))
          ⊢ wp frame (wpE (defs₀ (F := F)) Variants.none c none) E (cc0_l1_ret_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, [], [], ?_, ?_, ?_, ?_, [], [], ?_, ?_, ?_, fun xi16 xi17 xi22 xi23 E K => ?run⟩
  case run =>
    simp only [cc0_l1_ret_bwd_eq_skeleton]; unfold cc0_l1_ret_bwd_skel
    simp only [k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%f22, %hf22, H22⟩, ⟨%f23, %hf23, H23⟩, ⟨%f24, %hf24, H24⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg19.eq_unread hf16; obtain rfl := harg20.eq_unread hf17; obtain rfl := harg21.eq_unread hf18; obtain rfl := harg25.eq_unread hf22; obtain rfl := harg26.eq_unread hf23; obtain rfl := harg27.eq_unread hf24; obtain rfl := harg28.eq_unread hfs0; obtain rfl := harg29.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]; · iexists _; iexact H13
    isplitl [H14]; · iexists _; iexact H14
    isplitl [H15]; · iexists _; iexact H15
    isplitl [H16]
    · iexists _; isplitr; · ipureintro; exact harg19.read_unread _
      iexact H16
    isplitl [H17]
    · iexists _; isplitr; · ipureintro; exact harg20.read_unread _
      iexact H17
    isplitl [H18]; · iexists _; iexact H18
    isplitl [H19]; · iexists _; iexact H19
    isplitl [H20]; · iexists _; iexact H20
    isplitl [H21]; · iexists _; iexact H21
    isplitl [H22]
    · iexists _; isplitr; · ipureintro; exact harg25.read_unread _
      iexact H22
    isplitl [H23]
    · iexists _; isplitr; · ipureintro; exact harg26.read_unread _
      iexact H23
    isplitl [H24]; · iexists _; iexact H24
    isplitl [HS0]; · iexists _; iexact HS0
    iexists _; iexact HS1

end Cert.KernelIdeal.Own

end
-- ==== Proof.RunC.lean ====
module

public import proofs.«01_k».proof.Proof.RunB

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body run at the last point of a head: the pieces its stores leave, and the triple. -/
noncomputable def runC (c : Dev nD) (i : grid0.Coords) (arg3 : Memref sig .tc .smem S2x4 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x512 .f32) (harg6 : arg6.IsWhole) (arg7 : Memref sig .tc .vmem S1x1x1x256x512 .f32) (harg7 : arg7.IsWhole) (arg8 : Memref sig .tc .vmem S512x512 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1x1x1x256x512 .f32) (harg12 : arg12.IsWhole) (arg13 : Memref sig .tc .vmem S512x512 .f32) (harg13 : arg13.IsWhole) (arg14 : Memref sig .tc .vmem S256x256 .f32) (harg14 : arg14.IsWhole) (arg15 : Memref sig .tc .vmem S256x512 .f32) (harg15 : arg15.IsWhole) (arg16 : Memref sig .tc .vmem S512x256 .f32) (harg16 : arg16.IsWhole) (arg17 : Memref sig .tc .vmem S512x256 .f32) (harg17 : arg17.IsWhole) (arg18 : Memref sig .tc .vmem S512x512 .f32) (harg18 : arg18.IsWhole) (arg19 : Memref sig .tc .vmem S256x256 .f32) (harg19 : arg19.IsWhole) (arg20 : Memref sig .tc .vmem S256x512 .f32) (harg20 : arg20.IsWhole) (arg21 : Memref sig .tc .vmem S1x1x8x128 .f32) (harg21 : arg21.IsWhole) (arg22 : Memref sig .tc .vmem S512x256 .f32) (harg22 : arg22.IsWhole) (arg23 : Memref sig .tc .vmem S512x256 .f32) (harg23 : arg23.IsWhole) (arg24 : Memref sig .tc .vmem S512x512 .f32) (harg24 : arg24.IsWhole) (arg25 : Memref sig .tc .vmem S256x256 .f32) (harg25 : arg25.IsWhole) (arg26 : Memref sig .tc .vmem S256x512 .f32) (harg26 : arg26.IsWhole) (arg27 : Memref sig .tc .vmem S1x1x8x128 .f32) (harg27 : arg27.IsWhole) (arg28 : Memref sig .tc .vmem S256x512 .f32) (harg28 : arg28.IsWhole) (arg29 : Memref sig .tc .vmem S256x512 .f32) (harg29 : arg29.IsWhole) (hc0 : ¬cond0_0 i) (hc1 : cond0_1 i)
    (x0 : Vec F S2x4 .f32) (x1 : Vec F S512x256 .f32) (x2 : Vec F S512x256 .f32) (x3 : Vec F S512x512 .f32) (x4 : Vec F S1x1x1x256x512 .f32) (x5 : Vec F S512x512 .f32) (x6 : Vec F S512x256 .f32) (x7 : Vec F S512x256 .f32) (x8 : Vec F S512x512 .f32) (x9 : Vec F S1x1x1x256x512 .f32) (x10 : Vec F S512x512 .f32) (x11 : Vec F S256x256 .f32) (x12 : Vec F S256x512 .f32) (xo18 : Vec F S1x1x8x128 .f32) (xo24 : Vec F S1x1x8x128 .f32) (xs0 : Vec F S256x512 .f32) (xs1 : Vec F S256x512 .f32) :
    Σ' (L13 : List (View.Piece (Elt F) S512x256 .f32)), Σ' (L14 : List (View.Piece (Elt F) S512x256 .f32)), Σ' (L15 : List (View.Piece (Elt F) S512x512 .f32)), Σ' (L16 : List (View.Piece (Elt F) S256x256 .f32)), Σ' (L17 : List (View.Piece (Elt F) S256x512 .f32)), Σ' (L18 : List (View.Piece (Elt F) S1x1x8x128 .f32)), Σ' (L19 : List (View.Piece (Elt F) S512x256 .f32)), Σ' (L20 : List (View.Piece (Elt F) S512x256 .f32)), Σ' (L21 : List (View.Piece (Elt F) S512x512 .f32)), Σ' (L22 : List (View.Piece (Elt F) S256x256 .f32)), Σ' (L23 : List (View.Piece (Elt F) S256x512 .f32)), Σ' (L24 : List (View.Piece (Elt F) S1x1x8x128 .f32)), Σ' (LS0 : List (View.Piece (Elt F) S256x512 .f32)), { LS1 : List (View.Piece (Elt F) S256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xo18 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xo24 ∗ owns (c : Thread nD τ) arg28 fullShare xs0 ∗ owns (c : Thread nD τ) arg29 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f L14) ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f L16) ∗ (∃ f, arg20.view.loc (c : Thread nD τ) ↦[arg20.view.set]{fullShare} arg20.view.writes (Elt F) f L17) ∗ (∃ f, arg21.view.loc (c : Thread nD τ) ↦[arg21.view.set]{fullShare} arg21.view.writes (Elt F) f L18) ∗ (∃ f, arg22.view.loc (c : Thread nD τ) ↦[arg22.view.set]{fullShare} arg22.view.writes (Elt F) f L19) ∗ (∃ f, arg23.view.loc (c : Thread nD τ) ↦[arg23.view.set]{fullShare} arg23.view.writes (Elt F) f L20) ∗ (∃ f, arg24.view.loc (c : Thread nD τ) ↦[arg24.view.set]{fullShare} arg24.view.writes (Elt F) f L21) ∗ (∃ f, arg25.view.loc (c : Thread nD τ) ↦[arg25.view.set]{fullShare} arg25.view.writes (Elt F) f L22) ∗ (∃ f, arg26.view.loc (c : Thread nD τ) ↦[arg26.view.set]{fullShare} arg26.view.writes (Elt F) f L23) ∗ (∃ f, arg27.view.loc (c : Thread nD τ) ↦[arg27.view.set]{fullShare} arg27.view.writes (Elt F) f L24) ∗ (∃ f, arg28.view.loc (c : Thread nD τ) ↦[arg28.view.set]{fullShare} arg28.view.writes (Elt F) f LS0) ∗ (∃ f, arg29.view.loc (c : Thread nD τ) ↦[arg29.view.set]{fullShare} arg29.view.writes (Elt F) f LS1)) -∗ K ⟨⟩))
          ⊢ wp frame (wpE (defs₀ (F := F)) Variants.none c none) E (cc0_l1_ret_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, ?_, ?_, ?_, fun E K => ?run⟩
  case run =>
    simp only [cc0_l1_ret_bwd_eq_skeleton]; unfold cc0_l1_ret_bwd_skel
    simp only [k0_part2_eq_skeleton, k0_part3_eq_skeleton, k0_part4_eq_skeleton, k0_part5_eq_skeleton, k0_part6_eq_skeleton, k0_part7_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%f24, %hf24, H24⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg21.eq_unread hf18; obtain rfl := harg27.eq_unread hf24; obtain rfl := harg28.eq_unread hfs0; obtain rfl := harg29.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [HS0]; · iexists _; iexact HS0
    iexists _; iexact HS1

end Cert.KernelIdeal.Own

end
-- ==== Proof.Frame.lean ====
module

public import proofs.«01_k».proof.Proof.RunC
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's run leaves -/

/-- What the twelve outputs' staging buffers and the two scratch accumulators hold. -/
abbrev Outs (F : FTy → Type) : Type :=
  Vec F S512x256 .f32 × Vec F S512x256 .f32 × Vec F S512x512 .f32 × Vec F S256x256 .f32 × Vec F S256x512 .f32 × Vec F S1x1x8x128 .f32 × Vec F S512x256 .f32 × Vec F S512x256 .f32 × Vec F S512x512 .f32 × Vec F S256x256 .f32 × Vec F S256x512 .f32 × Vec F S1x1x8x128 .f32 × Vec F S256x512 .f32 × Vec F S256x512 .f32

/-- Case A's run at grid point `t`. -/
def atA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

theorem coverA_0 (c : Dev nD) (t : Fin cfg0.N) (h0 : t.val % 4 = 0) (h1 : ¬t.val % 4 = 3) (y : S512x256.Idx) :
    ∃ pc ∈ (atA m c t h0 h1).1, y ∈ pc.1.set :=
  View.cover_of_tiledL _ S512x256.size (by sl_kernel_rfl) y

theorem coverA_1 (c : Dev nD) (t : Fin cfg0.N) (h0 : t.val % 4 = 0) (h1 : ¬t.val % 4 = 3) (y : S512x256.Idx) :
    ∃ pc ∈ (atA m c t h0 h1).2.1, y ∈ pc.1.set :=
  View.cover_of_tiledL _ S512x256.size (by sl_kernel_rfl) y

theorem coverA_2 (c : Dev nD) (t : Fin cfg0.N) (h0 : t.val % 4 = 0) (h1 : ¬t.val % 4 = 3) (y : S512x512.Idx) :
    ∃ pc ∈ (atA m c t h0 h1).2.2.1, y ∈ pc.1.set :=
  View.cover_of_tiledL _ S512x512.size (by sl_kernel_rfl) y

theorem coverA_5 (c : Dev nD) (t : Fin cfg0.N) (h0 : t.val % 4 = 0) (h1 : ¬t.val % 4 = 3) (y : S1x1x8x128.Idx) :
    ∃ pc ∈ (atA m c t h0 h1).2.2.2.2.2.1, y ∈ pc.1.set :=
  View.cover_of_tiledL _ S1x1x8x128.size (by sl_kernel_rfl) y

theorem coverA_6 (c : Dev nD) (t : Fin cfg0.N) (h0 : t.val % 4 = 0) (h1 : ¬t.val % 4 = 3) (y : S512x256.Idx) :
    ∃ pc ∈ (atA m c t h0 h1).2.2.2.2.2.2.1, y ∈ pc.1.set :=
  View.cover_of_tiledL _ S512x256.size (by sl_kernel_rfl) y

theorem coverA_7 (c : Dev nD) (t : Fin cfg0.N) (h0 : t.val % 4 = 0) (h1 : ¬t.val % 4 = 3) (y : S512x256.Idx) :
    ∃ pc ∈ (atA m c t h0 h1).2.2.2.2.2.2.2.1, y ∈ pc.1.set :=
  View.cover_of_tiledL _ S512x256.size (by sl_kernel_rfl) y

theorem coverA_8 (c : Dev nD) (t : Fin cfg0.N) (h0 : t.val % 4 = 0) (h1 : ¬t.val % 4 = 3) (y : S512x512.Idx) :
    ∃ pc ∈ (atA m c t h0 h1).2.2.2.2.2.2.2.2.1, y ∈ pc.1.set :=
  View.cover_of_tiledL _ S512x512.size (by sl_kernel_rfl) y

theorem coverA_11 (c : Dev nD) (t : Fin cfg0.N) (h0 : t.val % 4 = 0) (h1 : ¬t.val % 4 = 3) (y : S1x1x8x128.Idx) :
    ∃ pc ∈ (atA m c t h0 h1).2.2.2.2.2.2.2.2.2.2.2.1, y ∈ pc.1.set :=
  View.cover_of_tiledL _ S1x1x8x128.size (by sl_kernel_rfl) y

theorem coverA_12 (c : Dev nD) (t : Fin cfg0.N) (h0 : t.val % 4 = 0) (h1 : ¬t.val % 4 = 3) (y : S256x512.Idx) :
    ∃ pc ∈ (atA m c t h0 h1).2.2.2.2.2.2.2.2.2.2.2.2.1, y ∈ pc.1.set :=
  View.cover_of_tiledL _ S256x512.size (by sl_kernel_rfl) y

theorem coverA_13 (c : Dev nD) (t : Fin cfg0.N) (h0 : t.val % 4 = 0) (h1 : ¬t.val % 4 = 3) (y : S256x512.Idx) :
    ∃ pc ∈ (atA m c t h0 h1).2.2.2.2.2.2.2.2.2.2.2.2.2.1, y ∈ pc.1.set :=
  View.cover_of_tiledL _ S256x512.size (by sl_kernel_rfl) y

/-- What case A leaves, each component its pieces read back. -/
def outA (c : Dev nD) (t : Fin cfg0.N) (h0 : t.val % 4 = 0) (h1 : ¬t.val % 4 = 3) : Outs F :=
  (VO0_13.read (Elt F) (VO0_13.writes (Elt F) VO0_13.junk (atA m c t h0 h1).1),
   VO0_14.read (Elt F) (VO0_14.writes (Elt F) VO0_14.junk (atA m c t h0 h1).2.1),
   VO0_15.read (Elt F) (VO0_15.writes (Elt F) VO0_15.junk (atA m c t h0 h1).2.2.1),
   VO0_16.read (Elt F) (VO0_16.writes (Elt F) VO0_16.junk (atA m c t h0 h1).2.2.2.1),
   VO0_17.read (Elt F) (VO0_17.writes (Elt F) VO0_17.junk (atA m c t h0 h1).2.2.2.2.1),
   VO0_18.read (Elt F) (VO0_18.writes (Elt F) VO0_18.junk (atA m c t h0 h1).2.2.2.2.2.1),
   VO0_19.read (Elt F) (VO0_19.writes (Elt F) VO0_19.junk (atA m c t h0 h1).2.2.2.2.2.2.1),
   VO0_20.read (Elt F) (VO0_20.writes (Elt F) VO0_20.junk (atA m c t h0 h1).2.2.2.2.2.2.2.1),
   VO0_21.read (Elt F) (VO0_21.writes (Elt F) VO0_21.junk (atA m c t h0 h1).2.2.2.2.2.2.2.2.1),
   VO0_22.read (Elt F) (VO0_22.writes (Elt F) VO0_22.junk (atA m c t h0 h1).2.2.2.2.2.2.2.2.2.1),
   VO0_23.read (Elt F) (VO0_23.writes (Elt F) VO0_23.junk (atA m c t h0 h1).2.2.2.2.2.2.2.2.2.2.1),
   VO0_24.read (Elt F) (VO0_24.writes (Elt F) VO0_24.junk (atA m c t h0 h1).2.2.2.2.2.2.2.2.2.2.2.1),
   VS0_0.read (Elt F) (VS0_0.writes (Elt F) VS0_0.junk (atA m c t h0 h1).2.2.2.2.2.2.2.2.2.2.2.2.1),
   VS0_1.read (Elt F) (VS0_1.writes (Elt F) VS0_1.junk (atA m c t h0 h1).2.2.2.2.2.2.2.2.2.2.2.2.2.1))

/-- Case B's run at grid point `t`, over what the point before left. -/
def atB (c : Dev nD) (t : Fin cfg0.N) (h0 : ¬t.val % 4 = 0) (h1 : ¬t.val % 4 = 3) (p : Outs F) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.2.2.2.2.2.1 p.2.2.2.2.2.2.2.2.2.2.2.1 p.2.2.2.2.2.2.2.2.2.2.2.2.1 p.2.2.2.2.2.2.2.2.2.2.2.2.2

theorem coverB_0 (c : Dev nD) (t : Fin cfg0.N) (h0 : ¬t.val % 4 = 0) (h1 : ¬t.val % 4 = 3) (p : Outs F) (y : S512x256.Idx) :
    ∃ pc ∈ (atB m c t h0 h1 p).1, y ∈ pc.1.set :=
  View.cover_of_tiledL _ S512x256.size (by sl_kernel_rfl) y

theorem coverB_1 (c : Dev nD) (t : Fin cfg0.N) (h0 : ¬t.val % 4 = 0) (h1 : ¬t.val % 4 = 3) (p : Outs F) (y : S512x256.Idx) :
    ∃ pc ∈ (atB m c t h0 h1 p).2.1, y ∈ pc.1.set :=
  View.cover_of_tiledL _ S512x256.size (by sl_kernel_rfl) y

theorem coverB_2 (c : Dev nD) (t : Fin cfg0.N) (h0 : ¬t.val % 4 = 0) (h1 : ¬t.val % 4 = 3) (p : Outs F) (y : S512x512.Idx) :
    ∃ pc ∈ (atB m c t h0 h1 p).2.2.1, y ∈ pc.1.set :=
  View.cover_of_tiledL _ S512x512.size (by sl_kernel_rfl) y

theorem coverB_5 (c : Dev nD) (t : Fin cfg0.N) (h0 : ¬t.val % 4 = 0) (h1 : ¬t.val % 4 = 3) (p : Outs F) (y : S1x1x8x128.Idx) :
    ∃ pc ∈ (atB m c t h0 h1 p).2.2.2.2.2.1, y ∈ pc.1.set :=
  View.cover_of_tiledL _ S1x1x8x128.size (by sl_kernel_rfl) y

theorem coverB_6 (c : Dev nD) (t : Fin cfg0.N) (h0 : ¬t.val % 4 = 0) (h1 : ¬t.val % 4 = 3) (p : Outs F) (y : S512x256.Idx) :
    ∃ pc ∈ (atB m c t h0 h1 p).2.2.2.2.2.2.1, y ∈ pc.1.set :=
  View.cover_of_tiledL _ S512x256.size (by sl_kernel_rfl) y

theorem coverB_7 (c : Dev nD) (t : Fin cfg0.N) (h0 : ¬t.val % 4 = 0) (h1 : ¬t.val % 4 = 3) (p : Outs F) (y : S512x256.Idx) :
    ∃ pc ∈ (atB m c t h0 h1 p).2.2.2.2.2.2.2.1, y ∈ pc.1.set :=
  View.cover_of_tiledL _ S512x256.size (by sl_kernel_rfl) y

theorem coverB_8 (c : Dev nD) (t : Fin cfg0.N) (h0 : ¬t.val % 4 = 0) (h1 : ¬t.val % 4 = 3) (p : Outs F) (y : S512x512.Idx) :
    ∃ pc ∈ (atB m c t h0 h1 p).2.2.2.2.2.2.2.2.1, y ∈ pc.1.set :=
  View.cover_of_tiledL _ S512x512.size (by sl_kernel_rfl) y

theorem coverB_11 (c : Dev nD) (t : Fin cfg0.N) (h0 : ¬t.val % 4 = 0) (h1 : ¬t.val % 4 = 3) (p : Outs F) (y : S1x1x8x128.Idx) :
    ∃ pc ∈ (atB m c t h0 h1 p).2.2.2.2.2.2.2.2.2.2.2.1, y ∈ pc.1.set :=
  View.cover_of_tiledL _ S1x1x8x128.size (by sl_kernel_rfl) y

theorem coverB_12 (c : Dev nD) (t : Fin cfg0.N) (h0 : ¬t.val % 4 = 0) (h1 : ¬t.val % 4 = 3) (p : Outs F) (y : S256x512.Idx) :
    ∃ pc ∈ (atB m c t h0 h1 p).2.2.2.2.2.2.2.2.2.2.2.2.1, y ∈ pc.1.set :=
  View.cover_of_tiledL _ S256x512.size (by sl_kernel_rfl) y

theorem coverB_13 (c : Dev nD) (t : Fin cfg0.N) (h0 : ¬t.val % 4 = 0) (h1 : ¬t.val % 4 = 3) (p : Outs F) (y : S256x512.Idx) :
    ∃ pc ∈ (atB m c t h0 h1 p).2.2.2.2.2.2.2.2.2.2.2.2.2.1, y ∈ pc.1.set :=
  View.cover_of_tiledL _ S256x512.size (by sl_kernel_rfl) y

/-- What case B leaves, each component its pieces read back. -/
def outB (c : Dev nD) (t : Fin cfg0.N) (h0 : ¬t.val % 4 = 0) (h1 : ¬t.val % 4 = 3) (p : Outs F) : Outs F :=
  (VO0_13.read (Elt F) (VO0_13.writes (Elt F) VO0_13.junk (atB m c t h0 h1 p).1),
   VO0_14.read (Elt F) (VO0_14.writes (Elt F) VO0_14.junk (atB m c t h0 h1 p).2.1),
   VO0_15.read (Elt F) (VO0_15.writes (Elt F) VO0_15.junk (atB m c t h0 h1 p).2.2.1),
   VO0_16.read (Elt F) (VO0_16.writes (Elt F) VO0_16.junk (atB m c t h0 h1 p).2.2.2.1),
   VO0_17.read (Elt F) (VO0_17.writes (Elt F) VO0_17.junk (atB m c t h0 h1 p).2.2.2.2.1),
   VO0_18.read (Elt F) (VO0_18.writes (Elt F) VO0_18.junk (atB m c t h0 h1 p).2.2.2.2.2.1),
   VO0_19.read (Elt F) (VO0_19.writes (Elt F) VO0_19.junk (atB m c t h0 h1 p).2.2.2.2.2.2.1),
   VO0_20.read (Elt F) (VO0_20.writes (Elt F) VO0_20.junk (atB m c t h0 h1 p).2.2.2.2.2.2.2.1),
   VO0_21.read (Elt F) (VO0_21.writes (Elt F) VO0_21.junk (atB m c t h0 h1 p).2.2.2.2.2.2.2.2.1),
   VO0_22.read (Elt F) (VO0_22.writes (Elt F) VO0_22.junk (atB m c t h0 h1 p).2.2.2.2.2.2.2.2.2.1),
   VO0_23.read (Elt F) (VO0_23.writes (Elt F) VO0_23.junk (atB m c t h0 h1 p).2.2.2.2.2.2.2.2.2.2.1),
   VO0_24.read (Elt F) (VO0_24.writes (Elt F) VO0_24.junk (atB m c t h0 h1 p).2.2.2.2.2.2.2.2.2.2.2.1),
   VS0_0.read (Elt F) (VS0_0.writes (Elt F) VS0_0.junk (atB m c t h0 h1 p).2.2.2.2.2.2.2.2.2.2.2.2.1),
   VS0_1.read (Elt F) (VS0_1.writes (Elt F) VS0_1.junk (atB m c t h0 h1 p).2.2.2.2.2.2.2.2.2.2.2.2.2.1))

/-- Case C's run at grid point `t`, over what the point before left. -/
def atC (c : Dev nD) (t : Fin cfg0.N) (h0 : ¬t.val % 4 = 0) (h1 : t.val % 4 = 3) (p : Outs F) :=
  runC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.2.2.2.2.2.1 p.2.2.2.2.2.2.2.2.2.2.2.1 p.2.2.2.2.2.2.2.2.2.2.2.2.1 p.2.2.2.2.2.2.2.2.2.2.2.2.2

theorem coverC_0 (c : Dev nD) (t : Fin cfg0.N) (h0 : ¬t.val % 4 = 0) (h1 : t.val % 4 = 3) (p : Outs F) (y : S512x256.Idx) :
    ∃ pc ∈ (atC m c t h0 h1 p).1, y ∈ pc.1.set :=
  View.cover_of_tiledL _ S512x256.size (by sl_kernel_rfl) y

theorem coverC_1 (c : Dev nD) (t : Fin cfg0.N) (h0 : ¬t.val % 4 = 0) (h1 : t.val % 4 = 3) (p : Outs F) (y : S512x256.Idx) :
    ∃ pc ∈ (atC m c t h0 h1 p).2.1, y ∈ pc.1.set :=
  View.cover_of_tiledL _ S512x256.size (by sl_kernel_rfl) y

theorem coverC_2 (c : Dev nD) (t : Fin cfg0.N) (h0 : ¬t.val % 4 = 0) (h1 : t.val % 4 = 3) (p : Outs F) (y : S512x512.Idx) :
    ∃ pc ∈ (atC m c t h0 h1 p).2.2.1, y ∈ pc.1.set :=
  View.cover_of_tiledL _ S512x512.size (by sl_kernel_rfl) y

theorem coverC_3 (c : Dev nD) (t : Fin cfg0.N) (h0 : ¬t.val % 4 = 0) (h1 : t.val % 4 = 3) (p : Outs F) (y : S256x256.Idx) :
    ∃ pc ∈ (atC m c t h0 h1 p).2.2.2.1, y ∈ pc.1.set :=
  View.cover_of_tiledL _ S256x256.size (by sl_kernel_rfl) y

theorem coverC_4 (c : Dev nD) (t : Fin cfg0.N) (h0 : ¬t.val % 4 = 0) (h1 : t.val % 4 = 3) (p : Outs F) (y : S256x512.Idx) :
    ∃ pc ∈ (atC m c t h0 h1 p).2.2.2.2.1, y ∈ pc.1.set :=
  View.cover_of_tiledL _ S256x512.size (by sl_kernel_rfl) y

theorem coverC_5 (c : Dev nD) (t : Fin cfg0.N) (h0 : ¬t.val % 4 = 0) (h1 : t.val % 4 = 3) (p : Outs F) (y : S1x1x8x128.Idx) :
    ∃ pc ∈ (atC m c t h0 h1 p).2.2.2.2.2.1, y ∈ pc.1.set :=
  View.cover_of_tiledL _ S1x1x8x128.size (by sl_kernel_rfl) y

theorem coverC_6 (c : Dev nD) (t : Fin cfg0.N) (h0 : ¬t.val % 4 = 0) (h1 : t.val % 4 = 3) (p : Outs F) (y : S512x256.Idx) :
    ∃ pc ∈ (atC m c t h0 h1 p).2.2.2.2.2.2.1, y ∈ pc.1.set :=
  View.cover_of_tiledL _ S512x256.size (by sl_kernel_rfl) y

theorem coverC_7 (c : Dev nD) (t : Fin cfg0.N) (h0 : ¬t.val % 4 = 0) (h1 : t.val % 4 = 3) (p : Outs F) (y : S512x256.Idx) :
    ∃ pc ∈ (atC m c t h0 h1 p).2.2.2.2.2.2.2.1, y ∈ pc.1.set :=
  View.cover_of_tiledL _ S512x256.size (by sl_kernel_rfl) y

theorem coverC_8 (c : Dev nD) (t : Fin cfg0.N) (h0 : ¬t.val % 4 = 0) (h1 : t.val % 4 = 3) (p : Outs F) (y : S512x512.Idx) :
    ∃ pc ∈ (atC m c t h0 h1 p).2.2.2.2.2.2.2.2.1, y ∈ pc.1.set :=
  View.cover_of_tiledL _ S512x512.size (by sl_kernel_rfl) y

theorem coverC_9 (c : Dev nD) (t : Fin cfg0.N) (h0 : ¬t.val % 4 = 0) (h1 : t.val % 4 = 3) (p : Outs F) (y : S256x256.Idx) :
    ∃ pc ∈ (atC m c t h0 h1 p).2.2.2.2.2.2.2.2.2.1, y ∈ pc.1.set :=
  View.cover_of_tiledL _ S256x256.size (by sl_kernel_rfl) y

theorem coverC_10 (c : Dev nD) (t : Fin cfg0.N) (h0 : ¬t.val % 4 = 0) (h1 : t.val % 4 = 3) (p : Outs F) (y : S256x512.Idx) :
    ∃ pc ∈ (atC m c t h0 h1 p).2.2.2.2.2.2.2.2.2.2.1, y ∈ pc.1.set :=
  View.cover_of_tiledL _ S256x512.size (by sl_kernel_rfl) y

theorem coverC_11 (c : Dev nD) (t : Fin cfg0.N) (h0 : ¬t.val % 4 = 0) (h1 : t.val % 4 = 3) (p : Outs F) (y : S1x1x8x128.Idx) :
    ∃ pc ∈ (atC m c t h0 h1 p).2.2.2.2.2.2.2.2.2.2.2.1, y ∈ pc.1.set :=
  View.cover_of_tiledL _ S1x1x8x128.size (by sl_kernel_rfl) y

theorem coverC_12 (c : Dev nD) (t : Fin cfg0.N) (h0 : ¬t.val % 4 = 0) (h1 : t.val % 4 = 3) (p : Outs F) (y : S256x512.Idx) :
    ∃ pc ∈ (atC m c t h0 h1 p).2.2.2.2.2.2.2.2.2.2.2.2.1, y ∈ pc.1.set :=
  View.cover_of_tiledL _ S256x512.size (by sl_kernel_rfl) y

theorem coverC_13 (c : Dev nD) (t : Fin cfg0.N) (h0 : ¬t.val % 4 = 0) (h1 : t.val % 4 = 3) (p : Outs F) (y : S256x512.Idx) :
    ∃ pc ∈ (atC m c t h0 h1 p).2.2.2.2.2.2.2.2.2.2.2.2.2.1, y ∈ pc.1.set :=
  View.cover_of_tiledL _ S256x512.size (by sl_kernel_rfl) y

/-- What case C leaves, each component its pieces read back. -/
def outC (c : Dev nD) (t : Fin cfg0.N) (h0 : ¬t.val % 4 = 0) (h1 : t.val % 4 = 3) (p : Outs F) : Outs F :=
  (VO0_13.read (Elt F) (VO0_13.writes (Elt F) VO0_13.junk (atC m c t h0 h1 p).1),
   VO0_14.read (Elt F) (VO0_14.writes (Elt F) VO0_14.junk (atC m c t h0 h1 p).2.1),
   VO0_15.read (Elt F) (VO0_15.writes (Elt F) VO0_15.junk (atC m c t h0 h1 p).2.2.1),
   VO0_16.read (Elt F) (VO0_16.writes (Elt F) VO0_16.junk (atC m c t h0 h1 p).2.2.2.1),
   VO0_17.read (Elt F) (VO0_17.writes (Elt F) VO0_17.junk (atC m c t h0 h1 p).2.2.2.2.1),
   VO0_18.read (Elt F) (VO0_18.writes (Elt F) VO0_18.junk (atC m c t h0 h1 p).2.2.2.2.2.1),
   VO0_19.read (Elt F) (VO0_19.writes (Elt F) VO0_19.junk (atC m c t h0 h1 p).2.2.2.2.2.2.1),
   VO0_20.read (Elt F) (VO0_20.writes (Elt F) VO0_20.junk (atC m c t h0 h1 p).2.2.2.2.2.2.2.1),
   VO0_21.read (Elt F) (VO0_21.writes (Elt F) VO0_21.junk (atC m c t h0 h1 p).2.2.2.2.2.2.2.2.1),
   VO0_22.read (Elt F) (VO0_22.writes (Elt F) VO0_22.junk (atC m c t h0 h1 p).2.2.2.2.2.2.2.2.2.1),
   VO0_23.read (Elt F) (VO0_23.writes (Elt F) VO0_23.junk (atC m c t h0 h1 p).2.2.2.2.2.2.2.2.2.2.1),
   VO0_24.read (Elt F) (VO0_24.writes (Elt F) VO0_24.junk (atC m c t h0 h1 p).2.2.2.2.2.2.2.2.2.2.2.1),
   VS0_0.read (Elt F) (VS0_0.writes (Elt F) VS0_0.junk (atC m c t h0 h1 p).2.2.2.2.2.2.2.2.2.2.2.2.1),
   VS0_1.read (Elt F) (VS0_1.writes (Elt F) VS0_1.junk (atC m c t h0 h1 p).2.2.2.2.2.2.2.2.2.2.2.2.2.1))

/-! ## The accumulation over the grid -/

/-- What the buffers hold after grid point `n`. -/
def outsAt (c : Dev nD) : (n : ℕ) → n < cfg0.N → Outs F
  | 0, hn => outA m c ⟨0, hn⟩ (Nat.zero_mod _) (by simp)
  | n + 1, hn =>
    if h0 : (n + 1) % 4 = 0 then outA m c ⟨n + 1, hn⟩ h0 (by dsimp only; omega)
    else if h1 : (n + 1) % 4 = 3 then outC m c ⟨n + 1, hn⟩ h0 h1 (outsAt c n (Nat.lt_of_succ_lt hn))
    else outB m c ⟨n + 1, hn⟩ h0 h1 (outsAt c n (Nat.lt_of_succ_lt hn))

/-- What the buffers held before grid point `t`. -/
abbrev before (c : Dev nD) (t : Fin cfg0.N) : Outs F :=
  outsAt m c (t.val - 1) (Nat.lt_of_le_of_lt (Nat.sub_le _ _) t.isLt)

theorem outsAt_A (c : Dev nD) (t : Fin cfg0.N) (h0 : t.val % 4 = 0) (h1 : ¬t.val % 4 = 3) :
    outsAt m c t.val t.isLt = outA m c t h0 h1 := by
  obtain ⟨n, hn⟩ := t
  cases n with
  | zero => rfl
  | succ n => exact (dif_pos h0).trans rfl

theorem outsAt_B (c : Dev nD) (t : Fin cfg0.N) (h0 : ¬t.val % 4 = 0) (h1 : ¬t.val % 4 = 3) :
    outsAt m c t.val t.isLt = outB m c t h0 h1 (before m c t) := by
  obtain ⟨n, hn⟩ := t
  cases n with
  | zero => exact absurd (Nat.zero_mod _) h0
  | succ n => exact (dif_neg h0).trans ((dif_neg h1).trans rfl)

theorem outsAt_C (c : Dev nD) (t : Fin cfg0.N) (h0 : ¬t.val % 4 = 0) (h1 : t.val % 4 = 3) :
    outsAt m c t.val t.isLt = outC m c t h0 h1 (before m c t) := by
  obtain ⟨n, hn⟩ := t
  cases n with
  | zero => exact absurd (Nat.zero_mod _) h0
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2.2.2.2.2.2.2.2.2.2.2.2.1) ∗ owns (c : Thread nD τ) scM0_1 fullShare ((outsAt m c n hn).2.2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt m c n hn).2.2.2.2.2.2.2.2.2.2.2.2.1) ∗ owns (c : Thread nD τ) scM0_1 fullShare ((outsAt m c n hn).2.2.2.2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt m c (n - 1) (by omega)).2.2.2.2.2.2.2.2.2.2.2.2.1) ∗ owns (c : Thread nD τ) scM0_1 fullShare ((outsAt m c (n - 1) (by omega)).2.2.2.2.2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt`; the invariant the class's
    (`PhiS`: the class's `ΦA` before the first point, then the scoped rest with the carried scratch at `outsAt`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt m c t.val t.isLt).1
    | ⟨14, _⟩ => (outsAt m c t.val t.isLt).2.1
    | ⟨15, _⟩ => (outsAt m c t.val t.isLt).2.2.1
    | ⟨16, _⟩ => (outsAt m c t.val t.isLt).2.2.2.1
    | ⟨17, _⟩ => (outsAt m c t.val t.isLt).2.2.2.2.1
    | ⟨18, _⟩ => (outsAt m c t.val t.isLt).2.2.2.2.2.1
    | ⟨19, _⟩ => (outsAt m c t.val t.isLt).2.2.2.2.2.2.1
    | ⟨20, _⟩ => (outsAt m c t.val t.isLt).2.2.2.2.2.2.2.1
    | ⟨21, _⟩ => (outsAt m c t.val t.isLt).2.2.2.2.2.2.2.2.1
    | ⟨22, _⟩ => (outsAt m c t.val t.isLt).2.2.2.2.2.2.2.2.2.1
    | ⟨23, _⟩ => (outsAt m c t.val t.isLt).2.2.2.2.2.2.2.2.2.2.1
    | ⟨24, _⟩ => (outsAt m c t.val t.isLt).2.2.2.2.2.2.2.2.2.2.2.1
    | ⟨_ + 25, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt m c t.val t.isLt).1 := by dsimp only [dats]
theorem after0_14 (c : Dev nD) (t : Fin cfg0.N) : (dats m 0 c).after 14 t = (outsAt m c t.val t.isLt).2.1 := by dsimp only [dats]
theorem after0_15 (c : Dev nD) (t : Fin cfg0.N) : (dats m 0 c).after 15 t = (outsAt m c t.val t.isLt).2.2.1 := by dsimp only [dats]
theorem after0_16 (c : Dev nD) (t : Fin cfg0.N) : (dats m 0 c).after 16 t = (outsAt m c t.val t.isLt).2.2.2.1 := by dsimp only [dats]
theorem after0_17 (c : Dev nD) (t : Fin cfg0.N) : (dats m 0 c).after 17 t = (outsAt m c t.val t.isLt).2.2.2.2.1 := by dsimp only [dats]
theorem after0_18 (c : Dev nD) (t : Fin cfg0.N) : (dats m 0 c).after 18 t = (outsAt m c t.val t.isLt).2.2.2.2.2.1 := by dsimp only [dats]
theorem after0_19 (c : Dev nD) (t : Fin cfg0.N) : (dats m 0 c).after 19 t = (outsAt m c t.val t.isLt).2.2.2.2.2.2.1 := by dsimp only [dats]
theorem after0_20 (c : Dev nD) (t : Fin cfg0.N) : (dats m 0 c).after 20 t = (outsAt m c t.val t.isLt).2.2.2.2.2.2.2.1 := by dsimp only [dats]
theorem after0_21 (c : Dev nD) (t : Fin cfg0.N) : (dats m 0 c).after 21 t = (outsAt m c t.val t.isLt).2.2.2.2.2.2.2.2.1 := by dsimp only [dats]
theorem after0_22 (c : Dev nD) (t : Fin cfg0.N) : (dats m 0 c).after 22 t = (outsAt m c t.val t.isLt).2.2.2.2.2.2.2.2.2.1 := by dsimp only [dats]
theorem after0_23 (c : Dev nD) (t : Fin cfg0.N) : (dats m 0 c).after 23 t = (outsAt m c t.val t.isLt).2.2.2.2.2.2.2.2.2.2.1 := by dsimp only [dats]
theorem after0_24 (c : Dev nD) (t : Fin cfg0.N) : (dats m 0 c).after 24 t = (outsAt m c t.val t.isLt).2.2.2.2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
/-- At a point of cases B and C output 18's current staging buffer holds what the body left at the point before: the point is
    not the first, the buffer was not written back between (`flush0_18`), the window is live and uncut (Lib/Pipeline/Frame.lean
    `Dat.before_out_kept`). -/
theorem before0_18_kept (c : Dev nD) (t : Fin cfg0.N) (h0 : ¬t.val % 4 = 0) (d) :
    (dats m 0 c).before 18 t d = (before m c t).2.2.2.2.2.1 := by
  have hN : t.val < 64 := lt_of_lt_of_eq t.isLt (show cfg0.N = 64 from N_0)
  rw [Dat.before_out_kept _ 18 rfl t (by omega) (Bool.eq_false_iff.mpr fun h => by have := (flush0_18 _).mp h; dsimp only at this; omega)
    (fun _ => rfl) (fun _ _ => rfl)]
  dsimp only [dats]
/-- At a point of cases B and C output 24's current staging buffer holds what the body left at the point before: the point is
    not the first, the buffer was not written back between (`flush0_24`), the window is live and uncut (Lib/Pipeline/Frame.lean
    `Dat.before_out_kept`). -/
theorem before0_24_kept (c : Dev nD) (t : Fin cfg0.N) (h0 : ¬t.val % 4 = 0) (d) :
    (dats m 0 c).before 24 t d = (before m c t).2.2.2.2.2.2.2.2.2.2.2.1 := by
  have hN : t.val < 64 := lt_of_lt_of_eq t.isLt (show cfg0.N = 64 from N_0)
  rw [Dat.before_out_kept _ 24 rfl t (by omega) (Bool.eq_false_iff.mpr fun h => by have := (flush0_24 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t)

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem Phi_any (c : Dev nD) (t : Fin cfg0.N) : (dats m 0 c).Φ t.castSucc ⊢ Pipeline.ΦA spec0 c := by
  by_cases hz : t.val = 0
  · rw [PhiS_castSucc m c t, PhiS_zero m c _ _ hz]
    try exact Idealize.SL.BI.Entails.refl _
  · exact Phi_out m c t.castSucc hz

/-! What the body leaves in each window that every point uses. -/

theorem leaves0_0 (c : Dev nD) (t : Fin cfg0.N) : (dats m 0 c).leavesExact 0 t = owns (c : Thread nD τ) (ms0_0 t) fullShare ((dats m 0 c).after 0 t) := by
  unfold Dat.leavesExact; rw [liveAt0_0 t]
theorem leaves0_1 (c : Dev nD) (t : Fin cfg0.N) : (dats m 0 c).leavesExact 1 t = owns (c : Thread nD τ) (ms0_1 t) fullShare ((dats m 0 c).after 1 t) := by
  unfold Dat.leavesExact; rw [liveAt0_1 t]
theorem leaves0_2 (c : Dev nD) (t : Fin cfg0.N) : (dats m 0 c).leavesExact 2 t = owns (c : Thread nD τ) (ms0_2 t) fullShare ((dats m 0 c).after 2 t) := by
  unfold Dat.leavesExact; rw [liveAt0_2 t]
theorem leaves0_3 (c : Dev nD) (t : Fin cfg0.N) : (dats m 0 c).leavesExact 3 t = owns (c : Thread nD τ) (ms0_3 t) fullShare ((dats m 0 c).after 3 t) := by
  unfold Dat.leavesExact; rw [liveAt0_3 t]
theorem leaves0_4 (c : Dev nD) (t : Fin cfg0.N) : (dats m 0 c).leavesExact 4 t = owns (c : Thread nD τ) (ms0_4 t) fullShare ((dats m 0 c).after 4 t) := by
  unfold Dat.leavesExact; rw [liveAt0_4 t]
theorem leaves0_5 (c : Dev nD) (t : Fin cfg0.N) : (dats m 0 c).leavesExact 5 t = owns (c : Thread nD τ) (ms0_5 t) fullShare ((dats m 0 c).after 5 t) := by
  unfold Dat.leavesExact; rw [liveAt0_5 t]
theorem leaves0_6 (c : Dev nD) (t : Fin cfg0.N) : (dats m 0 c).leavesExact 6 t = owns (c : Thread nD τ) (ms0_6 t) fullShare ((dats m 0 c).after 6 t) := by
  unfold Dat.leavesExact; rw [liveAt0_6 t]
theorem leaves0_7 (c : Dev nD) (t : Fin cfg0.N) : (dats m 0 c).leavesExact 7 t = owns (c : Thread nD τ) (ms0_7 t) fullShare ((dats m 0 c).after 7 t) := by
  unfold Dat.leavesExact; rw [liveAt0_7 t]
theorem leaves0_8 (c : Dev nD) (t : Fin cfg0.N) : (dats m 0 c).leavesExact 8 t = owns (c : Thread nD τ) (ms0_8 t) fullShare ((dats m 0 c).after 8 t) := by
  unfold Dat.leavesExact; rw [liveAt0_8 t]
theorem leaves0_9 (c : Dev nD) (t : Fin cfg0.N) : (dats m 0 c).leavesExact 9 t = owns (c : Thread nD τ) (ms0_9 t) fullShare ((dats m 0 c).after 9 t) := by
  unfold Dat.leavesExact; rw [liveAt0_9 t]
theorem leaves0_10 (c : Dev nD) (t : Fin cfg0.N) : (dats m 0 c).leavesExact 10 t = owns (c : Thread nD τ) (ms0_10 t) fullShare ((dats m 0 c).after 10 t) := by
  unfold Dat.leavesExact; rw [liveAt0_10 t]
theorem leaves0_11 (c : Dev nD) (t : Fin cfg0.N) : (dats m 0 c).leavesExact 11 t = owns (c : Thread nD τ) (ms0_11 t) fullShare ((dats m 0 c).after 11 t) := by
  unfold Dat.leavesExact; rw [liveAt0_11 t]
theorem leaves0_12 (c : Dev nD) (t : Fin cfg0.N) : (dats m 0 c).leavesExact 12 t = owns (c : Thread nD τ) (ms0_12 t) fullShare ((dats m 0 c).after 12 t) := by
  unfold Dat.leavesExact; rw [liveAt0_12 t]
theorem leaves0_13 (c : Dev nD) (t : Fin cfg0.N) : (dats m 0 c).leavesExact 13 t = owns (c : Thread nD τ) (ms0_13 t) fullShare ((dats m 0 c).after 13 t) := by
  unfold Dat.leavesExact; rw [liveAt0_13 t]
theorem leaves0_14 (c : Dev nD) (t : Fin cfg0.N) : (dats m 0 c).leavesExact 14 t = owns (c : Thread nD τ) (ms0_14 t) fullShare ((dats m 0 c).after 14 t) := by
  unfold Dat.leavesExact; rw [liveAt0_14 t]
theorem leaves0_15 (c : Dev nD) (t : Fin cfg0.N) : (dats m 0 c).leavesExact 15 t = owns (c : Thread nD τ) (ms0_15 t) fullShare ((dats m 0 c).after 15 t) := by
  unfold Dat.leavesExact; rw [liveAt0_15 t]
theorem leaves0_18 (c : Dev nD) (t : Fin cfg0.N) : (dats m 0 c).leavesExact 18 t = owns (c : Thread nD τ) (ms0_18 t) fullShare ((dats m 0 c).after 18 t) := by
  unfold Dat.leavesExact; rw [liveAt0_18 t]
theorem leaves0_19 (c : Dev nD) (t : Fin cfg0.N) : (dats m 0 c).leavesExact 19 t = owns (c : Thread nD τ) (ms0_19 t) fullShare ((dats m 0 c).after 19 t) := by
  unfold Dat.leavesExact; rw [liveAt0_19 t]
theorem leaves0_20 (c : Dev nD) (t : Fin cfg0.N) : (dats m 0 c).leavesExact 20 t = owns (c : Thread nD τ) (ms0_20 t) fullShare ((dats m 0 c).after 20 t) := by
  unfold Dat.leavesExact; rw [liveAt0_20 t]
theorem leaves0_21 (c : Dev nD) (t : Fin cfg0.N) : (dats m 0 c).leavesExact 21 t = owns (c : Thread nD τ) (ms0_21 t) fullShare ((dats m 0 c).after 21 t) := by
  unfold Dat.leavesExact; rw [liveAt0_21 t]
theorem leaves0_24 (c : Dev nD) (t : Fin cfg0.N) : (dats m 0 c).leavesExact 24 t = owns (c : Thread nD τ) (ms0_24 t) fullShare ((dats m 0 c).after 24 t) := by
  unfold Dat.leavesExact; rw [liveAt0_24 t]

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = PhiS m c (t.val + 1) t.isLt from rfl, PhiS_succ]
  rw [leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t, leaves0_13 m c t, leaves0_14 m c t, leaves0_15 m c t, leaves0_18 m c t, leaves0_19 m c t, leaves0_20 m c t, leaves0_21 m c t, leaves0_24 m c t, after0_0, after0_1, after0_2, after0_3, after0_4, after0_5, after0_6, after0_7, after0_8, after0_9, after0_10, after0_11, after0_12, after0_13, after0_14, after0_15, after0_18, after0_19, after0_20, after0_21, after0_24]
  have hN : t.val < 64 := lt_of_lt_of_eq t.isLt (show cfg0.N = 64 from N_0)
  by_cases h0 : t.val % 4 = 0
  · by_cases h1 : t.val % 4 = 3
    · exfalso; omega
    · rw [Dat.leavesExact_idle (dats m 0 c) 16 t (idleAt0_16_A t ((hcond0_0 t).mpr h0) (fun h => h1 ((hcond0_1 t).mp h))) (noFlush0_16_A t ((hcond0_0 t).mpr h0) (fun h => h1 ((hcond0_1 t).mp h)))]
      rw [Dat.leavesExact_idle (dats m 0 c) 17 t (idleAt0_17_A t ((hcond0_0 t).mpr h0) (fun h => h1 ((hcond0_1 t).mp h))) (noFlush0_17_A t ((hcond0_0 t).mpr h0) (fun h => h1 ((hcond0_1 t).mp h)))]
      rw [Dat.leavesExact_idle (dats m 0 c) 22 t (idleAt0_22_A t ((hcond0_0 t).mpr h0) (fun h => h1 ((hcond0_1 t).mp h))) (noFlush0_22_A t ((hcond0_0 t).mpr h0) (fun h => h1 ((hcond0_1 t).mp h)))]
      rw [Dat.leavesExact_idle (dats m 0 c) 23 t (idleAt0_23_A t ((hcond0_0 t).mpr h0) (fun h => h1 ((hcond0_1 t).mp h))) (noFlush0_23_A t ((hcond0_0 t).mpr h0) (fun h => h1 ((hcond0_1 t).mp h)))]
      have hΦ := Phi_any m c t
      rw [PhiA0_eq] at hΦ
      rw [outsAt_A m c t h0 h1]
      unfold outA; dsimp only
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      ihave HΦ := hΦ $$ HΦ
      icases HΦ with ⟨⟨HS0, HS1⟩, Hg⟩
      iapply ((atA m c t h0 h1).2.2.2.2.2.2.2.2.2.2.2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexact H16
      isplitl [H17]; · iexact H17
      isplitl [H18]; · iexists _; iexact H18
      isplitl [H19]; · iexists _; iexact H19
      isplitl [H20]; · iexists _; iexact H20
      isplitl [H21]; · iexists _; iexact H21
      isplitl [H22]; · iexact H22
      isplitl [H23]; · iexact H23
      isplitl [H24]; · iexists _; iexact H24
      isplitl [HS0]; · iexact HS0
      isplitl [HS1]; · iexact HS1
      iintro ⟨H0, H1, H2, H3, H4, H5, H6, H7, H8, H9, H10, H11, H12, ⟨%e13, H13⟩, ⟨%e14, H14⟩, ⟨%e15, H15⟩, H16, H17, ⟨%e18, H18⟩, ⟨%e19, H19⟩, ⟨%e20, H20⟩, ⟨%e21, H21⟩, H22, H23, ⟨%e24, H24⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_12 m c t h0 h1)
          unfold owns; iexists _; isplitr
          swap; · iexact HS1
          ipureintro; exact View.read_writes_of_cover _ _ _ _ _ (coverA_13 m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverA_0 m c t h0 h1)
      isplitl [H14]
      · unfold owns; iexists _; isplitr
        swap; · iexact H14
        ipureintro; exact View.read_writes_of_cover _ _ _ _ _ (coverA_1 m c t h0 h1)
      isplitl [H15]
      · unfold owns; iexists _; isplitr
        swap; · iexact H15
        ipureintro; exact View.read_writes_of_cover _ _ _ _ _ (coverA_2 m c t h0 h1)
      isplitl [H16]; · iexists _; iexact H16
      isplitl [H17]; · iexists _; iexact H17
      isplitl [H18]
      · unfold owns; iexists _; isplitr
        swap; · iexact H18
        ipureintro; exact View.read_writes_of_cover _ _ _ _ _ (coverA_5 m c t h0 h1)
      isplitl [H19]
      · unfold owns; iexists _; isplitr
        swap; · iexact H19
        ipureintro; exact View.read_writes_of_cover _ _ _ _ _ (coverA_6 m c t h0 h1)
      isplitl [H20]
      · unfold owns; iexists _; isplitr
        swap; · iexact H20
        ipureintro; exact View.read_writes_of_cover _ _ _ _ _ (coverA_7 m c t h0 h1)
      isplitl [H21]
      · unfold owns; iexists _; isplitr
        swap; · iexact H21
        ipureintro; exact View.read_writes_of_cover _ _ _ _ _ (coverA_8 m c t h0 h1)
      isplitl [H22]; · iexists _; iexact H22
      isplitl [H23]; · iexists _; iexact H23
      unfold owns; iexists _; isplitr
      swap; · iexact H24
      ipureintro; exact View.read_writes_of_cover _ _ _ _ _ (coverA_11 m c t h0 h1)
  · by_cases h1 : t.val % 4 = 3
    · rw [show (dats m 0 c).leavesExact 16 t = owns (c : Thread nD τ) (ms0_16 t) fullShare ((dats m 0 c).after 16 t) from by
      unfold Dat.leavesExact; rw [liveAt0_16_C t (fun h => h0 ((hcond0_0 t).mp h)) ((hcond0_1 t).mpr h1)], after0_16]
      rw [show (dats m 0 c).leavesExact 17 t = owns (c : Thread nD τ) (ms0_17 t) fullShare ((dats m 0 c).after 17 t) from by
      unfold Dat.leavesExact; rw [liveAt0_17_C t (fun h => h0 ((hcond0_0 t).mp h)) ((hcond0_1 t).mpr h1)], after0_17]
      rw [show (dats m 0 c).leavesExact 22 t = owns (c : Thread nD τ) (ms0_22 t) fullShare ((dats m 0 c).after 22 t) from by
      unfold Dat.leavesExact; rw [liveAt0_22_C t (fun h => h0 ((hcond0_0 t).mp h)) ((hcond0_1 t).mpr h1)], after0_22]
      rw [show (dats m 0 c).leavesExact 23 t = owns (c : Thread nD τ) (ms0_23 t) fullShare ((dats m 0 c).after 23 t) from by
      unfold Dat.leavesExact; rw [liveAt0_23_C t (fun h => h0 ((hcond0_0 t).mp h)) ((hcond0_1 t).mpr h1)], after0_23]
      by_cases hz : t.val = 0
      · exfalso; have hN : t.val < 64 := lt_of_lt_of_eq t.isLt (show cfg0.N = 64 from N_0); omega
      · rw [PhiS_castSucc m c t, PhiS_pos m c _ _ hz]
        rw [outsAt_C m c t h0 h1]
        simp only [before0_18_kept m c t h0, before0_24_kept m c t h0]
        unfold outC; dsimp only
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
        iapply ((atC m c t h0 h1 _).2.2.2.2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [H15]; · iexists _; iexact H15
        isplitl [H16]; · iexists _; iexact H16
        isplitl [H17]; · iexists _; iexact H17
        isplitl [H18]; · iexact H18
        isplitl [H19]; · iexists _; iexact H19
        isplitl [H20]; · iexists _; iexact H20
        isplitl [H21]; · iexists _; iexact H21
        isplitl [H22]; · iexists _; iexact H22
        isplitl [H23]; · iexists _; iexact H23
        isplitl [H24]; · iexact H24
        isplitl [HS0]; · iexact HS0
        isplitl [HS1]; · iexact HS1
        iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (coverC_12 m c t h0 h1 _)
            unfold owns; iexists _; isplitr
            swap; · iexact HS1
            ipureintro; exact View.read_writes_of_cover _ _ _ _ _ (coverC_13 m c t h0 h1 _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (coverC_0 m c t h0 h1 _)
        isplitl [H14]
        · unfold owns; iexists _; isplitr
          swap; · iexact H14
          ipureintro; exact View.read_writes_of_cover _ _ _ _ _ (coverC_1 m c t h0 h1 _)
        isplitl [H15]
        · unfold owns; iexists _; isplitr
          swap; · iexact H15
          ipureintro; exact View.read_writes_of_cover _ _ _ _ _ (coverC_2 m c t h0 h1 _)
        isplitl [H16]
        · unfold owns; iexists _; isplitr
          swap; · iexact H16
          ipureintro; exact View.read_writes_of_cover _ _ _ _ _ (coverC_3 m c t h0 h1 _)
        isplitl [H17]
        · unfold owns; iexists _; isplitr
          swap; · iexact H17
          ipureintro; exact View.read_writes_of_cover _ _ _ _ _ (coverC_4 m c t h0 h1 _)
        isplitl [H18]
        · unfold owns; iexists _; isplitr
          swap; · iexact H18
          ipureintro; exact View.read_writes_of_cover _ _ _ _ _ (coverC_5 m c t h0 h1 _)
        isplitl [H19]
        · unfold owns; iexists _; isplitr
          swap; · iexact H19
          ipureintro; exact View.read_writes_of_cover _ _ _ _ _ (coverC_6 m c t h0 h1 _)
        isplitl [H20]
        · unfold owns; iexists _; isplitr
          swap; · iexact H20
          ipureintro; exact View.read_writes_of_cover _ _ _ _ _ (coverC_7 m c t h0 h1 _)
        isplitl [H21]
        · unfold owns; iexists _; isplitr
          swap; · iexact H21
          ipureintro; exact View.read_writes_of_cover _ _ _ _ _ (coverC_8 m c t h0 h1 _)
        isplitl [H22]
        · unfold owns; iexists _; isplitr
          swap; · iexact H22
          ipureintro; exact View.read_writes_of_cover _ _ _ _ _ (coverC_9 m c t h0 h1 _)
        isplitl [H23]
        · unfold owns; iexists _; isplitr
          swap; · iexact H23
          ipureintro; exact View.read_writes_of_cover _ _ _ _ _ (coverC_10 m c t h0 h1 _)
        unfold owns; iexists _; isplitr
        swap; · iexact H24
        ipureintro; exact View.read_writes_of_cover _ _ _ _ _ (coverC_11 m c t h0 h1 _)
    · rw [Dat.leavesExact_idle (dats m 0 c) 16 t (idleAt0_16_B t (fun h => h0 ((hcond0_0 t).mp h)) (fun h => h1 ((hcond0_1 t).mp h))) (noFlush0_16_B t (fun h => h0 ((hcond0_0 t).mp h)) (fun h => h1 ((hcond0_1 t).mp h)))]
      rw [Dat.leavesExact_idle (dats m 0 c) 17 t (idleAt0_17_B t (fun h => h0 ((hcond0_0 t).mp h)) (fun h => h1 ((hcond0_1 t).mp h))) (noFlush0_17_B t (fun h => h0 ((hcond0_0 t).mp h)) (fun h => h1 ((hcond0_1 t).mp h)))]
      rw [Dat.leavesExact_idle (dats m 0 c) 22 t (idleAt0_22_B t (fun h => h0 ((hcond0_0 t).mp h)) (fun h => h1 ((hcond0_1 t).mp h))) (noFlush0_22_B t (fun h => h0 ((hcond0_0 t).mp h)) (fun h => h1 ((hcond0_1 t).mp h)))]
      rw [Dat.leavesExact_idle (dats m 0 c) 23 t (idleAt0_23_B t (fun h => h0 ((hcond0_0 t).mp h)) (fun h => h1 ((hcond0_1 t).mp h))) (noFlush0_23_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc m c t, PhiS_pos m c _ _ hz]
        rw [outsAt_B m c t h0 h1]
        simp only [before0_18_kept m c t h0, before0_24_kept m c t h0]
        unfold outB; dsimp only
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
        iapply ((atB m c t h0 h1 _).2.2.2.2.2.2.2.2.2.2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [H15]; · iexists _; iexact H15
        isplitl [H16]; · iexact H16
        isplitl [H17]; · iexact H17
        isplitl [H18]; · iexact H18
        isplitl [H19]; · iexists _; iexact H19
        isplitl [H20]; · iexists _; iexact H20
        isplitl [H21]; · iexists _; iexact H21
        isplitl [H22]; · iexact H22
        isplitl [H23]; · iexact H23
        isplitl [H24]; · iexact H24
        isplitl [HS0]; · iexact HS0
        isplitl [HS1]; · iexact HS1
        iintro ⟨H0, H1, H2, H3, H4, H5, H6, H7, H8, H9, H10, H11, H12, ⟨%e13, H13⟩, ⟨%e14, H14⟩, ⟨%e15, H15⟩, H16, H17, ⟨%e18, H18⟩, ⟨%e19, H19⟩, ⟨%e20, H20⟩, ⟨%e21, H21⟩, H22, H23, ⟨%e24, H24⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (coverB_12 m c t h0 h1 _)
            unfold owns; iexists _; isplitr
            swap; · iexact HS1
            ipureintro; exact View.read_writes_of_cover _ _ _ _ _ (coverB_13 m c t h0 h1 _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (coverB_0 m c t h0 h1 _)
        isplitl [H14]
        · unfold owns; iexists _; isplitr
          swap; · iexact H14
          ipureintro; exact View.read_writes_of_cover _ _ _ _ _ (coverB_1 m c t h0 h1 _)
        isplitl [H15]
        · unfold owns; iexists _; isplitr
          swap; · iexact H15
          ipureintro; exact View.read_writes_of_cover _ _ _ _ _ (coverB_2 m c t h0 h1 _)
        isplitl [H16]; · iexists _; iexact H16
        isplitl [H17]; · iexists _; iexact H17
        isplitl [H18]
        · unfold owns; iexists _; isplitr
          swap; · iexact H18
          ipureintro; exact View.read_writes_of_cover _ _ _ _ _ (coverB_5 m c t h0 h1 _)
        isplitl [H19]
        · unfold owns; iexists _; isplitr
          swap; · iexact H19
          ipureintro; exact View.read_writes_of_cover _ _ _ _ _ (coverB_6 m c t h0 h1 _)
        isplitl [H20]
        · unfold owns; iexists _; isplitr
          swap; · iexact H20
          ipureintro; exact View.read_writes_of_cover _ _ _ _ _ (coverB_7 m c t h0 h1 _)
        isplitl [H21]
        · unfold owns; iexists _; isplitr
          swap; · iexact H21
          ipureintro; exact View.read_writes_of_cover _ _ _ _ _ (coverB_8 m c t h0 h1 _)
        isplitl [H22]; · iexists _; iexact H22
        isplitl [H23]; · iexists _; iexact H23
        unfold owns; iexists _; isplitr
        swap; · iexact H24
        ipureintro; exact View.read_writes_of_cover _ _ _ _ _ (coverB_11 m c t h0 h1 _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Own

end
-- ==== Proof.Twin.lean ====
module

public import proofs.«01_k».proof.Defs
public import proofs.«01_k».proof.Proof.Gen.Kernel
public import proofs.«01_k».proof.Proof.Gen.KernelIdeal
public import Idealize.ShloMosaic.Lib.Tactic

@[expose] public section

noncomputable section

namespace Cert.Own

open Idealize.ShloMosaic Idealize.SL.Sem Idealize.ShloMosaic.Tactic

/-- The frame of the program read at `Ideal`, at the machine's own floats. -/
def idealFrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The two programs are one text in two namespaces: what the frame says of one it says of the other. -/
theorem frame_twin : Cert.quiescent_Kernel = idealFrameAtBits := by
  sl_kernel_rfl

end Cert.Own

end
-- ==== Proof.Emb.lean ====
/- Arrays of extended reals all of whose entries are real numbers: `Re X f` says that the array `X` holds the real
   number `f j` at every index `j`. One rule per operation of the two programs: an operation applied to such arrays is
   such an array again, the operation on real numbers read at the index. -/
module

public import Idealize.ShloMosaic.PureOps
public import Idealize.ShloMosaic.PureOps.Ideal.Laws
public import Idealize.ShloMosaic.PureOps.Reduce
public import Idealize.ShloMosaic.Lib.Pipeline.Value
public import Idealize.ShloMosaic.Lib.ValueIdxCore
public import Idealize.ShloMosaic.Lib.Pointwise.Index
public import Idealize.ShloMosaic.Lib.WordArith

@[expose] public section

noncomputable section

namespace Cert.Own

open Idealize.ShloMosaic

/-- The extended reals `X` are the reals `f`. -/
def Re {s : Shape} (X : s.Idx → EReal) (f : s.Idx → ℝ) : Prop := ∀ j, X j = ((f j : ℝ) : EReal)

/-- A real function of natural-number coordinates, read at the indices of a shape. -/
abbrev E1 {z : Fin 1 → ℕ} (f : ℕ → ℝ) : (⟨1, z⟩ : Shape).Idx → ℝ := fun j => f (j 0).val
abbrev E2 {z : Fin 2 → ℕ} (f : ℕ → ℕ → ℝ) : (⟨2, z⟩ : Shape).Idx → ℝ := fun j => f (j 0).val (j 1).val
abbrev E3 {z : Fin 3 → ℕ} (f : ℕ → ℕ → ℕ → ℝ) : (⟨3, z⟩ : Shape).Idx → ℝ :=
  fun j => f (j 0).val (j 1).val (j 2).val
abbrev E4 {z : Fin 4 → ℕ} (f : ℕ → ℕ → ℕ → ℕ → ℝ) : (⟨4, z⟩ : Shape).Idx → ℝ :=
  fun j => f (j 0).val (j 1).val (j 2).val (j 3).val
abbrev E5 {z : Fin 5 → ℕ} (f : ℕ → ℕ → ℕ → ℕ → ℕ → ℝ) : (⟨5, z⟩ : Shape).Idx → ℝ :=
  fun j => f (j 0).val (j 1).val (j 2).val (j 3).val (j 4).val

/-- The entries of the four arguments as real numbers. -/
structure Data where
  A0 : ℕ → ℕ → ℝ
  A1 : ℕ → ℕ → ℝ
  LG : ℕ → ℕ → ℝ
  DO : ℕ → ℕ → ℝ

section
variable {s t : Shape} {φ ψ : FTy}

theorem Re.congr {X : s.Idx → EReal} {f g : s.Idx → ℝ} (h : Re X f) (e : ∀ j, f j = g j) : Re X g :=
  fun j => (h j).trans (congrArg _ (e j))

/-- Reading through any map of indices. -/
theorem Re.at {X : s.Idx → EReal} {f : s.Idx → ℝ} (h : Re X f) {Y : t.Idx → EReal} (ι : t.Idx → s.Idx)
    (e : ∀ j, Y j = X (ι j)) : Re Y (fun j => f (ι j)) := fun j => (e j).trans (h (ι j))

theorem Re.bcast {X : s.Idx → EReal} {f : s.Idx → ℝ} (hX : Re X f) {dims : Fin s.rank → Fin t.rank}
    {h : s.BroadcastsInDim t dims} : Re (broadcastInDim t dims h X) (broadcastInDim t dims h f) := fun _ => hX _
theorem Re.bto {X : s.Idx → EReal} {f : s.Idx → ℝ} (hX : Re X f) {h : s.Broadcasts t} :
    Re (broadcastTo t X h) (broadcastTo t f h) := fun _ => hX _
theorem Re.slice {X : s.Idx → EReal} {f : s.Idx → ℝ} (hX : Re X f) {off : Fin s.rank → ℕ} {h : s.Slices off t} :
    Re (extractStridedSlice t off X h) (extractStridedSlice t off f h) := fun _ => hX _
theorem Re.transp {X : s.Idx → EReal} {f : s.Idx → ℝ} (hX : Re X f) {perm : List (Fin s.rank)}
    {h : s.Transposes perm t} : Re (transpose t perm X h) (transpose t perm f h) := fun _ => hX _
theorem Re.rev {X : s.Idx → EReal} {f : s.Idx → ℝ} (hX : Re X f) {axes : List (Fin s.rank)} :
    Re (Host.reverse axes X) (Host.reverse axes f) := fun _ => hX _

/-- A reshape: the values at indices of the same row-major position agree. -/
theorem Re.resh {X : s.Idx → EReal} {f : s.Idx → ℝ} (hX : Re X f) (h : s.ShapeCasts t) {g : t.Idx → ℝ}
    (e : ∀ i j, (s.rowMajor i).val = (t.rowMajor j).val → f i = g j) : Re (shapeCast t X h) g := fun j => by
  have hk : (s.rowMajor (Shape.reshapeEquiv h j)).val = (t.rowMajor j).val := by
    simp [Shape.reshapeEquiv]
  rw [shapeCast_apply X h j _ hk, hX]
  exact congrArg _ (e _ _ hk)

theorem pair_unique {n a b c d : ℕ} (hb : b < n) (hd : d < n) (e : a * n + b = c * n + d) : a = c ∧ b = d := by
  have hn : 0 < n := Nat.zero_lt_of_lt hb
  have h := congrArg (· / n) e
  simp only [Nat.add_comm _ b, Nat.add_comm _ d, Nat.add_mul_div_right _ _ hn, Nat.div_eq_of_lt hb, Nat.div_eq_of_lt hd, Nat.zero_add] at h
  subst h
  exact ⟨rfl, Nat.add_left_cancel e⟩

/-- Both dimensions of a matrix split in two. -/
theorem Re.split {z : Fin 2 → ℕ} {w : Fin 4 → ℕ} {X : (⟨2, z⟩ : Shape).Idx → EReal} {f : ℕ → ℕ → ℝ} (hX : Re X (E2 f))
    (h : Shape.ShapeCasts ⟨2, z⟩ ⟨4, w⟩) (hz : z 1 = w 2 * w 3) :
    Re (shapeCast ⟨4, w⟩ X h) (E4 fun i0 i1 i2 i3 => f (w 1 * i0 + i1) (w 3 * i2 + i3)) :=
  Re.resh hX h fun i j e => by
    rw [Shape.rowMajor_val_two, Shape.rowMajor_val_four] at e
    have a1 : (i 1).val < w 2 * w 3 := lt_of_lt_of_eq (i 1).isLt hz
    have b2 : (j 2).val < w 2 := (j 2).isLt
    have b3 : (j 3).val < w 3 := (j 3).isLt
    have e : (i 0).val * z 1 + (i 1).val = (((j 0).val * w 1 + (j 1).val) * w 2 + (j 2).val) * w 3 + (j 3).val := e
    have hb : (j 2).val * w 3 + (j 3).val < w 2 * w 3 := calc
      _ < ((j 2).val + 1) * w 3 := by rw [Nat.succ_mul]; exact Nat.add_lt_add_left b3 _
      _ ≤ w 2 * w 3 := Nat.mul_le_mul_right _ b2
    obtain ⟨c0, c1⟩ := pair_unique a1 hb (e := (by rw [← hz, e, hz]; ring : (i 0).val * (w 2 * w 3) + (i 1).val = ((j 0).val * w 1 + (j 1).val) * (w 2 * w 3) + ((j 2).val * w 3 + (j 3).val)))
    show f (i 0).val (i 1).val = f (w 1 * (j 0).val + (j 1).val) (w 3 * (j 2).val + (j 3).val)
    rw [c0, c1, Nat.mul_comm (w 1), Nat.mul_comm (w 3)]

/-- The other way round. -/
theorem Re.merge {z : Fin 2 → ℕ} {w : Fin 4 → ℕ} {X : (⟨4, w⟩ : Shape).Idx → EReal} {f : ℕ → ℕ → ℕ → ℕ → ℝ} (hX : Re X (E4 f))
    (h : Shape.ShapeCasts ⟨4, w⟩ ⟨2, z⟩) (hz : z 1 = w 2 * w 3) :
    Re (shapeCast ⟨2, z⟩ X h) (E2 fun i0 i1 => f (i0 / w 1) (i0 % w 1) (i1 / w 3) (i1 % w 3)) :=
  Re.resh hX h fun i j e => by
    rw [Shape.rowMajor_val_two, Shape.rowMajor_val_four] at e
    have a1 : (j 1).val < w 2 * w 3 := lt_of_lt_of_eq (j 1).isLt hz
    have b1 : (i 1).val < w 1 := (i 1).isLt
    have b2 : (i 2).val < w 2 := (i 2).isLt
    have b3 : (i 3).val < w 3 := (i 3).isLt
    have e : (((i 0).val * w 1 + (i 1).val) * w 2 + (i 2).val) * w 3 + (i 3).val = (j 0).val * z 1 + (j 1).val := e
    have hb : (i 2).val * w 3 + (i 3).val < w 2 * w 3 := calc
      _ < ((i 2).val + 1) * w 3 := by rw [Nat.succ_mul]; exact Nat.add_lt_add_left b3 _
      _ ≤ w 2 * w 3 := Nat.mul_le_mul_right _ b2
    obtain ⟨c0, c1⟩ := pair_unique a1 hb (e := (by rw [← hz, ← e, hz]; ring : (j 0).val * (w 2 * w 3) + (j 1).val = ((i 0).val * w 1 + (i 1).val) * (w 2 * w 3) + ((i 2).val * w 3 + (i 3).val)))
    have hq {n a b : ℕ} (h : b < n) : (a * n + b) / n = a ∧ (a * n + b) % n = b := by
      rw [Nat.add_comm, Nat.add_mul_div_right _ _ (Nat.zero_lt_of_lt h), Nat.div_eq_of_lt h, Nat.add_mul_mod_self_right, Nat.mod_eq_of_lt h]
      exact ⟨Nat.zero_add _, rfl⟩
    show f (i 0).val (i 1).val (i 2).val (i 3).val = f ((j 0).val / w 1) ((j 0).val % w 1) ((j 1).val / w 3) ((j 1).val % w 3)
    rw [c0, c1, (hq b1).1, (hq b1).2, (hq b3).1, (hq b3).2]

theorem Re.mul {X Y : FVec Ideal s φ} {f g : s.Idx → ℝ} (hX : Re X f) (hY : Re Y g) :
    Re (mulf X Y) (fun j => f j * g j) := fun j => by
  show X j * Y j = _
  rw [hX j, hY j, EReal.coe_mul]

theorem Re.add {X Y : FVec Ideal s φ} {f g : s.Idx → ℝ} (hX : Re X f) (hY : Re Y g) :
    Re (addf X Y) (fun j => f j + g j) := fun j => by
  show X j + Y j = _
  rw [hX j, hY j, EReal.coe_add]

theorem Re.sub {X Y : FVec Ideal s φ} {f g : s.Idx → ℝ} (hX : Re X f) (hY : Re Y g) :
    Re (subf X Y) (fun j => f j - g j) := fun j => by
  show X j - Y j = _
  rw [hX j, hY j, EReal.coe_sub]

theorem Re.max {X Y : FVec Ideal s φ} {f g : s.Idx → ℝ} (hX : Re X f) (hY : Re Y g) :
    Re (maximumf X Y) (fun j => Max.max (f j) (g j)) := fun j => by
  show Max.max (X j) (Y j) = _
  rw [hX j, hY j]
  exact (EReal.coe_strictMono.monotone.map_max (a := f j) (b := g j)).symm

theorem Re.exp {X : FVec Ideal s φ} {f : s.Idx → ℝ} (hX : Re X f) :
    Re (Idealize.ShloMosaic.exp X) (fun j => Real.exp (f j)) := fun j => by
  show Ideal.exp (X j) = _
  rw [hX j]; rfl

theorem Re.hexp {X : FVec Ideal s φ} {f : s.Idx → ℝ} (hX : Re X f) :
    Re (Host.exp X) (fun j => Real.exp (f j)) := fun j => by
  show Ideal.exp (X j) = _
  rw [hX j]; rfl

theorem Re.trunc {X : FVec Ideal s φ} {f : s.Idx → ℝ} (hX : Re X f) (h : ψ.bits < φ.bits) :
    Re (truncf ψ X h) f := hX

/-- The bits of a constant that both programs use. -/
def lit (b : BitVec 32) (r : ℝ) : Prop := Ideal.ofBits .f32 b = ((r : ℝ) : EReal)
theorem lit0 : lit 0x00000000#32 0 := by unfold lit; rw [Ideal.ofBits_zero_f32]; rfl
theorem lit1 : lit 0x3F800000#32 1 := by
  unfold lit; simp [Ideal.ofBits, Ideal.ieee, -EReal.coe_mul]; norm_num
theorem lit255 : lit 0x437F0000#32 255 := by
  unfold lit; simp [Ideal.ofBits, Ideal.ieee, -EReal.coe_mul]; norm_num
theorem lit511 : lit 0x43FF8000#32 511 := by
  unfold lit; simp [Ideal.ofBits, Ideal.ieee, -EReal.coe_mul]; norm_num
theorem lit512 : lit 0x44000000#32 512 := by
  unfold lit; simp [Ideal.ofBits, Ideal.ieee, -EReal.coe_mul]; norm_num

theorem Re.const {b : BitVec 32} {r : ℝ} (h : lit b r) : Re (constant (F := Ideal) s .f32 b) (fun _ => r) := fun _ => h
theorem Re.splat {x : EReal} {r : ℝ} (h : x = ((r : ℝ) : EReal)) : Re (broadcast s x) (fun _ => r) := fun _ => h

theorem coe_fsum {ι : Type} (u : Finset ι) (f : ι → ℝ) :
    ∑ i ∈ u, ((f i : ℝ) : EReal) = ((∑ i ∈ u, f i : ℝ) : EReal) := by
  classical
  induction u using Finset.induction_on with
  | empty => simp
  | insert a u ha ih => rw [Finset.sum_insert ha, Finset.sum_insert ha, ih, EReal.coe_add]

/-- A sum of products of reals over `Fin n`, as a sum over the numbers below `n`. -/
theorem dotSum {n : ℕ} (x y : Fin n → EReal) (F G : ℕ → ℝ) (hx : ∀ k, x k = ((F k.val : ℝ) : EReal))
    (hy : ∀ k, y k = ((G k.val : ℝ) : EReal)) :
    ∑ k : Fin n, x k * y k = ((∑ k ∈ Finset.range n, F k * G k : ℝ) : EReal) := by
  rw [← Fin.sum_univ_eq_sum_range (fun k => F k * G k) n, ← coe_fsum]
  exact Finset.sum_congr rfl fun k _ => by rw [hx, hy, EReal.coe_mul]

theorem oneSum {n : ℕ} (x : Fin n → EReal) (F : ℕ → ℝ) (hx : ∀ k, x k = ((F k.val : ℝ) : EReal)) :
    ∑ k : Fin n, x k = ((∑ k ∈ Finset.range n, F k : ℝ) : EReal) := by
  rw [← Fin.sum_univ_eq_sum_range F n, ← coe_fsum]
  exact Finset.sum_congr rfl fun k _ => by rw [hx]

/-- A matrix product into a zero accumulator. -/
theorem Re.matmul {sl sr so : Shape} {φ₁ φ₂ : FTy} (d : DotDims sl sr so) (n : ℕ) (h1 : d.contr.rank = 1)
    (h2 : d.contr.size ⟨0, by omega⟩ = n) {X : FVec Ideal sl φ₁} {Y : FVec Ideal sr φ₂} {f : sl.Idx → ℝ}
    {g : sr.Idx → ℝ} (hX : Re X f) (hY : Re Y g) (F G : so.Idx → ℕ → ℝ)
    (hF : ∀ j (k : Fin n), f (d.lhsIdx j ((ValueIdx.contrEquiv1 d n h1 h2).symm k)) = F j k.val)
    (hG : ∀ j (k : Fin n), g (d.rhsIdx j ((ValueIdx.contrEquiv1 d n h1 h2).symm k)) = G j k.val)
    (prec : Option ContractPrecision) :
    Re (Idealize.ShloMosaic.matmul (F := Ideal) d prec X Y (constant so .f32 0x00000000#32))
      (fun j => ∑ k ∈ Finset.range n, F j k * G j k) := fun j => by
  simp only [Idealize.ShloMosaic.matmul]
  rw [Ideal.matmul_constant_zero_apply, ← Equiv.sum_comp (ValueIdx.contrEquiv1 d n h1 h2).symm]
  exact dotSum _ _ _ _ (fun k => by rw [hX, hF]) (fun k => by rw [hY, hG])

/-- The host's matrix product. -/
theorem Re.dot {sl sr so : Shape} {φ₁ φ₂ : FTy} (d : DotDims sl sr so) (n : ℕ) (h1 : d.contr.rank = 1)
    (h2 : d.contr.size ⟨0, by omega⟩ = n) {X : FVec Ideal sl φ₁} {Y : FVec Ideal sr φ₂} {f : sl.Idx → ℝ}
    {g : sr.Idx → ℝ} (hX : Re X f) (hY : Re Y g) (F G : so.Idx → ℕ → ℝ)
    (hF : ∀ j (k : Fin n), f (d.lhsIdx j ((ValueIdx.contrEquiv1 d n h1 h2).symm k)) = F j k.val)
    (hG : ∀ j (k : Fin n), g (d.rhsIdx j ((ValueIdx.contrEquiv1 d n h1 h2).symm k)) = G j k.val)
    :
    Re (Host.dotGeneral (F := Ideal) d none X Y) (fun j => ∑ k ∈ Finset.range n, F j k * G j k) := fun j => by
  simp only [Host.dotGeneral]
  rw [Ideal.dotGeneral_apply, ← Equiv.sum_comp (ValueIdx.contrEquiv1 d n h1 h2).symm]
  exact dotSum _ _ _ _ (fun k => by rw [hX, hF]) (fun k => by rw [hY, hG])

/-- A sum along one axis. -/
theorem Re.sum1 {a : Fin s.rank} {X : FVec Ideal s .f32} {f : s.Idx → ℝ} (hX : Re X f) (h : s.Reduces [a] t)
    (F : t.Idx → ℕ → ℝ) (hF : ∀ j (k : Fin (s.size a)), f (h.lift j k) = F j k.val) (hφ : FKind.Formats .f32)
    (hacc : 0x00000000#32 = FKind.add.neutral .f32 hφ) :
    Re (multiReduction .add [a] t X 0x00000000#32 h hφ hacc) (fun j => ∑ k ∈ Finset.range (s.size a), F j k) := fun j => by
  rw [Ideal.multiReduction_add_single]
  exact oneSum _ _ fun k => by rw [hX, hF]

/-- A sum over every index of a shape with a leading unit axis. -/
theorem Re.sumAll {n m : ℕ} {axes : List (Fin 3)} {X : FVec Ideal (⟨3, ![1, n, m]⟩ : Shape) .f32} {f : ℕ → ℕ → ℕ → ℝ}
    (hX : Re X (E3 f)) (h : Shape.Reduces (⟨3, ![1, n, m]⟩ : Shape) axes t) (ht : ∀ b, t.size b = 1) (hφ : FKind.Formats .f32)
    (hacc : 0x00000000#32 = FKind.add.neutral .f32 hφ) :
    Re (multiReduction .add axes t X 0x00000000#32 h hφ hacc)
      (fun _ => ∑ a ∈ Finset.range n, ∑ b ∈ Finset.range m, f 0 a b) := fun j => by
  rw [Ideal.multiReduction_add_total _ _ _ ht, sum_idx3, Fin.sum_univ_one]
  exact oneSum _ _ fun a => oneSum _ _ fun b => hX _

/-- The host's sum along one axis. -/
theorem Re.hsum1 {a : Fin s.rank} {X : FVec Ideal s .f32} {f : s.Idx → ℝ} (hX : Re X f) (h' : s.ReducesTo [a] t)
    (h : s.Reduces [a] t) (F : t.Idx → ℕ → ℝ) (hF : ∀ j (k : Fin (s.size a)), f (h.lift j k) = F j k.val) {u : Shape}
    {c : FVec Ideal u .f32} (hu : 0 < u.numel) (hc : Re c fun _ => 0) :
    Re (Host.reduceAdd (F := Ideal) X c h' hu) (fun j => ∑ k ∈ Finset.range (s.size a), F j k) := fun j => by
  simp only [Host.reduceAdd, Ideal.hostReduceAdd_def]
  rw [Ideal.hostReduceAdd_single h' h, hc]
  rw [show (((0 : ℝ) : EReal)) = 0 from rfl, zero_add]
  exact oneSum _ _ fun k => by rw [hX, hF]

/-- The host's sum along the last two of four axes. -/
theorem Re.hsum2 {n0 n1 n2 n3 : ℕ} {X : FVec Ideal (⟨4, ![n0, n1, n2, n3]⟩ : Shape) .f32} {f : ℕ → ℕ → ℕ → ℕ → ℝ}
    (hX : Re X (E4 f)) (h' : Shape.ReducesTo (⟨4, ![n0, n1, n2, n3]⟩ : Shape) [2, 3] (⟨2, ![n0, n1]⟩ : Shape)) {u : Shape}
    {c : FVec Ideal u .f32} (hu : 0 < u.numel) (hc : Re c fun _ => 0) :
    Re (Host.reduceAdd (F := Ideal) X c h' hu)
      (E2 fun a b => ∑ k ∈ Finset.range n2, ∑ l ∈ Finset.range n3, f a b k l) := fun j => by
  simp only [Host.reduceAdd, Ideal.hostReduceAdd_def]
  unfold Ideal.hostReduceAdd
  rw [hc, show (((0 : ℝ) : EReal)) = 0 from rfl, zero_add, Finset.sum_filter, sum_idx4]
  have key : ∀ (a : Fin n0) (b : Fin n1) (k : Fin n2) (l : Fin n3),
      (h'.drop (ix4 a b k l) = j) ↔ (a = j 0 ∧ b = j 1) := by
    intro a b k l
    have e0 : (h'.drop (ix4 a b k l) 0).val = a.val := rfl
    have e1 : (h'.drop (ix4 a b k l) 1).val = b.val := rfl
    constructor
    · intro e
      exact ⟨Fin.ext (by rw [← e0, e]), Fin.ext (by rw [← e1, e])⟩
    · rintro ⟨ea, eb⟩
      funext i
      apply Fin.ext
      match i with
      | ⟨0, _⟩ => exact e0.trans (congrArg Fin.val ea)
      | ⟨1, _⟩ => exact e1.trans (congrArg Fin.val eb)
  refine (Finset.sum_eq_single (show Fin n0 from j 0) (fun a _ ha => ?_) (fun h => absurd (Finset.mem_univ _) h)).trans
    ((Finset.sum_eq_single (show Fin n1 from j 1) (fun b _ hb => ?_) (fun h => absurd (Finset.mem_univ _) h)).trans ?_)
  · exact Finset.sum_eq_zero fun b _ => Finset.sum_eq_zero fun k _ => Finset.sum_eq_zero fun l _ =>
      if_neg fun e => ha ((key _ _ _ _).1 e).1
  · exact Finset.sum_eq_zero fun k _ => Finset.sum_eq_zero fun l _ => if_neg fun e => hb ((key _ _ _ _).1 e).2
  · refine oneSum _ _ fun k => oneSum _ _ fun l => ?_
    rw [if_pos ((key _ _ _ _).2 ⟨rfl, rfl⟩)]
    exact hX _

/-- An array of truth values: at every index, whether one real is at most another. -/
def Ge (C : s.Idx → BitVec 1) (f g : s.Idx → ℝ) : Prop := ∀ j, C j = BitVec.ofBool (decide (g j ≤ f j))

theorem Ge.bcast {C : s.Idx → BitVec 1} {f g : s.Idx → ℝ} (hC : Ge C f g) {dims : Fin s.rank → Fin t.rank}
    {h : s.BroadcastsInDim t dims} :
    Ge (broadcastInDim t dims h C) (broadcastInDim t dims h f) (broadcastInDim t dims h g) := fun _ => hC _

theorem Ge.congr {C : s.Idx → BitVec 1} {f g f' g' : s.Idx → ℝ} (hC : Ge C f g) (e : ∀ j, f j = f' j)
    (e' : ∀ j, g j = g' j) : Ge C f' g' := by
  rw [← show f = f' from funext e, ← show g = g' from funext e']; exact hC

theorem Ge.cmp {X Y : FVec Ideal s φ} {f g : s.Idx → ℝ} (hX : Re X f) (hY : Re Y g) : Ge (cmpf .oge X Y) f g := fun j => by
  show Ideal.cmp .oge (X j) (Y j) = _
  rw [hX j, hY j]
  simp [Ideal.cmp]

theorem Re.select {C : s.Idx → BitVec 1} {f g a b : s.Idx → ℝ} (hC : Ge C f g) {A B : s.Idx → EReal} (hA : Re A a)
    (hB : Re B b) : Re (Idealize.ShloMosaic.select C A B) (fun j => if g j ≤ f j then a j else b j) := fun j => by
  show Scalar.select (C j) (A j) (B j) = _
  rw [hC j, hA j, hB j]
  unfold Scalar.select
  by_cases h : g j ≤ f j <;> simp [h]

theorem Re.iota (κ : Kind) (d : Fin s.rank) (h : s.Iotas κ 32 [d]) (hs : s.size d ≤ 2 ^ 31) :
    Re (sitofp (F := Ideal) .f32 (Idealize.ShloMosaic.iota κ s 32 [d] h)) (fun j => ((j d).val : ℝ)) := fun j => by
  show (((Idealize.ShloMosaic.iota κ s 32 [d] h j).toInt : ℝ) : EReal) = _
  rw [iota_single_apply, WordArith.toInt_ofNat_small _ (lt_of_lt_of_le (j d).isLt hs)]
  simp

theorem Re.iotaInDim (d : Fin s.rank) (hs : s.size d ≤ 2 ^ 31) :
    Re (sitofp (F := Ideal) .f32 (Idealize.ShloMosaic.iotaInDim s 32 d)) (fun j => ((j d).val : ℝ)) := fun j => by
  show (((BitVec.ofNat 32 (j d).val).toInt : ℝ) : EReal) = _
  rw [WordArith.toInt_ofNat_small _ (lt_of_lt_of_le (j d).isLt hs)]
  simp

end

end Cert.Own
-- ==== Proof.PayVals.lean ====
/- The values the kernel's body computes, on arrays of real numbers: one statement per value, its operands' real functions in, its own out. -/
module

public import proofs.«01_k».proof.Proof.Gen.KernelIdeal.Skeleton
public import proofs.«01_k».proof.Proof.Emb

@[expose] public section

set_option maxRecDepth 4000

noncomputable section

namespace Cert.KernelIdeal.Own

open Cert.KernelIdeal Cert.KernelIdeal.Gen Cert.Own Idealize.ShloMosaic Idealize.ShloMosaic.TcCoe

theorem re_sadd {a b : EReal} {x y : ℝ} (h : a = ((x : ℝ) : EReal)) (h' : b = ((y : ℝ) : EReal)) :
    Scalar.addf (F := Ideal) (φ := .f32) a b = ((x + y : ℝ) : EReal) := by
  show a + b = _
  rw [h, h', EReal.coe_add]

theorem re_smul {a b : EReal} {x y : ℝ} (h : a = ((x : ℝ) : EReal)) (h' : b = ((y : ℝ) : EReal)) :
    Scalar.mulf (F := Ideal) (φ := .f32) a b = ((x * y : ℝ) : EReal) := by
  show a * b = _
  rw [h, h', EReal.coe_mul]

abbrev md0 := dot_S512x256_S512x512_S256x512_0_0_1_1_n_n
theorem mdot0 {φ₁ φ₂ : FTy} {X : FVec Ideal S512x256 φ₁} {Y : FVec Ideal S512x512 φ₂} {f : ℕ → ℕ → ℝ} {g : ℕ → ℕ → ℝ}
    (hX : Re X (E2 f)) (hY : Re Y (E2 g)) :
    Re (matmul (F := Ideal) dot_S512x256_S512x512_S256x512_0_0_1_1_n_n none X Y (constant S256x512 .f32 0x00000000#32))
      (E2 fun i0 i1 => ∑ k ∈ Finset.range 512, f k i0 * g k i1) :=
  Re.matmul md0 512 rfl rfl hX hY (fun j k => f k (j 0).val) (fun j k => g k (j 1).val)
    (fun _ _ => rfl)
    (fun _ _ => rfl) none

theorem cast_256x512_256x512 {X : S256x512.Idx → EReal} {f : ℕ → ℕ → ℝ} (hX : Re X (E2 f))
    (h : Shape.ShapeCasts S256x512 S256x512) :
    Re (shapeCast S256x512 X h) (E2 fun i0 i1 => f i0 i1) :=
  Re.resh hX h fun i j e => by
    rw [Shape.rowMajor_val_two, Shape.rowMajor_val_two] at e
    have a0 : (i 0).val < 256 := (i 0).isLt
    have a1 : (i 1).val < 512 := (i 1).isLt
    have b0 : (j 0).val < 256 := (j 0).isLt
    have b1 : (j 1).val < 512 := (j 1).isLt
    have e : ((i 0).val * 512 + (i 1).val) = ((j 0).val * 512 + (j 1).val) := e
    have c0 : (i 0).val = (j 0).val := by omega
    have c1 : (i 1).val = (j 1).val := by omega
    show f (i 0).val (i 1).val = f (j 0).val (j 1).val
    rw [c0, c1]

theorem cast_1x1x8x128_1x1x8x128 {X : S1x1x8x128.Idx → EReal} {f : ℕ → ℕ → ℕ → ℕ → ℝ} (hX : Re X (E4 f))
    (h : Shape.ShapeCasts S1x1x8x128 S1x1x8x128) :
    Re (shapeCast S1x1x8x128 X h) (E4 fun i0 i1 i2 i3 => f 0 0 i2 i3) :=
  Re.resh hX h fun i j e => by
    rw [Shape.rowMajor_val_four, Shape.rowMajor_val_four] at e
    have a0 : (i 0).val < 1 := (i 0).isLt
    have a1 : (i 1).val < 1 := (i 1).isLt
    have a2 : (i 2).val < 8 := (i 2).isLt
    have a3 : (i 3).val < 128 := (i 3).isLt
    have b0 : (j 0).val < 1 := (j 0).isLt
    have b1 : (j 1).val < 1 := (j 1).isLt
    have b2 : (j 2).val < 8 := (j 2).isLt
    have b3 : (j 3).val < 128 := (j 3).isLt
    have e : ((((i 0).val * 1 + (i 1).val) * 8 + (i 2).val) * 128 + (i 3).val) = ((((j 0).val * 1 + (j 1).val) * 8 + (j 2).val) * 128 + (j 3).val) := e
    have c0 : (i 0).val = 0 := by omega
    have c1 : (i 1).val = 0 := by omega
    have c2 : (i 2).val = (j 2).val := by omega
    have c3 : (i 3).val = (j 3).val := by omega
    show f (i 0).val (i 1).val (i 2).val (i 3).val = f 0 0 (j 2).val (j 3).val
    rw [c0, c1, c2, c3]

abbrev md1 := dot_S256x512_S256x512_S256x256_1_1_0_0_n_n
theorem mdot1 {φ₁ φ₂ : FTy} {X : FVec Ideal S256x512 φ₁} {Y : FVec Ideal S256x512 φ₂} {f : ℕ → ℕ → ℝ} {g : ℕ → ℕ → ℝ}
    (hX : Re X (E2 f)) (hY : Re Y (E2 g)) :
    Re (matmul (F := Ideal) dot_S256x512_S256x512_S256x256_1_1_0_0_n_n none X Y (constant S256x256 .f32 0x00000000#32))
      (E2 fun i0 i1 => ∑ k ∈ Finset.range 512, f i0 k * g i1 k) :=
  Re.matmul md1 512 rfl rfl hX hY (fun j k => f (j 0).val k) (fun j k => g (j 1).val k)
    (fun _ _ => rfl)
    (fun _ _ => rfl) none

abbrev md2 := dot_S256x256_S256x512_S256x512_1_0_0_1_n_n
theorem mdot2 {φ₁ φ₂ : FTy} {X : FVec Ideal S256x256 φ₁} {Y : FVec Ideal S256x512 φ₂} {f : ℕ → ℕ → ℝ} {g : ℕ → ℕ → ℝ}
    (hX : Re X (E2 f)) (hY : Re Y (E2 g)) :
    Re (matmul (F := Ideal) dot_S256x256_S256x512_S256x512_1_0_0_1_n_n none X Y (constant S256x512 .f32 0x00000000#32))
      (E2 fun i0 i1 => ∑ k ∈ Finset.range 256, f i0 k * g k i1) :=
  Re.matmul md2 256 rfl rfl hX hY (fun j k => f (j 0).val k) (fun j k => g k (j 1).val)
    (fun _ _ => rfl)
    (fun _ _ => rfl) none

theorem msum_256x256_1 {X : FVec Ideal S256x256 .f32} {f : ℕ → ℕ → ℝ} (hX : Re X (E2 f)) (h : Shape.Reduces S256x256 [1] S256)
    (hφ : FKind.Formats .f32) (hacc : 0x00000000#32 = FKind.add.neutral .f32 hφ) :
    Re (multiReduction .add [1] S256 X 0x00000000#32 h hφ hacc) (E1 fun i0 => ∑ k ∈ Finset.range 256, f i0 k) :=
  Re.sum1 hX h (fun j k => f (j 0).val k) (fun _ _ => rfl) hφ hacc

theorem cast_256_256x1 {X : S256.Idx → EReal} {f : ℕ → ℝ} (hX : Re X (E1 f))
    (h : Shape.ShapeCasts S256 S256x1) :
    Re (shapeCast S256x1 X h) (E2 fun i0 i1 => f i0) :=
  Re.resh hX h fun i j e => by
    rw [Shape.rowMajor_val_one, Shape.rowMajor_val_two] at e
    have a0 : (i 0).val < 256 := (i 0).isLt
    have b0 : (j 0).val < 256 := (j 0).isLt
    have b1 : (j 1).val < 1 := (j 1).isLt
    have e : (i 0).val = ((j 0).val * 1 + (j 1).val) := e
    have c0 : (i 0).val = (j 0).val := by omega
    show f (i 0).val = f (j 0).val
    rw [c0]

theorem cast_256x1_1x256x1 {X : S256x1.Idx → EReal} {f : ℕ → ℕ → ℝ} (hX : Re X (E2 f))
    (h : Shape.ShapeCasts S256x1 S1x256x1) :
    Re (shapeCast S1x256x1 X h) (E3 fun i0 i1 i2 => f i1 0) :=
  Re.resh hX h fun i j e => by
    rw [Shape.rowMajor_val_two, Shape.rowMajor_val_three] at e
    have a0 : (i 0).val < 256 := (i 0).isLt
    have a1 : (i 1).val < 1 := (i 1).isLt
    have b0 : (j 0).val < 1 := (j 0).isLt
    have b1 : (j 1).val < 256 := (j 1).isLt
    have b2 : (j 2).val < 1 := (j 2).isLt
    have e : ((i 0).val * 1 + (i 1).val) = (((j 0).val * 256 + (j 1).val) * 1 + (j 2).val) := e
    have c0 : (i 0).val = (j 1).val := by omega
    have c1 : (i 1).val = 0 := by omega
    show f (i 0).val (i 1).val = f (j 1).val 0
    rw [c0, c1]

theorem cast_1_1x1x1 {X : S1.Idx → EReal} {f : ℕ → ℝ} (hX : Re X (E1 f))
    (h : Shape.ShapeCasts S1 S1x1x1) :
    Re (shapeCast S1x1x1 X h) (E3 fun i0 i1 i2 => f 0) :=
  Re.resh hX h fun i j e => by
    rw [Shape.rowMajor_val_one, Shape.rowMajor_val_three] at e
    have a0 : (i 0).val < 1 := (i 0).isLt
    have b0 : (j 0).val < 1 := (j 0).isLt
    have b1 : (j 1).val < 1 := (j 1).isLt
    have b2 : (j 2).val < 1 := (j 2).isLt
    have e : (i 0).val = (((j 0).val * 1 + (j 1).val) * 1 + (j 2).val) := e
    have c0 : (i 0).val = 0 := by omega
    show f (i 0).val = f 0
    rw [c0]

theorem cast_1x1x1x256x512_256x512 {X : S1x1x1x256x512.Idx → EReal} {f : ℕ → ℕ → ℕ → ℕ → ℕ → ℝ} (hX : Re X (E5 f))
    (h : Shape.ShapeCasts S1x1x1x256x512 S256x512) :
    Re (shapeCast S256x512 X h) (E2 fun i0 i1 => f 0 0 0 i0 i1) :=
  Re.resh hX h fun i j e => by
    rw [Shape.rowMajor_val_five, Shape.rowMajor_val_two] at e
    have a0 : (i 0).val < 1 := (i 0).isLt
    have a1 : (i 1).val < 1 := (i 1).isLt
    have a2 : (i 2).val < 1 := (i 2).isLt
    have a3 : (i 3).val < 256 := (i 3).isLt
    have a4 : (i 4).val < 512 := (i 4).isLt
    have b0 : (j 0).val < 256 := (j 0).isLt
    have b1 : (j 1).val < 512 := (j 1).isLt
    have e : (((((i 0).val * 1 + (i 1).val) * 1 + (i 2).val) * 256 + (i 3).val) * 512 + (i 4).val) = ((j 0).val * 512 + (j 1).val) := e
    have c0 : (i 0).val = 0 := by omega
    have c1 : (i 1).val = 0 := by omega
    have c2 : (i 2).val = 0 := by omega
    have c3 : (i 3).val = (j 0).val := by omega
    have c4 : (i 4).val = (j 1).val := by omega
    show f (i 0).val (i 1).val (i 2).val (i 3).val (i 4).val = f 0 0 0 (j 0).val (j 1).val
    rw [c0, c1, c2, c3, c4]

abbrev md3 := dot_S512x256_S512x256_S512x512_1_1_0_0_n_n
theorem mdot3 {φ₁ φ₂ : FTy} {X : FVec Ideal S512x256 φ₁} {Y : FVec Ideal S512x256 φ₂} {f : ℕ → ℕ → ℝ} {g : ℕ → ℕ → ℝ}
    (hX : Re X (E2 f)) (hY : Re Y (E2 g)) :
    Re (matmul (F := Ideal) dot_S512x256_S512x256_S512x512_1_1_0_0_n_n none X Y (constant S512x512 .f32 0x00000000#32))
      (E2 fun i0 i1 => ∑ k ∈ Finset.range 256, f i0 k * g i1 k) :=
  Re.matmul md3 256 rfl rfl hX hY (fun j k => f (j 0).val k) (fun j k => g (j 1).val k)
    (fun _ _ => rfl)
    (fun _ _ => rfl) none

abbrev md4 := dot_S512x512_S512x512_S512x512_1_1_0_0_n_n
theorem mdot4 {φ₁ φ₂ : FTy} {X : FVec Ideal S512x512 φ₁} {Y : FVec Ideal S512x512 φ₂} {f : ℕ → ℕ → ℝ} {g : ℕ → ℕ → ℝ}
    (hX : Re X (E2 f)) (hY : Re Y (E2 g)) :
    Re (matmul (F := Ideal) dot_S512x512_S512x512_S512x512_1_1_0_0_n_n none X Y (constant S512x512 .f32 0x00000000#32))
      (E2 fun i0 i1 => ∑ k ∈ Finset.range 512, f i0 k * g i1 k) :=
  Re.matmul md4 512 rfl rfl hX hY (fun j k => f (j 0).val k) (fun j k => g (j 1).val k)
    (fun _ _ => rfl)
    (fun _ _ => rfl) none

abbrev md5 := dot_S512x512_S256x512_S512x256_1_1_0_0_n_n
theorem mdot5 {φ₁ φ₂ : FTy} {X : FVec Ideal S512x512 φ₁} {Y : FVec Ideal S256x512 φ₂} {f : ℕ → ℕ → ℝ} {g : ℕ → ℕ → ℝ}
    (hX : Re X (E2 f)) (hY : Re Y (E2 g)) :
    Re (matmul (F := Ideal) dot_S512x512_S256x512_S512x256_1_1_0_0_n_n none X Y (constant S512x256 .f32 0x00000000#32))
      (E2 fun i0 i1 => ∑ k ∈ Finset.range 512, f i0 k * g i1 k) :=
  Re.matmul md5 512 rfl rfl hX hY (fun j k => f (j 0).val k) (fun j k => g (j 1).val k)
    (fun _ _ => rfl)
    (fun _ _ => rfl) none

abbrev md6 := dot_S512x512_S512x256_S512x256_1_0_0_1_n_n
theorem mdot6 {φ₁ φ₂ : FTy} {X : FVec Ideal S512x512 φ₁} {Y : FVec Ideal S512x256 φ₂} {f : ℕ → ℕ → ℝ} {g : ℕ → ℕ → ℝ}
    (hX : Re X (E2 f)) (hY : Re Y (E2 g)) :
    Re (matmul (F := Ideal) dot_S512x512_S512x256_S512x256_1_0_0_1_n_n none X Y (constant S512x256 .f32 0x00000000#32))
      (E2 fun i0 i1 => ∑ k ∈ Finset.range 512, f i0 k * g k i1) :=
  Re.matmul md6 512 rfl rfl hX hY (fun j k => f (j 0).val k) (fun j k => g k (j 1).val)
    (fun _ _ => rfl)
    (fun _ _ => rfl) none

abbrev md7 := dot_S512x512_S512x256_S512x256_0_0_1_1_n_n
theorem mdot7 {φ₁ φ₂ : FTy} {X : FVec Ideal S512x512 φ₁} {Y : FVec Ideal S512x256 φ₂} {f : ℕ → ℕ → ℝ} {g : ℕ → ℕ → ℝ}
    (hX : Re X (E2 f)) (hY : Re Y (E2 g)) :
    Re (matmul (F := Ideal) dot_S512x512_S512x256_S512x256_0_0_1_1_n_n none X Y (constant S512x256 .f32 0x00000000#32))
      (E2 fun i0 i1 => ∑ k ∈ Finset.range 512, f k i0 * g k i1) :=
  Re.matmul md7 512 rfl rfl hX hY (fun j k => f k (j 0).val) (fun j k => g k (j 1).val)
    (fun _ _ => rfl)
    (fun _ _ => rfl) none

abbrev md8 := dot_S512x512_S512x512_S512x512_0_0_1_1_n_n
theorem mdot8 {φ₁ φ₂ : FTy} {X : FVec Ideal S512x512 φ₁} {Y : FVec Ideal S512x512 φ₂} {f : ℕ → ℕ → ℝ} {g : ℕ → ℕ → ℝ}
    (hX : Re X (E2 f)) (hY : Re Y (E2 g)) :
    Re (matmul (F := Ideal) dot_S512x512_S512x512_S512x512_0_0_1_1_n_n none X Y (constant S512x512 .f32 0x00000000#32))
      (E2 fun i0 i1 => ∑ k ∈ Finset.range 512, f k i0 * g k i1) :=
  Re.matmul md8 512 rfl rfl hX hY (fun j k => f k (j 0).val) (fun j k => g k (j 1).val)
    (fun _ _ => rfl)
    (fun _ _ => rfl) none

abbrev md9 := dot_S512x256_S256x512_S512x512_1_0_0_1_n_n
theorem mdot9 {φ₁ φ₂ : FTy} {X : FVec Ideal S512x256 φ₁} {Y : FVec Ideal S256x512 φ₂} {f : ℕ → ℕ → ℝ} {g : ℕ → ℕ → ℝ}
    (hX : Re X (E2 f)) (hY : Re Y (E2 g)) :
    Re (matmul (F := Ideal) dot_S512x256_S256x512_S512x512_1_0_0_1_n_n none X Y (constant S512x512 .f32 0x00000000#32))
      (E2 fun i0 i1 => ∑ k ∈ Finset.range 256, f i0 k * g k i1) :=
  Re.matmul md9 256 rfl rfl hX hY (fun j k => f (j 0).val k) (fun j k => g k (j 1).val)
    (fun _ _ => rfl)
    (fun _ _ => rfl) none

theorem cast_512x512_1x512x512 {X : S512x512.Idx → EReal} {f : ℕ → ℕ → ℝ} (hX : Re X (E2 f))
    (h : Shape.ShapeCasts S512x512 S1x512x512) :
    Re (shapeCast S1x512x512 X h) (E3 fun i0 i1 i2 => f i1 i2) :=
  Re.resh hX h fun i j e => by
    rw [Shape.rowMajor_val_two, Shape.rowMajor_val_three] at e
    have a0 : (i 0).val < 512 := (i 0).isLt
    have a1 : (i 1).val < 512 := (i 1).isLt
    have b0 : (j 0).val < 1 := (j 0).isLt
    have b1 : (j 1).val < 512 := (j 1).isLt
    have b2 : (j 2).val < 512 := (j 2).isLt
    have e : ((i 0).val * 512 + (i 1).val) = (((j 0).val * 512 + (j 1).val) * 512 + (j 2).val) := e
    have c0 : (i 0).val = (j 1).val := by omega
    have c1 : (i 1).val = (j 2).val := by omega
    show f (i 0).val (i 1).val = f (j 1).val (j 2).val
    rw [c0, c1]

theorem msum_512x512_1 {X : FVec Ideal S512x512 .f32} {f : ℕ → ℕ → ℝ} (hX : Re X (E2 f)) (h : Shape.Reduces S512x512 [1] S512)
    (hφ : FKind.Formats .f32) (hacc : 0x00000000#32 = FKind.add.neutral .f32 hφ) :
    Re (multiReduction .add [1] S512 X 0x00000000#32 h hφ hacc) (E1 fun i0 => ∑ k ∈ Finset.range 512, f i0 k) :=
  Re.sum1 hX h (fun j k => f (j 0).val k) (fun _ _ => rfl) hφ hacc

theorem cast_512_512x1 {X : S512.Idx → EReal} {f : ℕ → ℝ} (hX : Re X (E1 f))
    (h : Shape.ShapeCasts S512 S512x1) :
    Re (shapeCast S512x1 X h) (E2 fun i0 i1 => f i0) :=
  Re.resh hX h fun i j e => by
    rw [Shape.rowMajor_val_one, Shape.rowMajor_val_two] at e
    have a0 : (i 0).val < 512 := (i 0).isLt
    have b0 : (j 0).val < 512 := (j 0).isLt
    have b1 : (j 1).val < 1 := (j 1).isLt
    have e : (i 0).val = ((j 0).val * 1 + (j 1).val) := e
    have c0 : (i 0).val = (j 0).val := by omega
    show f (i 0).val = f (j 0).val
    rw [c0]

theorem cast_512x1_1x512x1 {X : S512x1.Idx → EReal} {f : ℕ → ℕ → ℝ} (hX : Re X (E2 f))
    (h : Shape.ShapeCasts S512x1 S1x512x1) :
    Re (shapeCast S1x512x1 X h) (E3 fun i0 i1 i2 => f i1 0) :=
  Re.resh hX h fun i j e => by
    rw [Shape.rowMajor_val_two, Shape.rowMajor_val_three] at e
    have a0 : (i 0).val < 512 := (i 0).isLt
    have a1 : (i 1).val < 1 := (i 1).isLt
    have b0 : (j 0).val < 1 := (j 0).isLt
    have b1 : (j 1).val < 512 := (j 1).isLt
    have b2 : (j 2).val < 1 := (j 2).isLt
    have e : ((i 0).val * 1 + (i 1).val) = (((j 0).val * 512 + (j 1).val) * 1 + (j 2).val) := e
    have c0 : (i 0).val = (j 1).val := by omega
    have c1 : (i 1).val = 0 := by omega
    show f (i 0).val (i 1).val = f (j 1).val 0
    rw [c0, c1]

theorem msum_512x256_1 {X : FVec Ideal S512x256 .f32} {f : ℕ → ℕ → ℝ} (hX : Re X (E2 f)) (h : Shape.Reduces S512x256 [1] S512)
    (hφ : FKind.Formats .f32) (hacc : 0x00000000#32 = FKind.add.neutral .f32 hφ) :
    Re (multiReduction .add [1] S512 X 0x00000000#32 h hφ hacc) (E1 fun i0 => ∑ k ∈ Finset.range 256, f i0 k) :=
  Re.sum1 hX h (fun j k => f (j 0).val k) (fun _ _ => rfl) hφ hacc

theorem cast_256x512_1x256x512 {X : S256x512.Idx → EReal} {f : ℕ → ℕ → ℝ} (hX : Re X (E2 f))
    (h : Shape.ShapeCasts S256x512 S1x256x512) :
    Re (shapeCast S1x256x512 X h) (E3 fun i0 i1 i2 => f i1 i2) :=
  Re.resh hX h fun i j e => by
    rw [Shape.rowMajor_val_two, Shape.rowMajor_val_three] at e
    have a0 : (i 0).val < 256 := (i 0).isLt
    have a1 : (i 1).val < 512 := (i 1).isLt
    have b0 : (j 0).val < 1 := (j 0).isLt
    have b1 : (j 1).val < 256 := (j 1).isLt
    have b2 : (j 2).val < 512 := (j 2).isLt
    have e : ((i 0).val * 512 + (i 1).val) = (((j 0).val * 256 + (j 1).val) * 512 + (j 2).val) := e
    have c0 : (i 0).val = (j 1).val := by omega
    have c1 : (i 1).val = (j 2).val := by omega
    show f (i 0).val (i 1).val = f (j 1).val (j 2).val
    rw [c0, c1]

variable {v15 v22 v47 v50 v53 v76 v142 v149 v172 v175 v178 : FVec Ideal S512x512 .f32}
variable {f15 f22 f24 f26 f30 f33 f36 f37 f38 f39 f40 f42 f43 f47 f50 f53 f58 f76 f77 f121 f124 f125 f139 f142 f149 f151 f155 f158 f161 f162 f163 f164 f165 f167 f168 f172 f175 f178 f180 f183 f199 f200 f246 f247 f269 f270 f302 f303 : ℕ → ℕ → ℝ}
variable {v42 v121 v124 v125 v167 v246 : FVec Ideal S256x512 .f32}
variable {v77 v247 : FVec Ideal S512x256 .bf16}
variable {v1 v3 v119 v244 : EReal}
variable {c1 c3 c119 c244 : ℝ}
variable {v129 v254 v283 v316 : Vec Ideal S1x1x8x128 .f32}
variable {f129 f254 f283 f316 : ℕ → ℕ → ℕ → ℕ → ℝ}
variable {v43 v168 v270 v303 : Vec Ideal S256x512 .f32}
variable {v269 v302 : Vec Ideal S256x256 .f32}
variable {v41 v166 : Vec Ideal S1x1x1x256x512 .f32}
variable {f41 f166 : ℕ → ℕ → ℕ → ℕ → ℕ → ℝ}
variable {v37 v38 v162 v163 : Vec Ideal S512x256 .f32}
variable {v39 v40 v164 v165 : Vec Ideal S512x512 .f32}
variable {v24 v26 v33 v36 v139 v151 v158 v161 : FVec Ideal S512x1 .f32}
variable {v30 v155 : FVec Ideal S1x1 .f32}
variable {v58 v180 v183 : FVec Ideal S512x256 .f32}
variable {v199 v200 : FVec Ideal S512x512 .bf16}

theorem re_pay1 (h178 : Re v178 (E2 f178)) (h246 : Re v246 (E2 f246)) (h247 : Re v247 (E2 f247)) :
    Re (k0_pay1 (F := Ideal) v178 v246 v247)
      (E2 fun i0 i1 => ((f246 i0 i1) + (∑ k1 ∈ Finset.range 512, (f247 k1 i0) * (f178 k1 i1)))) :=
  Re.congr (Re.add h246 (mdot0 h247 (Re.trunc h178 bitsLt_bf16_f32))) fun _ => rfl

theorem re_pay2 (h178 : Re v178 (E2 f178)) (h246 : Re v246 (E2 f246)) (h247 : Re v247 (E2 f247)) :
    Re (k0_pay2 (F := Ideal) v178 v246 v247)
      (E2 fun i0 i1 => ((f246 i0 i1) + (∑ k3 ∈ Finset.range 512, (f247 k3 i0) * (f178 k3 i1)))) :=
  Re.congr (cast_256x512_256x512 (f := (fun i0 i1 => ((f246 i0 i1) + (∑ k2 ∈ Finset.range 512, (f247 k2 i0) * (f178 k2 i1))))) (re_pay1 h178 h246 h247) _) fun _ => rfl

theorem re_pay3 (h244 : v244 = ((c244 : ℝ) : EReal)) (h254 : Re v254 (E4 f254)) :
    Re (k0_pay3 (F := Ideal) v244 v254)
      (E4 fun i0 i1 i2 i3 => ((f254 0 0 i2 i3) + c244)) :=
  Re.congr (Re.add (cast_1x1x8x128_1x1x8x128 h254 _) (Re.splat h244)) fun _ => rfl

theorem re_pay4 :
    Re (k0_pay4 (F := Ideal) (iota .tc S256x1 32 [0] iota_S256x1_d0_w32))
      (E2 fun i0 i1 => ((i0 : ℕ) : ℝ)) :=
  Re.congr (Re.iota .tc (s := S256x1) 0 iota_S256x1_d0_w32 (by decide)) fun _ => rfl

theorem re_pay5 (h3 : v3 = ((c3 : ℝ) : EReal)) :
    Re (k0_pay5 (F := Ideal) v3 (iota .tc S256x1 32 [0] iota_S256x1_d0_w32))
      (E2 fun i0 i1 => (Real.exp (c3 * ((i0 : ℕ) : ℝ)))) :=
  Re.congr (Re.exp (Re.mul (Re.splat h3) (re_pay4 ))) fun _ => rfl

theorem re_pay6 (h178 : Re v178 (E2 f178)) (h246 : Re v246 (E2 f246)) (h247 : Re v247 (E2 f247)) (h303 : Re v303 (E2 f303)) :
    Re (k0_pay6 (F := Ideal) v178 v246 v247 v303)
      (E2 fun i0 i1 => (∑ k5 ∈ Finset.range 512, (f303 i0 k5) * ((f246 i1 k5) + (∑ k6 ∈ Finset.range 512, (f247 k6 i1) * (f178 k6 k5))))) :=
  Re.congr (mdot1 (g := (fun i0 i1 => ((f246 i0 i1) + (∑ k4 ∈ Finset.range 512, (f247 k4 i0) * (f178 k4 i1))))) (Re.trunc h303 bitsLt_bf16_f32) (Re.trunc (re_pay1 h178 h246 h247) bitsLt_bf16_f32)) fun _ => rfl

theorem re_pay7 (h3 : v3 = ((c3 : ℝ) : EReal)) (h178 : Re v178 (E2 f178)) (h246 : Re v246 (E2 f246)) (h247 : Re v247 (E2 f247)) (h303 : Re v303 (E2 f303)) :
    Re (k0_pay7 (F := Ideal) v3 v178 v246 v247 (iota .tc S256x1 32 [0] iota_S256x1_d0_w32) v303)
      (E2 fun i0 i1 => ((∑ k8 ∈ Finset.range 512, (f303 i0 k8) * ((f246 i1 k8) + (∑ k9 ∈ Finset.range 512, (f247 k9 i1) * (f178 k9 k8)))) * (Real.exp (c3 * ((i0 : ℕ) : ℝ))))) :=
  Re.congr (Re.mul (re_pay6 h178 h246 h247 h303) (Re.bto (re_pay5 h3))) fun _ => rfl

theorem re_pay8 (h3 : v3 = ((c3 : ℝ) : EReal)) (h178 : Re v178 (E2 f178)) (h246 : Re v246 (E2 f246)) (h247 : Re v247 (E2 f247)) (h302 : Re v302 (E2 f302)) :
    Re (k0_pay8 (F := Ideal) v3 v178 v246 v247 (iota .tc S256x1 32 [0] iota_S256x1_d0_w32) v302)
      (E2 fun i0 i1 => (∑ k11 ∈ Finset.range 256, ((f302 i0 k11) * (Real.exp (c3 * ((i0 : ℕ) : ℝ)))) * ((f246 k11 i1) + (∑ k12 ∈ Finset.range 512, (f247 k12 k11) * (f178 k12 i1))))) :=
  Re.congr (mdot2 (f := (fun i0 i1 => ((f302 i0 i1) * (Real.exp (c3 * ((i0 : ℕ) : ℝ)))))) (g := (fun i0 i1 => ((f246 i0 i1) + (∑ k10 ∈ Finset.range 512, (f247 k10 i0) * (f178 k10 i1))))) (Re.trunc (Re.mul h302 (Re.bto (re_pay5 h3))) bitsLt_bf16_f32) (Re.trunc (re_pay1 h178 h246 h247) bitsLt_bf16_f32)) fun _ => rfl

theorem re_pay9 (h3 : v3 = ((c3 : ℝ) : EReal)) (h178 : Re v178 (E2 f178)) (h246 : Re v246 (E2 f246)) (h247 : Re v247 (E2 f247)) (h302 : Re v302 (E2 f302)) (h303 : Re v303 (E2 f303)) (h316 : Re v316 (E4 f316)) :
    Re (k0_pay9 (F := Ideal) v3 v178 v246 v247 (iota .tc S256x1 32 [0] iota_S256x1_d0_w32) v302 v303 v316)
      (E4 fun i0 i1 i2 i3 => ((f316 0 0 i2 i3) + (∑ k30 ∈ Finset.range 256, ∑ k31 ∈ Finset.range 1, ((((k30 : ℕ) : ℝ) * (Real.exp (c3 * ((k30 : ℕ) : ℝ)))) * (∑ k32 ∈ Finset.range 256, ((f302 k30 k32) * (∑ k33 ∈ Finset.range 512, (f303 k30 k33) * ((f246 k32 k33) + (∑ k34 ∈ Finset.range 512, (f247 k34 k32) * (f178 k34 k33)))))))))) :=
  Re.congr (Re.add (cast_1x1x8x128_1x1x8x128 h316 _) (Re.splat ((cast_1_1x1x1 (f := (fun i0 => (∑ k25 ∈ Finset.range 256, ∑ k26 ∈ Finset.range 1, ((((k25 : ℕ) : ℝ) * (Real.exp (c3 * ((k25 : ℕ) : ℝ)))) * (∑ k27 ∈ Finset.range 256, ((f302 k25 k27) * (∑ k28 ∈ Finset.range 512, (f303 k25 k28) * ((f246 k27 k28) + (∑ k29 ∈ Finset.range 512, (f247 k29 k27) * (f178 k29 k28)))))))))) (Re.sumAll (f := (fun i0 i1 i2 => ((((i1 : ℕ) : ℝ) * (Real.exp (c3 * ((i1 : ℕ) : ℝ)))) * (∑ k22 ∈ Finset.range 256, ((f302 i1 k22) * (∑ k23 ∈ Finset.range 512, (f303 i1 k23) * ((f246 k22 k23) + (∑ k24 ∈ Finset.range 512, (f247 k24 k22) * (f178 k24 k23))))))))) (cast_256x1_1x256x1 (f := (fun i0 i1 => ((((i0 : ℕ) : ℝ) * (Real.exp (c3 * ((i0 : ℕ) : ℝ)))) * (∑ k19 ∈ Finset.range 256, ((f302 i0 k19) * (∑ k20 ∈ Finset.range 512, (f303 i0 k20) * ((f246 k19 k20) + (∑ k21 ∈ Finset.range 512, (f247 k21 k19) * (f178 k21 k20))))))))) (Re.mul (Re.mul (re_pay4 ) (re_pay5 h3)) (cast_256_256x1 (f := (fun i0 => (∑ k16 ∈ Finset.range 256, ((f302 i0 k16) * (∑ k17 ∈ Finset.range 512, (f303 i0 k17) * ((f246 k16 k17) + (∑ k18 ∈ Finset.range 512, (f247 k18 k16) * (f178 k18 k17)))))))) (msum_256x256_1 (f := (fun i0 i1 => ((f302 i0 i1) * (∑ k14 ∈ Finset.range 512, (f303 i0 k14) * ((f246 i1 k14) + (∑ k15 ∈ Finset.range 512, (f247 k15 i1) * (f178 k15 k14))))))) (Re.mul h302 (re_pay6 h178 h246 h247 h303)) _ _ _) _)) _) _ (by decide) _ _) _) _))) fun _ => rfl

theorem re_pay10 :
    Re (k0_pay10 (F := Ideal))
      (E2 fun i0 i1 => ((255 : ℝ) - ((i0 : ℕ) : ℝ))) :=
  Re.congr (Re.sub (Re.splat lit255) (Re.iota .tc (s := S256x1) 0 iota_S256x1_d0_w32 (by decide))) fun _ => rfl

theorem re_pay11 (h1 : v1 = ((c1 : ℝ) : EReal)) :
    Re (k0_pay11 (F := Ideal) v1)
      (E2 fun i0 i1 => (Real.exp (c1 * ((255 : ℝ) - ((i0 : ℕ) : ℝ))))) :=
  Re.congr (Re.exp (Re.mul (Re.splat h1) (re_pay10 ))) fun _ => rfl

theorem re_pay12 (h125 : Re v125 (E2 f125)) (h270 : Re v270 (E2 f270)) :
    Re (k0_pay12 (F := Ideal) v125 v270)
      (E2 fun i0 i1 => (∑ k35 ∈ Finset.range 512, (f270 i0 k35) * (f125 i1 k35))) :=
  Re.congr (mdot1 (Re.trunc h270 bitsLt_bf16_f32) (Re.trunc h125 bitsLt_bf16_f32)) fun _ => rfl

theorem re_pay13 (h1 : v1 = ((c1 : ℝ) : EReal)) (h125 : Re v125 (E2 f125)) (h270 : Re v270 (E2 f270)) :
    Re (k0_pay13 (F := Ideal) v1 v125 v270)
      (E2 fun i0 i1 => ((∑ k36 ∈ Finset.range 512, (f270 i0 k36) * (f125 i1 k36)) * (Real.exp (c1 * ((255 : ℝ) - ((i0 : ℕ) : ℝ)))))) :=
  Re.congr (Re.mul (re_pay12 h125 h270) (Re.bto (re_pay11 h1))) fun _ => rfl

theorem re_pay14 (h1 : v1 = ((c1 : ℝ) : EReal)) (h125 : Re v125 (E2 f125)) (h269 : Re v269 (E2 f269)) :
    Re (k0_pay14 (F := Ideal) v1 v125 v269)
      (E2 fun i0 i1 => (∑ k37 ∈ Finset.range 256, ((f269 i0 k37) * (Real.exp (c1 * ((255 : ℝ) - ((i0 : ℕ) : ℝ))))) * (f125 k37 i1))) :=
  Re.congr (mdot2 (f := (fun i0 i1 => ((f269 i0 i1) * (Real.exp (c1 * ((255 : ℝ) - ((i0 : ℕ) : ℝ))))))) (Re.trunc (Re.mul h269 (Re.bto (re_pay11 h1))) bitsLt_bf16_f32) (Re.trunc h125 bitsLt_bf16_f32)) fun _ => rfl

theorem re_pay15 (h1 : v1 = ((c1 : ℝ) : EReal)) (h125 : Re v125 (E2 f125)) (h269 : Re v269 (E2 f269)) (h270 : Re v270 (E2 f270)) (h283 : Re v283 (E4 f283)) :
    Re (k0_pay15 (F := Ideal) v1 v125 v269 v270 v283)
      (E4 fun i0 i1 i2 i3 => ((f283 0 0 i2 i3) + (∑ k49 ∈ Finset.range 256, ∑ k50 ∈ Finset.range 1, ((((255 : ℝ) - ((k49 : ℕ) : ℝ)) * (Real.exp (c1 * ((255 : ℝ) - ((k49 : ℕ) : ℝ))))) * (∑ k51 ∈ Finset.range 256, ((f269 k49 k51) * (∑ k52 ∈ Finset.range 512, (f270 k49 k52) * (f125 k51 k52)))))))) :=
  Re.congr (Re.add (cast_1x1x8x128_1x1x8x128 h283 _) (Re.splat ((cast_1_1x1x1 (f := (fun i0 => (∑ k45 ∈ Finset.range 256, ∑ k46 ∈ Finset.range 1, ((((255 : ℝ) - ((k45 : ℕ) : ℝ)) * (Real.exp (c1 * ((255 : ℝ) - ((k45 : ℕ) : ℝ))))) * (∑ k47 ∈ Finset.range 256, ((f269 k45 k47) * (∑ k48 ∈ Finset.range 512, (f270 k45 k48) * (f125 k47 k48)))))))) (Re.sumAll (f := (fun i0 i1 i2 => ((((255 : ℝ) - ((i1 : ℕ) : ℝ)) * (Real.exp (c1 * ((255 : ℝ) - ((i1 : ℕ) : ℝ))))) * (∑ k43 ∈ Finset.range 256, ((f269 i1 k43) * (∑ k44 ∈ Finset.range 512, (f270 i1 k44) * (f125 k43 k44))))))) (cast_256x1_1x256x1 (f := (fun i0 i1 => ((((255 : ℝ) - ((i0 : ℕ) : ℝ)) * (Real.exp (c1 * ((255 : ℝ) - ((i0 : ℕ) : ℝ))))) * (∑ k41 ∈ Finset.range 256, ((f269 i0 k41) * (∑ k42 ∈ Finset.range 512, (f270 i0 k42) * (f125 k41 k42))))))) (Re.mul (Re.mul (re_pay10 ) (re_pay11 h1)) (cast_256_256x1 (f := (fun i0 => (∑ k39 ∈ Finset.range 256, ((f269 i0 k39) * (∑ k40 ∈ Finset.range 512, (f270 i0 k40) * (f125 k39 k40)))))) (msum_256x256_1 (f := (fun i0 i1 => ((f269 i0 i1) * (∑ k38 ∈ Finset.range 512, (f270 i0 k38) * (f125 i1 k38))))) (Re.mul h269 (re_pay12 h125 h270)) _ _ _) _)) _) _ (by decide) _ _) _) _))) fun _ => rfl

theorem re_pay16 :
    Re (k0_pay16 (F := Ideal))
      (E2 fun i0 i1 => (0 : ℝ)) :=
  Re.congr (cast_256x512_256x512 (f := (fun i0 i1 => (0 : ℝ))) (Re.splat lit0) _) fun _ => rfl

theorem re_pay17 :
    Re (k0_pay17 (F := Ideal))
      (E4 fun i0 i1 i2 i3 => (0 : ℝ)) :=
  Re.congr (Re.splat lit0) fun _ => rfl

theorem re_pay18 :
    Re (k0_pay18 (F := Ideal))
      (E2 fun i0 i1 => (0 : ℝ)) :=
  Re.congr (cast_256x512_256x512 (f := (fun i0 i1 => (0 : ℝ))) (Re.splat lit0) _) fun _ => rfl

theorem re_pay19 :
    Re (k0_pay19 (F := Ideal))
      (E4 fun i0 i1 i2 i3 => (0 : ℝ)) :=
  Re.congr (Re.splat lit0) fun _ => rfl

theorem re_pay20 :
    Re (k0_pay20 (F := Ideal))
      (E2 fun i0 i1 => ((i0 : ℕ) : ℝ)) :=
  Re.congr (Re.iota .tc (s := S512x1) 0 iota_S512x1_d0_w32 (by decide)) fun _ => rfl

theorem re_pay21 :
    Re (k0_pay21 (F := Ideal))
      (E2 fun i0 i1 => (((i0 : ℕ) : ℝ) - ((i1 : ℕ) : ℝ))) :=
  Re.congr (Re.sub (Re.iota .tc (s := S512x512) 0 iota_S512x512_d0_w32 (by decide)) (Re.iota .tc (s := S512x512) 1 iota_S512x512_d1_w32 (by decide))) fun _ => rfl

theorem re_pay22 :
    Re (k0_pay22 (F := Ideal))
      (E2 fun i0 i1 => (Max.max (((i0 : ℕ) : ℝ) - ((i1 : ℕ) : ℝ)) (0 : ℝ))) :=
  Re.congr (Re.max (re_pay21 ) (Re.splat lit0)) fun _ => rfl

theorem re_pay23 (h1 : v1 = ((c1 : ℝ) : EReal)) :
    Re (k0_pay23 (F := Ideal) v1)
      (E2 fun i0 i1 => (if (0 : ℝ) ≤ (((i0 : ℕ) : ℝ) - ((i1 : ℕ) : ℝ)) then (Real.exp (c1 * (Max.max (((i0 : ℕ) : ℝ) - ((i1 : ℕ) : ℝ)) (0 : ℝ)))) else (0 : ℝ))) :=
  Re.congr (Re.select (Ge.cmp (re_pay21 ) (Re.splat lit0)) (Re.exp (Re.mul (Re.splat h1) (re_pay22 ))) (Re.splat lit0)) fun _ => rfl

theorem re_pay24 :
    Re (k0_pay24 (F := Ideal))
      (E2 fun i0 i1 => (((i0 : ℕ) : ℝ) + (1 : ℝ))) :=
  Re.congr (Re.add (re_pay20 ) (Re.splat lit1)) fun _ => rfl

theorem re_pay25 :
    Re (k0_pay25 (F := Ideal))
      (E2 fun i0 i1 => ((511 : ℝ) - ((i0 : ℕ) : ℝ))) :=
  Re.congr (Re.sub (Re.splat lit511) (re_pay20 )) fun _ => rfl

theorem re_pay26 (h1 : v1 = ((c1 : ℝ) : EReal)) :
    Re (k0_pay26 (F := Ideal) v1)
      (E2 fun i0 i1 => (Real.exp ((512 : ℝ) * c1))) :=
  Re.congr (Re.exp (Re.mul (Re.splat lit512) (Re.splat h1))) fun _ => rfl

theorem re_pay27 (h1 : v1 = ((c1 : ℝ) : EReal)) :
    Re (k0_pay27 (F := Ideal) v1)
      (E2 fun i0 i1 => (Real.exp (c1 * (((i0 : ℕ) : ℝ) + (1 : ℝ))))) :=
  Re.congr (Re.exp (Re.mul (Re.splat h1) (re_pay24 ))) fun _ => rfl

theorem re_pay28 (h1 : v1 = ((c1 : ℝ) : EReal)) :
    Re (k0_pay28 (F := Ideal) v1)
      (E2 fun i0 i1 => (Real.exp (c1 * ((511 : ℝ) - ((i0 : ℕ) : ℝ))))) :=
  Re.congr (Re.exp (Re.mul (Re.splat h1) (re_pay25 ))) fun _ => rfl

theorem re_pay29 (h41 : Re v41 (E5 f41)) :
    Re (k0_pay29 (F := Ideal) v41)
      (E2 fun i0 i1 => (f41 0 0 0 i0 i1)) :=
  Re.congr (cast_1x1x1x256x512_256x512 h41 _) fun _ => rfl

theorem re_pay30 (h22 : Re v22 (E2 f22)) (h37 : Re v37 (E2 f37)) (h38 : Re v38 (E2 f38)) :
    Re (k0_pay30 (F := Ideal) v22 v37 v38)
      (E2 fun i0 i1 => ((∑ k53 ∈ Finset.range 256, (f37 i0 k53) * (f38 i1 k53)) * (f22 i0 i1))) :=
  Re.congr (Re.mul (mdot3 (Re.trunc h37 bitsLt_bf16_f32) (Re.trunc h38 bitsLt_bf16_f32)) h22) fun _ => rfl

theorem re_pay31 (h39 : Re v39 (E2 f39)) (h40 : Re v40 (E2 f40)) :
    Re (k0_pay31 (F := Ideal) v39 v40)
      (E2 fun i0 i1 => (∑ k54 ∈ Finset.range 512, (f40 i0 k54) * (f39 i1 k54))) :=
  Re.congr (mdot4 (Re.trunc h40 bitsLt_bf16_f32) (Re.trunc h39 bitsLt_bf16_f32)) fun _ => rfl

theorem re_pay32 (h22 : Re v22 (E2 f22)) (h39 : Re v39 (E2 f39)) (h40 : Re v40 (E2 f40)) :
    Re (k0_pay32 (F := Ideal) v22 v39 v40)
      (E2 fun i0 i1 => ((∑ k55 ∈ Finset.range 512, (f40 i0 k55) * (f39 i1 k55)) * (f22 i0 i1))) :=
  Re.congr (Re.mul (re_pay31 h39 h40) h22) fun _ => rfl

theorem re_pay33 (h33 : Re v33 (E2 f33)) (h40 : Re v40 (E2 f40)) :
    Re (k0_pay33 (F := Ideal) v33 v40)
      (E2 fun i0 i1 => ((f40 i0 i1) * (f33 i0 0))) :=
  Re.congr (Re.mul h40 (Re.bto h33)) fun _ => rfl

theorem re_pay34 (h39 : Re v39 (E2 f39)) (h43 : Re v43 (E2 f43)) :
    Re (k0_pay34 (F := Ideal) v39 v43)
      (E2 fun i0 i1 => (∑ k56 ∈ Finset.range 512, (f39 i0 k56) * (f43 i1 k56))) :=
  Re.congr (mdot5 (Re.trunc h39 bitsLt_bf16_f32) (Re.trunc h43 bitsLt_bf16_f32)) fun _ => rfl

theorem re_pay35 (h22 : Re v22 (E2 f22)) (h33 : Re v33 (E2 f33)) (h38 : Re v38 (E2 f38)) (h39 : Re v39 (E2 f39)) (h40 : Re v40 (E2 f40)) (h41 : Re v41 (E5 f41)) :
    Re (k0_pay35 (F := Ideal) v22 v33 v38 v39 v40 v41)
      (E2 fun i0 i1 => ((∑ k58 ∈ Finset.range 512, ((∑ k59 ∈ Finset.range 512, (f40 i0 k59) * (f39 k58 k59)) * (f22 i0 k58)) * (f38 k58 i1)) + (∑ k60 ∈ Finset.range 512, ((f40 i0 k60) * (f33 i0 0)) * (f41 0 0 0 i1 k60)))) :=
  Re.congr (Re.add (mdot6 (f := (fun i0 i1 => ((∑ k57 ∈ Finset.range 512, (f40 i0 k57) * (f39 i1 k57)) * (f22 i0 i1)))) (Re.trunc (re_pay32 h22 h39 h40) bitsLt_bf16_f32) (Re.trunc h38 bitsLt_bf16_f32)) (mdot5 (f := (fun i0 i1 => ((f40 i0 i1) * (f33 i0 0)))) (g := (fun i0 i1 => (f41 0 0 0 i0 i1))) (Re.trunc (re_pay33 h33 h40) bitsLt_bf16_f32) (Re.trunc (re_pay29 h41) bitsLt_bf16_f32))) fun _ => rfl

theorem re_pay36 (h22 : Re v22 (E2 f22)) (h36 : Re v36 (E2 f36)) (h37 : Re v37 (E2 f37)) (h39 : Re v39 (E2 f39)) (h40 : Re v40 (E2 f40)) (h43 : Re v43 (E2 f43)) :
    Re (k0_pay36 (F := Ideal) v22 v36 v37 v39 v40 v43)
      (E2 fun i0 i1 => ((∑ k62 ∈ Finset.range 512, ((∑ k63 ∈ Finset.range 512, (f40 k62 k63) * (f39 i0 k63)) * (f22 k62 i0)) * (f37 k62 i1)) + ((∑ k64 ∈ Finset.range 512, (f39 i0 k64) * (f43 i1 k64)) * (f36 i0 0)))) :=
  Re.congr (Re.add (mdot7 (f := (fun i0 i1 => ((∑ k61 ∈ Finset.range 512, (f40 i0 k61) * (f39 i1 k61)) * (f22 i0 i1)))) (Re.trunc (re_pay32 h22 h39 h40) bitsLt_bf16_f32) (Re.trunc h37 bitsLt_bf16_f32)) (Re.mul (re_pay34 h39 h43) (Re.bto h36))) fun _ => rfl

theorem re_pay37 (h22 : Re v22 (E2 f22)) (h37 : Re v37 (E2 f37)) (h38 : Re v38 (E2 f38)) (h40 : Re v40 (E2 f40)) :
    Re (k0_pay37 (F := Ideal) v22 v37 v38 v40)
      (E2 fun i0 i1 => (∑ k66 ∈ Finset.range 512, ((∑ k67 ∈ Finset.range 256, (f37 k66 k67) * (f38 i0 k67)) * (f22 k66 i0)) * (f40 k66 i1))) :=
  Re.congr (mdot8 (f := (fun i0 i1 => ((∑ k65 ∈ Finset.range 256, (f37 i0 k65) * (f38 i1 k65)) * (f22 i0 i1)))) (Re.trunc (re_pay30 h22 h37 h38) bitsLt_bf16_f32) (Re.trunc h40 bitsLt_bf16_f32)) fun _ => rfl

theorem re_pay38 (h36 : Re v36 (E2 f36)) (h38 : Re v38 (E2 f38)) :
    Re (k0_pay38 (F := Ideal) v36 v38)
      (E2 fun i0 i1 => ((f38 i0 i1) * (f36 i0 0))) :=
  Re.congr (Re.trunc (Re.mul h38 (Re.bto h36)) bitsLt_bf16_f32) fun _ => rfl

theorem re_pay39 (h43 : Re v43 (E2 f43)) (h76 : Re v76 (E2 f76)) (h77 : Re v77 (E2 f77)) :
    Re (k0_pay39 (F := Ideal) v43 v76 v77)
      (E2 fun i0 i1 => ((f76 i0 i1) + (∑ k68 ∈ Finset.range 256, (f77 i0 k68) * (f43 k68 i1)))) :=
  Re.congr (Re.add h76 (mdot9 h77 (Re.trunc h43 bitsLt_bf16_f32))) fun _ => rfl

theorem re_pay40 (h15 : Re v15 (E2 f15)) (h24 : Re v24 (E2 f24)) (h26 : Re v26 (E2 f26)) (h30 : Re v30 (E2 f30)) (h33 : Re v33 (E2 f33)) (h36 : Re v36 (E2 f36)) (h37 : Re v37 (E2 f37)) (h38 : Re v38 (E2 f38)) (h40 : Re v40 (E2 f40)) (h42 : Re v42 (E2 f42)) (h43 : Re v43 (E2 f43)) (h47 : Re v47 (E2 f47)) (h50 : Re v50 (E2 f50)) (h58 : Re v58 (E2 f58)) :
    (k0_pay40 (F := Ideal) v15 v24 v26 v30 v33 v36 v37 v38 v40 v42 v43 v47 v50 v58) = ((((((∑ k71 ∈ Finset.range 512, ∑ k72 ∈ Finset.range 512, (((f50 k71 k72) * (f47 k71 k72)) * (f15 k71 k72))) + (∑ k84 ∈ Finset.range 512, ∑ k85 ∈ Finset.range 1, (((f24 k84 0) * (f33 k84 0)) * (∑ k86 ∈ Finset.range 512, ((f40 k84 k86) * (∑ k87 ∈ Finset.range 256, (f37 k84 k87) * (f42 k87 k86))))))) + (∑ k94 ∈ Finset.range 512, ∑ k95 ∈ Finset.range 1, (((f26 k94 0) * (f36 k94 0)) * (∑ k96 ∈ Finset.range 256, ((f38 k94 k96) * (f58 k94 k96)))))) + ((512 : ℝ) * (∑ k99 ∈ Finset.range 256, ∑ k100 ∈ Finset.range 512, ((f30 0 0) * ((f43 k99 k100) * (f42 k99 k100)))))) : ℝ) : EReal) := by
  unfold k0_pay40
  exact (re_sadd (re_sadd (re_sadd ((cast_1_1x1x1 (f := (fun i0 => (∑ k69 ∈ Finset.range 512, ∑ k70 ∈ Finset.range 512, (((f50 k69 k70) * (f47 k69 k70)) * (f15 k69 k70))))) (Re.sumAll (f := (fun i0 i1 i2 => (((f50 i1 i2) * (f47 i1 i2)) * (f15 i1 i2)))) (cast_512x512_1x512x512 (f := (fun i0 i1 => (((f50 i0 i1) * (f47 i0 i1)) * (f15 i0 i1)))) (Re.mul (Re.mul h50 h47) h15) _) _ (by decide) _ _) _) _) ((cast_1_1x1x1 (f := (fun i0 => (∑ k80 ∈ Finset.range 512, ∑ k81 ∈ Finset.range 1, (((f24 k80 0) * (f33 k80 0)) * (∑ k82 ∈ Finset.range 512, ((f40 k80 k82) * (∑ k83 ∈ Finset.range 256, (f37 k80 k83) * (f42 k83 k82)))))))) (Re.sumAll (f := (fun i0 i1 i2 => (((f24 i1 0) * (f33 i1 0)) * (∑ k78 ∈ Finset.range 512, ((f40 i1 k78) * (∑ k79 ∈ Finset.range 256, (f37 i1 k79) * (f42 k79 k78))))))) (cast_512x1_1x512x1 (f := (fun i0 i1 => (((f24 i0 i1) * (f33 i0 i1)) * (∑ k76 ∈ Finset.range 512, ((f40 i0 k76) * (∑ k77 ∈ Finset.range 256, (f37 i0 k77) * (f42 k77 k76))))))) (Re.mul (Re.mul h24 h33) (cast_512_512x1 (f := (fun i0 => (∑ k74 ∈ Finset.range 512, ((f40 i0 k74) * (∑ k75 ∈ Finset.range 256, (f37 i0 k75) * (f42 k75 k74)))))) (msum_512x512_1 (f := (fun i0 i1 => ((f40 i0 i1) * (∑ k73 ∈ Finset.range 256, (f37 i0 k73) * (f42 k73 i1))))) (Re.mul h40 (mdot9 (Re.trunc h37 bitsLt_bf16_f32) (Re.trunc h42 bitsLt_bf16_f32))) _ _ _) _)) _) _ (by decide) _ _) _) _)) ((cast_1_1x1x1 (f := (fun i0 => (∑ k91 ∈ Finset.range 512, ∑ k92 ∈ Finset.range 1, (((f26 k91 0) * (f36 k91 0)) * (∑ k93 ∈ Finset.range 256, ((f38 k91 k93) * (f58 k91 k93))))))) (Re.sumAll (f := (fun i0 i1 i2 => (((f26 i1 0) * (f36 i1 0)) * (∑ k90 ∈ Finset.range 256, ((f38 i1 k90) * (f58 i1 k90)))))) (cast_512x1_1x512x1 (f := (fun i0 i1 => (((f26 i0 i1) * (f36 i0 i1)) * (∑ k89 ∈ Finset.range 256, ((f38 i0 k89) * (f58 i0 k89)))))) (Re.mul (Re.mul h26 h36) (cast_512_512x1 (f := (fun i0 => (∑ k88 ∈ Finset.range 256, ((f38 i0 k88) * (f58 i0 k88))))) (msum_512x256_1 (f := (fun i0 i1 => ((f38 i0 i1) * (f58 i0 i1)))) (Re.mul h38 h58) _ _ _) _)) _) _ (by decide) _ _) _) _)) (re_smul lit512 ((cast_1_1x1x1 (f := (fun i0 => (∑ k97 ∈ Finset.range 256, ∑ k98 ∈ Finset.range 512, ((f30 0 0) * ((f43 k97 k98) * (f42 k97 k98)))))) (Re.sumAll (f := (fun i0 i1 i2 => ((f30 0 0) * ((f43 i1 i2) * (f42 i1 i2))))) (cast_256x512_1x256x512 (f := (fun i0 i1 => ((f30 0 0) * ((f43 i0 i1) * (f42 i0 i1))))) (Re.mul (Re.bto h30) (Re.mul h43 h42)) _) _ (by decide) _ _) _) _)))

theorem re_pay41 (h30 : Re v30 (E2 f30)) (h43 : Re v43 (E2 f43)) :
    Re (k0_pay41 (F := Ideal) v30 v43)
      (E2 fun i0 i1 => ((f43 i0 i1) * (f30 0 0))) :=
  Re.congr (Re.mul h43 (Re.bto h30)) fun _ => rfl

theorem re_pay42 (h37 : Re v37 (E2 f37)) (h53 : Re v53 (E2 f53)) :
    Re (k0_pay42 (F := Ideal) v37 v53)
      (E2 fun i0 i1 => (∑ k101 ∈ Finset.range 512, (f37 k101 i0) * (f53 k101 i1))) :=
  Re.congr (mdot0 (Re.trunc h37 bitsLt_bf16_f32) (Re.trunc h53 bitsLt_bf16_f32)) fun _ => rfl

theorem re_pay43 (h121 : Re v121 (E2 f121)) (h124 : Re v124 (E2 f124)) :
    Re (k0_pay43 (F := Ideal) v121 v124)
      (E2 fun i0 i1 => ((f121 i0 i1) + (f124 i0 i1))) :=
  Re.congr (Re.add h121 h124) fun _ => rfl

theorem re_pay44 (h121 : Re v121 (E2 f121)) (h124 : Re v124 (E2 f124)) :
    Re (k0_pay44 (F := Ideal) v121 v124)
      (E2 fun i0 i1 => ((f121 i0 i1) + (f124 i0 i1))) :=
  Re.congr (cast_256x512_256x512 (f := (fun i0 i1 => ((f121 i0 i1) + (f124 i0 i1)))) (re_pay43 h121 h124) _) fun _ => rfl

theorem re_pay45 (h119 : v119 = ((c119 : ℝ) : EReal)) (h129 : Re v129 (E4 f129)) :
    Re (k0_pay45 (F := Ideal) v119 v129)
      (E4 fun i0 i1 i2 i3 => ((f129 0 0 i2 i3) + c119)) :=
  Re.congr (Re.add (cast_1x1x8x128_1x1x8x128 h129 _) (Re.splat h119)) fun _ => rfl

theorem re_pay46 :
    Re (k0_pay46 (F := Ideal))
      (E2 fun i0 i1 => ((i0 : ℕ) : ℝ)) :=
  Re.congr (Re.iota .tc (s := S512x1) 0 iota_S512x1_d0_w32 (by decide)) fun _ => rfl

theorem re_pay47 :
    Re (k0_pay47 (F := Ideal))
      (E2 fun i0 i1 => (((i1 : ℕ) : ℝ) - ((i0 : ℕ) : ℝ))) :=
  Re.congr (Re.sub (Re.iota .tc (s := S512x512) 1 iota_S512x512_d1_w32 (by decide)) (Re.iota .tc (s := S512x512) 0 iota_S512x512_d0_w32 (by decide))) fun _ => rfl

theorem re_pay48 :
    Re (k0_pay48 (F := Ideal))
      (E2 fun i0 i1 => (Max.max (((i1 : ℕ) : ℝ) - ((i0 : ℕ) : ℝ)) (0 : ℝ))) :=
  Re.congr (Re.max (re_pay47 ) (Re.splat lit0)) fun _ => rfl

theorem re_pay49 (h3 : v3 = ((c3 : ℝ) : EReal)) :
    Re (k0_pay49 (F := Ideal) v3)
      (E2 fun i0 i1 => (if (0 : ℝ) ≤ (((i1 : ℕ) : ℝ) - ((i0 : ℕ) : ℝ)) then (Real.exp (c3 * (Max.max (((i1 : ℕ) : ℝ) - ((i0 : ℕ) : ℝ)) (0 : ℝ)))) else (0 : ℝ))) :=
  Re.congr (Re.select (Ge.cmp (re_pay47 ) (Re.splat lit0)) (Re.exp (Re.mul (Re.splat h3) (re_pay48 ))) (Re.splat lit0)) fun _ => rfl

theorem re_pay50 :
    Re (k0_pay50 (F := Ideal))
      (E2 fun i0 i1 => ((512 : ℝ) - ((i0 : ℕ) : ℝ))) :=
  Re.congr (Re.sub (Re.splat lit512) (re_pay46 )) fun _ => rfl

theorem re_pay51 (h3 : v3 = ((c3 : ℝ) : EReal)) :
    Re (k0_pay51 (F := Ideal) v3)
      (E2 fun i0 i1 => (Real.exp ((512 : ℝ) * c3))) :=
  Re.congr (Re.exp (Re.mul (Re.splat lit512) (Re.splat h3))) fun _ => rfl

theorem re_pay52 (h3 : v3 = ((c3 : ℝ) : EReal)) :
    Re (k0_pay52 (F := Ideal) v3)
      (E2 fun i0 i1 => (Real.exp (c3 * ((512 : ℝ) - ((i0 : ℕ) : ℝ))))) :=
  Re.congr (Re.exp (Re.mul (Re.splat h3) (re_pay50 ))) fun _ => rfl

theorem re_pay53 (h3 : v3 = ((c3 : ℝ) : EReal)) :
    Re (k0_pay53 (F := Ideal) v3)
      (E2 fun i0 i1 => (Real.exp (c3 * ((i0 : ℕ) : ℝ)))) :=
  Re.congr (Re.exp (Re.mul (Re.splat h3) (re_pay46 ))) fun _ => rfl

theorem re_pay54 (h166 : Re v166 (E5 f166)) :
    Re (k0_pay54 (F := Ideal) v166)
      (E2 fun i0 i1 => (f166 0 0 0 i0 i1)) :=
  Re.congr (cast_1x1x1x256x512_256x512 h166 _) fun _ => rfl

theorem re_pay55 (h149 : Re v149 (E2 f149)) (h162 : Re v162 (E2 f162)) (h163 : Re v163 (E2 f163)) :
    Re (k0_pay55 (F := Ideal) v149 v162 v163)
      (E2 fun i0 i1 => ((∑ k102 ∈ Finset.range 256, (f162 i0 k102) * (f163 i1 k102)) * (f149 i0 i1))) :=
  Re.congr (Re.mul (mdot3 (Re.trunc h162 bitsLt_bf16_f32) (Re.trunc h163 bitsLt_bf16_f32)) h149) fun _ => rfl

theorem re_pay56 (h164 : Re v164 (E2 f164)) (h165 : Re v165 (E2 f165)) :
    Re (k0_pay56 (F := Ideal) v164 v165)
      (E2 fun i0 i1 => (∑ k103 ∈ Finset.range 512, (f165 i0 k103) * (f164 i1 k103))) :=
  Re.congr (mdot4 (Re.trunc h165 bitsLt_bf16_f32) (Re.trunc h164 bitsLt_bf16_f32)) fun _ => rfl

theorem re_pay57 (h149 : Re v149 (E2 f149)) (h164 : Re v164 (E2 f164)) (h165 : Re v165 (E2 f165)) :
    Re (k0_pay57 (F := Ideal) v149 v164 v165)
      (E2 fun i0 i1 => ((∑ k104 ∈ Finset.range 512, (f165 i0 k104) * (f164 i1 k104)) * (f149 i0 i1))) :=
  Re.congr (Re.mul (re_pay56 h164 h165) h149) fun _ => rfl

theorem re_pay58 (h158 : Re v158 (E2 f158)) (h165 : Re v165 (E2 f165)) :
    Re (k0_pay58 (F := Ideal) v158 v165)
      (E2 fun i0 i1 => ((f165 i0 i1) * (f158 i0 0))) :=
  Re.congr (Re.mul h165 (Re.bto h158)) fun _ => rfl

theorem re_pay59 (h161 : Re v161 (E2 f161)) (h163 : Re v163 (E2 f163)) :
    Re (k0_pay59 (F := Ideal) v161 v163)
      (E2 fun i0 i1 => ((f163 i0 i1) * (f161 i0 0))) :=
  Re.congr (Re.mul h163 (Re.bto h161)) fun _ => rfl

theorem re_pay60 (h164 : Re v164 (E2 f164)) (h168 : Re v168 (E2 f168)) :
    Re (k0_pay60 (F := Ideal) v164 v168)
      (E2 fun i0 i1 => (∑ k105 ∈ Finset.range 512, (f164 i0 k105) * (f168 i1 k105))) :=
  Re.congr (mdot5 (Re.trunc h164 bitsLt_bf16_f32) (Re.trunc h168 bitsLt_bf16_f32)) fun _ => rfl

theorem re_pay61 (h149 : Re v149 (E2 f149)) (h158 : Re v158 (E2 f158)) (h163 : Re v163 (E2 f163)) (h164 : Re v164 (E2 f164)) (h165 : Re v165 (E2 f165)) (h166 : Re v166 (E5 f166)) :
    Re (k0_pay61 (F := Ideal) v149 v158 v163 v164 v165 v166)
      (E2 fun i0 i1 => ((∑ k107 ∈ Finset.range 512, ((∑ k108 ∈ Finset.range 512, (f165 i0 k108) * (f164 k107 k108)) * (f149 i0 k107)) * (f163 k107 i1)) + (∑ k109 ∈ Finset.range 512, ((f165 i0 k109) * (f158 i0 0)) * (f166 0 0 0 i1 k109)))) :=
  Re.congr (Re.add (mdot6 (f := (fun i0 i1 => ((∑ k106 ∈ Finset.range 512, (f165 i0 k106) * (f164 i1 k106)) * (f149 i0 i1)))) (Re.trunc (re_pay57 h149 h164 h165) bitsLt_bf16_f32) (Re.trunc h163 bitsLt_bf16_f32)) (mdot5 (f := (fun i0 i1 => ((f165 i0 i1) * (f158 i0 0)))) (g := (fun i0 i1 => (f166 0 0 0 i0 i1))) (Re.trunc (re_pay58 h158 h165) bitsLt_bf16_f32) (Re.trunc (re_pay54 h166) bitsLt_bf16_f32))) fun _ => rfl

theorem re_pay62 (h149 : Re v149 (E2 f149)) (h161 : Re v161 (E2 f161)) (h162 : Re v162 (E2 f162)) (h164 : Re v164 (E2 f164)) (h165 : Re v165 (E2 f165)) (h168 : Re v168 (E2 f168)) :
    Re (k0_pay62 (F := Ideal) v149 v161 v162 v164 v165 v168)
      (E2 fun i0 i1 => ((∑ k111 ∈ Finset.range 512, ((∑ k112 ∈ Finset.range 512, (f165 k111 k112) * (f164 i0 k112)) * (f149 k111 i0)) * (f162 k111 i1)) + ((∑ k113 ∈ Finset.range 512, (f164 i0 k113) * (f168 i1 k113)) * (f161 i0 0)))) :=
  Re.congr (Re.add (mdot7 (f := (fun i0 i1 => ((∑ k110 ∈ Finset.range 512, (f165 i0 k110) * (f164 i1 k110)) * (f149 i0 i1)))) (Re.trunc (re_pay57 h149 h164 h165) bitsLt_bf16_f32) (Re.trunc h162 bitsLt_bf16_f32)) (Re.mul (re_pay60 h164 h168) (Re.bto h161))) fun _ => rfl

theorem re_pay63 (h149 : Re v149 (E2 f149)) (h162 : Re v162 (E2 f162)) (h163 : Re v163 (E2 f163)) :
    Re (k0_pay63 (F := Ideal) v149 v162 v163)
      (E2 fun i0 i1 => ((∑ k114 ∈ Finset.range 256, (f162 i0 k114) * (f163 i1 k114)) * (f149 i0 i1))) :=
  Re.congr (Re.trunc (re_pay55 h149 h162 h163) bitsLt_bf16_f32) fun _ => rfl

theorem re_pay64 (h165 : Re v165 (E2 f165)) :
    Re (k0_pay64 (F := Ideal) v165)
      (E2 fun i0 i1 => (f165 i0 i1)) :=
  Re.congr (Re.trunc h165 bitsLt_bf16_f32) fun _ => rfl

theorem re_pay65 (h168 : Re v168 (E2 f168)) (h180 : Re v180 (E2 f180)) (h199 : Re v199 (E2 f199)) (h200 : Re v200 (E2 f200)) :
    Re (k0_pay65 (F := Ideal) v168 v180 v199 v200)
      (E2 fun i0 i1 => ((∑ k115 ∈ Finset.range 512, (f199 k115 i0) * (f200 k115 i1)) + (∑ k116 ∈ Finset.range 256, (f180 i0 k116) * (f168 k116 i1)))) :=
  Re.congr (Re.add (mdot8 h199 h200) (mdot9 (Re.trunc h180 bitsLt_bf16_f32) (Re.trunc h168 bitsLt_bf16_f32))) fun _ => rfl

theorem re_pay66 (h139 : Re v139 (E2 f139)) (h142 : Re v142 (E2 f142)) (h151 : Re v151 (E2 f151)) (h155 : Re v155 (E2 f155)) (h158 : Re v158 (E2 f158)) (h161 : Re v161 (E2 f161)) (h162 : Re v162 (E2 f162)) (h163 : Re v163 (E2 f163)) (h165 : Re v165 (E2 f165)) (h167 : Re v167 (E2 f167)) (h168 : Re v168 (E2 f168)) (h172 : Re v172 (E2 f172)) (h175 : Re v175 (E2 f175)) (h183 : Re v183 (E2 f183)) :
    (k0_pay66 (F := Ideal) v139 v142 v151 v155 v158 v161 v162 v163 v165 v167 v168 v172 v175 v183) = ((((((∑ k119 ∈ Finset.range 512, ∑ k120 ∈ Finset.range 512, (((f175 k119 k120) * (f172 k119 k120)) * (f142 k119 k120))) + (∑ k132 ∈ Finset.range 512, ∑ k133 ∈ Finset.range 1, (((f151 k132 0) * (f158 k132 0)) * (∑ k134 ∈ Finset.range 512, ((f165 k132 k134) * (∑ k135 ∈ Finset.range 256, (f162 k132 k135) * (f167 k135 k134))))))) + (∑ k142 ∈ Finset.range 512, ∑ k143 ∈ Finset.range 1, (((f139 k142 0) * (f161 k142 0)) * (∑ k144 ∈ Finset.range 256, ((f163 k142 k144) * (f183 k142 k144)))))) + ((512 : ℝ) * (∑ k147 ∈ Finset.range 256, ∑ k148 ∈ Finset.range 512, ((f155 0 0) * ((f168 k147 k148) * (f167 k147 k148)))))) : ℝ) : EReal) := by
  unfold k0_pay66
  exact (re_sadd (re_sadd (re_sadd ((cast_1_1x1x1 (f := (fun i0 => (∑ k117 ∈ Finset.range 512, ∑ k118 ∈ Finset.range 512, (((f175 k117 k118) * (f172 k117 k118)) * (f142 k117 k118))))) (Re.sumAll (f := (fun i0 i1 i2 => (((f175 i1 i2) * (f172 i1 i2)) * (f142 i1 i2)))) (cast_512x512_1x512x512 (f := (fun i0 i1 => (((f175 i0 i1) * (f172 i0 i1)) * (f142 i0 i1)))) (Re.mul (Re.mul h175 h172) h142) _) _ (by decide) _ _) _) _) ((cast_1_1x1x1 (f := (fun i0 => (∑ k128 ∈ Finset.range 512, ∑ k129 ∈ Finset.range 1, (((f151 k128 0) * (f158 k128 0)) * (∑ k130 ∈ Finset.range 512, ((f165 k128 k130) * (∑ k131 ∈ Finset.range 256, (f162 k128 k131) * (f167 k131 k130)))))))) (Re.sumAll (f := (fun i0 i1 i2 => (((f151 i1 0) * (f158 i1 0)) * (∑ k126 ∈ Finset.range 512, ((f165 i1 k126) * (∑ k127 ∈ Finset.range 256, (f162 i1 k127) * (f167 k127 k126))))))) (cast_512x1_1x512x1 (f := (fun i0 i1 => (((f151 i0 i1) * (f158 i0 i1)) * (∑ k124 ∈ Finset.range 512, ((f165 i0 k124) * (∑ k125 ∈ Finset.range 256, (f162 i0 k125) * (f167 k125 k124))))))) (Re.mul (Re.mul h151 h158) (cast_512_512x1 (f := (fun i0 => (∑ k122 ∈ Finset.range 512, ((f165 i0 k122) * (∑ k123 ∈ Finset.range 256, (f162 i0 k123) * (f167 k123 k122)))))) (msum_512x512_1 (f := (fun i0 i1 => ((f165 i0 i1) * (∑ k121 ∈ Finset.range 256, (f162 i0 k121) * (f167 k121 i1))))) (Re.mul h165 (mdot9 (Re.trunc h162 bitsLt_bf16_f32) (Re.trunc h167 bitsLt_bf16_f32))) _ _ _) _)) _) _ (by decide) _ _) _) _)) ((cast_1_1x1x1 (f := (fun i0 => (∑ k139 ∈ Finset.range 512, ∑ k140 ∈ Finset.range 1, (((f139 k139 0) * (f161 k139 0)) * (∑ k141 ∈ Finset.range 256, ((f163 k139 k141) * (f183 k139 k141))))))) (Re.sumAll (f := (fun i0 i1 i2 => (((f139 i1 0) * (f161 i1 0)) * (∑ k138 ∈ Finset.range 256, ((f163 i1 k138) * (f183 i1 k138)))))) (cast_512x1_1x512x1 (f := (fun i0 i1 => (((f139 i0 i1) * (f161 i0 i1)) * (∑ k137 ∈ Finset.range 256, ((f163 i0 k137) * (f183 i0 k137)))))) (Re.mul (Re.mul h139 h161) (cast_512_512x1 (f := (fun i0 => (∑ k136 ∈ Finset.range 256, ((f163 i0 k136) * (f183 i0 k136))))) (msum_512x256_1 (f := (fun i0 i1 => ((f163 i0 i1) * (f183 i0 i1)))) (Re.mul h163 h183) _ _ _) _)) _) _ (by decide) _ _) _) _)) (re_smul lit512 ((cast_1_1x1x1 (f := (fun i0 => (∑ k145 ∈ Finset.range 256, ∑ k146 ∈ Finset.range 512, ((f155 0 0) * ((f168 k145 k146) * (f167 k145 k146)))))) (Re.sumAll (f := (fun i0 i1 i2 => ((f155 0 0) * ((f168 i1 i2) * (f167 i1 i2))))) (cast_256x512_1x256x512 (f := (fun i0 i1 => ((f155 0 0) * ((f168 i0 i1) * (f167 i0 i1))))) (Re.mul (Re.bto h155) (Re.mul h168 h167)) _) _ (by decide) _ _) _) _)))

theorem re_pay67 (h155 : Re v155 (E2 f155)) (h168 : Re v168 (E2 f168)) :
    Re (k0_pay67 (F := Ideal) v155 v168)
      (E2 fun i0 i1 => ((f168 i0 i1) * (f155 0 0))) :=
  Re.congr (Re.mul h168 (Re.bto h155)) fun _ => rfl

theorem re_pay68 (h162 : Re v162 (E2 f162)) :
    Re (k0_pay68 (F := Ideal) v162)
      (E2 fun i0 i1 => (f162 i0 i1)) :=
  Re.congr (Re.trunc h162 bitsLt_bf16_f32) fun _ => rfl

end Cert.KernelIdeal.Own
-- ==== Proof.Step.lean ====
/- What one grid point computes from the blocks it reads, as functions of real numbers. -/
module

public import proofs.«01_k».proof.Proof.Frame
public import proofs.«01_k».proof.Proof.PayVals
public import Idealize.ShloMosaic.Lib.Pipeline.Value
public import Idealize.ShloMosaic.Lib.Pipeline.ReadBack

@[expose] public section

set_option maxRecDepth 8192
set_option maxHeartbeats 4000000

noncomputable section

namespace Cert.KernelIdeal.Own

open Cert.KernelIdeal Cert.KernelIdeal.Gen Cert.Own Idealize.ShloMosaic Idealize.ShloMosaic.TcCoe Idealize.ShloMosaic.Tactic
open Idealize.SL.Sem Idealize.ShloMosaic.Pipeline

/-- The real numbers in the blocks of one grid point: `q k v st o` of the forward direction, `rq rk rv rst ro` of the reverse one, the context's `kc vc`, and the two log-decays. -/
structure Blk where
  lg0 : ℝ
  lg1 : ℝ
  q : ℕ → ℕ → ℝ
  k : ℕ → ℕ → ℝ
  v : ℕ → ℕ → ℝ
  st : ℕ → ℕ → ℝ
  o : ℕ → ℕ → ℝ
  rq : ℕ → ℕ → ℝ
  rk : ℕ → ℕ → ℝ
  rv : ℕ → ℕ → ℝ
  rst : ℕ → ℕ → ℝ
  ro : ℕ → ℕ → ℝ
  kc : ℕ → ℕ → ℝ
  vc : ℕ → ℕ → ℝ

theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl
theorem z5 : (![0, 0, 0, 0, 0] : Fin 5 → ℕ) = fun _ => 0 := by funext a; fin_cases a <;> rfl

def sv0 (X : Blk) (i0 i1 : ℕ) : ℝ :=
  ((∑ k150 ∈ Finset.range 512, ((∑ k151 ∈ Finset.range 512, (X.o i0 k151) * (X.v k150 k151)) * (if (0 : ℝ) ≤ (((i0 : ℕ) : ℝ) - ((k150 : ℕ) : ℝ)) then (Real.exp (X.lg0 * (Max.max (((i0 : ℕ) : ℝ) - ((k150 : ℕ) : ℝ)) (0 : ℝ)))) else (0 : ℝ))) * (X.k k150 i1)) + (∑ k152 ∈ Finset.range 512, ((X.o i0 k152) * (Real.exp (X.lg0 * (((i0 : ℕ) : ℝ) + (1 : ℝ))))) * (X.st i1 k152)))

def sv1 (X : Blk) (ds : ℕ → ℕ → ℝ) (i0 i1 : ℕ) : ℝ :=
  ((∑ k154 ∈ Finset.range 512, ((∑ k155 ∈ Finset.range 512, (X.o k154 k155) * (X.v i0 k155)) * (if (0 : ℝ) ≤ (((k154 : ℕ) : ℝ) - ((i0 : ℕ) : ℝ)) then (Real.exp (X.lg0 * (Max.max (((k154 : ℕ) : ℝ) - ((i0 : ℕ) : ℝ)) (0 : ℝ)))) else (0 : ℝ))) * (X.q k154 i1)) + ((∑ k156 ∈ Finset.range 512, (X.v i0 k156) * (ds i1 k156)) * (Real.exp (X.lg0 * ((511 : ℝ) - ((i0 : ℕ) : ℝ))))))

def sv2 (X : Blk) (ds : ℕ → ℕ → ℝ) (i0 i1 : ℕ) : ℝ :=
  ((∑ k158 ∈ Finset.range 512, ((∑ k159 ∈ Finset.range 256, (X.q k158 k159) * (X.k i0 k159)) * (if (0 : ℝ) ≤ (((k158 : ℕ) : ℝ) - ((i0 : ℕ) : ℝ)) then (Real.exp (X.lg0 * (Max.max (((k158 : ℕ) : ℝ) - ((i0 : ℕ) : ℝ)) (0 : ℝ)))) else (0 : ℝ))) * (X.o k158 i1)) + (∑ k160 ∈ Finset.range 256, ((X.k i0 k160) * (Real.exp (X.lg0 * ((511 : ℝ) - ((i0 : ℕ) : ℝ))))) * (ds k160 i1)))

def sv5 (X : Blk) (ds : ℕ → ℕ → ℝ) (lb : ℕ → ℕ → ℕ → ℕ → ℝ) (i0 i1 i2 i3 : ℕ) : ℝ :=
  ((lb 0 0 i2 i3) + ((((∑ k169 ∈ Finset.range 512, ∑ k170 ∈ Finset.range 512, (((∑ k171 ∈ Finset.range 512, (X.o k169 k171) * (X.v k170 k171)) * ((∑ k172 ∈ Finset.range 256, (X.q k169 k172) * (X.k k170 k172)) * (if (0 : ℝ) ≤ (((k169 : ℕ) : ℝ) - ((k170 : ℕ) : ℝ)) then (Real.exp (X.lg0 * (Max.max (((k169 : ℕ) : ℝ) - ((k170 : ℕ) : ℝ)) (0 : ℝ)))) else (0 : ℝ)))) * (Max.max (((k169 : ℕ) : ℝ) - ((k170 : ℕ) : ℝ)) (0 : ℝ)))) + (∑ k184 ∈ Finset.range 512, ∑ k185 ∈ Finset.range 1, (((((k184 : ℕ) : ℝ) + (1 : ℝ)) * (Real.exp (X.lg0 * (((k184 : ℕ) : ℝ) + (1 : ℝ))))) * (∑ k186 ∈ Finset.range 512, ((X.o k184 k186) * (∑ k187 ∈ Finset.range 256, (X.q k184 k187) * (X.st k187 k186))))))) + (∑ k199 ∈ Finset.range 512, ∑ k200 ∈ Finset.range 1, ((((511 : ℝ) - ((k199 : ℕ) : ℝ)) * (Real.exp (X.lg0 * ((511 : ℝ) - ((k199 : ℕ) : ℝ))))) * (∑ k201 ∈ Finset.range 256, ((X.k k199 k201) * (∑ k202 ∈ Finset.range 512, (X.v k199 k202) * (ds k201 k202))))))) + ((512 : ℝ) * (∑ k205 ∈ Finset.range 256, ∑ k206 ∈ Finset.range 512, ((Real.exp ((512 : ℝ) * X.lg0)) * ((ds k205 k206) * (X.st k205 k206)))))))

def sv6 (X : Blk) (i0 i1 : ℕ) : ℝ :=
  ((∑ k208 ∈ Finset.range 512, ((∑ k209 ∈ Finset.range 512, (X.ro i0 k209) * (X.rv k208 k209)) * (if (0 : ℝ) ≤ (((k208 : ℕ) : ℝ) - ((i0 : ℕ) : ℝ)) then (Real.exp (X.lg1 * (Max.max (((k208 : ℕ) : ℝ) - ((i0 : ℕ) : ℝ)) (0 : ℝ)))) else (0 : ℝ))) * (X.rk k208 i1)) + (∑ k210 ∈ Finset.range 512, ((X.ro i0 k210) * (Real.exp (X.lg1 * ((512 : ℝ) - ((i0 : ℕ) : ℝ))))) * (X.rst i1 k210)))

def sv7 (X : Blk) (ds : ℕ → ℕ → ℝ) (i0 i1 : ℕ) : ℝ :=
  ((∑ k212 ∈ Finset.range 512, ((∑ k213 ∈ Finset.range 512, (X.ro k212 k213) * (X.rv i0 k213)) * (if (0 : ℝ) ≤ (((i0 : ℕ) : ℝ) - ((k212 : ℕ) : ℝ)) then (Real.exp (X.lg1 * (Max.max (((i0 : ℕ) : ℝ) - ((k212 : ℕ) : ℝ)) (0 : ℝ)))) else (0 : ℝ))) * (X.rq k212 i1)) + ((∑ k214 ∈ Finset.range 512, (X.rv i0 k214) * (ds i1 k214)) * (Real.exp (X.lg1 * ((i0 : ℕ) : ℝ)))))

def sv8 (X : Blk) (ds : ℕ → ℕ → ℝ) (i0 i1 : ℕ) : ℝ :=
  ((∑ k216 ∈ Finset.range 512, ((∑ k217 ∈ Finset.range 256, (X.rq k216 k217) * (X.rk i0 k217)) * (if (0 : ℝ) ≤ (((i0 : ℕ) : ℝ) - ((k216 : ℕ) : ℝ)) then (Real.exp (X.lg1 * (Max.max (((i0 : ℕ) : ℝ) - ((k216 : ℕ) : ℝ)) (0 : ℝ)))) else (0 : ℝ))) * (X.ro k216 i1)) + (∑ k218 ∈ Finset.range 256, ((X.rk i0 k218) * (Real.exp (X.lg1 * ((i0 : ℕ) : ℝ)))) * (ds k218 i1)))

def sv11 (X : Blk) (ds : ℕ → ℕ → ℝ) (lb : ℕ → ℕ → ℕ → ℕ → ℝ) (i0 i1 i2 i3 : ℕ) : ℝ :=
  ((lb 0 0 i2 i3) + ((((∑ k227 ∈ Finset.range 512, ∑ k228 ∈ Finset.range 512, (((∑ k229 ∈ Finset.range 512, (X.ro k227 k229) * (X.rv k228 k229)) * ((∑ k230 ∈ Finset.range 256, (X.rq k227 k230) * (X.rk k228 k230)) * (if (0 : ℝ) ≤ (((k228 : ℕ) : ℝ) - ((k227 : ℕ) : ℝ)) then (Real.exp (X.lg1 * (Max.max (((k228 : ℕ) : ℝ) - ((k227 : ℕ) : ℝ)) (0 : ℝ)))) else (0 : ℝ)))) * (Max.max (((k228 : ℕ) : ℝ) - ((k227 : ℕ) : ℝ)) (0 : ℝ)))) + (∑ k242 ∈ Finset.range 512, ∑ k243 ∈ Finset.range 1, ((((512 : ℝ) - ((k242 : ℕ) : ℝ)) * (Real.exp (X.lg1 * ((512 : ℝ) - ((k242 : ℕ) : ℝ))))) * (∑ k244 ∈ Finset.range 512, ((X.ro k242 k244) * (∑ k245 ∈ Finset.range 256, (X.rq k242 k245) * (X.rst k245 k244))))))) + (∑ k257 ∈ Finset.range 512, ∑ k258 ∈ Finset.range 1, ((((k257 : ℕ) : ℝ) * (Real.exp (X.lg1 * ((k257 : ℕ) : ℝ)))) * (∑ k259 ∈ Finset.range 256, ((X.rk k257 k259) * (∑ k260 ∈ Finset.range 512, (X.rv k257 k260) * (ds k259 k260))))))) + ((512 : ℝ) * (∑ k263 ∈ Finset.range 256, ∑ k264 ∈ Finset.range 512, ((Real.exp ((512 : ℝ) * X.lg1)) * ((ds k263 k264) * (X.rst k263 k264)))))))

def sv12 (X : Blk) (ds : ℕ → ℕ → ℝ) (i0 i1 : ℕ) : ℝ :=
  (((ds i0 i1) * (Real.exp ((512 : ℝ) * X.lg0))) + (∑ k267 ∈ Finset.range 512, (X.q k267 i0) * ((X.o k267 i1) * (Real.exp (X.lg0 * (((k267 : ℕ) : ℝ) + (1 : ℝ)))))))

def sv13 (X : Blk) (ds : ℕ → ℕ → ℝ) (i0 i1 : ℕ) : ℝ :=
  (((ds i0 i1) * (Real.exp ((512 : ℝ) * X.lg1))) + (∑ k269 ∈ Finset.range 512, (X.rq k269 i0) * ((X.ro k269 i1) * (Real.exp (X.lg1 * ((512 : ℝ) - ((k269 : ℕ) : ℝ)))))))

def sc3 (X : Blk) (ds : ℕ → ℕ → ℝ) (i0 i1 : ℕ) : ℝ :=
  ((∑ k284 ∈ Finset.range 512, (X.vc i0 k284) * (((ds i1 k284) * (Real.exp ((512 : ℝ) * X.lg0))) + (∑ k285 ∈ Finset.range 512, (X.q k285 i1) * ((X.o k285 k284) * (Real.exp (X.lg0 * (((k285 : ℕ) : ℝ) + (1 : ℝ)))))))) * (Real.exp (X.lg0 * ((255 : ℝ) - ((i0 : ℕ) : ℝ)))))

def sc4 (X : Blk) (ds : ℕ → ℕ → ℝ) (i0 i1 : ℕ) : ℝ :=
  (∑ k287 ∈ Finset.range 256, ((X.kc i0 k287) * (Real.exp (X.lg0 * ((255 : ℝ) - ((i0 : ℕ) : ℝ))))) * (((ds k287 i1) * (Real.exp ((512 : ℝ) * X.lg0))) + (∑ k288 ∈ Finset.range 512, (X.q k288 k287) * ((X.o k288 i1) * (Real.exp (X.lg0 * (((k288 : ℕ) : ℝ) + (1 : ℝ))))))))

def sc5 (X : Blk) (ds : ℕ → ℕ → ℝ) (lb : ℕ → ℕ → ℕ → ℕ → ℝ) (i0 i1 i2 i3 : ℕ) : ℝ :=
  (((lb 0 0 i2 i3) + ((((∑ k297 ∈ Finset.range 512, ∑ k298 ∈ Finset.range 512, (((∑ k299 ∈ Finset.range 512, (X.o k297 k299) * (X.v k298 k299)) * ((∑ k300 ∈ Finset.range 256, (X.q k297 k300) * (X.k k298 k300)) * (if (0 : ℝ) ≤ (((k297 : ℕ) : ℝ) - ((k298 : ℕ) : ℝ)) then (Real.exp (X.lg0 * (Max.max (((k297 : ℕ) : ℝ) - ((k298 : ℕ) : ℝ)) (0 : ℝ)))) else (0 : ℝ)))) * (Max.max (((k297 : ℕ) : ℝ) - ((k298 : ℕ) : ℝ)) (0 : ℝ)))) + (∑ k312 ∈ Finset.range 512, ∑ k313 ∈ Finset.range 1, (((((k312 : ℕ) : ℝ) + (1 : ℝ)) * (Real.exp (X.lg0 * (((k312 : ℕ) : ℝ) + (1 : ℝ))))) * (∑ k314 ∈ Finset.range 512, ((X.o k312 k314) * (∑ k315 ∈ Finset.range 256, (X.q k312 k315) * (X.st k315 k314))))))) + (∑ k327 ∈ Finset.range 512, ∑ k328 ∈ Finset.range 1, ((((511 : ℝ) - ((k327 : ℕ) : ℝ)) * (Real.exp (X.lg0 * ((511 : ℝ) - ((k327 : ℕ) : ℝ))))) * (∑ k329 ∈ Finset.range 256, ((X.k k327 k329) * (∑ k330 ∈ Finset.range 512, (X.v k327 k330) * (ds k329 k330))))))) + ((512 : ℝ) * (∑ k333 ∈ Finset.range 256, ∑ k334 ∈ Finset.range 512, ((Real.exp ((512 : ℝ) * X.lg0)) * ((ds k333 k334) * (X.st k333 k334))))))) + (∑ k353 ∈ Finset.range 256, ∑ k354 ∈ Finset.range 1, ((((255 : ℝ) - ((k353 : ℕ) : ℝ)) * (Real.exp (X.lg0 * ((255 : ℝ) - ((k353 : ℕ) : ℝ))))) * (∑ k355 ∈ Finset.range 256, ((X.kc k353 k355) * (∑ k356 ∈ Finset.range 512, (X.vc k353 k356) * (((ds k355 k356) * (Real.exp ((512 : ℝ) * X.lg0))) + (∑ k357 ∈ Finset.range 512, (X.q k357 k355) * ((X.o k357 k356) * (Real.exp (X.lg0 * (((k357 : ℕ) : ℝ) + (1 : ℝ)))))))))))))

def sc9 (X : Blk) (ds : ℕ → ℕ → ℝ) (i0 i1 : ℕ) : ℝ :=
  ((∑ k371 ∈ Finset.range 512, (X.vc i0 k371) * (((ds i1 k371) * (Real.exp ((512 : ℝ) * X.lg1))) + (∑ k372 ∈ Finset.range 512, (X.rq k372 i1) * ((X.ro k372 k371) * (Real.exp (X.lg1 * ((512 : ℝ) - ((k372 : ℕ) : ℝ)))))))) * (Real.exp (X.lg1 * ((i0 : ℕ) : ℝ))))

def sc10 (X : Blk) (ds : ℕ → ℕ → ℝ) (i0 i1 : ℕ) : ℝ :=
  (∑ k374 ∈ Finset.range 256, ((X.kc i0 k374) * (Real.exp (X.lg1 * ((i0 : ℕ) : ℝ)))) * (((ds k374 i1) * (Real.exp ((512 : ℝ) * X.lg1))) + (∑ k375 ∈ Finset.range 512, (X.rq k375 k374) * ((X.ro k375 i1) * (Real.exp (X.lg1 * ((512 : ℝ) - ((k375 : ℕ) : ℝ))))))))

def sc11 (X : Blk) (ds : ℕ → ℕ → ℝ) (lb : ℕ → ℕ → ℕ → ℕ → ℝ) (i0 i1 i2 i3 : ℕ) : ℝ :=
  (((lb 0 0 i2 i3) + ((((∑ k384 ∈ Finset.range 512, ∑ k385 ∈ Finset.range 512, (((∑ k386 ∈ Finset.range 512, (X.ro k384 k386) * (X.rv k385 k386)) * ((∑ k387 ∈ Finset.range 256, (X.rq k384 k387) * (X.rk k385 k387)) * (if (0 : ℝ) ≤ (((k385 : ℕ) : ℝ) - ((k384 : ℕ) : ℝ)) then (Real.exp (X.lg1 * (Max.max (((k385 : ℕ) : ℝ) - ((k384 : ℕ) : ℝ)) (0 : ℝ)))) else (0 : ℝ)))) * (Max.max (((k385 : ℕ) : ℝ) - ((k384 : ℕ) : ℝ)) (0 : ℝ)))) + (∑ k399 ∈ Finset.range 512, ∑ k400 ∈ Finset.range 1, ((((512 : ℝ) - ((k399 : ℕ) : ℝ)) * (Real.exp (X.lg1 * ((512 : ℝ) - ((k399 : ℕ) : ℝ))))) * (∑ k401 ∈ Finset.range 512, ((X.ro k399 k401) * (∑ k402 ∈ Finset.range 256, (X.rq k399 k402) * (X.rst k402 k401))))))) + (∑ k414 ∈ Finset.range 512, ∑ k415 ∈ Finset.range 1, ((((k414 : ℕ) : ℝ) * (Real.exp (X.lg1 * ((k414 : ℕ) : ℝ)))) * (∑ k416 ∈ Finset.range 256, ((X.rk k414 k416) * (∑ k417 ∈ Finset.range 512, (X.rv k414 k417) * (ds k416 k417))))))) + ((512 : ℝ) * (∑ k420 ∈ Finset.range 256, ∑ k421 ∈ Finset.range 512, ((Real.exp ((512 : ℝ) * X.lg1)) * ((ds k420 k421) * (X.rst k420 k421))))))) + (∑ k439 ∈ Finset.range 256, ∑ k440 ∈ Finset.range 1, ((((k439 : ℕ) : ℝ) * (Real.exp (X.lg1 * ((k439 : ℕ) : ℝ)))) * (∑ k441 ∈ Finset.range 256, ((X.kc k439 k441) * (∑ k442 ∈ Finset.range 512, (X.vc k439 k442) * (((ds k441 k442) * (Real.exp ((512 : ℝ) * X.lg1))) + (∑ k443 ∈ Finset.range 512, (X.rq k443 k441) * ((X.ro k443 k442) * (Real.exp (X.lg1 * ((512 : ℝ) - ((k443 : ℕ) : ℝ)))))))))))))

/-- The blocks read at grid point `t` hold the real numbers of `X`. -/
structure Ins (m : (ℓ : Loc nD τ sig) → Buf (Elt Ideal) ℓ) (c : Dev nD) (t : Fin cfg0.N) (X : Blk) : Prop where
  l0 : ∀ {inb} {pos}, View.ld (iblk m c 0 t) (Rect.unit (s := S2x4) ![0, BitVec.toNat (Scalar.indexCast (BitVec.ofNat 32 ↑(grid0.coords t 1)))] ![1, 1] inb) (Shape.Idx.first pos) = ((X.lg0 : ℝ) : EReal)
  l1 : ∀ {inb} {pos}, View.ld (iblk m c 0 t) (Rect.unit (s := S2x4) ![1, BitVec.toNat (Scalar.indexCast (BitVec.ofNat 32 ↑(grid0.coords t 1)))] ![1, 1] inb) (Shape.Idx.first pos) = ((X.lg1 : ℝ) : EReal)
  w1 : Re (s := S512x256) (iblk m c 1 t) (E2 X.q)
  w2 : Re (s := S512x256) (iblk m c 2 t) (E2 X.k)
  w3 : Re (s := S512x512) (iblk m c 3 t) (E2 X.v)
  w4 : Re (s := S1x1x1x256x512) (iblk m c 4 t) (E5 fun _ _ _ d e => X.st d e)
  w5 : Re (s := S512x512) (iblk m c 5 t) (E2 X.o)
  w6 : Re (s := S512x256) (iblk m c 6 t) (E2 X.rq)
  w7 : Re (s := S512x256) (iblk m c 7 t) (E2 X.rk)
  w8 : Re (s := S512x512) (iblk m c 8 t) (E2 X.rv)
  w9 : Re (s := S1x1x1x256x512) (iblk m c 9 t) (E5 fun _ _ _ d e => X.rst d e)
  w10 : Re (s := S512x512) (iblk m c 10 t) (E2 X.ro)
  w11 : Re (s := S256x256) (iblk m c 11 t) (E2 X.kc)
  w12 : Re (s := S256x512) (iblk m c 12 t) (E2 X.vc)

end Cert.KernelIdeal.Own
-- ==== Proof.StepA.lean ====
/- What the first grid points of a run over the chunks leave, in real numbers. -/
module

public import proofs.«01_k».proof.Proof.Step

@[expose] public section

set_option maxRecDepth 8192
set_option maxHeartbeats 4000000

noncomputable section

namespace Cert.KernelIdeal.Own

open Cert.KernelIdeal Cert.KernelIdeal.Gen Cert.Own Idealize.ShloMosaic Idealize.ShloMosaic.TcCoe Idealize.ShloMosaic.Tactic
open Idealize.SL.Sem Idealize.ShloMosaic.Pipeline

variable (m : (ℓ : Loc nD τ sig) → Buf (Elt Ideal) ℓ)

theorem reA_0 {X : Blk} {c : Dev nD} {t : Fin cfg0.N} (I : Ins m c t X) (h0 : t.val % 4 = 0) (h1 : ¬t.val % 4 = 3) :
    Re (outA m c t h0 h1).1 (E2 (sv0 X)) := by
  unfold outA
  dsimp only
  rw [View.read_writes_eq_canon _ _ _ (coverA_0 m c t h0 h1)]
  unfold atA kernelRun0_A
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay35 (re_pay23 I.l0) (re_pay27 I.l0) I.w2 I.w3 I.w5 I.w4) fun _ => rfl

theorem reA_1 {X : Blk} {c : Dev nD} {t : Fin cfg0.N} (I : Ins m c t X) (h0 : t.val % 4 = 0) (h1 : ¬t.val % 4 = 3) :
    Re (outA m c t h0 h1).2.1 (E2 (sv1 X (fun _ _ => 0))) := by
  unfold outA
  dsimp only
  rw [View.read_writes_eq_canon _ _ _ (coverA_1 m c t h0 h1)]
  unfold atA kernelRun0_A
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay36 (re_pay23 I.l0) (re_pay28 I.l0) I.w1 I.w3 I.w5 re_pay16) fun _ => rfl

theorem reA_2 {X : Blk} {c : Dev nD} {t : Fin cfg0.N} (I : Ins m c t X) (h0 : t.val % 4 = 0) (h1 : ¬t.val % 4 = 3) :
    Re (outA m c t h0 h1).2.2.1 (E2 (sv2 X (fun _ _ => 0))) := by
  unfold outA
  dsimp only
  rw [View.read_writes_eq_canon _ _ _ (coverA_2 m c t h0 h1)]
  unfold atA kernelRun0_A
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay39 re_pay16 (re_pay37 (re_pay23 I.l0) I.w1 I.w2 I.w5) (re_pay38 (re_pay28 I.l0) I.w2)) fun _ => rfl

theorem reA_5 {X : Blk} {c : Dev nD} {t : Fin cfg0.N} (I : Ins m c t X) (h0 : t.val % 4 = 0) (h1 : ¬t.val % 4 = 3) :
    Re (outA m c t h0 h1).2.2.2.2.2.1 (E4 (sv5 X (fun _ _ => 0) (fun _ _ _ _ => 0))) := by
  unfold outA
  dsimp only
  rw [View.read_writes_eq_canon _ _ _ (coverA_5 m c t h0 h1)]
  unfold atA kernelRun0_A
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay45 (re_pay40 re_pay22 re_pay24 re_pay25 (re_pay26 I.l0) (re_pay27 I.l0) (re_pay28 I.l0) I.w1 I.w2 I.w5 (re_pay29 I.w4) re_pay16 (re_pay30 (re_pay23 I.l0) I.w1 I.w2) (re_pay31 I.w3 I.w5) (re_pay34 I.w3 re_pay16)) re_pay17) fun _ => rfl

theorem reA_6 {X : Blk} {c : Dev nD} {t : Fin cfg0.N} (I : Ins m c t X) (h0 : t.val % 4 = 0) (h1 : ¬t.val % 4 = 3) :
    Re (outA m c t h0 h1).2.2.2.2.2.2.1 (E2 (sv6 X)) := by
  unfold outA
  dsimp only
  rw [View.read_writes_eq_canon _ _ _ (coverA_6 m c t h0 h1)]
  unfold atA kernelRun0_A
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay61 (re_pay49 I.l1) (re_pay52 I.l1) I.w7 I.w8 I.w10 I.w9) fun _ => rfl

theorem reA_7 {X : Blk} {c : Dev nD} {t : Fin cfg0.N} (I : Ins m c t X) (h0 : t.val % 4 = 0) (h1 : ¬t.val % 4 = 3) :
    Re (outA m c t h0 h1).2.2.2.2.2.2.2.1 (E2 (sv7 X (fun _ _ => 0))) := by
  unfold outA
  dsimp only
  rw [View.read_writes_eq_canon _ _ _ (coverA_7 m c t h0 h1)]
  unfold atA kernelRun0_A
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay62 (re_pay49 I.l1) (re_pay53 I.l1) I.w6 I.w8 I.w10 re_pay18) fun _ => rfl

theorem reA_8 {X : Blk} {c : Dev nD} {t : Fin cfg0.N} (I : Ins m c t X) (h0 : t.val % 4 = 0) (h1 : ¬t.val % 4 = 3) :
    Re (outA m c t h0 h1).2.2.2.2.2.2.2.2.1 (E2 (sv8 X (fun _ _ => 0))) := by
  unfold outA
  dsimp only
  rw [View.read_writes_eq_canon _ _ _ (coverA_8 m c t h0 h1)]
  unfold atA kernelRun0_A
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay65 re_pay18 (re_pay59 (re_pay53 I.l1) I.w7) (re_pay63 (re_pay49 I.l1) I.w6 I.w7) (re_pay64 I.w10)) fun _ => rfl

theorem reA_11 {X : Blk} {c : Dev nD} {t : Fin cfg0.N} (I : Ins m c t X) (h0 : t.val % 4 = 0) (h1 : ¬t.val % 4 = 3) :
    Re (outA m c t h0 h1).2.2.2.2.2.2.2.2.2.2.2.1 (E4 (sv11 X (fun _ _ => 0) (fun _ _ _ _ => 0))) := by
  unfold outA
  dsimp only
  rw [View.read_writes_eq_canon _ _ _ (coverA_11 m c t h0 h1)]
  unfold atA kernelRun0_A
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay3 (re_pay66 re_pay46 re_pay48 re_pay50 (re_pay51 I.l1) (re_pay52 I.l1) (re_pay53 I.l1) I.w6 I.w7 I.w10 (re_pay54 I.w9) re_pay18 (re_pay55 (re_pay49 I.l1) I.w6 I.w7) (re_pay56 I.w8 I.w10) (re_pay60 I.w8 re_pay18)) re_pay19) fun _ => rfl

theorem reA_12 {X : Blk} {c : Dev nD} {t : Fin cfg0.N} (I : Ins m c t X) (h0 : t.val % 4 = 0) (h1 : ¬t.val % 4 = 3) :
    Re (outA m c t h0 h1).2.2.2.2.2.2.2.2.2.2.2.2.1 (E2 (sv12 X (fun _ _ => 0))) := by
  unfold outA
  dsimp only
  rw [View.read_writes_eq_canon _ _ _ (coverA_12 m c t h0 h1)]
  unfold atA kernelRun0_A
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay44 (re_pay41 (re_pay26 I.l0) re_pay16) (re_pay42 I.w1 (re_pay33 (re_pay27 I.l0) I.w5))) fun _ => rfl

theorem reA_13 {X : Blk} {c : Dev nD} {t : Fin cfg0.N} (I : Ins m c t X) (h0 : t.val % 4 = 0) (h1 : ¬t.val % 4 = 3) :
    Re (outA m c t h0 h1).2.2.2.2.2.2.2.2.2.2.2.2.2 (E2 (sv13 X (fun _ _ => 0))) := by
  unfold outA
  dsimp only
  rw [View.read_writes_eq_canon _ _ _ (coverA_13 m c t h0 h1)]
  unfold atA kernelRun0_A
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay2 (re_pay58 (re_pay52 I.l1) I.w10) (re_pay67 (re_pay51 I.l1) re_pay18) (re_pay68 I.w6)) fun _ => rfl

end Cert.KernelIdeal.Own
-- ==== Proof.StepB.lean ====
/- What the middle grid points of a run over the chunks leave, in real numbers. -/
module

public import proofs.«01_k».proof.Proof.Step

@[expose] public section

set_option maxRecDepth 8192
set_option maxHeartbeats 4000000

noncomputable section

namespace Cert.KernelIdeal.Own

open Cert.KernelIdeal Cert.KernelIdeal.Gen Cert.Own Idealize.ShloMosaic Idealize.ShloMosaic.TcCoe Idealize.ShloMosaic.Tactic
open Idealize.SL.Sem Idealize.ShloMosaic.Pipeline

variable (m : (ℓ : Loc nD τ sig) → Buf (Elt Ideal) ℓ)

theorem reB_0 {X : Blk} {c : Dev nD} {t : Fin cfg0.N} (I : Ins m c t X) (h0 : ¬t.val % 4 = 0) (h1 : ¬t.val % 4 = 3) (p : Outs Ideal) :
    Re (outB m c t h0 h1 p).1 (E2 (sv0 X)) := by
  unfold outB
  dsimp only
  rw [View.read_writes_eq_canon _ _ _ (coverB_0 m c t h0 h1 p)]
  unfold atB runB
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay35 (re_pay23 I.l0) (re_pay27 I.l0) I.w2 I.w3 I.w5 I.w4) fun _ => rfl

theorem reB_1 {X : Blk} {c : Dev nD} {t : Fin cfg0.N} (I : Ins m c t X) (h0 : ¬t.val % 4 = 0) (h1 : ¬t.val % 4 = 3) (p : Outs Ideal) {ds : ℕ → ℕ → ℝ} (hs : Re p.2.2.2.2.2.2.2.2.2.2.2.2.1 (E2 ds)) :
    Re (outB m c t h0 h1 p).2.1 (E2 (sv1 X ds)) := by
  unfold outB
  dsimp only
  rw [View.read_writes_eq_canon _ _ _ (coverB_1 m c t h0 h1 p)]
  unfold atB runB
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay36 (re_pay23 I.l0) (re_pay28 I.l0) I.w1 I.w3 I.w5 hs) fun _ => rfl

theorem reB_2 {X : Blk} {c : Dev nD} {t : Fin cfg0.N} (I : Ins m c t X) (h0 : ¬t.val % 4 = 0) (h1 : ¬t.val % 4 = 3) (p : Outs Ideal) {ds : ℕ → ℕ → ℝ} (hs : Re p.2.2.2.2.2.2.2.2.2.2.2.2.1 (E2 ds)) :
    Re (outB m c t h0 h1 p).2.2.1 (E2 (sv2 X ds)) := by
  unfold outB
  dsimp only
  rw [View.read_writes_eq_canon _ _ _ (coverB_2 m c t h0 h1 p)]
  unfold atB runB
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay39 hs (re_pay37 (re_pay23 I.l0) I.w1 I.w2 I.w5) (re_pay38 (re_pay28 I.l0) I.w2)) fun _ => rfl

theorem reB_5 {X : Blk} {c : Dev nD} {t : Fin cfg0.N} (I : Ins m c t X) (h0 : ¬t.val % 4 = 0) (h1 : ¬t.val % 4 = 3) (p : Outs Ideal) {ds : ℕ → ℕ → ℝ} (hs : Re p.2.2.2.2.2.2.2.2.2.2.2.2.1 (E2 ds)) {lb : ℕ → ℕ → ℕ → ℕ → ℝ} (hl : Re p.2.2.2.2.2.1 (E4 lb)) :
    Re (outB m c t h0 h1 p).2.2.2.2.2.1 (E4 (sv5 X ds lb)) := by
  unfold outB
  dsimp only
  rw [View.read_writes_eq_canon _ _ _ (coverB_5 m c t h0 h1 p)]
  unfold atB runB
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay45 (re_pay40 re_pay22 re_pay24 re_pay25 (re_pay26 I.l0) (re_pay27 I.l0) (re_pay28 I.l0) I.w1 I.w2 I.w5 (re_pay29 I.w4) hs (re_pay30 (re_pay23 I.l0) I.w1 I.w2) (re_pay31 I.w3 I.w5) (re_pay34 I.w3 hs)) hl) fun _ => rfl

theorem reB_6 {X : Blk} {c : Dev nD} {t : Fin cfg0.N} (I : Ins m c t X) (h0 : ¬t.val % 4 = 0) (h1 : ¬t.val % 4 = 3) (p : Outs Ideal) :
    Re (outB m c t h0 h1 p).2.2.2.2.2.2.1 (E2 (sv6 X)) := by
  unfold outB
  dsimp only
  rw [View.read_writes_eq_canon _ _ _ (coverB_6 m c t h0 h1 p)]
  unfold atB runB
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay61 (re_pay49 I.l1) (re_pay52 I.l1) I.w7 I.w8 I.w10 I.w9) fun _ => rfl

theorem reB_7 {X : Blk} {c : Dev nD} {t : Fin cfg0.N} (I : Ins m c t X) (h0 : ¬t.val % 4 = 0) (h1 : ¬t.val % 4 = 3) (p : Outs Ideal) {ds : ℕ → ℕ → ℝ} (hs : Re p.2.2.2.2.2.2.2.2.2.2.2.2.2 (E2 ds)) :
    Re (outB m c t h0 h1 p).2.2.2.2.2.2.2.1 (E2 (sv7 X ds)) := by
  unfold outB
  dsimp only
  rw [View.read_writes_eq_canon _ _ _ (coverB_7 m c t h0 h1 p)]
  unfold atB runB
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay62 (re_pay49 I.l1) (re_pay53 I.l1) I.w6 I.w8 I.w10 hs) fun _ => rfl

theorem reB_8 {X : Blk} {c : Dev nD} {t : Fin cfg0.N} (I : Ins m c t X) (h0 : ¬t.val % 4 = 0) (h1 : ¬t.val % 4 = 3) (p : Outs Ideal) {ds : ℕ → ℕ → ℝ} (hs : Re p.2.2.2.2.2.2.2.2.2.2.2.2.2 (E2 ds)) :
    Re (outB m c t h0 h1 p).2.2.2.2.2.2.2.2.1 (E2 (sv8 X ds)) := by
  unfold outB
  dsimp only
  rw [View.read_writes_eq_canon _ _ _ (coverB_8 m c t h0 h1 p)]
  unfold atB runB
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay65 hs (re_pay59 (re_pay53 I.l1) I.w7) (re_pay63 (re_pay49 I.l1) I.w6 I.w7) (re_pay64 I.w10)) fun _ => rfl

theorem reB_11 {X : Blk} {c : Dev nD} {t : Fin cfg0.N} (I : Ins m c t X) (h0 : ¬t.val % 4 = 0) (h1 : ¬t.val % 4 = 3) (p : Outs Ideal) {ds : ℕ → ℕ → ℝ} (hs : Re p.2.2.2.2.2.2.2.2.2.2.2.2.2 (E2 ds)) {lb : ℕ → ℕ → ℕ → ℕ → ℝ} (hl : Re p.2.2.2.2.2.2.2.2.2.2.2.1 (E4 lb)) :
    Re (outB m c t h0 h1 p).2.2.2.2.2.2.2.2.2.2.2.1 (E4 (sv11 X ds lb)) := by
  unfold outB
  dsimp only
  rw [View.read_writes_eq_canon _ _ _ (coverB_11 m c t h0 h1 p)]
  unfold atB runB
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay3 (re_pay66 re_pay46 re_pay48 re_pay50 (re_pay51 I.l1) (re_pay52 I.l1) (re_pay53 I.l1) I.w6 I.w7 I.w10 (re_pay54 I.w9) hs (re_pay55 (re_pay49 I.l1) I.w6 I.w7) (re_pay56 I.w8 I.w10) (re_pay60 I.w8 hs)) hl) fun _ => rfl

theorem reB_12 {X : Blk} {c : Dev nD} {t : Fin cfg0.N} (I : Ins m c t X) (h0 : ¬t.val % 4 = 0) (h1 : ¬t.val % 4 = 3) (p : Outs Ideal) {ds : ℕ → ℕ → ℝ} (hs : Re p.2.2.2.2.2.2.2.2.2.2.2.2.1 (E2 ds)) :
    Re (outB m c t h0 h1 p).2.2.2.2.2.2.2.2.2.2.2.2.1 (E2 (sv12 X ds)) := by
  unfold outB
  dsimp only
  rw [View.read_writes_eq_canon _ _ _ (coverB_12 m c t h0 h1 p)]
  unfold atB runB
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay44 (re_pay41 (re_pay26 I.l0) hs) (re_pay42 I.w1 (re_pay33 (re_pay27 I.l0) I.w5))) fun _ => rfl

theorem reB_13 {X : Blk} {c : Dev nD} {t : Fin cfg0.N} (I : Ins m c t X) (h0 : ¬t.val % 4 = 0) (h1 : ¬t.val % 4 = 3) (p : Outs Ideal) {ds : ℕ → ℕ → ℝ} (hs : Re p.2.2.2.2.2.2.2.2.2.2.2.2.2 (E2 ds)) :
    Re (outB m c t h0 h1 p).2.2.2.2.2.2.2.2.2.2.2.2.2 (E2 (sv13 X ds)) := by
  unfold outB
  dsimp only
  rw [View.read_writes_eq_canon _ _ _ (coverB_13 m c t h0 h1 p)]
  unfold atB runB
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay2 (re_pay58 (re_pay52 I.l1) I.w10) (re_pay67 (re_pay51 I.l1) hs) (re_pay68 I.w6)) fun _ => rfl

end Cert.KernelIdeal.Own
-- ==== Proof.StepC.lean ====
/- What the last grid points of a run over the chunks leave, in real numbers. -/
module

public import proofs.«01_k».proof.Proof.Step

@[expose] public section

set_option maxRecDepth 8192
set_option maxHeartbeats 4000000

noncomputable section

namespace Cert.KernelIdeal.Own

open Cert.KernelIdeal Cert.KernelIdeal.Gen Cert.Own Idealize.ShloMosaic Idealize.ShloMosaic.TcCoe Idealize.ShloMosaic.Tactic
open Idealize.SL.Sem Idealize.ShloMosaic.Pipeline

variable (m : (ℓ : Loc nD τ sig) → Buf (Elt Ideal) ℓ)

theorem reC_0 {X : Blk} {c : Dev nD} {t : Fin cfg0.N} (I : Ins m c t X) (h0 : ¬t.val % 4 = 0) (h1 : t.val % 4 = 3) (p : Outs Ideal) :
    Re (outC m c t h0 h1 p).1 (E2 (sv0 X)) := by
  unfold outC
  dsimp only
  rw [View.read_writes_eq_canon _ _ _ (coverC_0 m c t h0 h1 p)]
  unfold atC runC
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay35 (re_pay23 I.l0) (re_pay27 I.l0) I.w2 I.w3 I.w5 I.w4) fun _ => rfl

theorem reC_1 {X : Blk} {c : Dev nD} {t : Fin cfg0.N} (I : Ins m c t X) (h0 : ¬t.val % 4 = 0) (h1 : t.val % 4 = 3) (p : Outs Ideal) {ds : ℕ → ℕ → ℝ} (hs : Re p.2.2.2.2.2.2.2.2.2.2.2.2.1 (E2 ds)) :
    Re (outC m c t h0 h1 p).2.1 (E2 (sv1 X ds)) := by
  unfold outC
  dsimp only
  rw [View.read_writes_eq_canon _ _ _ (coverC_1 m c t h0 h1 p)]
  unfold atC runC
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay36 (re_pay23 I.l0) (re_pay28 I.l0) I.w1 I.w3 I.w5 hs) fun _ => rfl

theorem reC_2 {X : Blk} {c : Dev nD} {t : Fin cfg0.N} (I : Ins m c t X) (h0 : ¬t.val % 4 = 0) (h1 : t.val % 4 = 3) (p : Outs Ideal) {ds : ℕ → ℕ → ℝ} (hs : Re p.2.2.2.2.2.2.2.2.2.2.2.2.1 (E2 ds)) :
    Re (outC m c t h0 h1 p).2.2.1 (E2 (sv2 X ds)) := by
  unfold outC
  dsimp only
  rw [View.read_writes_eq_canon _ _ _ (coverC_2 m c t h0 h1 p)]
  unfold atC runC
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay39 hs (re_pay37 (re_pay23 I.l0) I.w1 I.w2 I.w5) (re_pay38 (re_pay28 I.l0) I.w2)) fun _ => rfl

theorem reC_3 {X : Blk} {c : Dev nD} {t : Fin cfg0.N} (I : Ins m c t X) (h0 : ¬t.val % 4 = 0) (h1 : t.val % 4 = 3) (p : Outs Ideal) {ds : ℕ → ℕ → ℝ} (hs : Re p.2.2.2.2.2.2.2.2.2.2.2.2.1 (E2 ds)) :
    Re (outC m c t h0 h1 p).2.2.2.1 (E2 (sc3 X ds)) := by
  unfold outC
  dsimp only
  rw [View.read_writes_eq_canon _ _ _ (coverC_3 m c t h0 h1 p)]
  unfold atC runC
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay13 I.l0 (re_pay43 (re_pay41 (re_pay26 I.l0) hs) (re_pay42 I.w1 (re_pay33 (re_pay27 I.l0) I.w5))) I.w12) fun _ => rfl

theorem reC_4 {X : Blk} {c : Dev nD} {t : Fin cfg0.N} (I : Ins m c t X) (h0 : ¬t.val % 4 = 0) (h1 : t.val % 4 = 3) (p : Outs Ideal) {ds : ℕ → ℕ → ℝ} (hs : Re p.2.2.2.2.2.2.2.2.2.2.2.2.1 (E2 ds)) :
    Re (outC m c t h0 h1 p).2.2.2.2.1 (E2 (sc4 X ds)) := by
  unfold outC
  dsimp only
  rw [View.read_writes_eq_canon _ _ _ (coverC_4 m c t h0 h1 p)]
  unfold atC runC
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay14 I.l0 (re_pay43 (re_pay41 (re_pay26 I.l0) hs) (re_pay42 I.w1 (re_pay33 (re_pay27 I.l0) I.w5))) I.w11) fun _ => rfl

theorem reC_5 {X : Blk} {c : Dev nD} {t : Fin cfg0.N} (I : Ins m c t X) (h0 : ¬t.val % 4 = 0) (h1 : t.val % 4 = 3) (p : Outs Ideal) {ds : ℕ → ℕ → ℝ} (hs : Re p.2.2.2.2.2.2.2.2.2.2.2.2.1 (E2 ds)) {lb : ℕ → ℕ → ℕ → ℕ → ℝ} (hl : Re p.2.2.2.2.2.1 (E4 lb)) :
    Re (outC m c t h0 h1 p).2.2.2.2.2.1 (E4 (sc5 X ds lb)) := by
  unfold outC
  dsimp only
  rw [View.read_writes_eq_canon _ _ _ (coverC_5 m c t h0 h1 p)]
  unfold atC runC
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay15 I.l0 (re_pay43 (re_pay41 (re_pay26 I.l0) hs) (re_pay42 I.w1 (re_pay33 (re_pay27 I.l0) I.w5))) I.w11 I.w12 (re_pay45 (re_pay40 re_pay22 re_pay24 re_pay25 (re_pay26 I.l0) (re_pay27 I.l0) (re_pay28 I.l0) I.w1 I.w2 I.w5 (re_pay29 I.w4) hs (re_pay30 (re_pay23 I.l0) I.w1 I.w2) (re_pay31 I.w3 I.w5) (re_pay34 I.w3 hs)) hl)) fun _ => rfl

theorem reC_6 {X : Blk} {c : Dev nD} {t : Fin cfg0.N} (I : Ins m c t X) (h0 : ¬t.val % 4 = 0) (h1 : t.val % 4 = 3) (p : Outs Ideal) :
    Re (outC m c t h0 h1 p).2.2.2.2.2.2.1 (E2 (sv6 X)) := by
  unfold outC
  dsimp only
  rw [View.read_writes_eq_canon _ _ _ (coverC_6 m c t h0 h1 p)]
  unfold atC runC
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay61 (re_pay49 I.l1) (re_pay52 I.l1) I.w7 I.w8 I.w10 I.w9) fun _ => rfl

theorem reC_7 {X : Blk} {c : Dev nD} {t : Fin cfg0.N} (I : Ins m c t X) (h0 : ¬t.val % 4 = 0) (h1 : t.val % 4 = 3) (p : Outs Ideal) {ds : ℕ → ℕ → ℝ} (hs : Re p.2.2.2.2.2.2.2.2.2.2.2.2.2 (E2 ds)) :
    Re (outC m c t h0 h1 p).2.2.2.2.2.2.2.1 (E2 (sv7 X ds)) := by
  unfold outC
  dsimp only
  rw [View.read_writes_eq_canon _ _ _ (coverC_7 m c t h0 h1 p)]
  unfold atC runC
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay62 (re_pay49 I.l1) (re_pay53 I.l1) I.w6 I.w8 I.w10 hs) fun _ => rfl

theorem reC_8 {X : Blk} {c : Dev nD} {t : Fin cfg0.N} (I : Ins m c t X) (h0 : ¬t.val % 4 = 0) (h1 : t.val % 4 = 3) (p : Outs Ideal) {ds : ℕ → ℕ → ℝ} (hs : Re p.2.2.2.2.2.2.2.2.2.2.2.2.2 (E2 ds)) :
    Re (outC m c t h0 h1 p).2.2.2.2.2.2.2.2.1 (E2 (sv8 X ds)) := by
  unfold outC
  dsimp only
  rw [View.read_writes_eq_canon _ _ _ (coverC_8 m c t h0 h1 p)]
  unfold atC runC
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay65 hs (re_pay59 (re_pay53 I.l1) I.w7) (re_pay63 (re_pay49 I.l1) I.w6 I.w7) (re_pay64 I.w10)) fun _ => rfl

theorem reC_9 {X : Blk} {c : Dev nD} {t : Fin cfg0.N} (I : Ins m c t X) (h0 : ¬t.val % 4 = 0) (h1 : t.val % 4 = 3) (p : Outs Ideal) {ds : ℕ → ℕ → ℝ} (hs : Re p.2.2.2.2.2.2.2.2.2.2.2.2.2 (E2 ds)) :
    Re (outC m c t h0 h1 p).2.2.2.2.2.2.2.2.2.1 (E2 (sc9 X ds)) := by
  unfold outC
  dsimp only
  rw [View.read_writes_eq_canon _ _ _ (coverC_9 m c t h0 h1 p)]
  unfold atC runC
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay7 I.l1 (re_pay58 (re_pay52 I.l1) I.w10) (re_pay67 (re_pay51 I.l1) hs) (re_pay68 I.w6) I.w12) fun _ => rfl

theorem reC_10 {X : Blk} {c : Dev nD} {t : Fin cfg0.N} (I : Ins m c t X) (h0 : ¬t.val % 4 = 0) (h1 : t.val % 4 = 3) (p : Outs Ideal) {ds : ℕ → ℕ → ℝ} (hs : Re p.2.2.2.2.2.2.2.2.2.2.2.2.2 (E2 ds)) :
    Re (outC m c t h0 h1 p).2.2.2.2.2.2.2.2.2.2.1 (E2 (sc10 X ds)) := by
  unfold outC
  dsimp only
  rw [View.read_writes_eq_canon _ _ _ (coverC_10 m c t h0 h1 p)]
  unfold atC runC
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay8 I.l1 (re_pay58 (re_pay52 I.l1) I.w10) (re_pay67 (re_pay51 I.l1) hs) (re_pay68 I.w6) I.w11) fun _ => rfl

theorem reC_11 {X : Blk} {c : Dev nD} {t : Fin cfg0.N} (I : Ins m c t X) (h0 : ¬t.val % 4 = 0) (h1 : t.val % 4 = 3) (p : Outs Ideal) {ds : ℕ → ℕ → ℝ} (hs : Re p.2.2.2.2.2.2.2.2.2.2.2.2.2 (E2 ds)) {lb : ℕ → ℕ → ℕ → ℕ → ℝ} (hl : Re p.2.2.2.2.2.2.2.2.2.2.2.1 (E4 lb)) :
    Re (outC m c t h0 h1 p).2.2.2.2.2.2.2.2.2.2.2.1 (E4 (sc11 X ds lb)) := by
  unfold outC
  dsimp only
  rw [View.read_writes_eq_canon _ _ _ (coverC_11 m c t h0 h1 p)]
  unfold atC runC
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay9 I.l1 (re_pay58 (re_pay52 I.l1) I.w10) (re_pay67 (re_pay51 I.l1) hs) (re_pay68 I.w6) I.w11 I.w12 (re_pay3 (re_pay66 re_pay46 re_pay48 re_pay50 (re_pay51 I.l1) (re_pay52 I.l1) (re_pay53 I.l1) I.w6 I.w7 I.w10 (re_pay54 I.w9) hs (re_pay55 (re_pay49 I.l1) I.w6 I.w7) (re_pay56 I.w8 I.w10) (re_pay60 I.w8 hs)) hl)) fun _ => rfl

theorem reC_12 {X : Blk} {c : Dev nD} {t : Fin cfg0.N} (I : Ins m c t X) (h0 : ¬t.val % 4 = 0) (h1 : t.val % 4 = 3) (p : Outs Ideal) {ds : ℕ → ℕ → ℝ} (hs : Re p.2.2.2.2.2.2.2.2.2.2.2.2.1 (E2 ds)) :
    Re (outC m c t h0 h1 p).2.2.2.2.2.2.2.2.2.2.2.2.1 (E2 (sv12 X ds)) := by
  unfold outC
  dsimp only
  rw [View.read_writes_eq_canon _ _ _ (coverC_12 m c t h0 h1 p)]
  unfold atC runC
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay44 (re_pay41 (re_pay26 I.l0) hs) (re_pay42 I.w1 (re_pay33 (re_pay27 I.l0) I.w5))) fun _ => rfl

theorem reC_13 {X : Blk} {c : Dev nD} {t : Fin cfg0.N} (I : Ins m c t X) (h0 : ¬t.val % 4 = 0) (h1 : t.val % 4 = 3) (p : Outs Ideal) {ds : ℕ → ℕ → ℝ} (hs : Re p.2.2.2.2.2.2.2.2.2.2.2.2.2 (E2 ds)) :
    Re (outC m c t h0 h1 p).2.2.2.2.2.2.2.2.2.2.2.2.2 (E2 (sv13 X ds)) := by
  unfold outC
  dsimp only
  rw [View.read_writes_eq_canon _ _ _ (coverC_13 m c t h0 h1 p)]
  unfold atC runC
  dsimp only
  sl_unfold_words
  simp only [View.readAt_eq_ld, Memref.IsWhole.read_unread, read_unread_whole, View.canon_unit_zero (S := ⟨2, _⟩) z2, View.canon_cons_unit_zero (S := ⟨2, _⟩) z2, View.ld_unit_zero (S := ⟨2, _⟩) z2, View.readCov_unit_zero (S := ⟨2, _⟩) _ z2, View.canon_unit_zero (S := ⟨3, _⟩) z3, View.canon_cons_unit_zero (S := ⟨3, _⟩) z3, View.ld_unit_zero (S := ⟨3, _⟩) z3, View.readCov_unit_zero (S := ⟨3, _⟩) _ z3, View.canon_unit_zero (S := ⟨4, _⟩) z4, View.canon_cons_unit_zero (S := ⟨4, _⟩) z4, View.ld_unit_zero (S := ⟨4, _⟩) z4, View.readCov_unit_zero (S := ⟨4, _⟩) _ z4, View.canon_unit_zero (S := ⟨5, _⟩) z5, View.canon_cons_unit_zero (S := ⟨5, _⟩) z5, View.ld_unit_zero (S := ⟨5, _⟩) z5, View.readCov_unit_zero (S := ⟨5, _⟩) _ z5]
  exact Re.congr (re_pay2 (re_pay58 (re_pay52 I.l1) I.w10) (re_pay67 (re_pay51 I.l1) hs) (re_pay68 I.w6)) fun _ => rfl

end Cert.KernelIdeal.Own
-- ==== Proof.Math.lean ====
/- Chunked retention gradients are the plain ones: for one head of one example in one direction, over the real numbers, what the
   chunks of 512 steps compute from a carried state equals the sums over all 2048 steps. -/
module

public import proofs.«01_k».proof.Proof.Emb

@[expose] public section

noncomputable section

namespace Cert.Own

open Finset

/-- One head of one example in one direction, in the order of time: the log-decay, queries, keys, values and output gradients
    of the 2048 steps, keys and values of the 256 context steps. -/
structure Line where
  lg : ℝ
  q : ℕ → ℕ → ℝ
  k : ℕ → ℕ → ℝ
  v : ℕ → ℕ → ℝ
  o : ℕ → ℕ → ℝ
  kc : ℕ → ℕ → ℝ
  vc : ℕ → ℕ → ℝ

namespace Line

variable (L : Line)

/-- The decay over `x` steps. -/
def E (x : ℝ) : ℝ := Real.exp (L.lg * x)
/-- The decay over `x` steps, nothing for a step in the future. -/
def w (x : ℝ) : ℝ := if 0 ≤ x then Real.exp (L.lg * max x 0) else 0
/-- The state the context leaves. -/
def s0 (d e : ℕ) : ℝ := ∑ s ∈ range 256, (L.kc s d * L.E (255 - (s : ℝ))) * L.vc s e
def ov (t s : ℕ) : ℝ := ∑ e ∈ range 512, L.o t e * L.v s e
def qk (t s : ℕ) : ℝ := ∑ d ∈ range 256, L.q t d * L.k s d

/-! The gradients, as plain sums over the steps. -/

def dq (t d : ℕ) : ℝ := (∑ e ∈ range 512, (L.o t e * L.E ((t : ℝ) + 1)) * L.s0 d e)
  + ∑ s ∈ range 2048, (L.ov t s * L.w ((t : ℝ) - (s : ℝ))) * L.k s d
def dk (s d : ℕ) : ℝ := ∑ t ∈ range 2048, (L.ov t s * L.w ((t : ℝ) - (s : ℝ))) * L.q t d
def dv (s e : ℕ) : ℝ := ∑ t ∈ range 2048, L.o t e * (L.qk t s * L.w ((t : ℝ) - (s : ℝ)))
def ds0 (e d : ℕ) : ℝ := ∑ t ∈ range 2048, (L.o t e * L.E ((t : ℝ) + 1)) * L.q t d
def dkc (s d : ℕ) : ℝ := (∑ e ∈ range 512, L.ds0 e d * L.vc s e) * L.E (255 - (s : ℝ))
def dvc (s e : ℕ) : ℝ := ∑ d ∈ range 256, L.ds0 e d * (L.kc s d * L.E (255 - (s : ℝ)))
def crossT (t : ℕ) : ℝ := ∑ e ∈ range 512, (∑ d ∈ range 256, L.s0 d e * L.q t d) * L.o t e
def inside : ℝ := ∑ t ∈ range 2048, ∑ s ∈ range 2048,
  ((if (0 : ℝ) ≤ (t : ℝ) - (s : ℝ) then L.qk t s * L.ov t s else 0) * Real.exp (L.lg * max ((t : ℝ) - (s : ℝ)) 0)) * max ((t : ℝ) - (s : ℝ)) 0
def dlg : ℝ := ((∑ _i ∈ range 1, ∑ t ∈ range 2048, ((∑ _j ∈ range 1, L.crossT t) * L.E ((t : ℝ) + 1)) * ((t : ℝ) + 1))
  + ∑ _i ∈ range 1, ∑ _j ∈ range 1, L.inside)
  + ∑ _i ∈ range 1, ∑ s ∈ range 256, ((∑ _j ∈ range 1, ∑ d ∈ range 256, L.kc s d * (∑ e ∈ range 512, L.ds0 e d * L.vc s e)) * L.E (255 - (s : ℝ))) * (255 - (s : ℝ))

/-! What the chunks compute. -/

/-- The state at the entry of chunk `a`. -/
def cs (a d e : ℕ) : ℝ := L.s0 d e * L.E ((a : ℝ) * 512)
  + ∑ m ∈ range 2048, (L.k m d * L.w (((a : ℝ) * 512 - 1) - (m : ℝ))) * L.v m e
/-- The weight of step `t` in the state's gradient at step `n`. -/
def u (n t : ℕ) : ℝ := if n ≤ t then L.E ((t : ℝ) + 1 - (n : ℝ)) else 0
/-- The state's gradient at the entry of step `n`. -/
def D (n d e : ℕ) : ℝ := ∑ t ∈ range 2048, L.u n t * (L.q t d * L.o t e)

def cdq (a i d : ℕ) : ℝ := (∑ j ∈ range 512, ((∑ e ∈ range 512, L.o (512 * a + i) e * L.v (512 * a + j) e) * L.w ((i : ℝ) - (j : ℝ))) * L.k (512 * a + j) d)
  + ∑ e ∈ range 512, (L.o (512 * a + i) e * L.E ((i : ℝ) + 1)) * L.cs a d e
def cdk (S : ℕ → ℕ → ℝ) (a i d : ℕ) : ℝ := (∑ j ∈ range 512, ((∑ e ∈ range 512, L.o (512 * a + j) e * L.v (512 * a + i) e) * L.w ((j : ℝ) - (i : ℝ))) * L.q (512 * a + j) d)
  + (∑ e ∈ range 512, L.v (512 * a + i) e * S d e) * L.E (511 - (i : ℝ))
def cdv (S : ℕ → ℕ → ℝ) (a i e : ℕ) : ℝ := (∑ j ∈ range 512, ((∑ d ∈ range 256, L.q (512 * a + j) d * L.k (512 * a + i) d) * L.w ((j : ℝ) - (i : ℝ))) * L.o (512 * a + j) e)
  + ∑ d ∈ range 256, (L.k (512 * a + i) d * L.E (511 - (i : ℝ))) * S d e
def cD (S : ℕ → ℕ → ℝ) (a d e : ℕ) : ℝ := S d e * Real.exp (512 * L.lg) + ∑ i ∈ range 512, L.q (512 * a + i) d * (L.o (512 * a + i) e * L.E ((i : ℝ) + 1))
def g1 (a : ℕ) : ℝ := ∑ i ∈ range 512, ∑ j ∈ range 512, ((∑ e ∈ range 512, L.o (512 * a + i) e * L.v (512 * a + j) e)
  * ((∑ d ∈ range 256, L.q (512 * a + i) d * L.k (512 * a + j) d) * L.w ((i : ℝ) - (j : ℝ)))) * max ((i : ℝ) - (j : ℝ)) 0
def g2 (a : ℕ) : ℝ := ∑ i ∈ range 512, ∑ _x ∈ range 1, (((i : ℝ) + 1) * L.E ((i : ℝ) + 1))
  * (∑ e ∈ range 512, L.o (512 * a + i) e * (∑ d ∈ range 256, L.q (512 * a + i) d * L.cs a d e))
def g3 (S : ℕ → ℕ → ℝ) (a : ℕ) : ℝ := ∑ i ∈ range 512, ∑ _x ∈ range 1, ((511 - (i : ℝ)) * L.E (511 - (i : ℝ)))
  * (∑ d ∈ range 256, L.k (512 * a + i) d * (∑ e ∈ range 512, L.v (512 * a + i) e * S d e))
def g4 (S : ℕ → ℕ → ℝ) (a : ℕ) : ℝ := 512 * ∑ d ∈ range 256, ∑ e ∈ range 512, Real.exp (512 * L.lg) * (S d e * L.cs a d e)
/-- What chunk `a` adds to the log-decay's gradient. -/
def cg (S : ℕ → ℕ → ℝ) (a : ℕ) : ℝ := ((L.g1 a + L.g2 a) + L.g3 S a) + L.g4 S a
/-- What the context adds to it. -/
def cc (S : ℕ → ℕ → ℝ) : ℝ := ∑ s ∈ range 256, ∑ _x ∈ range 1, ((255 - (s : ℝ)) * L.E (255 - (s : ℝ)))
  * (∑ d ∈ range 256, L.kc s d * (∑ e ∈ range 512, L.vc s e * S d e))
def cdkc (S : ℕ → ℕ → ℝ) (s d : ℕ) : ℝ := (∑ e ∈ range 512, L.vc s e * S d e) * L.E (255 - (s : ℝ))
def cdvc (S : ℕ → ℕ → ℝ) (s e : ℕ) : ℝ := ∑ d ∈ range 256, (L.kc s d * L.E (255 - (s : ℝ))) * S d e

/-! Decays. -/

theorem E_mul (x y : ℝ) : L.E x * L.E y = L.E (x + y) := by
  unfold E; rw [← Real.exp_add]; ring_nf

theorem exp_512 : Real.exp (512 * L.lg) = L.E 512 := by
  unfold E; rw [mul_comm]

theorem w_nonneg {x : ℝ} (h : 0 ≤ x) : L.w x = L.E x := by
  unfold w E; rw [if_pos h, max_eq_left h]

theorem w_neg {x : ℝ} (h : x < 0) : L.w x = 0 := by
  unfold w; rw [if_neg (not_le.mpr h)]

theorem w_le {t s : ℕ} (h : s ≤ t) : L.w ((t : ℝ) - (s : ℝ)) = L.E ((t : ℝ) - (s : ℝ)) :=
  L.w_nonneg (sub_nonneg.mpr (by exact_mod_cast h))

theorem w_lt {t s : ℕ} (h : t < s) : L.w ((t : ℝ) - (s : ℝ)) = 0 :=
  L.w_neg (sub_neg.mpr (by exact_mod_cast h))

theorem w_entry_lt {a m : ℕ} (h : m < 512 * a) : L.w (((a : ℝ) * 512 - 1) - (m : ℝ)) = L.E (((a : ℝ) * 512 - 1) - (m : ℝ)) := by
  have h' : ((m + 1 : ℕ) : ℝ) ≤ ((512 * a : ℕ) : ℝ) := by exact_mod_cast h
  push_cast at h'
  exact L.w_nonneg (by linarith)

theorem w_entry_ge {a m : ℕ} (h : 512 * a ≤ m) : L.w (((a : ℝ) * 512 - 1) - (m : ℝ)) = 0 := by
  have h' : ((512 * a : ℕ) : ℝ) ≤ (m : ℝ) := by exact_mod_cast h
  push_cast at h'
  exact L.w_neg (by linarith)

/-- A sum over the steps of terms that vanish outside chunk `a` is the sum over the chunk. -/
theorem sum_chunk {a : ℕ} (ha : a < 4) (g : ℕ → ℝ) (h : ∀ m, ¬(512 * a ≤ m ∧ m < 512 * a + 512) → g m = 0) :
    ∑ m ∈ range 2048, g m = ∑ i ∈ range 512, g (512 * a + i) := by
  have e : ∑ i ∈ range 512, g (512 * a + i) = ∑ m ∈ (range 512).map (addLeftEmbedding (512 * a)), g m := by
    rw [Finset.sum_map]; rfl
  rw [e]
  symm
  refine Finset.sum_subset ?_ ?_
  · intro m hm
    simp only [mem_map, mem_range, addLeftEmbedding_apply] at hm ⊢
    obtain ⟨i, hi, rfl⟩ := hm
    omega
  · intro m hm hn
    refine h m fun hc => hn ?_
    simp only [mem_map, mem_range, addLeftEmbedding_apply]
    exact ⟨m - 512 * a, by omega, by omega⟩

/-- The past of step `i` of chunk `a`: the chunk's own steps, and the earlier ones through the chunk's entry. -/
theorem sum_past {a i : ℕ} (ha : a < 4) (hi : i < 512) (F : ℕ → ℝ) :
    ∑ m ∈ range 2048, L.w (((512 * a + i : ℕ) : ℝ) - (m : ℝ)) * F m
      = (∑ j ∈ range 512, L.w ((i : ℝ) - (j : ℝ)) * F (512 * a + j))
        + L.E ((i : ℝ) + 1) * ∑ m ∈ range 2048, L.w (((a : ℝ) * 512 - 1) - (m : ℝ)) * F m := by
  have e : ∀ m ∈ range 2048, L.w (((512 * a + i : ℕ) : ℝ) - (m : ℝ)) * F m
      = (if 512 * a ≤ m then L.w (((512 * a + i : ℕ) : ℝ) - (m : ℝ)) * F m else 0)
        + L.E ((i : ℝ) + 1) * (L.w (((a : ℝ) * 512 - 1) - (m : ℝ)) * F m) := by
    intro m _
    by_cases h : 512 * a ≤ m
    · rw [if_pos h, L.w_entry_ge h]; ring
    · rw [if_neg h, L.w_entry_lt (not_le.mp h), L.w_le (by omega), ← mul_assoc, L.E_mul, zero_add]
      congr 2
      push_cast; ring
  rw [Finset.sum_congr rfl e, Finset.sum_add_distrib, Finset.mul_sum]
  congr 1
  rw [sum_chunk ha]
  · refine Finset.sum_congr rfl fun j _ => ?_
    rw [if_pos (by omega)]
    congr 2
    push_cast; ring
  · intro m hm
    by_cases h : 512 * a ≤ m
    · rw [if_pos h, L.w_lt (by omega), zero_mul]
    · rw [if_neg h]

/-- The future of step `j` of chunk `a`: the chunk's own steps, and the later ones through the chunk's exit. -/
theorem sum_future {a j : ℕ} (ha : a < 4) (hj : j < 512) (F : ℕ → ℝ) :
    ∑ t ∈ range 2048, L.w ((t : ℝ) - ((512 * a + j : ℕ) : ℝ)) * F t
      = (∑ i ∈ range 512, L.w ((i : ℝ) - (j : ℝ)) * F (512 * a + i))
        + L.E (511 - (j : ℝ)) * ∑ t ∈ range 2048, L.u (512 * (a + 1)) t * F t := by
  have e : ∀ t ∈ range 2048, L.w ((t : ℝ) - ((512 * a + j : ℕ) : ℝ)) * F t
      = (if t < 512 * (a + 1) then L.w ((t : ℝ) - ((512 * a + j : ℕ) : ℝ)) * F t else 0)
        + L.E (511 - (j : ℝ)) * (L.u (512 * (a + 1)) t * F t) := by
    intro t _
    unfold u
    by_cases h : t < 512 * (a + 1)
    · rw [if_pos h, if_neg (not_le.mpr h)]; ring
    · rw [if_neg h, if_pos (not_lt.mp h), L.w_le (by omega), ← mul_assoc, L.E_mul, zero_add]
      congr 2
      push_cast; ring
  rw [Finset.sum_congr rfl e, Finset.sum_add_distrib, Finset.mul_sum]
  congr 1
  rw [sum_chunk ha]
  · refine Finset.sum_congr rfl fun i hi => ?_
    rw [mem_range] at hi
    rw [if_pos (by omega)]
    congr 2
    push_cast; ring
  · intro t ht
    by_cases h : t < 512 * (a + 1)
    · rw [if_pos h, L.w_lt (by omega), zero_mul]
    · rw [if_neg h]

theorem D_last (d e : ℕ) : L.D 2048 d e = 0 := by
  refine Finset.sum_eq_zero fun t ht => ?_
  rw [mem_range] at ht
  unfold u
  rw [if_neg (by omega), zero_mul]

theorem D_zero (d e : ℕ) : L.D 0 d e = L.ds0 e d := by
  refine Finset.sum_congr rfl fun t _ => ?_
  unfold u
  rw [if_pos (Nat.zero_le _)]
  push_cast
  rw [sub_zero]; ring

theorem cD_eq {a : ℕ} (ha : a < 4) (d e : ℕ) : L.cD (L.D (512 * (a + 1))) a d e = L.D (512 * a) d e := by
  unfold cD
  have s : ∀ t ∈ range 2048, L.u (512 * a) t * (L.q t d * L.o t e)
      = L.u (512 * (a + 1)) t * (L.q t d * L.o t e) * L.E 512
        + (if 512 * a ≤ t ∧ t < 512 * a + 512 then L.E ((t : ℝ) + 1 - ((512 * a : ℕ) : ℝ)) * (L.q t d * L.o t e) else 0) := by
    intro t _
    unfold u
    by_cases h1 : 512 * (a + 1) ≤ t
    · rw [if_pos h1, if_pos (by omega), if_neg (by omega), mul_right_comm, L.E_mul, add_zero]
      congr 2
      push_cast; ring
    · by_cases h2 : 512 * a ≤ t
      · rw [if_neg h1, if_pos h2, if_pos (by omega)]; ring
      · rw [if_neg h1, if_neg h2, if_neg (by omega)]; ring
  rw [L.exp_512]
  unfold D
  rw [Finset.sum_congr rfl s, Finset.sum_add_distrib, Finset.sum_mul]
  congr 1
  rw [sum_chunk ha]
  · refine Finset.sum_congr rfl fun i hi => ?_
    rw [mem_range] at hi
    rw [if_pos (by omega)]
    have : ((512 * a + i : ℕ) : ℝ) + 1 - ((512 * a : ℕ) : ℝ) = (i : ℝ) + 1 := by push_cast; ring
    rw [this]; ring
  · intro t ht
    rw [if_neg ht]

theorem cdq_eq {a i : ℕ} (ha : a < 4) (hi : i < 512) (d : ℕ) : L.cdq a i d = L.dq (512 * a + i) d := by
  unfold cdq dq
  have p := L.sum_past ha hi fun m => L.ov (512 * a + i) m * L.k m d
  have l : ∑ s ∈ range 2048, (L.ov (512 * a + i) s * L.w (((512 * a + i : ℕ) : ℝ) - (s : ℝ))) * L.k s d
      = ∑ m ∈ range 2048, L.w (((512 * a + i : ℕ) : ℝ) - (m : ℝ)) * (L.ov (512 * a + i) m * L.k m d) :=
    Finset.sum_congr rfl fun m _ => by ring
  rw [l, p]
  have c : ∑ e ∈ range 512, (L.o (512 * a + i) e * L.E ((i : ℝ) + 1)) * L.cs a d e
      = (∑ e ∈ range 512, (L.o (512 * a + i) e * L.E (((512 * a + i : ℕ) : ℝ) + 1)) * L.s0 d e)
        + L.E ((i : ℝ) + 1) * ∑ m ∈ range 2048, L.w (((a : ℝ) * 512 - 1) - (m : ℝ)) * (L.ov (512 * a + i) m * L.k m d) := by
    have e1 : ∑ m ∈ range 2048, L.w (((a : ℝ) * 512 - 1) - (m : ℝ)) * (L.ov (512 * a + i) m * L.k m d)
        = ∑ e ∈ range 512, L.o (512 * a + i) e * ∑ m ∈ range 2048, (L.k m d * L.w (((a : ℝ) * 512 - 1) - (m : ℝ))) * L.v m e := by
      simp only [ov, Finset.mul_sum, Finset.sum_mul]
      rw [Finset.sum_comm]
      exact Finset.sum_congr rfl fun e _ => Finset.sum_congr rfl fun m _ => by ring
    rw [e1, Finset.mul_sum, ← Finset.sum_add_distrib]
    refine Finset.sum_congr rfl fun e _ => ?_
    have : L.E (((512 * a + i : ℕ) : ℝ) + 1) = L.E ((i : ℝ) + 1) * L.E ((a : ℝ) * 512) := by
      rw [L.E_mul]; congr 1; push_cast; ring
    rw [this]
    unfold cs
    ring
  rw [c]
  have b : ∑ j ∈ range 512, ((∑ e ∈ range 512, L.o (512 * a + i) e * L.v (512 * a + j) e) * L.w ((i : ℝ) - (j : ℝ))) * L.k (512 * a + j) d
      = ∑ j ∈ range 512, L.w ((i : ℝ) - (j : ℝ)) * (L.ov (512 * a + i) (512 * a + j) * L.k (512 * a + j) d) :=
    Finset.sum_congr rfl fun j _ => by unfold ov; ring
  rw [b]
  ring

theorem cdk_eq {a i : ℕ} (ha : a < 4) (hi : i < 512) (d : ℕ) :
    L.cdk (L.D (512 * (a + 1))) a i d = L.dk (512 * a + i) d := by
  unfold cdk dk
  have l : ∑ t ∈ range 2048, (L.ov t (512 * a + i) * L.w ((t : ℝ) - ((512 * a + i : ℕ) : ℝ))) * L.q t d
      = ∑ t ∈ range 2048, L.w ((t : ℝ) - ((512 * a + i : ℕ) : ℝ)) * (L.ov t (512 * a + i) * L.q t d) :=
    Finset.sum_congr rfl fun m _ => by ring
  rw [l, L.sum_future ha hi]
  congr 1
  · exact Finset.sum_congr rfl fun j _ => by unfold ov; ring
  · rw [mul_comm]
    congr 1
    simp only [D, ov, Finset.mul_sum, Finset.sum_mul]
    rw [Finset.sum_comm]
    exact Finset.sum_congr rfl fun e _ => Finset.sum_congr rfl fun m _ => by ring

theorem cdv_eq {a i : ℕ} (ha : a < 4) (hi : i < 512) (e : ℕ) :
    L.cdv (L.D (512 * (a + 1))) a i e = L.dv (512 * a + i) e := by
  unfold cdv dv
  have l : ∑ t ∈ range 2048, L.o t e * (L.qk t (512 * a + i) * L.w ((t : ℝ) - ((512 * a + i : ℕ) : ℝ)))
      = ∑ t ∈ range 2048, L.w ((t : ℝ) - ((512 * a + i : ℕ) : ℝ)) * (L.qk t (512 * a + i) * L.o t e) :=
    Finset.sum_congr rfl fun m _ => by ring
  rw [l, L.sum_future ha hi]
  congr 1
  · exact Finset.sum_congr rfl fun j _ => by unfold qk; ring
  · simp only [D, qk, Finset.mul_sum, Finset.sum_mul]
    rw [Finset.sum_comm]
    exact Finset.sum_congr rfl fun e _ => Finset.sum_congr rfl fun m _ => by ring

theorem cdkc_eq (s d : ℕ) : L.cdkc (L.D 0) s d = L.dkc s d := by
  unfold cdkc dkc
  congr 1
  exact Finset.sum_congr rfl fun e _ => by rw [L.D_zero]; ring

theorem cdvc_eq (s e : ℕ) : L.cdvc (L.D 0) s e = L.dvc s e := by
  unfold cdvc dvc
  exact Finset.sum_congr rfl fun d _ => by rw [L.D_zero]; ring

/-! The log-decay's gradient. -/

/-- One pair of steps, and one step against the context. -/
def M (t s : ℕ) : ℝ := L.qk t s * L.ov t s
def N (t : ℕ) : ℝ := L.crossT t
def K (a t : ℕ) : ℝ := L.E ((a : ℝ) * 512) * L.N t + ∑ m ∈ range 2048, L.w (((a : ℝ) * 512 - 1) - (m : ℝ)) * L.M t m

theorem cs_contract (a t : ℕ) :
    ∑ e ∈ range 512, L.o t e * (∑ d ∈ range 256, L.q t d * L.cs a d e) = L.K a t := by
  unfold K
  have e1 : L.E ((a : ℝ) * 512) * L.N t = ∑ e ∈ range 512, L.o t e * (∑ d ∈ range 256, L.q t d * (L.s0 d e * L.E ((a : ℝ) * 512))) := by
    simp only [N, crossT, Finset.mul_sum, Finset.sum_mul]
    exact Finset.sum_congr rfl fun e _ => Finset.sum_congr rfl fun d _ => by ring
  have e2 : ∑ m ∈ range 2048, L.w (((a : ℝ) * 512 - 1) - (m : ℝ)) * L.M t m
      = ∑ e ∈ range 512, L.o t e * (∑ d ∈ range 256, L.q t d * ∑ m ∈ range 2048, (L.k m d * L.w (((a : ℝ) * 512 - 1) - (m : ℝ))) * L.v m e) := by
    have r : ∀ m ∈ range 2048, L.w (((a : ℝ) * 512 - 1) - (m : ℝ)) * L.M t m
        = ∑ e ∈ range 512, ∑ d ∈ range 256, L.o t e * (L.q t d * ((L.k m d * L.w (((a : ℝ) * 512 - 1) - (m : ℝ))) * L.v m e)) := by
      intro m _
      unfold M qk ov
      rw [mul_comm (∑ d ∈ range 256, _), Finset.sum_mul_sum, Finset.mul_sum]
      refine Finset.sum_congr rfl fun e _ => ?_
      rw [Finset.mul_sum]
      exact Finset.sum_congr rfl fun d _ => by ring
    rw [Finset.sum_congr rfl r, Finset.sum_comm]
    refine Finset.sum_congr rfl fun e _ => ?_
    simp only [Finset.mul_sum]
    rw [Finset.sum_comm]
  rw [e1, e2, ← Finset.sum_add_distrib]
  refine Finset.sum_congr rfl fun e _ => ?_
  rw [← mul_add, ← Finset.sum_add_distrib]
  congr 1
  refine Finset.sum_congr rfl fun d _ => ?_
  unfold cs
  ring

theorem D_contract (n s : ℕ) :
    ∑ d ∈ range 256, L.k s d * (∑ e ∈ range 512, L.v s e * L.D n d e) = ∑ t ∈ range 2048, L.u n t * L.M t s := by
  have r : ∀ t ∈ range 2048, L.u n t * L.M t s
      = ∑ d ∈ range 256, ∑ e ∈ range 512, L.k s d * (L.v s e * (L.u n t * (L.q t d * L.o t e))) := by
    intro t _
    unfold M qk ov
    rw [Finset.sum_mul_sum, Finset.mul_sum]
    refine Finset.sum_congr rfl fun d _ => ?_
    rw [Finset.mul_sum]
    exact Finset.sum_congr rfl fun e _ => by ring
  rw [Finset.sum_congr rfl r, Finset.sum_comm]
  refine Finset.sum_congr rfl fun d _ => ?_
  simp only [D, Finset.mul_sum]
  rw [Finset.sum_comm]

theorem D_cs (n a : ℕ) :
    ∑ d ∈ range 256, ∑ e ∈ range 512, L.E 512 * (L.D n d e * L.cs a d e) = L.E 512 * ∑ t ∈ range 2048, L.u n t * L.K a t := by
  have r : ∀ t ∈ range 2048, L.u n t * L.K a t
      = ∑ d ∈ range 256, ∑ e ∈ range 512, (L.u n t * (L.q t d * L.o t e)) * L.cs a d e := by
    intro t _
    rw [← L.cs_contract, Finset.mul_sum, Finset.sum_comm]
    refine Finset.sum_congr rfl fun e _ => ?_
    rw [Finset.mul_sum, Finset.mul_sum]
    exact Finset.sum_congr rfl fun d _ => by ring
  rw [Finset.sum_congr rfl r]
  conv_rhs => rw [Finset.sum_comm, Finset.mul_sum]
  refine Finset.sum_congr rfl fun d _ => ?_
  conv_rhs => rw [Finset.sum_comm, Finset.mul_sum]
  refine Finset.sum_congr rfl fun e _ => ?_
  rw [← Finset.sum_mul]
  rfl

/-- A multiple of `K`, its decays joined. -/
theorem K_expand (a t : ℕ) (c y : ℝ) :
    (c * L.E y) * L.K a t = (c * L.E (y + (a : ℝ) * 512)) * L.N t
      + ∑ m ∈ range 2048, ((if m < 512 * a then c else 0) * L.E (y + ((a : ℝ) * 512 - 1) - (m : ℝ))) * L.M t m := by
  unfold K
  rw [mul_add, Finset.mul_sum]
  congr 1
  · rw [← mul_assoc, mul_assoc c, L.E_mul]
  · refine Finset.sum_congr rfl fun m _ => ?_
    by_cases h : m < 512 * a
    · rw [if_pos h, L.w_entry_lt h, ← mul_assoc, mul_assoc c, L.E_mul]
      congr 3
      ring
    · rw [if_neg h, L.w_entry_ge (not_lt.mp h)]; ring

/-- How many of the steps up to `t` lie in chunk `a`. -/
def cN (a t : ℕ) : ℝ := (if 512 * a ≤ t ∧ t < 512 * a + 512 then (t : ℝ) + 1 - 512 * (a : ℝ) else 0)
  + (if 512 * (a + 1) ≤ t then 512 else 0)
/-- How many of the steps after `s` and up to `t` lie in chunk `a`. -/
def cM (a t s : ℕ) : ℝ := ((if 512 * a ≤ t ∧ t < 512 * a + 512 ∧ s < 512 * a then (t : ℝ) + 1 - 512 * (a : ℝ) else 0)
  + (if 512 * a ≤ s ∧ s < 512 * a + 512 ∧ 512 * (a + 1) ≤ t then 512 * (a : ℝ) + 511 - (s : ℝ) else 0))
  + ((if 512 * (a + 1) ≤ t ∧ s < 512 * a then 512 else 0)
  + (if 512 * a ≤ s ∧ s ≤ t ∧ t < 512 * a + 512 then (t : ℝ) - (s : ℝ) else 0))

theorem cN_sum {t : ℕ} (h : t < 2048) : cN 3 t + cN 2 t + cN 1 t + cN 0 t = (t : ℝ) + 1 := by
  unfold cN
  rcases (by omega : t < 512 ∨ (512 ≤ t ∧ t < 1024) ∨ (1024 ≤ t ∧ t < 1536) ∨ 1536 ≤ t) with h1 | h1 | h1 | h1 <;>
    (simp (disch := omega) only [if_pos, if_neg]; push_cast; ring)

theorem cM_sum {t s : ℕ} (h : t < 2048) (h' : s < 2048) :
    cM 3 t s + cM 2 t s + cM 1 t s + cM 0 t s = if s ≤ t then (t : ℝ) - (s : ℝ) else 0 := by
  unfold cM
  by_cases hst : s ≤ t
  · rw [if_pos hst]
    rcases (by omega : t < 512 ∨ (512 ≤ t ∧ t < 1024) ∨ (1024 ≤ t ∧ t < 1536) ∨ 1536 ≤ t) with h1 | h1 | h1 | h1 <;>
    rcases (by omega : s < 512 ∨ (512 ≤ s ∧ s < 1024) ∨ (1024 ≤ s ∧ s < 1536) ∨ 1536 ≤ s) with h2 | h2 | h2 | h2 <;>
    first
    | omega
    | (simp (disch := omega) only [if_pos, if_neg]; push_cast; ring)
  · rw [if_neg hst]
    simp (disch := omega) only [if_neg]
    norm_num

theorem g2_eq {a : ℕ} (ha : a < 4) : L.g2 a
    = (∑ t ∈ range 2048, ((if 512 * a ≤ t ∧ t < 512 * a + 512 then (t : ℝ) + 1 - 512 * (a : ℝ) else 0) * L.E ((t : ℝ) + 1)) * L.N t)
      + ∑ t ∈ range 2048, ∑ s ∈ range 2048, ((if 512 * a ≤ t ∧ t < 512 * a + 512 ∧ s < 512 * a then (t : ℝ) + 1 - 512 * (a : ℝ) else 0) * L.E ((t : ℝ) - (s : ℝ))) * L.M t s := by
  rw [← Finset.sum_add_distrib]
  have e : ∀ t ∈ range 2048, ((if 512 * a ≤ t ∧ t < 512 * a + 512 then (t : ℝ) + 1 - 512 * (a : ℝ) else 0) * L.E ((t : ℝ) + 1)) * L.N t
      + ∑ s ∈ range 2048, ((if 512 * a ≤ t ∧ t < 512 * a + 512 ∧ s < 512 * a then (t : ℝ) + 1 - 512 * (a : ℝ) else 0) * L.E ((t : ℝ) - (s : ℝ))) * L.M t s
      = ((if 512 * a ≤ t ∧ t < 512 * a + 512 then (t : ℝ) + 1 - 512 * (a : ℝ) else 0) * L.E ((t : ℝ) + 1 - 512 * (a : ℝ))) * L.K a t := by
    intro t _
    rw [L.K_expand]
    congr 1
    · congr 3; ring
    · refine Finset.sum_congr rfl fun s _ => ?_
      congr 2
      · by_cases h1 : s < 512 * a
        · by_cases h2 : 512 * a ≤ t ∧ t < 512 * a + 512
          · rw [if_pos ⟨h2.1, h2.2, h1⟩, if_pos h1, if_pos h2]
          · rw [if_neg (fun h => h2 ⟨h.1, h.2.1⟩), if_pos h1, if_neg h2]
        · rw [if_neg (fun h => h1 h.2.2), if_neg h1]
      · ring_nf
  rw [Finset.sum_congr rfl e, sum_chunk ha]
  · unfold g2
    refine Finset.sum_congr rfl fun i hi => ?_
    rw [mem_range] at hi
    rw [Finset.sum_range_one, L.cs_contract, if_pos (by omega)]
    have : ((512 * a + i : ℕ) : ℝ) + 1 - 512 * (a : ℝ) = (i : ℝ) + 1 := by push_cast; ring
    rw [this]
  · intro t ht
    rw [if_neg ht]; ring

theorem g4_eq (a : ℕ) : L.g4 (L.D (512 * (a + 1))) a
    = (∑ t ∈ range 2048, ((if 512 * (a + 1) ≤ t then 512 else 0) * L.E ((t : ℝ) + 1)) * L.N t)
      + ∑ t ∈ range 2048, ∑ s ∈ range 2048, ((if 512 * (a + 1) ≤ t ∧ s < 512 * a then 512 else 0) * L.E ((t : ℝ) - (s : ℝ))) * L.M t s := by
  rw [← Finset.sum_add_distrib]
  have e : ∀ t ∈ range 2048, ((if 512 * (a + 1) ≤ t then 512 else 0) * L.E ((t : ℝ) + 1)) * L.N t
      + ∑ s ∈ range 2048, ((if 512 * (a + 1) ≤ t ∧ s < 512 * a then 512 else 0) * L.E ((t : ℝ) - (s : ℝ))) * L.M t s
      = 512 * (L.E 512 * (L.u (512 * (a + 1)) t * L.K a t)) := by
    intro t _
    have f : 512 * (L.E 512 * (L.u (512 * (a + 1)) t * L.K a t))
        = ((if 512 * (a + 1) ≤ t then 512 else 0) * L.E ((t : ℝ) + 1 - 512 * (a : ℝ))) * L.K a t := by
      unfold u
      by_cases h : 512 * (a + 1) ≤ t
      · have : L.E ((t : ℝ) + 1 - 512 * (a : ℝ)) = L.E 512 * L.E ((t : ℝ) + 1 - ((512 * (a + 1) : ℕ) : ℝ)) := by
          rw [L.E_mul]; congr 1; push_cast; ring
        rw [if_pos h, if_pos h, this]; ring
      · rw [if_neg h, if_neg h]; ring
    rw [f, L.K_expand]
    congr 1
    · congr 3; ring
    · refine Finset.sum_congr rfl fun s _ => ?_
      congr 2
      · by_cases h1 : s < 512 * a
        · by_cases h2 : 512 * (a + 1) ≤ t
          · rw [if_pos ⟨h2, h1⟩, if_pos h1, if_pos h2]
          · rw [if_neg (fun h => h2 h.1), if_pos h1, if_neg h2]
        · rw [if_neg (fun h => h1 h.2), if_neg h1]
      · ring_nf
  rw [Finset.sum_congr rfl e, ← Finset.mul_sum, ← Finset.mul_sum, ← L.D_cs]
  unfold g4
  rw [L.exp_512]

theorem g3_eq {a : ℕ} (ha : a < 4) : L.g3 (L.D (512 * (a + 1))) a
    = ∑ t ∈ range 2048, ∑ s ∈ range 2048, ((if 512 * a ≤ s ∧ s < 512 * a + 512 ∧ 512 * (a + 1) ≤ t then 512 * (a : ℝ) + 511 - (s : ℝ) else 0) * L.E ((t : ℝ) - (s : ℝ))) * L.M t s := by
  rw [Finset.sum_comm, sum_chunk ha]
  · unfold g3
    refine Finset.sum_congr rfl fun i hi => ?_
    rw [mem_range] at hi
    rw [Finset.sum_range_one, L.D_contract, Finset.mul_sum]
    refine Finset.sum_congr rfl fun t _ => ?_
    unfold u
    by_cases h : 512 * (a + 1) ≤ t
    · rw [if_pos h, if_pos (by omega), ← mul_assoc, mul_assoc (511 - (i : ℝ)), L.E_mul]
      congr 2
      · push_cast; ring
      · push_cast; ring_nf
    · rw [if_neg h, if_neg (by omega)]; ring
  · intro s hs
    refine Finset.sum_eq_zero fun t _ => ?_
    rw [if_neg (fun h => hs ⟨h.1, h.2.1⟩)]; ring

theorem g1_eq {a : ℕ} (ha : a < 4) : L.g1 a
    = ∑ t ∈ range 2048, ∑ s ∈ range 2048, ((if 512 * a ≤ s ∧ s ≤ t ∧ t < 512 * a + 512 then (t : ℝ) - (s : ℝ) else 0) * L.E ((t : ℝ) - (s : ℝ))) * L.M t s := by
  rw [sum_chunk ha]
  · unfold g1
    refine Finset.sum_congr rfl fun i hi => ?_
    rw [mem_range] at hi
    rw [sum_chunk ha]
    · refine Finset.sum_congr rfl fun j _ => ?_
      by_cases h : j ≤ i
      · have hr : (j : ℝ) ≤ (i : ℝ) := by exact_mod_cast h
        have hs : ((512 * a + i : ℕ) : ℝ) - ((512 * a + j : ℕ) : ℝ) = (i : ℝ) - (j : ℝ) := by push_cast; ring
        rw [if_pos (by omega), L.w_le h, max_eq_left (sub_nonneg.mpr hr), hs]
        unfold M qk ov
        ring
      · rw [if_neg (by omega), L.w_lt (not_le.mp h)]; ring
    · intro s hs
      rw [if_neg (by omega)]; ring
  · intro t ht
    refine Finset.sum_eq_zero fun s _ => ?_
    rw [if_neg (by omega)]; ring

theorem cg_eq {a : ℕ} (ha : a < 4) : L.cg (L.D (512 * (a + 1))) a
    = (∑ t ∈ range 2048, (cN a t * L.E ((t : ℝ) + 1)) * L.N t)
      + ∑ t ∈ range 2048, ∑ s ∈ range 2048, (cM a t s * L.E ((t : ℝ) - (s : ℝ))) * L.M t s := by
  unfold cg
  rw [L.g1_eq ha, L.g2_eq ha, L.g3_eq ha, L.g4_eq]
  simp only [cN, cM, add_mul, Finset.sum_add_distrib]
  ring

theorem cc_eq : L.cc (L.D 0) = ∑ _i ∈ range 1, ∑ s ∈ range 256, ((∑ _j ∈ range 1, ∑ d ∈ range 256, L.kc s d * (∑ e ∈ range 512, L.ds0 e d * L.vc s e)) * L.E (255 - (s : ℝ))) * (255 - (s : ℝ)) := by
  unfold cc
  rw [Finset.sum_range_one]
  refine Finset.sum_congr rfl fun s _ => ?_
  rw [Finset.sum_range_one, Finset.sum_range_one]
  have : ∑ d ∈ range 256, L.kc s d * (∑ e ∈ range 512, L.vc s e * L.D 0 d e)
      = ∑ d ∈ range 256, L.kc s d * (∑ e ∈ range 512, L.ds0 e d * L.vc s e) :=
    Finset.sum_congr rfl fun d _ => by
      congr 1
      exact Finset.sum_congr rfl fun e _ => by rw [L.D_zero]; ring
  rw [this]; ring

theorem cg_sum : ((((0 + L.cg (L.D 2048) 3) + L.cg (L.D 1536) 2) + L.cg (L.D 1024) 1) + L.cg (L.D 512) 0) + L.cc (L.D 0) = L.dlg := by
  have h3 := L.cg_eq (a := 3) (by omega)
  have h2 := L.cg_eq (a := 2) (by omega)
  have h1 := L.cg_eq (a := 1) (by omega)
  have h0 := L.cg_eq (a := 0) (by omega)
  simp only [Nat.reduceMul, Nat.reduceAdd] at h3 h2 h1 h0
  rw [h3, h2, h1, h0, L.cc_eq]
  unfold dlg
  congr 1
  have n : ∑ _i ∈ range 1, ∑ t ∈ range 2048, ((∑ _j ∈ range 1, L.crossT t) * L.E ((t : ℝ) + 1)) * ((t : ℝ) + 1)
      = (((∑ t ∈ range 2048, (cN 3 t * L.E ((t : ℝ) + 1)) * L.N t) + ∑ t ∈ range 2048, (cN 2 t * L.E ((t : ℝ) + 1)) * L.N t)
        + ∑ t ∈ range 2048, (cN 1 t * L.E ((t : ℝ) + 1)) * L.N t) + ∑ t ∈ range 2048, (cN 0 t * L.E ((t : ℝ) + 1)) * L.N t := by
    rw [Finset.sum_range_one, ← Finset.sum_add_distrib, ← Finset.sum_add_distrib, ← Finset.sum_add_distrib]
    refine Finset.sum_congr rfl fun t ht => ?_
    rw [Finset.sum_range_one, ← cN_sum (mem_range.mp ht)]
    unfold N
    ring
  have k : ∑ _i ∈ range 1, ∑ _j ∈ range 1, L.inside
      = (((∑ t ∈ range 2048, ∑ s ∈ range 2048, (cM 3 t s * L.E ((t : ℝ) - (s : ℝ))) * L.M t s) + ∑ t ∈ range 2048, ∑ s ∈ range 2048, (cM 2 t s * L.E ((t : ℝ) - (s : ℝ))) * L.M t s)
        + ∑ t ∈ range 2048, ∑ s ∈ range 2048, (cM 1 t s * L.E ((t : ℝ) - (s : ℝ))) * L.M t s) + ∑ t ∈ range 2048, ∑ s ∈ range 2048, (cM 0 t s * L.E ((t : ℝ) - (s : ℝ))) * L.M t s := by
    rw [Finset.sum_range_one, Finset.sum_range_one, ← Finset.sum_add_distrib, ← Finset.sum_add_distrib, ← Finset.sum_add_distrib]
    unfold inside
    refine Finset.sum_congr rfl fun t ht => ?_
    rw [← Finset.sum_add_distrib, ← Finset.sum_add_distrib, ← Finset.sum_add_distrib]
    refine Finset.sum_congr rfl fun s hs => ?_
    have c := cM_sum (mem_range.mp ht) (mem_range.mp hs)
    have r : ((cM 3 t s * L.E ((t : ℝ) - (s : ℝ))) * L.M t s + (cM 2 t s * L.E ((t : ℝ) - (s : ℝ))) * L.M t s + (cM 1 t s * L.E ((t : ℝ) - (s : ℝ))) * L.M t s)
        + (cM 0 t s * L.E ((t : ℝ) - (s : ℝ))) * L.M t s = ((cM 3 t s + cM 2 t s + cM 1 t s + cM 0 t s) * L.E ((t : ℝ) - (s : ℝ))) * L.M t s := by ring
    rw [r, c]
    by_cases h : s ≤ t
    · have hr : (0 : ℝ) ≤ (t : ℝ) - (s : ℝ) := sub_nonneg.mpr (by exact_mod_cast h)
      rw [if_pos h, if_pos hr, max_eq_left hr]
      unfold M E
      ring
    · have hr : ¬(0 : ℝ) ≤ (t : ℝ) - (s : ℝ) := fun h' => h (by exact_mod_cast sub_nonneg.mp h')
      rw [if_neg h, if_neg hr]; ring
  rw [n, k]
  ring

end Line

end Cert.Own
-- ==== Proof.RefOps.lean ====
/- The reference's products, sums and reshapes, read at natural-number coordinates on arrays of real numbers. -/
module

public import proofs.«01_k».proof.Proof.Gen.ReferenceIdeal
public import proofs.«01_k».proof.Proof.Emb

@[expose] public section

set_option maxRecDepth 4000

noncomputable section

namespace Cert.ReferenceIdeal.Own

open Cert.ReferenceIdeal Cert.ReferenceIdeal.Gen Cert.Own Idealize.ShloMosaic Idealize.ShloMosaic.TcCoe

theorem cast_1x4_4 {X : S1x4.Idx → EReal} {f : ℕ → ℕ → ℝ} (hX : Re X (E2 f))
    (h : Shape.ShapeCasts S1x4 S4) :
    Re (shapeCast S4 X h) (E1 fun i0 => f 0 i0) :=
  Re.resh hX h fun i j e => by
    rw [Shape.rowMajor_val_two, Shape.rowMajor_val_one] at e
    have a0 : (i 0).val < 1 := (i 0).isLt
    have a1 : (i 1).val < 4 := (i 1).isLt
    have b0 : (j 0).val < 4 := (j 0).isLt
    have e : ((i 0).val * 4 + (i 1).val) = (j 0).val := e
    have c0 : (i 0).val = 0 := by omega
    have c1 : (i 1).val = (j 0).val := by omega
    show f (i 0).val (i 1).val = f 0 (j 0).val
    rw [c0, c1]

theorem cast_8192x1024_4x2048x4x256 {X : S8192x1024.Idx → EReal} {f : ℕ → ℕ → ℝ} (hX : Re X (E2 f))
    (h : Shape.ShapeCasts S8192x1024 S4x2048x4x256) :
    Re (shapeCast S4x2048x4x256 X h) (E4 fun i0 i1 i2 i3 => f (2048 * i0 + i1) (256 * i2 + i3)) := Re.split hX h rfl

theorem cast_8192x2048_4x2048x4x512 {X : S8192x2048.Idx → EReal} {f : ℕ → ℕ → ℝ} (hX : Re X (E2 f))
    (h : Shape.ShapeCasts S8192x2048 S4x2048x4x512) :
    Re (shapeCast S4x2048x4x512 X h) (E4 fun i0 i1 i2 i3 => f (2048 * i0 + i1) (512 * i2 + i3)) := Re.split hX h rfl

theorem cast_1024x1024_4x256x4x256 {X : S1024x1024.Idx → EReal} {f : ℕ → ℕ → ℝ} (hX : Re X (E2 f))
    (h : Shape.ShapeCasts S1024x1024 S4x256x4x256) :
    Re (shapeCast S4x256x4x256 X h) (E4 fun i0 i1 i2 i3 => f (256 * i0 + i1) (256 * i2 + i3)) := Re.split hX h rfl

theorem cast_1024x2048_4x256x4x512 {X : S1024x2048.Idx → EReal} {f : ℕ → ℕ → ℝ} (hX : Re X (E2 f))
    (h : Shape.ShapeCasts S1024x2048 S4x256x4x512) :
    Re (shapeCast S4x256x4x512 X h) (E4 fun i0 i1 i2 i3 => f (256 * i0 + i1) (512 * i2 + i3)) := Re.split hX h rfl

abbrev hd0 := dot_S4x256x4x256_S4x256x4x512_S4x4x256x512_1_1_3_3_02_02
theorem hdot0 {φ₁ φ₂ : FTy} {X : FVec Ideal S4x256x4x256 φ₁} {Y : FVec Ideal S4x256x4x512 φ₂} {f : ℕ → ℕ → ℕ → ℕ → ℝ} {g : ℕ → ℕ → ℕ → ℕ → ℝ}
    (hX : Re X (E4 f)) (hY : Re Y (E4 g)) :
    Re (Host.dotGeneral (F := Ideal) dot_S4x256x4x256_S4x256x4x512_S4x4x256x512_1_1_3_3_02_02 none X Y)
      (E4 fun i0 i1 i2 i3 => ∑ k ∈ Finset.range 256, f i0 k i1 i2 * g i0 k i1 i3) :=
  Re.dot hd0 256 rfl rfl hX hY (fun j k => f (j 0).val k (j 1).val (j 2).val) (fun j k => g (j 0).val k (j 1).val (j 3).val)
    (fun _ _ => rfl)
    (fun _ _ => rfl)

abbrev hd1 := dot_S4x2048x4x256_S4x2048x4x256_S4x4x2048x2048_3_3_1_1_02_02
theorem hdot1 {φ₁ φ₂ : FTy} {X : FVec Ideal S4x2048x4x256 φ₁} {Y : FVec Ideal S4x2048x4x256 φ₂} {f : ℕ → ℕ → ℕ → ℕ → ℝ} {g : ℕ → ℕ → ℕ → ℕ → ℝ}
    (hX : Re X (E4 f)) (hY : Re Y (E4 g)) :
    Re (Host.dotGeneral (F := Ideal) dot_S4x2048x4x256_S4x2048x4x256_S4x4x2048x2048_3_3_1_1_02_02 none X Y)
      (E4 fun i0 i1 i2 i3 => ∑ k ∈ Finset.range 256, f i0 i2 i1 k * g i0 i3 i1 k) :=
  Re.dot hd1 256 rfl rfl hX hY (fun j k => f (j 0).val (j 2).val (j 1).val k) (fun j k => g (j 0).val (j 3).val (j 1).val k)
    (fun _ _ => rfl)
    (fun _ _ => rfl)

abbrev hd2 := dot_S4x4x256x512_S4x2048x4x256_S4x4x512x2048_2_3_3_1_01_02
theorem hdot2 {φ₁ φ₂ : FTy} {X : FVec Ideal S4x4x256x512 φ₁} {Y : FVec Ideal S4x2048x4x256 φ₂} {f : ℕ → ℕ → ℕ → ℕ → ℝ} {g : ℕ → ℕ → ℕ → ℕ → ℝ}
    (hX : Re X (E4 f)) (hY : Re Y (E4 g)) :
    Re (Host.dotGeneral (F := Ideal) dot_S4x4x256x512_S4x2048x4x256_S4x4x512x2048_2_3_3_1_01_02 none X Y)
      (E4 fun i0 i1 i2 i3 => ∑ k ∈ Finset.range 256, f i0 i1 k i2 * g i0 i3 i1 k) :=
  Re.dot hd2 256 rfl rfl hX hY (fun j k => f (j 0).val (j 1).val k (j 2).val) (fun j k => g (j 0).val (j 3).val (j 1).val k)
    (fun _ _ => rfl)
    (fun _ _ => rfl)

theorem hsum_4x2048x4x512_3 {X : FVec Ideal S4x2048x4x512 .f32} {f : ℕ → ℕ → ℕ → ℕ → ℝ} (hX : Re X (E4 f)) {c : FVec Ideal S_ .f32}
    (h' : Shape.ReducesTo S4x2048x4x512 [3] S4x2048x4) (hu : 0 < S_.numel) (hc : Re c fun _ => 0) :
    Re (Host.reduceAdd (F := Ideal) X c h' hu) (E3 fun i0 i1 i2 => ∑ k ∈ Finset.range 512, f i0 i1 i2 k) :=
  Re.hsum1 hX h' (by decide) (fun j k => f (j 0).val (j 1).val (j 2).val k) (fun _ _ => rfl) hu hc

theorem cast_4x2048x4_4x2048x4x1 {X : S4x2048x4.Idx → EReal} {f : ℕ → ℕ → ℕ → ℝ} (hX : Re X (E3 f))
    (h : Shape.ShapeCasts S4x2048x4 S4x2048x4x1) :
    Re (shapeCast S4x2048x4x1 X h) (E4 fun i0 i1 i2 i3 => f i0 i1 i2) :=
  Re.resh hX h fun i j e => by
    rw [Shape.rowMajor_val_three, Shape.rowMajor_val_four] at e
    have a0 : (i 0).val < 4 := (i 0).isLt
    have a1 : (i 1).val < 2048 := (i 1).isLt
    have a2 : (i 2).val < 4 := (i 2).isLt
    have b0 : (j 0).val < 4 := (j 0).isLt
    have b1 : (j 1).val < 2048 := (j 1).isLt
    have b2 : (j 2).val < 4 := (j 2).isLt
    have b3 : (j 3).val < 1 := (j 3).isLt
    have e : (((i 0).val * 2048 + (i 1).val) * 4 + (i 2).val) = ((((j 0).val * 2048 + (j 1).val) * 4 + (j 2).val) * 1 + (j 3).val) := e
    have c0 : (i 0).val = (j 0).val := by omega
    have c1 : (i 1).val = (j 1).val := by omega
    have c2 : (i 2).val = (j 2).val := by omega
    show f (i 0).val (i 1).val (i 2).val = f (j 0).val (j 1).val (j 2).val
    rw [c0, c1, c2]

abbrev hd3 := dot_S4x4x512x2048_S4x4x256x512_S4x4x2048x256_2_3_3_2_01_01
theorem hdot3 {φ₁ φ₂ : FTy} {X : FVec Ideal S4x4x512x2048 φ₁} {Y : FVec Ideal S4x4x256x512 φ₂} {f : ℕ → ℕ → ℕ → ℕ → ℝ} {g : ℕ → ℕ → ℕ → ℕ → ℝ}
    (hX : Re X (E4 f)) (hY : Re Y (E4 g)) :
    Re (Host.dotGeneral (F := Ideal) dot_S4x4x512x2048_S4x4x256x512_S4x4x2048x256_2_3_3_2_01_01 none X Y)
      (E4 fun i0 i1 i2 i3 => ∑ k ∈ Finset.range 512, f i0 i1 k i2 * g i0 i1 i3 k) :=
  Re.dot hd3 512 rfl rfl hX hY (fun j k => f (j 0).val (j 1).val k (j 2).val) (fun j k => g (j 0).val (j 1).val (j 3).val k)
    (fun _ _ => rfl)
    (fun _ _ => rfl)

abbrev hd4 := dot_S4x4x512x2048_S4x2048x4x256_S4x4x512x256_3_1_2_3_01_02
theorem hdot4 {φ₁ φ₂ : FTy} {X : FVec Ideal S4x4x512x2048 φ₁} {Y : FVec Ideal S4x2048x4x256 φ₂} {f : ℕ → ℕ → ℕ → ℕ → ℝ} {g : ℕ → ℕ → ℕ → ℕ → ℝ}
    (hX : Re X (E4 f)) (hY : Re Y (E4 g)) :
    Re (Host.dotGeneral (F := Ideal) dot_S4x4x512x2048_S4x2048x4x256_S4x4x512x256_3_1_2_3_01_02 none X Y)
      (E4 fun i0 i1 i2 i3 => ∑ k ∈ Finset.range 2048, f i0 i1 i2 k * g i0 k i1 i3) :=
  Re.dot hd4 2048 rfl rfl hX hY (fun j k => f (j 0).val (j 1).val (j 2).val k) (fun j k => g (j 0).val k (j 1).val (j 3).val)
    (fun _ _ => rfl)
    (fun _ _ => rfl)

abbrev hd5 := dot_S4x4x512x2048_S4x2048x4x512_S4x4x2048x2048_2_3_3_1_01_02
theorem hdot5 {φ₁ φ₂ : FTy} {X : FVec Ideal S4x4x512x2048 φ₁} {Y : FVec Ideal S4x2048x4x512 φ₂} {f : ℕ → ℕ → ℕ → ℕ → ℝ} {g : ℕ → ℕ → ℕ → ℕ → ℝ}
    (hX : Re X (E4 f)) (hY : Re Y (E4 g)) :
    Re (Host.dotGeneral (F := Ideal) dot_S4x4x512x2048_S4x2048x4x512_S4x4x2048x2048_2_3_3_1_01_02 none X Y)
      (E4 fun i0 i1 i2 i3 => ∑ k ∈ Finset.range 512, f i0 i1 k i2 * g i0 i3 i1 k) :=
  Re.dot hd5 512 rfl rfl hX hY (fun j k => f (j 0).val (j 1).val k (j 2).val) (fun j k => g (j 0).val (j 3).val (j 1).val k)
    (fun _ _ => rfl)
    (fun _ _ => rfl)

abbrev hd6 := dot_S4x4x512x2048_S4x4x2048x2048_S4x4x512x2048_3_2_2_3_01_01
theorem hdot6 {φ₁ φ₂ : FTy} {X : FVec Ideal S4x4x512x2048 φ₁} {Y : FVec Ideal S4x4x2048x2048 φ₂} {f : ℕ → ℕ → ℕ → ℕ → ℝ} {g : ℕ → ℕ → ℕ → ℕ → ℝ}
    (hX : Re X (E4 f)) (hY : Re Y (E4 g)) :
    Re (Host.dotGeneral (F := Ideal) dot_S4x4x512x2048_S4x4x2048x2048_S4x4x512x2048_3_2_2_3_01_01 none X Y)
      (E4 fun i0 i1 i2 i3 => ∑ k ∈ Finset.range 2048, f i0 i1 i2 k * g i0 i1 k i3) :=
  Re.dot hd6 2048 rfl rfl hX hY (fun j k => f (j 0).val (j 1).val (j 2).val k) (fun j k => g (j 0).val (j 1).val k (j 3).val)
    (fun _ _ => rfl)
    (fun _ _ => rfl)

abbrev hd7 := dot_S4x4x2048x2048_S4x2048x4x256_S4x4x2048x256_2_1_3_3_01_02
theorem hdot7 {φ₁ φ₂ : FTy} {X : FVec Ideal S4x4x2048x2048 φ₁} {Y : FVec Ideal S4x2048x4x256 φ₂} {f : ℕ → ℕ → ℕ → ℕ → ℝ} {g : ℕ → ℕ → ℕ → ℕ → ℝ}
    (hX : Re X (E4 f)) (hY : Re Y (E4 g)) :
    Re (Host.dotGeneral (F := Ideal) dot_S4x4x2048x2048_S4x2048x4x256_S4x4x2048x256_2_1_3_3_01_02 none X Y)
      (E4 fun i0 i1 i2 i3 => ∑ k ∈ Finset.range 2048, f i0 i1 k i2 * g i0 k i1 i3) :=
  Re.dot hd7 2048 rfl rfl hX hY (fun j k => f (j 0).val (j 1).val k (j 2).val) (fun j k => g (j 0).val k (j 1).val (j 3).val)
    (fun _ _ => rfl)
    (fun _ _ => rfl)

abbrev hd8 := dot_S4x4x2048x2048_S4x2048x4x256_S4x4x2048x256_3_1_2_3_01_02
theorem hdot8 {φ₁ φ₂ : FTy} {X : FVec Ideal S4x4x2048x2048 φ₁} {Y : FVec Ideal S4x2048x4x256 φ₂} {f : ℕ → ℕ → ℕ → ℕ → ℝ} {g : ℕ → ℕ → ℕ → ℕ → ℝ}
    (hX : Re X (E4 f)) (hY : Re Y (E4 g)) :
    Re (Host.dotGeneral (F := Ideal) dot_S4x4x2048x2048_S4x2048x4x256_S4x4x2048x256_3_1_2_3_01_02 none X Y)
      (E4 fun i0 i1 i2 i3 => ∑ k ∈ Finset.range 2048, f i0 i1 i2 k * g i0 k i1 i3) :=
  Re.dot hd8 2048 rfl rfl hX hY (fun j k => f (j 0).val (j 1).val (j 2).val k) (fun j k => g (j 0).val k (j 1).val (j 3).val)
    (fun _ _ => rfl)
    (fun _ _ => rfl)

theorem hsum_4x2048x4x1_3 {X : FVec Ideal S4x2048x4x1 .f32} {f : ℕ → ℕ → ℕ → ℕ → ℝ} (hX : Re X (E4 f)) {c : FVec Ideal S_ .f32}
    (h' : Shape.ReducesTo S4x2048x4x1 [3] S4x2048x4) (hu : 0 < S_.numel) (hc : Re c fun _ => 0) :
    Re (Host.reduceAdd (F := Ideal) X c h' hu) (E3 fun i0 i1 i2 => ∑ k ∈ Finset.range 1, f i0 i1 i2 k) :=
  Re.hsum1 hX h' (by decide) (fun j k => f (j 0).val (j 1).val (j 2).val k) (fun _ _ => rfl) hu hc

theorem hsum_4x2048x4_1 {X : FVec Ideal S4x2048x4 .f32} {f : ℕ → ℕ → ℕ → ℝ} (hX : Re X (E3 f)) {c : FVec Ideal S_ .f32}
    (h' : Shape.ReducesTo S4x2048x4 [1] S4x4) (hu : 0 < S_.numel) (hc : Re c fun _ => 0) :
    Re (Host.reduceAdd (F := Ideal) X c h' hu) (E2 fun i0 i1 => ∑ k ∈ Finset.range 2048, f i0 k i1) :=
  Re.hsum1 hX h' (by decide) (fun j k => f (j 0).val k (j 1).val) (fun _ _ => rfl) hu hc

theorem cast_4x4_4x1x4 {X : S4x4.Idx → EReal} {f : ℕ → ℕ → ℝ} (hX : Re X (E2 f))
    (h : Shape.ShapeCasts S4x4 S4x1x4) :
    Re (shapeCast S4x1x4 X h) (E3 fun i0 i1 i2 => f i0 i2) :=
  Re.resh hX h fun i j e => by
    rw [Shape.rowMajor_val_two, Shape.rowMajor_val_three] at e
    have a0 : (i 0).val < 4 := (i 0).isLt
    have a1 : (i 1).val < 4 := (i 1).isLt
    have b0 : (j 0).val < 4 := (j 0).isLt
    have b1 : (j 1).val < 1 := (j 1).isLt
    have b2 : (j 2).val < 4 := (j 2).isLt
    have e : ((i 0).val * 4 + (i 1).val) = (((j 0).val * 1 + (j 1).val) * 4 + (j 2).val) := e
    have c0 : (i 0).val = (j 0).val := by omega
    have c1 : (i 1).val = (j 2).val := by omega
    show f (i 0).val (i 1).val = f (j 0).val (j 2).val
    rw [c0, c1]

theorem hsum_4x1x4_1 {X : FVec Ideal S4x1x4 .f32} {f : ℕ → ℕ → ℕ → ℝ} (hX : Re X (E3 f)) {c : FVec Ideal S_ .f32}
    (h' : Shape.ReducesTo S4x1x4 [1] S4x4) (hu : 0 < S_.numel) (hc : Re c fun _ => 0) :
    Re (Host.reduceAdd (F := Ideal) X c h' hu) (E2 fun i0 i1 => ∑ k ∈ Finset.range 1, f i0 k i1) :=
  Re.hsum1 hX h' (by decide) (fun j k => f (j 0).val k (j 1).val) (fun _ _ => rfl) hu hc

theorem cast_4x4_4x4x1x1 {X : S4x4.Idx → EReal} {f : ℕ → ℕ → ℝ} (hX : Re X (E2 f))
    (h : Shape.ShapeCasts S4x4 S4x4x1x1) :
    Re (shapeCast S4x4x1x1 X h) (E4 fun i0 i1 i2 i3 => f i0 i1) :=
  Re.resh hX h fun i j e => by
    rw [Shape.rowMajor_val_two, Shape.rowMajor_val_four] at e
    have a0 : (i 0).val < 4 := (i 0).isLt
    have a1 : (i 1).val < 4 := (i 1).isLt
    have b0 : (j 0).val < 4 := (j 0).isLt
    have b1 : (j 1).val < 4 := (j 1).isLt
    have b2 : (j 2).val < 1 := (j 2).isLt
    have b3 : (j 3).val < 1 := (j 3).isLt
    have e : ((i 0).val * 4 + (i 1).val) = ((((j 0).val * 4 + (j 1).val) * 1 + (j 2).val) * 1 + (j 3).val) := e
    have c0 : (i 0).val = (j 0).val := by omega
    have c1 : (i 1).val = (j 1).val := by omega
    show f (i 0).val (i 1).val = f (j 0).val (j 1).val
    rw [c0, c1]

abbrev hd9 := dot_S4x4x256x512_S4x256x4x256_S4x4x512x256_2_3_3_1_01_02
theorem hdot9 {φ₁ φ₂ : FTy} {X : FVec Ideal S4x4x256x512 φ₁} {Y : FVec Ideal S4x256x4x256 φ₂} {f : ℕ → ℕ → ℕ → ℕ → ℝ} {g : ℕ → ℕ → ℕ → ℕ → ℝ}
    (hX : Re X (E4 f)) (hY : Re Y (E4 g)) :
    Re (Host.dotGeneral (F := Ideal) dot_S4x4x256x512_S4x256x4x256_S4x4x512x256_2_3_3_1_01_02 none X Y)
      (E4 fun i0 i1 i2 i3 => ∑ k ∈ Finset.range 256, f i0 i1 k i2 * g i0 i3 i1 k) :=
  Re.dot hd9 256 rfl rfl hX hY (fun j k => f (j 0).val (j 1).val k (j 2).val) (fun j k => g (j 0).val (j 3).val (j 1).val k)
    (fun _ _ => rfl)
    (fun _ _ => rfl)

abbrev hd10 := dot_S4x4x256x512_S4x256x4x512_S4x4x256x256_3_3_2_1_01_02
theorem hdot10 {φ₁ φ₂ : FTy} {X : FVec Ideal S4x4x256x512 φ₁} {Y : FVec Ideal S4x256x4x512 φ₂} {f : ℕ → ℕ → ℕ → ℕ → ℝ} {g : ℕ → ℕ → ℕ → ℕ → ℝ}
    (hX : Re X (E4 f)) (hY : Re Y (E4 g)) :
    Re (Host.dotGeneral (F := Ideal) dot_S4x4x256x512_S4x256x4x512_S4x4x256x256_3_3_2_1_01_02 none X Y)
      (E4 fun i0 i1 i2 i3 => ∑ k ∈ Finset.range 512, f i0 i1 i2 k * g i0 i3 i1 k) :=
  Re.dot hd10 512 rfl rfl hX hY (fun j k => f (j 0).val (j 1).val (j 2).val k) (fun j k => g (j 0).val (j 3).val (j 1).val k)
    (fun _ _ => rfl)
    (fun _ _ => rfl)

theorem hsum_4x256x4x256_3 {X : FVec Ideal S4x256x4x256 .f32} {f : ℕ → ℕ → ℕ → ℕ → ℝ} (hX : Re X (E4 f)) {c : FVec Ideal S_ .f32}
    (h' : Shape.ReducesTo S4x256x4x256 [3] S4x256x4) (hu : 0 < S_.numel) (hc : Re c fun _ => 0) :
    Re (Host.reduceAdd (F := Ideal) X c h' hu) (E3 fun i0 i1 i2 => ∑ k ∈ Finset.range 256, f i0 i1 i2 k) :=
  Re.hsum1 hX h' (by decide) (fun j k => f (j 0).val (j 1).val (j 2).val k) (fun _ _ => rfl) hu hc

theorem cast_4x256x4_4x256x4x1 {X : S4x256x4.Idx → EReal} {f : ℕ → ℕ → ℕ → ℝ} (hX : Re X (E3 f))
    (h : Shape.ShapeCasts S4x256x4 S4x256x4x1) :
    Re (shapeCast S4x256x4x1 X h) (E4 fun i0 i1 i2 i3 => f i0 i1 i2) :=
  Re.resh hX h fun i j e => by
    rw [Shape.rowMajor_val_three, Shape.rowMajor_val_four] at e
    have a0 : (i 0).val < 4 := (i 0).isLt
    have a1 : (i 1).val < 256 := (i 1).isLt
    have a2 : (i 2).val < 4 := (i 2).isLt
    have b0 : (j 0).val < 4 := (j 0).isLt
    have b1 : (j 1).val < 256 := (j 1).isLt
    have b2 : (j 2).val < 4 := (j 2).isLt
    have b3 : (j 3).val < 1 := (j 3).isLt
    have e : (((i 0).val * 256 + (i 1).val) * 4 + (i 2).val) = ((((j 0).val * 256 + (j 1).val) * 4 + (j 2).val) * 1 + (j 3).val) := e
    have c0 : (i 0).val = (j 0).val := by omega
    have c1 : (i 1).val = (j 1).val := by omega
    have c2 : (i 2).val = (j 2).val := by omega
    show f (i 0).val (i 1).val (i 2).val = f (j 0).val (j 1).val (j 2).val
    rw [c0, c1, c2]

theorem hsum_4x256x4x1_3 {X : FVec Ideal S4x256x4x1 .f32} {f : ℕ → ℕ → ℕ → ℕ → ℝ} (hX : Re X (E4 f)) {c : FVec Ideal S_ .f32}
    (h' : Shape.ReducesTo S4x256x4x1 [3] S4x256x4) (hu : 0 < S_.numel) (hc : Re c fun _ => 0) :
    Re (Host.reduceAdd (F := Ideal) X c h' hu) (E3 fun i0 i1 i2 => ∑ k ∈ Finset.range 1, f i0 i1 i2 k) :=
  Re.hsum1 hX h' (by decide) (fun j k => f (j 0).val (j 1).val (j 2).val k) (fun _ _ => rfl) hu hc

theorem hsum_4x256x4_1 {X : FVec Ideal S4x256x4 .f32} {f : ℕ → ℕ → ℕ → ℝ} (hX : Re X (E3 f)) {c : FVec Ideal S_ .f32}
    (h' : Shape.ReducesTo S4x256x4 [1] S4x4) (hu : 0 < S_.numel) (hc : Re c fun _ => 0) :
    Re (Host.reduceAdd (F := Ideal) X c h' hu) (E2 fun i0 i1 => ∑ k ∈ Finset.range 256, f i0 k i1) :=
  Re.hsum1 hX h' (by decide) (fun j k => f (j 0).val k (j 1).val) (fun _ _ => rfl) hu hc

theorem cast_4x2048x4x256_8192x1024 {X : S4x2048x4x256.Idx → EReal} {f : ℕ → ℕ → ℕ → ℕ → ℝ} (hX : Re X (E4 f))
    (h : Shape.ShapeCasts S4x2048x4x256 S8192x1024) :
    Re (shapeCast S8192x1024 X h) (E2 fun i0 i1 => f (i0 / 2048) (i0 % 2048) (i1 / 256) (i1 % 256)) := Re.merge hX h rfl

theorem cast_4x2048x4x512_8192x2048 {X : S4x2048x4x512.Idx → EReal} {f : ℕ → ℕ → ℕ → ℕ → ℝ} (hX : Re X (E4 f))
    (h : Shape.ShapeCasts S4x2048x4x512 S8192x2048) :
    Re (shapeCast S8192x2048 X h) (E2 fun i0 i1 => f (i0 / 2048) (i0 % 2048) (i1 / 512) (i1 % 512)) := Re.merge hX h rfl

theorem cast_4x256x4x256_1024x1024 {X : S4x256x4x256.Idx → EReal} {f : ℕ → ℕ → ℕ → ℕ → ℝ} (hX : Re X (E4 f))
    (h : Shape.ShapeCasts S4x256x4x256 S1024x1024) :
    Re (shapeCast S1024x1024 X h) (E2 fun i0 i1 => f (i0 / 256) (i0 % 256) (i1 / 256) (i1 % 256)) := Re.merge hX h rfl

theorem cast_4x256x4x512_1024x2048 {X : S4x256x4x512.Idx → EReal} {f : ℕ → ℕ → ℕ → ℕ → ℝ} (hX : Re X (E4 f))
    (h : Shape.ShapeCasts S4x256x4x512 S1024x2048) :
    Re (shapeCast S1024x2048 X h) (E2 fun i0 i1 => f (i0 / 256) (i0 % 256) (i1 / 512) (i1 % 512)) := Re.merge hX h rfl

end Cert.ReferenceIdeal.Own
-- ==== Proof.RefVals.lean ====
/- Every buffer of the reference on arrays of real numbers: the real function it holds. -/
module

public import proofs.«01_k».proof.Proof.Gen.ReferenceIdeal.Read
public import proofs.«01_k».proof.Proof.RefOps

@[expose] public section

set_option maxRecDepth 4000

noncomputable section

namespace Cert.ReferenceIdeal.Own

open Cert.ReferenceIdeal Cert.ReferenceIdeal.Gen Cert.ReferenceIdeal.Value Cert.ReferenceIdeal.Read Cert.Own Idealize.ShloMosaic Idealize.ShloMosaic.TcCoe

variable (D : Data) {x0 : (⟨S9216x2048, .f32⟩ : BufTy).Contents (Elt Ideal)}
  {x1 : (⟨S9216x6144, .f32⟩ : BufTy).Contents (Elt Ideal)}
  {x2 : (⟨S2x4, .f32⟩ : BufTy).Contents (Elt Ideal)}
  {x3 : (⟨S8192x2048, .f32⟩ : BufTy).Contents (Elt Ideal)}

theorem re_v0 (h2 : Re x2 (E2 D.LG)) :
    Re (val_main_v0 x2) (E2 (fun i0 i1 => (D.LG (0 + i0) (0 + i1)))) :=
  Re.congr (Re.slice h2) fun _ => rfl

theorem re_v1 (h2 : Re x2 (E2 D.LG)) :
    Re (val_main_v1 x2) (E1 (fun i0 => (D.LG (0 + 0) (0 + i0)))) :=
  Re.congr (cast_1x4_4 (re_v0 D h2) _) fun _ => rfl

theorem re_v2 (h2 : Re x2 (E2 D.LG)) :
    Re (val_main_v2 x2) (E2 (fun i0 i1 => (D.LG (1 + i0) (0 + i1)))) :=
  Re.congr (Re.slice h2) fun _ => rfl

theorem re_v3 (h2 : Re x2 (E2 D.LG)) :
    Re (val_main_v3 x2) (E1 (fun i0 => (D.LG (1 + 0) (0 + i0)))) :=
  Re.congr (cast_1x4_4 (re_v2 D h2) _) fun _ => rfl

theorem re_v4 (h0 : Re x0 (E2 D.A0)) :
    Re (val_main_v4 x0) (E2 (fun i0 i1 => (D.A0 (0 + i0) (0 + i1)))) :=
  Re.congr (Re.slice h0) fun _ => rfl

theorem re_v5 (h0 : Re x0 (E2 D.A0)) :
    Re (val_main_v5 x0) (E4 (fun i0 i1 i2 i3 => (D.A0 (0 + (2048 * i0 + i1)) (0 + (256 * i2 + i3))))) :=
  Re.congr (cast_8192x1024_4x2048x4x256 (re_v4 D h0) _) fun _ => rfl

theorem re_v6 (h0 : Re x0 (E2 D.A0)) :
    Re (val_main_v6 x0) (E2 (fun i0 i1 => (D.A0 (0 + i0) (1024 + i1)))) :=
  Re.congr (Re.slice h0) fun _ => rfl

theorem re_v7 (h0 : Re x0 (E2 D.A0)) :
    Re (val_main_v7 x0) (E4 (fun i0 i1 i2 i3 => (D.A0 (0 + (2048 * i0 + i1)) (1024 + (256 * i2 + i3))))) :=
  Re.congr (cast_8192x1024_4x2048x4x256 (re_v6 D h0) _) fun _ => rfl

theorem re_v8 (h1 : Re x1 (E2 D.A1)) :
    Re (val_main_v8 x1) (E2 (fun i0 i1 => (D.A1 (0 + i0) (2048 + i1)))) :=
  Re.congr (Re.slice h1) fun _ => rfl

theorem re_v9 (h1 : Re x1 (E2 D.A1)) :
    Re (val_main_v9 x1) (E4 (fun i0 i1 i2 i3 => (D.A1 (0 + (2048 * i0 + i1)) (2048 + (512 * i2 + i3))))) :=
  Re.congr (cast_8192x2048_4x2048x4x512 (re_v8 D h1) _) fun _ => rfl

theorem re_v10 (h0 : Re x0 (E2 D.A0)) :
    Re (val_main_v10 x0) (E2 (fun i0 i1 => (D.A0 (8192 + i0) (1024 + i1)))) :=
  Re.congr (Re.slice h0) fun _ => rfl

theorem re_v11 (h0 : Re x0 (E2 D.A0)) :
    Re (val_main_v11 x0) (E4 (fun i0 i1 i2 i3 => (D.A0 (8192 + (256 * i0 + i1)) (1024 + (256 * i2 + i3))))) :=
  Re.congr (cast_1024x1024_4x256x4x256 (re_v10 D h0) _) fun _ => rfl

theorem re_v12 (h1 : Re x1 (E2 D.A1)) :
    Re (val_main_v12 x1) (E2 (fun i0 i1 => (D.A1 (8192 + i0) (2048 + i1)))) :=
  Re.congr (Re.slice h1) fun _ => rfl

theorem re_v13 (h1 : Re x1 (E2 D.A1)) :
    Re (val_main_v13 x1) (E4 (fun i0 i1 i2 i3 => (D.A1 (8192 + (256 * i0 + i1)) (2048 + (512 * i2 + i3))))) :=
  Re.congr (cast_1024x2048_4x256x4x512 (re_v12 D h1) _) fun _ => rfl

theorem re_v14 (h2 : Re x2 (E2 D.LG)) :
    Re (val_main_v14 x2) (E2 (fun i0 i1 => (D.LG (0 + 0) (0 + i1)))) :=
  Re.congr (Re.bcast (re_v1 D h2)) fun _ => rfl

theorem re_v15 (h2 : Re x2 (E2 D.LG)) :
    Re (val_main_v15 x2) (E2 (fun i0 i1 => (D.LG (0 + 0) (0 + i1)))) :=
  Re.congr (Re.bcast (re_v14 D h2)) fun _ => rfl

theorem re_v16 (D : Data) :
    Re (val_main_v16 (F := Ideal)) (E1 (fun i0 => ((i0 : ℕ) : ℝ))) :=
  Re.congr (Re.iotaInDim (s := S256) 0 (by decide)) fun _ => rfl

theorem re_v17 (h2 : Re x2 (E2 D.LG)) :
    Re (val_main_v17 x2) (E3 (fun i0 i1 i2 => (D.LG (0 + 0) (0 + i2)))) :=
  Re.congr (Re.bcast (re_v15 D h2)) fun _ => rfl

theorem re_cst (D : Data) :
    Re (val_main_cst (F := Ideal)) (fun _ => (255 : ℝ)) :=
  Re.congr (Re.const lit255) fun _ => rfl

theorem re_v18 (D : Data) :
    Re (val_main_v18 (F := Ideal)) (E1 (fun i0 => (255 : ℝ))) :=
  Re.congr (Re.bcast (re_cst D)) fun _ => rfl

theorem re_v19 (D : Data) :
    Re (val_main_v19 (F := Ideal)) (E1 (fun i0 => ((255 : ℝ) - ((i0 : ℕ) : ℝ)))) :=
  Re.congr (Re.sub (re_v18 D) (re_v16 D)) fun _ => rfl

theorem re_v20 (D : Data) :
    Re (val_main_v20 (F := Ideal)) (E3 (fun i0 i1 i2 => ((255 : ℝ) - ((i1 : ℕ) : ℝ)))) :=
  Re.congr (Re.bcast (re_v19 D)) fun _ => rfl

theorem re_v21 (h2 : Re x2 (E2 D.LG)) :
    Re (val_main_v21 x2) (E3 (fun i0 i1 i2 => (D.LG (0 + 0) (0 + i2)))) :=
  Re.congr (Re.bcast (re_v17 D h2)) fun _ => rfl

theorem re_v22 (D : Data) :
    Re (val_main_v22 (F := Ideal)) (E3 (fun i0 i1 i2 => ((255 : ℝ) - ((i1 : ℕ) : ℝ)))) :=
  Re.congr (Re.bcast (re_v20 D)) fun _ => rfl

theorem re_v23 (h2 : Re x2 (E2 D.LG)) :
    Re (val_main_v23 x2) (E3 (fun i0 i1 i2 => ((D.LG (0 + 0) (0 + i2)) * ((255 : ℝ) - ((i1 : ℕ) : ℝ))))) :=
  Re.congr (Re.mul (re_v21 D h2) (re_v22 D)) fun _ => rfl

def rv24 (D : Data) (i0 i1 i2 : ℕ) : ℝ :=
  (Real.exp ((D.LG (0 + 0) (0 + i2)) * ((255 : ℝ) - ((i1 : ℕ) : ℝ))))

theorem re_v24 (h2 : Re x2 (E2 D.LG)) :
    Re (val_main_v24 x2) (E3 (rv24 D)) :=
  Re.congr (Re.hexp (re_v23 D h2)) fun _ => rfl

theorem re_v25 (h2 : Re x2 (E2 D.LG)) :
    Re (val_main_v25 x2) (E4 (fun i0 i1 i2 i3 => (rv24 D i0 i1 i2))) :=
  Re.congr (Re.bcast (re_v24 D h2)) fun _ => rfl

theorem re_v26 (h2 : Re x2 (E2 D.LG)) :
    Re (val_main_v26 x2) (E4 (fun i0 i1 i2 i3 => (rv24 D i0 i1 i2))) :=
  Re.congr (Re.bcast (re_v25 D h2)) fun _ => rfl

theorem re_v27 (h0 : Re x0 (E2 D.A0)) (h2 : Re x2 (E2 D.LG)) :
    Re (val_main_v27 x0 x2) (E4 (fun i0 i1 i2 i3 => ((D.A0 (8192 + (256 * i0 + i1)) (1024 + (256 * i2 + i3))) * (rv24 D i0 i1 i2)))) :=
  Re.congr (Re.mul (re_v11 D h0) (re_v26 D h2)) fun _ => rfl

def rv28 (D : Data) (i0 i1 i2 i3 : ℕ) : ℝ :=
  (∑ k1 ∈ Finset.range 256, ((D.A0 (8192 + (256 * i0 + k1)) (1024 + (256 * i1 + i2))) * (rv24 D i0 k1 i1)) * (D.A1 (8192 + (256 * i0 + k1)) (2048 + (512 * i1 + i3))))

theorem re_v28 (h0 : Re x0 (E2 D.A0)) (h1 : Re x1 (E2 D.A1)) (h2 : Re x2 (E2 D.LG)) :
    Re (val_main_v28 x0 x1 x2) (E4 (rv28 D)) :=
  Re.congr (hdot0 (re_v27 D h0 h2) (re_v13 D h1)) fun _ => rfl

theorem re_v29 (D : Data) :
    Re (val_main_v29 (F := Ideal)) (E1 (fun i0 => ((i0 : ℕ) : ℝ))) :=
  Re.congr (Re.iotaInDim (s := S2048) 0 (by decide)) fun _ => rfl

theorem re_v30 (D : Data) :
    Re (val_main_v30 (F := Ideal)) (E2 (fun i0 i1 => ((i0 : ℕ) : ℝ))) :=
  Re.congr (Re.bcast (re_v29 D)) fun _ => rfl

theorem re_v31 (D : Data) :
    Re (val_main_v31 (F := Ideal)) (E2 (fun i0 i1 => ((i1 : ℕ) : ℝ))) :=
  Re.congr (Re.bcast (re_v29 D)) fun _ => rfl

theorem re_v32 (D : Data) :
    Re (val_main_v32 (F := Ideal)) (E2 (fun i0 i1 => ((i0 : ℕ) : ℝ))) :=
  Re.congr (Re.bcast (re_v30 D)) fun _ => rfl

theorem re_v33 (D : Data) :
    Re (val_main_v33 (F := Ideal)) (E2 (fun i0 i1 => ((i1 : ℕ) : ℝ))) :=
  Re.congr (Re.bcast (re_v31 D)) fun _ => rfl

theorem re_v34 (D : Data) :
    Re (val_main_v34 (F := Ideal)) (E2 (fun i0 i1 => (((i0 : ℕ) : ℝ) - ((i1 : ℕ) : ℝ)))) :=
  Re.congr (Re.sub (re_v32 D) (re_v33 D)) fun _ => rfl

theorem re_cst_0 (D : Data) :
    Re (val_main_cst_0 (F := Ideal)) (fun _ => (0 : ℝ)) :=
  Re.congr (Re.const lit0) fun _ => rfl

theorem re_v35 (D : Data) :
    Re (val_main_v35 (F := Ideal)) (E2 (fun i0 i1 => (0 : ℝ))) :=
  Re.congr (Re.bcast (re_cst_0 D)) fun _ => rfl

theorem re_v36 (D : Data) : Ge (val_main_v36 (F := Ideal))
    (E2 fun i0 i1 => (((i0 : ℕ) : ℝ) - ((i1 : ℕ) : ℝ))) (E2 fun i0 i1 => (0 : ℝ)) :=
  Ge.congr (Ge.cmp (re_v34 D) (re_v35 D)) (fun _ => rfl) (fun _ => rfl)

theorem re_v37 (h2 : Re x2 (E2 D.LG)) :
    Re (val_main_v37 x2) (E4 (fun i0 i1 i2 i3 => (D.LG (0 + 0) (0 + i1)))) :=
  Re.congr (Re.bcast (re_v15 D h2)) fun _ => rfl

theorem re_cst_1 (D : Data) :
    Re (val_main_cst_1 (F := Ideal)) (fun _ => (0 : ℝ)) :=
  Re.congr (Re.const lit0) fun _ => rfl

theorem re_v38 (D : Data) :
    Re (val_main_v38 (F := Ideal)) (E2 (fun i0 i1 => (0 : ℝ))) :=
  Re.congr (Re.bcast (re_cst_1 D)) fun _ => rfl

theorem re_v39 (D : Data) :
    Re (val_main_v39 (F := Ideal)) (E2 (fun i0 i1 => (Max.max (((i0 : ℕ) : ℝ) - ((i1 : ℕ) : ℝ)) (0 : ℝ)))) :=
  Re.congr (Re.max (re_v34 D) (re_v38 D)) fun _ => rfl

theorem re_v40 (D : Data) :
    Re (val_main_v40 (F := Ideal)) (E4 (fun i0 i1 i2 i3 => (Max.max (((i2 : ℕ) : ℝ) - ((i3 : ℕ) : ℝ)) (0 : ℝ)))) :=
  Re.congr (Re.bcast (re_v39 D)) fun _ => rfl

theorem re_v41 (h2 : Re x2 (E2 D.LG)) :
    Re (val_main_v41 x2) (E4 (fun i0 i1 i2 i3 => (D.LG (0 + 0) (0 + i1)))) :=
  Re.congr (Re.bcast (re_v37 D h2)) fun _ => rfl

theorem re_v42 (D : Data) :
    Re (val_main_v42 (F := Ideal)) (E4 (fun i0 i1 i2 i3 => (Max.max (((i2 : ℕ) : ℝ) - ((i3 : ℕ) : ℝ)) (0 : ℝ)))) :=
  Re.congr (Re.bcast (re_v40 D)) fun _ => rfl

theorem re_v43 (h2 : Re x2 (E2 D.LG)) :
    Re (val_main_v43 x2) (E4 (fun i0 i1 i2 i3 => ((D.LG (0 + 0) (0 + i1)) * (Max.max (((i2 : ℕ) : ℝ) - ((i3 : ℕ) : ℝ)) (0 : ℝ))))) :=
  Re.congr (Re.mul (re_v41 D h2) (re_v42 D)) fun _ => rfl

def rv44 (D : Data) (i0 i1 i2 i3 : ℕ) : ℝ :=
  (Real.exp ((D.LG (0 + 0) (0 + i1)) * (Max.max (((i2 : ℕ) : ℝ) - ((i3 : ℕ) : ℝ)) (0 : ℝ))))

theorem re_v44 (h2 : Re x2 (E2 D.LG)) :
    Re (val_main_v44 x2) (E4 (rv44 D)) :=
  Re.congr (Re.hexp (re_v43 D h2)) fun _ => rfl

theorem re_cst_2 (D : Data) :
    Re (val_main_cst_2 (F := Ideal)) (fun _ => (0 : ℝ)) :=
  Re.congr (Re.const lit0) fun _ => rfl

theorem re_call0_v0 (D : Data) :
    Re (val_main_call0_v0 (F := Ideal)) (fun _ => (0 : ℝ)) :=
  Re.congr (re_cst_2 D) fun _ => rfl

theorem re_v45_1 (D : Data) : Ge (val_main_v45_1 (F := Ideal))
    (E4 fun i0 i1 i2 i3 => (((i2 : ℕ) : ℝ) - ((i3 : ℕ) : ℝ))) (E4 fun i0 i1 i2 i3 => (0 : ℝ)) :=
  Ge.congr (Ge.bcast (re_v36 D)) (fun _ => rfl) (fun _ => rfl)

theorem re_call0_v2 (D : Data) :
    Re (val_main_call0_v2 (F := Ideal)) (E4 (fun i0 i1 i2 i3 => (0 : ℝ))) :=
  Re.congr (Re.bcast (re_call0_v0 D)) fun _ => rfl

def rv45_0 (D : Data) (i0 i1 i2 i3 : ℕ) : ℝ :=
  (if (0 : ℝ) ≤ (((i2 : ℕ) : ℝ) - ((i3 : ℕ) : ℝ)) then (rv44 D i0 i1 i2 i3) else (0 : ℝ))

theorem re_v45_0 (D : Data) (h2 : Re x2 (E2 D.LG)) :
    Re (val_main_v45_0 x2) (E4 (rv45_0 D)) :=
  Re.congr (Re.select (re_v45_1 D) (re_v44 D h2) (re_call0_v2 D)) fun _ => rfl

theorem re_v46 (h2 : Re x2 (E2 D.LG)) :
    Re (val_main_v46 x2) (E3 (fun i0 i1 i2 => (D.LG (0 + 0) (0 + i2)))) :=
  Re.congr (Re.bcast (re_v15 D h2)) fun _ => rfl

theorem re_cst_3 (D : Data) :
    Re (val_main_cst_3 (F := Ideal)) (fun _ => (1 : ℝ)) :=
  Re.congr (Re.const lit1) fun _ => rfl

theorem re_v47 (D : Data) :
    Re (val_main_v47 (F := Ideal)) (E1 (fun i0 => (1 : ℝ))) :=
  Re.congr (Re.bcast (re_cst_3 D)) fun _ => rfl

def rv48 (D : Data) (i0 : ℕ) : ℝ :=
  (((i0 : ℕ) : ℝ) + (1 : ℝ))

theorem re_v48   :
    Re (val_main_v48 (F := Ideal)) (E1 (rv48 D)) :=
  Re.congr (Re.add (re_v29 D) (re_v47 D)) fun _ => rfl

theorem re_v49   :
    Re (val_main_v49 (F := Ideal)) (E3 (fun i0 i1 i2 => (rv48 D i1))) :=
  Re.congr (Re.bcast (re_v48 D)) fun _ => rfl

theorem re_v50 (h2 : Re x2 (E2 D.LG)) :
    Re (val_main_v50 x2) (E3 (fun i0 i1 i2 => (D.LG (0 + 0) (0 + i2)))) :=
  Re.congr (Re.bcast (re_v46 D h2)) fun _ => rfl

theorem re_v51   :
    Re (val_main_v51 (F := Ideal)) (E3 (fun i0 i1 i2 => (rv48 D i1))) :=
  Re.congr (Re.bcast (re_v49 D)) fun _ => rfl

theorem re_v52 (h2 : Re x2 (E2 D.LG)) :
    Re (val_main_v52 x2) (E3 (fun i0 i1 i2 => ((D.LG (0 + 0) (0 + i2)) * (rv48 D i1)))) :=
  Re.congr (Re.mul (re_v50 D h2) (re_v51 D)) fun _ => rfl

def rv53 (D : Data) (i0 i1 i2 : ℕ) : ℝ :=
  (Real.exp ((D.LG (0 + 0) (0 + i2)) * (rv48 D i1)))

theorem re_v53 (h2 : Re x2 (E2 D.LG)) :
    Re (val_main_v53 x2) (E3 (rv53 D)) :=
  Re.congr (Re.hexp (re_v52 D h2)) fun _ => rfl

theorem re_v54 (h2 : Re x2 (E2 D.LG)) :
    Re (val_main_v54 x2) (E4 (fun i0 i1 i2 i3 => (rv53 D i0 i1 i2))) :=
  Re.congr (Re.bcast (re_v53 D h2)) fun _ => rfl

def rv55 (D : Data) (i0 i1 i2 i3 : ℕ) : ℝ :=
  (∑ k2 ∈ Finset.range 256, (D.A0 (0 + (2048 * i0 + i2)) (0 + (256 * i1 + k2))) * (D.A0 (0 + (2048 * i0 + i3)) (1024 + (256 * i1 + k2))))

theorem re_v55 (h0 : Re x0 (E2 D.A0)) :
    Re (val_main_v55 x0) (E4 (rv55 D)) :=
  Re.congr (hdot1 (re_v5 D h0) (re_v7 D h0)) fun _ => rfl

theorem re_v56 (h0 : Re x0 (E2 D.A0)) (h2 : Re x2 (E2 D.LG)) :
    Re (val_main_v56 x0 x2) (E4 (fun i0 i1 i2 i3 => ((rv55 D i0 i1 i2 i3) * (rv45_0 D i0 i1 i2 i3)))) :=
  Re.congr (Re.mul (re_v55 D h0) (re_v45_0 D h2)) fun _ => rfl

def rv59 (D : Data) (i0 i1 i2 i3 : ℕ) : ℝ :=
  (∑ k3 ∈ Finset.range 256, (rv28 D i0 i1 k3 i2) * (D.A0 (0 + (2048 * i0 + i3)) (0 + (256 * i1 + k3))))

theorem re_v59 (h0 : Re x0 (E2 D.A0)) (h1 : Re x1 (E2 D.A1)) (h2 : Re x2 (E2 D.LG)) :
    Re (val_main_v59 x0 x1 x2) (E4 (rv59 D)) :=
  Re.congr (hdot2 (re_v28 D h0 h1 h2) (re_v5 D h0)) fun _ => rfl

theorem re_v60 (h0 : Re x0 (E2 D.A0)) (h1 : Re x1 (E2 D.A1)) (h2 : Re x2 (E2 D.LG)) :
    Re (val_main_v60 x0 x1 x2) (E4 (fun i0 i1 i2 i3 => (rv59 D i0 i2 i3 i1))) :=
  Re.congr (Re.transp (re_v59 D h0 h1 h2)) fun _ => rfl

theorem re_v64 (h3 : Re x3 (E2 D.DO)) :
    Re (val_main_v64 x3) (E4 (fun i0 i1 i2 i3 => (D.DO (2048 * i0 + i1) (512 * i2 + i3)))) :=
  Re.congr (cast_8192x2048_4x2048x4x512 h3 _) fun _ => rfl

theorem re_v65 (h0 : Re x0 (E2 D.A0)) (h1 : Re x1 (E2 D.A1)) (h2 : Re x2 (E2 D.LG)) (h3 : Re x3 (E2 D.DO)) :
    Re (val_main_v65 x0 x1 x2 x3) (E4 (fun i0 i1 i2 i3 => ((rv59 D i0 i2 i3 i1) * (D.DO (2048 * i0 + i1) (512 * i2 + i3))))) :=
  Re.congr (Re.mul (re_v60 D h0 h1 h2) (re_v64 D h3)) fun _ => rfl

theorem re_cst_4 (D : Data) :
    Re (val_main_cst_4 (F := Ideal)) (fun _ => (0 : ℝ)) :=
  Re.congr (Re.const lit0) fun _ => rfl

def rv66 (D : Data) (i0 i1 i2 : ℕ) : ℝ :=
  (∑ k4 ∈ Finset.range 512, ((rv59 D i0 i2 k4 i1) * (D.DO (2048 * i0 + i1) (512 * i2 + k4))))

theorem re_v66 (h0 : Re x0 (E2 D.A0)) (h1 : Re x1 (E2 D.A1)) (h2 : Re x2 (E2 D.LG)) (h3 : Re x3 (E2 D.DO)) :
    Re (val_main_v66 x0 x1 x2 x3) (E3 (rv66 D)) :=
  Re.congr (hsum_4x2048x4x512_3 (re_v65 D h0 h1 h2 h3) _ _ (re_cst_4 D)) fun _ => rfl

theorem re_v67 (h0 : Re x0 (E2 D.A0)) (h1 : Re x1 (E2 D.A1)) (h2 : Re x2 (E2 D.LG)) (h3 : Re x3 (E2 D.DO)) :
    Re (val_main_v67 x0 x1 x2 x3) (E4 (fun i0 i1 i2 i3 => (rv66 D i0 i1 i2))) :=
  Re.congr (cast_4x2048x4_4x2048x4x1 (re_v66 D h0 h1 h2 h3) _) fun _ => rfl

theorem re_v68 (h2 : Re x2 (E2 D.LG)) :
    Re (val_main_v68 x2) (E4 (fun i0 i1 i2 i3 => (rv53 D i0 i1 i2))) :=
  Re.congr (Re.bcast (re_v54 D h2)) fun _ => rfl

theorem re_v69 (h2 : Re x2 (E2 D.LG)) (h3 : Re x3 (E2 D.DO)) :
    Re (val_main_v69 x2 x3) (E4 (fun i0 i1 i2 i3 => ((D.DO (2048 * i0 + i1) (512 * i2 + i3)) * (rv53 D i0 i1 i2)))) :=
  Re.congr (Re.mul (re_v64 D h3) (re_v68 D h2)) fun _ => rfl

theorem re_v70 (h2 : Re x2 (E2 D.LG)) (h3 : Re x3 (E2 D.DO)) :
    Re (val_main_v70 x2 x3) (E4 (fun i0 i1 i2 i3 => ((D.DO (2048 * i0 + i3) (512 * i1 + i2)) * (rv53 D i0 i3 i1)))) :=
  Re.congr (Re.transp (re_v69 D h2 h3)) fun _ => rfl

def rv71 (D : Data) (i0 i1 i2 i3 : ℕ) : ℝ :=
  (∑ k5 ∈ Finset.range 512, ((D.DO (2048 * i0 + i2) (512 * i1 + k5)) * (rv53 D i0 i2 i1)) * (rv28 D i0 i1 i3 k5))

theorem re_v71 (h0 : Re x0 (E2 D.A0)) (h1 : Re x1 (E2 D.A1)) (h2 : Re x2 (E2 D.LG)) (h3 : Re x3 (E2 D.DO)) :
    Re (val_main_v71 x0 x1 x2 x3) (E4 (rv71 D)) :=
  Re.congr (hdot3 (re_v70 D h2 h3) (re_v28 D h0 h1 h2)) fun _ => rfl

theorem re_v72 (h0 : Re x0 (E2 D.A0)) (h1 : Re x1 (E2 D.A1)) (h2 : Re x2 (E2 D.LG)) (h3 : Re x3 (E2 D.DO)) :
    Re (val_main_v72 x0 x1 x2 x3) (E4 (fun i0 i1 i2 i3 => (rv71 D i0 i2 i1 i3))) :=
  Re.congr (Re.transp (re_v71 D h0 h1 h2 h3)) fun _ => rfl

def rv73 (D : Data) (i0 i1 i2 i3 : ℕ) : ℝ :=
  (∑ k6 ∈ Finset.range 2048, ((D.DO (2048 * i0 + k6) (512 * i1 + i2)) * (rv53 D i0 k6 i1)) * (D.A0 (0 + (2048 * i0 + k6)) (0 + (256 * i1 + i3))))

theorem re_v73 (h0 : Re x0 (E2 D.A0)) (h2 : Re x2 (E2 D.LG)) (h3 : Re x3 (E2 D.DO)) :
    Re (val_main_v73 x0 x2 x3) (E4 (rv73 D)) :=
  Re.congr (hdot4 (re_v70 D h2 h3) (re_v5 D h0)) fun _ => rfl

theorem re_v74 (h0 : Re x0 (E2 D.A0)) (h2 : Re x2 (E2 D.LG)) (h3 : Re x3 (E2 D.DO)) :
    Re (val_main_v74 x0 x2 x3) (E4 (fun i0 i1 i2 i3 => (rv73 D i0 i1 i3 i2))) :=
  Re.congr (Re.transp (re_v73 D h0 h2 h3)) fun _ => rfl

theorem re_v75 (h3 : Re x3 (E2 D.DO)) :
    Re (val_main_v75 x3) (E4 (fun i0 i1 i2 i3 => (D.DO (2048 * i0 + i3) (512 * i1 + i2)))) :=
  Re.congr (Re.transp (re_v64 D h3)) fun _ => rfl

def rv76 (D : Data) (i0 i1 i2 i3 : ℕ) : ℝ :=
  (∑ k7 ∈ Finset.range 512, (D.DO (2048 * i0 + i2) (512 * i1 + k7)) * (D.A1 (0 + (2048 * i0 + i3)) (2048 + (512 * i1 + k7))))

theorem re_v76 (h1 : Re x1 (E2 D.A1)) (h3 : Re x3 (E2 D.DO)) :
    Re (val_main_v76 x1 x3) (E4 (rv76 D)) :=
  Re.congr (hdot5 (re_v75 D h3) (re_v9 D h1)) fun _ => rfl

def rv77 (D : Data) (i0 i1 i2 i3 : ℕ) : ℝ :=
  (∑ k8 ∈ Finset.range 2048, (D.DO (2048 * i0 + k8) (512 * i1 + i2)) * ((rv55 D i0 i1 k8 i3) * (rv45_0 D i0 i1 k8 i3)))

theorem re_v77 (h0 : Re x0 (E2 D.A0)) (h2 : Re x2 (E2 D.LG)) (h3 : Re x3 (E2 D.DO)) :
    Re (val_main_v77 x0 x2 x3) (E4 (rv77 D)) :=
  Re.congr (hdot6 (re_v75 D h3) (re_v56 D h0 h2)) fun _ => rfl

theorem re_v78 (h0 : Re x0 (E2 D.A0)) (h2 : Re x2 (E2 D.LG)) (h3 : Re x3 (E2 D.DO)) :
    Re (val_main_v78 x0 x2 x3) (E4 (fun i0 i1 i2 i3 => (rv77 D i0 i2 i3 i1))) :=
  Re.congr (Re.transp (re_v77 D h0 h2 h3)) fun _ => rfl

theorem re_v79 (h0 : Re x0 (E2 D.A0)) (h1 : Re x1 (E2 D.A1)) (h3 : Re x3 (E2 D.DO)) :
    Re (val_main_v79 x0 x1 x3) (E4 (fun i0 i1 i2 i3 => ((rv55 D i0 i1 i2 i3) * (rv76 D i0 i1 i2 i3)))) :=
  Re.congr (Re.mul (re_v55 D h0) (re_v76 D h1 h3)) fun _ => rfl

theorem re_v80 (h1 : Re x1 (E2 D.A1)) (h2 : Re x2 (E2 D.LG)) (h3 : Re x3 (E2 D.DO)) :
    Re (val_main_v80 x1 x2 x3) (E4 (fun i0 i1 i2 i3 => ((rv76 D i0 i1 i2 i3) * (rv45_0 D i0 i1 i2 i3)))) :=
  Re.congr (Re.mul (re_v76 D h1 h3) (re_v45_0 D h2)) fun _ => rfl

def rv81 (D : Data) (i0 i1 i2 i3 : ℕ) : ℝ :=
  (∑ k9 ∈ Finset.range 2048, ((rv76 D i0 i1 k9 i2) * (rv45_0 D i0 i1 k9 i2)) * (D.A0 (0 + (2048 * i0 + k9)) (0 + (256 * i1 + i3))))

theorem re_v81 (h0 : Re x0 (E2 D.A0)) (h1 : Re x1 (E2 D.A1)) (h2 : Re x2 (E2 D.LG)) (h3 : Re x3 (E2 D.DO)) :
    Re (val_main_v81 x0 x1 x2 x3) (E4 (rv81 D)) :=
  Re.congr (hdot7 (re_v80 D h1 h2 h3) (re_v5 D h0)) fun _ => rfl

theorem re_v82 (h0 : Re x0 (E2 D.A0)) (h1 : Re x1 (E2 D.A1)) (h2 : Re x2 (E2 D.LG)) (h3 : Re x3 (E2 D.DO)) :
    Re (val_main_v82 x0 x1 x2 x3) (E4 (fun i0 i1 i2 i3 => (rv81 D i0 i2 i1 i3))) :=
  Re.congr (Re.transp (re_v81 D h0 h1 h2 h3)) fun _ => rfl

def rv83 (D : Data) (i0 i1 i2 i3 : ℕ) : ℝ :=
  (∑ k10 ∈ Finset.range 2048, ((rv76 D i0 i1 i2 k10) * (rv45_0 D i0 i1 i2 k10)) * (D.A0 (0 + (2048 * i0 + k10)) (1024 + (256 * i1 + i3))))

theorem re_v83 (h0 : Re x0 (E2 D.A0)) (h1 : Re x1 (E2 D.A1)) (h2 : Re x2 (E2 D.LG)) (h3 : Re x3 (E2 D.DO)) :
    Re (val_main_v83 x0 x1 x2 x3) (E4 (rv83 D)) :=
  Re.congr (hdot8 (re_v80 D h1 h2 h3) (re_v7 D h0)) fun _ => rfl

theorem re_v84 (h0 : Re x0 (E2 D.A0)) (h1 : Re x1 (E2 D.A1)) (h2 : Re x2 (E2 D.LG)) (h3 : Re x3 (E2 D.DO)) :
    Re (val_main_v84 x0 x1 x2 x3) (E4 (fun i0 i1 i2 i3 => (rv83 D i0 i2 i1 i3))) :=
  Re.congr (Re.transp (re_v83 D h0 h1 h2 h3)) fun _ => rfl

def rv85 (D : Data) (i0 i1 i2 i3 : ℕ) : ℝ :=
  ((rv71 D i0 i2 i1 i3) + (rv83 D i0 i2 i1 i3))

theorem re_v85 (h0 : Re x0 (E2 D.A0)) (h1 : Re x1 (E2 D.A1)) (h2 : Re x2 (E2 D.LG)) (h3 : Re x3 (E2 D.DO)) :
    Re (val_main_v85 x0 x1 x2 x3) (E4 (rv85 D)) :=
  Re.congr (Re.add (re_v72 D h0 h1 h2 h3) (re_v84 D h0 h1 h2 h3)) fun _ => rfl

theorem re_cst_5 (D : Data) :
    Re (val_main_cst_5 (F := Ideal)) (fun _ => (0 : ℝ)) :=
  Re.congr (Re.const lit0) fun _ => rfl

def rv86 (D : Data) (i0 i1 i2 : ℕ) : ℝ :=
  (∑ k11 ∈ Finset.range 1, (rv66 D i0 i1 i2))

theorem re_v86 (h0 : Re x0 (E2 D.A0)) (h1 : Re x1 (E2 D.A1)) (h2 : Re x2 (E2 D.LG)) (h3 : Re x3 (E2 D.DO)) :
    Re (val_main_v86 x0 x1 x2 x3) (E3 (rv86 D)) :=
  Re.congr (hsum_4x2048x4x1_3 (re_v67 D h0 h1 h2 h3) _ _ (re_cst_5 D)) fun _ => rfl

theorem re_v87 (h0 : Re x0 (E2 D.A0)) (h1 : Re x1 (E2 D.A1)) (h2 : Re x2 (E2 D.LG)) (h3 : Re x3 (E2 D.DO)) :
    Re (val_main_v87 x0 x1 x2 x3) (E3 (fun i0 i1 i2 => ((rv86 D i0 i1 i2) * (rv53 D i0 i1 i2)))) :=
  Re.congr (Re.mul (re_v86 D h0 h1 h2 h3) (re_v53 D h2)) fun _ => rfl

theorem re_v88   :
    Re (val_main_v88 (F := Ideal)) (E3 (fun i0 i1 i2 => (rv48 D i1))) :=
  Re.congr (Re.bcast (re_v49 D)) fun _ => rfl

theorem re_v89 (h0 : Re x0 (E2 D.A0)) (h1 : Re x1 (E2 D.A1)) (h2 : Re x2 (E2 D.LG)) (h3 : Re x3 (E2 D.DO)) :
    Re (val_main_v89 x0 x1 x2 x3) (E3 (fun i0 i1 i2 => (((rv86 D i0 i1 i2) * (rv53 D i0 i1 i2)) * (rv48 D i1)))) :=
  Re.congr (Re.mul (re_v87 D h0 h1 h2 h3) (re_v88 D)) fun _ => rfl

theorem re_cst_6 (D : Data) :
    Re (val_main_cst_6 (F := Ideal)) (fun _ => (0 : ℝ)) :=
  Re.congr (Re.const lit0) fun _ => rfl

def rv90 (D : Data) (i0 i1 : ℕ) : ℝ :=
  (∑ k12 ∈ Finset.range 2048, (((rv86 D i0 k12 i1) * (rv53 D i0 k12 i1)) * (rv48 D k12)))

theorem re_v90 (h0 : Re x0 (E2 D.A0)) (h1 : Re x1 (E2 D.A1)) (h2 : Re x2 (E2 D.LG)) (h3 : Re x3 (E2 D.DO)) :
    Re (val_main_v90 x0 x1 x2 x3) (E2 (rv90 D)) :=
  Re.congr (hsum_4x2048x4_1 (re_v89 D h0 h1 h2 h3) _ _ (re_cst_6 D)) fun _ => rfl

theorem re_v91 (h0 : Re x0 (E2 D.A0)) (h1 : Re x1 (E2 D.A1)) (h2 : Re x2 (E2 D.LG)) (h3 : Re x3 (E2 D.DO)) :
    Re (val_main_v91 x0 x1 x2 x3) (E3 (fun i0 i1 i2 => (rv90 D i0 i2))) :=
  Re.congr (cast_4x4_4x1x4 (re_v90 D h0 h1 h2 h3) _) fun _ => rfl

theorem re_cst_7 (D : Data) :
    Re (val_main_cst_7 (F := Ideal)) (fun _ => (0 : ℝ)) :=
  Re.congr (Re.const lit0) fun _ => rfl

def rv92 (D : Data) (i0 i1 : ℕ) : ℝ :=
  (∑ k13 ∈ Finset.range 1, (rv90 D i0 i1))

theorem re_v92 (h0 : Re x0 (E2 D.A0)) (h1 : Re x1 (E2 D.A1)) (h2 : Re x2 (E2 D.LG)) (h3 : Re x3 (E2 D.DO)) :
    Re (val_main_v92 x0 x1 x2 x3) (E2 (rv92 D)) :=
  Re.congr (hsum_4x1x4_1 (re_v91 D h0 h1 h2 h3) _ _ (re_cst_7 D)) fun _ => rfl

theorem re_call1_cst (D : Data) :
    Re (val_main_call1_cst (F := Ideal)) (fun _ => (0 : ℝ)) :=
  Re.congr (Re.const lit0) fun _ => rfl

theorem re_call1_v0 (D : Data) :
    Re (val_main_call1_v0 (F := Ideal)) (E4 (fun i0 i1 i2 i3 => (0 : ℝ))) :=
  Re.congr (Re.bcast (re_call1_cst D)) fun _ => rfl

def rv93 (D : Data) (i0 i1 i2 i3 : ℕ) : ℝ :=
  (if (0 : ℝ) ≤ (((i2 : ℕ) : ℝ) - ((i3 : ℕ) : ℝ)) then ((rv55 D i0 i1 i2 i3) * (rv76 D i0 i1 i2 i3)) else (0 : ℝ))

theorem re_v93 (h0 : Re x0 (E2 D.A0)) (h1 : Re x1 (E2 D.A1)) (h3 : Re x3 (E2 D.DO)) :
    Re (val_main_v93 x0 x1 x3) (E4 (rv93 D)) :=
  Re.congr (Re.select (re_v45_1 D) (re_v79 D h0 h1 h3) (re_call1_v0 D)) fun _ => rfl

theorem re_v94 (h0 : Re x0 (E2 D.A0)) (h1 : Re x1 (E2 D.A1)) (h2 : Re x2 (E2 D.LG)) (h3 : Re x3 (E2 D.DO)) :
    Re (val_main_v94 x0 x1 x2 x3) (E4 (fun i0 i1 i2 i3 => ((rv93 D i0 i1 i2 i3) * (rv44 D i0 i1 i2 i3)))) :=
  Re.congr (Re.mul (re_v93 D h0 h1 h3) (re_v44 D h2)) fun _ => rfl

theorem re_v95 (D : Data) :
    Re (val_main_v95 (F := Ideal)) (E4 (fun i0 i1 i2 i3 => (Max.max (((i2 : ℕ) : ℝ) - ((i3 : ℕ) : ℝ)) (0 : ℝ)))) :=
  Re.congr (Re.bcast (re_v40 D)) fun _ => rfl

theorem re_v96 (h0 : Re x0 (E2 D.A0)) (h1 : Re x1 (E2 D.A1)) (h2 : Re x2 (E2 D.LG)) (h3 : Re x3 (E2 D.DO)) :
    Re (val_main_v96 x0 x1 x2 x3) (E4 (fun i0 i1 i2 i3 => (((rv93 D i0 i1 i2 i3) * (rv44 D i0 i1 i2 i3)) * (Max.max (((i2 : ℕ) : ℝ) - ((i3 : ℕ) : ℝ)) (0 : ℝ))))) :=
  Re.congr (Re.mul (re_v94 D h0 h1 h2 h3) (re_v95 D)) fun _ => rfl

theorem re_cst_8 (D : Data) :
    Re (val_main_cst_8 (F := Ideal)) (fun _ => (0 : ℝ)) :=
  Re.congr (Re.const lit0) fun _ => rfl

def rv97 (D : Data) (i0 i1 : ℕ) : ℝ :=
  (∑ k14 ∈ Finset.range 2048, ∑ k15 ∈ Finset.range 2048, (((rv93 D i0 i1 k14 k15) * (rv44 D i0 i1 k14 k15)) * (Max.max (((k14 : ℕ) : ℝ) - ((k15 : ℕ) : ℝ)) (0 : ℝ))))

theorem re_v97 (h0 : Re x0 (E2 D.A0)) (h1 : Re x1 (E2 D.A1)) (h2 : Re x2 (E2 D.LG)) (h3 : Re x3 (E2 D.DO)) :
    Re (val_main_v97 x0 x1 x2 x3) (E2 (rv97 D)) :=
  Re.congr (Re.hsum2 (re_v96 D h0 h1 h2 h3) _ _ (re_cst_8 D)) fun _ => rfl

theorem re_v98 (h0 : Re x0 (E2 D.A0)) (h1 : Re x1 (E2 D.A1)) (h2 : Re x2 (E2 D.LG)) (h3 : Re x3 (E2 D.DO)) :
    Re (val_main_v98 x0 x1 x2 x3) (E4 (fun i0 i1 i2 i3 => (rv97 D i0 i1))) :=
  Re.congr (cast_4x4_4x4x1x1 (re_v97 D h0 h1 h2 h3) _) fun _ => rfl

theorem re_cst_9 (D : Data) :
    Re (val_main_cst_9 (F := Ideal)) (fun _ => (0 : ℝ)) :=
  Re.congr (Re.const lit0) fun _ => rfl

def rv99 (D : Data) (i0 i1 : ℕ) : ℝ :=
  (∑ k16 ∈ Finset.range 1, ∑ k17 ∈ Finset.range 1, (rv97 D i0 i1))

theorem re_v99 (h0 : Re x0 (E2 D.A0)) (h1 : Re x1 (E2 D.A1)) (h2 : Re x2 (E2 D.LG)) (h3 : Re x3 (E2 D.DO)) :
    Re (val_main_v99 x0 x1 x2 x3) (E2 (rv99 D)) :=
  Re.congr (Re.hsum2 (re_v98 D h0 h1 h2 h3) _ _ (re_cst_9 D)) fun _ => rfl

def rv100 (D : Data) (i0 i1 : ℕ) : ℝ :=
  ((rv92 D i0 i1) + (rv99 D i0 i1))

theorem re_v100 (h0 : Re x0 (E2 D.A0)) (h1 : Re x1 (E2 D.A1)) (h2 : Re x2 (E2 D.LG)) (h3 : Re x3 (E2 D.DO)) :
    Re (val_main_v100 x0 x1 x2 x3) (E2 (rv100 D)) :=
  Re.congr (Re.add (re_v92 D h0 h1 h2 h3) (re_v99 D h0 h1 h2 h3)) fun _ => rfl

def rv101 (D : Data) (i0 i1 i2 i3 : ℕ) : ℝ :=
  (∑ k18 ∈ Finset.range 256, (rv73 D i0 i1 i2 k18) * ((D.A0 (8192 + (256 * i0 + i3)) (1024 + (256 * i1 + k18))) * (rv24 D i0 i3 i1)))

theorem re_v101 (h0 : Re x0 (E2 D.A0)) (h2 : Re x2 (E2 D.LG)) (h3 : Re x3 (E2 D.DO)) :
    Re (val_main_v101 x0 x2 x3) (E4 (rv101 D)) :=
  Re.congr (hdot9 (re_v74 D h0 h2 h3) (re_v27 D h0 h2)) fun _ => rfl

theorem re_v102 (h0 : Re x0 (E2 D.A0)) (h2 : Re x2 (E2 D.LG)) (h3 : Re x3 (E2 D.DO)) :
    Re (val_main_v102 x0 x2 x3) (E4 (fun i0 i1 i2 i3 => (rv101 D i0 i2 i3 i1))) :=
  Re.congr (Re.transp (re_v101 D h0 h2 h3)) fun _ => rfl

def rv103 (D : Data) (i0 i1 i2 i3 : ℕ) : ℝ :=
  (∑ k19 ∈ Finset.range 512, (rv73 D i0 i1 k19 i2) * (D.A1 (8192 + (256 * i0 + i3)) (2048 + (512 * i1 + k19))))

theorem re_v103 (h0 : Re x0 (E2 D.A0)) (h1 : Re x1 (E2 D.A1)) (h2 : Re x2 (E2 D.LG)) (h3 : Re x3 (E2 D.DO)) :
    Re (val_main_v103 x0 x1 x2 x3) (E4 (rv103 D)) :=
  Re.congr (hdot10 (re_v74 D h0 h2 h3) (re_v13 D h1)) fun _ => rfl

theorem re_v104 (h0 : Re x0 (E2 D.A0)) (h1 : Re x1 (E2 D.A1)) (h2 : Re x2 (E2 D.LG)) (h3 : Re x3 (E2 D.DO)) :
    Re (val_main_v104 x0 x1 x2 x3) (E4 (fun i0 i1 i2 i3 => (rv103 D i0 i2 i3 i1))) :=
  Re.congr (Re.transp (re_v103 D h0 h1 h2 h3)) fun _ => rfl

theorem re_v105 (h0 : Re x0 (E2 D.A0)) (h1 : Re x1 (E2 D.A1)) (h2 : Re x2 (E2 D.LG)) (h3 : Re x3 (E2 D.DO)) :
    Re (val_main_v105 x0 x1 x2 x3) (E4 (fun i0 i1 i2 i3 => ((D.A0 (8192 + (256 * i0 + i1)) (1024 + (256 * i2 + i3))) * (rv103 D i0 i2 i3 i1)))) :=
  Re.congr (Re.mul (re_v11 D h0) (re_v104 D h0 h1 h2 h3)) fun _ => rfl

theorem re_cst_10 (D : Data) :
    Re (val_main_cst_10 (F := Ideal)) (fun _ => (0 : ℝ)) :=
  Re.congr (Re.const lit0) fun _ => rfl

def rv106 (D : Data) (i0 i1 i2 : ℕ) : ℝ :=
  (∑ k20 ∈ Finset.range 256, ((D.A0 (8192 + (256 * i0 + i1)) (1024 + (256 * i2 + k20))) * (rv103 D i0 i2 k20 i1)))

theorem re_v106 (h0 : Re x0 (E2 D.A0)) (h1 : Re x1 (E2 D.A1)) (h2 : Re x2 (E2 D.LG)) (h3 : Re x3 (E2 D.DO)) :
    Re (val_main_v106 x0 x1 x2 x3) (E3 (rv106 D)) :=
  Re.congr (hsum_4x256x4x256_3 (re_v105 D h0 h1 h2 h3) _ _ (re_cst_10 D)) fun _ => rfl

theorem re_v107 (h0 : Re x0 (E2 D.A0)) (h1 : Re x1 (E2 D.A1)) (h2 : Re x2 (E2 D.LG)) (h3 : Re x3 (E2 D.DO)) :
    Re (val_main_v107 x0 x1 x2 x3) (E4 (fun i0 i1 i2 i3 => (rv106 D i0 i1 i2))) :=
  Re.congr (cast_4x256x4_4x256x4x1 (re_v106 D h0 h1 h2 h3) _) fun _ => rfl

theorem re_v108 (h2 : Re x2 (E2 D.LG)) :
    Re (val_main_v108 x2) (E4 (fun i0 i1 i2 i3 => (rv24 D i0 i1 i2))) :=
  Re.congr (Re.bcast (re_v25 D h2)) fun _ => rfl

theorem re_v109 (h0 : Re x0 (E2 D.A0)) (h1 : Re x1 (E2 D.A1)) (h2 : Re x2 (E2 D.LG)) (h3 : Re x3 (E2 D.DO)) :
    Re (val_main_v109 x0 x1 x2 x3) (E4 (fun i0 i1 i2 i3 => ((rv103 D i0 i2 i3 i1) * (rv24 D i0 i1 i2)))) :=
  Re.congr (Re.mul (re_v104 D h0 h1 h2 h3) (re_v108 D h2)) fun _ => rfl

theorem re_cst_11 (D : Data) :
    Re (val_main_cst_11 (F := Ideal)) (fun _ => (0 : ℝ)) :=
  Re.congr (Re.const lit0) fun _ => rfl

def rv110 (D : Data) (i0 i1 i2 : ℕ) : ℝ :=
  (∑ k21 ∈ Finset.range 1, (rv106 D i0 i1 i2))

theorem re_v110 (h0 : Re x0 (E2 D.A0)) (h1 : Re x1 (E2 D.A1)) (h2 : Re x2 (E2 D.LG)) (h3 : Re x3 (E2 D.DO)) :
    Re (val_main_v110 x0 x1 x2 x3) (E3 (rv110 D)) :=
  Re.congr (hsum_4x256x4x1_3 (re_v107 D h0 h1 h2 h3) _ _ (re_cst_11 D)) fun _ => rfl

theorem re_v111 (h0 : Re x0 (E2 D.A0)) (h1 : Re x1 (E2 D.A1)) (h2 : Re x2 (E2 D.LG)) (h3 : Re x3 (E2 D.DO)) :
    Re (val_main_v111 x0 x1 x2 x3) (E3 (fun i0 i1 i2 => ((rv110 D i0 i1 i2) * (rv24 D i0 i1 i2)))) :=
  Re.congr (Re.mul (re_v110 D h0 h1 h2 h3) (re_v24 D h2)) fun _ => rfl

theorem re_v112 (D : Data) :
    Re (val_main_v112 (F := Ideal)) (E3 (fun i0 i1 i2 => ((255 : ℝ) - ((i1 : ℕ) : ℝ)))) :=
  Re.congr (Re.bcast (re_v20 D)) fun _ => rfl

theorem re_v113 (h0 : Re x0 (E2 D.A0)) (h1 : Re x1 (E2 D.A1)) (h2 : Re x2 (E2 D.LG)) (h3 : Re x3 (E2 D.DO)) :
    Re (val_main_v113 x0 x1 x2 x3) (E3 (fun i0 i1 i2 => (((rv110 D i0 i1 i2) * (rv24 D i0 i1 i2)) * ((255 : ℝ) - ((i1 : ℕ) : ℝ))))) :=
  Re.congr (Re.mul (re_v111 D h0 h1 h2 h3) (re_v112 D)) fun _ => rfl

theorem re_cst_12 (D : Data) :
    Re (val_main_cst_12 (F := Ideal)) (fun _ => (0 : ℝ)) :=
  Re.congr (Re.const lit0) fun _ => rfl

def rv114 (D : Data) (i0 i1 : ℕ) : ℝ :=
  (∑ k22 ∈ Finset.range 256, (((rv110 D i0 k22 i1) * (rv24 D i0 k22 i1)) * ((255 : ℝ) - ((k22 : ℕ) : ℝ))))

theorem re_v114 (h0 : Re x0 (E2 D.A0)) (h1 : Re x1 (E2 D.A1)) (h2 : Re x2 (E2 D.LG)) (h3 : Re x3 (E2 D.DO)) :
    Re (val_main_v114 x0 x1 x2 x3) (E2 (rv114 D)) :=
  Re.congr (hsum_4x256x4_1 (re_v113 D h0 h1 h2 h3) _ _ (re_cst_12 D)) fun _ => rfl

theorem re_v115 (h0 : Re x0 (E2 D.A0)) (h1 : Re x1 (E2 D.A1)) (h2 : Re x2 (E2 D.LG)) (h3 : Re x3 (E2 D.DO)) :
    Re (val_main_v115 x0 x1 x2 x3) (E3 (fun i0 i1 i2 => (rv114 D i0 i2))) :=
  Re.congr (cast_4x4_4x1x4 (re_v114 D h0 h1 h2 h3) _) fun _ => rfl

theorem re_cst_13 (D : Data) :
    Re (val_main_cst_13 (F := Ideal)) (fun _ => (0 : ℝ)) :=
  Re.congr (Re.const lit0) fun _ => rfl

def rv116 (D : Data) (i0 i1 : ℕ) : ℝ :=
  (∑ k23 ∈ Finset.range 1, (rv114 D i0 i1))

theorem re_v116 (h0 : Re x0 (E2 D.A0)) (h1 : Re x1 (E2 D.A1)) (h2 : Re x2 (E2 D.LG)) (h3 : Re x3 (E2 D.DO)) :
    Re (val_main_v116 x0 x1 x2 x3) (E2 (rv116 D)) :=
  Re.congr (hsum_4x1x4_1 (re_v115 D h0 h1 h2 h3) _ _ (re_cst_13 D)) fun _ => rfl

def rv117 (D : Data) (i0 i1 : ℕ) : ℝ :=
  ((rv100 D i0 i1) + (rv116 D i0 i1))

theorem re_v117 (h0 : Re x0 (E2 D.A0)) (h1 : Re x1 (E2 D.A1)) (h2 : Re x2 (E2 D.LG)) (h3 : Re x3 (E2 D.DO)) :
    Re (val_main_v117 x0 x1 x2 x3) (E2 (rv117 D)) :=
  Re.congr (Re.add (re_v100 D h0 h1 h2 h3) (re_v116 D h0 h1 h2 h3)) fun _ => rfl

theorem re_v118 (h0 : Re x0 (E2 D.A0)) (h1 : Re x1 (E2 D.A1)) (h2 : Re x2 (E2 D.LG)) (h3 : Re x3 (E2 D.DO)) :
    Re (val_main_v118 x0 x1 x2 x3) (E2 (fun i0 i1 => (rv85 D (i0 / 2048) (i0 % 2048) (i1 / 256) (i1 % 256)))) :=
  Re.congr (cast_4x2048x4x256_8192x1024 (re_v85 D h0 h1 h2 h3) _) fun _ => rfl

theorem re_v119 (h0 : Re x0 (E2 D.A0)) (h1 : Re x1 (E2 D.A1)) (h2 : Re x2 (E2 D.LG)) (h3 : Re x3 (E2 D.DO)) :
    Re (val_main_v119 x0 x1 x2 x3) (E2 (fun i0 i1 => (rv81 D (i0 / 2048) (i1 / 256) (i0 % 2048) (i1 % 256)))) :=
  Re.congr (cast_4x2048x4x256_8192x1024 (re_v82 D h0 h1 h2 h3) _) fun _ => rfl

theorem re_v120 (h0 : Re x0 (E2 D.A0)) (h2 : Re x2 (E2 D.LG)) (h3 : Re x3 (E2 D.DO)) :
    Re (val_main_v120 x0 x2 x3) (E2 (fun i0 i1 => (rv77 D (i0 / 2048) (i1 / 512) (i1 % 512) (i0 % 2048)))) :=
  Re.congr (cast_4x2048x4x512_8192x2048 (re_v78 D h0 h2 h3) _) fun _ => rfl

theorem re_v121 (h0 : Re x0 (E2 D.A0)) (h1 : Re x1 (E2 D.A1)) (h2 : Re x2 (E2 D.LG)) (h3 : Re x3 (E2 D.DO)) :
    Re (val_main_v121 x0 x1 x2 x3) (E2 (fun i0 i1 => ((rv103 D (i0 / 256) (i1 / 256) (i1 % 256) (i0 % 256)) * (rv24 D (i0 / 256) (i0 % 256) (i1 / 256))))) :=
  Re.congr (cast_4x256x4x256_1024x1024 (re_v109 D h0 h1 h2 h3) _) fun _ => rfl

theorem re_v122 (h0 : Re x0 (E2 D.A0)) (h2 : Re x2 (E2 D.LG)) (h3 : Re x3 (E2 D.DO)) :
    Re (val_main_v122 x0 x2 x3) (E2 (fun i0 i1 => (rv101 D (i0 / 256) (i1 / 512) (i1 % 512) (i0 % 256)))) :=
  Re.congr (cast_4x256x4x512_1024x2048 (re_v102 D h0 h2 h3) _) fun _ => rfl

theorem re_v123 (h0 : Re x0 (E2 D.A0)) (h1 : Re x1 (E2 D.A1)) (h2 : Re x2 (E2 D.LG)) (h3 : Re x3 (E2 D.DO)) :
    Re (val_main_v123 x0 x1 x2 x3) (E4 (fun i0 i1 i2 i3 => (rv117 D i0 i1))) :=
  Re.congr (Re.bcast (re_v117 D h0 h1 h2 h3)) fun _ => rfl

theorem re_v124 (h0 : Re x0 (E2 D.A0)) (h1 : Re x1 (E2 D.A1)) (h2 : Re x2 (E2 D.LG)) (h3 : Re x3 (E2 D.DO)) :
    Re (val_main_v124 x0 x1 x2 x3) (E4 (fun i0 i1 i2 i3 => (rv117 D i0 i1))) :=
  Re.congr (Re.bcast (re_v123 D h0 h1 h2 h3)) fun _ => rfl

theorem re_v125 (h0 : Re x0 (E2 D.A0)) :
    Re (val_main_v125 x0) (E2 (fun i0 i1 => (D.A0 (0 + i0) (0 + i1)))) :=
  Re.congr (Re.slice h0) fun _ => rfl

theorem re_v126 (h0 : Re x0 (E2 D.A0)) :
    Re (val_main_v126 x0) (E4 (fun i0 i1 i2 i3 => (D.A0 (0 + (2048 * i0 + i1)) (0 + (256 * i2 + i3))))) :=
  Re.congr (cast_8192x1024_4x2048x4x256 (re_v125 D h0) _) fun _ => rfl

theorem re_v127 (h0 : Re x0 (E2 D.A0)) :
    Re (val_main_v127 x0) (E2 (fun i0 i1 => (D.A0 (0 + i0) (1024 + i1)))) :=
  Re.congr (Re.slice h0) fun _ => rfl

theorem re_v128 (h0 : Re x0 (E2 D.A0)) :
    Re (val_main_v128 x0) (E4 (fun i0 i1 i2 i3 => (D.A0 (0 + (2048 * i0 + i1)) (1024 + (256 * i2 + i3))))) :=
  Re.congr (cast_8192x1024_4x2048x4x256 (re_v127 D h0) _) fun _ => rfl

theorem re_v129 (h1 : Re x1 (E2 D.A1)) :
    Re (val_main_v129 x1) (E2 (fun i0 i1 => (D.A1 (0 + i0) (2048 + i1)))) :=
  Re.congr (Re.slice h1) fun _ => rfl

theorem re_v130 (h1 : Re x1 (E2 D.A1)) :
    Re (val_main_v130 x1) (E4 (fun i0 i1 i2 i3 => (D.A1 (0 + (2048 * i0 + i1)) (2048 + (512 * i2 + i3))))) :=
  Re.congr (cast_8192x2048_4x2048x4x512 (re_v129 D h1) _) fun _ => rfl

theorem re_v131 (h0 : Re x0 (E2 D.A0)) :
    Re (val_main_v131 x0) (E2 (fun i0 i1 => (D.A0 (8192 + i0) (1024 + i1)))) :=
  Re.congr (Re.slice h0) fun _ => rfl

theorem re_v132 (h0 : Re x0 (E2 D.A0)) :
    Re (val_main_v132 x0) (E4 (fun i0 i1 i2 i3 => (D.A0 (8192 + (256 * i0 + i1)) (1024 + (256 * i2 + i3))))) :=
  Re.congr (cast_1024x1024_4x256x4x256 (re_v131 D h0) _) fun _ => rfl

theorem re_v133 (h1 : Re x1 (E2 D.A1)) :
    Re (val_main_v133 x1) (E2 (fun i0 i1 => (D.A1 (8192 + i0) (2048 + i1)))) :=
  Re.congr (Re.slice h1) fun _ => rfl

theorem re_v134 (h1 : Re x1 (E2 D.A1)) :
    Re (val_main_v134 x1) (E4 (fun i0 i1 i2 i3 => (D.A1 (8192 + (256 * i0 + i1)) (2048 + (512 * i2 + i3))))) :=
  Re.congr (cast_1024x2048_4x256x4x512 (re_v133 D h1) _) fun _ => rfl

theorem re_v135 (h2 : Re x2 (E2 D.LG)) :
    Re (val_main_v135 x2) (E2 (fun i0 i1 => (D.LG (1 + 0) (0 + i1)))) :=
  Re.congr (Re.bcast (re_v3 D h2)) fun _ => rfl

theorem re_v136 (h2 : Re x2 (E2 D.LG)) :
    Re (val_main_v136 x2) (E2 (fun i0 i1 => (D.LG (1 + 0) (0 + i1)))) :=
  Re.congr (Re.bcast (re_v135 D h2)) fun _ => rfl

theorem re_v137 (h0 : Re x0 (E2 D.A0)) :
    Re (val_main_v137 x0) (E4 (fun i0 i1 i2 i3 => (D.A0 (0 + (2048 * i0 + (2048 - (i1 + 1)))) (0 + (256 * i2 + i3))))) :=
  Re.congr (Re.rev (re_v126 D h0)) fun _ => rfl

theorem re_v138 (h0 : Re x0 (E2 D.A0)) :
    Re (val_main_v138 x0) (E4 (fun i0 i1 i2 i3 => (D.A0 (0 + (2048 * i0 + (2048 - (i1 + 1)))) (1024 + (256 * i2 + i3))))) :=
  Re.congr (Re.rev (re_v128 D h0)) fun _ => rfl

theorem re_v139 (h1 : Re x1 (E2 D.A1)) :
    Re (val_main_v139 x1) (E4 (fun i0 i1 i2 i3 => (D.A1 (0 + (2048 * i0 + (2048 - (i1 + 1)))) (2048 + (512 * i2 + i3))))) :=
  Re.congr (Re.rev (re_v130 D h1)) fun _ => rfl

theorem re_v140 (h0 : Re x0 (E2 D.A0)) :
    Re (val_main_v140 x0) (E4 (fun i0 i1 i2 i3 => (D.A0 (8192 + (256 * i0 + (256 - (i1 + 1)))) (1024 + (256 * i2 + i3))))) :=
  Re.congr (Re.rev (re_v132 D h0)) fun _ => rfl

theorem re_v141 (h1 : Re x1 (E2 D.A1)) :
    Re (val_main_v141 x1) (E4 (fun i0 i1 i2 i3 => (D.A1 (8192 + (256 * i0 + (256 - (i1 + 1)))) (2048 + (512 * i2 + i3))))) :=
  Re.congr (Re.rev (re_v134 D h1)) fun _ => rfl

theorem re_v142 (D : Data) :
    Re (val_main_v142 (F := Ideal)) (E1 (fun i0 => ((i0 : ℕ) : ℝ))) :=
  Re.congr (Re.iotaInDim (s := S256) 0 (by decide)) fun _ => rfl

theorem re_v143 (h2 : Re x2 (E2 D.LG)) :
    Re (val_main_v143 x2) (E3 (fun i0 i1 i2 => (D.LG (1 + 0) (0 + i2)))) :=
  Re.congr (Re.bcast (re_v136 D h2)) fun _ => rfl

theorem re_cst_14 (D : Data) :
    Re (val_main_cst_14 (F := Ideal)) (fun _ => (255 : ℝ)) :=
  Re.congr (Re.const lit255) fun _ => rfl

theorem re_v144 (D : Data) :
    Re (val_main_v144 (F := Ideal)) (E1 (fun i0 => (255 : ℝ))) :=
  Re.congr (Re.bcast (re_cst_14 D)) fun _ => rfl

theorem re_v145 (D : Data) :
    Re (val_main_v145 (F := Ideal)) (E1 (fun i0 => ((255 : ℝ) - ((i0 : ℕ) : ℝ)))) :=
  Re.congr (Re.sub (re_v144 D) (re_v142 D)) fun _ => rfl

theorem re_v146 (D : Data) :
    Re (val_main_v146 (F := Ideal)) (E3 (fun i0 i1 i2 => ((255 : ℝ) - ((i1 : ℕ) : ℝ)))) :=
  Re.congr (Re.bcast (re_v145 D)) fun _ => rfl

theorem re_v147 (h2 : Re x2 (E2 D.LG)) :
    Re (val_main_v147 x2) (E3 (fun i0 i1 i2 => (D.LG (1 + 0) (0 + i2)))) :=
  Re.congr (Re.bcast (re_v143 D h2)) fun _ => rfl

theorem re_v148 (D : Data) :
    Re (val_main_v148 (F := Ideal)) (E3 (fun i0 i1 i2 => ((255 : ℝ) - ((i1 : ℕ) : ℝ)))) :=
  Re.congr (Re.bcast (re_v146 D)) fun _ => rfl

theorem re_v149 (h2 : Re x2 (E2 D.LG)) :
    Re (val_main_v149 x2) (E3 (fun i0 i1 i2 => ((D.LG (1 + 0) (0 + i2)) * ((255 : ℝ) - ((i1 : ℕ) : ℝ))))) :=
  Re.congr (Re.mul (re_v147 D h2) (re_v148 D)) fun _ => rfl

def rv150 (D : Data) (i0 i1 i2 : ℕ) : ℝ :=
  (Real.exp ((D.LG (1 + 0) (0 + i2)) * ((255 : ℝ) - ((i1 : ℕ) : ℝ))))

theorem re_v150 (h2 : Re x2 (E2 D.LG)) :
    Re (val_main_v150 x2) (E3 (rv150 D)) :=
  Re.congr (Re.hexp (re_v149 D h2)) fun _ => rfl

theorem re_v151 (h2 : Re x2 (E2 D.LG)) :
    Re (val_main_v151 x2) (E4 (fun i0 i1 i2 i3 => (rv150 D i0 i1 i2))) :=
  Re.congr (Re.bcast (re_v150 D h2)) fun _ => rfl

theorem re_v152 (h2 : Re x2 (E2 D.LG)) :
    Re (val_main_v152 x2) (E4 (fun i0 i1 i2 i3 => (rv150 D i0 i1 i2))) :=
  Re.congr (Re.bcast (re_v151 D h2)) fun _ => rfl

theorem re_v153 (h0 : Re x0 (E2 D.A0)) (h2 : Re x2 (E2 D.LG)) :
    Re (val_main_v153 x0 x2) (E4 (fun i0 i1 i2 i3 => ((D.A0 (8192 + (256 * i0 + (256 - (i1 + 1)))) (1024 + (256 * i2 + i3))) * (rv150 D i0 i1 i2)))) :=
  Re.congr (Re.mul (re_v140 D h0) (re_v152 D h2)) fun _ => rfl

def rv154 (D : Data) (i0 i1 i2 i3 : ℕ) : ℝ :=
  (∑ k24 ∈ Finset.range 256, ((D.A0 (8192 + (256 * i0 + (256 - (k24 + 1)))) (1024 + (256 * i1 + i2))) * (rv150 D i0 k24 i1)) * (D.A1 (8192 + (256 * i0 + (256 - (k24 + 1)))) (2048 + (512 * i1 + i3))))

theorem re_v154 (h0 : Re x0 (E2 D.A0)) (h1 : Re x1 (E2 D.A1)) (h2 : Re x2 (E2 D.LG)) :
    Re (val_main_v154 x0 x1 x2) (E4 (rv154 D)) :=
  Re.congr (hdot0 (re_v153 D h0 h2) (re_v141 D h1)) fun _ => rfl

theorem re_v155 (D : Data) :
    Re (val_main_v155 (F := Ideal)) (E1 (fun i0 => ((i0 : ℕ) : ℝ))) :=
  Re.congr (Re.iotaInDim (s := S2048) 0 (by decide)) fun _ => rfl

theorem re_v156 (D : Data) :
    Re (val_main_v156 (F := Ideal)) (E2 (fun i0 i1 => ((i0 : ℕ) : ℝ))) :=
  Re.congr (Re.bcast (re_v155 D)) fun _ => rfl

theorem re_v157 (D : Data) :
    Re (val_main_v157 (F := Ideal)) (E2 (fun i0 i1 => ((i1 : ℕ) : ℝ))) :=
  Re.congr (Re.bcast (re_v155 D)) fun _ => rfl

theorem re_v158 (D : Data) :
    Re (val_main_v158 (F := Ideal)) (E2 (fun i0 i1 => ((i0 : ℕ) : ℝ))) :=
  Re.congr (Re.bcast (re_v156 D)) fun _ => rfl

theorem re_v159 (D : Data) :
    Re (val_main_v159 (F := Ideal)) (E2 (fun i0 i1 => ((i1 : ℕ) : ℝ))) :=
  Re.congr (Re.bcast (re_v157 D)) fun _ => rfl

theorem re_v160 (D : Data) :
    Re (val_main_v160 (F := Ideal)) (E2 (fun i0 i1 => (((i0 : ℕ) : ℝ) - ((i1 : ℕ) : ℝ)))) :=
  Re.congr (Re.sub (re_v158 D) (re_v159 D)) fun _ => rfl

theorem re_cst_15 (D : Data) :
    Re (val_main_cst_15 (F := Ideal)) (fun _ => (0 : ℝ)) :=
  Re.congr (Re.const lit0) fun _ => rfl

theorem re_v161 (D : Data) :
    Re (val_main_v161 (F := Ideal)) (E2 (fun i0 i1 => (0 : ℝ))) :=
  Re.congr (Re.bcast (re_cst_15 D)) fun _ => rfl

theorem re_v162 (D : Data) : Ge (val_main_v162 (F := Ideal))
    (E2 fun i0 i1 => (((i0 : ℕ) : ℝ) - ((i1 : ℕ) : ℝ))) (E2 fun i0 i1 => (0 : ℝ)) :=
  Ge.congr (Ge.cmp (re_v160 D) (re_v161 D)) (fun _ => rfl) (fun _ => rfl)

theorem re_v163 (h2 : Re x2 (E2 D.LG)) :
    Re (val_main_v163 x2) (E4 (fun i0 i1 i2 i3 => (D.LG (1 + 0) (0 + i1)))) :=
  Re.congr (Re.bcast (re_v136 D h2)) fun _ => rfl

theorem re_cst_16 (D : Data) :
    Re (val_main_cst_16 (F := Ideal)) (fun _ => (0 : ℝ)) :=
  Re.congr (Re.const lit0) fun _ => rfl

theorem re_v164 (D : Data) :
    Re (val_main_v164 (F := Ideal)) (E2 (fun i0 i1 => (0 : ℝ))) :=
  Re.congr (Re.bcast (re_cst_16 D)) fun _ => rfl

theorem re_v165 (D : Data) :
    Re (val_main_v165 (F := Ideal)) (E2 (fun i0 i1 => (Max.max (((i0 : ℕ) : ℝ) - ((i1 : ℕ) : ℝ)) (0 : ℝ)))) :=
  Re.congr (Re.max (re_v160 D) (re_v164 D)) fun _ => rfl

theorem re_v166 (D : Data) :
    Re (val_main_v166 (F := Ideal)) (E4 (fun i0 i1 i2 i3 => (Max.max (((i2 : ℕ) : ℝ) - ((i3 : ℕ) : ℝ)) (0 : ℝ)))) :=
  Re.congr (Re.bcast (re_v165 D)) fun _ => rfl

theorem re_v167 (h2 : Re x2 (E2 D.LG)) :
    Re (val_main_v167 x2) (E4 (fun i0 i1 i2 i3 => (D.LG (1 + 0) (0 + i1)))) :=
  Re.congr (Re.bcast (re_v163 D h2)) fun _ => rfl

theorem re_v168 (D : Data) :
    Re (val_main_v168 (F := Ideal)) (E4 (fun i0 i1 i2 i3 => (Max.max (((i2 : ℕ) : ℝ) - ((i3 : ℕ) : ℝ)) (0 : ℝ)))) :=
  Re.congr (Re.bcast (re_v166 D)) fun _ => rfl

theorem re_v169 (h2 : Re x2 (E2 D.LG)) :
    Re (val_main_v169 x2) (E4 (fun i0 i1 i2 i3 => ((D.LG (1 + 0) (0 + i1)) * (Max.max (((i2 : ℕ) : ℝ) - ((i3 : ℕ) : ℝ)) (0 : ℝ))))) :=
  Re.congr (Re.mul (re_v167 D h2) (re_v168 D)) fun _ => rfl

def rv170 (D : Data) (i0 i1 i2 i3 : ℕ) : ℝ :=
  (Real.exp ((D.LG (1 + 0) (0 + i1)) * (Max.max (((i2 : ℕ) : ℝ) - ((i3 : ℕ) : ℝ)) (0 : ℝ))))

theorem re_v170 (h2 : Re x2 (E2 D.LG)) :
    Re (val_main_v170 x2) (E4 (rv170 D)) :=
  Re.congr (Re.hexp (re_v169 D h2)) fun _ => rfl

theorem re_cst_17 (D : Data) :
    Re (val_main_cst_17 (F := Ideal)) (fun _ => (0 : ℝ)) :=
  Re.congr (Re.const lit0) fun _ => rfl

theorem re_call7_v0 (D : Data) :
    Re (val_main_call7_v0 (F := Ideal)) (fun _ => (0 : ℝ)) :=
  Re.congr (re_cst_17 D) fun _ => rfl

theorem re_v171_1 (D : Data) : Ge (val_main_v171_1 (F := Ideal))
    (E4 fun i0 i1 i2 i3 => (((i2 : ℕ) : ℝ) - ((i3 : ℕ) : ℝ))) (E4 fun i0 i1 i2 i3 => (0 : ℝ)) :=
  Ge.congr (Ge.bcast (re_v162 D)) (fun _ => rfl) (fun _ => rfl)

theorem re_call7_v2 (D : Data) :
    Re (val_main_call7_v2 (F := Ideal)) (E4 (fun i0 i1 i2 i3 => (0 : ℝ))) :=
  Re.congr (Re.bcast (re_call7_v0 D)) fun _ => rfl

def rv171_0 (D : Data) (i0 i1 i2 i3 : ℕ) : ℝ :=
  (if (0 : ℝ) ≤ (((i2 : ℕ) : ℝ) - ((i3 : ℕ) : ℝ)) then (rv170 D i0 i1 i2 i3) else (0 : ℝ))

theorem re_v171_0 (D : Data) (h2 : Re x2 (E2 D.LG)) :
    Re (val_main_v171_0 x2) (E4 (rv171_0 D)) :=
  Re.congr (Re.select (re_v171_1 D) (re_v170 D h2) (re_call7_v2 D)) fun _ => rfl

theorem re_v172 (h2 : Re x2 (E2 D.LG)) :
    Re (val_main_v172 x2) (E3 (fun i0 i1 i2 => (D.LG (1 + 0) (0 + i2)))) :=
  Re.congr (Re.bcast (re_v136 D h2)) fun _ => rfl

theorem re_cst_18 (D : Data) :
    Re (val_main_cst_18 (F := Ideal)) (fun _ => (1 : ℝ)) :=
  Re.congr (Re.const lit1) fun _ => rfl

theorem re_v173 (D : Data) :
    Re (val_main_v173 (F := Ideal)) (E1 (fun i0 => (1 : ℝ))) :=
  Re.congr (Re.bcast (re_cst_18 D)) fun _ => rfl

def rv174 (D : Data) (i0 : ℕ) : ℝ :=
  (((i0 : ℕ) : ℝ) + (1 : ℝ))

theorem re_v174   :
    Re (val_main_v174 (F := Ideal)) (E1 (rv174 D)) :=
  Re.congr (Re.add (re_v155 D) (re_v173 D)) fun _ => rfl

theorem re_v175   :
    Re (val_main_v175 (F := Ideal)) (E3 (fun i0 i1 i2 => (rv174 D i1))) :=
  Re.congr (Re.bcast (re_v174 D)) fun _ => rfl

theorem re_v176 (h2 : Re x2 (E2 D.LG)) :
    Re (val_main_v176 x2) (E3 (fun i0 i1 i2 => (D.LG (1 + 0) (0 + i2)))) :=
  Re.congr (Re.bcast (re_v172 D h2)) fun _ => rfl

theorem re_v177   :
    Re (val_main_v177 (F := Ideal)) (E3 (fun i0 i1 i2 => (rv174 D i1))) :=
  Re.congr (Re.bcast (re_v175 D)) fun _ => rfl

theorem re_v178 (h2 : Re x2 (E2 D.LG)) :
    Re (val_main_v178 x2) (E3 (fun i0 i1 i2 => ((D.LG (1 + 0) (0 + i2)) * (rv174 D i1)))) :=
  Re.congr (Re.mul (re_v176 D h2) (re_v177 D)) fun _ => rfl

def rv179 (D : Data) (i0 i1 i2 : ℕ) : ℝ :=
  (Real.exp ((D.LG (1 + 0) (0 + i2)) * (rv174 D i1)))

theorem re_v179 (h2 : Re x2 (E2 D.LG)) :
    Re (val_main_v179 x2) (E3 (rv179 D)) :=
  Re.congr (Re.hexp (re_v178 D h2)) fun _ => rfl

theorem re_v180 (h2 : Re x2 (E2 D.LG)) :
    Re (val_main_v180 x2) (E4 (fun i0 i1 i2 i3 => (rv179 D i0 i1 i2))) :=
  Re.congr (Re.bcast (re_v179 D h2)) fun _ => rfl

def rv181 (D : Data) (i0 i1 i2 i3 : ℕ) : ℝ :=
  (∑ k25 ∈ Finset.range 256, (D.A0 (0 + (2048 * i0 + (2048 - (i2 + 1)))) (0 + (256 * i1 + k25))) * (D.A0 (0 + (2048 * i0 + (2048 - (i3 + 1)))) (1024 + (256 * i1 + k25))))

theorem re_v181 (h0 : Re x0 (E2 D.A0)) :
    Re (val_main_v181 x0) (E4 (rv181 D)) :=
  Re.congr (hdot1 (re_v137 D h0) (re_v138 D h0)) fun _ => rfl

theorem re_v182 (h0 : Re x0 (E2 D.A0)) (h2 : Re x2 (E2 D.LG)) :
    Re (val_main_v182 x0 x2) (E4 (fun i0 i1 i2 i3 => ((rv181 D i0 i1 i2 i3) * (rv171_0 D i0 i1 i2 i3)))) :=
  Re.congr (Re.mul (re_v181 D h0) (re_v171_0 D h2)) fun _ => rfl

def rv185 (D : Data) (i0 i1 i2 i3 : ℕ) : ℝ :=
  (∑ k26 ∈ Finset.range 256, (rv154 D i0 i1 k26 i2) * (D.A0 (0 + (2048 * i0 + (2048 - (i3 + 1)))) (0 + (256 * i1 + k26))))

theorem re_v185 (h0 : Re x0 (E2 D.A0)) (h1 : Re x1 (E2 D.A1)) (h2 : Re x2 (E2 D.LG)) :
    Re (val_main_v185 x0 x1 x2) (E4 (rv185 D)) :=
  Re.congr (hdot2 (re_v154 D h0 h1 h2) (re_v137 D h0)) fun _ => rfl

theorem re_v186 (h0 : Re x0 (E2 D.A0)) (h1 : Re x1 (E2 D.A1)) (h2 : Re x2 (E2 D.LG)) :
    Re (val_main_v186 x0 x1 x2) (E4 (fun i0 i1 i2 i3 => (rv185 D i0 i2 i3 i1))) :=
  Re.congr (Re.transp (re_v185 D h0 h1 h2)) fun _ => rfl

theorem re_v191 (h3 : Re x3 (E2 D.DO)) :
    Re (val_main_v191 x3) (E4 (fun i0 i1 i2 i3 => (D.DO (2048 * i0 + i1) (512 * i2 + i3)))) :=
  Re.congr (cast_8192x2048_4x2048x4x512 h3 _) fun _ => rfl

theorem re_v192 (h3 : Re x3 (E2 D.DO)) :
    Re (val_main_v192 x3) (E4 (fun i0 i1 i2 i3 => (D.DO (2048 * i0 + (2048 - (i1 + 1))) (512 * i2 + i3)))) :=
  Re.congr (Re.rev (re_v191 D h3)) fun _ => rfl

theorem re_v193 (h0 : Re x0 (E2 D.A0)) (h1 : Re x1 (E2 D.A1)) (h2 : Re x2 (E2 D.LG)) (h3 : Re x3 (E2 D.DO)) :
    Re (val_main_v193 x0 x1 x2 x3) (E4 (fun i0 i1 i2 i3 => ((rv185 D i0 i2 i3 i1) * (D.DO (2048 * i0 + (2048 - (i1 + 1))) (512 * i2 + i3))))) :=
  Re.congr (Re.mul (re_v186 D h0 h1 h2) (re_v192 D h3)) fun _ => rfl

theorem re_cst_19 (D : Data) :
    Re (val_main_cst_19 (F := Ideal)) (fun _ => (0 : ℝ)) :=
  Re.congr (Re.const lit0) fun _ => rfl

def rv194 (D : Data) (i0 i1 i2 : ℕ) : ℝ :=
  (∑ k27 ∈ Finset.range 512, ((rv185 D i0 i2 k27 i1) * (D.DO (2048 * i0 + (2048 - (i1 + 1))) (512 * i2 + k27))))

theorem re_v194 (h0 : Re x0 (E2 D.A0)) (h1 : Re x1 (E2 D.A1)) (h2 : Re x2 (E2 D.LG)) (h3 : Re x3 (E2 D.DO)) :
    Re (val_main_v194 x0 x1 x2 x3) (E3 (rv194 D)) :=
  Re.congr (hsum_4x2048x4x512_3 (re_v193 D h0 h1 h2 h3) _ _ (re_cst_19 D)) fun _ => rfl

theorem re_v195 (h0 : Re x0 (E2 D.A0)) (h1 : Re x1 (E2 D.A1)) (h2 : Re x2 (E2 D.LG)) (h3 : Re x3 (E2 D.DO)) :
    Re (val_main_v195 x0 x1 x2 x3) (E4 (fun i0 i1 i2 i3 => (rv194 D i0 i1 i2))) :=
  Re.congr (cast_4x2048x4_4x2048x4x1 (re_v194 D h0 h1 h2 h3) _) fun _ => rfl

theorem re_v196 (h2 : Re x2 (E2 D.LG)) :
    Re (val_main_v196 x2) (E4 (fun i0 i1 i2 i3 => (rv179 D i0 i1 i2))) :=
  Re.congr (Re.bcast (re_v180 D h2)) fun _ => rfl

theorem re_v197 (h2 : Re x2 (E2 D.LG)) (h3 : Re x3 (E2 D.DO)) :
    Re (val_main_v197 x2 x3) (E4 (fun i0 i1 i2 i3 => ((D.DO (2048 * i0 + (2048 - (i1 + 1))) (512 * i2 + i3)) * (rv179 D i0 i1 i2)))) :=
  Re.congr (Re.mul (re_v192 D h3) (re_v196 D h2)) fun _ => rfl

theorem re_v198 (h2 : Re x2 (E2 D.LG)) (h3 : Re x3 (E2 D.DO)) :
    Re (val_main_v198 x2 x3) (E4 (fun i0 i1 i2 i3 => ((D.DO (2048 * i0 + (2048 - (i3 + 1))) (512 * i1 + i2)) * (rv179 D i0 i3 i1)))) :=
  Re.congr (Re.transp (re_v197 D h2 h3)) fun _ => rfl

def rv199 (D : Data) (i0 i1 i2 i3 : ℕ) : ℝ :=
  (∑ k28 ∈ Finset.range 512, ((D.DO (2048 * i0 + (2048 - (i2 + 1))) (512 * i1 + k28)) * (rv179 D i0 i2 i1)) * (rv154 D i0 i1 i3 k28))

theorem re_v199 (h0 : Re x0 (E2 D.A0)) (h1 : Re x1 (E2 D.A1)) (h2 : Re x2 (E2 D.LG)) (h3 : Re x3 (E2 D.DO)) :
    Re (val_main_v199 x0 x1 x2 x3) (E4 (rv199 D)) :=
  Re.congr (hdot3 (re_v198 D h2 h3) (re_v154 D h0 h1 h2)) fun _ => rfl

theorem re_v200 (h0 : Re x0 (E2 D.A0)) (h1 : Re x1 (E2 D.A1)) (h2 : Re x2 (E2 D.LG)) (h3 : Re x3 (E2 D.DO)) :
    Re (val_main_v200 x0 x1 x2 x3) (E4 (fun i0 i1 i2 i3 => (rv199 D i0 i2 i1 i3))) :=
  Re.congr (Re.transp (re_v199 D h0 h1 h2 h3)) fun _ => rfl

def rv201 (D : Data) (i0 i1 i2 i3 : ℕ) : ℝ :=
  (∑ k29 ∈ Finset.range 2048, ((D.DO (2048 * i0 + (2048 - (k29 + 1))) (512 * i1 + i2)) * (rv179 D i0 k29 i1)) * (D.A0 (0 + (2048 * i0 + (2048 - (k29 + 1)))) (0 + (256 * i1 + i3))))

theorem re_v201 (h0 : Re x0 (E2 D.A0)) (h2 : Re x2 (E2 D.LG)) (h3 : Re x3 (E2 D.DO)) :
    Re (val_main_v201 x0 x2 x3) (E4 (rv201 D)) :=
  Re.congr (hdot4 (re_v198 D h2 h3) (re_v137 D h0)) fun _ => rfl

theorem re_v202 (h0 : Re x0 (E2 D.A0)) (h2 : Re x2 (E2 D.LG)) (h3 : Re x3 (E2 D.DO)) :
    Re (val_main_v202 x0 x2 x3) (E4 (fun i0 i1 i2 i3 => (rv201 D i0 i1 i3 i2))) :=
  Re.congr (Re.transp (re_v201 D h0 h2 h3)) fun _ => rfl

theorem re_v203 (h3 : Re x3 (E2 D.DO)) :
    Re (val_main_v203 x3) (E4 (fun i0 i1 i2 i3 => (D.DO (2048 * i0 + (2048 - (i3 + 1))) (512 * i1 + i2)))) :=
  Re.congr (Re.transp (re_v192 D h3)) fun _ => rfl

def rv204 (D : Data) (i0 i1 i2 i3 : ℕ) : ℝ :=
  (∑ k30 ∈ Finset.range 512, (D.DO (2048 * i0 + (2048 - (i2 + 1))) (512 * i1 + k30)) * (D.A1 (0 + (2048 * i0 + (2048 - (i3 + 1)))) (2048 + (512 * i1 + k30))))

theorem re_v204 (h1 : Re x1 (E2 D.A1)) (h3 : Re x3 (E2 D.DO)) :
    Re (val_main_v204 x1 x3) (E4 (rv204 D)) :=
  Re.congr (hdot5 (re_v203 D h3) (re_v139 D h1)) fun _ => rfl

def rv205 (D : Data) (i0 i1 i2 i3 : ℕ) : ℝ :=
  (∑ k31 ∈ Finset.range 2048, (D.DO (2048 * i0 + (2048 - (k31 + 1))) (512 * i1 + i2)) * ((rv181 D i0 i1 k31 i3) * (rv171_0 D i0 i1 k31 i3)))

theorem re_v205 (h0 : Re x0 (E2 D.A0)) (h2 : Re x2 (E2 D.LG)) (h3 : Re x3 (E2 D.DO)) :
    Re (val_main_v205 x0 x2 x3) (E4 (rv205 D)) :=
  Re.congr (hdot6 (re_v203 D h3) (re_v182 D h0 h2)) fun _ => rfl

theorem re_v206 (h0 : Re x0 (E2 D.A0)) (h2 : Re x2 (E2 D.LG)) (h3 : Re x3 (E2 D.DO)) :
    Re (val_main_v206 x0 x2 x3) (E4 (fun i0 i1 i2 i3 => (rv205 D i0 i2 i3 i1))) :=
  Re.congr (Re.transp (re_v205 D h0 h2 h3)) fun _ => rfl

theorem re_v207 (h0 : Re x0 (E2 D.A0)) (h1 : Re x1 (E2 D.A1)) (h3 : Re x3 (E2 D.DO)) :
    Re (val_main_v207 x0 x1 x3) (E4 (fun i0 i1 i2 i3 => ((rv181 D i0 i1 i2 i3) * (rv204 D i0 i1 i2 i3)))) :=
  Re.congr (Re.mul (re_v181 D h0) (re_v204 D h1 h3)) fun _ => rfl

theorem re_v208 (h1 : Re x1 (E2 D.A1)) (h2 : Re x2 (E2 D.LG)) (h3 : Re x3 (E2 D.DO)) :
    Re (val_main_v208 x1 x2 x3) (E4 (fun i0 i1 i2 i3 => ((rv204 D i0 i1 i2 i3) * (rv171_0 D i0 i1 i2 i3)))) :=
  Re.congr (Re.mul (re_v204 D h1 h3) (re_v171_0 D h2)) fun _ => rfl

def rv209 (D : Data) (i0 i1 i2 i3 : ℕ) : ℝ :=
  (∑ k32 ∈ Finset.range 2048, ((rv204 D i0 i1 k32 i2) * (rv171_0 D i0 i1 k32 i2)) * (D.A0 (0 + (2048 * i0 + (2048 - (k32 + 1)))) (0 + (256 * i1 + i3))))

theorem re_v209 (h0 : Re x0 (E2 D.A0)) (h1 : Re x1 (E2 D.A1)) (h2 : Re x2 (E2 D.LG)) (h3 : Re x3 (E2 D.DO)) :
    Re (val_main_v209 x0 x1 x2 x3) (E4 (rv209 D)) :=
  Re.congr (hdot7 (re_v208 D h1 h2 h3) (re_v137 D h0)) fun _ => rfl

theorem re_v210 (h0 : Re x0 (E2 D.A0)) (h1 : Re x1 (E2 D.A1)) (h2 : Re x2 (E2 D.LG)) (h3 : Re x3 (E2 D.DO)) :
    Re (val_main_v210 x0 x1 x2 x3) (E4 (fun i0 i1 i2 i3 => (rv209 D i0 i2 i1 i3))) :=
  Re.congr (Re.transp (re_v209 D h0 h1 h2 h3)) fun _ => rfl

def rv211 (D : Data) (i0 i1 i2 i3 : ℕ) : ℝ :=
  (∑ k33 ∈ Finset.range 2048, ((rv204 D i0 i1 i2 k33) * (rv171_0 D i0 i1 i2 k33)) * (D.A0 (0 + (2048 * i0 + (2048 - (k33 + 1)))) (1024 + (256 * i1 + i3))))

theorem re_v211 (h0 : Re x0 (E2 D.A0)) (h1 : Re x1 (E2 D.A1)) (h2 : Re x2 (E2 D.LG)) (h3 : Re x3 (E2 D.DO)) :
    Re (val_main_v211 x0 x1 x2 x3) (E4 (rv211 D)) :=
  Re.congr (hdot8 (re_v208 D h1 h2 h3) (re_v138 D h0)) fun _ => rfl

theorem re_v212 (h0 : Re x0 (E2 D.A0)) (h1 : Re x1 (E2 D.A1)) (h2 : Re x2 (E2 D.LG)) (h3 : Re x3 (E2 D.DO)) :
    Re (val_main_v212 x0 x1 x2 x3) (E4 (fun i0 i1 i2 i3 => (rv211 D i0 i2 i1 i3))) :=
  Re.congr (Re.transp (re_v211 D h0 h1 h2 h3)) fun _ => rfl

def rv213 (D : Data) (i0 i1 i2 i3 : ℕ) : ℝ :=
  ((rv199 D i0 i2 i1 i3) + (rv211 D i0 i2 i1 i3))

theorem re_v213 (h0 : Re x0 (E2 D.A0)) (h1 : Re x1 (E2 D.A1)) (h2 : Re x2 (E2 D.LG)) (h3 : Re x3 (E2 D.DO)) :
    Re (val_main_v213 x0 x1 x2 x3) (E4 (rv213 D)) :=
  Re.congr (Re.add (re_v200 D h0 h1 h2 h3) (re_v212 D h0 h1 h2 h3)) fun _ => rfl

theorem re_cst_20 (D : Data) :
    Re (val_main_cst_20 (F := Ideal)) (fun _ => (0 : ℝ)) :=
  Re.congr (Re.const lit0) fun _ => rfl

def rv214 (D : Data) (i0 i1 i2 : ℕ) : ℝ :=
  (∑ k34 ∈ Finset.range 1, (rv194 D i0 i1 i2))

theorem re_v214 (h0 : Re x0 (E2 D.A0)) (h1 : Re x1 (E2 D.A1)) (h2 : Re x2 (E2 D.LG)) (h3 : Re x3 (E2 D.DO)) :
    Re (val_main_v214 x0 x1 x2 x3) (E3 (rv214 D)) :=
  Re.congr (hsum_4x2048x4x1_3 (re_v195 D h0 h1 h2 h3) _ _ (re_cst_20 D)) fun _ => rfl

theorem re_v215 (h0 : Re x0 (E2 D.A0)) (h1 : Re x1 (E2 D.A1)) (h2 : Re x2 (E2 D.LG)) (h3 : Re x3 (E2 D.DO)) :
    Re (val_main_v215 x0 x1 x2 x3) (E3 (fun i0 i1 i2 => ((rv214 D i0 i1 i2) * (rv179 D i0 i1 i2)))) :=
  Re.congr (Re.mul (re_v214 D h0 h1 h2 h3) (re_v179 D h2)) fun _ => rfl

theorem re_v216   :
    Re (val_main_v216 (F := Ideal)) (E3 (fun i0 i1 i2 => (rv174 D i1))) :=
  Re.congr (Re.bcast (re_v175 D)) fun _ => rfl

theorem re_v217 (h0 : Re x0 (E2 D.A0)) (h1 : Re x1 (E2 D.A1)) (h2 : Re x2 (E2 D.LG)) (h3 : Re x3 (E2 D.DO)) :
    Re (val_main_v217 x0 x1 x2 x3) (E3 (fun i0 i1 i2 => (((rv214 D i0 i1 i2) * (rv179 D i0 i1 i2)) * (rv174 D i1)))) :=
  Re.congr (Re.mul (re_v215 D h0 h1 h2 h3) (re_v216 D)) fun _ => rfl

theorem re_cst_21 (D : Data) :
    Re (val_main_cst_21 (F := Ideal)) (fun _ => (0 : ℝ)) :=
  Re.congr (Re.const lit0) fun _ => rfl

def rv218 (D : Data) (i0 i1 : ℕ) : ℝ :=
  (∑ k35 ∈ Finset.range 2048, (((rv214 D i0 k35 i1) * (rv179 D i0 k35 i1)) * (rv174 D k35)))

theorem re_v218 (h0 : Re x0 (E2 D.A0)) (h1 : Re x1 (E2 D.A1)) (h2 : Re x2 (E2 D.LG)) (h3 : Re x3 (E2 D.DO)) :
    Re (val_main_v218 x0 x1 x2 x3) (E2 (rv218 D)) :=
  Re.congr (hsum_4x2048x4_1 (re_v217 D h0 h1 h2 h3) _ _ (re_cst_21 D)) fun _ => rfl

theorem re_v219 (h0 : Re x0 (E2 D.A0)) (h1 : Re x1 (E2 D.A1)) (h2 : Re x2 (E2 D.LG)) (h3 : Re x3 (E2 D.DO)) :
    Re (val_main_v219 x0 x1 x2 x3) (E3 (fun i0 i1 i2 => (rv218 D i0 i2))) :=
  Re.congr (cast_4x4_4x1x4 (re_v218 D h0 h1 h2 h3) _) fun _ => rfl

theorem re_cst_22 (D : Data) :
    Re (val_main_cst_22 (F := Ideal)) (fun _ => (0 : ℝ)) :=
  Re.congr (Re.const lit0) fun _ => rfl

def rv220 (D : Data) (i0 i1 : ℕ) : ℝ :=
  (∑ k36 ∈ Finset.range 1, (rv218 D i0 i1))

theorem re_v220 (h0 : Re x0 (E2 D.A0)) (h1 : Re x1 (E2 D.A1)) (h2 : Re x2 (E2 D.LG)) (h3 : Re x3 (E2 D.DO)) :
    Re (val_main_v220 x0 x1 x2 x3) (E2 (rv220 D)) :=
  Re.congr (hsum_4x1x4_1 (re_v219 D h0 h1 h2 h3) _ _ (re_cst_22 D)) fun _ => rfl

theorem re_call10_cst (D : Data) :
    Re (val_main_call10_cst (F := Ideal)) (fun _ => (0 : ℝ)) :=
  Re.congr (Re.const lit0) fun _ => rfl

theorem re_call10_v0 (D : Data) :
    Re (val_main_call10_v0 (F := Ideal)) (E4 (fun i0 i1 i2 i3 => (0 : ℝ))) :=
  Re.congr (Re.bcast (re_call10_cst D)) fun _ => rfl

def rv221 (D : Data) (i0 i1 i2 i3 : ℕ) : ℝ :=
  (if (0 : ℝ) ≤ (((i2 : ℕ) : ℝ) - ((i3 : ℕ) : ℝ)) then ((rv181 D i0 i1 i2 i3) * (rv204 D i0 i1 i2 i3)) else (0 : ℝ))

theorem re_v221 (h0 : Re x0 (E2 D.A0)) (h1 : Re x1 (E2 D.A1)) (h3 : Re x3 (E2 D.DO)) :
    Re (val_main_v221 x0 x1 x3) (E4 (rv221 D)) :=
  Re.congr (Re.select (re_v171_1 D) (re_v207 D h0 h1 h3) (re_call10_v0 D)) fun _ => rfl

theorem re_v222 (h0 : Re x0 (E2 D.A0)) (h1 : Re x1 (E2 D.A1)) (h2 : Re x2 (E2 D.LG)) (h3 : Re x3 (E2 D.DO)) :
    Re (val_main_v222 x0 x1 x2 x3) (E4 (fun i0 i1 i2 i3 => ((rv221 D i0 i1 i2 i3) * (rv170 D i0 i1 i2 i3)))) :=
  Re.congr (Re.mul (re_v221 D h0 h1 h3) (re_v170 D h2)) fun _ => rfl

theorem re_v223 (D : Data) :
    Re (val_main_v223 (F := Ideal)) (E4 (fun i0 i1 i2 i3 => (Max.max (((i2 : ℕ) : ℝ) - ((i3 : ℕ) : ℝ)) (0 : ℝ)))) :=
  Re.congr (Re.bcast (re_v166 D)) fun _ => rfl

theorem re_v224 (h0 : Re x0 (E2 D.A0)) (h1 : Re x1 (E2 D.A1)) (h2 : Re x2 (E2 D.LG)) (h3 : Re x3 (E2 D.DO)) :
    Re (val_main_v224 x0 x1 x2 x3) (E4 (fun i0 i1 i2 i3 => (((rv221 D i0 i1 i2 i3) * (rv170 D i0 i1 i2 i3)) * (Max.max (((i2 : ℕ) : ℝ) - ((i3 : ℕ) : ℝ)) (0 : ℝ))))) :=
  Re.congr (Re.mul (re_v222 D h0 h1 h2 h3) (re_v223 D)) fun _ => rfl

theorem re_cst_23 (D : Data) :
    Re (val_main_cst_23 (F := Ideal)) (fun _ => (0 : ℝ)) :=
  Re.congr (Re.const lit0) fun _ => rfl

def rv225 (D : Data) (i0 i1 : ℕ) : ℝ :=
  (∑ k37 ∈ Finset.range 2048, ∑ k38 ∈ Finset.range 2048, (((rv221 D i0 i1 k37 k38) * (rv170 D i0 i1 k37 k38)) * (Max.max (((k37 : ℕ) : ℝ) - ((k38 : ℕ) : ℝ)) (0 : ℝ))))

theorem re_v225 (h0 : Re x0 (E2 D.A0)) (h1 : Re x1 (E2 D.A1)) (h2 : Re x2 (E2 D.LG)) (h3 : Re x3 (E2 D.DO)) :
    Re (val_main_v225 x0 x1 x2 x3) (E2 (rv225 D)) :=
  Re.congr (Re.hsum2 (re_v224 D h0 h1 h2 h3) _ _ (re_cst_23 D)) fun _ => rfl

theorem re_v226 (h0 : Re x0 (E2 D.A0)) (h1 : Re x1 (E2 D.A1)) (h2 : Re x2 (E2 D.LG)) (h3 : Re x3 (E2 D.DO)) :
    Re (val_main_v226 x0 x1 x2 x3) (E4 (fun i0 i1 i2 i3 => (rv225 D i0 i1))) :=
  Re.congr (cast_4x4_4x4x1x1 (re_v225 D h0 h1 h2 h3) _) fun _ => rfl

theorem re_cst_24 (D : Data) :
    Re (val_main_cst_24 (F := Ideal)) (fun _ => (0 : ℝ)) :=
  Re.congr (Re.const lit0) fun _ => rfl

def rv227 (D : Data) (i0 i1 : ℕ) : ℝ :=
  (∑ k39 ∈ Finset.range 1, ∑ k40 ∈ Finset.range 1, (rv225 D i0 i1))

theorem re_v227 (h0 : Re x0 (E2 D.A0)) (h1 : Re x1 (E2 D.A1)) (h2 : Re x2 (E2 D.LG)) (h3 : Re x3 (E2 D.DO)) :
    Re (val_main_v227 x0 x1 x2 x3) (E2 (rv227 D)) :=
  Re.congr (Re.hsum2 (re_v226 D h0 h1 h2 h3) _ _ (re_cst_24 D)) fun _ => rfl

def rv228 (D : Data) (i0 i1 : ℕ) : ℝ :=
  ((rv220 D i0 i1) + (rv227 D i0 i1))

theorem re_v228 (h0 : Re x0 (E2 D.A0)) (h1 : Re x1 (E2 D.A1)) (h2 : Re x2 (E2 D.LG)) (h3 : Re x3 (E2 D.DO)) :
    Re (val_main_v228 x0 x1 x2 x3) (E2 (rv228 D)) :=
  Re.congr (Re.add (re_v220 D h0 h1 h2 h3) (re_v227 D h0 h1 h2 h3)) fun _ => rfl

def rv229 (D : Data) (i0 i1 i2 i3 : ℕ) : ℝ :=
  (∑ k41 ∈ Finset.range 256, (rv201 D i0 i1 i2 k41) * ((D.A0 (8192 + (256 * i0 + (256 - (i3 + 1)))) (1024 + (256 * i1 + k41))) * (rv150 D i0 i3 i1)))

theorem re_v229 (h0 : Re x0 (E2 D.A0)) (h2 : Re x2 (E2 D.LG)) (h3 : Re x3 (E2 D.DO)) :
    Re (val_main_v229 x0 x2 x3) (E4 (rv229 D)) :=
  Re.congr (hdot9 (re_v202 D h0 h2 h3) (re_v153 D h0 h2)) fun _ => rfl

theorem re_v230 (h0 : Re x0 (E2 D.A0)) (h2 : Re x2 (E2 D.LG)) (h3 : Re x3 (E2 D.DO)) :
    Re (val_main_v230 x0 x2 x3) (E4 (fun i0 i1 i2 i3 => (rv229 D i0 i2 i3 i1))) :=
  Re.congr (Re.transp (re_v229 D h0 h2 h3)) fun _ => rfl

def rv231 (D : Data) (i0 i1 i2 i3 : ℕ) : ℝ :=
  (∑ k42 ∈ Finset.range 512, (rv201 D i0 i1 k42 i2) * (D.A1 (8192 + (256 * i0 + (256 - (i3 + 1)))) (2048 + (512 * i1 + k42))))

theorem re_v231 (h0 : Re x0 (E2 D.A0)) (h1 : Re x1 (E2 D.A1)) (h2 : Re x2 (E2 D.LG)) (h3 : Re x3 (E2 D.DO)) :
    Re (val_main_v231 x0 x1 x2 x3) (E4 (rv231 D)) :=
  Re.congr (hdot10 (re_v202 D h0 h2 h3) (re_v141 D h1)) fun _ => rfl

theorem re_v232 (h0 : Re x0 (E2 D.A0)) (h1 : Re x1 (E2 D.A1)) (h2 : Re x2 (E2 D.LG)) (h3 : Re x3 (E2 D.DO)) :
    Re (val_main_v232 x0 x1 x2 x3) (E4 (fun i0 i1 i2 i3 => (rv231 D i0 i2 i3 i1))) :=
  Re.congr (Re.transp (re_v231 D h0 h1 h2 h3)) fun _ => rfl

theorem re_v233 (h0 : Re x0 (E2 D.A0)) (h1 : Re x1 (E2 D.A1)) (h2 : Re x2 (E2 D.LG)) (h3 : Re x3 (E2 D.DO)) :
    Re (val_main_v233 x0 x1 x2 x3) (E4 (fun i0 i1 i2 i3 => ((D.A0 (8192 + (256 * i0 + (256 - (i1 + 1)))) (1024 + (256 * i2 + i3))) * (rv231 D i0 i2 i3 i1)))) :=
  Re.congr (Re.mul (re_v140 D h0) (re_v232 D h0 h1 h2 h3)) fun _ => rfl

theorem re_cst_25 (D : Data) :
    Re (val_main_cst_25 (F := Ideal)) (fun _ => (0 : ℝ)) :=
  Re.congr (Re.const lit0) fun _ => rfl

def rv234 (D : Data) (i0 i1 i2 : ℕ) : ℝ :=
  (∑ k43 ∈ Finset.range 256, ((D.A0 (8192 + (256 * i0 + (256 - (i1 + 1)))) (1024 + (256 * i2 + k43))) * (rv231 D i0 i2 k43 i1)))

theorem re_v234 (h0 : Re x0 (E2 D.A0)) (h1 : Re x1 (E2 D.A1)) (h2 : Re x2 (E2 D.LG)) (h3 : Re x3 (E2 D.DO)) :
    Re (val_main_v234 x0 x1 x2 x3) (E3 (rv234 D)) :=
  Re.congr (hsum_4x256x4x256_3 (re_v233 D h0 h1 h2 h3) _ _ (re_cst_25 D)) fun _ => rfl

theorem re_v235 (h0 : Re x0 (E2 D.A0)) (h1 : Re x1 (E2 D.A1)) (h2 : Re x2 (E2 D.LG)) (h3 : Re x3 (E2 D.DO)) :
    Re (val_main_v235 x0 x1 x2 x3) (E4 (fun i0 i1 i2 i3 => (rv234 D i0 i1 i2))) :=
  Re.congr (cast_4x256x4_4x256x4x1 (re_v234 D h0 h1 h2 h3) _) fun _ => rfl

theorem re_v236 (h2 : Re x2 (E2 D.LG)) :
    Re (val_main_v236 x2) (E4 (fun i0 i1 i2 i3 => (rv150 D i0 i1 i2))) :=
  Re.congr (Re.bcast (re_v151 D h2)) fun _ => rfl

theorem re_v237 (h0 : Re x0 (E2 D.A0)) (h1 : Re x1 (E2 D.A1)) (h2 : Re x2 (E2 D.LG)) (h3 : Re x3 (E2 D.DO)) :
    Re (val_main_v237 x0 x1 x2 x3) (E4 (fun i0 i1 i2 i3 => ((rv231 D i0 i2 i3 i1) * (rv150 D i0 i1 i2)))) :=
  Re.congr (Re.mul (re_v232 D h0 h1 h2 h3) (re_v236 D h2)) fun _ => rfl

theorem re_cst_26 (D : Data) :
    Re (val_main_cst_26 (F := Ideal)) (fun _ => (0 : ℝ)) :=
  Re.congr (Re.const lit0) fun _ => rfl

def rv238 (D : Data) (i0 i1 i2 : ℕ) : ℝ :=
  (∑ k44 ∈ Finset.range 1, (rv234 D i0 i1 i2))

theorem re_v238 (h0 : Re x0 (E2 D.A0)) (h1 : Re x1 (E2 D.A1)) (h2 : Re x2 (E2 D.LG)) (h3 : Re x3 (E2 D.DO)) :
    Re (val_main_v238 x0 x1 x2 x3) (E3 (rv238 D)) :=
  Re.congr (hsum_4x256x4x1_3 (re_v235 D h0 h1 h2 h3) _ _ (re_cst_26 D)) fun _ => rfl

theorem re_v239 (h0 : Re x0 (E2 D.A0)) (h1 : Re x1 (E2 D.A1)) (h2 : Re x2 (E2 D.LG)) (h3 : Re x3 (E2 D.DO)) :
    Re (val_main_v239 x0 x1 x2 x3) (E3 (fun i0 i1 i2 => ((rv238 D i0 i1 i2) * (rv150 D i0 i1 i2)))) :=
  Re.congr (Re.mul (re_v238 D h0 h1 h2 h3) (re_v150 D h2)) fun _ => rfl

theorem re_v240 (D : Data) :
    Re (val_main_v240 (F := Ideal)) (E3 (fun i0 i1 i2 => ((255 : ℝ) - ((i1 : ℕ) : ℝ)))) :=
  Re.congr (Re.bcast (re_v146 D)) fun _ => rfl

theorem re_v241 (h0 : Re x0 (E2 D.A0)) (h1 : Re x1 (E2 D.A1)) (h2 : Re x2 (E2 D.LG)) (h3 : Re x3 (E2 D.DO)) :
    Re (val_main_v241 x0 x1 x2 x3) (E3 (fun i0 i1 i2 => (((rv238 D i0 i1 i2) * (rv150 D i0 i1 i2)) * ((255 : ℝ) - ((i1 : ℕ) : ℝ))))) :=
  Re.congr (Re.mul (re_v239 D h0 h1 h2 h3) (re_v240 D)) fun _ => rfl

theorem re_cst_27 (D : Data) :
    Re (val_main_cst_27 (F := Ideal)) (fun _ => (0 : ℝ)) :=
  Re.congr (Re.const lit0) fun _ => rfl

def rv242 (D : Data) (i0 i1 : ℕ) : ℝ :=
  (∑ k45 ∈ Finset.range 256, (((rv238 D i0 k45 i1) * (rv150 D i0 k45 i1)) * ((255 : ℝ) - ((k45 : ℕ) : ℝ))))

theorem re_v242 (h0 : Re x0 (E2 D.A0)) (h1 : Re x1 (E2 D.A1)) (h2 : Re x2 (E2 D.LG)) (h3 : Re x3 (E2 D.DO)) :
    Re (val_main_v242 x0 x1 x2 x3) (E2 (rv242 D)) :=
  Re.congr (hsum_4x256x4_1 (re_v241 D h0 h1 h2 h3) _ _ (re_cst_27 D)) fun _ => rfl

theorem re_v243 (h0 : Re x0 (E2 D.A0)) (h1 : Re x1 (E2 D.A1)) (h2 : Re x2 (E2 D.LG)) (h3 : Re x3 (E2 D.DO)) :
    Re (val_main_v243 x0 x1 x2 x3) (E3 (fun i0 i1 i2 => (rv242 D i0 i2))) :=
  Re.congr (cast_4x4_4x1x4 (re_v242 D h0 h1 h2 h3) _) fun _ => rfl

theorem re_cst_28 (D : Data) :
    Re (val_main_cst_28 (F := Ideal)) (fun _ => (0 : ℝ)) :=
  Re.congr (Re.const lit0) fun _ => rfl

def rv244 (D : Data) (i0 i1 : ℕ) : ℝ :=
  (∑ k46 ∈ Finset.range 1, (rv242 D i0 i1))

theorem re_v244 (h0 : Re x0 (E2 D.A0)) (h1 : Re x1 (E2 D.A1)) (h2 : Re x2 (E2 D.LG)) (h3 : Re x3 (E2 D.DO)) :
    Re (val_main_v244 x0 x1 x2 x3) (E2 (rv244 D)) :=
  Re.congr (hsum_4x1x4_1 (re_v243 D h0 h1 h2 h3) _ _ (re_cst_28 D)) fun _ => rfl

def rv245 (D : Data) (i0 i1 : ℕ) : ℝ :=
  ((rv228 D i0 i1) + (rv244 D i0 i1))

theorem re_v245 (h0 : Re x0 (E2 D.A0)) (h1 : Re x1 (E2 D.A1)) (h2 : Re x2 (E2 D.LG)) (h3 : Re x3 (E2 D.DO)) :
    Re (val_main_v245 x0 x1 x2 x3) (E2 (rv245 D)) :=
  Re.congr (Re.add (re_v228 D h0 h1 h2 h3) (re_v244 D h0 h1 h2 h3)) fun _ => rfl

theorem re_v246 (h0 : Re x0 (E2 D.A0)) (h2 : Re x2 (E2 D.LG)) (h3 : Re x3 (E2 D.DO)) :
    Re (val_main_v246 x0 x2 x3) (E4 (fun i0 i1 i2 i3 => (rv229 D i0 i2 i3 (256 - (i1 + 1))))) :=
  Re.congr (Re.rev (re_v230 D h0 h2 h3)) fun _ => rfl

theorem re_v247 (h0 : Re x0 (E2 D.A0)) (h1 : Re x1 (E2 D.A1)) (h2 : Re x2 (E2 D.LG)) (h3 : Re x3 (E2 D.DO)) :
    Re (val_main_v247 x0 x1 x2 x3) (E4 (fun i0 i1 i2 i3 => ((rv231 D i0 i2 i3 (256 - (i1 + 1))) * (rv150 D i0 (256 - (i1 + 1)) i2)))) :=
  Re.congr (Re.rev (re_v237 D h0 h1 h2 h3)) fun _ => rfl

theorem re_v248 (h0 : Re x0 (E2 D.A0)) (h2 : Re x2 (E2 D.LG)) (h3 : Re x3 (E2 D.DO)) :
    Re (val_main_v248 x0 x2 x3) (E4 (fun i0 i1 i2 i3 => (rv205 D i0 i2 i3 (2048 - (i1 + 1))))) :=
  Re.congr (Re.rev (re_v206 D h0 h2 h3)) fun _ => rfl

theorem re_v249 (h0 : Re x0 (E2 D.A0)) (h1 : Re x1 (E2 D.A1)) (h2 : Re x2 (E2 D.LG)) (h3 : Re x3 (E2 D.DO)) :
    Re (val_main_v249 x0 x1 x2 x3) (E4 (fun i0 i1 i2 i3 => (rv209 D i0 i2 (2048 - (i1 + 1)) i3))) :=
  Re.congr (Re.rev (re_v210 D h0 h1 h2 h3)) fun _ => rfl

theorem re_v250 (h0 : Re x0 (E2 D.A0)) (h1 : Re x1 (E2 D.A1)) (h2 : Re x2 (E2 D.LG)) (h3 : Re x3 (E2 D.DO)) :
    Re (val_main_v250 x0 x1 x2 x3) (E4 (fun i0 i1 i2 i3 => (rv213 D i0 (2048 - (i1 + 1)) i2 i3))) :=
  Re.congr (Re.rev (re_v213 D h0 h1 h2 h3)) fun _ => rfl

theorem re_v251 (h0 : Re x0 (E2 D.A0)) (h1 : Re x1 (E2 D.A1)) (h2 : Re x2 (E2 D.LG)) (h3 : Re x3 (E2 D.DO)) :
    Re (val_main_v251 x0 x1 x2 x3) (E2 (fun i0 i1 => (rv213 D (i0 / 2048) (2048 - ((i0 % 2048) + 1)) (i1 / 256) (i1 % 256)))) :=
  Re.congr (cast_4x2048x4x256_8192x1024 (re_v250 D h0 h1 h2 h3) _) fun _ => rfl

theorem re_v252 (h0 : Re x0 (E2 D.A0)) (h1 : Re x1 (E2 D.A1)) (h2 : Re x2 (E2 D.LG)) (h3 : Re x3 (E2 D.DO)) :
    Re (val_main_v252 x0 x1 x2 x3) (E2 (fun i0 i1 => (rv209 D (i0 / 2048) (i1 / 256) (2048 - ((i0 % 2048) + 1)) (i1 % 256)))) :=
  Re.congr (cast_4x2048x4x256_8192x1024 (re_v249 D h0 h1 h2 h3) _) fun _ => rfl

theorem re_v253 (h0 : Re x0 (E2 D.A0)) (h2 : Re x2 (E2 D.LG)) (h3 : Re x3 (E2 D.DO)) :
    Re (val_main_v253 x0 x2 x3) (E2 (fun i0 i1 => (rv205 D (i0 / 2048) (i1 / 512) (i1 % 512) (2048 - ((i0 % 2048) + 1))))) :=
  Re.congr (cast_4x2048x4x512_8192x2048 (re_v248 D h0 h2 h3) _) fun _ => rfl

theorem re_v254 (h0 : Re x0 (E2 D.A0)) (h1 : Re x1 (E2 D.A1)) (h2 : Re x2 (E2 D.LG)) (h3 : Re x3 (E2 D.DO)) :
    Re (val_main_v254 x0 x1 x2 x3) (E2 (fun i0 i1 => ((rv231 D (i0 / 256) (i1 / 256) (i1 % 256) (256 - ((i0 % 256) + 1))) * (rv150 D (i0 / 256) (256 - ((i0 % 256) + 1)) (i1 / 256))))) :=
  Re.congr (cast_4x256x4x256_1024x1024 (re_v247 D h0 h1 h2 h3) _) fun _ => rfl

theorem re_v255 (h0 : Re x0 (E2 D.A0)) (h2 : Re x2 (E2 D.LG)) (h3 : Re x3 (E2 D.DO)) :
    Re (val_main_v255 x0 x2 x3) (E2 (fun i0 i1 => (rv229 D (i0 / 256) (i1 / 512) (i1 % 512) (256 - ((i0 % 256) + 1))))) :=
  Re.congr (cast_4x256x4x512_1024x2048 (re_v246 D h0 h2 h3) _) fun _ => rfl

theorem re_v256 (h0 : Re x0 (E2 D.A0)) (h1 : Re x1 (E2 D.A1)) (h2 : Re x2 (E2 D.LG)) (h3 : Re x3 (E2 D.DO)) :
    Re (val_main_v256 x0 x1 x2 x3) (E4 (fun i0 i1 i2 i3 => (rv245 D i0 i1))) :=
  Re.congr (Re.bcast (re_v245 D h0 h1 h2 h3)) fun _ => rfl

theorem re_v257 (h0 : Re x0 (E2 D.A0)) (h1 : Re x1 (E2 D.A1)) (h2 : Re x2 (E2 D.LG)) (h3 : Re x3 (E2 D.DO)) :
    Re (val_main_v257 x0 x1 x2 x3) (E4 (fun i0 i1 i2 i3 => (rv245 D i0 i1))) :=
  Re.congr (Re.bcast (re_v256 D h0 h1 h2 h3)) fun _ => rfl

end Cert.ReferenceIdeal.Own
-- ==== Proof.Lines.lean ====
/- The lines of one example and one head, in both directions, and the reference's results as their plain gradients. -/
module

public import proofs.«01_k».proof.Proof.Math
public import proofs.«01_k».proof.Proof.RefVals

@[expose] public section

set_option maxRecDepth 4000

noncomputable section

namespace Cert.Own

/-- Example `b`, head `h`, forwards. -/
def fwdL (D : Data) (b h : ℕ) : Line where
  lg := D.LG (0 + 0) (0 + h)
  q t d := D.A0 (0 + (2048 * b + t)) (0 + (256 * h + d))
  k t d := D.A0 (0 + (2048 * b + t)) (1024 + (256 * h + d))
  v t e := D.A1 (0 + (2048 * b + t)) (2048 + (512 * h + e))
  o t e := D.DO (2048 * b + t) (512 * h + e)
  kc s d := D.A0 (8192 + (256 * b + s)) (1024 + (256 * h + d))
  vc s e := D.A1 (8192 + (256 * b + s)) (2048 + (512 * h + e))

/-- Example `b`, head `h`, backwards. -/
def revL (D : Data) (b h : ℕ) : Line where
  lg := D.LG (1 + 0) (0 + h)
  q t d := D.A0 (0 + (2048 * b + (2048 - (t + 1)))) (0 + (256 * h + d))
  k t d := D.A0 (0 + (2048 * b + (2048 - (t + 1)))) (1024 + (256 * h + d))
  v t e := D.A1 (0 + (2048 * b + (2048 - (t + 1)))) (2048 + (512 * h + e))
  o t e := D.DO (2048 * b + (2048 - (t + 1))) (512 * h + e)
  kc s d := D.A0 (8192 + (256 * b + (256 - (s + 1)))) (1024 + (256 * h + d))
  vc s e := D.A1 (8192 + (256 * b + (256 - (s + 1)))) (2048 + (512 * h + e))

end Cert.Own

namespace Cert.ReferenceIdeal.Own

open Cert.Own

variable (D : Data)

theorem rv85_eq (b t h d : ℕ) : rv85 D b t h d = (fwdL D b h).dq t d := rfl
theorem rv81_eq (b h s d : ℕ) : rv81 D b h s d = (fwdL D b h).dk s d := rfl
theorem rv77_eq (b h e s : ℕ) : rv77 D b h e s = (fwdL D b h).dv s e := rfl
theorem rv103_eq (b h d s : ℕ) : rv103 D b h d s * rv24 D b s h = (fwdL D b h).dkc s d := rfl
theorem rv101_eq (b h e s : ℕ) : rv101 D b h e s = (fwdL D b h).dvc s e := rfl
theorem rv117_eq (b h : ℕ) : rv117 D b h = (fwdL D b h).dlg := rfl
theorem rv213_eq (b t h d : ℕ) : rv213 D b t h d = (revL D b h).dq t d := rfl
theorem rv209_eq (b h s d : ℕ) : rv209 D b h s d = (revL D b h).dk s d := rfl
theorem rv205_eq (b h e s : ℕ) : rv205 D b h e s = (revL D b h).dv s e := rfl
theorem rv231_eq (b h d s : ℕ) : rv231 D b h d s * rv150 D b s h = (revL D b h).dkc s d := rfl
theorem rv229_eq (b h e s : ℕ) : rv229 D b h e s = (revL D b h).dvc s e := rfl
theorem rv245_eq (b h : ℕ) : rv245 D b h = (revL D b h).dlg := rfl

end Cert.ReferenceIdeal.Own
-- ==== Proof.HostVals.lean ====
/- The values of the arrays that the host prepares for the kernel: the state at the entry of every chunk, forwards and backwards. -/
module

public import proofs.«01_k».proof.Proof.Gen.KernelIdeal.Launch
public import Idealize.ShloMosaic.Lib.StableHlo.Run
public import proofs.«01_k».proof.Proof.Emb

@[expose] public section

set_option maxRecDepth 8192
set_option maxHeartbeats 2000000

noncomputable section

namespace Cert.KernelIdeal.Own

open Cert.KernelIdeal Cert.KernelIdeal.Gen Cert.Own Idealize.ShloMosaic Idealize.ShloMosaic.TcCoe Idealize.SL.Sem Idealize.ShloMosaic.StableHlo

theorem cast_8192x1024_4x2048x4x256 {X : S8192x1024.Idx → EReal} {f : ℕ → ℕ → ℝ} (hX : Re X (E2 f))
    (h : Shape.ShapeCasts S8192x1024 S4x2048x4x256) :
    Re (shapeCast S4x2048x4x256 X h) (E4 fun i0 i1 i2 i3 => f (2048 * i0 + i1) (256 * i2 + i3)) := Re.split hX h rfl

theorem cast_8192x2048_4x2048x4x512 {X : S8192x2048.Idx → EReal} {f : ℕ → ℕ → ℝ} (hX : Re X (E2 f))
    (h : Shape.ShapeCasts S8192x2048 S4x2048x4x512) :
    Re (shapeCast S4x2048x4x512 X h) (E4 fun i0 i1 i2 i3 => f (2048 * i0 + i1) (512 * i2 + i3)) := Re.split hX h rfl

theorem cast_1024x1024_4x256x4x256 {X : S1024x1024.Idx → EReal} {f : ℕ → ℕ → ℝ} (hX : Re X (E2 f))
    (h : Shape.ShapeCasts S1024x1024 S4x256x4x256) :
    Re (shapeCast S4x256x4x256 X h) (E4 fun i0 i1 i2 i3 => f (256 * i0 + i1) (256 * i2 + i3)) := Re.split hX h rfl

theorem cast_1024x2048_4x256x4x512 {X : S1024x2048.Idx → EReal} {f : ℕ → ℕ → ℝ} (hX : Re X (E2 f))
    (h : Shape.ShapeCasts S1024x2048 S4x256x4x512) :
    Re (shapeCast S4x256x4x512 X h) (E4 fun i0 i1 i2 i3 => f (256 * i0 + i1) (512 * i2 + i3)) := Re.split hX h rfl

theorem cast_1x4x4_4x4 {X : S1x4x4.Idx → EReal} {f : ℕ → ℕ → ℕ → ℝ} (hX : Re X (E3 f))
    (h : Shape.ShapeCasts S1x4x4 S4x4) :
    Re (shapeCast S4x4 X h) (E2 fun i0 i1 => f 0 i0 i1) :=
  Re.resh hX h fun i j e => by
    rw [Shape.rowMajor_val_three, Shape.rowMajor_val_two] at e
    have a0 : (i 0).val < 1 := (i 0).isLt
    have a1 : (i 1).val < 4 := (i 1).isLt
    have a2 : (i 2).val < 4 := (i 2).isLt
    have b0 : (j 0).val < 4 := (j 0).isLt
    have b1 : (j 1).val < 4 := (j 1).isLt
    have e : (((i 0).val * 4 + (i 1).val) * 4 + (i 2).val) = ((j 0).val * 4 + (j 1).val) := e
    have c0 : (i 0).val = 0 := by omega
    have c1 : (i 1).val = (j 0).val := by omega
    have c2 : (i 2).val = (j 1).val := by omega
    show f (i 0).val (i 1).val (i 2).val = f 0 (j 0).val (j 1).val
    rw [c0, c1, c2]

abbrev hd0 := dot_S4x256x4x256_S4x256x4x512_S4x4x256x512_1_1_3_3_02_02
theorem hdot0 {φ₁ φ₂ : FTy} {X : FVec Ideal S4x256x4x256 φ₁} {Y : FVec Ideal S4x256x4x512 φ₂} {f : ℕ → ℕ → ℕ → ℕ → ℝ} {g : ℕ → ℕ → ℕ → ℕ → ℝ}
    (hX : Re X (E4 f)) (hY : Re Y (E4 g)) :
    Re (Host.dotGeneral (F := Ideal) dot_S4x256x4x256_S4x256x4x512_S4x4x256x512_1_1_3_3_02_02 none X Y)
      (E4 fun i0 i1 i2 i3 => ∑ k ∈ Finset.range 256, f i0 k i1 i2 * g i0 k i1 i3) :=
  Re.dot hd0 256 rfl rfl hX hY (fun j k => f (j 0).val k (j 1).val (j 2).val) (fun j k => g (j 0).val k (j 1).val (j 3).val)
    (fun _ _ => rfl)
    (fun _ _ => rfl)

abbrev hd1 := dot_S4x4x2048x4x256_S4x2048x4x512_S4x4x4x256x512_2_1_14_3_03_02
theorem hdot1 {φ₁ φ₂ : FTy} {X : FVec Ideal S4x4x2048x4x256 φ₁} {Y : FVec Ideal S4x2048x4x512 φ₂} {f : ℕ → ℕ → ℕ → ℕ → ℕ → ℝ} {g : ℕ → ℕ → ℕ → ℕ → ℝ}
    (hX : Re X (E5 f)) (hY : Re Y (E4 g)) :
    Re (Host.dotGeneral (F := Ideal) dot_S4x4x2048x4x256_S4x2048x4x512_S4x4x4x256x512_2_1_14_3_03_02 none X Y)
      (E5 fun i0 i1 i2 i3 i4 => ∑ k ∈ Finset.range 2048, f i0 i2 k i1 i3 * g i0 k i1 i4) :=
  Re.dot hd1 2048 rfl rfl hX hY (fun j k => f (j 0).val (j 2).val k (j 1).val (j 3).val) (fun j k => g (j 0).val k (j 1).val (j 4).val)
    (fun _ _ => rfl)
    (fun _ _ => rfl)

def hv3 (D : Data) (i0 i1 i2 i3 : ℕ) : ℝ := (D.A0 (0 + (2048 * i0 + i1)) (1024 + (256 * i2 + i3)))

def hv5 (D : Data) (i0 i1 i2 i3 : ℕ) : ℝ := (D.A1 (0 + (2048 * i0 + i1)) (2048 + (512 * i2 + i3)))

def hv7 (D : Data) (i0 i1 i2 i3 : ℕ) : ℝ := (D.A0 (8192 + (256 * i0 + i1)) (1024 + (256 * i2 + i3)))

def hv9 (D : Data) (i0 i1 i2 i3 : ℕ) : ℝ := (D.A1 (8192 + (256 * i0 + i1)) (2048 + (512 * i2 + i3)))

def hv11 (D : Data) (i0 i1 i2 : ℕ) : ℝ := (D.LG i0 i2)

def hv13 (D : Data) (i0 i1 : ℕ) : ℝ := (D.LG (0 + 0) (0 + i1))

def hv16 (D : Data) (i0 : ℕ) : ℝ := (((i0 : ℕ) : ℝ) * (512 : ℝ))

def hv36 (D : Data) (i0 i1 i2 i3 : ℕ) : ℝ := (if (0 : ℝ) ≤ (((((i1 : ℕ) : ℝ) * (512 : ℝ)) - (1 : ℝ)) - ((i2 : ℕ) : ℝ)) then (Real.exp ((D.LG (0 + 0) (0 + i3)) * (Max.max (((((i1 : ℕ) : ℝ) * (512 : ℝ)) - (1 : ℝ)) - ((i2 : ℕ) : ℝ)) (0 : ℝ)))) else (0 : ℝ))

def hv67 (D : Data) (i0 i1 i2 i3 i4 : ℕ) : ℝ := (((∑ k1 ∈ Finset.range 256, (((hv7 D) i0 k1 i1 i3) * (Real.exp (((hv13 D) i0 i1) * ((255 : ℝ) - ((k1 : ℕ) : ℝ))))) * ((hv9 D) i0 k1 i1 i4)) * (Real.exp (((hv13 D) i0 i1) * ((hv16 D) i2)))) + (∑ k2 ∈ Finset.range 2048, (((hv3 D) i0 k2 i1 i3) * ((hv36 D) i0 i2 k2 i1)) * ((hv5 D) i0 k2 i1 i4)))

def hv68 (D : Data) (i0 i1 i2 i3 : ℕ) : ℝ := ((hv3 D) i0 (2048 - (i1 + 1)) i2 i3)

def hv69 (D : Data) (i0 i1 i2 i3 : ℕ) : ℝ := ((hv5 D) i0 (2048 - (i1 + 1)) i2 i3)

def hv70 (D : Data) (i0 i1 i2 i3 : ℕ) : ℝ := ((hv7 D) i0 (256 - (i1 + 1)) i2 i3)

def hv71 (D : Data) (i0 i1 i2 i3 : ℕ) : ℝ := ((hv9 D) i0 (256 - (i1 + 1)) i2 i3)

def hv73 (D : Data) (i0 i1 : ℕ) : ℝ := ((hv11 D) (1 + 0) (0 + i0) (0 + i1))

def hv76 (D : Data) (i0 : ℕ) : ℝ := (((i0 : ℕ) : ℝ) * (512 : ℝ))

def hv96 (D : Data) (i0 i1 i2 i3 : ℕ) : ℝ := (if (0 : ℝ) ≤ (((((i1 : ℕ) : ℝ) * (512 : ℝ)) - (1 : ℝ)) - ((i2 : ℕ) : ℝ)) then (Real.exp (((hv11 D) (1 + 0) (0 + i0) (0 + i3)) * (Max.max (((((i1 : ℕ) : ℝ) * (512 : ℝ)) - (1 : ℝ)) - ((i2 : ℕ) : ℝ)) (0 : ℝ)))) else (0 : ℝ))

def hv128 (D : Data) (i0 i1 i2 i3 i4 : ℕ) : ℝ := (((∑ k3 ∈ Finset.range 256, (((hv70 D) i0 k3 i1 i3) * (Real.exp (((hv73 D) i0 i1) * ((255 : ℝ) - ((k3 : ℕ) : ℝ))))) * ((hv71 D) i0 k3 i1 i4)) * (Real.exp (((hv73 D) i0 i1) * ((hv76 D) (4 - (i2 + 1)))))) + (∑ k4 ∈ Finset.range 2048, (((hv68 D) i0 k4 i1 i3) * ((hv96 D) i0 (4 - (i2 + 1)) k4 i1)) * ((hv69 D) i0 k4 i1 i4)))

theorem seg1_v3 {W : Valuation τ sig (Elt Ideal)} (D : Data)
    (garg0 : Re (s := S9216x2048) (W (Proc.devRef .tc main_arg0)) (E2 D.A0)) :
    Re (s := S4x2048x4x256) (after ((hostOps0 : List (HloOp τ sig (Elt Ideal))) ++ (hostOps0_1 : List (HloOp τ sig (Elt Ideal)))) W (Proc.devRef .tc main_v3)) (E4 (hv3 D)) := by
  try simp only [after_append]
  after_results_simp
  try simp -implicitDefEqProofs only [TRef.toBuf, TRef.ofBuf, cast_cast, cast_eq]
  exact Re.congr (cast_8192x1024_4x2048x4x256 (f := (fun i0 i1 => (D.A0 (0 + i0) (1024 + i1)))) (Re.slice garg0) _) fun _ => rfl

theorem seg1_v5 {W : Valuation τ sig (Elt Ideal)} (D : Data)
    (garg1 : Re (s := S9216x6144) (W (Proc.devRef .tc main_arg1)) (E2 D.A1)) :
    Re (s := S4x2048x4x512) (after ((hostOps0 : List (HloOp τ sig (Elt Ideal))) ++ (hostOps0_1 : List (HloOp τ sig (Elt Ideal)))) W (Proc.devRef .tc main_v5)) (E4 (hv5 D)) := by
  try simp only [after_append]
  after_results_simp
  try simp -implicitDefEqProofs only [TRef.toBuf, TRef.ofBuf, cast_cast, cast_eq]
  exact Re.congr (cast_8192x2048_4x2048x4x512 (f := (fun i0 i1 => (D.A1 (0 + i0) (2048 + i1)))) (Re.slice garg1) _) fun _ => rfl

theorem seg1_v7 {W : Valuation τ sig (Elt Ideal)} (D : Data)
    (garg0 : Re (s := S9216x2048) (W (Proc.devRef .tc main_arg0)) (E2 D.A0)) :
    Re (s := S4x256x4x256) (after ((hostOps0 : List (HloOp τ sig (Elt Ideal))) ++ (hostOps0_1 : List (HloOp τ sig (Elt Ideal)))) W (Proc.devRef .tc main_v7)) (E4 (hv7 D)) := by
  try simp only [after_append]
  after_results_simp
  try simp -implicitDefEqProofs only [TRef.toBuf, TRef.ofBuf, cast_cast, cast_eq]
  exact Re.congr (cast_1024x1024_4x256x4x256 (f := (fun i0 i1 => (D.A0 (8192 + i0) (1024 + i1)))) (Re.slice garg0) _) fun _ => rfl

theorem seg1_v9 {W : Valuation τ sig (Elt Ideal)} (D : Data)
    (garg1 : Re (s := S9216x6144) (W (Proc.devRef .tc main_arg1)) (E2 D.A1)) :
    Re (s := S4x256x4x512) (after ((hostOps0 : List (HloOp τ sig (Elt Ideal))) ++ (hostOps0_1 : List (HloOp τ sig (Elt Ideal)))) W (Proc.devRef .tc main_v9)) (E4 (hv9 D)) := by
  try simp only [after_append]
  after_results_simp
  try simp -implicitDefEqProofs only [TRef.toBuf, TRef.ofBuf, cast_cast, cast_eq]
  exact Re.congr (cast_1024x2048_4x256x4x512 (f := (fun i0 i1 => (D.A1 (8192 + i0) (2048 + i1)))) (Re.slice garg1) _) fun _ => rfl

theorem seg1_v11 {W : Valuation τ sig (Elt Ideal)} (D : Data)
    (garg2 : Re (s := S2x4) (W (Proc.devRef .tc main_arg2)) (E2 D.LG)) :
    Re (s := S2x4x4) (after ((hostOps0 : List (HloOp τ sig (Elt Ideal))) ++ (hostOps0_1 : List (HloOp τ sig (Elt Ideal)))) W (Proc.devRef .tc main_v11)) (E3 (hv11 D)) := by
  try simp only [after_append]
  after_results_simp
  try simp -implicitDefEqProofs only [TRef.toBuf, TRef.ofBuf, cast_cast, cast_eq]
  exact Re.congr (Re.bcast (Re.bcast garg2)) fun _ => rfl

theorem seg1_v13 {W : Valuation τ sig (Elt Ideal)} (D : Data)
    (garg2 : Re (s := S2x4) (W (Proc.devRef .tc main_arg2)) (E2 D.LG)) :
    Re (s := S4x4) (after ((hostOps0 : List (HloOp τ sig (Elt Ideal))) ++ (hostOps0_1 : List (HloOp τ sig (Elt Ideal)))) W (Proc.devRef .tc main_v13)) (E2 (hv13 D)) := by
  try simp only [after_append]
  after_results_simp
  try simp -implicitDefEqProofs only [TRef.toBuf, TRef.ofBuf, cast_cast, cast_eq]
  exact Re.congr (cast_1x4x4_4x4 (f := (fun i0 i1 i2 => (D.LG (0 + i0) (0 + i2)))) (Re.slice (Re.bcast (Re.bcast garg2))) _) fun _ => rfl

theorem seg1_v16 {W : Valuation τ sig (Elt Ideal)} (D : Data) :
    Re (s := S4) (after ((hostOps0 : List (HloOp τ sig (Elt Ideal))) ++ (hostOps0_1 : List (HloOp τ sig (Elt Ideal)))) W (Proc.devRef .tc main_v16)) (E1 (hv16 D)) := by
  try simp only [after_append]
  after_results_simp
  try simp -implicitDefEqProofs only [TRef.toBuf, TRef.ofBuf, cast_cast, cast_eq]
  exact Re.congr (Re.mul (Re.iotaInDim (s := S4) 0 (by decide)) (Re.bcast (Re.const lit512))) fun _ => rfl

theorem seg1_v36 {W : Valuation τ sig (Elt Ideal)} (D : Data)
    (garg2 : Re (s := S2x4) (W (Proc.devRef .tc main_arg2)) (E2 D.LG)) :
    Re (s := S4x4x2048x4) (after ((hostOps0 : List (HloOp τ sig (Elt Ideal))) ++ (hostOps0_1 : List (HloOp τ sig (Elt Ideal)))) W (Proc.devRef .tc main_v36)) (E4 (hv36 D)) := by
  try simp only [after_append]
  after_results_simp
  try simp -implicitDefEqProofs only [TRef.toBuf, TRef.ofBuf, cast_cast, cast_eq]
  exact Re.congr (Re.select (Ge.bcast (Ge.bcast (Ge.cmp (Re.sub (Re.bcast (Re.sub (Re.bcast (Re.mul (Re.iotaInDim (s := S4) 0 (by decide)) (Re.bcast (Re.const lit512)))) (Re.bcast (Re.const lit1)))) (Re.bcast (Re.bcast (Re.iotaInDim (s := S2048) 0 (by decide))))) (Re.bcast (Re.const lit0))))) (Re.hexp (Re.mul (Re.bcast (Re.bcast (cast_1x4x4_4x4 (f := (fun i0 i1 i2 => (D.LG (0 + i0) (0 + i2)))) (Re.slice (Re.bcast (Re.bcast garg2))) _))) (Re.bcast (Re.bcast (Re.max (Re.sub (Re.bcast (Re.sub (Re.bcast (Re.mul (Re.iotaInDim (s := S4) 0 (by decide)) (Re.bcast (Re.const lit512)))) (Re.bcast (Re.const lit1)))) (Re.bcast (Re.bcast (Re.iotaInDim (s := S2048) 0 (by decide))))) (Re.bcast (Re.const lit0))))))) (Re.bcast (Re.const lit0))) fun _ => rfl

theorem seg2_v67 {W : Valuation τ sig (Elt Ideal)} (D : Data)
    (gv3 : Re (s := S4x2048x4x256) (W (Proc.devRef .tc main_v3)) (E4 (hv3 D)))
    (gv5 : Re (s := S4x2048x4x512) (W (Proc.devRef .tc main_v5)) (E4 (hv5 D)))
    (gv7 : Re (s := S4x256x4x256) (W (Proc.devRef .tc main_v7)) (E4 (hv7 D)))
    (gv9 : Re (s := S4x256x4x512) (W (Proc.devRef .tc main_v9)) (E4 (hv9 D)))
    (gv13 : Re (s := S4x4) (W (Proc.devRef .tc main_v13)) (E2 (hv13 D)))
    (gv16 : Re (s := S4) (W (Proc.devRef .tc main_v16)) (E1 (hv16 D)))
    (gv36 : Re (s := S4x4x2048x4) (W (Proc.devRef .tc main_v36)) (E4 (hv36 D))) :
    Re (s := S4x4x4x256x512) (after ((hostOps0_2 : List (HloOp τ sig (Elt Ideal)))) W (Proc.devRef .tc main_v67)) (E5 (hv67 D)) := by
  try simp only [after_append]
  after_results_simp
  try simp -implicitDefEqProofs only [TRef.toBuf, TRef.ofBuf, cast_cast, cast_eq]
  exact Re.congr (Re.add (Re.mul (Re.bcast (Re.bcast (hdot0 (f := (fun i0 i1 i2 i3 => (((hv7 D) i0 i1 i2 i3) * (Real.exp (((hv13 D) i0 i2) * ((255 : ℝ) - ((i1 : ℕ) : ℝ))))))) (g := (hv9 D)) (Re.congr (Re.mul gv7 (Re.bcast (Re.bcast (Re.hexp (Re.mul (Re.bcast (Re.bcast gv13)) (Re.bcast (Re.bcast (Re.sub (Re.bcast (Re.const lit255)) (Re.iotaInDim (s := S256) 0 (by decide)))))))))) fun _ => rfl) gv9))) (Re.bcast (Re.bcast (Re.hexp (Re.mul (Re.bcast (Re.bcast gv13)) (Re.bcast (Re.bcast gv16))))))) (hdot1 (f := (fun i0 i1 i2 i3 i4 => (((hv3 D) i0 i2 i3 i4) * ((hv36 D) i0 i1 i2 i3)))) (g := (hv5 D)) (Re.congr (Re.mul (Re.bcast (Re.bcast gv3)) (Re.bcast (Re.bcast gv36))) fun _ => rfl) gv5)) fun _ => rfl

theorem seg3_v68 {W : Valuation τ sig (Elt Ideal)} (D : Data)
    (gv3 : Re (s := S4x2048x4x256) (W (Proc.devRef .tc main_v3)) (E4 (hv3 D))) :
    Re (s := S4x2048x4x256) (after ((hostOps0_3 : List (HloOp τ sig (Elt Ideal))) ++ (hostOps0_4 : List (HloOp τ sig (Elt Ideal))) ++ (hostOps0_5 : List (HloOp τ sig (Elt Ideal))) ++ (hostOps0_6 : List (HloOp τ sig (Elt Ideal)))) W (Proc.devRef .tc main_v68)) (E4 (hv68 D)) := by
  try simp only [after_append]
  after_results_simp
  try simp -implicitDefEqProofs only [TRef.toBuf, TRef.ofBuf, cast_cast, cast_eq]
  exact Re.congr (Re.rev gv3) fun _ => rfl

theorem seg3_v69 {W : Valuation τ sig (Elt Ideal)} (D : Data)
    (gv5 : Re (s := S4x2048x4x512) (W (Proc.devRef .tc main_v5)) (E4 (hv5 D))) :
    Re (s := S4x2048x4x512) (after ((hostOps0_3 : List (HloOp τ sig (Elt Ideal))) ++ (hostOps0_4 : List (HloOp τ sig (Elt Ideal))) ++ (hostOps0_5 : List (HloOp τ sig (Elt Ideal))) ++ (hostOps0_6 : List (HloOp τ sig (Elt Ideal)))) W (Proc.devRef .tc main_v69)) (E4 (hv69 D)) := by
  try simp only [after_append]
  after_results_simp
  try simp -implicitDefEqProofs only [TRef.toBuf, TRef.ofBuf, cast_cast, cast_eq]
  exact Re.congr (Re.rev gv5) fun _ => rfl

theorem seg3_v70 {W : Valuation τ sig (Elt Ideal)} (D : Data)
    (gv7 : Re (s := S4x256x4x256) (W (Proc.devRef .tc main_v7)) (E4 (hv7 D))) :
    Re (s := S4x256x4x256) (after ((hostOps0_3 : List (HloOp τ sig (Elt Ideal))) ++ (hostOps0_4 : List (HloOp τ sig (Elt Ideal))) ++ (hostOps0_5 : List (HloOp τ sig (Elt Ideal))) ++ (hostOps0_6 : List (HloOp τ sig (Elt Ideal)))) W (Proc.devRef .tc main_v70)) (E4 (hv70 D)) := by
  try simp only [after_append]
  after_results_simp
  try simp -implicitDefEqProofs only [TRef.toBuf, TRef.ofBuf, cast_cast, cast_eq]
  exact Re.congr (Re.rev gv7) fun _ => rfl

theorem seg3_v71 {W : Valuation τ sig (Elt Ideal)} (D : Data)
    (gv9 : Re (s := S4x256x4x512) (W (Proc.devRef .tc main_v9)) (E4 (hv9 D))) :
    Re (s := S4x256x4x512) (after ((hostOps0_3 : List (HloOp τ sig (Elt Ideal))) ++ (hostOps0_4 : List (HloOp τ sig (Elt Ideal))) ++ (hostOps0_5 : List (HloOp τ sig (Elt Ideal))) ++ (hostOps0_6 : List (HloOp τ sig (Elt Ideal)))) W (Proc.devRef .tc main_v71)) (E4 (hv71 D)) := by
  try simp only [after_append]
  after_results_simp
  try simp -implicitDefEqProofs only [TRef.toBuf, TRef.ofBuf, cast_cast, cast_eq]
  exact Re.congr (Re.rev gv9) fun _ => rfl

theorem seg4_v73 {W : Valuation τ sig (Elt Ideal)} (D : Data)
    (gv11 : Re (s := S2x4x4) (W (Proc.devRef .tc main_v11)) (E3 (hv11 D))) :
    Re (s := S4x4) (after ((hostOps0_7 : List (HloOp τ sig (Elt Ideal))) ++ (hostOps0_8 : List (HloOp τ sig (Elt Ideal)))) W (Proc.devRef .tc main_v73)) (E2 (hv73 D)) := by
  try simp only [after_append]
  after_results_simp
  try simp -implicitDefEqProofs only [TRef.toBuf, TRef.ofBuf, cast_cast, cast_eq]
  exact Re.congr (cast_1x4x4_4x4 (f := (fun i0 i1 i2 => ((hv11 D) (1 + i0) (0 + i1) (0 + i2)))) (Re.slice gv11) _) fun _ => rfl

theorem seg4_v76 {W : Valuation τ sig (Elt Ideal)} (D : Data) :
    Re (s := S4) (after ((hostOps0_7 : List (HloOp τ sig (Elt Ideal))) ++ (hostOps0_8 : List (HloOp τ sig (Elt Ideal)))) W (Proc.devRef .tc main_v76)) (E1 (hv76 D)) := by
  try simp only [after_append]
  after_results_simp
  try simp -implicitDefEqProofs only [TRef.toBuf, TRef.ofBuf, cast_cast, cast_eq]
  exact Re.congr (Re.mul (Re.iotaInDim (s := S4) 0 (by decide)) (Re.bcast (Re.const lit512))) fun _ => rfl

theorem seg4_v96 {W : Valuation τ sig (Elt Ideal)} (D : Data)
    (gv11 : Re (s := S2x4x4) (W (Proc.devRef .tc main_v11)) (E3 (hv11 D))) :
    Re (s := S4x4x2048x4) (after ((hostOps0_7 : List (HloOp τ sig (Elt Ideal))) ++ (hostOps0_8 : List (HloOp τ sig (Elt Ideal)))) W (Proc.devRef .tc main_v96)) (E4 (hv96 D)) := by
  try simp only [after_append]
  after_results_simp
  try simp -implicitDefEqProofs only [TRef.toBuf, TRef.ofBuf, cast_cast, cast_eq]
  exact Re.congr (Re.select (Ge.bcast (Ge.bcast (Ge.cmp (Re.sub (Re.bcast (Re.sub (Re.bcast (Re.mul (Re.iotaInDim (s := S4) 0 (by decide)) (Re.bcast (Re.const lit512)))) (Re.bcast (Re.const lit1)))) (Re.bcast (Re.bcast (Re.iotaInDim (s := S2048) 0 (by decide))))) (Re.bcast (Re.const lit0))))) (Re.hexp (Re.mul (Re.bcast (Re.bcast (cast_1x4x4_4x4 (f := (fun i0 i1 i2 => ((hv11 D) (1 + i0) (0 + i1) (0 + i2)))) (Re.slice gv11) _))) (Re.bcast (Re.bcast (Re.max (Re.sub (Re.bcast (Re.sub (Re.bcast (Re.mul (Re.iotaInDim (s := S4) 0 (by decide)) (Re.bcast (Re.const lit512)))) (Re.bcast (Re.const lit1)))) (Re.bcast (Re.bcast (Re.iotaInDim (s := S2048) 0 (by decide))))) (Re.bcast (Re.const lit0))))))) (Re.bcast (Re.const lit0))) fun _ => rfl

theorem seg5_v128 {W : Valuation τ sig (Elt Ideal)} (D : Data)
    (gv68 : Re (s := S4x2048x4x256) (W (Proc.devRef .tc main_v68)) (E4 (hv68 D)))
    (gv69 : Re (s := S4x2048x4x512) (W (Proc.devRef .tc main_v69)) (E4 (hv69 D)))
    (gv70 : Re (s := S4x256x4x256) (W (Proc.devRef .tc main_v70)) (E4 (hv70 D)))
    (gv71 : Re (s := S4x256x4x512) (W (Proc.devRef .tc main_v71)) (E4 (hv71 D)))
    (gv73 : Re (s := S4x4) (W (Proc.devRef .tc main_v73)) (E2 (hv73 D)))
    (gv76 : Re (s := S4) (W (Proc.devRef .tc main_v76)) (E1 (hv76 D)))
    (gv96 : Re (s := S4x4x2048x4) (W (Proc.devRef .tc main_v96)) (E4 (hv96 D))) :
    Re (s := S4x4x4x256x512) (after ((hostOps0_9 : List (HloOp τ sig (Elt Ideal))) ++ (hostOps0_10 : List (HloOp τ sig (Elt Ideal)))) W (Proc.devRef .tc main_v128)) (E5 (hv128 D)) := by
  try simp only [after_append]
  after_results_simp
  try simp -implicitDefEqProofs only [TRef.toBuf, TRef.ofBuf, cast_cast, cast_eq]
  exact Re.congr (Re.rev (Re.add (Re.mul (Re.bcast (Re.bcast (hdot0 (f := (fun i0 i1 i2 i3 => (((hv70 D) i0 i1 i2 i3) * (Real.exp (((hv73 D) i0 i2) * ((255 : ℝ) - ((i1 : ℕ) : ℝ))))))) (g := (hv71 D)) (Re.congr (Re.mul gv70 (Re.bcast (Re.bcast (Re.hexp (Re.mul (Re.bcast (Re.bcast gv73)) (Re.bcast (Re.bcast (Re.sub (Re.bcast (Re.const lit255)) (Re.iotaInDim (s := S256) 0 (by decide)))))))))) fun _ => rfl) gv71))) (Re.bcast (Re.bcast (Re.hexp (Re.mul (Re.bcast (Re.bcast gv73)) (Re.bcast (Re.bcast gv76))))))) (hdot1 (f := (fun i0 i1 i2 i3 i4 => (((hv68 D) i0 i2 i3 i4) * ((hv96 D) i0 i1 i2 i3)))) (g := (hv69 D)) (Re.congr (Re.mul (Re.bcast (Re.bcast gv68)) (Re.bcast (Re.bcast gv96))) fun _ => rfl) gv69))) fun _ => rfl

/-- The buffers' contents after each group of host operations. -/
def st1 (W : Valuation τ sig (Elt Ideal)) : Valuation τ sig (Elt Ideal) := after ((hostOps0 : List (HloOp τ sig (Elt Ideal))) ++ (hostOps0_1 : List (HloOp τ sig (Elt Ideal)))) W
def st2 (W : Valuation τ sig (Elt Ideal)) : Valuation τ sig (Elt Ideal) := after ((hostOps0_2 : List (HloOp τ sig (Elt Ideal)))) (st1 W)
def st3 (W : Valuation τ sig (Elt Ideal)) : Valuation τ sig (Elt Ideal) := after ((hostOps0_3 : List (HloOp τ sig (Elt Ideal))) ++ (hostOps0_4 : List (HloOp τ sig (Elt Ideal))) ++ (hostOps0_5 : List (HloOp τ sig (Elt Ideal))) ++ (hostOps0_6 : List (HloOp τ sig (Elt Ideal)))) (st2 W)
def st4 (W : Valuation τ sig (Elt Ideal)) : Valuation τ sig (Elt Ideal) := after ((hostOps0_7 : List (HloOp τ sig (Elt Ideal))) ++ (hostOps0_8 : List (HloOp τ sig (Elt Ideal)))) (st3 W)
def st5 (W : Valuation τ sig (Elt Ideal)) : Valuation τ sig (Elt Ideal) := after ((hostOps0_9 : List (HloOp τ sig (Elt Ideal))) ++ (hostOps0_10 : List (HloOp τ sig (Elt Ideal)))) (st4 W)

section

variable {W : Valuation τ sig (Elt Ideal)} (D : Data)

theorem at1_v3 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x2048x4x256) (st1 W (Proc.devRef .tc main_v3)) (E4 (hv3 D)) :=
  seg1_v3 D g0

theorem at1_v5 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x2048x4x512) (st1 W (Proc.devRef .tc main_v5)) (E4 (hv5 D)) :=
  seg1_v5 D g1

theorem at1_v7 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x256x4x256) (st1 W (Proc.devRef .tc main_v7)) (E4 (hv7 D)) :=
  seg1_v7 D g0

theorem at1_v9 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x256x4x512) (st1 W (Proc.devRef .tc main_v9)) (E4 (hv9 D)) :=
  seg1_v9 D g1

theorem at1_v11 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S2x4x4) (st1 W (Proc.devRef .tc main_v11)) (E3 (hv11 D)) :=
  seg1_v11 D g2

theorem at1_v13 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x4) (st1 W (Proc.devRef .tc main_v13)) (E2 (hv13 D)) :=
  seg1_v13 D g2

theorem at1_v16 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4) (st1 W (Proc.devRef .tc main_v16)) (E1 (hv16 D)) :=
  seg1_v16 D

theorem at1_v36 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x4x2048x4) (st1 W (Proc.devRef .tc main_v36)) (E4 (hv36 D)) :=
  seg1_v36 D g2

theorem at2_v3 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x2048x4x256) (st2 W (Proc.devRef .tc main_v3)) (E4 (hv3 D)) := by
  unfold st2
  try simp only [after_append]
  after_results_simp
  exact (at1_v3 D g0 g1 g2)

theorem at2_v5 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x2048x4x512) (st2 W (Proc.devRef .tc main_v5)) (E4 (hv5 D)) := by
  unfold st2
  try simp only [after_append]
  after_results_simp
  exact (at1_v5 D g0 g1 g2)

theorem at2_v7 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x256x4x256) (st2 W (Proc.devRef .tc main_v7)) (E4 (hv7 D)) := by
  unfold st2
  try simp only [after_append]
  after_results_simp
  exact (at1_v7 D g0 g1 g2)

theorem at2_v9 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x256x4x512) (st2 W (Proc.devRef .tc main_v9)) (E4 (hv9 D)) := by
  unfold st2
  try simp only [after_append]
  after_results_simp
  exact (at1_v9 D g0 g1 g2)

theorem at2_v11 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S2x4x4) (st2 W (Proc.devRef .tc main_v11)) (E3 (hv11 D)) := by
  unfold st2
  try simp only [after_append]
  after_results_simp
  exact (at1_v11 D g0 g1 g2)

theorem at2_v67 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x4x4x256x512) (st2 W (Proc.devRef .tc main_v67)) (E5 (hv67 D)) :=
  seg2_v67 D (at1_v3 D g0 g1 g2) (at1_v5 D g0 g1 g2) (at1_v7 D g0 g1 g2) (at1_v9 D g0 g1 g2) (at1_v13 D g0 g1 g2) (at1_v16 D g0 g1 g2) (at1_v36 D g0 g1 g2)

theorem at3_v11 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S2x4x4) (st3 W (Proc.devRef .tc main_v11)) (E3 (hv11 D)) := by
  unfold st3
  try simp only [after_append]
  after_results_simp
  exact (at2_v11 D g0 g1 g2)

theorem at3_v67 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x4x4x256x512) (st3 W (Proc.devRef .tc main_v67)) (E5 (hv67 D)) := by
  unfold st3
  try simp only [after_append]
  after_results_simp
  exact (at2_v67 D g0 g1 g2)

theorem at3_v68 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x2048x4x256) (st3 W (Proc.devRef .tc main_v68)) (E4 (hv68 D)) :=
  seg3_v68 D (at2_v3 D g0 g1 g2)

theorem at3_v69 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x2048x4x512) (st3 W (Proc.devRef .tc main_v69)) (E4 (hv69 D)) :=
  seg3_v69 D (at2_v5 D g0 g1 g2)

theorem at3_v70 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x256x4x256) (st3 W (Proc.devRef .tc main_v70)) (E4 (hv70 D)) :=
  seg3_v70 D (at2_v7 D g0 g1 g2)

theorem at3_v71 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x256x4x512) (st3 W (Proc.devRef .tc main_v71)) (E4 (hv71 D)) :=
  seg3_v71 D (at2_v9 D g0 g1 g2)

theorem at4_v67 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x4x4x256x512) (st4 W (Proc.devRef .tc main_v67)) (E5 (hv67 D)) := by
  unfold st4
  try simp only [after_append]
  after_results_simp
  exact (at3_v67 D g0 g1 g2)

theorem at4_v68 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x2048x4x256) (st4 W (Proc.devRef .tc main_v68)) (E4 (hv68 D)) := by
  unfold st4
  try simp only [after_append]
  after_results_simp
  exact (at3_v68 D g0 g1 g2)

theorem at4_v69 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x2048x4x512) (st4 W (Proc.devRef .tc main_v69)) (E4 (hv69 D)) := by
  unfold st4
  try simp only [after_append]
  after_results_simp
  exact (at3_v69 D g0 g1 g2)

theorem at4_v70 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x256x4x256) (st4 W (Proc.devRef .tc main_v70)) (E4 (hv70 D)) := by
  unfold st4
  try simp only [after_append]
  after_results_simp
  exact (at3_v70 D g0 g1 g2)

theorem at4_v71 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x256x4x512) (st4 W (Proc.devRef .tc main_v71)) (E4 (hv71 D)) := by
  unfold st4
  try simp only [after_append]
  after_results_simp
  exact (at3_v71 D g0 g1 g2)

theorem at4_v73 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x4) (st4 W (Proc.devRef .tc main_v73)) (E2 (hv73 D)) :=
  seg4_v73 D (at3_v11 D g0 g1 g2)

theorem at4_v76 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4) (st4 W (Proc.devRef .tc main_v76)) (E1 (hv76 D)) :=
  seg4_v76 D

theorem at4_v96 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x4x2048x4) (st4 W (Proc.devRef .tc main_v96)) (E4 (hv96 D)) :=
  seg4_v96 D (at3_v11 D g0 g1 g2)

theorem at5_v67 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x4x4x256x512) (st5 W (Proc.devRef .tc main_v67)) (E5 (hv67 D)) := by
  unfold st5
  try simp only [after_append]
  after_results_simp
  exact (at4_v67 D g0 g1 g2)

theorem at5_v128 (g0 : Re (s := S9216x2048) (W (Proc.devRef .tc main_arg0)) (E2 D.A0)) (g1 : Re (s := S9216x6144) (W (Proc.devRef .tc main_arg1)) (E2 D.A1)) (g2 : Re (s := S2x4) (W (Proc.devRef .tc main_arg2)) (E2 D.LG)) : Re (s := S4x4x4x256x512) (st5 W (Proc.devRef .tc main_v128)) (E5 (hv128 D)) :=
  seg5_v128 D (at4_v68 D g0 g1 g2) (at4_v69 D g0 g1 g2) (at4_v70 D g0 g1 g2) (at4_v71 D g0 g1 g2) (at4_v73 D g0 g1 g2) (at4_v76 D g0 g1 g2) (at4_v96 D g0 g1 g2)

end

end Cert.KernelIdeal.Own
-- ==== Proof.Link.lean ====
/- What a grid point computes, in the terms of the lines: the forward half reads chunk `a` of one line, the reverse half chunk `a`
   of the other with its steps in the opposite order. -/
module

public import proofs.«01_k».proof.Proof.Lines
public import proofs.«01_k».proof.Proof.Step
public import proofs.«01_k».proof.Proof.HostVals

@[expose] public section

set_option maxRecDepth 4000

noncomputable section

namespace Cert.KernelIdeal.Own

open Cert.Own Finset

theorem hv67_eq (D : Data) (b h a d e : ℕ) : hv67 D b h a d e = (fwdL D b h).cs a d e := rfl
theorem hv128_eq (D : Data) (b h g d e : ℕ) : hv128 D b h g d e = (revL D b h).cs (4 - (g + 1)) d e := rfl

/-- The blocks of chunk `a` of a line forwards and of a line backwards. -/
def blk (f r : Line) (a : ℕ) : Blk where
  lg0 := f.lg
  lg1 := r.lg
  q i d := f.q (512 * a + i) d
  k i d := f.k (512 * a + i) d
  v i e := f.v (512 * a + i) e
  st d e := f.cs a d e
  o i e := f.o (512 * a + i) e
  rq i d := r.q (512 * a + (511 - i)) d
  rk i d := r.k (512 * a + (511 - i)) d
  rv i e := r.v (512 * a + (511 - i)) e
  rst d e := r.cs a d e
  ro i e := r.o (512 * a + (511 - i)) e
  kc s d := f.kc s d
  vc s e := f.vc s e

variable (f r : Line) (a : ℕ) (S : ℕ → ℕ → ℝ) (lb : ℕ → ℕ → ℕ → ℕ → ℝ)

theorem sv0_eq (i d : ℕ) : sv0 (blk f r a) i d = f.cdq a i d := rfl
theorem sv1_eq (i d : ℕ) : sv1 (blk f r a) S i d = f.cdk S a i d := rfl
theorem sv2_eq (i e : ℕ) : sv2 (blk f r a) S i e = f.cdv S a i e := rfl
theorem sv5_eq (x y z c : ℕ) : sv5 (blk f r a) S lb x y z c = lb 0 0 z c + f.cg S a := rfl
theorem sv12_eq (d e : ℕ) : sv12 (blk f r a) S d e = f.cD S a d e := rfl
theorem sc3_eq (s d : ℕ) : sc3 (blk f r a) S s d = f.cdkc (f.cD S a) s d := rfl
theorem sc4_eq (s e : ℕ) : sc4 (blk f r a) S s e = f.cdvc (f.cD S a) s e := rfl
theorem sc5_eq (x y z c : ℕ) : sc5 (blk f r a) S lb x y z c = (lb 0 0 z c + f.cg S a) + f.cc (f.cD S a) := rfl

/-- A sum over a chunk's rows, in the opposite order. -/
theorem sum_rows (n : ℕ) (g : ℕ → ℝ) : ∑ i ∈ range (n + 1), g i = ∑ i ∈ range (n + 1), g (n - i) :=
  (Finset.sum_range_reflect g (n + 1)).symm

theorem cast_row {n i : ℕ} (h : i ∈ range (n + 1)) : ((n - i : ℕ) : ℝ) = (n : ℝ) - (i : ℝ) := by
  rw [mem_range] at h
  exact Nat.cast_sub (by omega)

theorem row_row {n i : ℕ} (h : i ∈ range (n + 1)) : n - (n - i) = i := by
  rw [mem_range] at h; omega

theorem sv6_eq {i : ℕ} (hi : i ∈ range (511 + 1)) (d : ℕ) : sv6 (blk f r a) i d = r.cdq a (511 - i) d := by
  unfold sv6 Line.cdq Line.w Line.E blk
  dsimp only
  rw [sum_rows 511]
  refine congrArg₂ (· + ·) (sum_congr rfl fun j hj => ?_) (sum_congr rfl fun e _ => ?_)
  · rw [row_row hj, cast_row hj, cast_row hi]
    push_cast
    have : (511 : ℝ) - (j : ℝ) - (i : ℝ) = 511 - (i : ℝ) - (j : ℝ) := by ring
    rw [this]
  · rw [cast_row hi]
    push_cast
    have : (511 : ℝ) - (i : ℝ) + 1 = 512 - (i : ℝ) := by ring
    rw [this]

theorem sv7_eq {i : ℕ} (hi : i ∈ range (511 + 1)) (d : ℕ) : sv7 (blk f r a) S i d = r.cdk S a (511 - i) d := by
  unfold sv7 Line.cdk Line.w Line.E blk
  dsimp only
  rw [sum_rows 511]
  refine congrArg₂ (· + ·) (sum_congr rfl fun j hj => ?_) ?_
  · rw [row_row hj, cast_row hj, cast_row hi]
    push_cast
    have : (i : ℝ) - ((511 : ℝ) - (j : ℝ)) = (j : ℝ) - (511 - (i : ℝ)) := by ring
    rw [this]
  · rw [cast_row hi]
    push_cast
    rw [sub_sub_cancel]

theorem sv8_eq {i : ℕ} (hi : i ∈ range (511 + 1)) (e : ℕ) : sv8 (blk f r a) S i e = r.cdv S a (511 - i) e := by
  unfold sv8 Line.cdv Line.w Line.E blk
  dsimp only
  rw [sum_rows 511]
  refine congrArg₂ (· + ·) (sum_congr rfl fun j hj => ?_) (sum_congr rfl fun d _ => ?_)
  · rw [row_row hj, cast_row hj, cast_row hi]
    push_cast
    have : (i : ℝ) - ((511 : ℝ) - (j : ℝ)) = (j : ℝ) - (511 - (i : ℝ)) := by ring
    rw [this]
  · rw [cast_row hi]
    push_cast
    rw [sub_sub_cancel]

theorem sv13_eq (d e : ℕ) : sv13 (blk f r a) S d e = r.cD S a d e := by
  unfold sv13 Line.cD Line.E blk
  dsimp only
  rw [sum_rows 511]
  refine congrArg₂ (· + ·) rfl (sum_congr rfl fun j hj => ?_)
  rw [row_row hj, cast_row hj]
  push_cast
  have : (512 : ℝ) - (511 - (j : ℝ)) = (j : ℝ) + 1 := by ring
  rw [this]

theorem sv11_eq (x y z c : ℕ) : sv11 (blk f r a) S lb x y z c = lb 0 0 z c + r.cg S a := by
  unfold sv11 Line.cg
  congr 1
  refine congrArg₂ (· + ·) (congrArg₂ (· + ·) (congrArg₂ (· + ·) ?_ ?_) ?_) rfl
  · unfold Line.g1 Line.w blk
    dsimp only
    rw [sum_rows 511]
    refine sum_congr rfl fun i hi => ?_
    rw [sum_rows 511]
    refine sum_congr rfl fun j hj => ?_
    rw [row_row hi, row_row hj, cast_row hi, cast_row hj]
    push_cast
    have : (511 : ℝ) - (j : ℝ) - (511 - (i : ℝ)) = (i : ℝ) - (j : ℝ) := by ring
    rw [this]
  · unfold Line.g2 Line.E blk
    dsimp only
    rw [sum_rows 511]
    refine sum_congr rfl fun i hi => ?_
    rw [row_row hi, cast_row hi]
    push_cast
    have : (512 : ℝ) - (511 - (i : ℝ)) = (i : ℝ) + 1 := by ring
    rw [this]
  · unfold Line.g3 Line.E blk
    dsimp only
    rw [sum_rows 511]
    refine sum_congr rfl fun i hi => ?_
    rw [row_row hi, cast_row hi]
    push_cast
    rfl

/-- The two lines share the context, in opposite orders. -/
structure Ctx (f r : Line) : Prop where
  k : ∀ s ∈ range (255 + 1), ∀ d, f.kc s d = r.kc (255 - s) d
  v : ∀ s ∈ range (255 + 1), ∀ e, f.vc s e = r.vc (255 - s) e

variable {f r}

theorem sc9_eq (H : Ctx f r) {s : ℕ} (hs : s ∈ range (255 + 1)) (d : ℕ) :
    sc9 (blk f r a) S s d = r.cdkc (r.cD S a) (255 - s) d := by
  have e : ∀ d' e', sv13 (blk f r a) S d' e' = r.cD S a d' e' := sv13_eq f r a S
  have h : sc9 (blk f r a) S s d = (∑ e' ∈ range 512, f.vc s e' * sv13 (blk f r a) S d e') * Real.exp (r.lg * (s : ℝ)) := rfl
  rw [h]
  unfold Line.cdkc Line.E
  rw [cast_row hs]
  push_cast
  rw [sub_sub_cancel]
  congr 1
  exact sum_congr rfl fun e' _ => by rw [e, H.v s hs]

theorem sc10_eq (H : Ctx f r) {s : ℕ} (hs : s ∈ range (255 + 1)) (e' : ℕ) :
    sc10 (blk f r a) S s e' = r.cdvc (r.cD S a) (255 - s) e' := by
  have e : ∀ d' e', sv13 (blk f r a) S d' e' = r.cD S a d' e' := sv13_eq f r a S
  have h : sc10 (blk f r a) S s e' = ∑ d ∈ range 256, (f.kc s d * Real.exp (r.lg * (s : ℝ))) * sv13 (blk f r a) S d e' := rfl
  rw [h]
  unfold Line.cdvc Line.E
  rw [cast_row hs]
  push_cast
  rw [sub_sub_cancel]
  exact sum_congr rfl fun d _ => by rw [e, H.k s hs]

theorem sc11_eq (H : Ctx f r) (x y z c : ℕ) :
    sc11 (blk f r a) S lb x y z c = (lb 0 0 z c + r.cg S a) + r.cc (r.cD S a) := by
  have e : ∀ d' e', sv13 (blk f r a) S d' e' = r.cD S a d' e' := sv13_eq f r a S
  have h : sc11 (blk f r a) S lb x y z c = sv11 (blk f r a) S lb x y z c
      + ∑ s ∈ range (255 + 1), ∑ _x ∈ range 1, ((s : ℝ) * Real.exp (r.lg * (s : ℝ)))
        * (∑ d ∈ range 256, f.kc s d * (∑ e' ∈ range 512, f.vc s e' * sv13 (blk f r a) S d e')) := rfl
  rw [h, sv11_eq]
  congr 1
  unfold Line.cc Line.E
  rw [sum_rows 255]
  refine sum_congr rfl fun s hs => ?_
  have hs' : 255 - s ∈ range (255 + 1) := by rw [mem_range]; omega
  rw [cast_row hs]
  push_cast
  refine sum_congr rfl fun _ _ => ?_
  congr 1
  refine sum_congr rfl fun d _ => ?_
  rw [H.k _ hs', row_row hs]
  congr 1
  exact sum_congr rfl fun e' _ => by rw [e, H.v _ hs', row_row hs]

theorem ctx_lines (D : Data) (b h : ℕ) : Ctx (fwdL D b h) (revL D b h) := by
  constructor <;> intro s hs x <;> rw [mem_range] at hs <;> unfold fwdL revL <;> dsimp only
  · have : 256 - (255 - s + 1) = s := by omega
    rw [this]
  · have : 256 - (255 - s + 1) = s := by omega
    rw [this]

end Cert.KernelIdeal.Own
-- ==== Proof.Inv.lean ====
/- What every grid point leaves: by induction on the points, each block of the gradients, the state's gradient carried from
   chunk to chunk, and the sums of the log-decay's gradient. -/
module

public import proofs.«01_k».proof.Proof.StepA
public import proofs.«01_k».proof.Proof.StepB
public import proofs.«01_k».proof.Proof.StepC
public import proofs.«01_k».proof.Proof.Link

@[expose] public section

set_option maxRecDepth 8192

noncomputable section

namespace Cert.Own

/-- The log-decay's gradient summed over the chunks visited at steps `0, …, g`. -/
def Line.ps (L : Line) : ℕ → ℝ
  | 0 => 0 + L.cg (L.D 2048) 3
  | 1 => (0 + L.cg (L.D 2048) 3) + L.cg (L.D 1536) 2
  | _ => ((0 + L.cg (L.D 2048) 3) + L.cg (L.D 1536) 2) + L.cg (L.D 1024) 1

end Cert.Own

namespace Cert.KernelIdeal.Own

open Cert.KernelIdeal Cert.KernelIdeal.Gen Cert.Own Idealize.ShloMosaic Idealize.ShloMosaic.TcCoe
open Idealize.SL.Sem Finset

variable (m : (ℓ : Loc nD τ sig) → Buf (Elt Ideal) ℓ)

/-- What a point leaves at chunk `a` of the lines `f` and `r`: the chunk's gradients and the state's gradient before it. -/
structure Mid (o : Outs Ideal) (f r : Line) (a : ℕ) : Prop where
  q0 : Re o.1 (E2 fun i d => f.dq (512 * a + i) d)
  q1 : Re o.2.1 (E2 fun i d => f.dk (512 * a + i) d)
  q2 : Re o.2.2.1 (E2 fun i d => f.dv (512 * a + i) d)
  q6 : Re o.2.2.2.2.2.2.1 (E2 fun i d => r.dq (512 * a + (511 - i)) d)
  q7 : Re o.2.2.2.2.2.2.2.1 (E2 fun i d => r.dk (512 * a + (511 - i)) d)
  q8 : Re o.2.2.2.2.2.2.2.2.1 (E2 fun i d => r.dv (512 * a + (511 - i)) d)
  s0 : Re o.2.2.2.2.2.2.2.2.2.2.2.2.1 (E2 (f.D (512 * a)))
  s1 : Re o.2.2.2.2.2.2.2.2.2.2.2.2.2 (E2 (r.D (512 * a)))

/-- The log-decay's gradient so far, at step `g`. -/
structure Acc (o : Outs Ideal) (f r : Line) (g : ℕ) : Prop where
  l0 : Re o.2.2.2.2.2.1 (E4 fun _ _ _ _ => f.ps g)
  l1 : Re o.2.2.2.2.2.2.2.2.2.2.2.1 (E4 fun _ _ _ _ => r.ps g)

/-- What the last chunk's point leaves besides: the context's gradients and the log-decay's. -/
structure Fin4 (o : Outs Ideal) (f r : Line) : Prop where
  k3 : Re o.2.2.2.1 (E2 fun s d => f.dkc s d)
  k4 : Re o.2.2.2.2.1 (E2 fun s d => f.dvc s d)
  k5 : Re o.2.2.2.2.2.1 (E4 fun _ _ _ _ => f.dlg)
  k9 : Re o.2.2.2.2.2.2.2.2.2.1 (E2 fun s d => r.dkc (255 - s) d)
  k10 : Re o.2.2.2.2.2.2.2.2.2.2.1 (E2 fun s d => r.dvc (255 - s) d)
  k11 : Re o.2.2.2.2.2.2.2.2.2.2.2.1 (E4 fun _ _ _ _ => r.dlg)

variable {m} {c : Dev nD} {t : Fin cfg0.N} {f r : Line} {a : ℕ}

theorem D_top (L : Line) : (fun _ _ => 0 : ℕ → ℕ → ℝ) = L.D (512 * (3 + 1)) := by
  funext d e; exact (L.D_last d e).symm

theorem midA (I : Ins m c t (blk f r 3)) (h0 : t.val % 4 = 0) (h1 : ¬t.val % 4 = 3) : Mid (outA m c t h0 h1) f r 3 where
  q0 := (reA_0 m I h0 h1).congr fun j => by
    show sv0 (blk f r 3) (j 0).val (j 1).val = _
    exact (sv0_eq f r 3 _ _).trans (f.cdq_eq (by omega) ((j 0).isLt : (j 0).val < 512) _)
  q1 := (reA_1 m I h0 h1).congr fun j => by
    show sv1 (blk f r 3) (fun _ _ => 0) (j 0).val (j 1).val = _
    rw [D_top f]
    exact (sv1_eq f r 3 _ _ _).trans (f.cdk_eq (by omega) ((j 0).isLt : (j 0).val < 512) _)
  q2 := (reA_2 m I h0 h1).congr fun j => by
    show sv2 (blk f r 3) (fun _ _ => 0) (j 0).val (j 1).val = _
    rw [D_top f]
    exact (sv2_eq f r 3 _ _ _).trans (f.cdv_eq (by omega) ((j 0).isLt : (j 0).val < 512) _)
  q6 := (reA_6 m I h0 h1).congr fun j => by
    show sv6 (blk f r 3) (j 0).val (j 1).val = _
    exact (sv6_eq f r 3 (mem_range.mpr ((j 0).isLt : (j 0).val < 512)) _).trans (r.cdq_eq (by omega) (by omega : 511 - (j 0).val < 512) _)
  q7 := (reA_7 m I h0 h1).congr fun j => by
    show sv7 (blk f r 3) (fun _ _ => 0) (j 0).val (j 1).val = _
    rw [D_top r]
    exact (sv7_eq f r 3 _ (mem_range.mpr ((j 0).isLt : (j 0).val < 512)) _).trans (r.cdk_eq (by omega) (by omega : 511 - (j 0).val < 512) _)
  q8 := (reA_8 m I h0 h1).congr fun j => by
    show sv8 (blk f r 3) (fun _ _ => 0) (j 0).val (j 1).val = _
    rw [D_top r]
    exact (sv8_eq f r 3 _ (mem_range.mpr ((j 0).isLt : (j 0).val < 512)) _).trans (r.cdv_eq (by omega) (by omega : 511 - (j 0).val < 512) _)
  s0 := (reA_12 m I h0 h1).congr fun j => by
    show sv12 (blk f r 3) (fun _ _ => 0) (j 0).val (j 1).val = _
    rw [D_top f]
    exact (sv12_eq f r 3 _ _ _).trans (f.cD_eq (by omega) _ _)
  s1 := (reA_13 m I h0 h1).congr fun j => by
    show sv13 (blk f r 3) (fun _ _ => 0) (j 0).val (j 1).val = _
    rw [D_top r]
    exact (sv13_eq f r 3 _ _ _).trans (r.cD_eq (by omega) _ _)

theorem midB (ha : a < 4) (I : Ins m c t (blk f r a)) (h0 : ¬t.val % 4 = 0) (h1 : ¬t.val % 4 = 3) (p : Outs Ideal) (M : Mid p f r (a + 1)) : Mid (outB m c t h0 h1 p) f r a where
  q0 := (reB_0 m I h0 h1 p).congr fun j => by
    show sv0 (blk f r a) (j 0).val (j 1).val = _
    exact (sv0_eq f r a _ _).trans (f.cdq_eq ha ((j 0).isLt : (j 0).val < 512) _)
  q1 := (reB_1 m I h0 h1 p M.s0).congr fun j => by
    show sv1 (blk f r a) (f.D (512 * (a + 1))) (j 0).val (j 1).val = _
    exact (sv1_eq f r a _ _ _).trans (f.cdk_eq ha ((j 0).isLt : (j 0).val < 512) _)
  q2 := (reB_2 m I h0 h1 p M.s0).congr fun j => by
    show sv2 (blk f r a) (f.D (512 * (a + 1))) (j 0).val (j 1).val = _
    exact (sv2_eq f r a _ _ _).trans (f.cdv_eq ha ((j 0).isLt : (j 0).val < 512) _)
  q6 := (reB_6 m I h0 h1 p).congr fun j => by
    show sv6 (blk f r a) (j 0).val (j 1).val = _
    exact (sv6_eq f r a (mem_range.mpr ((j 0).isLt : (j 0).val < 512)) _).trans (r.cdq_eq ha (by omega : 511 - (j 0).val < 512) _)
  q7 := (reB_7 m I h0 h1 p M.s1).congr fun j => by
    show sv7 (blk f r a) (r.D (512 * (a + 1))) (j 0).val (j 1).val = _
    exact (sv7_eq f r a _ (mem_range.mpr ((j 0).isLt : (j 0).val < 512)) _).trans (r.cdk_eq ha (by omega : 511 - (j 0).val < 512) _)
  q8 := (reB_8 m I h0 h1 p M.s1).congr fun j => by
    show sv8 (blk f r a) (r.D (512 * (a + 1))) (j 0).val (j 1).val = _
    exact (sv8_eq f r a _ (mem_range.mpr ((j 0).isLt : (j 0).val < 512)) _).trans (r.cdv_eq ha (by omega : 511 - (j 0).val < 512) _)
  s0 := (reB_12 m I h0 h1 p M.s0).congr fun j => by
    show sv12 (blk f r a) (f.D (512 * (a + 1))) (j 0).val (j 1).val = _
    exact (sv12_eq f r a _ _ _).trans (f.cD_eq ha _ _)
  s1 := (reB_13 m I h0 h1 p M.s1).congr fun j => by
    show sv13 (blk f r a) (r.D (512 * (a + 1))) (j 0).val (j 1).val = _
    exact (sv13_eq f r a _ _ _).trans (r.cD_eq ha _ _)

theorem midC (ha : a < 4) (I : Ins m c t (blk f r a)) (h0 : ¬t.val % 4 = 0) (h1 : t.val % 4 = 3) (p : Outs Ideal) (M : Mid p f r (a + 1)) : Mid (outC m c t h0 h1 p) f r a where
  q0 := (reC_0 m I h0 h1 p).congr fun j => by
    show sv0 (blk f r a) (j 0).val (j 1).val = _
    exact (sv0_eq f r a _ _).trans (f.cdq_eq ha ((j 0).isLt : (j 0).val < 512) _)
  q1 := (reC_1 m I h0 h1 p M.s0).congr fun j => by
    show sv1 (blk f r a) (f.D (512 * (a + 1))) (j 0).val (j 1).val = _
    exact (sv1_eq f r a _ _ _).trans (f.cdk_eq ha ((j 0).isLt : (j 0).val < 512) _)
  q2 := (reC_2 m I h0 h1 p M.s0).congr fun j => by
    show sv2 (blk f r a) (f.D (512 * (a + 1))) (j 0).val (j 1).val = _
    exact (sv2_eq f r a _ _ _).trans (f.cdv_eq ha ((j 0).isLt : (j 0).val < 512) _)
  q6 := (reC_6 m I h0 h1 p).congr fun j => by
    show sv6 (blk f r a) (j 0).val (j 1).val = _
    exact (sv6_eq f r a (mem_range.mpr ((j 0).isLt : (j 0).val < 512)) _).trans (r.cdq_eq ha (by omega : 511 - (j 0).val < 512) _)
  q7 := (reC_7 m I h0 h1 p M.s1).congr fun j => by
    show sv7 (blk f r a) (r.D (512 * (a + 1))) (j 0).val (j 1).val = _
    exact (sv7_eq f r a _ (mem_range.mpr ((j 0).isLt : (j 0).val < 512)) _).trans (r.cdk_eq ha (by omega : 511 - (j 0).val < 512) _)
  q8 := (reC_8 m I h0 h1 p M.s1).congr fun j => by
    show sv8 (blk f r a) (r.D (512 * (a + 1))) (j 0).val (j 1).val = _
    exact (sv8_eq f r a _ (mem_range.mpr ((j 0).isLt : (j 0).val < 512)) _).trans (r.cdv_eq ha (by omega : 511 - (j 0).val < 512) _)
  s0 := (reC_12 m I h0 h1 p M.s0).congr fun j => by
    show sv12 (blk f r a) (f.D (512 * (a + 1))) (j 0).val (j 1).val = _
    exact (sv12_eq f r a _ _ _).trans (f.cD_eq ha _ _)
  s1 := (reC_13 m I h0 h1 p M.s1).congr fun j => by
    show sv13 (blk f r a) (r.D (512 * (a + 1))) (j 0).val (j 1).val = _
    exact (sv13_eq f r a _ _ _).trans (r.cD_eq ha _ _)

theorem accA (I : Ins m c t (blk f r 3)) (h0 : t.val % 4 = 0) (h1 : ¬t.val % 4 = 3) : Acc (outA m c t h0 h1) f r 0 where
  l0 := (reA_5 m I h0 h1).congr fun j =>
    (sv5_eq f r 3 _ _ _ _ _ _).trans (congrArg (fun S => (0 : ℝ) + f.cg S 3) (D_top f))
  l1 := (reA_11 m I h0 h1).congr fun j =>
    (sv11_eq f r 3 _ _ _ _ _ _).trans (congrArg (fun S => (0 : ℝ) + r.cg S 3) (D_top r))

theorem accB {g : ℕ} (I : Ins m c t (blk f r a)) (h0 : ¬t.val % 4 = 0) (h1 : ¬t.val % 4 = 3) (p : Outs Ideal) (M : Mid p f r (a + 1))
    (H : Acc p f r g) (e : ∀ L : Line, L.ps g + L.cg (L.D (512 * (a + 1))) a = L.ps (g + 1)) : Acc (outB m c t h0 h1 p) f r (g + 1) where
  l0 := (reB_5 m I h0 h1 p M.s0 H.l0).congr fun j => (sv5_eq f r a _ _ _ _ _ _).trans (e f)
  l1 := (reB_11 m I h0 h1 p M.s1 H.l1).congr fun j => (sv11_eq f r a _ _ _ _ _ _).trans (e r)

theorem D_bot (L : Line) : L.cD (L.D (512 * (0 + 1))) 0 = L.D 0 := by
  funext d e; exact L.cD_eq (by omega) d e

theorem ps_end (L : Line) : (L.ps 2 + L.cg (L.D (512 * (0 + 1))) 0) + L.cc (L.cD (L.D (512 * (0 + 1))) 0) = L.dlg := by
  rw [D_bot]; exact L.cg_sum

theorem finC (I : Ins m c t (blk f r 0)) (X : Ctx f r) (h0 : ¬t.val % 4 = 0) (h1 : t.val % 4 = 3) (p : Outs Ideal) (M : Mid p f r (0 + 1))
    (H : Acc p f r 2) : Fin4 (outC m c t h0 h1 p) f r where
  k3 := (reC_3 m I h0 h1 p M.s0).congr fun j => (sc3_eq f r 0 _ _ _).trans (by rw [D_bot]; exact f.cdkc_eq _ _)
  k4 := (reC_4 m I h0 h1 p M.s0).congr fun j => (sc4_eq f r 0 _ _ _).trans (by rw [D_bot]; exact f.cdvc_eq _ _)
  k5 := (reC_5 m I h0 h1 p M.s0 H.l0).congr fun j => (sc5_eq f r 0 _ _ _ _ _ _).trans (ps_end f)
  k9 := (reC_9 m I h0 h1 p M.s1).congr fun j =>
    (sc9_eq 0 _ X (mem_range.mpr ((j 0).isLt : (j 0).val < 256)) _).trans (by rw [D_bot]; exact r.cdkc_eq _ _)
  k10 := (reC_10 m I h0 h1 p M.s1).congr fun j =>
    (sc10_eq 0 _ X (mem_range.mpr ((j 0).isLt : (j 0).val < 256)) _).trans (by rw [D_bot]; exact r.cdvc_eq _ _)
  k11 := (reC_11 m I h0 h1 p M.s1 H.l1).congr fun j => (sc11_eq 0 _ _ X _ _ _ _).trans (ps_end r)

variable (m c)

/-- The blocks of every point hold chunk `3 - n % 4` of the point's lines. -/
abbrev AllIns (D : Data) : Prop := ∀ t : Fin cfg0.N,
  Ins m c t (blk (fwdL D (t.val / 16) (t.val / 4 % 4)) (revL D (t.val / 16) (t.val / 4 % 4)) (3 - t.val % 4))

/-- The statement at point `n`. -/
structure At (D : Data) (n : ℕ) (hn : n < cfg0.N) : Prop where
  mid : Mid (outsAt m c n hn) (fwdL D (n / 16) (n / 4 % 4)) (revL D (n / 16) (n / 4 % 4)) (3 - n % 4)
  acc : n % 4 ≠ 3 → Acc (outsAt m c n hn) (fwdL D (n / 16) (n / 4 % 4)) (revL D (n / 16) (n / 4 % 4)) (n % 4)
  fin : n % 4 = 3 → Fin4 (outsAt m c n hn) (fwdL D (n / 16) (n / 4 % 4)) (revL D (n / 16) (n / 4 % 4))

theorem at_all {D : Data} (I : AllIns m c D) : ∀ (n : ℕ) (hn : n < cfg0.N), At m c D n hn := by
  intro n
  induction n with
  | zero =>
    intro hn
    have e := outsAt_A m c ⟨0, hn⟩ rfl (show ¬(0 : ℕ) % 4 = 3 by decide)
    have J := I ⟨0, hn⟩
    exact ⟨e ▸ midA J rfl (show ¬(0 : ℕ) % 4 = 3 by decide), fun _ => e ▸ accA J rfl (show ¬(0 : ℕ) % 4 = 3 by decide), fun h => absurd h (by decide)⟩
  | succ n ih =>
    intro hn
    have P := ih (Nat.lt_of_succ_lt hn)
    have J := I ⟨n + 1, hn⟩
    by_cases h0 : (n + 1) % 4 = 0
    · have h1 : ¬(n + 1) % 4 = 3 := by omega
      have e := outsAt_A m c ⟨n + 1, hn⟩ h0 h1
      dsimp only at J e
      rw [h0] at J
      refine ⟨?_, fun _ => ?_, fun h => absurd h h1⟩
      · rw [e, h0]; exact midA J h0 h1
      · rw [e, h0]; exact accA J h0 h1
    · have hb : (n + 1) / 16 = n / 16 := by omega
      have hh : (n + 1) / 4 % 4 = n / 4 % 4 := by omega
      have hg : 3 - (n + 1) % 4 + 1 = 3 - n % 4 := by omega
      have M := P.mid
      have A := P.acc (by omega)
      rw [← hb, ← hh, ← hg] at M
      rw [← hb, ← hh] at A
      by_cases h1 : (n + 1) % 4 = 3
      · have e := outsAt_C m c ⟨n + 1, hn⟩ h0 h1
        have hz : n % 4 = 2 := by omega
        dsimp only at J e
        rw [hz] at A
        refine ⟨?_, fun h => absurd h1 h, fun _ => ?_⟩
        · rw [e]; exact midC (by omega) J h0 h1 _ M
        · rw [h1] at J M
          rw [e]; exact finC J (ctx_lines D _ _) h0 h1 _ M A
      · have e := outsAt_B m c ⟨n + 1, hn⟩ h0 h1
        dsimp only at J e
        refine ⟨?_, fun _ => ?_, fun h => absurd h h1⟩
        · rw [e]; exact midB (by omega) J h0 h1 _ M
        · have hs : (n + 1) % 4 = n % 4 + 1 := by omega
          rw [e, hs]
          refine accB J h0 h1 _ M A fun L => ?_
          have : n % 4 = 0 ∨ n % 4 = 1 := by omega
          rcases this with h | h
          · rw [hs, h]; rfl
          · rw [hs, h]; rfl

end Cert.KernelIdeal.Own
-- ==== Proof.Goals.lean ====
/- The twelve results, as functions of the arguments' entries: the gradients of every example's and head's line, laid out
   in the arrays as the step reads them. -/
module

public import proofs.«01_k».proof.Proof.Lines

@[expose] public section

noncomputable section

namespace Cert.Own

variable (D : Data)

def fdq (i j : ℕ) : ℝ := (fwdL D (i / 2048) (j / 256)).dq (i % 2048) (j % 256)
def fdk (i j : ℕ) : ℝ := (fwdL D (i / 2048) (j / 256)).dk (i % 2048) (j % 256)
def fdv (i j : ℕ) : ℝ := (fwdL D (i / 2048) (j / 512)).dv (i % 2048) (j % 512)
def fdkc (i j : ℕ) : ℝ := (fwdL D (i / 256) (j / 256)).dkc (i % 256) (j % 256)
def fdvc (i j : ℕ) : ℝ := (fwdL D (i / 256) (j / 512)).dvc (i % 256) (j % 512)
def fdlg (i j _p _q : ℕ) : ℝ := (fwdL D i j).dlg
def rdq (i j : ℕ) : ℝ := (revL D (i / 2048) (j / 256)).dq (2048 - (i % 2048 + 1)) (j % 256)
def rdk (i j : ℕ) : ℝ := (revL D (i / 2048) (j / 256)).dk (2048 - (i % 2048 + 1)) (j % 256)
def rdv (i j : ℕ) : ℝ := (revL D (i / 2048) (j / 512)).dv (2048 - (i % 2048 + 1)) (j % 512)
def rdkc (i j : ℕ) : ℝ := (revL D (i / 256) (j / 256)).dkc (256 - (i % 256 + 1)) (j % 256)
def rdvc (i j : ℕ) : ℝ := (revL D (i / 256) (j / 512)).dvc (256 - (i % 256 + 1)) (j % 512)
def rdlg (i j _p _q : ℕ) : ℝ := (revL D i j).dlg

end Cert.Own
-- ==== Proof.Arr.lean ====
/- The kernel's twelve result arrays: every entry lies in the block some grid point writes back, and each block written back
   holds its chunk of the gradients. -/
module

public import proofs.«01_k».proof.Proof.Inv
public import proofs.«01_k».proof.Proof.Goals

@[expose] public section

set_option maxRecDepth 8192

noncomputable section

namespace Cert.KernelIdeal.Own

open Cert.KernelIdeal Cert.KernelIdeal.Gen Cert.Own Idealize.ShloMosaic Idealize.ShloMosaic.TcCoe
open Idealize.SL.Sem Idealize.ShloMosaic.Pipeline

variable (m : (ℓ : Loc nD τ sig) → Buf (Elt Ideal) ℓ) (c : Dev nD) {D : Data}

theorem N64 : cfg0.N = 64 := N_0

theorem ox13 : ∀ t : Fin grid0.N, win0_13.index t 0 = 4 * (t.val / 16) + (3 - t.val % 4) ∧ win0_13.index t 1 = t.val / 4 % 4 := by decide +kernel
theorem ox14 : ∀ t : Fin grid0.N, win0_14.index t 0 = 4 * (t.val / 16) + (3 - t.val % 4) ∧ win0_14.index t 1 = t.val / 4 % 4 := by decide +kernel
theorem ox15 : ∀ t : Fin grid0.N, win0_15.index t 0 = 4 * (t.val / 16) + (3 - t.val % 4) ∧ win0_15.index t 1 = t.val / 4 % 4 := by decide +kernel
theorem ox16 : ∀ t : Fin grid0.N, win0_16.index t 0 = t.val / 16 ∧ win0_16.index t 1 = t.val / 4 % 4 := by decide +kernel
theorem ox17 : ∀ t : Fin grid0.N, win0_17.index t 0 = t.val / 16 ∧ win0_17.index t 1 = t.val / 4 % 4 := by decide +kernel
theorem ox18 : ∀ t : Fin grid0.N, win0_18.index t 0 = t.val / 16 ∧ win0_18.index t 1 = t.val / 4 % 4 ∧ win0_18.index t 2 = 0 ∧ win0_18.index t 3 = 0 := by decide +kernel
theorem ox19 : ∀ t : Fin grid0.N, win0_19.index t 0 = 4 * (t.val / 16) + t.val % 4 ∧ win0_19.index t 1 = t.val / 4 % 4 := by decide +kernel
theorem ox20 : ∀ t : Fin grid0.N, win0_20.index t 0 = 4 * (t.val / 16) + t.val % 4 ∧ win0_20.index t 1 = t.val / 4 % 4 := by decide +kernel
theorem ox21 : ∀ t : Fin grid0.N, win0_21.index t 0 = 4 * (t.val / 16) + t.val % 4 ∧ win0_21.index t 1 = t.val / 4 % 4 := by decide +kernel
theorem ox22 : ∀ t : Fin grid0.N, win0_22.index t 0 = t.val / 16 ∧ win0_22.index t 1 = t.val / 4 % 4 := by decide +kernel
theorem ox23 : ∀ t : Fin grid0.N, win0_23.index t 0 = t.val / 16 ∧ win0_23.index t 1 = t.val / 4 % 4 := by decide +kernel
theorem ox24 : ∀ t : Fin grid0.N, win0_24.index t 0 = t.val / 16 ∧ win0_24.index t 1 = t.val / 4 % 4 ∧ win0_24.index t 2 = 0 ∧ win0_24.index t 3 = 0 := by decide +kernel

theorem fl13 (I : AllIns m c D) (t : Fin cfg0.N) (hf : (cfg0.win 13).flush t = true) :
    (dats m 0 c).flushed 13 t = ((cfg0.win 13).blk t).view.read (Elt Ideal) (fun i => ((E2 (z := S8192x1024.size) (fdq D) i : ℝ) : EReal)) := by
  have h : Re (s := S512x256) (outsAt m c t.val t.isLt).1 _ := (at_all m c I t.val t.isLt).mid.q0
  have ht : t.val < 64 := N64 ▸ t.isLt
  show (cfg0.win 13).cut (grid0.coords t) ((dats m 0 c).after 13 t) = _
  rw [after0_13]
  funext j
  show (outsAt m c t.val t.isLt).1 j = ((fdq D ((win0_13.rect t).emb j 0 : ℕ) ((win0_13.rect t).emb j 1 : ℕ) : ℝ) : EReal)
  have j0 : (j 0).val < 512 := (j 0).isLt
  have j1 : (j 1).val < 256 := (j 1).isLt
  have e0 : ((win0_13.rect t).emb j 0 : ℕ) = win0_13.index t 0 * 512 + (j 0).val := Window.rect_emb_val win0_13 t j 0
  have e1 : ((win0_13.rect t).emb j 1 : ℕ) = win0_13.index t 1 * 256 + (j 1).val := Window.rect_emb_val win0_13 t j 1
  rw [e0, e1, (ox13 t).1, (ox13 t).2, h j]
  generalize hR : (4 * (t.val / 16) + (3 - t.val % 4)) * 512 + (j 0).val = R
  generalize hC : (t.val / 4 % 4) * 256 + (j 1).val = C
  have x0 : R / 2048 = t.val / 16 := by omega
  have x1 : C / 256 = t.val / 4 % 4 := by omega
  have x2 : R % 2048 = 512 * (3 - t.val % 4) + (j 0).val := by omega
  have x3 : C % 256 = (j 1).val := by omega
  show _ = (((fwdL D (R / 2048) (C / 256)).dq (R % 2048) (C % 256) : ℝ) : EReal)
  rw [x0, x1, x2, x3]

theorem arr13 (I : AllIns m c D) :
    (dats m 0 c).arrAt 13 cfg0.N = fun i => ((E2 (z := S8192x1024.size) (fdq D) i : ℝ) : EReal) := by
  refine Dat.arrAt_eq_of_cover (dats m 0 c) 13 _ (fl13 m c I) fun i => ?_
  have i0 : (i 0).val < 8192 := (i 0).isLt
  have i1 : (i 1).val < 1024 := (i 1).isLt
  obtain ⟨t, ht⟩ : ∃ t : Fin cfg0.N, t.val = 16 * ((i 0).val / 2048) + 4 * ((i 1).val / 256) + (3 - (i 0).val % 2048 / 512) := ⟨⟨_, N64 ▸ (by omega)⟩, rfl⟩
  refine ⟨t, flush0_13 t, ?_⟩
  have e : ((cfg0.win 13).blk t).view.emb (ix2 ⟨(i 0).val % 512, Nat.mod_lt _ (by decide)⟩ ⟨(i 1).val % 256, Nat.mod_lt _ (by decide)⟩) = i := by
    refine Shape.idx_ext₂ ?_ ?_
    · refine (Window.rect_emb_val win0_13 t _ 0).trans ?_
      rw [(ox13 t).1]
      show _ * 512 + (i 0).val % 512 = (i 0).val
      omega
    · refine (Window.rect_emb_val win0_13 t _ 1).trans ?_
      rw [(ox13 t).2]
      show _ * 256 + (i 1).val % 256 = (i 1).val
      omega
  exact e ▸ View.emb_mem_set _ _

theorem fl14 (I : AllIns m c D) (t : Fin cfg0.N) (hf : (cfg0.win 14).flush t = true) :
    (dats m 0 c).flushed 14 t = ((cfg0.win 14).blk t).view.read (Elt Ideal) (fun i => ((E2 (z := S8192x1024.size) (fdk D) i : ℝ) : EReal)) := by
  have h : Re (s := S512x256) (outsAt m c t.val t.isLt).2.1 _ := (at_all m c I t.val t.isLt).mid.q1
  have ht : t.val < 64 := N64 ▸ t.isLt
  show (cfg0.win 14).cut (grid0.coords t) ((dats m 0 c).after 14 t) = _
  rw [after0_14]
  funext j
  show (outsAt m c t.val t.isLt).2.1 j = ((fdk D ((win0_14.rect t).emb j 0 : ℕ) ((win0_14.rect t).emb j 1 : ℕ) : ℝ) : EReal)
  have j0 : (j 0).val < 512 := (j 0).isLt
  have j1 : (j 1).val < 256 := (j 1).isLt
  have e0 : ((win0_14.rect t).emb j 0 : ℕ) = win0_14.index t 0 * 512 + (j 0).val := Window.rect_emb_val win0_14 t j 0
  have e1 : ((win0_14.rect t).emb j 1 : ℕ) = win0_14.index t 1 * 256 + (j 1).val := Window.rect_emb_val win0_14 t j 1
  rw [e0, e1, (ox14 t).1, (ox14 t).2, h j]
  generalize hR : (4 * (t.val / 16) + (3 - t.val % 4)) * 512 + (j 0).val = R
  generalize hC : (t.val / 4 % 4) * 256 + (j 1).val = C
  have x0 : R / 2048 = t.val / 16 := by omega
  have x1 : C / 256 = t.val / 4 % 4 := by omega
  have x2 : R % 2048 = 512 * (3 - t.val % 4) + (j 0).val := by omega
  have x3 : C % 256 = (j 1).val := by omega
  show _ = (((fwdL D (R / 2048) (C / 256)).dk (R % 2048) (C % 256) : ℝ) : EReal)
  rw [x0, x1, x2, x3]

theorem arr14 (I : AllIns m c D) :
    (dats m 0 c).arrAt 14 cfg0.N = fun i => ((E2 (z := S8192x1024.size) (fdk D) i : ℝ) : EReal) := by
  refine Dat.arrAt_eq_of_cover (dats m 0 c) 14 _ (fl14 m c I) fun i => ?_
  have i0 : (i 0).val < 8192 := (i 0).isLt
  have i1 : (i 1).val < 1024 := (i 1).isLt
  obtain ⟨t, ht⟩ : ∃ t : Fin cfg0.N, t.val = 16 * ((i 0).val / 2048) + 4 * ((i 1).val / 256) + (3 - (i 0).val % 2048 / 512) := ⟨⟨_, N64 ▸ (by omega)⟩, rfl⟩
  refine ⟨t, flush0_14 t, ?_⟩
  have e : ((cfg0.win 14).blk t).view.emb (ix2 ⟨(i 0).val % 512, Nat.mod_lt _ (by decide)⟩ ⟨(i 1).val % 256, Nat.mod_lt _ (by decide)⟩) = i := by
    refine Shape.idx_ext₂ ?_ ?_
    · refine (Window.rect_emb_val win0_14 t _ 0).trans ?_
      rw [(ox14 t).1]
      show _ * 512 + (i 0).val % 512 = (i 0).val
      omega
    · refine (Window.rect_emb_val win0_14 t _ 1).trans ?_
      rw [(ox14 t).2]
      show _ * 256 + (i 1).val % 256 = (i 1).val
      omega
  exact e ▸ View.emb_mem_set _ _

theorem fl15 (I : AllIns m c D) (t : Fin cfg0.N) (hf : (cfg0.win 15).flush t = true) :
    (dats m 0 c).flushed 15 t = ((cfg0.win 15).blk t).view.read (Elt Ideal) (fun i => ((E2 (z := S8192x2048.size) (fdv D) i : ℝ) : EReal)) := by
  have h : Re (s := S512x512) (outsAt m c t.val t.isLt).2.2.1 _ := (at_all m c I t.val t.isLt).mid.q2
  have ht : t.val < 64 := N64 ▸ t.isLt
  show (cfg0.win 15).cut (grid0.coords t) ((dats m 0 c).after 15 t) = _
  rw [after0_15]
  funext j
  show (outsAt m c t.val t.isLt).2.2.1 j = ((fdv D ((win0_15.rect t).emb j 0 : ℕ) ((win0_15.rect t).emb j 1 : ℕ) : ℝ) : EReal)
  have j0 : (j 0).val < 512 := (j 0).isLt
  have j1 : (j 1).val < 512 := (j 1).isLt
  have e0 : ((win0_15.rect t).emb j 0 : ℕ) = win0_15.index t 0 * 512 + (j 0).val := Window.rect_emb_val win0_15 t j 0
  have e1 : ((win0_15.rect t).emb j 1 : ℕ) = win0_15.index t 1 * 512 + (j 1).val := Window.rect_emb_val win0_15 t j 1
  rw [e0, e1, (ox15 t).1, (ox15 t).2, h j]
  generalize hR : (4 * (t.val / 16) + (3 - t.val % 4)) * 512 + (j 0).val = R
  generalize hC : (t.val / 4 % 4) * 512 + (j 1).val = C
  have x0 : R / 2048 = t.val / 16 := by omega
  have x1 : C / 512 = t.val / 4 % 4 := by omega
  have x2 : R % 2048 = 512 * (3 - t.val % 4) + (j 0).val := by omega
  have x3 : C % 512 = (j 1).val := by omega
  show _ = (((fwdL D (R / 2048) (C / 512)).dv (R % 2048) (C % 512) : ℝ) : EReal)
  rw [x0, x1, x2, x3]

theorem arr15 (I : AllIns m c D) :
    (dats m 0 c).arrAt 15 cfg0.N = fun i => ((E2 (z := S8192x2048.size) (fdv D) i : ℝ) : EReal) := by
  refine Dat.arrAt_eq_of_cover (dats m 0 c) 15 _ (fl15 m c I) fun i => ?_
  have i0 : (i 0).val < 8192 := (i 0).isLt
  have i1 : (i 1).val < 2048 := (i 1).isLt
  obtain ⟨t, ht⟩ : ∃ t : Fin cfg0.N, t.val = 16 * ((i 0).val / 2048) + 4 * ((i 1).val / 512) + (3 - (i 0).val % 2048 / 512) := ⟨⟨_, N64 ▸ (by omega)⟩, rfl⟩
  refine ⟨t, flush0_15 t, ?_⟩
  have e : ((cfg0.win 15).blk t).view.emb (ix2 ⟨(i 0).val % 512, Nat.mod_lt _ (by decide)⟩ ⟨(i 1).val % 512, Nat.mod_lt _ (by decide)⟩) = i := by
    refine Shape.idx_ext₂ ?_ ?_
    · refine (Window.rect_emb_val win0_15 t _ 0).trans ?_
      rw [(ox15 t).1]
      show _ * 512 + (i 0).val % 512 = (i 0).val
      omega
    · refine (Window.rect_emb_val win0_15 t _ 1).trans ?_
      rw [(ox15 t).2]
      show _ * 512 + (i 1).val % 512 = (i 1).val
      omega
  exact e ▸ View.emb_mem_set _ _

theorem fl16 (I : AllIns m c D) (t : Fin cfg0.N) (hf : (cfg0.win 16).flush t = true) :
    (dats m 0 c).flushed 16 t = ((cfg0.win 16).blk t).view.read (Elt Ideal) (fun i => ((E2 (z := S1024x1024.size) (fdkc D) i : ℝ) : EReal)) := by
  have h : Re (s := S256x256) (outsAt m c t.val t.isLt).2.2.2.1 _ := ((at_all m c I t.val t.isLt).fin ((flush0_16 t).1 hf)).k3
  have ht : t.val < 64 := N64 ▸ t.isLt
  show (cfg0.win 16).cut (grid0.coords t) ((dats m 0 c).after 16 t) = _
  rw [after0_16]
  funext j
  show (outsAt m c t.val t.isLt).2.2.2.1 j = ((fdkc D ((win0_16.rect t).emb j 0 : ℕ) ((win0_16.rect t).emb j 1 : ℕ) : ℝ) : EReal)
  have j0 : (j 0).val < 256 := (j 0).isLt
  have j1 : (j 1).val < 256 := (j 1).isLt
  have e0 : ((win0_16.rect t).emb j 0 : ℕ) = win0_16.index t 0 * 256 + (j 0).val := Window.rect_emb_val win0_16 t j 0
  have e1 : ((win0_16.rect t).emb j 1 : ℕ) = win0_16.index t 1 * 256 + (j 1).val := Window.rect_emb_val win0_16 t j 1
  rw [e0, e1, (ox16 t).1, (ox16 t).2, h j]
  generalize hR : (t.val / 16) * 256 + (j 0).val = R
  generalize hC : (t.val / 4 % 4) * 256 + (j 1).val = C
  have x0 : R / 256 = t.val / 16 := by omega
  have x1 : C / 256 = t.val / 4 % 4 := by omega
  have x2 : R % 256 = (j 0).val := by omega
  have x3 : C % 256 = (j 1).val := by omega
  show _ = (((fwdL D (R / 256) (C / 256)).dkc (R % 256) (C % 256) : ℝ) : EReal)
  rw [x0, x1, x2, x3]

theorem arr16 (I : AllIns m c D) :
    (dats m 0 c).arrAt 16 cfg0.N = fun i => ((E2 (z := S1024x1024.size) (fdkc D) i : ℝ) : EReal) := by
  refine Dat.arrAt_eq_of_cover (dats m 0 c) 16 _ (fl16 m c I) fun i => ?_
  have i0 : (i 0).val < 1024 := (i 0).isLt
  have i1 : (i 1).val < 1024 := (i 1).isLt
  obtain ⟨t, ht⟩ : ∃ t : Fin cfg0.N, t.val = 16 * ((i 0).val / 256) + 4 * ((i 1).val / 256) + 3 := ⟨⟨_, N64 ▸ (by omega)⟩, rfl⟩
  refine ⟨t, (flush0_16 t).2 (by omega), ?_⟩
  have e : ((cfg0.win 16).blk t).view.emb (ix2 ⟨(i 0).val % 256, Nat.mod_lt _ (by decide)⟩ ⟨(i 1).val % 256, Nat.mod_lt _ (by decide)⟩) = i := by
    refine Shape.idx_ext₂ ?_ ?_
    · refine (Window.rect_emb_val win0_16 t _ 0).trans ?_
      rw [(ox16 t).1]
      show _ * 256 + (i 0).val % 256 = (i 0).val
      omega
    · refine (Window.rect_emb_val win0_16 t _ 1).trans ?_
      rw [(ox16 t).2]
      show _ * 256 + (i 1).val % 256 = (i 1).val
      omega
  exact e ▸ View.emb_mem_set _ _

theorem fl17 (I : AllIns m c D) (t : Fin cfg0.N) (hf : (cfg0.win 17).flush t = true) :
    (dats m 0 c).flushed 17 t = ((cfg0.win 17).blk t).view.read (Elt Ideal) (fun i => ((E2 (z := S1024x2048.size) (fdvc D) i : ℝ) : EReal)) := by
  have h : Re (s := S256x512) (outsAt m c t.val t.isLt).2.2.2.2.1 _ := ((at_all m c I t.val t.isLt).fin ((flush0_17 t).1 hf)).k4
  have ht : t.val < 64 := N64 ▸ t.isLt
  show (cfg0.win 17).cut (grid0.coords t) ((dats m 0 c).after 17 t) = _
  rw [after0_17]
  funext j
  show (outsAt m c t.val t.isLt).2.2.2.2.1 j = ((fdvc D ((win0_17.rect t).emb j 0 : ℕ) ((win0_17.rect t).emb j 1 : ℕ) : ℝ) : EReal)
  have j0 : (j 0).val < 256 := (j 0).isLt
  have j1 : (j 1).val < 512 := (j 1).isLt
  have e0 : ((win0_17.rect t).emb j 0 : ℕ) = win0_17.index t 0 * 256 + (j 0).val := Window.rect_emb_val win0_17 t j 0
  have e1 : ((win0_17.rect t).emb j 1 : ℕ) = win0_17.index t 1 * 512 + (j 1).val := Window.rect_emb_val win0_17 t j 1
  rw [e0, e1, (ox17 t).1, (ox17 t).2, h j]
  generalize hR : (t.val / 16) * 256 + (j 0).val = R
  generalize hC : (t.val / 4 % 4) * 512 + (j 1).val = C
  have x0 : R / 256 = t.val / 16 := by omega
  have x1 : C / 512 = t.val / 4 % 4 := by omega
  have x2 : R % 256 = (j 0).val := by omega
  have x3 : C % 512 = (j 1).val := by omega
  show _ = (((fwdL D (R / 256) (C / 512)).dvc (R % 256) (C % 512) : ℝ) : EReal)
  rw [x0, x1, x2, x3]

theorem arr17 (I : AllIns m c D) :
    (dats m 0 c).arrAt 17 cfg0.N = fun i => ((E2 (z := S1024x2048.size) (fdvc D) i : ℝ) : EReal) := by
  refine Dat.arrAt_eq_of_cover (dats m 0 c) 17 _ (fl17 m c I) fun i => ?_
  have i0 : (i 0).val < 1024 := (i 0).isLt
  have i1 : (i 1).val < 2048 := (i 1).isLt
  obtain ⟨t, ht⟩ : ∃ t : Fin cfg0.N, t.val = 16 * ((i 0).val / 256) + 4 * ((i 1).val / 512) + 3 := ⟨⟨_, N64 ▸ (by omega)⟩, rfl⟩
  refine ⟨t, (flush0_17 t).2 (by omega), ?_⟩
  have e : ((cfg0.win 17).blk t).view.emb (ix2 ⟨(i 0).val % 256, Nat.mod_lt _ (by decide)⟩ ⟨(i 1).val % 512, Nat.mod_lt _ (by decide)⟩) = i := by
    refine Shape.idx_ext₂ ?_ ?_
    · refine (Window.rect_emb_val win0_17 t _ 0).trans ?_
      rw [(ox17 t).1]
      show _ * 256 + (i 0).val % 256 = (i 0).val
      omega
    · refine (Window.rect_emb_val win0_17 t _ 1).trans ?_
      rw [(ox17 t).2]
      show _ * 512 + (i 1).val % 512 = (i 1).val
      omega
  exact e ▸ View.emb_mem_set _ _

theorem fl18 (I : AllIns m c D) (t : Fin cfg0.N) (hf : (cfg0.win 18).flush t = true) :
    (dats m 0 c).flushed 18 t = ((cfg0.win 18).blk t).view.read (Elt Ideal) (fun i => ((E4 (z := S4x4x8x128.size) (fdlg D) i : ℝ) : EReal)) := by
  have h : Re (s := S1x1x8x128) (outsAt m c t.val t.isLt).2.2.2.2.2.1 _ := ((at_all m c I t.val t.isLt).fin ((flush0_18 t).1 hf)).k5
  show (cfg0.win 18).cut (grid0.coords t) ((dats m 0 c).after 18 t) = _
  rw [after0_18]
  funext j
  show (outsAt m c t.val t.isLt).2.2.2.2.2.1 j = (((fwdL D ((win0_18.rect t).emb j 0 : ℕ) ((win0_18.rect t).emb j 1 : ℕ)).dlg : ℝ) : EReal)
  have j0 : (j 0).val < 1 := (j 0).isLt
  have j1 : (j 1).val < 1 := (j 1).isLt
  have e0 : ((win0_18.rect t).emb j 0 : ℕ) = win0_18.index t 0 * 1 + (j 0).val := Window.rect_emb_val win0_18 t j 0
  have e1 : ((win0_18.rect t).emb j 1 : ℕ) = win0_18.index t 1 * 1 + (j 1).val := Window.rect_emb_val win0_18 t j 1
  rw [e0, e1, (ox18 t).1, (ox18 t).2.1, h j]
  have x0 : t.val / 16 * 1 + (j 0).val = t.val / 16 := by omega
  have x1 : t.val / 4 % 4 * 1 + (j 1).val = t.val / 4 % 4 := by omega
  rw [x0, x1]

theorem arr18 (I : AllIns m c D) :
    (dats m 0 c).arrAt 18 cfg0.N = fun i => ((E4 (z := S4x4x8x128.size) (fdlg D) i : ℝ) : EReal) := by
  refine Dat.arrAt_eq_of_cover (dats m 0 c) 18 _ (fl18 m c I) fun i => ?_
  have i0 : (i 0).val < 4 := (i 0).isLt
  have i1 : (i 1).val < 4 := (i 1).isLt
  obtain ⟨t, ht⟩ : ∃ t : Fin cfg0.N, t.val = 16 * (i 0).val + 4 * (i 1).val + 3 := ⟨⟨_, N64 ▸ (by omega)⟩, rfl⟩
  refine ⟨t, (flush0_18 t).2 (by omega), ?_⟩
  have e : ((cfg0.win 18).blk t).view.emb (ix4 (n0 := 1) (n1 := 1) 0 0 (i 2) (i 3)) = i := by
    funext a
    refine Fin.ext ((Window.rect_emb_val win0_18 t _ a).trans ?_)
    match a with
    | 0 => rw [(ox18 t).1]; show _ * 1 + 0 = (i 0).val; omega
    | 1 => rw [(ox18 t).2.1]; show _ * 1 + 0 = (i 1).val; omega
    | 2 => rw [(ox18 t).2.2.1]; show _ * 8 + (i 2).val = (i 2).val; omega
    | 3 => rw [(ox18 t).2.2.2]; show _ * 128 + (i 3).val = (i 3).val; omega
  exact e ▸ View.emb_mem_set _ _

theorem fl19 (I : AllIns m c D) (t : Fin cfg0.N) (hf : (cfg0.win 19).flush t = true) :
    (dats m 0 c).flushed 19 t = ((cfg0.win 19).blk t).view.read (Elt Ideal) (fun i => ((E2 (z := S8192x1024.size) (rdq D) i : ℝ) : EReal)) := by
  have h : Re (s := S512x256) (outsAt m c t.val t.isLt).2.2.2.2.2.2.1 _ := (at_all m c I t.val t.isLt).mid.q6
  have ht : t.val < 64 := N64 ▸ t.isLt
  show (cfg0.win 19).cut (grid0.coords t) ((dats m 0 c).after 19 t) = _
  rw [after0_19]
  funext j
  show (outsAt m c t.val t.isLt).2.2.2.2.2.2.1 j = ((rdq D ((win0_19.rect t).emb j 0 : ℕ) ((win0_19.rect t).emb j 1 : ℕ) : ℝ) : EReal)
  have j0 : (j 0).val < 512 := (j 0).isLt
  have j1 : (j 1).val < 256 := (j 1).isLt
  have e0 : ((win0_19.rect t).emb j 0 : ℕ) = win0_19.index t 0 * 512 + (j 0).val := Window.rect_emb_val win0_19 t j 0
  have e1 : ((win0_19.rect t).emb j 1 : ℕ) = win0_19.index t 1 * 256 + (j 1).val := Window.rect_emb_val win0_19 t j 1
  rw [e0, e1, (ox19 t).1, (ox19 t).2, h j]
  generalize hR : (4 * (t.val / 16) + t.val % 4) * 512 + (j 0).val = R
  generalize hC : (t.val / 4 % 4) * 256 + (j 1).val = C
  have x0 : R / 2048 = t.val / 16 := by omega
  have x1 : C / 256 = t.val / 4 % 4 := by omega
  have x2 : 2048 - (R % 2048 + 1) = 512 * (3 - t.val % 4) + (511 - (j 0).val) := by omega
  have x3 : C % 256 = (j 1).val := by omega
  show _ = (((revL D (R / 2048) (C / 256)).dq (2048 - (R % 2048 + 1)) (C % 256) : ℝ) : EReal)
  rw [x0, x1, x2, x3]

theorem arr19 (I : AllIns m c D) :
    (dats m 0 c).arrAt 19 cfg0.N = fun i => ((E2 (z := S8192x1024.size) (rdq D) i : ℝ) : EReal) := by
  refine Dat.arrAt_eq_of_cover (dats m 0 c) 19 _ (fl19 m c I) fun i => ?_
  have i0 : (i 0).val < 8192 := (i 0).isLt
  have i1 : (i 1).val < 1024 := (i 1).isLt
  obtain ⟨t, ht⟩ : ∃ t : Fin cfg0.N, t.val = 16 * ((i 0).val / 2048) + 4 * ((i 1).val / 256) + (i 0).val % 2048 / 512 := ⟨⟨_, N64 ▸ (by omega)⟩, rfl⟩
  refine ⟨t, flush0_19 t, ?_⟩
  have e : ((cfg0.win 19).blk t).view.emb (ix2 ⟨(i 0).val % 512, Nat.mod_lt _ (by decide)⟩ ⟨(i 1).val % 256, Nat.mod_lt _ (by decide)⟩) = i := by
    refine Shape.idx_ext₂ ?_ ?_
    · refine (Window.rect_emb_val win0_19 t _ 0).trans ?_
      rw [(ox19 t).1]
      show _ * 512 + (i 0).val % 512 = (i 0).val
      omega
    · refine (Window.rect_emb_val win0_19 t _ 1).trans ?_
      rw [(ox19 t).2]
      show _ * 256 + (i 1).val % 256 = (i 1).val
      omega
  exact e ▸ View.emb_mem_set _ _

theorem fl20 (I : AllIns m c D) (t : Fin cfg0.N) (hf : (cfg0.win 20).flush t = true) :
    (dats m 0 c).flushed 20 t = ((cfg0.win 20).blk t).view.read (Elt Ideal) (fun i => ((E2 (z := S8192x1024.size) (rdk D) i : ℝ) : EReal)) := by
  have h : Re (s := S512x256) (outsAt m c t.val t.isLt).2.2.2.2.2.2.2.1 _ := (at_all m c I t.val t.isLt).mid.q7
  have ht : t.val < 64 := N64 ▸ t.isLt
  show (cfg0.win 20).cut (grid0.coords t) ((dats m 0 c).after 20 t) = _
  rw [after0_20]
  funext j
  show (outsAt m c t.val t.isLt).2.2.2.2.2.2.2.1 j = ((rdk D ((win0_20.rect t).emb j 0 : ℕ) ((win0_20.rect t).emb j 1 : ℕ) : ℝ) : EReal)
  have j0 : (j 0).val < 512 := (j 0).isLt
  have j1 : (j 1).val < 256 := (j 1).isLt
  have e0 : ((win0_20.rect t).emb j 0 : ℕ) = win0_20.index t 0 * 512 + (j 0).val := Window.rect_emb_val win0_20 t j 0
  have e1 : ((win0_20.rect t).emb j 1 : ℕ) = win0_20.index t 1 * 256 + (j 1).val := Window.rect_emb_val win0_20 t j 1
  rw [e0, e1, (ox20 t).1, (ox20 t).2, h j]
  generalize hR : (4 * (t.val / 16) + t.val % 4) * 512 + (j 0).val = R
  generalize hC : (t.val / 4 % 4) * 256 + (j 1).val = C
  have x0 : R / 2048 = t.val / 16 := by omega
  have x1 : C / 256 = t.val / 4 % 4 := by omega
  have x2 : 2048 - (R % 2048 + 1) = 512 * (3 - t.val % 4) + (511 - (j 0).val) := by omega
  have x3 : C % 256 = (j 1).val := by omega
  show _ = (((revL D (R / 2048) (C / 256)).dk (2048 - (R % 2048 + 1)) (C % 256) : ℝ) : EReal)
  rw [x0, x1, x2, x3]

theorem arr20 (I : AllIns m c D) :
    (dats m 0 c).arrAt 20 cfg0.N = fun i => ((E2 (z := S8192x1024.size) (rdk D) i : ℝ) : EReal) := by
  refine Dat.arrAt_eq_of_cover (dats m 0 c) 20 _ (fl20 m c I) fun i => ?_
  have i0 : (i 0).val < 8192 := (i 0).isLt
  have i1 : (i 1).val < 1024 := (i 1).isLt
  obtain ⟨t, ht⟩ : ∃ t : Fin cfg0.N, t.val = 16 * ((i 0).val / 2048) + 4 * ((i 1).val / 256) + (i 0).val % 2048 / 512 := ⟨⟨_, N64 ▸ (by omega)⟩, rfl⟩
  refine ⟨t, flush0_20 t, ?_⟩
  have e : ((cfg0.win 20).blk t).view.emb (ix2 ⟨(i 0).val % 512, Nat.mod_lt _ (by decide)⟩ ⟨(i 1).val % 256, Nat.mod_lt _ (by decide)⟩) = i := by
    refine Shape.idx_ext₂ ?_ ?_
    · refine (Window.rect_emb_val win0_20 t _ 0).trans ?_
      rw [(ox20 t).1]
      show _ * 512 + (i 0).val % 512 = (i 0).val
      omega
    · refine (Window.rect_emb_val win0_20 t _ 1).trans ?_
      rw [(ox20 t).2]
      show _ * 256 + (i 1).val % 256 = (i 1).val
      omega
  exact e ▸ View.emb_mem_set _ _

theorem fl21 (I : AllIns m c D) (t : Fin cfg0.N) (hf : (cfg0.win 21).flush t = true) :
    (dats m 0 c).flushed 21 t = ((cfg0.win 21).blk t).view.read (Elt Ideal) (fun i => ((E2 (z := S8192x2048.size) (rdv D) i : ℝ) : EReal)) := by
  have h : Re (s := S512x512) (outsAt m c t.val t.isLt).2.2.2.2.2.2.2.2.1 _ := (at_all m c I t.val t.isLt).mid.q8
  have ht : t.val < 64 := N64 ▸ t.isLt
  show (cfg0.win 21).cut (grid0.coords t) ((dats m 0 c).after 21 t) = _
  rw [after0_21]
  funext j
  show (outsAt m c t.val t.isLt).2.2.2.2.2.2.2.2.1 j = ((rdv D ((win0_21.rect t).emb j 0 : ℕ) ((win0_21.rect t).emb j 1 : ℕ) : ℝ) : EReal)
  have j0 : (j 0).val < 512 := (j 0).isLt
  have j1 : (j 1).val < 512 := (j 1).isLt
  have e0 : ((win0_21.rect t).emb j 0 : ℕ) = win0_21.index t 0 * 512 + (j 0).val := Window.rect_emb_val win0_21 t j 0
  have e1 : ((win0_21.rect t).emb j 1 : ℕ) = win0_21.index t 1 * 512 + (j 1).val := Window.rect_emb_val win0_21 t j 1
  rw [e0, e1, (ox21 t).1, (ox21 t).2, h j]
  generalize hR : (4 * (t.val / 16) + t.val % 4) * 512 + (j 0).val = R
  generalize hC : (t.val / 4 % 4) * 512 + (j 1).val = C
  have x0 : R / 2048 = t.val / 16 := by omega
  have x1 : C / 512 = t.val / 4 % 4 := by omega
  have x2 : 2048 - (R % 2048 + 1) = 512 * (3 - t.val % 4) + (511 - (j 0).val) := by omega
  have x3 : C % 512 = (j 1).val := by omega
  show _ = (((revL D (R / 2048) (C / 512)).dv (2048 - (R % 2048 + 1)) (C % 512) : ℝ) : EReal)
  rw [x0, x1, x2, x3]

theorem arr21 (I : AllIns m c D) :
    (dats m 0 c).arrAt 21 cfg0.N = fun i => ((E2 (z := S8192x2048.size) (rdv D) i : ℝ) : EReal) := by
  refine Dat.arrAt_eq_of_cover (dats m 0 c) 21 _ (fl21 m c I) fun i => ?_
  have i0 : (i 0).val < 8192 := (i 0).isLt
  have i1 : (i 1).val < 2048 := (i 1).isLt
  obtain ⟨t, ht⟩ : ∃ t : Fin cfg0.N, t.val = 16 * ((i 0).val / 2048) + 4 * ((i 1).val / 512) + (i 0).val % 2048 / 512 := ⟨⟨_, N64 ▸ (by omega)⟩, rfl⟩
  refine ⟨t, flush0_21 t, ?_⟩
  have e : ((cfg0.win 21).blk t).view.emb (ix2 ⟨(i 0).val % 512, Nat.mod_lt _ (by decide)⟩ ⟨(i 1).val % 512, Nat.mod_lt _ (by decide)⟩) = i := by
    refine Shape.idx_ext₂ ?_ ?_
    · refine (Window.rect_emb_val win0_21 t _ 0).trans ?_
      rw [(ox21 t).1]
      show _ * 512 + (i 0).val % 512 = (i 0).val
      omega
    · refine (Window.rect_emb_val win0_21 t _ 1).trans ?_
      rw [(ox21 t).2]
      show _ * 512 + (i 1).val % 512 = (i 1).val
      omega
  exact e ▸ View.emb_mem_set _ _

theorem fl22 (I : AllIns m c D) (t : Fin cfg0.N) (hf : (cfg0.win 22).flush t = true) :
    (dats m 0 c).flushed 22 t = ((cfg0.win 22).blk t).view.read (Elt Ideal) (fun i => ((E2 (z := S1024x1024.size) (rdkc D) i : ℝ) : EReal)) := by
  have h : Re (s := S256x256) (outsAt m c t.val t.isLt).2.2.2.2.2.2.2.2.2.1 _ := ((at_all m c I t.val t.isLt).fin ((flush0_22 t).1 hf)).k9
  have ht : t.val < 64 := N64 ▸ t.isLt
  show (cfg0.win 22).cut (grid0.coords t) ((dats m 0 c).after 22 t) = _
  rw [after0_22]
  funext j
  show (outsAt m c t.val t.isLt).2.2.2.2.2.2.2.2.2.1 j = ((rdkc D ((win0_22.rect t).emb j 0 : ℕ) ((win0_22.rect t).emb j 1 : ℕ) : ℝ) : EReal)
  have j0 : (j 0).val < 256 := (j 0).isLt
  have j1 : (j 1).val < 256 := (j 1).isLt
  have e0 : ((win0_22.rect t).emb j 0 : ℕ) = win0_22.index t 0 * 256 + (j 0).val := Window.rect_emb_val win0_22 t j 0
  have e1 : ((win0_22.rect t).emb j 1 : ℕ) = win0_22.index t 1 * 256 + (j 1).val := Window.rect_emb_val win0_22 t j 1
  rw [e0, e1, (ox22 t).1, (ox22 t).2, h j]
  generalize hR : (t.val / 16) * 256 + (j 0).val = R
  generalize hC : (t.val / 4 % 4) * 256 + (j 1).val = C
  have x0 : R / 256 = t.val / 16 := by omega
  have x1 : C / 256 = t.val / 4 % 4 := by omega
  have x2 : 256 - (R % 256 + 1) = 255 - (j 0).val := by omega
  have x3 : C % 256 = (j 1).val := by omega
  show _ = (((revL D (R / 256) (C / 256)).dkc (256 - (R % 256 + 1)) (C % 256) : ℝ) : EReal)
  rw [x0, x1, x2, x3]

theorem arr22 (I : AllIns m c D) :
    (dats m 0 c).arrAt 22 cfg0.N = fun i => ((E2 (z := S1024x1024.size) (rdkc D) i : ℝ) : EReal) := by
  refine Dat.arrAt_eq_of_cover (dats m 0 c) 22 _ (fl22 m c I) fun i => ?_
  have i0 : (i 0).val < 1024 := (i 0).isLt
  have i1 : (i 1).val < 1024 := (i 1).isLt
  obtain ⟨t, ht⟩ : ∃ t : Fin cfg0.N, t.val = 16 * ((i 0).val / 256) + 4 * ((i 1).val / 256) + 3 := ⟨⟨_, N64 ▸ (by omega)⟩, rfl⟩
  refine ⟨t, (flush0_22 t).2 (by omega), ?_⟩
  have e : ((cfg0.win 22).blk t).view.emb (ix2 ⟨(i 0).val % 256, Nat.mod_lt _ (by decide)⟩ ⟨(i 1).val % 256, Nat.mod_lt _ (by decide)⟩) = i := by
    refine Shape.idx_ext₂ ?_ ?_
    · refine (Window.rect_emb_val win0_22 t _ 0).trans ?_
      rw [(ox22 t).1]
      show _ * 256 + (i 0).val % 256 = (i 0).val
      omega
    · refine (Window.rect_emb_val win0_22 t _ 1).trans ?_
      rw [(ox22 t).2]
      show _ * 256 + (i 1).val % 256 = (i 1).val
      omega
  exact e ▸ View.emb_mem_set _ _

theorem fl23 (I : AllIns m c D) (t : Fin cfg0.N) (hf : (cfg0.win 23).flush t = true) :
    (dats m 0 c).flushed 23 t = ((cfg0.win 23).blk t).view.read (Elt Ideal) (fun i => ((E2 (z := S1024x2048.size) (rdvc D) i : ℝ) : EReal)) := by
  have h : Re (s := S256x512) (outsAt m c t.val t.isLt).2.2.2.2.2.2.2.2.2.2.1 _ := ((at_all m c I t.val t.isLt).fin ((flush0_23 t).1 hf)).k10
  have ht : t.val < 64 := N64 ▸ t.isLt
  show (cfg0.win 23).cut (grid0.coords t) ((dats m 0 c).after 23 t) = _
  rw [after0_23]
  funext j
  show (outsAt m c t.val t.isLt).2.2.2.2.2.2.2.2.2.2.1 j = ((rdvc D ((win0_23.rect t).emb j 0 : ℕ) ((win0_23.rect t).emb j 1 : ℕ) : ℝ) : EReal)
  have j0 : (j 0).val < 256 := (j 0).isLt
  have j1 : (j 1).val < 512 := (j 1).isLt
  have e0 : ((win0_23.rect t).emb j 0 : ℕ) = win0_23.index t 0 * 256 + (j 0).val := Window.rect_emb_val win0_23 t j 0
  have e1 : ((win0_23.rect t).emb j 1 : ℕ) = win0_23.index t 1 * 512 + (j 1).val := Window.rect_emb_val win0_23 t j 1
  rw [e0, e1, (ox23 t).1, (ox23 t).2, h j]
  generalize hR : (t.val / 16) * 256 + (j 0).val = R
  generalize hC : (t.val / 4 % 4) * 512 + (j 1).val = C
  have x0 : R / 256 = t.val / 16 := by omega
  have x1 : C / 512 = t.val / 4 % 4 := by omega
  have x2 : 256 - (R % 256 + 1) = 255 - (j 0).val := by omega
  have x3 : C % 512 = (j 1).val := by omega
  show _ = (((revL D (R / 256) (C / 512)).dvc (256 - (R % 256 + 1)) (C % 512) : ℝ) : EReal)
  rw [x0, x1, x2, x3]

theorem arr23 (I : AllIns m c D) :
    (dats m 0 c).arrAt 23 cfg0.N = fun i => ((E2 (z := S1024x2048.size) (rdvc D) i : ℝ) : EReal) := by
  refine Dat.arrAt_eq_of_cover (dats m 0 c) 23 _ (fl23 m c I) fun i => ?_
  have i0 : (i 0).val < 1024 := (i 0).isLt
  have i1 : (i 1).val < 2048 := (i 1).isLt
  obtain ⟨t, ht⟩ : ∃ t : Fin cfg0.N, t.val = 16 * ((i 0).val / 256) + 4 * ((i 1).val / 512) + 3 := ⟨⟨_, N64 ▸ (by omega)⟩, rfl⟩
  refine ⟨t, (flush0_23 t).2 (by omega), ?_⟩
  have e : ((cfg0.win 23).blk t).view.emb (ix2 ⟨(i 0).val % 256, Nat.mod_lt _ (by decide)⟩ ⟨(i 1).val % 512, Nat.mod_lt _ (by decide)⟩) = i := by
    refine Shape.idx_ext₂ ?_ ?_
    · refine (Window.rect_emb_val win0_23 t _ 0).trans ?_
      rw [(ox23 t).1]
      show _ * 256 + (i 0).val % 256 = (i 0).val
      omega
    · refine (Window.rect_emb_val win0_23 t _ 1).trans ?_
      rw [(ox23 t).2]
      show _ * 512 + (i 1).val % 512 = (i 1).val
      omega
  exact e ▸ View.emb_mem_set _ _

theorem fl24 (I : AllIns m c D) (t : Fin cfg0.N) (hf : (cfg0.win 24).flush t = true) :
    (dats m 0 c).flushed 24 t = ((cfg0.win 24).blk t).view.read (Elt Ideal) (fun i => ((E4 (z := S4x4x8x128.size) (rdlg D) i : ℝ) : EReal)) := by
  have h : Re (s := S1x1x8x128) (outsAt m c t.val t.isLt).2.2.2.2.2.2.2.2.2.2.2.1 _ := ((at_all m c I t.val t.isLt).fin ((flush0_24 t).1 hf)).k11
  show (cfg0.win 24).cut (grid0.coords t) ((dats m 0 c).after 24 t) = _
  rw [after0_24]
  funext j
  show (outsAt m c t.val t.isLt).2.2.2.2.2.2.2.2.2.2.2.1 j = (((revL D ((win0_24.rect t).emb j 0 : ℕ) ((win0_24.rect t).emb j 1 : ℕ)).dlg : ℝ) : EReal)
  have j0 : (j 0).val < 1 := (j 0).isLt
  have j1 : (j 1).val < 1 := (j 1).isLt
  have e0 : ((win0_24.rect t).emb j 0 : ℕ) = win0_24.index t 0 * 1 + (j 0).val := Window.rect_emb_val win0_24 t j 0
  have e1 : ((win0_24.rect t).emb j 1 : ℕ) = win0_24.index t 1 * 1 + (j 1).val := Window.rect_emb_val win0_24 t j 1
  rw [e0, e1, (ox24 t).1, (ox24 t).2.1, h j]
  have x0 : t.val / 16 * 1 + (j 0).val = t.val / 16 := by omega
  have x1 : t.val / 4 % 4 * 1 + (j 1).val = t.val / 4 % 4 := by omega
  rw [x0, x1]

theorem arr24 (I : AllIns m c D) :
    (dats m 0 c).arrAt 24 cfg0.N = fun i => ((E4 (z := S4x4x8x128.size) (rdlg D) i : ℝ) : EReal) := by
  refine Dat.arrAt_eq_of_cover (dats m 0 c) 24 _ (fl24 m c I) fun i => ?_
  have i0 : (i 0).val < 4 := (i 0).isLt
  have i1 : (i 1).val < 4 := (i 1).isLt
  obtain ⟨t, ht⟩ : ∃ t : Fin cfg0.N, t.val = 16 * (i 0).val + 4 * (i 1).val + 3 := ⟨⟨_, N64 ▸ (by omega)⟩, rfl⟩
  refine ⟨t, (flush0_24 t).2 (by omega), ?_⟩
  have e : ((cfg0.win 24).blk t).view.emb (ix4 (n0 := 1) (n1 := 1) 0 0 (i 2) (i 3)) = i := by
    funext a
    refine Fin.ext ((Window.rect_emb_val win0_24 t _ a).trans ?_)
    match a with
    | 0 => rw [(ox24 t).1]; show _ * 1 + 0 = (i 0).val; omega
    | 1 => rw [(ox24 t).2.1]; show _ * 1 + 0 = (i 1).val; omega
    | 2 => rw [(ox24 t).2.2.1]; show _ * 8 + (i 2).val = (i 2).val; omega
    | 3 => rw [(ox24 t).2.2.2]; show _ * 128 + (i 3).val = (i 3).val; omega
  exact e ▸ View.emb_mem_set _ _

end Cert.KernelIdeal.Own
-- ==== Proof.Acc.lean ====
/- Products of matrices computed a block of the contracted dimension at a time: the running sums. -/
module

public import Idealize.ShloMosaic.Lib.Pipeline.Value
public import Idealize.ShloMosaic.Lib.ValueIdx
public import Idealize.ShloMosaic.Lib.VecWindow
public import Idealize.ShloMosaic.Lib.Tactic
public import Idealize.ShloMosaic.PureOps.Ideal.Laws

@[expose] public section

noncomputable section

namespace Cert.Own

open Idealize.ShloMosaic

theorem zero2 : (![0, 0] : Fin 2 → ℕ) = fun _ => 0 := funext fun a => by fin_cases a <;> rfl

/-- An array of two dimensions read at natural coordinates, zero outside it. -/
def nat2 {z : Fin 2 → ℕ} (X : (⟨2, z⟩ : Shape).Idx → EReal) (r c : ℕ) : EReal :=
  if h : r < z 0 ∧ c < z 1 then X (fun a => match a with | ⟨0, _⟩ => ⟨r, h.1⟩ | ⟨1, _⟩ => ⟨c, h.2⟩) else 0

theorem nat2_eq {z : Fin 2 → ℕ} (X : (⟨2, z⟩ : Shape).Idx → EReal) (j : (⟨2, z⟩ : Shape).Idx) {r c : ℕ}
    (hr : (j 0).val = r) (hc : (j 1).val = c) : X j = nat2 X r c := by
  subst hr hc
  rw [nat2, dif_pos ⟨(j 0).isLt, (j 1).isLt⟩]
  congr 1
  funext a
  match a with
  | ⟨0, _⟩ => rfl
  | ⟨1, _⟩ => rfl

section Whole

variable {sig : RefSig} {κ : Kind} {sp : Space} {e : EltTy} {Val : EltTy → Type} {a b : ℕ} (v : View sig κ sp ⟨2, ![a, b]⟩ e)
  (inb : ∀ d, (![0, 0] : Fin 2 → ℕ) d + (![a, b] : Fin 2 → ℕ) d ≤ (⟨2, ![a, b]⟩ : Shape).size d)

/-- A store of the whole of a view leaves what was stored, and a load of the whole reads what is there. -/
theorem store2 (f : v.ty.Contents Val) (w : (Rect.unit (s := ⟨2, ![a, b]⟩) ![0, 0] ![a, b] inb).shape.Idx → Val e)
    (L : List (View.Piece Val ⟨2, ![a, b]⟩ e)) : v.read Val (v.writes Val f (⟨Rect.unit ![0, 0] ![a, b] inb, w⟩ :: L)) = w :=
  View.read_writes_full v f inb w L

theorem load2 (f : v.ty.Contents Val) : v.readAt Val (Rect.unit (s := ⟨2, ![a, b]⟩) ![0, 0] ![a, b] inb).toLoadRect f = v.read Val f :=
  View.readAt_full v f inb

theorem cov2 [∀ e, Nonempty (Val e)] (w : (Rect.unit (s := ⟨2, ![a, b]⟩) ![0, 0] ![a, b] inb).shape.Idx → Val e)
    (L : List (View.Piece Val ⟨2, ![a, b]⟩ e)) :
    v.readCov (⟨Rect.unit ![0, 0] ![a, b] inb, w⟩ :: L) (Rect.unit ![0, 0] ![a, b] inb).toLoadRect = w :=
  View.readCov_full v inb inb w L

end Whole

theorem zero3 : (![0, 0, 0] : Fin 3 → ℕ) = fun _ => 0 := funext fun a => by fin_cases a <;> rfl

theorem load3 {sig : RefSig} {κ : Kind} {sp : Space} {e : EltTy} {Val : EltTy → Type} {a b d : ℕ} (v : View sig κ sp ⟨3, ![a, b, d]⟩ e)
    (inb : ∀ x, (![0, 0, 0] : Fin 3 → ℕ) x + (![a, b, d] : Fin 3 → ℕ) x ≤ (⟨3, ![a, b, d]⟩ : Shape).size x) (f : v.ty.Contents Val) :
    v.readAt Val (Rect.unit (s := ⟨3, ![a, b, d]⟩) ![0, 0, 0] ![a, b, d] inb).toLoadRect f = v.read Val f :=
  View.readAt_full v f inb

/-- An array of three dimensions read at natural coordinates, zero outside it. -/
def nat3 {z : Fin 3 → ℕ} (X : (⟨3, z⟩ : Shape).Idx → EReal) (p q r : ℕ) : EReal :=
  if h : p < z 0 ∧ q < z 1 ∧ r < z 2 then X (fun a => match a with | ⟨0, _⟩ => ⟨p, h.1⟩ | ⟨1, _⟩ => ⟨q, h.2.1⟩ | ⟨2, _⟩ => ⟨r, h.2.2⟩) else 0

theorem nat3_eq {z : Fin 3 → ℕ} (X : (⟨3, z⟩ : Shape).Idx → EReal) (j : (⟨3, z⟩ : Shape).Idx) {p q r : ℕ}
    (h0 : (j 0).val = p) (h1 : (j 1).val = q) (h2 : (j 2).val = r) : X j = nat3 X p q r := by
  subst h0 h1 h2
  rw [nat3, dif_pos ⟨(j 0).isLt, (j 1).isLt, (j 2).isLt⟩]
  congr 1
  funext a
  match a with
  | ⟨0, _⟩ => rfl
  | ⟨1, _⟩ => rfl
  | ⟨2, _⟩ => rfl

/-- A row of gates repeated over the rows of a block. -/
theorem gate_row (v : FVec Ideal ⟨3, ![1, 1, 512]⟩ .f32) (h : Shape.ShapeCasts ⟨3, ![1, 1, 512]⟩ ⟨2, ![1, 512]⟩)
    (h' : Shape.Broadcasts ⟨2, ![1, 512]⟩ ⟨2, ![1024, 512]⟩) (x : (⟨2, ![1024, 512]⟩ : Shape).Idx) {g : EReal}
    (hv : ∀ y : (⟨3, ![1, 1, 512]⟩ : Shape).Idx, (y 2).val = (x 1).val → v y = g) :
    broadcastTo ⟨2, ![1024, 512]⟩ (shapeCast ⟨2, ![1, 512]⟩ v h) h' x = g := by
  have hx : (x 1).val < 512 := (x 1).isLt
  refine (broadcastTo_apply _ _ x (fun a => match a with | ⟨0, _⟩ => ⟨0, Nat.one_pos⟩ | ⟨1, _⟩ => ⟨(x 1).val, hx⟩ : (⟨2, ![1, 512]⟩ : Shape).Idx)
    (fun a => ?_)).trans ?_
  · match a with
    | ⟨0, _⟩ => show 0 = (if (1 : ℕ) = 1 then 0 else (x 0).val); rw [if_pos rfl]
    | ⟨1, _⟩ => show (x 1).val = (if (512 : ℕ) = 1 then 0 else (x 1).val); rw [if_neg (by decide)]
  refine (shapeCast_apply _ _ _ (fun a => match a with | ⟨0, _⟩ => ⟨0, Nat.one_pos⟩ | ⟨1, _⟩ => ⟨0, Nat.one_pos⟩ | ⟨2, _⟩ => ⟨(x 1).val, hx⟩ :
    (⟨3, ![1, 1, 512]⟩ : Shape).Idx) (by rw [Shape.rowMajor_val_three, Shape.rowMajor_val_two]; show (0 * 1 + 0) * 512 + (x 1).val = 0 * 512 + (x 1).val; omega)).trans ?_
  exact hv _ rfl

/-- A place of a block is the array's place at the block's corner and the offset. -/
theorem nat2_blk {z : Fin 2 → ℕ} (X : (⟨2, z⟩ : Shape).Idx → EReal) (j : (⟨2, z⟩ : Shape).Idx) {i0 i1 t0 t1 y0 y1 p q : ℕ}
    (e0 : i0 = p) (e1 : i1 = q) (h0 : (j 0).val = i0 * t0 + 1 * y0) (h1 : (j 1).val = i1 * t1 + 1 * y1) :
    X j = nat2 X (p * t0 + y0) (q * t1 + y1) :=
  nat2_eq X j (by rw [h0, e0, one_mul]) (by rw [h1, e1, one_mul])

theorem zero_off (a b : ℕ) : 0 * a + b = b := by omega

/-- Row `r` of the first factor against row `s` of the second, over `n` summands. -/
def prod (n : ℕ) (A B : ℕ → ℕ → EReal) (r s : ℕ) : EReal := ∑ k ∈ Finset.range n, A r k * B s k

/-- A step's own summands of that, `tk` of them, at a place of the step's block. -/
abbrev share (nk tk tm tn : ℕ) (A B : ℕ → ℕ → EReal) (I J : ℕ → ℕ) (j : (⟨2, ![tm, tn]⟩ : Shape).Idx) (n : ℕ) : EReal :=
  ∑ k ∈ Finset.range tk, A (I (n / nk) * tm + (j 0).val) (n % nk * tk + k) * B (J (n / nk) * tn + (j 1).val) (n % nk * tk + k)

/-- The kernel's matrix product over one contracted dimension, from zero, as a sum over natural coordinates. -/
theorem matmul_sum {sl sr so : Shape} {φ₁ φ₂ : FTy} (d : DotDims sl sr so) (n : ℕ) (h1 : d.contr.rank = 1)
    (h2 : d.contr.size ⟨0, by omega⟩ = n) (X : FVec Ideal sl φ₁) (Y : FVec Ideal sr φ₂) (prec : Option ContractPrecision)
    (j : so.Idx) (F G : ℕ → EReal) (hF : ∀ k : Fin n, X (d.lhsIdx j ((ValueIdx.contrEquiv1 d n h1 h2).symm k)) = F k.val)
    (hG : ∀ k : Fin n, Y (d.rhsIdx j ((ValueIdx.contrEquiv1 d n h1 h2).symm k)) = G k.val) :
    matmul (F := Ideal) d prec X Y (constant so .f32 0x00000000#32) j = ∑ k ∈ Finset.range n, F k * G k := by
  simp only [matmul]
  rw [Ideal.matmul_constant_zero_apply, ← Equiv.sum_comp (ValueIdx.contrEquiv1 d n h1 h2).symm, Finset.sum_range]
  exact Finset.sum_congr rfl fun k _ => by rw [hF, hG]

/-- A running sum restarted every `nk` steps, each step adding the next `b` terms of its run `n / nk`: after step `n`
    it is the sum of the run's first `(n % nk + 1) * b` terms. -/
theorem acc_sum {N : ℕ} (nk b : ℕ) (S : ∀ n, n < N → EReal) (g : ℕ → ℕ → EReal)
    (hA : ∀ n h, n % nk = 0 → S n h = ∑ k ∈ Finset.range b, g (n / nk) (n % nk * b + k))
    (hB : ∀ n h, ¬(n % nk = 0) → S n h = S (n - 1) (Nat.lt_of_le_of_lt (Nat.sub_le _ _) h)
      + ∑ k ∈ Finset.range b, g (n / nk) (n % nk * b + k)) :
    ∀ n h, S n h = ∑ k ∈ Finset.range ((n % nk + 1) * b), g (n / nk) k := by
  intro n
  induction n with
  | zero => intro h; rw [hA 0 h (Nat.zero_mod _)]; simp
  | succ n ih =>
    intro h
    by_cases h0 : (n + 1) % nk = 0
    · rw [hA _ h h0, h0]; simp
    · have hd : n / nk = (n + 1) / nk := by
        rw [Nat.succ_div, if_neg (fun e => h0 (Nat.mod_eq_zero_of_dvd e)), Nat.add_zero]
      have hm : n % nk + 1 = (n + 1) % nk := by
        have e1 := Nat.div_add_mod n nk
        have e2 := Nat.div_add_mod (n + 1) nk
        rw [hd] at e1
        omega
      rw [hB _ h h0]
      show S n _ + _ = _
      rw [ih, hd, hm, add_mul, one_mul, Finset.sum_range_add]

/-- So the running sum at the last step of a run is the whole product, at the place of the run's block. -/
theorem acc_prod {N nk tk tm tn : ℕ} (A B : ℕ → ℕ → EReal) (I J : ℕ → ℕ) (S : (⟨2, ![tm, tn]⟩ : Shape).Idx → ∀ n, n < N → EReal)
    (hA : ∀ j n h, n % nk = 0 → S j n h = share nk tk tm tn A B I J j n)
    (hB : ∀ j n h, ¬(n % nk = 0) → S j n h = S j (n - 1) (Nat.lt_of_le_of_lt (Nat.sub_le _ _) h) + share nk tk tm tn A B I J j n)
    (j : (⟨2, ![tm, tn]⟩ : Shape).Idx) (p : ℕ) (hp : p < N) {r s n : ℕ} (hn : (p % nk + 1) * tk = n)
    (hr : I (p / nk) * tm + (j 0).val = r) (hs : J (p / nk) * tn + (j 1).val = s) : S j p hp = prod n A B r s := by
  subst hn hr hs
  exact acc_sum nk tk (S j) (fun q k => A (I q * tm + (j 0).val) k * B (J q * tn + (j 1).val) k) (hA j) (hB j) p hp

/-- The gate of a feed-forward layer: the rows times their logistic, times the other half. -/
def glu (g u : EReal) : EReal := g * Idealize.ShloMosaic.Ideal.logistic g * u

theorem one_bits : FloatOps.ofBits (F := Ideal) .f32 0x3F800000#32 = (1 : EReal) := by
  show Idealize.ShloMosaic.Ideal.ofBits .f32 0x3F800000#32 = 1
  simp [Idealize.ShloMosaic.Ideal.ofBits, Idealize.ShloMosaic.Ideal.ieee, -EReal.coe_mul]
  norm_num

/-- The logistic written out by its division is the gate's. -/
theorem silu_mul {h : FTy.bf16.bits < FTy.f32.bits} (g u : EReal) : FloatOps.truncf (F := Ideal) .bf16 h (FloatOps.mulf (FloatOps.mulf g (FloatOps.hostDivf (φ := .f32)
    (FloatOps.ofBits .f32 0x3F800000#32) (FloatOps.addf (FloatOps.ofBits .f32 0x3F800000#32) (FloatOps.hostUnary .exp (FloatOps.hostNegf g))))) u) = glu g u := by
  rw [one_bits]
  rfl

theorem real_of_abs_lt {x y : EReal} (h : Ideal.cmp .olt (max x (-x)) y = 1#1) : ((x.toReal : ℝ) : EReal) = x := by
  have hlt : max x (-x) < y := by
    by_contra hn
    simp [Ideal.cmp, hn] at h
  have ht : max x (-x) < ⊤ := lt_of_lt_of_le hlt le_top
  refine EReal.coe_toReal (fun e => ?_) fun e => ?_
  · exact absurd (e ▸ lt_of_le_of_lt (le_max_left _ _) ht) (lt_irrefl _)
  · rw [e] at ht
    exact absurd (lt_of_le_of_lt (le_max_right _ _) ht) (by simp)

theorem real_of_finite {s : Shape} {φ : FTy} {X Y : FVec Ideal s φ} (h : cmpf .olt (Host.absf X) Y = fun _ => 1#1) (j : s.Idx) : ∃ x : ℝ, X j = (x : EReal) :=
  ⟨_, (real_of_abs_lt (congrFun h j)).symm⟩

theorem nat2_real {z : Fin 2 → ℕ} {X : (⟨2, z⟩ : Shape).Idx → EReal} (h : ∀ j, ∃ x : ℝ, X j = (x : EReal)) (r c : ℕ) : ∃ x : ℝ, nat2 X r c = (x : EReal) := by
  unfold nat2
  split
  · exact h _
  · exact ⟨0, rfl⟩

/-- A sum of products of reals is a real. -/
theorem prod_real (n : ℕ) {A B : ℕ → ℕ → EReal} (hA : ∀ r k, ∃ x : ℝ, A r k = (x : EReal)) (hB : ∀ r k, ∃ x : ℝ, B r k = (x : EReal)) (r s : ℕ) :
    ∃ x : ℝ, prod n A B r s = (x : EReal) := by
  unfold prod
  induction n with
  | zero => exact ⟨0, rfl⟩
  | succ n ih =>
    obtain ⟨x, hx⟩ := ih
    obtain ⟨a, ha⟩ := hA r n
    obtain ⟨b, hb⟩ := hB s n
    exact ⟨x + a * b, by rw [Finset.sum_range_succ, hx, ha, hb, EReal.coe_add, EReal.coe_mul]⟩

/-- The gate's gradient, from the gradient `a` of the gated product, and the same by the rule of the product. -/
def dgate (a g u : EReal) : EReal := a * u * (Ideal.logistic g * (1 + g * (1 - Ideal.logistic g)))

theorem dgate_eq {a g u : EReal} (ha : ∃ x : ℝ, a = (x : EReal)) (hg : ∃ x : ℝ, g = (x : EReal)) (hu : ∃ x : ℝ, u = (x : EReal)) :
    a * u * Ideal.logistic g + g * (a * u) * (Ideal.logistic g * (1 - Ideal.logistic g)) = dgate a g u := by
  obtain ⟨a, rfl⟩ := ha
  obtain ⟨g, rfl⟩ := hg
  obtain ⟨u, rfl⟩ := hu
  rw [dgate, Ideal.logistic_coe, ← EReal.coe_one]
  generalize (1 + Real.exp (-g))⁻¹ = l
  simp only [← EReal.coe_mul, ← EReal.coe_add, ← EReal.coe_sub]
  congr 1
  ring

end Cert.Own
-- ==== Proof.Wins.lean ====
/- The blocks a grid point reads: the chunk of its example's and head's rows, and the states the host prepared. -/
module

public import proofs.«01_k».proof.Proof.Step
public import proofs.«01_k».proof.Proof.Link

@[expose] public section

set_option maxRecDepth 8192

noncomputable section

namespace Cert.KernelIdeal.Own

open Cert.KernelIdeal Cert.KernelIdeal.Gen Cert.Own Idealize.ShloMosaic Idealize.ShloMosaic.TcCoe
open Idealize.SL.Sem Idealize.ShloMosaic.Pipeline

variable (m : (ℓ : Loc nD τ sig) → Buf (Elt Ideal) ℓ) (c : Dev nD) {D : Data}

theorem ix1 : ∀ t : Fin grid0.N, win0_1.index t 0 = 4 * (t.val / 16) + (3 - t.val % 4) ∧ win0_1.index t 1 = t.val / 4 % 4 := by decide +kernel
theorem ix2 : ∀ t : Fin grid0.N, win0_2.index t 0 = 4 * (t.val / 16) + (3 - t.val % 4) ∧ win0_2.index t 1 = 4 + t.val / 4 % 4 := by decide +kernel
theorem ix3 : ∀ t : Fin grid0.N, win0_3.index t 0 = 4 * (t.val / 16) + (3 - t.val % 4) ∧ win0_3.index t 1 = 4 + t.val / 4 % 4 := by decide +kernel
theorem ix5 : ∀ t : Fin grid0.N, win0_5.index t 0 = 4 * (t.val / 16) + (3 - t.val % 4) ∧ win0_5.index t 1 = t.val / 4 % 4 := by decide +kernel
theorem ix6 : ∀ t : Fin grid0.N, win0_6.index t 0 = 4 * (t.val / 16) + t.val % 4 ∧ win0_6.index t 1 = t.val / 4 % 4 := by decide +kernel
theorem ix7 : ∀ t : Fin grid0.N, win0_7.index t 0 = 4 * (t.val / 16) + t.val % 4 ∧ win0_7.index t 1 = 4 + t.val / 4 % 4 := by decide +kernel
theorem ix8 : ∀ t : Fin grid0.N, win0_8.index t 0 = 4 * (t.val / 16) + t.val % 4 ∧ win0_8.index t 1 = 4 + t.val / 4 % 4 := by decide +kernel
theorem ix10 : ∀ t : Fin grid0.N, win0_10.index t 0 = 4 * (t.val / 16) + t.val % 4 ∧ win0_10.index t 1 = t.val / 4 % 4 := by decide +kernel
theorem ix11 : ∀ t : Fin grid0.N, win0_11.index t 0 = 32 + t.val / 16 ∧ win0_11.index t 1 = 4 + t.val / 4 % 4 := by decide +kernel
theorem ix12 : ∀ t : Fin grid0.N, win0_12.index t 0 = 32 + t.val / 16 ∧ win0_12.index t 1 = 4 + t.val / 4 % 4 := by decide +kernel
theorem ix4 : ∀ t : Fin grid0.N, win0_4.index t 0 = t.val / 16 ∧ win0_4.index t 1 = t.val / 4 % 4 ∧ win0_4.index t 2 = 3 - t.val % 4 ∧ win0_4.index t 3 = 0 ∧ win0_4.index t 4 = 0 := by decide +kernel
theorem ix9 : ∀ t : Fin grid0.N, win0_9.index t 0 = t.val / 16 ∧ win0_9.index t 1 = t.val / 4 % 4 ∧ win0_9.index t 2 = t.val % 4 ∧ win0_9.index t 3 = 0 ∧ win0_9.index t 4 = 0 := by decide +kernel
theorem co1 : ∀ t : Fin grid0.N, BitVec.toNat (Scalar.indexCast (BitVec.ofNat 32 ↑(grid0.coords t 1))) = t.val / 4 % 4 := by decide +kernel

theorem in1 (g : Re (s := S9216x2048) (m ((c : Thread nD τ).loc main_arg0)) (E2 D.A0)) (t : Fin cfg0.N) :
    Re (s := S512x256) (iblk m c 1 t) (E2 fun i d => D.A0 ((4 * (t.val / 16) + (3 - t.val % 4)) * 512 + i) ((t.val / 4 % 4) * 256 + d)) := fun j => by
  have e : iblk m c 1 t j = V m c main_arg0 ((win0_1.rect t).emb j) := rfl
  rw [e, V_main_arg0]
  refine (g _).trans ?_
  show ((D.A0 ((win0_1.rect t).emb j 0 : ℕ) ((win0_1.rect t).emb j 1 : ℕ) : ℝ) : EReal) = _
  rw [Window.rect_emb_val win0_1 t j 0, Window.rect_emb_val win0_1 t j 1, (ix1 t).1, (ix1 t).2]
  rfl

theorem in2 (g : Re (s := S9216x2048) (m ((c : Thread nD τ).loc main_arg0)) (E2 D.A0)) (t : Fin cfg0.N) :
    Re (s := S512x256) (iblk m c 2 t) (E2 fun i d => D.A0 ((4 * (t.val / 16) + (3 - t.val % 4)) * 512 + i) ((4 + t.val / 4 % 4) * 256 + d)) := fun j => by
  have e : iblk m c 2 t j = V m c main_arg0 ((win0_2.rect t).emb j) := rfl
  rw [e, V_main_arg0]
  refine (g _).trans ?_
  show ((D.A0 ((win0_2.rect t).emb j 0 : ℕ) ((win0_2.rect t).emb j 1 : ℕ) : ℝ) : EReal) = _
  rw [Window.rect_emb_val win0_2 t j 0, Window.rect_emb_val win0_2 t j 1, (ix2 t).1, (ix2 t).2]
  rfl

theorem in3 (g : Re (s := S9216x6144) (m ((c : Thread nD τ).loc main_arg1)) (E2 D.A1)) (t : Fin cfg0.N) :
    Re (s := S512x512) (iblk m c 3 t) (E2 fun i d => D.A1 ((4 * (t.val / 16) + (3 - t.val % 4)) * 512 + i) ((4 + t.val / 4 % 4) * 512 + d)) := fun j => by
  have e : iblk m c 3 t j = V m c main_arg1 ((win0_3.rect t).emb j) := rfl
  rw [e, V_main_arg1]
  refine (g _).trans ?_
  show ((D.A1 ((win0_3.rect t).emb j 0 : ℕ) ((win0_3.rect t).emb j 1 : ℕ) : ℝ) : EReal) = _
  rw [Window.rect_emb_val win0_3 t j 0, Window.rect_emb_val win0_3 t j 1, (ix3 t).1, (ix3 t).2]
  rfl

theorem in5 (g : Re (s := S8192x2048) (m ((c : Thread nD τ).loc main_arg3)) (E2 D.DO)) (t : Fin cfg0.N) :
    Re (s := S512x512) (iblk m c 5 t) (E2 fun i d => D.DO ((4 * (t.val / 16) + (3 - t.val % 4)) * 512 + i) ((t.val / 4 % 4) * 512 + d)) := fun j => by
  have e : iblk m c 5 t j = V m c main_arg3 ((win0_5.rect t).emb j) := rfl
  rw [e, V_main_arg3]
  refine (g _).trans ?_
  show ((D.DO ((win0_5.rect t).emb j 0 : ℕ) ((win0_5.rect t).emb j 1 : ℕ) : ℝ) : EReal) = _
  rw [Window.rect_emb_val win0_5 t j 0, Window.rect_emb_val win0_5 t j 1, (ix5 t).1, (ix5 t).2]
  rfl

theorem in6 (g : Re (s := S9216x2048) (m ((c : Thread nD τ).loc main_arg0)) (E2 D.A0)) (t : Fin cfg0.N) :
    Re (s := S512x256) (iblk m c 6 t) (E2 fun i d => D.A0 ((4 * (t.val / 16) + t.val % 4) * 512 + i) ((t.val / 4 % 4) * 256 + d)) := fun j => by
  have e : iblk m c 6 t j = V m c main_arg0 ((win0_6.rect t).emb j) := rfl
  rw [e, V_main_arg0]
  refine (g _).trans ?_
  show ((D.A0 ((win0_6.rect t).emb j 0 : ℕ) ((win0_6.rect t).emb j 1 : ℕ) : ℝ) : EReal) = _
  rw [Window.rect_emb_val win0_6 t j 0, Window.rect_emb_val win0_6 t j 1, (ix6 t).1, (ix6 t).2]
  rfl

theorem in7 (g : Re (s := S9216x2048) (m ((c : Thread nD τ).loc main_arg0)) (E2 D.A0)) (t : Fin cfg0.N) :
    Re (s := S512x256) (iblk m c 7 t) (E2 fun i d => D.A0 ((4 * (t.val / 16) + t.val % 4) * 512 + i) ((4 + t.val / 4 % 4) * 256 + d)) := fun j => by
  have e : iblk m c 7 t j = V m c main_arg0 ((win0_7.rect t).emb j) := rfl
  rw [e, V_main_arg0]
  refine (g _).trans ?_
  show ((D.A0 ((win0_7.rect t).emb j 0 : ℕ) ((win0_7.rect t).emb j 1 : ℕ) : ℝ) : EReal) = _
  rw [Window.rect_emb_val win0_7 t j 0, Window.rect_emb_val win0_7 t j 1, (ix7 t).1, (ix7 t).2]
  rfl

theorem in8 (g : Re (s := S9216x6144) (m ((c : Thread nD τ).loc main_arg1)) (E2 D.A1)) (t : Fin cfg0.N) :
    Re (s := S512x512) (iblk m c 8 t) (E2 fun i d => D.A1 ((4 * (t.val / 16) + t.val % 4) * 512 + i) ((4 + t.val / 4 % 4) * 512 + d)) := fun j => by
  have e : iblk m c 8 t j = V m c main_arg1 ((win0_8.rect t).emb j) := rfl
  rw [e, V_main_arg1]
  refine (g _).trans ?_
  show ((D.A1 ((win0_8.rect t).emb j 0 : ℕ) ((win0_8.rect t).emb j 1 : ℕ) : ℝ) : EReal) = _
  rw [Window.rect_emb_val win0_8 t j 0, Window.rect_emb_val win0_8 t j 1, (ix8 t).1, (ix8 t).2]
  rfl

theorem in10 (g : Re (s := S8192x2048) (m ((c : Thread nD τ).loc main_arg3)) (E2 D.DO)) (t : Fin cfg0.N) :
    Re (s := S512x512) (iblk m c 10 t) (E2 fun i d => D.DO ((4 * (t.val / 16) + t.val % 4) * 512 + i) ((t.val / 4 % 4) * 512 + d)) := fun j => by
  have e : iblk m c 10 t j = V m c main_arg3 ((win0_10.rect t).emb j) := rfl
  rw [e, V_main_arg3]
  refine (g _).trans ?_
  show ((D.DO ((win0_10.rect t).emb j 0 : ℕ) ((win0_10.rect t).emb j 1 : ℕ) : ℝ) : EReal) = _
  rw [Window.rect_emb_val win0_10 t j 0, Window.rect_emb_val win0_10 t j 1, (ix10 t).1, (ix10 t).2]
  rfl

theorem in11 (g : Re (s := S9216x2048) (m ((c : Thread nD τ).loc main_arg0)) (E2 D.A0)) (t : Fin cfg0.N) :
    Re (s := S256x256) (iblk m c 11 t) (E2 fun i d => D.A0 ((32 + t.val / 16) * 256 + i) ((4 + t.val / 4 % 4) * 256 + d)) := fun j => by
  have e : iblk m c 11 t j = V m c main_arg0 ((win0_11.rect t).emb j) := rfl
  rw [e, V_main_arg0]
  refine (g _).trans ?_
  show ((D.A0 ((win0_11.rect t).emb j 0 : ℕ) ((win0_11.rect t).emb j 1 : ℕ) : ℝ) : EReal) = _
  rw [Window.rect_emb_val win0_11 t j 0, Window.rect_emb_val win0_11 t j 1, (ix11 t).1, (ix11 t).2]
  rfl

theorem in12 (g : Re (s := S9216x6144) (m ((c : Thread nD τ).loc main_arg1)) (E2 D.A1)) (t : Fin cfg0.N) :
    Re (s := S256x512) (iblk m c 12 t) (E2 fun i d => D.A1 ((32 + t.val / 16) * 256 + i) ((4 + t.val / 4 % 4) * 512 + d)) := fun j => by
  have e : iblk m c 12 t j = V m c main_arg1 ((win0_12.rect t).emb j) := rfl
  rw [e, V_main_arg1]
  refine (g _).trans ?_
  show ((D.A1 ((win0_12.rect t).emb j 0 : ℕ) ((win0_12.rect t).emb j 1 : ℕ) : ℝ) : EReal) = _
  rw [Window.rect_emb_val win0_12 t j 0, Window.rect_emb_val win0_12 t j 1, (ix12 t).1, (ix12 t).2]
  rfl

theorem in4 (g : Re (s := S4x4x4x256x512) (V m c main_v67) (E5 (hv67 D))) (t : Fin cfg0.N) :
    Re (s := S1x1x1x256x512) (iblk m c 4 t) (E5 fun _ _ _ d e => hv67 D (t.val / 16) (t.val / 4 % 4) (3 - t.val % 4) d e) := fun j => by
  have e : iblk m c 4 t j = V m c main_v67 ((win0_4.rect t).emb j) := rfl
  have h0 : (j 0).val = 0 := Nat.lt_one_iff.mp (j 0).isLt
  have h1 : (j 1).val = 0 := Nat.lt_one_iff.mp (j 1).isLt
  have h2 : (j 2).val = 0 := Nat.lt_one_iff.mp (j 2).isLt
  rw [e]
  refine (g _).trans ?_
  show ((hv67 D ((win0_4.rect t).emb j 0 : ℕ) ((win0_4.rect t).emb j 1 : ℕ) ((win0_4.rect t).emb j 2 : ℕ) ((win0_4.rect t).emb j 3 : ℕ) ((win0_4.rect t).emb j 4 : ℕ) : ℝ) : EReal) = _
  rw [Window.rect_emb_val win0_4 t j 0, Window.rect_emb_val win0_4 t j 1, Window.rect_emb_val win0_4 t j 2, Window.rect_emb_val win0_4 t j 3, Window.rect_emb_val win0_4 t j 4,
    (ix4 t).1, (ix4 t).2.1, (ix4 t).2.2.1, (ix4 t).2.2.2.1, (ix4 t).2.2.2.2]
  show ((hv67 D ((t.val / 16) * 1 + (j 0).val) ((t.val / 4 % 4) * 1 + (j 1).val) ((3 - t.val % 4) * 1 + (j 2).val) (0 * 256 + (j 3).val) (0 * 512 + (j 4).val) : ℝ) : EReal) = _
  rw [h0, h1, h2, Nat.mul_one, Nat.mul_one, Nat.mul_one, Nat.zero_mul, Nat.zero_add, Nat.zero_add]
  rfl

theorem in9 (g : Re (s := S4x4x4x256x512) (V m c main_v128) (E5 (hv128 D))) (t : Fin cfg0.N) :
    Re (s := S1x1x1x256x512) (iblk m c 9 t) (E5 fun _ _ _ d e => hv128 D (t.val / 16) (t.val / 4 % 4) (t.val % 4) d e) := fun j => by
  have e : iblk m c 9 t j = V m c main_v128 ((win0_9.rect t).emb j) := rfl
  have h0 : (j 0).val = 0 := Nat.lt_one_iff.mp (j 0).isLt
  have h1 : (j 1).val = 0 := Nat.lt_one_iff.mp (j 1).isLt
  have h2 : (j 2).val = 0 := Nat.lt_one_iff.mp (j 2).isLt
  rw [e]
  refine (g _).trans ?_
  show ((hv128 D ((win0_9.rect t).emb j 0 : ℕ) ((win0_9.rect t).emb j 1 : ℕ) ((win0_9.rect t).emb j 2 : ℕ) ((win0_9.rect t).emb j 3 : ℕ) ((win0_9.rect t).emb j 4 : ℕ) : ℝ) : EReal) = _
  rw [Window.rect_emb_val win0_9 t j 0, Window.rect_emb_val win0_9 t j 1, Window.rect_emb_val win0_9 t j 2, Window.rect_emb_val win0_9 t j 3, Window.rect_emb_val win0_9 t j 4,
    (ix9 t).1, (ix9 t).2.1, (ix9 t).2.2.1, (ix9 t).2.2.2.1, (ix9 t).2.2.2.2]
  show ((hv128 D ((t.val / 16) * 1 + (j 0).val) ((t.val / 4 % 4) * 1 + (j 1).val) ((t.val % 4) * 1 + (j 2).val) (0 * 256 + (j 3).val) (0 * 512 + (j 4).val) : ℝ) : EReal) = _
  rw [h0, h1, h2, Nat.mul_one, Nat.mul_one, Nat.mul_one, Nat.zero_mul, Nat.zero_add, Nat.zero_add]
  rfl

theorem in0 (g : Re (s := S2x4) (m ((c : Thread nD τ).loc main_arg2)) (E2 D.LG)) (t : Fin cfg0.N) (j : S2x4.Idx) :
    iblk m c 0 t j = ((D.LG (j 0).val (j 1).val : ℝ) : EReal) := by
  have e : iblk m c 0 t j = V m c main_arg2 ((win0_0.rect t).emb j) := rfl
  rw [e, V_main_arg2]
  refine (g _).trans ?_
  show ((D.LG ((win0_0.rect t).emb j 0 : ℕ) ((win0_0.rect t).emb j 1 : ℕ) : ℝ) : EReal) = _
  rw [Window.rect_emb_val_of_index_zero _ _ _ rfl, Window.rect_emb_val_of_index_zero _ _ _ rfl]

/-- What the four arguments and the two prepared arrays hold. -/
structure Given (D : Data) : Prop where
  a0 : Re (s := S9216x2048) (m ((c : Thread nD τ).loc main_arg0)) (E2 D.A0)
  a1 : Re (s := S9216x6144) (m ((c : Thread nD τ).loc main_arg1)) (E2 D.A1)
  a2 : Re (s := S2x4) (m ((c : Thread nD τ).loc main_arg2)) (E2 D.LG)
  a3 : Re (s := S8192x2048) (m ((c : Thread nD τ).loc main_arg3)) (E2 D.DO)
  stf : Re (s := S4x4x4x256x512) (V m c main_v67) (E5 (hv67 D))
  str : Re (s := S4x4x4x256x512) (V m c main_v128) (E5 (hv128 D))

variable {m c}

theorem ins (G : Given m c D) (t : Fin cfg0.N) :
    Ins m c t (blk (fwdL D (t.val / 16) (t.val / 4 % 4)) (revL D (t.val / 16) (t.val / 4 % 4)) (3 - t.val % 4)) where
  l0 {inb pos} := by
    rw [View.ld_unit]
    refine (in0 m c G.a2 t _).trans (congrArg _ (congrArg₂ D.LG ?_ ?_))
    · rfl
    · show BitVec.toNat (Scalar.indexCast (BitVec.ofNat 32 ↑(grid0.coords t 1))) + 0 = _
      rw [co1]; omega
  l1 {inb pos} := by
    rw [View.ld_unit]
    refine (in0 m c G.a2 t _).trans (congrArg _ (congrArg₂ D.LG ?_ ?_))
    · rfl
    · show BitVec.toNat (Scalar.indexCast (BitVec.ofNat 32 ↑(grid0.coords t 1))) + 0 = _
      rw [co1]; omega
  w1 := (in1 m c G.a0 t).congr fun j => by
    have hj : (j 0).val < 512 := (j 0).isLt
    exact congrArg₂ D.A0 (by omega) (by omega)
  w2 := (in2 m c G.a0 t).congr fun j => by
    have hj : (j 0).val < 512 := (j 0).isLt
    exact congrArg₂ D.A0 (by omega) (by omega)
  w3 := (in3 m c G.a1 t).congr fun j => by
    have hj : (j 0).val < 512 := (j 0).isLt
    exact congrArg₂ D.A1 (by omega) (by omega)
  w5 := (in5 m c G.a3 t).congr fun j => by
    have hj : (j 0).val < 512 := (j 0).isLt
    exact congrArg₂ D.DO (by omega) (by omega)
  w6 := (in6 m c G.a0 t).congr fun j => by
    have hj : (j 0).val < 512 := (j 0).isLt
    exact congrArg₂ D.A0 (by omega) (by omega)
  w7 := (in7 m c G.a0 t).congr fun j => by
    have hj : (j 0).val < 512 := (j 0).isLt
    exact congrArg₂ D.A0 (by omega) (by omega)
  w8 := (in8 m c G.a1 t).congr fun j => by
    have hj : (j 0).val < 512 := (j 0).isLt
    exact congrArg₂ D.A1 (by omega) (by omega)
  w10 := (in10 m c G.a3 t).congr fun j => by
    have hj : (j 0).val < 512 := (j 0).isLt
    exact congrArg₂ D.DO (by omega) (by omega)
  w11 := (in11 m c G.a0 t).congr fun j => by
    have hj : (j 0).val < 256 := (j 0).isLt
    exact congrArg₂ D.A0 (by omega) (by omega)
  w12 := (in12 m c G.a1 t).congr fun j => by
    have hj : (j 0).val < 256 := (j 0).isLt
    exact congrArg₂ D.A1 (by omega) (by omega)
  w4 := (in4 m c G.stf t).congr fun j => hv67_eq D _ _ _ _ _
  w9 := (in9 m c G.str t).congr fun j => (hv128_eq D _ _ _ _ _).trans (by
    rw [show 4 - (t.val % 4 + 1) = 3 - t.val % 4 by omega]; rfl)

end Cert.KernelIdeal.Own
-- ==== Proof.Entry.lean ====
/- What the grid finds: the arguments as launched, and the states the host computed from them. -/
module

public import proofs.«01_k».proof.Proof.Wins

@[expose] public section

set_option maxRecDepth 8192

noncomputable section

namespace Cert.KernelIdeal.Own

open Cert.KernelIdeal Cert.KernelIdeal.Gen Cert.Own Idealize.ShloMosaic Idealize.ShloMosaic.TcCoe
open Idealize.SL.Sem Idealize.ShloMosaic.StableHlo

variable (m : (ℓ : Loc nD τ sig) → Buf (Elt Ideal) ℓ) (c : Dev nD) {D : Data}

/-- The host's operations, read group by group. -/
theorem entry (W : Valuation τ sig (Elt Ideal)) :
    after (List.flatten [hostOps0, hostOps0_1, hostOps0_2, hostOps0_3, hostOps0_4, hostOps0_5, hostOps0_6, hostOps0_7, hostOps0_8, hostOps0_9, hostOps0_10]) W = st5 W := by
  unfold st5 st4 st3 st2 st1
  rw [← after_append, ← after_append, ← after_append, ← after_append]
  exact congrArg (fun l => after l W) (by simp only [List.flatten_cons, List.flatten_nil, List.append_nil, List.append_assoc])

theorem given (a0 : Re (s := S9216x2048) (m ((c : Thread nD τ).loc main_arg0)) (E2 D.A0))
    (a1 : Re (s := S9216x6144) (m ((c : Thread nD τ).loc main_arg1)) (E2 D.A1))
    (a2 : Re (s := S2x4) (m ((c : Thread nD τ).loc main_arg2)) (E2 D.LG))
    (a3 : Re (s := S8192x2048) (m ((c : Thread nD τ).loc main_arg3)) (E2 D.DO)) : Given m c D where
  a0 := a0
  a1 := a1
  a2 := a2
  a3 := a3
  stf := fun j => (congrFun (congrFun (entry (fun b => m (c, b))) (Proc.devRef .tc main_v67)) j).trans (at5_v67 D a0 a1 a2 j)
  str := fun j => (congrFun (congrFun (entry (fun b => m (c, b))) (Proc.devRef .tc main_v128)) j).trans (at5_v128 D a0 a1 a2 j)

end Cert.KernelIdeal.Own
-- ==== Proof.RefRun.lean ====
/- The reference's run: it ends with every counter at zero, the arguments unchanged, and the twelve gradients at the plain
   gradients of the lines. -/
module

public import proofs.«01_k».proof.Proof.Goals
public import Idealize.ShloMosaic.Lib.Quiescent

@[expose] public section

set_option maxRecDepth 8192

noncomputable section

namespace Cert.ReferenceIdeal.Own

open Cert.ReferenceIdeal Cert.ReferenceIdeal.Gen Cert.ReferenceIdeal.Value Cert.ReferenceIdeal.Read Cert.Own
open Idealize.ShloMosaic Idealize.ShloMosaic.TcCoe Idealize.SL.Sem

variable (m : (ℓ : Loc nD τ sig) → Buf (Elt Ideal) ℓ) (ρ : Dev nD → PrngReg)

theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2.2.2.2.2.2.2.2.2.2, sem_eq_zero_of_no_sems rfl r.2⟩) (Value.run m ρ)

/-- The arguments hold the entries `D`. -/
structure Holds (c : Dev nD) (D : Data) : Prop where
  a0 : Re (s := S9216x2048) (m ((c : Thread nD τ).loc main_arg0)) (E2 D.A0)
  a1 : Re (s := S9216x6144) (m ((c : Thread nD τ).loc main_arg1)) (E2 D.A1)
  a2 : Re (s := S2x4) (m ((c : Thread nD τ).loc main_arg2)) (E2 D.LG)
  a3 : Re (s := S8192x2048) (m ((c : Thread nD τ).loc main_arg3)) (E2 D.DO)

variable {m} {c : Dev nD} {D : Data}

theorem re_fdq (H : Holds m c D) :
    Re (s := S8192x1024) (val_main_v118 (F := Ideal) (m ((c : Thread nD τ).loc main_arg0)) (m ((c : Thread nD τ).loc main_arg1)) (m ((c : Thread nD τ).loc main_arg2)) (m ((c : Thread nD τ).loc main_arg3))) (E2 (fdq D)) :=
  Re.congr (re_v118 D H.a0 H.a1 H.a2 H.a3) fun _ => rv85_eq D _ _ _ _

theorem re_fdk (H : Holds m c D) :
    Re (s := S8192x1024) (val_main_v119 (F := Ideal) (m ((c : Thread nD τ).loc main_arg0)) (m ((c : Thread nD τ).loc main_arg1)) (m ((c : Thread nD τ).loc main_arg2)) (m ((c : Thread nD τ).loc main_arg3))) (E2 (fdk D)) :=
  Re.congr (re_v119 D H.a0 H.a1 H.a2 H.a3) fun _ => rv81_eq D _ _ _ _

theorem re_fdv (H : Holds m c D) :
    Re (s := S8192x2048) (val_main_v120 (F := Ideal) (m ((c : Thread nD τ).loc main_arg0)) (m ((c : Thread nD τ).loc main_arg2)) (m ((c : Thread nD τ).loc main_arg3))) (E2 (fdv D)) :=
  Re.congr (re_v120 D H.a0 H.a2 H.a3) fun _ => rv77_eq D _ _ _ _

theorem re_fdkc (H : Holds m c D) :
    Re (s := S1024x1024) (val_main_v121 (F := Ideal) (m ((c : Thread nD τ).loc main_arg0)) (m ((c : Thread nD τ).loc main_arg1)) (m ((c : Thread nD τ).loc main_arg2)) (m ((c : Thread nD τ).loc main_arg3))) (E2 (fdkc D)) :=
  Re.congr (re_v121 D H.a0 H.a1 H.a2 H.a3) fun _ => rv103_eq D _ _ _ _

theorem re_fdvc (H : Holds m c D) :
    Re (s := S1024x2048) (val_main_v122 (F := Ideal) (m ((c : Thread nD τ).loc main_arg0)) (m ((c : Thread nD τ).loc main_arg2)) (m ((c : Thread nD τ).loc main_arg3))) (E2 (fdvc D)) :=
  Re.congr (re_v122 D H.a0 H.a2 H.a3) fun _ => rv101_eq D _ _ _ _

theorem re_fdlg (H : Holds m c D) :
    Re (s := S4x4x8x128) (val_main_v124 (F := Ideal) (m ((c : Thread nD τ).loc main_arg0)) (m ((c : Thread nD τ).loc main_arg1)) (m ((c : Thread nD τ).loc main_arg2)) (m ((c : Thread nD τ).loc main_arg3))) (E4 (fdlg D)) :=
  Re.congr (re_v124 D H.a0 H.a1 H.a2 H.a3) fun _ => rv117_eq D _ _

theorem re_rdq (H : Holds m c D) :
    Re (s := S8192x1024) (val_main_v251 (F := Ideal) (m ((c : Thread nD τ).loc main_arg0)) (m ((c : Thread nD τ).loc main_arg1)) (m ((c : Thread nD τ).loc main_arg2)) (m ((c : Thread nD τ).loc main_arg3))) (E2 (rdq D)) :=
  Re.congr (re_v251 D H.a0 H.a1 H.a2 H.a3) fun _ => rv213_eq D _ _ _ _

theorem re_rdk (H : Holds m c D) :
    Re (s := S8192x1024) (val_main_v252 (F := Ideal) (m ((c : Thread nD τ).loc main_arg0)) (m ((c : Thread nD τ).loc main_arg1)) (m ((c : Thread nD τ).loc main_arg2)) (m ((c : Thread nD τ).loc main_arg3))) (E2 (rdk D)) :=
  Re.congr (re_v252 D H.a0 H.a1 H.a2 H.a3) fun _ => rv209_eq D _ _ _ _

theorem re_rdv (H : Holds m c D) :
    Re (s := S8192x2048) (val_main_v253 (F := Ideal) (m ((c : Thread nD τ).loc main_arg0)) (m ((c : Thread nD τ).loc main_arg2)) (m ((c : Thread nD τ).loc main_arg3))) (E2 (rdv D)) :=
  Re.congr (re_v253 D H.a0 H.a2 H.a3) fun _ => rv205_eq D _ _ _ _

theorem re_rdkc (H : Holds m c D) :
    Re (s := S1024x1024) (val_main_v254 (F := Ideal) (m ((c : Thread nD τ).loc main_arg0)) (m ((c : Thread nD τ).loc main_arg1)) (m ((c : Thread nD τ).loc main_arg2)) (m ((c : Thread nD τ).loc main_arg3))) (E2 (rdkc D)) :=
  Re.congr (re_v254 D H.a0 H.a1 H.a2 H.a3) fun _ => rv231_eq D _ _ _ _

theorem re_rdvc (H : Holds m c D) :
    Re (s := S1024x2048) (val_main_v255 (F := Ideal) (m ((c : Thread nD τ).loc main_arg0)) (m ((c : Thread nD τ).loc main_arg2)) (m ((c : Thread nD τ).loc main_arg3))) (E2 (rdvc D)) :=
  Re.congr (re_v255 D H.a0 H.a2 H.a3) fun _ => rv229_eq D _ _ _ _

theorem re_rdlg (H : Holds m c D) :
    Re (s := S4x4x8x128) (val_main_v257 (F := Ideal) (m ((c : Thread nD τ).loc main_arg0)) (m ((c : Thread nD τ).loc main_arg1)) (m ((c : Thread nD τ).loc main_arg2)) (m ((c : Thread nD τ).loc main_arg3))) (E4 (rdlg D)) :=
  Re.congr (re_v257 D H.a0 H.a1 H.a2 H.a3) fun _ => rv245_eq D _ _

theorem vals {D : Dev nD → Data} (H : ∀ c, Holds m c (D c)) :
    θ_run (defs (F := Ideal)) (onTc (τ := τ) (main (F := Ideal))) ⟨m, fun _ => 0, ρ⟩ (fun r => ∀ c : Dev nD,
      Re (s := S8192x1024) (r.2.mem ((c.tc : Thread nD τ).loc main_v118)) (E2 (fdq (D c)))
      ∧ Re (s := S8192x1024) (r.2.mem ((c.tc : Thread nD τ).loc main_v119)) (E2 (fdk (D c)))
      ∧ Re (s := S8192x2048) (r.2.mem ((c.tc : Thread nD τ).loc main_v120)) (E2 (fdv (D c)))
      ∧ Re (s := S1024x1024) (r.2.mem ((c.tc : Thread nD τ).loc main_v121)) (E2 (fdkc (D c)))
      ∧ Re (s := S1024x2048) (r.2.mem ((c.tc : Thread nD τ).loc main_v122)) (E2 (fdvc (D c)))
      ∧ Re (s := S4x4x8x128) (r.2.mem ((c.tc : Thread nD τ).loc main_v124)) (E4 (fdlg (D c)))
      ∧ Re (s := S8192x1024) (r.2.mem ((c.tc : Thread nD τ).loc main_v251)) (E2 (rdq (D c)))
      ∧ Re (s := S8192x1024) (r.2.mem ((c.tc : Thread nD τ).loc main_v252)) (E2 (rdk (D c)))
      ∧ Re (s := S8192x2048) (r.2.mem ((c.tc : Thread nD τ).loc main_v253)) (E2 (rdv (D c)))
      ∧ Re (s := S1024x1024) (r.2.mem ((c.tc : Thread nD τ).loc main_v254)) (E2 (rdkc (D c)))
      ∧ Re (s := S1024x2048) (r.2.mem ((c.tc : Thread nD τ).loc main_v255)) (E2 (rdvc (D c)))
      ∧ Re (s := S4x4x8x128) (r.2.mem ((c.tc : Thread nD τ).loc main_v257)) (E4 (rdlg (D c)))) :=
  (θ_run defs _ _).mono (fun r h c => ⟨fun j => (congrFun ((h c).1.trans (val_main_v118_eq (StableHlo.launchContents m c))) j).trans (re_fdq (H c) j),
    fun j => (congrFun ((h c).2.1.trans (val_main_v119_eq (StableHlo.launchContents m c))) j).trans (re_fdk (H c) j),
    fun j => (congrFun ((h c).2.2.1.trans (val_main_v120_eq (StableHlo.launchContents m c))) j).trans (re_fdv (H c) j),
    fun j => (congrFun ((h c).2.2.2.1.trans (val_main_v121_eq (StableHlo.launchContents m c))) j).trans (re_fdkc (H c) j),
    fun j => (congrFun ((h c).2.2.2.2.1.trans (val_main_v122_eq (StableHlo.launchContents m c))) j).trans (re_fdvc (H c) j),
    fun j => (congrFun ((h c).2.2.2.2.2.1.trans (val_main_v124_eq (StableHlo.launchContents m c))) j).trans (re_fdlg (H c) j),
    fun j => (congrFun ((h c).2.2.2.2.2.2.1.trans (val_main_v251_eq (StableHlo.launchContents m c))) j).trans (re_rdq (H c) j),
    fun j => (congrFun ((h c).2.2.2.2.2.2.2.1.trans (val_main_v252_eq (StableHlo.launchContents m c))) j).trans (re_rdk (H c) j),
    fun j => (congrFun ((h c).2.2.2.2.2.2.2.2.1.trans (val_main_v253_eq (StableHlo.launchContents m c))) j).trans (re_rdv (H c) j),
    fun j => (congrFun ((h c).2.2.2.2.2.2.2.2.2.1.trans (val_main_v254_eq (StableHlo.launchContents m c))) j).trans (re_rdkc (H c) j),
    fun j => (congrFun ((h c).2.2.2.2.2.2.2.2.2.2.1.trans (val_main_v255_eq (StableHlo.launchContents m c))) j).trans (re_rdvc (H c) j),
    fun j => (congrFun ((h c).2.2.2.2.2.2.2.2.2.2.2.1.trans (val_main_v257_eq (StableHlo.launchContents m c))) j).trans (re_rdlg (H c) j)⟩) (Value.run m ρ)

end Cert.ReferenceIdeal.Own
-- ==== Proof.Finite.lean ====
/- Arguments all of whose entries are finite are arrays of real numbers. -/
module

public import proofs.«01_k».proof.Defs
public import proofs.«01_k».proof.Proof.Gen.Pre_finite
public import proofs.«01_k».proof.Proof.Acc
public import proofs.«01_k».proof.Proof.Entry
public import proofs.«01_k».proof.Proof.RefRun

@[expose] public section

set_option maxRecDepth 8192

noncomputable section

namespace Cert.Own

open Idealize.ShloMosaic Idealize.SL.Sem

open Classical in
/-- The entry at row `i` and column `k`, as a real number. -/
def get2 {z : Fin 2 → ℕ} (X : (⟨2, z⟩ : Shape).Idx → EReal) (i k : ℕ) : ℝ :=
  if h : ∃ y : (⟨2, z⟩ : Shape).Idx, (y 0).val = i ∧ (y 1).val = k then (X h.choose).toReal else 0

theorem re_get2 {z : Fin 2 → ℕ} {X : (⟨2, z⟩ : Shape).Idx → EReal} (h : ∀ j, (((X j).toReal : ℝ) : EReal) = X j) :
    Re X (E2 (get2 X)) := fun j => by
  have e : ∃ y : (⟨2, z⟩ : Shape).Idx, (y 0).val = (j 0).val ∧ (y 1).val = (j 1).val := ⟨j, rfl, rfl⟩
  have hy : e.choose = j := Shape.idx_ext₂ e.choose_spec.1 e.choose_spec.2
  show X j = ((get2 X (j 0).val (j 1).val : ℝ) : EReal)
  unfold get2
  rw [dif_pos e, hy, h]

/-- An array whose entries are all less than something in absolute value holds real numbers. -/
theorem holds_of_finite {z : Fin 2 → ℕ} {X : FVec Ideal ⟨2, z⟩ .f32} {Y : FVec Ideal ⟨2, z⟩ .f32}
    (h : cmpf .olt (Host.absf X) Y = fun _ => 1#1) : ∃ f : ℕ → ℕ → ℝ, Re X (E2 f) :=
  ⟨get2 X, re_get2 fun j => real_of_abs_lt (congrFun h j)⟩

section
open Cert.Pre_finite
variable [Cert.Pre_finite.Facts] {x0 : FVec Ideal S9216x2048 .f32} {x1 : FVec Ideal S9216x6144 .f32} {x2 : FVec Ideal S2x4 .f32}
  {x3 : FVec Ideal S8192x2048 .f32}

theorem data_of_finite (h0 : (fn x0 x1 x2 x3).1 = fun _ => 1#1) (h1 : (fn x0 x1 x2 x3).2.1 = fun _ => 1#1)
    (h2 : (fn x0 x1 x2 x3).2.2.1 = fun _ => 1#1) (h3 : (fn x0 x1 x2 x3).2.2.2 = fun _ => 1#1) :
    ∃ D : Data, Re x0 (E2 D.A0) ∧ Re x1 (E2 D.A1) ∧ Re x2 (E2 D.LG) ∧ Re x3 (E2 D.DO) := by
  obtain ⟨f0, k0⟩ := holds_of_finite h0
  obtain ⟨f1, k1⟩ := holds_of_finite h1
  obtain ⟨f2, k2⟩ := holds_of_finite h2
  obtain ⟨f3, k3⟩ := holds_of_finite h3
  exact ⟨⟨f0, f1, f2, f3⟩, k0, k1, k2, k3⟩

end

theorem given_of_finite [Cert.Pre_finite.Facts]
    {m : (ℓ : Loc Cert.KernelIdeal.nD Cert.KernelIdeal.τ Cert.KernelIdeal.sig) → Buf (Elt Ideal) ℓ}
    (h : Cert.Pre_KernelIdeal_finite m) : ∃ D : Dev Cert.KernelIdeal.nD → Data, ∀ c, Cert.KernelIdeal.Own.Given m c (D c) := by
  have e : ∀ c, ∃ D : Data, Cert.KernelIdeal.Own.Given m c D := fun c => by
    obtain ⟨h0, h1, h2, h3⟩ := h c
    obtain ⟨D, k0, k1, k2, k3⟩ := data_of_finite h0 h1 h2 h3
    exact ⟨D, Cert.KernelIdeal.Own.given m c k0 k1 k2 k3⟩
  exact ⟨fun c => (e c).choose, fun c => (e c).choose_spec⟩

end Cert.Own
-- ==== Proof.Equal.lean ====
/- The two programs' twelve results are equal at equal finite arguments. -/
module

public import proofs.«01_k».proof.Proof.Arr
public import proofs.«01_k».proof.Proof.Finite
public import proofs.«01_k».proof.Proof.Frame

@[expose] public section

set_option maxRecDepth 8192

noncomputable section

namespace Cert.KernelIdeal.Own

open Cert.KernelIdeal Cert.KernelIdeal.Gen Cert.Own Idealize.ShloMosaic Idealize.ShloMosaic.TcCoe
open Idealize.SL.Sem Idealize.ShloMosaic.Pipeline

variable {m : (ℓ : Loc nD τ sig) → Buf (Elt Ideal) ℓ} {D : Data} {r : PUnit × MemSt nD τ sig (Elt Ideal)}

theorem res13 (h : FramePost cfgs (dats m) 0 (V m) r) (c : Dev nD) (I : AllIns m c D) :
    r.2.mem ((c.tc : Thread nD τ).loc main_v129_0) = fun i => (((E2 (z := S8192x1024.size) (fdq D) i : ℝ) : EReal)) :=
  ((h c).1 13).trans (arr13 m c I)

theorem res14 (h : FramePost cfgs (dats m) 0 (V m) r) (c : Dev nD) (I : AllIns m c D) :
    r.2.mem ((c.tc : Thread nD τ).loc main_v129_1) = fun i => (((E2 (z := S8192x1024.size) (fdk D) i : ℝ) : EReal)) :=
  ((h c).1 14).trans (arr14 m c I)

theorem res15 (h : FramePost cfgs (dats m) 0 (V m) r) (c : Dev nD) (I : AllIns m c D) :
    r.2.mem ((c.tc : Thread nD τ).loc main_v129_2) = fun i => (((E2 (z := S8192x2048.size) (fdv D) i : ℝ) : EReal)) :=
  ((h c).1 15).trans (arr15 m c I)

theorem res16 (h : FramePost cfgs (dats m) 0 (V m) r) (c : Dev nD) (I : AllIns m c D) :
    r.2.mem ((c.tc : Thread nD τ).loc main_v129_3) = fun i => (((E2 (z := S1024x1024.size) (fdkc D) i : ℝ) : EReal)) :=
  ((h c).1 16).trans (arr16 m c I)

theorem res17 (h : FramePost cfgs (dats m) 0 (V m) r) (c : Dev nD) (I : AllIns m c D) :
    r.2.mem ((c.tc : Thread nD τ).loc main_v129_4) = fun i => (((E2 (z := S1024x2048.size) (fdvc D) i : ℝ) : EReal)) :=
  ((h c).1 17).trans (arr17 m c I)

theorem res18 (h : FramePost cfgs (dats m) 0 (V m) r) (c : Dev nD) (I : AllIns m c D) :
    r.2.mem ((c.tc : Thread nD τ).loc main_v129_5) = fun i => (((E4 (z := S4x4x8x128.size) (fdlg D) i : ℝ) : EReal)) :=
  ((h c).1 18).trans (arr18 m c I)

theorem res19 (h : FramePost cfgs (dats m) 0 (V m) r) (c : Dev nD) (I : AllIns m c D) :
    r.2.mem ((c.tc : Thread nD τ).loc main_v129_6) = fun i => (((E2 (z := S8192x1024.size) (rdq D) i : ℝ) : EReal)) :=
  ((h c).1 19).trans (arr19 m c I)

theorem res20 (h : FramePost cfgs (dats m) 0 (V m) r) (c : Dev nD) (I : AllIns m c D) :
    r.2.mem ((c.tc : Thread nD τ).loc main_v129_7) = fun i => (((E2 (z := S8192x1024.size) (rdk D) i : ℝ) : EReal)) :=
  ((h c).1 20).trans (arr20 m c I)

theorem res21 (h : FramePost cfgs (dats m) 0 (V m) r) (c : Dev nD) (I : AllIns m c D) :
    r.2.mem ((c.tc : Thread nD τ).loc main_v129_8) = fun i => (((E2 (z := S8192x2048.size) (rdv D) i : ℝ) : EReal)) :=
  ((h c).1 21).trans (arr21 m c I)

theorem res22 (h : FramePost cfgs (dats m) 0 (V m) r) (c : Dev nD) (I : AllIns m c D) :
    r.2.mem ((c.tc : Thread nD τ).loc main_v129_9) = fun i => (((E2 (z := S1024x1024.size) (rdkc D) i : ℝ) : EReal)) :=
  ((h c).1 22).trans (arr22 m c I)

theorem res23 (h : FramePost cfgs (dats m) 0 (V m) r) (c : Dev nD) (I : AllIns m c D) :
    r.2.mem ((c.tc : Thread nD τ).loc main_v129_10) = fun i => (((E2 (z := S1024x2048.size) (rdvc D) i : ℝ) : EReal)) :=
  ((h c).1 23).trans (arr23 m c I)

theorem res24 (h : FramePost cfgs (dats m) 0 (V m) r) (c : Dev nD) (I : AllIns m c D) :
    r.2.mem ((c.tc : Thread nD τ).loc main_v129_11) = fun i => (((E4 (z := S4x4x8x128.size) (rdlg D) i : ℝ) : EReal)) :=
  ((h c).1 24).trans (arr24 m c I)

end Cert.KernelIdeal.Own

namespace Cert.Own

open Idealize.ShloMosaic Idealize.ShloMosaic.TcCoe Idealize.SL.Sem

theorem equal [Cert.KernelIdeal.Facts] [Cert.ReferenceIdeal.Facts] [Cert.Pre_finite.Facts] :
    Cert.algebraic_KernelIdeal_ReferenceIdeal_pre_finite := by
  intro m g m' g' hpre hsame
  obtain ⟨D, G⟩ := given_of_finite hpre
  have I : ∀ c, Cert.KernelIdeal.Own.AllIns m c (D c) := fun c t => Cert.KernelIdeal.Own.ins (G c) t
  have H : ∀ c, Cert.ReferenceIdeal.Own.Holds m' c (D c) := fun c =>
    ⟨fun j => (congrFun (hsame c).1 j).trans ((G c).a0 j), fun j => (congrFun (hsame c).2.1 j).trans ((G c).a1 j),
     fun j => (congrFun (hsame c).2.2.1 j).trans ((G c).a2 j), fun j => (congrFun (hsame c).2.2.2 j).trans ((G c).a3 j)⟩
  refine ⟨fun c i => ((E2 (z := Cert.KernelIdeal.S8192x1024.size) (fdq (D c)) i : ℝ) : EReal),
    fun c i => ((E2 (z := Cert.KernelIdeal.S8192x1024.size) (fdk (D c)) i : ℝ) : EReal),
    fun c i => ((E2 (z := Cert.KernelIdeal.S8192x2048.size) (fdv (D c)) i : ℝ) : EReal),
    fun c i => ((E2 (z := Cert.KernelIdeal.S1024x1024.size) (fdkc (D c)) i : ℝ) : EReal),
    fun c i => ((E2 (z := Cert.KernelIdeal.S1024x2048.size) (fdvc (D c)) i : ℝ) : EReal),
    fun c i => ((E4 (z := Cert.KernelIdeal.S4x4x8x128.size) (fdlg (D c)) i : ℝ) : EReal),
    fun c i => ((E2 (z := Cert.KernelIdeal.S8192x1024.size) (rdq (D c)) i : ℝ) : EReal),
    fun c i => ((E2 (z := Cert.KernelIdeal.S8192x1024.size) (rdk (D c)) i : ℝ) : EReal),
    fun c i => ((E2 (z := Cert.KernelIdeal.S8192x2048.size) (rdv (D c)) i : ℝ) : EReal),
    fun c i => ((E2 (z := Cert.KernelIdeal.S1024x1024.size) (rdkc (D c)) i : ℝ) : EReal),
    fun c i => ((E2 (z := Cert.KernelIdeal.S1024x2048.size) (rdvc (D c)) i : ℝ) : EReal),
    fun c i => ((E4 (z := Cert.KernelIdeal.S4x4x8x128.size) (rdlg (D c)) i : ℝ) : EReal), ?_, ?_⟩
  · refine (θ_run _ _ _).mono (fun r h c => ?_) (θ_run_and (Cert.KernelIdeal.Own.run_main m g) (Cert.KernelIdeal.Own.unchanged m g))
    exact ⟨Cert.KernelIdeal.Own.res13 h.1 c (I c), Cert.KernelIdeal.Own.res14 h.1 c (I c), Cert.KernelIdeal.Own.res15 h.1 c (I c), Cert.KernelIdeal.Own.res16 h.1 c (I c), Cert.KernelIdeal.Own.res17 h.1 c (I c), Cert.KernelIdeal.Own.res18 h.1 c (I c), Cert.KernelIdeal.Own.res19 h.1 c (I c), Cert.KernelIdeal.Own.res20 h.1 c (I c), Cert.KernelIdeal.Own.res21 h.1 c (I c), Cert.KernelIdeal.Own.res22 h.1 c (I c), Cert.KernelIdeal.Own.res23 h.1 c (I c), Cert.KernelIdeal.Own.res24 h.1 c (I c), h.2 c⟩
  · refine (θ_run _ _ _).mono (fun r h c => ?_) (θ_run_and (Cert.ReferenceIdeal.Own.vals g' H) (Cert.ReferenceIdeal.Own.frame m' g'))
    exact ⟨funext (h.1 c).1,
      funext (h.1 c).2.1,
      funext (h.1 c).2.2.1,
      funext (h.1 c).2.2.2.1,
      funext (h.1 c).2.2.2.2.1,
      funext (h.1 c).2.2.2.2.2.1,
      funext (h.1 c).2.2.2.2.2.2.1,
      funext (h.1 c).2.2.2.2.2.2.2.1,
      funext (h.1 c).2.2.2.2.2.2.2.2.1,
      funext (h.1 c).2.2.2.2.2.2.2.2.2.1,
      funext (h.1 c).2.2.2.2.2.2.2.2.2.2.1,
      funext (h.1 c).2.2.2.2.2.2.2.2.2.2.2, h.2.1 c⟩

end Cert.Own
-- ==== Proof.L1QkvgDw.lean ====
/- A weight gradient: the running sums over the rows, and the reference. -/
module

public import proofs.«01_k».proof.Defs
public import proofs.«01_k».proof.Proof.Acc
public import proofs.«01_k».proof.Proof.Gen.L1QkvgDwIdeal.Value
public import proofs.«01_k».proof.Proof.Gen.L1QkvgDwRefIdeal.Run
public import proofs.«01_k».proof.Proof.Gen.L1QkvgDwRefIdeal.Read

@[expose] public section

noncomputable section

namespace Cert.L1QkvgDwIdeal.Own

open Cert.L1QkvgDwIdeal Cert.L1QkvgDwIdeal.Gen Cert.L1QkvgDwIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val % 6 ∧ win0_0.index t 1 = 0 ∧ win0_1.index t 0 = t.val % 6 ∧ win0_1.index t 1 = t.val / 6 := by decide +kernel

/-- The two factors at natural coordinates, the summands' coordinate second. -/
abbrev A : ℕ → ℕ → EReal := fun r k => nat2 (z := ![9216, 1024]) (m ((c : Thread nD τ).loc main_arg0)) k r
abbrev B : ℕ → ℕ → EReal := fun s k => nat2 (z := ![9216, 6144]) (m ((c : Thread nD τ).loc main_arg1)) k s

theorem blk0 (t : Fin cfg0.N) (y : S1536x1024.Idx) : iblk m c 0 t y = A m c (0 * 1024 + (y 1).val) (t.val % 6 * 1536 + (y 0).val) :=
  nat2_blk (z := ![9216, 1024]) (m ((c : Thread nD τ).loc main_arg0)) _ (idx t).1 (idx t).2.1 rfl rfl

theorem blk1 (t : Fin cfg0.N) (y : S1536x1024.Idx) : iblk m c 1 t y = B m c (t.val / 6 * 1024 + (y 1).val) (t.val % 6 * 1536 + (y 0).val) :=
  nat2_blk (z := ![9216, 6144]) (m ((c : Thread nD τ).loc main_arg1)) _ (idx t).2.2.1 (idx t).2.2.2 rfl rfl

/-- A step's own share of the sum. -/
abbrev part (j : S1024x1024.Idx) (n : ℕ) : EReal := share 6 1536 1024 1024 (A m c) (B m c) (fun _ => 0) id j n

theorem pay1 (t : Fin cfg0.N) (j : S1024x1024.Idx) : k0_pay1 (F := Ideal) (iblk m c 0 t) (iblk m c 1 t) j = part m c j t.val :=
  matmul_sum dot_S1536x1024_S1536x1024_S1024x1024_0_0_1_1_n_n 1536 rfl rfl _ _ none j
    (fun k => A m c (0 * 1024 + (j 0).val) (t.val % 6 * 1536 + k)) (fun k => B m c (t.val / 6 * 1024 + (j 1).val) (t.val % 6 * 1536 + k))
    (fun _ => blk0 m c t _) (fun _ => blk1 m c t _)

theorem pay3 (t : Fin cfg0.N) (acc : Vec Ideal S1024x1024 .f32) (j : S1024x1024.Idx) :
    k0_pay3 (F := Ideal) (iblk m c 0 t) (iblk m c 1 t) acc j = acc j + part m c j t.val := by
  unfold k0_pay3
  rw [shapeCast_self, ← pay1]
  rfl

/-- The running sum the kernel keeps, at a place of the block. -/
abbrev S (j : S1024x1024.Idx) (n : ℕ) (h : n < cfg0.N) : EReal := (outsAt0 m c n h).2 j

theorem S_A (j : S1024x1024.Idx) (n : ℕ) (h : n < cfg0.N) (h0 : n % 6 = 0) : S m c j n h = part m c j n := by
  rw [S, outsAt0_A m c ⟨n, h⟩ h0 (by dsimp only; omega) (by dsimp only; omega), ← pay1 m c ⟨n, h⟩]
  simp only [sout0_A_0, kernelRun0_A, store2, load2, Memref.IsWhole.read_unread, k0_pay2, shapeCast_self]

/-- After the first step of a run the step adds its share, and at the run's last the block written is that sum. -/
theorem S_B (j : S1024x1024.Idx) (n : ℕ) (h : n < cfg0.N) (h0 : ¬n % 6 = 0) :
    S m c j n h = S m c j (n - 1) (Nat.lt_of_le_of_lt (Nat.sub_le _ _) h) + part m c j n
    ∧ (n % 6 = 5 → (outsAt0 m c n h).1 j = S m c j n h) := by
  rw [S, ← pay3 m c ⟨n, h⟩]
  by_cases hl : n % 6 = 5
  · rw [outsAt0_C m c ⟨n, h⟩ h0 (by dsimp only; omega) hl]
    simp only [sout0_C_0, out0_C_2, kernelRun0_C]
    sl_unfold_words
    simp only [store2, load2, cov2, Memref.IsWhole.read_unread, (Memref.isWhole_whole _).read_unread]
    exact ⟨trivial, fun _ => trivial⟩
  · rw [outsAt0_B m c ⟨n, h⟩ h0 (by dsimp only; omega) hl]
    simp only [sout0_B_0, kernelRun0_B, store2, load2, Memref.IsWhole.read_unread, (Memref.isWhole_whole _).read_unread]
    exact ⟨trivial, fun e => absurd e hl⟩

/-- What the result array ends holding. -/
theorem res (i : S1024x6144.Idx) : G2 m c i = prod 9216 (A m c) (B m c) (i 0).val (i 1).val := by
  have hN : cfg0.N = 36 := N_0
  have i0 : (i 0).val < 1024 := (i 0).isLt
  have i1 : (i 1).val < 6144 := (i 1).isLt
  have ep : pt2Of i = 6 * ((i 1).val / 1024) + 5 := by
    show 6 * (6 * ((i 0).val / 1024 - 0) + 1 * ((i 1).val / 1024 - 0)) + 5 = _
    omega
  have hp : pt2Of i < cfg0.N := by omega
  unfold G2
  rw [dif_pos hp, ← outsAt0_sweep m c _ hp, (S_B m c _ _ hp (by omega)).2 (by omega)]
  exact acc_prod (A m c) (B m c) (fun _ => 0) id (S m c) (S_A m c) (fun j n h h0 => (S_B m c j n h h0).1) _ _ hp (by omega)
    (by show 0 * 1024 + (i 0).val % 1024 = _; omega) (by show pt2Of i / 6 * 1024 + (i 1).val % 1024 = _; omega)

/-- The reference's product is the same sum. -/
theorem ref (x0 : Vec Ideal S9216x1024 .bf16) (x1 : Vec Ideal S9216x6144 .bf16) (i : S1024x6144.Idx) :
    Cert.L1QkvgDwRefIdeal.Read.val_main_v5 (F := Ideal) x0 x1 i = prod 9216 (fun r k => nat2 (z := ![9216, 1024]) x0 k r) (fun s k => nat2 (z := ![9216, 6144]) x1 k s) (i 0).val (i 1).val := by
  rw [Cert.L1QkvgDwRefIdeal.Read.val_main_v5_apply, Cert.L1QkvgDwRefIdeal.Read.val_main_v4_apply, prod, Finset.sum_range]
  exact Finset.sum_congr rfl fun k _ => (mul_comm _ _).trans
    (congrArg₂ (· * ·) (nat2_eq (z := ![9216, 1024]) x0 _ rfl rfl) (nat2_eq (z := ![9216, 6144]) x1 _ rfl rfl))

theorem equal [Cert.L1QkvgDwIdeal.Facts] [Cert.L1QkvgDwRefIdeal.Facts] : Cert.algebraic_L1QkvgDwIdeal_L1QkvgDwRefIdeal := by
  intro m g m' g' _ hsame
  refine ⟨fun c => G2 m c, run m g,
    (θ_run _ _ _).mono (fun r h c => ⟨(h c).1.trans (funext fun i => ?_), (h c).2⟩) (Cert.L1QkvgDwRefIdeal.Value.run m' g')⟩
  refine (ref _ _ i).trans ?_
  rw [(hsame c).1, (hsame c).2]
  exact (res m c i).symm

end Cert.L1QkvgDwIdeal.Own
-- ==== Proof.L1QkvgDx.lean ====
/- The gradient of a product with respect to its first factor, and the reference. -/
module

public import proofs.«01_k».proof.Defs
public import proofs.«01_k».proof.Proof.Acc
public import proofs.«01_k».proof.Proof.Gen.L1QkvgDxIdeal.Value
public import proofs.«01_k».proof.Proof.Gen.L1QkvgDxRefIdeal.Run
public import proofs.«01_k».proof.Proof.Gen.L1QkvgDxRefIdeal.Read

@[expose] public section

noncomputable section

namespace Cert.L1QkvgDxIdeal.Own

open Cert.L1QkvgDxIdeal Cert.L1QkvgDxIdeal.Gen Cert.L1QkvgDxIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val / 3 ∧ win0_0.index t 1 = t.val % 3 ∧ win0_1.index t 0 = 0 ∧ win0_1.index t 1 = t.val % 3 := by decide +kernel

/-- The two factors at natural coordinates, the summands' coordinate second. -/
abbrev A : ℕ → ℕ → EReal := nat2 (z := ![9216, 6144]) (m ((c : Thread nD τ).loc main_arg0))
abbrev B : ℕ → ℕ → EReal := nat2 (z := ![1024, 6144]) (m ((c : Thread nD τ).loc main_arg1))

theorem blk0 (t : Fin cfg0.N) (y : S1024x2048.Idx) : iblk m c 0 t y = A m c (t.val / 3 * 1024 + (y 0).val) (t.val % 3 * 2048 + (y 1).val) :=
  nat2_blk (z := ![9216, 6144]) (m ((c : Thread nD τ).loc main_arg0)) _ (idx t).1 (idx t).2.1 rfl rfl

theorem blk1 (t : Fin cfg0.N) (y : S1024x2048.Idx) : iblk m c 1 t y = B m c (0 * 1024 + (y 0).val) (t.val % 3 * 2048 + (y 1).val) :=
  nat2_blk (z := ![1024, 6144]) (m ((c : Thread nD τ).loc main_arg1)) _ (idx t).2.2.1 (idx t).2.2.2 rfl rfl

/-- A step's own share of the sum. -/
abbrev part (j : S1024x1024.Idx) (n : ℕ) : EReal := share 3 2048 1024 1024 (A m c) (B m c) id (fun _ => 0) j n

theorem pay1 (t : Fin cfg0.N) (j : S1024x1024.Idx) : k0_pay1 (F := Ideal) (iblk m c 0 t) (iblk m c 1 t) j = part m c j t.val :=
  matmul_sum dot_S1024x2048_S1024x2048_S1024x1024_1_1_0_0_n_n 2048 rfl rfl _ _ none j
    (fun k => A m c (t.val / 3 * 1024 + (j 0).val) (t.val % 3 * 2048 + k)) (fun k => B m c (0 * 1024 + (j 1).val) (t.val % 3 * 2048 + k))
    (fun _ => blk0 m c t _) (fun _ => blk1 m c t _)

theorem pay3 (t : Fin cfg0.N) (acc : Vec Ideal S1024x1024 .f32) (j : S1024x1024.Idx) :
    k0_pay3 (F := Ideal) (iblk m c 0 t) (iblk m c 1 t) acc j = acc j + part m c j t.val := by
  unfold k0_pay3
  rw [shapeCast_self, ← pay1]
  rfl

/-- The running sum the kernel keeps, at a place of the block. -/
abbrev S (j : S1024x1024.Idx) (n : ℕ) (h : n < cfg0.N) : EReal := (outsAt0 m c n h).2 j

theorem S_A (j : S1024x1024.Idx) (n : ℕ) (h : n < cfg0.N) (h0 : n % 3 = 0) : S m c j n h = part m c j n := by
  rw [S, outsAt0_A m c ⟨n, h⟩ h0 (by dsimp only; omega) (by dsimp only; omega), ← pay1 m c ⟨n, h⟩]
  simp only [sout0_A_0, kernelRun0_A, store2, load2, Memref.IsWhole.read_unread, k0_pay2, shapeCast_self]

/-- After the first step of a run the step adds its share, and at the run's last the block written is that sum. -/
theorem S_B (j : S1024x1024.Idx) (n : ℕ) (h : n < cfg0.N) (h0 : ¬n % 3 = 0) :
    S m c j n h = S m c j (n - 1) (Nat.lt_of_le_of_lt (Nat.sub_le _ _) h) + part m c j n
    ∧ (n % 3 = 2 → (outsAt0 m c n h).1 j = S m c j n h) := by
  rw [S, ← pay3 m c ⟨n, h⟩]
  by_cases hl : n % 3 = 2
  · rw [outsAt0_C m c ⟨n, h⟩ h0 (by dsimp only; omega) hl]
    simp only [sout0_C_0, out0_C_2, kernelRun0_C]
    sl_unfold_words
    simp only [store2, load2, cov2, Memref.IsWhole.read_unread, (Memref.isWhole_whole _).read_unread]
    exact ⟨trivial, fun _ => trivial⟩
  · rw [outsAt0_B m c ⟨n, h⟩ h0 (by dsimp only; omega) hl]
    simp only [sout0_B_0, kernelRun0_B, store2, load2, Memref.IsWhole.read_unread, (Memref.isWhole_whole _).read_unread]
    exact ⟨trivial, fun e => absurd e hl⟩

/-- What the result array ends holding. -/
theorem res (i : S9216x1024.Idx) : G2 m c i = prod 6144 (A m c) (B m c) (i 0).val (i 1).val := by
  have hN : cfg0.N = 27 := N_0
  have i0 : (i 0).val < 9216 := (i 0).isLt
  have i1 : (i 1).val < 1024 := (i 1).isLt
  have ep : pt2Of i = 3 * ((i 0).val / 1024) + 2 := by
    show 3 * (1 * ((i 0).val / 1024 - 0) + 1 * ((i 1).val / 1024 - 0)) + 2 = _
    omega
  have hp : pt2Of i < cfg0.N := by omega
  unfold G2
  rw [dif_pos hp, ← outsAt0_sweep m c _ hp, (S_B m c _ _ hp (by omega)).2 (by omega)]
  exact acc_prod (A m c) (B m c) id (fun _ => 0) (S m c) (S_A m c) (fun j n h h0 => (S_B m c j n h h0).1) _ _ hp (by omega)
    (by show pt2Of i / 3 * 1024 + (i 0).val % 1024 = _; omega) (by show 0 * 1024 + (i 1).val % 1024 = _; omega)

/-- The reference's product is the same sum. -/
theorem ref (x0 : Vec Ideal S9216x6144 .bf16) (x1 : Vec Ideal S1024x6144 .bf16) (i : S9216x1024.Idx) :
    Cert.L1QkvgDxRefIdeal.Read.val_main_v4 (F := Ideal) x0 x1 i = prod 6144 (nat2 (z := ![9216, 6144]) x0) (nat2 (z := ![1024, 6144]) x1) (i 0).val (i 1).val := by
  rw [Cert.L1QkvgDxRefIdeal.Read.val_main_v4_apply, prod, Finset.sum_range]
  exact Finset.sum_congr rfl fun k _ => congrArg₂ (· * ·) (nat2_eq (z := ![9216, 6144]) x0 _ rfl rfl) (nat2_eq (z := ![1024, 6144]) x1 _ rfl rfl)

theorem equal [Cert.L1QkvgDxIdeal.Facts] [Cert.L1QkvgDxRefIdeal.Facts] : Cert.algebraic_L1QkvgDxIdeal_L1QkvgDxRefIdeal := by
  intro m g m' g' _ hsame
  refine ⟨fun c => G2 m c, run m g,
    (θ_run _ _ _).mono (fun r h c => ⟨(h c).1.trans (funext fun i => ?_), (h c).2⟩) (Cert.L1QkvgDxRefIdeal.Value.run m' g')⟩
  refine (ref _ _ i).trans ?_
  rw [(hsame c).1, (hsame c).2]
  exact (res m c i).symm

end Cert.L1QkvgDxIdeal.Own
-- ==== Proof.L1Qkvg.lean ====
/- A product of the forward pass, and the reference. -/
module

public import proofs.«01_k».proof.Defs
public import proofs.«01_k».proof.Proof.Acc
public import proofs.«01_k».proof.Proof.Gen.L1QkvgIdeal.Value
public import proofs.«01_k».proof.Proof.Gen.L1QkvgRefIdeal.Run
public import proofs.«01_k».proof.Proof.Gen.L1QkvgRefIdeal.Read

@[expose] public section

noncomputable section

namespace Cert.L1QkvgIdeal.Own

open Cert.L1QkvgIdeal Cert.L1QkvgIdeal.Gen Cert.L1QkvgIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val / 6 ∧ win0_0.index t 1 = 0 ∧ win0_1.index t 0 = 0 ∧ win0_1.index t 1 = t.val % 6
    ∧ win0_2.index t 0 = t.val / 6 ∧ win0_2.index t 1 = t.val % 6 := by decide +kernel

/-- The two factors at natural coordinates, the summands' coordinate second. -/
abbrev A : ℕ → ℕ → EReal := nat2 (z := ![9216, 1024]) (m ((c : Thread nD τ).loc main_arg0))
abbrev B : ℕ → ℕ → EReal := fun s k => nat2 (z := ![1024, 6144]) (m ((c : Thread nD τ).loc main_arg1)) k s

theorem blk0 (t : Fin cfg0.N) (y : S1024x1024.Idx) : iblk m c 0 t y = A m c (t.val / 6 * 1024 + (y 0).val) (0 * 1024 + (y 1).val) :=
  nat2_blk (z := ![9216, 1024]) (m ((c : Thread nD τ).loc main_arg0)) _ (idx t).1 (idx t).2.1 rfl rfl

theorem blk1 (t : Fin cfg0.N) (y : S1024x1024.Idx) : iblk m c 1 t y = B m c (t.val % 6 * 1024 + (y 1).val) (0 * 1024 + (y 0).val) :=
  nat2_blk (z := ![1024, 6144]) (m ((c : Thread nD τ).loc main_arg1)) _ (idx t).2.2.1 (idx t).2.2.2.1 rfl rfl

theorem pay1 (t : Fin cfg0.N) (j : S1024x1024.Idx) : k0_pay1 (F := Ideal) (iblk m c 0 t) (iblk m c 1 t) j
    = prod 1024 (A m c) (B m c) (t.val / 6 * 1024 + (j 0).val) (t.val % 6 * 1024 + (j 1).val) :=
  matmul_sum dot_S1024x1024_S1024x1024_S1024x1024_1_0_0_1_n_n 1024 rfl rfl _ _ none j (A m c (t.val / 6 * 1024 + (j 0).val)) (B m c (t.val % 6 * 1024 + (j 1).val))
    (fun _ => (blk0 m c t _).trans (congrArg (A m c _) (zero_off _ _))) (fun _ => (blk1 m c t _).trans (congrArg (B m c _) (zero_off _ _)))

/-- The result. -/
abbrev res : S9216x6144.Idx → EReal := fun i => prod 1024 (A m c) (B m c) (i 0).val (i 1).val

/-- Each point writes back its block of the product. -/
theorem flushed (t : Fin cfg0.N) (_ : (cfg0.win 2).flush t = true) :
    (dats m 0 c).flushed 2 t = ((cfg0.win 2).blk t).view.read (Elt Ideal) (res m c) := by
  obtain ⟨-, -, -, -, e0, e1⟩ := idx t
  rw [flushed2]
  funext j
  show out0_2 (F := Ideal) (iblk m c 0 t) (iblk m c 1 t) j = prod 1024 (A m c) (B m c) (win0_2.index t 0 * 1024 + 1 * (j 0).val) (win0_2.index t 1 * 1024 + 1 * (j 1).val)
  rw [e0, e1, one_mul, one_mul]
  unfold out0_2
  rw [View.canon_unit_zero zero2]
  simp only [View.ld_unit_zero (S := S1024x1024) zero2]
  exact pay1 m c t j

/-- And every place of the result lies in the block of some point. -/
theorem arr : (dats m 0 c).arrAt 2 cfg0.N = res m c := by
  refine Pipeline.Dat.arrAt_eq_of_cover (dats m 0 c) 2 _ (flushed m c) fun i => ?_
  have hN : cfg0.N = 54 := N_0
  have i0 : (i 0).val < 9216 := (i 0).isLt
  have i1 : (i 1).val < 6144 := (i 1).isLt
  obtain ⟨t, ht⟩ : ∃ t : Fin cfg0.N, t.val = 6 * ((i 0).val / 1024) + (i 1).val / 1024 := ⟨⟨_, by omega⟩, rfl⟩
  obtain ⟨-, -, -, -, e0, e1⟩ := idx t
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- The reference's product is the same sum. -/
theorem ref (x0 : Vec Ideal S9216x1024 .bf16) (x1 : Vec Ideal S1024x6144 .bf16) (i : S9216x6144.Idx) :
    Cert.L1QkvgRefIdeal.Read.val_main_v2 (F := Ideal) x0 x1 i = prod 1024 (nat2 (z := ![9216, 1024]) x0) (fun s k => nat2 (z := ![1024, 6144]) x1 k s) (i 0).val (i 1).val := by
  rw [Cert.L1QkvgRefIdeal.Read.val_main_v2_apply, prod, Finset.sum_range]
  exact Finset.sum_congr rfl fun k _ => congrArg₂ (· * ·) (nat2_eq (z := ![9216, 1024]) x0 _ rfl rfl) (nat2_eq (z := ![1024, 6144]) x1 _ rfl rfl)

theorem equal [Cert.L1QkvgIdeal.Facts] [Cert.L1QkvgRefIdeal.Facts] : Cert.algebraic_L1QkvgIdeal_L1QkvgRefIdeal := by
  intro m g m' g' _ hsame
  refine ⟨fun c => res m c, (θ_run _ _ _).mono (fun r h c => ⟨(h c).1.trans (arr m c), (h c).2⟩) (run_blocks m g),
    (θ_run _ _ _).mono (fun r h c => ⟨(h c).1.trans (funext fun i => ?_), (h c).2⟩) (Cert.L1QkvgRefIdeal.Value.run m' g')⟩
  refine (ref _ _ i).trans ?_
  rw [(hsame c).1, (hsame c).2]

end Cert.L1QkvgIdeal.Own
-- ==== Proof.L0InDw.lean ====
/- A weight gradient: the running sums over the rows, and the reference. -/
module

public import proofs.«01_k».proof.Defs
public import proofs.«01_k».proof.Proof.Acc
public import proofs.«01_k».proof.Proof.Gen.L0InDwIdeal.Value
public import proofs.«01_k».proof.Proof.Gen.L0InDwRefIdeal.Run
public import proofs.«01_k».proof.Proof.Gen.L0InDwRefIdeal.Read

@[expose] public section

noncomputable section

namespace Cert.L0InDwIdeal.Own

open Cert.L0InDwIdeal Cert.L0InDwIdeal.Gen Cert.L0InDwIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val % 6 ∧ win0_0.index t 1 = 0 ∧ win0_1.index t 0 = t.val % 6 ∧ win0_1.index t 1 = t.val / 6 := by decide +kernel

/-- The two factors at natural coordinates, the summands' coordinate second. -/
abbrev A : ℕ → ℕ → EReal := fun r k => nat2 (z := ![9216, 1024]) (m ((c : Thread nD τ).loc main_arg0)) k r
abbrev B : ℕ → ℕ → EReal := fun s k => nat2 (z := ![9216, 5632]) (m ((c : Thread nD τ).loc main_arg1)) k s

theorem blk0 (t : Fin cfg0.N) (y : S1536x1024.Idx) : iblk m c 0 t y = A m c (0 * 1024 + (y 1).val) (t.val % 6 * 1536 + (y 0).val) :=
  nat2_blk (z := ![9216, 1024]) (m ((c : Thread nD τ).loc main_arg0)) _ (idx t).1 (idx t).2.1 rfl rfl

theorem blk1 (t : Fin cfg0.N) (y : S1536x1408.Idx) : iblk m c 1 t y = B m c (t.val / 6 * 1408 + (y 1).val) (t.val % 6 * 1536 + (y 0).val) :=
  nat2_blk (z := ![9216, 5632]) (m ((c : Thread nD τ).loc main_arg1)) _ (idx t).2.2.1 (idx t).2.2.2 rfl rfl

/-- A step's own share of the sum. -/
abbrev part (j : S1024x1408.Idx) (n : ℕ) : EReal := share 6 1536 1024 1408 (A m c) (B m c) (fun _ => 0) id j n

theorem pay1 (t : Fin cfg0.N) (j : S1024x1408.Idx) : k0_pay1 (F := Ideal) (iblk m c 0 t) (iblk m c 1 t) j = part m c j t.val :=
  matmul_sum dot_S1536x1024_S1536x1408_S1024x1408_0_0_1_1_n_n 1536 rfl rfl _ _ none j
    (fun k => A m c (0 * 1024 + (j 0).val) (t.val % 6 * 1536 + k)) (fun k => B m c (t.val / 6 * 1408 + (j 1).val) (t.val % 6 * 1536 + k))
    (fun _ => blk0 m c t _) (fun _ => blk1 m c t _)

theorem pay3 (t : Fin cfg0.N) (acc : Vec Ideal S1024x1408 .f32) (j : S1024x1408.Idx) :
    k0_pay3 (F := Ideal) (iblk m c 0 t) (iblk m c 1 t) acc j = acc j + part m c j t.val := by
  unfold k0_pay3
  rw [shapeCast_self, ← pay1]
  rfl

/-- The running sum the kernel keeps, at a place of the block. -/
abbrev S (j : S1024x1408.Idx) (n : ℕ) (h : n < cfg0.N) : EReal := (outsAt0 m c n h).2 j

theorem S_A (j : S1024x1408.Idx) (n : ℕ) (h : n < cfg0.N) (h0 : n % 6 = 0) : S m c j n h = part m c j n := by
  rw [S, outsAt0_A m c ⟨n, h⟩ h0 (by dsimp only; omega) (by dsimp only; omega), ← pay1 m c ⟨n, h⟩]
  simp only [sout0_A_0, kernelRun0_A, store2, load2, Memref.IsWhole.read_unread, k0_pay2, shapeCast_self]

/-- After the first step of a run the step adds its share, and at the run's last the block written is that sum. -/
theorem S_B (j : S1024x1408.Idx) (n : ℕ) (h : n < cfg0.N) (h0 : ¬n % 6 = 0) :
    S m c j n h = S m c j (n - 1) (Nat.lt_of_le_of_lt (Nat.sub_le _ _) h) + part m c j n
    ∧ (n % 6 = 5 → (outsAt0 m c n h).1 j = S m c j n h) := by
  rw [S, ← pay3 m c ⟨n, h⟩]
  by_cases hl : n % 6 = 5
  · rw [outsAt0_C m c ⟨n, h⟩ h0 (by dsimp only; omega) hl]
    simp only [sout0_C_0, out0_C_2, kernelRun0_C]
    sl_unfold_words
    simp only [store2, load2, cov2, Memref.IsWhole.read_unread, (Memref.isWhole_whole _).read_unread]
    exact ⟨trivial, fun _ => trivial⟩
  · rw [outsAt0_B m c ⟨n, h⟩ h0 (by dsimp only; omega) hl]
    simp only [sout0_B_0, kernelRun0_B, store2, load2, Memref.IsWhole.read_unread, (Memref.isWhole_whole _).read_unread]
    exact ⟨trivial, fun e => absurd e hl⟩

/-- What the result array ends holding. -/
theorem res (i : S1024x5632.Idx) : G2 m c i = prod 9216 (A m c) (B m c) (i 0).val (i 1).val := by
  have hN : cfg0.N = 24 := N_0
  have i0 : (i 0).val < 1024 := (i 0).isLt
  have i1 : (i 1).val < 5632 := (i 1).isLt
  have ep : pt2Of i = 6 * ((i 1).val / 1408) + 5 := by
    show 6 * (4 * ((i 0).val / 1024 - 0) + 1 * ((i 1).val / 1408 - 0)) + 5 = _
    omega
  have hp : pt2Of i < cfg0.N := by omega
  unfold G2
  rw [dif_pos hp, ← outsAt0_sweep m c _ hp, (S_B m c _ _ hp (by omega)).2 (by omega)]
  exact acc_prod (A m c) (B m c) (fun _ => 0) id (S m c) (S_A m c) (fun j n h h0 => (S_B m c j n h h0).1) _ _ hp (by omega)
    (by show 0 * 1024 + (i 0).val % 1024 = _; omega) (by show pt2Of i / 6 * 1408 + (i 1).val % 1408 = _; omega)

/-- The reference's product is the same sum. -/
theorem ref (x0 : Vec Ideal S9216x1024 .bf16) (x1 : Vec Ideal S9216x5632 .bf16) (i : S1024x5632.Idx) :
    Cert.L0InDwRefIdeal.Read.val_main_v5 (F := Ideal) x0 x1 i = prod 9216 (fun r k => nat2 (z := ![9216, 1024]) x0 k r) (fun s k => nat2 (z := ![9216, 5632]) x1 k s) (i 0).val (i 1).val := by
  rw [Cert.L0InDwRefIdeal.Read.val_main_v5_apply, Cert.L0InDwRefIdeal.Read.val_main_v4_apply, prod, Finset.sum_range]
  exact Finset.sum_congr rfl fun k _ => (mul_comm _ _).trans
    (congrArg₂ (· * ·) (nat2_eq (z := ![9216, 1024]) x0 _ rfl rfl) (nat2_eq (z := ![9216, 5632]) x1 _ rfl rfl))

theorem equal [Cert.L0InDwIdeal.Facts] [Cert.L0InDwRefIdeal.Facts] : Cert.algebraic_L0InDwIdeal_L0InDwRefIdeal := by
  intro m g m' g' _ hsame
  refine ⟨fun c => G2 m c, run m g,
    (θ_run _ _ _).mono (fun r h c => ⟨(h c).1.trans (funext fun i => ?_), (h c).2⟩) (Cert.L0InDwRefIdeal.Value.run m' g')⟩
  refine (ref _ _ i).trans ?_
  rw [(hsame c).1, (hsame c).2]
  exact (res m c i).symm

end Cert.L0InDwIdeal.Own
-- ==== Proof.L0InDx.lean ====
/- The gradient of a product with respect to its first factor, and the reference. -/
module

public import proofs.«01_k».proof.Defs
public import proofs.«01_k».proof.Proof.Acc
public import proofs.«01_k».proof.Proof.Gen.L0InDxIdeal.Value
public import proofs.«01_k».proof.Proof.Gen.L0InDxRefIdeal.Run
public import proofs.«01_k».proof.Proof.Gen.L0InDxRefIdeal.Read

@[expose] public section

noncomputable section

namespace Cert.L0InDxIdeal.Own

open Cert.L0InDxIdeal Cert.L0InDxIdeal.Gen Cert.L0InDxIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val / 4 ∧ win0_0.index t 1 = t.val % 4 ∧ win0_1.index t 0 = 0 ∧ win0_1.index t 1 = t.val % 4 := by decide +kernel

/-- The two factors at natural coordinates, the summands' coordinate second. -/
abbrev A : ℕ → ℕ → EReal := nat2 (z := ![9216, 5632]) (m ((c : Thread nD τ).loc main_arg0))
abbrev B : ℕ → ℕ → EReal := nat2 (z := ![1024, 5632]) (m ((c : Thread nD τ).loc main_arg1))

theorem blk0 (t : Fin cfg0.N) (y : S1024x1408.Idx) : iblk m c 0 t y = A m c (t.val / 4 * 1024 + (y 0).val) (t.val % 4 * 1408 + (y 1).val) :=
  nat2_blk (z := ![9216, 5632]) (m ((c : Thread nD τ).loc main_arg0)) _ (idx t).1 (idx t).2.1 rfl rfl

theorem blk1 (t : Fin cfg0.N) (y : S1024x1408.Idx) : iblk m c 1 t y = B m c (0 * 1024 + (y 0).val) (t.val % 4 * 1408 + (y 1).val) :=
  nat2_blk (z := ![1024, 5632]) (m ((c : Thread nD τ).loc main_arg1)) _ (idx t).2.2.1 (idx t).2.2.2 rfl rfl

/-- A step's own share of the sum. -/
abbrev part (j : S1024x1024.Idx) (n : ℕ) : EReal := share 4 1408 1024 1024 (A m c) (B m c) id (fun _ => 0) j n

theorem pay1 (t : Fin cfg0.N) (j : S1024x1024.Idx) : k0_pay1 (F := Ideal) (iblk m c 0 t) (iblk m c 1 t) j = part m c j t.val :=
  matmul_sum dot_S1024x1408_S1024x1408_S1024x1024_1_1_0_0_n_n 1408 rfl rfl _ _ none j
    (fun k => A m c (t.val / 4 * 1024 + (j 0).val) (t.val % 4 * 1408 + k)) (fun k => B m c (0 * 1024 + (j 1).val) (t.val % 4 * 1408 + k))
    (fun _ => blk0 m c t _) (fun _ => blk1 m c t _)

theorem pay3 (t : Fin cfg0.N) (acc : Vec Ideal S1024x1024 .f32) (j : S1024x1024.Idx) :
    k0_pay3 (F := Ideal) (iblk m c 0 t) (iblk m c 1 t) acc j = acc j + part m c j t.val := by
  unfold k0_pay3
  rw [shapeCast_self, ← pay1]
  rfl

/-- The running sum the kernel keeps, at a place of the block. -/
abbrev S (j : S1024x1024.Idx) (n : ℕ) (h : n < cfg0.N) : EReal := (outsAt0 m c n h).2 j

theorem S_A (j : S1024x1024.Idx) (n : ℕ) (h : n < cfg0.N) (h0 : n % 4 = 0) : S m c j n h = part m c j n := by
  rw [S, outsAt0_A m c ⟨n, h⟩ h0 (by dsimp only; omega) (by dsimp only; omega), ← pay1 m c ⟨n, h⟩]
  simp only [sout0_A_0, kernelRun0_A, store2, load2, Memref.IsWhole.read_unread, k0_pay2, shapeCast_self]

/-- After the first step of a run the step adds its share, and at the run's last the block written is that sum. -/
theorem S_B (j : S1024x1024.Idx) (n : ℕ) (h : n < cfg0.N) (h0 : ¬n % 4 = 0) :
    S m c j n h = S m c j (n - 1) (Nat.lt_of_le_of_lt (Nat.sub_le _ _) h) + part m c j n
    ∧ (n % 4 = 3 → (outsAt0 m c n h).1 j = S m c j n h) := by
  rw [S, ← pay3 m c ⟨n, h⟩]
  by_cases hl : n % 4 = 3
  · rw [outsAt0_C m c ⟨n, h⟩ h0 (by dsimp only; omega) hl]
    simp only [sout0_C_0, out0_C_2, kernelRun0_C]
    sl_unfold_words
    simp only [store2, load2, cov2, Memref.IsWhole.read_unread, (Memref.isWhole_whole _).read_unread]
    exact ⟨trivial, fun _ => trivial⟩
  · rw [outsAt0_B m c ⟨n, h⟩ h0 (by dsimp only; omega) hl]
    simp only [sout0_B_0, kernelRun0_B, store2, load2, Memref.IsWhole.read_unread, (Memref.isWhole_whole _).read_unread]
    exact ⟨trivial, fun e => absurd e hl⟩

/-- What the result array ends holding. -/
theorem res (i : S9216x1024.Idx) : G2 m c i = prod 5632 (A m c) (B m c) (i 0).val (i 1).val := by
  have hN : cfg0.N = 36 := N_0
  have i0 : (i 0).val < 9216 := (i 0).isLt
  have i1 : (i 1).val < 1024 := (i 1).isLt
  have ep : pt2Of i = 4 * ((i 0).val / 1024) + 3 := by
    show 4 * (1 * ((i 0).val / 1024 - 0) + 1 * ((i 1).val / 1024 - 0)) + 3 = _
    omega
  have hp : pt2Of i < cfg0.N := by omega
  unfold G2
  rw [dif_pos hp, ← outsAt0_sweep m c _ hp, (S_B m c _ _ hp (by omega)).2 (by omega)]
  exact acc_prod (A m c) (B m c) id (fun _ => 0) (S m c) (S_A m c) (fun j n h h0 => (S_B m c j n h h0).1) _ _ hp (by omega)
    (by show pt2Of i / 4 * 1024 + (i 0).val % 1024 = _; omega) (by show 0 * 1024 + (i 1).val % 1024 = _; omega)

/-- The reference's product is the same sum. -/
theorem ref (x0 : Vec Ideal S9216x5632 .bf16) (x1 : Vec Ideal S1024x5632 .bf16) (i : S9216x1024.Idx) :
    Cert.L0InDxRefIdeal.Read.val_main_v4 (F := Ideal) x0 x1 i = prod 5632 (nat2 (z := ![9216, 5632]) x0) (nat2 (z := ![1024, 5632]) x1) (i 0).val (i 1).val := by
  rw [Cert.L0InDxRefIdeal.Read.val_main_v4_apply, prod, Finset.sum_range]
  exact Finset.sum_congr rfl fun k _ => congrArg₂ (· * ·) (nat2_eq (z := ![9216, 5632]) x0 _ rfl rfl) (nat2_eq (z := ![1024, 5632]) x1 _ rfl rfl)

theorem equal [Cert.L0InDxIdeal.Facts] [Cert.L0InDxRefIdeal.Facts] : Cert.algebraic_L0InDxIdeal_L0InDxRefIdeal := by
  intro m g m' g' _ hsame
  refine ⟨fun c => G2 m c, run m g,
    (θ_run _ _ _).mono (fun r h c => ⟨(h c).1.trans (funext fun i => ?_), (h c).2⟩) (Cert.L0InDxRefIdeal.Value.run m' g')⟩
  refine (ref _ _ i).trans ?_
  rw [(hsame c).1, (hsame c).2]
  exact (res m c i).symm

end Cert.L0InDxIdeal.Own
-- ==== Proof.L1InDw.lean ====
/- A weight gradient: the running sums over the rows, and the reference. -/
module

public import proofs.«01_k».proof.Defs
public import proofs.«01_k».proof.Proof.Acc
public import proofs.«01_k».proof.Proof.Gen.L1InDwIdeal.Value
public import proofs.«01_k».proof.Proof.Gen.L1InDwRefIdeal.Run
public import proofs.«01_k».proof.Proof.Gen.L1InDwRefIdeal.Read

@[expose] public section

noncomputable section

namespace Cert.L1InDwIdeal.Own

open Cert.L1InDwIdeal Cert.L1InDwIdeal.Gen Cert.L1InDwIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val % 4 ∧ win0_0.index t 1 = 0 ∧ win0_1.index t 0 = t.val % 4 ∧ win0_1.index t 1 = t.val / 4 := by decide +kernel

/-- The two factors at natural coordinates, the summands' coordinate second. -/
abbrev A : ℕ → ℕ → EReal := fun r k => nat2 (z := ![8192, 1024]) (m ((c : Thread nD τ).loc main_arg0)) k r
abbrev B : ℕ → ℕ → EReal := fun s k => nat2 (z := ![8192, 5632]) (m ((c : Thread nD τ).loc main_arg1)) k s

theorem blk0 (t : Fin cfg0.N) (y : S2048x1024.Idx) : iblk m c 0 t y = A m c (0 * 1024 + (y 1).val) (t.val % 4 * 2048 + (y 0).val) :=
  nat2_blk (z := ![8192, 1024]) (m ((c : Thread nD τ).loc main_arg0)) _ (idx t).1 (idx t).2.1 rfl rfl

theorem blk1 (t : Fin cfg0.N) (y : S2048x1408.Idx) : iblk m c 1 t y = B m c (t.val / 4 * 1408 + (y 1).val) (t.val % 4 * 2048 + (y 0).val) :=
  nat2_blk (z := ![8192, 5632]) (m ((c : Thread nD τ).loc main_arg1)) _ (idx t).2.2.1 (idx t).2.2.2 rfl rfl

/-- A step's own share of the sum. -/
abbrev part (j : S1024x1408.Idx) (n : ℕ) : EReal := share 4 2048 1024 1408 (A m c) (B m c) (fun _ => 0) id j n

theorem pay1 (t : Fin cfg0.N) (j : S1024x1408.Idx) : k0_pay1 (F := Ideal) (iblk m c 0 t) (iblk m c 1 t) j = part m c j t.val :=
  matmul_sum dot_S2048x1024_S2048x1408_S1024x1408_0_0_1_1_n_n 2048 rfl rfl _ _ none j
    (fun k => A m c (0 * 1024 + (j 0).val) (t.val % 4 * 2048 + k)) (fun k => B m c (t.val / 4 * 1408 + (j 1).val) (t.val % 4 * 2048 + k))
    (fun _ => blk0 m c t _) (fun _ => blk1 m c t _)

theorem pay3 (t : Fin cfg0.N) (acc : Vec Ideal S1024x1408 .f32) (j : S1024x1408.Idx) :
    k0_pay3 (F := Ideal) (iblk m c 0 t) (iblk m c 1 t) acc j = acc j + part m c j t.val := by
  unfold k0_pay3
  rw [shapeCast_self, ← pay1]
  rfl

/-- The running sum the kernel keeps, at a place of the block. -/
abbrev S (j : S1024x1408.Idx) (n : ℕ) (h : n < cfg0.N) : EReal := (outsAt0 m c n h).2 j

theorem S_A (j : S1024x1408.Idx) (n : ℕ) (h : n < cfg0.N) (h0 : n % 4 = 0) : S m c j n h = part m c j n := by
  rw [S, outsAt0_A m c ⟨n, h⟩ h0 (by dsimp only; omega) (by dsimp only; omega), ← pay1 m c ⟨n, h⟩]
  simp only [sout0_A_0, kernelRun0_A, store2, load2, Memref.IsWhole.read_unread, k0_pay2, shapeCast_self]

/-- After the first step of a run the step adds its share, and at the run's last the block written is that sum. -/
theorem S_B (j : S1024x1408.Idx) (n : ℕ) (h : n < cfg0.N) (h0 : ¬n % 4 = 0) :
    S m c j n h = S m c j (n - 1) (Nat.lt_of_le_of_lt (Nat.sub_le _ _) h) + part m c j n
    ∧ (n % 4 = 3 → (outsAt0 m c n h).1 j = S m c j n h) := by
  rw [S, ← pay3 m c ⟨n, h⟩]
  by_cases hl : n % 4 = 3
  · rw [outsAt0_C m c ⟨n, h⟩ h0 (by dsimp only; omega) hl]
    simp only [sout0_C_0, out0_C_2, kernelRun0_C]
    sl_unfold_words
    simp only [store2, load2, cov2, Memref.IsWhole.read_unread, (Memref.isWhole_whole _).read_unread]
    exact ⟨trivial, fun _ => trivial⟩
  · rw [outsAt0_B m c ⟨n, h⟩ h0 (by dsimp only; omega) hl]
    simp only [sout0_B_0, kernelRun0_B, store2, load2, Memref.IsWhole.read_unread, (Memref.isWhole_whole _).read_unread]
    exact ⟨trivial, fun e => absurd e hl⟩

/-- What the result array ends holding. -/
theorem res (i : S1024x5632.Idx) : G2 m c i = prod 8192 (A m c) (B m c) (i 0).val (i 1).val := by
  have hN : cfg0.N = 16 := N_0
  have i0 : (i 0).val < 1024 := (i 0).isLt
  have i1 : (i 1).val < 5632 := (i 1).isLt
  have ep : pt2Of i = 4 * ((i 1).val / 1408) + 3 := by
    show 4 * (4 * ((i 0).val / 1024 - 0) + 1 * ((i 1).val / 1408 - 0)) + 3 = _
    omega
  have hp : pt2Of i < cfg0.N := by omega
  unfold G2
  rw [dif_pos hp, ← outsAt0_sweep m c _ hp, (S_B m c _ _ hp (by omega)).2 (by omega)]
  exact acc_prod (A m c) (B m c) (fun _ => 0) id (S m c) (S_A m c) (fun j n h h0 => (S_B m c j n h h0).1) _ _ hp (by omega)
    (by show 0 * 1024 + (i 0).val % 1024 = _; omega) (by show pt2Of i / 4 * 1408 + (i 1).val % 1408 = _; omega)

/-- The reference's product is the same sum. -/
theorem ref (x0 : Vec Ideal S8192x1024 .bf16) (x1 : Vec Ideal S8192x5632 .bf16) (i : S1024x5632.Idx) :
    Cert.L1InDwRefIdeal.Read.val_main_v5 (F := Ideal) x0 x1 i = prod 8192 (fun r k => nat2 (z := ![8192, 1024]) x0 k r) (fun s k => nat2 (z := ![8192, 5632]) x1 k s) (i 0).val (i 1).val := by
  rw [Cert.L1InDwRefIdeal.Read.val_main_v5_apply, Cert.L1InDwRefIdeal.Read.val_main_v4_apply, prod, Finset.sum_range]
  exact Finset.sum_congr rfl fun k _ => (mul_comm _ _).trans
    (congrArg₂ (· * ·) (nat2_eq (z := ![8192, 1024]) x0 _ rfl rfl) (nat2_eq (z := ![8192, 5632]) x1 _ rfl rfl))

theorem equal [Cert.L1InDwIdeal.Facts] [Cert.L1InDwRefIdeal.Facts] : Cert.algebraic_L1InDwIdeal_L1InDwRefIdeal := by
  intro m g m' g' _ hsame
  refine ⟨fun c => G2 m c, run m g,
    (θ_run _ _ _).mono (fun r h c => ⟨(h c).1.trans (funext fun i => ?_), (h c).2⟩) (Cert.L1InDwRefIdeal.Value.run m' g')⟩
  refine (ref _ _ i).trans ?_
  rw [(hsame c).1, (hsame c).2]
  exact (res m c i).symm

end Cert.L1InDwIdeal.Own
-- ==== Proof.L1InDx.lean ====
/- The gradient of a product with respect to its first factor, and the reference. -/
module

public import proofs.«01_k».proof.Defs
public import proofs.«01_k».proof.Proof.Acc
public import proofs.«01_k».proof.Proof.Gen.L1InDxIdeal.Value
public import proofs.«01_k».proof.Proof.Gen.L1InDxRefIdeal.Run
public import proofs.«01_k».proof.Proof.Gen.L1InDxRefIdeal.Read

@[expose] public section

noncomputable section

namespace Cert.L1InDxIdeal.Own

open Cert.L1InDxIdeal Cert.L1InDxIdeal.Gen Cert.L1InDxIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val / 4 ∧ win0_0.index t 1 = t.val % 4 ∧ win0_1.index t 0 = 0 ∧ win0_1.index t 1 = t.val % 4 := by decide +kernel

/-- The two factors at natural coordinates, the summands' coordinate second. -/
abbrev A : ℕ → ℕ → EReal := nat2 (z := ![8192, 5632]) (m ((c : Thread nD τ).loc main_arg0))
abbrev B : ℕ → ℕ → EReal := nat2 (z := ![1024, 5632]) (m ((c : Thread nD τ).loc main_arg1))

theorem blk0 (t : Fin cfg0.N) (y : S1024x1408.Idx) : iblk m c 0 t y = A m c (t.val / 4 * 1024 + (y 0).val) (t.val % 4 * 1408 + (y 1).val) :=
  nat2_blk (z := ![8192, 5632]) (m ((c : Thread nD τ).loc main_arg0)) _ (idx t).1 (idx t).2.1 rfl rfl

theorem blk1 (t : Fin cfg0.N) (y : S1024x1408.Idx) : iblk m c 1 t y = B m c (0 * 1024 + (y 0).val) (t.val % 4 * 1408 + (y 1).val) :=
  nat2_blk (z := ![1024, 5632]) (m ((c : Thread nD τ).loc main_arg1)) _ (idx t).2.2.1 (idx t).2.2.2 rfl rfl

/-- A step's own share of the sum. -/
abbrev part (j : S1024x1024.Idx) (n : ℕ) : EReal := share 4 1408 1024 1024 (A m c) (B m c) id (fun _ => 0) j n

theorem pay1 (t : Fin cfg0.N) (j : S1024x1024.Idx) : k0_pay1 (F := Ideal) (iblk m c 0 t) (iblk m c 1 t) j = part m c j t.val :=
  matmul_sum dot_S1024x1408_S1024x1408_S1024x1024_1_1_0_0_n_n 1408 rfl rfl _ _ none j
    (fun k => A m c (t.val / 4 * 1024 + (j 0).val) (t.val % 4 * 1408 + k)) (fun k => B m c (0 * 1024 + (j 1).val) (t.val % 4 * 1408 + k))
    (fun _ => blk0 m c t _) (fun _ => blk1 m c t _)

theorem pay3 (t : Fin cfg0.N) (acc : Vec Ideal S1024x1024 .f32) (j : S1024x1024.Idx) :
    k0_pay3 (F := Ideal) (iblk m c 0 t) (iblk m c 1 t) acc j = acc j + part m c j t.val := by
  unfold k0_pay3
  rw [shapeCast_self, ← pay1]
  rfl

/-- The running sum the kernel keeps, at a place of the block. -/
abbrev S (j : S1024x1024.Idx) (n : ℕ) (h : n < cfg0.N) : EReal := (outsAt0 m c n h).2 j

theorem S_A (j : S1024x1024.Idx) (n : ℕ) (h : n < cfg0.N) (h0 : n % 4 = 0) : S m c j n h = part m c j n := by
  rw [S, outsAt0_A m c ⟨n, h⟩ h0 (by dsimp only; omega) (by dsimp only; omega), ← pay1 m c ⟨n, h⟩]
  simp only [sout0_A_0, kernelRun0_A, store2, load2, Memref.IsWhole.read_unread, k0_pay2, shapeCast_self]

/-- After the first step of a run the step adds its share, and at the run's last the block written is that sum. -/
theorem S_B (j : S1024x1024.Idx) (n : ℕ) (h : n < cfg0.N) (h0 : ¬n % 4 = 0) :
    S m c j n h = S m c j (n - 1) (Nat.lt_of_le_of_lt (Nat.sub_le _ _) h) + part m c j n
    ∧ (n % 4 = 3 → (outsAt0 m c n h).1 j = S m c j n h) := by
  rw [S, ← pay3 m c ⟨n, h⟩]
  by_cases hl : n % 4 = 3
  · rw [outsAt0_C m c ⟨n, h⟩ h0 (by dsimp only; omega) hl]
    simp only [sout0_C_0, out0_C_2, kernelRun0_C]
    sl_unfold_words
    simp only [store2, load2, cov2, Memref.IsWhole.read_unread, (Memref.isWhole_whole _).read_unread]
    exact ⟨trivial, fun _ => trivial⟩
  · rw [outsAt0_B m c ⟨n, h⟩ h0 (by dsimp only; omega) hl]
    simp only [sout0_B_0, kernelRun0_B, store2, load2, Memref.IsWhole.read_unread, (Memref.isWhole_whole _).read_unread]
    exact ⟨trivial, fun e => absurd e hl⟩

/-- What the result array ends holding. -/
theorem res (i : S8192x1024.Idx) : G2 m c i = prod 5632 (A m c) (B m c) (i 0).val (i 1).val := by
  have hN : cfg0.N = 32 := N_0
  have i0 : (i 0).val < 8192 := (i 0).isLt
  have i1 : (i 1).val < 1024 := (i 1).isLt
  have ep : pt2Of i = 4 * ((i 0).val / 1024) + 3 := by
    show 4 * (1 * ((i 0).val / 1024 - 0) + 1 * ((i 1).val / 1024 - 0)) + 3 = _
    omega
  have hp : pt2Of i < cfg0.N := by omega
  unfold G2
  rw [dif_pos hp, ← outsAt0_sweep m c _ hp, (S_B m c _ _ hp (by omega)).2 (by omega)]
  exact acc_prod (A m c) (B m c) id (fun _ => 0) (S m c) (S_A m c) (fun j n h h0 => (S_B m c j n h h0).1) _ _ hp (by omega)
    (by show pt2Of i / 4 * 1024 + (i 0).val % 1024 = _; omega) (by show 0 * 1024 + (i 1).val % 1024 = _; omega)

/-- The reference's product is the same sum. -/
theorem ref (x0 : Vec Ideal S8192x5632 .bf16) (x1 : Vec Ideal S1024x5632 .bf16) (i : S8192x1024.Idx) :
    Cert.L1InDxRefIdeal.Read.val_main_v4 (F := Ideal) x0 x1 i = prod 5632 (nat2 (z := ![8192, 5632]) x0) (nat2 (z := ![1024, 5632]) x1) (i 0).val (i 1).val := by
  rw [Cert.L1InDxRefIdeal.Read.val_main_v4_apply, prod, Finset.sum_range]
  exact Finset.sum_congr rfl fun k _ => congrArg₂ (· * ·) (nat2_eq (z := ![8192, 5632]) x0 _ rfl rfl) (nat2_eq (z := ![1024, 5632]) x1 _ rfl rfl)

theorem equal [Cert.L1InDxIdeal.Facts] [Cert.L1InDxRefIdeal.Facts] : Cert.algebraic_L1InDxIdeal_L1InDxRefIdeal := by
  intro m g m' g' _ hsame
  refine ⟨fun c => G2 m c, run m g,
    (θ_run _ _ _).mono (fun r h c => ⟨(h c).1.trans (funext fun i => ?_), (h c).2⟩) (Cert.L1InDxRefIdeal.Value.run m' g')⟩
  refine (ref _ _ i).trans ?_
  rw [(hsame c).1, (hsame c).2]
  exact (res m c i).symm

end Cert.L1InDxIdeal.Own
-- ==== Proof.L0OutDw.lean ====
/- A weight gradient: the running sums over the rows, and the reference. -/
module

public import proofs.«01_k».proof.Defs
public import proofs.«01_k».proof.Proof.Acc
public import proofs.«01_k».proof.Proof.Gen.L0OutDwIdeal.Value
public import proofs.«01_k».proof.Proof.Gen.L0OutDwRefIdeal.Run
public import proofs.«01_k».proof.Proof.Gen.L0OutDwRefIdeal.Read

@[expose] public section

noncomputable section

namespace Cert.L0OutDwIdeal.Own

open Cert.L0OutDwIdeal Cert.L0OutDwIdeal.Gen Cert.L0OutDwIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val % 6 ∧ win0_0.index t 1 = t.val / 6 ∧ win0_1.index t 0 = t.val % 6 ∧ win0_1.index t 1 = 0 := by decide +kernel

/-- The two factors at natural coordinates, the summands' coordinate second. -/
abbrev A : ℕ → ℕ → EReal := fun r k => nat2 (z := ![9216, 2816]) (m ((c : Thread nD τ).loc main_arg0)) k r
abbrev B : ℕ → ℕ → EReal := fun s k => nat2 (z := ![9216, 1024]) (m ((c : Thread nD τ).loc main_arg1)) k s

theorem blk0 (t : Fin cfg0.N) (y : S1536x1408.Idx) : iblk m c 0 t y = A m c (t.val / 6 * 1408 + (y 1).val) (t.val % 6 * 1536 + (y 0).val) :=
  nat2_blk (z := ![9216, 2816]) (m ((c : Thread nD τ).loc main_arg0)) _ (idx t).1 (idx t).2.1 rfl rfl

theorem blk1 (t : Fin cfg0.N) (y : S1536x1024.Idx) : iblk m c 1 t y = B m c (0 * 1024 + (y 1).val) (t.val % 6 * 1536 + (y 0).val) :=
  nat2_blk (z := ![9216, 1024]) (m ((c : Thread nD τ).loc main_arg1)) _ (idx t).2.2.1 (idx t).2.2.2 rfl rfl

/-- A step's own share of the sum. -/
abbrev part (j : S1408x1024.Idx) (n : ℕ) : EReal := share 6 1536 1408 1024 (A m c) (B m c) id (fun _ => 0) j n

theorem pay1 (t : Fin cfg0.N) (j : S1408x1024.Idx) : k0_pay1 (F := Ideal) (iblk m c 0 t) (iblk m c 1 t) j = part m c j t.val :=
  matmul_sum dot_S1536x1408_S1536x1024_S1408x1024_0_0_1_1_n_n 1536 rfl rfl _ _ none j
    (fun k => A m c (t.val / 6 * 1408 + (j 0).val) (t.val % 6 * 1536 + k)) (fun k => B m c (0 * 1024 + (j 1).val) (t.val % 6 * 1536 + k))
    (fun _ => blk0 m c t _) (fun _ => blk1 m c t _)

theorem pay3 (t : Fin cfg0.N) (acc : Vec Ideal S1408x1024 .f32) (j : S1408x1024.Idx) :
    k0_pay3 (F := Ideal) (iblk m c 0 t) (iblk m c 1 t) acc j = acc j + part m c j t.val := by
  unfold k0_pay3
  rw [shapeCast_self, ← pay1]
  rfl

/-- The running sum the kernel keeps, at a place of the block. -/
abbrev S (j : S1408x1024.Idx) (n : ℕ) (h : n < cfg0.N) : EReal := (outsAt0 m c n h).2 j

theorem S_A (j : S1408x1024.Idx) (n : ℕ) (h : n < cfg0.N) (h0 : n % 6 = 0) : S m c j n h = part m c j n := by
  rw [S, outsAt0_A m c ⟨n, h⟩ h0 (by dsimp only; omega) (by dsimp only; omega), ← pay1 m c ⟨n, h⟩]
  simp only [sout0_A_0, kernelRun0_A, store2, load2, Memref.IsWhole.read_unread, k0_pay2, shapeCast_self]

/-- After the first step of a run the step adds its share, and at the run's last the block written is that sum. -/
theorem S_B (j : S1408x1024.Idx) (n : ℕ) (h : n < cfg0.N) (h0 : ¬n % 6 = 0) :
    S m c j n h = S m c j (n - 1) (Nat.lt_of_le_of_lt (Nat.sub_le _ _) h) + part m c j n
    ∧ (n % 6 = 5 → (outsAt0 m c n h).1 j = S m c j n h) := by
  rw [S, ← pay3 m c ⟨n, h⟩]
  by_cases hl : n % 6 = 5
  · rw [outsAt0_C m c ⟨n, h⟩ h0 (by dsimp only; omega) hl]
    simp only [sout0_C_0, out0_C_2, kernelRun0_C]
    sl_unfold_words
    simp only [store2, load2, cov2, Memref.IsWhole.read_unread, (Memref.isWhole_whole _).read_unread]
    exact ⟨trivial, fun _ => trivial⟩
  · rw [outsAt0_B m c ⟨n, h⟩ h0 (by dsimp only; omega) hl]
    simp only [sout0_B_0, kernelRun0_B, store2, load2, Memref.IsWhole.read_unread, (Memref.isWhole_whole _).read_unread]
    exact ⟨trivial, fun e => absurd e hl⟩

/-- What the result array ends holding. -/
theorem res (i : S2816x1024.Idx) : G2 m c i = prod 9216 (A m c) (B m c) (i 0).val (i 1).val := by
  have hN : cfg0.N = 12 := N_0
  have i0 : (i 0).val < 2816 := (i 0).isLt
  have i1 : (i 1).val < 1024 := (i 1).isLt
  have ep : pt2Of i = 6 * ((i 0).val / 1408) + 5 := by
    show 6 * (1 * ((i 0).val / 1408 - 0) + 1 * ((i 1).val / 1024 - 0)) + 5 = _
    omega
  have hp : pt2Of i < cfg0.N := by omega
  unfold G2
  rw [dif_pos hp, ← outsAt0_sweep m c _ hp, (S_B m c _ _ hp (by omega)).2 (by omega)]
  exact acc_prod (A m c) (B m c) id (fun _ => 0) (S m c) (S_A m c) (fun j n h h0 => (S_B m c j n h h0).1) _ _ hp (by omega)
    (by show pt2Of i / 6 * 1408 + (i 0).val % 1408 = _; omega) (by show 0 * 1024 + (i 1).val % 1024 = _; omega)

/-- The reference's product is the same sum. -/
theorem ref (x0 : Vec Ideal S9216x2816 .bf16) (x1 : Vec Ideal S9216x1024 .bf16) (i : S2816x1024.Idx) :
    Cert.L0OutDwRefIdeal.Read.val_main_v5 (F := Ideal) x0 x1 i = prod 9216 (fun r k => nat2 (z := ![9216, 2816]) x0 k r) (fun s k => nat2 (z := ![9216, 1024]) x1 k s) (i 0).val (i 1).val := by
  rw [Cert.L0OutDwRefIdeal.Read.val_main_v5_apply, Cert.L0OutDwRefIdeal.Read.val_main_v4_apply, prod, Finset.sum_range]
  exact Finset.sum_congr rfl fun k _ => (mul_comm _ _).trans
    (congrArg₂ (· * ·) (nat2_eq (z := ![9216, 2816]) x0 _ rfl rfl) (nat2_eq (z := ![9216, 1024]) x1 _ rfl rfl))

theorem equal [Cert.L0OutDwIdeal.Facts] [Cert.L0OutDwRefIdeal.Facts] : Cert.algebraic_L0OutDwIdeal_L0OutDwRefIdeal := by
  intro m g m' g' _ hsame
  refine ⟨fun c => G2 m c, run m g,
    (θ_run _ _ _).mono (fun r h c => ⟨(h c).1.trans (funext fun i => ?_), (h c).2⟩) (Cert.L0OutDwRefIdeal.Value.run m' g')⟩
  refine (ref _ _ i).trans ?_
  rw [(hsame c).1, (hsame c).2]
  exact (res m c i).symm

end Cert.L0OutDwIdeal.Own
-- ==== Proof.L1OutDw.lean ====
/- A weight gradient: the running sums over the rows, and the reference. -/
module

public import proofs.«01_k».proof.Defs
public import proofs.«01_k».proof.Proof.Acc
public import proofs.«01_k».proof.Proof.Gen.L1OutDwIdeal.Value
public import proofs.«01_k».proof.Proof.Gen.L1OutDwRefIdeal.Run
public import proofs.«01_k».proof.Proof.Gen.L1OutDwRefIdeal.Read

@[expose] public section

noncomputable section

namespace Cert.L1OutDwIdeal.Own

open Cert.L1OutDwIdeal Cert.L1OutDwIdeal.Gen Cert.L1OutDwIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val % 4 ∧ win0_0.index t 1 = t.val / 4 ∧ win0_1.index t 0 = t.val % 4 ∧ win0_1.index t 1 = 0 := by decide +kernel

/-- The two factors at natural coordinates, the summands' coordinate second. -/
abbrev A : ℕ → ℕ → EReal := fun r k => nat2 (z := ![8192, 2816]) (m ((c : Thread nD τ).loc main_arg0)) k r
abbrev B : ℕ → ℕ → EReal := fun s k => nat2 (z := ![8192, 1024]) (m ((c : Thread nD τ).loc main_arg1)) k s

theorem blk0 (t : Fin cfg0.N) (y : S2048x1408.Idx) : iblk m c 0 t y = A m c (t.val / 4 * 1408 + (y 1).val) (t.val % 4 * 2048 + (y 0).val) :=
  nat2_blk (z := ![8192, 2816]) (m ((c : Thread nD τ).loc main_arg0)) _ (idx t).1 (idx t).2.1 rfl rfl

theorem blk1 (t : Fin cfg0.N) (y : S2048x1024.Idx) : iblk m c 1 t y = B m c (0 * 1024 + (y 1).val) (t.val % 4 * 2048 + (y 0).val) :=
  nat2_blk (z := ![8192, 1024]) (m ((c : Thread nD τ).loc main_arg1)) _ (idx t).2.2.1 (idx t).2.2.2 rfl rfl

/-- A step's own share of the sum. -/
abbrev part (j : S1408x1024.Idx) (n : ℕ) : EReal := share 4 2048 1408 1024 (A m c) (B m c) id (fun _ => 0) j n

theorem pay1 (t : Fin cfg0.N) (j : S1408x1024.Idx) : k0_pay1 (F := Ideal) (iblk m c 0 t) (iblk m c 1 t) j = part m c j t.val :=
  matmul_sum dot_S2048x1408_S2048x1024_S1408x1024_0_0_1_1_n_n 2048 rfl rfl _ _ none j
    (fun k => A m c (t.val / 4 * 1408 + (j 0).val) (t.val % 4 * 2048 + k)) (fun k => B m c (0 * 1024 + (j 1).val) (t.val % 4 * 2048 + k))
    (fun _ => blk0 m c t _) (fun _ => blk1 m c t _)

theorem pay3 (t : Fin cfg0.N) (acc : Vec Ideal S1408x1024 .f32) (j : S1408x1024.Idx) :
    k0_pay3 (F := Ideal) (iblk m c 0 t) (iblk m c 1 t) acc j = acc j + part m c j t.val := by
  unfold k0_pay3
  rw [shapeCast_self, ← pay1]
  rfl

/-- The running sum the kernel keeps, at a place of the block. -/
abbrev S (j : S1408x1024.Idx) (n : ℕ) (h : n < cfg0.N) : EReal := (outsAt0 m c n h).2 j

theorem S_A (j : S1408x1024.Idx) (n : ℕ) (h : n < cfg0.N) (h0 : n % 4 = 0) : S m c j n h = part m c j n := by
  rw [S, outsAt0_A m c ⟨n, h⟩ h0 (by dsimp only; omega) (by dsimp only; omega), ← pay1 m c ⟨n, h⟩]
  simp only [sout0_A_0, kernelRun0_A, store2, load2, Memref.IsWhole.read_unread, k0_pay2, shapeCast_self]

/-- After the first step of a run the step adds its share, and at the run's last the block written is that sum. -/
theorem S_B (j : S1408x1024.Idx) (n : ℕ) (h : n < cfg0.N) (h0 : ¬n % 4 = 0) :
    S m c j n h = S m c j (n - 1) (Nat.lt_of_le_of_lt (Nat.sub_le _ _) h) + part m c j n
    ∧ (n % 4 = 3 → (outsAt0 m c n h).1 j = S m c j n h) := by
  rw [S, ← pay3 m c ⟨n, h⟩]
  by_cases hl : n % 4 = 3
  · rw [outsAt0_C m c ⟨n, h⟩ h0 (by dsimp only; omega) hl]
    simp only [sout0_C_0, out0_C_2, kernelRun0_C]
    sl_unfold_words
    simp only [store2, load2, cov2, Memref.IsWhole.read_unread, (Memref.isWhole_whole _).read_unread]
    exact ⟨trivial, fun _ => trivial⟩
  · rw [outsAt0_B m c ⟨n, h⟩ h0 (by dsimp only; omega) hl]
    simp only [sout0_B_0, kernelRun0_B, store2, load2, Memref.IsWhole.read_unread, (Memref.isWhole_whole _).read_unread]
    exact ⟨trivial, fun e => absurd e hl⟩

/-- What the result array ends holding. -/
theorem res (i : S2816x1024.Idx) : G2 m c i = prod 8192 (A m c) (B m c) (i 0).val (i 1).val := by
  have hN : cfg0.N = 8 := N_0
  have i0 : (i 0).val < 2816 := (i 0).isLt
  have i1 : (i 1).val < 1024 := (i 1).isLt
  have ep : pt2Of i = 4 * ((i 0).val / 1408) + 3 := by
    show 4 * (1 * ((i 0).val / 1408 - 0) + 1 * ((i 1).val / 1024 - 0)) + 3 = _
    omega
  have hp : pt2Of i < cfg0.N := by omega
  unfold G2
  rw [dif_pos hp, ← outsAt0_sweep m c _ hp, (S_B m c _ _ hp (by omega)).2 (by omega)]
  exact acc_prod (A m c) (B m c) id (fun _ => 0) (S m c) (S_A m c) (fun j n h h0 => (S_B m c j n h h0).1) _ _ hp (by omega)
    (by show pt2Of i / 4 * 1408 + (i 0).val % 1408 = _; omega) (by show 0 * 1024 + (i 1).val % 1024 = _; omega)

/-- The reference's product is the same sum. -/
theorem ref (x0 : Vec Ideal S8192x2816 .bf16) (x1 : Vec Ideal S8192x1024 .bf16) (i : S2816x1024.Idx) :
    Cert.L1OutDwRefIdeal.Read.val_main_v5 (F := Ideal) x0 x1 i = prod 8192 (fun r k => nat2 (z := ![8192, 2816]) x0 k r) (fun s k => nat2 (z := ![8192, 1024]) x1 k s) (i 0).val (i 1).val := by
  rw [Cert.L1OutDwRefIdeal.Read.val_main_v5_apply, Cert.L1OutDwRefIdeal.Read.val_main_v4_apply, prod, Finset.sum_range]
  exact Finset.sum_congr rfl fun k _ => (mul_comm _ _).trans
    (congrArg₂ (· * ·) (nat2_eq (z := ![8192, 2816]) x0 _ rfl rfl) (nat2_eq (z := ![8192, 1024]) x1 _ rfl rfl))

theorem equal [Cert.L1OutDwIdeal.Facts] [Cert.L1OutDwRefIdeal.Facts] : Cert.algebraic_L1OutDwIdeal_L1OutDwRefIdeal := by
  intro m g m' g' _ hsame
  refine ⟨fun c => G2 m c, run m g,
    (θ_run _ _ _).mono (fun r h c => ⟨(h c).1.trans (funext fun i => ?_), (h c).2⟩) (Cert.L1OutDwRefIdeal.Value.run m' g')⟩
  refine (ref _ _ i).trans ?_
  rw [(hsame c).1, (hsame c).2]
  exact (res m c i).symm

end Cert.L1OutDwIdeal.Own
-- ==== Proof.L0In.lean ====
/- The gated product of one feed-forward layer: what the run leaves in the three results, and the reference. -/
module

public import proofs.«01_k».proof.Defs
public import proofs.«01_k».proof.Proof.Acc
public import proofs.«01_k».proof.Proof.Gen.L0InIdeal.Value
public import proofs.«01_k».proof.Proof.Gen.L0InRefIdeal.Run
public import proofs.«01_k».proof.Proof.Gen.L0InRefIdeal.Read

@[expose] public section

noncomputable section

namespace Cert.L0InIdeal.Own

open Cert.L0InIdeal Cert.L0InIdeal.Gen Cert.L0InIdeal.Value Cert.Own Idealize.ShloMosaic Idealize.ShloMosaic.TcCoe Idealize.SL.Sem
open Idealize.ShloMosaic.Pipeline (Dat Window)

variable (m : (ℓ : Loc nD τ sig) → Buf (Elt Ideal) ℓ) (c : Dev nD)

theorem idx : ∀ t : Fin grid0.N, win0_0.index t 0 = t.val / 2 ∧ win0_0.index t 1 = 0 ∧ win0_1.index t 0 = 0 ∧ win0_1.index t 1 = t.val % 2
    ∧ win0_2.index t 0 = 0 ∧ win0_2.index t 1 = 2 + t.val % 2 := by decide +kernel

theorem out : ∀ t : Fin grid0.N, win0_3.index t 0 = t.val / 2 ∧ win0_3.index t 1 = t.val % 2 ∧ win0_4.index t 0 = t.val / 2
    ∧ win0_4.index t 1 = t.val % 2 ∧ win0_5.index t 0 = t.val / 2 ∧ win0_5.index t 1 = t.val % 2 := by decide +kernel

/-- The two arguments at natural coordinates. -/
abbrev a0 : ℕ → ℕ → EReal := nat2 (z := ![9216, 1024]) (m ((c : Thread nD τ).loc main_arg0))
abbrev a1 : ℕ → ℕ → EReal := nat2 (z := ![1024, 5632]) (m ((c : Thread nD τ).loc main_arg1))

theorem blk0 (t : Fin cfg0.N) (y : S1024x1024.Idx) : iblk m c 0 t y = a0 m c (t.val / 2 * 1024 + (y 0).val) (y 1).val := by
  obtain ⟨e0, e1, -⟩ := idx t
  refine nat2_eq (z := ![9216, 1024]) (m ((c : Thread nD τ).loc main_arg0)) _ ?_ ?_
  · show win0_0.index t 0 * 1024 + 1 * (y 0).val = _; rw [e0, one_mul]
  · show win0_0.index t 1 * 1024 + 1 * (y 1).val = _; rw [e1]; omega

theorem blk1 (t : Fin cfg0.N) (y : S1024x1408.Idx) : iblk m c 1 t y = a1 m c (y 0).val (t.val % 2 * 1408 + (y 1).val) := by
  obtain ⟨-, -, e0, e1, -⟩ := idx t
  refine nat2_eq (z := ![1024, 5632]) (m ((c : Thread nD τ).loc main_arg1)) _ ?_ ?_
  · show win0_1.index t 0 * 1024 + 1 * (y 0).val = _; rw [e0]; omega
  · show win0_1.index t 1 * 1408 + 1 * (y 1).val = _; rw [e1, one_mul]

theorem blk2 (t : Fin cfg0.N) (y : S1024x1408.Idx) : iblk m c 2 t y = a1 m c (y 0).val (2816 + (t.val % 2 * 1408 + (y 1).val)) := by
  obtain ⟨-, -, -, -, e0, e1⟩ := idx t
  refine nat2_eq (z := ![1024, 5632]) (m ((c : Thread nD τ).loc main_arg1)) _ ?_ ?_
  · show win0_2.index t 0 * 1024 + 1 * (y 0).val = _; rw [e0]; omega
  · show win0_2.index t 1 * 1408 + 1 * (y 1).val = _; rw [e1]; omega

/-- The product of the rows and the columns. -/
abbrev prod (r q : ℕ) : EReal := ∑ k ∈ Finset.range 1024, a0 m c r k * a1 m c k q

theorem pay1 (t : Fin cfg0.N) (j : S1024x1408.Idx) : k0_pay1 (F := Ideal) (iblk m c 0 t) (iblk m c 1 t) j
    = prod m c (t.val / 2 * 1024 + (j 0).val) (t.val % 2 * 1408 + (j 1).val) :=
  matmul_sum dot_S1024x1024_S1024x1408_S1024x1408_1_0_0_1_n_n 1024 rfl rfl _ _ none j
    (fun k => a0 m c (t.val / 2 * 1024 + (j 0).val) k) (fun k => a1 m c k (t.val % 2 * 1408 + (j 1).val))
    (fun _ => blk0 m c t _) (fun _ => blk1 m c t _)

theorem pay2 (t : Fin cfg0.N) (j : S1024x1408.Idx) : k0_pay2 (F := Ideal) (iblk m c 0 t) (iblk m c 2 t) j
    = prod m c (t.val / 2 * 1024 + (j 0).val) (2816 + (t.val % 2 * 1408 + (j 1).val)) :=
  matmul_sum dot_S1024x1024_S1024x1408_S1024x1408_1_0_0_1_n_n 1024 rfl rfl _ _ none j
    (fun k => a0 m c (t.val / 2 * 1024 + (j 0).val) k) (fun k => a1 m c k (2816 + (t.val % 2 * 1408 + (j 1).val)))
    (fun _ => blk0 m c t _) (fun _ => blk2 m c t _)

/-- The three results, at natural coordinates. -/
def res3 (r q : ℕ) : EReal := prod m c r q
def res4 (r q : ℕ) : EReal := prod m c r (2816 + q)
def res5 (r q : ℕ) : EReal := glu (res3 m c r q) (res4 m c r q)

theorem pay3 (t : Fin cfg0.N) (j : S1024x1408.Idx) : k0_pay3 (F := Ideal) (iblk m c 0 t) (iblk m c 1 t) (iblk m c 2 t) j
    = res5 m c (t.val / 2 * 1024 + (j 0).val) (t.val % 2 * 1408 + (j 1).val) := by
  rw [res5, res3, res4, ← pay1, ← pay2]
  rfl

/-- Every place of the results lies in the block of some point. -/
theorem place (i : S9216x2816.Idx) : ∃ t : Fin cfg0.N, (t.val / 2 * 1024 ≤ (i 0).val ∧ (i 0).val < t.val / 2 * 1024 + 1024)
    ∧ t.val % 2 * 1408 ≤ (i 1).val ∧ (i 1).val < t.val % 2 * 1408 + 1408 := by
  have hN : cfg0.N = 18 := N_0
  have i0 : (i 0).val < 9216 := (i 0).isLt
  have i1 : (i 1).val < 2816 := (i 1).isLt
  exact ⟨⟨2 * ((i 0).val / 1024) + (i 1).val / 1408, by omega⟩, by dsimp only; omega⟩

theorem arr3 : (dats m 0 c).arrAt 3 cfg0.N = fun i => res3 m c (i 0).val (i 1).val := by
  refine Dat.arrAt_eq_of_cover (dats m 0 c) 3 _ (fun t _ => ?_) fun i => ?_
  · obtain ⟨e0, e1, -⟩ := out t
    rw [flushed3]
    funext j
    show out0_3 (F := Ideal) (iblk m c 0 t) (iblk m c 1 t) (iblk m c 2 t) j = res3 m c ((win0_3.rect t).emb j 0 : ℕ) ((win0_3.rect t).emb j 1 : ℕ)
    rw [show ((win0_3.rect t).emb j 0 : ℕ) = win0_3.index t 0 * 1024 + (j 0).val from Window.rect_emb_val win0_3 t j 0,
      show ((win0_3.rect t).emb j 1 : ℕ) = win0_3.index t 1 * 1408 + (j 1).val from Window.rect_emb_val win0_3 t j 1, e0, e1]
    unfold out0_3
    rw [View.canon_unit_zero zero2]
    simp only [View.ld_unit_zero (S := S1024x1024) zero2, View.ld_unit_zero (S := S1024x1408) zero2]
    exact pay1 m c t j
  · obtain ⟨t, h0, h1⟩ := place i
    obtain ⟨e0, e1, -⟩ := out t
    rw [← e0] at h0
    rw [← e1] at h1
    refine ⟨t, flush0_3 t, ?_⟩
    show i ∈ ((View.whole main_v0_0).slice (win0_3.rect t)).set
    rw [View.set_slice_whole, Rect.mem_set_unit]
    intro a
    match a with
    | ⟨0, _⟩ => exact h0
    | ⟨1, _⟩ => exact h1

theorem arr4 : (dats m 0 c).arrAt 4 cfg0.N = fun i => res4 m c (i 0).val (i 1).val := by
  refine Dat.arrAt_eq_of_cover (dats m 0 c) 4 _ (fun t _ => ?_) fun i => ?_
  · obtain ⟨-, -, e0, e1, -⟩ := out t
    rw [flushed4]
    funext j
    show out0_4 (F := Ideal) (iblk m c 0 t) (iblk m c 1 t) (iblk m c 2 t) j = res4 m c ((win0_4.rect t).emb j 0 : ℕ) ((win0_4.rect t).emb j 1 : ℕ)
    rw [show ((win0_4.rect t).emb j 0 : ℕ) = win0_4.index t 0 * 1024 + (j 0).val from Window.rect_emb_val win0_4 t j 0,
      show ((win0_4.rect t).emb j 1 : ℕ) = win0_4.index t 1 * 1408 + (j 1).val from Window.rect_emb_val win0_4 t j 1, e0, e1]
    unfold out0_4
    rw [View.canon_unit_zero zero2]
    simp only [View.ld_unit_zero (S := S1024x1024) zero2, View.ld_unit_zero (S := S1024x1408) zero2]
    exact pay2 m c t j
  · obtain ⟨t, h0, h1⟩ := place i
    obtain ⟨-, -, e0, e1, -⟩ := out t
    rw [← e0] at h0
    rw [← e1] at h1
    refine ⟨t, flush0_4 t, ?_⟩
    show i ∈ ((View.whole main_v0_1).slice (win0_4.rect t)).set
    rw [View.set_slice_whole, Rect.mem_set_unit]
    intro a
    match a with
    | ⟨0, _⟩ => exact h0
    | ⟨1, _⟩ => exact h1

theorem arr5 : (dats m 0 c).arrAt 5 cfg0.N = fun i => res5 m c (i 0).val (i 1).val := by
  refine Dat.arrAt_eq_of_cover (dats m 0 c) 5 _ (fun t _ => ?_) fun i => ?_
  · obtain ⟨-, -, -, -, e0, e1⟩ := out t
    rw [flushed5]
    funext j
    show out0_5 (F := Ideal) (iblk m c 0 t) (iblk m c 1 t) (iblk m c 2 t) j = res5 m c ((win0_5.rect t).emb j 0 : ℕ) ((win0_5.rect t).emb j 1 : ℕ)
    rw [show ((win0_5.rect t).emb j 0 : ℕ) = win0_5.index t 0 * 1024 + (j 0).val from Window.rect_emb_val win0_5 t j 0,
      show ((win0_5.rect t).emb j 1 : ℕ) = win0_5.index t 1 * 1408 + (j 1).val from Window.rect_emb_val win0_5 t j 1, e0, e1]
    unfold out0_5
    rw [View.canon_unit_zero zero2]
    simp only [View.ld_unit_zero (S := S1024x1024) zero2, View.ld_unit_zero (S := S1024x1408) zero2]
    exact pay3 m c t j
  · obtain ⟨t, h0, h1⟩ := place i
    obtain ⟨-, -, -, -, e0, e1⟩ := out t
    rw [← e0] at h0
    rw [← e1] at h1
    refine ⟨t, flush0_5 t, ?_⟩
    show i ∈ ((View.whole main_v0_2).slice (win0_5.rect t)).set
    rw [View.set_slice_whole, Rect.mem_set_unit]
    intro a
    match a with
    | ⟨0, _⟩ => exact h0
    | ⟨1, _⟩ => exact h1

/-- The reference's product is the same sum. -/
theorem ref (x0 : Vec Ideal S9216x1024 .bf16) (x1 : Vec Ideal S1024x5632 .bf16) (i : Cert.L0InRefIdeal.S9216x5632.Idx) {q : ℕ} (hq : (i 1).val = q) :
    Cert.L0InRefIdeal.Read.val_main_v2 (F := Ideal) x0 x1 i
      = ∑ k ∈ Finset.range 1024, nat2 (z := ![9216, 1024]) x0 (i 0).val k * nat2 (z := ![1024, 5632]) x1 k q := by
  subst hq
  rw [Cert.L0InRefIdeal.Read.val_main_v2_apply, Finset.sum_range]
  exact Finset.sum_congr rfl fun k _ => congrArg₂ (· * ·) (nat2_eq (z := ![9216, 1024]) x0 _ rfl rfl) (nat2_eq (z := ![1024, 5632]) x1 _ rfl rfl)

section Refs

open Cert.L0InRefIdeal.Read

variable {m} {m' : (ℓ : Loc Cert.L0InRefIdeal.nD Cert.L0InRefIdeal.τ Cert.L0InRefIdeal.sig) → Buf (Elt Ideal) ℓ}

theorem ref3 (i : S9216x2816.Idx) : val_main_v3 (F := Ideal) (m ((c : Thread nD τ).loc main_arg0)) (m ((c : Thread nD τ).loc main_arg1)) i
    = res3 m c (i 0).val (i 1).val := (val_main_v3_apply _ _ i).trans (ref _ _ _ rfl)

theorem ref4 (i : S9216x2816.Idx) : val_main_v4 (F := Ideal) (m ((c : Thread nD τ).loc main_arg0)) (m ((c : Thread nD τ).loc main_arg1)) i
    = res4 m c (i 0).val (i 1).val := (val_main_v4_apply _ _ i).trans (ref _ _ _ rfl)

theorem ref5 (i : S9216x2816.Idx) : val_main_v7 (F := Ideal) (m ((c : Thread nD τ).loc main_arg0)) (m ((c : Thread nD τ).loc main_arg1)) i
    = res5 m c (i 0).val (i 1).val := by
  rw [val_main_v7_apply, val_main_v6_apply, val_main_v5_apply, val_main_call0_v5_apply, val_main_call0_v4_apply, val_main_call0_v3_apply,
    val_main_call0_v2_apply, val_main_call0_v1_apply, val_main_call0_v0_apply, val_main_call0_cst_apply, val_main_call0_cst_0_apply, ref3, ref4]
  exact silu_mul _ _

end Refs

theorem equal [Cert.L0InIdeal.Facts] [Cert.L0InRefIdeal.Facts] : Cert.algebraic_L0InIdeal_L0InRefIdeal := by
  intro m g m' g' _ hsame
  refine ⟨fun c i => res3 m c (i 0).val (i 1).val, fun c i => res4 m c (i 0).val (i 1).val, fun c i => res5 m c (i 0).val (i 1).val,
    (θ_run _ _ _).mono (fun r h c => ⟨(h c).1.trans (arr3 m c), (h c).2.1.trans (arr4 m c), (h c).2.2.1.trans (arr5 m c), (h c).2.2.2⟩) (run_blocks m g),
    (θ_run _ _ _).mono (fun r h c => ⟨(h c).1.trans (funext fun i => ?_), (h c).2.1.trans (funext fun i => ?_), (h c).2.2.1.trans (funext fun i => ?_),
      (h c).2.2.2⟩) (Cert.L0InRefIdeal.Value.run m' g')⟩
  all_goals rw [(hsame c).1, (hsame c).2]
  exacts [ref3 c i, ref4 c i, ref5 c i]

end Cert.L0InIdeal.Own
-- ==== Proof.L1In.lean ====
/- The gated product of one feed-forward layer: what the run leaves in the three results, and the reference. -/
module

public import proofs.«01_k».proof.Defs
public import proofs.«01_k».proof.Proof.Acc
public import proofs.«01_k».proof.Proof.Gen.L1InIdeal.Value
public import proofs.«01_k».proof.Proof.Gen.L1InRefIdeal.Run
public import proofs.«01_k».proof.Proof.Gen.L1InRefIdeal.Read

@[expose] public section

noncomputable section

namespace Cert.L1InIdeal.Own

open Cert.L1InIdeal Cert.L1InIdeal.Gen Cert.L1InIdeal.Value Cert.Own Idealize.ShloMosaic Idealize.ShloMosaic.TcCoe Idealize.SL.Sem
open Idealize.ShloMosaic.Pipeline (Dat Window)

variable (m : (ℓ : Loc nD τ sig) → Buf (Elt Ideal) ℓ) (c : Dev nD)

theorem idx : ∀ t : Fin grid0.N, win0_0.index t 0 = t.val / 2 ∧ win0_0.index t 1 = 0 ∧ win0_1.index t 0 = 0 ∧ win0_1.index t 1 = t.val % 2
    ∧ win0_2.index t 0 = 0 ∧ win0_2.index t 1 = 2 + t.val % 2 := by decide +kernel

theorem out : ∀ t : Fin grid0.N, win0_3.index t 0 = t.val / 2 ∧ win0_3.index t 1 = t.val % 2 ∧ win0_4.index t 0 = t.val / 2
    ∧ win0_4.index t 1 = t.val % 2 ∧ win0_5.index t 0 = t.val / 2 ∧ win0_5.index t 1 = t.val % 2 := by decide +kernel

/-- The two arguments at natural coordinates. -/
abbrev a0 : ℕ → ℕ → EReal := nat2 (z := ![8192, 1024]) (m ((c : Thread nD τ).loc main_arg0))
abbrev a1 : ℕ → ℕ → EReal := nat2 (z := ![1024, 5632]) (m ((c : Thread nD τ).loc main_arg1))

theorem blk0 (t : Fin cfg0.N) (y : S1024x1024.Idx) : iblk m c 0 t y = a0 m c (t.val / 2 * 1024 + (y 0).val) (y 1).val := by
  obtain ⟨e0, e1, -⟩ := idx t
  refine nat2_eq (z := ![8192, 1024]) (m ((c : Thread nD τ).loc main_arg0)) _ ?_ ?_
  · show win0_0.index t 0 * 1024 + 1 * (y 0).val = _; rw [e0, one_mul]
  · show win0_0.index t 1 * 1024 + 1 * (y 1).val = _; rw [e1]; omega

theorem blk1 (t : Fin cfg0.N) (y : S1024x1408.Idx) : iblk m c 1 t y = a1 m c (y 0).val (t.val % 2 * 1408 + (y 1).val) := by
  obtain ⟨-, -, e0, e1, -⟩ := idx t
  refine nat2_eq (z := ![1024, 5632]) (m ((c : Thread nD τ).loc main_arg1)) _ ?_ ?_
  · show win0_1.index t 0 * 1024 + 1 * (y 0).val = _; rw [e0]; omega
  · show win0_1.index t 1 * 1408 + 1 * (y 1).val = _; rw [e1, one_mul]

theorem blk2 (t : Fin cfg0.N) (y : S1024x1408.Idx) : iblk m c 2 t y = a1 m c (y 0).val (2816 + (t.val % 2 * 1408 + (y 1).val)) := by
  obtain ⟨-, -, -, -, e0, e1⟩ := idx t
  refine nat2_eq (z := ![1024, 5632]) (m ((c : Thread nD τ).loc main_arg1)) _ ?_ ?_
  · show win0_2.index t 0 * 1024 + 1 * (y 0).val = _; rw [e0]; omega
  · show win0_2.index t 1 * 1408 + 1 * (y 1).val = _; rw [e1]; omega

/-- The product of the rows and the columns. -/
abbrev prod (r q : ℕ) : EReal := ∑ k ∈ Finset.range 1024, a0 m c r k * a1 m c k q

theorem pay1 (t : Fin cfg0.N) (j : S1024x1408.Idx) : k0_pay1 (F := Ideal) (iblk m c 0 t) (iblk m c 1 t) j
    = prod m c (t.val / 2 * 1024 + (j 0).val) (t.val % 2 * 1408 + (j 1).val) :=
  matmul_sum dot_S1024x1024_S1024x1408_S1024x1408_1_0_0_1_n_n 1024 rfl rfl _ _ none j
    (fun k => a0 m c (t.val / 2 * 1024 + (j 0).val) k) (fun k => a1 m c k (t.val % 2 * 1408 + (j 1).val))
    (fun _ => blk0 m c t _) (fun _ => blk1 m c t _)

theorem pay2 (t : Fin cfg0.N) (j : S1024x1408.Idx) : k0_pay2 (F := Ideal) (iblk m c 0 t) (iblk m c 2 t) j
    = prod m c (t.val / 2 * 1024 + (j 0).val) (2816 + (t.val % 2 * 1408 + (j 1).val)) :=
  matmul_sum dot_S1024x1024_S1024x1408_S1024x1408_1_0_0_1_n_n 1024 rfl rfl _ _ none j
    (fun k => a0 m c (t.val / 2 * 1024 + (j 0).val) k) (fun k => a1 m c k (2816 + (t.val % 2 * 1408 + (j 1).val)))
    (fun _ => blk0 m c t _) (fun _ => blk2 m c t _)

/-- The three results, at natural coordinates. -/
def res3 (r q : ℕ) : EReal := prod m c r q
def res4 (r q : ℕ) : EReal := prod m c r (2816 + q)
def res5 (r q : ℕ) : EReal := glu (res3 m c r q) (res4 m c r q)

theorem pay3 (t : Fin cfg0.N) (j : S1024x1408.Idx) : k0_pay3 (F := Ideal) (iblk m c 0 t) (iblk m c 1 t) (iblk m c 2 t) j
    = res5 m c (t.val / 2 * 1024 + (j 0).val) (t.val % 2 * 1408 + (j 1).val) := by
  rw [res5, res3, res4, ← pay1, ← pay2]
  rfl

/-- Every place of the results lies in the block of some point. -/
theorem place (i : S8192x2816.Idx) : ∃ t : Fin cfg0.N, (t.val / 2 * 1024 ≤ (i 0).val ∧ (i 0).val < t.val / 2 * 1024 + 1024)
    ∧ t.val % 2 * 1408 ≤ (i 1).val ∧ (i 1).val < t.val % 2 * 1408 + 1408 := by
  have hN : cfg0.N = 16 := N_0
  have i0 : (i 0).val < 8192 := (i 0).isLt
  have i1 : (i 1).val < 2816 := (i 1).isLt
  exact ⟨⟨2 * ((i 0).val / 1024) + (i 1).val / 1408, by omega⟩, by dsimp only; omega⟩

theorem arr3 : (dats m 0 c).arrAt 3 cfg0.N = fun i => res3 m c (i 0).val (i 1).val := by
  refine Dat.arrAt_eq_of_cover (dats m 0 c) 3 _ (fun t _ => ?_) fun i => ?_
  · obtain ⟨e0, e1, -⟩ := out t
    rw [flushed3]
    funext j
    show out0_3 (F := Ideal) (iblk m c 0 t) (iblk m c 1 t) (iblk m c 2 t) j = res3 m c ((win0_3.rect t).emb j 0 : ℕ) ((win0_3.rect t).emb j 1 : ℕ)
    rw [show ((win0_3.rect t).emb j 0 : ℕ) = win0_3.index t 0 * 1024 + (j 0).val from Window.rect_emb_val win0_3 t j 0,
      show ((win0_3.rect t).emb j 1 : ℕ) = win0_3.index t 1 * 1408 + (j 1).val from Window.rect_emb_val win0_3 t j 1, e0, e1]
    unfold out0_3
    rw [View.canon_unit_zero zero2]
    simp only [View.ld_unit_zero (S := S1024x1024) zero2, View.ld_unit_zero (S := S1024x1408) zero2]
    exact pay1 m c t j
  · obtain ⟨t, h0, h1⟩ := place i
    obtain ⟨e0, e1, -⟩ := out t
    rw [← e0] at h0
    rw [← e1] at h1
    refine ⟨t, flush0_3 t, ?_⟩
    show i ∈ ((View.whole main_v0_0).slice (win0_3.rect t)).set
    rw [View.set_slice_whole, Rect.mem_set_unit]
    intro a
    match a with
    | ⟨0, _⟩ => exact h0
    | ⟨1, _⟩ => exact h1

theorem arr4 : (dats m 0 c).arrAt 4 cfg0.N = fun i => res4 m c (i 0).val (i 1).val := by
  refine Dat.arrAt_eq_of_cover (dats m 0 c) 4 _ (fun t _ => ?_) fun i => ?_
  · obtain ⟨-, -, e0, e1, -⟩ := out t
    rw [flushed4]
    funext j
    show out0_4 (F := Ideal) (iblk m c 0 t) (iblk m c 1 t) (iblk m c 2 t) j = res4 m c ((win0_4.rect t).emb j 0 : ℕ) ((win0_4.rect t).emb j 1 : ℕ)
    rw [show ((win0_4.rect t).emb j 0 : ℕ) = win0_4.index t 0 * 1024 + (j 0).val from Window.rect_emb_val win0_4 t j 0,
      show ((win0_4.rect t).emb j 1 : ℕ) = win0_4.index t 1 * 1408 + (j 1).val from Window.rect_emb_val win0_4 t j 1, e0, e1]
    unfold out0_4
    rw [View.canon_unit_zero zero2]
    simp only [View.ld_unit_zero (S := S1024x1024) zero2, View.ld_unit_zero (S := S1024x1408) zero2]
    exact pay2 m c t j
  · obtain ⟨t, h0, h1⟩ := place i
    obtain ⟨-, -, e0, e1, -⟩ := out t
    rw [← e0] at h0
    rw [← e1] at h1
    refine ⟨t, flush0_4 t, ?_⟩
    show i ∈ ((View.whole main_v0_1).slice (win0_4.rect t)).set
    rw [View.set_slice_whole, Rect.mem_set_unit]
    intro a
    match a with
    | ⟨0, _⟩ => exact h0
    | ⟨1, _⟩ => exact h1

theorem arr5 : (dats m 0 c).arrAt 5 cfg0.N = fun i => res5 m c (i 0).val (i 1).val := by
  refine Dat.arrAt_eq_of_cover (dats m 0 c) 5 _ (fun t _ => ?_) fun i => ?_
  · obtain ⟨-, -, -, -, e0, e1⟩ := out t
    rw [flushed5]
    funext j
    show out0_5 (F := Ideal) (iblk m c 0 t) (iblk m c 1 t) (iblk m c 2 t) j = res5 m c ((win0_5.rect t).emb j 0 : ℕ) ((win0_5.rect t).emb j 1 : ℕ)
    rw [show ((win0_5.rect t).emb j 0 : ℕ) = win0_5.index t 0 * 1024 + (j 0).val from Window.rect_emb_val win0_5 t j 0,
      show ((win0_5.rect t).emb j 1 : ℕ) = win0_5.index t 1 * 1408 + (j 1).val from Window.rect_emb_val win0_5 t j 1, e0, e1]
    unfold out0_5
    rw [View.canon_unit_zero zero2]
    simp only [View.ld_unit_zero (S := S1024x1024) zero2, View.ld_unit_zero (S := S1024x1408) zero2]
    exact pay3 m c t j
  · obtain ⟨t, h0, h1⟩ := place i
    obtain ⟨-, -, -, -, e0, e1⟩ := out t
    rw [← e0] at h0
    rw [← e1] at h1
    refine ⟨t, flush0_5 t, ?_⟩
    show i ∈ ((View.whole main_v0_2).slice (win0_5.rect t)).set
    rw [View.set_slice_whole, Rect.mem_set_unit]
    intro a
    match a with
    | ⟨0, _⟩ => exact h0
    | ⟨1, _⟩ => exact h1

/-- The reference's product is the same sum. -/
theorem ref (x0 : Vec Ideal S8192x1024 .bf16) (x1 : Vec Ideal S1024x5632 .bf16) (i : Cert.L1InRefIdeal.S8192x5632.Idx) {q : ℕ} (hq : (i 1).val = q) :
    Cert.L1InRefIdeal.Read.val_main_v2 (F := Ideal) x0 x1 i
      = ∑ k ∈ Finset.range 1024, nat2 (z := ![8192, 1024]) x0 (i 0).val k * nat2 (z := ![1024, 5632]) x1 k q := by
  subst hq
  rw [Cert.L1InRefIdeal.Read.val_main_v2_apply, Finset.sum_range]
  exact Finset.sum_congr rfl fun k _ => congrArg₂ (· * ·) (nat2_eq (z := ![8192, 1024]) x0 _ rfl rfl) (nat2_eq (z := ![1024, 5632]) x1 _ rfl rfl)

section Refs

open Cert.L1InRefIdeal.Read

variable {m} {m' : (ℓ : Loc Cert.L1InRefIdeal.nD Cert.L1InRefIdeal.τ Cert.L1InRefIdeal.sig) → Buf (Elt Ideal) ℓ}

theorem ref3 (i : S8192x2816.Idx) : val_main_v3 (F := Ideal) (m ((c : Thread nD τ).loc main_arg0)) (m ((c : Thread nD τ).loc main_arg1)) i
    = res3 m c (i 0).val (i 1).val := (val_main_v3_apply _ _ i).trans (ref _ _ _ rfl)

theorem ref4 (i : S8192x2816.Idx) : val_main_v4 (F := Ideal) (m ((c : Thread nD τ).loc main_arg0)) (m ((c : Thread nD τ).loc main_arg1)) i
    = res4 m c (i 0).val (i 1).val := (val_main_v4_apply _ _ i).trans (ref _ _ _ rfl)

theorem ref5 (i : S8192x2816.Idx) : val_main_v7 (F := Ideal) (m ((c : Thread nD τ).loc main_arg0)) (m ((c : Thread nD τ).loc main_arg1)) i
    = res5 m c (i 0).val (i 1).val := by
  rw [val_main_v7_apply, val_main_v6_apply, val_main_v5_apply, val_main_call0_v5_apply, val_main_call0_v4_apply, val_main_call0_v3_apply,
    val_main_call0_v2_apply, val_main_call0_v1_apply, val_main_call0_v0_apply, val_main_call0_cst_apply, val_main_call0_cst_0_apply, ref3, ref4]
  exact silu_mul _ _

end Refs

theorem equal [Cert.L1InIdeal.Facts] [Cert.L1InRefIdeal.Facts] : Cert.algebraic_L1InIdeal_L1InRefIdeal := by
  intro m g m' g' _ hsame
  refine ⟨fun c i => res3 m c (i 0).val (i 1).val, fun c i => res4 m c (i 0).val (i 1).val, fun c i => res5 m c (i 0).val (i 1).val,
    (θ_run _ _ _).mono (fun r h c => ⟨(h c).1.trans (arr3 m c), (h c).2.1.trans (arr4 m c), (h c).2.2.1.trans (arr5 m c), (h c).2.2.2⟩) (run_blocks m g),
    (θ_run _ _ _).mono (fun r h c => ⟨(h c).1.trans (funext fun i => ?_), (h c).2.1.trans (funext fun i => ?_), (h c).2.2.1.trans (funext fun i => ?_),
      (h c).2.2.2⟩) (Cert.L1InRefIdeal.Value.run m' g')⟩
  all_goals rw [(hsame c).1, (hsame c).2]
  exacts [ref3 c i, ref4 c i, ref5 c i]

end Cert.L1InIdeal.Own
-- ==== Proof.L1RetOutDw.lean ====
/- A weight gradient: the running sums over the rows, and the reference. -/
module

public import proofs.«01_k».proof.Defs
public import proofs.«01_k».proof.Proof.Acc
public import proofs.«01_k».proof.Proof.Gen.L1RetOutDwIdeal.Value
public import proofs.«01_k».proof.Proof.Gen.L1RetOutDwRefIdeal.Run
public import proofs.«01_k».proof.Proof.Gen.L1RetOutDwRefIdeal.Read

@[expose] public section

noncomputable section

namespace Cert.L1RetOutDwIdeal.Own

open Cert.L1RetOutDwIdeal Cert.L1RetOutDwIdeal.Gen Cert.L1RetOutDwIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val % 4 ∧ win0_0.index t 1 = t.val / 4 ∧ win0_1.index t 0 = t.val % 4 ∧ win0_1.index t 1 = 0 := by decide +kernel

/-- The two factors at natural coordinates, the summands' coordinate second. -/
abbrev A : ℕ → ℕ → EReal := fun r k => nat2 (z := ![8192, 2048]) (m ((c : Thread nD τ).loc main_arg0)) k r
abbrev B : ℕ → ℕ → EReal := fun s k => nat2 (z := ![8192, 1024]) (m ((c : Thread nD τ).loc main_arg1)) k s

theorem blk0 (t : Fin cfg0.N) (y : S2048x1024.Idx) : iblk m c 0 t y = A m c (t.val / 4 * 1024 + (y 1).val) (t.val % 4 * 2048 + (y 0).val) :=
  nat2_blk (z := ![8192, 2048]) (m ((c : Thread nD τ).loc main_arg0)) _ (idx t).1 (idx t).2.1 rfl rfl

theorem blk1 (t : Fin cfg0.N) (y : S2048x1024.Idx) : iblk m c 1 t y = B m c (0 * 1024 + (y 1).val) (t.val % 4 * 2048 + (y 0).val) :=
  nat2_blk (z := ![8192, 1024]) (m ((c : Thread nD τ).loc main_arg1)) _ (idx t).2.2.1 (idx t).2.2.2 rfl rfl

/-- A step's own share of the sum. -/
abbrev part (j : S1024x1024.Idx) (n : ℕ) : EReal := share 4 2048 1024 1024 (A m c) (B m c) id (fun _ => 0) j n

theorem pay1 (t : Fin cfg0.N) (j : S1024x1024.Idx) : k0_pay1 (F := Ideal) (iblk m c 0 t) (iblk m c 1 t) j = part m c j t.val :=
  matmul_sum dot_S2048x1024_S2048x1024_S1024x1024_0_0_1_1_n_n 2048 rfl rfl _ _ none j
    (fun k => A m c (t.val / 4 * 1024 + (j 0).val) (t.val % 4 * 2048 + k)) (fun k => B m c (0 * 1024 + (j 1).val) (t.val % 4 * 2048 + k))
    (fun _ => blk0 m c t _) (fun _ => blk1 m c t _)

theorem pay3 (t : Fin cfg0.N) (acc : Vec Ideal S1024x1024 .f32) (j : S1024x1024.Idx) :
    k0_pay3 (F := Ideal) (iblk m c 0 t) (iblk m c 1 t) acc j = acc j + part m c j t.val := by
  unfold k0_pay3
  rw [shapeCast_self, ← pay1]
  rfl

/-- The running sum the kernel keeps, at a place of the block. -/
abbrev S (j : S1024x1024.Idx) (n : ℕ) (h : n < cfg0.N) : EReal := (outsAt0 m c n h).2 j

theorem S_A (j : S1024x1024.Idx) (n : ℕ) (h : n < cfg0.N) (h0 : n % 4 = 0) : S m c j n h = part m c j n := by
  rw [S, outsAt0_A m c ⟨n, h⟩ h0 (by dsimp only; omega) (by dsimp only; omega), ← pay1 m c ⟨n, h⟩]
  simp only [sout0_A_0, kernelRun0_A, store2, load2, Memref.IsWhole.read_unread, k0_pay2, shapeCast_self]

/-- After the first step of a run the step adds its share, and at the run's last the block written is that sum. -/
theorem S_B (j : S1024x1024.Idx) (n : ℕ) (h : n < cfg0.N) (h0 : ¬n % 4 = 0) :
    S m c j n h = S m c j (n - 1) (Nat.lt_of_le_of_lt (Nat.sub_le _ _) h) + part m c j n
    ∧ (n % 4 = 3 → (outsAt0 m c n h).1 j = S m c j n h) := by
  rw [S, ← pay3 m c ⟨n, h⟩]
  by_cases hl : n % 4 = 3
  · rw [outsAt0_C m c ⟨n, h⟩ h0 (by dsimp only; omega) hl]
    simp only [sout0_C_0, out0_C_2, kernelRun0_C]
    sl_unfold_words
    simp only [store2, load2, cov2, Memref.IsWhole.read_unread, (Memref.isWhole_whole _).read_unread]
    exact ⟨trivial, fun _ => trivial⟩
  · rw [outsAt0_B m c ⟨n, h⟩ h0 (by dsimp only; omega) hl]
    simp only [sout0_B_0, kernelRun0_B, store2, load2, Memref.IsWhole.read_unread, (Memref.isWhole_whole _).read_unread]
    exact ⟨trivial, fun e => absurd e hl⟩

/-- What the result array ends holding. -/
theorem res (i : S2048x1024.Idx) : G2 m c i = prod 8192 (A m c) (B m c) (i 0).val (i 1).val := by
  have hN : cfg0.N = 8 := N_0
  have i0 : (i 0).val < 2048 := (i 0).isLt
  have i1 : (i 1).val < 1024 := (i 1).isLt
  have ep : pt2Of i = 4 * ((i 0).val / 1024) + 3 := by
    show 4 * (1 * ((i 0).val / 1024 - 0) + 1 * ((i 1).val / 1024 - 0)) + 3 = _
    omega
  have hp : pt2Of i < cfg0.N := by omega
  unfold G2
  rw [dif_pos hp, ← outsAt0_sweep m c _ hp, (S_B m c _ _ hp (by omega)).2 (by omega)]
  exact acc_prod (A m c) (B m c) id (fun _ => 0) (S m c) (S_A m c) (fun j n h h0 => (S_B m c j n h h0).1) _ _ hp (by omega)
    (by show pt2Of i / 4 * 1024 + (i 0).val % 1024 = _; omega) (by show 0 * 1024 + (i 1).val % 1024 = _; omega)

/-- The reference's product is the same sum. -/
theorem ref (x0 : Vec Ideal S8192x2048 .bf16) (x1 : Vec Ideal S8192x1024 .bf16) (i : S2048x1024.Idx) :
    Cert.L1RetOutDwRefIdeal.Read.val_main_v5 (F := Ideal) x0 x1 i = prod 8192 (fun r k => nat2 (z := ![8192, 2048]) x0 k r) (fun s k => nat2 (z := ![8192, 1024]) x1 k s) (i 0).val (i 1).val := by
  rw [Cert.L1RetOutDwRefIdeal.Read.val_main_v5_apply, Cert.L1RetOutDwRefIdeal.Read.val_main_v4_apply, prod, Finset.sum_range]
  exact Finset.sum_congr rfl fun k _ => (mul_comm _ _).trans
    (congrArg₂ (· * ·) (nat2_eq (z := ![8192, 2048]) x0 _ rfl rfl) (nat2_eq (z := ![8192, 1024]) x1 _ rfl rfl))

theorem equal [Cert.L1RetOutDwIdeal.Facts] [Cert.L1RetOutDwRefIdeal.Facts] : Cert.algebraic_L1RetOutDwIdeal_L1RetOutDwRefIdeal := by
  intro m g m' g' _ hsame
  refine ⟨fun c => G2 m c, run m g,
    (θ_run _ _ _).mono (fun r h c => ⟨(h c).1.trans (funext fun i => ?_), (h c).2⟩) (Cert.L1RetOutDwRefIdeal.Value.run m' g')⟩
  refine (ref _ _ i).trans ?_
  rw [(hsame c).1, (hsame c).2]
  exact (res m c i).symm

end Cert.L1RetOutDwIdeal.Own
-- ==== Proof.L1RetOutDx.lean ====
/- The gradient of a product with respect to its first factor, and the reference. -/
module

public import proofs.«01_k».proof.Defs
public import proofs.«01_k».proof.Proof.Acc
public import proofs.«01_k».proof.Proof.Gen.L1RetOutDxIdeal.Value
public import proofs.«01_k».proof.Proof.Gen.L1RetOutDxRefIdeal.Run
public import proofs.«01_k».proof.Proof.Gen.L1RetOutDxRefIdeal.Read

@[expose] public section

noncomputable section

namespace Cert.L1RetOutDxIdeal.Own

open Cert.L1RetOutDxIdeal Cert.L1RetOutDxIdeal.Gen Cert.L1RetOutDxIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val / 2 ∧ win0_0.index t 1 = 0 ∧ win0_1.index t 0 = t.val % 2 ∧ win0_1.index t 1 = 0
    ∧ win0_2.index t 0 = t.val / 2 ∧ win0_2.index t 1 = t.val % 2 := by decide +kernel

/-- The two factors at natural coordinates, the summands' coordinate second. -/
abbrev A : ℕ → ℕ → EReal := nat2 (z := ![8192, 1024]) (m ((c : Thread nD τ).loc main_arg0))
abbrev B : ℕ → ℕ → EReal := nat2 (z := ![2048, 1024]) (m ((c : Thread nD τ).loc main_arg1))

theorem blk0 (t : Fin cfg0.N) (y : S1024x1024.Idx) : iblk m c 0 t y = A m c (t.val / 2 * 1024 + (y 0).val) (0 * 1024 + (y 1).val) :=
  nat2_blk (z := ![8192, 1024]) (m ((c : Thread nD τ).loc main_arg0)) _ (idx t).1 (idx t).2.1 rfl rfl

theorem blk1 (t : Fin cfg0.N) (y : S1024x1024.Idx) : iblk m c 1 t y = B m c (t.val % 2 * 1024 + (y 0).val) (0 * 1024 + (y 1).val) :=
  nat2_blk (z := ![2048, 1024]) (m ((c : Thread nD τ).loc main_arg1)) _ (idx t).2.2.1 (idx t).2.2.2.1 rfl rfl

theorem pay1 (t : Fin cfg0.N) (j : S1024x1024.Idx) : k0_pay1 (F := Ideal) (iblk m c 0 t) (iblk m c 1 t) j
    = prod 1024 (A m c) (B m c) (t.val / 2 * 1024 + (j 0).val) (t.val % 2 * 1024 + (j 1).val) :=
  matmul_sum dot_S1024x1024_S1024x1024_S1024x1024_1_1_0_0_n_n 1024 rfl rfl _ _ none j (A m c (t.val / 2 * 1024 + (j 0).val)) (B m c (t.val % 2 * 1024 + (j 1).val))
    (fun _ => (blk0 m c t _).trans (congrArg (A m c _) (zero_off _ _))) (fun _ => (blk1 m c t _).trans (congrArg (B m c _) (zero_off _ _)))

/-- The result. -/
abbrev res : S8192x2048.Idx → EReal := fun i => prod 1024 (A m c) (B m c) (i 0).val (i 1).val

/-- Each point writes back its block of the product. -/
theorem flushed (t : Fin cfg0.N) (_ : (cfg0.win 2).flush t = true) :
    (dats m 0 c).flushed 2 t = ((cfg0.win 2).blk t).view.read (Elt Ideal) (res m c) := by
  obtain ⟨-, -, -, -, e0, e1⟩ := idx t
  rw [flushed2]
  funext j
  show out0_2 (F := Ideal) (iblk m c 0 t) (iblk m c 1 t) j = prod 1024 (A m c) (B m c) (win0_2.index t 0 * 1024 + 1 * (j 0).val) (win0_2.index t 1 * 1024 + 1 * (j 1).val)
  rw [e0, e1, one_mul, one_mul]
  unfold out0_2
  rw [View.canon_unit_zero zero2]
  simp only [View.ld_unit_zero (S := S1024x1024) zero2]
  exact pay1 m c t j

/-- And every place of the result lies in the block of some point. -/
theorem arr : (dats m 0 c).arrAt 2 cfg0.N = res m c := by
  refine Pipeline.Dat.arrAt_eq_of_cover (dats m 0 c) 2 _ (flushed m c) fun i => ?_
  have hN : cfg0.N = 16 := N_0
  have i0 : (i 0).val < 8192 := (i 0).isLt
  have i1 : (i 1).val < 2048 := (i 1).isLt
  obtain ⟨t, ht⟩ : ∃ t : Fin cfg0.N, t.val = 2 * ((i 0).val / 1024) + (i 1).val / 1024 := ⟨⟨_, by omega⟩, rfl⟩
  obtain ⟨-, -, -, -, e0, e1⟩ := idx t
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- The reference's product is the same sum. -/
theorem ref (x0 : Vec Ideal S8192x1024 .bf16) (x1 : Vec Ideal S2048x1024 .bf16) (i : S8192x2048.Idx) :
    Cert.L1RetOutDxRefIdeal.Read.val_main_v4 (F := Ideal) x0 x1 i = prod 1024 (nat2 (z := ![8192, 1024]) x0) (nat2 (z := ![2048, 1024]) x1) (i 0).val (i 1).val := by
  rw [Cert.L1RetOutDxRefIdeal.Read.val_main_v4_apply, prod, Finset.sum_range]
  exact Finset.sum_congr rfl fun k _ => congrArg₂ (· * ·) (nat2_eq (z := ![8192, 1024]) x0 _ rfl rfl) (nat2_eq (z := ![2048, 1024]) x1 _ rfl rfl)

theorem equal [Cert.L1RetOutDxIdeal.Facts] [Cert.L1RetOutDxRefIdeal.Facts] : Cert.algebraic_L1RetOutDxIdeal_L1RetOutDxRefIdeal := by
  intro m g m' g' _ hsame
  refine ⟨fun c => res m c, (θ_run _ _ _).mono (fun r h c => ⟨(h c).1.trans (arr m c), (h c).2⟩) (run_blocks m g),
    (θ_run _ _ _).mono (fun r h c => ⟨(h c).1.trans (funext fun i => ?_), (h c).2⟩) (Cert.L1RetOutDxRefIdeal.Value.run m' g')⟩
  refine (ref _ _ i).trans ?_
  rw [(hsame c).1, (hsame c).2]

end Cert.L1RetOutDxIdeal.Own
-- ==== Proof.L0Qkv.lean ====
/- A product of the forward pass, and the reference. -/
module

public import proofs.«01_k».proof.Defs
public import proofs.«01_k».proof.Proof.Acc
public import proofs.«01_k».proof.Proof.Gen.L0QkvIdeal.Value
public import proofs.«01_k».proof.Proof.Gen.L0QkvRefIdeal.Run
public import proofs.«01_k».proof.Proof.Gen.L0QkvRefIdeal.Read

@[expose] public section

noncomputable section

namespace Cert.L0QkvIdeal.Own

open Cert.L0QkvIdeal Cert.L0QkvIdeal.Gen Cert.L0QkvIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val / 2 ∧ win0_0.index t 1 = 0 ∧ win0_1.index t 0 = 0 ∧ win0_1.index t 1 = t.val % 2
    ∧ win0_2.index t 0 = t.val / 2 ∧ win0_2.index t 1 = t.val % 2 := by decide +kernel

/-- The two factors at natural coordinates, the summands' coordinate second. -/
abbrev A : ℕ → ℕ → EReal := nat2 (z := ![9216, 1024]) (m ((c : Thread nD τ).loc main_arg0))
abbrev B : ℕ → ℕ → EReal := fun s k => nat2 (z := ![1024, 1536]) (m ((c : Thread nD τ).loc main_arg1)) k s

theorem blk0 (t : Fin cfg0.N) (y : S1024x1024.Idx) : iblk m c 0 t y = A m c (t.val / 2 * 1024 + (y 0).val) (0 * 1024 + (y 1).val) :=
  nat2_blk (z := ![9216, 1024]) (m ((c : Thread nD τ).loc main_arg0)) _ (idx t).1 (idx t).2.1 rfl rfl

theorem blk1 (t : Fin cfg0.N) (y : S1024x768.Idx) : iblk m c 1 t y = B m c (t.val % 2 * 768 + (y 1).val) (0 * 1024 + (y 0).val) :=
  nat2_blk (z := ![1024, 1536]) (m ((c : Thread nD τ).loc main_arg1)) _ (idx t).2.2.1 (idx t).2.2.2.1 rfl rfl

theorem pay1 (t : Fin cfg0.N) (j : S1024x768.Idx) : k0_pay1 (F := Ideal) (iblk m c 0 t) (iblk m c 1 t) j
    = prod 1024 (A m c) (B m c) (t.val / 2 * 1024 + (j 0).val) (t.val % 2 * 768 + (j 1).val) :=
  matmul_sum dot_S1024x1024_S1024x768_S1024x768_1_0_0_1_n_n 1024 rfl rfl _ _ none j (A m c (t.val / 2 * 1024 + (j 0).val)) (B m c (t.val % 2 * 768 + (j 1).val))
    (fun _ => (blk0 m c t _).trans (congrArg (A m c _) (zero_off _ _))) (fun _ => (blk1 m c t _).trans (congrArg (B m c _) (zero_off _ _)))

/-- The result. -/
abbrev res : S9216x1536.Idx → EReal := fun i => prod 1024 (A m c) (B m c) (i 0).val (i 1).val

/-- Each point writes back its block of the product. -/
theorem flushed (t : Fin cfg0.N) (_ : (cfg0.win 2).flush t = true) :
    (dats m 0 c).flushed 2 t = ((cfg0.win 2).blk t).view.read (Elt Ideal) (res m c) := by
  obtain ⟨-, -, -, -, e0, e1⟩ := idx t
  rw [flushed2]
  funext j
  show out0_2 (F := Ideal) (iblk m c 0 t) (iblk m c 1 t) j = prod 1024 (A m c) (B m c) (win0_2.index t 0 * 1024 + 1 * (j 0).val) (win0_2.index t 1 * 768 + 1 * (j 1).val)
  rw [e0, e1, one_mul, one_mul]
  unfold out0_2
  rw [View.canon_unit_zero zero2]
  simp only [View.ld_unit_zero (S := S1024x1024) zero2, View.ld_unit_zero (S := S1024x768) zero2]
  exact pay1 m c t j

/-- And every place of the result lies in the block of some point. -/
theorem arr : (dats m 0 c).arrAt 2 cfg0.N = res m c := by
  refine Pipeline.Dat.arrAt_eq_of_cover (dats m 0 c) 2 _ (flushed m c) fun i => ?_
  have hN : cfg0.N = 18 := N_0
  have i0 : (i 0).val < 9216 := (i 0).isLt
  have i1 : (i 1).val < 1536 := (i 1).isLt
  obtain ⟨t, ht⟩ : ∃ t : Fin cfg0.N, t.val = 2 * ((i 0).val / 1024) + (i 1).val / 768 := ⟨⟨_, by omega⟩, rfl⟩
  obtain ⟨-, -, -, -, e0, e1⟩ := idx t
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 768 ≤ (i 1).val ∧ (i 1).val < win0_2.index t 1 * 768 + 768; omega

/-- The reference's product is the same sum. -/
theorem ref (x0 : Vec Ideal S9216x1024 .bf16) (x1 : Vec Ideal S1024x1536 .bf16) (i : S9216x1536.Idx) :
    Cert.L0QkvRefIdeal.Read.val_main_v2 (F := Ideal) x0 x1 i = prod 1024 (nat2 (z := ![9216, 1024]) x0) (fun s k => nat2 (z := ![1024, 1536]) x1 k s) (i 0).val (i 1).val := by
  rw [Cert.L0QkvRefIdeal.Read.val_main_v2_apply, prod, Finset.sum_range]
  exact Finset.sum_congr rfl fun k _ => congrArg₂ (· * ·) (nat2_eq (z := ![9216, 1024]) x0 _ rfl rfl) (nat2_eq (z := ![1024, 1536]) x1 _ rfl rfl)

theorem equal [Cert.L0QkvIdeal.Facts] [Cert.L0QkvRefIdeal.Facts] : Cert.algebraic_L0QkvIdeal_L0QkvRefIdeal := by
  intro m g m' g' _ hsame
  refine ⟨fun c => res m c, (θ_run _ _ _).mono (fun r h c => ⟨(h c).1.trans (arr m c), (h c).2⟩) (run_blocks m g),
    (θ_run _ _ _).mono (fun r h c => ⟨(h c).1.trans (funext fun i => ?_), (h c).2⟩) (Cert.L0QkvRefIdeal.Value.run m' g')⟩
  refine (ref _ _ i).trans ?_
  rw [(hsame c).1, (hsame c).2]

end Cert.L0QkvIdeal.Own
-- ==== Proof.L0QkvDw.lean ====
/- A weight gradient: the running sums over the rows, and the reference. -/
module

public import proofs.«01_k».proof.Defs
public import proofs.«01_k».proof.Proof.Acc
public import proofs.«01_k».proof.Proof.Gen.L0QkvDwIdeal.Value
public import proofs.«01_k».proof.Proof.Gen.L0QkvDwRefIdeal.Run
public import proofs.«01_k».proof.Proof.Gen.L0QkvDwRefIdeal.Read

@[expose] public section

noncomputable section

namespace Cert.L0QkvDwIdeal.Own

open Cert.L0QkvDwIdeal Cert.L0QkvDwIdeal.Gen Cert.L0QkvDwIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val % 6 ∧ win0_0.index t 1 = 0 ∧ win0_1.index t 0 = t.val % 6 ∧ win0_1.index t 1 = t.val / 6 := by decide +kernel

/-- The two factors at natural coordinates, the summands' coordinate second. -/
abbrev A : ℕ → ℕ → EReal := fun r k => nat2 (z := ![9216, 1024]) (m ((c : Thread nD τ).loc main_arg0)) k r
abbrev B : ℕ → ℕ → EReal := fun s k => nat2 (z := ![9216, 1536]) (m ((c : Thread nD τ).loc main_arg1)) k s

theorem blk0 (t : Fin cfg0.N) (y : S1536x1024.Idx) : iblk m c 0 t y = A m c (0 * 1024 + (y 1).val) (t.val % 6 * 1536 + (y 0).val) :=
  nat2_blk (z := ![9216, 1024]) (m ((c : Thread nD τ).loc main_arg0)) _ (idx t).1 (idx t).2.1 rfl rfl

theorem blk1 (t : Fin cfg0.N) (y : S1536x768.Idx) : iblk m c 1 t y = B m c (t.val / 6 * 768 + (y 1).val) (t.val % 6 * 1536 + (y 0).val) :=
  nat2_blk (z := ![9216, 1536]) (m ((c : Thread nD τ).loc main_arg1)) _ (idx t).2.2.1 (idx t).2.2.2 rfl rfl

/-- A step's own share of the sum. -/
abbrev part (j : S1024x768.Idx) (n : ℕ) : EReal := share 6 1536 1024 768 (A m c) (B m c) (fun _ => 0) id j n

theorem pay1 (t : Fin cfg0.N) (j : S1024x768.Idx) : k0_pay1 (F := Ideal) (iblk m c 0 t) (iblk m c 1 t) j = part m c j t.val :=
  matmul_sum dot_S1536x1024_S1536x768_S1024x768_0_0_1_1_n_n 1536 rfl rfl _ _ none j
    (fun k => A m c (0 * 1024 + (j 0).val) (t.val % 6 * 1536 + k)) (fun k => B m c (t.val / 6 * 768 + (j 1).val) (t.val % 6 * 1536 + k))
    (fun _ => blk0 m c t _) (fun _ => blk1 m c t _)

theorem pay3 (t : Fin cfg0.N) (acc : Vec Ideal S1024x768 .f32) (j : S1024x768.Idx) :
    k0_pay3 (F := Ideal) (iblk m c 0 t) (iblk m c 1 t) acc j = acc j + part m c j t.val := by
  unfold k0_pay3
  rw [shapeCast_self, ← pay1]
  rfl

/-- The running sum the kernel keeps, at a place of the block. -/
abbrev S (j : S1024x768.Idx) (n : ℕ) (h : n < cfg0.N) : EReal := (outsAt0 m c n h).2 j

theorem S_A (j : S1024x768.Idx) (n : ℕ) (h : n < cfg0.N) (h0 : n % 6 = 0) : S m c j n h = part m c j n := by
  rw [S, outsAt0_A m c ⟨n, h⟩ h0 (by dsimp only; omega) (by dsimp only; omega), ← pay1 m c ⟨n, h⟩]
  simp only [sout0_A_0, kernelRun0_A, store2, load2, Memref.IsWhole.read_unread, k0_pay2, shapeCast_self]

/-- After the first step of a run the step adds its share, and at the run's last the block written is that sum. -/
theorem S_B (j : S1024x768.Idx) (n : ℕ) (h : n < cfg0.N) (h0 : ¬n % 6 = 0) :
    S m c j n h = S m c j (n - 1) (Nat.lt_of_le_of_lt (Nat.sub_le _ _) h) + part m c j n
    ∧ (n % 6 = 5 → (outsAt0 m c n h).1 j = S m c j n h) := by
  rw [S, ← pay3 m c ⟨n, h⟩]
  by_cases hl : n % 6 = 5
  · rw [outsAt0_C m c ⟨n, h⟩ h0 (by dsimp only; omega) hl]
    simp only [sout0_C_0, out0_C_2, kernelRun0_C]
    sl_unfold_words
    simp only [store2, load2, cov2, Memref.IsWhole.read_unread, (Memref.isWhole_whole _).read_unread]
    exact ⟨trivial, fun _ => trivial⟩
  · rw [outsAt0_B m c ⟨n, h⟩ h0 (by dsimp only; omega) hl]
    simp only [sout0_B_0, kernelRun0_B, store2, load2, Memref.IsWhole.read_unread, (Memref.isWhole_whole _).read_unread]
    exact ⟨trivial, fun e => absurd e hl⟩

/-- What the result array ends holding. -/
theorem res (i : S1024x1536.Idx) : G2 m c i = prod 9216 (A m c) (B m c) (i 0).val (i 1).val := by
  have hN : cfg0.N = 12 := N_0
  have i0 : (i 0).val < 1024 := (i 0).isLt
  have i1 : (i 1).val < 1536 := (i 1).isLt
  have ep : pt2Of i = 6 * ((i 1).val / 768) + 5 := by
    show 6 * (2 * ((i 0).val / 1024 - 0) + 1 * ((i 1).val / 768 - 0)) + 5 = _
    omega
  have hp : pt2Of i < cfg0.N := by omega
  unfold G2
  rw [dif_pos hp, ← outsAt0_sweep m c _ hp, (S_B m c _ _ hp (by omega)).2 (by omega)]
  exact acc_prod (A m c) (B m c) (fun _ => 0) id (S m c) (S_A m c) (fun j n h h0 => (S_B m c j n h h0).1) _ _ hp (by omega)
    (by show 0 * 1024 + (i 0).val % 1024 = _; omega) (by show pt2Of i / 6 * 768 + (i 1).val % 768 = _; omega)

/-- The reference's product is the same sum. -/
theorem ref (x0 : Vec Ideal S9216x1024 .bf16) (x1 : Vec Ideal S9216x1536 .bf16) (i : S1024x1536.Idx) :
    Cert.L0QkvDwRefIdeal.Read.val_main_v5 (F := Ideal) x0 x1 i = prod 9216 (fun r k => nat2 (z := ![9216, 1024]) x0 k r) (fun s k => nat2 (z := ![9216, 1536]) x1 k s) (i 0).val (i 1).val := by
  rw [Cert.L0QkvDwRefIdeal.Read.val_main_v5_apply, Cert.L0QkvDwRefIdeal.Read.val_main_v4_apply, prod, Finset.sum_range]
  exact Finset.sum_congr rfl fun k _ => (mul_comm _ _).trans
    (congrArg₂ (· * ·) (nat2_eq (z := ![9216, 1024]) x0 _ rfl rfl) (nat2_eq (z := ![9216, 1536]) x1 _ rfl rfl))

theorem equal [Cert.L0QkvDwIdeal.Facts] [Cert.L0QkvDwRefIdeal.Facts] : Cert.algebraic_L0QkvDwIdeal_L0QkvDwRefIdeal := by
  intro m g m' g' _ hsame
  refine ⟨fun c => G2 m c, run m g,
    (θ_run _ _ _).mono (fun r h c => ⟨(h c).1.trans (funext fun i => ?_), (h c).2⟩) (Cert.L0QkvDwRefIdeal.Value.run m' g')⟩
  refine (ref _ _ i).trans ?_
  rw [(hsame c).1, (hsame c).2]
  exact (res m c i).symm

end Cert.L0QkvDwIdeal.Own
-- ==== Proof.L0QkvDx.lean ====
/- The gradient of a product with respect to its first factor, and the reference. -/
module

public import proofs.«01_k».proof.Defs
public import proofs.«01_k».proof.Proof.Acc
public import proofs.«01_k».proof.Proof.Gen.L0QkvDxIdeal.Value
public import proofs.«01_k».proof.Proof.Gen.L0QkvDxRefIdeal.Run
public import proofs.«01_k».proof.Proof.Gen.L0QkvDxRefIdeal.Read

@[expose] public section

noncomputable section

namespace Cert.L0QkvDxIdeal.Own

open Cert.L0QkvDxIdeal Cert.L0QkvDxIdeal.Gen Cert.L0QkvDxIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val ∧ win0_0.index t 1 = 0 ∧ win0_1.index t 0 = 0 ∧ win0_1.index t 1 = 0
    ∧ win0_2.index t 0 = t.val ∧ win0_2.index t 1 = 0 := by decide +kernel

/-- The two factors at natural coordinates, the summands' coordinate second. -/
abbrev A : ℕ → ℕ → EReal := nat2 (z := ![9216, 1536]) (m ((c : Thread nD τ).loc main_arg0))
abbrev B : ℕ → ℕ → EReal := nat2 (z := ![1024, 1536]) (m ((c : Thread nD τ).loc main_arg1))

theorem blk0 (t : Fin cfg0.N) (y : S1024x1536.Idx) : iblk m c 0 t y = A m c (t.val * 1024 + (y 0).val) (0 * 1536 + (y 1).val) :=
  nat2_blk (z := ![9216, 1536]) (m ((c : Thread nD τ).loc main_arg0)) _ (idx t).1 (idx t).2.1 rfl rfl

theorem blk1 (t : Fin cfg0.N) (y : S1024x1536.Idx) : iblk m c 1 t y = B m c (0 * 1024 + (y 0).val) (0 * 1536 + (y 1).val) :=
  nat2_blk (z := ![1024, 1536]) (m ((c : Thread nD τ).loc main_arg1)) _ (idx t).2.2.1 (idx t).2.2.2.1 rfl rfl

theorem pay1 (t : Fin cfg0.N) (j : S1024x1024.Idx) : k0_pay1 (F := Ideal) (iblk m c 0 t) (iblk m c 1 t) j
    = prod 1536 (A m c) (B m c) (t.val * 1024 + (j 0).val) (0 * 1024 + (j 1).val) :=
  matmul_sum dot_S1024x1536_S1024x1536_S1024x1024_1_1_0_0_n_n 1536 rfl rfl _ _ none j (A m c (t.val * 1024 + (j 0).val)) (B m c (0 * 1024 + (j 1).val))
    (fun _ => (blk0 m c t _).trans (congrArg (A m c _) (zero_off _ _))) (fun _ => (blk1 m c t _).trans (congrArg (B m c _) (zero_off _ _)))

/-- The result. -/
abbrev res : S9216x1024.Idx → EReal := fun i => prod 1536 (A m c) (B m c) (i 0).val (i 1).val

/-- Each point writes back its block of the product. -/
theorem flushed (t : Fin cfg0.N) (_ : (cfg0.win 2).flush t = true) :
    (dats m 0 c).flushed 2 t = ((cfg0.win 2).blk t).view.read (Elt Ideal) (res m c) := by
  obtain ⟨-, -, -, -, e0, e1⟩ := idx t
  rw [flushed2]
  funext j
  show out0_2 (F := Ideal) (iblk m c 0 t) (iblk m c 1 t) j = prod 1536 (A m c) (B m c) (win0_2.index t 0 * 1024 + 1 * (j 0).val) (win0_2.index t 1 * 1024 + 1 * (j 1).val)
  rw [e0, e1, one_mul, one_mul]
  unfold out0_2
  rw [View.canon_unit_zero zero2]
  simp only [View.ld_unit_zero (S := S1024x1536) zero2]
  exact pay1 m c t j

/-- And every place of the result lies in the block of some point. -/
theorem arr : (dats m 0 c).arrAt 2 cfg0.N = res m c := by
  refine Pipeline.Dat.arrAt_eq_of_cover (dats m 0 c) 2 _ (flushed m c) fun i => ?_
  have hN : cfg0.N = 9 := N_0
  have i0 : (i 0).val < 9216 := (i 0).isLt
  have i1 : (i 1).val < 1024 := (i 1).isLt
  obtain ⟨t, ht⟩ : ∃ t : Fin cfg0.N, t.val = 1 * ((i 0).val / 1024) + (i 1).val / 1024 := ⟨⟨_, by omega⟩, rfl⟩
  obtain ⟨-, -, -, -, e0, e1⟩ := idx t
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- The reference's product is the same sum. -/
theorem ref (x0 : Vec Ideal S9216x1536 .bf16) (x1 : Vec Ideal S1024x1536 .bf16) (i : S9216x1024.Idx) :
    Cert.L0QkvDxRefIdeal.Read.val_main_v4 (F := Ideal) x0 x1 i = prod 1536 (nat2 (z := ![9216, 1536]) x0) (nat2 (z := ![1024, 1536]) x1) (i 0).val (i 1).val := by
  rw [Cert.L0QkvDxRefIdeal.Read.val_main_v4_apply, prod, Finset.sum_range]
  exact Finset.sum_congr rfl fun k _ => congrArg₂ (· * ·) (nat2_eq (z := ![9216, 1536]) x0 _ rfl rfl) (nat2_eq (z := ![1024, 1536]) x1 _ rfl rfl)

theorem equal [Cert.L0QkvDxIdeal.Facts] [Cert.L0QkvDxRefIdeal.Facts] : Cert.algebraic_L0QkvDxIdeal_L0QkvDxRefIdeal := by
  intro m g m' g' _ hsame
  refine ⟨fun c => res m c, (θ_run _ _ _).mono (fun r h c => ⟨(h c).1.trans (arr m c), (h c).2⟩) (run_blocks m g),
    (θ_run _ _ _).mono (fun r h c => ⟨(h c).1.trans (funext fun i => ?_), (h c).2⟩) (Cert.L0QkvDxRefIdeal.Value.run m' g')⟩
  refine (ref _ _ i).trans ?_
  rw [(hsame c).1, (hsame c).2]

end Cert.L0QkvDxIdeal.Own
-- ==== Proof.L0AttnOutDw.lean ====
/- A weight gradient: the running sums over the rows, and the reference. -/
module

public import proofs.«01_k».proof.Defs
public import proofs.«01_k».proof.Proof.Acc
public import proofs.«01_k».proof.Proof.Gen.L0AttnOutDwIdeal.Value
public import proofs.«01_k».proof.Proof.Gen.L0AttnOutDwRefIdeal.Run
public import proofs.«01_k».proof.Proof.Gen.L0AttnOutDwRefIdeal.Read

@[expose] public section

noncomputable section

namespace Cert.L0AttnOutDwIdeal.Own

open Cert.L0AttnOutDwIdeal Cert.L0AttnOutDwIdeal.Gen Cert.L0AttnOutDwIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val % 6 ∧ win0_0.index t 1 = 0 ∧ win0_1.index t 0 = t.val % 6 ∧ win0_1.index t 1 = 0 := by decide +kernel

/-- The two factors at natural coordinates, the summands' coordinate second. -/
abbrev A : ℕ → ℕ → EReal := fun r k => nat2 (z := ![9216, 1024]) (m ((c : Thread nD τ).loc main_arg0)) k r
abbrev B : ℕ → ℕ → EReal := fun s k => nat2 (z := ![9216, 1024]) (m ((c : Thread nD τ).loc main_arg1)) k s

theorem blk0 (t : Fin cfg0.N) (y : S1536x1024.Idx) : iblk m c 0 t y = A m c (0 * 1024 + (y 1).val) (t.val % 6 * 1536 + (y 0).val) :=
  nat2_blk (z := ![9216, 1024]) (m ((c : Thread nD τ).loc main_arg0)) _ (idx t).1 (idx t).2.1 rfl rfl

theorem blk1 (t : Fin cfg0.N) (y : S1536x1024.Idx) : iblk m c 1 t y = B m c (0 * 1024 + (y 1).val) (t.val % 6 * 1536 + (y 0).val) :=
  nat2_blk (z := ![9216, 1024]) (m ((c : Thread nD τ).loc main_arg1)) _ (idx t).2.2.1 (idx t).2.2.2 rfl rfl

/-- A step's own share of the sum. -/
abbrev part (j : S1024x1024.Idx) (n : ℕ) : EReal := share 6 1536 1024 1024 (A m c) (B m c) (fun _ => 0) (fun _ => 0) j n

theorem pay1 (t : Fin cfg0.N) (j : S1024x1024.Idx) : k0_pay1 (F := Ideal) (iblk m c 0 t) (iblk m c 1 t) j = part m c j t.val :=
  matmul_sum dot_S1536x1024_S1536x1024_S1024x1024_0_0_1_1_n_n 1536 rfl rfl _ _ none j
    (fun k => A m c (0 * 1024 + (j 0).val) (t.val % 6 * 1536 + k)) (fun k => B m c (0 * 1024 + (j 1).val) (t.val % 6 * 1536 + k))
    (fun _ => blk0 m c t _) (fun _ => blk1 m c t _)

theorem pay3 (t : Fin cfg0.N) (acc : Vec Ideal S1024x1024 .f32) (j : S1024x1024.Idx) :
    k0_pay3 (F := Ideal) (iblk m c 0 t) (iblk m c 1 t) acc j = acc j + part m c j t.val := by
  unfold k0_pay3
  rw [shapeCast_self, ← pay1]
  rfl

/-- The running sum the kernel keeps, at a place of the block. -/
abbrev S (j : S1024x1024.Idx) (n : ℕ) (h : n < cfg0.N) : EReal := (outsAt0 m c n h).2 j

theorem S_A (j : S1024x1024.Idx) (n : ℕ) (h : n < cfg0.N) (h0 : n % 6 = 0) : S m c j n h = part m c j n := by
  have hN : cfg0.N = 6 := N_0
  rw [S, outsAt0_A m c ⟨n, h⟩ h0 (by dsimp only; omega) (by dsimp only; omega), ← pay1 m c ⟨n, h⟩]
  simp only [sout0_A_0, kernelRun0_A, store2, load2, Memref.IsWhole.read_unread, k0_pay2, shapeCast_self]

/-- After the first step of a run the step adds its share, and at the run's last the block written is that sum. -/
theorem S_B (j : S1024x1024.Idx) (n : ℕ) (h : n < cfg0.N) (h0 : ¬n % 6 = 0) :
    S m c j n h = S m c j (n - 1) (Nat.lt_of_le_of_lt (Nat.sub_le _ _) h) + part m c j n
    ∧ (n % 6 = 5 → (outsAt0 m c n h).1 j = S m c j n h) := by
  rw [S, ← pay3 m c ⟨n, h⟩]
  by_cases hl : n % 6 = 5
  · rw [outsAt0_C m c ⟨n, h⟩ h0 (by dsimp only; omega) hl]
    simp only [sout0_C_0, out0_C_2, kernelRun0_C]
    sl_unfold_words
    simp only [store2, load2, cov2, Memref.IsWhole.read_unread, (Memref.isWhole_whole _).read_unread]
    exact ⟨trivial, fun _ => trivial⟩
  · rw [outsAt0_B m c ⟨n, h⟩ h0 (by dsimp only; omega) hl]
    simp only [sout0_B_0, kernelRun0_B, store2, load2, Memref.IsWhole.read_unread, (Memref.isWhole_whole _).read_unread]
    exact ⟨trivial, fun e => absurd e hl⟩

/-- What the result array ends holding. -/
theorem res (i : S1024x1024.Idx) : G2 m c i = prod 9216 (A m c) (B m c) (i 0).val (i 1).val := by
  have hN : cfg0.N = 6 := N_0
  have i0 : (i 0).val < 1024 := (i 0).isLt
  have i1 : (i 1).val < 1024 := (i 1).isLt
  have ep : pt2Of i = 6 * 0 + 5 := by
    show 6 * (1 * ((i 0).val / 1024 - 0) + 1 * ((i 1).val / 1024 - 0)) + 5 = _
    omega
  have hp : pt2Of i < cfg0.N := by omega
  unfold G2
  rw [dif_pos hp, ← outsAt0_sweep m c _ hp, (S_B m c _ _ hp (by omega)).2 (by omega)]
  exact acc_prod (A m c) (B m c) (fun _ => 0) (fun _ => 0) (S m c) (S_A m c) (fun j n h h0 => (S_B m c j n h h0).1) _ _ hp (by omega)
    (by show 0 * 1024 + (i 0).val % 1024 = _; omega) (by show 0 * 1024 + (i 1).val % 1024 = _; omega)

/-- The reference's product is the same sum. -/
theorem ref (x0 : Vec Ideal S9216x1024 .bf16) (x1 : Vec Ideal S9216x1024 .bf16) (i : S1024x1024.Idx) :
    Cert.L0AttnOutDwRefIdeal.Read.val_main_v5 (F := Ideal) x0 x1 i = prod 9216 (fun r k => nat2 (z := ![9216, 1024]) x0 k r) (fun s k => nat2 (z := ![9216, 1024]) x1 k s) (i 0).val (i 1).val := by
  rw [Cert.L0AttnOutDwRefIdeal.Read.val_main_v5_apply, Cert.L0AttnOutDwRefIdeal.Read.val_main_v4_apply, prod, Finset.sum_range]
  exact Finset.sum_congr rfl fun k _ => (mul_comm _ _).trans
    (congrArg₂ (· * ·) (nat2_eq (z := ![9216, 1024]) x0 _ rfl rfl) (nat2_eq (z := ![9216, 1024]) x1 _ rfl rfl))

theorem equal [Cert.L0AttnOutDwIdeal.Facts] [Cert.L0AttnOutDwRefIdeal.Facts] : Cert.algebraic_L0AttnOutDwIdeal_L0AttnOutDwRefIdeal := by
  intro m g m' g' _ hsame
  refine ⟨fun c => G2 m c, run m g,
    (θ_run _ _ _).mono (fun r h c => ⟨(h c).1.trans (funext fun i => ?_), (h c).2⟩) (Cert.L0AttnOutDwRefIdeal.Value.run m' g')⟩
  refine (ref _ _ i).trans ?_
  rw [(hsame c).1, (hsame c).2]
  exact (res m c i).symm

end Cert.L0AttnOutDwIdeal.Own
-- ==== Proof.L0AttnOutDx.lean ====
/- The gradient of a product with respect to its first factor, and the reference. -/
module

public import proofs.«01_k».proof.Defs
public import proofs.«01_k».proof.Proof.Acc
public import proofs.«01_k».proof.Proof.Gen.L0AttnOutDxIdeal.Value
public import proofs.«01_k».proof.Proof.Gen.L0AttnOutDxRefIdeal.Run
public import proofs.«01_k».proof.Proof.Gen.L0AttnOutDxRefIdeal.Read

@[expose] public section

noncomputable section

namespace Cert.L0AttnOutDxIdeal.Own

open Cert.L0AttnOutDxIdeal Cert.L0AttnOutDxIdeal.Gen Cert.L0AttnOutDxIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val ∧ win0_0.index t 1 = 0 ∧ win0_1.index t 0 = 0 ∧ win0_1.index t 1 = 0
    ∧ win0_2.index t 0 = t.val ∧ win0_2.index t 1 = 0 := by decide +kernel

/-- The two factors at natural coordinates, the summands' coordinate second. -/
abbrev A : ℕ → ℕ → EReal := nat2 (z := ![9216, 1024]) (m ((c : Thread nD τ).loc main_arg0))
abbrev B : ℕ → ℕ → EReal := nat2 (z := ![1024, 1024]) (m ((c : Thread nD τ).loc main_arg1))

theorem blk0 (t : Fin cfg0.N) (y : S1024x1024.Idx) : iblk m c 0 t y = A m c (t.val * 1024 + (y 0).val) (0 * 1024 + (y 1).val) :=
  nat2_blk (z := ![9216, 1024]) (m ((c : Thread nD τ).loc main_arg0)) _ (idx t).1 (idx t).2.1 rfl rfl

theorem blk1 (t : Fin cfg0.N) (y : S1024x1024.Idx) : iblk m c 1 t y = B m c (0 * 1024 + (y 0).val) (0 * 1024 + (y 1).val) :=
  nat2_blk (z := ![1024, 1024]) (m ((c : Thread nD τ).loc main_arg1)) _ (idx t).2.2.1 (idx t).2.2.2.1 rfl rfl

theorem pay1 (t : Fin cfg0.N) (j : S1024x1024.Idx) : k0_pay1 (F := Ideal) (iblk m c 0 t) (iblk m c 1 t) j
    = prod 1024 (A m c) (B m c) (t.val * 1024 + (j 0).val) (0 * 1024 + (j 1).val) :=
  matmul_sum (φ₁ := .bf16) (φ₂ := .bf16) dot_S1024x1024_S1024x1024_S1024x1024_1_1_0_0_n_n 1024 rfl rfl _ _ none j (A m c (t.val * 1024 + (j 0).val)) (B m c (0 * 1024 + (j 1).val))
    (fun _ => (blk0 m c t _).trans (congrArg (A m c _) (zero_off _ _))) (fun _ => (blk1 m c t _).trans (congrArg (B m c _) (zero_off _ _)))

/-- The result. -/
abbrev res : S9216x1024.Idx → EReal := fun i => prod 1024 (A m c) (B m c) (i 0).val (i 1).val

/-- Each point writes back its block of the product. -/
theorem flushed (t : Fin cfg0.N) (_ : (cfg0.win 2).flush t = true) :
    (dats m 0 c).flushed 2 t = ((cfg0.win 2).blk t).view.read (Elt Ideal) (res m c) := by
  obtain ⟨-, -, -, -, e0, e1⟩ := idx t
  rw [flushed2]
  funext j
  show out0_2 (F := Ideal) (iblk m c 0 t) (iblk m c 1 t) j = prod 1024 (A m c) (B m c) (win0_2.index t 0 * 1024 + 1 * (j 0).val) (win0_2.index t 1 * 1024 + 1 * (j 1).val)
  rw [e0, e1, one_mul, one_mul]
  unfold out0_2
  rw [View.canon_unit_zero zero2]
  simp only [View.ld_unit_zero (S := S1024x1024) zero2]
  exact pay1 m c t j

/-- And every place of the result lies in the block of some point. -/
theorem arr : (dats m 0 c).arrAt 2 cfg0.N = res m c := by
  refine Pipeline.Dat.arrAt_eq_of_cover (dats m 0 c) 2 _ (flushed m c) fun i => ?_
  have hN : cfg0.N = 9 := N_0
  have i0 : (i 0).val < 9216 := (i 0).isLt
  have i1 : (i 1).val < 1024 := (i 1).isLt
  obtain ⟨t, ht⟩ : ∃ t : Fin cfg0.N, t.val = 1 * ((i 0).val / 1024) + (i 1).val / 1024 := ⟨⟨_, by omega⟩, rfl⟩
  obtain ⟨-, -, -, -, e0, e1⟩ := idx t
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- The reference's product is the same sum. -/
theorem ref (x0 : Vec Ideal S9216x1024 .bf16) (x1 : Vec Ideal S1024x1024 .bf16) (i : S9216x1024.Idx) :
    Cert.L0AttnOutDxRefIdeal.Read.val_main_v5 (F := Ideal) x0 x1 i = prod 1024 (nat2 (z := ![9216, 1024]) x0) (nat2 (z := ![1024, 1024]) x1) (i 0).val (i 1).val := by
  rw [Cert.L0AttnOutDxRefIdeal.Read.val_main_v5_apply]
  refine (Cert.L0AttnOutDxRefIdeal.Read.val_main_v4_apply x0 x1 i).trans ?_
  rw [prod, Finset.sum_range]
  exact Finset.sum_congr rfl fun k _ => congrArg₂ (· * ·) (nat2_eq (z := ![9216, 1024]) x0 _ rfl rfl) (nat2_eq (z := ![1024, 1024]) x1 _ rfl rfl)

theorem equal [Cert.L0AttnOutDxIdeal.Facts] [Cert.L0AttnOutDxRefIdeal.Facts] : Cert.algebraic_L0AttnOutDxIdeal_L0AttnOutDxRefIdeal := by
  intro m g m' g' _ hsame
  refine ⟨fun c => res m c, (θ_run _ _ _).mono (fun r h c => ⟨(h c).1.trans (arr m c), (h c).2⟩) (run_blocks m g),
    (θ_run _ _ _).mono (fun r h c => ⟨(h c).1.trans (funext fun i => ?_), (h c).2⟩) (Cert.L0AttnOutDxRefIdeal.Value.run m' g')⟩
  refine (ref _ _ i).trans ?_
  rw [(hsame c).1, (hsame c).2]

end Cert.L0AttnOutDxIdeal.Own
-- ==== Proof.L0AttnOut.lean ====
/- A product of the forward pass added to a residual under a gate, and the reference. -/
module

public import proofs.«01_k».proof.Defs
public import proofs.«01_k».proof.Proof.Acc
public import proofs.«01_k».proof.Proof.Gen.L0AttnOutIdeal.Value
public import proofs.«01_k».proof.Proof.Gen.L0AttnOutRefIdeal.Run
public import proofs.«01_k».proof.Proof.Gen.L0AttnOutRefIdeal.Read

@[expose] public section

noncomputable section

namespace Cert.L0AttnOutIdeal.Own

open Cert.L0AttnOutIdeal Cert.L0AttnOutIdeal.Gen Cert.L0AttnOutIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val / 2 ∧ win0_0.index t 1 = 0 ∧ win0_1.index t 0 = 0 ∧ win0_1.index t 1 = t.val % 2
    ∧ win0_2.index t 0 = t.val / 2 ∧ win0_2.index t 1 = t.val % 2 ∧ win0_3.index t 0 = t.val / 2 / 2 ∧ win0_3.index t 1 = 0 ∧ win0_3.index t 2 = t.val % 2
    ∧ win0_4.index t 0 = t.val / 2 ∧ win0_4.index t 1 = t.val % 2 ∧ win0_5.index t 0 = t.val / 2 ∧ win0_5.index t 1 = t.val % 2 := by decide +kernel

/-- The two factors at natural coordinates, the summands' coordinate second. -/
abbrev A : ℕ → ℕ → EReal := nat2 (z := ![9216, 1024]) (m ((c : Thread nD τ).loc main_arg0))
abbrev B : ℕ → ℕ → EReal := fun s k => nat2 (z := ![1024, 1024]) (m ((c : Thread nD τ).loc main_arg1)) k s

/-- The product, and with the gate of its row the sum with the residual. -/
abbrev res4 (r s : ℕ) : EReal := prod 1024 (A m c) (B m c) r s
abbrev gated (r s : ℕ) (y : EReal) : EReal :=
  nat2 (z := ![9216, 1024]) (m ((c : Thread nD τ).loc main_arg2)) r s + nat3 (z := ![5, 1, 1024]) (m ((c : Thread nD τ).loc main_arg3)) (r / 2048) 0 s * y

theorem blk0 (t : Fin cfg0.N) (y : S1024x1024.Idx) : iblk m c 0 t y = A m c (t.val / 2 * 1024 + (y 0).val) (0 * 1024 + (y 1).val) :=
  nat2_blk (z := ![9216, 1024]) (m ((c : Thread nD τ).loc main_arg0)) _ (idx t).1 (idx t).2.1 rfl rfl

theorem blk1 (t : Fin cfg0.N) (y : S1024x512.Idx) : iblk m c 1 t y = B m c (t.val % 2 * 512 + (y 1).val) (0 * 1024 + (y 0).val) :=
  nat2_blk (z := ![1024, 1024]) (m ((c : Thread nD τ).loc main_arg1)) _ (idx t).2.2.1 (idx t).2.2.2.1 rfl rfl

theorem blk3 (t : Fin cfg0.N) (j : S1024x512.Idx) (y : S1x1x512.Idx) (hy : (y 2).val = (j 1).val) :
    iblk m c 3 t y = nat3 (z := ![5, 1, 1024]) (m ((c : Thread nD τ).loc main_arg3)) ((t.val / 2 * 1024 + (j 0).val) / 2048) 0 (t.val % 2 * 512 + (j 1).val) := by
  obtain ⟨-, -, -, -, -, -, e0, e1, e2, -⟩ := idx t
  have y0 : (y 0).val < 1 := (y 0).isLt
  have y1 : (y 1).val < 1 := (y 1).isLt
  have j0 : (j 0).val < 1024 := (j 0).isLt
  refine nat3_eq (z := ![5, 1, 1024]) (m ((c : Thread nD τ).loc main_arg3)) _ ?_ ?_ ?_
  · show win0_3.index t 0 * 1 + 1 * (y 0).val = _; omega
  · show win0_3.index t 1 * 1 + 1 * (y 1).val = _; omega
  · show win0_3.index t 2 * 512 + 1 * (y 2).val = _; omega

theorem payG (t : Fin cfg0.N) (j : S1024x512.Idx) : k0_pay2 (F := Ideal) (iblk m c 0 t) (iblk m c 1 t) (iblk m c 2 t) (iblk m c 3 t) j
    = gated m c (t.val / 2 * 1024 + (j 0).val) (t.val % 2 * 512 + (j 1).val) (k0_pay1 (F := Ideal) (iblk m c 0 t) (iblk m c 1 t) j) :=
  congrArg₂ (· + ·) (nat2_blk (z := ![9216, 1024]) (m ((c : Thread nD τ).loc main_arg2)) _ (idx t).2.2.2.2.1 (idx t).2.2.2.2.2.1 rfl rfl)
    (congrArg (· * _) (gate_row _ _ _ j fun y => blk3 m c t j y))

theorem pay1 (t : Fin cfg0.N) (j : S1024x512.Idx) : k0_pay1 (F := Ideal) (iblk m c 0 t) (iblk m c 1 t) j
    = res4 m c (t.val / 2 * 1024 + (j 0).val) (t.val % 2 * 512 + (j 1).val) :=
  matmul_sum dot_S1024x1024_S1024x512_S1024x512_1_0_0_1_n_n 1024 rfl rfl _ _ none j (A m c (t.val / 2 * 1024 + (j 0).val)) (B m c (t.val % 2 * 512 + (j 1).val))
    (fun _ => (blk0 m c t _).trans (congrArg (A m c _) (zero_off _ _))) (fun _ => (blk1 m c t _).trans (congrArg (B m c _) (zero_off _ _)))

/-- Each point writes back its blocks of the two results. -/
theorem flushed4 (t : Fin cfg0.N) (_ : (cfg0.win 4).flush t = true) :
    (dats m 0 c).flushed 4 t = ((cfg0.win 4).blk t).view.read (Elt Ideal) (fun i : S9216x1024.Idx => res4 m c (i 0).val (i 1).val) := by
  obtain ⟨-, -, -, -, -, -, -, -, -, e0, e1, -⟩ := idx t
  rw [Value.flushed4]
  funext j
  show out0_4 (F := Ideal) (iblk m c 0 t) (iblk m c 1 t) (iblk m c 2 t) (iblk m c 3 t) j = res4 m c (win0_4.index t 0 * 1024 + 1 * (j 0).val) (win0_4.index t 1 * 512 + 1 * (j 1).val)
  rw [e0, e1, one_mul, one_mul]
  unfold out0_4
  rw [View.canon_unit_zero zero2]
  simp only [View.ld_unit_zero (S := S1024x1024) zero2, View.ld_unit_zero (S := S1024x512) zero2]
  exact pay1 m c t j

theorem flushed5 (t : Fin cfg0.N) (_ : (cfg0.win 5).flush t = true) : (dats m 0 c).flushed 5 t
    = ((cfg0.win 5).blk t).view.read (Elt Ideal) (fun i : S9216x1024.Idx => gated m c (i 0).val (i 1).val (res4 m c (i 0).val (i 1).val)) := by
  obtain ⟨-, -, -, -, -, -, -, -, -, -, -, e0, e1⟩ := idx t
  rw [Value.flushed5]
  funext j
  show out0_5 (F := Ideal) (iblk m c 0 t) (iblk m c 1 t) (iblk m c 2 t) (iblk m c 3 t) j
    = gated m c (win0_5.index t 0 * 1024 + 1 * (j 0).val) (win0_5.index t 1 * 512 + 1 * (j 1).val) (res4 m c (win0_5.index t 0 * 1024 + 1 * (j 0).val) (win0_5.index t 1 * 512 + 1 * (j 1).val))
  rw [e0, e1, one_mul, one_mul, ← pay1, ← payG]
  unfold out0_5
  rw [View.canon_unit_zero zero2]
  simp only [View.ld_unit_zero (S := S1024x1024) zero2, View.ld_unit_zero (S := S1024x512) zero2, View.ld_unit_zero (S := S1024x512) zero2, View.ld_unit_zero (S := S1x1x512) zero3]

/-- And every place of the results lies in the block of some point. -/
theorem cover (i : S9216x1024.Idx) : ∃ t : Fin cfg0.N, t.val / 2 = (i 0).val / 1024 ∧ t.val % 2 = (i 1).val / 512 := by
  have hN : cfg0.N = 18 := N_0
  have i0 : (i 0).val < 9216 := (i 0).isLt
  have i1 : (i 1).val < 1024 := (i 1).isLt
  exact ⟨⟨2 * ((i 0).val / 1024) + (i 1).val / 512, by omega⟩, by dsimp only; omega, by dsimp only; omega⟩

theorem arr4 : (dats m 0 c).arrAt 4 cfg0.N = fun i : S9216x1024.Idx => res4 m c (i 0).val (i 1).val := by
  refine Pipeline.Dat.arrAt_eq_of_cover (dats m 0 c) 4 _ (flushed4 m c) fun i => ?_
  obtain ⟨t, h0, h1⟩ := cover i
  obtain ⟨-, -, -, -, -, -, -, -, -, e0, e1, -⟩ := idx t
  refine ⟨t, flush0_4 t, ?_⟩
  show i ∈ ((View.whole main_v0_0).slice (win0_4.rect t)).set
  rw [View.set_slice_whole, Rect.mem_set_unit]
  intro a
  match a with
  | ⟨0, _⟩ => show win0_4.index t 0 * 1024 ≤ (i 0).val ∧ (i 0).val < win0_4.index t 0 * 1024 + 1024; omega
  | ⟨1, _⟩ => show win0_4.index t 1 * 512 ≤ (i 1).val ∧ (i 1).val < win0_4.index t 1 * 512 + 512; omega

theorem arr5 : (dats m 0 c).arrAt 5 cfg0.N = fun i : S9216x1024.Idx => gated m c (i 0).val (i 1).val (res4 m c (i 0).val (i 1).val) := by
  refine Pipeline.Dat.arrAt_eq_of_cover (dats m 0 c) 5 _ (flushed5 m c) fun i => ?_
  obtain ⟨t, h0, h1⟩ := cover i
  obtain ⟨-, -, -, -, -, -, -, -, -, -, -, e0, e1⟩ := idx t
  refine ⟨t, flush0_5 t, ?_⟩
  show i ∈ ((View.whole main_v0_1).slice (win0_5.rect t)).set
  rw [View.set_slice_whole, Rect.mem_set_unit]
  intro a
  match a with
  | ⟨0, _⟩ => show win0_5.index t 0 * 1024 ≤ (i 0).val ∧ (i 0).val < win0_5.index t 0 * 1024 + 1024; omega
  | ⟨1, _⟩ => show win0_5.index t 1 * 512 ≤ (i 1).val ∧ (i 1).val < win0_5.index t 1 * 512 + 512; omega

/-- The reference's product is the same sum, and its rows of gates the same gates. -/
theorem ref (x0 : Vec Ideal S9216x1024 .bf16) (x1 : Vec Ideal S1024x1024 .bf16) (i : S9216x1024.Idx) :
    Cert.L0AttnOutRefIdeal.Read.val_main_v2 (F := Ideal) x0 x1 i = prod 1024 (nat2 (z := ![9216, 1024]) x0) (fun s k => nat2 (z := ![1024, 1024]) x1 k s) (i 0).val (i 1).val := by
  rw [Cert.L0AttnOutRefIdeal.Read.val_main_v2_apply, prod, Finset.sum_range]
  exact Finset.sum_congr rfl fun k _ => congrArg₂ (· * ·) (nat2_eq (z := ![9216, 1024]) x0 _ rfl rfl) (nat2_eq (z := ![1024, 1024]) x1 _ rfl rfl)

theorem refG (x0 : Vec Ideal S9216x1024 .bf16) (x1 : Vec Ideal S1024x1024 .bf16) (x2 : Vec Ideal S9216x1024 .f32) (x3 : Vec Ideal S5x1x1024 .f32) (i : S9216x1024.Idx) :
    Cert.L0AttnOutRefIdeal.Read.val_main_v7 (F := Ideal) x0 x1 x2 x3 i = nat2 (z := ![9216, 1024]) x2 (i 0).val (i 1).val
      + nat3 (z := ![5, 1, 1024]) x3 ((i 0).val / 2048) 0 (i 1).val
        * prod 1024 (nat2 (z := ![9216, 1024]) x0) (fun s k => nat2 (z := ![1024, 1024]) x1 k s) (i 0).val (i 1).val := by
  have i1 : (i 1).val < 1024 := (i 1).isLt
  rw [Cert.L0AttnOutRefIdeal.Read.val_main_v7_apply, Cert.L0AttnOutRefIdeal.Read.val_main_v6_apply, Cert.L0AttnOutRefIdeal.Read.val_main_v5_apply, Cert.L0AttnOutRefIdeal.Read.val_main_v4_apply, Cert.L0AttnOutRefIdeal.Read.val_main_v3_apply, ref]
  exact congrArg₂ (· + ·) (nat2_eq (z := ![9216, 1024]) x2 i rfl rfl) (congrArg (· * _) (nat3_eq (z := ![5, 1, 1024]) x3 _
    (by show ((i 0).val * 1024 + (i 1).val) / 2097152 = _; omega) rfl (by show ((i 0).val * 1024 + (i 1).val) % 1024 = _; omega)))

theorem equal [Cert.L0AttnOutIdeal.Facts] [Cert.L0AttnOutRefIdeal.Facts] : Cert.algebraic_L0AttnOutIdeal_L0AttnOutRefIdeal := by
  intro m g m' g' _ hsame
  refine ⟨fun c i => res4 m c (i 0).val (i 1).val, fun c i => gated m c (i 0).val (i 1).val (res4 m c (i 0).val (i 1).val),
    (θ_run _ _ _).mono (fun r h c => ⟨(h c).1.trans (arr4 m c), (h c).2.1.trans (arr5 m c), (h c).2.2⟩) (run_blocks m g),
    (θ_run _ _ _).mono (fun r h c => ⟨(h c).1.trans (funext fun i => ?_), (h c).2.1.trans (funext fun i => ?_), (h c).2.2⟩)
      (Cert.L0AttnOutRefIdeal.Value.run m' g')⟩
  · refine (ref _ _ i).trans ?_
    rw [(hsame c).1, (hsame c).2.1]
  · refine (refG _ _ _ _ i).trans ?_
    rw [(hsame c).1, (hsame c).2.1, (hsame c).2.2.1, (hsame c).2.2.2]

end Cert.L0AttnOutIdeal.Own
-- ==== Proof.L0Out.lean ====
/- A product of the forward pass added to a residual under a gate, and the reference. -/
module

public import proofs.«01_k».proof.Defs
public import proofs.«01_k».proof.Proof.Acc
public import proofs.«01_k».proof.Proof.Gen.L0OutIdeal.Value
public import proofs.«01_k».proof.Proof.Gen.L0OutRefIdeal.Run
public import proofs.«01_k».proof.Proof.Gen.L0OutRefIdeal.Read

@[expose] public section

noncomputable section

namespace Cert.L0OutIdeal.Own

open Cert.L0OutIdeal Cert.L0OutIdeal.Gen Cert.L0OutIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val / 2 / 2 ∧ win0_0.index t 1 = t.val % 2 ∧ win0_1.index t 0 = t.val % 2 ∧ win0_1.index t 1 = t.val / 2 % 2
    ∧ win0_2.index t 0 = t.val / 2 / 2 ∧ win0_2.index t 1 = t.val / 2 % 2 ∧ win0_3.index t 0 = t.val / 2 / 2 / 2 ∧ win0_3.index t 1 = 0 ∧ win0_3.index t 2 = t.val / 2 % 2 := by decide +kernel

/-- The two factors at natural coordinates, the summands' coordinate second. -/
abbrev A : ℕ → ℕ → EReal := nat2 (z := ![9216, 2816]) (m ((c : Thread nD τ).loc main_arg0))
abbrev B : ℕ → ℕ → EReal := fun s k => nat2 (z := ![2816, 1024]) (m ((c : Thread nD τ).loc main_arg1)) k s

/-- The product, and with the gate of its row the sum with the residual. -/
abbrev res4 (r s : ℕ) : EReal := prod 2816 (A m c) (B m c) r s
abbrev gated (r s : ℕ) (y : EReal) : EReal :=
  nat2 (z := ![9216, 1024]) (m ((c : Thread nD τ).loc main_arg2)) r s + nat3 (z := ![5, 1, 1024]) (m ((c : Thread nD τ).loc main_arg3)) (r / 2048) 0 s * y

theorem blk0 (t : Fin cfg0.N) (y : S1024x1408.Idx) : iblk m c 0 t y = A m c (t.val / 2 / 2 * 1024 + (y 0).val) (t.val % 2 * 1408 + (y 1).val) :=
  nat2_blk (z := ![9216, 2816]) (m ((c : Thread nD τ).loc main_arg0)) _ (idx t).1 (idx t).2.1 rfl rfl

theorem blk1 (t : Fin cfg0.N) (y : S1408x512.Idx) : iblk m c 1 t y = B m c (t.val / 2 % 2 * 512 + (y 1).val) (t.val % 2 * 1408 + (y 0).val) :=
  nat2_blk (z := ![2816, 1024]) (m ((c : Thread nD τ).loc main_arg1)) _ (idx t).2.2.1 (idx t).2.2.2.1 rfl rfl

theorem blk3 (t : Fin cfg0.N) (j : S1024x512.Idx) (y : S1x1x512.Idx) (hy : (y 2).val = (j 1).val) :
    iblk m c 3 t y = nat3 (z := ![5, 1, 1024]) (m ((c : Thread nD τ).loc main_arg3)) ((t.val / 2 / 2 * 1024 + (j 0).val) / 2048) 0 (t.val / 2 % 2 * 512 + (j 1).val) := by
  obtain ⟨-, -, -, -, -, -, e0, e1, e2⟩ := idx t
  have y0 : (y 0).val < 1 := (y 0).isLt
  have y1 : (y 1).val < 1 := (y 1).isLt
  have j0 : (j 0).val < 1024 := (j 0).isLt
  refine nat3_eq (z := ![5, 1, 1024]) (m ((c : Thread nD τ).loc main_arg3)) _ ?_ ?_ ?_
  · show win0_3.index t 0 * 1 + 1 * (y 0).val = _; omega
  · show win0_3.index t 1 * 1 + 1 * (y 1).val = _; omega
  · show win0_3.index t 2 * 512 + 1 * (y 2).val = _; omega

theorem payG (t : Fin cfg0.N) (y : Vec Ideal S1024x512 .f32) (j : S1024x512.Idx) : k0_pay4 (F := Ideal) y (iblk m c 2 t) (iblk m c 3 t) j
    = gated m c (t.val / 2 / 2 * 1024 + (j 0).val) (t.val / 2 % 2 * 512 + (j 1).val) (y j) :=
  congrArg₂ (· + ·) (nat2_blk (z := ![9216, 1024]) (m ((c : Thread nD τ).loc main_arg2)) _ (idx t).2.2.2.2.1 (idx t).2.2.2.2.2.1 rfl rfl)
    (congrArg (· * _) (gate_row _ _ _ j fun y => blk3 m c t j y))

/-- A step's own share of the sum. -/
abbrev part (j : S1024x512.Idx) (n : ℕ) : EReal := share 2 1408 1024 512 (A m c) (B m c) (fun q => q / 2) (fun q => q % 2) j n

theorem pay1 (t : Fin cfg0.N) (j : S1024x512.Idx) : k0_pay1 (F := Ideal) (iblk m c 0 t) (iblk m c 1 t) j = part m c j t.val :=
  matmul_sum dot_S1024x1408_S1408x512_S1024x512_1_0_0_1_n_n 1408 rfl rfl _ _ none j
    (fun k => A m c (t.val / 2 / 2 * 1024 + (j 0).val) (t.val % 2 * 1408 + k)) (fun k => B m c (t.val / 2 % 2 * 512 + (j 1).val) (t.val % 2 * 1408 + k))
    (fun _ => blk0 m c t _) (fun _ => blk1 m c t _)

theorem pay3 (t : Fin cfg0.N) (acc : Vec Ideal S1024x512 .f32) (j : S1024x512.Idx) :
    k0_pay3 (F := Ideal) (iblk m c 0 t) (iblk m c 1 t) acc j = acc j + part m c j t.val := by
  unfold k0_pay3
  rw [shapeCast_self, ← pay1]
  rfl

/-- The running sum the kernel keeps, at a place of the block. -/
abbrev S (j : S1024x512.Idx) (n : ℕ) (h : n < cfg0.N) : EReal := (outsAt0 m c n h).2.2 j

theorem S_A (j : S1024x512.Idx) (n : ℕ) (h : n < cfg0.N) (h0 : n % 2 = 0) : S m c j n h = part m c j n := by
  rw [S, outsAt0_A m c ⟨n, h⟩ h0 (by dsimp only; omega) (by dsimp only; omega), ← pay1 m c ⟨n, h⟩]
  simp only [sout0_A_0, kernelRun0_A, store2, load2, Memref.IsWhole.read_unread, k0_pay2, shapeCast_self]

/-- The second step of a run adds its share; the blocks written are that sum, and the residual with it. -/
theorem S_B (j : S1024x512.Idx) (n : ℕ) (h : n < cfg0.N) (h0 : ¬n % 2 = 0) :
    S m c j n h = S m c j (n - 1) (Nat.lt_of_le_of_lt (Nat.sub_le _ _) h) + part m c j n ∧ (outsAt0 m c n h).1 j = S m c j n h := by
  have h1 : n % 2 = 1 := by omega
  rw [S, ← pay3 m c ⟨n, h⟩, outsAt0_B m c ⟨n, h⟩ h0 h1 h1]
  simp only [sout0_B_0, out0_B_4, kernelRun0_B]
  sl_unfold_words
  simp only [store2, load2, cov2, Memref.IsWhole.read_unread, (Memref.isWhole_whole _).read_unread]
  exact ⟨trivial, trivial⟩

theorem S_G (j : S1024x512.Idx) (n : ℕ) (h : n < cfg0.N) (h0 : ¬n % 2 = 0) :
    (outsAt0 m c n h).2.1 j = gated m c (n / 2 / 2 * 1024 + (j 0).val) (n / 2 % 2 * 512 + (j 1).val) (S m c j n h) := by
  have h1 : n % 2 = 1 := by omega
  rw [S, ← payG m c ⟨n, h⟩, outsAt0_B m c ⟨n, h⟩ h0 h1 h1]
  simp only [sout0_B_0, out0_B_5, kernelRun0_B]
  sl_unfold_words
  simp only [store2, load2, load3, cov2, Memref.IsWhole.read_unread, (Memref.isWhole_whole _).read_unread]

/-- The sum at the last step of a run. -/
theorem last (p : ℕ) (i : S9216x1024.Idx) (ep : p = 2 * (2 * ((i 0).val / 1024) + (i 1).val / 512) + 1) (hp : p < cfg0.N) : S m c (loc4Of i) p hp = res4 m c (i 0).val (i 1).val := by
  have i1 : (i 1).val < 1024 := (i 1).isLt
  exact acc_prod (A m c) (B m c) (fun q => q / 2) (fun q => q % 2) (S m c) (S_A m c) (fun j n h h0 => (S_B m c j n h h0).1) _ _ hp (by omega)
    (by show p / 2 / 2 * 1024 + (i 0).val % 1024 = _; omega) (by show p / 2 % 2 * 512 + (i 1).val % 512 = _; omega)

theorem point (i : S9216x1024.Idx) : pt4Of i = 2 * (2 * ((i 0).val / 1024) + (i 1).val / 512) + 1 ∧ pt4Of i < cfg0.N := by
  have hN : cfg0.N = 36 := N_0
  have i0 : (i 0).val < 9216 := (i 0).isLt
  have i1 : (i 1).val < 1024 := (i 1).isLt
  have ep : pt4Of i = 2 * (2 * ((i 0).val / 1024) + (i 1).val / 512) + 1 := by
    show 2 * (2 * ((i 0).val / 1024 - 0) + 1 * ((i 1).val / 512 - 0)) + 1 = _
    omega
  exact ⟨ep, by omega⟩

theorem arr4 : G4 m c = fun i : S9216x1024.Idx => res4 m c (i 0).val (i 1).val := by
  funext i
  obtain ⟨ep, hp⟩ := point i
  unfold G4
  rw [dif_pos hp, ← outsAt0_sweep m c _ hp, (S_B m c _ _ hp (by omega)).2]
  exact last m c _ i ep hp

theorem arr5 : G5 m c = fun i : S9216x1024.Idx => gated m c (i 0).val (i 1).val (res4 m c (i 0).val (i 1).val) := by
  funext i
  obtain ⟨ep, hp⟩ := point i
  have i1 : (i 1).val < 1024 := (i 1).isLt
  unfold G5
  rw [dif_pos (show pt5Of i < cfg0.N from hp), ← outsAt0_sweep m c _ hp, S_G m c _ _ hp (by omega)]
  exact congr (congr (congrArg (gated m c) (by show pt4Of i / 2 / 2 * 1024 + (i 0).val % 1024 = _; omega))
    (by show pt4Of i / 2 % 2 * 512 + (i 1).val % 512 = _; omega)) (last m c _ i ep hp)

/-- The reference's product is the same sum, and its rows of gates the same gates. -/
theorem ref (x0 : Vec Ideal S9216x2816 .bf16) (x1 : Vec Ideal S2816x1024 .bf16) (i : S9216x1024.Idx) :
    Cert.L0OutRefIdeal.Read.val_main_v2 (F := Ideal) x0 x1 i = prod 2816 (nat2 (z := ![9216, 2816]) x0) (fun s k => nat2 (z := ![2816, 1024]) x1 k s) (i 0).val (i 1).val := by
  rw [Cert.L0OutRefIdeal.Read.val_main_v2_apply, prod, Finset.sum_range]
  exact Finset.sum_congr rfl fun k _ => congrArg₂ (· * ·) (nat2_eq (z := ![9216, 2816]) x0 _ rfl rfl) (nat2_eq (z := ![2816, 1024]) x1 _ rfl rfl)

theorem refG (x0 : Vec Ideal S9216x2816 .bf16) (x1 : Vec Ideal S2816x1024 .bf16) (x2 : Vec Ideal S9216x1024 .f32) (x3 : Vec Ideal S5x1x1024 .f32) (i : S9216x1024.Idx) :
    Cert.L0OutRefIdeal.Read.val_main_v7 (F := Ideal) x0 x1 x2 x3 i = nat2 (z := ![9216, 1024]) x2 (i 0).val (i 1).val
      + nat3 (z := ![5, 1, 1024]) x3 ((i 0).val / 2048) 0 (i 1).val
        * prod 2816 (nat2 (z := ![9216, 2816]) x0) (fun s k => nat2 (z := ![2816, 1024]) x1 k s) (i 0).val (i 1).val := by
  have i1 : (i 1).val < 1024 := (i 1).isLt
  rw [Cert.L0OutRefIdeal.Read.val_main_v7_apply, Cert.L0OutRefIdeal.Read.val_main_v6_apply, Cert.L0OutRefIdeal.Read.val_main_v5_apply, Cert.L0OutRefIdeal.Read.val_main_v4_apply, Cert.L0OutRefIdeal.Read.val_main_v3_apply, ref]
  exact congrArg₂ (· + ·) (nat2_eq (z := ![9216, 1024]) x2 i rfl rfl) (congrArg (· * _) (nat3_eq (z := ![5, 1, 1024]) x3 _
    (by show ((i 0).val * 1024 + (i 1).val) / 2097152 = _; omega) rfl (by show ((i 0).val * 1024 + (i 1).val) % 1024 = _; omega)))

theorem equal [Cert.L0OutIdeal.Facts] [Cert.L0OutRefIdeal.Facts] : Cert.algebraic_L0OutIdeal_L0OutRefIdeal := by
  intro m g m' g' _ hsame
  refine ⟨fun c i => res4 m c (i 0).val (i 1).val, fun c i => gated m c (i 0).val (i 1).val (res4 m c (i 0).val (i 1).val),
    (θ_run _ _ _).mono (fun r h c => ⟨(h c).1.trans (arr4 m c), (h c).2.1.trans (arr5 m c), (h c).2.2⟩) (Value.run m g),
    (θ_run _ _ _).mono (fun r h c => ⟨(h c).1.trans (funext fun i => ?_), (h c).2.1.trans (funext fun i => ?_), (h c).2.2⟩)
      (Cert.L0OutRefIdeal.Value.run m' g')⟩
  · refine (ref _ _ i).trans ?_
    rw [(hsame c).1, (hsame c).2.1]
  · refine (refG _ _ _ _ i).trans ?_
    rw [(hsame c).1, (hsame c).2.1, (hsame c).2.2.1, (hsame c).2.2.2]

end Cert.L0OutIdeal.Own
-- ==== Proof.L1RetOut.lean ====
/- A product of the forward pass added to a residual under a gate, and the reference. -/
module

public import proofs.«01_k».proof.Defs
public import proofs.«01_k».proof.Proof.Acc
public import proofs.«01_k».proof.Proof.Gen.L1RetOutIdeal.Value
public import proofs.«01_k».proof.Proof.Gen.L1RetOutRefIdeal.Run
public import proofs.«01_k».proof.Proof.Gen.L1RetOutRefIdeal.Read

@[expose] public section

noncomputable section

namespace Cert.L1RetOutIdeal.Own

open Cert.L1RetOutIdeal Cert.L1RetOutIdeal.Gen Cert.L1RetOutIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val / 2 ∧ win0_0.index t 1 = 0 ∧ win0_1.index t 0 = 0 ∧ win0_1.index t 1 = t.val % 2
    ∧ win0_2.index t 0 = t.val / 2 ∧ win0_2.index t 1 = t.val % 2 ∧ win0_3.index t 0 = t.val / 2 / 2 ∧ win0_3.index t 1 = 0 ∧ win0_3.index t 2 = t.val % 2
    ∧ win0_4.index t 0 = t.val / 2 ∧ win0_4.index t 1 = t.val % 2 ∧ win0_5.index t 0 = t.val / 2 ∧ win0_5.index t 1 = t.val % 2 := by decide +kernel

/-- The two factors at natural coordinates, the summands' coordinate second. -/
abbrev A : ℕ → ℕ → EReal := nat2 (z := ![8192, 2048]) (m ((c : Thread nD τ).loc main_arg0))
abbrev B : ℕ → ℕ → EReal := fun s k => nat2 (z := ![2048, 1024]) (m ((c : Thread nD τ).loc main_arg1)) k s

/-- The product, and with the gate of its row the sum with the residual. -/
abbrev res4 (r s : ℕ) : EReal := prod 2048 (A m c) (B m c) r s
abbrev gated (r s : ℕ) (y : EReal) : EReal :=
  nat2 (z := ![8192, 1024]) (m ((c : Thread nD τ).loc main_arg2)) r s + nat3 (z := ![4, 1, 1024]) (m ((c : Thread nD τ).loc main_arg3)) (r / 2048) 0 s * y

theorem blk0 (t : Fin cfg0.N) (y : S1024x2048.Idx) : iblk m c 0 t y = A m c (t.val / 2 * 1024 + (y 0).val) (0 * 2048 + (y 1).val) :=
  nat2_blk (z := ![8192, 2048]) (m ((c : Thread nD τ).loc main_arg0)) _ (idx t).1 (idx t).2.1 rfl rfl

theorem blk1 (t : Fin cfg0.N) (y : S2048x512.Idx) : iblk m c 1 t y = B m c (t.val % 2 * 512 + (y 1).val) (0 * 2048 + (y 0).val) :=
  nat2_blk (z := ![2048, 1024]) (m ((c : Thread nD τ).loc main_arg1)) _ (idx t).2.2.1 (idx t).2.2.2.1 rfl rfl

theorem blk3 (t : Fin cfg0.N) (j : S1024x512.Idx) (y : S1x1x512.Idx) (hy : (y 2).val = (j 1).val) :
    iblk m c 3 t y = nat3 (z := ![4, 1, 1024]) (m ((c : Thread nD τ).loc main_arg3)) ((t.val / 2 * 1024 + (j 0).val) / 2048) 0 (t.val % 2 * 512 + (j 1).val) := by
  obtain ⟨-, -, -, -, -, -, e0, e1, e2, -⟩ := idx t
  have y0 : (y 0).val < 1 := (y 0).isLt
  have y1 : (y 1).val < 1 := (y 1).isLt
  have j0 : (j 0).val < 1024 := (j 0).isLt
  refine nat3_eq (z := ![4, 1, 1024]) (m ((c : Thread nD τ).loc main_arg3)) _ ?_ ?_ ?_
  · show win0_3.index t 0 * 1 + 1 * (y 0).val = _; omega
  · show win0_3.index t 1 * 1 + 1 * (y 1).val = _; omega
  · show win0_3.index t 2 * 512 + 1 * (y 2).val = _; omega

theorem payG (t : Fin cfg0.N) (j : S1024x512.Idx) : k0_pay2 (F := Ideal) (iblk m c 0 t) (iblk m c 1 t) (iblk m c 2 t) (iblk m c 3 t) j
    = gated m c (t.val / 2 * 1024 + (j 0).val) (t.val % 2 * 512 + (j 1).val) (k0_pay1 (F := Ideal) (iblk m c 0 t) (iblk m c 1 t) j) :=
  congrArg₂ (· + ·) (nat2_blk (z := ![8192, 1024]) (m ((c : Thread nD τ).loc main_arg2)) _ (idx t).2.2.2.2.1 (idx t).2.2.2.2.2.1 rfl rfl)
    (congrArg (· * _) (gate_row _ _ _ j fun y => blk3 m c t j y))

theorem pay1 (t : Fin cfg0.N) (j : S1024x512.Idx) : k0_pay1 (F := Ideal) (iblk m c 0 t) (iblk m c 1 t) j
    = res4 m c (t.val / 2 * 1024 + (j 0).val) (t.val % 2 * 512 + (j 1).val) :=
  matmul_sum dot_S1024x2048_S2048x512_S1024x512_1_0_0_1_n_n 2048 rfl rfl _ _ none j (A m c (t.val / 2 * 1024 + (j 0).val)) (B m c (t.val % 2 * 512 + (j 1).val))
    (fun _ => (blk0 m c t _).trans (congrArg (A m c _) (zero_off _ _))) (fun _ => (blk1 m c t _).trans (congrArg (B m c _) (zero_off _ _)))

/-- Each point writes back its blocks of the two results. -/
theorem flushed4 (t : Fin cfg0.N) (_ : (cfg0.win 4).flush t = true) :
    (dats m 0 c).flushed 4 t = ((cfg0.win 4).blk t).view.read (Elt Ideal) (fun i : S8192x1024.Idx => res4 m c (i 0).val (i 1).val) := by
  obtain ⟨-, -, -, -, -, -, -, -, -, e0, e1, -⟩ := idx t
  rw [Value.flushed4]
  funext j
  show out0_4 (F := Ideal) (iblk m c 0 t) (iblk m c 1 t) (iblk m c 2 t) (iblk m c 3 t) j = res4 m c (win0_4.index t 0 * 1024 + 1 * (j 0).val) (win0_4.index t 1 * 512 + 1 * (j 1).val)
  rw [e0, e1, one_mul, one_mul]
  unfold out0_4
  rw [View.canon_unit_zero zero2]
  simp only [View.ld_unit_zero (S := S1024x2048) zero2, View.ld_unit_zero (S := S2048x512) zero2]
  exact pay1 m c t j

theorem flushed5 (t : Fin cfg0.N) (_ : (cfg0.win 5).flush t = true) : (dats m 0 c).flushed 5 t
    = ((cfg0.win 5).blk t).view.read (Elt Ideal) (fun i : S8192x1024.Idx => gated m c (i 0).val (i 1).val (res4 m c (i 0).val (i 1).val)) := by
  obtain ⟨-, -, -, -, -, -, -, -, -, -, -, e0, e1⟩ := idx t
  rw [Value.flushed5]
  funext j
  show out0_5 (F := Ideal) (iblk m c 0 t) (iblk m c 1 t) (iblk m c 2 t) (iblk m c 3 t) j
    = gated m c (win0_5.index t 0 * 1024 + 1 * (j 0).val) (win0_5.index t 1 * 512 + 1 * (j 1).val) (res4 m c (win0_5.index t 0 * 1024 + 1 * (j 0).val) (win0_5.index t 1 * 512 + 1 * (j 1).val))
  rw [e0, e1, one_mul, one_mul, ← pay1, ← payG]
  unfold out0_5
  rw [View.canon_unit_zero zero2]
  simp only [View.ld_unit_zero (S := S1024x2048) zero2, View.ld_unit_zero (S := S2048x512) zero2, View.ld_unit_zero (S := S1024x512) zero2, View.ld_unit_zero (S := S1x1x512) zero3]

/-- And every place of the results lies in the block of some point. -/
theorem cover (i : S8192x1024.Idx) : ∃ t : Fin cfg0.N, t.val / 2 = (i 0).val / 1024 ∧ t.val % 2 = (i 1).val / 512 := by
  have hN : cfg0.N = 16 := N_0
  have i0 : (i 0).val < 8192 := (i 0).isLt
  have i1 : (i 1).val < 1024 := (i 1).isLt
  exact ⟨⟨2 * ((i 0).val / 1024) + (i 1).val / 512, by omega⟩, by dsimp only; omega, by dsimp only; omega⟩

theorem arr4 : (dats m 0 c).arrAt 4 cfg0.N = fun i : S8192x1024.Idx => res4 m c (i 0).val (i 1).val := by
  refine Pipeline.Dat.arrAt_eq_of_cover (dats m 0 c) 4 _ (flushed4 m c) fun i => ?_
  obtain ⟨t, h0, h1⟩ := cover i
  obtain ⟨-, -, -, -, -, -, -, -, -, e0, e1, -⟩ := idx t
  refine ⟨t, flush0_4 t, ?_⟩
  show i ∈ ((View.whole main_v0_0).slice (win0_4.rect t)).set
  rw [View.set_slice_whole, Rect.mem_set_unit]
  intro a
  match a with
  | ⟨0, _⟩ => show win0_4.index t 0 * 1024 ≤ (i 0).val ∧ (i 0).val < win0_4.index t 0 * 1024 + 1024; omega
  | ⟨1, _⟩ => show win0_4.index t 1 * 512 ≤ (i 1).val ∧ (i 1).val < win0_4.index t 1 * 512 + 512; omega

theorem arr5 : (dats m 0 c).arrAt 5 cfg0.N = fun i : S8192x1024.Idx => gated m c (i 0).val (i 1).val (res4 m c (i 0).val (i 1).val) := by
  refine Pipeline.Dat.arrAt_eq_of_cover (dats m 0 c) 5 _ (flushed5 m c) fun i => ?_
  obtain ⟨t, h0, h1⟩ := cover i
  obtain ⟨-, -, -, -, -, -, -, -, -, -, -, e0, e1⟩ := idx t
  refine ⟨t, flush0_5 t, ?_⟩
  show i ∈ ((View.whole main_v0_1).slice (win0_5.rect t)).set
  rw [View.set_slice_whole, Rect.mem_set_unit]
  intro a
  match a with
  | ⟨0, _⟩ => show win0_5.index t 0 * 1024 ≤ (i 0).val ∧ (i 0).val < win0_5.index t 0 * 1024 + 1024; omega
  | ⟨1, _⟩ => show win0_5.index t 1 * 512 ≤ (i 1).val ∧ (i 1).val < win0_5.index t 1 * 512 + 512; omega

/-- The reference's product is the same sum, and its rows of gates the same gates. -/
theorem ref (x0 : Vec Ideal S8192x2048 .bf16) (x1 : Vec Ideal S2048x1024 .bf16) (i : S8192x1024.Idx) :
    Cert.L1RetOutRefIdeal.Read.val_main_v2 (F := Ideal) x0 x1 i = prod 2048 (nat2 (z := ![8192, 2048]) x0) (fun s k => nat2 (z := ![2048, 1024]) x1 k s) (i 0).val (i 1).val := by
  rw [Cert.L1RetOutRefIdeal.Read.val_main_v2_apply, prod, Finset.sum_range]
  exact Finset.sum_congr rfl fun k _ => congrArg₂ (· * ·) (nat2_eq (z := ![8192, 2048]) x0 _ rfl rfl) (nat2_eq (z := ![2048, 1024]) x1 _ rfl rfl)

theorem refG (x0 : Vec Ideal S8192x2048 .bf16) (x1 : Vec Ideal S2048x1024 .bf16) (x2 : Vec Ideal S8192x1024 .f32) (x3 : Vec Ideal S4x1x1024 .f32) (i : S8192x1024.Idx) :
    Cert.L1RetOutRefIdeal.Read.val_main_v6 (F := Ideal) x0 x1 x2 x3 i = nat2 (z := ![8192, 1024]) x2 (i 0).val (i 1).val
      + nat3 (z := ![4, 1, 1024]) x3 ((i 0).val / 2048) 0 (i 1).val
        * prod 2048 (nat2 (z := ![8192, 2048]) x0) (fun s k => nat2 (z := ![2048, 1024]) x1 k s) (i 0).val (i 1).val := by
  have i1 : (i 1).val < 1024 := (i 1).isLt
  rw [Cert.L1RetOutRefIdeal.Read.val_main_v6_apply, Cert.L1RetOutRefIdeal.Read.val_main_v5_apply, Cert.L1RetOutRefIdeal.Read.val_main_v4_apply, Cert.L1RetOutRefIdeal.Read.val_main_v3_apply, ref]
  exact congrArg₂ (· + ·) (nat2_eq (z := ![8192, 1024]) x2 i rfl rfl) (congrArg (· * _) (nat3_eq (z := ![4, 1, 1024]) x3 _
    (by show ((i 0).val * 1024 + (i 1).val) / 2097152 = _; omega) rfl (by show ((i 0).val * 1024 + (i 1).val) % 1024 = _; omega)))

theorem equal [Cert.L1RetOutIdeal.Facts] [Cert.L1RetOutRefIdeal.Facts] : Cert.algebraic_L1RetOutIdeal_L1RetOutRefIdeal := by
  intro m g m' g' _ hsame
  refine ⟨fun c i => res4 m c (i 0).val (i 1).val, fun c i => gated m c (i 0).val (i 1).val (res4 m c (i 0).val (i 1).val),
    (θ_run _ _ _).mono (fun r h c => ⟨(h c).1.trans (arr4 m c), (h c).2.1.trans (arr5 m c), (h c).2.2⟩) (run_blocks m g),
    (θ_run _ _ _).mono (fun r h c => ⟨(h c).1.trans (funext fun i => ?_), (h c).2.1.trans (funext fun i => ?_), (h c).2.2⟩)
      (Cert.L1RetOutRefIdeal.Value.run m' g')⟩
  · refine (ref _ _ i).trans ?_
    rw [(hsame c).1, (hsame c).2.1]
  · refine (refG _ _ _ _ i).trans ?_
    rw [(hsame c).1, (hsame c).2.1, (hsame c).2.2.1, (hsame c).2.2.2]

end Cert.L1RetOutIdeal.Own
-- ==== Proof.L1Out.lean ====
/- A product of the forward pass added to a residual under a gate, and the reference. -/
module

public import proofs.«01_k».proof.Defs
public import proofs.«01_k».proof.Proof.Acc
public import proofs.«01_k».proof.Proof.Gen.L1OutIdeal.Value
public import proofs.«01_k».proof.Proof.Gen.L1OutRefIdeal.Run
public import proofs.«01_k».proof.Proof.Gen.L1OutRefIdeal.Read

@[expose] public section

noncomputable section

namespace Cert.L1OutIdeal.Own

open Cert.L1OutIdeal Cert.L1OutIdeal.Gen Cert.L1OutIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val / 2 / 2 ∧ win0_0.index t 1 = t.val % 2 ∧ win0_1.index t 0 = t.val % 2 ∧ win0_1.index t 1 = t.val / 2 % 2
    ∧ win0_2.index t 0 = t.val / 2 / 2 ∧ win0_2.index t 1 = t.val / 2 % 2 ∧ win0_3.index t 0 = t.val / 2 / 2 / 2 ∧ win0_3.index t 1 = 0 ∧ win0_3.index t 2 = t.val / 2 % 2 := by decide +kernel

/-- The two factors at natural coordinates, the summands' coordinate second. -/
abbrev A : ℕ → ℕ → EReal := nat2 (z := ![8192, 2816]) (m ((c : Thread nD τ).loc main_arg0))
abbrev B : ℕ → ℕ → EReal := fun s k => nat2 (z := ![2816, 1024]) (m ((c : Thread nD τ).loc main_arg1)) k s

/-- The product, and with the gate of its row the sum with the residual. -/
abbrev res4 (r s : ℕ) : EReal := prod 2816 (A m c) (B m c) r s
abbrev gated (r s : ℕ) (y : EReal) : EReal :=
  nat2 (z := ![8192, 1024]) (m ((c : Thread nD τ).loc main_arg2)) r s + nat3 (z := ![4, 1, 1024]) (m ((c : Thread nD τ).loc main_arg3)) (r / 2048) 0 s * y

theorem blk0 (t : Fin cfg0.N) (y : S1024x1408.Idx) : iblk m c 0 t y = A m c (t.val / 2 / 2 * 1024 + (y 0).val) (t.val % 2 * 1408 + (y 1).val) :=
  nat2_blk (z := ![8192, 2816]) (m ((c : Thread nD τ).loc main_arg0)) _ (idx t).1 (idx t).2.1 rfl rfl

theorem blk1 (t : Fin cfg0.N) (y : S1408x512.Idx) : iblk m c 1 t y = B m c (t.val / 2 % 2 * 512 + (y 1).val) (t.val % 2 * 1408 + (y 0).val) :=
  nat2_blk (z := ![2816, 1024]) (m ((c : Thread nD τ).loc main_arg1)) _ (idx t).2.2.1 (idx t).2.2.2.1 rfl rfl

theorem blk3 (t : Fin cfg0.N) (j : S1024x512.Idx) (y : S1x1x512.Idx) (hy : (y 2).val = (j 1).val) :
    iblk m c 3 t y = nat3 (z := ![4, 1, 1024]) (m ((c : Thread nD τ).loc main_arg3)) ((t.val / 2 / 2 * 1024 + (j 0).val) / 2048) 0 (t.val / 2 % 2 * 512 + (j 1).val) := by
  obtain ⟨-, -, -, -, -, -, e0, e1, e2⟩ := idx t
  have y0 : (y 0).val < 1 := (y 0).isLt
  have y1 : (y 1).val < 1 := (y 1).isLt
  have j0 : (j 0).val < 1024 := (j 0).isLt
  refine nat3_eq (z := ![4, 1, 1024]) (m ((c : Thread nD τ).loc main_arg3)) _ ?_ ?_ ?_
  · show win0_3.index t 0 * 1 + 1 * (y 0).val = _; omega
  · show win0_3.index t 1 * 1 + 1 * (y 1).val = _; omega
  · show win0_3.index t 2 * 512 + 1 * (y 2).val = _; omega

theorem payG (t : Fin cfg0.N) (y : Vec Ideal S1024x512 .f32) (j : S1024x512.Idx) : k0_pay4 (F := Ideal) y (iblk m c 2 t) (iblk m c 3 t) j
    = gated m c (t.val / 2 / 2 * 1024 + (j 0).val) (t.val / 2 % 2 * 512 + (j 1).val) (y j) :=
  congrArg₂ (· + ·) (nat2_blk (z := ![8192, 1024]) (m ((c : Thread nD τ).loc main_arg2)) _ (idx t).2.2.2.2.1 (idx t).2.2.2.2.2.1 rfl rfl)
    (congrArg (· * _) (gate_row _ _ _ j fun y => blk3 m c t j y))

/-- A step's own share of the sum. -/
abbrev part (j : S1024x512.Idx) (n : ℕ) : EReal := share 2 1408 1024 512 (A m c) (B m c) (fun q => q / 2) (fun q => q % 2) j n

theorem pay1 (t : Fin cfg0.N) (j : S1024x512.Idx) : k0_pay1 (F := Ideal) (iblk m c 0 t) (iblk m c 1 t) j = part m c j t.val :=
  matmul_sum dot_S1024x1408_S1408x512_S1024x512_1_0_0_1_n_n 1408 rfl rfl _ _ none j
    (fun k => A m c (t.val / 2 / 2 * 1024 + (j 0).val) (t.val % 2 * 1408 + k)) (fun k => B m c (t.val / 2 % 2 * 512 + (j 1).val) (t.val % 2 * 1408 + k))
    (fun _ => blk0 m c t _) (fun _ => blk1 m c t _)

theorem pay3 (t : Fin cfg0.N) (acc : Vec Ideal S1024x512 .f32) (j : S1024x512.Idx) :
    k0_pay3 (F := Ideal) (iblk m c 0 t) (iblk m c 1 t) acc j = acc j + part m c j t.val := by
  unfold k0_pay3
  rw [shapeCast_self, ← pay1]
  rfl

/-- The running sum the kernel keeps, at a place of the block. -/
abbrev S (j : S1024x512.Idx) (n : ℕ) (h : n < cfg0.N) : EReal := (outsAt0 m c n h).2.2 j

theorem S_A (j : S1024x512.Idx) (n : ℕ) (h : n < cfg0.N) (h0 : n % 2 = 0) : S m c j n h = part m c j n := by
  rw [S, outsAt0_A m c ⟨n, h⟩ h0 (by dsimp only; omega) (by dsimp only; omega), ← pay1 m c ⟨n, h⟩]
  simp only [sout0_A_0, kernelRun0_A, store2, load2, Memref.IsWhole.read_unread, k0_pay2, shapeCast_self]

/-- The second step of a run adds its share; the blocks written are that sum, and the residual with it. -/
theorem S_B (j : S1024x512.Idx) (n : ℕ) (h : n < cfg0.N) (h0 : ¬n % 2 = 0) :
    S m c j n h = S m c j (n - 1) (Nat.lt_of_le_of_lt (Nat.sub_le _ _) h) + part m c j n ∧ (outsAt0 m c n h).1 j = S m c j n h := by
  have h1 : n % 2 = 1 := by omega
  rw [S, ← pay3 m c ⟨n, h⟩, outsAt0_B m c ⟨n, h⟩ h0 h1 h1]
  simp only [sout0_B_0, out0_B_4, kernelRun0_B]
  sl_unfold_words
  simp only [store2, load2, cov2, Memref.IsWhole.read_unread, (Memref.isWhole_whole _).read_unread]
  exact ⟨trivial, trivial⟩

theorem S_G (j : S1024x512.Idx) (n : ℕ) (h : n < cfg0.N) (h0 : ¬n % 2 = 0) :
    (outsAt0 m c n h).2.1 j = gated m c (n / 2 / 2 * 1024 + (j 0).val) (n / 2 % 2 * 512 + (j 1).val) (S m c j n h) := by
  have h1 : n % 2 = 1 := by omega
  rw [S, ← payG m c ⟨n, h⟩, outsAt0_B m c ⟨n, h⟩ h0 h1 h1]
  simp only [sout0_B_0, out0_B_5, kernelRun0_B]
  sl_unfold_words
  simp only [store2, load2, load3, cov2, Memref.IsWhole.read_unread, (Memref.isWhole_whole _).read_unread]

/-- The sum at the last step of a run. -/
theorem last (p : ℕ) (i : S8192x1024.Idx) (ep : p = 2 * (2 * ((i 0).val / 1024) + (i 1).val / 512) + 1) (hp : p < cfg0.N) : S m c (loc4Of i) p hp = res4 m c (i 0).val (i 1).val := by
  have i1 : (i 1).val < 1024 := (i 1).isLt
  exact acc_prod (A m c) (B m c) (fun q => q / 2) (fun q => q % 2) (S m c) (S_A m c) (fun j n h h0 => (S_B m c j n h h0).1) _ _ hp (by omega)
    (by show p / 2 / 2 * 1024 + (i 0).val % 1024 = _; omega) (by show p / 2 % 2 * 512 + (i 1).val % 512 = _; omega)

theorem point (i : S8192x1024.Idx) : pt4Of i = 2 * (2 * ((i 0).val / 1024) + (i 1).val / 512) + 1 ∧ pt4Of i < cfg0.N := by
  have hN : cfg0.N = 32 := N_0
  have i0 : (i 0).val < 8192 := (i 0).isLt
  have i1 : (i 1).val < 1024 := (i 1).isLt
  have ep : pt4Of i = 2 * (2 * ((i 0).val / 1024) + (i 1).val / 512) + 1 := by
    show 2 * (2 * ((i 0).val / 1024 - 0) + 1 * ((i 1).val / 512 - 0)) + 1 = _
    omega
  exact ⟨ep, by omega⟩

theorem arr4 : G4 m c = fun i : S8192x1024.Idx => res4 m c (i 0).val (i 1).val := by
  funext i
  obtain ⟨ep, hp⟩ := point i
  unfold G4
  rw [dif_pos hp, ← outsAt0_sweep m c _ hp, (S_B m c _ _ hp (by omega)).2]
  exact last m c _ i ep hp

theorem arr5 : G5 m c = fun i : S8192x1024.Idx => gated m c (i 0).val (i 1).val (res4 m c (i 0).val (i 1).val) := by
  funext i
  obtain ⟨ep, hp⟩ := point i
  have i1 : (i 1).val < 1024 := (i 1).isLt
  unfold G5
  rw [dif_pos (show pt5Of i < cfg0.N from hp), ← outsAt0_sweep m c _ hp, S_G m c _ _ hp (by omega)]
  exact congr (congr (congrArg (gated m c) (by show pt4Of i / 2 / 2 * 1024 + (i 0).val % 1024 = _; omega))
    (by show pt4Of i / 2 % 2 * 512 + (i 1).val % 512 = _; omega)) (last m c _ i ep hp)

/-- The reference's product is the same sum, and its rows of gates the same gates. -/
theorem ref (x0 : Vec Ideal S8192x2816 .bf16) (x1 : Vec Ideal S2816x1024 .bf16) (i : S8192x1024.Idx) :
    Cert.L1OutRefIdeal.Read.val_main_v2 (F := Ideal) x0 x1 i = prod 2816 (nat2 (z := ![8192, 2816]) x0) (fun s k => nat2 (z := ![2816, 1024]) x1 k s) (i 0).val (i 1).val := by
  rw [Cert.L1OutRefIdeal.Read.val_main_v2_apply, prod, Finset.sum_range]
  exact Finset.sum_congr rfl fun k _ => congrArg₂ (· * ·) (nat2_eq (z := ![8192, 2816]) x0 _ rfl rfl) (nat2_eq (z := ![2816, 1024]) x1 _ rfl rfl)

theorem refG (x0 : Vec Ideal S8192x2816 .bf16) (x1 : Vec Ideal S2816x1024 .bf16) (x2 : Vec Ideal S8192x1024 .f32) (x3 : Vec Ideal S4x1x1024 .f32) (i : S8192x1024.Idx) :
    Cert.L1OutRefIdeal.Read.val_main_v6 (F := Ideal) x0 x1 x2 x3 i = nat2 (z := ![8192, 1024]) x2 (i 0).val (i 1).val
      + nat3 (z := ![4, 1, 1024]) x3 ((i 0).val / 2048) 0 (i 1).val
        * prod 2816 (nat2 (z := ![8192, 2816]) x0) (fun s k => nat2 (z := ![2816, 1024]) x1 k s) (i 0).val (i 1).val := by
  have i1 : (i 1).val < 1024 := (i 1).isLt
  rw [Cert.L1OutRefIdeal.Read.val_main_v6_apply, Cert.L1OutRefIdeal.Read.val_main_v5_apply, Cert.L1OutRefIdeal.Read.val_main_v4_apply, Cert.L1OutRefIdeal.Read.val_main_v3_apply, ref]
  exact congrArg₂ (· + ·) (nat2_eq (z := ![8192, 1024]) x2 i rfl rfl) (congrArg (· * _) (nat3_eq (z := ![4, 1, 1024]) x3 _
    (by show ((i 0).val * 1024 + (i 1).val) / 2097152 = _; omega) rfl (by show ((i 0).val * 1024 + (i 1).val) % 1024 = _; omega)))

theorem equal [Cert.L1OutIdeal.Facts] [Cert.L1OutRefIdeal.Facts] : Cert.algebraic_L1OutIdeal_L1OutRefIdeal := by
  intro m g m' g' _ hsame
  refine ⟨fun c i => res4 m c (i 0).val (i 1).val, fun c i => gated m c (i 0).val (i 1).val (res4 m c (i 0).val (i 1).val),
    (θ_run _ _ _).mono (fun r h c => ⟨(h c).1.trans (arr4 m c), (h c).2.1.trans (arr5 m c), (h c).2.2⟩) (Value.run m g),
    (θ_run _ _ _).mono (fun r h c => ⟨(h c).1.trans (funext fun i => ?_), (h c).2.1.trans (funext fun i => ?_), (h c).2.2⟩)
      (Cert.L1OutRefIdeal.Value.run m' g')⟩
  · refine (ref _ _ i).trans ?_
    rw [(hsame c).1, (hsame c).2.1]
  · refine (refG _ _ _ _ i).trans ?_
    rw [(hsame c).1, (hsame c).2.1, (hsame c).2.2.1, (hsame c).2.2.2]

end Cert.L1OutIdeal.Own
-- ==== Proof.L0OutDx.lean ====
/- The gradient of a gated layer's two halves from that of its result, and the reference. -/
module

public import proofs.«01_k».proof.Defs
public import proofs.«01_k».proof.Proof.Acc
public import proofs.«01_k».proof.Proof.Gen.L0OutDxIdeal.Value
public import proofs.«01_k».proof.Proof.Gen.L0OutDxRefIdeal.Run
public import proofs.«01_k».proof.Proof.Gen.L0OutDxRefIdeal.Read
public import proofs.«01_k».proof.Proof.Gen.Pre_finite0

@[expose] public section

set_option maxRecDepth 8192

noncomputable section

namespace Cert.L0OutDxIdeal.Own

open Cert.L0OutDxIdeal Cert.L0OutDxIdeal.Gen Cert.L0OutDxIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val ∧ win0_0.index t 1 = 0 ∧ win0_1.index t 0 = 0 ∧ win0_1.index t 1 = 0 ∧ win0_2.index t 0 = t.val
    ∧ win0_2.index t 1 = 0 ∧ win0_3.index t 0 = t.val ∧ win0_3.index t 1 = 0 ∧ win0_4.index t 0 = t.val ∧ win0_4.index t 1 = 0 := by decide +kernel

section Forms

variable (x0 : Vec Ideal S9216x1024 .bf16) (x1 : Vec Ideal S2816x1024 .bf16) (x2 x3 : Vec Ideal S9216x2816 .f32)

/-- The gradient of the gated product, and of the two halves, at natural coordinates. -/
abbrev dprod (x0 : Vec Ideal S9216x1024 .bf16) (x1 : Vec Ideal S2816x1024 .bf16) : ℕ → ℕ → EReal := prod 1024 (nat2 (z := ![9216, 1024]) x0) (nat2 (z := ![2816, 1024]) x1)
abbrev half (x : Vec Ideal S9216x2816 .f32) : ℕ → ℕ → EReal := nat2 (z := ![9216, 2816]) x
abbrev low (x0 : Vec Ideal S9216x1024 .bf16) (x1 : Vec Ideal S2816x1024 .bf16) (x2 x3 : Vec Ideal S9216x2816 .f32) (r s : ℕ) : EReal := dgate (dprod x0 x1 r s) (half x2 r s) (half x3 r s)
abbrev high (x0 : Vec Ideal S9216x1024 .bf16) (x1 : Vec Ideal S2816x1024 .bf16) (x2 : Vec Ideal S9216x2816 .f32) (r s : ℕ) : EReal := dprod x0 x1 r s * half x2 r s * Ideal.logistic (half x2 r s)
abbrev form (x0 : Vec Ideal S9216x1024 .bf16) (x1 : Vec Ideal S2816x1024 .bf16) (x2 x3 : Vec Ideal S9216x2816 .f32) (r s : ℕ) : EReal := if s < 2816 then low x0 x1 x2 x3 r s else high x0 x1 x2 r (s - 2816)

end Forms

abbrev res : S9216x5632.Idx → EReal := fun i => form (m ((c : Thread nD τ).loc main_arg0)) (m ((c : Thread nD τ).loc main_arg1)) (m ((c : Thread nD τ).loc main_arg2)) (m ((c : Thread nD τ).loc main_arg3)) (i 0).val (i 1).val

theorem blk2 (t : Fin cfg0.N) (y : S256x2816.Idx) : iblk m c 2 t y = half (m ((c : Thread nD τ).loc main_arg2)) (t.val * 256 + (y 0).val) (y 1).val :=
  (nat2_blk (z := ![9216, 2816]) (m ((c : Thread nD τ).loc main_arg2)) _ (idx t).2.2.2.2.1 (idx t).2.2.2.2.2.1 rfl rfl).trans (congrArg (half (m ((c : Thread nD τ).loc main_arg2)) _) (zero_off _ _))

theorem blk3 (t : Fin cfg0.N) (y : S256x2816.Idx) : iblk m c 3 t y = half (m ((c : Thread nD τ).loc main_arg3)) (t.val * 256 + (y 0).val) (y 1).val :=
  (nat2_blk (z := ![9216, 2816]) (m ((c : Thread nD τ).loc main_arg3)) _ (idx t).2.2.2.2.2.2.1 (idx t).2.2.2.2.2.2.2.1 rfl rfl).trans (congrArg (half (m ((c : Thread nD τ).loc main_arg3)) _) (zero_off _ _))

theorem pay1 (t : Fin cfg0.N) (j : S256x2816.Idx) : k0_pay1 (F := Ideal) (iblk m c 0 t) (iblk m c 1 t) j = dprod (m ((c : Thread nD τ).loc main_arg0)) (m ((c : Thread nD τ).loc main_arg1)) (t.val * 256 + (j 0).val) (j 1).val :=
  matmul_sum dot_S256x1024_S2816x1024_S256x2816_1_1_0_0_n_n 1024 rfl rfl _ _ none j
    (nat2 (z := ![9216, 1024]) (m ((c : Thread nD τ).loc main_arg0)) (t.val * 256 + (j 0).val)) (nat2 (z := ![2816, 1024]) (m ((c : Thread nD τ).loc main_arg1)) (j 1).val)
    (fun _ => (nat2_blk (z := ![9216, 1024]) (m ((c : Thread nD τ).loc main_arg0)) _ (idx t).1 (idx t).2.1 rfl rfl).trans (congrArg (nat2 (z := ![9216, 1024]) (m ((c : Thread nD τ).loc main_arg0)) _) (zero_off _ _)))
    (fun _ => (nat2_blk (z := ![2816, 1024]) (m ((c : Thread nD τ).loc main_arg1)) _ (idx t).2.2.1 (idx t).2.2.2.1 rfl rfl).trans (congr (congrArg (nat2 (z := ![2816, 1024]) (m ((c : Thread nD τ).loc main_arg1))) (zero_off _ _)) (zero_off _ _)))

theorem pay3 (t : Fin cfg0.N) (j : S256x2816.Idx) : k0_pay3 (F := Ideal) (iblk m c 0 t) (iblk m c 1 t) (iblk m c 2 t) (iblk m c 3 t) j
    = low (m ((c : Thread nD τ).loc main_arg0)) (m ((c : Thread nD τ).loc main_arg1)) (m ((c : Thread nD τ).loc main_arg2)) (m ((c : Thread nD τ).loc main_arg3)) (t.val * 256 + (j 0).val) (j 1).val := by
  rw [low, ← pay1, ← blk2, ← blk3, dgate, ← one_bits]
  rfl

theorem pay4 (t : Fin cfg0.N) (j : S256x2816.Idx) : k0_pay4 (F := Ideal) (iblk m c 0 t) (iblk m c 1 t) (iblk m c 2 t) j
    = high (m ((c : Thread nD τ).loc main_arg0)) (m ((c : Thread nD τ).loc main_arg1)) (m ((c : Thread nD τ).loc main_arg2)) (t.val * 256 + (j 0).val) (j 1).val := by
  rw [high, ← pay1, ← blk2]
  rfl

/-- Each point writes back its block of the result, a half at a time. -/
theorem flushed (t : Fin cfg0.N) (_ : (cfg0.win 4).flush t = true) :
    (dats m 0 c).flushed 4 t = ((cfg0.win 4).blk t).view.read (Elt Ideal) (res m c) := by
  obtain ⟨-, -, -, -, -, -, -, -, e0, e1⟩ := idx t
  rw [flushed4]
  funext j
  show out0_4 (F := Ideal) (iblk m c 0 t) (iblk m c 1 t) (iblk m c 2 t) (iblk m c 3 t) j = form (m ((c : Thread nD τ).loc main_arg0)) (m ((c : Thread nD τ).loc main_arg1)) (m ((c : Thread nD τ).loc main_arg2)) (m ((c : Thread nD τ).loc main_arg3)) (win0_4.index t 0 * 256 + 1 * (j 0).val) (win0_4.index t 1 * 5632 + 1 * (j 1).val)
  rw [e0, e1, one_mul, one_mul, zero_off]
  unfold out0_4
  simp only [View.ld_unit_zero (S := S256x1024) zero2, View.ld_unit_zero (S := S2816x1024) zero2, View.ld_unit_zero (S := S256x2816) zero2]
  refine View.canon_apply_of_pieces (Val := Elt Ideal) (fun j : S256x5632.Idx => (form (m ((c : Thread nD τ).loc main_arg0)) (m ((c : Thread nD τ).loc main_arg1)) (m ((c : Thread nD τ).loc main_arg2)) (m ((c : Thread nD τ).loc main_arg3)) (t.val * 256 + (j 0).val) (j 1).val : Elt Ideal .bf16)) _ (fun p hp x => ?_) j (cover0_4 _ _ j)
  rcases List.mem_cons.1 hp with rfl | hp
  · have hx : (x 1).val < 2816 := (x 1).isLt
    refine (pay4 m c t x).trans ?_
    show _ = form (m ((c : Thread nD τ).loc main_arg0)) (m ((c : Thread nD τ).loc main_arg1)) (m ((c : Thread nD τ).loc main_arg2)) (m ((c : Thread nD τ).loc main_arg3)) (t.val * 256 + (0 + 1 * (x 0).val)) (2816 + 1 * (x 1).val)
    rw [form, if_neg (by omega), show 0 + 1 * (x 0).val = (x 0).val by omega, show 2816 + 1 * (x 1).val - 2816 = (x 1).val by omega]
  · obtain rfl := List.mem_singleton.1 hp
    have hx : (x 1).val < 2816 := (x 1).isLt
    refine (pay3 m c t x).trans ?_
    show _ = form (m ((c : Thread nD τ).loc main_arg0)) (m ((c : Thread nD τ).loc main_arg1)) (m ((c : Thread nD τ).loc main_arg2)) (m ((c : Thread nD τ).loc main_arg3)) (t.val * 256 + (0 + 1 * (x 0).val)) (0 + 1 * (x 1).val)
    rw [form, if_pos (by omega), show 0 + 1 * (x 0).val = (x 0).val by omega, show 0 + 1 * (x 1).val = (x 1).val by omega]

/-- And every place of the result lies in the block of some point. -/
theorem arr : (dats m 0 c).arrAt 4 cfg0.N = res m c := by
  refine Pipeline.Dat.arrAt_eq_of_cover (dats m 0 c) 4 _ (flushed m c) fun i => ?_
  have hN : cfg0.N = 36 := N_0
  have i0 : (i 0).val < 9216 := (i 0).isLt
  have i1 : (i 1).val < 5632 := (i 1).isLt
  obtain ⟨t, ht⟩ : ∃ t : Fin cfg0.N, t.val = (i 0).val / 256 := ⟨⟨_, by omega⟩, rfl⟩
  obtain ⟨-, -, -, -, -, -, -, -, e0, e1⟩ := idx t
  refine ⟨t, flush0_4 t, ?_⟩
  show i ∈ ((View.whole main_v0).slice (win0_4.rect t)).set
  rw [View.set_slice_whole, Rect.mem_set_unit]
  intro a
  match a with
  | ⟨0, _⟩ => show win0_4.index t 0 * 256 ≤ (i 0).val ∧ (i 0).val < win0_4.index t 0 * 256 + 256; omega
  | ⟨1, _⟩ => show win0_4.index t 1 * 5632 ≤ (i 1).val ∧ (i 1).val < win0_4.index t 1 * 5632 + 5632; omega

section Refs

open Cert.L0OutDxRefIdeal.Read

variable (x0 : Vec Ideal S9216x1024 .bf16) (x1 : Vec Ideal S2816x1024 .bf16) (x2 x3 : Vec Ideal S9216x2816 .f32) (i : S9216x2816.Idx)

theorem refg : val_main_v3 (F := Ideal) x2 x3 i = half x2 (i 0).val (i 1).val := by
  rw [val_main_v3_apply]
  exact (concatenate_pair_apply_left (t := S9216x5632) (s₁ := S9216x2816) (s₂ := S9216x2816) 1 x2 x3 _ (idx_main_v3 i) rfl i fun b => match b with | ⟨0, _⟩ => rfl | ⟨1, _⟩ => rfl).trans (nat2_eq (z := ![9216, 2816]) x2 i rfl rfl)

theorem refu : val_main_v4 (F := Ideal) x2 x3 i = half x3 (i 0).val (i 1).val := by
  rw [val_main_v4_apply]
  exact (concatenate_pair_apply_right (t := S9216x5632) (s₁ := S9216x2816) (s₂ := S9216x2816) 1 x2 x3 _ (idx_main_v4 i) rfl rfl i (fun b hb => match b, hb with | ⟨0, _⟩, _ => rfl | ⟨1, _⟩, hb => absurd rfl hb)
    (Nat.add_comm _ _)).trans (nat2_eq (z := ![9216, 2816]) x3 i rfl rfl)

theorem refl : val_main_v5_2 (F := Ideal) x2 x3 i = Ideal.logistic (half x2 (i 0).val (i 1).val) := by
  rw [val_main_v5_2_apply, val_main_call0_v4_apply, val_main_call0_v3_apply, val_main_call0_v2_apply, val_main_call0_v1_apply, val_main_call0_v0_apply,
    val_main_call0_cst_apply, val_main_call0_cst_0_apply, one_bits, refg]
  rfl

theorem refp : val_main_v8 (F := Ideal) x0 x1 i = dprod x0 x1 (i 0).val (i 1).val := by
  rw [val_main_v8_apply, dprod, prod, Finset.sum_range]
  exact Finset.sum_congr rfl fun k _ => congrArg₂ (· * ·) (nat2_eq (z := ![9216, 1024]) x0 _ rfl rfl) (nat2_eq (z := ![2816, 1024]) x1 _ rfl rfl)

theorem refhigh : val_main_v9 (F := Ideal) x0 x1 x2 x3 i = high x0 x1 x2 (i 0).val (i 1).val := by
  rw [val_main_v9_apply, val_main_v5_0_apply, refg, refl, refp]
  exact (mul_comm _ _).trans (mul_assoc _ _ _).symm

variable (h0 : ∀ j, ∃ x : ℝ, x0 j = (x : EReal)) (h1 : ∀ j, ∃ x : ℝ, x1 j = (x : EReal)) (h2 : ∀ j, ∃ x : ℝ, x2 j = (x : EReal)) (h3 : ∀ j, ∃ x : ℝ, x3 j = (x : EReal))

include h0 h1 h2 h3

theorem reflow : val_main_v11 (F := Ideal) x0 x1 x2 x3 i = low x0 x1 x2 x3 (i 0).val (i 1).val := by
  rw [val_main_v11_apply, val_main_call1_v1_apply, val_main_call1_v2_apply, val_main_call1_v0_apply, val_main_v10_apply, val_main_v5_1_apply, val_main_call0_v7_apply,
    val_main_call0_v6_apply, val_main_call0_cst_1_apply, one_bits, refg, refu, refl, refp]
  exact dgate_eq (prod_real _ (nat2_real (z := ![9216, 1024]) h0) (nat2_real (z := ![2816, 1024]) h1) _ _) (nat2_real (z := ![9216, 2816]) h2 _ _) (nat2_real (z := ![9216, 2816]) h3 _ _)

theorem ref (i : S9216x5632.Idx) : val_main_v13 (F := Ideal) x0 x1 x2 x3 i = form x0 x1 x2 x3 (i 0).val (i 1).val := by
  have i0 : (i 0).val < 9216 := (i 0).isLt
  have i1 : (i 1).val < 5632 := (i 1).isLt
  show val_main_v12 (F := Ideal) x0 x1 x2 x3 i = _
  unfold val_main_v12
  by_cases h : (i 1).val < 2816
  · rw [form, if_pos h]
    exact (concatenate_pair_apply_left (t := S9216x5632) (s₁ := S9216x2816) (s₂ := S9216x2816) 1 _ _ _ i rfl (fun a => match a with | ⟨0, _⟩ => ⟨(i 0).val, i0⟩ | ⟨1, _⟩ => ⟨(i 1).val, h⟩ : S9216x2816.Idx)
      fun b => match b with | ⟨0, _⟩ => rfl | ⟨1, _⟩ => rfl).trans (reflow x0 x1 x2 x3 _ h0 h1 h2 h3)
  · rw [form, if_neg h]
    exact (concatenate_pair_apply_right (t := S9216x5632) (s₁ := S9216x2816) (s₂ := S9216x2816) 1 _ _ _ i rfl rfl (fun a => match a with | ⟨0, _⟩ => ⟨(i 0).val, i0⟩ | ⟨1, _⟩ => ⟨(i 1).val - 2816, by show _ < 2816; omega⟩ : S9216x2816.Idx)
      (fun b hb => match b, hb with | ⟨0, _⟩, _ => rfl | ⟨1, _⟩, hb => absurd rfl hb) (by show (i 1).val - 2816 + 2816 = _; omega)).trans (refhigh x0 x1 x2 x3 _)

end Refs

theorem equal [Cert.L0OutDxIdeal.Facts] [Cert.L0OutDxRefIdeal.Facts] [Cert.Pre_finite0.Facts] : Cert.algebraic_L0OutDxIdeal_L0OutDxRefIdeal_pre_finite0 := by
  intro m g m' g' hpre hsame
  refine ⟨fun c => res m c, (θ_run _ _ _).mono (fun r h c => ⟨(h c).1.trans (arr m c), (h c).2⟩) (run_blocks m g),
    (θ_run _ _ _).mono (fun r h c => ⟨(h c).1.trans (funext fun i => ?_), (h c).2⟩) (Cert.L0OutDxRefIdeal.Value.run m' g')⟩
  obtain ⟨h0, h1, h2, h3⟩ := hpre c
  rw [(hsame c).1, (hsame c).2.1, (hsame c).2.2.1, (hsame c).2.2.2]
  exact ref (m ((c : Thread nD τ).loc main_arg0)) (m ((c : Thread nD τ).loc main_arg1)) (m ((c : Thread nD τ).loc main_arg2)) (m ((c : Thread nD τ).loc main_arg3)) (real_of_finite h0) (real_of_finite h1) (real_of_finite h2) (real_of_finite h3) i

end Cert.L0OutDxIdeal.Own
-- ==== Proof.L1OutDx.lean ====
/- The gradient of a gated layer's two halves from that of its result, and the reference. -/
module

public import proofs.«01_k».proof.Defs
public import proofs.«01_k».proof.Proof.Acc
public import proofs.«01_k».proof.Proof.Gen.L1OutDxIdeal.Value
public import proofs.«01_k».proof.Proof.Gen.L1OutDxRefIdeal.Run
public import proofs.«01_k».proof.Proof.Gen.L1OutDxRefIdeal.Read
public import proofs.«01_k».proof.Proof.Gen.Pre_finite1

@[expose] public section

set_option maxRecDepth 8192

noncomputable section

namespace Cert.L1OutDxIdeal.Own

open Cert.L1OutDxIdeal Cert.L1OutDxIdeal.Gen Cert.L1OutDxIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = t.val ∧ win0_0.index t 1 = 0 ∧ win0_1.index t 0 = 0 ∧ win0_1.index t 1 = 0 ∧ win0_2.index t 0 = t.val
    ∧ win0_2.index t 1 = 0 ∧ win0_3.index t 0 = t.val ∧ win0_3.index t 1 = 0 ∧ win0_4.index t 0 = t.val ∧ win0_4.index t 1 = 0 := by decide +kernel

section Forms

variable (x0 : Vec Ideal S8192x1024 .bf16) (x1 : Vec Ideal S2816x1024 .bf16) (x2 x3 : Vec Ideal S8192x2816 .f32)

/-- The gradient of the gated product, and of the two halves, at natural coordinates. -/
abbrev dprod (x0 : Vec Ideal S8192x1024 .bf16) (x1 : Vec Ideal S2816x1024 .bf16) : ℕ → ℕ → EReal := prod 1024 (nat2 (z := ![8192, 1024]) x0) (nat2 (z := ![2816, 1024]) x1)
abbrev half (x : Vec Ideal S8192x2816 .f32) : ℕ → ℕ → EReal := nat2 (z := ![8192, 2816]) x
abbrev low (x0 : Vec Ideal S8192x1024 .bf16) (x1 : Vec Ideal S2816x1024 .bf16) (x2 x3 : Vec Ideal S8192x2816 .f32) (r s : ℕ) : EReal := dgate (dprod x0 x1 r s) (half x2 r s) (half x3 r s)
abbrev high (x0 : Vec Ideal S8192x1024 .bf16) (x1 : Vec Ideal S2816x1024 .bf16) (x2 : Vec Ideal S8192x2816 .f32) (r s : ℕ) : EReal := dprod x0 x1 r s * half x2 r s * Ideal.logistic (half x2 r s)
abbrev form (x0 : Vec Ideal S8192x1024 .bf16) (x1 : Vec Ideal S2816x1024 .bf16) (x2 x3 : Vec Ideal S8192x2816 .f32) (r s : ℕ) : EReal := if s < 2816 then low x0 x1 x2 x3 r s else high x0 x1 x2 r (s - 2816)

end Forms

abbrev res : S8192x5632.Idx → EReal := fun i => form (m ((c : Thread nD τ).loc main_arg0)) (m ((c : Thread nD τ).loc main_arg1)) (m ((c : Thread nD τ).loc main_arg2)) (m ((c : Thread nD τ).loc main_arg3)) (i 0).val (i 1).val

theorem blk2 (t : Fin cfg0.N) (y : S256x2816.Idx) : iblk m c 2 t y = half (m ((c : Thread nD τ).loc main_arg2)) (t.val * 256 + (y 0).val) (y 1).val :=
  (nat2_blk (z := ![8192, 2816]) (m ((c : Thread nD τ).loc main_arg2)) _ (idx t).2.2.2.2.1 (idx t).2.2.2.2.2.1 rfl rfl).trans (congrArg (half (m ((c : Thread nD τ).loc main_arg2)) _) (zero_off _ _))

theorem blk3 (t : Fin cfg0.N) (y : S256x2816.Idx) : iblk m c 3 t y = half (m ((c : Thread nD τ).loc main_arg3)) (t.val * 256 + (y 0).val) (y 1).val :=
  (nat2_blk (z := ![8192, 2816]) (m ((c : Thread nD τ).loc main_arg3)) _ (idx t).2.2.2.2.2.2.1 (idx t).2.2.2.2.2.2.2.1 rfl rfl).trans (congrArg (half (m ((c : Thread nD τ).loc main_arg3)) _) (zero_off _ _))

theorem pay1 (t : Fin cfg0.N) (j : S256x2816.Idx) : k0_pay1 (F := Ideal) (iblk m c 0 t) (iblk m c 1 t) j = dprod (m ((c : Thread nD τ).loc main_arg0)) (m ((c : Thread nD τ).loc main_arg1)) (t.val * 256 + (j 0).val) (j 1).val :=
  matmul_sum dot_S256x1024_S2816x1024_S256x2816_1_1_0_0_n_n 1024 rfl rfl _ _ none j
    (nat2 (z := ![8192, 1024]) (m ((c : Thread nD τ).loc main_arg0)) (t.val * 256 + (j 0).val)) (nat2 (z := ![2816, 1024]) (m ((c : Thread nD τ).loc main_arg1)) (j 1).val)
    (fun _ => (nat2_blk (z := ![8192, 1024]) (m ((c : Thread nD τ).loc main_arg0)) _ (idx t).1 (idx t).2.1 rfl rfl).trans (congrArg (nat2 (z := ![8192, 1024]) (m ((c : Thread nD τ).loc main_arg0)) _) (zero_off _ _)))
    (fun _ => (nat2_blk (z := ![2816, 1024]) (m ((c : Thread nD τ).loc main_arg1)) _ (idx t).2.2.1 (idx t).2.2.2.1 rfl rfl).trans (congr (congrArg (nat2 (z := ![2816, 1024]) (m ((c : Thread nD τ).loc main_arg1))) (zero_off _ _)) (zero_off _ _)))

theorem pay3 (t : Fin cfg0.N) (j : S256x2816.Idx) : k0_pay3 (F := Ideal) (iblk m c 0 t) (iblk m c 1 t) (iblk m c 2 t) (iblk m c 3 t) j
    = low (m ((c : Thread nD τ).loc main_arg0)) (m ((c : Thread nD τ).loc main_arg1)) (m ((c : Thread nD τ).loc main_arg2)) (m ((c : Thread nD τ).loc main_arg3)) (t.val * 256 + (j 0).val) (j 1).val := by
  rw [low, ← pay1, ← blk2, ← blk3, dgate, ← one_bits]
  rfl

theorem pay4 (t : Fin cfg0.N) (j : S256x2816.Idx) : k0_pay4 (F := Ideal) (iblk m c 0 t) (iblk m c 1 t) (iblk m c 2 t) j
    = high (m ((c : Thread nD τ).loc main_arg0)) (m ((c : Thread nD τ).loc main_arg1)) (m ((c : Thread nD τ).loc main_arg2)) (t.val * 256 + (j 0).val) (j 1).val := by
  rw [high, ← pay1, ← blk2]
  rfl

/-- Each point writes back its block of the result, a half at a time. -/
theorem flushed (t : Fin cfg0.N) (_ : (cfg0.win 4).flush t = true) :
    (dats m 0 c).flushed 4 t = ((cfg0.win 4).blk t).view.read (Elt Ideal) (res m c) := by
  obtain ⟨-, -, -, -, -, -, -, -, e0, e1⟩ := idx t
  rw [flushed4]
  funext j
  show out0_4 (F := Ideal) (iblk m c 0 t) (iblk m c 1 t) (iblk m c 2 t) (iblk m c 3 t) j = form (m ((c : Thread nD τ).loc main_arg0)) (m ((c : Thread nD τ).loc main_arg1)) (m ((c : Thread nD τ).loc main_arg2)) (m ((c : Thread nD τ).loc main_arg3)) (win0_4.index t 0 * 256 + 1 * (j 0).val) (win0_4.index t 1 * 5632 + 1 * (j 1).val)
  rw [e0, e1, one_mul, one_mul, zero_off]
  unfold out0_4
  simp only [View.ld_unit_zero (S := S256x1024) zero2, View.ld_unit_zero (S := S2816x1024) zero2, View.ld_unit_zero (S := S256x2816) zero2]
  refine View.canon_apply_of_pieces (Val := Elt Ideal) (fun j : S256x5632.Idx => (form (m ((c : Thread nD τ).loc main_arg0)) (m ((c : Thread nD τ).loc main_arg1)) (m ((c : Thread nD τ).loc main_arg2)) (m ((c : Thread nD τ).loc main_arg3)) (t.val * 256 + (j 0).val) (j 1).val : Elt Ideal .bf16)) _ (fun p hp x => ?_) j (cover0_4 _ _ j)
  rcases List.mem_cons.1 hp with rfl | hp
  · have hx : (x 1).val < 2816 := (x 1).isLt
    refine (pay4 m c t x).trans ?_
    show _ = form (m ((c : Thread nD τ).loc main_arg0)) (m ((c : Thread nD τ).loc main_arg1)) (m ((c : Thread nD τ).loc main_arg2)) (m ((c : Thread nD τ).loc main_arg3)) (t.val * 256 + (0 + 1 * (x 0).val)) (2816 + 1 * (x 1).val)
    rw [form, if_neg (by omega), show 0 + 1 * (x 0).val = (x 0).val by omega, show 2816 + 1 * (x 1).val - 2816 = (x 1).val by omega]
  · obtain rfl := List.mem_singleton.1 hp
    have hx : (x 1).val < 2816 := (x 1).isLt
    refine (pay3 m c t x).trans ?_
    show _ = form (m ((c : Thread nD τ).loc main_arg0)) (m ((c : Thread nD τ).loc main_arg1)) (m ((c : Thread nD τ).loc main_arg2)) (m ((c : Thread nD τ).loc main_arg3)) (t.val * 256 + (0 + 1 * (x 0).val)) (0 + 1 * (x 1).val)
    rw [form, if_pos (by omega), show 0 + 1 * (x 0).val = (x 0).val by omega, show 0 + 1 * (x 1).val = (x 1).val by omega]

/-- And every place of the result lies in the block of some point. -/
theorem arr : (dats m 0 c).arrAt 4 cfg0.N = res m c := by
  refine Pipeline.Dat.arrAt_eq_of_cover (dats m 0 c) 4 _ (flushed m c) fun i => ?_
  have hN : cfg0.N = 32 := N_0
  have i0 : (i 0).val < 8192 := (i 0).isLt
  have i1 : (i 1).val < 5632 := (i 1).isLt
  obtain ⟨t, ht⟩ : ∃ t : Fin cfg0.N, t.val = (i 0).val / 256 := ⟨⟨_, by omega⟩, rfl⟩
  obtain ⟨-, -, -, -, -, -, -, -, e0, e1⟩ := idx t
  refine ⟨t, flush0_4 t, ?_⟩
  show i ∈ ((View.whole main_v0).slice (win0_4.rect t)).set
  rw [View.set_slice_whole, Rect.mem_set_unit]
  intro a
  match a with
  | ⟨0, _⟩ => show win0_4.index t 0 * 256 ≤ (i 0).val ∧ (i 0).val < win0_4.index t 0 * 256 + 256; omega
  | ⟨1, _⟩ => show win0_4.index t 1 * 5632 ≤ (i 1).val ∧ (i 1).val < win0_4.index t 1 * 5632 + 5632; omega

section Refs

open Cert.L1OutDxRefIdeal.Read

variable (x0 : Vec Ideal S8192x1024 .bf16) (x1 : Vec Ideal S2816x1024 .bf16) (x2 x3 : Vec Ideal S8192x2816 .f32) (i : S8192x2816.Idx)

theorem refg : val_main_v3 (F := Ideal) x2 x3 i = half x2 (i 0).val (i 1).val := by
  rw [val_main_v3_apply]
  exact (concatenate_pair_apply_left (t := S8192x5632) (s₁ := S8192x2816) (s₂ := S8192x2816) 1 x2 x3 _ (idx_main_v3 i) rfl i fun b => match b with | ⟨0, _⟩ => rfl | ⟨1, _⟩ => rfl).trans (nat2_eq (z := ![8192, 2816]) x2 i rfl rfl)

theorem refu : val_main_v4 (F := Ideal) x2 x3 i = half x3 (i 0).val (i 1).val := by
  rw [val_main_v4_apply]
  exact (concatenate_pair_apply_right (t := S8192x5632) (s₁ := S8192x2816) (s₂ := S8192x2816) 1 x2 x3 _ (idx_main_v4 i) rfl rfl i (fun b hb => match b, hb with | ⟨0, _⟩, _ => rfl | ⟨1, _⟩, hb => absurd rfl hb)
    (Nat.add_comm _ _)).trans (nat2_eq (z := ![8192, 2816]) x3 i rfl rfl)

theorem refl : val_main_v5_2 (F := Ideal) x2 x3 i = Ideal.logistic (half x2 (i 0).val (i 1).val) := by
  rw [val_main_v5_2_apply, val_main_call0_v4_apply, val_main_call0_v3_apply, val_main_call0_v2_apply, val_main_call0_v1_apply, val_main_call0_v0_apply,
    val_main_call0_cst_apply, val_main_call0_cst_0_apply, one_bits, refg]
  rfl

theorem refp : val_main_v8 (F := Ideal) x0 x1 i = dprod x0 x1 (i 0).val (i 1).val := by
  rw [val_main_v8_apply, dprod, prod, Finset.sum_range]
  exact Finset.sum_congr rfl fun k _ => congrArg₂ (· * ·) (nat2_eq (z := ![8192, 1024]) x0 _ rfl rfl) (nat2_eq (z := ![2816, 1024]) x1 _ rfl rfl)

theorem refhigh : val_main_v9 (F := Ideal) x0 x1 x2 x3 i = high x0 x1 x2 (i 0).val (i 1).val := by
  rw [val_main_v9_apply, val_main_v5_0_apply, refg, refl, refp]
  exact (mul_comm _ _).trans (mul_assoc _ _ _).symm

variable (h0 : ∀ j, ∃ x : ℝ, x0 j = (x : EReal)) (h1 : ∀ j, ∃ x : ℝ, x1 j = (x : EReal)) (h2 : ∀ j, ∃ x : ℝ, x2 j = (x : EReal)) (h3 : ∀ j, ∃ x : ℝ, x3 j = (x : EReal))

include h0 h1 h2 h3

theorem reflow : val_main_v11 (F := Ideal) x0 x1 x2 x3 i = low x0 x1 x2 x3 (i 0).val (i 1).val := by
  rw [val_main_v11_apply, val_main_call1_v1_apply, val_main_call1_v2_apply, val_main_call1_v0_apply, val_main_v10_apply, val_main_v5_1_apply, val_main_call0_v7_apply,
    val_main_call0_v6_apply, val_main_call0_cst_1_apply, one_bits, refg, refu, refl, refp]
  exact dgate_eq (prod_real _ (nat2_real (z := ![8192, 1024]) h0) (nat2_real (z := ![2816, 1024]) h1) _ _) (nat2_real (z := ![8192, 2816]) h2 _ _) (nat2_real (z := ![8192, 2816]) h3 _ _)

theorem ref (i : S8192x5632.Idx) : val_main_v13 (F := Ideal) x0 x1 x2 x3 i = form x0 x1 x2 x3 (i 0).val (i 1).val := by
  have i0 : (i 0).val < 8192 := (i 0).isLt
  have i1 : (i 1).val < 5632 := (i 1).isLt
  show val_main_v12 (F := Ideal) x0 x1 x2 x3 i = _
  unfold val_main_v12
  by_cases h : (i 1).val < 2816
  · rw [form, if_pos h]
    exact (concatenate_pair_apply_left (t := S8192x5632) (s₁ := S8192x2816) (s₂ := S8192x2816) 1 _ _ _ i rfl (fun a => match a with | ⟨0, _⟩ => ⟨(i 0).val, i0⟩ | ⟨1, _⟩ => ⟨(i 1).val, h⟩ : S8192x2816.Idx)
      fun b => match b with | ⟨0, _⟩ => rfl | ⟨1, _⟩ => rfl).trans (reflow x0 x1 x2 x3 _ h0 h1 h2 h3)
  · rw [form, if_neg h]
    exact (concatenate_pair_apply_right (t := S8192x5632) (s₁ := S8192x2816) (s₂ := S8192x2816) 1 _ _ _ i rfl rfl (fun a => match a with | ⟨0, _⟩ => ⟨(i 0).val, i0⟩ | ⟨1, _⟩ => ⟨(i 1).val - 2816, by show _ < 2816; omega⟩ : S8192x2816.Idx)
      (fun b hb => match b, hb with | ⟨0, _⟩, _ => rfl | ⟨1, _⟩, hb => absurd rfl hb) (by show (i 1).val - 2816 + 2816 = _; omega)).trans (refhigh x0 x1 x2 x3 _)

end Refs

theorem equal [Cert.L1OutDxIdeal.Facts] [Cert.L1OutDxRefIdeal.Facts] [Cert.Pre_finite1.Facts] : Cert.algebraic_L1OutDxIdeal_L1OutDxRefIdeal_pre_finite1 := by
  intro m g m' g' hpre hsame
  refine ⟨fun c => res m c, (θ_run _ _ _).mono (fun r h c => ⟨(h c).1.trans (arr m c), (h c).2⟩) (run_blocks m g),
    (θ_run _ _ _).mono (fun r h c => ⟨(h c).1.trans (funext fun i => ?_), (h c).2⟩) (Cert.L1OutDxRefIdeal.Value.run m' g')⟩
  obtain ⟨h0, h1, h2, h3⟩ := hpre c
  rw [(hsame c).1, (hsame c).2.1, (hsame c).2.2.1, (hsame c).2.2.2]
  exact ref (m ((c : Thread nD τ).loc main_arg0)) (m ((c : Thread nD τ).loc main_arg1)) (m ((c : Thread nD τ).loc main_arg2)) (m ((c : Thread nD τ).loc main_arg3)) (real_of_finite h0) (real_of_finite h1) (real_of_finite h2) (real_of_finite h3) i

end Cert.L1OutDxIdeal.Own
-- ==== Proof.AdaFwd.lean ====
/- The modulation, a product with a bias, and the reference. -/
module

public import proofs.«01_k».proof.Defs
public import proofs.«01_k».proof.Proof.Acc
public import proofs.«01_k».proof.Proof.Gen.AdaFwdIdeal.Value
public import proofs.«01_k».proof.Proof.Gen.AdaFwdRefIdeal.Run
public import proofs.«01_k».proof.Proof.Gen.AdaFwdRefIdeal.Read

@[expose] public section

noncomputable section

namespace Cert.AdaFwdIdeal.Own

open Cert.AdaFwdIdeal Cert.AdaFwdIdeal.Gen Cert.AdaFwdIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = 0 ∧ win0_0.index t 1 = 0 ∧ win0_1.index t 0 = 0 ∧ win0_1.index t 1 = t.val ∧ win0_2.index t 0 = 0 ∧ win0_2.index t 1 = t.val ∧ win0_3.index t 0 = 0 ∧ win0_3.index t 1 = t.val := by decide +kernel

/-- The two factors at natural coordinates, the summands' coordinate second. -/
abbrev A : ℕ → ℕ → EReal := nat2 (z := ![64, 1024]) (m ((c : Thread nD τ).loc main_arg0))
abbrev B : ℕ → ℕ → EReal := fun s k => nat2 (z := ![1024, 1536]) (m ((c : Thread nD τ).loc main_arg1)) k s

/-- The bias, one row of it. -/
abbrev D : ℕ → EReal := nat2 (z := ![1, 1536]) (m ((c : Thread nD τ).loc main_arg2)) 0

theorem blk0 (t : Fin cfg0.N) (y : S64x1024.Idx) : iblk m c 0 t y = A m c (0 * 64 + (y 0).val) (0 * 1024 + (y 1).val) :=
  nat2_blk (z := ![64, 1024]) (m ((c : Thread nD τ).loc main_arg0)) _ (idx t).1 (idx t).2.1 rfl rfl

theorem blk1 (t : Fin cfg0.N) (y : S1024x768.Idx) : iblk m c 1 t y = B m c (t.val * 768 + (y 1).val) (0 * 1024 + (y 0).val) :=
  nat2_blk (z := ![1024, 1536]) (m ((c : Thread nD τ).loc main_arg1)) _ (idx t).2.2.1 (idx t).2.2.2.1 rfl rfl

theorem blk2 (t : Fin cfg0.N) (j : S64x768.Idx) : broadcastTo S64x768 (iblk m c 2 t : S1x768.Idx → EReal) broadcasts_S1x768_S64x768 j = D m c (t.val * 768 + (j 1).val) :=
  (broadcastTo_apply (iblk m c 2 t : S1x768.Idx → EReal) broadcasts_S1x768_S64x768 j (fun a => match a with | ⟨0, _⟩ => ⟨0, Nat.one_pos⟩ | ⟨1, _⟩ => j 1)
    (fun a => match a with | ⟨0, _⟩ => rfl | ⟨1, _⟩ => rfl)).trans (nat2_eq (z := ![1, 1536]) (m ((c : Thread nD τ).loc main_arg2)) _
      (by show win0_2.index t 0 * 1 + 1 * 0 = 0; rw [(idx t).2.2.2.2.1])
      (by show win0_2.index t 1 * 768 + 1 * (j 1).val = t.val * 768 + (j 1).val; rw [(idx t).2.2.2.2.2.1, one_mul]))

theorem pay1 (t : Fin cfg0.N) (j : S64x768.Idx) : k0_pay1 (F := Ideal) (iblk m c 0 t) (iblk m c 1 t) (iblk m c 2 t) j
    = prod 1024 (A m c) (B m c) (0 * 64 + (j 0).val) (t.val * 768 + (j 1).val) + D m c (t.val * 768 + (j 1).val) :=
  congrArg₂ (fun a b : EReal => a + b) (matmul_sum dot_S64x1024_S1024x768_S64x768_1_0_0_1_n_n 1024 rfl rfl _ _ none j (A m c (0 * 64 + (j 0).val)) (B m c (t.val * 768 + (j 1).val))
    (fun _ => (blk0 m c t _).trans (congrArg (A m c _) (zero_off _ _))) (fun _ => (blk1 m c t _).trans (congrArg (B m c _) (zero_off _ _)))) (blk2 m c t j)

/-- The result. -/
abbrev res : S64x1536.Idx → EReal := fun i => prod 1024 (A m c) (B m c) (i 0).val (i 1).val + D m c (i 1).val

/-- Each point writes back its block of it. -/
theorem flushed (t : Fin cfg0.N) (_ : (cfg0.win 3).flush t = true) :
    (dats m 0 c).flushed 3 t = ((cfg0.win 3).blk t).view.read (Elt Ideal) (res m c) := by
  rw [flushed3]
  funext j
  show out0_3 (F := Ideal) (iblk m c 0 t) (iblk m c 1 t) (iblk m c 2 t) j = prod 1024 (A m c) (B m c) (win0_3.index t 0 * 64 + 1 * (j 0).val) (win0_3.index t 1 * 768 + 1 * (j 1).val) + D m c (win0_3.index t 1 * 768 + 1 * (j 1).val)
  rw [(idx t).2.2.2.2.2.2.1, (idx t).2.2.2.2.2.2.2, one_mul, one_mul]
  unfold out0_3
  rw [View.canon_unit_zero zero2]
  simp only [View.ld_unit_zero (S := S64x1024) zero2, View.ld_unit_zero (S := S1024x768) zero2, View.ld_unit_zero (S := S1x768) zero2]
  exact pay1 m c t j

/-- And every place of the result lies in the block of some point. -/
theorem arr : (dats m 0 c).arrAt 3 cfg0.N = res m c := by
  refine Pipeline.Dat.arrAt_eq_of_cover (dats m 0 c) 3 _ (flushed m c) fun i => ?_
  have hN : cfg0.N = 2 := N_0
  have i0 : (i 0).val < 64 := (i 0).isLt
  have i1 : (i 1).val < 1536 := (i 1).isLt
  obtain ⟨t, ht⟩ : ∃ t : Fin cfg0.N, t.val = (i 1).val / 768 := ⟨⟨_, by omega⟩, rfl⟩
  have e0 := (idx t).2.2.2.2.2.2.1
  have e1 := (idx t).2.2.2.2.2.2.2
  refine ⟨t, flush0_3 t, ?_⟩
  show i ∈ ((View.whole main_v0).slice (win0_3.rect t)).set
  rw [View.set_slice_whole, Rect.mem_set_unit]
  intro a
  match a with
  | ⟨0, _⟩ => show win0_3.index t 0 * 64 ≤ (i 0).val ∧ (i 0).val < win0_3.index t 0 * 64 + 64; omega
  | ⟨1, _⟩ => show win0_3.index t 1 * 768 ≤ (i 1).val ∧ (i 1).val < win0_3.index t 1 * 768 + 768; omega

/-- The reference's product with its bias is the same sum. -/
theorem ref (x0 : Vec Ideal S64x1024 .bf16) (x1 : Vec Ideal S1024x1536 .f32) (x2 : Vec Ideal S1x1536 .f32) (i : S64x1536.Idx) :
    Cert.AdaFwdRefIdeal.Read.val_main_v3 (F := Ideal) x0 x1 x2 i = prod 1024 (nat2 (z := ![64, 1024]) x0) (fun s k => nat2 (z := ![1024, 1536]) x1 k s) (i 0).val (i 1).val + nat2 (z := ![1, 1536]) x2 0 (i 1).val := by
  refine congrArg₂ (fun a b : EReal => a + b) ?_ ((Cert.AdaFwdRefIdeal.Read.val_main_v2_apply x2 i).trans (nat2_eq (z := ![1, 1536]) x2 _ rfl rfl))
  rw [Cert.AdaFwdRefIdeal.Read.val_main_v1_apply, prod, Finset.sum_range]
  exact Finset.sum_congr rfl fun k _ => congrArg₂ (· * ·) (nat2_eq (z := ![64, 1024]) x0 _ rfl rfl) (nat2_eq (z := ![1024, 1536]) x1 _ rfl rfl)

theorem equal [Cert.AdaFwdIdeal.Facts] [Cert.AdaFwdRefIdeal.Facts] : Cert.algebraic_AdaFwdIdeal_AdaFwdRefIdeal := by
  intro m g m' g' _ hsame
  refine ⟨fun c => res m c, (θ_run _ _ _).mono (fun r h c => ⟨(h c).1.trans (arr m c), (h c).2⟩) (run_blocks m g),
    (θ_run _ _ _).mono (fun r h c => ⟨(h c).1.trans (funext fun i => ?_), (h c).2⟩) (Cert.AdaFwdRefIdeal.Value.run m' g')⟩
  refine (ref _ _ _ i).trans ?_
  rw [(hsame c).1, (hsame c).2.1, (hsame c).2.2]

end Cert.AdaFwdIdeal.Own
-- ==== Proof.AdaDw.lean ====
/- The modulation's weight gradient, and the reference. -/
module

public import proofs.«01_k».proof.Defs
public import proofs.«01_k».proof.Proof.Acc
public import proofs.«01_k».proof.Proof.Gen.AdaDwIdeal.Value
public import proofs.«01_k».proof.Proof.Gen.AdaDwRefIdeal.Run
public import proofs.«01_k».proof.Proof.Gen.AdaDwRefIdeal.Read

@[expose] public section

noncomputable section

namespace Cert.AdaDwIdeal.Own

open Cert.AdaDwIdeal Cert.AdaDwIdeal.Gen Cert.AdaDwIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = 0 ∧ win0_0.index t 1 = 0 ∧ win0_1.index t 0 = 0 ∧ win0_1.index t 1 = t.val ∧ win0_2.index t 0 = 0 ∧ win0_2.index t 1 = t.val := by decide +kernel

/-- The two factors at natural coordinates, the summands' coordinate second. -/
abbrev A : ℕ → ℕ → EReal := fun r k => nat2 (z := ![64, 1024]) (m ((c : Thread nD τ).loc main_arg0)) k r
abbrev B : ℕ → ℕ → EReal := fun s k => nat2 (z := ![64, 1536]) (m ((c : Thread nD τ).loc main_arg1)) k s

theorem blk0 (t : Fin cfg0.N) (y : S64x1024.Idx) : iblk m c 0 t y = A m c (0 * 1024 + (y 1).val) (0 * 64 + (y 0).val) :=
  nat2_blk (z := ![64, 1024]) (m ((c : Thread nD τ).loc main_arg0)) _ (idx t).1 (idx t).2.1 rfl rfl

theorem blk1 (t : Fin cfg0.N) (y : S64x768.Idx) : iblk m c 1 t y = B m c (t.val * 768 + (y 1).val) (0 * 64 + (y 0).val) :=
  nat2_blk (z := ![64, 1536]) (m ((c : Thread nD τ).loc main_arg1)) _ (idx t).2.2.1 (idx t).2.2.2.1 rfl rfl

theorem pay1 (t : Fin cfg0.N) (j : S1024x768.Idx) : k0_pay1 (F := Ideal) (iblk m c 0 t) (iblk m c 1 t) j
    = prod 64 (A m c) (B m c) (0 * 1024 + (j 0).val) (t.val * 768 + (j 1).val) :=
  matmul_sum dot_S64x1024_S64x768_S1024x768_0_0_1_1_n_n 64 rfl rfl _ _ none j (A m c (0 * 1024 + (j 0).val)) (B m c (t.val * 768 + (j 1).val))
    (fun _ => (blk0 m c t _).trans (congrArg (A m c _) (zero_off _ _))) (fun _ => (blk1 m c t _).trans (congrArg (B m c _) (zero_off _ _)))

/-- The result. -/
abbrev res : S1024x1536.Idx → EReal := fun i => prod 64 (A m c) (B m c) (i 0).val (i 1).val

/-- Each point writes back its block of it. -/
theorem flushed (t : Fin cfg0.N) (_ : (cfg0.win 2).flush t = true) :
    (dats m 0 c).flushed 2 t = ((cfg0.win 2).blk t).view.read (Elt Ideal) (res m c) := by
  rw [flushed2]
  funext j
  show out0_2 (F := Ideal) (iblk m c 0 t) (iblk m c 1 t) j = prod 64 (A m c) (B m c) (win0_2.index t 0 * 1024 + 1 * (j 0).val) (win0_2.index t 1 * 768 + 1 * (j 1).val)
  rw [(idx t).2.2.2.2.1, (idx t).2.2.2.2.2, one_mul, one_mul]
  unfold out0_2
  rw [View.canon_unit_zero zero2]
  simp only [View.ld_unit_zero (S := S64x1024) zero2, View.ld_unit_zero (S := S64x768) zero2]
  exact pay1 m c t j

/-- And every place of the result lies in the block of some point. -/
theorem arr : (dats m 0 c).arrAt 2 cfg0.N = res m c := by
  refine Pipeline.Dat.arrAt_eq_of_cover (dats m 0 c) 2 _ (flushed m c) fun i => ?_
  have hN : cfg0.N = 2 := N_0
  have i0 : (i 0).val < 1024 := (i 0).isLt
  have i1 : (i 1).val < 1536 := (i 1).isLt
  obtain ⟨t, ht⟩ : ∃ t : Fin cfg0.N, t.val = (i 1).val / 768 := ⟨⟨_, by omega⟩, rfl⟩
  have e0 := (idx t).2.2.2.2.1
  have e1 := (idx t).2.2.2.2.2
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 768 ≤ (i 1).val ∧ (i 1).val < win0_2.index t 1 * 768 + 768; omega

/-- The reference's product is the same sum. -/
theorem ref (x0 : Vec Ideal S64x1024 .bf16) (x1 : Vec Ideal S64x1536 .bf16) (i : S1024x1536.Idx) :
    Cert.AdaDwRefIdeal.Read.val_main_v5 (F := Ideal) x0 x1 i = prod 64 (fun r k => nat2 (z := ![64, 1024]) x0 k r) (fun s k => nat2 (z := ![64, 1536]) x1 k s) (i 0).val (i 1).val := by
  rw [Cert.AdaDwRefIdeal.Read.val_main_v5_apply, Cert.AdaDwRefIdeal.Read.val_main_v4_apply, prod, Finset.sum_range]
  exact Finset.sum_congr rfl fun k _ => (mul_comm _ _).trans
    (congrArg₂ (· * ·) (nat2_eq (z := ![64, 1024]) x0 _ rfl rfl) (nat2_eq (z := ![64, 1536]) x1 _ rfl rfl))

theorem equal [Cert.AdaDwIdeal.Facts] [Cert.AdaDwRefIdeal.Facts] : Cert.algebraic_AdaDwIdeal_AdaDwRefIdeal := by
  intro m g m' g' _ hsame
  refine ⟨fun c => res m c, (θ_run _ _ _).mono (fun r h c => ⟨(h c).1.trans (arr m c), (h c).2⟩) (run_blocks m g),
    (θ_run _ _ _).mono (fun r h c => ⟨(h c).1.trans (funext fun i => ?_), (h c).2⟩) (Cert.AdaDwRefIdeal.Value.run m' g')⟩
  refine (ref _ _ i).trans ?_
  rw [(hsame c).1, (hsame c).2]

end Cert.AdaDwIdeal.Own
-- ==== Proof.AdaDc.lean ====
/- The modulation's gradient in its conditioning rows, and the reference. -/
module

public import proofs.«01_k».proof.Defs
public import proofs.«01_k».proof.Proof.Acc
public import proofs.«01_k».proof.Proof.Gen.AdaDcIdeal.Value
public import proofs.«01_k».proof.Proof.Gen.AdaDcRefIdeal.Run
public import proofs.«01_k».proof.Proof.Gen.AdaDcRefIdeal.Read

@[expose] public section

noncomputable section

namespace Cert.AdaDcIdeal.Own

open Cert.AdaDcIdeal Cert.AdaDcIdeal.Gen Cert.AdaDcIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, win0_0.index t 0 = 0 ∧ win0_0.index t 1 = 0 ∧ win0_1.index t 0 = 0 ∧ win0_1.index t 1 = 0 ∧ win0_2.index t 0 = 0 ∧ win0_2.index t 1 = 0 := by decide +kernel

/-- The two factors at natural coordinates, the summands' coordinate second. -/
abbrev A : ℕ → ℕ → EReal := nat2 (z := ![8, 1536]) (m ((c : Thread nD τ).loc main_arg0))
abbrev B : ℕ → ℕ → EReal := nat2 (z := ![1024, 1536]) (m ((c : Thread nD τ).loc main_arg1))

theorem blk0 (t : Fin cfg0.N) (y : S8x1536.Idx) : iblk m c 0 t y = A m c (0 * 8 + (y 0).val) (0 * 1536 + (y 1).val) :=
  nat2_blk (z := ![8, 1536]) (m ((c : Thread nD τ).loc main_arg0)) _ (idx t).1 (idx t).2.1 rfl rfl

theorem blk1 (t : Fin cfg0.N) (y : S1024x1536.Idx) : iblk m c 1 t y = B m c (0 * 1024 + (y 0).val) (0 * 1536 + (y 1).val) :=
  nat2_blk (z := ![1024, 1536]) (m ((c : Thread nD τ).loc main_arg1)) _ (idx t).2.2.1 (idx t).2.2.2.1 rfl rfl

theorem pay1 (t : Fin cfg0.N) (j : S8x1024.Idx) : k0_pay1 (F := Ideal) (iblk m c 0 t) (iblk m c 1 t) j
    = prod 1536 (A m c) (B m c) (0 * 8 + (j 0).val) (0 * 1024 + (j 1).val) :=
  matmul_sum dot_S8x1536_S1024x1536_S8x1024_1_1_0_0_n_n 1536 rfl rfl _ _ none j (A m c (0 * 8 + (j 0).val)) (B m c (0 * 1024 + (j 1).val))
    (fun _ => (blk0 m c t _).trans (congrArg (A m c _) (zero_off _ _))) (fun _ => (blk1 m c t _).trans (congrArg (B m c _) (zero_off _ _)))

/-- The result. -/
abbrev res : S8x1024.Idx → EReal := fun i => prod 1536 (A m c) (B m c) (i 0).val (i 1).val

/-- Each point writes back its block of it. -/
theorem flushed (t : Fin cfg0.N) (_ : (cfg0.win 2).flush t = true) :
    (dats m 0 c).flushed 2 t = ((cfg0.win 2).blk t).view.read (Elt Ideal) (res m c) := by
  rw [flushed2]
  funext j
  show out0_2 (F := Ideal) (iblk m c 0 t) (iblk m c 1 t) j = prod 1536 (A m c) (B m c) (win0_2.index t 0 * 8 + 1 * (j 0).val) (win0_2.index t 1 * 1024 + 1 * (j 1).val)
  rw [(idx t).2.2.2.2.1, (idx t).2.2.2.2.2, one_mul, one_mul]
  unfold out0_2
  rw [View.canon_unit_zero zero2]
  simp only [View.ld_unit_zero (S := S8x1536) zero2, View.ld_unit_zero (S := S1024x1536) zero2]
  exact pay1 m c t j

/-- And every place of the result lies in the block of some point. -/
theorem arr : (dats m 0 c).arrAt 2 cfg0.N = res m c := by
  refine Pipeline.Dat.arrAt_eq_of_cover (dats m 0 c) 2 _ (flushed m c) fun i => ?_
  have hN : cfg0.N = 1 := N_0
  have i0 : (i 0).val < 8 := (i 0).isLt
  have i1 : (i 1).val < 1024 := (i 1).isLt
  obtain ⟨t, ht⟩ : ∃ t : Fin cfg0.N, t.val = 0 := ⟨⟨_, by omega⟩, rfl⟩
  have e0 := (idx t).2.2.2.2.1
  have e1 := (idx t).2.2.2.2.2
  refine ⟨t, flush0_2 t, ?_⟩
  show i ∈ ((View.whole main_v0).slice (win0_2.rect t)).set
  rw [View.set_slice_whole, Rect.mem_set_unit]
  intro a
  match a with
  | ⟨0, _⟩ => show win0_2.index t 0 * 8 ≤ (i 0).val ∧ (i 0).val < win0_2.index t 0 * 8 + 8; omega
  | ⟨1, _⟩ => show win0_2.index t 1 * 1024 ≤ (i 1).val ∧ (i 1).val < win0_2.index t 1 * 1024 + 1024; omega

/-- The reference's product is the same sum. -/
theorem ref (x0 : Vec Ideal S8x1536 .bf16) (x1 : Vec Ideal S1024x1536 .f32) (i : S8x1024.Idx) :
    Cert.AdaDcRefIdeal.Read.val_main_v3 (F := Ideal) x0 x1 i = prod 1536 (nat2 (z := ![8, 1536]) x0) (nat2 (z := ![1024, 1536]) x1) (i 0).val (i 1).val := by
  rw [Cert.AdaDcRefIdeal.Read.val_main_v3_apply, prod, Finset.sum_range]
  exact Finset.sum_congr rfl fun k _ => congrArg₂ (· * ·) (nat2_eq (z := ![8, 1536]) x0 _ rfl rfl) (nat2_eq (z := ![1024, 1536]) x1 _ rfl rfl)

theorem equal [Cert.AdaDcIdeal.Facts] [Cert.AdaDcRefIdeal.Facts] : Cert.algebraic_AdaDcIdeal_AdaDcRefIdeal := by
  intro m g m' g' _ hsame
  refine ⟨fun c => res m c, (θ_run _ _ _).mono (fun r h c => ⟨(h c).1.trans (arr m c), (h c).2⟩) (run_blocks m g),
    (θ_run _ _ _).mono (fun r h c => ⟨(h c).1.trans (funext fun i => ?_), (h c).2⟩) (Cert.AdaDcRefIdeal.Value.run m' g')⟩
  refine (ref _ _ i).trans ?_
  rw [(hsame c).1, (hsame c).2]

end Cert.AdaDcIdeal.Own
-- ==== Proof.Adam.lean ====
/- The update of AdamW at one place, and where a block's entries lie in the arrays it is cut from. -/
module

public import proofs.«01_k».proof.Defs
public import proofs.«01_k».proof.Proof.Acc

@[expose] public section

noncomputable section

namespace Cert.Own

open Idealize.ShloMosaic Idealize.ShloMosaic.TcCoe Idealize.SL.Sem

/-- The new first moment, from the old one and the gradient. -/
def mom (o g : Ideal .f32) : Ideal .f32 :=
  FloatOps.addf (FloatOps.mulf (FloatOps.ofBits .f32 0x3F666666#32) o) (FloatOps.mulf (FloatOps.ofBits .f32 0x3DCCCCCD#32) g)

/-- The new second moment. -/
def var (o g : Ideal .f32) : Ideal .f32 :=
  FloatOps.addf (FloatOps.mulf (FloatOps.ofBits .f32 0x3F7FBE77#32) o) (FloatOps.mulf (FloatOps.ofBits .f32 0x3A83126F#32) (FloatOps.mulf g g))

/-- The step, from the weight, the two old moments and the gradient. -/
def step (w o v g : Ideal .f32) : Ideal .f32 :=
  FloatOps.mulf (FloatOps.ofBits .f32 0xBA83126F#32) (FloatOps.addf
    (FloatOps.divf (FloatOps.divf (mom o g) (FloatOps.ofBits .f32 0x3F26BD02#32))
      (FloatOps.addf (FloatOps.sqrt (FloatOps.divf (var v g) (FloatOps.ofBits .f32 0x3C231ACC#32))) (FloatOps.ofBits .f32 0x322BCC77#32)))
    (FloatOps.mulf (FloatOps.ofBits .f32 0x3C23D70A#32) w))

/-- An entry of a load of a whole block. -/
theorem nat2_ld {z : Fin 2 → ℕ} (X : (⟨2, z⟩ : Shape).Idx → EReal) (j : (⟨2, z⟩ : Shape).Idx) {i0 i1 t0 t1 y0 y1 p q : ℕ}
    (e0 : i0 = p) (e1 : i1 = q) (h0 : (j 0).val = i0 * t0 + 1 * (0 + 1 * y0)) (h1 : (j 1).val = i1 * t1 + 1 * (0 + 1 * y1)) :
    X j = nat2 X (p * t0 + y0) (q * t1 + y1) :=
  nat2_eq X j (by rw [h0, e0]; omega) (by rw [h1, e1]; omega)

/-- And one of a load of one layer of a block. -/
theorem nat3_ld {z : Fin 3 → ℕ} (X : (⟨3, z⟩ : Shape).Idx → EReal) (j : (⟨3, z⟩ : Shape).Idx) {i0 i1 i2 t0 t1 t2 b y1 y2 p q : ℕ}
    (e0 : i0 = 0) (e1 : i1 = p) (e2 : i2 = q) (h0 : (j 0).val = i0 * t0 + 1 * (b + 1 * 0)) (h1 : (j 1).val = i1 * t1 + 1 * (0 + 1 * y1))
    (h2 : (j 2).val = i2 * t2 + 1 * (0 + 1 * y2)) : X j = nat3 X b (p * t1 + y1) (q * t2 + y2) :=
  nat3_eq X j (by rw [h0, e0]; omega) (by rw [h1, e1]; omega) (by rw [h2, e2]; omega)

/-- The coordinates of a place of a matrix that is one layer seen flat. -/
theorem row_of {r k R C : ℕ} (hr : r < R) (hk : k < C) : (r * C + k) / C % R = r := by
  rw [Nat.add_comm, Nat.add_mul_div_right _ _ (Nat.zero_lt_of_lt hk), Nat.div_eq_of_lt hk, zero_add, Nat.mod_eq_of_lt hr]

theorem col_of {r k C : ℕ} (hk : k < C) : (r * C + k) % C = k := by
  rw [Nat.add_comm, Nat.add_mul_mod_self_right, Nat.mod_eq_of_lt hk]

/-- A place lies in the block of its row's quotient, when the blocks are bands of whole rows. -/
theorem in_band {s : Fin 2 → ℕ} {i : (⟨2, s⟩ : Shape).Idx} {i0 i1 t : ℕ} (e0 : i0 = (i 0).val / t) (e1 : i1 = 0) (ht : 0 < t) :
    (i0 * t ≤ (i 0).val ∧ (i 0).val < i0 * t + t) ∧ (i1 * s 1 ≤ (i 1).val ∧ (i 1).val < i1 * s 1 + s 1) := by
  have h1 : (i 1).val < s 1 := (i 1).isLt
  have hd := Nat.div_add_mod (i 0).val t
  have hm := Nat.mod_lt (i 0).val ht
  subst e0 e1
  rw [Nat.mul_comm t] at hd
  omega

end Cert.Own
-- ==== Proof.AdamAda.lean ====
/- AdamW's update of the modulation's weight, and the reference. -/
module

public import proofs.«01_k».proof.Defs
public import proofs.«01_k».proof.Proof.Adam
public import proofs.«01_k».proof.Proof.Gen.AdamAdaIdeal.Value
public import proofs.«01_k».proof.Proof.Gen.AdamAdaRefIdeal.Run
public import proofs.«01_k».proof.Proof.Gen.AdamAdaRefIdeal.Read

@[expose] public section

noncomputable section

namespace Cert.AdamAdaIdeal.Own

open Cert.AdamAdaIdeal Cert.AdamAdaIdeal.Gen Cert.AdamAdaIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = t.val ∧ win0_3.index t 2 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) := by decide +kernel

/-- The weight and its moments at natural coordinates. -/
abbrev W : ℕ → ℕ → EReal := nat2 (z := ![2048, 768]) (m ((c : Thread nD τ).loc main_arg0))
abbrev M : ℕ → ℕ → EReal := nat2 (z := ![2048, 768]) (m ((c : Thread nD τ).loc main_arg1))
abbrev V : ℕ → ℕ → EReal := nat2 (z := ![2048, 768]) (m ((c : Thread nD τ).loc main_arg2))

/-- The gradient: the one part there is. -/
abbrev grad (x3 : Vec Ideal S1x2048x768 .f32) (r k : ℕ) : EReal :=
  nat3 (z := ![1, 2048, 768]) x3 0 r k

abbrev G : ℕ → ℕ → EReal := grad (m ((c : Thread nD τ).loc main_arg3))

theorem blk0 (t : Fin cfg0.N) (j : S256x768.Idx) : View.ld (iblk m c 0 t) r0_1 (ix5_5 j) = W m c (t.val * 256 + (j 0).val) (0 * 768 + (j 1).val) :=
  nat2_ld (z := ![2048, 768]) (m ((c : Thread nD τ).loc main_arg0)) _ (idx t).1.1 (idx t).1.2 rfl rfl

theorem blk1 (t : Fin cfg0.N) (j : S256x768.Idx) : View.ld (iblk m c 1 t) r0_1 (ix5_0 j) = M m c (t.val * 256 + (j 0).val) (0 * 768 + (j 1).val) :=
  nat2_ld (z := ![2048, 768]) (m ((c : Thread nD τ).loc main_arg1)) _ (idx t).2.1.1 (idx t).2.1.2 rfl rfl

theorem blk2 (t : Fin cfg0.N) (j : S256x768.Idx) : View.ld (iblk m c 2 t) r0_1 (ix5_2 j) = V m c (t.val * 256 + (j 0).val) (0 * 768 + (j 1).val) :=
  nat2_ld (z := ![2048, 768]) (m ((c : Thread nD τ).loc main_arg2)) _ (idx t).2.2.1.1 (idx t).2.2.1.2 rfl rfl

/-- What a point leaves of the gradient. -/
theorem blkG (t : Fin cfg0.N) (j : S256x768.Idx) : E4 (F := Ideal) (View.ld (iblk m c 3 t) r0_0) j = G m c (t.val * 256 + (j 0).val) (0 * 768 + (j 1).val) :=
  (nat3_ld (z := ![1, 2048, 768]) (b := 0) (m ((c : Thread nD τ).loc main_arg3)) _ (idx t).2.2.2.1.1 (idx t).2.2.2.1.2.1 (idx t).2.2.2.1.2.2 rfl rfl rfl)

/-- The four results. -/
abbrev res0 : S2048x768.Idx → EReal := fun i => G m c (i 0).val (i 1).val
abbrev res1 : S2048x768.Idx → EReal := fun i => step (W m c (i 0).val (i 1).val) (M m c (i 0).val (i 1).val) (V m c (i 0).val (i 1).val) (G m c (i 0).val (i 1).val)
abbrev res2 : S2048x768.Idx → EReal := fun i => mom (M m c (i 0).val (i 1).val) (G m c (i 0).val (i 1).val)
abbrev res3 : S2048x768.Idx → EReal := fun i => var (V m c (i 0).val (i 1).val) (G m c (i 0).val (i 1).val)

/-- Each point writes back its block of each, -/
theorem flushed4' (t : Fin cfg0.N) (_ : (cfg0.win 4).flush t = true) :
    (dats m 0 c).flushed 4 t = ((cfg0.win 4).blk t).view.read (Elt Ideal) (res0 m c) := by
  rw [flushed4]
  funext j
  show out0_4 (F := Ideal) (iblk m c 0 t) (iblk m c 1 t) (iblk m c 2 t) (iblk m c 3 t) j = G m c (win0_4.index t 0 * 256 + 1 * (j 0).val) (win0_4.index t 1 * 768 + 1 * (j 1).val)
  rw [(idx t).2.2.2.2.1.1, (idx t).2.2.2.2.1.2, one_mul, one_mul]
  unfold out0_4
  rw [canon4_eq]
  exact blkG m c t j

theorem flushed5' (t : Fin cfg0.N) (_ : (cfg0.win 5).flush t = true) :
    (dats m 0 c).flushed 5 t = ((cfg0.win 5).blk t).view.read (Elt Ideal) (res1 m c) := by
  rw [flushed5]
  funext j
  show out0_5 (F := Ideal) (iblk m c 0 t) (iblk m c 1 t) (iblk m c 2 t) (iblk m c 3 t) j = step (W m c (win0_5.index t 0 * 256 + 1 * (j 0).val) (win0_5.index t 1 * 768 + 1 * (j 1).val)) (M m c (win0_5.index t 0 * 256 + 1 * (j 0).val) (win0_5.index t 1 * 768 + 1 * (j 1).val)) (V m c (win0_5.index t 0 * 256 + 1 * (j 0).val) (win0_5.index t 1 * 768 + 1 * (j 1).val)) (G m c (win0_5.index t 0 * 256 + 1 * (j 0).val) (win0_5.index t 1 * 768 + 1 * (j 1).val))
  rw [(idx t).2.2.2.2.2.1.1, (idx t).2.2.2.2.2.1.2, one_mul, one_mul]
  unfold out0_5
  rw [canon5_eq]
  show step (View.ld (iblk m c 0 t) r0_1 (ix5_5 j)) (View.ld (iblk m c 1 t) r0_1 (ix5_0 j)) (View.ld (iblk m c 2 t) r0_1 (ix5_2 j)) (E4 (F := Ideal) (View.ld (iblk m c 3 t) r0_0) j) = _
  rw [blk0, blk1, blk2, blkG]

theorem flushed6' (t : Fin cfg0.N) (_ : (cfg0.win 6).flush t = true) :
    (dats m 0 c).flushed 6 t = ((cfg0.win 6).blk t).view.read (Elt Ideal) (res2 m c) := by
  rw [flushed6]
  funext j
  show out0_6 (F := Ideal) (iblk m c 0 t) (iblk m c 1 t) (iblk m c 2 t) (iblk m c 3 t) j = mom (M m c (win0_6.index t 0 * 256 + 1 * (j 0).val) (win0_6.index t 1 * 768 + 1 * (j 1).val)) (G m c (win0_6.index t 0 * 256 + 1 * (j 0).val) (win0_6.index t 1 * 768 + 1 * (j 1).val))
  rw [(idx t).2.2.2.2.2.2.1.1, (idx t).2.2.2.2.2.2.1.2, one_mul, one_mul]
  unfold out0_6
  rw [canon6_eq]
  show mom (View.ld (iblk m c 1 t) r0_1 (ix5_0 j)) (E4 (F := Ideal) (View.ld (iblk m c 3 t) r0_0) j) = _
  rw [blk1, blkG]

theorem flushed7' (t : Fin cfg0.N) (_ : (cfg0.win 7).flush t = true) :
    (dats m 0 c).flushed 7 t = ((cfg0.win 7).blk t).view.read (Elt Ideal) (res3 m c) := by
  rw [flushed7]
  funext j
  show out0_7 (F := Ideal) (iblk m c 0 t) (iblk m c 1 t) (iblk m c 2 t) (iblk m c 3 t) j = var (V m c (win0_7.index t 0 * 256 + 1 * (j 0).val) (win0_7.index t 1 * 768 + 1 * (j 1).val)) (G m c (win0_7.index t 0 * 256 + 1 * (j 0).val) (win0_7.index t 1 * 768 + 1 * (j 1).val))
  rw [(idx t).2.2.2.2.2.2.2.1, (idx t).2.2.2.2.2.2.2.2, one_mul, one_mul]
  unfold out0_7
  rw [canon7_eq]
  show var (View.ld (iblk m c 2 t) r0_1 (ix5_2 j)) (E4 (F := Ideal) (View.ld (iblk m c 3 t) r0_0) j) = _
  rw [blk2, blkG]

/-- and every place of a result lies in the block of the point of its row. -/
def pt (i : S2048x768.Idx) : Fin cfg0.N := ⟨(i 0).val / 256, by have hN : cfg0.N = 8 := N_0; have i0 : (i 0).val < 2048 := (i 0).isLt; omega⟩

theorem arr4 : (dats m 0 c).arrAt 4 cfg0.N = res0 m c := by
  refine Pipeline.Dat.arrAt_eq_of_cover (dats m 0 c) 4 _ (flushed4' m c) fun i => ⟨pt i, flush0_4 _, ?_⟩
  show i ∈ ((View.whole main_v0_0).slice (win0_4.rect (pt i))).set
  rw [View.set_slice_whole, Rect.mem_set_unit]
  intro a
  match a with
  | ⟨0, _⟩ => exact (in_band (s := ![2048, 768]) (t := 256) (idx (pt i)).2.2.2.2.1.1 (idx (pt i)).2.2.2.2.1.2 (by decide)).1
  | ⟨1, _⟩ => exact (in_band (s := ![2048, 768]) (t := 256) (idx (pt i)).2.2.2.2.1.1 (idx (pt i)).2.2.2.2.1.2 (by decide)).2

theorem arr5 : (dats m 0 c).arrAt 5 cfg0.N = res1 m c := by
  refine Pipeline.Dat.arrAt_eq_of_cover (dats m 0 c) 5 _ (flushed5' m c) fun i => ⟨pt i, flush0_5 _, ?_⟩
  show i ∈ ((View.whole main_v0_1).slice (win0_5.rect (pt i))).set
  rw [View.set_slice_whole, Rect.mem_set_unit]
  intro a
  match a with
  | ⟨0, _⟩ => exact (in_band (s := ![2048, 768]) (t := 256) (idx (pt i)).2.2.2.2.2.1.1 (idx (pt i)).2.2.2.2.2.1.2 (by decide)).1
  | ⟨1, _⟩ => exact (in_band (s := ![2048, 768]) (t := 256) (idx (pt i)).2.2.2.2.2.1.1 (idx (pt i)).2.2.2.2.2.1.2 (by decide)).2

theorem arr6 : (dats m 0 c).arrAt 6 cfg0.N = res2 m c := by
  refine Pipeline.Dat.arrAt_eq_of_cover (dats m 0 c) 6 _ (flushed6' m c) fun i => ⟨pt i, flush0_6 _, ?_⟩
  show i ∈ ((View.whole main_v0_2).slice (win0_6.rect (pt i))).set
  rw [View.set_slice_whole, Rect.mem_set_unit]
  intro a
  match a with
  | ⟨0, _⟩ => exact (in_band (s := ![2048, 768]) (t := 256) (idx (pt i)).2.2.2.2.2.2.1.1 (idx (pt i)).2.2.2.2.2.2.1.2 (by decide)).1
  | ⟨1, _⟩ => exact (in_band (s := ![2048, 768]) (t := 256) (idx (pt i)).2.2.2.2.2.2.1.1 (idx (pt i)).2.2.2.2.2.2.1.2 (by decide)).2

theorem arr7 : (dats m 0 c).arrAt 7 cfg0.N = res3 m c := by
  refine Pipeline.Dat.arrAt_eq_of_cover (dats m 0 c) 7 _ (flushed7' m c) fun i => ⟨pt i, flush0_7 _, ?_⟩
  show i ∈ ((View.whole main_v0_3).slice (win0_7.rect (pt i))).set
  rw [View.set_slice_whole, Rect.mem_set_unit]
  intro a
  match a with
  | ⟨0, _⟩ => exact (in_band (s := ![2048, 768]) (t := 256) (idx (pt i)).2.2.2.2.2.2.2.1 (idx (pt i)).2.2.2.2.2.2.2.2 (by decide)).1
  | ⟨1, _⟩ => exact (in_band (s := ![2048, 768]) (t := 256) (idx (pt i)).2.2.2.2.2.2.2.1 (idx (pt i)).2.2.2.2.2.2.2.2 (by decide)).2

/-- The reference's gradient, step and moments. -/
theorem refG (x3 : Vec Ideal S1x2048x768 .f32) (i : S2048x768.Idx) : Cert.AdamAdaRefIdeal.Read.val_main_v0 (F := Ideal) x3 i = grad x3 (i 0).val (i 1).val :=
  ((Cert.AdamAdaRefIdeal.Read.val_main_v0_apply x3 i).trans (nat3_eq (z := ![1, 2048, 768]) x3 _ rfl (row_of (i 0).isLt (i 1).isLt) (col_of (i 1).isLt)))

variable (x0 x1 x2 : Vec Ideal S2048x768 .f32) (x3 : Vec Ideal S1x2048x768 .f32) (i : S2048x768.Idx)

theorem at2 (x : Vec Ideal S2048x768 .f32) : x i = nat2 (z := ![2048, 768]) x (i 0).val (i 1).val := nat2_eq (z := ![2048, 768]) x i rfl rfl

theorem ref1 : Cert.AdamAdaRefIdeal.Read.val_main_v24 (F := Ideal) x0 x1 x2 x3 i = step (nat2 (z := ![2048, 768]) x0 (i 0).val (i 1).val) (nat2 (z := ![2048, 768]) x1 (i 0).val (i 1).val)
    (nat2 (z := ![2048, 768]) x2 (i 0).val (i 1).val) (grad x3 (i 0).val (i 1).val) := by
  show step (x0 i) (x1 i) (x2 i) (Cert.AdamAdaRefIdeal.Read.val_main_v0 (F := Ideal) x3 i) = _
  rw [refG, at2 i x0, at2 i x1, at2 i x2]

theorem ref2 : Cert.AdamAdaRefIdeal.Read.val_main_v5 (F := Ideal) x1 x3 i = mom (nat2 (z := ![2048, 768]) x1 (i 0).val (i 1).val) (grad x3 (i 0).val (i 1).val) := by
  show mom (x1 i) (Cert.AdamAdaRefIdeal.Read.val_main_v0 (F := Ideal) x3 i) = _
  rw [refG, at2 i x1]

theorem ref3 : Cert.AdamAdaRefIdeal.Read.val_main_v11 (F := Ideal) x2 x3 i = var (nat2 (z := ![2048, 768]) x2 (i 0).val (i 1).val) (grad x3 (i 0).val (i 1).val) := by
  show var (x2 i) (Cert.AdamAdaRefIdeal.Read.val_main_v0 (F := Ideal) x3 i) = _
  rw [refG, at2 i x2]

theorem equal [Cert.AdamAdaIdeal.Facts] [Cert.AdamAdaRefIdeal.Facts] : Cert.algebraic_AdamAdaIdeal_AdamAdaRefIdeal := by
  intro m g m' g' _ hsame
  refine ⟨fun c => res0 m c, fun c => res1 m c, fun c => res2 m c, fun c => res3 m c,
    (θ_run _ _ _).mono (fun r h c => ⟨(h c).1.trans (arr4 m c), (h c).2.1.trans (arr5 m c), (h c).2.2.1.trans (arr6 m c), (h c).2.2.2.1.trans (arr7 m c),
      (h c).2.2.2.2⟩) (run_blocks m g),
    (θ_run _ _ _).mono (fun r h c => ⟨(h c).1.trans (funext fun i => (refG _ i).trans ?_), (h c).2.1.trans (funext fun i => (ref1 _ _ _ _ i).trans ?_),
      (h c).2.2.1.trans (funext fun i => (ref2 _ _ i).trans ?_), (h c).2.2.2.1.trans (funext fun i => (ref3 _ _ i).trans ?_),
      (h c).2.2.2.2⟩) (Cert.AdamAdaRefIdeal.Value.run m' g')⟩
  · rw [(hsame c).2.2.2]
  · rw [(hsame c).1, (hsame c).2.1, (hsame c).2.2.1, (hsame c).2.2.2]
  · rw [(hsame c).2.1, (hsame c).2.2.2]
  · rw [(hsame c).2.2.1, (hsame c).2.2.2]

end Cert.AdamAdaIdeal.Own
-- ==== Proof.AdamFfnIn.lean ====
/- AdamW's update of the gated layer's first weight, and the reference. -/
module

public import proofs.«01_k».proof.Defs
public import proofs.«01_k».proof.Proof.Adam
public import proofs.«01_k».proof.Proof.Gen.AdamFfnInIdeal.Value
public import proofs.«01_k».proof.Proof.Gen.AdamFfnInRefIdeal.Run
public import proofs.«01_k».proof.Proof.Gen.AdamFfnInRefIdeal.Read

@[expose] public section

noncomputable section

namespace Cert.AdamFfnInIdeal.Own

open Cert.AdamFfnInIdeal Cert.AdamFfnInIdeal.Gen Cert.AdamFfnInIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0) := by decide +kernel

/-- The weight and its moments at natural coordinates. -/
abbrev W : ℕ → ℕ → EReal := nat2 (z := ![2048, 704]) (m ((c : Thread nD τ).loc main_arg0))
abbrev M : ℕ → ℕ → EReal := nat2 (z := ![2048, 704]) (m ((c : Thread nD τ).loc main_arg1))
abbrev V : ℕ → ℕ → EReal := nat2 (z := ![2048, 704]) (m ((c : Thread nD τ).loc main_arg2))

/-- The gradient: the sum of its five parts. -/
abbrev grad (x3 x4 : Vec Ideal S1x2048x704 .f32) (x5 : Vec Ideal S3x2048x704 .bf16) (r k : ℕ) : EReal :=
  nat3 (z := ![1, 2048, 704]) x3 0 r k + nat3 (z := ![1, 2048, 704]) x4 0 r k + nat3 (z := ![3, 2048, 704]) x5 0 r k + nat3 (z := ![3, 2048, 704]) x5 1 r k + nat3 (z := ![3, 2048, 704]) x5 2 r k

abbrev G : ℕ → ℕ → EReal := grad (m ((c : Thread nD τ).loc main_arg3)) (m ((c : Thread nD τ).loc main_arg4)) (m ((c : Thread nD τ).loc main_arg5))

theorem blk0 (t : Fin cfg0.N) (j : S256x704.Idx) : View.ld (iblk m c 0 t) r0_4 (ix7_17 j) = W m c (t.val * 256 + (j 0).val) (0 * 704 + (j 1).val) :=
  nat2_ld (z := ![2048, 704]) (m ((c : Thread nD τ).loc main_arg0)) _ (idx t).1.1 (idx t).1.2 rfl rfl

theorem blk1 (t : Fin cfg0.N) (j : S256x704.Idx) : View.ld (iblk m c 1 t) r0_4 (ix7_0 j) = M m c (t.val * 256 + (j 0).val) (0 * 704 + (j 1).val) :=
  nat2_ld (z := ![2048, 704]) (m ((c : Thread nD τ).loc main_arg1)) _ (idx t).2.1.1 (idx t).2.1.2 rfl rfl

theorem blk2 (t : Fin cfg0.N) (j : S256x704.Idx) : View.ld (iblk m c 2 t) r0_4 (ix7_6 j) = V m c (t.val * 256 + (j 0).val) (0 * 704 + (j 1).val) :=
  nat2_ld (z := ![2048, 704]) (m ((c : Thread nD τ).loc main_arg2)) _ (idx t).2.2.1.1 (idx t).2.2.1.2 rfl rfl

/-- What a point leaves of the gradient. -/
theorem blkG (t : Fin cfg0.N) (j : S256x704.Idx) : E6 (F := Ideal) (View.ld (iblk m c 3 t) r0_0) (View.ld (iblk m c 4 t) r0_0) (View.ld (iblk m c 5 t) r0_1) (View.ld (iblk m c 5 t) r0_2) (View.ld (iblk m c 5 t) r0_3) j = G m c (t.val * 256 + (j 0).val) (0 * 704 + (j 1).val) :=
  (congrArg₂ (fun a b : EReal => a + b) (congrArg₂ (fun a b : EReal => a + b) (congrArg₂ (fun a b : EReal => a + b) (congrArg₂ (fun a b : EReal => a + b) (nat3_ld (z := ![1, 2048, 704]) (b := 0) (m ((c : Thread nD τ).loc main_arg3)) _ (idx t).2.2.2.1.1 (idx t).2.2.2.1.2.1 (idx t).2.2.2.1.2.2 rfl rfl rfl)
    (nat3_ld (z := ![1, 2048, 704]) (b := 0) (m ((c : Thread nD τ).loc main_arg4)) _ (idx t).2.2.2.2.1.1 (idx t).2.2.2.2.1.2.1 (idx t).2.2.2.2.1.2.2 rfl rfl rfl))
    (nat3_ld (z := ![3, 2048, 704]) (b := 0) (m ((c : Thread nD τ).loc main_arg5)) _ (idx t).2.2.2.2.2.1.1 (idx t).2.2.2.2.2.1.2.1 (idx t).2.2.2.2.2.1.2.2 rfl rfl rfl))
    (nat3_ld (z := ![3, 2048, 704]) (b := 1) (m ((c : Thread nD τ).loc main_arg5)) _ (idx t).2.2.2.2.2.1.1 (idx t).2.2.2.2.2.1.2.1 (idx t).2.2.2.2.2.1.2.2 rfl rfl rfl))
    (nat3_ld (z := ![3, 2048, 704]) (b := 2) (m ((c : Thread nD τ).loc main_arg5)) _ (idx t).2.2.2.2.2.1.1 (idx t).2.2.2.2.2.1.2.1 (idx t).2.2.2.2.2.1.2.2 rfl rfl rfl))

/-- The four results. -/
abbrev res0 : S2048x704.Idx → EReal := fun i => G m c (i 0).val (i 1).val
abbrev res1 : S2048x704.Idx → EReal := fun i => step (W m c (i 0).val (i 1).val) (M m c (i 0).val (i 1).val) (V m c (i 0).val (i 1).val) (G m c (i 0).val (i 1).val)
abbrev res2 : S2048x704.Idx → EReal := fun i => mom (M m c (i 0).val (i 1).val) (G m c (i 0).val (i 1).val)
abbrev res3 : S2048x704.Idx → EReal := fun i => var (V m c (i 0).val (i 1).val) (G m c (i 0).val (i 1).val)

/-- Each point writes back its block of each, -/
theorem flushed6' (t : Fin cfg0.N) (_ : (cfg0.win 6).flush t = true) :
    (dats m 0 c).flushed 6 t = ((cfg0.win 6).blk t).view.read (Elt Ideal) (res0 m c) := by
  rw [flushed6]
  funext j
  show out0_6 (F := Ideal) (iblk m c 0 t) (iblk m c 1 t) (iblk m c 2 t) (iblk m c 3 t) (iblk m c 4 t) (iblk m c 5 t) j = G m c (win0_6.index t 0 * 256 + 1 * (j 0).val) (win0_6.index t 1 * 704 + 1 * (j 1).val)
  rw [(idx t).2.2.2.2.2.2.1.1, (idx t).2.2.2.2.2.2.1.2, one_mul, one_mul]
  unfold out0_6
  rw [canon6_eq]
  exact blkG m c t j

theorem flushed7' (t : Fin cfg0.N) (_ : (cfg0.win 7).flush t = true) :
    (dats m 0 c).flushed 7 t = ((cfg0.win 7).blk t).view.read (Elt Ideal) (res1 m c) := by
  rw [flushed7]
  funext j
  show out0_7 (F := Ideal) (iblk m c 0 t) (iblk m c 1 t) (iblk m c 2 t) (iblk m c 3 t) (iblk m c 4 t) (iblk m c 5 t) j = step (W m c (win0_7.index t 0 * 256 + 1 * (j 0).val) (win0_7.index t 1 * 704 + 1 * (j 1).val)) (M m c (win0_7.index t 0 * 256 + 1 * (j 0).val) (win0_7.index t 1 * 704 + 1 * (j 1).val)) (V m c (win0_7.index t 0 * 256 + 1 * (j 0).val) (win0_7.index t 1 * 704 + 1 * (j 1).val)) (G m c (win0_7.index t 0 * 256 + 1 * (j 0).val) (win0_7.index t 1 * 704 + 1 * (j 1).val))
  rw [(idx t).2.2.2.2.2.2.2.1.1, (idx t).2.2.2.2.2.2.2.1.2, one_mul, one_mul]
  unfold out0_7
  rw [canon7_eq]
  show step (View.ld (iblk m c 0 t) r0_4 (ix7_17 j)) (View.ld (iblk m c 1 t) r0_4 (ix7_0 j)) (View.ld (iblk m c 2 t) r0_4 (ix7_6 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk0, blk1, blk2, blkG]

theorem flushed8' (t : Fin cfg0.N) (_ : (cfg0.win 8).flush t = true) :
    (dats m 0 c).flushed 8 t = ((cfg0.win 8).blk t).view.read (Elt Ideal) (res2 m c) := by
  rw [flushed8]
  funext j
  show out0_8 (F := Ideal) (iblk m c 0 t) (iblk m c 1 t) (iblk m c 2 t) (iblk m c 3 t) (iblk m c 4 t) (iblk m c 5 t) j = mom (M m c (win0_8.index t 0 * 256 + 1 * (j 0).val) (win0_8.index t 1 * 704 + 1 * (j 1).val)) (G m c (win0_8.index t 0 * 256 + 1 * (j 0).val) (win0_8.index t 1 * 704 + 1 * (j 1).val))
  rw [(idx t).2.2.2.2.2.2.2.2.1.1, (idx t).2.2.2.2.2.2.2.2.1.2, one_mul, one_mul]
  unfold out0_8
  rw [canon8_eq]
  show mom (View.ld (iblk m c 1 t) r0_4 (ix7_0 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk1, blkG]

theorem flushed9' (t : Fin cfg0.N) (_ : (cfg0.win 9).flush t = true) :
    (dats m 0 c).flushed 9 t = ((cfg0.win 9).blk t).view.read (Elt Ideal) (res3 m c) := by
  rw [flushed9]
  funext j
  show out0_9 (F := Ideal) (iblk m c 0 t) (iblk m c 1 t) (iblk m c 2 t) (iblk m c 3 t) (iblk m c 4 t) (iblk m c 5 t) j = var (V m c (win0_9.index t 0 * 256 + 1 * (j 0).val) (win0_9.index t 1 * 704 + 1 * (j 1).val)) (G m c (win0_9.index t 0 * 256 + 1 * (j 0).val) (win0_9.index t 1 * 704 + 1 * (j 1).val))
  rw [(idx t).2.2.2.2.2.2.2.2.2.1, (idx t).2.2.2.2.2.2.2.2.2.2, one_mul, one_mul]
  unfold out0_9
  rw [canon9_eq]
  show var (View.ld (iblk m c 2 t) r0_4 (ix7_6 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk2, blkG]

/-- and every place of a result lies in the block of the point of its row. -/
def pt (i : S2048x704.Idx) : Fin cfg0.N := ⟨(i 0).val / 256, by have hN : cfg0.N = 8 := N_0; have i0 : (i 0).val < 2048 := (i 0).isLt; omega⟩

theorem arr6 : (dats m 0 c).arrAt 6 cfg0.N = res0 m c := by
  refine Pipeline.Dat.arrAt_eq_of_cover (dats m 0 c) 6 _ (flushed6' m c) fun i => ⟨pt i, flush0_6 _, ?_⟩
  show i ∈ ((View.whole main_v0_0).slice (win0_6.rect (pt i))).set
  rw [View.set_slice_whole, Rect.mem_set_unit]
  intro a
  match a with
  | ⟨0, _⟩ => exact (in_band (s := ![2048, 704]) (t := 256) (idx (pt i)).2.2.2.2.2.2.1.1 (idx (pt i)).2.2.2.2.2.2.1.2 (by decide)).1
  | ⟨1, _⟩ => exact (in_band (s := ![2048, 704]) (t := 256) (idx (pt i)).2.2.2.2.2.2.1.1 (idx (pt i)).2.2.2.2.2.2.1.2 (by decide)).2

theorem arr7 : (dats m 0 c).arrAt 7 cfg0.N = res1 m c := by
  refine Pipeline.Dat.arrAt_eq_of_cover (dats m 0 c) 7 _ (flushed7' m c) fun i => ⟨pt i, flush0_7 _, ?_⟩
  show i ∈ ((View.whole main_v0_1).slice (win0_7.rect (pt i))).set
  rw [View.set_slice_whole, Rect.mem_set_unit]
  intro a
  match a with
  | ⟨0, _⟩ => exact (in_band (s := ![2048, 704]) (t := 256) (idx (pt i)).2.2.2.2.2.2.2.1.1 (idx (pt i)).2.2.2.2.2.2.2.1.2 (by decide)).1
  | ⟨1, _⟩ => exact (in_band (s := ![2048, 704]) (t := 256) (idx (pt i)).2.2.2.2.2.2.2.1.1 (idx (pt i)).2.2.2.2.2.2.2.1.2 (by decide)).2

theorem arr8 : (dats m 0 c).arrAt 8 cfg0.N = res2 m c := by
  refine Pipeline.Dat.arrAt_eq_of_cover (dats m 0 c) 8 _ (flushed8' m c) fun i => ⟨pt i, flush0_8 _, ?_⟩
  show i ∈ ((View.whole main_v0_2).slice (win0_8.rect (pt i))).set
  rw [View.set_slice_whole, Rect.mem_set_unit]
  intro a
  match a with
  | ⟨0, _⟩ => exact (in_band (s := ![2048, 704]) (t := 256) (idx (pt i)).2.2.2.2.2.2.2.2.1.1 (idx (pt i)).2.2.2.2.2.2.2.2.1.2 (by decide)).1
  | ⟨1, _⟩ => exact (in_band (s := ![2048, 704]) (t := 256) (idx (pt i)).2.2.2.2.2.2.2.2.1.1 (idx (pt i)).2.2.2.2.2.2.2.2.1.2 (by decide)).2

theorem arr9 : (dats m 0 c).arrAt 9 cfg0.N = res3 m c := by
  refine Pipeline.Dat.arrAt_eq_of_cover (dats m 0 c) 9 _ (flushed9' m c) fun i => ⟨pt i, flush0_9 _, ?_⟩
  show i ∈ ((View.whole main_v0_3).slice (win0_9.rect (pt i))).set
  rw [View.set_slice_whole, Rect.mem_set_unit]
  intro a
  match a with
  | ⟨0, _⟩ => exact (in_band (s := ![2048, 704]) (t := 256) (idx (pt i)).2.2.2.2.2.2.2.2.2.1 (idx (pt i)).2.2.2.2.2.2.2.2.2.2 (by decide)).1
  | ⟨1, _⟩ => exact (in_band (s := ![2048, 704]) (t := 256) (idx (pt i)).2.2.2.2.2.2.2.2.2.1 (idx (pt i)).2.2.2.2.2.2.2.2.2.2 (by decide)).2

/-- The reference's gradient, step and moments. -/
theorem refG (x3 x4 : Vec Ideal S1x2048x704 .f32) (x5 : Vec Ideal S3x2048x704 .bf16) (i : S2048x704.Idx) : Cert.AdamFfnInRefIdeal.Read.val_main_v14 (F := Ideal) x3 x4 x5 i = grad x3 x4 x5 (i 0).val (i 1).val :=
  (congrArg₂ (fun a b : EReal => a + b) (congrArg₂ (fun a b : EReal => a + b) (congrArg₂ (fun a b : EReal => a + b) (congrArg₂ (fun a b : EReal => a + b) ((Cert.AdamFfnInRefIdeal.Read.val_main_v0_apply x3 i).trans (nat3_eq (z := ![1, 2048, 704]) x3 _ rfl (row_of (i 0).isLt (i 1).isLt) (col_of (i 1).isLt)))
    ((Cert.AdamFfnInRefIdeal.Read.val_main_v1_apply x4 i).trans (nat3_eq (z := ![1, 2048, 704]) x4 _ rfl (row_of (i 0).isLt (i 1).isLt) (col_of (i 1).isLt))))
    ((Cert.AdamFfnInRefIdeal.Read.val_main_v3_apply x5 i).trans ((Cert.AdamFfnInRefIdeal.Read.val_main_v2_apply x5 _).trans (nat3_eq (z := ![3, 2048, 704]) x5 _ rfl (row_of (i 0).isLt (i 1).isLt) (col_of (i 1).isLt)))))
    ((Cert.AdamFfnInRefIdeal.Read.val_main_v6_apply x5 i).trans ((Cert.AdamFfnInRefIdeal.Read.val_main_v5_apply x5 _).trans (nat3_eq (z := ![3, 2048, 704]) x5 _ rfl (row_of (i 0).isLt (i 1).isLt) (col_of (i 1).isLt)))))
    ((Cert.AdamFfnInRefIdeal.Read.val_main_v9_apply x5 i).trans ((Cert.AdamFfnInRefIdeal.Read.val_main_v8_apply x5 _).trans (nat3_eq (z := ![3, 2048, 704]) x5 _ rfl (row_of (i 0).isLt (i 1).isLt) (col_of (i 1).isLt)))))

variable (x0 x1 x2 : Vec Ideal S2048x704 .f32) (x3 x4 : Vec Ideal S1x2048x704 .f32) (x5 : Vec Ideal S3x2048x704 .bf16) (i : S2048x704.Idx)

theorem at2 (x : Vec Ideal S2048x704 .f32) : x i = nat2 (z := ![2048, 704]) x (i 0).val (i 1).val := nat2_eq (z := ![2048, 704]) x i rfl rfl

theorem ref1 : Cert.AdamFfnInRefIdeal.Read.val_main_v38 (F := Ideal) x0 x1 x2 x3 x4 x5 i = step (nat2 (z := ![2048, 704]) x0 (i 0).val (i 1).val) (nat2 (z := ![2048, 704]) x1 (i 0).val (i 1).val)
    (nat2 (z := ![2048, 704]) x2 (i 0).val (i 1).val) (grad x3 x4 x5 (i 0).val (i 1).val) := by
  show step (x0 i) (x1 i) (x2 i) (Cert.AdamFfnInRefIdeal.Read.val_main_v14 (F := Ideal) x3 x4 x5 i) = _
  rw [refG, at2 i x0, at2 i x1, at2 i x2]

theorem ref2 : Cert.AdamFfnInRefIdeal.Read.val_main_v19 (F := Ideal) x1 x3 x4 x5 i = mom (nat2 (z := ![2048, 704]) x1 (i 0).val (i 1).val) (grad x3 x4 x5 (i 0).val (i 1).val) := by
  show mom (x1 i) (Cert.AdamFfnInRefIdeal.Read.val_main_v14 (F := Ideal) x3 x4 x5 i) = _
  rw [refG, at2 i x1]

theorem ref3 : Cert.AdamFfnInRefIdeal.Read.val_main_v25 (F := Ideal) x2 x3 x4 x5 i = var (nat2 (z := ![2048, 704]) x2 (i 0).val (i 1).val) (grad x3 x4 x5 (i 0).val (i 1).val) := by
  show var (x2 i) (Cert.AdamFfnInRefIdeal.Read.val_main_v14 (F := Ideal) x3 x4 x5 i) = _
  rw [refG, at2 i x2]

theorem equal [Cert.AdamFfnInIdeal.Facts] [Cert.AdamFfnInRefIdeal.Facts] : Cert.algebraic_AdamFfnInIdeal_AdamFfnInRefIdeal := by
  intro m g m' g' _ hsame
  refine ⟨fun c => res0 m c, fun c => res1 m c, fun c => res2 m c, fun c => res3 m c,
    (θ_run _ _ _).mono (fun r h c => ⟨(h c).1.trans (arr6 m c), (h c).2.1.trans (arr7 m c), (h c).2.2.1.trans (arr8 m c), (h c).2.2.2.1.trans (arr9 m c),
      (h c).2.2.2.2⟩) (run_blocks m g),
    (θ_run _ _ _).mono (fun r h c => ⟨(h c).1.trans (funext fun i => (refG _ _ _ i).trans ?_), (h c).2.1.trans (funext fun i => (ref1 _ _ _ _ _ _ i).trans ?_),
      (h c).2.2.1.trans (funext fun i => (ref2 _ _ _ _ i).trans ?_), (h c).2.2.2.1.trans (funext fun i => (ref3 _ _ _ _ i).trans ?_),
      (h c).2.2.2.2⟩) (Cert.AdamFfnInRefIdeal.Value.run m' g')⟩
  · rw [(hsame c).2.2.2.1, (hsame c).2.2.2.2.1, (hsame c).2.2.2.2.2]
  · rw [(hsame c).1, (hsame c).2.1, (hsame c).2.2.1, (hsame c).2.2.2.1, (hsame c).2.2.2.2.1, (hsame c).2.2.2.2.2]
  · rw [(hsame c).2.1, (hsame c).2.2.2.1, (hsame c).2.2.2.2.1, (hsame c).2.2.2.2.2]
  · rw [(hsame c).2.2.1, (hsame c).2.2.2.1, (hsame c).2.2.2.2.1, (hsame c).2.2.2.2.2]

end Cert.AdamFfnInIdeal.Own
-- ==== Proof.AdamFfnOut.lean ====
/- AdamW's update of the gated layer's second weight, and the reference. -/
module

public import proofs.«01_k».proof.Defs
public import proofs.«01_k».proof.Proof.Adam
public import proofs.«01_k».proof.Proof.Gen.AdamFfnOutIdeal.Value
public import proofs.«01_k».proof.Proof.Gen.AdamFfnOutRefIdeal.Run
public import proofs.«01_k».proof.Proof.Gen.AdamFfnOutRefIdeal.Read

@[expose] public section

noncomputable section

namespace Cert.AdamFfnOutIdeal.Own

open Cert.AdamFfnOutIdeal Cert.AdamFfnOutIdeal.Gen Cert.AdamFfnOutIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0) := by decide +kernel

/-- The weight and its moments at natural coordinates. -/
abbrev W : ℕ → ℕ → EReal := nat2 (z := ![704, 1024]) (m ((c : Thread nD τ).loc main_arg0))
abbrev M : ℕ → ℕ → EReal := nat2 (z := ![704, 1024]) (m ((c : Thread nD τ).loc main_arg1))
abbrev V : ℕ → ℕ → EReal := nat2 (z := ![704, 1024]) (m ((c : Thread nD τ).loc main_arg2))

/-- The gradient: the sum of its five parts. -/
abbrev grad (x3 x4 : Vec Ideal S1x704x1024 .f32) (x5 : Vec Ideal S3x704x1024 .bf16) (r k : ℕ) : EReal :=
  nat3 (z := ![1, 704, 1024]) x3 0 r k + nat3 (z := ![1, 704, 1024]) x4 0 r k + nat3 (z := ![3, 704, 1024]) x5 0 r k + nat3 (z := ![3, 704, 1024]) x5 1 r k + nat3 (z := ![3, 704, 1024]) x5 2 r k

abbrev G : ℕ → ℕ → EReal := grad (m ((c : Thread nD τ).loc main_arg3)) (m ((c : Thread nD τ).loc main_arg4)) (m ((c : Thread nD τ).loc main_arg5))

theorem blk0 (t : Fin cfg0.N) (j : S64x1024.Idx) : View.ld (iblk m c 0 t) r0_4 (ix7_17 j) = W m c (t.val * 64 + (j 0).val) (0 * 1024 + (j 1).val) :=
  nat2_ld (z := ![704, 1024]) (m ((c : Thread nD τ).loc main_arg0)) _ (idx t).1.1 (idx t).1.2 rfl rfl

theorem blk1 (t : Fin cfg0.N) (j : S64x1024.Idx) : View.ld (iblk m c 1 t) r0_4 (ix7_0 j) = M m c (t.val * 64 + (j 0).val) (0 * 1024 + (j 1).val) :=
  nat2_ld (z := ![704, 1024]) (m ((c : Thread nD τ).loc main_arg1)) _ (idx t).2.1.1 (idx t).2.1.2 rfl rfl

theorem blk2 (t : Fin cfg0.N) (j : S64x1024.Idx) : View.ld (iblk m c 2 t) r0_4 (ix7_6 j) = V m c (t.val * 64 + (j 0).val) (0 * 1024 + (j 1).val) :=
  nat2_ld (z := ![704, 1024]) (m ((c : Thread nD τ).loc main_arg2)) _ (idx t).2.2.1.1 (idx t).2.2.1.2 rfl rfl

/-- What a point leaves of the gradient. -/
theorem blkG (t : Fin cfg0.N) (j : S64x1024.Idx) : E6 (F := Ideal) (View.ld (iblk m c 3 t) r0_0) (View.ld (iblk m c 4 t) r0_0) (View.ld (iblk m c 5 t) r0_1) (View.ld (iblk m c 5 t) r0_2) (View.ld (iblk m c 5 t) r0_3) j = G m c (t.val * 64 + (j 0).val) (0 * 1024 + (j 1).val) :=
  (congrArg₂ (fun a b : EReal => a + b) (congrArg₂ (fun a b : EReal => a + b) (congrArg₂ (fun a b : EReal => a + b) (congrArg₂ (fun a b : EReal => a + b) (nat3_ld (z := ![1, 704, 1024]) (b := 0) (m ((c : Thread nD τ).loc main_arg3)) _ (idx t).2.2.2.1.1 (idx t).2.2.2.1.2.1 (idx t).2.2.2.1.2.2 rfl rfl rfl)
    (nat3_ld (z := ![1, 704, 1024]) (b := 0) (m ((c : Thread nD τ).loc main_arg4)) _ (idx t).2.2.2.2.1.1 (idx t).2.2.2.2.1.2.1 (idx t).2.2.2.2.1.2.2 rfl rfl rfl))
    (nat3_ld (z := ![3, 704, 1024]) (b := 0) (m ((c : Thread nD τ).loc main_arg5)) _ (idx t).2.2.2.2.2.1.1 (idx t).2.2.2.2.2.1.2.1 (idx t).2.2.2.2.2.1.2.2 rfl rfl rfl))
    (nat3_ld (z := ![3, 704, 1024]) (b := 1) (m ((c : Thread nD τ).loc main_arg5)) _ (idx t).2.2.2.2.2.1.1 (idx t).2.2.2.2.2.1.2.1 (idx t).2.2.2.2.2.1.2.2 rfl rfl rfl))
    (nat3_ld (z := ![3, 704, 1024]) (b := 2) (m ((c : Thread nD τ).loc main_arg5)) _ (idx t).2.2.2.2.2.1.1 (idx t).2.2.2.2.2.1.2.1 (idx t).2.2.2.2.2.1.2.2 rfl rfl rfl))

/-- The four results. -/
abbrev res0 : S704x1024.Idx → EReal := fun i => G m c (i 0).val (i 1).val
abbrev res1 : S704x1024.Idx → EReal := fun i => step (W m c (i 0).val (i 1).val) (M m c (i 0).val (i 1).val) (V m c (i 0).val (i 1).val) (G m c (i 0).val (i 1).val)
abbrev res2 : S704x1024.Idx → EReal := fun i => mom (M m c (i 0).val (i 1).val) (G m c (i 0).val (i 1).val)
abbrev res3 : S704x1024.Idx → EReal := fun i => var (V m c (i 0).val (i 1).val) (G m c (i 0).val (i 1).val)

/-- Each point writes back its block of each, -/
theorem flushed6' (t : Fin cfg0.N) (_ : (cfg0.win 6).flush t = true) :
    (dats m 0 c).flushed 6 t = ((cfg0.win 6).blk t).view.read (Elt Ideal) (res0 m c) := by
  rw [flushed6]
  funext j
  show out0_6 (F := Ideal) (iblk m c 0 t) (iblk m c 1 t) (iblk m c 2 t) (iblk m c 3 t) (iblk m c 4 t) (iblk m c 5 t) j = G m c (win0_6.index t 0 * 64 + 1 * (j 0).val) (win0_6.index t 1 * 1024 + 1 * (j 1).val)
  rw [(idx t).2.2.2.2.2.2.1.1, (idx t).2.2.2.2.2.2.1.2, one_mul, one_mul]
  unfold out0_6
  rw [canon6_eq]
  exact blkG m c t j

theorem flushed7' (t : Fin cfg0.N) (_ : (cfg0.win 7).flush t = true) :
    (dats m 0 c).flushed 7 t = ((cfg0.win 7).blk t).view.read (Elt Ideal) (res1 m c) := by
  rw [flushed7]
  funext j
  show out0_7 (F := Ideal) (iblk m c 0 t) (iblk m c 1 t) (iblk m c 2 t) (iblk m c 3 t) (iblk m c 4 t) (iblk m c 5 t) j = step (W m c (win0_7.index t 0 * 64 + 1 * (j 0).val) (win0_7.index t 1 * 1024 + 1 * (j 1).val)) (M m c (win0_7.index t 0 * 64 + 1 * (j 0).val) (win0_7.index t 1 * 1024 + 1 * (j 1).val)) (V m c (win0_7.index t 0 * 64 + 1 * (j 0).val) (win0_7.index t 1 * 1024 + 1 * (j 1).val)) (G m c (win0_7.index t 0 * 64 + 1 * (j 0).val) (win0_7.index t 1 * 1024 + 1 * (j 1).val))
  rw [(idx t).2.2.2.2.2.2.2.1.1, (idx t).2.2.2.2.2.2.2.1.2, one_mul, one_mul]
  unfold out0_7
  rw [canon7_eq]
  show step (View.ld (iblk m c 0 t) r0_4 (ix7_17 j)) (View.ld (iblk m c 1 t) r0_4 (ix7_0 j)) (View.ld (iblk m c 2 t) r0_4 (ix7_6 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk0, blk1, blk2, blkG]

theorem flushed8' (t : Fin cfg0.N) (_ : (cfg0.win 8).flush t = true) :
    (dats m 0 c).flushed 8 t = ((cfg0.win 8).blk t).view.read (Elt Ideal) (res2 m c) := by
  rw [flushed8]
  funext j
  show out0_8 (F := Ideal) (iblk m c 0 t) (iblk m c 1 t) (iblk m c 2 t) (iblk m c 3 t) (iblk m c 4 t) (iblk m c 5 t) j = mom (M m c (win0_8.index t 0 * 64 + 1 * (j 0).val) (win0_8.index t 1 * 1024 + 1 * (j 1).val)) (G m c (win0_8.index t 0 * 64 + 1 * (j 0).val) (win0_8.index t 1 * 1024 + 1 * (j 1).val))
  rw [(idx t).2.2.2.2.2.2.2.2.1.1, (idx t).2.2.2.2.2.2.2.2.1.2, one_mul, one_mul]
  unfold out0_8
  rw [canon8_eq]
  show mom (View.ld (iblk m c 1 t) r0_4 (ix7_0 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk1, blkG]

theorem flushed9' (t : Fin cfg0.N) (_ : (cfg0.win 9).flush t = true) :
    (dats m 0 c).flushed 9 t = ((cfg0.win 9).blk t).view.read (Elt Ideal) (res3 m c) := by
  rw [flushed9]
  funext j
  show out0_9 (F := Ideal) (iblk m c 0 t) (iblk m c 1 t) (iblk m c 2 t) (iblk m c 3 t) (iblk m c 4 t) (iblk m c 5 t) j = var (V m c (win0_9.index t 0 * 64 + 1 * (j 0).val) (win0_9.index t 1 * 1024 + 1 * (j 1).val)) (G m c (win0_9.index t 0 * 64 + 1 * (j 0).val) (win0_9.index t 1 * 1024 + 1 * (j 1).val))
  rw [(idx t).2.2.2.2.2.2.2.2.2.1, (idx t).2.2.2.2.2.2.2.2.2.2, one_mul, one_mul]
  unfold out0_9
  rw [canon9_eq]
  show var (View.ld (iblk m c 2 t) r0_4 (ix7_6 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk2, blkG]

/-- and every place of a result lies in the block of the point of its row. -/
def pt (i : S704x1024.Idx) : Fin cfg0.N := ⟨(i 0).val / 64, by have hN : cfg0.N = 11 := N_0; have i0 : (i 0).val < 704 := (i 0).isLt; omega⟩

theorem arr6 : (dats m 0 c).arrAt 6 cfg0.N = res0 m c := by
  refine Pipeline.Dat.arrAt_eq_of_cover (dats m 0 c) 6 _ (flushed6' m c) fun i => ⟨pt i, flush0_6 _, ?_⟩
  show i ∈ ((View.whole main_v0_0).slice (win0_6.rect (pt i))).set
  rw [View.set_slice_whole, Rect.mem_set_unit]
  intro a
  match a with
  | ⟨0, _⟩ => exact (in_band (s := ![704, 1024]) (t := 64) (idx (pt i)).2.2.2.2.2.2.1.1 (idx (pt i)).2.2.2.2.2.2.1.2 (by decide)).1
  | ⟨1, _⟩ => exact (in_band (s := ![704, 1024]) (t := 64) (idx (pt i)).2.2.2.2.2.2.1.1 (idx (pt i)).2.2.2.2.2.2.1.2 (by decide)).2

theorem arr7 : (dats m 0 c).arrAt 7 cfg0.N = res1 m c := by
  refine Pipeline.Dat.arrAt_eq_of_cover (dats m 0 c) 7 _ (flushed7' m c) fun i => ⟨pt i, flush0_7 _, ?_⟩
  show i ∈ ((View.whole main_v0_1).slice (win0_7.rect (pt i))).set
  rw [View.set_slice_whole, Rect.mem_set_unit]
  intro a
  match a with
  | ⟨0, _⟩ => exact (in_band (s := ![704, 1024]) (t := 64) (idx (pt i)).2.2.2.2.2.2.2.1.1 (idx (pt i)).2.2.2.2.2.2.2.1.2 (by decide)).1
  | ⟨1, _⟩ => exact (in_band (s := ![704, 1024]) (t := 64) (idx (pt i)).2.2.2.2.2.2.2.1.1 (idx (pt i)).2.2.2.2.2.2.2.1.2 (by decide)).2

theorem arr8 : (dats m 0 c).arrAt 8 cfg0.N = res2 m c := by
  refine Pipeline.Dat.arrAt_eq_of_cover (dats m 0 c) 8 _ (flushed8' m c) fun i => ⟨pt i, flush0_8 _, ?_⟩
  show i ∈ ((View.whole main_v0_2).slice (win0_8.rect (pt i))).set
  rw [View.set_slice_whole, Rect.mem_set_unit]
  intro a
  match a with
  | ⟨0, _⟩ => exact (in_band (s := ![704, 1024]) (t := 64) (idx (pt i)).2.2.2.2.2.2.2.2.1.1 (idx (pt i)).2.2.2.2.2.2.2.2.1.2 (by decide)).1
  | ⟨1, _⟩ => exact (in_band (s := ![704, 1024]) (t := 64) (idx (pt i)).2.2.2.2.2.2.2.2.1.1 (idx (pt i)).2.2.2.2.2.2.2.2.1.2 (by decide)).2

theorem arr9 : (dats m 0 c).arrAt 9 cfg0.N = res3 m c := by
  refine Pipeline.Dat.arrAt_eq_of_cover (dats m 0 c) 9 _ (flushed9' m c) fun i => ⟨pt i, flush0_9 _, ?_⟩
  show i ∈ ((View.whole main_v0_3).slice (win0_9.rect (pt i))).set
  rw [View.set_slice_whole, Rect.mem_set_unit]
  intro a
  match a with
  | ⟨0, _⟩ => exact (in_band (s := ![704, 1024]) (t := 64) (idx (pt i)).2.2.2.2.2.2.2.2.2.1 (idx (pt i)).2.2.2.2.2.2.2.2.2.2 (by decide)).1
  | ⟨1, _⟩ => exact (in_band (s := ![704, 1024]) (t := 64) (idx (pt i)).2.2.2.2.2.2.2.2.2.1 (idx (pt i)).2.2.2.2.2.2.2.2.2.2 (by decide)).2

/-- The reference's gradient, step and moments. -/
theorem refG (x3 x4 : Vec Ideal S1x704x1024 .f32) (x5 : Vec Ideal S3x704x1024 .bf16) (i : S704x1024.Idx) : Cert.AdamFfnOutRefIdeal.Read.val_main_v14 (F := Ideal) x3 x4 x5 i = grad x3 x4 x5 (i 0).val (i 1).val :=
  (congrArg₂ (fun a b : EReal => a + b) (congrArg₂ (fun a b : EReal => a + b) (congrArg₂ (fun a b : EReal => a + b) (congrArg₂ (fun a b : EReal => a + b) ((Cert.AdamFfnOutRefIdeal.Read.val_main_v0_apply x3 i).trans (nat3_eq (z := ![1, 704, 1024]) x3 _ rfl (row_of (i 0).isLt (i 1).isLt) (col_of (i 1).isLt)))
    ((Cert.AdamFfnOutRefIdeal.Read.val_main_v1_apply x4 i).trans (nat3_eq (z := ![1, 704, 1024]) x4 _ rfl (row_of (i 0).isLt (i 1).isLt) (col_of (i 1).isLt))))
    ((Cert.AdamFfnOutRefIdeal.Read.val_main_v3_apply x5 i).trans ((Cert.AdamFfnOutRefIdeal.Read.val_main_v2_apply x5 _).trans (nat3_eq (z := ![3, 704, 1024]) x5 _ rfl (row_of (i 0).isLt (i 1).isLt) (col_of (i 1).isLt)))))
    ((Cert.AdamFfnOutRefIdeal.Read.val_main_v6_apply x5 i).trans ((Cert.AdamFfnOutRefIdeal.Read.val_main_v5_apply x5 _).trans (nat3_eq (z := ![3, 704, 1024]) x5 _ rfl (row_of (i 0).isLt (i 1).isLt) (col_of (i 1).isLt)))))
    ((Cert.AdamFfnOutRefIdeal.Read.val_main_v9_apply x5 i).trans ((Cert.AdamFfnOutRefIdeal.Read.val_main_v8_apply x5 _).trans (nat3_eq (z := ![3, 704, 1024]) x5 _ rfl (row_of (i 0).isLt (i 1).isLt) (col_of (i 1).isLt)))))

variable (x0 x1 x2 : Vec Ideal S704x1024 .f32) (x3 x4 : Vec Ideal S1x704x1024 .f32) (x5 : Vec Ideal S3x704x1024 .bf16) (i : S704x1024.Idx)

theorem at2 (x : Vec Ideal S704x1024 .f32) : x i = nat2 (z := ![704, 1024]) x (i 0).val (i 1).val := nat2_eq (z := ![704, 1024]) x i rfl rfl

theorem ref1 : Cert.AdamFfnOutRefIdeal.Read.val_main_v38 (F := Ideal) x0 x1 x2 x3 x4 x5 i = step (nat2 (z := ![704, 1024]) x0 (i 0).val (i 1).val) (nat2 (z := ![704, 1024]) x1 (i 0).val (i 1).val)
    (nat2 (z := ![704, 1024]) x2 (i 0).val (i 1).val) (grad x3 x4 x5 (i 0).val (i 1).val) := by
  show step (x0 i) (x1 i) (x2 i) (Cert.AdamFfnOutRefIdeal.Read.val_main_v14 (F := Ideal) x3 x4 x5 i) = _
  rw [refG, at2 i x0, at2 i x1, at2 i x2]

theorem ref2 : Cert.AdamFfnOutRefIdeal.Read.val_main_v19 (F := Ideal) x1 x3 x4 x5 i = mom (nat2 (z := ![704, 1024]) x1 (i 0).val (i 1).val) (grad x3 x4 x5 (i 0).val (i 1).val) := by
  show mom (x1 i) (Cert.AdamFfnOutRefIdeal.Read.val_main_v14 (F := Ideal) x3 x4 x5 i) = _
  rw [refG, at2 i x1]

theorem ref3 : Cert.AdamFfnOutRefIdeal.Read.val_main_v25 (F := Ideal) x2 x3 x4 x5 i = var (nat2 (z := ![704, 1024]) x2 (i 0).val (i 1).val) (grad x3 x4 x5 (i 0).val (i 1).val) := by
  show var (x2 i) (Cert.AdamFfnOutRefIdeal.Read.val_main_v14 (F := Ideal) x3 x4 x5 i) = _
  rw [refG, at2 i x2]

theorem equal [Cert.AdamFfnOutIdeal.Facts] [Cert.AdamFfnOutRefIdeal.Facts] : Cert.algebraic_AdamFfnOutIdeal_AdamFfnOutRefIdeal := by
  intro m g m' g' _ hsame
  refine ⟨fun c => res0 m c, fun c => res1 m c, fun c => res2 m c, fun c => res3 m c,
    (θ_run _ _ _).mono (fun r h c => ⟨(h c).1.trans (arr6 m c), (h c).2.1.trans (arr7 m c), (h c).2.2.1.trans (arr8 m c), (h c).2.2.2.1.trans (arr9 m c),
      (h c).2.2.2.2⟩) (run_blocks m g),
    (θ_run _ _ _).mono (fun r h c => ⟨(h c).1.trans (funext fun i => (refG _ _ _ i).trans ?_), (h c).2.1.trans (funext fun i => (ref1 _ _ _ _ _ _ i).trans ?_),
      (h c).2.2.1.trans (funext fun i => (ref2 _ _ _ _ i).trans ?_), (h c).2.2.2.1.trans (funext fun i => (ref3 _ _ _ _ i).trans ?_),
      (h c).2.2.2.2⟩) (Cert.AdamFfnOutRefIdeal.Value.run m' g')⟩
  · rw [(hsame c).2.2.2.1, (hsame c).2.2.2.2.1, (hsame c).2.2.2.2.2]
  · rw [(hsame c).1, (hsame c).2.1, (hsame c).2.2.1, (hsame c).2.2.2.1, (hsame c).2.2.2.2.1, (hsame c).2.2.2.2.2]
  · rw [(hsame c).2.1, (hsame c).2.2.2.1, (hsame c).2.2.2.2.1, (hsame c).2.2.2.2.2]
  · rw [(hsame c).2.2.1, (hsame c).2.2.2.1, (hsame c).2.2.2.2.1, (hsame c).2.2.2.2.2]

end Cert.AdamFfnOutIdeal.Own
-- ==== Proof.AdamQkv.lean ====
/- AdamW's update of the attention's first weight, and the reference. -/
module

public import proofs.«01_k».proof.Defs
public import proofs.«01_k».proof.Proof.Adam
public import proofs.«01_k».proof.Proof.Gen.AdamQkvIdeal.Value
public import proofs.«01_k».proof.Proof.Gen.AdamQkvRefIdeal.Run
public import proofs.«01_k».proof.Proof.Gen.AdamQkvRefIdeal.Read

@[expose] public section

noncomputable section

namespace Cert.AdamQkvIdeal.Own

open Cert.AdamQkvIdeal Cert.AdamQkvIdeal.Gen Cert.AdamQkvIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0) := by decide +kernel

/-- The weight and its moments at natural coordinates. -/
abbrev W : ℕ → ℕ → EReal := nat2 (z := ![1024, 192]) (m ((c : Thread nD τ).loc main_arg0))
abbrev M : ℕ → ℕ → EReal := nat2 (z := ![1024, 192]) (m ((c : Thread nD τ).loc main_arg1))
abbrev V : ℕ → ℕ → EReal := nat2 (z := ![1024, 192]) (m ((c : Thread nD τ).loc main_arg2))

/-- The gradient: the sum of its five parts. -/
abbrev grad (x3 x4 : Vec Ideal S1x1024x192 .f32) (x5 : Vec Ideal S3x1024x192 .bf16) (r k : ℕ) : EReal :=
  nat3 (z := ![1, 1024, 192]) x3 0 r k + nat3 (z := ![1, 1024, 192]) x4 0 r k + nat3 (z := ![3, 1024, 192]) x5 0 r k + nat3 (z := ![3, 1024, 192]) x5 1 r k + nat3 (z := ![3, 1024, 192]) x5 2 r k

abbrev G : ℕ → ℕ → EReal := grad (m ((c : Thread nD τ).loc main_arg3)) (m ((c : Thread nD τ).loc main_arg4)) (m ((c : Thread nD τ).loc main_arg5))

theorem blk0 (t : Fin cfg0.N) (j : S256x192.Idx) : View.ld (iblk m c 0 t) r0_4 (ix7_17 j) = W m c (t.val * 256 + (j 0).val) (0 * 192 + (j 1).val) :=
  nat2_ld (z := ![1024, 192]) (m ((c : Thread nD τ).loc main_arg0)) _ (idx t).1.1 (idx t).1.2 rfl rfl

theorem blk1 (t : Fin cfg0.N) (j : S256x192.Idx) : View.ld (iblk m c 1 t) r0_4 (ix7_0 j) = M m c (t.val * 256 + (j 0).val) (0 * 192 + (j 1).val) :=
  nat2_ld (z := ![1024, 192]) (m ((c : Thread nD τ).loc main_arg1)) _ (idx t).2.1.1 (idx t).2.1.2 rfl rfl

theorem blk2 (t : Fin cfg0.N) (j : S256x192.Idx) : View.ld (iblk m c 2 t) r0_4 (ix7_6 j) = V m c (t.val * 256 + (j 0).val) (0 * 192 + (j 1).val) :=
  nat2_ld (z := ![1024, 192]) (m ((c : Thread nD τ).loc main_arg2)) _ (idx t).2.2.1.1 (idx t).2.2.1.2 rfl rfl

/-- What a point leaves of the gradient. -/
theorem blkG (t : Fin cfg0.N) (j : S256x192.Idx) : E6 (F := Ideal) (View.ld (iblk m c 3 t) r0_0) (View.ld (iblk m c 4 t) r0_0) (View.ld (iblk m c 5 t) r0_1) (View.ld (iblk m c 5 t) r0_2) (View.ld (iblk m c 5 t) r0_3) j = G m c (t.val * 256 + (j 0).val) (0 * 192 + (j 1).val) :=
  (congrArg₂ (fun a b : EReal => a + b) (congrArg₂ (fun a b : EReal => a + b) (congrArg₂ (fun a b : EReal => a + b) (congrArg₂ (fun a b : EReal => a + b) (nat3_ld (z := ![1, 1024, 192]) (b := 0) (m ((c : Thread nD τ).loc main_arg3)) _ (idx t).2.2.2.1.1 (idx t).2.2.2.1.2.1 (idx t).2.2.2.1.2.2 rfl rfl rfl)
    (nat3_ld (z := ![1, 1024, 192]) (b := 0) (m ((c : Thread nD τ).loc main_arg4)) _ (idx t).2.2.2.2.1.1 (idx t).2.2.2.2.1.2.1 (idx t).2.2.2.2.1.2.2 rfl rfl rfl))
    (nat3_ld (z := ![3, 1024, 192]) (b := 0) (m ((c : Thread nD τ).loc main_arg5)) _ (idx t).2.2.2.2.2.1.1 (idx t).2.2.2.2.2.1.2.1 (idx t).2.2.2.2.2.1.2.2 rfl rfl rfl))
    (nat3_ld (z := ![3, 1024, 192]) (b := 1) (m ((c : Thread nD τ).loc main_arg5)) _ (idx t).2.2.2.2.2.1.1 (idx t).2.2.2.2.2.1.2.1 (idx t).2.2.2.2.2.1.2.2 rfl rfl rfl))
    (nat3_ld (z := ![3, 1024, 192]) (b := 2) (m ((c : Thread nD τ).loc main_arg5)) _ (idx t).2.2.2.2.2.1.1 (idx t).2.2.2.2.2.1.2.1 (idx t).2.2.2.2.2.1.2.2 rfl rfl rfl))

/-- The four results. -/
abbrev res0 : S1024x192.Idx → EReal := fun i => G m c (i 0).val (i 1).val
abbrev res1 : S1024x192.Idx → EReal := fun i => step (W m c (i 0).val (i 1).val) (M m c (i 0).val (i 1).val) (V m c (i 0).val (i 1).val) (G m c (i 0).val (i 1).val)
abbrev res2 : S1024x192.Idx → EReal := fun i => mom (M m c (i 0).val (i 1).val) (G m c (i 0).val (i 1).val)
abbrev res3 : S1024x192.Idx → EReal := fun i => var (V m c (i 0).val (i 1).val) (G m c (i 0).val (i 1).val)

/-- Each point writes back its block of each, -/
theorem flushed6' (t : Fin cfg0.N) (_ : (cfg0.win 6).flush t = true) :
    (dats m 0 c).flushed 6 t = ((cfg0.win 6).blk t).view.read (Elt Ideal) (res0 m c) := by
  rw [flushed6]
  funext j
  show out0_6 (F := Ideal) (iblk m c 0 t) (iblk m c 1 t) (iblk m c 2 t) (iblk m c 3 t) (iblk m c 4 t) (iblk m c 5 t) j = G m c (win0_6.index t 0 * 256 + 1 * (j 0).val) (win0_6.index t 1 * 192 + 1 * (j 1).val)
  rw [(idx t).2.2.2.2.2.2.1.1, (idx t).2.2.2.2.2.2.1.2, one_mul, one_mul]
  unfold out0_6
  rw [canon6_eq]
  exact blkG m c t j

theorem flushed7' (t : Fin cfg0.N) (_ : (cfg0.win 7).flush t = true) :
    (dats m 0 c).flushed 7 t = ((cfg0.win 7).blk t).view.read (Elt Ideal) (res1 m c) := by
  rw [flushed7]
  funext j
  show out0_7 (F := Ideal) (iblk m c 0 t) (iblk m c 1 t) (iblk m c 2 t) (iblk m c 3 t) (iblk m c 4 t) (iblk m c 5 t) j = step (W m c (win0_7.index t 0 * 256 + 1 * (j 0).val) (win0_7.index t 1 * 192 + 1 * (j 1).val)) (M m c (win0_7.index t 0 * 256 + 1 * (j 0).val) (win0_7.index t 1 * 192 + 1 * (j 1).val)) (V m c (win0_7.index t 0 * 256 + 1 * (j 0).val) (win0_7.index t 1 * 192 + 1 * (j 1).val)) (G m c (win0_7.index t 0 * 256 + 1 * (j 0).val) (win0_7.index t 1 * 192 + 1 * (j 1).val))
  rw [(idx t).2.2.2.2.2.2.2.1.1, (idx t).2.2.2.2.2.2.2.1.2, one_mul, one_mul]
  unfold out0_7
  rw [canon7_eq]
  show step (View.ld (iblk m c 0 t) r0_4 (ix7_17 j)) (View.ld (iblk m c 1 t) r0_4 (ix7_0 j)) (View.ld (iblk m c 2 t) r0_4 (ix7_6 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk0, blk1, blk2, blkG]

theorem flushed8' (t : Fin cfg0.N) (_ : (cfg0.win 8).flush t = true) :
    (dats m 0 c).flushed 8 t = ((cfg0.win 8).blk t).view.read (Elt Ideal) (res2 m c) := by
  rw [flushed8]
  funext j
  show out0_8 (F := Ideal) (iblk m c 0 t) (iblk m c 1 t) (iblk m c 2 t) (iblk m c 3 t) (iblk m c 4 t) (iblk m c 5 t) j = mom (M m c (win0_8.index t 0 * 256 + 1 * (j 0).val) (win0_8.index t 1 * 192 + 1 * (j 1).val)) (G m c (win0_8.index t 0 * 256 + 1 * (j 0).val) (win0_8.index t 1 * 192 + 1 * (j 1).val))
  rw [(idx t).2.2.2.2.2.2.2.2.1.1, (idx t).2.2.2.2.2.2.2.2.1.2, one_mul, one_mul]
  unfold out0_8
  rw [canon8_eq]
  show mom (View.ld (iblk m c 1 t) r0_4 (ix7_0 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk1, blkG]

theorem flushed9' (t : Fin cfg0.N) (_ : (cfg0.win 9).flush t = true) :
    (dats m 0 c).flushed 9 t = ((cfg0.win 9).blk t).view.read (Elt Ideal) (res3 m c) := by
  rw [flushed9]
  funext j
  show out0_9 (F := Ideal) (iblk m c 0 t) (iblk m c 1 t) (iblk m c 2 t) (iblk m c 3 t) (iblk m c 4 t) (iblk m c 5 t) j = var (V m c (win0_9.index t 0 * 256 + 1 * (j 0).val) (win0_9.index t 1 * 192 + 1 * (j 1).val)) (G m c (win0_9.index t 0 * 256 + 1 * (j 0).val) (win0_9.index t 1 * 192 + 1 * (j 1).val))
  rw [(idx t).2.2.2.2.2.2.2.2.2.1, (idx t).2.2.2.2.2.2.2.2.2.2, one_mul, one_mul]
  unfold out0_9
  rw [canon9_eq]
  show var (View.ld (iblk m c 2 t) r0_4 (ix7_6 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk2, blkG]

/-- and every place of a result lies in the block of the point of its row. -/
def pt (i : S1024x192.Idx) : Fin cfg0.N := ⟨(i 0).val / 256, by have hN : cfg0.N = 4 := N_0; have i0 : (i 0).val < 1024 := (i 0).isLt; omega⟩

theorem arr6 : (dats m 0 c).arrAt 6 cfg0.N = res0 m c := by
  refine Pipeline.Dat.arrAt_eq_of_cover (dats m 0 c) 6 _ (flushed6' m c) fun i => ⟨pt i, flush0_6 _, ?_⟩
  show i ∈ ((View.whole main_v0_0).slice (win0_6.rect (pt i))).set
  rw [View.set_slice_whole, Rect.mem_set_unit]
  intro a
  match a with
  | ⟨0, _⟩ => exact (in_band (s := ![1024, 192]) (t := 256) (idx (pt i)).2.2.2.2.2.2.1.1 (idx (pt i)).2.2.2.2.2.2.1.2 (by decide)).1
  | ⟨1, _⟩ => exact (in_band (s := ![1024, 192]) (t := 256) (idx (pt i)).2.2.2.2.2.2.1.1 (idx (pt i)).2.2.2.2.2.2.1.2 (by decide)).2

theorem arr7 : (dats m 0 c).arrAt 7 cfg0.N = res1 m c := by
  refine Pipeline.Dat.arrAt_eq_of_cover (dats m 0 c) 7 _ (flushed7' m c) fun i => ⟨pt i, flush0_7 _, ?_⟩
  show i ∈ ((View.whole main_v0_1).slice (win0_7.rect (pt i))).set
  rw [View.set_slice_whole, Rect.mem_set_unit]
  intro a
  match a with
  | ⟨0, _⟩ => exact (in_band (s := ![1024, 192]) (t := 256) (idx (pt i)).2.2.2.2.2.2.2.1.1 (idx (pt i)).2.2.2.2.2.2.2.1.2 (by decide)).1
  | ⟨1, _⟩ => exact (in_band (s := ![1024, 192]) (t := 256) (idx (pt i)).2.2.2.2.2.2.2.1.1 (idx (pt i)).2.2.2.2.2.2.2.1.2 (by decide)).2

theorem arr8 : (dats m 0 c).arrAt 8 cfg0.N = res2 m c := by
  refine Pipeline.Dat.arrAt_eq_of_cover (dats m 0 c) 8 _ (flushed8' m c) fun i => ⟨pt i, flush0_8 _, ?_⟩
  show i ∈ ((View.whole main_v0_2).slice (win0_8.rect (pt i))).set
  rw [View.set_slice_whole, Rect.mem_set_unit]
  intro a
  match a with
  | ⟨0, _⟩ => exact (in_band (s := ![1024, 192]) (t := 256) (idx (pt i)).2.2.2.2.2.2.2.2.1.1 (idx (pt i)).2.2.2.2.2.2.2.2.1.2 (by decide)).1
  | ⟨1, _⟩ => exact (in_band (s := ![1024, 192]) (t := 256) (idx (pt i)).2.2.2.2.2.2.2.2.1.1 (idx (pt i)).2.2.2.2.2.2.2.2.1.2 (by decide)).2

theorem arr9 : (dats m 0 c).arrAt 9 cfg0.N = res3 m c := by
  refine Pipeline.Dat.arrAt_eq_of_cover (dats m 0 c) 9 _ (flushed9' m c) fun i => ⟨pt i, flush0_9 _, ?_⟩
  show i ∈ ((View.whole main_v0_3).slice (win0_9.rect (pt i))).set
  rw [View.set_slice_whole, Rect.mem_set_unit]
  intro a
  match a with
  | ⟨0, _⟩ => exact (in_band (s := ![1024, 192]) (t := 256) (idx (pt i)).2.2.2.2.2.2.2.2.2.1 (idx (pt i)).2.2.2.2.2.2.2.2.2.2 (by decide)).1
  | ⟨1, _⟩ => exact (in_band (s := ![1024, 192]) (t := 256) (idx (pt i)).2.2.2.2.2.2.2.2.2.1 (idx (pt i)).2.2.2.2.2.2.2.2.2.2 (by decide)).2

/-- The reference's gradient, step and moments. -/
theorem refG (x3 x4 : Vec Ideal S1x1024x192 .f32) (x5 : Vec Ideal S3x1024x192 .bf16) (i : S1024x192.Idx) : Cert.AdamQkvRefIdeal.Read.val_main_v14 (F := Ideal) x3 x4 x5 i = grad x3 x4 x5 (i 0).val (i 1).val :=
  (congrArg₂ (fun a b : EReal => a + b) (congrArg₂ (fun a b : EReal => a + b) (congrArg₂ (fun a b : EReal => a + b) (congrArg₂ (fun a b : EReal => a + b) ((Cert.AdamQkvRefIdeal.Read.val_main_v0_apply x3 i).trans (nat3_eq (z := ![1, 1024, 192]) x3 _ rfl (row_of (i 0).isLt (i 1).isLt) (col_of (i 1).isLt)))
    ((Cert.AdamQkvRefIdeal.Read.val_main_v1_apply x4 i).trans (nat3_eq (z := ![1, 1024, 192]) x4 _ rfl (row_of (i 0).isLt (i 1).isLt) (col_of (i 1).isLt))))
    ((Cert.AdamQkvRefIdeal.Read.val_main_v3_apply x5 i).trans ((Cert.AdamQkvRefIdeal.Read.val_main_v2_apply x5 _).trans (nat3_eq (z := ![3, 1024, 192]) x5 _ rfl (row_of (i 0).isLt (i 1).isLt) (col_of (i 1).isLt)))))
    ((Cert.AdamQkvRefIdeal.Read.val_main_v6_apply x5 i).trans ((Cert.AdamQkvRefIdeal.Read.val_main_v5_apply x5 _).trans (nat3_eq (z := ![3, 1024, 192]) x5 _ rfl (row_of (i 0).isLt (i 1).isLt) (col_of (i 1).isLt)))))
    ((Cert.AdamQkvRefIdeal.Read.val_main_v9_apply x5 i).trans ((Cert.AdamQkvRefIdeal.Read.val_main_v8_apply x5 _).trans (nat3_eq (z := ![3, 1024, 192]) x5 _ rfl (row_of (i 0).isLt (i 1).isLt) (col_of (i 1).isLt)))))

variable (x0 x1 x2 : Vec Ideal S1024x192 .f32) (x3 x4 : Vec Ideal S1x1024x192 .f32) (x5 : Vec Ideal S3x1024x192 .bf16) (i : S1024x192.Idx)

theorem at2 (x : Vec Ideal S1024x192 .f32) : x i = nat2 (z := ![1024, 192]) x (i 0).val (i 1).val := nat2_eq (z := ![1024, 192]) x i rfl rfl

theorem ref1 : Cert.AdamQkvRefIdeal.Read.val_main_v38 (F := Ideal) x0 x1 x2 x3 x4 x5 i = step (nat2 (z := ![1024, 192]) x0 (i 0).val (i 1).val) (nat2 (z := ![1024, 192]) x1 (i 0).val (i 1).val)
    (nat2 (z := ![1024, 192]) x2 (i 0).val (i 1).val) (grad x3 x4 x5 (i 0).val (i 1).val) := by
  show step (x0 i) (x1 i) (x2 i) (Cert.AdamQkvRefIdeal.Read.val_main_v14 (F := Ideal) x3 x4 x5 i) = _
  rw [refG, at2 i x0, at2 i x1, at2 i x2]

theorem ref2 : Cert.AdamQkvRefIdeal.Read.val_main_v19 (F := Ideal) x1 x3 x4 x5 i = mom (nat2 (z := ![1024, 192]) x1 (i 0).val (i 1).val) (grad x3 x4 x5 (i 0).val (i 1).val) := by
  show mom (x1 i) (Cert.AdamQkvRefIdeal.Read.val_main_v14 (F := Ideal) x3 x4 x5 i) = _
  rw [refG, at2 i x1]

theorem ref3 : Cert.AdamQkvRefIdeal.Read.val_main_v25 (F := Ideal) x2 x3 x4 x5 i = var (nat2 (z := ![1024, 192]) x2 (i 0).val (i 1).val) (grad x3 x4 x5 (i 0).val (i 1).val) := by
  show var (x2 i) (Cert.AdamQkvRefIdeal.Read.val_main_v14 (F := Ideal) x3 x4 x5 i) = _
  rw [refG, at2 i x2]

theorem equal [Cert.AdamQkvIdeal.Facts] [Cert.AdamQkvRefIdeal.Facts] : Cert.algebraic_AdamQkvIdeal_AdamQkvRefIdeal := by
  intro m g m' g' _ hsame
  refine ⟨fun c => res0 m c, fun c => res1 m c, fun c => res2 m c, fun c => res3 m c,
    (θ_run _ _ _).mono (fun r h c => ⟨(h c).1.trans (arr6 m c), (h c).2.1.trans (arr7 m c), (h c).2.2.1.trans (arr8 m c), (h c).2.2.2.1.trans (arr9 m c),
      (h c).2.2.2.2⟩) (run_blocks m g),
    (θ_run _ _ _).mono (fun r h c => ⟨(h c).1.trans (funext fun i => (refG _ _ _ i).trans ?_), (h c).2.1.trans (funext fun i => (ref1 _ _ _ _ _ _ i).trans ?_),
      (h c).2.2.1.trans (funext fun i => (ref2 _ _ _ _ i).trans ?_), (h c).2.2.2.1.trans (funext fun i => (ref3 _ _ _ _ i).trans ?_),
      (h c).2.2.2.2⟩) (Cert.AdamQkvRefIdeal.Value.run m' g')⟩
  · rw [(hsame c).2.2.2.1, (hsame c).2.2.2.2.1, (hsame c).2.2.2.2.2]
  · rw [(hsame c).1, (hsame c).2.1, (hsame c).2.2.1, (hsame c).2.2.2.1, (hsame c).2.2.2.2.1, (hsame c).2.2.2.2.2]
  · rw [(hsame c).2.1, (hsame c).2.2.2.1, (hsame c).2.2.2.2.1, (hsame c).2.2.2.2.2]
  · rw [(hsame c).2.2.1, (hsame c).2.2.2.1, (hsame c).2.2.2.2.1, (hsame c).2.2.2.2.2]

end Cert.AdamQkvIdeal.Own
-- ==== Proof.AdamAttnO.lean ====
/- AdamW's update of the attention's last weight, and the reference. -/
module

public import proofs.«01_k».proof.Defs
public import proofs.«01_k».proof.Proof.Adam
public import proofs.«01_k».proof.Proof.Gen.AdamAttnOIdeal.Value
public import proofs.«01_k».proof.Proof.Gen.AdamAttnORefIdeal.Run
public import proofs.«01_k».proof.Proof.Gen.AdamAttnORefIdeal.Read

@[expose] public section

noncomputable section

namespace Cert.AdamAttnOIdeal.Own

open Cert.AdamAttnOIdeal Cert.AdamAttnOIdeal.Gen Cert.AdamAttnOIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0) := by decide +kernel

/-- The weight and its moments at natural coordinates. -/
abbrev W : ℕ → ℕ → EReal := nat2 (z := ![128, 1024]) (m ((c : Thread nD τ).loc main_arg0))
abbrev M : ℕ → ℕ → EReal := nat2 (z := ![128, 1024]) (m ((c : Thread nD τ).loc main_arg1))
abbrev V : ℕ → ℕ → EReal := nat2 (z := ![128, 1024]) (m ((c : Thread nD τ).loc main_arg2))

/-- The gradient: the sum of its five parts. -/
abbrev grad (x3 x4 : Vec Ideal S1x128x1024 .f32) (x5 : Vec Ideal S3x128x1024 .bf16) (r k : ℕ) : EReal :=
  nat3 (z := ![1, 128, 1024]) x3 0 r k + nat3 (z := ![1, 128, 1024]) x4 0 r k + nat3 (z := ![3, 128, 1024]) x5 0 r k + nat3 (z := ![3, 128, 1024]) x5 1 r k + nat3 (z := ![3, 128, 1024]) x5 2 r k

abbrev G : ℕ → ℕ → EReal := grad (m ((c : Thread nD τ).loc main_arg3)) (m ((c : Thread nD τ).loc main_arg4)) (m ((c : Thread nD τ).loc main_arg5))

theorem blk0 (t : Fin cfg0.N) (j : S128x1024.Idx) : View.ld (iblk m c 0 t) r0_4 (ix7_17 j) = W m c (t.val * 128 + (j 0).val) (0 * 1024 + (j 1).val) :=
  nat2_ld (z := ![128, 1024]) (m ((c : Thread nD τ).loc main_arg0)) _ (idx t).1.1 (idx t).1.2 rfl rfl

theorem blk1 (t : Fin cfg0.N) (j : S128x1024.Idx) : View.ld (iblk m c 1 t) r0_4 (ix7_0 j) = M m c (t.val * 128 + (j 0).val) (0 * 1024 + (j 1).val) :=
  nat2_ld (z := ![128, 1024]) (m ((c : Thread nD τ).loc main_arg1)) _ (idx t).2.1.1 (idx t).2.1.2 rfl rfl

theorem blk2 (t : Fin cfg0.N) (j : S128x1024.Idx) : View.ld (iblk m c 2 t) r0_4 (ix7_6 j) = V m c (t.val * 128 + (j 0).val) (0 * 1024 + (j 1).val) :=
  nat2_ld (z := ![128, 1024]) (m ((c : Thread nD τ).loc main_arg2)) _ (idx t).2.2.1.1 (idx t).2.2.1.2 rfl rfl

/-- What a point leaves of the gradient. -/
theorem blkG (t : Fin cfg0.N) (j : S128x1024.Idx) : E6 (F := Ideal) (View.ld (iblk m c 3 t) r0_0) (View.ld (iblk m c 4 t) r0_0) (View.ld (iblk m c 5 t) r0_1) (View.ld (iblk m c 5 t) r0_2) (View.ld (iblk m c 5 t) r0_3) j = G m c (t.val * 128 + (j 0).val) (0 * 1024 + (j 1).val) :=
  (congrArg₂ (fun a b : EReal => a + b) (congrArg₂ (fun a b : EReal => a + b) (congrArg₂ (fun a b : EReal => a + b) (congrArg₂ (fun a b : EReal => a + b) (nat3_ld (z := ![1, 128, 1024]) (b := 0) (m ((c : Thread nD τ).loc main_arg3)) _ (idx t).2.2.2.1.1 (idx t).2.2.2.1.2.1 (idx t).2.2.2.1.2.2 rfl rfl rfl)
    (nat3_ld (z := ![1, 128, 1024]) (b := 0) (m ((c : Thread nD τ).loc main_arg4)) _ (idx t).2.2.2.2.1.1 (idx t).2.2.2.2.1.2.1 (idx t).2.2.2.2.1.2.2 rfl rfl rfl))
    (nat3_ld (z := ![3, 128, 1024]) (b := 0) (m ((c : Thread nD τ).loc main_arg5)) _ (idx t).2.2.2.2.2.1.1 (idx t).2.2.2.2.2.1.2.1 (idx t).2.2.2.2.2.1.2.2 rfl rfl rfl))
    (nat3_ld (z := ![3, 128, 1024]) (b := 1) (m ((c : Thread nD τ).loc main_arg5)) _ (idx t).2.2.2.2.2.1.1 (idx t).2.2.2.2.2.1.2.1 (idx t).2.2.2.2.2.1.2.2 rfl rfl rfl))
    (nat3_ld (z := ![3, 128, 1024]) (b := 2) (m ((c : Thread nD τ).loc main_arg5)) _ (idx t).2.2.2.2.2.1.1 (idx t).2.2.2.2.2.1.2.1 (idx t).2.2.2.2.2.1.2.2 rfl rfl rfl))

/-- The four results. -/
abbrev res0 : S128x1024.Idx → EReal := fun i => G m c (i 0).val (i 1).val
abbrev res1 : S128x1024.Idx → EReal := fun i => step (W m c (i 0).val (i 1).val) (M m c (i 0).val (i 1).val) (V m c (i 0).val (i 1).val) (G m c (i 0).val (i 1).val)
abbrev res2 : S128x1024.Idx → EReal := fun i => mom (M m c (i 0).val (i 1).val) (G m c (i 0).val (i 1).val)
abbrev res3 : S128x1024.Idx → EReal := fun i => var (V m c (i 0).val (i 1).val) (G m c (i 0).val (i 1).val)

/-- Each point writes back its block of each, -/
theorem flushed6' (t : Fin cfg0.N) (_ : (cfg0.win 6).flush t = true) :
    (dats m 0 c).flushed 6 t = ((cfg0.win 6).blk t).view.read (Elt Ideal) (res0 m c) := by
  rw [flushed6]
  funext j
  show out0_6 (F := Ideal) (iblk m c 0 t) (iblk m c 1 t) (iblk m c 2 t) (iblk m c 3 t) (iblk m c 4 t) (iblk m c 5 t) j = G m c (win0_6.index t 0 * 128 + 1 * (j 0).val) (win0_6.index t 1 * 1024 + 1 * (j 1).val)
  rw [(idx t).2.2.2.2.2.2.1.1, (idx t).2.2.2.2.2.2.1.2, one_mul, one_mul]
  unfold out0_6
  rw [canon6_eq]
  exact blkG m c t j

theorem flushed7' (t : Fin cfg0.N) (_ : (cfg0.win 7).flush t = true) :
    (dats m 0 c).flushed 7 t = ((cfg0.win 7).blk t).view.read (Elt Ideal) (res1 m c) := by
  rw [flushed7]
  funext j
  show out0_7 (F := Ideal) (iblk m c 0 t) (iblk m c 1 t) (iblk m c 2 t) (iblk m c 3 t) (iblk m c 4 t) (iblk m c 5 t) j = step (W m c (win0_7.index t 0 * 128 + 1 * (j 0).val) (win0_7.index t 1 * 1024 + 1 * (j 1).val)) (M m c (win0_7.index t 0 * 128 + 1 * (j 0).val) (win0_7.index t 1 * 1024 + 1 * (j 1).val)) (V m c (win0_7.index t 0 * 128 + 1 * (j 0).val) (win0_7.index t 1 * 1024 + 1 * (j 1).val)) (G m c (win0_7.index t 0 * 128 + 1 * (j 0).val) (win0_7.index t 1 * 1024 + 1 * (j 1).val))
  rw [(idx t).2.2.2.2.2.2.2.1.1, (idx t).2.2.2.2.2.2.2.1.2, one_mul, one_mul]
  unfold out0_7
  rw [canon7_eq]
  show step (View.ld (iblk m c 0 t) r0_4 (ix7_17 j)) (View.ld (iblk m c 1 t) r0_4 (ix7_0 j)) (View.ld (iblk m c 2 t) r0_4 (ix7_6 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk0, blk1, blk2, blkG]

theorem flushed8' (t : Fin cfg0.N) (_ : (cfg0.win 8).flush t = true) :
    (dats m 0 c).flushed 8 t = ((cfg0.win 8).blk t).view.read (Elt Ideal) (res2 m c) := by
  rw [flushed8]
  funext j
  show out0_8 (F := Ideal) (iblk m c 0 t) (iblk m c 1 t) (iblk m c 2 t) (iblk m c 3 t) (iblk m c 4 t) (iblk m c 5 t) j = mom (M m c (win0_8.index t 0 * 128 + 1 * (j 0).val) (win0_8.index t 1 * 1024 + 1 * (j 1).val)) (G m c (win0_8.index t 0 * 128 + 1 * (j 0).val) (win0_8.index t 1 * 1024 + 1 * (j 1).val))
  rw [(idx t).2.2.2.2.2.2.2.2.1.1, (idx t).2.2.2.2.2.2.2.2.1.2, one_mul, one_mul]
  unfold out0_8
  rw [canon8_eq]
  show mom (View.ld (iblk m c 1 t) r0_4 (ix7_0 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk1, blkG]

theorem flushed9' (t : Fin cfg0.N) (_ : (cfg0.win 9).flush t = true) :
    (dats m 0 c).flushed 9 t = ((cfg0.win 9).blk t).view.read (Elt Ideal) (res3 m c) := by
  rw [flushed9]
  funext j
  show out0_9 (F := Ideal) (iblk m c 0 t) (iblk m c 1 t) (iblk m c 2 t) (iblk m c 3 t) (iblk m c 4 t) (iblk m c 5 t) j = var (V m c (win0_9.index t 0 * 128 + 1 * (j 0).val) (win0_9.index t 1 * 1024 + 1 * (j 1).val)) (G m c (win0_9.index t 0 * 128 + 1 * (j 0).val) (win0_9.index t 1 * 1024 + 1 * (j 1).val))
  rw [(idx t).2.2.2.2.2.2.2.2.2.1, (idx t).2.2.2.2.2.2.2.2.2.2, one_mul, one_mul]
  unfold out0_9
  rw [canon9_eq]
  show var (View.ld (iblk m c 2 t) r0_4 (ix7_6 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk2, blkG]

/-- and every place of a result lies in the block of the point of its row. -/
def pt (i : S128x1024.Idx) : Fin cfg0.N := ⟨(i 0).val / 128, by have hN : cfg0.N = 1 := N_0; have i0 : (i 0).val < 128 := (i 0).isLt; omega⟩

theorem arr6 : (dats m 0 c).arrAt 6 cfg0.N = res0 m c := by
  refine Pipeline.Dat.arrAt_eq_of_cover (dats m 0 c) 6 _ (flushed6' m c) fun i => ⟨pt i, flush0_6 _, ?_⟩
  show i ∈ ((View.whole main_v0_0).slice (win0_6.rect (pt i))).set
  rw [View.set_slice_whole, Rect.mem_set_unit]
  intro a
  match a with
  | ⟨0, _⟩ => exact (in_band (s := ![128, 1024]) (t := 128) (idx (pt i)).2.2.2.2.2.2.1.1 (idx (pt i)).2.2.2.2.2.2.1.2 (by decide)).1
  | ⟨1, _⟩ => exact (in_band (s := ![128, 1024]) (t := 128) (idx (pt i)).2.2.2.2.2.2.1.1 (idx (pt i)).2.2.2.2.2.2.1.2 (by decide)).2

theorem arr7 : (dats m 0 c).arrAt 7 cfg0.N = res1 m c := by
  refine Pipeline.Dat.arrAt_eq_of_cover (dats m 0 c) 7 _ (flushed7' m c) fun i => ⟨pt i, flush0_7 _, ?_⟩
  show i ∈ ((View.whole main_v0_1).slice (win0_7.rect (pt i))).set
  rw [View.set_slice_whole, Rect.mem_set_unit]
  intro a
  match a with
  | ⟨0, _⟩ => exact (in_band (s := ![128, 1024]) (t := 128) (idx (pt i)).2.2.2.2.2.2.2.1.1 (idx (pt i)).2.2.2.2.2.2.2.1.2 (by decide)).1
  | ⟨1, _⟩ => exact (in_band (s := ![128, 1024]) (t := 128) (idx (pt i)).2.2.2.2.2.2.2.1.1 (idx (pt i)).2.2.2.2.2.2.2.1.2 (by decide)).2

theorem arr8 : (dats m 0 c).arrAt 8 cfg0.N = res2 m c := by
  refine Pipeline.Dat.arrAt_eq_of_cover (dats m 0 c) 8 _ (flushed8' m c) fun i => ⟨pt i, flush0_8 _, ?_⟩
  show i ∈ ((View.whole main_v0_2).slice (win0_8.rect (pt i))).set
  rw [View.set_slice_whole, Rect.mem_set_unit]
  intro a
  match a with
  | ⟨0, _⟩ => exact (in_band (s := ![128, 1024]) (t := 128) (idx (pt i)).2.2.2.2.2.2.2.2.1.1 (idx (pt i)).2.2.2.2.2.2.2.2.1.2 (by decide)).1
  | ⟨1, _⟩ => exact (in_band (s := ![128, 1024]) (t := 128) (idx (pt i)).2.2.2.2.2.2.2.2.1.1 (idx (pt i)).2.2.2.2.2.2.2.2.1.2 (by decide)).2

theorem arr9 : (dats m 0 c).arrAt 9 cfg0.N = res3 m c := by
  refine Pipeline.Dat.arrAt_eq_of_cover (dats m 0 c) 9 _ (flushed9' m c) fun i => ⟨pt i, flush0_9 _, ?_⟩
  show i ∈ ((View.whole main_v0_3).slice (win0_9.rect (pt i))).set
  rw [View.set_slice_whole, Rect.mem_set_unit]
  intro a
  match a with
  | ⟨0, _⟩ => exact (in_band (s := ![128, 1024]) (t := 128) (idx (pt i)).2.2.2.2.2.2.2.2.2.1 (idx (pt i)).2.2.2.2.2.2.2.2.2.2 (by decide)).1
  | ⟨1, _⟩ => exact (in_band (s := ![128, 1024]) (t := 128) (idx (pt i)).2.2.2.2.2.2.2.2.2.1 (idx (pt i)).2.2.2.2.2.2.2.2.2.2 (by decide)).2

/-- The reference's gradient, step and moments. -/
theorem refG (x3 x4 : Vec Ideal S1x128x1024 .f32) (x5 : Vec Ideal S3x128x1024 .bf16) (i : S128x1024.Idx) : Cert.AdamAttnORefIdeal.Read.val_main_v14 (F := Ideal) x3 x4 x5 i = grad x3 x4 x5 (i 0).val (i 1).val :=
  (congrArg₂ (fun a b : EReal => a + b) (congrArg₂ (fun a b : EReal => a + b) (congrArg₂ (fun a b : EReal => a + b) (congrArg₂ (fun a b : EReal => a + b) ((Cert.AdamAttnORefIdeal.Read.val_main_v0_apply x3 i).trans (nat3_eq (z := ![1, 128, 1024]) x3 _ rfl (row_of (i 0).isLt (i 1).isLt) (col_of (i 1).isLt)))
    ((Cert.AdamAttnORefIdeal.Read.val_main_v1_apply x4 i).trans (nat3_eq (z := ![1, 128, 1024]) x4 _ rfl (row_of (i 0).isLt (i 1).isLt) (col_of (i 1).isLt))))
    ((Cert.AdamAttnORefIdeal.Read.val_main_v3_apply x5 i).trans ((Cert.AdamAttnORefIdeal.Read.val_main_v2_apply x5 _).trans (nat3_eq (z := ![3, 128, 1024]) x5 _ rfl (row_of (i 0).isLt (i 1).isLt) (col_of (i 1).isLt)))))
    ((Cert.AdamAttnORefIdeal.Read.val_main_v6_apply x5 i).trans ((Cert.AdamAttnORefIdeal.Read.val_main_v5_apply x5 _).trans (nat3_eq (z := ![3, 128, 1024]) x5 _ rfl (row_of (i 0).isLt (i 1).isLt) (col_of (i 1).isLt)))))
    ((Cert.AdamAttnORefIdeal.Read.val_main_v9_apply x5 i).trans ((Cert.AdamAttnORefIdeal.Read.val_main_v8_apply x5 _).trans (nat3_eq (z := ![3, 128, 1024]) x5 _ rfl (row_of (i 0).isLt (i 1).isLt) (col_of (i 1).isLt)))))

variable (x0 x1 x2 : Vec Ideal S128x1024 .f32) (x3 x4 : Vec Ideal S1x128x1024 .f32) (x5 : Vec Ideal S3x128x1024 .bf16) (i : S128x1024.Idx)

theorem at2 (x : Vec Ideal S128x1024 .f32) : x i = nat2 (z := ![128, 1024]) x (i 0).val (i 1).val := nat2_eq (z := ![128, 1024]) x i rfl rfl

theorem ref1 : Cert.AdamAttnORefIdeal.Read.val_main_v38 (F := Ideal) x0 x1 x2 x3 x4 x5 i = step (nat2 (z := ![128, 1024]) x0 (i 0).val (i 1).val) (nat2 (z := ![128, 1024]) x1 (i 0).val (i 1).val)
    (nat2 (z := ![128, 1024]) x2 (i 0).val (i 1).val) (grad x3 x4 x5 (i 0).val (i 1).val) := by
  show step (x0 i) (x1 i) (x2 i) (Cert.AdamAttnORefIdeal.Read.val_main_v14 (F := Ideal) x3 x4 x5 i) = _
  rw [refG, at2 i x0, at2 i x1, at2 i x2]

theorem ref2 : Cert.AdamAttnORefIdeal.Read.val_main_v19 (F := Ideal) x1 x3 x4 x5 i = mom (nat2 (z := ![128, 1024]) x1 (i 0).val (i 1).val) (grad x3 x4 x5 (i 0).val (i 1).val) := by
  show mom (x1 i) (Cert.AdamAttnORefIdeal.Read.val_main_v14 (F := Ideal) x3 x4 x5 i) = _
  rw [refG, at2 i x1]

theorem ref3 : Cert.AdamAttnORefIdeal.Read.val_main_v25 (F := Ideal) x2 x3 x4 x5 i = var (nat2 (z := ![128, 1024]) x2 (i 0).val (i 1).val) (grad x3 x4 x5 (i 0).val (i 1).val) := by
  show var (x2 i) (Cert.AdamAttnORefIdeal.Read.val_main_v14 (F := Ideal) x3 x4 x5 i) = _
  rw [refG, at2 i x2]

theorem equal [Cert.AdamAttnOIdeal.Facts] [Cert.AdamAttnORefIdeal.Facts] : Cert.algebraic_AdamAttnOIdeal_AdamAttnORefIdeal := by
  intro m g m' g' _ hsame
  refine ⟨fun c => res0 m c, fun c => res1 m c, fun c => res2 m c, fun c => res3 m c,
    (θ_run _ _ _).mono (fun r h c => ⟨(h c).1.trans (arr6 m c), (h c).2.1.trans (arr7 m c), (h c).2.2.1.trans (arr8 m c), (h c).2.2.2.1.trans (arr9 m c),
      (h c).2.2.2.2⟩) (run_blocks m g),
    (θ_run _ _ _).mono (fun r h c => ⟨(h c).1.trans (funext fun i => (refG _ _ _ i).trans ?_), (h c).2.1.trans (funext fun i => (ref1 _ _ _ _ _ _ i).trans ?_),
      (h c).2.2.1.trans (funext fun i => (ref2 _ _ _ _ i).trans ?_), (h c).2.2.2.1.trans (funext fun i => (ref3 _ _ _ _ i).trans ?_),
      (h c).2.2.2.2⟩) (Cert.AdamAttnORefIdeal.Value.run m' g')⟩
  · rw [(hsame c).2.2.2.1, (hsame c).2.2.2.2.1, (hsame c).2.2.2.2.2]
  · rw [(hsame c).1, (hsame c).2.1, (hsame c).2.2.1, (hsame c).2.2.2.1, (hsame c).2.2.2.2.1, (hsame c).2.2.2.2.2]
  · rw [(hsame c).2.1, (hsame c).2.2.2.1, (hsame c).2.2.2.2.1, (hsame c).2.2.2.2.2]
  · rw [(hsame c).2.2.1, (hsame c).2.2.2.1, (hsame c).2.2.2.2.1, (hsame c).2.2.2.2.2]

end Cert.AdamAttnOIdeal.Own
-- ==== Proof.AdamQkvg.lean ====
/- AdamW's update of the retention's first weight, and the reference. -/
module

public import proofs.«01_k».proof.Defs
public import proofs.«01_k».proof.Proof.Adam
public import proofs.«01_k».proof.Proof.Gen.AdamQkvgIdeal.Value
public import proofs.«01_k».proof.Proof.Gen.AdamQkvgRefIdeal.Run
public import proofs.«01_k».proof.Proof.Gen.AdamQkvgRefIdeal.Read

@[expose] public section

noncomputable section

namespace Cert.AdamQkvgIdeal.Own

open Cert.AdamQkvgIdeal Cert.AdamQkvgIdeal.Gen Cert.AdamQkvgIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0) := by decide +kernel

/-- The weight and its moments at natural coordinates. -/
abbrev W : ℕ → ℕ → EReal := nat2 (z := ![1024, 768]) (m ((c : Thread nD τ).loc main_arg0))
abbrev M : ℕ → ℕ → EReal := nat2 (z := ![1024, 768]) (m ((c : Thread nD τ).loc main_arg1))
abbrev V : ℕ → ℕ → EReal := nat2 (z := ![1024, 768]) (m ((c : Thread nD τ).loc main_arg2))

/-- The gradient: the sum of its five parts. -/
abbrev grad (x3 x4 : Vec Ideal S1x1024x768 .f32) (x5 : Vec Ideal S3x1024x768 .bf16) (r k : ℕ) : EReal :=
  nat3 (z := ![1, 1024, 768]) x3 0 r k + nat3 (z := ![1, 1024, 768]) x4 0 r k + nat3 (z := ![3, 1024, 768]) x5 0 r k + nat3 (z := ![3, 1024, 768]) x5 1 r k + nat3 (z := ![3, 1024, 768]) x5 2 r k

abbrev G : ℕ → ℕ → EReal := grad (m ((c : Thread nD τ).loc main_arg3)) (m ((c : Thread nD τ).loc main_arg4)) (m ((c : Thread nD τ).loc main_arg5))

theorem blk0 (t : Fin cfg0.N) (j : S256x768.Idx) : View.ld (iblk m c 0 t) r0_4 (ix7_17 j) = W m c (t.val * 256 + (j 0).val) (0 * 768 + (j 1).val) :=
  nat2_ld (z := ![1024, 768]) (m ((c : Thread nD τ).loc main_arg0)) _ (idx t).1.1 (idx t).1.2 rfl rfl

theorem blk1 (t : Fin cfg0.N) (j : S256x768.Idx) : View.ld (iblk m c 1 t) r0_4 (ix7_0 j) = M m c (t.val * 256 + (j 0).val) (0 * 768 + (j 1).val) :=
  nat2_ld (z := ![1024, 768]) (m ((c : Thread nD τ).loc main_arg1)) _ (idx t).2.1.1 (idx t).2.1.2 rfl rfl

theorem blk2 (t : Fin cfg0.N) (j : S256x768.Idx) : View.ld (iblk m c 2 t) r0_4 (ix7_6 j) = V m c (t.val * 256 + (j 0).val) (0 * 768 + (j 1).val) :=
  nat2_ld (z := ![1024, 768]) (m ((c : Thread nD τ).loc main_arg2)) _ (idx t).2.2.1.1 (idx t).2.2.1.2 rfl rfl

/-- What a point leaves of the gradient. -/
theorem blkG (t : Fin cfg0.N) (j : S256x768.Idx) : E6 (F := Ideal) (View.ld (iblk m c 3 t) r0_0) (View.ld (iblk m c 4 t) r0_0) (View.ld (iblk m c 5 t) r0_1) (View.ld (iblk m c 5 t) r0_2) (View.ld (iblk m c 5 t) r0_3) j = G m c (t.val * 256 + (j 0).val) (0 * 768 + (j 1).val) :=
  (congrArg₂ (fun a b : EReal => a + b) (congrArg₂ (fun a b : EReal => a + b) (congrArg₂ (fun a b : EReal => a + b) (congrArg₂ (fun a b : EReal => a + b) (nat3_ld (z := ![1, 1024, 768]) (b := 0) (m ((c : Thread nD τ).loc main_arg3)) _ (idx t).2.2.2.1.1 (idx t).2.2.2.1.2.1 (idx t).2.2.2.1.2.2 rfl rfl rfl)
    (nat3_ld (z := ![1, 1024, 768]) (b := 0) (m ((c : Thread nD τ).loc main_arg4)) _ (idx t).2.2.2.2.1.1 (idx t).2.2.2.2.1.2.1 (idx t).2.2.2.2.1.2.2 rfl rfl rfl))
    (nat3_ld (z := ![3, 1024, 768]) (b := 0) (m ((c : Thread nD τ).loc main_arg5)) _ (idx t).2.2.2.2.2.1.1 (idx t).2.2.2.2.2.1.2.1 (idx t).2.2.2.2.2.1.2.2 rfl rfl rfl))
    (nat3_ld (z := ![3, 1024, 768]) (b := 1) (m ((c : Thread nD τ).loc main_arg5)) _ (idx t).2.2.2.2.2.1.1 (idx t).2.2.2.2.2.1.2.1 (idx t).2.2.2.2.2.1.2.2 rfl rfl rfl))
    (nat3_ld (z := ![3, 1024, 768]) (b := 2) (m ((c : Thread nD τ).loc main_arg5)) _ (idx t).2.2.2.2.2.1.1 (idx t).2.2.2.2.2.1.2.1 (idx t).2.2.2.2.2.1.2.2 rfl rfl rfl))

/-- The four results. -/
abbrev res0 : S1024x768.Idx → EReal := fun i => G m c (i 0).val (i 1).val
abbrev res1 : S1024x768.Idx → EReal := fun i => step (W m c (i 0).val (i 1).val) (M m c (i 0).val (i 1).val) (V m c (i 0).val (i 1).val) (G m c (i 0).val (i 1).val)
abbrev res2 : S1024x768.Idx → EReal := fun i => mom (M m c (i 0).val (i 1).val) (G m c (i 0).val (i 1).val)
abbrev res3 : S1024x768.Idx → EReal := fun i => var (V m c (i 0).val (i 1).val) (G m c (i 0).val (i 1).val)

/-- Each point writes back its block of each, -/
theorem flushed6' (t : Fin cfg0.N) (_ : (cfg0.win 6).flush t = true) :
    (dats m 0 c).flushed 6 t = ((cfg0.win 6).blk t).view.read (Elt Ideal) (res0 m c) := by
  rw [flushed6]
  funext j
  show out0_6 (F := Ideal) (iblk m c 0 t) (iblk m c 1 t) (iblk m c 2 t) (iblk m c 3 t) (iblk m c 4 t) (iblk m c 5 t) j = G m c (win0_6.index t 0 * 256 + 1 * (j 0).val) (win0_6.index t 1 * 768 + 1 * (j 1).val)
  rw [(idx t).2.2.2.2.2.2.1.1, (idx t).2.2.2.2.2.2.1.2, one_mul, one_mul]
  unfold out0_6
  rw [canon6_eq]
  exact blkG m c t j

theorem flushed7' (t : Fin cfg0.N) (_ : (cfg0.win 7).flush t = true) :
    (dats m 0 c).flushed 7 t = ((cfg0.win 7).blk t).view.read (Elt Ideal) (res1 m c) := by
  rw [flushed7]
  funext j
  show out0_7 (F := Ideal) (iblk m c 0 t) (iblk m c 1 t) (iblk m c 2 t) (iblk m c 3 t) (iblk m c 4 t) (iblk m c 5 t) j = step (W m c (win0_7.index t 0 * 256 + 1 * (j 0).val) (win0_7.index t 1 * 768 + 1 * (j 1).val)) (M m c (win0_7.index t 0 * 256 + 1 * (j 0).val) (win0_7.index t 1 * 768 + 1 * (j 1).val)) (V m c (win0_7.index t 0 * 256 + 1 * (j 0).val) (win0_7.index t 1 * 768 + 1 * (j 1).val)) (G m c (win0_7.index t 0 * 256 + 1 * (j 0).val) (win0_7.index t 1 * 768 + 1 * (j 1).val))
  rw [(idx t).2.2.2.2.2.2.2.1.1, (idx t).2.2.2.2.2.2.2.1.2, one_mul, one_mul]
  unfold out0_7
  rw [canon7_eq]
  show step (View.ld (iblk m c 0 t) r0_4 (ix7_17 j)) (View.ld (iblk m c 1 t) r0_4 (ix7_0 j)) (View.ld (iblk m c 2 t) r0_4 (ix7_6 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk0, blk1, blk2, blkG]

theorem flushed8' (t : Fin cfg0.N) (_ : (cfg0.win 8).flush t = true) :
    (dats m 0 c).flushed 8 t = ((cfg0.win 8).blk t).view.read (Elt Ideal) (res2 m c) := by
  rw [flushed8]
  funext j
  show out0_8 (F := Ideal) (iblk m c 0 t) (iblk m c 1 t) (iblk m c 2 t) (iblk m c 3 t) (iblk m c 4 t) (iblk m c 5 t) j = mom (M m c (win0_8.index t 0 * 256 + 1 * (j 0).val) (win0_8.index t 1 * 768 + 1 * (j 1).val)) (G m c (win0_8.index t 0 * 256 + 1 * (j 0).val) (win0_8.index t 1 * 768 + 1 * (j 1).val))
  rw [(idx t).2.2.2.2.2.2.2.2.1.1, (idx t).2.2.2.2.2.2.2.2.1.2, one_mul, one_mul]
  unfold out0_8
  rw [canon8_eq]
  show mom (View.ld (iblk m c 1 t) r0_4 (ix7_0 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk1, blkG]

theorem flushed9' (t : Fin cfg0.N) (_ : (cfg0.win 9).flush t = true) :
    (dats m 0 c).flushed 9 t = ((cfg0.win 9).blk t).view.read (Elt Ideal) (res3 m c) := by
  rw [flushed9]
  funext j
  show out0_9 (F := Ideal) (iblk m c 0 t) (iblk m c 1 t) (iblk m c 2 t) (iblk m c 3 t) (iblk m c 4 t) (iblk m c 5 t) j = var (V m c (win0_9.index t 0 * 256 + 1 * (j 0).val) (win0_9.index t 1 * 768 + 1 * (j 1).val)) (G m c (win0_9.index t 0 * 256 + 1 * (j 0).val) (win0_9.index t 1 * 768 + 1 * (j 1).val))
  rw [(idx t).2.2.2.2.2.2.2.2.2.1, (idx t).2.2.2.2.2.2.2.2.2.2, one_mul, one_mul]
  unfold out0_9
  rw [canon9_eq]
  show var (View.ld (iblk m c 2 t) r0_4 (ix7_6 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk2, blkG]

/-- and every place of a result lies in the block of the point of its row. -/
def pt (i : S1024x768.Idx) : Fin cfg0.N := ⟨(i 0).val / 256, by have hN : cfg0.N = 4 := N_0; have i0 : (i 0).val < 1024 := (i 0).isLt; omega⟩

theorem arr6 : (dats m 0 c).arrAt 6 cfg0.N = res0 m c := by
  refine Pipeline.Dat.arrAt_eq_of_cover (dats m 0 c) 6 _ (flushed6' m c) fun i => ⟨pt i, flush0_6 _, ?_⟩
  show i ∈ ((View.whole main_v0_0).slice (win0_6.rect (pt i))).set
  rw [View.set_slice_whole, Rect.mem_set_unit]
  intro a
  match a with
  | ⟨0, _⟩ => exact (in_band (s := ![1024, 768]) (t := 256) (idx (pt i)).2.2.2.2.2.2.1.1 (idx (pt i)).2.2.2.2.2.2.1.2 (by decide)).1
  | ⟨1, _⟩ => exact (in_band (s := ![1024, 768]) (t := 256) (idx (pt i)).2.2.2.2.2.2.1.1 (idx (pt i)).2.2.2.2.2.2.1.2 (by decide)).2

theorem arr7 : (dats m 0 c).arrAt 7 cfg0.N = res1 m c := by
  refine Pipeline.Dat.arrAt_eq_of_cover (dats m 0 c) 7 _ (flushed7' m c) fun i => ⟨pt i, flush0_7 _, ?_⟩
  show i ∈ ((View.whole main_v0_1).slice (win0_7.rect (pt i))).set
  rw [View.set_slice_whole, Rect.mem_set_unit]
  intro a
  match a with
  | ⟨0, _⟩ => exact (in_band (s := ![1024, 768]) (t := 256) (idx (pt i)).2.2.2.2.2.2.2.1.1 (idx (pt i)).2.2.2.2.2.2.2.1.2 (by decide)).1
  | ⟨1, _⟩ => exact (in_band (s := ![1024, 768]) (t := 256) (idx (pt i)).2.2.2.2.2.2.2.1.1 (idx (pt i)).2.2.2.2.2.2.2.1.2 (by decide)).2

theorem arr8 : (dats m 0 c).arrAt 8 cfg0.N = res2 m c := by
  refine Pipeline.Dat.arrAt_eq_of_cover (dats m 0 c) 8 _ (flushed8' m c) fun i => ⟨pt i, flush0_8 _, ?_⟩
  show i ∈ ((View.whole main_v0_2).slice (win0_8.rect (pt i))).set
  rw [View.set_slice_whole, Rect.mem_set_unit]
  intro a
  match a with
  | ⟨0, _⟩ => exact (in_band (s := ![1024, 768]) (t := 256) (idx (pt i)).2.2.2.2.2.2.2.2.1.1 (idx (pt i)).2.2.2.2.2.2.2.2.1.2 (by decide)).1
  | ⟨1, _⟩ => exact (in_band (s := ![1024, 768]) (t := 256) (idx (pt i)).2.2.2.2.2.2.2.2.1.1 (idx (pt i)).2.2.2.2.2.2.2.2.1.2 (by decide)).2

theorem arr9 : (dats m 0 c).arrAt 9 cfg0.N = res3 m c := by
  refine Pipeline.Dat.arrAt_eq_of_cover (dats m 0 c) 9 _ (flushed9' m c) fun i => ⟨pt i, flush0_9 _, ?_⟩
  show i ∈ ((View.whole main_v0_3).slice (win0_9.rect (pt i))).set
  rw [View.set_slice_whole, Rect.mem_set_unit]
  intro a
  match a with
  | ⟨0, _⟩ => exact (in_band (s := ![1024, 768]) (t := 256) (idx (pt i)).2.2.2.2.2.2.2.2.2.1 (idx (pt i)).2.2.2.2.2.2.2.2.2.2 (by decide)).1
  | ⟨1, _⟩ => exact (in_band (s := ![1024, 768]) (t := 256) (idx (pt i)).2.2.2.2.2.2.2.2.2.1 (idx (pt i)).2.2.2.2.2.2.2.2.2.2 (by decide)).2

/-- The reference's gradient, step and moments. -/
theorem refG (x3 x4 : Vec Ideal S1x1024x768 .f32) (x5 : Vec Ideal S3x1024x768 .bf16) (i : S1024x768.Idx) : Cert.AdamQkvgRefIdeal.Read.val_main_v14 (F := Ideal) x3 x4 x5 i = grad x3 x4 x5 (i 0).val (i 1).val :=
  (congrArg₂ (fun a b : EReal => a + b) (congrArg₂ (fun a b : EReal => a + b) (congrArg₂ (fun a b : EReal => a + b) (congrArg₂ (fun a b : EReal => a + b) ((Cert.AdamQkvgRefIdeal.Read.val_main_v0_apply x3 i).trans (nat3_eq (z := ![1, 1024, 768]) x3 _ rfl (row_of (i 0).isLt (i 1).isLt) (col_of (i 1).isLt)))
    ((Cert.AdamQkvgRefIdeal.Read.val_main_v1_apply x4 i).trans (nat3_eq (z := ![1, 1024, 768]) x4 _ rfl (row_of (i 0).isLt (i 1).isLt) (col_of (i 1).isLt))))
    ((Cert.AdamQkvgRefIdeal.Read.val_main_v3_apply x5 i).trans ((Cert.AdamQkvgRefIdeal.Read.val_main_v2_apply x5 _).trans (nat3_eq (z := ![3, 1024, 768]) x5 _ rfl (row_of (i 0).isLt (i 1).isLt) (col_of (i 1).isLt)))))
    ((Cert.AdamQkvgRefIdeal.Read.val_main_v6_apply x5 i).trans ((Cert.AdamQkvgRefIdeal.Read.val_main_v5_apply x5 _).trans (nat3_eq (z := ![3, 1024, 768]) x5 _ rfl (row_of (i 0).isLt (i 1).isLt) (col_of (i 1).isLt)))))
    ((Cert.AdamQkvgRefIdeal.Read.val_main_v9_apply x5 i).trans ((Cert.AdamQkvgRefIdeal.Read.val_main_v8_apply x5 _).trans (nat3_eq (z := ![3, 1024, 768]) x5 _ rfl (row_of (i 0).isLt (i 1).isLt) (col_of (i 1).isLt)))))

variable (x0 x1 x2 : Vec Ideal S1024x768 .f32) (x3 x4 : Vec Ideal S1x1024x768 .f32) (x5 : Vec Ideal S3x1024x768 .bf16) (i : S1024x768.Idx)

theorem at2 (x : Vec Ideal S1024x768 .f32) : x i = nat2 (z := ![1024, 768]) x (i 0).val (i 1).val := nat2_eq (z := ![1024, 768]) x i rfl rfl

theorem ref1 : Cert.AdamQkvgRefIdeal.Read.val_main_v38 (F := Ideal) x0 x1 x2 x3 x4 x5 i = step (nat2 (z := ![1024, 768]) x0 (i 0).val (i 1).val) (nat2 (z := ![1024, 768]) x1 (i 0).val (i 1).val)
    (nat2 (z := ![1024, 768]) x2 (i 0).val (i 1).val) (grad x3 x4 x5 (i 0).val (i 1).val) := by
  show step (x0 i) (x1 i) (x2 i) (Cert.AdamQkvgRefIdeal.Read.val_main_v14 (F := Ideal) x3 x4 x5 i) = _
  rw [refG, at2 i x0, at2 i x1, at2 i x2]

theorem ref2 : Cert.AdamQkvgRefIdeal.Read.val_main_v19 (F := Ideal) x1 x3 x4 x5 i = mom (nat2 (z := ![1024, 768]) x1 (i 0).val (i 1).val) (grad x3 x4 x5 (i 0).val (i 1).val) := by
  show mom (x1 i) (Cert.AdamQkvgRefIdeal.Read.val_main_v14 (F := Ideal) x3 x4 x5 i) = _
  rw [refG, at2 i x1]

theorem ref3 : Cert.AdamQkvgRefIdeal.Read.val_main_v25 (F := Ideal) x2 x3 x4 x5 i = var (nat2 (z := ![1024, 768]) x2 (i 0).val (i 1).val) (grad x3 x4 x5 (i 0).val (i 1).val) := by
  show var (x2 i) (Cert.AdamQkvgRefIdeal.Read.val_main_v14 (F := Ideal) x3 x4 x5 i) = _
  rw [refG, at2 i x2]

theorem equal [Cert.AdamQkvgIdeal.Facts] [Cert.AdamQkvgRefIdeal.Facts] : Cert.algebraic_AdamQkvgIdeal_AdamQkvgRefIdeal := by
  intro m g m' g' _ hsame
  refine ⟨fun c => res0 m c, fun c => res1 m c, fun c => res2 m c, fun c => res3 m c,
    (θ_run _ _ _).mono (fun r h c => ⟨(h c).1.trans (arr6 m c), (h c).2.1.trans (arr7 m c), (h c).2.2.1.trans (arr8 m c), (h c).2.2.2.1.trans (arr9 m c),
      (h c).2.2.2.2⟩) (run_blocks m g),
    (θ_run _ _ _).mono (fun r h c => ⟨(h c).1.trans (funext fun i => (refG _ _ _ i).trans ?_), (h c).2.1.trans (funext fun i => (ref1 _ _ _ _ _ _ i).trans ?_),
      (h c).2.2.1.trans (funext fun i => (ref2 _ _ _ _ i).trans ?_), (h c).2.2.2.1.trans (funext fun i => (ref3 _ _ _ _ i).trans ?_),
      (h c).2.2.2.2⟩) (Cert.AdamQkvgRefIdeal.Value.run m' g')⟩
  · rw [(hsame c).2.2.2.1, (hsame c).2.2.2.2.1, (hsame c).2.2.2.2.2]
  · rw [(hsame c).1, (hsame c).2.1, (hsame c).2.2.1, (hsame c).2.2.2.1, (hsame c).2.2.2.2.1, (hsame c).2.2.2.2.2]
  · rw [(hsame c).2.1, (hsame c).2.2.2.1, (hsame c).2.2.2.2.1, (hsame c).2.2.2.2.2]
  · rw [(hsame c).2.2.1, (hsame c).2.2.2.1, (hsame c).2.2.2.2.1, (hsame c).2.2.2.2.2]

end Cert.AdamQkvgIdeal.Own
-- ==== Proof.AdamRetO.lean ====
/- AdamW's update of the retention's last weight, and the reference. -/
module

public import proofs.«01_k».proof.Defs
public import proofs.«01_k».proof.Proof.Adam
public import proofs.«01_k».proof.Proof.Gen.AdamRetOIdeal.Value
public import proofs.«01_k».proof.Proof.Gen.AdamRetORefIdeal.Run
public import proofs.«01_k».proof.Proof.Gen.AdamRetORefIdeal.Read

@[expose] public section

noncomputable section

namespace Cert.AdamRetOIdeal.Own

open Cert.AdamRetOIdeal Cert.AdamRetOIdeal.Gen Cert.AdamRetOIdeal.Value Cert.Own Idealize.ShloMosaic Idealize.ShloMosaic.TcCoe Idealize.SL.Sem

variable (m : (ℓ : Loc nD τ sig) → Buf (Elt Ideal) ℓ) (c : Dev nD)

theorem idx : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0) := by decide +kernel

/-- The weight and its moments at natural coordinates. -/
abbrev W : ℕ → ℕ → EReal := nat2 (z := ![256, 1024]) (m ((c : Thread nD τ).loc main_arg0))
abbrev M : ℕ → ℕ → EReal := nat2 (z := ![256, 1024]) (m ((c : Thread nD τ).loc main_arg1))
abbrev V : ℕ → ℕ → EReal := nat2 (z := ![256, 1024]) (m ((c : Thread nD τ).loc main_arg2))

/-- The gradient: the sum of its five parts. -/
abbrev grad (x3 x4 : Vec Ideal S1x256x1024 .f32) (x5 : Vec Ideal S3x256x1024 .bf16) (r k : ℕ) : EReal :=
  nat3 (z := ![1, 256, 1024]) x3 0 r k + nat3 (z := ![1, 256, 1024]) x4 0 r k + nat3 (z := ![3, 256, 1024]) x5 0 r k + nat3 (z := ![3, 256, 1024]) x5 1 r k + nat3 (z := ![3, 256, 1024]) x5 2 r k

abbrev G : ℕ → ℕ → EReal := grad (m ((c : Thread nD τ).loc main_arg3)) (m ((c : Thread nD τ).loc main_arg4)) (m ((c : Thread nD τ).loc main_arg5))

theorem blk0 (t : Fin cfg0.N) (j : S256x1024.Idx) : View.ld (iblk m c 0 t) r0_4 (ix7_17 j) = W m c (t.val * 256 + (j 0).val) (0 * 1024 + (j 1).val) :=
  nat2_ld (z := ![256, 1024]) (m ((c : Thread nD τ).loc main_arg0)) _ (idx t).1.1 (idx t).1.2 rfl rfl

theorem blk1 (t : Fin cfg0.N) (j : S256x1024.Idx) : View.ld (iblk m c 1 t) r0_4 (ix7_0 j) = M m c (t.val * 256 + (j 0).val) (0 * 1024 + (j 1).val) :=
  nat2_ld (z := ![256, 1024]) (m ((c : Thread nD τ).loc main_arg1)) _ (idx t).2.1.1 (idx t).2.1.2 rfl rfl

theorem blk2 (t : Fin cfg0.N) (j : S256x1024.Idx) : View.ld (iblk m c 2 t) r0_4 (ix7_6 j) = V m c (t.val * 256 + (j 0).val) (0 * 1024 + (j 1).val) :=
  nat2_ld (z := ![256, 1024]) (m ((c : Thread nD τ).loc main_arg2)) _ (idx t).2.2.1.1 (idx t).2.2.1.2 rfl rfl

/-- What a point leaves of the gradient. -/
theorem blkG (t : Fin cfg0.N) (j : S256x1024.Idx) : E6 (F := Ideal) (View.ld (iblk m c 3 t) r0_0) (View.ld (iblk m c 4 t) r0_0) (View.ld (iblk m c 5 t) r0_1) (View.ld (iblk m c 5 t) r0_2) (View.ld (iblk m c 5 t) r0_3) j = G m c (t.val * 256 + (j 0).val) (0 * 1024 + (j 1).val) :=
  (congrArg₂ (fun a b : EReal => a + b) (congrArg₂ (fun a b : EReal => a + b) (congrArg₂ (fun a b : EReal => a + b) (congrArg₂ (fun a b : EReal => a + b) (nat3_ld (z := ![1, 256, 1024]) (b := 0) (m ((c : Thread nD τ).loc main_arg3)) _ (idx t).2.2.2.1.1 (idx t).2.2.2.1.2.1 (idx t).2.2.2.1.2.2 rfl rfl rfl)
    (nat3_ld (z := ![1, 256, 1024]) (b := 0) (m ((c : Thread nD τ).loc main_arg4)) _ (idx t).2.2.2.2.1.1 (idx t).2.2.2.2.1.2.1 (idx t).2.2.2.2.1.2.2 rfl rfl rfl))
    (nat3_ld (z := ![3, 256, 1024]) (b := 0) (m ((c : Thread nD τ).loc main_arg5)) _ (idx t).2.2.2.2.2.1.1 (idx t).2.2.2.2.2.1.2.1 (idx t).2.2.2.2.2.1.2.2 rfl rfl rfl))
    (nat3_ld (z := ![3, 256, 1024]) (b := 1) (m ((c : Thread nD τ).loc main_arg5)) _ (idx t).2.2.2.2.2.1.1 (idx t).2.2.2.2.2.1.2.1 (idx t).2.2.2.2.2.1.2.2 rfl rfl rfl))
    (nat3_ld (z := ![3, 256, 1024]) (b := 2) (m ((c : Thread nD τ).loc main_arg5)) _ (idx t).2.2.2.2.2.1.1 (idx t).2.2.2.2.2.1.2.1 (idx t).2.2.2.2.2.1.2.2 rfl rfl rfl))

/-- The four results. -/
abbrev res0 : S256x1024.Idx → EReal := fun i => G m c (i 0).val (i 1).val
abbrev res1 : S256x1024.Idx → EReal := fun i => step (W m c (i 0).val (i 1).val) (M m c (i 0).val (i 1).val) (V m c (i 0).val (i 1).val) (G m c (i 0).val (i 1).val)
abbrev res2 : S256x1024.Idx → EReal := fun i => mom (M m c (i 0).val (i 1).val) (G m c (i 0).val (i 1).val)
abbrev res3 : S256x1024.Idx → EReal := fun i => var (V m c (i 0).val (i 1).val) (G m c (i 0).val (i 1).val)

/-- Each point writes back its block of each, -/
theorem flushed6' (t : Fin cfg0.N) (_ : (cfg0.win 6).flush t = true) :
    (dats m 0 c).flushed 6 t = ((cfg0.win 6).blk t).view.read (Elt Ideal) (res0 m c) := by
  rw [flushed6]
  funext j
  show out0_6 (F := Ideal) (iblk m c 0 t) (iblk m c 1 t) (iblk m c 2 t) (iblk m c 3 t) (iblk m c 4 t) (iblk m c 5 t) j = G m c (win0_6.index t 0 * 256 + 1 * (j 0).val) (win0_6.index t 1 * 1024 + 1 * (j 1).val)
  rw [(idx t).2.2.2.2.2.2.1.1, (idx t).2.2.2.2.2.2.1.2, one_mul, one_mul]
  unfold out0_6
  rw [canon6_eq]
  exact blkG m c t j

theorem flushed7' (t : Fin cfg0.N) (_ : (cfg0.win 7).flush t = true) :
    (dats m 0 c).flushed 7 t = ((cfg0.win 7).blk t).view.read (Elt Ideal) (res1 m c) := by
  rw [flushed7]
  funext j
  show out0_7 (F := Ideal) (iblk m c 0 t) (iblk m c 1 t) (iblk m c 2 t) (iblk m c 3 t) (iblk m c 4 t) (iblk m c 5 t) j = step (W m c (win0_7.index t 0 * 256 + 1 * (j 0).val) (win0_7.index t 1 * 1024 + 1 * (j 1).val)) (M m c (win0_7.index t 0 * 256 + 1 * (j 0).val) (win0_7.index t 1 * 1024 + 1 * (j 1).val)) (V m c (win0_7.index t 0 * 256 + 1 * (j 0).val) (win0_7.index t 1 * 1024 + 1 * (j 1).val)) (G m c (win0_7.index t 0 * 256 + 1 * (j 0).val) (win0_7.index t 1 * 1024 + 1 * (j 1).val))
  rw [(idx t).2.2.2.2.2.2.2.1.1, (idx t).2.2.2.2.2.2.2.1.2, one_mul, one_mul]
  unfold out0_7
  rw [canon7_eq]
  show step (View.ld (iblk m c 0 t) r0_4 (ix7_17 j)) (View.ld (iblk m c 1 t) r0_4 (ix7_0 j)) (View.ld (iblk m c 2 t) r0_4 (ix7_6 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk0, blk1, blk2, blkG]

theorem flushed8' (t : Fin cfg0.N) (_ : (cfg0.win 8).flush t = true) :
    (dats m 0 c).flushed 8 t = ((cfg0.win 8).blk t).view.read (Elt Ideal) (res2 m c) := by
  rw [flushed8]
  funext j
  show out0_8 (F := Ideal) (iblk m c 0 t) (iblk m c 1 t) (iblk m c 2 t) (iblk m c 3 t) (iblk m c 4 t) (iblk m c 5 t) j = mom (M m c (win0_8.index t 0 * 256 + 1 * (j 0).val) (win0_8.index t 1 * 1024 + 1 * (j 1).val)) (G m c (win0_8.index t 0 * 256 + 1 * (j 0).val) (win0_8.index t 1 * 1024 + 1 * (j 1).val))
  rw [(idx t).2.2.2.2.2.2.2.2.1.1, (idx t).2.2.2.2.2.2.2.2.1.2, one_mul, one_mul]
  unfold out0_8
  rw [canon8_eq]
  show mom (View.ld (iblk m c 1 t) r0_4 (ix7_0 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk1, blkG]

theorem flushed9' (t : Fin cfg0.N) (_ : (cfg0.win 9).flush t = true) :
    (dats m 0 c).flushed 9 t = ((cfg0.win 9).blk t).view.read (Elt Ideal) (res3 m c) := by
  rw [flushed9]
  funext j
  show out0_9 (F := Ideal) (iblk m c 0 t) (iblk m c 1 t) (iblk m c 2 t) (iblk m c 3 t) (iblk m c 4 t) (iblk m c 5 t) j = var (V m c (win0_9.index t 0 * 256 + 1 * (j 0).val) (win0_9.index t 1 * 1024 + 1 * (j 1).val)) (G m c (win0_9.index t 0 * 256 + 1 * (j 0).val) (win0_9.index t 1 * 1024 + 1 * (j 1).val))
  rw [(idx t).2.2.2.2.2.2.2.2.2.1, (idx t).2.2.2.2.2.2.2.2.2.2, one_mul, one_mul]
  unfold out0_9
  rw [canon9_eq]
  show var (View.ld (iblk m c 2 t) r0_4 (ix7_6 j)) (E6 (F := Ideal) (View.ld (iblk m c 3 t) r0_0) (View.ld (iblk m c 4 t) r0_0) (View.ld (iblk m c 5 t) r0_1) (View.ld (iblk m c 5 t) r0_2) (View.ld (iblk m c 5 t) r0_3) j) = _
  rw [blk2, blkG]

/-- and every place of a result lies in the block of the point of its row. -/
def pt (i : S256x1024.Idx) : Fin cfg0.N := ⟨(i 0).val / 256, by have hN : cfg0.N = 1 := N_0; have i0 : (i 0).val < 256 := (i 0).isLt; omega⟩

theorem arr6 : (dats m 0 c).arrAt 6 cfg0.N = res0 m c := by
  refine Pipeline.Dat.arrAt_eq_of_cover (dats m 0 c) 6 _ (flushed6' m c) fun i => ⟨pt i, flush0_6 _, ?_⟩
  show i ∈ ((View.whole main_v0_0).slice (win0_6.rect (pt i))).set
  rw [View.set_slice_whole, Rect.mem_set_unit]
  intro a
  match a with
  | ⟨0, _⟩ => exact (in_band (s := ![256, 1024]) (t := 256) (idx (pt i)).2.2.2.2.2.2.1.1 (idx (pt i)).2.2.2.2.2.2.1.2 (by decide)).1
  | ⟨1, _⟩ => exact (in_band (s := ![256, 1024]) (t := 256) (idx (pt i)).2.2.2.2.2.2.1.1 (idx (pt i)).2.2.2.2.2.2.1.2 (by decide)).2

theorem arr7 : (dats m 0 c).arrAt 7 cfg0.N = res1 m c := by
  refine Pipeline.Dat.arrAt_eq_of_cover (dats m 0 c) 7 _ (flushed7' m c) fun i => ⟨pt i, flush0_7 _, ?_⟩
  show i ∈ ((View.whole main_v0_1).slice (win0_7.rect (pt i))).set
  rw [View.set_slice_whole, Rect.mem_set_unit]
  intro a
  match a with
  | ⟨0, _⟩ => exact (in_band (s := ![256, 1024]) (t := 256) (idx (pt i)).2.2.2.2.2.2.2.1.1 (idx (pt i)).2.2.2.2.2.2.2.1.2 (by decide)).1
  | ⟨1, _⟩ => exact (in_band (s := ![256, 1024]) (t := 256) (idx (pt i)).2.2.2.2.2.2.2.1.1 (idx (pt i)).2.2.2.2.2.2.2.1.2 (by decide)).2

theorem arr8 : (dats m 0 c).arrAt 8 cfg0.N = res2 m c := by
  refine Pipeline.Dat.arrAt_eq_of_cover (dats m 0 c) 8 _ (flushed8' m c) fun i => ⟨pt i, flush0_8 _, ?_⟩
  show i ∈ ((View.whole main_v0_2).slice (win0_8.rect (pt i))).set
  rw [View.set_slice_whole, Rect.mem_set_unit]
  intro a
  match a with
  | ⟨0, _⟩ => exact (in_band (s := ![256, 1024]) (t := 256) (idx (pt i)).2.2.2.2.2.2.2.2.1.1 (idx (pt i)).2.2.2.2.2.2.2.2.1.2 (by decide)).1
  | ⟨1, _⟩ => exact (in_band (s := ![256, 1024]) (t := 256) (idx (pt i)).2.2.2.2.2.2.2.2.1.1 (idx (pt i)).2.2.2.2.2.2.2.2.1.2 (by decide)).2

theorem arr9 : (dats m 0 c).arrAt 9 cfg0.N = res3 m c := by
  refine Pipeline.Dat.arrAt_eq_of_cover (dats m 0 c) 9 _ (flushed9' m c) fun i => ⟨pt i, flush0_9 _, ?_⟩
  show i ∈ ((View.whole main_v0_3).slice (win0_9.rect (pt i))).set
  rw [View.set_slice_whole, Rect.mem_set_unit]
  intro a
  match a with
  | ⟨0, _⟩ => exact (in_band (s := ![256, 1024]) (t := 256) (idx (pt i)).2.2.2.2.2.2.2.2.2.1 (idx (pt i)).2.2.2.2.2.2.2.2.2.2 (by decide)).1
  | ⟨1, _⟩ => exact (in_band (s := ![256, 1024]) (t := 256) (idx (pt i)).2.2.2.2.2.2.2.2.2.1 (idx (pt i)).2.2.2.2.2.2.2.2.2.2 (by decide)).2

/-- The reference's gradient, step and moments. -/
theorem refG (x3 x4 : Vec Ideal S1x256x1024 .f32) (x5 : Vec Ideal S3x256x1024 .bf16) (i : S256x1024.Idx) : Cert.AdamRetORefIdeal.Read.val_main_v14 (F := Ideal) x3 x4 x5 i = grad x3 x4 x5 (i 0).val (i 1).val :=
  (congrArg₂ (fun a b : EReal => a + b) (congrArg₂ (fun a b : EReal => a + b) (congrArg₂ (fun a b : EReal => a + b) (congrArg₂ (fun a b : EReal => a + b) ((Cert.AdamRetORefIdeal.Read.val_main_v0_apply x3 i).trans (nat3_eq (z := ![1, 256, 1024]) x3 _ rfl (row_of (i 0).isLt (i 1).isLt) (col_of (i 1).isLt)))
    ((Cert.AdamRetORefIdeal.Read.val_main_v1_apply x4 i).trans (nat3_eq (z := ![1, 256, 1024]) x4 _ rfl (row_of (i 0).isLt (i 1).isLt) (col_of (i 1).isLt))))
    ((Cert.AdamRetORefIdeal.Read.val_main_v3_apply x5 i).trans ((Cert.AdamRetORefIdeal.Read.val_main_v2_apply x5 _).trans (nat3_eq (z := ![3, 256, 1024]) x5 _ rfl (row_of (i 0).isLt (i 1).isLt) (col_of (i 1).isLt)))))
    ((Cert.AdamRetORefIdeal.Read.val_main_v6_apply x5 i).trans ((Cert.AdamRetORefIdeal.Read.val_main_v5_apply x5 _).trans (nat3_eq (z := ![3, 256, 1024]) x5 _ rfl (row_of (i 0).isLt (i 1).isLt) (col_of (i 1).isLt)))))
    ((Cert.AdamRetORefIdeal.Read.val_main_v9_apply x5 i).trans ((Cert.AdamRetORefIdeal.Read.val_main_v8_apply x5 _).trans (nat3_eq (z := ![3, 256, 1024]) x5 _ rfl (row_of (i 0).isLt (i 1).isLt) (col_of (i 1).isLt)))))

variable (x0 x1 x2 : Vec Ideal S256x1024 .f32) (x3 x4 : Vec Ideal S1x256x1024 .f32) (x5 : Vec Ideal S3x256x1024 .bf16) (i : S256x1024.Idx)

theorem at2 (x : Vec Ideal S256x1024 .f32) : x i = nat2 (z := ![256, 1024]) x (i 0).val (i 1).val := nat2_eq (z := ![256, 1024]) x i rfl rfl

theorem ref1 : Cert.AdamRetORefIdeal.Read.val_main_v38 (F := Ideal) x0 x1 x2 x3 x4 x5 i = step (nat2 (z := ![256, 1024]) x0 (i 0).val (i 1).val) (nat2 (z := ![256, 1024]) x1 (i 0).val (i 1).val)
    (nat2 (z := ![256, 1024]) x2 (i 0).val (i 1).val) (grad x3 x4 x5 (i 0).val (i 1).val) := by
  show step (x0 i) (x1 i) (x2 i) (Cert.AdamRetORefIdeal.Read.val_main_v14 (F := Ideal) x3 x4 x5 i) = _
  rw [refG, at2 i x0, at2 i x1, at2 i x2]

theorem ref2 : Cert.AdamRetORefIdeal.Read.val_main_v19 (F := Ideal) x1 x3 x4 x5 i = mom (nat2 (z := ![256, 1024]) x1 (i 0).val (i 1).val) (grad x3 x4 x5 (i 0).val (i 1).val) := by
  show mom (x1 i) (Cert.AdamRetORefIdeal.Read.val_main_v14 (F := Ideal) x3 x4 x5 i) = _
  rw [refG, at2 i x1]

theorem ref3 : Cert.AdamRetORefIdeal.Read.val_main_v25 (F := Ideal) x2 x3 x4 x5 i = var (nat2 (z := ![256, 1024]) x2 (i 0).val (i 1).val) (grad x3 x4 x5 (i 0).val (i 1).val) := by
  show var (x2 i) (Cert.AdamRetORefIdeal.Read.val_main_v14 (F := Ideal) x3 x4 x5 i) = _
  rw [refG, at2 i x2]

theorem equal [Cert.AdamRetOIdeal.Facts] [Cert.AdamRetORefIdeal.Facts] : Cert.algebraic_AdamRetOIdeal_AdamRetORefIdeal := by
  intro m g m' g' _ hsame
  refine ⟨fun c => res0 m c, fun c => res1 m c, fun c => res2 m c, fun c => res3 m c,
    (θ_run _ _ _).mono (fun r h c => ⟨(h c).1.trans (arr6 m c), (h c).2.1.trans (arr7 m c), (h c).2.2.1.trans (arr8 m c), (h c).2.2.2.1.trans (arr9 m c),
      (h c).2.2.2.2⟩) (run_blocks m g),
    (θ_run _ _ _).mono (fun r h c => ⟨(h c).1.trans (funext fun i => (refG _ _ _ i).trans ?_), (h c).2.1.trans (funext fun i => (ref1 _ _ _ _ _ _ i).trans ?_),
      (h c).2.2.1.trans (funext fun i => (ref2 _ _ _ _ i).trans ?_), (h c).2.2.2.1.trans (funext fun i => (ref3 _ _ _ _ i).trans ?_),
      (h c).2.2.2.2⟩) (Cert.AdamRetORefIdeal.Value.run m' g')⟩
  · rw [(hsame c).2.2.2.1, (hsame c).2.2.2.2.1, (hsame c).2.2.2.2.2]
  · rw [(hsame c).1, (hsame c).2.1, (hsame c).2.2.1, (hsame c).2.2.2.1, (hsame c).2.2.2.2.1, (hsame c).2.2.2.2.2]
  · rw [(hsame c).2.1, (hsame c).2.2.2.1, (hsame c).2.2.2.2.1, (hsame c).2.2.2.2.2]
  · rw [(hsame c).2.2.1, (hsame c).2.2.2.1, (hsame c).2.2.2.2.1, (hsame c).2.2.2.2.2]

end Cert.AdamRetOIdeal.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite0
public import proofs.«01_k».proof.Proof.Gen.Pre_finite1
public import proofs.«01_k».proof.Proof.Frame
public import proofs.«01_k».proof.Proof.Twin
public import proofs.«01_k».proof.Proof.Equal
public import Idealize.ShloMosaic.Adequacy
public import Idealize.ShloMosaic.Init
public import proofs.«01_k».proof.Proof.Gen.L1QkvgDw.Frame
public import proofs.«01_k».proof.Proof.Gen.L1QkvgDwIdeal.Frame
public import proofs.«01_k».proof.Proof.Gen.L1QkvgDwIdeal.Value
public import proofs.«01_k».proof.Proof.Gen.L1QkvgDwRefIdeal.Run
public import proofs.«01_k».proof.Proof.Gen.L1QkvgDwRefIdeal.Read
public import proofs.«01_k».proof.Proof.L1QkvgDw
public import proofs.«01_k».proof.Proof.Gen.L1QkvgDx.Frame
public import proofs.«01_k».proof.Proof.Gen.L1QkvgDxIdeal.Frame
public import proofs.«01_k».proof.Proof.Gen.L1QkvgDxIdeal.Value
public import proofs.«01_k».proof.Proof.Gen.L1QkvgDxRefIdeal.Run
public import proofs.«01_k».proof.Proof.Gen.L1QkvgDxRefIdeal.Read
public import proofs.«01_k».proof.Proof.L1QkvgDx
public import proofs.«01_k».proof.Proof.Gen.L1Qkvg.Frame
public import proofs.«01_k».proof.Proof.Gen.L1QkvgIdeal.Frame
public import proofs.«01_k».proof.Proof.Gen.L1QkvgIdeal.Value
public import proofs.«01_k».proof.Proof.Gen.L1QkvgRefIdeal.Run
public import proofs.«01_k».proof.Proof.Gen.L1QkvgRefIdeal.Read
public import proofs.«01_k».proof.Proof.L1Qkvg
public import proofs.«01_k».proof.Proof.Gen.L0InDw.Frame
public import proofs.«01_k».proof.Proof.Gen.L0InDwIdeal.Frame
public import proofs.«01_k».proof.Proof.Gen.L0InDwIdeal.Value
public import proofs.«01_k».proof.Proof.Gen.L0InDwRefIdeal.Run
public import proofs.«01_k».proof.Proof.Gen.L0InDwRefIdeal.Read
public import proofs.«01_k».proof.Proof.L0InDw
public import proofs.«01_k».proof.Proof.Gen.L0InDx.Frame
public import proofs.«01_k».proof.Proof.Gen.L0InDxIdeal.Frame
public import proofs.«01_k».proof.Proof.Gen.L0InDxIdeal.Value
public import proofs.«01_k».proof.Proof.Gen.L0InDxRefIdeal.Run
public import proofs.«01_k».proof.Proof.Gen.L0InDxRefIdeal.Read
public import proofs.«01_k».proof.Proof.L0InDx
public import proofs.«01_k».proof.Proof.Gen.L1InDw.Frame
public import proofs.«01_k».proof.Proof.Gen.L1InDwIdeal.Frame
public import proofs.«01_k».proof.Proof.Gen.L1InDwIdeal.Value
public import proofs.«01_k».proof.Proof.Gen.L1InDwRefIdeal.Run
public import proofs.«01_k».proof.Proof.Gen.L1InDwRefIdeal.Read
public import proofs.«01_k».proof.Proof.L1InDw
public import proofs.«01_k».proof.Proof.Gen.L1InDx.Frame
public import proofs.«01_k».proof.Proof.Gen.L1InDxIdeal.Frame
public import proofs.«01_k».proof.Proof.Gen.L1InDxIdeal.Value
public import proofs.«01_k».proof.Proof.Gen.L1InDxRefIdeal.Run
public import proofs.«01_k».proof.Proof.Gen.L1InDxRefIdeal.Read
public import proofs.«01_k».proof.Proof.L1InDx
public import proofs.«01_k».proof.Proof.Gen.L0OutDw.Frame
public import proofs.«01_k».proof.Proof.Gen.L0OutDwIdeal.Frame
public import proofs.«01_k».proof.Proof.Gen.L0OutDwIdeal.Value
public import proofs.«01_k».proof.Proof.Gen.L0OutDwRefIdeal.Run
public import proofs.«01_k».proof.Proof.Gen.L0OutDwRefIdeal.Read
public import proofs.«01_k».proof.Proof.L0OutDw
public import proofs.«01_k».proof.Proof.Gen.L1OutDw.Frame
public import proofs.«01_k».proof.Proof.Gen.L1OutDwIdeal.Frame
public import proofs.«01_k».proof.Proof.Gen.L1OutDwIdeal.Value
public import proofs.«01_k».proof.Proof.Gen.L1OutDwRefIdeal.Run
public import proofs.«01_k».proof.Proof.Gen.L1OutDwRefIdeal.Read
public import proofs.«01_k».proof.Proof.L1OutDw
public import proofs.«01_k».proof.Proof.Gen.L0In.Frame
public import proofs.«01_k».proof.Proof.Gen.L0InIdeal.Frame
public import proofs.«01_k».proof.Proof.Gen.L0InIdeal.Value
public import proofs.«01_k».proof.Proof.Gen.L0InRefIdeal.Run
public import proofs.«01_k».proof.Proof.Gen.L0InRefIdeal.Read
public import proofs.«01_k».proof.Proof.L0In
public import proofs.«01_k».proof.Proof.Gen.L1In.Frame
public import proofs.«01_k».proof.Proof.Gen.L1InIdeal.Frame
public import proofs.«01_k».proof.Proof.Gen.L1InIdeal.Value
public import proofs.«01_k».proof.Proof.Gen.L1InRefIdeal.Run
public import proofs.«01_k».proof.Proof.Gen.L1InRefIdeal.Read
public import proofs.«01_k».proof.Proof.L1In
public import proofs.«01_k».proof.Proof.Gen.L1RetOutDw.Frame
public import proofs.«01_k».proof.Proof.Gen.L1RetOutDwIdeal.Frame
public import proofs.«01_k».proof.Proof.Gen.L1RetOutDwIdeal.Value
public import proofs.«01_k».proof.Proof.Gen.L1RetOutDwRefIdeal.Run
public import proofs.«01_k».proof.Proof.Gen.L1RetOutDwRefIdeal.Read
public import proofs.«01_k».proof.Proof.L1RetOutDw
public import proofs.«01_k».proof.Proof.Gen.L1RetOutDx.Frame
public import proofs.«01_k».proof.Proof.Gen.L1RetOutDxIdeal.Frame
public import proofs.«01_k».proof.Proof.Gen.L1RetOutDxIdeal.Value
public import proofs.«01_k».proof.Proof.Gen.L1RetOutDxRefIdeal.Run
public import proofs.«01_k».proof.Proof.Gen.L1RetOutDxRefIdeal.Read
public import proofs.«01_k».proof.Proof.L1RetOutDx
public import proofs.«01_k».proof.Proof.Gen.L0Qkv.Frame
public import proofs.«01_k».proof.Proof.Gen.L0QkvIdeal.Frame
public import proofs.«01_k».proof.Proof.Gen.L0QkvIdeal.Value
public import proofs.«01_k».proof.Proof.Gen.L0QkvRefIdeal.Run
public import proofs.«01_k».proof.Proof.Gen.L0QkvRefIdeal.Read
public import proofs.«01_k».proof.Proof.L0Qkv
public import proofs.«01_k».proof.Proof.Gen.L0QkvDw.Frame
public import proofs.«01_k».proof.Proof.Gen.L0QkvDwIdeal.Frame
public import proofs.«01_k».proof.Proof.Gen.L0QkvDwIdeal.Value
public import proofs.«01_k».proof.Proof.Gen.L0QkvDwRefIdeal.Run
public import proofs.«01_k».proof.Proof.Gen.L0QkvDwRefIdeal.Read
public import proofs.«01_k».proof.Proof.L0QkvDw
public import proofs.«01_k».proof.Proof.Gen.L0QkvDx.Frame
public import proofs.«01_k».proof.Proof.Gen.L0QkvDxIdeal.Frame
public import proofs.«01_k».proof.Proof.Gen.L0QkvDxIdeal.Value
public import proofs.«01_k».proof.Proof.Gen.L0QkvDxRefIdeal.Run
public import proofs.«01_k».proof.Proof.Gen.L0QkvDxRefIdeal.Read
public import proofs.«01_k».proof.Proof.L0QkvDx
public import proofs.«01_k».proof.Proof.Gen.L0AttnOutDw.Frame
public import proofs.«01_k».proof.Proof.Gen.L0AttnOutDwIdeal.Frame
public import proofs.«01_k».proof.Proof.Gen.L0AttnOutDwIdeal.Value
public import proofs.«01_k».proof.Proof.Gen.L0AttnOutDwRefIdeal.Run
public import proofs.«01_k».proof.Proof.Gen.L0AttnOutDwRefIdeal.Read
public import proofs.«01_k».proof.Proof.L0AttnOutDw
public import proofs.«01_k».proof.Proof.Gen.L0AttnOutDx.Frame
public import proofs.«01_k».proof.Proof.Gen.L0AttnOutDxIdeal.Frame
public import proofs.«01_k».proof.Proof.Gen.L0AttnOutDxIdeal.Value
public import proofs.«01_k».proof.Proof.Gen.L0AttnOutDxRefIdeal.Run
public import proofs.«01_k».proof.Proof.Gen.L0AttnOutDxRefIdeal.Read
public import proofs.«01_k».proof.Proof.L0AttnOutDx
public import proofs.«01_k».proof.Proof.Gen.L0AttnOut.Frame
public import proofs.«01_k».proof.Proof.Gen.L0AttnOutIdeal.Frame
public import proofs.«01_k».proof.Proof.Gen.L0AttnOutIdeal.Value
public import proofs.«01_k».proof.Proof.Gen.L0AttnOutRefIdeal.Run
public import proofs.«01_k».proof.Proof.Gen.L0AttnOutRefIdeal.Read
public import proofs.«01_k».proof.Proof.L0AttnOut
public import proofs.«01_k».proof.Proof.Gen.L0Out.Frame
public import proofs.«01_k».proof.Proof.Gen.L0OutIdeal.Frame
public import proofs.«01_k».proof.Proof.Gen.L0OutIdeal.Value
public import proofs.«01_k».proof.Proof.Gen.L0OutRefIdeal.Run
public import proofs.«01_k».proof.Proof.Gen.L0OutRefIdeal.Read
public import proofs.«01_k».proof.Proof.L0Out
public import proofs.«01_k».proof.Proof.Gen.L1RetOut.Frame
public import proofs.«01_k».proof.Proof.Gen.L1RetOutIdeal.Frame
public import proofs.«01_k».proof.Proof.Gen.L1RetOutIdeal.Value
public import proofs.«01_k».proof.Proof.Gen.L1RetOutRefIdeal.Run
public import proofs.«01_k».proof.Proof.Gen.L1RetOutRefIdeal.Read
public import proofs.«01_k».proof.Proof.L1RetOut
public import proofs.«01_k».proof.Proof.Gen.L1Out.Frame
public import proofs.«01_k».proof.Proof.Gen.L1OutIdeal.Frame
public import proofs.«01_k».proof.Proof.Gen.L1OutIdeal.Value
public import proofs.«01_k».proof.Proof.Gen.L1OutRefIdeal.Run
public import proofs.«01_k».proof.Proof.Gen.L1OutRefIdeal.Read
public import proofs.«01_k».proof.Proof.L1Out
public import proofs.«01_k».proof.Proof.Gen.L0OutDx.Frame
public import proofs.«01_k».proof.Proof.Gen.L0OutDxIdeal.Frame
public import proofs.«01_k».proof.Proof.Gen.L0OutDxIdeal.Value
public import proofs.«01_k».proof.Proof.Gen.L0OutDxRefIdeal.Run
public import proofs.«01_k».proof.Proof.Gen.L0OutDxRefIdeal.Read
public import proofs.«01_k».proof.Proof.L0OutDx
public import proofs.«01_k».proof.Proof.Gen.L1OutDx.Frame
public import proofs.«01_k».proof.Proof.Gen.L1OutDxIdeal.Frame
public import proofs.«01_k».proof.Proof.Gen.L1OutDxIdeal.Value
public import proofs.«01_k».proof.Proof.Gen.L1OutDxRefIdeal.Run
public import proofs.«01_k».proof.Proof.Gen.L1OutDxRefIdeal.Read
public import proofs.«01_k».proof.Proof.L1OutDx
public import proofs.«01_k».proof.Proof.Gen.AdaFwd.Frame
public import proofs.«01_k».proof.Proof.Gen.AdaFwdIdeal.Frame
public import proofs.«01_k».proof.Proof.Gen.AdaFwdIdeal.Value
public import proofs.«01_k».proof.Proof.Gen.AdaFwdRefIdeal.Run
public import proofs.«01_k».proof.Proof.Gen.AdaFwdRefIdeal.Read
public import proofs.«01_k».proof.Proof.AdaFwd
public import proofs.«01_k».proof.Proof.Gen.AdaDw.Frame
public import proofs.«01_k».proof.Proof.Gen.AdaDwIdeal.Frame
public import proofs.«01_k».proof.Proof.Gen.AdaDwIdeal.Value
public import proofs.«01_k».proof.Proof.Gen.AdaDwRefIdeal.Run
public import proofs.«01_k».proof.Proof.Gen.AdaDwRefIdeal.Read
public import proofs.«01_k».proof.Proof.AdaDw
public import proofs.«01_k».proof.Proof.Gen.AdaDc.Frame
public import proofs.«01_k».proof.Proof.Gen.AdaDcIdeal.Frame
public import proofs.«01_k».proof.Proof.Gen.AdaDcIdeal.Value
public import proofs.«01_k».proof.Proof.Gen.AdaDcRefIdeal.Run
public import proofs.«01_k».proof.Proof.Gen.AdaDcRefIdeal.Read
public import proofs.«01_k».proof.Proof.AdaDc
public import proofs.«01_k».proof.Proof.Gen.AdamAda.Frame
public import proofs.«01_k».proof.Proof.Gen.AdamAdaIdeal.Frame
public import proofs.«01_k».proof.Proof.Gen.AdamAdaIdeal.Value
public import proofs.«01_k».proof.Proof.Gen.AdamAdaRefIdeal.Run
public import proofs.«01_k».proof.Proof.Gen.AdamAdaRefIdeal.Read
public import proofs.«01_k».proof.Proof.AdamAda
public import proofs.«01_k».proof.Proof.Gen.AdamFfnIn.Frame
public import proofs.«01_k».proof.Proof.Gen.AdamFfnInIdeal.Frame
public import proofs.«01_k».proof.Proof.Gen.AdamFfnInIdeal.Value
public import proofs.«01_k».proof.Proof.Gen.AdamFfnInRefIdeal.Run
public import proofs.«01_k».proof.Proof.Gen.AdamFfnInRefIdeal.Read
public import proofs.«01_k».proof.Proof.AdamFfnIn
public import proofs.«01_k».proof.Proof.Gen.AdamFfnOut.Frame
public import proofs.«01_k».proof.Proof.Gen.AdamFfnOutIdeal.Frame
public import proofs.«01_k».proof.Proof.Gen.AdamFfnOutIdeal.Value
public import proofs.«01_k».proof.Proof.Gen.AdamFfnOutRefIdeal.Run
public import proofs.«01_k».proof.Proof.Gen.AdamFfnOutRefIdeal.Read
public import proofs.«01_k».proof.Proof.AdamFfnOut
public import proofs.«01_k».proof.Proof.Gen.AdamQkv.Frame
public import proofs.«01_k».proof.Proof.Gen.AdamQkvIdeal.Frame
public import proofs.«01_k».proof.Proof.Gen.AdamQkvIdeal.Value
public import proofs.«01_k».proof.Proof.Gen.AdamQkvRefIdeal.Run
public import proofs.«01_k».proof.Proof.Gen.AdamQkvRefIdeal.Read
public import proofs.«01_k».proof.Proof.AdamQkv
public import proofs.«01_k».proof.Proof.Gen.AdamAttnO.Frame
public import proofs.«01_k».proof.Proof.Gen.AdamAttnOIdeal.Frame
public import proofs.«01_k».proof.Proof.Gen.AdamAttnOIdeal.Value
public import proofs.«01_k».proof.Proof.Gen.AdamAttnORefIdeal.Run
public import proofs.«01_k».proof.Proof.Gen.AdamAttnORefIdeal.Read
public import proofs.«01_k».proof.Proof.AdamAttnO
public import proofs.«01_k».proof.Proof.Gen.AdamQkvg.Frame
public import proofs.«01_k».proof.Proof.Gen.AdamQkvgIdeal.Frame
public import proofs.«01_k».proof.Proof.Gen.AdamQkvgIdeal.Value
public import proofs.«01_k».proof.Proof.Gen.AdamQkvgRefIdeal.Run
public import proofs.«01_k».proof.Proof.Gen.AdamQkvgRefIdeal.Read
public import proofs.«01_k».proof.Proof.AdamQkvg
public import proofs.«01_k».proof.Proof.Gen.AdamRetO.Frame
public import proofs.«01_k».proof.Proof.Gen.AdamRetOIdeal.Frame
public import proofs.«01_k».proof.Proof.Gen.AdamRetOIdeal.Value
public import proofs.«01_k».proof.Proof.Gen.AdamRetORefIdeal.Run
public import proofs.«01_k».proof.Proof.Gen.AdamRetORefIdeal.Read
public import proofs.«01_k».proof.Proof.AdamRetO

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.L1QkvgDw.Gen.facts, Cert.L1QkvgDwIdeal.Gen.facts, Cert.L1QkvgDwRefIdeal.Gen.facts,
  Cert.L1QkvgDx.Gen.facts, Cert.L1QkvgDxIdeal.Gen.facts, Cert.L1QkvgDxRefIdeal.Gen.facts,
  Cert.L1Qkvg.Gen.facts, Cert.L1QkvgIdeal.Gen.facts, Cert.L1QkvgRefIdeal.Gen.facts,
  Cert.L0InDw.Gen.facts, Cert.L0InDwIdeal.Gen.facts, Cert.L0InDwRefIdeal.Gen.facts,
  Cert.L0InDx.Gen.facts, Cert.L0InDxIdeal.Gen.facts, Cert.L0InDxRefIdeal.Gen.facts,
  Cert.L1InDw.Gen.facts, Cert.L1InDwIdeal.Gen.facts, Cert.L1InDwRefIdeal.Gen.facts,
  Cert.L1InDx.Gen.facts, Cert.L1InDxIdeal.Gen.facts, Cert.L1InDxRefIdeal.Gen.facts,
  Cert.L0OutDw.Gen.facts, Cert.L0OutDwIdeal.Gen.facts, Cert.L0OutDwRefIdeal.Gen.facts,
  Cert.L1OutDw.Gen.facts, Cert.L1OutDwIdeal.Gen.facts, Cert.L1OutDwRefIdeal.Gen.facts,
  Cert.L0In.Gen.facts, Cert.L0InIdeal.Gen.facts, Cert.L0InRefIdeal.Gen.facts,
  Cert.L1In.Gen.facts, Cert.L1InIdeal.Gen.facts, Cert.L1InRefIdeal.Gen.facts,
  Cert.L1RetOutDw.Gen.facts, Cert.L1RetOutDwIdeal.Gen.facts, Cert.L1RetOutDwRefIdeal.Gen.facts,
  Cert.L1RetOutDx.Gen.facts, Cert.L1RetOutDxIdeal.Gen.facts, Cert.L1RetOutDxRefIdeal.Gen.facts,
  Cert.L0Qkv.Gen.facts, Cert.L0QkvIdeal.Gen.facts, Cert.L0QkvRefIdeal.Gen.facts,
  Cert.L0QkvDw.Gen.facts, Cert.L0QkvDwIdeal.Gen.facts, Cert.L0QkvDwRefIdeal.Gen.facts,
  Cert.L0QkvDx.Gen.facts, Cert.L0QkvDxIdeal.Gen.facts, Cert.L0QkvDxRefIdeal.Gen.facts,
  Cert.L0AttnOutDw.Gen.facts, Cert.L0AttnOutDwIdeal.Gen.facts, Cert.L0AttnOutDwRefIdeal.Gen.facts,
  Cert.L0AttnOutDx.Gen.facts, Cert.L0AttnOutDxIdeal.Gen.facts, Cert.L0AttnOutDxRefIdeal.Gen.facts,
  Cert.L0AttnOut.Gen.facts, Cert.L0AttnOutIdeal.Gen.facts, Cert.L0AttnOutRefIdeal.Gen.facts,
  Cert.L0Out.Gen.facts, Cert.L0OutIdeal.Gen.facts, Cert.L0OutRefIdeal.Gen.facts,
  Cert.L1RetOut.Gen.facts, Cert.L1RetOutIdeal.Gen.facts, Cert.L1RetOutRefIdeal.Gen.facts,
  Cert.L1Out.Gen.facts, Cert.L1OutIdeal.Gen.facts, Cert.L1OutRefIdeal.Gen.facts,
  Cert.L0OutDx.Gen.facts, Cert.L0OutDxIdeal.Gen.facts, Cert.L0OutDxRefIdeal.Gen.facts,
  Cert.L1OutDx.Gen.facts, Cert.L1OutDxIdeal.Gen.facts, Cert.L1OutDxRefIdeal.Gen.facts,
  Cert.AdaFwd.Gen.facts, Cert.AdaFwdIdeal.Gen.facts, Cert.AdaFwdRefIdeal.Gen.facts,
  Cert.AdaDw.Gen.facts, Cert.AdaDwIdeal.Gen.facts, Cert.AdaDwRefIdeal.Gen.facts,
  Cert.AdaDc.Gen.facts, Cert.AdaDcIdeal.Gen.facts, Cert.AdaDcRefIdeal.Gen.facts,
  Cert.AdamAda.Gen.facts, Cert.AdamAdaIdeal.Gen.facts, Cert.AdamAdaRefIdeal.Gen.facts,
  Cert.AdamFfnIn.Gen.facts, Cert.AdamFfnInIdeal.Gen.facts, Cert.AdamFfnInRefIdeal.Gen.facts,
  Cert.AdamFfnOut.Gen.facts, Cert.AdamFfnOutIdeal.Gen.facts, Cert.AdamFfnOutRefIdeal.Gen.facts,
  Cert.AdamQkv.Gen.facts, Cert.AdamQkvIdeal.Gen.facts, Cert.AdamQkvRefIdeal.Gen.facts,
  Cert.AdamAttnO.Gen.facts, Cert.AdamAttnOIdeal.Gen.facts, Cert.AdamAttnORefIdeal.Gen.facts,
  Cert.AdamQkvg.Gen.facts, Cert.AdamQkvgIdeal.Gen.facts, Cert.AdamQkvgRefIdeal.Gen.facts,
  Cert.AdamRetO.Gen.facts, Cert.AdamRetOIdeal.Gen.facts, Cert.AdamRetORefIdeal.Gen.facts,
  Cert.Pre_finite.Gen.facts, Cert.Pre_finite0.Gen.facts, Cert.Pre_finite1.Gen.facts,
  Cert.Own.frame_twin.symm ▸ (fun m g _ => Cert.KernelIdeal.Own.frame m g : Cert.Own.idealFrameAtBits),
  fun m g _ => Cert.KernelIdeal.Own.frame m g, fun m g _ => Cert.KernelIdeal.Own.frame m g,
  fun m g _ => Cert.ReferenceIdeal.Own.frame m g, fun m g _ => Cert.ReferenceIdeal.Own.frame m g,
  fun m g _ => Cert.L1QkvgDw.Gen.frame m g, fun m g _ => Cert.L1QkvgDwIdeal.Gen.frame m g,
  fun m g _ => (θ_run _ _ _).mono (fun r h => ⟨fun c => (h c).2, sem_eq_zero_of_no_sems rfl r.2⟩) (Cert.L1QkvgDwRefIdeal.Value.run m g),
  fun m g _ => Cert.L1QkvgDx.Gen.frame m g, fun m g _ => Cert.L1QkvgDxIdeal.Gen.frame m g,
  fun m g _ => (θ_run _ _ _).mono (fun r h => ⟨fun c => (h c).2, sem_eq_zero_of_no_sems rfl r.2⟩) (Cert.L1QkvgDxRefIdeal.Value.run m g),
  fun m g _ => Cert.L1Qkvg.Gen.frame m g, fun m g _ => Cert.L1QkvgIdeal.Gen.frame m g,
  fun m g _ => (θ_run _ _ _).mono (fun r h => ⟨fun c => (h c).2, sem_eq_zero_of_no_sems rfl r.2⟩) (Cert.L1QkvgRefIdeal.Value.run m g),
  fun m g _ => Cert.L0InDw.Gen.frame m g, fun m g _ => Cert.L0InDwIdeal.Gen.frame m g,
  fun m g _ => (θ_run _ _ _).mono (fun r h => ⟨fun c => (h c).2, sem_eq_zero_of_no_sems rfl r.2⟩) (Cert.L0InDwRefIdeal.Value.run m g),
  fun m g _ => Cert.L0InDx.Gen.frame m g, fun m g _ => Cert.L0InDxIdeal.Gen.frame m g,
  fun m g _ => (θ_run _ _ _).mono (fun r h => ⟨fun c => (h c).2, sem_eq_zero_of_no_sems rfl r.2⟩) (Cert.L0InDxRefIdeal.Value.run m g),
  fun m g _ => Cert.L1InDw.Gen.frame m g, fun m g _ => Cert.L1InDwIdeal.Gen.frame m g,
  fun m g _ => (θ_run _ _ _).mono (fun r h => ⟨fun c => (h c).2, sem_eq_zero_of_no_sems rfl r.2⟩) (Cert.L1InDwRefIdeal.Value.run m g),
  fun m g _ => Cert.L1InDx.Gen.frame m g, fun m g _ => Cert.L1InDxIdeal.Gen.frame m g,
  fun m g _ => (θ_run _ _ _).mono (fun r h => ⟨fun c => (h c).2, sem_eq_zero_of_no_sems rfl r.2⟩) (Cert.L1InDxRefIdeal.Value.run m g),
  fun m g _ => Cert.L0OutDw.Gen.frame m g, fun m g _ => Cert.L0OutDwIdeal.Gen.frame m g,
  fun m g _ => (θ_run _ _ _).mono (fun r h => ⟨fun c => (h c).2, sem_eq_zero_of_no_sems rfl r.2⟩) (Cert.L0OutDwRefIdeal.Value.run m g),
  fun m g _ => Cert.L1OutDw.Gen.frame m g, fun m g _ => Cert.L1OutDwIdeal.Gen.frame m g,
  fun m g _ => (θ_run _ _ _).mono (fun r h => ⟨fun c => (h c).2, sem_eq_zero_of_no_sems rfl r.2⟩) (Cert.L1OutDwRefIdeal.Value.run m g),
  fun m g _ => Cert.L0In.Gen.frame m g, fun m g _ => Cert.L0InIdeal.Gen.frame m g,
  fun m g _ => (θ_run _ _ _).mono (fun r h => ⟨fun c => (h c).2.2.2, sem_eq_zero_of_no_sems rfl r.2⟩) (Cert.L0InRefIdeal.Value.run m g),
  fun m g _ => Cert.L1In.Gen.frame m g, fun m g _ => Cert.L1InIdeal.Gen.frame m g,
  fun m g _ => (θ_run _ _ _).mono (fun r h => ⟨fun c => (h c).2.2.2, sem_eq_zero_of_no_sems rfl r.2⟩) (Cert.L1InRefIdeal.Value.run m g),
  fun m g _ => Cert.L1RetOutDw.Gen.frame m g, fun m g _ => Cert.L1RetOutDwIdeal.Gen.frame m g,
  fun m g _ => (θ_run _ _ _).mono (fun r h => ⟨fun c => (h c).2, sem_eq_zero_of_no_sems rfl r.2⟩) (Cert.L1RetOutDwRefIdeal.Value.run m g),
  fun m g _ => Cert.L1RetOutDx.Gen.frame m g, fun m g _ => Cert.L1RetOutDxIdeal.Gen.frame m g,
  fun m g _ => (θ_run _ _ _).mono (fun r h => ⟨fun c => (h c).2, sem_eq_zero_of_no_sems rfl r.2⟩) (Cert.L1RetOutDxRefIdeal.Value.run m g),
  fun m g _ => Cert.L0Qkv.Gen.frame m g, fun m g _ => Cert.L0QkvIdeal.Gen.frame m g,
  fun m g _ => (θ_run _ _ _).mono (fun r h => ⟨fun c => (h c).2, sem_eq_zero_of_no_sems rfl r.2⟩) (Cert.L0QkvRefIdeal.Value.run m g),
  fun m g _ => Cert.L0QkvDw.Gen.frame m g, fun m g _ => Cert.L0QkvDwIdeal.Gen.frame m g,
  fun m g _ => (θ_run _ _ _).mono (fun r h => ⟨fun c => (h c).2, sem_eq_zero_of_no_sems rfl r.2⟩) (Cert.L0QkvDwRefIdeal.Value.run m g),
  fun m g _ => Cert.L0QkvDx.Gen.frame m g, fun m g _ => Cert.L0QkvDxIdeal.Gen.frame m g,
  fun m g _ => (θ_run _ _ _).mono (fun r h => ⟨fun c => (h c).2, sem_eq_zero_of_no_sems rfl r.2⟩) (Cert.L0QkvDxRefIdeal.Value.run m g),
  fun m g _ => Cert.L0AttnOutDw.Gen.frame m g, fun m g _ => Cert.L0AttnOutDwIdeal.Gen.frame m g,
  fun m g _ => (θ_run _ _ _).mono (fun r h => ⟨fun c => (h c).2, sem_eq_zero_of_no_sems rfl r.2⟩) (Cert.L0AttnOutDwRefIdeal.Value.run m g),
  fun m g _ => Cert.L0AttnOutDx.Gen.frame m g, fun m g _ => Cert.L0AttnOutDxIdeal.Gen.frame m g,
  fun m g _ => (θ_run _ _ _).mono (fun r h => ⟨fun c => (h c).2, sem_eq_zero_of_no_sems rfl r.2⟩) (Cert.L0AttnOutDxRefIdeal.Value.run m g),
  fun m g _ => Cert.L0AttnOut.Gen.frame m g, fun m g _ => Cert.L0AttnOutIdeal.Gen.frame m g,
  fun m g _ => (θ_run _ _ _).mono (fun r h => ⟨fun c => (h c).2.2, sem_eq_zero_of_no_sems rfl r.2⟩) (Cert.L0AttnOutRefIdeal.Value.run m g),
  fun m g _ => Cert.L0Out.Gen.frame m g, fun m g _ => Cert.L0OutIdeal.Gen.frame m g,
  fun m g _ => (θ_run _ _ _).mono (fun r h => ⟨fun c => (h c).2.2, sem_eq_zero_of_no_sems rfl r.2⟩) (Cert.L0OutRefIdeal.Value.run m g),
  fun m g _ => Cert.L1RetOut.Gen.frame m g, fun m g _ => Cert.L1RetOutIdeal.Gen.frame m g,
  fun m g _ => (θ_run _ _ _).mono (fun r h => ⟨fun c => (h c).2.2, sem_eq_zero_of_no_sems rfl r.2⟩) (Cert.L1RetOutRefIdeal.Value.run m g),
  fun m g _ => Cert.L1Out.Gen.frame m g, fun m g _ => Cert.L1OutIdeal.Gen.frame m g,
  fun m g _ => (θ_run _ _ _).mono (fun r h => ⟨fun c => (h c).2.2, sem_eq_zero_of_no_sems rfl r.2⟩) (Cert.L1OutRefIdeal.Value.run m g),
  fun m g _ => Cert.L0OutDx.Gen.frame m g, fun m g _ => Cert.L0OutDxIdeal.Gen.frame m g, fun m g _ => Cert.L0OutDxIdeal.Gen.frame m g,
  fun m g _ => (θ_run _ _ _).mono (fun r h => ⟨fun c => (h c).2, sem_eq_zero_of_no_sems rfl r.2⟩) (Cert.L0OutDxRefIdeal.Value.run m g),
  fun m g _ => (θ_run _ _ _).mono (fun r h => ⟨fun c => (h c).2, sem_eq_zero_of_no_sems rfl r.2⟩) (Cert.L0OutDxRefIdeal.Value.run m g),
  fun m g _ => Cert.L1OutDx.Gen.frame m g, fun m g _ => Cert.L1OutDxIdeal.Gen.frame m g, fun m g _ => Cert.L1OutDxIdeal.Gen.frame m g,
  fun m g _ => (θ_run _ _ _).mono (fun r h => ⟨fun c => (h c).2, sem_eq_zero_of_no_sems rfl r.2⟩) (Cert.L1OutDxRefIdeal.Value.run m g),
  fun m g _ => (θ_run _ _ _).mono (fun r h => ⟨fun c => (h c).2, sem_eq_zero_of_no_sems rfl r.2⟩) (Cert.L1OutDxRefIdeal.Value.run m g),
  fun m g _ => Cert.AdaFwd.Gen.frame m g, fun m g _ => Cert.AdaFwdIdeal.Gen.frame m g,
  fun m g _ => (θ_run _ _ _).mono (fun r h => ⟨fun c => (h c).2, sem_eq_zero_of_no_sems rfl r.2⟩) (Cert.AdaFwdRefIdeal.Value.run m g),
  fun m g _ => Cert.AdaDw.Gen.frame m g, fun m g _ => Cert.AdaDwIdeal.Gen.frame m g,
  fun m g _ => (θ_run _ _ _).mono (fun r h => ⟨fun c => (h c).2, sem_eq_zero_of_no_sems rfl r.2⟩) (Cert.AdaDwRefIdeal.Value.run m g),
  fun m g _ => Cert.AdaDc.Gen.frame m g, fun m g _ => Cert.AdaDcIdeal.Gen.frame m g,
  fun m g _ => (θ_run _ _ _).mono (fun r h => ⟨fun c => (h c).2, sem_eq_zero_of_no_sems rfl r.2⟩) (Cert.AdaDcRefIdeal.Value.run m g),
  fun m g _ => Cert.AdamAda.Gen.frame m g, fun m g _ => Cert.AdamAdaIdeal.Gen.frame m g,
  fun m g _ => (θ_run _ _ _).mono (fun r h => ⟨fun c => (h c).2.2.2.2, sem_eq_zero_of_no_sems rfl r.2⟩) (Cert.AdamAdaRefIdeal.Value.run m g),
  fun m g _ => Cert.AdamFfnIn.Gen.frame m g, fun m g _ => Cert.AdamFfnInIdeal.Gen.frame m g,
  fun m g _ => (θ_run _ _ _).mono (fun r h => ⟨fun c => (h c).2.2.2.2, sem_eq_zero_of_no_sems rfl r.2⟩) (Cert.AdamFfnInRefIdeal.Value.run m g),
  fun m g _ => Cert.AdamFfnOut.Gen.frame m g, fun m g _ => Cert.AdamFfnOutIdeal.Gen.frame m g,
  fun m g _ => (θ_run _ _ _).mono (fun r h => ⟨fun c => (h c).2.2.2.2, sem_eq_zero_of_no_sems rfl r.2⟩) (Cert.AdamFfnOutRefIdeal.Value.run m g),
  fun m g _ => Cert.AdamQkv.Gen.frame m g, fun m g _ => Cert.AdamQkvIdeal.Gen.frame m g,
  fun m g _ => (θ_run _ _ _).mono (fun r h => ⟨fun c => (h c).2.2.2.2, sem_eq_zero_of_no_sems rfl r.2⟩) (Cert.AdamQkvRefIdeal.Value.run m g),
  fun m g _ => Cert.AdamAttnO.Gen.frame m g, fun m g _ => Cert.AdamAttnOIdeal.Gen.frame m g,
  fun m g _ => (θ_run _ _ _).mono (fun r h => ⟨fun c => (h c).2.2.2.2, sem_eq_zero_of_no_sems rfl r.2⟩) (Cert.AdamAttnORefIdeal.Value.run m g),
  fun m g _ => Cert.AdamQkvg.Gen.frame m g, fun m g _ => Cert.AdamQkvgIdeal.Gen.frame m g,
  fun m g _ => (θ_run _ _ _).mono (fun r h => ⟨fun c => (h c).2.2.2.2, sem_eq_zero_of_no_sems rfl r.2⟩) (Cert.AdamQkvgRefIdeal.Value.run m g),
  fun m g _ => Cert.AdamRetO.Gen.frame m g, fun m g _ => Cert.AdamRetOIdeal.Gen.frame m g,
  fun m g _ => (θ_run _ _ _).mono (fun r h => ⟨fun c => (h c).2.2.2.2, sem_eq_zero_of_no_sems rfl r.2⟩) (Cert.AdamRetORefIdeal.Value.run m g),
  trivial, Cert.Own.equal,
  trivial, Cert.L1QkvgDwIdeal.Own.equal,
  trivial, Cert.L1QkvgDxIdeal.Own.equal,
  trivial, Cert.L1QkvgIdeal.Own.equal,
  trivial, Cert.L0InDwIdeal.Own.equal,
  trivial, Cert.L0InDxIdeal.Own.equal,
  trivial, Cert.L1InDwIdeal.Own.equal,
  trivial, Cert.L1InDxIdeal.Own.equal,
  trivial, Cert.L0OutDwIdeal.Own.equal,
  trivial, Cert.L1OutDwIdeal.Own.equal,
  trivial, Cert.L0InIdeal.Own.equal,
  trivial, Cert.L1InIdeal.Own.equal,
  trivial, Cert.L1RetOutDwIdeal.Own.equal,
  trivial, Cert.L1RetOutDxIdeal.Own.equal,
  trivial, Cert.L0QkvIdeal.Own.equal,
  trivial, Cert.L0QkvDwIdeal.Own.equal,
  trivial, Cert.L0QkvDxIdeal.Own.equal,
  trivial, Cert.L0AttnOutDwIdeal.Own.equal,
  trivial, Cert.L0AttnOutDxIdeal.Own.equal,
  trivial, Cert.L0AttnOutIdeal.Own.equal,
  trivial, Cert.L0OutIdeal.Own.equal,
  trivial, Cert.L1RetOutIdeal.Own.equal,
  trivial, Cert.L1OutIdeal.Own.equal,
  trivial, Cert.L0OutDxIdeal.Own.equal,
  trivial, Cert.L1OutDxIdeal.Own.equal,
  trivial, Cert.AdaFwdIdeal.Own.equal,
  trivial, Cert.AdaDwIdeal.Own.equal,
  trivial, Cert.AdaDcIdeal.Own.equal,
  trivial, Cert.AdamAdaIdeal.Own.equal,
  trivial, Cert.AdamFfnInIdeal.Own.equal,
  trivial, Cert.AdamFfnOutIdeal.Own.equal,
  trivial, Cert.AdamQkvIdeal.Own.equal,
  trivial, Cert.AdamAttnOIdeal.Own.equal,
  trivial, Cert.AdamQkvgIdeal.Own.equal,
  trivial, Cert.AdamRetOIdeal.Own.equal⟩

end Cert.Proof

end
